-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_sorted_in_range [hPre_sorted_in_range : Cert.Pre_sorted_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_in_range [hPre_sorted_in_range : Cert.Pre_sorted_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_sorted_in_range [hKernelIdeal : Cert.KernelIdeal.Facts] [hPre_sorted_in_range : Cert.Pre_sorted_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_sorted_in_range [hReferenceIdeal : Cert.ReferenceIdeal.Facts] [hPre_sorted_in_range : Cert.Pre_sorted_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_sorted_in_range [hKernelIdeal : Cert.KernelIdeal.Facts] [hReferenceIdeal : Cert.ReferenceIdeal.Facts] [hPre_sorted_in_range : Cert.Pre_sorted_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts) (hPre_sorted_in_range : Cert.Pre_sorted_in_range.Facts),
    quiescent_Kernel (hKernel := hKernel) (hPre_in_range := hPre_in_range)
    ∧ quiescent_KernelIdeal (hKernelIdeal := hKernelIdeal) (hPre_in_range := hPre_in_range)
    ∧ quiescent_KernelIdeal_pre_sorted_in_range (hKernelIdeal := hKernelIdeal) (hPre_sorted_in_range := hPre_sorted_in_range)
    ∧ quiescent_ReferenceIdeal (hReferenceIdeal := hReferenceIdeal)
    ∧ quiescent_ReferenceIdeal_pre_sorted_in_range (hReferenceIdeal := hReferenceIdeal) (hPre_sorted_in_range := hPre_sorted_in_range)
    ∧ preserves_Kernel_KernelIdeal
    ∧ algebraic_KernelIdeal_ReferenceIdeal_pre_sorted_in_range (hKernelIdeal := hKernelIdeal) (hReferenceIdeal := hReferenceIdeal) (hPre_sorted_in_range := hPre_sorted_in_range)
-- ==== Pre_in_range.lean ====
abbrev S160000x256 : Shape := ⟨2, ![160000, 256]⟩
abbrev S160000 : Shape := ⟨1, ![160000]⟩
abbrev S64x256 : Shape := ⟨2, ![64, 256]⟩
abbrev S64 : Shape := ⟨1, ![64]⟩
abbrev S21x64 : Shape := ⟨2, ![21, 64]⟩
abbrev S21 : Shape := ⟨1, ![21]⟩
abbrev S_ : Shape := ⟨0, ![]⟩

class Facts : Prop where
  bcast_S_S160000 : S_.BroadcastsInDim S160000 (![] : Fin 0 → Fin S160000.rank)
  reducesTo_S160000_S_d0 : S160000.ReducesTo [0] S_
  h_S_ : 0 < S_.numel

variable [Facts]

def fn {F : FTy → Type} [FloatOps F] (main_arg0 : FVec F S160000x256 .f32) (main_arg1 : IVec S160000 32) (main_arg2 : FVec F S64x256 .f32) (main_arg3 : FVec F S64 .f32) (main_arg4 : FVec F S21x64 .f32) (main_arg5 : FVec F S21 .f32) : IVec S_ 1 :=
  let main_c : IVec S_ 32 := constantI S_ 32 0#32
  let main_v0 : IVec S160000 32 := broadcastInDim S160000 ![] bcast_S_S160000 main_c
  let main_v1 : IVec S160000 1 := cmpi .sge main_arg1 main_v0
  let main_c_0 : IVec S_ 32 := constantI S_ 32 512#32
  let main_v2 : IVec S160000 32 := broadcastInDim S160000 ![] bcast_S_S160000 main_c_0
  let main_v3 : IVec S160000 1 := cmpi .slt main_arg1 main_v2
  let main_v4 : IVec S160000 1 := andi main_v1 main_v3
  let main_c_1 : IVec S_ 1 := constantI S_ 1 1#1
  let main_v5 : IVec S_ 1 := (fun x v => Host.reduce IntOp.andi x v reducesTo_S160000_S_d0 h_S_) main_v4 main_c_1
  main_v5
-- ==== Pre_sorted_in_range.lean ====
abbrev S160000x256 : Shape := ⟨2, ![160000, 256]⟩
abbrev S160000 : Shape := ⟨1, ![160000]⟩
abbrev S64x256 : Shape := ⟨2, ![64, 256]⟩
abbrev S64 : Shape := ⟨1, ![64]⟩
abbrev S21x64 : Shape := ⟨2, ![21, 64]⟩
abbrev S21 : Shape := ⟨1, ![21]⟩
abbrev S_ : Shape := ⟨0, ![]⟩
abbrev S159999 : Shape := ⟨1, ![159999]⟩

class Facts : Prop where
  bcast_S_S160000 : S_.BroadcastsInDim S160000 (![] : Fin 0 → Fin S160000.rank)
  reducesTo_S160000_S_d0 : S160000.ReducesTo [0] S_
  h_S_ : 0 < S_.numel
  slices_S160000_S159999_0 : S160000.Slices ![0] S159999
  slices_S160000_S159999_1 : S160000.Slices ![1] S159999
  reducesTo_S159999_S_d0 : S159999.ReducesTo [0] S_

variable [Facts]

def fn {F : FTy → Type} [FloatOps F] (main_arg0 : FVec F S160000x256 .f32) (main_arg1 : IVec S160000 32) (main_arg2 : FVec F S64x256 .f32) (main_arg3 : FVec F S64 .f32) (main_arg4 : FVec F S21x64 .f32) (main_arg5 : FVec F S21 .f32) : IVec S_ 1 :=
  let main_c : IVec S_ 32 := constantI S_ 32 0#32
  let main_v0 : IVec S160000 32 := broadcastInDim S160000 ![] bcast_S_S160000 main_c
  let main_v1 : IVec S160000 1 := cmpi .sge main_arg1 main_v0
  let main_c_0 : IVec S_ 32 := constantI S_ 32 512#32
  let main_v2 : IVec S160000 32 := broadcastInDim S160000 ![] bcast_S_S160000 main_c_0
  let main_v3 : IVec S160000 1 := cmpi .slt main_arg1 main_v2
  let main_v4 : IVec S160000 1 := andi main_v1 main_v3
  let main_c_1 : IVec S_ 1 := constantI S_ 1 1#1
  let main_v5 : IVec S_ 1 := (fun x v => Host.reduce IntOp.andi x v reducesTo_S160000_S_d0 h_S_) main_v4 main_c_1
  let main_v6 : IVec S159999 32 := (extractStridedSlice S159999 ![0] · slices_S160000_S159999_0) main_arg1
  let main_v7 : IVec S159999 32 := (extractStridedSlice S159999 ![1] · slices_S160000_S159999_1) main_arg1
  let main_v8 : IVec S159999 1 := cmpi .sle main_v6 main_v7
  let main_c_2 : IVec S_ 1 := constantI S_ 1 1#1
  let main_v9 : IVec S_ 1 := (fun x v => Host.reduce IntOp.andi x v reducesTo_S159999_S_d0 h_S_) main_v8 main_c_2
  let main_v10 : IVec S_ 1 := andi main_v5 main_v9
  main_v10
-- ==== Kernel.lean ====
abbrev S160000x256 : Shape := ⟨2, ![160000, 256]⟩
abbrev S160000 : Shape := ⟨1, ![160000]⟩
abbrev S64x256 : Shape := ⟨2, ![64, 256]⟩
abbrev S64 : Shape := ⟨1, ![64]⟩
abbrev S21x64 : Shape := ⟨2, ![21, 64]⟩
abbrev S21 : Shape := ⟨1, ![21]⟩
abbrev S2x512x256 : Shape := ⟨3, ![2, 512, 256]⟩
abbrev S16x8192 : Shape := ⟨2, ![16, 8192]⟩
abbrev S512x128 : Shape := ⟨2, ![512, 128]⟩
abbrev S8192 : Shape := ⟨1, ![8192]⟩
abbrev S1 : Shape := ⟨1, ![1]⟩
abbrev S80 : Shape := ⟨1, ![80]⟩
abbrev S80x128 : Shape := ⟨2, ![80, 128]⟩
abbrev S9x16 : Shape := ⟨2, ![9, 16]⟩
abbrev S_ : Shape := ⟨0, ![]⟩
abbrev S8x512x128 : Shape := ⟨3, ![8, 512, 128]⟩
abbrev S16 : Shape := ⟨1, ![16]⟩
abbrev S1x16 : Shape := ⟨2, ![1, 16]⟩
abbrev S1x512x128 : Shape := ⟨3, ![1, 512, 128]⟩
abbrev S64x128 : Shape := ⟨2, ![64, 128]⟩
abbrev S1x64x128 : Shape := ⟨3, ![1, 64, 128]⟩
abbrev S1x8192 : Shape := ⟨2, ![1, 8192]⟩
abbrev S16x512x16 : Shape := ⟨3, ![16, 512, 16]⟩
abbrev S1x64 : Shape := ⟨2, ![1, 64]⟩
abbrev S1x21 : Shape := ⟨2, ![1, 21]⟩
abbrev S512x21 : Shape := ⟨2, ![512, 21]⟩
abbrev S1x512x256 : Shape := ⟨3, ![1, 512, 256]⟩
abbrev S512x256 : Shape := ⟨2, ![512, 256]⟩
abbrev S512x16 : Shape := ⟨2, ![512, 16]⟩
abbrev S512x1 : Shape := ⟨2, ![512, 1]⟩
abbrev S512 : Shape := ⟨1, ![512]⟩
abbrev S512x64 : Shape := ⟨2, ![512, 64]⟩

abbrev nBuf : Table → Nat
  | .hbm => 12
  | .local .tc .vmem => 7
  | .shared => 1
  | .local .scVector .smem => 1
  | .local .scVector .vmem => 7
  | _ => 0

abbrev bufTy : (tb : Table) → Fin (nBuf tb) → BufTy
  | .hbm, ⟨0, _⟩ => ⟨S160000x256, .f32⟩
  | .hbm, ⟨1, _⟩ => ⟨S160000, .i32⟩
  | .hbm, ⟨2, _⟩ => ⟨S64x256, .f32⟩
  | .hbm, ⟨3, _⟩ => ⟨S64, .f32⟩
  | .hbm, ⟨4, _⟩ => ⟨S21x64, .f32⟩
  | .hbm, ⟨5, _⟩ => ⟨S21, .f32⟩
  | .hbm, ⟨6, _⟩ => ⟨S2x512x256, .f32⟩
  | .hbm, ⟨7, _⟩ => ⟨S16x8192, .f32⟩
  | .hbm, ⟨8, _⟩ => ⟨S16x512x16, .f32⟩
  | .hbm, ⟨9, _⟩ => ⟨S1x64, .f32⟩
  | .hbm, ⟨10, _⟩ => ⟨S1x21, .f32⟩
  | .hbm, ⟨11, _⟩ => ⟨S512x21, .f32⟩
  | .local .tc .vmem, ⟨0, _⟩ => ⟨S2x512x256, .f32⟩
  | .local .tc .vmem, ⟨1, _⟩ => ⟨S16x512x16, .f32⟩
  | .local .tc .vmem, ⟨2, _⟩ => ⟨S64x256, .f32⟩
  | .local .tc .vmem, ⟨3, _⟩ => ⟨S1x64, .f32⟩
  | .local .tc .vmem, ⟨4, _⟩ => ⟨S21x64, .f32⟩
  | .local .tc .vmem, ⟨5, _⟩ => ⟨S1x21, .f32⟩
  | .local .tc .vmem, ⟨6, _⟩ => ⟨S512x21, .f32⟩
  | .shared, ⟨0, _⟩ => ⟨S8x512x128, .f32⟩
  | .local .scVector .smem, ⟨0, _⟩ => ⟨S1, .i32⟩
  | .local .scVector .vmem, ⟨0, _⟩ => ⟨S512x128, .f32⟩
  | .local .scVector .vmem, ⟨1, _⟩ => ⟨S8192, .f32⟩
  | .local .scVector .vmem, ⟨2, _⟩ => ⟨S80, .i32⟩
  | .local .scVector .vmem, ⟨3, _⟩ => ⟨S80, .i32⟩
  | .local .scVector .vmem, ⟨4, _⟩ => ⟨S80x128, .f32⟩
  | .local .scVector .vmem, ⟨5, _⟩ => ⟨S80x128, .f32⟩
  | .local .scVector .vmem, ⟨6, _⟩ => ⟨S9x16, .f32⟩
  | _, _ => ⟨S160000x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 19 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTables nBuf rfl bufTy 5 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_arg0_scv : Ref sig .scVector := ⟨.hbm, 0, rfl⟩
abbrev main_arg1_scv : Ref sig .scVector := ⟨.hbm, 1, rfl⟩
abbrev main_v0_0_scv : Ref sig .scVector := ⟨.hbm, 6, rfl⟩
abbrev main_v0_1_scv : Ref sig .scVector := ⟨.hbm, 7, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc0_scratch12 : Ref sig .scVector := ⟨.shared, 0, rfl⟩
abbrev cc0_scratch2 : Ref sig .scVector := ⟨.smem, 0, rfl⟩
abbrev cc0_scratch0 : Ref sig .scVector := ⟨.vmem, 0, rfl⟩
abbrev cc0_scratch1 : Ref sig .scVector := ⟨.vmem, 1, rfl⟩
abbrev cc0_scratch3 : Ref sig .scVector := ⟨.vmem, 2, rfl⟩
abbrev cc0_scratch4 : Ref sig .scVector := ⟨.vmem, 3, rfl⟩
abbrev cc0_scratch5 : Ref sig .scVector := ⟨.vmem, 4, rfl⟩
abbrev cc0_scratch6 : Ref sig .scVector := ⟨.vmem, 5, rfl⟩
abbrev cc0_scratch7 : Ref sig .scVector := ⟨.vmem, 6, rfl⟩
abbrev cc1_sem0_0 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_19 : BitVec 32 := 0#32
  let c512_i32 : BitVec 32 := 512#32
  let v48 : BitVec 32 := Scalar.addi c0_i32_19 c512_i32
  let c1_i32_20 : BitVec 32 := 1#32
  ⟨c0_i32_19, v48, c1_i32_20⟩
def k0_off1 (k0_t1 : Fin k0_t1_loop.trips) : Fin 2 → Nat :=
  let c0_i32_19 : BitVec 32 := 0#32
  let c1_i32_20 : BitVec 32 := 1#32
  let arg19 : BitVec 32 := Scf.iv c0_i32_19 c1_i32_20 k0_t1
  let v322 : Index := Scalar.indexCast arg19
  let c0_157 : Index := 0#32
  ![v322.toNat, 0]
def k0_off2 (k0_t1 : Fin k0_t1_loop.trips) : Fin 2 → Nat :=
  let c0_i32_19 : BitVec 32 := 0#32
  let c1_i32_20 : BitVec 32 := 1#32
  let arg19 : BitVec 32 := Scf.iv c0_i32_19 c1_i32_20 k0_t1
  let v326 : Index := Scalar.indexCast arg19
  let c16_158 : Index := 16#32
  ![v326.toNat, 16]
def k0_off3 (k0_t1 : Fin k0_t1_loop.trips) : Fin 2 → Nat :=
  let c0_i32_19 : BitVec 32 := 0#32
  let c1_i32_20 : BitVec 32 := 1#32
  let arg19 : BitVec 32 := Scf.iv c0_i32_19 c1_i32_20 k0_t1
  let v330 : Index := Scalar.indexCast arg19
  let c32_159 : Index := 32#32
  ![v330.toNat, 32]
def k0_off4 (k0_t1 : Fin k0_t1_loop.trips) : Fin 2 → Nat :=
  let c0_i32_19 : BitVec 32 := 0#32
  let c1_i32_20 : BitVec 32 := 1#32
  let arg19 : BitVec 32 := Scf.iv c0_i32_19 c1_i32_20 k0_t1
  let v334 : Index := Scalar.indexCast arg19
  let c48_160 : Index := 48#32
  ![v334.toNat, 48]
def k0_off5 (k0_t1 : Fin k0_t1_loop.trips) : Fin 2 → Nat :=
  let c0_i32_19 : BitVec 32 := 0#32
  let c1_i32_20 : BitVec 32 := 1#32
  let arg19 : BitVec 32 := Scf.iv c0_i32_19 c1_i32_20 k0_t1
  let v338 : Index := Scalar.indexCast arg19
  let c64_161 : Index := 64#32
  ![v338.toNat, 64]
def k0_off6 (k0_t1 : Fin k0_t1_loop.trips) : Fin 2 → Nat :=
  let c0_i32_19 : BitVec 32 := 0#32
  let c1_i32_20 : BitVec 32 := 1#32
  let arg19 : BitVec 32 := Scf.iv c0_i32_19 c1_i32_20 k0_t1
  let v342 : Index := Scalar.indexCast arg19
  let c80_162 : Index := 80#32
  ![v342.toNat, 80]
def k0_off7 (k0_t1 : Fin k0_t1_loop.trips) : Fin 2 → Nat :=
  let c0_i32_19 : BitVec 32 := 0#32
  let c1_i32_20 : BitVec 32 := 1#32
  let arg19 : BitVec 32 := Scf.iv c0_i32_19 c1_i32_20 k0_t1
  let v346 : Index := Scalar.indexCast arg19
  let c96_163 : Index := 96#32
  ![v346.toNat, 96]
def k0_off8 (k0_t1 : Fin k0_t1_loop.trips) : Fin 2 → Nat :=
  let c0_i32_19 : BitVec 32 := 0#32
  let c1_i32_20 : BitVec 32 := 1#32
  let arg19 : BitVec 32 := Scf.iv c0_i32_19 c1_i32_20 k0_t1
  let v350 : Index := Scalar.indexCast arg19
  let c112_164 : Index := 112#32
  ![v350.toNat, 112]
def k0_off9 (k0_t1 : Fin k0_t1_loop.trips) : Fin 1 → Nat :=
  let c0_i32_19 : BitVec 32 := 0#32
  let c1_i32_20 : BitVec 32 := 1#32
  let arg19 : BitVec 32 := Scf.iv c0_i32_19 c1_i32_20 k0_t1
  let c16_i32_165 : BitVec 32 := 16#32
  let v354 : BitVec 32 := Scalar.muli arg19 c16_i32_165
  let v355 : Index := Scalar.indexCast v354
  ![v355.toNat]
def k0_off10 (i : grid0.Coords) (c0_i32_35 : BitVec 32) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let v18 : BitVec 32 := Scalar.addi v0 v17
  let c125_i32 : BitVec 32 := 125#32
  let v88 : BitVec 32 := Scalar.muli v18 c125_i32
  let v89 : BitVec 32 := Scalar.addi v88 c0_i32_35
  let c80_i32 : BitVec 32 := 80#32
  let v90 : BitVec 32 := Scalar.muli v89 c80_i32
  ![v90.toNat]
def k0_off11 (i : grid0.Coords) (c0_i32_37 : BitVec 32) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let v18 : BitVec 32 := Scalar.addi v0 v17
  let c125_i32_36 : BitVec 32 := 125#32
  let v93 : BitVec 32 := Scalar.muli v18 c125_i32_36
  let v94 : BitVec 32 := Scalar.addi v93 c0_i32_37
  let c80_i32_38 : BitVec 32 := 80#32
  let v95 : BitVec 32 := Scalar.muli v94 c80_i32_38
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c128_i32 : BitVec 32 := 128#32
  let v96 : BitVec 32 := Scalar.muli v28 c128_i32
  ![v95.toNat, v96.toNat]
@[reducible] def k0_t2_loop : Scf.Loop 32 :=
  let c0_i32_40 : BitVec 32 := 0#32
  let c62_i32 : BitVec 32 := 62#32
  let v99 : BitVec 32 := Scalar.addi c0_i32_40 c62_i32
  let c1_i32_41 : BitVec 32 := 1#32
  ⟨c0_i32_40, v99, c1_i32_41⟩
def k0_off12 (i : grid0.Coords) (k0_t2 : Fin k0_t2_loop.trips) (c1_i32_158 : BitVec 32) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let v18 : BitVec 32 := Scalar.addi v0 v17
  let c125_i32_159 : BitVec 32 := 125#32
  let v324 : BitVec 32 := Scalar.muli v18 c125_i32_159
  let c2_i32_157 : BitVec 32 := 2#32
  let c0_i32_40 : BitVec 32 := 0#32
  let c1_i32_41 : BitVec 32 := 1#32
  let arg19 : BitVec 32 := Scf.iv c0_i32_40 c1_i32_41 k0_t2
  let v322 : BitVec 32 := Scalar.muli c2_i32_157 arg19
  let v323 : BitVec 32 := Scalar.addi v322 c1_i32_158
  let v325 : BitVec 32 := Scalar.addi v324 v323
  let c80_i32_160 : BitVec 32 := 80#32
  let v326 : BitVec 32 := Scalar.muli v325 c80_i32_160
  ![v326.toNat]
def k0_off13 (i : grid0.Coords) (k0_t2 : Fin k0_t2_loop.trips) (c1_i32_158 : BitVec 32) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let v18 : BitVec 32 := Scalar.addi v0 v17
  let c125_i32_161 : BitVec 32 := 125#32
  let v329 : BitVec 32 := Scalar.muli v18 c125_i32_161
  let c2_i32_157 : BitVec 32 := 2#32
  let c0_i32_40 : BitVec 32 := 0#32
  let c1_i32_41 : BitVec 32 := 1#32
  let arg19 : BitVec 32 := Scf.iv c0_i32_40 c1_i32_41 k0_t2
  let v322 : BitVec 32 := Scalar.muli c2_i32_157 arg19
  let v323 : BitVec 32 := Scalar.addi v322 c1_i32_158
  let v330 : BitVec 32 := Scalar.addi v329 v323
  let c80_i32_162 : BitVec 32 := 80#32
  let v331 : BitVec 32 := Scalar.muli v330 c80_i32_162
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c128_i32_163 : BitVec 32 := 128#32
  let v332 : BitVec 32 := Scalar.muli v28 c128_i32_163
  ![v331.toNat, v332.toNat]
def k0_off14 (i : grid0.Coords) (k0_t2 : Fin k0_t2_loop.trips) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let v18 : BitVec 32 := Scalar.addi v0 v17
  let c125_i32_164 : BitVec 32 := 125#32
  let v335 : BitVec 32 := Scalar.muli v18 c125_i32_164
  let c2_i32_157 : BitVec 32 := 2#32
  let c0_i32_40 : BitVec 32 := 0#32
  let c1_i32_41 : BitVec 32 := 1#32
  let arg19 : BitVec 32 := Scf.iv c0_i32_40 c1_i32_41 k0_t2
  let v322 : BitVec 32 := Scalar.muli c2_i32_157 arg19
  let v336 : BitVec 32 := Scalar.addi v335 v322
  let c80_i32_165 : BitVec 32 := 80#32
  let v337 : BitVec 32 := Scalar.muli v336 c80_i32_165
  ![v337.toNat]
def k0_off15 (i : grid0.Coords) (k0_t2 : Fin k0_t2_loop.trips) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let v18 : BitVec 32 := Scalar.addi v0 v17
  let c125_i32_166 : BitVec 32 := 125#32
  let v340 : BitVec 32 := Scalar.muli v18 c125_i32_166
  let c2_i32_157 : BitVec 32 := 2#32
  let c0_i32_40 : BitVec 32 := 0#32
  let c1_i32_41 : BitVec 32 := 1#32
  let arg19 : BitVec 32 := Scf.iv c0_i32_40 c1_i32_41 k0_t2
  let v322 : BitVec 32 := Scalar.muli c2_i32_157 arg19
  let v341 : BitVec 32 := Scalar.addi v340 v322
  let c80_i32_167 : BitVec 32 := 80#32
  let v342 : BitVec 32 := Scalar.muli v341 c80_i32_167
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c128_i32_168 : BitVec 32 := 128#32
  let v343 : BitVec 32 := Scalar.muli v28 c128_i32_168
  ![v342.toNat, v343.toNat]
@[reducible] def k0_t3_loop : Scf.Loop 32 :=
  let c0_i32_170 : BitVec 32 := 0#32
  let c5_i32_171 : BitVec 32 := 5#32
  let v346 : BitVec 32 := Scalar.addi c0_i32_170 c5_i32_171
  let c1_i32_172 : BitVec 32 := 1#32
  ⟨c0_i32_170, v346, c1_i32_172⟩
def k0_off16 (k0_t3 : Fin k0_t3_loop.trips) : Fin 1 → Nat :=
  let c0_i32_170 : BitVec 32 := 0#32
  let c1_i32_172 : BitVec 32 := 1#32
  let arg21 : BitVec 32 := Scf.iv c0_i32_170 c1_i32_172 k0_t3
  let c16_i32_192 : BitVec 32 := 16#32
  let v374 : BitVec 32 := Scalar.muli arg21 c16_i32_192
  let v375 : Index := Scalar.indexCast v374
  ![v375.toNat]
def k0_off17 (k0_t3 : Fin k0_t3_loop.trips) (c0_i32_198 : BitVec 32) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let v393 : BitVec 32 := Scalar.addi v382 c0_i32_198
  let v394 : Index := Scalar.indexCast v393
  let c0_199 : Index := 0#32
  ![v394.toNat, 0]
def k0_off18 (k0_t3 : Fin k0_t3_loop.trips) (c0_i32_227 : BitVec 32) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let v480 : BitVec 32 := Scalar.addi v382 c0_i32_227
  let v481 : Index := Scalar.indexCast v480
  let c16_228 : Index := 16#32
  ![v481.toNat, 16]
def k0_off19 (k0_t3 : Fin k0_t3_loop.trips) (c0_i32_263 : BitVec 32) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let v567 : BitVec 32 := Scalar.addi v382 c0_i32_263
  let v568 : Index := Scalar.indexCast v567
  let c32_264 : Index := 32#32
  ![v568.toNat, 32]
def k0_off20 (k0_t3 : Fin k0_t3_loop.trips) (c0_i32_299 : BitVec 32) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let v654 : BitVec 32 := Scalar.addi v382 c0_i32_299
  let v655 : Index := Scalar.indexCast v654
  let c48_300 : Index := 48#32
  ![v655.toNat, 48]
def k0_off21 (k0_t3 : Fin k0_t3_loop.trips) (c0_i32_335 : BitVec 32) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let v741 : BitVec 32 := Scalar.addi v382 c0_i32_335
  let v742 : Index := Scalar.indexCast v741
  let c64_336 : Index := 64#32
  ![v742.toNat, 64]
def k0_off22 (k0_t3 : Fin k0_t3_loop.trips) (c0_i32_371 : BitVec 32) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let v828 : BitVec 32 := Scalar.addi v382 c0_i32_371
  let v829 : Index := Scalar.indexCast v828
  let c80_372 : Index := 80#32
  ![v829.toNat, 80]
def k0_off23 (k0_t3 : Fin k0_t3_loop.trips) (c0_i32_407 : BitVec 32) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let v915 : BitVec 32 := Scalar.addi v382 c0_i32_407
  let v916 : Index := Scalar.indexCast v915
  let c96_408 : Index := 96#32
  ![v916.toNat, 96]
def k0_off24 (k0_t3 : Fin k0_t3_loop.trips) (c0_i32_443 : BitVec 32) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let v1002 : BitVec 32 := Scalar.addi v382 c0_i32_443
  let v1003 : Index := Scalar.indexCast v1002
  let c112_444 : Index := 112#32
  ![v1003.toNat, 112]
def k0_off25 (v396 : BitVec 32) : Fin 2 → Nat :=
  let c0_i32_246 : BitVec 32 := 0#32
  let v553 : BitVec 32 := Scalar.maxsi v396 c0_i32_246
  let v557 : Index := Scalar.indexCast v553
  let c0_249 : Index := 0#32
  ![v557.toNat, 0]
def k0_cond2 (v379 : BitVec 32) (v381 : BitVec 32) (v384 : BitVec 32) : BitVec 1 :=
  let v385 : BitVec 1 := Scalar.cmpi .eq v379 v384
  let v386 : BitVec 1 := Scalar.cmpi .eq v379 v381
  let v387 : BitVec 1 := Scalar.andi v385 v386
  let v_true : BitVec 1 := 1#1
  let v390 : BitVec 1 := Scalar.xori v387 v_true
  let v391 : BitVec 32 := Scalar.extui v390
  let c0_i32_196 : BitVec 32 := 0#32
  let v392 : BitVec 1 := Scalar.cmpi .ne v391 c0_i32_196
  v392

def k0_cond3 (v394 : BitVec 32) (v396 : BitVec 32) : BitVec 1 :=
  let v397 : BitVec 1 := Scalar.cmpi .ne v394 v396
  let v398 : BitVec 32 := Scalar.extui v397
  let c0_i32_199 : BitVec 32 := 0#32
  let v399 : BitVec 1 := Scalar.cmpi .ne v398 c0_i32_199
  v399

def k0_off26 (v396 : BitVec 32) : Fin 2 → Nat :=
  let c0_i32_246 : BitVec 32 := 0#32
  let v553 : BitVec 32 := Scalar.maxsi v396 c0_i32_246
  let v564 : Index := Scalar.indexCast v553
  let c16_252 : Index := 16#32
  ![v564.toNat, 16]
def k0_off27 (v396 : BitVec 32) : Fin 2 → Nat :=
  let c0_i32_246 : BitVec 32 := 0#32
  let v553 : BitVec 32 := Scalar.maxsi v396 c0_i32_246
  let v571 : Index := Scalar.indexCast v553
  let c32_255 : Index := 32#32
  ![v571.toNat, 32]
def k0_off28 (v396 : BitVec 32) : Fin 2 → Nat :=
  let c0_i32_246 : BitVec 32 := 0#32
  let v553 : BitVec 32 := Scalar.maxsi v396 c0_i32_246
  let v578 : Index := Scalar.indexCast v553
  let c48_258 : Index := 48#32
  ![v578.toNat, 48]
def k0_off29 (v396 : BitVec 32) : Fin 2 → Nat :=
  let c0_i32_246 : BitVec 32 := 0#32
  let v553 : BitVec 32 := Scalar.maxsi v396 c0_i32_246
  let v585 : Index := Scalar.indexCast v553
  let c64_261 : Index := 64#32
  ![v585.toNat, 64]
def k0_off30 (v396 : BitVec 32) : Fin 2 → Nat :=
  let c0_i32_246 : BitVec 32 := 0#32
  let v553 : BitVec 32 := Scalar.maxsi v396 c0_i32_246
  let v592 : Index := Scalar.indexCast v553
  let c80_264 : Index := 80#32
  ![v592.toNat, 80]
def k0_off31 (v396 : BitVec 32) : Fin 2 → Nat :=
  let c0_i32_246 : BitVec 32 := 0#32
  let v553 : BitVec 32 := Scalar.maxsi v396 c0_i32_246
  let v599 : Index := Scalar.indexCast v553
  let c96_267 : Index := 96#32
  ![v599.toNat, 96]
def k0_off32 (v396 : BitVec 32) : Fin 2 → Nat :=
  let c0_i32_246 : BitVec 32 := 0#32
  let v553 : BitVec 32 := Scalar.maxsi v396 c0_i32_246
  let v606 : Index := Scalar.indexCast v553
  let c112_270 : Index := 112#32
  ![v606.toNat, 112]
def k0_off33 (v396 : BitVec 32) : Fin 1 → Nat :=
  let c0_i32_246 : BitVec 32 := 0#32
  let v553 : BitVec 32 := Scalar.maxsi v396 c0_i32_246
  let c16_i32_273 : BitVec 32 := 16#32
  let v613 : BitVec 32 := Scalar.muli v553 c16_i32_273
  let v614 : Index := Scalar.indexCast v613
  ![v614.toNat]

def k0_chk1 (v379 : BitVec 32) (v381 : BitVec 32) (v384 : BitVec 32) (v394 : BitVec 32) (v396 : BitVec 32) : Prop :=
  (∀ (k0_h2 : k0_cond2 v379 v381 v384 = 1#1), ∀ (k0_h3 : k0_cond3 v394 v396 = 1#1), ∀ a, (k0_off25 v396) a + S1x16.size a ≤ S512x128.size a) ∧
  (∀ (k0_h2 : k0_cond2 v379 v381 v384 = 1#1), ∀ (k0_h3 : k0_cond3 v394 v396 = 1#1), ∀ a, (k0_off26 v396) a + S1x16.size a ≤ S512x128.size a) ∧
  (∀ (k0_h2 : k0_cond2 v379 v381 v384 = 1#1), ∀ (k0_h3 : k0_cond3 v394 v396 = 1#1), ∀ a, (k0_off27 v396) a + S1x16.size a ≤ S512x128.size a) ∧
  (∀ (k0_h2 : k0_cond2 v379 v381 v384 = 1#1), ∀ (k0_h3 : k0_cond3 v394 v396 = 1#1), ∀ a, (k0_off28 v396) a + S1x16.size a ≤ S512x128.size a) ∧
  (∀ (k0_h2 : k0_cond2 v379 v381 v384 = 1#1), ∀ (k0_h3 : k0_cond3 v394 v396 = 1#1), ∀ a, (k0_off29 v396) a + S1x16.size a ≤ S512x128.size a) ∧
  (∀ (k0_h2 : k0_cond2 v379 v381 v384 = 1#1), ∀ (k0_h3 : k0_cond3 v394 v396 = 1#1), ∀ a, (k0_off30 v396) a + S1x16.size a ≤ S512x128.size a) ∧
  (∀ (k0_h2 : k0_cond2 v379 v381 v384 = 1#1), ∀ (k0_h3 : k0_cond3 v394 v396 = 1#1), ∀ a, (k0_off31 v396) a + S1x16.size a ≤ S512x128.size a) ∧
  (∀ (k0_h2 : k0_cond2 v379 v381 v384 = 1#1), ∀ (k0_h3 : k0_cond3 v394 v396 = 1#1), ∀ a, (k0_off32 v396) a + S1x16.size a ≤ S512x128.size a) ∧
  (∀ (k0_h2 : k0_cond2 v379 v381 v384 = 1#1), ∀ (k0_h3 : k0_cond3 v394 v396 = 1#1), ∀ a, (k0_off33 v396) a + S16.size a ≤ S8192.size a)
theorem k0_off25_inb : ∀ (v379 : BitVec 32) (v381 : BitVec 32) (v384 : BitVec 32) (v394 : BitVec 32) (v396 : BitVec 32) (k0_hw1 : k0_chk1 v379 v381 v384 v394 v396), ∀ (k0_h2 : k0_cond2 v379 v381 v384 = 1#1), ∀ (k0_h3 : k0_cond3 v394 v396 = 1#1), ∀ a, (k0_off25 v396) a + S1x16.size a ≤ S512x128.size a := fun v379 v381 v384 v394 v396 k0_hw1 k0_h2 k0_h3 => k0_hw1.1 k0_h2 k0_h3
theorem k0_off26_inb : ∀ (v379 : BitVec 32) (v381 : BitVec 32) (v384 : BitVec 32) (v394 : BitVec 32) (v396 : BitVec 32) (k0_hw1 : k0_chk1 v379 v381 v384 v394 v396), ∀ (k0_h2 : k0_cond2 v379 v381 v384 = 1#1), ∀ (k0_h3 : k0_cond3 v394 v396 = 1#1), ∀ a, (k0_off26 v396) a + S1x16.size a ≤ S512x128.size a := fun v379 v381 v384 v394 v396 k0_hw1 k0_h2 k0_h3 => k0_hw1.2.1 k0_h2 k0_h3
theorem k0_off27_inb : ∀ (v379 : BitVec 32) (v381 : BitVec 32) (v384 : BitVec 32) (v394 : BitVec 32) (v396 : BitVec 32) (k0_hw1 : k0_chk1 v379 v381 v384 v394 v396), ∀ (k0_h2 : k0_cond2 v379 v381 v384 = 1#1), ∀ (k0_h3 : k0_cond3 v394 v396 = 1#1), ∀ a, (k0_off27 v396) a + S1x16.size a ≤ S512x128.size a := fun v379 v381 v384 v394 v396 k0_hw1 k0_h2 k0_h3 => k0_hw1.2.2.1 k0_h2 k0_h3
theorem k0_off28_inb : ∀ (v379 : BitVec 32) (v381 : BitVec 32) (v384 : BitVec 32) (v394 : BitVec 32) (v396 : BitVec 32) (k0_hw1 : k0_chk1 v379 v381 v384 v394 v396), ∀ (k0_h2 : k0_cond2 v379 v381 v384 = 1#1), ∀ (k0_h3 : k0_cond3 v394 v396 = 1#1), ∀ a, (k0_off28 v396) a + S1x16.size a ≤ S512x128.size a := fun v379 v381 v384 v394 v396 k0_hw1 k0_h2 k0_h3 => k0_hw1.2.2.2.1 k0_h2 k0_h3
theorem k0_off29_inb : ∀ (v379 : BitVec 32) (v381 : BitVec 32) (v384 : BitVec 32) (v394 : BitVec 32) (v396 : BitVec 32) (k0_hw1 : k0_chk1 v379 v381 v384 v394 v396), ∀ (k0_h2 : k0_cond2 v379 v381 v384 = 1#1), ∀ (k0_h3 : k0_cond3 v394 v396 = 1#1), ∀ a, (k0_off29 v396) a + S1x16.size a ≤ S512x128.size a := fun v379 v381 v384 v394 v396 k0_hw1 k0_h2 k0_h3 => k0_hw1.2.2.2.2.1 k0_h2 k0_h3
theorem k0_off30_inb : ∀ (v379 : BitVec 32) (v381 : BitVec 32) (v384 : BitVec 32) (v394 : BitVec 32) (v396 : BitVec 32) (k0_hw1 : k0_chk1 v379 v381 v384 v394 v396), ∀ (k0_h2 : k0_cond2 v379 v381 v384 = 1#1), ∀ (k0_h3 : k0_cond3 v394 v396 = 1#1), ∀ a, (k0_off30 v396) a + S1x16.size a ≤ S512x128.size a := fun v379 v381 v384 v394 v396 k0_hw1 k0_h2 k0_h3 => k0_hw1.2.2.2.2.2.1 k0_h2 k0_h3
theorem k0_off31_inb : ∀ (v379 : BitVec 32) (v381 : BitVec 32) (v384 : BitVec 32) (v394 : BitVec 32) (v396 : BitVec 32) (k0_hw1 : k0_chk1 v379 v381 v384 v394 v396), ∀ (k0_h2 : k0_cond2 v379 v381 v384 = 1#1), ∀ (k0_h3 : k0_cond3 v394 v396 = 1#1), ∀ a, (k0_off31 v396) a + S1x16.size a ≤ S512x128.size a := fun v379 v381 v384 v394 v396 k0_hw1 k0_h2 k0_h3 => k0_hw1.2.2.2.2.2.2.1 k0_h2 k0_h3
theorem k0_off32_inb : ∀ (v379 : BitVec 32) (v381 : BitVec 32) (v384 : BitVec 32) (v394 : BitVec 32) (v396 : BitVec 32) (k0_hw1 : k0_chk1 v379 v381 v384 v394 v396), ∀ (k0_h2 : k0_cond2 v379 v381 v384 = 1#1), ∀ (k0_h3 : k0_cond3 v394 v396 = 1#1), ∀ a, (k0_off32 v396) a + S1x16.size a ≤ S512x128.size a := fun v379 v381 v384 v394 v396 k0_hw1 k0_h2 k0_h3 => k0_hw1.2.2.2.2.2.2.2.1 k0_h2 k0_h3
theorem k0_off33_inb : ∀ (v379 : BitVec 32) (v381 : BitVec 32) (v384 : BitVec 32) (v394 : BitVec 32) (v396 : BitVec 32) (k0_hw1 : k0_chk1 v379 v381 v384 v394 v396), ∀ (k0_h2 : k0_cond2 v379 v381 v384 = 1#1), ∀ (k0_h3 : k0_cond3 v394 v396 = 1#1), ∀ a, (k0_off33 v396) a + S16.size a ≤ S8192.size a := fun v379 v381 v384 v394 v396 k0_hw1 k0_h2 k0_h3 => k0_hw1.2.2.2.2.2.2.2.2 k0_h2 k0_h3

def k0_off34 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c0_i32_274 : BitVec 32 := 0#32
  let v618 : BitVec 32 := Scalar.addi v382 c0_i32_274
  let v619 : Index := Scalar.indexCast v618
  let c0_275 : Index := 0#32
  ![v619.toNat, 0]
def k0_off35 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c0_i32_278 : BitVec 32 := 0#32
  let v626 : BitVec 32 := Scalar.addi v382 c0_i32_278
  let v627 : Index := Scalar.indexCast v626
  let c16_279 : Index := 16#32
  ![v627.toNat, 16]
def k0_off36 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c0_i32_282 : BitVec 32 := 0#32
  let v634 : BitVec 32 := Scalar.addi v382 c0_i32_282
  let v635 : Index := Scalar.indexCast v634
  let c32_283 : Index := 32#32
  ![v635.toNat, 32]
def k0_off37 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c0_i32_286 : BitVec 32 := 0#32
  let v642 : BitVec 32 := Scalar.addi v382 c0_i32_286
  let v643 : Index := Scalar.indexCast v642
  let c48_287 : Index := 48#32
  ![v643.toNat, 48]
def k0_off38 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c0_i32_290 : BitVec 32 := 0#32
  let v650 : BitVec 32 := Scalar.addi v382 c0_i32_290
  let v651 : Index := Scalar.indexCast v650
  let c64_291 : Index := 64#32
  ![v651.toNat, 64]
def k0_off39 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c0_i32_294 : BitVec 32 := 0#32
  let v658 : BitVec 32 := Scalar.addi v382 c0_i32_294
  let v659 : Index := Scalar.indexCast v658
  let c80_295 : Index := 80#32
  ![v659.toNat, 80]
def k0_off40 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c0_i32_298 : BitVec 32 := 0#32
  let v666 : BitVec 32 := Scalar.addi v382 c0_i32_298
  let v667 : Index := Scalar.indexCast v666
  let c96_299 : Index := 96#32
  ![v667.toNat, 96]
def k0_off41 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c0_i32_302 : BitVec 32 := 0#32
  let v674 : BitVec 32 := Scalar.addi v382 c0_i32_302
  let v675 : Index := Scalar.indexCast v674
  let c112_303 : Index := 112#32
  ![v675.toNat, 112]
def k0_off42 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c0_i32_248 : BitVec 32 := 0#32
  let v556 : BitVec 32 := Scalar.addi v382 c0_i32_248
  let v557 : Index := Scalar.indexCast v556
  let c0_249 : Index := 0#32
  ![v557.toNat, 0]
def k0_off43 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c0_i32_254 : BitVec 32 := 0#32
  let v568 : BitVec 32 := Scalar.addi v382 c0_i32_254
  let v569 : Index := Scalar.indexCast v568
  let c16_255 : Index := 16#32
  ![v569.toNat, 16]
def k0_off44 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c0_i32_260 : BitVec 32 := 0#32
  let v580 : BitVec 32 := Scalar.addi v382 c0_i32_260
  let v581 : Index := Scalar.indexCast v580
  let c32_261 : Index := 32#32
  ![v581.toNat, 32]
def k0_off45 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c0_i32_266 : BitVec 32 := 0#32
  let v592 : BitVec 32 := Scalar.addi v382 c0_i32_266
  let v593 : Index := Scalar.indexCast v592
  let c48_267 : Index := 48#32
  ![v593.toNat, 48]
def k0_off46 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c0_i32_272 : BitVec 32 := 0#32
  let v604 : BitVec 32 := Scalar.addi v382 c0_i32_272
  let v605 : Index := Scalar.indexCast v604
  let c64_273 : Index := 64#32
  ![v605.toNat, 64]
def k0_off47 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c0_i32_278 : BitVec 32 := 0#32
  let v616 : BitVec 32 := Scalar.addi v382 c0_i32_278
  let v617 : Index := Scalar.indexCast v616
  let c80_279 : Index := 80#32
  ![v617.toNat, 80]
def k0_off48 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c0_i32_284 : BitVec 32 := 0#32
  let v628 : BitVec 32 := Scalar.addi v382 c0_i32_284
  let v629 : Index := Scalar.indexCast v628
  let c96_285 : Index := 96#32
  ![v629.toNat, 96]
def k0_off49 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c0_i32_290 : BitVec 32 := 0#32
  let v640 : BitVec 32 := Scalar.addi v382 c0_i32_290
  let v641 : Index := Scalar.indexCast v640
  let c112_291 : Index := 112#32
  ![v641.toNat, 112]
def k0_off50 (v406 : BitVec 32) : Fin 2 → Nat :=
  let c0_i32_246 : BitVec 32 := 0#32
  let v553 : BitVec 32 := Scalar.maxsi v406 c0_i32_246
  let v557 : Index := Scalar.indexCast v553
  let c0_249 : Index := 0#32
  ![v557.toNat, 0]
def k0_cond5 (v404 : BitVec 32) (v406 : BitVec 32) : BitVec 1 :=
  let v407 : BitVec 1 := Scalar.cmpi .ne v404 v406
  let v408 : BitVec 32 := Scalar.extui v407
  let c0_i32_202 : BitVec 32 := 0#32
  let v409 : BitVec 1 := Scalar.cmpi .ne v408 c0_i32_202
  v409

def k0_off51 (v406 : BitVec 32) : Fin 2 → Nat :=
  let c0_i32_246 : BitVec 32 := 0#32
  let v553 : BitVec 32 := Scalar.maxsi v406 c0_i32_246
  let v564 : Index := Scalar.indexCast v553
  let c16_252 : Index := 16#32
  ![v564.toNat, 16]
def k0_off52 (v406 : BitVec 32) : Fin 2 → Nat :=
  let c0_i32_246 : BitVec 32 := 0#32
  let v553 : BitVec 32 := Scalar.maxsi v406 c0_i32_246
  let v571 : Index := Scalar.indexCast v553
  let c32_255 : Index := 32#32
  ![v571.toNat, 32]
def k0_off53 (v406 : BitVec 32) : Fin 2 → Nat :=
  let c0_i32_246 : BitVec 32 := 0#32
  let v553 : BitVec 32 := Scalar.maxsi v406 c0_i32_246
  let v578 : Index := Scalar.indexCast v553
  let c48_258 : Index := 48#32
  ![v578.toNat, 48]
def k0_off54 (v406 : BitVec 32) : Fin 2 → Nat :=
  let c0_i32_246 : BitVec 32 := 0#32
  let v553 : BitVec 32 := Scalar.maxsi v406 c0_i32_246
  let v585 : Index := Scalar.indexCast v553
  let c64_261 : Index := 64#32
  ![v585.toNat, 64]
def k0_off55 (v406 : BitVec 32) : Fin 2 → Nat :=
  let c0_i32_246 : BitVec 32 := 0#32
  let v553 : BitVec 32 := Scalar.maxsi v406 c0_i32_246
  let v592 : Index := Scalar.indexCast v553
  let c80_264 : Index := 80#32
  ![v592.toNat, 80]
def k0_off56 (v406 : BitVec 32) : Fin 2 → Nat :=
  let c0_i32_246 : BitVec 32 := 0#32
  let v553 : BitVec 32 := Scalar.maxsi v406 c0_i32_246
  let v599 : Index := Scalar.indexCast v553
  let c96_267 : Index := 96#32
  ![v599.toNat, 96]
def k0_off57 (v406 : BitVec 32) : Fin 2 → Nat :=
  let c0_i32_246 : BitVec 32 := 0#32
  let v553 : BitVec 32 := Scalar.maxsi v406 c0_i32_246
  let v606 : Index := Scalar.indexCast v553
  let c112_270 : Index := 112#32
  ![v606.toNat, 112]
def k0_off58 (v406 : BitVec 32) : Fin 1 → Nat :=
  let c0_i32_246 : BitVec 32 := 0#32
  let v553 : BitVec 32 := Scalar.maxsi v406 c0_i32_246
  let c16_i32_273 : BitVec 32 := 16#32
  let v613 : BitVec 32 := Scalar.muli v553 c16_i32_273
  let v614 : Index := Scalar.indexCast v613
  ![v614.toNat]

def k0_chk2 (v379 : BitVec 32) (v381 : BitVec 32) (v384 : BitVec 32) (v404 : BitVec 32) (v406 : BitVec 32) : Prop :=
  (∀ (k0_h2 : k0_cond2 v379 v381 v384 = 1#1), ∀ (k0_h5 : k0_cond5 v404 v406 = 1#1), ∀ a, (k0_off50 v406) a + S1x16.size a ≤ S512x128.size a) ∧
  (∀ (k0_h2 : k0_cond2 v379 v381 v384 = 1#1), ∀ (k0_h5 : k0_cond5 v404 v406 = 1#1), ∀ a, (k0_off51 v406) a + S1x16.size a ≤ S512x128.size a) ∧
  (∀ (k0_h2 : k0_cond2 v379 v381 v384 = 1#1), ∀ (k0_h5 : k0_cond5 v404 v406 = 1#1), ∀ a, (k0_off52 v406) a + S1x16.size a ≤ S512x128.size a) ∧
  (∀ (k0_h2 : k0_cond2 v379 v381 v384 = 1#1), ∀ (k0_h5 : k0_cond5 v404 v406 = 1#1), ∀ a, (k0_off53 v406) a + S1x16.size a ≤ S512x128.size a) ∧
  (∀ (k0_h2 : k0_cond2 v379 v381 v384 = 1#1), ∀ (k0_h5 : k0_cond5 v404 v406 = 1#1), ∀ a, (k0_off54 v406) a + S1x16.size a ≤ S512x128.size a) ∧
  (∀ (k0_h2 : k0_cond2 v379 v381 v384 = 1#1), ∀ (k0_h5 : k0_cond5 v404 v406 = 1#1), ∀ a, (k0_off55 v406) a + S1x16.size a ≤ S512x128.size a) ∧
  (∀ (k0_h2 : k0_cond2 v379 v381 v384 = 1#1), ∀ (k0_h5 : k0_cond5 v404 v406 = 1#1), ∀ a, (k0_off56 v406) a + S1x16.size a ≤ S512x128.size a) ∧
  (∀ (k0_h2 : k0_cond2 v379 v381 v384 = 1#1), ∀ (k0_h5 : k0_cond5 v404 v406 = 1#1), ∀ a, (k0_off57 v406) a + S1x16.size a ≤ S512x128.size a) ∧
  (∀ (k0_h2 : k0_cond2 v379 v381 v384 = 1#1), ∀ (k0_h5 : k0_cond5 v404 v406 = 1#1), ∀ a, (k0_off58 v406) a + S16.size a ≤ S8192.size a)
theorem k0_off50_inb : ∀ (v379 : BitVec 32) (v381 : BitVec 32) (v384 : BitVec 32) (v404 : BitVec 32) (v406 : BitVec 32) (k0_hw2 : k0_chk2 v379 v381 v384 v404 v406), ∀ (k0_h2 : k0_cond2 v379 v381 v384 = 1#1), ∀ (k0_h5 : k0_cond5 v404 v406 = 1#1), ∀ a, (k0_off50 v406) a + S1x16.size a ≤ S512x128.size a := fun v379 v381 v384 v404 v406 k0_hw2 k0_h2 k0_h5 => k0_hw2.1 k0_h2 k0_h5
theorem k0_off51_inb : ∀ (v379 : BitVec 32) (v381 : BitVec 32) (v384 : BitVec 32) (v404 : BitVec 32) (v406 : BitVec 32) (k0_hw2 : k0_chk2 v379 v381 v384 v404 v406), ∀ (k0_h2 : k0_cond2 v379 v381 v384 = 1#1), ∀ (k0_h5 : k0_cond5 v404 v406 = 1#1), ∀ a, (k0_off51 v406) a + S1x16.size a ≤ S512x128.size a := fun v379 v381 v384 v404 v406 k0_hw2 k0_h2 k0_h5 => k0_hw2.2.1 k0_h2 k0_h5
theorem k0_off52_inb : ∀ (v379 : BitVec 32) (v381 : BitVec 32) (v384 : BitVec 32) (v404 : BitVec 32) (v406 : BitVec 32) (k0_hw2 : k0_chk2 v379 v381 v384 v404 v406), ∀ (k0_h2 : k0_cond2 v379 v381 v384 = 1#1), ∀ (k0_h5 : k0_cond5 v404 v406 = 1#1), ∀ a, (k0_off52 v406) a + S1x16.size a ≤ S512x128.size a := fun v379 v381 v384 v404 v406 k0_hw2 k0_h2 k0_h5 => k0_hw2.2.2.1 k0_h2 k0_h5
theorem k0_off53_inb : ∀ (v379 : BitVec 32) (v381 : BitVec 32) (v384 : BitVec 32) (v404 : BitVec 32) (v406 : BitVec 32) (k0_hw2 : k0_chk2 v379 v381 v384 v404 v406), ∀ (k0_h2 : k0_cond2 v379 v381 v384 = 1#1), ∀ (k0_h5 : k0_cond5 v404 v406 = 1#1), ∀ a, (k0_off53 v406) a + S1x16.size a ≤ S512x128.size a := fun v379 v381 v384 v404 v406 k0_hw2 k0_h2 k0_h5 => k0_hw2.2.2.2.1 k0_h2 k0_h5
theorem k0_off54_inb : ∀ (v379 : BitVec 32) (v381 : BitVec 32) (v384 : BitVec 32) (v404 : BitVec 32) (v406 : BitVec 32) (k0_hw2 : k0_chk2 v379 v381 v384 v404 v406), ∀ (k0_h2 : k0_cond2 v379 v381 v384 = 1#1), ∀ (k0_h5 : k0_cond5 v404 v406 = 1#1), ∀ a, (k0_off54 v406) a + S1x16.size a ≤ S512x128.size a := fun v379 v381 v384 v404 v406 k0_hw2 k0_h2 k0_h5 => k0_hw2.2.2.2.2.1 k0_h2 k0_h5
theorem k0_off55_inb : ∀ (v379 : BitVec 32) (v381 : BitVec 32) (v384 : BitVec 32) (v404 : BitVec 32) (v406 : BitVec 32) (k0_hw2 : k0_chk2 v379 v381 v384 v404 v406), ∀ (k0_h2 : k0_cond2 v379 v381 v384 = 1#1), ∀ (k0_h5 : k0_cond5 v404 v406 = 1#1), ∀ a, (k0_off55 v406) a + S1x16.size a ≤ S512x128.size a := fun v379 v381 v384 v404 v406 k0_hw2 k0_h2 k0_h5 => k0_hw2.2.2.2.2.2.1 k0_h2 k0_h5
theorem k0_off56_inb : ∀ (v379 : BitVec 32) (v381 : BitVec 32) (v384 : BitVec 32) (v404 : BitVec 32) (v406 : BitVec 32) (k0_hw2 : k0_chk2 v379 v381 v384 v404 v406), ∀ (k0_h2 : k0_cond2 v379 v381 v384 = 1#1), ∀ (k0_h5 : k0_cond5 v404 v406 = 1#1), ∀ a, (k0_off56 v406) a + S1x16.size a ≤ S512x128.size a := fun v379 v381 v384 v404 v406 k0_hw2 k0_h2 k0_h5 => k0_hw2.2.2.2.2.2.2.1 k0_h2 k0_h5
theorem k0_off57_inb : ∀ (v379 : BitVec 32) (v381 : BitVec 32) (v384 : BitVec 32) (v404 : BitVec 32) (v406 : BitVec 32) (k0_hw2 : k0_chk2 v379 v381 v384 v404 v406), ∀ (k0_h2 : k0_cond2 v379 v381 v384 = 1#1), ∀ (k0_h5 : k0_cond5 v404 v406 = 1#1), ∀ a, (k0_off57 v406) a + S1x16.size a ≤ S512x128.size a := fun v379 v381 v384 v404 v406 k0_hw2 k0_h2 k0_h5 => k0_hw2.2.2.2.2.2.2.2.1 k0_h2 k0_h5
theorem k0_off58_inb : ∀ (v379 : BitVec 32) (v381 : BitVec 32) (v384 : BitVec 32) (v404 : BitVec 32) (v406 : BitVec 32) (k0_hw2 : k0_chk2 v379 v381 v384 v404 v406), ∀ (k0_h2 : k0_cond2 v379 v381 v384 = 1#1), ∀ (k0_h5 : k0_cond5 v404 v406 = 1#1), ∀ a, (k0_off58 v406) a + S16.size a ≤ S8192.size a := fun v379 v381 v384 v404 v406 k0_hw2 k0_h2 k0_h5 => k0_hw2.2.2.2.2.2.2.2.2 k0_h2 k0_h5

def k0_off59 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c1_i32_274 : BitVec 32 := 1#32
  let v618 : BitVec 32 := Scalar.addi v382 c1_i32_274
  let v619 : Index := Scalar.indexCast v618
  let c0_275 : Index := 0#32
  ![v619.toNat, 0]
def k0_off60 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c1_i32_278 : BitVec 32 := 1#32
  let v626 : BitVec 32 := Scalar.addi v382 c1_i32_278
  let v627 : Index := Scalar.indexCast v626
  let c16_279 : Index := 16#32
  ![v627.toNat, 16]
def k0_off61 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c1_i32_282 : BitVec 32 := 1#32
  let v634 : BitVec 32 := Scalar.addi v382 c1_i32_282
  let v635 : Index := Scalar.indexCast v634
  let c32_283 : Index := 32#32
  ![v635.toNat, 32]
def k0_off62 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c1_i32_286 : BitVec 32 := 1#32
  let v642 : BitVec 32 := Scalar.addi v382 c1_i32_286
  let v643 : Index := Scalar.indexCast v642
  let c48_287 : Index := 48#32
  ![v643.toNat, 48]
def k0_off63 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c1_i32_290 : BitVec 32 := 1#32
  let v650 : BitVec 32 := Scalar.addi v382 c1_i32_290
  let v651 : Index := Scalar.indexCast v650
  let c64_291 : Index := 64#32
  ![v651.toNat, 64]
def k0_off64 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c1_i32_294 : BitVec 32 := 1#32
  let v658 : BitVec 32 := Scalar.addi v382 c1_i32_294
  let v659 : Index := Scalar.indexCast v658
  let c80_295 : Index := 80#32
  ![v659.toNat, 80]
def k0_off65 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c1_i32_298 : BitVec 32 := 1#32
  let v666 : BitVec 32 := Scalar.addi v382 c1_i32_298
  let v667 : Index := Scalar.indexCast v666
  let c96_299 : Index := 96#32
  ![v667.toNat, 96]
def k0_off66 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c1_i32_302 : BitVec 32 := 1#32
  let v674 : BitVec 32 := Scalar.addi v382 c1_i32_302
  let v675 : Index := Scalar.indexCast v674
  let c112_303 : Index := 112#32
  ![v675.toNat, 112]
def k0_off67 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c1_i32_248 : BitVec 32 := 1#32
  let v556 : BitVec 32 := Scalar.addi v382 c1_i32_248
  let v557 : Index := Scalar.indexCast v556
  let c0_249 : Index := 0#32
  ![v557.toNat, 0]
def k0_off68 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c1_i32_254 : BitVec 32 := 1#32
  let v568 : BitVec 32 := Scalar.addi v382 c1_i32_254
  let v569 : Index := Scalar.indexCast v568
  let c16_255 : Index := 16#32
  ![v569.toNat, 16]
def k0_off69 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c1_i32_260 : BitVec 32 := 1#32
  let v580 : BitVec 32 := Scalar.addi v382 c1_i32_260
  let v581 : Index := Scalar.indexCast v580
  let c32_261 : Index := 32#32
  ![v581.toNat, 32]
def k0_off70 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c1_i32_266 : BitVec 32 := 1#32
  let v592 : BitVec 32 := Scalar.addi v382 c1_i32_266
  let v593 : Index := Scalar.indexCast v592
  let c48_267 : Index := 48#32
  ![v593.toNat, 48]
def k0_off71 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c1_i32_272 : BitVec 32 := 1#32
  let v604 : BitVec 32 := Scalar.addi v382 c1_i32_272
  let v605 : Index := Scalar.indexCast v604
  let c64_273 : Index := 64#32
  ![v605.toNat, 64]
def k0_off72 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c1_i32_278 : BitVec 32 := 1#32
  let v616 : BitVec 32 := Scalar.addi v382 c1_i32_278
  let v617 : Index := Scalar.indexCast v616
  let c80_279 : Index := 80#32
  ![v617.toNat, 80]
def k0_off73 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c1_i32_284 : BitVec 32 := 1#32
  let v628 : BitVec 32 := Scalar.addi v382 c1_i32_284
  let v629 : Index := Scalar.indexCast v628
  let c96_285 : Index := 96#32
  ![v629.toNat, 96]
def k0_off74 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c1_i32_290 : BitVec 32 := 1#32
  let v640 : BitVec 32 := Scalar.addi v382 c1_i32_290
  let v641 : Index := Scalar.indexCast v640
  let c112_291 : Index := 112#32
  ![v641.toNat, 112]
def k0_off75 (v416 : BitVec 32) : Fin 2 → Nat :=
  let c0_i32_246 : BitVec 32 := 0#32
  let v553 : BitVec 32 := Scalar.maxsi v416 c0_i32_246
  let v557 : Index := Scalar.indexCast v553
  let c0_249 : Index := 0#32
  ![v557.toNat, 0]
def k0_cond7 (v414 : BitVec 32) (v416 : BitVec 32) : BitVec 1 :=
  let v417 : BitVec 1 := Scalar.cmpi .ne v414 v416
  let v418 : BitVec 32 := Scalar.extui v417
  let c0_i32_205 : BitVec 32 := 0#32
  let v419 : BitVec 1 := Scalar.cmpi .ne v418 c0_i32_205
  v419

def k0_off76 (v416 : BitVec 32) : Fin 2 → Nat :=
  let c0_i32_246 : BitVec 32 := 0#32
  let v553 : BitVec 32 := Scalar.maxsi v416 c0_i32_246
  let v564 : Index := Scalar.indexCast v553
  let c16_252 : Index := 16#32
  ![v564.toNat, 16]
def k0_off77 (v416 : BitVec 32) : Fin 2 → Nat :=
  let c0_i32_246 : BitVec 32 := 0#32
  let v553 : BitVec 32 := Scalar.maxsi v416 c0_i32_246
  let v571 : Index := Scalar.indexCast v553
  let c32_255 : Index := 32#32
  ![v571.toNat, 32]
def k0_off78 (v416 : BitVec 32) : Fin 2 → Nat :=
  let c0_i32_246 : BitVec 32 := 0#32
  let v553 : BitVec 32 := Scalar.maxsi v416 c0_i32_246
  let v578 : Index := Scalar.indexCast v553
  let c48_258 : Index := 48#32
  ![v578.toNat, 48]
def k0_off79 (v416 : BitVec 32) : Fin 2 → Nat :=
  let c0_i32_246 : BitVec 32 := 0#32
  let v553 : BitVec 32 := Scalar.maxsi v416 c0_i32_246
  let v585 : Index := Scalar.indexCast v553
  let c64_261 : Index := 64#32
  ![v585.toNat, 64]
def k0_off80 (v416 : BitVec 32) : Fin 2 → Nat :=
  let c0_i32_246 : BitVec 32 := 0#32
  let v553 : BitVec 32 := Scalar.maxsi v416 c0_i32_246
  let v592 : Index := Scalar.indexCast v553
  let c80_264 : Index := 80#32
  ![v592.toNat, 80]
def k0_off81 (v416 : BitVec 32) : Fin 2 → Nat :=
  let c0_i32_246 : BitVec 32 := 0#32
  let v553 : BitVec 32 := Scalar.maxsi v416 c0_i32_246
  let v599 : Index := Scalar.indexCast v553
  let c96_267 : Index := 96#32
  ![v599.toNat, 96]
def k0_off82 (v416 : BitVec 32) : Fin 2 → Nat :=
  let c0_i32_246 : BitVec 32 := 0#32
  let v553 : BitVec 32 := Scalar.maxsi v416 c0_i32_246
  let v606 : Index := Scalar.indexCast v553
  let c112_270 : Index := 112#32
  ![v606.toNat, 112]
def k0_off83 (v416 : BitVec 32) : Fin 1 → Nat :=
  let c0_i32_246 : BitVec 32 := 0#32
  let v553 : BitVec 32 := Scalar.maxsi v416 c0_i32_246
  let c16_i32_273 : BitVec 32 := 16#32
  let v613 : BitVec 32 := Scalar.muli v553 c16_i32_273
  let v614 : Index := Scalar.indexCast v613
  ![v614.toNat]

def k0_chk3 (v379 : BitVec 32) (v381 : BitVec 32) (v384 : BitVec 32) (v414 : BitVec 32) (v416 : BitVec 32) : Prop :=
  (∀ (k0_h2 : k0_cond2 v379 v381 v384 = 1#1), ∀ (k0_h7 : k0_cond7 v414 v416 = 1#1), ∀ a, (k0_off75 v416) a + S1x16.size a ≤ S512x128.size a) ∧
  (∀ (k0_h2 : k0_cond2 v379 v381 v384 = 1#1), ∀ (k0_h7 : k0_cond7 v414 v416 = 1#1), ∀ a, (k0_off76 v416) a + S1x16.size a ≤ S512x128.size a) ∧
  (∀ (k0_h2 : k0_cond2 v379 v381 v384 = 1#1), ∀ (k0_h7 : k0_cond7 v414 v416 = 1#1), ∀ a, (k0_off77 v416) a + S1x16.size a ≤ S512x128.size a) ∧
  (∀ (k0_h2 : k0_cond2 v379 v381 v384 = 1#1), ∀ (k0_h7 : k0_cond7 v414 v416 = 1#1), ∀ a, (k0_off78 v416) a + S1x16.size a ≤ S512x128.size a) ∧
  (∀ (k0_h2 : k0_cond2 v379 v381 v384 = 1#1), ∀ (k0_h7 : k0_cond7 v414 v416 = 1#1), ∀ a, (k0_off79 v416) a + S1x16.size a ≤ S512x128.size a) ∧
  (∀ (k0_h2 : k0_cond2 v379 v381 v384 = 1#1), ∀ (k0_h7 : k0_cond7 v414 v416 = 1#1), ∀ a, (k0_off80 v416) a + S1x16.size a ≤ S512x128.size a) ∧
  (∀ (k0_h2 : k0_cond2 v379 v381 v384 = 1#1), ∀ (k0_h7 : k0_cond7 v414 v416 = 1#1), ∀ a, (k0_off81 v416) a + S1x16.size a ≤ S512x128.size a) ∧
  (∀ (k0_h2 : k0_cond2 v379 v381 v384 = 1#1), ∀ (k0_h7 : k0_cond7 v414 v416 = 1#1), ∀ a, (k0_off82 v416) a + S1x16.size a ≤ S512x128.size a) ∧
  (∀ (k0_h2 : k0_cond2 v379 v381 v384 = 1#1), ∀ (k0_h7 : k0_cond7 v414 v416 = 1#1), ∀ a, (k0_off83 v416) a + S16.size a ≤ S8192.size a)
theorem k0_off75_inb : ∀ (v379 : BitVec 32) (v381 : BitVec 32) (v384 : BitVec 32) (v414 : BitVec 32) (v416 : BitVec 32) (k0_hw3 : k0_chk3 v379 v381 v384 v414 v416), ∀ (k0_h2 : k0_cond2 v379 v381 v384 = 1#1), ∀ (k0_h7 : k0_cond7 v414 v416 = 1#1), ∀ a, (k0_off75 v416) a + S1x16.size a ≤ S512x128.size a := fun v379 v381 v384 v414 v416 k0_hw3 k0_h2 k0_h7 => k0_hw3.1 k0_h2 k0_h7
theorem k0_off76_inb : ∀ (v379 : BitVec 32) (v381 : BitVec 32) (v384 : BitVec 32) (v414 : BitVec 32) (v416 : BitVec 32) (k0_hw3 : k0_chk3 v379 v381 v384 v414 v416), ∀ (k0_h2 : k0_cond2 v379 v381 v384 = 1#1), ∀ (k0_h7 : k0_cond7 v414 v416 = 1#1), ∀ a, (k0_off76 v416) a + S1x16.size a ≤ S512x128.size a := fun v379 v381 v384 v414 v416 k0_hw3 k0_h2 k0_h7 => k0_hw3.2.1 k0_h2 k0_h7
theorem k0_off77_inb : ∀ (v379 : BitVec 32) (v381 : BitVec 32) (v384 : BitVec 32) (v414 : BitVec 32) (v416 : BitVec 32) (k0_hw3 : k0_chk3 v379 v381 v384 v414 v416), ∀ (k0_h2 : k0_cond2 v379 v381 v384 = 1#1), ∀ (k0_h7 : k0_cond7 v414 v416 = 1#1), ∀ a, (k0_off77 v416) a + S1x16.size a ≤ S512x128.size a := fun v379 v381 v384 v414 v416 k0_hw3 k0_h2 k0_h7 => k0_hw3.2.2.1 k0_h2 k0_h7
theorem k0_off78_inb : ∀ (v379 : BitVec 32) (v381 : BitVec 32) (v384 : BitVec 32) (v414 : BitVec 32) (v416 : BitVec 32) (k0_hw3 : k0_chk3 v379 v381 v384 v414 v416), ∀ (k0_h2 : k0_cond2 v379 v381 v384 = 1#1), ∀ (k0_h7 : k0_cond7 v414 v416 = 1#1), ∀ a, (k0_off78 v416) a + S1x16.size a ≤ S512x128.size a := fun v379 v381 v384 v414 v416 k0_hw3 k0_h2 k0_h7 => k0_hw3.2.2.2.1 k0_h2 k0_h7
theorem k0_off79_inb : ∀ (v379 : BitVec 32) (v381 : BitVec 32) (v384 : BitVec 32) (v414 : BitVec 32) (v416 : BitVec 32) (k0_hw3 : k0_chk3 v379 v381 v384 v414 v416), ∀ (k0_h2 : k0_cond2 v379 v381 v384 = 1#1), ∀ (k0_h7 : k0_cond7 v414 v416 = 1#1), ∀ a, (k0_off79 v416) a + S1x16.size a ≤ S512x128.size a := fun v379 v381 v384 v414 v416 k0_hw3 k0_h2 k0_h7 => k0_hw3.2.2.2.2.1 k0_h2 k0_h7
theorem k0_off80_inb : ∀ (v379 : BitVec 32) (v381 : BitVec 32) (v384 : BitVec 32) (v414 : BitVec 32) (v416 : BitVec 32) (k0_hw3 : k0_chk3 v379 v381 v384 v414 v416), ∀ (k0_h2 : k0_cond2 v379 v381 v384 = 1#1), ∀ (k0_h7 : k0_cond7 v414 v416 = 1#1), ∀ a, (k0_off80 v416) a + S1x16.size a ≤ S512x128.size a := fun v379 v381 v384 v414 v416 k0_hw3 k0_h2 k0_h7 => k0_hw3.2.2.2.2.2.1 k0_h2 k0_h7
theorem k0_off81_inb : ∀ (v379 : BitVec 32) (v381 : BitVec 32) (v384 : BitVec 32) (v414 : BitVec 32) (v416 : BitVec 32) (k0_hw3 : k0_chk3 v379 v381 v384 v414 v416), ∀ (k0_h2 : k0_cond2 v379 v381 v384 = 1#1), ∀ (k0_h7 : k0_cond7 v414 v416 = 1#1), ∀ a, (k0_off81 v416) a + S1x16.size a ≤ S512x128.size a := fun v379 v381 v384 v414 v416 k0_hw3 k0_h2 k0_h7 => k0_hw3.2.2.2.2.2.2.1 k0_h2 k0_h7
theorem k0_off82_inb : ∀ (v379 : BitVec 32) (v381 : BitVec 32) (v384 : BitVec 32) (v414 : BitVec 32) (v416 : BitVec 32) (k0_hw3 : k0_chk3 v379 v381 v384 v414 v416), ∀ (k0_h2 : k0_cond2 v379 v381 v384 = 1#1), ∀ (k0_h7 : k0_cond7 v414 v416 = 1#1), ∀ a, (k0_off82 v416) a + S1x16.size a ≤ S512x128.size a := fun v379 v381 v384 v414 v416 k0_hw3 k0_h2 k0_h7 => k0_hw3.2.2.2.2.2.2.2.1 k0_h2 k0_h7
theorem k0_off83_inb : ∀ (v379 : BitVec 32) (v381 : BitVec 32) (v384 : BitVec 32) (v414 : BitVec 32) (v416 : BitVec 32) (k0_hw3 : k0_chk3 v379 v381 v384 v414 v416), ∀ (k0_h2 : k0_cond2 v379 v381 v384 = 1#1), ∀ (k0_h7 : k0_cond7 v414 v416 = 1#1), ∀ a, (k0_off83 v416) a + S16.size a ≤ S8192.size a := fun v379 v381 v384 v414 v416 k0_hw3 k0_h2 k0_h7 => k0_hw3.2.2.2.2.2.2.2.2 k0_h2 k0_h7

def k0_off84 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c2_i32_274 : BitVec 32 := 2#32
  let v618 : BitVec 32 := Scalar.addi v382 c2_i32_274
  let v619 : Index := Scalar.indexCast v618
  let c0_275 : Index := 0#32
  ![v619.toNat, 0]
def k0_off85 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c2_i32_278 : BitVec 32 := 2#32
  let v626 : BitVec 32 := Scalar.addi v382 c2_i32_278
  let v627 : Index := Scalar.indexCast v626
  let c16_279 : Index := 16#32
  ![v627.toNat, 16]
def k0_off86 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c2_i32_282 : BitVec 32 := 2#32
  let v634 : BitVec 32 := Scalar.addi v382 c2_i32_282
  let v635 : Index := Scalar.indexCast v634
  let c32_283 : Index := 32#32
  ![v635.toNat, 32]
def k0_off87 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c2_i32_286 : BitVec 32 := 2#32
  let v642 : BitVec 32 := Scalar.addi v382 c2_i32_286
  let v643 : Index := Scalar.indexCast v642
  let c48_287 : Index := 48#32
  ![v643.toNat, 48]
def k0_off88 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c2_i32_290 : BitVec 32 := 2#32
  let v650 : BitVec 32 := Scalar.addi v382 c2_i32_290
  let v651 : Index := Scalar.indexCast v650
  let c64_291 : Index := 64#32
  ![v651.toNat, 64]
def k0_off89 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c2_i32_294 : BitVec 32 := 2#32
  let v658 : BitVec 32 := Scalar.addi v382 c2_i32_294
  let v659 : Index := Scalar.indexCast v658
  let c80_295 : Index := 80#32
  ![v659.toNat, 80]
def k0_off90 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c2_i32_298 : BitVec 32 := 2#32
  let v666 : BitVec 32 := Scalar.addi v382 c2_i32_298
  let v667 : Index := Scalar.indexCast v666
  let c96_299 : Index := 96#32
  ![v667.toNat, 96]
def k0_off91 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c2_i32_302 : BitVec 32 := 2#32
  let v674 : BitVec 32 := Scalar.addi v382 c2_i32_302
  let v675 : Index := Scalar.indexCast v674
  let c112_303 : Index := 112#32
  ![v675.toNat, 112]
def k0_off92 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c2_i32_248 : BitVec 32 := 2#32
  let v556 : BitVec 32 := Scalar.addi v382 c2_i32_248
  let v557 : Index := Scalar.indexCast v556
  let c0_249 : Index := 0#32
  ![v557.toNat, 0]
def k0_off93 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c2_i32_254 : BitVec 32 := 2#32
  let v568 : BitVec 32 := Scalar.addi v382 c2_i32_254
  let v569 : Index := Scalar.indexCast v568
  let c16_255 : Index := 16#32
  ![v569.toNat, 16]
def k0_off94 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c2_i32_260 : BitVec 32 := 2#32
  let v580 : BitVec 32 := Scalar.addi v382 c2_i32_260
  let v581 : Index := Scalar.indexCast v580
  let c32_261 : Index := 32#32
  ![v581.toNat, 32]
def k0_off95 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c2_i32_266 : BitVec 32 := 2#32
  let v592 : BitVec 32 := Scalar.addi v382 c2_i32_266
  let v593 : Index := Scalar.indexCast v592
  let c48_267 : Index := 48#32
  ![v593.toNat, 48]
def k0_off96 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c2_i32_272 : BitVec 32 := 2#32
  let v604 : BitVec 32 := Scalar.addi v382 c2_i32_272
  let v605 : Index := Scalar.indexCast v604
  let c64_273 : Index := 64#32
  ![v605.toNat, 64]
def k0_off97 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c2_i32_278 : BitVec 32 := 2#32
  let v616 : BitVec 32 := Scalar.addi v382 c2_i32_278
  let v617 : Index := Scalar.indexCast v616
  let c80_279 : Index := 80#32
  ![v617.toNat, 80]
def k0_off98 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c2_i32_284 : BitVec 32 := 2#32
  let v628 : BitVec 32 := Scalar.addi v382 c2_i32_284
  let v629 : Index := Scalar.indexCast v628
  let c96_285 : Index := 96#32
  ![v629.toNat, 96]
def k0_off99 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c2_i32_290 : BitVec 32 := 2#32
  let v640 : BitVec 32 := Scalar.addi v382 c2_i32_290
  let v641 : Index := Scalar.indexCast v640
  let c112_291 : Index := 112#32
  ![v641.toNat, 112]
def k0_off100 (v426 : BitVec 32) : Fin 2 → Nat :=
  let c0_i32_246 : BitVec 32 := 0#32
  let v553 : BitVec 32 := Scalar.maxsi v426 c0_i32_246
  let v557 : Index := Scalar.indexCast v553
  let c0_249 : Index := 0#32
  ![v557.toNat, 0]
def k0_cond9 (v424 : BitVec 32) (v426 : BitVec 32) : BitVec 1 :=
  let v427 : BitVec 1 := Scalar.cmpi .ne v424 v426
  let v428 : BitVec 32 := Scalar.extui v427
  let c0_i32_208 : BitVec 32 := 0#32
  let v429 : BitVec 1 := Scalar.cmpi .ne v428 c0_i32_208
  v429

def k0_off101 (v426 : BitVec 32) : Fin 2 → Nat :=
  let c0_i32_246 : BitVec 32 := 0#32
  let v553 : BitVec 32 := Scalar.maxsi v426 c0_i32_246
  let v564 : Index := Scalar.indexCast v553
  let c16_252 : Index := 16#32
  ![v564.toNat, 16]
def k0_off102 (v426 : BitVec 32) : Fin 2 → Nat :=
  let c0_i32_246 : BitVec 32 := 0#32
  let v553 : BitVec 32 := Scalar.maxsi v426 c0_i32_246
  let v571 : Index := Scalar.indexCast v553
  let c32_255 : Index := 32#32
  ![v571.toNat, 32]
def k0_off103 (v426 : BitVec 32) : Fin 2 → Nat :=
  let c0_i32_246 : BitVec 32 := 0#32
  let v553 : BitVec 32 := Scalar.maxsi v426 c0_i32_246
  let v578 : Index := Scalar.indexCast v553
  let c48_258 : Index := 48#32
  ![v578.toNat, 48]
def k0_off104 (v426 : BitVec 32) : Fin 2 → Nat :=
  let c0_i32_246 : BitVec 32 := 0#32
  let v553 : BitVec 32 := Scalar.maxsi v426 c0_i32_246
  let v585 : Index := Scalar.indexCast v553
  let c64_261 : Index := 64#32
  ![v585.toNat, 64]
def k0_off105 (v426 : BitVec 32) : Fin 2 → Nat :=
  let c0_i32_246 : BitVec 32 := 0#32
  let v553 : BitVec 32 := Scalar.maxsi v426 c0_i32_246
  let v592 : Index := Scalar.indexCast v553
  let c80_264 : Index := 80#32
  ![v592.toNat, 80]
def k0_off106 (v426 : BitVec 32) : Fin 2 → Nat :=
  let c0_i32_246 : BitVec 32 := 0#32
  let v553 : BitVec 32 := Scalar.maxsi v426 c0_i32_246
  let v599 : Index := Scalar.indexCast v553
  let c96_267 : Index := 96#32
  ![v599.toNat, 96]
def k0_off107 (v426 : BitVec 32) : Fin 2 → Nat :=
  let c0_i32_246 : BitVec 32 := 0#32
  let v553 : BitVec 32 := Scalar.maxsi v426 c0_i32_246
  let v606 : Index := Scalar.indexCast v553
  let c112_270 : Index := 112#32
  ![v606.toNat, 112]
def k0_off108 (v426 : BitVec 32) : Fin 1 → Nat :=
  let c0_i32_246 : BitVec 32 := 0#32
  let v553 : BitVec 32 := Scalar.maxsi v426 c0_i32_246
  let c16_i32_273 : BitVec 32 := 16#32
  let v613 : BitVec 32 := Scalar.muli v553 c16_i32_273
  let v614 : Index := Scalar.indexCast v613
  ![v614.toNat]

def k0_chk4 (v379 : BitVec 32) (v381 : BitVec 32) (v384 : BitVec 32) (v424 : BitVec 32) (v426 : BitVec 32) : Prop :=
  (∀ (k0_h2 : k0_cond2 v379 v381 v384 = 1#1), ∀ (k0_h9 : k0_cond9 v424 v426 = 1#1), ∀ a, (k0_off100 v426) a + S1x16.size a ≤ S512x128.size a) ∧
  (∀ (k0_h2 : k0_cond2 v379 v381 v384 = 1#1), ∀ (k0_h9 : k0_cond9 v424 v426 = 1#1), ∀ a, (k0_off101 v426) a + S1x16.size a ≤ S512x128.size a) ∧
  (∀ (k0_h2 : k0_cond2 v379 v381 v384 = 1#1), ∀ (k0_h9 : k0_cond9 v424 v426 = 1#1), ∀ a, (k0_off102 v426) a + S1x16.size a ≤ S512x128.size a) ∧
  (∀ (k0_h2 : k0_cond2 v379 v381 v384 = 1#1), ∀ (k0_h9 : k0_cond9 v424 v426 = 1#1), ∀ a, (k0_off103 v426) a + S1x16.size a ≤ S512x128.size a) ∧
  (∀ (k0_h2 : k0_cond2 v379 v381 v384 = 1#1), ∀ (k0_h9 : k0_cond9 v424 v426 = 1#1), ∀ a, (k0_off104 v426) a + S1x16.size a ≤ S512x128.size a) ∧
  (∀ (k0_h2 : k0_cond2 v379 v381 v384 = 1#1), ∀ (k0_h9 : k0_cond9 v424 v426 = 1#1), ∀ a, (k0_off105 v426) a + S1x16.size a ≤ S512x128.size a) ∧
  (∀ (k0_h2 : k0_cond2 v379 v381 v384 = 1#1), ∀ (k0_h9 : k0_cond9 v424 v426 = 1#1), ∀ a, (k0_off106 v426) a + S1x16.size a ≤ S512x128.size a) ∧
  (∀ (k0_h2 : k0_cond2 v379 v381 v384 = 1#1), ∀ (k0_h9 : k0_cond9 v424 v426 = 1#1), ∀ a, (k0_off107 v426) a + S1x16.size a ≤ S512x128.size a) ∧
  (∀ (k0_h2 : k0_cond2 v379 v381 v384 = 1#1), ∀ (k0_h9 : k0_cond9 v424 v426 = 1#1), ∀ a, (k0_off108 v426) a + S16.size a ≤ S8192.size a)
theorem k0_off100_inb : ∀ (v379 : BitVec 32) (v381 : BitVec 32) (v384 : BitVec 32) (v424 : BitVec 32) (v426 : BitVec 32) (k0_hw4 : k0_chk4 v379 v381 v384 v424 v426), ∀ (k0_h2 : k0_cond2 v379 v381 v384 = 1#1), ∀ (k0_h9 : k0_cond9 v424 v426 = 1#1), ∀ a, (k0_off100 v426) a + S1x16.size a ≤ S512x128.size a := fun v379 v381 v384 v424 v426 k0_hw4 k0_h2 k0_h9 => k0_hw4.1 k0_h2 k0_h9
theorem k0_off101_inb : ∀ (v379 : BitVec 32) (v381 : BitVec 32) (v384 : BitVec 32) (v424 : BitVec 32) (v426 : BitVec 32) (k0_hw4 : k0_chk4 v379 v381 v384 v424 v426), ∀ (k0_h2 : k0_cond2 v379 v381 v384 = 1#1), ∀ (k0_h9 : k0_cond9 v424 v426 = 1#1), ∀ a, (k0_off101 v426) a + S1x16.size a ≤ S512x128.size a := fun v379 v381 v384 v424 v426 k0_hw4 k0_h2 k0_h9 => k0_hw4.2.1 k0_h2 k0_h9
theorem k0_off102_inb : ∀ (v379 : BitVec 32) (v381 : BitVec 32) (v384 : BitVec 32) (v424 : BitVec 32) (v426 : BitVec 32) (k0_hw4 : k0_chk4 v379 v381 v384 v424 v426), ∀ (k0_h2 : k0_cond2 v379 v381 v384 = 1#1), ∀ (k0_h9 : k0_cond9 v424 v426 = 1#1), ∀ a, (k0_off102 v426) a + S1x16.size a ≤ S512x128.size a := fun v379 v381 v384 v424 v426 k0_hw4 k0_h2 k0_h9 => k0_hw4.2.2.1 k0_h2 k0_h9
theorem k0_off103_inb : ∀ (v379 : BitVec 32) (v381 : BitVec 32) (v384 : BitVec 32) (v424 : BitVec 32) (v426 : BitVec 32) (k0_hw4 : k0_chk4 v379 v381 v384 v424 v426), ∀ (k0_h2 : k0_cond2 v379 v381 v384 = 1#1), ∀ (k0_h9 : k0_cond9 v424 v426 = 1#1), ∀ a, (k0_off103 v426) a + S1x16.size a ≤ S512x128.size a := fun v379 v381 v384 v424 v426 k0_hw4 k0_h2 k0_h9 => k0_hw4.2.2.2.1 k0_h2 k0_h9
theorem k0_off104_inb : ∀ (v379 : BitVec 32) (v381 : BitVec 32) (v384 : BitVec 32) (v424 : BitVec 32) (v426 : BitVec 32) (k0_hw4 : k0_chk4 v379 v381 v384 v424 v426), ∀ (k0_h2 : k0_cond2 v379 v381 v384 = 1#1), ∀ (k0_h9 : k0_cond9 v424 v426 = 1#1), ∀ a, (k0_off104 v426) a + S1x16.size a ≤ S512x128.size a := fun v379 v381 v384 v424 v426 k0_hw4 k0_h2 k0_h9 => k0_hw4.2.2.2.2.1 k0_h2 k0_h9
theorem k0_off105_inb : ∀ (v379 : BitVec 32) (v381 : BitVec 32) (v384 : BitVec 32) (v424 : BitVec 32) (v426 : BitVec 32) (k0_hw4 : k0_chk4 v379 v381 v384 v424 v426), ∀ (k0_h2 : k0_cond2 v379 v381 v384 = 1#1), ∀ (k0_h9 : k0_cond9 v424 v426 = 1#1), ∀ a, (k0_off105 v426) a + S1x16.size a ≤ S512x128.size a := fun v379 v381 v384 v424 v426 k0_hw4 k0_h2 k0_h9 => k0_hw4.2.2.2.2.2.1 k0_h2 k0_h9
theorem k0_off106_inb : ∀ (v379 : BitVec 32) (v381 : BitVec 32) (v384 : BitVec 32) (v424 : BitVec 32) (v426 : BitVec 32) (k0_hw4 : k0_chk4 v379 v381 v384 v424 v426), ∀ (k0_h2 : k0_cond2 v379 v381 v384 = 1#1), ∀ (k0_h9 : k0_cond9 v424 v426 = 1#1), ∀ a, (k0_off106 v426) a + S1x16.size a ≤ S512x128.size a := fun v379 v381 v384 v424 v426 k0_hw4 k0_h2 k0_h9 => k0_hw4.2.2.2.2.2.2.1 k0_h2 k0_h9
theorem k0_off107_inb : ∀ (v379 : BitVec 32) (v381 : BitVec 32) (v384 : BitVec 32) (v424 : BitVec 32) (v426 : BitVec 32) (k0_hw4 : k0_chk4 v379 v381 v384 v424 v426), ∀ (k0_h2 : k0_cond2 v379 v381 v384 = 1#1), ∀ (k0_h9 : k0_cond9 v424 v426 = 1#1), ∀ a, (k0_off107 v426) a + S1x16.size a ≤ S512x128.size a := fun v379 v381 v384 v424 v426 k0_hw4 k0_h2 k0_h9 => k0_hw4.2.2.2.2.2.2.2.1 k0_h2 k0_h9
theorem k0_off108_inb : ∀ (v379 : BitVec 32) (v381 : BitVec 32) (v384 : BitVec 32) (v424 : BitVec 32) (v426 : BitVec 32) (k0_hw4 : k0_chk4 v379 v381 v384 v424 v426), ∀ (k0_h2 : k0_cond2 v379 v381 v384 = 1#1), ∀ (k0_h9 : k0_cond9 v424 v426 = 1#1), ∀ a, (k0_off108 v426) a + S16.size a ≤ S8192.size a := fun v379 v381 v384 v424 v426 k0_hw4 k0_h2 k0_h9 => k0_hw4.2.2.2.2.2.2.2.2 k0_h2 k0_h9

def k0_off109 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c3_i32_274 : BitVec 32 := 3#32
  let v618 : BitVec 32 := Scalar.addi v382 c3_i32_274
  let v619 : Index := Scalar.indexCast v618
  let c0_275 : Index := 0#32
  ![v619.toNat, 0]
def k0_off110 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c3_i32_278 : BitVec 32 := 3#32
  let v626 : BitVec 32 := Scalar.addi v382 c3_i32_278
  let v627 : Index := Scalar.indexCast v626
  let c16_279 : Index := 16#32
  ![v627.toNat, 16]
def k0_off111 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c3_i32_282 : BitVec 32 := 3#32
  let v634 : BitVec 32 := Scalar.addi v382 c3_i32_282
  let v635 : Index := Scalar.indexCast v634
  let c32_283 : Index := 32#32
  ![v635.toNat, 32]
def k0_off112 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c3_i32_286 : BitVec 32 := 3#32
  let v642 : BitVec 32 := Scalar.addi v382 c3_i32_286
  let v643 : Index := Scalar.indexCast v642
  let c48_287 : Index := 48#32
  ![v643.toNat, 48]
def k0_off113 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c3_i32_290 : BitVec 32 := 3#32
  let v650 : BitVec 32 := Scalar.addi v382 c3_i32_290
  let v651 : Index := Scalar.indexCast v650
  let c64_291 : Index := 64#32
  ![v651.toNat, 64]
def k0_off114 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c3_i32_294 : BitVec 32 := 3#32
  let v658 : BitVec 32 := Scalar.addi v382 c3_i32_294
  let v659 : Index := Scalar.indexCast v658
  let c80_295 : Index := 80#32
  ![v659.toNat, 80]
def k0_off115 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c3_i32_298 : BitVec 32 := 3#32
  let v666 : BitVec 32 := Scalar.addi v382 c3_i32_298
  let v667 : Index := Scalar.indexCast v666
  let c96_299 : Index := 96#32
  ![v667.toNat, 96]
def k0_off116 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c3_i32_302 : BitVec 32 := 3#32
  let v674 : BitVec 32 := Scalar.addi v382 c3_i32_302
  let v675 : Index := Scalar.indexCast v674
  let c112_303 : Index := 112#32
  ![v675.toNat, 112]
def k0_off117 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c3_i32_248 : BitVec 32 := 3#32
  let v556 : BitVec 32 := Scalar.addi v382 c3_i32_248
  let v557 : Index := Scalar.indexCast v556
  let c0_249 : Index := 0#32
  ![v557.toNat, 0]
def k0_off118 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c3_i32_254 : BitVec 32 := 3#32
  let v568 : BitVec 32 := Scalar.addi v382 c3_i32_254
  let v569 : Index := Scalar.indexCast v568
  let c16_255 : Index := 16#32
  ![v569.toNat, 16]
def k0_off119 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c3_i32_260 : BitVec 32 := 3#32
  let v580 : BitVec 32 := Scalar.addi v382 c3_i32_260
  let v581 : Index := Scalar.indexCast v580
  let c32_261 : Index := 32#32
  ![v581.toNat, 32]
def k0_off120 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c3_i32_266 : BitVec 32 := 3#32
  let v592 : BitVec 32 := Scalar.addi v382 c3_i32_266
  let v593 : Index := Scalar.indexCast v592
  let c48_267 : Index := 48#32
  ![v593.toNat, 48]
def k0_off121 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c3_i32_272 : BitVec 32 := 3#32
  let v604 : BitVec 32 := Scalar.addi v382 c3_i32_272
  let v605 : Index := Scalar.indexCast v604
  let c64_273 : Index := 64#32
  ![v605.toNat, 64]
def k0_off122 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c3_i32_278 : BitVec 32 := 3#32
  let v616 : BitVec 32 := Scalar.addi v382 c3_i32_278
  let v617 : Index := Scalar.indexCast v616
  let c80_279 : Index := 80#32
  ![v617.toNat, 80]
def k0_off123 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c3_i32_284 : BitVec 32 := 3#32
  let v628 : BitVec 32 := Scalar.addi v382 c3_i32_284
  let v629 : Index := Scalar.indexCast v628
  let c96_285 : Index := 96#32
  ![v629.toNat, 96]
def k0_off124 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c3_i32_290 : BitVec 32 := 3#32
  let v640 : BitVec 32 := Scalar.addi v382 c3_i32_290
  let v641 : Index := Scalar.indexCast v640
  let c112_291 : Index := 112#32
  ![v641.toNat, 112]
def k0_off125 (v436 : BitVec 32) : Fin 2 → Nat :=
  let c0_i32_246 : BitVec 32 := 0#32
  let v553 : BitVec 32 := Scalar.maxsi v436 c0_i32_246
  let v557 : Index := Scalar.indexCast v553
  let c0_249 : Index := 0#32
  ![v557.toNat, 0]
def k0_cond11 (v434 : BitVec 32) (v436 : BitVec 32) : BitVec 1 :=
  let v437 : BitVec 1 := Scalar.cmpi .ne v434 v436
  let v438 : BitVec 32 := Scalar.extui v437
  let c0_i32_211 : BitVec 32 := 0#32
  let v439 : BitVec 1 := Scalar.cmpi .ne v438 c0_i32_211
  v439

def k0_off126 (v436 : BitVec 32) : Fin 2 → Nat :=
  let c0_i32_246 : BitVec 32 := 0#32
  let v553 : BitVec 32 := Scalar.maxsi v436 c0_i32_246
  let v564 : Index := Scalar.indexCast v553
  let c16_252 : Index := 16#32
  ![v564.toNat, 16]
def k0_off127 (v436 : BitVec 32) : Fin 2 → Nat :=
  let c0_i32_246 : BitVec 32 := 0#32
  let v553 : BitVec 32 := Scalar.maxsi v436 c0_i32_246
  let v571 : Index := Scalar.indexCast v553
  let c32_255 : Index := 32#32
  ![v571.toNat, 32]
def k0_off128 (v436 : BitVec 32) : Fin 2 → Nat :=
  let c0_i32_246 : BitVec 32 := 0#32
  let v553 : BitVec 32 := Scalar.maxsi v436 c0_i32_246
  let v578 : Index := Scalar.indexCast v553
  let c48_258 : Index := 48#32
  ![v578.toNat, 48]
def k0_off129 (v436 : BitVec 32) : Fin 2 → Nat :=
  let c0_i32_246 : BitVec 32 := 0#32
  let v553 : BitVec 32 := Scalar.maxsi v436 c0_i32_246
  let v585 : Index := Scalar.indexCast v553
  let c64_261 : Index := 64#32
  ![v585.toNat, 64]
def k0_off130 (v436 : BitVec 32) : Fin 2 → Nat :=
  let c0_i32_246 : BitVec 32 := 0#32
  let v553 : BitVec 32 := Scalar.maxsi v436 c0_i32_246
  let v592 : Index := Scalar.indexCast v553
  let c80_264 : Index := 80#32
  ![v592.toNat, 80]
def k0_off131 (v436 : BitVec 32) : Fin 2 → Nat :=
  let c0_i32_246 : BitVec 32 := 0#32
  let v553 : BitVec 32 := Scalar.maxsi v436 c0_i32_246
  let v599 : Index := Scalar.indexCast v553
  let c96_267 : Index := 96#32
  ![v599.toNat, 96]
def k0_off132 (v436 : BitVec 32) : Fin 2 → Nat :=
  let c0_i32_246 : BitVec 32 := 0#32
  let v553 : BitVec 32 := Scalar.maxsi v436 c0_i32_246
  let v606 : Index := Scalar.indexCast v553
  let c112_270 : Index := 112#32
  ![v606.toNat, 112]
def k0_off133 (v436 : BitVec 32) : Fin 1 → Nat :=
  let c0_i32_246 : BitVec 32 := 0#32
  let v553 : BitVec 32 := Scalar.maxsi v436 c0_i32_246
  let c16_i32_273 : BitVec 32 := 16#32
  let v613 : BitVec 32 := Scalar.muli v553 c16_i32_273
  let v614 : Index := Scalar.indexCast v613
  ![v614.toNat]

def k0_chk5 (v379 : BitVec 32) (v381 : BitVec 32) (v384 : BitVec 32) (v434 : BitVec 32) (v436 : BitVec 32) : Prop :=
  (∀ (k0_h2 : k0_cond2 v379 v381 v384 = 1#1), ∀ (k0_h11 : k0_cond11 v434 v436 = 1#1), ∀ a, (k0_off125 v436) a + S1x16.size a ≤ S512x128.size a) ∧
  (∀ (k0_h2 : k0_cond2 v379 v381 v384 = 1#1), ∀ (k0_h11 : k0_cond11 v434 v436 = 1#1), ∀ a, (k0_off126 v436) a + S1x16.size a ≤ S512x128.size a) ∧
  (∀ (k0_h2 : k0_cond2 v379 v381 v384 = 1#1), ∀ (k0_h11 : k0_cond11 v434 v436 = 1#1), ∀ a, (k0_off127 v436) a + S1x16.size a ≤ S512x128.size a) ∧
  (∀ (k0_h2 : k0_cond2 v379 v381 v384 = 1#1), ∀ (k0_h11 : k0_cond11 v434 v436 = 1#1), ∀ a, (k0_off128 v436) a + S1x16.size a ≤ S512x128.size a) ∧
  (∀ (k0_h2 : k0_cond2 v379 v381 v384 = 1#1), ∀ (k0_h11 : k0_cond11 v434 v436 = 1#1), ∀ a, (k0_off129 v436) a + S1x16.size a ≤ S512x128.size a) ∧
  (∀ (k0_h2 : k0_cond2 v379 v381 v384 = 1#1), ∀ (k0_h11 : k0_cond11 v434 v436 = 1#1), ∀ a, (k0_off130 v436) a + S1x16.size a ≤ S512x128.size a) ∧
  (∀ (k0_h2 : k0_cond2 v379 v381 v384 = 1#1), ∀ (k0_h11 : k0_cond11 v434 v436 = 1#1), ∀ a, (k0_off131 v436) a + S1x16.size a ≤ S512x128.size a) ∧
  (∀ (k0_h2 : k0_cond2 v379 v381 v384 = 1#1), ∀ (k0_h11 : k0_cond11 v434 v436 = 1#1), ∀ a, (k0_off132 v436) a + S1x16.size a ≤ S512x128.size a) ∧
  (∀ (k0_h2 : k0_cond2 v379 v381 v384 = 1#1), ∀ (k0_h11 : k0_cond11 v434 v436 = 1#1), ∀ a, (k0_off133 v436) a + S16.size a ≤ S8192.size a)
theorem k0_off125_inb : ∀ (v379 : BitVec 32) (v381 : BitVec 32) (v384 : BitVec 32) (v434 : BitVec 32) (v436 : BitVec 32) (k0_hw5 : k0_chk5 v379 v381 v384 v434 v436), ∀ (k0_h2 : k0_cond2 v379 v381 v384 = 1#1), ∀ (k0_h11 : k0_cond11 v434 v436 = 1#1), ∀ a, (k0_off125 v436) a + S1x16.size a ≤ S512x128.size a := fun v379 v381 v384 v434 v436 k0_hw5 k0_h2 k0_h11 => k0_hw5.1 k0_h2 k0_h11
theorem k0_off126_inb : ∀ (v379 : BitVec 32) (v381 : BitVec 32) (v384 : BitVec 32) (v434 : BitVec 32) (v436 : BitVec 32) (k0_hw5 : k0_chk5 v379 v381 v384 v434 v436), ∀ (k0_h2 : k0_cond2 v379 v381 v384 = 1#1), ∀ (k0_h11 : k0_cond11 v434 v436 = 1#1), ∀ a, (k0_off126 v436) a + S1x16.size a ≤ S512x128.size a := fun v379 v381 v384 v434 v436 k0_hw5 k0_h2 k0_h11 => k0_hw5.2.1 k0_h2 k0_h11
theorem k0_off127_inb : ∀ (v379 : BitVec 32) (v381 : BitVec 32) (v384 : BitVec 32) (v434 : BitVec 32) (v436 : BitVec 32) (k0_hw5 : k0_chk5 v379 v381 v384 v434 v436), ∀ (k0_h2 : k0_cond2 v379 v381 v384 = 1#1), ∀ (k0_h11 : k0_cond11 v434 v436 = 1#1), ∀ a, (k0_off127 v436) a + S1x16.size a ≤ S512x128.size a := fun v379 v381 v384 v434 v436 k0_hw5 k0_h2 k0_h11 => k0_hw5.2.2.1 k0_h2 k0_h11
theorem k0_off128_inb : ∀ (v379 : BitVec 32) (v381 : BitVec 32) (v384 : BitVec 32) (v434 : BitVec 32) (v436 : BitVec 32) (k0_hw5 : k0_chk5 v379 v381 v384 v434 v436), ∀ (k0_h2 : k0_cond2 v379 v381 v384 = 1#1), ∀ (k0_h11 : k0_cond11 v434 v436 = 1#1), ∀ a, (k0_off128 v436) a + S1x16.size a ≤ S512x128.size a := fun v379 v381 v384 v434 v436 k0_hw5 k0_h2 k0_h11 => k0_hw5.2.2.2.1 k0_h2 k0_h11
theorem k0_off129_inb : ∀ (v379 : BitVec 32) (v381 : BitVec 32) (v384 : BitVec 32) (v434 : BitVec 32) (v436 : BitVec 32) (k0_hw5 : k0_chk5 v379 v381 v384 v434 v436), ∀ (k0_h2 : k0_cond2 v379 v381 v384 = 1#1), ∀ (k0_h11 : k0_cond11 v434 v436 = 1#1), ∀ a, (k0_off129 v436) a + S1x16.size a ≤ S512x128.size a := fun v379 v381 v384 v434 v436 k0_hw5 k0_h2 k0_h11 => k0_hw5.2.2.2.2.1 k0_h2 k0_h11
theorem k0_off130_inb : ∀ (v379 : BitVec 32) (v381 : BitVec 32) (v384 : BitVec 32) (v434 : BitVec 32) (v436 : BitVec 32) (k0_hw5 : k0_chk5 v379 v381 v384 v434 v436), ∀ (k0_h2 : k0_cond2 v379 v381 v384 = 1#1), ∀ (k0_h11 : k0_cond11 v434 v436 = 1#1), ∀ a, (k0_off130 v436) a + S1x16.size a ≤ S512x128.size a := fun v379 v381 v384 v434 v436 k0_hw5 k0_h2 k0_h11 => k0_hw5.2.2.2.2.2.1 k0_h2 k0_h11
theorem k0_off131_inb : ∀ (v379 : BitVec 32) (v381 : BitVec 32) (v384 : BitVec 32) (v434 : BitVec 32) (v436 : BitVec 32) (k0_hw5 : k0_chk5 v379 v381 v384 v434 v436), ∀ (k0_h2 : k0_cond2 v379 v381 v384 = 1#1), ∀ (k0_h11 : k0_cond11 v434 v436 = 1#1), ∀ a, (k0_off131 v436) a + S1x16.size a ≤ S512x128.size a := fun v379 v381 v384 v434 v436 k0_hw5 k0_h2 k0_h11 => k0_hw5.2.2.2.2.2.2.1 k0_h2 k0_h11
theorem k0_off132_inb : ∀ (v379 : BitVec 32) (v381 : BitVec 32) (v384 : BitVec 32) (v434 : BitVec 32) (v436 : BitVec 32) (k0_hw5 : k0_chk5 v379 v381 v384 v434 v436), ∀ (k0_h2 : k0_cond2 v379 v381 v384 = 1#1), ∀ (k0_h11 : k0_cond11 v434 v436 = 1#1), ∀ a, (k0_off132 v436) a + S1x16.size a ≤ S512x128.size a := fun v379 v381 v384 v434 v436 k0_hw5 k0_h2 k0_h11 => k0_hw5.2.2.2.2.2.2.2.1 k0_h2 k0_h11
theorem k0_off133_inb : ∀ (v379 : BitVec 32) (v381 : BitVec 32) (v384 : BitVec 32) (v434 : BitVec 32) (v436 : BitVec 32) (k0_hw5 : k0_chk5 v379 v381 v384 v434 v436), ∀ (k0_h2 : k0_cond2 v379 v381 v384 = 1#1), ∀ (k0_h11 : k0_cond11 v434 v436 = 1#1), ∀ a, (k0_off133 v436) a + S16.size a ≤ S8192.size a := fun v379 v381 v384 v434 v436 k0_hw5 k0_h2 k0_h11 => k0_hw5.2.2.2.2.2.2.2.2 k0_h2 k0_h11

def k0_off134 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c4_i32_274 : BitVec 32 := 4#32
  let v618 : BitVec 32 := Scalar.addi v382 c4_i32_274
  let v619 : Index := Scalar.indexCast v618
  let c0_275 : Index := 0#32
  ![v619.toNat, 0]
def k0_off135 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c4_i32_278 : BitVec 32 := 4#32
  let v626 : BitVec 32 := Scalar.addi v382 c4_i32_278
  let v627 : Index := Scalar.indexCast v626
  let c16_279 : Index := 16#32
  ![v627.toNat, 16]
def k0_off136 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c4_i32_282 : BitVec 32 := 4#32
  let v634 : BitVec 32 := Scalar.addi v382 c4_i32_282
  let v635 : Index := Scalar.indexCast v634
  let c32_283 : Index := 32#32
  ![v635.toNat, 32]
def k0_off137 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c4_i32_286 : BitVec 32 := 4#32
  let v642 : BitVec 32 := Scalar.addi v382 c4_i32_286
  let v643 : Index := Scalar.indexCast v642
  let c48_287 : Index := 48#32
  ![v643.toNat, 48]
def k0_off138 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c4_i32_290 : BitVec 32 := 4#32
  let v650 : BitVec 32 := Scalar.addi v382 c4_i32_290
  let v651 : Index := Scalar.indexCast v650
  let c64_291 : Index := 64#32
  ![v651.toNat, 64]
def k0_off139 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c4_i32_294 : BitVec 32 := 4#32
  let v658 : BitVec 32 := Scalar.addi v382 c4_i32_294
  let v659 : Index := Scalar.indexCast v658
  let c80_295 : Index := 80#32
  ![v659.toNat, 80]
def k0_off140 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c4_i32_298 : BitVec 32 := 4#32
  let v666 : BitVec 32 := Scalar.addi v382 c4_i32_298
  let v667 : Index := Scalar.indexCast v666
  let c96_299 : Index := 96#32
  ![v667.toNat, 96]
def k0_off141 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c4_i32_302 : BitVec 32 := 4#32
  let v674 : BitVec 32 := Scalar.addi v382 c4_i32_302
  let v675 : Index := Scalar.indexCast v674
  let c112_303 : Index := 112#32
  ![v675.toNat, 112]
def k0_off142 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c4_i32_248 : BitVec 32 := 4#32
  let v556 : BitVec 32 := Scalar.addi v382 c4_i32_248
  let v557 : Index := Scalar.indexCast v556
  let c0_249 : Index := 0#32
  ![v557.toNat, 0]
def k0_off143 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c4_i32_254 : BitVec 32 := 4#32
  let v568 : BitVec 32 := Scalar.addi v382 c4_i32_254
  let v569 : Index := Scalar.indexCast v568
  let c16_255 : Index := 16#32
  ![v569.toNat, 16]
def k0_off144 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c4_i32_260 : BitVec 32 := 4#32
  let v580 : BitVec 32 := Scalar.addi v382 c4_i32_260
  let v581 : Index := Scalar.indexCast v580
  let c32_261 : Index := 32#32
  ![v581.toNat, 32]
def k0_off145 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c4_i32_266 : BitVec 32 := 4#32
  let v592 : BitVec 32 := Scalar.addi v382 c4_i32_266
  let v593 : Index := Scalar.indexCast v592
  let c48_267 : Index := 48#32
  ![v593.toNat, 48]
def k0_off146 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c4_i32_272 : BitVec 32 := 4#32
  let v604 : BitVec 32 := Scalar.addi v382 c4_i32_272
  let v605 : Index := Scalar.indexCast v604
  let c64_273 : Index := 64#32
  ![v605.toNat, 64]
def k0_off147 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c4_i32_278 : BitVec 32 := 4#32
  let v616 : BitVec 32 := Scalar.addi v382 c4_i32_278
  let v617 : Index := Scalar.indexCast v616
  let c80_279 : Index := 80#32
  ![v617.toNat, 80]
def k0_off148 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c4_i32_284 : BitVec 32 := 4#32
  let v628 : BitVec 32 := Scalar.addi v382 c4_i32_284
  let v629 : Index := Scalar.indexCast v628
  let c96_285 : Index := 96#32
  ![v629.toNat, 96]
def k0_off149 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c4_i32_290 : BitVec 32 := 4#32
  let v640 : BitVec 32 := Scalar.addi v382 c4_i32_290
  let v641 : Index := Scalar.indexCast v640
  let c112_291 : Index := 112#32
  ![v641.toNat, 112]
def k0_off150 (v446 : BitVec 32) : Fin 2 → Nat :=
  let c0_i32_246 : BitVec 32 := 0#32
  let v553 : BitVec 32 := Scalar.maxsi v446 c0_i32_246
  let v557 : Index := Scalar.indexCast v553
  let c0_249 : Index := 0#32
  ![v557.toNat, 0]
def k0_cond13 (v444 : BitVec 32) (v446 : BitVec 32) : BitVec 1 :=
  let v447 : BitVec 1 := Scalar.cmpi .ne v444 v446
  let v448 : BitVec 32 := Scalar.extui v447
  let c0_i32_214 : BitVec 32 := 0#32
  let v449 : BitVec 1 := Scalar.cmpi .ne v448 c0_i32_214
  v449

def k0_off151 (v446 : BitVec 32) : Fin 2 → Nat :=
  let c0_i32_246 : BitVec 32 := 0#32
  let v553 : BitVec 32 := Scalar.maxsi v446 c0_i32_246
  let v564 : Index := Scalar.indexCast v553
  let c16_252 : Index := 16#32
  ![v564.toNat, 16]
def k0_off152 (v446 : BitVec 32) : Fin 2 → Nat :=
  let c0_i32_246 : BitVec 32 := 0#32
  let v553 : BitVec 32 := Scalar.maxsi v446 c0_i32_246
  let v571 : Index := Scalar.indexCast v553
  let c32_255 : Index := 32#32
  ![v571.toNat, 32]
def k0_off153 (v446 : BitVec 32) : Fin 2 → Nat :=
  let c0_i32_246 : BitVec 32 := 0#32
  let v553 : BitVec 32 := Scalar.maxsi v446 c0_i32_246
  let v578 : Index := Scalar.indexCast v553
  let c48_258 : Index := 48#32
  ![v578.toNat, 48]
def k0_off154 (v446 : BitVec 32) : Fin 2 → Nat :=
  let c0_i32_246 : BitVec 32 := 0#32
  let v553 : BitVec 32 := Scalar.maxsi v446 c0_i32_246
  let v585 : Index := Scalar.indexCast v553
  let c64_261 : Index := 64#32
  ![v585.toNat, 64]
def k0_off155 (v446 : BitVec 32) : Fin 2 → Nat :=
  let c0_i32_246 : BitVec 32 := 0#32
  let v553 : BitVec 32 := Scalar.maxsi v446 c0_i32_246
  let v592 : Index := Scalar.indexCast v553
  let c80_264 : Index := 80#32
  ![v592.toNat, 80]
def k0_off156 (v446 : BitVec 32) : Fin 2 → Nat :=
  let c0_i32_246 : BitVec 32 := 0#32
  let v553 : BitVec 32 := Scalar.maxsi v446 c0_i32_246
  let v599 : Index := Scalar.indexCast v553
  let c96_267 : Index := 96#32
  ![v599.toNat, 96]
def k0_off157 (v446 : BitVec 32) : Fin 2 → Nat :=
  let c0_i32_246 : BitVec 32 := 0#32
  let v553 : BitVec 32 := Scalar.maxsi v446 c0_i32_246
  let v606 : Index := Scalar.indexCast v553
  let c112_270 : Index := 112#32
  ![v606.toNat, 112]
def k0_off158 (v446 : BitVec 32) : Fin 1 → Nat :=
  let c0_i32_246 : BitVec 32 := 0#32
  let v553 : BitVec 32 := Scalar.maxsi v446 c0_i32_246
  let c16_i32_273 : BitVec 32 := 16#32
  let v613 : BitVec 32 := Scalar.muli v553 c16_i32_273
  let v614 : Index := Scalar.indexCast v613
  ![v614.toNat]

def k0_chk6 (v379 : BitVec 32) (v381 : BitVec 32) (v384 : BitVec 32) (v444 : BitVec 32) (v446 : BitVec 32) : Prop :=
  (∀ (k0_h2 : k0_cond2 v379 v381 v384 = 1#1), ∀ (k0_h13 : k0_cond13 v444 v446 = 1#1), ∀ a, (k0_off150 v446) a + S1x16.size a ≤ S512x128.size a) ∧
  (∀ (k0_h2 : k0_cond2 v379 v381 v384 = 1#1), ∀ (k0_h13 : k0_cond13 v444 v446 = 1#1), ∀ a, (k0_off151 v446) a + S1x16.size a ≤ S512x128.size a) ∧
  (∀ (k0_h2 : k0_cond2 v379 v381 v384 = 1#1), ∀ (k0_h13 : k0_cond13 v444 v446 = 1#1), ∀ a, (k0_off152 v446) a + S1x16.size a ≤ S512x128.size a) ∧
  (∀ (k0_h2 : k0_cond2 v379 v381 v384 = 1#1), ∀ (k0_h13 : k0_cond13 v444 v446 = 1#1), ∀ a, (k0_off153 v446) a + S1x16.size a ≤ S512x128.size a) ∧
  (∀ (k0_h2 : k0_cond2 v379 v381 v384 = 1#1), ∀ (k0_h13 : k0_cond13 v444 v446 = 1#1), ∀ a, (k0_off154 v446) a + S1x16.size a ≤ S512x128.size a) ∧
  (∀ (k0_h2 : k0_cond2 v379 v381 v384 = 1#1), ∀ (k0_h13 : k0_cond13 v444 v446 = 1#1), ∀ a, (k0_off155 v446) a + S1x16.size a ≤ S512x128.size a) ∧
  (∀ (k0_h2 : k0_cond2 v379 v381 v384 = 1#1), ∀ (k0_h13 : k0_cond13 v444 v446 = 1#1), ∀ a, (k0_off156 v446) a + S1x16.size a ≤ S512x128.size a) ∧
  (∀ (k0_h2 : k0_cond2 v379 v381 v384 = 1#1), ∀ (k0_h13 : k0_cond13 v444 v446 = 1#1), ∀ a, (k0_off157 v446) a + S1x16.size a ≤ S512x128.size a) ∧
  (∀ (k0_h2 : k0_cond2 v379 v381 v384 = 1#1), ∀ (k0_h13 : k0_cond13 v444 v446 = 1#1), ∀ a, (k0_off158 v446) a + S16.size a ≤ S8192.size a)
theorem k0_off150_inb : ∀ (v379 : BitVec 32) (v381 : BitVec 32) (v384 : BitVec 32) (v444 : BitVec 32) (v446 : BitVec 32) (k0_hw6 : k0_chk6 v379 v381 v384 v444 v446), ∀ (k0_h2 : k0_cond2 v379 v381 v384 = 1#1), ∀ (k0_h13 : k0_cond13 v444 v446 = 1#1), ∀ a, (k0_off150 v446) a + S1x16.size a ≤ S512x128.size a := fun v379 v381 v384 v444 v446 k0_hw6 k0_h2 k0_h13 => k0_hw6.1 k0_h2 k0_h13
theorem k0_off151_inb : ∀ (v379 : BitVec 32) (v381 : BitVec 32) (v384 : BitVec 32) (v444 : BitVec 32) (v446 : BitVec 32) (k0_hw6 : k0_chk6 v379 v381 v384 v444 v446), ∀ (k0_h2 : k0_cond2 v379 v381 v384 = 1#1), ∀ (k0_h13 : k0_cond13 v444 v446 = 1#1), ∀ a, (k0_off151 v446) a + S1x16.size a ≤ S512x128.size a := fun v379 v381 v384 v444 v446 k0_hw6 k0_h2 k0_h13 => k0_hw6.2.1 k0_h2 k0_h13
theorem k0_off152_inb : ∀ (v379 : BitVec 32) (v381 : BitVec 32) (v384 : BitVec 32) (v444 : BitVec 32) (v446 : BitVec 32) (k0_hw6 : k0_chk6 v379 v381 v384 v444 v446), ∀ (k0_h2 : k0_cond2 v379 v381 v384 = 1#1), ∀ (k0_h13 : k0_cond13 v444 v446 = 1#1), ∀ a, (k0_off152 v446) a + S1x16.size a ≤ S512x128.size a := fun v379 v381 v384 v444 v446 k0_hw6 k0_h2 k0_h13 => k0_hw6.2.2.1 k0_h2 k0_h13
theorem k0_off153_inb : ∀ (v379 : BitVec 32) (v381 : BitVec 32) (v384 : BitVec 32) (v444 : BitVec 32) (v446 : BitVec 32) (k0_hw6 : k0_chk6 v379 v381 v384 v444 v446), ∀ (k0_h2 : k0_cond2 v379 v381 v384 = 1#1), ∀ (k0_h13 : k0_cond13 v444 v446 = 1#1), ∀ a, (k0_off153 v446) a + S1x16.size a ≤ S512x128.size a := fun v379 v381 v384 v444 v446 k0_hw6 k0_h2 k0_h13 => k0_hw6.2.2.2.1 k0_h2 k0_h13
theorem k0_off154_inb : ∀ (v379 : BitVec 32) (v381 : BitVec 32) (v384 : BitVec 32) (v444 : BitVec 32) (v446 : BitVec 32) (k0_hw6 : k0_chk6 v379 v381 v384 v444 v446), ∀ (k0_h2 : k0_cond2 v379 v381 v384 = 1#1), ∀ (k0_h13 : k0_cond13 v444 v446 = 1#1), ∀ a, (k0_off154 v446) a + S1x16.size a ≤ S512x128.size a := fun v379 v381 v384 v444 v446 k0_hw6 k0_h2 k0_h13 => k0_hw6.2.2.2.2.1 k0_h2 k0_h13
theorem k0_off155_inb : ∀ (v379 : BitVec 32) (v381 : BitVec 32) (v384 : BitVec 32) (v444 : BitVec 32) (v446 : BitVec 32) (k0_hw6 : k0_chk6 v379 v381 v384 v444 v446), ∀ (k0_h2 : k0_cond2 v379 v381 v384 = 1#1), ∀ (k0_h13 : k0_cond13 v444 v446 = 1#1), ∀ a, (k0_off155 v446) a + S1x16.size a ≤ S512x128.size a := fun v379 v381 v384 v444 v446 k0_hw6 k0_h2 k0_h13 => k0_hw6.2.2.2.2.2.1 k0_h2 k0_h13
theorem k0_off156_inb : ∀ (v379 : BitVec 32) (v381 : BitVec 32) (v384 : BitVec 32) (v444 : BitVec 32) (v446 : BitVec 32) (k0_hw6 : k0_chk6 v379 v381 v384 v444 v446), ∀ (k0_h2 : k0_cond2 v379 v381 v384 = 1#1), ∀ (k0_h13 : k0_cond13 v444 v446 = 1#1), ∀ a, (k0_off156 v446) a + S1x16.size a ≤ S512x128.size a := fun v379 v381 v384 v444 v446 k0_hw6 k0_h2 k0_h13 => k0_hw6.2.2.2.2.2.2.1 k0_h2 k0_h13
theorem k0_off157_inb : ∀ (v379 : BitVec 32) (v381 : BitVec 32) (v384 : BitVec 32) (v444 : BitVec 32) (v446 : BitVec 32) (k0_hw6 : k0_chk6 v379 v381 v384 v444 v446), ∀ (k0_h2 : k0_cond2 v379 v381 v384 = 1#1), ∀ (k0_h13 : k0_cond13 v444 v446 = 1#1), ∀ a, (k0_off157 v446) a + S1x16.size a ≤ S512x128.size a := fun v379 v381 v384 v444 v446 k0_hw6 k0_h2 k0_h13 => k0_hw6.2.2.2.2.2.2.2.1 k0_h2 k0_h13
theorem k0_off158_inb : ∀ (v379 : BitVec 32) (v381 : BitVec 32) (v384 : BitVec 32) (v444 : BitVec 32) (v446 : BitVec 32) (k0_hw6 : k0_chk6 v379 v381 v384 v444 v446), ∀ (k0_h2 : k0_cond2 v379 v381 v384 = 1#1), ∀ (k0_h13 : k0_cond13 v444 v446 = 1#1), ∀ a, (k0_off158 v446) a + S16.size a ≤ S8192.size a := fun v379 v381 v384 v444 v446 k0_hw6 k0_h2 k0_h13 => k0_hw6.2.2.2.2.2.2.2.2 k0_h2 k0_h13

def k0_off159 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c5_i32_274 : BitVec 32 := 5#32
  let v618 : BitVec 32 := Scalar.addi v382 c5_i32_274
  let v619 : Index := Scalar.indexCast v618
  let c0_275 : Index := 0#32
  ![v619.toNat, 0]
def k0_off160 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c5_i32_278 : BitVec 32 := 5#32
  let v626 : BitVec 32 := Scalar.addi v382 c5_i32_278
  let v627 : Index := Scalar.indexCast v626
  let c16_279 : Index := 16#32
  ![v627.toNat, 16]
def k0_off161 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c5_i32_282 : BitVec 32 := 5#32
  let v634 : BitVec 32 := Scalar.addi v382 c5_i32_282
  let v635 : Index := Scalar.indexCast v634
  let c32_283 : Index := 32#32
  ![v635.toNat, 32]
def k0_off162 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c5_i32_286 : BitVec 32 := 5#32
  let v642 : BitVec 32 := Scalar.addi v382 c5_i32_286
  let v643 : Index := Scalar.indexCast v642
  let c48_287 : Index := 48#32
  ![v643.toNat, 48]
def k0_off163 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c5_i32_290 : BitVec 32 := 5#32
  let v650 : BitVec 32 := Scalar.addi v382 c5_i32_290
  let v651 : Index := Scalar.indexCast v650
  let c64_291 : Index := 64#32
  ![v651.toNat, 64]
def k0_off164 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c5_i32_294 : BitVec 32 := 5#32
  let v658 : BitVec 32 := Scalar.addi v382 c5_i32_294
  let v659 : Index := Scalar.indexCast v658
  let c80_295 : Index := 80#32
  ![v659.toNat, 80]
def k0_off165 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c5_i32_298 : BitVec 32 := 5#32
  let v666 : BitVec 32 := Scalar.addi v382 c5_i32_298
  let v667 : Index := Scalar.indexCast v666
  let c96_299 : Index := 96#32
  ![v667.toNat, 96]
def k0_off166 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c5_i32_302 : BitVec 32 := 5#32
  let v674 : BitVec 32 := Scalar.addi v382 c5_i32_302
  let v675 : Index := Scalar.indexCast v674
  let c112_303 : Index := 112#32
  ![v675.toNat, 112]
def k0_off167 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c5_i32_248 : BitVec 32 := 5#32
  let v556 : BitVec 32 := Scalar.addi v382 c5_i32_248
  let v557 : Index := Scalar.indexCast v556
  let c0_249 : Index := 0#32
  ![v557.toNat, 0]
def k0_off168 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c5_i32_254 : BitVec 32 := 5#32
  let v568 : BitVec 32 := Scalar.addi v382 c5_i32_254
  let v569 : Index := Scalar.indexCast v568
  let c16_255 : Index := 16#32
  ![v569.toNat, 16]
def k0_off169 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c5_i32_260 : BitVec 32 := 5#32
  let v580 : BitVec 32 := Scalar.addi v382 c5_i32_260
  let v581 : Index := Scalar.indexCast v580
  let c32_261 : Index := 32#32
  ![v581.toNat, 32]
def k0_off170 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c5_i32_266 : BitVec 32 := 5#32
  let v592 : BitVec 32 := Scalar.addi v382 c5_i32_266
  let v593 : Index := Scalar.indexCast v592
  let c48_267 : Index := 48#32
  ![v593.toNat, 48]
def k0_off171 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c5_i32_272 : BitVec 32 := 5#32
  let v604 : BitVec 32 := Scalar.addi v382 c5_i32_272
  let v605 : Index := Scalar.indexCast v604
  let c64_273 : Index := 64#32
  ![v605.toNat, 64]
def k0_off172 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c5_i32_278 : BitVec 32 := 5#32
  let v616 : BitVec 32 := Scalar.addi v382 c5_i32_278
  let v617 : Index := Scalar.indexCast v616
  let c80_279 : Index := 80#32
  ![v617.toNat, 80]
def k0_off173 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c5_i32_284 : BitVec 32 := 5#32
  let v628 : BitVec 32 := Scalar.addi v382 c5_i32_284
  let v629 : Index := Scalar.indexCast v628
  let c96_285 : Index := 96#32
  ![v629.toNat, 96]
def k0_off174 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c5_i32_290 : BitVec 32 := 5#32
  let v640 : BitVec 32 := Scalar.addi v382 c5_i32_290
  let v641 : Index := Scalar.indexCast v640
  let c112_291 : Index := 112#32
  ![v641.toNat, 112]
def k0_off175 (v456 : BitVec 32) : Fin 2 → Nat :=
  let c0_i32_246 : BitVec 32 := 0#32
  let v553 : BitVec 32 := Scalar.maxsi v456 c0_i32_246
  let v557 : Index := Scalar.indexCast v553
  let c0_249 : Index := 0#32
  ![v557.toNat, 0]
def k0_cond15 (v454 : BitVec 32) (v456 : BitVec 32) : BitVec 1 :=
  let v457 : BitVec 1 := Scalar.cmpi .ne v454 v456
  let v458 : BitVec 32 := Scalar.extui v457
  let c0_i32_217 : BitVec 32 := 0#32
  let v459 : BitVec 1 := Scalar.cmpi .ne v458 c0_i32_217
  v459

def k0_off176 (v456 : BitVec 32) : Fin 2 → Nat :=
  let c0_i32_246 : BitVec 32 := 0#32
  let v553 : BitVec 32 := Scalar.maxsi v456 c0_i32_246
  let v564 : Index := Scalar.indexCast v553
  let c16_252 : Index := 16#32
  ![v564.toNat, 16]
def k0_off177 (v456 : BitVec 32) : Fin 2 → Nat :=
  let c0_i32_246 : BitVec 32 := 0#32
  let v553 : BitVec 32 := Scalar.maxsi v456 c0_i32_246
  let v571 : Index := Scalar.indexCast v553
  let c32_255 : Index := 32#32
  ![v571.toNat, 32]
def k0_off178 (v456 : BitVec 32) : Fin 2 → Nat :=
  let c0_i32_246 : BitVec 32 := 0#32
  let v553 : BitVec 32 := Scalar.maxsi v456 c0_i32_246
  let v578 : Index := Scalar.indexCast v553
  let c48_258 : Index := 48#32
  ![v578.toNat, 48]
def k0_off179 (v456 : BitVec 32) : Fin 2 → Nat :=
  let c0_i32_246 : BitVec 32 := 0#32
  let v553 : BitVec 32 := Scalar.maxsi v456 c0_i32_246
  let v585 : Index := Scalar.indexCast v553
  let c64_261 : Index := 64#32
  ![v585.toNat, 64]
def k0_off180 (v456 : BitVec 32) : Fin 2 → Nat :=
  let c0_i32_246 : BitVec 32 := 0#32
  let v553 : BitVec 32 := Scalar.maxsi v456 c0_i32_246
  let v592 : Index := Scalar.indexCast v553
  let c80_264 : Index := 80#32
  ![v592.toNat, 80]
def k0_off181 (v456 : BitVec 32) : Fin 2 → Nat :=
  let c0_i32_246 : BitVec 32 := 0#32
  let v553 : BitVec 32 := Scalar.maxsi v456 c0_i32_246
  let v599 : Index := Scalar.indexCast v553
  let c96_267 : Index := 96#32
  ![v599.toNat, 96]
def k0_off182 (v456 : BitVec 32) : Fin 2 → Nat :=
  let c0_i32_246 : BitVec 32 := 0#32
  let v553 : BitVec 32 := Scalar.maxsi v456 c0_i32_246
  let v606 : Index := Scalar.indexCast v553
  let c112_270 : Index := 112#32
  ![v606.toNat, 112]
def k0_off183 (v456 : BitVec 32) : Fin 1 → Nat :=
  let c0_i32_246 : BitVec 32 := 0#32
  let v553 : BitVec 32 := Scalar.maxsi v456 c0_i32_246
  let c16_i32_273 : BitVec 32 := 16#32
  let v613 : BitVec 32 := Scalar.muli v553 c16_i32_273
  let v614 : Index := Scalar.indexCast v613
  ![v614.toNat]

def k0_chk7 (v379 : BitVec 32) (v381 : BitVec 32) (v384 : BitVec 32) (v454 : BitVec 32) (v456 : BitVec 32) : Prop :=
  (∀ (k0_h2 : k0_cond2 v379 v381 v384 = 1#1), ∀ (k0_h15 : k0_cond15 v454 v456 = 1#1), ∀ a, (k0_off175 v456) a + S1x16.size a ≤ S512x128.size a) ∧
  (∀ (k0_h2 : k0_cond2 v379 v381 v384 = 1#1), ∀ (k0_h15 : k0_cond15 v454 v456 = 1#1), ∀ a, (k0_off176 v456) a + S1x16.size a ≤ S512x128.size a) ∧
  (∀ (k0_h2 : k0_cond2 v379 v381 v384 = 1#1), ∀ (k0_h15 : k0_cond15 v454 v456 = 1#1), ∀ a, (k0_off177 v456) a + S1x16.size a ≤ S512x128.size a) ∧
  (∀ (k0_h2 : k0_cond2 v379 v381 v384 = 1#1), ∀ (k0_h15 : k0_cond15 v454 v456 = 1#1), ∀ a, (k0_off178 v456) a + S1x16.size a ≤ S512x128.size a) ∧
  (∀ (k0_h2 : k0_cond2 v379 v381 v384 = 1#1), ∀ (k0_h15 : k0_cond15 v454 v456 = 1#1), ∀ a, (k0_off179 v456) a + S1x16.size a ≤ S512x128.size a) ∧
  (∀ (k0_h2 : k0_cond2 v379 v381 v384 = 1#1), ∀ (k0_h15 : k0_cond15 v454 v456 = 1#1), ∀ a, (k0_off180 v456) a + S1x16.size a ≤ S512x128.size a) ∧
  (∀ (k0_h2 : k0_cond2 v379 v381 v384 = 1#1), ∀ (k0_h15 : k0_cond15 v454 v456 = 1#1), ∀ a, (k0_off181 v456) a + S1x16.size a ≤ S512x128.size a) ∧
  (∀ (k0_h2 : k0_cond2 v379 v381 v384 = 1#1), ∀ (k0_h15 : k0_cond15 v454 v456 = 1#1), ∀ a, (k0_off182 v456) a + S1x16.size a ≤ S512x128.size a) ∧
  (∀ (k0_h2 : k0_cond2 v379 v381 v384 = 1#1), ∀ (k0_h15 : k0_cond15 v454 v456 = 1#1), ∀ a, (k0_off183 v456) a + S16.size a ≤ S8192.size a)
theorem k0_off175_inb : ∀ (v379 : BitVec 32) (v381 : BitVec 32) (v384 : BitVec 32) (v454 : BitVec 32) (v456 : BitVec 32) (k0_hw7 : k0_chk7 v379 v381 v384 v454 v456), ∀ (k0_h2 : k0_cond2 v379 v381 v384 = 1#1), ∀ (k0_h15 : k0_cond15 v454 v456 = 1#1), ∀ a, (k0_off175 v456) a + S1x16.size a ≤ S512x128.size a := fun v379 v381 v384 v454 v456 k0_hw7 k0_h2 k0_h15 => k0_hw7.1 k0_h2 k0_h15
theorem k0_off176_inb : ∀ (v379 : BitVec 32) (v381 : BitVec 32) (v384 : BitVec 32) (v454 : BitVec 32) (v456 : BitVec 32) (k0_hw7 : k0_chk7 v379 v381 v384 v454 v456), ∀ (k0_h2 : k0_cond2 v379 v381 v384 = 1#1), ∀ (k0_h15 : k0_cond15 v454 v456 = 1#1), ∀ a, (k0_off176 v456) a + S1x16.size a ≤ S512x128.size a := fun v379 v381 v384 v454 v456 k0_hw7 k0_h2 k0_h15 => k0_hw7.2.1 k0_h2 k0_h15
theorem k0_off177_inb : ∀ (v379 : BitVec 32) (v381 : BitVec 32) (v384 : BitVec 32) (v454 : BitVec 32) (v456 : BitVec 32) (k0_hw7 : k0_chk7 v379 v381 v384 v454 v456), ∀ (k0_h2 : k0_cond2 v379 v381 v384 = 1#1), ∀ (k0_h15 : k0_cond15 v454 v456 = 1#1), ∀ a, (k0_off177 v456) a + S1x16.size a ≤ S512x128.size a := fun v379 v381 v384 v454 v456 k0_hw7 k0_h2 k0_h15 => k0_hw7.2.2.1 k0_h2 k0_h15
theorem k0_off178_inb : ∀ (v379 : BitVec 32) (v381 : BitVec 32) (v384 : BitVec 32) (v454 : BitVec 32) (v456 : BitVec 32) (k0_hw7 : k0_chk7 v379 v381 v384 v454 v456), ∀ (k0_h2 : k0_cond2 v379 v381 v384 = 1#1), ∀ (k0_h15 : k0_cond15 v454 v456 = 1#1), ∀ a, (k0_off178 v456) a + S1x16.size a ≤ S512x128.size a := fun v379 v381 v384 v454 v456 k0_hw7 k0_h2 k0_h15 => k0_hw7.2.2.2.1 k0_h2 k0_h15
theorem k0_off179_inb : ∀ (v379 : BitVec 32) (v381 : BitVec 32) (v384 : BitVec 32) (v454 : BitVec 32) (v456 : BitVec 32) (k0_hw7 : k0_chk7 v379 v381 v384 v454 v456), ∀ (k0_h2 : k0_cond2 v379 v381 v384 = 1#1), ∀ (k0_h15 : k0_cond15 v454 v456 = 1#1), ∀ a, (k0_off179 v456) a + S1x16.size a ≤ S512x128.size a := fun v379 v381 v384 v454 v456 k0_hw7 k0_h2 k0_h15 => k0_hw7.2.2.2.2.1 k0_h2 k0_h15
theorem k0_off180_inb : ∀ (v379 : BitVec 32) (v381 : BitVec 32) (v384 : BitVec 32) (v454 : BitVec 32) (v456 : BitVec 32) (k0_hw7 : k0_chk7 v379 v381 v384 v454 v456), ∀ (k0_h2 : k0_cond2 v379 v381 v384 = 1#1), ∀ (k0_h15 : k0_cond15 v454 v456 = 1#1), ∀ a, (k0_off180 v456) a + S1x16.size a ≤ S512x128.size a := fun v379 v381 v384 v454 v456 k0_hw7 k0_h2 k0_h15 => k0_hw7.2.2.2.2.2.1 k0_h2 k0_h15
theorem k0_off181_inb : ∀ (v379 : BitVec 32) (v381 : BitVec 32) (v384 : BitVec 32) (v454 : BitVec 32) (v456 : BitVec 32) (k0_hw7 : k0_chk7 v379 v381 v384 v454 v456), ∀ (k0_h2 : k0_cond2 v379 v381 v384 = 1#1), ∀ (k0_h15 : k0_cond15 v454 v456 = 1#1), ∀ a, (k0_off181 v456) a + S1x16.size a ≤ S512x128.size a := fun v379 v381 v384 v454 v456 k0_hw7 k0_h2 k0_h15 => k0_hw7.2.2.2.2.2.2.1 k0_h2 k0_h15
theorem k0_off182_inb : ∀ (v379 : BitVec 32) (v381 : BitVec 32) (v384 : BitVec 32) (v454 : BitVec 32) (v456 : BitVec 32) (k0_hw7 : k0_chk7 v379 v381 v384 v454 v456), ∀ (k0_h2 : k0_cond2 v379 v381 v384 = 1#1), ∀ (k0_h15 : k0_cond15 v454 v456 = 1#1), ∀ a, (k0_off182 v456) a + S1x16.size a ≤ S512x128.size a := fun v379 v381 v384 v454 v456 k0_hw7 k0_h2 k0_h15 => k0_hw7.2.2.2.2.2.2.2.1 k0_h2 k0_h15
theorem k0_off183_inb : ∀ (v379 : BitVec 32) (v381 : BitVec 32) (v384 : BitVec 32) (v454 : BitVec 32) (v456 : BitVec 32) (k0_hw7 : k0_chk7 v379 v381 v384 v454 v456), ∀ (k0_h2 : k0_cond2 v379 v381 v384 = 1#1), ∀ (k0_h15 : k0_cond15 v454 v456 = 1#1), ∀ a, (k0_off183 v456) a + S16.size a ≤ S8192.size a := fun v379 v381 v384 v454 v456 k0_hw7 k0_h2 k0_h15 => k0_hw7.2.2.2.2.2.2.2.2 k0_h2 k0_h15

def k0_off184 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c6_i32_274 : BitVec 32 := 6#32
  let v618 : BitVec 32 := Scalar.addi v382 c6_i32_274
  let v619 : Index := Scalar.indexCast v618
  let c0_275 : Index := 0#32
  ![v619.toNat, 0]
def k0_off185 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c6_i32_278 : BitVec 32 := 6#32
  let v626 : BitVec 32 := Scalar.addi v382 c6_i32_278
  let v627 : Index := Scalar.indexCast v626
  let c16_279 : Index := 16#32
  ![v627.toNat, 16]
def k0_off186 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c6_i32_282 : BitVec 32 := 6#32
  let v634 : BitVec 32 := Scalar.addi v382 c6_i32_282
  let v635 : Index := Scalar.indexCast v634
  let c32_283 : Index := 32#32
  ![v635.toNat, 32]
def k0_off187 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c6_i32_286 : BitVec 32 := 6#32
  let v642 : BitVec 32 := Scalar.addi v382 c6_i32_286
  let v643 : Index := Scalar.indexCast v642
  let c48_287 : Index := 48#32
  ![v643.toNat, 48]
def k0_off188 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c6_i32_290 : BitVec 32 := 6#32
  let v650 : BitVec 32 := Scalar.addi v382 c6_i32_290
  let v651 : Index := Scalar.indexCast v650
  let c64_291 : Index := 64#32
  ![v651.toNat, 64]
def k0_off189 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c6_i32_294 : BitVec 32 := 6#32
  let v658 : BitVec 32 := Scalar.addi v382 c6_i32_294
  let v659 : Index := Scalar.indexCast v658
  let c80_295 : Index := 80#32
  ![v659.toNat, 80]
def k0_off190 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c6_i32_298 : BitVec 32 := 6#32
  let v666 : BitVec 32 := Scalar.addi v382 c6_i32_298
  let v667 : Index := Scalar.indexCast v666
  let c96_299 : Index := 96#32
  ![v667.toNat, 96]
def k0_off191 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c6_i32_302 : BitVec 32 := 6#32
  let v674 : BitVec 32 := Scalar.addi v382 c6_i32_302
  let v675 : Index := Scalar.indexCast v674
  let c112_303 : Index := 112#32
  ![v675.toNat, 112]
def k0_off192 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c6_i32_248 : BitVec 32 := 6#32
  let v556 : BitVec 32 := Scalar.addi v382 c6_i32_248
  let v557 : Index := Scalar.indexCast v556
  let c0_249 : Index := 0#32
  ![v557.toNat, 0]
def k0_off193 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c6_i32_254 : BitVec 32 := 6#32
  let v568 : BitVec 32 := Scalar.addi v382 c6_i32_254
  let v569 : Index := Scalar.indexCast v568
  let c16_255 : Index := 16#32
  ![v569.toNat, 16]
def k0_off194 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c6_i32_260 : BitVec 32 := 6#32
  let v580 : BitVec 32 := Scalar.addi v382 c6_i32_260
  let v581 : Index := Scalar.indexCast v580
  let c32_261 : Index := 32#32
  ![v581.toNat, 32]
def k0_off195 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c6_i32_266 : BitVec 32 := 6#32
  let v592 : BitVec 32 := Scalar.addi v382 c6_i32_266
  let v593 : Index := Scalar.indexCast v592
  let c48_267 : Index := 48#32
  ![v593.toNat, 48]
def k0_off196 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c6_i32_272 : BitVec 32 := 6#32
  let v604 : BitVec 32 := Scalar.addi v382 c6_i32_272
  let v605 : Index := Scalar.indexCast v604
  let c64_273 : Index := 64#32
  ![v605.toNat, 64]
def k0_off197 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c6_i32_278 : BitVec 32 := 6#32
  let v616 : BitVec 32 := Scalar.addi v382 c6_i32_278
  let v617 : Index := Scalar.indexCast v616
  let c80_279 : Index := 80#32
  ![v617.toNat, 80]
def k0_off198 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c6_i32_284 : BitVec 32 := 6#32
  let v628 : BitVec 32 := Scalar.addi v382 c6_i32_284
  let v629 : Index := Scalar.indexCast v628
  let c96_285 : Index := 96#32
  ![v629.toNat, 96]
def k0_off199 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c6_i32_290 : BitVec 32 := 6#32
  let v640 : BitVec 32 := Scalar.addi v382 c6_i32_290
  let v641 : Index := Scalar.indexCast v640
  let c112_291 : Index := 112#32
  ![v641.toNat, 112]
def k0_off200 (v466 : BitVec 32) : Fin 2 → Nat :=
  let c0_i32_246 : BitVec 32 := 0#32
  let v553 : BitVec 32 := Scalar.maxsi v466 c0_i32_246
  let v557 : Index := Scalar.indexCast v553
  let c0_249 : Index := 0#32
  ![v557.toNat, 0]
def k0_cond17 (v464 : BitVec 32) (v466 : BitVec 32) : BitVec 1 :=
  let v467 : BitVec 1 := Scalar.cmpi .ne v464 v466
  let v468 : BitVec 32 := Scalar.extui v467
  let c0_i32_220 : BitVec 32 := 0#32
  let v469 : BitVec 1 := Scalar.cmpi .ne v468 c0_i32_220
  v469

def k0_off201 (v466 : BitVec 32) : Fin 2 → Nat :=
  let c0_i32_246 : BitVec 32 := 0#32
  let v553 : BitVec 32 := Scalar.maxsi v466 c0_i32_246
  let v564 : Index := Scalar.indexCast v553
  let c16_252 : Index := 16#32
  ![v564.toNat, 16]
def k0_off202 (v466 : BitVec 32) : Fin 2 → Nat :=
  let c0_i32_246 : BitVec 32 := 0#32
  let v553 : BitVec 32 := Scalar.maxsi v466 c0_i32_246
  let v571 : Index := Scalar.indexCast v553
  let c32_255 : Index := 32#32
  ![v571.toNat, 32]
def k0_off203 (v466 : BitVec 32) : Fin 2 → Nat :=
  let c0_i32_246 : BitVec 32 := 0#32
  let v553 : BitVec 32 := Scalar.maxsi v466 c0_i32_246
  let v578 : Index := Scalar.indexCast v553
  let c48_258 : Index := 48#32
  ![v578.toNat, 48]
def k0_off204 (v466 : BitVec 32) : Fin 2 → Nat :=
  let c0_i32_246 : BitVec 32 := 0#32
  let v553 : BitVec 32 := Scalar.maxsi v466 c0_i32_246
  let v585 : Index := Scalar.indexCast v553
  let c64_261 : Index := 64#32
  ![v585.toNat, 64]
def k0_off205 (v466 : BitVec 32) : Fin 2 → Nat :=
  let c0_i32_246 : BitVec 32 := 0#32
  let v553 : BitVec 32 := Scalar.maxsi v466 c0_i32_246
  let v592 : Index := Scalar.indexCast v553
  let c80_264 : Index := 80#32
  ![v592.toNat, 80]
def k0_off206 (v466 : BitVec 32) : Fin 2 → Nat :=
  let c0_i32_246 : BitVec 32 := 0#32
  let v553 : BitVec 32 := Scalar.maxsi v466 c0_i32_246
  let v599 : Index := Scalar.indexCast v553
  let c96_267 : Index := 96#32
  ![v599.toNat, 96]
def k0_off207 (v466 : BitVec 32) : Fin 2 → Nat :=
  let c0_i32_246 : BitVec 32 := 0#32
  let v553 : BitVec 32 := Scalar.maxsi v466 c0_i32_246
  let v606 : Index := Scalar.indexCast v553
  let c112_270 : Index := 112#32
  ![v606.toNat, 112]
def k0_off208 (v466 : BitVec 32) : Fin 1 → Nat :=
  let c0_i32_246 : BitVec 32 := 0#32
  let v553 : BitVec 32 := Scalar.maxsi v466 c0_i32_246
  let c16_i32_273 : BitVec 32 := 16#32
  let v613 : BitVec 32 := Scalar.muli v553 c16_i32_273
  let v614 : Index := Scalar.indexCast v613
  ![v614.toNat]

def k0_chk8 (v379 : BitVec 32) (v381 : BitVec 32) (v384 : BitVec 32) (v464 : BitVec 32) (v466 : BitVec 32) : Prop :=
  (∀ (k0_h2 : k0_cond2 v379 v381 v384 = 1#1), ∀ (k0_h17 : k0_cond17 v464 v466 = 1#1), ∀ a, (k0_off200 v466) a + S1x16.size a ≤ S512x128.size a) ∧
  (∀ (k0_h2 : k0_cond2 v379 v381 v384 = 1#1), ∀ (k0_h17 : k0_cond17 v464 v466 = 1#1), ∀ a, (k0_off201 v466) a + S1x16.size a ≤ S512x128.size a) ∧
  (∀ (k0_h2 : k0_cond2 v379 v381 v384 = 1#1), ∀ (k0_h17 : k0_cond17 v464 v466 = 1#1), ∀ a, (k0_off202 v466) a + S1x16.size a ≤ S512x128.size a) ∧
  (∀ (k0_h2 : k0_cond2 v379 v381 v384 = 1#1), ∀ (k0_h17 : k0_cond17 v464 v466 = 1#1), ∀ a, (k0_off203 v466) a + S1x16.size a ≤ S512x128.size a) ∧
  (∀ (k0_h2 : k0_cond2 v379 v381 v384 = 1#1), ∀ (k0_h17 : k0_cond17 v464 v466 = 1#1), ∀ a, (k0_off204 v466) a + S1x16.size a ≤ S512x128.size a) ∧
  (∀ (k0_h2 : k0_cond2 v379 v381 v384 = 1#1), ∀ (k0_h17 : k0_cond17 v464 v466 = 1#1), ∀ a, (k0_off205 v466) a + S1x16.size a ≤ S512x128.size a) ∧
  (∀ (k0_h2 : k0_cond2 v379 v381 v384 = 1#1), ∀ (k0_h17 : k0_cond17 v464 v466 = 1#1), ∀ a, (k0_off206 v466) a + S1x16.size a ≤ S512x128.size a) ∧
  (∀ (k0_h2 : k0_cond2 v379 v381 v384 = 1#1), ∀ (k0_h17 : k0_cond17 v464 v466 = 1#1), ∀ a, (k0_off207 v466) a + S1x16.size a ≤ S512x128.size a) ∧
  (∀ (k0_h2 : k0_cond2 v379 v381 v384 = 1#1), ∀ (k0_h17 : k0_cond17 v464 v466 = 1#1), ∀ a, (k0_off208 v466) a + S16.size a ≤ S8192.size a)
theorem k0_off200_inb : ∀ (v379 : BitVec 32) (v381 : BitVec 32) (v384 : BitVec 32) (v464 : BitVec 32) (v466 : BitVec 32) (k0_hw8 : k0_chk8 v379 v381 v384 v464 v466), ∀ (k0_h2 : k0_cond2 v379 v381 v384 = 1#1), ∀ (k0_h17 : k0_cond17 v464 v466 = 1#1), ∀ a, (k0_off200 v466) a + S1x16.size a ≤ S512x128.size a := fun v379 v381 v384 v464 v466 k0_hw8 k0_h2 k0_h17 => k0_hw8.1 k0_h2 k0_h17
theorem k0_off201_inb : ∀ (v379 : BitVec 32) (v381 : BitVec 32) (v384 : BitVec 32) (v464 : BitVec 32) (v466 : BitVec 32) (k0_hw8 : k0_chk8 v379 v381 v384 v464 v466), ∀ (k0_h2 : k0_cond2 v379 v381 v384 = 1#1), ∀ (k0_h17 : k0_cond17 v464 v466 = 1#1), ∀ a, (k0_off201 v466) a + S1x16.size a ≤ S512x128.size a := fun v379 v381 v384 v464 v466 k0_hw8 k0_h2 k0_h17 => k0_hw8.2.1 k0_h2 k0_h17
theorem k0_off202_inb : ∀ (v379 : BitVec 32) (v381 : BitVec 32) (v384 : BitVec 32) (v464 : BitVec 32) (v466 : BitVec 32) (k0_hw8 : k0_chk8 v379 v381 v384 v464 v466), ∀ (k0_h2 : k0_cond2 v379 v381 v384 = 1#1), ∀ (k0_h17 : k0_cond17 v464 v466 = 1#1), ∀ a, (k0_off202 v466) a + S1x16.size a ≤ S512x128.size a := fun v379 v381 v384 v464 v466 k0_hw8 k0_h2 k0_h17 => k0_hw8.2.2.1 k0_h2 k0_h17
theorem k0_off203_inb : ∀ (v379 : BitVec 32) (v381 : BitVec 32) (v384 : BitVec 32) (v464 : BitVec 32) (v466 : BitVec 32) (k0_hw8 : k0_chk8 v379 v381 v384 v464 v466), ∀ (k0_h2 : k0_cond2 v379 v381 v384 = 1#1), ∀ (k0_h17 : k0_cond17 v464 v466 = 1#1), ∀ a, (k0_off203 v466) a + S1x16.size a ≤ S512x128.size a := fun v379 v381 v384 v464 v466 k0_hw8 k0_h2 k0_h17 => k0_hw8.2.2.2.1 k0_h2 k0_h17
theorem k0_off204_inb : ∀ (v379 : BitVec 32) (v381 : BitVec 32) (v384 : BitVec 32) (v464 : BitVec 32) (v466 : BitVec 32) (k0_hw8 : k0_chk8 v379 v381 v384 v464 v466), ∀ (k0_h2 : k0_cond2 v379 v381 v384 = 1#1), ∀ (k0_h17 : k0_cond17 v464 v466 = 1#1), ∀ a, (k0_off204 v466) a + S1x16.size a ≤ S512x128.size a := fun v379 v381 v384 v464 v466 k0_hw8 k0_h2 k0_h17 => k0_hw8.2.2.2.2.1 k0_h2 k0_h17
theorem k0_off205_inb : ∀ (v379 : BitVec 32) (v381 : BitVec 32) (v384 : BitVec 32) (v464 : BitVec 32) (v466 : BitVec 32) (k0_hw8 : k0_chk8 v379 v381 v384 v464 v466), ∀ (k0_h2 : k0_cond2 v379 v381 v384 = 1#1), ∀ (k0_h17 : k0_cond17 v464 v466 = 1#1), ∀ a, (k0_off205 v466) a + S1x16.size a ≤ S512x128.size a := fun v379 v381 v384 v464 v466 k0_hw8 k0_h2 k0_h17 => k0_hw8.2.2.2.2.2.1 k0_h2 k0_h17
theorem k0_off206_inb : ∀ (v379 : BitVec 32) (v381 : BitVec 32) (v384 : BitVec 32) (v464 : BitVec 32) (v466 : BitVec 32) (k0_hw8 : k0_chk8 v379 v381 v384 v464 v466), ∀ (k0_h2 : k0_cond2 v379 v381 v384 = 1#1), ∀ (k0_h17 : k0_cond17 v464 v466 = 1#1), ∀ a, (k0_off206 v466) a + S1x16.size a ≤ S512x128.size a := fun v379 v381 v384 v464 v466 k0_hw8 k0_h2 k0_h17 => k0_hw8.2.2.2.2.2.2.1 k0_h2 k0_h17
theorem k0_off207_inb : ∀ (v379 : BitVec 32) (v381 : BitVec 32) (v384 : BitVec 32) (v464 : BitVec 32) (v466 : BitVec 32) (k0_hw8 : k0_chk8 v379 v381 v384 v464 v466), ∀ (k0_h2 : k0_cond2 v379 v381 v384 = 1#1), ∀ (k0_h17 : k0_cond17 v464 v466 = 1#1), ∀ a, (k0_off207 v466) a + S1x16.size a ≤ S512x128.size a := fun v379 v381 v384 v464 v466 k0_hw8 k0_h2 k0_h17 => k0_hw8.2.2.2.2.2.2.2.1 k0_h2 k0_h17
theorem k0_off208_inb : ∀ (v379 : BitVec 32) (v381 : BitVec 32) (v384 : BitVec 32) (v464 : BitVec 32) (v466 : BitVec 32) (k0_hw8 : k0_chk8 v379 v381 v384 v464 v466), ∀ (k0_h2 : k0_cond2 v379 v381 v384 = 1#1), ∀ (k0_h17 : k0_cond17 v464 v466 = 1#1), ∀ a, (k0_off208 v466) a + S16.size a ≤ S8192.size a := fun v379 v381 v384 v464 v466 k0_hw8 k0_h2 k0_h17 => k0_hw8.2.2.2.2.2.2.2.2 k0_h2 k0_h17

def k0_off209 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c7_i32_274 : BitVec 32 := 7#32
  let v618 : BitVec 32 := Scalar.addi v382 c7_i32_274
  let v619 : Index := Scalar.indexCast v618
  let c0_275 : Index := 0#32
  ![v619.toNat, 0]
def k0_off210 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c7_i32_278 : BitVec 32 := 7#32
  let v626 : BitVec 32 := Scalar.addi v382 c7_i32_278
  let v627 : Index := Scalar.indexCast v626
  let c16_279 : Index := 16#32
  ![v627.toNat, 16]
def k0_off211 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c7_i32_282 : BitVec 32 := 7#32
  let v634 : BitVec 32 := Scalar.addi v382 c7_i32_282
  let v635 : Index := Scalar.indexCast v634
  let c32_283 : Index := 32#32
  ![v635.toNat, 32]
def k0_off212 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c7_i32_286 : BitVec 32 := 7#32
  let v642 : BitVec 32 := Scalar.addi v382 c7_i32_286
  let v643 : Index := Scalar.indexCast v642
  let c48_287 : Index := 48#32
  ![v643.toNat, 48]
def k0_off213 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c7_i32_290 : BitVec 32 := 7#32
  let v650 : BitVec 32 := Scalar.addi v382 c7_i32_290
  let v651 : Index := Scalar.indexCast v650
  let c64_291 : Index := 64#32
  ![v651.toNat, 64]
def k0_off214 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c7_i32_294 : BitVec 32 := 7#32
  let v658 : BitVec 32 := Scalar.addi v382 c7_i32_294
  let v659 : Index := Scalar.indexCast v658
  let c80_295 : Index := 80#32
  ![v659.toNat, 80]
def k0_off215 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c7_i32_298 : BitVec 32 := 7#32
  let v666 : BitVec 32 := Scalar.addi v382 c7_i32_298
  let v667 : Index := Scalar.indexCast v666
  let c96_299 : Index := 96#32
  ![v667.toNat, 96]
def k0_off216 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c7_i32_302 : BitVec 32 := 7#32
  let v674 : BitVec 32 := Scalar.addi v382 c7_i32_302
  let v675 : Index := Scalar.indexCast v674
  let c112_303 : Index := 112#32
  ![v675.toNat, 112]
def k0_off217 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c7_i32_248 : BitVec 32 := 7#32
  let v556 : BitVec 32 := Scalar.addi v382 c7_i32_248
  let v557 : Index := Scalar.indexCast v556
  let c0_249 : Index := 0#32
  ![v557.toNat, 0]
def k0_off218 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c7_i32_254 : BitVec 32 := 7#32
  let v568 : BitVec 32 := Scalar.addi v382 c7_i32_254
  let v569 : Index := Scalar.indexCast v568
  let c16_255 : Index := 16#32
  ![v569.toNat, 16]
def k0_off219 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c7_i32_260 : BitVec 32 := 7#32
  let v580 : BitVec 32 := Scalar.addi v382 c7_i32_260
  let v581 : Index := Scalar.indexCast v580
  let c32_261 : Index := 32#32
  ![v581.toNat, 32]
def k0_off220 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c7_i32_266 : BitVec 32 := 7#32
  let v592 : BitVec 32 := Scalar.addi v382 c7_i32_266
  let v593 : Index := Scalar.indexCast v592
  let c48_267 : Index := 48#32
  ![v593.toNat, 48]
def k0_off221 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c7_i32_272 : BitVec 32 := 7#32
  let v604 : BitVec 32 := Scalar.addi v382 c7_i32_272
  let v605 : Index := Scalar.indexCast v604
  let c64_273 : Index := 64#32
  ![v605.toNat, 64]
def k0_off222 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c7_i32_278 : BitVec 32 := 7#32
  let v616 : BitVec 32 := Scalar.addi v382 c7_i32_278
  let v617 : Index := Scalar.indexCast v616
  let c80_279 : Index := 80#32
  ![v617.toNat, 80]
def k0_off223 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c7_i32_284 : BitVec 32 := 7#32
  let v628 : BitVec 32 := Scalar.addi v382 c7_i32_284
  let v629 : Index := Scalar.indexCast v628
  let c96_285 : Index := 96#32
  ![v629.toNat, 96]
def k0_off224 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c7_i32_290 : BitVec 32 := 7#32
  let v640 : BitVec 32 := Scalar.addi v382 c7_i32_290
  let v641 : Index := Scalar.indexCast v640
  let c112_291 : Index := 112#32
  ![v641.toNat, 112]
def k0_off225 (v476 : BitVec 32) : Fin 2 → Nat :=
  let c0_i32_246 : BitVec 32 := 0#32
  let v553 : BitVec 32 := Scalar.maxsi v476 c0_i32_246
  let v557 : Index := Scalar.indexCast v553
  let c0_249 : Index := 0#32
  ![v557.toNat, 0]
def k0_cond19 (v474 : BitVec 32) (v476 : BitVec 32) : BitVec 1 :=
  let v477 : BitVec 1 := Scalar.cmpi .ne v474 v476
  let v478 : BitVec 32 := Scalar.extui v477
  let c0_i32_223 : BitVec 32 := 0#32
  let v479 : BitVec 1 := Scalar.cmpi .ne v478 c0_i32_223
  v479

def k0_off226 (v476 : BitVec 32) : Fin 2 → Nat :=
  let c0_i32_246 : BitVec 32 := 0#32
  let v553 : BitVec 32 := Scalar.maxsi v476 c0_i32_246
  let v564 : Index := Scalar.indexCast v553
  let c16_252 : Index := 16#32
  ![v564.toNat, 16]
def k0_off227 (v476 : BitVec 32) : Fin 2 → Nat :=
  let c0_i32_246 : BitVec 32 := 0#32
  let v553 : BitVec 32 := Scalar.maxsi v476 c0_i32_246
  let v571 : Index := Scalar.indexCast v553
  let c32_255 : Index := 32#32
  ![v571.toNat, 32]
def k0_off228 (v476 : BitVec 32) : Fin 2 → Nat :=
  let c0_i32_246 : BitVec 32 := 0#32
  let v553 : BitVec 32 := Scalar.maxsi v476 c0_i32_246
  let v578 : Index := Scalar.indexCast v553
  let c48_258 : Index := 48#32
  ![v578.toNat, 48]
def k0_off229 (v476 : BitVec 32) : Fin 2 → Nat :=
  let c0_i32_246 : BitVec 32 := 0#32
  let v553 : BitVec 32 := Scalar.maxsi v476 c0_i32_246
  let v585 : Index := Scalar.indexCast v553
  let c64_261 : Index := 64#32
  ![v585.toNat, 64]
def k0_off230 (v476 : BitVec 32) : Fin 2 → Nat :=
  let c0_i32_246 : BitVec 32 := 0#32
  let v553 : BitVec 32 := Scalar.maxsi v476 c0_i32_246
  let v592 : Index := Scalar.indexCast v553
  let c80_264 : Index := 80#32
  ![v592.toNat, 80]
def k0_off231 (v476 : BitVec 32) : Fin 2 → Nat :=
  let c0_i32_246 : BitVec 32 := 0#32
  let v553 : BitVec 32 := Scalar.maxsi v476 c0_i32_246
  let v599 : Index := Scalar.indexCast v553
  let c96_267 : Index := 96#32
  ![v599.toNat, 96]
def k0_off232 (v476 : BitVec 32) : Fin 2 → Nat :=
  let c0_i32_246 : BitVec 32 := 0#32
  let v553 : BitVec 32 := Scalar.maxsi v476 c0_i32_246
  let v606 : Index := Scalar.indexCast v553
  let c112_270 : Index := 112#32
  ![v606.toNat, 112]
def k0_off233 (v476 : BitVec 32) : Fin 1 → Nat :=
  let c0_i32_246 : BitVec 32 := 0#32
  let v553 : BitVec 32 := Scalar.maxsi v476 c0_i32_246
  let c16_i32_273 : BitVec 32 := 16#32
  let v613 : BitVec 32 := Scalar.muli v553 c16_i32_273
  let v614 : Index := Scalar.indexCast v613
  ![v614.toNat]

def k0_chk9 (v379 : BitVec 32) (v381 : BitVec 32) (v384 : BitVec 32) (v474 : BitVec 32) (v476 : BitVec 32) : Prop :=
  (∀ (k0_h2 : k0_cond2 v379 v381 v384 = 1#1), ∀ (k0_h19 : k0_cond19 v474 v476 = 1#1), ∀ a, (k0_off225 v476) a + S1x16.size a ≤ S512x128.size a) ∧
  (∀ (k0_h2 : k0_cond2 v379 v381 v384 = 1#1), ∀ (k0_h19 : k0_cond19 v474 v476 = 1#1), ∀ a, (k0_off226 v476) a + S1x16.size a ≤ S512x128.size a) ∧
  (∀ (k0_h2 : k0_cond2 v379 v381 v384 = 1#1), ∀ (k0_h19 : k0_cond19 v474 v476 = 1#1), ∀ a, (k0_off227 v476) a + S1x16.size a ≤ S512x128.size a) ∧
  (∀ (k0_h2 : k0_cond2 v379 v381 v384 = 1#1), ∀ (k0_h19 : k0_cond19 v474 v476 = 1#1), ∀ a, (k0_off228 v476) a + S1x16.size a ≤ S512x128.size a) ∧
  (∀ (k0_h2 : k0_cond2 v379 v381 v384 = 1#1), ∀ (k0_h19 : k0_cond19 v474 v476 = 1#1), ∀ a, (k0_off229 v476) a + S1x16.size a ≤ S512x128.size a) ∧
  (∀ (k0_h2 : k0_cond2 v379 v381 v384 = 1#1), ∀ (k0_h19 : k0_cond19 v474 v476 = 1#1), ∀ a, (k0_off230 v476) a + S1x16.size a ≤ S512x128.size a) ∧
  (∀ (k0_h2 : k0_cond2 v379 v381 v384 = 1#1), ∀ (k0_h19 : k0_cond19 v474 v476 = 1#1), ∀ a, (k0_off231 v476) a + S1x16.size a ≤ S512x128.size a) ∧
  (∀ (k0_h2 : k0_cond2 v379 v381 v384 = 1#1), ∀ (k0_h19 : k0_cond19 v474 v476 = 1#1), ∀ a, (k0_off232 v476) a + S1x16.size a ≤ S512x128.size a) ∧
  (∀ (k0_h2 : k0_cond2 v379 v381 v384 = 1#1), ∀ (k0_h19 : k0_cond19 v474 v476 = 1#1), ∀ a, (k0_off233 v476) a + S16.size a ≤ S8192.size a)
theorem k0_off225_inb : ∀ (v379 : BitVec 32) (v381 : BitVec 32) (v384 : BitVec 32) (v474 : BitVec 32) (v476 : BitVec 32) (k0_hw9 : k0_chk9 v379 v381 v384 v474 v476), ∀ (k0_h2 : k0_cond2 v379 v381 v384 = 1#1), ∀ (k0_h19 : k0_cond19 v474 v476 = 1#1), ∀ a, (k0_off225 v476) a + S1x16.size a ≤ S512x128.size a := fun v379 v381 v384 v474 v476 k0_hw9 k0_h2 k0_h19 => k0_hw9.1 k0_h2 k0_h19
theorem k0_off226_inb : ∀ (v379 : BitVec 32) (v381 : BitVec 32) (v384 : BitVec 32) (v474 : BitVec 32) (v476 : BitVec 32) (k0_hw9 : k0_chk9 v379 v381 v384 v474 v476), ∀ (k0_h2 : k0_cond2 v379 v381 v384 = 1#1), ∀ (k0_h19 : k0_cond19 v474 v476 = 1#1), ∀ a, (k0_off226 v476) a + S1x16.size a ≤ S512x128.size a := fun v379 v381 v384 v474 v476 k0_hw9 k0_h2 k0_h19 => k0_hw9.2.1 k0_h2 k0_h19
theorem k0_off227_inb : ∀ (v379 : BitVec 32) (v381 : BitVec 32) (v384 : BitVec 32) (v474 : BitVec 32) (v476 : BitVec 32) (k0_hw9 : k0_chk9 v379 v381 v384 v474 v476), ∀ (k0_h2 : k0_cond2 v379 v381 v384 = 1#1), ∀ (k0_h19 : k0_cond19 v474 v476 = 1#1), ∀ a, (k0_off227 v476) a + S1x16.size a ≤ S512x128.size a := fun v379 v381 v384 v474 v476 k0_hw9 k0_h2 k0_h19 => k0_hw9.2.2.1 k0_h2 k0_h19
theorem k0_off228_inb : ∀ (v379 : BitVec 32) (v381 : BitVec 32) (v384 : BitVec 32) (v474 : BitVec 32) (v476 : BitVec 32) (k0_hw9 : k0_chk9 v379 v381 v384 v474 v476), ∀ (k0_h2 : k0_cond2 v379 v381 v384 = 1#1), ∀ (k0_h19 : k0_cond19 v474 v476 = 1#1), ∀ a, (k0_off228 v476) a + S1x16.size a ≤ S512x128.size a := fun v379 v381 v384 v474 v476 k0_hw9 k0_h2 k0_h19 => k0_hw9.2.2.2.1 k0_h2 k0_h19
theorem k0_off229_inb : ∀ (v379 : BitVec 32) (v381 : BitVec 32) (v384 : BitVec 32) (v474 : BitVec 32) (v476 : BitVec 32) (k0_hw9 : k0_chk9 v379 v381 v384 v474 v476), ∀ (k0_h2 : k0_cond2 v379 v381 v384 = 1#1), ∀ (k0_h19 : k0_cond19 v474 v476 = 1#1), ∀ a, (k0_off229 v476) a + S1x16.size a ≤ S512x128.size a := fun v379 v381 v384 v474 v476 k0_hw9 k0_h2 k0_h19 => k0_hw9.2.2.2.2.1 k0_h2 k0_h19
theorem k0_off230_inb : ∀ (v379 : BitVec 32) (v381 : BitVec 32) (v384 : BitVec 32) (v474 : BitVec 32) (v476 : BitVec 32) (k0_hw9 : k0_chk9 v379 v381 v384 v474 v476), ∀ (k0_h2 : k0_cond2 v379 v381 v384 = 1#1), ∀ (k0_h19 : k0_cond19 v474 v476 = 1#1), ∀ a, (k0_off230 v476) a + S1x16.size a ≤ S512x128.size a := fun v379 v381 v384 v474 v476 k0_hw9 k0_h2 k0_h19 => k0_hw9.2.2.2.2.2.1 k0_h2 k0_h19
theorem k0_off231_inb : ∀ (v379 : BitVec 32) (v381 : BitVec 32) (v384 : BitVec 32) (v474 : BitVec 32) (v476 : BitVec 32) (k0_hw9 : k0_chk9 v379 v381 v384 v474 v476), ∀ (k0_h2 : k0_cond2 v379 v381 v384 = 1#1), ∀ (k0_h19 : k0_cond19 v474 v476 = 1#1), ∀ a, (k0_off231 v476) a + S1x16.size a ≤ S512x128.size a := fun v379 v381 v384 v474 v476 k0_hw9 k0_h2 k0_h19 => k0_hw9.2.2.2.2.2.2.1 k0_h2 k0_h19
theorem k0_off232_inb : ∀ (v379 : BitVec 32) (v381 : BitVec 32) (v384 : BitVec 32) (v474 : BitVec 32) (v476 : BitVec 32) (k0_hw9 : k0_chk9 v379 v381 v384 v474 v476), ∀ (k0_h2 : k0_cond2 v379 v381 v384 = 1#1), ∀ (k0_h19 : k0_cond19 v474 v476 = 1#1), ∀ a, (k0_off232 v476) a + S1x16.size a ≤ S512x128.size a := fun v379 v381 v384 v474 v476 k0_hw9 k0_h2 k0_h19 => k0_hw9.2.2.2.2.2.2.2.1 k0_h2 k0_h19
theorem k0_off233_inb : ∀ (v379 : BitVec 32) (v381 : BitVec 32) (v384 : BitVec 32) (v474 : BitVec 32) (v476 : BitVec 32) (k0_hw9 : k0_chk9 v379 v381 v384 v474 v476), ∀ (k0_h2 : k0_cond2 v379 v381 v384 = 1#1), ∀ (k0_h19 : k0_cond19 v474 v476 = 1#1), ∀ a, (k0_off233 v476) a + S16.size a ≤ S8192.size a := fun v379 v381 v384 v474 v476 k0_hw9 k0_h2 k0_h19 => k0_hw9.2.2.2.2.2.2.2.2 k0_h2 k0_h19

def k0_off234 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c8_i32_274 : BitVec 32 := 8#32
  let v618 : BitVec 32 := Scalar.addi v382 c8_i32_274
  let v619 : Index := Scalar.indexCast v618
  let c0_275 : Index := 0#32
  ![v619.toNat, 0]
def k0_off235 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c8_i32_278 : BitVec 32 := 8#32
  let v626 : BitVec 32 := Scalar.addi v382 c8_i32_278
  let v627 : Index := Scalar.indexCast v626
  let c16_279 : Index := 16#32
  ![v627.toNat, 16]
def k0_off236 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c8_i32_282 : BitVec 32 := 8#32
  let v634 : BitVec 32 := Scalar.addi v382 c8_i32_282
  let v635 : Index := Scalar.indexCast v634
  let c32_283 : Index := 32#32
  ![v635.toNat, 32]
def k0_off237 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c8_i32_286 : BitVec 32 := 8#32
  let v642 : BitVec 32 := Scalar.addi v382 c8_i32_286
  let v643 : Index := Scalar.indexCast v642
  let c48_287 : Index := 48#32
  ![v643.toNat, 48]
def k0_off238 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c8_i32_290 : BitVec 32 := 8#32
  let v650 : BitVec 32 := Scalar.addi v382 c8_i32_290
  let v651 : Index := Scalar.indexCast v650
  let c64_291 : Index := 64#32
  ![v651.toNat, 64]
def k0_off239 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c8_i32_294 : BitVec 32 := 8#32
  let v658 : BitVec 32 := Scalar.addi v382 c8_i32_294
  let v659 : Index := Scalar.indexCast v658
  let c80_295 : Index := 80#32
  ![v659.toNat, 80]
def k0_off240 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c8_i32_298 : BitVec 32 := 8#32
  let v666 : BitVec 32 := Scalar.addi v382 c8_i32_298
  let v667 : Index := Scalar.indexCast v666
  let c96_299 : Index := 96#32
  ![v667.toNat, 96]
def k0_off241 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c8_i32_302 : BitVec 32 := 8#32
  let v674 : BitVec 32 := Scalar.addi v382 c8_i32_302
  let v675 : Index := Scalar.indexCast v674
  let c112_303 : Index := 112#32
  ![v675.toNat, 112]
def k0_off242 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c8_i32_248 : BitVec 32 := 8#32
  let v556 : BitVec 32 := Scalar.addi v382 c8_i32_248
  let v557 : Index := Scalar.indexCast v556
  let c0_249 : Index := 0#32
  ![v557.toNat, 0]
def k0_off243 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c8_i32_254 : BitVec 32 := 8#32
  let v568 : BitVec 32 := Scalar.addi v382 c8_i32_254
  let v569 : Index := Scalar.indexCast v568
  let c16_255 : Index := 16#32
  ![v569.toNat, 16]
def k0_off244 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c8_i32_260 : BitVec 32 := 8#32
  let v580 : BitVec 32 := Scalar.addi v382 c8_i32_260
  let v581 : Index := Scalar.indexCast v580
  let c32_261 : Index := 32#32
  ![v581.toNat, 32]
def k0_off245 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c8_i32_266 : BitVec 32 := 8#32
  let v592 : BitVec 32 := Scalar.addi v382 c8_i32_266
  let v593 : Index := Scalar.indexCast v592
  let c48_267 : Index := 48#32
  ![v593.toNat, 48]
def k0_off246 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c8_i32_272 : BitVec 32 := 8#32
  let v604 : BitVec 32 := Scalar.addi v382 c8_i32_272
  let v605 : Index := Scalar.indexCast v604
  let c64_273 : Index := 64#32
  ![v605.toNat, 64]
def k0_off247 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c8_i32_278 : BitVec 32 := 8#32
  let v616 : BitVec 32 := Scalar.addi v382 c8_i32_278
  let v617 : Index := Scalar.indexCast v616
  let c80_279 : Index := 80#32
  ![v617.toNat, 80]
def k0_off248 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c8_i32_284 : BitVec 32 := 8#32
  let v628 : BitVec 32 := Scalar.addi v382 c8_i32_284
  let v629 : Index := Scalar.indexCast v628
  let c96_285 : Index := 96#32
  ![v629.toNat, 96]
def k0_off249 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c8_i32_290 : BitVec 32 := 8#32
  let v640 : BitVec 32 := Scalar.addi v382 c8_i32_290
  let v641 : Index := Scalar.indexCast v640
  let c112_291 : Index := 112#32
  ![v641.toNat, 112]
def k0_off250 (v486 : BitVec 32) : Fin 2 → Nat :=
  let c0_i32_246 : BitVec 32 := 0#32
  let v553 : BitVec 32 := Scalar.maxsi v486 c0_i32_246
  let v557 : Index := Scalar.indexCast v553
  let c0_249 : Index := 0#32
  ![v557.toNat, 0]
def k0_cond21 (v484 : BitVec 32) (v486 : BitVec 32) : BitVec 1 :=
  let v487 : BitVec 1 := Scalar.cmpi .ne v484 v486
  let v488 : BitVec 32 := Scalar.extui v487
  let c0_i32_226 : BitVec 32 := 0#32
  let v489 : BitVec 1 := Scalar.cmpi .ne v488 c0_i32_226
  v489

def k0_off251 (v486 : BitVec 32) : Fin 2 → Nat :=
  let c0_i32_246 : BitVec 32 := 0#32
  let v553 : BitVec 32 := Scalar.maxsi v486 c0_i32_246
  let v564 : Index := Scalar.indexCast v553
  let c16_252 : Index := 16#32
  ![v564.toNat, 16]
def k0_off252 (v486 : BitVec 32) : Fin 2 → Nat :=
  let c0_i32_246 : BitVec 32 := 0#32
  let v553 : BitVec 32 := Scalar.maxsi v486 c0_i32_246
  let v571 : Index := Scalar.indexCast v553
  let c32_255 : Index := 32#32
  ![v571.toNat, 32]
def k0_off253 (v486 : BitVec 32) : Fin 2 → Nat :=
  let c0_i32_246 : BitVec 32 := 0#32
  let v553 : BitVec 32 := Scalar.maxsi v486 c0_i32_246
  let v578 : Index := Scalar.indexCast v553
  let c48_258 : Index := 48#32
  ![v578.toNat, 48]
def k0_off254 (v486 : BitVec 32) : Fin 2 → Nat :=
  let c0_i32_246 : BitVec 32 := 0#32
  let v553 : BitVec 32 := Scalar.maxsi v486 c0_i32_246
  let v585 : Index := Scalar.indexCast v553
  let c64_261 : Index := 64#32
  ![v585.toNat, 64]
def k0_off255 (v486 : BitVec 32) : Fin 2 → Nat :=
  let c0_i32_246 : BitVec 32 := 0#32
  let v553 : BitVec 32 := Scalar.maxsi v486 c0_i32_246
  let v592 : Index := Scalar.indexCast v553
  let c80_264 : Index := 80#32
  ![v592.toNat, 80]
def k0_off256 (v486 : BitVec 32) : Fin 2 → Nat :=
  let c0_i32_246 : BitVec 32 := 0#32
  let v553 : BitVec 32 := Scalar.maxsi v486 c0_i32_246
  let v599 : Index := Scalar.indexCast v553
  let c96_267 : Index := 96#32
  ![v599.toNat, 96]
def k0_off257 (v486 : BitVec 32) : Fin 2 → Nat :=
  let c0_i32_246 : BitVec 32 := 0#32
  let v553 : BitVec 32 := Scalar.maxsi v486 c0_i32_246
  let v606 : Index := Scalar.indexCast v553
  let c112_270 : Index := 112#32
  ![v606.toNat, 112]
def k0_off258 (v486 : BitVec 32) : Fin 1 → Nat :=
  let c0_i32_246 : BitVec 32 := 0#32
  let v553 : BitVec 32 := Scalar.maxsi v486 c0_i32_246
  let c16_i32_273 : BitVec 32 := 16#32
  let v613 : BitVec 32 := Scalar.muli v553 c16_i32_273
  let v614 : Index := Scalar.indexCast v613
  ![v614.toNat]

def k0_chk10 (v379 : BitVec 32) (v381 : BitVec 32) (v384 : BitVec 32) (v484 : BitVec 32) (v486 : BitVec 32) : Prop :=
  (∀ (k0_h2 : k0_cond2 v379 v381 v384 = 1#1), ∀ (k0_h21 : k0_cond21 v484 v486 = 1#1), ∀ a, (k0_off250 v486) a + S1x16.size a ≤ S512x128.size a) ∧
  (∀ (k0_h2 : k0_cond2 v379 v381 v384 = 1#1), ∀ (k0_h21 : k0_cond21 v484 v486 = 1#1), ∀ a, (k0_off251 v486) a + S1x16.size a ≤ S512x128.size a) ∧
  (∀ (k0_h2 : k0_cond2 v379 v381 v384 = 1#1), ∀ (k0_h21 : k0_cond21 v484 v486 = 1#1), ∀ a, (k0_off252 v486) a + S1x16.size a ≤ S512x128.size a) ∧
  (∀ (k0_h2 : k0_cond2 v379 v381 v384 = 1#1), ∀ (k0_h21 : k0_cond21 v484 v486 = 1#1), ∀ a, (k0_off253 v486) a + S1x16.size a ≤ S512x128.size a) ∧
  (∀ (k0_h2 : k0_cond2 v379 v381 v384 = 1#1), ∀ (k0_h21 : k0_cond21 v484 v486 = 1#1), ∀ a, (k0_off254 v486) a + S1x16.size a ≤ S512x128.size a) ∧
  (∀ (k0_h2 : k0_cond2 v379 v381 v384 = 1#1), ∀ (k0_h21 : k0_cond21 v484 v486 = 1#1), ∀ a, (k0_off255 v486) a + S1x16.size a ≤ S512x128.size a) ∧
  (∀ (k0_h2 : k0_cond2 v379 v381 v384 = 1#1), ∀ (k0_h21 : k0_cond21 v484 v486 = 1#1), ∀ a, (k0_off256 v486) a + S1x16.size a ≤ S512x128.size a) ∧
  (∀ (k0_h2 : k0_cond2 v379 v381 v384 = 1#1), ∀ (k0_h21 : k0_cond21 v484 v486 = 1#1), ∀ a, (k0_off257 v486) a + S1x16.size a ≤ S512x128.size a) ∧
  (∀ (k0_h2 : k0_cond2 v379 v381 v384 = 1#1), ∀ (k0_h21 : k0_cond21 v484 v486 = 1#1), ∀ a, (k0_off258 v486) a + S16.size a ≤ S8192.size a)
theorem k0_off250_inb : ∀ (v379 : BitVec 32) (v381 : BitVec 32) (v384 : BitVec 32) (v484 : BitVec 32) (v486 : BitVec 32) (k0_hw10 : k0_chk10 v379 v381 v384 v484 v486), ∀ (k0_h2 : k0_cond2 v379 v381 v384 = 1#1), ∀ (k0_h21 : k0_cond21 v484 v486 = 1#1), ∀ a, (k0_off250 v486) a + S1x16.size a ≤ S512x128.size a := fun v379 v381 v384 v484 v486 k0_hw10 k0_h2 k0_h21 => k0_hw10.1 k0_h2 k0_h21
theorem k0_off251_inb : ∀ (v379 : BitVec 32) (v381 : BitVec 32) (v384 : BitVec 32) (v484 : BitVec 32) (v486 : BitVec 32) (k0_hw10 : k0_chk10 v379 v381 v384 v484 v486), ∀ (k0_h2 : k0_cond2 v379 v381 v384 = 1#1), ∀ (k0_h21 : k0_cond21 v484 v486 = 1#1), ∀ a, (k0_off251 v486) a + S1x16.size a ≤ S512x128.size a := fun v379 v381 v384 v484 v486 k0_hw10 k0_h2 k0_h21 => k0_hw10.2.1 k0_h2 k0_h21
theorem k0_off252_inb : ∀ (v379 : BitVec 32) (v381 : BitVec 32) (v384 : BitVec 32) (v484 : BitVec 32) (v486 : BitVec 32) (k0_hw10 : k0_chk10 v379 v381 v384 v484 v486), ∀ (k0_h2 : k0_cond2 v379 v381 v384 = 1#1), ∀ (k0_h21 : k0_cond21 v484 v486 = 1#1), ∀ a, (k0_off252 v486) a + S1x16.size a ≤ S512x128.size a := fun v379 v381 v384 v484 v486 k0_hw10 k0_h2 k0_h21 => k0_hw10.2.2.1 k0_h2 k0_h21
theorem k0_off253_inb : ∀ (v379 : BitVec 32) (v381 : BitVec 32) (v384 : BitVec 32) (v484 : BitVec 32) (v486 : BitVec 32) (k0_hw10 : k0_chk10 v379 v381 v384 v484 v486), ∀ (k0_h2 : k0_cond2 v379 v381 v384 = 1#1), ∀ (k0_h21 : k0_cond21 v484 v486 = 1#1), ∀ a, (k0_off253 v486) a + S1x16.size a ≤ S512x128.size a := fun v379 v381 v384 v484 v486 k0_hw10 k0_h2 k0_h21 => k0_hw10.2.2.2.1 k0_h2 k0_h21
theorem k0_off254_inb : ∀ (v379 : BitVec 32) (v381 : BitVec 32) (v384 : BitVec 32) (v484 : BitVec 32) (v486 : BitVec 32) (k0_hw10 : k0_chk10 v379 v381 v384 v484 v486), ∀ (k0_h2 : k0_cond2 v379 v381 v384 = 1#1), ∀ (k0_h21 : k0_cond21 v484 v486 = 1#1), ∀ a, (k0_off254 v486) a + S1x16.size a ≤ S512x128.size a := fun v379 v381 v384 v484 v486 k0_hw10 k0_h2 k0_h21 => k0_hw10.2.2.2.2.1 k0_h2 k0_h21
theorem k0_off255_inb : ∀ (v379 : BitVec 32) (v381 : BitVec 32) (v384 : BitVec 32) (v484 : BitVec 32) (v486 : BitVec 32) (k0_hw10 : k0_chk10 v379 v381 v384 v484 v486), ∀ (k0_h2 : k0_cond2 v379 v381 v384 = 1#1), ∀ (k0_h21 : k0_cond21 v484 v486 = 1#1), ∀ a, (k0_off255 v486) a + S1x16.size a ≤ S512x128.size a := fun v379 v381 v384 v484 v486 k0_hw10 k0_h2 k0_h21 => k0_hw10.2.2.2.2.2.1 k0_h2 k0_h21
theorem k0_off256_inb : ∀ (v379 : BitVec 32) (v381 : BitVec 32) (v384 : BitVec 32) (v484 : BitVec 32) (v486 : BitVec 32) (k0_hw10 : k0_chk10 v379 v381 v384 v484 v486), ∀ (k0_h2 : k0_cond2 v379 v381 v384 = 1#1), ∀ (k0_h21 : k0_cond21 v484 v486 = 1#1), ∀ a, (k0_off256 v486) a + S1x16.size a ≤ S512x128.size a := fun v379 v381 v384 v484 v486 k0_hw10 k0_h2 k0_h21 => k0_hw10.2.2.2.2.2.2.1 k0_h2 k0_h21
theorem k0_off257_inb : ∀ (v379 : BitVec 32) (v381 : BitVec 32) (v384 : BitVec 32) (v484 : BitVec 32) (v486 : BitVec 32) (k0_hw10 : k0_chk10 v379 v381 v384 v484 v486), ∀ (k0_h2 : k0_cond2 v379 v381 v384 = 1#1), ∀ (k0_h21 : k0_cond21 v484 v486 = 1#1), ∀ a, (k0_off257 v486) a + S1x16.size a ≤ S512x128.size a := fun v379 v381 v384 v484 v486 k0_hw10 k0_h2 k0_h21 => k0_hw10.2.2.2.2.2.2.2.1 k0_h2 k0_h21
theorem k0_off258_inb : ∀ (v379 : BitVec 32) (v381 : BitVec 32) (v384 : BitVec 32) (v484 : BitVec 32) (v486 : BitVec 32) (k0_hw10 : k0_chk10 v379 v381 v384 v484 v486), ∀ (k0_h2 : k0_cond2 v379 v381 v384 = 1#1), ∀ (k0_h21 : k0_cond21 v484 v486 = 1#1), ∀ a, (k0_off258 v486) a + S16.size a ≤ S8192.size a := fun v379 v381 v384 v484 v486 k0_hw10 k0_h2 k0_h21 => k0_hw10.2.2.2.2.2.2.2.2 k0_h2 k0_h21

def k0_off259 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c9_i32 : BitVec 32 := 9#32
  let v618 : BitVec 32 := Scalar.addi v382 c9_i32
  let v619 : Index := Scalar.indexCast v618
  let c0_274 : Index := 0#32
  ![v619.toNat, 0]
def k0_off260 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c9_i32_277 : BitVec 32 := 9#32
  let v626 : BitVec 32 := Scalar.addi v382 c9_i32_277
  let v627 : Index := Scalar.indexCast v626
  let c16_278 : Index := 16#32
  ![v627.toNat, 16]
def k0_off261 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c9_i32_281 : BitVec 32 := 9#32
  let v634 : BitVec 32 := Scalar.addi v382 c9_i32_281
  let v635 : Index := Scalar.indexCast v634
  let c32_282 : Index := 32#32
  ![v635.toNat, 32]
def k0_off262 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c9_i32_285 : BitVec 32 := 9#32
  let v642 : BitVec 32 := Scalar.addi v382 c9_i32_285
  let v643 : Index := Scalar.indexCast v642
  let c48_286 : Index := 48#32
  ![v643.toNat, 48]
def k0_off263 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c9_i32_289 : BitVec 32 := 9#32
  let v650 : BitVec 32 := Scalar.addi v382 c9_i32_289
  let v651 : Index := Scalar.indexCast v650
  let c64_290 : Index := 64#32
  ![v651.toNat, 64]
def k0_off264 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c9_i32_293 : BitVec 32 := 9#32
  let v658 : BitVec 32 := Scalar.addi v382 c9_i32_293
  let v659 : Index := Scalar.indexCast v658
  let c80_294 : Index := 80#32
  ![v659.toNat, 80]
def k0_off265 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c9_i32_297 : BitVec 32 := 9#32
  let v666 : BitVec 32 := Scalar.addi v382 c9_i32_297
  let v667 : Index := Scalar.indexCast v666
  let c96_298 : Index := 96#32
  ![v667.toNat, 96]
def k0_off266 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c9_i32_301 : BitVec 32 := 9#32
  let v674 : BitVec 32 := Scalar.addi v382 c9_i32_301
  let v675 : Index := Scalar.indexCast v674
  let c112_302 : Index := 112#32
  ![v675.toNat, 112]
def k0_off267 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c9_i32 : BitVec 32 := 9#32
  let v556 : BitVec 32 := Scalar.addi v382 c9_i32
  let v557 : Index := Scalar.indexCast v556
  let c0_248 : Index := 0#32
  ![v557.toNat, 0]
def k0_off268 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c9_i32_253 : BitVec 32 := 9#32
  let v568 : BitVec 32 := Scalar.addi v382 c9_i32_253
  let v569 : Index := Scalar.indexCast v568
  let c16_254 : Index := 16#32
  ![v569.toNat, 16]
def k0_off269 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c9_i32_259 : BitVec 32 := 9#32
  let v580 : BitVec 32 := Scalar.addi v382 c9_i32_259
  let v581 : Index := Scalar.indexCast v580
  let c32_260 : Index := 32#32
  ![v581.toNat, 32]
def k0_off270 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c9_i32_265 : BitVec 32 := 9#32
  let v592 : BitVec 32 := Scalar.addi v382 c9_i32_265
  let v593 : Index := Scalar.indexCast v592
  let c48_266 : Index := 48#32
  ![v593.toNat, 48]
def k0_off271 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c9_i32_271 : BitVec 32 := 9#32
  let v604 : BitVec 32 := Scalar.addi v382 c9_i32_271
  let v605 : Index := Scalar.indexCast v604
  let c64_272 : Index := 64#32
  ![v605.toNat, 64]
def k0_off272 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c9_i32_277 : BitVec 32 := 9#32
  let v616 : BitVec 32 := Scalar.addi v382 c9_i32_277
  let v617 : Index := Scalar.indexCast v616
  let c80_278 : Index := 80#32
  ![v617.toNat, 80]
def k0_off273 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c9_i32_283 : BitVec 32 := 9#32
  let v628 : BitVec 32 := Scalar.addi v382 c9_i32_283
  let v629 : Index := Scalar.indexCast v628
  let c96_284 : Index := 96#32
  ![v629.toNat, 96]
def k0_off274 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c9_i32_289 : BitVec 32 := 9#32
  let v640 : BitVec 32 := Scalar.addi v382 c9_i32_289
  let v641 : Index := Scalar.indexCast v640
  let c112_290 : Index := 112#32
  ![v641.toNat, 112]
def k0_off275 (v496 : BitVec 32) : Fin 2 → Nat :=
  let c0_i32_246 : BitVec 32 := 0#32
  let v553 : BitVec 32 := Scalar.maxsi v496 c0_i32_246
  let v557 : Index := Scalar.indexCast v553
  let c0_249 : Index := 0#32
  ![v557.toNat, 0]
def k0_cond23 (v494 : BitVec 32) (v496 : BitVec 32) : BitVec 1 :=
  let v497 : BitVec 1 := Scalar.cmpi .ne v494 v496
  let v498 : BitVec 32 := Scalar.extui v497
  let c0_i32_229 : BitVec 32 := 0#32
  let v499 : BitVec 1 := Scalar.cmpi .ne v498 c0_i32_229
  v499

def k0_off276 (v496 : BitVec 32) : Fin 2 → Nat :=
  let c0_i32_246 : BitVec 32 := 0#32
  let v553 : BitVec 32 := Scalar.maxsi v496 c0_i32_246
  let v564 : Index := Scalar.indexCast v553
  let c16_252 : Index := 16#32
  ![v564.toNat, 16]
def k0_off277 (v496 : BitVec 32) : Fin 2 → Nat :=
  let c0_i32_246 : BitVec 32 := 0#32
  let v553 : BitVec 32 := Scalar.maxsi v496 c0_i32_246
  let v571 : Index := Scalar.indexCast v553
  let c32_255 : Index := 32#32
  ![v571.toNat, 32]
def k0_off278 (v496 : BitVec 32) : Fin 2 → Nat :=
  let c0_i32_246 : BitVec 32 := 0#32
  let v553 : BitVec 32 := Scalar.maxsi v496 c0_i32_246
  let v578 : Index := Scalar.indexCast v553
  let c48_258 : Index := 48#32
  ![v578.toNat, 48]
def k0_off279 (v496 : BitVec 32) : Fin 2 → Nat :=
  let c0_i32_246 : BitVec 32 := 0#32
  let v553 : BitVec 32 := Scalar.maxsi v496 c0_i32_246
  let v585 : Index := Scalar.indexCast v553
  let c64_261 : Index := 64#32
  ![v585.toNat, 64]
def k0_off280 (v496 : BitVec 32) : Fin 2 → Nat :=
  let c0_i32_246 : BitVec 32 := 0#32
  let v553 : BitVec 32 := Scalar.maxsi v496 c0_i32_246
  let v592 : Index := Scalar.indexCast v553
  let c80_264 : Index := 80#32
  ![v592.toNat, 80]
def k0_off281 (v496 : BitVec 32) : Fin 2 → Nat :=
  let c0_i32_246 : BitVec 32 := 0#32
  let v553 : BitVec 32 := Scalar.maxsi v496 c0_i32_246
  let v599 : Index := Scalar.indexCast v553
  let c96_267 : Index := 96#32
  ![v599.toNat, 96]
def k0_off282 (v496 : BitVec 32) : Fin 2 → Nat :=
  let c0_i32_246 : BitVec 32 := 0#32
  let v553 : BitVec 32 := Scalar.maxsi v496 c0_i32_246
  let v606 : Index := Scalar.indexCast v553
  let c112_270 : Index := 112#32
  ![v606.toNat, 112]
def k0_off283 (v496 : BitVec 32) : Fin 1 → Nat :=
  let c0_i32_246 : BitVec 32 := 0#32
  let v553 : BitVec 32 := Scalar.maxsi v496 c0_i32_246
  let c16_i32_273 : BitVec 32 := 16#32
  let v613 : BitVec 32 := Scalar.muli v553 c16_i32_273
  let v614 : Index := Scalar.indexCast v613
  ![v614.toNat]

def k0_chk11 (v379 : BitVec 32) (v381 : BitVec 32) (v384 : BitVec 32) (v494 : BitVec 32) (v496 : BitVec 32) : Prop :=
  (∀ (k0_h2 : k0_cond2 v379 v381 v384 = 1#1), ∀ (k0_h23 : k0_cond23 v494 v496 = 1#1), ∀ a, (k0_off275 v496) a + S1x16.size a ≤ S512x128.size a) ∧
  (∀ (k0_h2 : k0_cond2 v379 v381 v384 = 1#1), ∀ (k0_h23 : k0_cond23 v494 v496 = 1#1), ∀ a, (k0_off276 v496) a + S1x16.size a ≤ S512x128.size a) ∧
  (∀ (k0_h2 : k0_cond2 v379 v381 v384 = 1#1), ∀ (k0_h23 : k0_cond23 v494 v496 = 1#1), ∀ a, (k0_off277 v496) a + S1x16.size a ≤ S512x128.size a) ∧
  (∀ (k0_h2 : k0_cond2 v379 v381 v384 = 1#1), ∀ (k0_h23 : k0_cond23 v494 v496 = 1#1), ∀ a, (k0_off278 v496) a + S1x16.size a ≤ S512x128.size a) ∧
  (∀ (k0_h2 : k0_cond2 v379 v381 v384 = 1#1), ∀ (k0_h23 : k0_cond23 v494 v496 = 1#1), ∀ a, (k0_off279 v496) a + S1x16.size a ≤ S512x128.size a) ∧
  (∀ (k0_h2 : k0_cond2 v379 v381 v384 = 1#1), ∀ (k0_h23 : k0_cond23 v494 v496 = 1#1), ∀ a, (k0_off280 v496) a + S1x16.size a ≤ S512x128.size a) ∧
  (∀ (k0_h2 : k0_cond2 v379 v381 v384 = 1#1), ∀ (k0_h23 : k0_cond23 v494 v496 = 1#1), ∀ a, (k0_off281 v496) a + S1x16.size a ≤ S512x128.size a) ∧
  (∀ (k0_h2 : k0_cond2 v379 v381 v384 = 1#1), ∀ (k0_h23 : k0_cond23 v494 v496 = 1#1), ∀ a, (k0_off282 v496) a + S1x16.size a ≤ S512x128.size a) ∧
  (∀ (k0_h2 : k0_cond2 v379 v381 v384 = 1#1), ∀ (k0_h23 : k0_cond23 v494 v496 = 1#1), ∀ a, (k0_off283 v496) a + S16.size a ≤ S8192.size a)
theorem k0_off275_inb : ∀ (v379 : BitVec 32) (v381 : BitVec 32) (v384 : BitVec 32) (v494 : BitVec 32) (v496 : BitVec 32) (k0_hw11 : k0_chk11 v379 v381 v384 v494 v496), ∀ (k0_h2 : k0_cond2 v379 v381 v384 = 1#1), ∀ (k0_h23 : k0_cond23 v494 v496 = 1#1), ∀ a, (k0_off275 v496) a + S1x16.size a ≤ S512x128.size a := fun v379 v381 v384 v494 v496 k0_hw11 k0_h2 k0_h23 => k0_hw11.1 k0_h2 k0_h23
theorem k0_off276_inb : ∀ (v379 : BitVec 32) (v381 : BitVec 32) (v384 : BitVec 32) (v494 : BitVec 32) (v496 : BitVec 32) (k0_hw11 : k0_chk11 v379 v381 v384 v494 v496), ∀ (k0_h2 : k0_cond2 v379 v381 v384 = 1#1), ∀ (k0_h23 : k0_cond23 v494 v496 = 1#1), ∀ a, (k0_off276 v496) a + S1x16.size a ≤ S512x128.size a := fun v379 v381 v384 v494 v496 k0_hw11 k0_h2 k0_h23 => k0_hw11.2.1 k0_h2 k0_h23
theorem k0_off277_inb : ∀ (v379 : BitVec 32) (v381 : BitVec 32) (v384 : BitVec 32) (v494 : BitVec 32) (v496 : BitVec 32) (k0_hw11 : k0_chk11 v379 v381 v384 v494 v496), ∀ (k0_h2 : k0_cond2 v379 v381 v384 = 1#1), ∀ (k0_h23 : k0_cond23 v494 v496 = 1#1), ∀ a, (k0_off277 v496) a + S1x16.size a ≤ S512x128.size a := fun v379 v381 v384 v494 v496 k0_hw11 k0_h2 k0_h23 => k0_hw11.2.2.1 k0_h2 k0_h23
theorem k0_off278_inb : ∀ (v379 : BitVec 32) (v381 : BitVec 32) (v384 : BitVec 32) (v494 : BitVec 32) (v496 : BitVec 32) (k0_hw11 : k0_chk11 v379 v381 v384 v494 v496), ∀ (k0_h2 : k0_cond2 v379 v381 v384 = 1#1), ∀ (k0_h23 : k0_cond23 v494 v496 = 1#1), ∀ a, (k0_off278 v496) a + S1x16.size a ≤ S512x128.size a := fun v379 v381 v384 v494 v496 k0_hw11 k0_h2 k0_h23 => k0_hw11.2.2.2.1 k0_h2 k0_h23
theorem k0_off279_inb : ∀ (v379 : BitVec 32) (v381 : BitVec 32) (v384 : BitVec 32) (v494 : BitVec 32) (v496 : BitVec 32) (k0_hw11 : k0_chk11 v379 v381 v384 v494 v496), ∀ (k0_h2 : k0_cond2 v379 v381 v384 = 1#1), ∀ (k0_h23 : k0_cond23 v494 v496 = 1#1), ∀ a, (k0_off279 v496) a + S1x16.size a ≤ S512x128.size a := fun v379 v381 v384 v494 v496 k0_hw11 k0_h2 k0_h23 => k0_hw11.2.2.2.2.1 k0_h2 k0_h23
theorem k0_off280_inb : ∀ (v379 : BitVec 32) (v381 : BitVec 32) (v384 : BitVec 32) (v494 : BitVec 32) (v496 : BitVec 32) (k0_hw11 : k0_chk11 v379 v381 v384 v494 v496), ∀ (k0_h2 : k0_cond2 v379 v381 v384 = 1#1), ∀ (k0_h23 : k0_cond23 v494 v496 = 1#1), ∀ a, (k0_off280 v496) a + S1x16.size a ≤ S512x128.size a := fun v379 v381 v384 v494 v496 k0_hw11 k0_h2 k0_h23 => k0_hw11.2.2.2.2.2.1 k0_h2 k0_h23
theorem k0_off281_inb : ∀ (v379 : BitVec 32) (v381 : BitVec 32) (v384 : BitVec 32) (v494 : BitVec 32) (v496 : BitVec 32) (k0_hw11 : k0_chk11 v379 v381 v384 v494 v496), ∀ (k0_h2 : k0_cond2 v379 v381 v384 = 1#1), ∀ (k0_h23 : k0_cond23 v494 v496 = 1#1), ∀ a, (k0_off281 v496) a + S1x16.size a ≤ S512x128.size a := fun v379 v381 v384 v494 v496 k0_hw11 k0_h2 k0_h23 => k0_hw11.2.2.2.2.2.2.1 k0_h2 k0_h23
theorem k0_off282_inb : ∀ (v379 : BitVec 32) (v381 : BitVec 32) (v384 : BitVec 32) (v494 : BitVec 32) (v496 : BitVec 32) (k0_hw11 : k0_chk11 v379 v381 v384 v494 v496), ∀ (k0_h2 : k0_cond2 v379 v381 v384 = 1#1), ∀ (k0_h23 : k0_cond23 v494 v496 = 1#1), ∀ a, (k0_off282 v496) a + S1x16.size a ≤ S512x128.size a := fun v379 v381 v384 v494 v496 k0_hw11 k0_h2 k0_h23 => k0_hw11.2.2.2.2.2.2.2.1 k0_h2 k0_h23
theorem k0_off283_inb : ∀ (v379 : BitVec 32) (v381 : BitVec 32) (v384 : BitVec 32) (v494 : BitVec 32) (v496 : BitVec 32) (k0_hw11 : k0_chk11 v379 v381 v384 v494 v496), ∀ (k0_h2 : k0_cond2 v379 v381 v384 = 1#1), ∀ (k0_h23 : k0_cond23 v494 v496 = 1#1), ∀ a, (k0_off283 v496) a + S16.size a ≤ S8192.size a := fun v379 v381 v384 v494 v496 k0_hw11 k0_h2 k0_h23 => k0_hw11.2.2.2.2.2.2.2.2 k0_h2 k0_h23

def k0_off284 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c10_i32 : BitVec 32 := 10#32
  let v618 : BitVec 32 := Scalar.addi v382 c10_i32
  let v619 : Index := Scalar.indexCast v618
  let c0_274 : Index := 0#32
  ![v619.toNat, 0]
def k0_off285 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c10_i32_277 : BitVec 32 := 10#32
  let v626 : BitVec 32 := Scalar.addi v382 c10_i32_277
  let v627 : Index := Scalar.indexCast v626
  let c16_278 : Index := 16#32
  ![v627.toNat, 16]
def k0_off286 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c10_i32_281 : BitVec 32 := 10#32
  let v634 : BitVec 32 := Scalar.addi v382 c10_i32_281
  let v635 : Index := Scalar.indexCast v634
  let c32_282 : Index := 32#32
  ![v635.toNat, 32]
def k0_off287 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c10_i32_285 : BitVec 32 := 10#32
  let v642 : BitVec 32 := Scalar.addi v382 c10_i32_285
  let v643 : Index := Scalar.indexCast v642
  let c48_286 : Index := 48#32
  ![v643.toNat, 48]
def k0_off288 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c10_i32_289 : BitVec 32 := 10#32
  let v650 : BitVec 32 := Scalar.addi v382 c10_i32_289
  let v651 : Index := Scalar.indexCast v650
  let c64_290 : Index := 64#32
  ![v651.toNat, 64]
def k0_off289 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c10_i32_293 : BitVec 32 := 10#32
  let v658 : BitVec 32 := Scalar.addi v382 c10_i32_293
  let v659 : Index := Scalar.indexCast v658
  let c80_294 : Index := 80#32
  ![v659.toNat, 80]
def k0_off290 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c10_i32_297 : BitVec 32 := 10#32
  let v666 : BitVec 32 := Scalar.addi v382 c10_i32_297
  let v667 : Index := Scalar.indexCast v666
  let c96_298 : Index := 96#32
  ![v667.toNat, 96]
def k0_off291 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c10_i32_301 : BitVec 32 := 10#32
  let v674 : BitVec 32 := Scalar.addi v382 c10_i32_301
  let v675 : Index := Scalar.indexCast v674
  let c112_302 : Index := 112#32
  ![v675.toNat, 112]
def k0_off292 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c10_i32 : BitVec 32 := 10#32
  let v556 : BitVec 32 := Scalar.addi v382 c10_i32
  let v557 : Index := Scalar.indexCast v556
  let c0_248 : Index := 0#32
  ![v557.toNat, 0]
def k0_off293 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c10_i32_253 : BitVec 32 := 10#32
  let v568 : BitVec 32 := Scalar.addi v382 c10_i32_253
  let v569 : Index := Scalar.indexCast v568
  let c16_254 : Index := 16#32
  ![v569.toNat, 16]
def k0_off294 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c10_i32_259 : BitVec 32 := 10#32
  let v580 : BitVec 32 := Scalar.addi v382 c10_i32_259
  let v581 : Index := Scalar.indexCast v580
  let c32_260 : Index := 32#32
  ![v581.toNat, 32]
def k0_off295 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c10_i32_265 : BitVec 32 := 10#32
  let v592 : BitVec 32 := Scalar.addi v382 c10_i32_265
  let v593 : Index := Scalar.indexCast v592
  let c48_266 : Index := 48#32
  ![v593.toNat, 48]
def k0_off296 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c10_i32_271 : BitVec 32 := 10#32
  let v604 : BitVec 32 := Scalar.addi v382 c10_i32_271
  let v605 : Index := Scalar.indexCast v604
  let c64_272 : Index := 64#32
  ![v605.toNat, 64]
def k0_off297 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c10_i32_277 : BitVec 32 := 10#32
  let v616 : BitVec 32 := Scalar.addi v382 c10_i32_277
  let v617 : Index := Scalar.indexCast v616
  let c80_278 : Index := 80#32
  ![v617.toNat, 80]
def k0_off298 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c10_i32_283 : BitVec 32 := 10#32
  let v628 : BitVec 32 := Scalar.addi v382 c10_i32_283
  let v629 : Index := Scalar.indexCast v628
  let c96_284 : Index := 96#32
  ![v629.toNat, 96]
def k0_off299 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c10_i32_289 : BitVec 32 := 10#32
  let v640 : BitVec 32 := Scalar.addi v382 c10_i32_289
  let v641 : Index := Scalar.indexCast v640
  let c112_290 : Index := 112#32
  ![v641.toNat, 112]
def k0_off300 (v506 : BitVec 32) : Fin 2 → Nat :=
  let c0_i32_246 : BitVec 32 := 0#32
  let v553 : BitVec 32 := Scalar.maxsi v506 c0_i32_246
  let v557 : Index := Scalar.indexCast v553
  let c0_249 : Index := 0#32
  ![v557.toNat, 0]
def k0_cond25 (v504 : BitVec 32) (v506 : BitVec 32) : BitVec 1 :=
  let v507 : BitVec 1 := Scalar.cmpi .ne v504 v506
  let v508 : BitVec 32 := Scalar.extui v507
  let c0_i32_232 : BitVec 32 := 0#32
  let v509 : BitVec 1 := Scalar.cmpi .ne v508 c0_i32_232
  v509

def k0_off301 (v506 : BitVec 32) : Fin 2 → Nat :=
  let c0_i32_246 : BitVec 32 := 0#32
  let v553 : BitVec 32 := Scalar.maxsi v506 c0_i32_246
  let v564 : Index := Scalar.indexCast v553
  let c16_252 : Index := 16#32
  ![v564.toNat, 16]
def k0_off302 (v506 : BitVec 32) : Fin 2 → Nat :=
  let c0_i32_246 : BitVec 32 := 0#32
  let v553 : BitVec 32 := Scalar.maxsi v506 c0_i32_246
  let v571 : Index := Scalar.indexCast v553
  let c32_255 : Index := 32#32
  ![v571.toNat, 32]
def k0_off303 (v506 : BitVec 32) : Fin 2 → Nat :=
  let c0_i32_246 : BitVec 32 := 0#32
  let v553 : BitVec 32 := Scalar.maxsi v506 c0_i32_246
  let v578 : Index := Scalar.indexCast v553
  let c48_258 : Index := 48#32
  ![v578.toNat, 48]
def k0_off304 (v506 : BitVec 32) : Fin 2 → Nat :=
  let c0_i32_246 : BitVec 32 := 0#32
  let v553 : BitVec 32 := Scalar.maxsi v506 c0_i32_246
  let v585 : Index := Scalar.indexCast v553
  let c64_261 : Index := 64#32
  ![v585.toNat, 64]
def k0_off305 (v506 : BitVec 32) : Fin 2 → Nat :=
  let c0_i32_246 : BitVec 32 := 0#32
  let v553 : BitVec 32 := Scalar.maxsi v506 c0_i32_246
  let v592 : Index := Scalar.indexCast v553
  let c80_264 : Index := 80#32
  ![v592.toNat, 80]
def k0_off306 (v506 : BitVec 32) : Fin 2 → Nat :=
  let c0_i32_246 : BitVec 32 := 0#32
  let v553 : BitVec 32 := Scalar.maxsi v506 c0_i32_246
  let v599 : Index := Scalar.indexCast v553
  let c96_267 : Index := 96#32
  ![v599.toNat, 96]
def k0_off307 (v506 : BitVec 32) : Fin 2 → Nat :=
  let c0_i32_246 : BitVec 32 := 0#32
  let v553 : BitVec 32 := Scalar.maxsi v506 c0_i32_246
  let v606 : Index := Scalar.indexCast v553
  let c112_270 : Index := 112#32
  ![v606.toNat, 112]
def k0_off308 (v506 : BitVec 32) : Fin 1 → Nat :=
  let c0_i32_246 : BitVec 32 := 0#32
  let v553 : BitVec 32 := Scalar.maxsi v506 c0_i32_246
  let c16_i32_273 : BitVec 32 := 16#32
  let v613 : BitVec 32 := Scalar.muli v553 c16_i32_273
  let v614 : Index := Scalar.indexCast v613
  ![v614.toNat]

def k0_chk12 (v379 : BitVec 32) (v381 : BitVec 32) (v384 : BitVec 32) (v504 : BitVec 32) (v506 : BitVec 32) : Prop :=
  (∀ (k0_h2 : k0_cond2 v379 v381 v384 = 1#1), ∀ (k0_h25 : k0_cond25 v504 v506 = 1#1), ∀ a, (k0_off300 v506) a + S1x16.size a ≤ S512x128.size a) ∧
  (∀ (k0_h2 : k0_cond2 v379 v381 v384 = 1#1), ∀ (k0_h25 : k0_cond25 v504 v506 = 1#1), ∀ a, (k0_off301 v506) a + S1x16.size a ≤ S512x128.size a) ∧
  (∀ (k0_h2 : k0_cond2 v379 v381 v384 = 1#1), ∀ (k0_h25 : k0_cond25 v504 v506 = 1#1), ∀ a, (k0_off302 v506) a + S1x16.size a ≤ S512x128.size a) ∧
  (∀ (k0_h2 : k0_cond2 v379 v381 v384 = 1#1), ∀ (k0_h25 : k0_cond25 v504 v506 = 1#1), ∀ a, (k0_off303 v506) a + S1x16.size a ≤ S512x128.size a) ∧
  (∀ (k0_h2 : k0_cond2 v379 v381 v384 = 1#1), ∀ (k0_h25 : k0_cond25 v504 v506 = 1#1), ∀ a, (k0_off304 v506) a + S1x16.size a ≤ S512x128.size a) ∧
  (∀ (k0_h2 : k0_cond2 v379 v381 v384 = 1#1), ∀ (k0_h25 : k0_cond25 v504 v506 = 1#1), ∀ a, (k0_off305 v506) a + S1x16.size a ≤ S512x128.size a) ∧
  (∀ (k0_h2 : k0_cond2 v379 v381 v384 = 1#1), ∀ (k0_h25 : k0_cond25 v504 v506 = 1#1), ∀ a, (k0_off306 v506) a + S1x16.size a ≤ S512x128.size a) ∧
  (∀ (k0_h2 : k0_cond2 v379 v381 v384 = 1#1), ∀ (k0_h25 : k0_cond25 v504 v506 = 1#1), ∀ a, (k0_off307 v506) a + S1x16.size a ≤ S512x128.size a) ∧
  (∀ (k0_h2 : k0_cond2 v379 v381 v384 = 1#1), ∀ (k0_h25 : k0_cond25 v504 v506 = 1#1), ∀ a, (k0_off308 v506) a + S16.size a ≤ S8192.size a)
theorem k0_off300_inb : ∀ (v379 : BitVec 32) (v381 : BitVec 32) (v384 : BitVec 32) (v504 : BitVec 32) (v506 : BitVec 32) (k0_hw12 : k0_chk12 v379 v381 v384 v504 v506), ∀ (k0_h2 : k0_cond2 v379 v381 v384 = 1#1), ∀ (k0_h25 : k0_cond25 v504 v506 = 1#1), ∀ a, (k0_off300 v506) a + S1x16.size a ≤ S512x128.size a := fun v379 v381 v384 v504 v506 k0_hw12 k0_h2 k0_h25 => k0_hw12.1 k0_h2 k0_h25
theorem k0_off301_inb : ∀ (v379 : BitVec 32) (v381 : BitVec 32) (v384 : BitVec 32) (v504 : BitVec 32) (v506 : BitVec 32) (k0_hw12 : k0_chk12 v379 v381 v384 v504 v506), ∀ (k0_h2 : k0_cond2 v379 v381 v384 = 1#1), ∀ (k0_h25 : k0_cond25 v504 v506 = 1#1), ∀ a, (k0_off301 v506) a + S1x16.size a ≤ S512x128.size a := fun v379 v381 v384 v504 v506 k0_hw12 k0_h2 k0_h25 => k0_hw12.2.1 k0_h2 k0_h25
theorem k0_off302_inb : ∀ (v379 : BitVec 32) (v381 : BitVec 32) (v384 : BitVec 32) (v504 : BitVec 32) (v506 : BitVec 32) (k0_hw12 : k0_chk12 v379 v381 v384 v504 v506), ∀ (k0_h2 : k0_cond2 v379 v381 v384 = 1#1), ∀ (k0_h25 : k0_cond25 v504 v506 = 1#1), ∀ a, (k0_off302 v506) a + S1x16.size a ≤ S512x128.size a := fun v379 v381 v384 v504 v506 k0_hw12 k0_h2 k0_h25 => k0_hw12.2.2.1 k0_h2 k0_h25
theorem k0_off303_inb : ∀ (v379 : BitVec 32) (v381 : BitVec 32) (v384 : BitVec 32) (v504 : BitVec 32) (v506 : BitVec 32) (k0_hw12 : k0_chk12 v379 v381 v384 v504 v506), ∀ (k0_h2 : k0_cond2 v379 v381 v384 = 1#1), ∀ (k0_h25 : k0_cond25 v504 v506 = 1#1), ∀ a, (k0_off303 v506) a + S1x16.size a ≤ S512x128.size a := fun v379 v381 v384 v504 v506 k0_hw12 k0_h2 k0_h25 => k0_hw12.2.2.2.1 k0_h2 k0_h25
theorem k0_off304_inb : ∀ (v379 : BitVec 32) (v381 : BitVec 32) (v384 : BitVec 32) (v504 : BitVec 32) (v506 : BitVec 32) (k0_hw12 : k0_chk12 v379 v381 v384 v504 v506), ∀ (k0_h2 : k0_cond2 v379 v381 v384 = 1#1), ∀ (k0_h25 : k0_cond25 v504 v506 = 1#1), ∀ a, (k0_off304 v506) a + S1x16.size a ≤ S512x128.size a := fun v379 v381 v384 v504 v506 k0_hw12 k0_h2 k0_h25 => k0_hw12.2.2.2.2.1 k0_h2 k0_h25
theorem k0_off305_inb : ∀ (v379 : BitVec 32) (v381 : BitVec 32) (v384 : BitVec 32) (v504 : BitVec 32) (v506 : BitVec 32) (k0_hw12 : k0_chk12 v379 v381 v384 v504 v506), ∀ (k0_h2 : k0_cond2 v379 v381 v384 = 1#1), ∀ (k0_h25 : k0_cond25 v504 v506 = 1#1), ∀ a, (k0_off305 v506) a + S1x16.size a ≤ S512x128.size a := fun v379 v381 v384 v504 v506 k0_hw12 k0_h2 k0_h25 => k0_hw12.2.2.2.2.2.1 k0_h2 k0_h25
theorem k0_off306_inb : ∀ (v379 : BitVec 32) (v381 : BitVec 32) (v384 : BitVec 32) (v504 : BitVec 32) (v506 : BitVec 32) (k0_hw12 : k0_chk12 v379 v381 v384 v504 v506), ∀ (k0_h2 : k0_cond2 v379 v381 v384 = 1#1), ∀ (k0_h25 : k0_cond25 v504 v506 = 1#1), ∀ a, (k0_off306 v506) a + S1x16.size a ≤ S512x128.size a := fun v379 v381 v384 v504 v506 k0_hw12 k0_h2 k0_h25 => k0_hw12.2.2.2.2.2.2.1 k0_h2 k0_h25
theorem k0_off307_inb : ∀ (v379 : BitVec 32) (v381 : BitVec 32) (v384 : BitVec 32) (v504 : BitVec 32) (v506 : BitVec 32) (k0_hw12 : k0_chk12 v379 v381 v384 v504 v506), ∀ (k0_h2 : k0_cond2 v379 v381 v384 = 1#1), ∀ (k0_h25 : k0_cond25 v504 v506 = 1#1), ∀ a, (k0_off307 v506) a + S1x16.size a ≤ S512x128.size a := fun v379 v381 v384 v504 v506 k0_hw12 k0_h2 k0_h25 => k0_hw12.2.2.2.2.2.2.2.1 k0_h2 k0_h25
theorem k0_off308_inb : ∀ (v379 : BitVec 32) (v381 : BitVec 32) (v384 : BitVec 32) (v504 : BitVec 32) (v506 : BitVec 32) (k0_hw12 : k0_chk12 v379 v381 v384 v504 v506), ∀ (k0_h2 : k0_cond2 v379 v381 v384 = 1#1), ∀ (k0_h25 : k0_cond25 v504 v506 = 1#1), ∀ a, (k0_off308 v506) a + S16.size a ≤ S8192.size a := fun v379 v381 v384 v504 v506 k0_hw12 k0_h2 k0_h25 => k0_hw12.2.2.2.2.2.2.2.2 k0_h2 k0_h25

def k0_off309 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c11_i32 : BitVec 32 := 11#32
  let v618 : BitVec 32 := Scalar.addi v382 c11_i32
  let v619 : Index := Scalar.indexCast v618
  let c0_274 : Index := 0#32
  ![v619.toNat, 0]
def k0_off310 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c11_i32_277 : BitVec 32 := 11#32
  let v626 : BitVec 32 := Scalar.addi v382 c11_i32_277
  let v627 : Index := Scalar.indexCast v626
  let c16_278 : Index := 16#32
  ![v627.toNat, 16]
def k0_off311 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c11_i32_281 : BitVec 32 := 11#32
  let v634 : BitVec 32 := Scalar.addi v382 c11_i32_281
  let v635 : Index := Scalar.indexCast v634
  let c32_282 : Index := 32#32
  ![v635.toNat, 32]
def k0_off312 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c11_i32_285 : BitVec 32 := 11#32
  let v642 : BitVec 32 := Scalar.addi v382 c11_i32_285
  let v643 : Index := Scalar.indexCast v642
  let c48_286 : Index := 48#32
  ![v643.toNat, 48]
def k0_off313 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c11_i32_289 : BitVec 32 := 11#32
  let v650 : BitVec 32 := Scalar.addi v382 c11_i32_289
  let v651 : Index := Scalar.indexCast v650
  let c64_290 : Index := 64#32
  ![v651.toNat, 64]
def k0_off314 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c11_i32_293 : BitVec 32 := 11#32
  let v658 : BitVec 32 := Scalar.addi v382 c11_i32_293
  let v659 : Index := Scalar.indexCast v658
  let c80_294 : Index := 80#32
  ![v659.toNat, 80]
def k0_off315 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c11_i32_297 : BitVec 32 := 11#32
  let v666 : BitVec 32 := Scalar.addi v382 c11_i32_297
  let v667 : Index := Scalar.indexCast v666
  let c96_298 : Index := 96#32
  ![v667.toNat, 96]
def k0_off316 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c11_i32_301 : BitVec 32 := 11#32
  let v674 : BitVec 32 := Scalar.addi v382 c11_i32_301
  let v675 : Index := Scalar.indexCast v674
  let c112_302 : Index := 112#32
  ![v675.toNat, 112]
def k0_off317 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c11_i32 : BitVec 32 := 11#32
  let v556 : BitVec 32 := Scalar.addi v382 c11_i32
  let v557 : Index := Scalar.indexCast v556
  let c0_248 : Index := 0#32
  ![v557.toNat, 0]
def k0_off318 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c11_i32_253 : BitVec 32 := 11#32
  let v568 : BitVec 32 := Scalar.addi v382 c11_i32_253
  let v569 : Index := Scalar.indexCast v568
  let c16_254 : Index := 16#32
  ![v569.toNat, 16]
def k0_off319 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c11_i32_259 : BitVec 32 := 11#32
  let v580 : BitVec 32 := Scalar.addi v382 c11_i32_259
  let v581 : Index := Scalar.indexCast v580
  let c32_260 : Index := 32#32
  ![v581.toNat, 32]
def k0_off320 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c11_i32_265 : BitVec 32 := 11#32
  let v592 : BitVec 32 := Scalar.addi v382 c11_i32_265
  let v593 : Index := Scalar.indexCast v592
  let c48_266 : Index := 48#32
  ![v593.toNat, 48]
def k0_off321 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c11_i32_271 : BitVec 32 := 11#32
  let v604 : BitVec 32 := Scalar.addi v382 c11_i32_271
  let v605 : Index := Scalar.indexCast v604
  let c64_272 : Index := 64#32
  ![v605.toNat, 64]
def k0_off322 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c11_i32_277 : BitVec 32 := 11#32
  let v616 : BitVec 32 := Scalar.addi v382 c11_i32_277
  let v617 : Index := Scalar.indexCast v616
  let c80_278 : Index := 80#32
  ![v617.toNat, 80]
def k0_off323 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c11_i32_283 : BitVec 32 := 11#32
  let v628 : BitVec 32 := Scalar.addi v382 c11_i32_283
  let v629 : Index := Scalar.indexCast v628
  let c96_284 : Index := 96#32
  ![v629.toNat, 96]
def k0_off324 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c11_i32_289 : BitVec 32 := 11#32
  let v640 : BitVec 32 := Scalar.addi v382 c11_i32_289
  let v641 : Index := Scalar.indexCast v640
  let c112_290 : Index := 112#32
  ![v641.toNat, 112]
def k0_off325 (v516 : BitVec 32) : Fin 2 → Nat :=
  let c0_i32_246 : BitVec 32 := 0#32
  let v553 : BitVec 32 := Scalar.maxsi v516 c0_i32_246
  let v557 : Index := Scalar.indexCast v553
  let c0_249 : Index := 0#32
  ![v557.toNat, 0]
def k0_cond27 (v514 : BitVec 32) (v516 : BitVec 32) : BitVec 1 :=
  let v517 : BitVec 1 := Scalar.cmpi .ne v514 v516
  let v518 : BitVec 32 := Scalar.extui v517
  let c0_i32_235 : BitVec 32 := 0#32
  let v519 : BitVec 1 := Scalar.cmpi .ne v518 c0_i32_235
  v519

def k0_off326 (v516 : BitVec 32) : Fin 2 → Nat :=
  let c0_i32_246 : BitVec 32 := 0#32
  let v553 : BitVec 32 := Scalar.maxsi v516 c0_i32_246
  let v564 : Index := Scalar.indexCast v553
  let c16_252 : Index := 16#32
  ![v564.toNat, 16]
def k0_off327 (v516 : BitVec 32) : Fin 2 → Nat :=
  let c0_i32_246 : BitVec 32 := 0#32
  let v553 : BitVec 32 := Scalar.maxsi v516 c0_i32_246
  let v571 : Index := Scalar.indexCast v553
  let c32_255 : Index := 32#32
  ![v571.toNat, 32]
def k0_off328 (v516 : BitVec 32) : Fin 2 → Nat :=
  let c0_i32_246 : BitVec 32 := 0#32
  let v553 : BitVec 32 := Scalar.maxsi v516 c0_i32_246
  let v578 : Index := Scalar.indexCast v553
  let c48_258 : Index := 48#32
  ![v578.toNat, 48]
def k0_off329 (v516 : BitVec 32) : Fin 2 → Nat :=
  let c0_i32_246 : BitVec 32 := 0#32
  let v553 : BitVec 32 := Scalar.maxsi v516 c0_i32_246
  let v585 : Index := Scalar.indexCast v553
  let c64_261 : Index := 64#32
  ![v585.toNat, 64]
def k0_off330 (v516 : BitVec 32) : Fin 2 → Nat :=
  let c0_i32_246 : BitVec 32 := 0#32
  let v553 : BitVec 32 := Scalar.maxsi v516 c0_i32_246
  let v592 : Index := Scalar.indexCast v553
  let c80_264 : Index := 80#32
  ![v592.toNat, 80]
def k0_off331 (v516 : BitVec 32) : Fin 2 → Nat :=
  let c0_i32_246 : BitVec 32 := 0#32
  let v553 : BitVec 32 := Scalar.maxsi v516 c0_i32_246
  let v599 : Index := Scalar.indexCast v553
  let c96_267 : Index := 96#32
  ![v599.toNat, 96]
def k0_off332 (v516 : BitVec 32) : Fin 2 → Nat :=
  let c0_i32_246 : BitVec 32 := 0#32
  let v553 : BitVec 32 := Scalar.maxsi v516 c0_i32_246
  let v606 : Index := Scalar.indexCast v553
  let c112_270 : Index := 112#32
  ![v606.toNat, 112]
def k0_off333 (v516 : BitVec 32) : Fin 1 → Nat :=
  let c0_i32_246 : BitVec 32 := 0#32
  let v553 : BitVec 32 := Scalar.maxsi v516 c0_i32_246
  let c16_i32_273 : BitVec 32 := 16#32
  let v613 : BitVec 32 := Scalar.muli v553 c16_i32_273
  let v614 : Index := Scalar.indexCast v613
  ![v614.toNat]

def k0_chk13 (v379 : BitVec 32) (v381 : BitVec 32) (v384 : BitVec 32) (v514 : BitVec 32) (v516 : BitVec 32) : Prop :=
  (∀ (k0_h2 : k0_cond2 v379 v381 v384 = 1#1), ∀ (k0_h27 : k0_cond27 v514 v516 = 1#1), ∀ a, (k0_off325 v516) a + S1x16.size a ≤ S512x128.size a) ∧
  (∀ (k0_h2 : k0_cond2 v379 v381 v384 = 1#1), ∀ (k0_h27 : k0_cond27 v514 v516 = 1#1), ∀ a, (k0_off326 v516) a + S1x16.size a ≤ S512x128.size a) ∧
  (∀ (k0_h2 : k0_cond2 v379 v381 v384 = 1#1), ∀ (k0_h27 : k0_cond27 v514 v516 = 1#1), ∀ a, (k0_off327 v516) a + S1x16.size a ≤ S512x128.size a) ∧
  (∀ (k0_h2 : k0_cond2 v379 v381 v384 = 1#1), ∀ (k0_h27 : k0_cond27 v514 v516 = 1#1), ∀ a, (k0_off328 v516) a + S1x16.size a ≤ S512x128.size a) ∧
  (∀ (k0_h2 : k0_cond2 v379 v381 v384 = 1#1), ∀ (k0_h27 : k0_cond27 v514 v516 = 1#1), ∀ a, (k0_off329 v516) a + S1x16.size a ≤ S512x128.size a) ∧
  (∀ (k0_h2 : k0_cond2 v379 v381 v384 = 1#1), ∀ (k0_h27 : k0_cond27 v514 v516 = 1#1), ∀ a, (k0_off330 v516) a + S1x16.size a ≤ S512x128.size a) ∧
  (∀ (k0_h2 : k0_cond2 v379 v381 v384 = 1#1), ∀ (k0_h27 : k0_cond27 v514 v516 = 1#1), ∀ a, (k0_off331 v516) a + S1x16.size a ≤ S512x128.size a) ∧
  (∀ (k0_h2 : k0_cond2 v379 v381 v384 = 1#1), ∀ (k0_h27 : k0_cond27 v514 v516 = 1#1), ∀ a, (k0_off332 v516) a + S1x16.size a ≤ S512x128.size a) ∧
  (∀ (k0_h2 : k0_cond2 v379 v381 v384 = 1#1), ∀ (k0_h27 : k0_cond27 v514 v516 = 1#1), ∀ a, (k0_off333 v516) a + S16.size a ≤ S8192.size a)
theorem k0_off325_inb : ∀ (v379 : BitVec 32) (v381 : BitVec 32) (v384 : BitVec 32) (v514 : BitVec 32) (v516 : BitVec 32) (k0_hw13 : k0_chk13 v379 v381 v384 v514 v516), ∀ (k0_h2 : k0_cond2 v379 v381 v384 = 1#1), ∀ (k0_h27 : k0_cond27 v514 v516 = 1#1), ∀ a, (k0_off325 v516) a + S1x16.size a ≤ S512x128.size a := fun v379 v381 v384 v514 v516 k0_hw13 k0_h2 k0_h27 => k0_hw13.1 k0_h2 k0_h27
theorem k0_off326_inb : ∀ (v379 : BitVec 32) (v381 : BitVec 32) (v384 : BitVec 32) (v514 : BitVec 32) (v516 : BitVec 32) (k0_hw13 : k0_chk13 v379 v381 v384 v514 v516), ∀ (k0_h2 : k0_cond2 v379 v381 v384 = 1#1), ∀ (k0_h27 : k0_cond27 v514 v516 = 1#1), ∀ a, (k0_off326 v516) a + S1x16.size a ≤ S512x128.size a := fun v379 v381 v384 v514 v516 k0_hw13 k0_h2 k0_h27 => k0_hw13.2.1 k0_h2 k0_h27
theorem k0_off327_inb : ∀ (v379 : BitVec 32) (v381 : BitVec 32) (v384 : BitVec 32) (v514 : BitVec 32) (v516 : BitVec 32) (k0_hw13 : k0_chk13 v379 v381 v384 v514 v516), ∀ (k0_h2 : k0_cond2 v379 v381 v384 = 1#1), ∀ (k0_h27 : k0_cond27 v514 v516 = 1#1), ∀ a, (k0_off327 v516) a + S1x16.size a ≤ S512x128.size a := fun v379 v381 v384 v514 v516 k0_hw13 k0_h2 k0_h27 => k0_hw13.2.2.1 k0_h2 k0_h27
theorem k0_off328_inb : ∀ (v379 : BitVec 32) (v381 : BitVec 32) (v384 : BitVec 32) (v514 : BitVec 32) (v516 : BitVec 32) (k0_hw13 : k0_chk13 v379 v381 v384 v514 v516), ∀ (k0_h2 : k0_cond2 v379 v381 v384 = 1#1), ∀ (k0_h27 : k0_cond27 v514 v516 = 1#1), ∀ a, (k0_off328 v516) a + S1x16.size a ≤ S512x128.size a := fun v379 v381 v384 v514 v516 k0_hw13 k0_h2 k0_h27 => k0_hw13.2.2.2.1 k0_h2 k0_h27
theorem k0_off329_inb : ∀ (v379 : BitVec 32) (v381 : BitVec 32) (v384 : BitVec 32) (v514 : BitVec 32) (v516 : BitVec 32) (k0_hw13 : k0_chk13 v379 v381 v384 v514 v516), ∀ (k0_h2 : k0_cond2 v379 v381 v384 = 1#1), ∀ (k0_h27 : k0_cond27 v514 v516 = 1#1), ∀ a, (k0_off329 v516) a + S1x16.size a ≤ S512x128.size a := fun v379 v381 v384 v514 v516 k0_hw13 k0_h2 k0_h27 => k0_hw13.2.2.2.2.1 k0_h2 k0_h27
theorem k0_off330_inb : ∀ (v379 : BitVec 32) (v381 : BitVec 32) (v384 : BitVec 32) (v514 : BitVec 32) (v516 : BitVec 32) (k0_hw13 : k0_chk13 v379 v381 v384 v514 v516), ∀ (k0_h2 : k0_cond2 v379 v381 v384 = 1#1), ∀ (k0_h27 : k0_cond27 v514 v516 = 1#1), ∀ a, (k0_off330 v516) a + S1x16.size a ≤ S512x128.size a := fun v379 v381 v384 v514 v516 k0_hw13 k0_h2 k0_h27 => k0_hw13.2.2.2.2.2.1 k0_h2 k0_h27
theorem k0_off331_inb : ∀ (v379 : BitVec 32) (v381 : BitVec 32) (v384 : BitVec 32) (v514 : BitVec 32) (v516 : BitVec 32) (k0_hw13 : k0_chk13 v379 v381 v384 v514 v516), ∀ (k0_h2 : k0_cond2 v379 v381 v384 = 1#1), ∀ (k0_h27 : k0_cond27 v514 v516 = 1#1), ∀ a, (k0_off331 v516) a + S1x16.size a ≤ S512x128.size a := fun v379 v381 v384 v514 v516 k0_hw13 k0_h2 k0_h27 => k0_hw13.2.2.2.2.2.2.1 k0_h2 k0_h27
theorem k0_off332_inb : ∀ (v379 : BitVec 32) (v381 : BitVec 32) (v384 : BitVec 32) (v514 : BitVec 32) (v516 : BitVec 32) (k0_hw13 : k0_chk13 v379 v381 v384 v514 v516), ∀ (k0_h2 : k0_cond2 v379 v381 v384 = 1#1), ∀ (k0_h27 : k0_cond27 v514 v516 = 1#1), ∀ a, (k0_off332 v516) a + S1x16.size a ≤ S512x128.size a := fun v379 v381 v384 v514 v516 k0_hw13 k0_h2 k0_h27 => k0_hw13.2.2.2.2.2.2.2.1 k0_h2 k0_h27
theorem k0_off333_inb : ∀ (v379 : BitVec 32) (v381 : BitVec 32) (v384 : BitVec 32) (v514 : BitVec 32) (v516 : BitVec 32) (k0_hw13 : k0_chk13 v379 v381 v384 v514 v516), ∀ (k0_h2 : k0_cond2 v379 v381 v384 = 1#1), ∀ (k0_h27 : k0_cond27 v514 v516 = 1#1), ∀ a, (k0_off333 v516) a + S16.size a ≤ S8192.size a := fun v379 v381 v384 v514 v516 k0_hw13 k0_h2 k0_h27 => k0_hw13.2.2.2.2.2.2.2.2 k0_h2 k0_h27

def k0_off334 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c12_i32 : BitVec 32 := 12#32
  let v618 : BitVec 32 := Scalar.addi v382 c12_i32
  let v619 : Index := Scalar.indexCast v618
  let c0_274 : Index := 0#32
  ![v619.toNat, 0]
def k0_off335 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c12_i32_277 : BitVec 32 := 12#32
  let v626 : BitVec 32 := Scalar.addi v382 c12_i32_277
  let v627 : Index := Scalar.indexCast v626
  let c16_278 : Index := 16#32
  ![v627.toNat, 16]
def k0_off336 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c12_i32_281 : BitVec 32 := 12#32
  let v634 : BitVec 32 := Scalar.addi v382 c12_i32_281
  let v635 : Index := Scalar.indexCast v634
  let c32_282 : Index := 32#32
  ![v635.toNat, 32]
def k0_off337 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c12_i32_285 : BitVec 32 := 12#32
  let v642 : BitVec 32 := Scalar.addi v382 c12_i32_285
  let v643 : Index := Scalar.indexCast v642
  let c48_286 : Index := 48#32
  ![v643.toNat, 48]
def k0_off338 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c12_i32_289 : BitVec 32 := 12#32
  let v650 : BitVec 32 := Scalar.addi v382 c12_i32_289
  let v651 : Index := Scalar.indexCast v650
  let c64_290 : Index := 64#32
  ![v651.toNat, 64]
def k0_off339 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c12_i32_293 : BitVec 32 := 12#32
  let v658 : BitVec 32 := Scalar.addi v382 c12_i32_293
  let v659 : Index := Scalar.indexCast v658
  let c80_294 : Index := 80#32
  ![v659.toNat, 80]
def k0_off340 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c12_i32_297 : BitVec 32 := 12#32
  let v666 : BitVec 32 := Scalar.addi v382 c12_i32_297
  let v667 : Index := Scalar.indexCast v666
  let c96_298 : Index := 96#32
  ![v667.toNat, 96]
def k0_off341 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c12_i32_301 : BitVec 32 := 12#32
  let v674 : BitVec 32 := Scalar.addi v382 c12_i32_301
  let v675 : Index := Scalar.indexCast v674
  let c112_302 : Index := 112#32
  ![v675.toNat, 112]
def k0_off342 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c12_i32 : BitVec 32 := 12#32
  let v556 : BitVec 32 := Scalar.addi v382 c12_i32
  let v557 : Index := Scalar.indexCast v556
  let c0_248 : Index := 0#32
  ![v557.toNat, 0]
def k0_off343 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c12_i32_253 : BitVec 32 := 12#32
  let v568 : BitVec 32 := Scalar.addi v382 c12_i32_253
  let v569 : Index := Scalar.indexCast v568
  let c16_254 : Index := 16#32
  ![v569.toNat, 16]
def k0_off344 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c12_i32_259 : BitVec 32 := 12#32
  let v580 : BitVec 32 := Scalar.addi v382 c12_i32_259
  let v581 : Index := Scalar.indexCast v580
  let c32_260 : Index := 32#32
  ![v581.toNat, 32]
def k0_off345 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c12_i32_265 : BitVec 32 := 12#32
  let v592 : BitVec 32 := Scalar.addi v382 c12_i32_265
  let v593 : Index := Scalar.indexCast v592
  let c48_266 : Index := 48#32
  ![v593.toNat, 48]
def k0_off346 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c12_i32_271 : BitVec 32 := 12#32
  let v604 : BitVec 32 := Scalar.addi v382 c12_i32_271
  let v605 : Index := Scalar.indexCast v604
  let c64_272 : Index := 64#32
  ![v605.toNat, 64]
def k0_off347 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c12_i32_277 : BitVec 32 := 12#32
  let v616 : BitVec 32 := Scalar.addi v382 c12_i32_277
  let v617 : Index := Scalar.indexCast v616
  let c80_278 : Index := 80#32
  ![v617.toNat, 80]
def k0_off348 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c12_i32_283 : BitVec 32 := 12#32
  let v628 : BitVec 32 := Scalar.addi v382 c12_i32_283
  let v629 : Index := Scalar.indexCast v628
  let c96_284 : Index := 96#32
  ![v629.toNat, 96]
def k0_off349 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c12_i32_289 : BitVec 32 := 12#32
  let v640 : BitVec 32 := Scalar.addi v382 c12_i32_289
  let v641 : Index := Scalar.indexCast v640
  let c112_290 : Index := 112#32
  ![v641.toNat, 112]
def k0_off350 (v526 : BitVec 32) : Fin 2 → Nat :=
  let c0_i32_246 : BitVec 32 := 0#32
  let v553 : BitVec 32 := Scalar.maxsi v526 c0_i32_246
  let v557 : Index := Scalar.indexCast v553
  let c0_249 : Index := 0#32
  ![v557.toNat, 0]
def k0_cond29 (v524 : BitVec 32) (v526 : BitVec 32) : BitVec 1 :=
  let v527 : BitVec 1 := Scalar.cmpi .ne v524 v526
  let v528 : BitVec 32 := Scalar.extui v527
  let c0_i32_238 : BitVec 32 := 0#32
  let v529 : BitVec 1 := Scalar.cmpi .ne v528 c0_i32_238
  v529

def k0_off351 (v526 : BitVec 32) : Fin 2 → Nat :=
  let c0_i32_246 : BitVec 32 := 0#32
  let v553 : BitVec 32 := Scalar.maxsi v526 c0_i32_246
  let v564 : Index := Scalar.indexCast v553
  let c16_252 : Index := 16#32
  ![v564.toNat, 16]
def k0_off352 (v526 : BitVec 32) : Fin 2 → Nat :=
  let c0_i32_246 : BitVec 32 := 0#32
  let v553 : BitVec 32 := Scalar.maxsi v526 c0_i32_246
  let v571 : Index := Scalar.indexCast v553
  let c32_255 : Index := 32#32
  ![v571.toNat, 32]
def k0_off353 (v526 : BitVec 32) : Fin 2 → Nat :=
  let c0_i32_246 : BitVec 32 := 0#32
  let v553 : BitVec 32 := Scalar.maxsi v526 c0_i32_246
  let v578 : Index := Scalar.indexCast v553
  let c48_258 : Index := 48#32
  ![v578.toNat, 48]
def k0_off354 (v526 : BitVec 32) : Fin 2 → Nat :=
  let c0_i32_246 : BitVec 32 := 0#32
  let v553 : BitVec 32 := Scalar.maxsi v526 c0_i32_246
  let v585 : Index := Scalar.indexCast v553
  let c64_261 : Index := 64#32
  ![v585.toNat, 64]
def k0_off355 (v526 : BitVec 32) : Fin 2 → Nat :=
  let c0_i32_246 : BitVec 32 := 0#32
  let v553 : BitVec 32 := Scalar.maxsi v526 c0_i32_246
  let v592 : Index := Scalar.indexCast v553
  let c80_264 : Index := 80#32
  ![v592.toNat, 80]
def k0_off356 (v526 : BitVec 32) : Fin 2 → Nat :=
  let c0_i32_246 : BitVec 32 := 0#32
  let v553 : BitVec 32 := Scalar.maxsi v526 c0_i32_246
  let v599 : Index := Scalar.indexCast v553
  let c96_267 : Index := 96#32
  ![v599.toNat, 96]
def k0_off357 (v526 : BitVec 32) : Fin 2 → Nat :=
  let c0_i32_246 : BitVec 32 := 0#32
  let v553 : BitVec 32 := Scalar.maxsi v526 c0_i32_246
  let v606 : Index := Scalar.indexCast v553
  let c112_270 : Index := 112#32
  ![v606.toNat, 112]
def k0_off358 (v526 : BitVec 32) : Fin 1 → Nat :=
  let c0_i32_246 : BitVec 32 := 0#32
  let v553 : BitVec 32 := Scalar.maxsi v526 c0_i32_246
  let c16_i32_273 : BitVec 32 := 16#32
  let v613 : BitVec 32 := Scalar.muli v553 c16_i32_273
  let v614 : Index := Scalar.indexCast v613
  ![v614.toNat]

def k0_chk14 (v379 : BitVec 32) (v381 : BitVec 32) (v384 : BitVec 32) (v524 : BitVec 32) (v526 : BitVec 32) : Prop :=
  (∀ (k0_h2 : k0_cond2 v379 v381 v384 = 1#1), ∀ (k0_h29 : k0_cond29 v524 v526 = 1#1), ∀ a, (k0_off350 v526) a + S1x16.size a ≤ S512x128.size a) ∧
  (∀ (k0_h2 : k0_cond2 v379 v381 v384 = 1#1), ∀ (k0_h29 : k0_cond29 v524 v526 = 1#1), ∀ a, (k0_off351 v526) a + S1x16.size a ≤ S512x128.size a) ∧
  (∀ (k0_h2 : k0_cond2 v379 v381 v384 = 1#1), ∀ (k0_h29 : k0_cond29 v524 v526 = 1#1), ∀ a, (k0_off352 v526) a + S1x16.size a ≤ S512x128.size a) ∧
  (∀ (k0_h2 : k0_cond2 v379 v381 v384 = 1#1), ∀ (k0_h29 : k0_cond29 v524 v526 = 1#1), ∀ a, (k0_off353 v526) a + S1x16.size a ≤ S512x128.size a) ∧
  (∀ (k0_h2 : k0_cond2 v379 v381 v384 = 1#1), ∀ (k0_h29 : k0_cond29 v524 v526 = 1#1), ∀ a, (k0_off354 v526) a + S1x16.size a ≤ S512x128.size a) ∧
  (∀ (k0_h2 : k0_cond2 v379 v381 v384 = 1#1), ∀ (k0_h29 : k0_cond29 v524 v526 = 1#1), ∀ a, (k0_off355 v526) a + S1x16.size a ≤ S512x128.size a) ∧
  (∀ (k0_h2 : k0_cond2 v379 v381 v384 = 1#1), ∀ (k0_h29 : k0_cond29 v524 v526 = 1#1), ∀ a, (k0_off356 v526) a + S1x16.size a ≤ S512x128.size a) ∧
  (∀ (k0_h2 : k0_cond2 v379 v381 v384 = 1#1), ∀ (k0_h29 : k0_cond29 v524 v526 = 1#1), ∀ a, (k0_off357 v526) a + S1x16.size a ≤ S512x128.size a) ∧
  (∀ (k0_h2 : k0_cond2 v379 v381 v384 = 1#1), ∀ (k0_h29 : k0_cond29 v524 v526 = 1#1), ∀ a, (k0_off358 v526) a + S16.size a ≤ S8192.size a)
theorem k0_off350_inb : ∀ (v379 : BitVec 32) (v381 : BitVec 32) (v384 : BitVec 32) (v524 : BitVec 32) (v526 : BitVec 32) (k0_hw14 : k0_chk14 v379 v381 v384 v524 v526), ∀ (k0_h2 : k0_cond2 v379 v381 v384 = 1#1), ∀ (k0_h29 : k0_cond29 v524 v526 = 1#1), ∀ a, (k0_off350 v526) a + S1x16.size a ≤ S512x128.size a := fun v379 v381 v384 v524 v526 k0_hw14 k0_h2 k0_h29 => k0_hw14.1 k0_h2 k0_h29
theorem k0_off351_inb : ∀ (v379 : BitVec 32) (v381 : BitVec 32) (v384 : BitVec 32) (v524 : BitVec 32) (v526 : BitVec 32) (k0_hw14 : k0_chk14 v379 v381 v384 v524 v526), ∀ (k0_h2 : k0_cond2 v379 v381 v384 = 1#1), ∀ (k0_h29 : k0_cond29 v524 v526 = 1#1), ∀ a, (k0_off351 v526) a + S1x16.size a ≤ S512x128.size a := fun v379 v381 v384 v524 v526 k0_hw14 k0_h2 k0_h29 => k0_hw14.2.1 k0_h2 k0_h29
theorem k0_off352_inb : ∀ (v379 : BitVec 32) (v381 : BitVec 32) (v384 : BitVec 32) (v524 : BitVec 32) (v526 : BitVec 32) (k0_hw14 : k0_chk14 v379 v381 v384 v524 v526), ∀ (k0_h2 : k0_cond2 v379 v381 v384 = 1#1), ∀ (k0_h29 : k0_cond29 v524 v526 = 1#1), ∀ a, (k0_off352 v526) a + S1x16.size a ≤ S512x128.size a := fun v379 v381 v384 v524 v526 k0_hw14 k0_h2 k0_h29 => k0_hw14.2.2.1 k0_h2 k0_h29
theorem k0_off353_inb : ∀ (v379 : BitVec 32) (v381 : BitVec 32) (v384 : BitVec 32) (v524 : BitVec 32) (v526 : BitVec 32) (k0_hw14 : k0_chk14 v379 v381 v384 v524 v526), ∀ (k0_h2 : k0_cond2 v379 v381 v384 = 1#1), ∀ (k0_h29 : k0_cond29 v524 v526 = 1#1), ∀ a, (k0_off353 v526) a + S1x16.size a ≤ S512x128.size a := fun v379 v381 v384 v524 v526 k0_hw14 k0_h2 k0_h29 => k0_hw14.2.2.2.1 k0_h2 k0_h29
theorem k0_off354_inb : ∀ (v379 : BitVec 32) (v381 : BitVec 32) (v384 : BitVec 32) (v524 : BitVec 32) (v526 : BitVec 32) (k0_hw14 : k0_chk14 v379 v381 v384 v524 v526), ∀ (k0_h2 : k0_cond2 v379 v381 v384 = 1#1), ∀ (k0_h29 : k0_cond29 v524 v526 = 1#1), ∀ a, (k0_off354 v526) a + S1x16.size a ≤ S512x128.size a := fun v379 v381 v384 v524 v526 k0_hw14 k0_h2 k0_h29 => k0_hw14.2.2.2.2.1 k0_h2 k0_h29
theorem k0_off355_inb : ∀ (v379 : BitVec 32) (v381 : BitVec 32) (v384 : BitVec 32) (v524 : BitVec 32) (v526 : BitVec 32) (k0_hw14 : k0_chk14 v379 v381 v384 v524 v526), ∀ (k0_h2 : k0_cond2 v379 v381 v384 = 1#1), ∀ (k0_h29 : k0_cond29 v524 v526 = 1#1), ∀ a, (k0_off355 v526) a + S1x16.size a ≤ S512x128.size a := fun v379 v381 v384 v524 v526 k0_hw14 k0_h2 k0_h29 => k0_hw14.2.2.2.2.2.1 k0_h2 k0_h29
theorem k0_off356_inb : ∀ (v379 : BitVec 32) (v381 : BitVec 32) (v384 : BitVec 32) (v524 : BitVec 32) (v526 : BitVec 32) (k0_hw14 : k0_chk14 v379 v381 v384 v524 v526), ∀ (k0_h2 : k0_cond2 v379 v381 v384 = 1#1), ∀ (k0_h29 : k0_cond29 v524 v526 = 1#1), ∀ a, (k0_off356 v526) a + S1x16.size a ≤ S512x128.size a := fun v379 v381 v384 v524 v526 k0_hw14 k0_h2 k0_h29 => k0_hw14.2.2.2.2.2.2.1 k0_h2 k0_h29
theorem k0_off357_inb : ∀ (v379 : BitVec 32) (v381 : BitVec 32) (v384 : BitVec 32) (v524 : BitVec 32) (v526 : BitVec 32) (k0_hw14 : k0_chk14 v379 v381 v384 v524 v526), ∀ (k0_h2 : k0_cond2 v379 v381 v384 = 1#1), ∀ (k0_h29 : k0_cond29 v524 v526 = 1#1), ∀ a, (k0_off357 v526) a + S1x16.size a ≤ S512x128.size a := fun v379 v381 v384 v524 v526 k0_hw14 k0_h2 k0_h29 => k0_hw14.2.2.2.2.2.2.2.1 k0_h2 k0_h29
theorem k0_off358_inb : ∀ (v379 : BitVec 32) (v381 : BitVec 32) (v384 : BitVec 32) (v524 : BitVec 32) (v526 : BitVec 32) (k0_hw14 : k0_chk14 v379 v381 v384 v524 v526), ∀ (k0_h2 : k0_cond2 v379 v381 v384 = 1#1), ∀ (k0_h29 : k0_cond29 v524 v526 = 1#1), ∀ a, (k0_off358 v526) a + S16.size a ≤ S8192.size a := fun v379 v381 v384 v524 v526 k0_hw14 k0_h2 k0_h29 => k0_hw14.2.2.2.2.2.2.2.2 k0_h2 k0_h29

def k0_off359 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c13_i32 : BitVec 32 := 13#32
  let v618 : BitVec 32 := Scalar.addi v382 c13_i32
  let v619 : Index := Scalar.indexCast v618
  let c0_274 : Index := 0#32
  ![v619.toNat, 0]
def k0_off360 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c13_i32_277 : BitVec 32 := 13#32
  let v626 : BitVec 32 := Scalar.addi v382 c13_i32_277
  let v627 : Index := Scalar.indexCast v626
  let c16_278 : Index := 16#32
  ![v627.toNat, 16]
def k0_off361 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c13_i32_281 : BitVec 32 := 13#32
  let v634 : BitVec 32 := Scalar.addi v382 c13_i32_281
  let v635 : Index := Scalar.indexCast v634
  let c32_282 : Index := 32#32
  ![v635.toNat, 32]
def k0_off362 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c13_i32_285 : BitVec 32 := 13#32
  let v642 : BitVec 32 := Scalar.addi v382 c13_i32_285
  let v643 : Index := Scalar.indexCast v642
  let c48_286 : Index := 48#32
  ![v643.toNat, 48]
def k0_off363 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c13_i32_289 : BitVec 32 := 13#32
  let v650 : BitVec 32 := Scalar.addi v382 c13_i32_289
  let v651 : Index := Scalar.indexCast v650
  let c64_290 : Index := 64#32
  ![v651.toNat, 64]
def k0_off364 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c13_i32_293 : BitVec 32 := 13#32
  let v658 : BitVec 32 := Scalar.addi v382 c13_i32_293
  let v659 : Index := Scalar.indexCast v658
  let c80_294 : Index := 80#32
  ![v659.toNat, 80]
def k0_off365 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c13_i32_297 : BitVec 32 := 13#32
  let v666 : BitVec 32 := Scalar.addi v382 c13_i32_297
  let v667 : Index := Scalar.indexCast v666
  let c96_298 : Index := 96#32
  ![v667.toNat, 96]
def k0_off366 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c13_i32_301 : BitVec 32 := 13#32
  let v674 : BitVec 32 := Scalar.addi v382 c13_i32_301
  let v675 : Index := Scalar.indexCast v674
  let c112_302 : Index := 112#32
  ![v675.toNat, 112]
def k0_off367 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c13_i32 : BitVec 32 := 13#32
  let v556 : BitVec 32 := Scalar.addi v382 c13_i32
  let v557 : Index := Scalar.indexCast v556
  let c0_248 : Index := 0#32
  ![v557.toNat, 0]
def k0_off368 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c13_i32_253 : BitVec 32 := 13#32
  let v568 : BitVec 32 := Scalar.addi v382 c13_i32_253
  let v569 : Index := Scalar.indexCast v568
  let c16_254 : Index := 16#32
  ![v569.toNat, 16]
def k0_off369 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c13_i32_259 : BitVec 32 := 13#32
  let v580 : BitVec 32 := Scalar.addi v382 c13_i32_259
  let v581 : Index := Scalar.indexCast v580
  let c32_260 : Index := 32#32
  ![v581.toNat, 32]
def k0_off370 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c13_i32_265 : BitVec 32 := 13#32
  let v592 : BitVec 32 := Scalar.addi v382 c13_i32_265
  let v593 : Index := Scalar.indexCast v592
  let c48_266 : Index := 48#32
  ![v593.toNat, 48]
def k0_off371 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c13_i32_271 : BitVec 32 := 13#32
  let v604 : BitVec 32 := Scalar.addi v382 c13_i32_271
  let v605 : Index := Scalar.indexCast v604
  let c64_272 : Index := 64#32
  ![v605.toNat, 64]
def k0_off372 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c13_i32_277 : BitVec 32 := 13#32
  let v616 : BitVec 32 := Scalar.addi v382 c13_i32_277
  let v617 : Index := Scalar.indexCast v616
  let c80_278 : Index := 80#32
  ![v617.toNat, 80]
def k0_off373 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c13_i32_283 : BitVec 32 := 13#32
  let v628 : BitVec 32 := Scalar.addi v382 c13_i32_283
  let v629 : Index := Scalar.indexCast v628
  let c96_284 : Index := 96#32
  ![v629.toNat, 96]
def k0_off374 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c13_i32_289 : BitVec 32 := 13#32
  let v640 : BitVec 32 := Scalar.addi v382 c13_i32_289
  let v641 : Index := Scalar.indexCast v640
  let c112_290 : Index := 112#32
  ![v641.toNat, 112]
def k0_off375 (v536 : BitVec 32) : Fin 2 → Nat :=
  let c0_i32_246 : BitVec 32 := 0#32
  let v553 : BitVec 32 := Scalar.maxsi v536 c0_i32_246
  let v557 : Index := Scalar.indexCast v553
  let c0_249 : Index := 0#32
  ![v557.toNat, 0]
def k0_cond31 (v534 : BitVec 32) (v536 : BitVec 32) : BitVec 1 :=
  let v537 : BitVec 1 := Scalar.cmpi .ne v534 v536
  let v538 : BitVec 32 := Scalar.extui v537
  let c0_i32_241 : BitVec 32 := 0#32
  let v539 : BitVec 1 := Scalar.cmpi .ne v538 c0_i32_241
  v539

def k0_off376 (v536 : BitVec 32) : Fin 2 → Nat :=
  let c0_i32_246 : BitVec 32 := 0#32
  let v553 : BitVec 32 := Scalar.maxsi v536 c0_i32_246
  let v564 : Index := Scalar.indexCast v553
  let c16_252 : Index := 16#32
  ![v564.toNat, 16]
def k0_off377 (v536 : BitVec 32) : Fin 2 → Nat :=
  let c0_i32_246 : BitVec 32 := 0#32
  let v553 : BitVec 32 := Scalar.maxsi v536 c0_i32_246
  let v571 : Index := Scalar.indexCast v553
  let c32_255 : Index := 32#32
  ![v571.toNat, 32]
def k0_off378 (v536 : BitVec 32) : Fin 2 → Nat :=
  let c0_i32_246 : BitVec 32 := 0#32
  let v553 : BitVec 32 := Scalar.maxsi v536 c0_i32_246
  let v578 : Index := Scalar.indexCast v553
  let c48_258 : Index := 48#32
  ![v578.toNat, 48]
def k0_off379 (v536 : BitVec 32) : Fin 2 → Nat :=
  let c0_i32_246 : BitVec 32 := 0#32
  let v553 : BitVec 32 := Scalar.maxsi v536 c0_i32_246
  let v585 : Index := Scalar.indexCast v553
  let c64_261 : Index := 64#32
  ![v585.toNat, 64]
def k0_off380 (v536 : BitVec 32) : Fin 2 → Nat :=
  let c0_i32_246 : BitVec 32 := 0#32
  let v553 : BitVec 32 := Scalar.maxsi v536 c0_i32_246
  let v592 : Index := Scalar.indexCast v553
  let c80_264 : Index := 80#32
  ![v592.toNat, 80]
def k0_off381 (v536 : BitVec 32) : Fin 2 → Nat :=
  let c0_i32_246 : BitVec 32 := 0#32
  let v553 : BitVec 32 := Scalar.maxsi v536 c0_i32_246
  let v599 : Index := Scalar.indexCast v553
  let c96_267 : Index := 96#32
  ![v599.toNat, 96]
def k0_off382 (v536 : BitVec 32) : Fin 2 → Nat :=
  let c0_i32_246 : BitVec 32 := 0#32
  let v553 : BitVec 32 := Scalar.maxsi v536 c0_i32_246
  let v606 : Index := Scalar.indexCast v553
  let c112_270 : Index := 112#32
  ![v606.toNat, 112]
def k0_off383 (v536 : BitVec 32) : Fin 1 → Nat :=
  let c0_i32_246 : BitVec 32 := 0#32
  let v553 : BitVec 32 := Scalar.maxsi v536 c0_i32_246
  let c16_i32_273 : BitVec 32 := 16#32
  let v613 : BitVec 32 := Scalar.muli v553 c16_i32_273
  let v614 : Index := Scalar.indexCast v613
  ![v614.toNat]

def k0_chk15 (v379 : BitVec 32) (v381 : BitVec 32) (v384 : BitVec 32) (v534 : BitVec 32) (v536 : BitVec 32) : Prop :=
  (∀ (k0_h2 : k0_cond2 v379 v381 v384 = 1#1), ∀ (k0_h31 : k0_cond31 v534 v536 = 1#1), ∀ a, (k0_off375 v536) a + S1x16.size a ≤ S512x128.size a) ∧
  (∀ (k0_h2 : k0_cond2 v379 v381 v384 = 1#1), ∀ (k0_h31 : k0_cond31 v534 v536 = 1#1), ∀ a, (k0_off376 v536) a + S1x16.size a ≤ S512x128.size a) ∧
  (∀ (k0_h2 : k0_cond2 v379 v381 v384 = 1#1), ∀ (k0_h31 : k0_cond31 v534 v536 = 1#1), ∀ a, (k0_off377 v536) a + S1x16.size a ≤ S512x128.size a) ∧
  (∀ (k0_h2 : k0_cond2 v379 v381 v384 = 1#1), ∀ (k0_h31 : k0_cond31 v534 v536 = 1#1), ∀ a, (k0_off378 v536) a + S1x16.size a ≤ S512x128.size a) ∧
  (∀ (k0_h2 : k0_cond2 v379 v381 v384 = 1#1), ∀ (k0_h31 : k0_cond31 v534 v536 = 1#1), ∀ a, (k0_off379 v536) a + S1x16.size a ≤ S512x128.size a) ∧
  (∀ (k0_h2 : k0_cond2 v379 v381 v384 = 1#1), ∀ (k0_h31 : k0_cond31 v534 v536 = 1#1), ∀ a, (k0_off380 v536) a + S1x16.size a ≤ S512x128.size a) ∧
  (∀ (k0_h2 : k0_cond2 v379 v381 v384 = 1#1), ∀ (k0_h31 : k0_cond31 v534 v536 = 1#1), ∀ a, (k0_off381 v536) a + S1x16.size a ≤ S512x128.size a) ∧
  (∀ (k0_h2 : k0_cond2 v379 v381 v384 = 1#1), ∀ (k0_h31 : k0_cond31 v534 v536 = 1#1), ∀ a, (k0_off382 v536) a + S1x16.size a ≤ S512x128.size a) ∧
  (∀ (k0_h2 : k0_cond2 v379 v381 v384 = 1#1), ∀ (k0_h31 : k0_cond31 v534 v536 = 1#1), ∀ a, (k0_off383 v536) a + S16.size a ≤ S8192.size a)
theorem k0_off375_inb : ∀ (v379 : BitVec 32) (v381 : BitVec 32) (v384 : BitVec 32) (v534 : BitVec 32) (v536 : BitVec 32) (k0_hw15 : k0_chk15 v379 v381 v384 v534 v536), ∀ (k0_h2 : k0_cond2 v379 v381 v384 = 1#1), ∀ (k0_h31 : k0_cond31 v534 v536 = 1#1), ∀ a, (k0_off375 v536) a + S1x16.size a ≤ S512x128.size a := fun v379 v381 v384 v534 v536 k0_hw15 k0_h2 k0_h31 => k0_hw15.1 k0_h2 k0_h31
theorem k0_off376_inb : ∀ (v379 : BitVec 32) (v381 : BitVec 32) (v384 : BitVec 32) (v534 : BitVec 32) (v536 : BitVec 32) (k0_hw15 : k0_chk15 v379 v381 v384 v534 v536), ∀ (k0_h2 : k0_cond2 v379 v381 v384 = 1#1), ∀ (k0_h31 : k0_cond31 v534 v536 = 1#1), ∀ a, (k0_off376 v536) a + S1x16.size a ≤ S512x128.size a := fun v379 v381 v384 v534 v536 k0_hw15 k0_h2 k0_h31 => k0_hw15.2.1 k0_h2 k0_h31
theorem k0_off377_inb : ∀ (v379 : BitVec 32) (v381 : BitVec 32) (v384 : BitVec 32) (v534 : BitVec 32) (v536 : BitVec 32) (k0_hw15 : k0_chk15 v379 v381 v384 v534 v536), ∀ (k0_h2 : k0_cond2 v379 v381 v384 = 1#1), ∀ (k0_h31 : k0_cond31 v534 v536 = 1#1), ∀ a, (k0_off377 v536) a + S1x16.size a ≤ S512x128.size a := fun v379 v381 v384 v534 v536 k0_hw15 k0_h2 k0_h31 => k0_hw15.2.2.1 k0_h2 k0_h31
theorem k0_off378_inb : ∀ (v379 : BitVec 32) (v381 : BitVec 32) (v384 : BitVec 32) (v534 : BitVec 32) (v536 : BitVec 32) (k0_hw15 : k0_chk15 v379 v381 v384 v534 v536), ∀ (k0_h2 : k0_cond2 v379 v381 v384 = 1#1), ∀ (k0_h31 : k0_cond31 v534 v536 = 1#1), ∀ a, (k0_off378 v536) a + S1x16.size a ≤ S512x128.size a := fun v379 v381 v384 v534 v536 k0_hw15 k0_h2 k0_h31 => k0_hw15.2.2.2.1 k0_h2 k0_h31
theorem k0_off379_inb : ∀ (v379 : BitVec 32) (v381 : BitVec 32) (v384 : BitVec 32) (v534 : BitVec 32) (v536 : BitVec 32) (k0_hw15 : k0_chk15 v379 v381 v384 v534 v536), ∀ (k0_h2 : k0_cond2 v379 v381 v384 = 1#1), ∀ (k0_h31 : k0_cond31 v534 v536 = 1#1), ∀ a, (k0_off379 v536) a + S1x16.size a ≤ S512x128.size a := fun v379 v381 v384 v534 v536 k0_hw15 k0_h2 k0_h31 => k0_hw15.2.2.2.2.1 k0_h2 k0_h31
theorem k0_off380_inb : ∀ (v379 : BitVec 32) (v381 : BitVec 32) (v384 : BitVec 32) (v534 : BitVec 32) (v536 : BitVec 32) (k0_hw15 : k0_chk15 v379 v381 v384 v534 v536), ∀ (k0_h2 : k0_cond2 v379 v381 v384 = 1#1), ∀ (k0_h31 : k0_cond31 v534 v536 = 1#1), ∀ a, (k0_off380 v536) a + S1x16.size a ≤ S512x128.size a := fun v379 v381 v384 v534 v536 k0_hw15 k0_h2 k0_h31 => k0_hw15.2.2.2.2.2.1 k0_h2 k0_h31
theorem k0_off381_inb : ∀ (v379 : BitVec 32) (v381 : BitVec 32) (v384 : BitVec 32) (v534 : BitVec 32) (v536 : BitVec 32) (k0_hw15 : k0_chk15 v379 v381 v384 v534 v536), ∀ (k0_h2 : k0_cond2 v379 v381 v384 = 1#1), ∀ (k0_h31 : k0_cond31 v534 v536 = 1#1), ∀ a, (k0_off381 v536) a + S1x16.size a ≤ S512x128.size a := fun v379 v381 v384 v534 v536 k0_hw15 k0_h2 k0_h31 => k0_hw15.2.2.2.2.2.2.1 k0_h2 k0_h31
theorem k0_off382_inb : ∀ (v379 : BitVec 32) (v381 : BitVec 32) (v384 : BitVec 32) (v534 : BitVec 32) (v536 : BitVec 32) (k0_hw15 : k0_chk15 v379 v381 v384 v534 v536), ∀ (k0_h2 : k0_cond2 v379 v381 v384 = 1#1), ∀ (k0_h31 : k0_cond31 v534 v536 = 1#1), ∀ a, (k0_off382 v536) a + S1x16.size a ≤ S512x128.size a := fun v379 v381 v384 v534 v536 k0_hw15 k0_h2 k0_h31 => k0_hw15.2.2.2.2.2.2.2.1 k0_h2 k0_h31
theorem k0_off383_inb : ∀ (v379 : BitVec 32) (v381 : BitVec 32) (v384 : BitVec 32) (v534 : BitVec 32) (v536 : BitVec 32) (k0_hw15 : k0_chk15 v379 v381 v384 v534 v536), ∀ (k0_h2 : k0_cond2 v379 v381 v384 = 1#1), ∀ (k0_h31 : k0_cond31 v534 v536 = 1#1), ∀ a, (k0_off383 v536) a + S16.size a ≤ S8192.size a := fun v379 v381 v384 v534 v536 k0_hw15 k0_h2 k0_h31 => k0_hw15.2.2.2.2.2.2.2.2 k0_h2 k0_h31

def k0_off384 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c14_i32 : BitVec 32 := 14#32
  let v618 : BitVec 32 := Scalar.addi v382 c14_i32
  let v619 : Index := Scalar.indexCast v618
  let c0_274 : Index := 0#32
  ![v619.toNat, 0]
def k0_off385 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c14_i32_277 : BitVec 32 := 14#32
  let v626 : BitVec 32 := Scalar.addi v382 c14_i32_277
  let v627 : Index := Scalar.indexCast v626
  let c16_278 : Index := 16#32
  ![v627.toNat, 16]
def k0_off386 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c14_i32_281 : BitVec 32 := 14#32
  let v634 : BitVec 32 := Scalar.addi v382 c14_i32_281
  let v635 : Index := Scalar.indexCast v634
  let c32_282 : Index := 32#32
  ![v635.toNat, 32]
def k0_off387 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c14_i32_285 : BitVec 32 := 14#32
  let v642 : BitVec 32 := Scalar.addi v382 c14_i32_285
  let v643 : Index := Scalar.indexCast v642
  let c48_286 : Index := 48#32
  ![v643.toNat, 48]
def k0_off388 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c14_i32_289 : BitVec 32 := 14#32
  let v650 : BitVec 32 := Scalar.addi v382 c14_i32_289
  let v651 : Index := Scalar.indexCast v650
  let c64_290 : Index := 64#32
  ![v651.toNat, 64]
def k0_off389 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c14_i32_293 : BitVec 32 := 14#32
  let v658 : BitVec 32 := Scalar.addi v382 c14_i32_293
  let v659 : Index := Scalar.indexCast v658
  let c80_294 : Index := 80#32
  ![v659.toNat, 80]
def k0_off390 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c14_i32_297 : BitVec 32 := 14#32
  let v666 : BitVec 32 := Scalar.addi v382 c14_i32_297
  let v667 : Index := Scalar.indexCast v666
  let c96_298 : Index := 96#32
  ![v667.toNat, 96]
def k0_off391 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c14_i32_301 : BitVec 32 := 14#32
  let v674 : BitVec 32 := Scalar.addi v382 c14_i32_301
  let v675 : Index := Scalar.indexCast v674
  let c112_302 : Index := 112#32
  ![v675.toNat, 112]
def k0_off392 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c14_i32 : BitVec 32 := 14#32
  let v556 : BitVec 32 := Scalar.addi v382 c14_i32
  let v557 : Index := Scalar.indexCast v556
  let c0_248 : Index := 0#32
  ![v557.toNat, 0]
def k0_off393 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c14_i32_253 : BitVec 32 := 14#32
  let v568 : BitVec 32 := Scalar.addi v382 c14_i32_253
  let v569 : Index := Scalar.indexCast v568
  let c16_254 : Index := 16#32
  ![v569.toNat, 16]
def k0_off394 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c14_i32_259 : BitVec 32 := 14#32
  let v580 : BitVec 32 := Scalar.addi v382 c14_i32_259
  let v581 : Index := Scalar.indexCast v580
  let c32_260 : Index := 32#32
  ![v581.toNat, 32]
def k0_off395 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c14_i32_265 : BitVec 32 := 14#32
  let v592 : BitVec 32 := Scalar.addi v382 c14_i32_265
  let v593 : Index := Scalar.indexCast v592
  let c48_266 : Index := 48#32
  ![v593.toNat, 48]
def k0_off396 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c14_i32_271 : BitVec 32 := 14#32
  let v604 : BitVec 32 := Scalar.addi v382 c14_i32_271
  let v605 : Index := Scalar.indexCast v604
  let c64_272 : Index := 64#32
  ![v605.toNat, 64]
def k0_off397 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c14_i32_277 : BitVec 32 := 14#32
  let v616 : BitVec 32 := Scalar.addi v382 c14_i32_277
  let v617 : Index := Scalar.indexCast v616
  let c80_278 : Index := 80#32
  ![v617.toNat, 80]
def k0_off398 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c14_i32_283 : BitVec 32 := 14#32
  let v628 : BitVec 32 := Scalar.addi v382 c14_i32_283
  let v629 : Index := Scalar.indexCast v628
  let c96_284 : Index := 96#32
  ![v629.toNat, 96]
def k0_off399 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c14_i32_289 : BitVec 32 := 14#32
  let v640 : BitVec 32 := Scalar.addi v382 c14_i32_289
  let v641 : Index := Scalar.indexCast v640
  let c112_290 : Index := 112#32
  ![v641.toNat, 112]
def k0_off400 (v546 : BitVec 32) : Fin 2 → Nat :=
  let c0_i32_246 : BitVec 32 := 0#32
  let v553 : BitVec 32 := Scalar.maxsi v546 c0_i32_246
  let v557 : Index := Scalar.indexCast v553
  let c0_249 : Index := 0#32
  ![v557.toNat, 0]
def k0_cond33 (v544 : BitVec 32) (v546 : BitVec 32) : BitVec 1 :=
  let v547 : BitVec 1 := Scalar.cmpi .ne v544 v546
  let v548 : BitVec 32 := Scalar.extui v547
  let c0_i32_244 : BitVec 32 := 0#32
  let v549 : BitVec 1 := Scalar.cmpi .ne v548 c0_i32_244
  v549

def k0_off401 (v546 : BitVec 32) : Fin 2 → Nat :=
  let c0_i32_246 : BitVec 32 := 0#32
  let v553 : BitVec 32 := Scalar.maxsi v546 c0_i32_246
  let v564 : Index := Scalar.indexCast v553
  let c16_252 : Index := 16#32
  ![v564.toNat, 16]
def k0_off402 (v546 : BitVec 32) : Fin 2 → Nat :=
  let c0_i32_246 : BitVec 32 := 0#32
  let v553 : BitVec 32 := Scalar.maxsi v546 c0_i32_246
  let v571 : Index := Scalar.indexCast v553
  let c32_255 : Index := 32#32
  ![v571.toNat, 32]
def k0_off403 (v546 : BitVec 32) : Fin 2 → Nat :=
  let c0_i32_246 : BitVec 32 := 0#32
  let v553 : BitVec 32 := Scalar.maxsi v546 c0_i32_246
  let v578 : Index := Scalar.indexCast v553
  let c48_258 : Index := 48#32
  ![v578.toNat, 48]
def k0_off404 (v546 : BitVec 32) : Fin 2 → Nat :=
  let c0_i32_246 : BitVec 32 := 0#32
  let v553 : BitVec 32 := Scalar.maxsi v546 c0_i32_246
  let v585 : Index := Scalar.indexCast v553
  let c64_261 : Index := 64#32
  ![v585.toNat, 64]
def k0_off405 (v546 : BitVec 32) : Fin 2 → Nat :=
  let c0_i32_246 : BitVec 32 := 0#32
  let v553 : BitVec 32 := Scalar.maxsi v546 c0_i32_246
  let v592 : Index := Scalar.indexCast v553
  let c80_264 : Index := 80#32
  ![v592.toNat, 80]
def k0_off406 (v546 : BitVec 32) : Fin 2 → Nat :=
  let c0_i32_246 : BitVec 32 := 0#32
  let v553 : BitVec 32 := Scalar.maxsi v546 c0_i32_246
  let v599 : Index := Scalar.indexCast v553
  let c96_267 : Index := 96#32
  ![v599.toNat, 96]
def k0_off407 (v546 : BitVec 32) : Fin 2 → Nat :=
  let c0_i32_246 : BitVec 32 := 0#32
  let v553 : BitVec 32 := Scalar.maxsi v546 c0_i32_246
  let v606 : Index := Scalar.indexCast v553
  let c112_270 : Index := 112#32
  ![v606.toNat, 112]
def k0_off408 (v546 : BitVec 32) : Fin 1 → Nat :=
  let c0_i32_246 : BitVec 32 := 0#32
  let v553 : BitVec 32 := Scalar.maxsi v546 c0_i32_246
  let c16_i32_273 : BitVec 32 := 16#32
  let v613 : BitVec 32 := Scalar.muli v553 c16_i32_273
  let v614 : Index := Scalar.indexCast v613
  ![v614.toNat]

def k0_chk16 (v379 : BitVec 32) (v381 : BitVec 32) (v384 : BitVec 32) (v544 : BitVec 32) (v546 : BitVec 32) : Prop :=
  (∀ (k0_h2 : k0_cond2 v379 v381 v384 = 1#1), ∀ (k0_h33 : k0_cond33 v544 v546 = 1#1), ∀ a, (k0_off400 v546) a + S1x16.size a ≤ S512x128.size a) ∧
  (∀ (k0_h2 : k0_cond2 v379 v381 v384 = 1#1), ∀ (k0_h33 : k0_cond33 v544 v546 = 1#1), ∀ a, (k0_off401 v546) a + S1x16.size a ≤ S512x128.size a) ∧
  (∀ (k0_h2 : k0_cond2 v379 v381 v384 = 1#1), ∀ (k0_h33 : k0_cond33 v544 v546 = 1#1), ∀ a, (k0_off402 v546) a + S1x16.size a ≤ S512x128.size a) ∧
  (∀ (k0_h2 : k0_cond2 v379 v381 v384 = 1#1), ∀ (k0_h33 : k0_cond33 v544 v546 = 1#1), ∀ a, (k0_off403 v546) a + S1x16.size a ≤ S512x128.size a) ∧
  (∀ (k0_h2 : k0_cond2 v379 v381 v384 = 1#1), ∀ (k0_h33 : k0_cond33 v544 v546 = 1#1), ∀ a, (k0_off404 v546) a + S1x16.size a ≤ S512x128.size a) ∧
  (∀ (k0_h2 : k0_cond2 v379 v381 v384 = 1#1), ∀ (k0_h33 : k0_cond33 v544 v546 = 1#1), ∀ a, (k0_off405 v546) a + S1x16.size a ≤ S512x128.size a) ∧
  (∀ (k0_h2 : k0_cond2 v379 v381 v384 = 1#1), ∀ (k0_h33 : k0_cond33 v544 v546 = 1#1), ∀ a, (k0_off406 v546) a + S1x16.size a ≤ S512x128.size a) ∧
  (∀ (k0_h2 : k0_cond2 v379 v381 v384 = 1#1), ∀ (k0_h33 : k0_cond33 v544 v546 = 1#1), ∀ a, (k0_off407 v546) a + S1x16.size a ≤ S512x128.size a) ∧
  (∀ (k0_h2 : k0_cond2 v379 v381 v384 = 1#1), ∀ (k0_h33 : k0_cond33 v544 v546 = 1#1), ∀ a, (k0_off408 v546) a + S16.size a ≤ S8192.size a)
theorem k0_off400_inb : ∀ (v379 : BitVec 32) (v381 : BitVec 32) (v384 : BitVec 32) (v544 : BitVec 32) (v546 : BitVec 32) (k0_hw16 : k0_chk16 v379 v381 v384 v544 v546), ∀ (k0_h2 : k0_cond2 v379 v381 v384 = 1#1), ∀ (k0_h33 : k0_cond33 v544 v546 = 1#1), ∀ a, (k0_off400 v546) a + S1x16.size a ≤ S512x128.size a := fun v379 v381 v384 v544 v546 k0_hw16 k0_h2 k0_h33 => k0_hw16.1 k0_h2 k0_h33
theorem k0_off401_inb : ∀ (v379 : BitVec 32) (v381 : BitVec 32) (v384 : BitVec 32) (v544 : BitVec 32) (v546 : BitVec 32) (k0_hw16 : k0_chk16 v379 v381 v384 v544 v546), ∀ (k0_h2 : k0_cond2 v379 v381 v384 = 1#1), ∀ (k0_h33 : k0_cond33 v544 v546 = 1#1), ∀ a, (k0_off401 v546) a + S1x16.size a ≤ S512x128.size a := fun v379 v381 v384 v544 v546 k0_hw16 k0_h2 k0_h33 => k0_hw16.2.1 k0_h2 k0_h33
theorem k0_off402_inb : ∀ (v379 : BitVec 32) (v381 : BitVec 32) (v384 : BitVec 32) (v544 : BitVec 32) (v546 : BitVec 32) (k0_hw16 : k0_chk16 v379 v381 v384 v544 v546), ∀ (k0_h2 : k0_cond2 v379 v381 v384 = 1#1), ∀ (k0_h33 : k0_cond33 v544 v546 = 1#1), ∀ a, (k0_off402 v546) a + S1x16.size a ≤ S512x128.size a := fun v379 v381 v384 v544 v546 k0_hw16 k0_h2 k0_h33 => k0_hw16.2.2.1 k0_h2 k0_h33
theorem k0_off403_inb : ∀ (v379 : BitVec 32) (v381 : BitVec 32) (v384 : BitVec 32) (v544 : BitVec 32) (v546 : BitVec 32) (k0_hw16 : k0_chk16 v379 v381 v384 v544 v546), ∀ (k0_h2 : k0_cond2 v379 v381 v384 = 1#1), ∀ (k0_h33 : k0_cond33 v544 v546 = 1#1), ∀ a, (k0_off403 v546) a + S1x16.size a ≤ S512x128.size a := fun v379 v381 v384 v544 v546 k0_hw16 k0_h2 k0_h33 => k0_hw16.2.2.2.1 k0_h2 k0_h33
theorem k0_off404_inb : ∀ (v379 : BitVec 32) (v381 : BitVec 32) (v384 : BitVec 32) (v544 : BitVec 32) (v546 : BitVec 32) (k0_hw16 : k0_chk16 v379 v381 v384 v544 v546), ∀ (k0_h2 : k0_cond2 v379 v381 v384 = 1#1), ∀ (k0_h33 : k0_cond33 v544 v546 = 1#1), ∀ a, (k0_off404 v546) a + S1x16.size a ≤ S512x128.size a := fun v379 v381 v384 v544 v546 k0_hw16 k0_h2 k0_h33 => k0_hw16.2.2.2.2.1 k0_h2 k0_h33
theorem k0_off405_inb : ∀ (v379 : BitVec 32) (v381 : BitVec 32) (v384 : BitVec 32) (v544 : BitVec 32) (v546 : BitVec 32) (k0_hw16 : k0_chk16 v379 v381 v384 v544 v546), ∀ (k0_h2 : k0_cond2 v379 v381 v384 = 1#1), ∀ (k0_h33 : k0_cond33 v544 v546 = 1#1), ∀ a, (k0_off405 v546) a + S1x16.size a ≤ S512x128.size a := fun v379 v381 v384 v544 v546 k0_hw16 k0_h2 k0_h33 => k0_hw16.2.2.2.2.2.1 k0_h2 k0_h33
theorem k0_off406_inb : ∀ (v379 : BitVec 32) (v381 : BitVec 32) (v384 : BitVec 32) (v544 : BitVec 32) (v546 : BitVec 32) (k0_hw16 : k0_chk16 v379 v381 v384 v544 v546), ∀ (k0_h2 : k0_cond2 v379 v381 v384 = 1#1), ∀ (k0_h33 : k0_cond33 v544 v546 = 1#1), ∀ a, (k0_off406 v546) a + S1x16.size a ≤ S512x128.size a := fun v379 v381 v384 v544 v546 k0_hw16 k0_h2 k0_h33 => k0_hw16.2.2.2.2.2.2.1 k0_h2 k0_h33
theorem k0_off407_inb : ∀ (v379 : BitVec 32) (v381 : BitVec 32) (v384 : BitVec 32) (v544 : BitVec 32) (v546 : BitVec 32) (k0_hw16 : k0_chk16 v379 v381 v384 v544 v546), ∀ (k0_h2 : k0_cond2 v379 v381 v384 = 1#1), ∀ (k0_h33 : k0_cond33 v544 v546 = 1#1), ∀ a, (k0_off407 v546) a + S1x16.size a ≤ S512x128.size a := fun v379 v381 v384 v544 v546 k0_hw16 k0_h2 k0_h33 => k0_hw16.2.2.2.2.2.2.2.1 k0_h2 k0_h33
theorem k0_off408_inb : ∀ (v379 : BitVec 32) (v381 : BitVec 32) (v384 : BitVec 32) (v544 : BitVec 32) (v546 : BitVec 32) (k0_hw16 : k0_chk16 v379 v381 v384 v544 v546), ∀ (k0_h2 : k0_cond2 v379 v381 v384 = 1#1), ∀ (k0_h33 : k0_cond33 v544 v546 = 1#1), ∀ a, (k0_off408 v546) a + S16.size a ≤ S8192.size a := fun v379 v381 v384 v544 v546 k0_hw16 k0_h2 k0_h33 => k0_hw16.2.2.2.2.2.2.2.2 k0_h2 k0_h33

def k0_off409 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c15_i32 : BitVec 32 := 15#32
  let v618 : BitVec 32 := Scalar.addi v382 c15_i32
  let v619 : Index := Scalar.indexCast v618
  let c0_274 : Index := 0#32
  ![v619.toNat, 0]
def k0_off410 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c15_i32_277 : BitVec 32 := 15#32
  let v626 : BitVec 32 := Scalar.addi v382 c15_i32_277
  let v627 : Index := Scalar.indexCast v626
  let c16_278 : Index := 16#32
  ![v627.toNat, 16]
def k0_off411 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c15_i32_281 : BitVec 32 := 15#32
  let v634 : BitVec 32 := Scalar.addi v382 c15_i32_281
  let v635 : Index := Scalar.indexCast v634
  let c32_282 : Index := 32#32
  ![v635.toNat, 32]
def k0_off412 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c15_i32_285 : BitVec 32 := 15#32
  let v642 : BitVec 32 := Scalar.addi v382 c15_i32_285
  let v643 : Index := Scalar.indexCast v642
  let c48_286 : Index := 48#32
  ![v643.toNat, 48]
def k0_off413 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c15_i32_289 : BitVec 32 := 15#32
  let v650 : BitVec 32 := Scalar.addi v382 c15_i32_289
  let v651 : Index := Scalar.indexCast v650
  let c64_290 : Index := 64#32
  ![v651.toNat, 64]
def k0_off414 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c15_i32_293 : BitVec 32 := 15#32
  let v658 : BitVec 32 := Scalar.addi v382 c15_i32_293
  let v659 : Index := Scalar.indexCast v658
  let c80_294 : Index := 80#32
  ![v659.toNat, 80]
def k0_off415 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c15_i32_297 : BitVec 32 := 15#32
  let v666 : BitVec 32 := Scalar.addi v382 c15_i32_297
  let v667 : Index := Scalar.indexCast v666
  let c96_298 : Index := 96#32
  ![v667.toNat, 96]
def k0_off416 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c15_i32_301 : BitVec 32 := 15#32
  let v674 : BitVec 32 := Scalar.addi v382 c15_i32_301
  let v675 : Index := Scalar.indexCast v674
  let c112_302 : Index := 112#32
  ![v675.toNat, 112]
def k0_off417 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c15_i32 : BitVec 32 := 15#32
  let v556 : BitVec 32 := Scalar.addi v382 c15_i32
  let v557 : Index := Scalar.indexCast v556
  let c0_248 : Index := 0#32
  ![v557.toNat, 0]
def k0_off418 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c15_i32_253 : BitVec 32 := 15#32
  let v568 : BitVec 32 := Scalar.addi v382 c15_i32_253
  let v569 : Index := Scalar.indexCast v568
  let c16_254 : Index := 16#32
  ![v569.toNat, 16]
def k0_off419 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c15_i32_259 : BitVec 32 := 15#32
  let v580 : BitVec 32 := Scalar.addi v382 c15_i32_259
  let v581 : Index := Scalar.indexCast v580
  let c32_260 : Index := 32#32
  ![v581.toNat, 32]
def k0_off420 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c15_i32_265 : BitVec 32 := 15#32
  let v592 : BitVec 32 := Scalar.addi v382 c15_i32_265
  let v593 : Index := Scalar.indexCast v592
  let c48_266 : Index := 48#32
  ![v593.toNat, 48]
def k0_off421 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c15_i32_271 : BitVec 32 := 15#32
  let v604 : BitVec 32 := Scalar.addi v382 c15_i32_271
  let v605 : Index := Scalar.indexCast v604
  let c64_272 : Index := 64#32
  ![v605.toNat, 64]
def k0_off422 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c15_i32_277 : BitVec 32 := 15#32
  let v616 : BitVec 32 := Scalar.addi v382 c15_i32_277
  let v617 : Index := Scalar.indexCast v616
  let c80_278 : Index := 80#32
  ![v617.toNat, 80]
def k0_off423 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c15_i32_283 : BitVec 32 := 15#32
  let v628 : BitVec 32 := Scalar.addi v382 c15_i32_283
  let v629 : Index := Scalar.indexCast v628
  let c96_284 : Index := 96#32
  ![v629.toNat, 96]
def k0_off424 (k0_t3 : Fin k0_t3_loop.trips) : Fin 2 → Nat :=
  let c0_i32_170 : BitVec 32 := 0#32
  let c1_i32_172 : BitVec 32 := 1#32
  let arg21 : BitVec 32 := Scf.iv c0_i32_170 c1_i32_172 k0_t3
  let c16_i32_193 : BitVec 32 := 16#32
  let v382 : BitVec 32 := Scalar.muli arg21 c16_i32_193
  let c15_i32_289 : BitVec 32 := 15#32
  let v640 : BitVec 32 := Scalar.addi v382 c15_i32_289
  let v641 : Index := Scalar.indexCast v640
  let c112_290 : Index := 112#32
  ![v641.toNat, 112]
@[reducible] def k0_t4_loop : Scf.Loop 32 :=
  let c0_i32_187 : BitVec 32 := 0#32
  let c5_i32_188 : BitVec 32 := 5#32
  let v372 : BitVec 32 := Scalar.addi c0_i32_187 c5_i32_188
  let c1_i32_189 : BitVec 32 := 1#32
  ⟨c0_i32_187, v372, c1_i32_189⟩
def k0_off425 (k0_t4 : Fin k0_t4_loop.trips) : Fin 1 → Nat :=
  let c0_i32_187 : BitVec 32 := 0#32
  let c1_i32_189 : BitVec 32 := 1#32
  let arg21 : BitVec 32 := Scf.iv c0_i32_187 c1_i32_189 k0_t4
  let c16_i32_192 : BitVec 32 := 16#32
  let v374 : BitVec 32 := Scalar.muli arg21 c16_i32_192
  let v375 : Index := Scalar.indexCast v374
  ![v375.toNat]
def k0_off426 (k0_t4 : Fin k0_t4_loop.trips) (c0_i32_198 : BitVec 32) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let v393 : BitVec 32 := Scalar.addi v382 c0_i32_198
  let v394 : Index := Scalar.indexCast v393
  let c0_199 : Index := 0#32
  ![v394.toNat, 0]
def k0_off427 (k0_t4 : Fin k0_t4_loop.trips) (c0_i32_227 : BitVec 32) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let v480 : BitVec 32 := Scalar.addi v382 c0_i32_227
  let v481 : Index := Scalar.indexCast v480
  let c16_228 : Index := 16#32
  ![v481.toNat, 16]
def k0_off428 (k0_t4 : Fin k0_t4_loop.trips) (c0_i32_263 : BitVec 32) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let v567 : BitVec 32 := Scalar.addi v382 c0_i32_263
  let v568 : Index := Scalar.indexCast v567
  let c32_264 : Index := 32#32
  ![v568.toNat, 32]
def k0_off429 (k0_t4 : Fin k0_t4_loop.trips) (c0_i32_299 : BitVec 32) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let v654 : BitVec 32 := Scalar.addi v382 c0_i32_299
  let v655 : Index := Scalar.indexCast v654
  let c48_300 : Index := 48#32
  ![v655.toNat, 48]
def k0_off430 (k0_t4 : Fin k0_t4_loop.trips) (c0_i32_335 : BitVec 32) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let v741 : BitVec 32 := Scalar.addi v382 c0_i32_335
  let v742 : Index := Scalar.indexCast v741
  let c64_336 : Index := 64#32
  ![v742.toNat, 64]
def k0_off431 (k0_t4 : Fin k0_t4_loop.trips) (c0_i32_371 : BitVec 32) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let v828 : BitVec 32 := Scalar.addi v382 c0_i32_371
  let v829 : Index := Scalar.indexCast v828
  let c80_372 : Index := 80#32
  ![v829.toNat, 80]
def k0_off432 (k0_t4 : Fin k0_t4_loop.trips) (c0_i32_407 : BitVec 32) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let v915 : BitVec 32 := Scalar.addi v382 c0_i32_407
  let v916 : Index := Scalar.indexCast v915
  let c96_408 : Index := 96#32
  ![v916.toNat, 96]
def k0_off433 (k0_t4 : Fin k0_t4_loop.trips) (c0_i32_443 : BitVec 32) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let v1002 : BitVec 32 := Scalar.addi v382 c0_i32_443
  let v1003 : Index := Scalar.indexCast v1002
  let c112_444 : Index := 112#32
  ![v1003.toNat, 112]
def k0_off434 (v396 : BitVec 32) : Fin 2 → Nat :=
  let c0_i32_246 : BitVec 32 := 0#32
  let v553 : BitVec 32 := Scalar.maxsi v396 c0_i32_246
  let v557 : Index := Scalar.indexCast v553
  let c0_249 : Index := 0#32
  ![v557.toNat, 0]
def k0_cond36 (v379 : BitVec 32) (v381 : BitVec 32) (v384 : BitVec 32) : BitVec 1 :=
  let v385 : BitVec 1 := Scalar.cmpi .eq v379 v384
  let v386 : BitVec 1 := Scalar.cmpi .eq v379 v381
  let v387 : BitVec 1 := Scalar.andi v385 v386
  let v_true : BitVec 1 := 1#1
  let v390 : BitVec 1 := Scalar.xori v387 v_true
  let v391 : BitVec 32 := Scalar.extui v390
  let c0_i32_196 : BitVec 32 := 0#32
  let v392 : BitVec 1 := Scalar.cmpi .ne v391 c0_i32_196
  v392

def k0_cond37 (v394 : BitVec 32) (v396 : BitVec 32) : BitVec 1 :=
  let v397 : BitVec 1 := Scalar.cmpi .ne v394 v396
  let v398 : BitVec 32 := Scalar.extui v397
  let c0_i32_199 : BitVec 32 := 0#32
  let v399 : BitVec 1 := Scalar.cmpi .ne v398 c0_i32_199
  v399

def k0_off435 (v396 : BitVec 32) : Fin 2 → Nat :=
  let c0_i32_246 : BitVec 32 := 0#32
  let v553 : BitVec 32 := Scalar.maxsi v396 c0_i32_246
  let v564 : Index := Scalar.indexCast v553
  let c16_252 : Index := 16#32
  ![v564.toNat, 16]
def k0_off436 (v396 : BitVec 32) : Fin 2 → Nat :=
  let c0_i32_246 : BitVec 32 := 0#32
  let v553 : BitVec 32 := Scalar.maxsi v396 c0_i32_246
  let v571 : Index := Scalar.indexCast v553
  let c32_255 : Index := 32#32
  ![v571.toNat, 32]
def k0_off437 (v396 : BitVec 32) : Fin 2 → Nat :=
  let c0_i32_246 : BitVec 32 := 0#32
  let v553 : BitVec 32 := Scalar.maxsi v396 c0_i32_246
  let v578 : Index := Scalar.indexCast v553
  let c48_258 : Index := 48#32
  ![v578.toNat, 48]
def k0_off438 (v396 : BitVec 32) : Fin 2 → Nat :=
  let c0_i32_246 : BitVec 32 := 0#32
  let v553 : BitVec 32 := Scalar.maxsi v396 c0_i32_246
  let v585 : Index := Scalar.indexCast v553
  let c64_261 : Index := 64#32
  ![v585.toNat, 64]
def k0_off439 (v396 : BitVec 32) : Fin 2 → Nat :=
  let c0_i32_246 : BitVec 32 := 0#32
  let v553 : BitVec 32 := Scalar.maxsi v396 c0_i32_246
  let v592 : Index := Scalar.indexCast v553
  let c80_264 : Index := 80#32
  ![v592.toNat, 80]
def k0_off440 (v396 : BitVec 32) : Fin 2 → Nat :=
  let c0_i32_246 : BitVec 32 := 0#32
  let v553 : BitVec 32 := Scalar.maxsi v396 c0_i32_246
  let v599 : Index := Scalar.indexCast v553
  let c96_267 : Index := 96#32
  ![v599.toNat, 96]
def k0_off441 (v396 : BitVec 32) : Fin 2 → Nat :=
  let c0_i32_246 : BitVec 32 := 0#32
  let v553 : BitVec 32 := Scalar.maxsi v396 c0_i32_246
  let v606 : Index := Scalar.indexCast v553
  let c112_270 : Index := 112#32
  ![v606.toNat, 112]
def k0_off442 (v396 : BitVec 32) : Fin 1 → Nat :=
  let c0_i32_246 : BitVec 32 := 0#32
  let v553 : BitVec 32 := Scalar.maxsi v396 c0_i32_246
  let c16_i32_273 : BitVec 32 := 16#32
  let v613 : BitVec 32 := Scalar.muli v553 c16_i32_273
  let v614 : Index := Scalar.indexCast v613
  ![v614.toNat]

def k0_chk17 (v379 : BitVec 32) (v381 : BitVec 32) (v384 : BitVec 32) (v394 : BitVec 32) (v396 : BitVec 32) : Prop :=
  (∀ (k0_h36 : k0_cond36 v379 v381 v384 = 1#1), ∀ (k0_h37 : k0_cond37 v394 v396 = 1#1), ∀ a, (k0_off434 v396) a + S1x16.size a ≤ S512x128.size a) ∧
  (∀ (k0_h36 : k0_cond36 v379 v381 v384 = 1#1), ∀ (k0_h37 : k0_cond37 v394 v396 = 1#1), ∀ a, (k0_off435 v396) a + S1x16.size a ≤ S512x128.size a) ∧
  (∀ (k0_h36 : k0_cond36 v379 v381 v384 = 1#1), ∀ (k0_h37 : k0_cond37 v394 v396 = 1#1), ∀ a, (k0_off436 v396) a + S1x16.size a ≤ S512x128.size a) ∧
  (∀ (k0_h36 : k0_cond36 v379 v381 v384 = 1#1), ∀ (k0_h37 : k0_cond37 v394 v396 = 1#1), ∀ a, (k0_off437 v396) a + S1x16.size a ≤ S512x128.size a) ∧
  (∀ (k0_h36 : k0_cond36 v379 v381 v384 = 1#1), ∀ (k0_h37 : k0_cond37 v394 v396 = 1#1), ∀ a, (k0_off438 v396) a + S1x16.size a ≤ S512x128.size a) ∧
  (∀ (k0_h36 : k0_cond36 v379 v381 v384 = 1#1), ∀ (k0_h37 : k0_cond37 v394 v396 = 1#1), ∀ a, (k0_off439 v396) a + S1x16.size a ≤ S512x128.size a) ∧
  (∀ (k0_h36 : k0_cond36 v379 v381 v384 = 1#1), ∀ (k0_h37 : k0_cond37 v394 v396 = 1#1), ∀ a, (k0_off440 v396) a + S1x16.size a ≤ S512x128.size a) ∧
  (∀ (k0_h36 : k0_cond36 v379 v381 v384 = 1#1), ∀ (k0_h37 : k0_cond37 v394 v396 = 1#1), ∀ a, (k0_off441 v396) a + S1x16.size a ≤ S512x128.size a) ∧
  (∀ (k0_h36 : k0_cond36 v379 v381 v384 = 1#1), ∀ (k0_h37 : k0_cond37 v394 v396 = 1#1), ∀ a, (k0_off442 v396) a + S16.size a ≤ S8192.size a)
theorem k0_off434_inb : ∀ (v379 : BitVec 32) (v381 : BitVec 32) (v384 : BitVec 32) (v394 : BitVec 32) (v396 : BitVec 32) (k0_hw17 : k0_chk17 v379 v381 v384 v394 v396), ∀ (k0_h36 : k0_cond36 v379 v381 v384 = 1#1), ∀ (k0_h37 : k0_cond37 v394 v396 = 1#1), ∀ a, (k0_off434 v396) a + S1x16.size a ≤ S512x128.size a := fun v379 v381 v384 v394 v396 k0_hw17 k0_h36 k0_h37 => k0_hw17.1 k0_h36 k0_h37
theorem k0_off435_inb : ∀ (v379 : BitVec 32) (v381 : BitVec 32) (v384 : BitVec 32) (v394 : BitVec 32) (v396 : BitVec 32) (k0_hw17 : k0_chk17 v379 v381 v384 v394 v396), ∀ (k0_h36 : k0_cond36 v379 v381 v384 = 1#1), ∀ (k0_h37 : k0_cond37 v394 v396 = 1#1), ∀ a, (k0_off435 v396) a + S1x16.size a ≤ S512x128.size a := fun v379 v381 v384 v394 v396 k0_hw17 k0_h36 k0_h37 => k0_hw17.2.1 k0_h36 k0_h37
theorem k0_off436_inb : ∀ (v379 : BitVec 32) (v381 : BitVec 32) (v384 : BitVec 32) (v394 : BitVec 32) (v396 : BitVec 32) (k0_hw17 : k0_chk17 v379 v381 v384 v394 v396), ∀ (k0_h36 : k0_cond36 v379 v381 v384 = 1#1), ∀ (k0_h37 : k0_cond37 v394 v396 = 1#1), ∀ a, (k0_off436 v396) a + S1x16.size a ≤ S512x128.size a := fun v379 v381 v384 v394 v396 k0_hw17 k0_h36 k0_h37 => k0_hw17.2.2.1 k0_h36 k0_h37
theorem k0_off437_inb : ∀ (v379 : BitVec 32) (v381 : BitVec 32) (v384 : BitVec 32) (v394 : BitVec 32) (v396 : BitVec 32) (k0_hw17 : k0_chk17 v379 v381 v384 v394 v396), ∀ (k0_h36 : k0_cond36 v379 v381 v384 = 1#1), ∀ (k0_h37 : k0_cond37 v394 v396 = 1#1), ∀ a, (k0_off437 v396) a + S1x16.size a ≤ S512x128.size a := fun v379 v381 v384 v394 v396 k0_hw17 k0_h36 k0_h37 => k0_hw17.2.2.2.1 k0_h36 k0_h37
theorem k0_off438_inb : ∀ (v379 : BitVec 32) (v381 : BitVec 32) (v384 : BitVec 32) (v394 : BitVec 32) (v396 : BitVec 32) (k0_hw17 : k0_chk17 v379 v381 v384 v394 v396), ∀ (k0_h36 : k0_cond36 v379 v381 v384 = 1#1), ∀ (k0_h37 : k0_cond37 v394 v396 = 1#1), ∀ a, (k0_off438 v396) a + S1x16.size a ≤ S512x128.size a := fun v379 v381 v384 v394 v396 k0_hw17 k0_h36 k0_h37 => k0_hw17.2.2.2.2.1 k0_h36 k0_h37
theorem k0_off439_inb : ∀ (v379 : BitVec 32) (v381 : BitVec 32) (v384 : BitVec 32) (v394 : BitVec 32) (v396 : BitVec 32) (k0_hw17 : k0_chk17 v379 v381 v384 v394 v396), ∀ (k0_h36 : k0_cond36 v379 v381 v384 = 1#1), ∀ (k0_h37 : k0_cond37 v394 v396 = 1#1), ∀ a, (k0_off439 v396) a + S1x16.size a ≤ S512x128.size a := fun v379 v381 v384 v394 v396 k0_hw17 k0_h36 k0_h37 => k0_hw17.2.2.2.2.2.1 k0_h36 k0_h37
theorem k0_off440_inb : ∀ (v379 : BitVec 32) (v381 : BitVec 32) (v384 : BitVec 32) (v394 : BitVec 32) (v396 : BitVec 32) (k0_hw17 : k0_chk17 v379 v381 v384 v394 v396), ∀ (k0_h36 : k0_cond36 v379 v381 v384 = 1#1), ∀ (k0_h37 : k0_cond37 v394 v396 = 1#1), ∀ a, (k0_off440 v396) a + S1x16.size a ≤ S512x128.size a := fun v379 v381 v384 v394 v396 k0_hw17 k0_h36 k0_h37 => k0_hw17.2.2.2.2.2.2.1 k0_h36 k0_h37
theorem k0_off441_inb : ∀ (v379 : BitVec 32) (v381 : BitVec 32) (v384 : BitVec 32) (v394 : BitVec 32) (v396 : BitVec 32) (k0_hw17 : k0_chk17 v379 v381 v384 v394 v396), ∀ (k0_h36 : k0_cond36 v379 v381 v384 = 1#1), ∀ (k0_h37 : k0_cond37 v394 v396 = 1#1), ∀ a, (k0_off441 v396) a + S1x16.size a ≤ S512x128.size a := fun v379 v381 v384 v394 v396 k0_hw17 k0_h36 k0_h37 => k0_hw17.2.2.2.2.2.2.2.1 k0_h36 k0_h37
theorem k0_off442_inb : ∀ (v379 : BitVec 32) (v381 : BitVec 32) (v384 : BitVec 32) (v394 : BitVec 32) (v396 : BitVec 32) (k0_hw17 : k0_chk17 v379 v381 v384 v394 v396), ∀ (k0_h36 : k0_cond36 v379 v381 v384 = 1#1), ∀ (k0_h37 : k0_cond37 v394 v396 = 1#1), ∀ a, (k0_off442 v396) a + S16.size a ≤ S8192.size a := fun v379 v381 v384 v394 v396 k0_hw17 k0_h36 k0_h37 => k0_hw17.2.2.2.2.2.2.2.2 k0_h36 k0_h37

def k0_off443 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c0_i32_274 : BitVec 32 := 0#32
  let v618 : BitVec 32 := Scalar.addi v382 c0_i32_274
  let v619 : Index := Scalar.indexCast v618
  let c0_275 : Index := 0#32
  ![v619.toNat, 0]
def k0_off444 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c0_i32_278 : BitVec 32 := 0#32
  let v626 : BitVec 32 := Scalar.addi v382 c0_i32_278
  let v627 : Index := Scalar.indexCast v626
  let c16_279 : Index := 16#32
  ![v627.toNat, 16]
def k0_off445 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c0_i32_282 : BitVec 32 := 0#32
  let v634 : BitVec 32 := Scalar.addi v382 c0_i32_282
  let v635 : Index := Scalar.indexCast v634
  let c32_283 : Index := 32#32
  ![v635.toNat, 32]
def k0_off446 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c0_i32_286 : BitVec 32 := 0#32
  let v642 : BitVec 32 := Scalar.addi v382 c0_i32_286
  let v643 : Index := Scalar.indexCast v642
  let c48_287 : Index := 48#32
  ![v643.toNat, 48]
def k0_off447 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c0_i32_290 : BitVec 32 := 0#32
  let v650 : BitVec 32 := Scalar.addi v382 c0_i32_290
  let v651 : Index := Scalar.indexCast v650
  let c64_291 : Index := 64#32
  ![v651.toNat, 64]
def k0_off448 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c0_i32_294 : BitVec 32 := 0#32
  let v658 : BitVec 32 := Scalar.addi v382 c0_i32_294
  let v659 : Index := Scalar.indexCast v658
  let c80_295 : Index := 80#32
  ![v659.toNat, 80]
def k0_off449 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c0_i32_298 : BitVec 32 := 0#32
  let v666 : BitVec 32 := Scalar.addi v382 c0_i32_298
  let v667 : Index := Scalar.indexCast v666
  let c96_299 : Index := 96#32
  ![v667.toNat, 96]
def k0_off450 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c0_i32_302 : BitVec 32 := 0#32
  let v674 : BitVec 32 := Scalar.addi v382 c0_i32_302
  let v675 : Index := Scalar.indexCast v674
  let c112_303 : Index := 112#32
  ![v675.toNat, 112]
def k0_off451 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c0_i32_248 : BitVec 32 := 0#32
  let v556 : BitVec 32 := Scalar.addi v382 c0_i32_248
  let v557 : Index := Scalar.indexCast v556
  let c0_249 : Index := 0#32
  ![v557.toNat, 0]
def k0_off452 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c0_i32_254 : BitVec 32 := 0#32
  let v568 : BitVec 32 := Scalar.addi v382 c0_i32_254
  let v569 : Index := Scalar.indexCast v568
  let c16_255 : Index := 16#32
  ![v569.toNat, 16]
def k0_off453 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c0_i32_260 : BitVec 32 := 0#32
  let v580 : BitVec 32 := Scalar.addi v382 c0_i32_260
  let v581 : Index := Scalar.indexCast v580
  let c32_261 : Index := 32#32
  ![v581.toNat, 32]
def k0_off454 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c0_i32_266 : BitVec 32 := 0#32
  let v592 : BitVec 32 := Scalar.addi v382 c0_i32_266
  let v593 : Index := Scalar.indexCast v592
  let c48_267 : Index := 48#32
  ![v593.toNat, 48]
def k0_off455 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c0_i32_272 : BitVec 32 := 0#32
  let v604 : BitVec 32 := Scalar.addi v382 c0_i32_272
  let v605 : Index := Scalar.indexCast v604
  let c64_273 : Index := 64#32
  ![v605.toNat, 64]
def k0_off456 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c0_i32_278 : BitVec 32 := 0#32
  let v616 : BitVec 32 := Scalar.addi v382 c0_i32_278
  let v617 : Index := Scalar.indexCast v616
  let c80_279 : Index := 80#32
  ![v617.toNat, 80]
def k0_off457 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c0_i32_284 : BitVec 32 := 0#32
  let v628 : BitVec 32 := Scalar.addi v382 c0_i32_284
  let v629 : Index := Scalar.indexCast v628
  let c96_285 : Index := 96#32
  ![v629.toNat, 96]
def k0_off458 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c0_i32_290 : BitVec 32 := 0#32
  let v640 : BitVec 32 := Scalar.addi v382 c0_i32_290
  let v641 : Index := Scalar.indexCast v640
  let c112_291 : Index := 112#32
  ![v641.toNat, 112]
def k0_off459 (v406 : BitVec 32) : Fin 2 → Nat :=
  let c0_i32_246 : BitVec 32 := 0#32
  let v553 : BitVec 32 := Scalar.maxsi v406 c0_i32_246
  let v557 : Index := Scalar.indexCast v553
  let c0_249 : Index := 0#32
  ![v557.toNat, 0]
def k0_cond39 (v404 : BitVec 32) (v406 : BitVec 32) : BitVec 1 :=
  let v407 : BitVec 1 := Scalar.cmpi .ne v404 v406
  let v408 : BitVec 32 := Scalar.extui v407
  let c0_i32_202 : BitVec 32 := 0#32
  let v409 : BitVec 1 := Scalar.cmpi .ne v408 c0_i32_202
  v409

def k0_off460 (v406 : BitVec 32) : Fin 2 → Nat :=
  let c0_i32_246 : BitVec 32 := 0#32
  let v553 : BitVec 32 := Scalar.maxsi v406 c0_i32_246
  let v564 : Index := Scalar.indexCast v553
  let c16_252 : Index := 16#32
  ![v564.toNat, 16]
def k0_off461 (v406 : BitVec 32) : Fin 2 → Nat :=
  let c0_i32_246 : BitVec 32 := 0#32
  let v553 : BitVec 32 := Scalar.maxsi v406 c0_i32_246
  let v571 : Index := Scalar.indexCast v553
  let c32_255 : Index := 32#32
  ![v571.toNat, 32]
def k0_off462 (v406 : BitVec 32) : Fin 2 → Nat :=
  let c0_i32_246 : BitVec 32 := 0#32
  let v553 : BitVec 32 := Scalar.maxsi v406 c0_i32_246
  let v578 : Index := Scalar.indexCast v553
  let c48_258 : Index := 48#32
  ![v578.toNat, 48]
def k0_off463 (v406 : BitVec 32) : Fin 2 → Nat :=
  let c0_i32_246 : BitVec 32 := 0#32
  let v553 : BitVec 32 := Scalar.maxsi v406 c0_i32_246
  let v585 : Index := Scalar.indexCast v553
  let c64_261 : Index := 64#32
  ![v585.toNat, 64]
def k0_off464 (v406 : BitVec 32) : Fin 2 → Nat :=
  let c0_i32_246 : BitVec 32 := 0#32
  let v553 : BitVec 32 := Scalar.maxsi v406 c0_i32_246
  let v592 : Index := Scalar.indexCast v553
  let c80_264 : Index := 80#32
  ![v592.toNat, 80]
def k0_off465 (v406 : BitVec 32) : Fin 2 → Nat :=
  let c0_i32_246 : BitVec 32 := 0#32
  let v553 : BitVec 32 := Scalar.maxsi v406 c0_i32_246
  let v599 : Index := Scalar.indexCast v553
  let c96_267 : Index := 96#32
  ![v599.toNat, 96]
def k0_off466 (v406 : BitVec 32) : Fin 2 → Nat :=
  let c0_i32_246 : BitVec 32 := 0#32
  let v553 : BitVec 32 := Scalar.maxsi v406 c0_i32_246
  let v606 : Index := Scalar.indexCast v553
  let c112_270 : Index := 112#32
  ![v606.toNat, 112]
def k0_off467 (v406 : BitVec 32) : Fin 1 → Nat :=
  let c0_i32_246 : BitVec 32 := 0#32
  let v553 : BitVec 32 := Scalar.maxsi v406 c0_i32_246
  let c16_i32_273 : BitVec 32 := 16#32
  let v613 : BitVec 32 := Scalar.muli v553 c16_i32_273
  let v614 : Index := Scalar.indexCast v613
  ![v614.toNat]

def k0_chk18 (v379 : BitVec 32) (v381 : BitVec 32) (v384 : BitVec 32) (v404 : BitVec 32) (v406 : BitVec 32) : Prop :=
  (∀ (k0_h36 : k0_cond36 v379 v381 v384 = 1#1), ∀ (k0_h39 : k0_cond39 v404 v406 = 1#1), ∀ a, (k0_off459 v406) a + S1x16.size a ≤ S512x128.size a) ∧
  (∀ (k0_h36 : k0_cond36 v379 v381 v384 = 1#1), ∀ (k0_h39 : k0_cond39 v404 v406 = 1#1), ∀ a, (k0_off460 v406) a + S1x16.size a ≤ S512x128.size a) ∧
  (∀ (k0_h36 : k0_cond36 v379 v381 v384 = 1#1), ∀ (k0_h39 : k0_cond39 v404 v406 = 1#1), ∀ a, (k0_off461 v406) a + S1x16.size a ≤ S512x128.size a) ∧
  (∀ (k0_h36 : k0_cond36 v379 v381 v384 = 1#1), ∀ (k0_h39 : k0_cond39 v404 v406 = 1#1), ∀ a, (k0_off462 v406) a + S1x16.size a ≤ S512x128.size a) ∧
  (∀ (k0_h36 : k0_cond36 v379 v381 v384 = 1#1), ∀ (k0_h39 : k0_cond39 v404 v406 = 1#1), ∀ a, (k0_off463 v406) a + S1x16.size a ≤ S512x128.size a) ∧
  (∀ (k0_h36 : k0_cond36 v379 v381 v384 = 1#1), ∀ (k0_h39 : k0_cond39 v404 v406 = 1#1), ∀ a, (k0_off464 v406) a + S1x16.size a ≤ S512x128.size a) ∧
  (∀ (k0_h36 : k0_cond36 v379 v381 v384 = 1#1), ∀ (k0_h39 : k0_cond39 v404 v406 = 1#1), ∀ a, (k0_off465 v406) a + S1x16.size a ≤ S512x128.size a) ∧
  (∀ (k0_h36 : k0_cond36 v379 v381 v384 = 1#1), ∀ (k0_h39 : k0_cond39 v404 v406 = 1#1), ∀ a, (k0_off466 v406) a + S1x16.size a ≤ S512x128.size a) ∧
  (∀ (k0_h36 : k0_cond36 v379 v381 v384 = 1#1), ∀ (k0_h39 : k0_cond39 v404 v406 = 1#1), ∀ a, (k0_off467 v406) a + S16.size a ≤ S8192.size a)
theorem k0_off459_inb : ∀ (v379 : BitVec 32) (v381 : BitVec 32) (v384 : BitVec 32) (v404 : BitVec 32) (v406 : BitVec 32) (k0_hw18 : k0_chk18 v379 v381 v384 v404 v406), ∀ (k0_h36 : k0_cond36 v379 v381 v384 = 1#1), ∀ (k0_h39 : k0_cond39 v404 v406 = 1#1), ∀ a, (k0_off459 v406) a + S1x16.size a ≤ S512x128.size a := fun v379 v381 v384 v404 v406 k0_hw18 k0_h36 k0_h39 => k0_hw18.1 k0_h36 k0_h39
theorem k0_off460_inb : ∀ (v379 : BitVec 32) (v381 : BitVec 32) (v384 : BitVec 32) (v404 : BitVec 32) (v406 : BitVec 32) (k0_hw18 : k0_chk18 v379 v381 v384 v404 v406), ∀ (k0_h36 : k0_cond36 v379 v381 v384 = 1#1), ∀ (k0_h39 : k0_cond39 v404 v406 = 1#1), ∀ a, (k0_off460 v406) a + S1x16.size a ≤ S512x128.size a := fun v379 v381 v384 v404 v406 k0_hw18 k0_h36 k0_h39 => k0_hw18.2.1 k0_h36 k0_h39
theorem k0_off461_inb : ∀ (v379 : BitVec 32) (v381 : BitVec 32) (v384 : BitVec 32) (v404 : BitVec 32) (v406 : BitVec 32) (k0_hw18 : k0_chk18 v379 v381 v384 v404 v406), ∀ (k0_h36 : k0_cond36 v379 v381 v384 = 1#1), ∀ (k0_h39 : k0_cond39 v404 v406 = 1#1), ∀ a, (k0_off461 v406) a + S1x16.size a ≤ S512x128.size a := fun v379 v381 v384 v404 v406 k0_hw18 k0_h36 k0_h39 => k0_hw18.2.2.1 k0_h36 k0_h39
theorem k0_off462_inb : ∀ (v379 : BitVec 32) (v381 : BitVec 32) (v384 : BitVec 32) (v404 : BitVec 32) (v406 : BitVec 32) (k0_hw18 : k0_chk18 v379 v381 v384 v404 v406), ∀ (k0_h36 : k0_cond36 v379 v381 v384 = 1#1), ∀ (k0_h39 : k0_cond39 v404 v406 = 1#1), ∀ a, (k0_off462 v406) a + S1x16.size a ≤ S512x128.size a := fun v379 v381 v384 v404 v406 k0_hw18 k0_h36 k0_h39 => k0_hw18.2.2.2.1 k0_h36 k0_h39
theorem k0_off463_inb : ∀ (v379 : BitVec 32) (v381 : BitVec 32) (v384 : BitVec 32) (v404 : BitVec 32) (v406 : BitVec 32) (k0_hw18 : k0_chk18 v379 v381 v384 v404 v406), ∀ (k0_h36 : k0_cond36 v379 v381 v384 = 1#1), ∀ (k0_h39 : k0_cond39 v404 v406 = 1#1), ∀ a, (k0_off463 v406) a + S1x16.size a ≤ S512x128.size a := fun v379 v381 v384 v404 v406 k0_hw18 k0_h36 k0_h39 => k0_hw18.2.2.2.2.1 k0_h36 k0_h39
theorem k0_off464_inb : ∀ (v379 : BitVec 32) (v381 : BitVec 32) (v384 : BitVec 32) (v404 : BitVec 32) (v406 : BitVec 32) (k0_hw18 : k0_chk18 v379 v381 v384 v404 v406), ∀ (k0_h36 : k0_cond36 v379 v381 v384 = 1#1), ∀ (k0_h39 : k0_cond39 v404 v406 = 1#1), ∀ a, (k0_off464 v406) a + S1x16.size a ≤ S512x128.size a := fun v379 v381 v384 v404 v406 k0_hw18 k0_h36 k0_h39 => k0_hw18.2.2.2.2.2.1 k0_h36 k0_h39
theorem k0_off465_inb : ∀ (v379 : BitVec 32) (v381 : BitVec 32) (v384 : BitVec 32) (v404 : BitVec 32) (v406 : BitVec 32) (k0_hw18 : k0_chk18 v379 v381 v384 v404 v406), ∀ (k0_h36 : k0_cond36 v379 v381 v384 = 1#1), ∀ (k0_h39 : k0_cond39 v404 v406 = 1#1), ∀ a, (k0_off465 v406) a + S1x16.size a ≤ S512x128.size a := fun v379 v381 v384 v404 v406 k0_hw18 k0_h36 k0_h39 => k0_hw18.2.2.2.2.2.2.1 k0_h36 k0_h39
theorem k0_off466_inb : ∀ (v379 : BitVec 32) (v381 : BitVec 32) (v384 : BitVec 32) (v404 : BitVec 32) (v406 : BitVec 32) (k0_hw18 : k0_chk18 v379 v381 v384 v404 v406), ∀ (k0_h36 : k0_cond36 v379 v381 v384 = 1#1), ∀ (k0_h39 : k0_cond39 v404 v406 = 1#1), ∀ a, (k0_off466 v406) a + S1x16.size a ≤ S512x128.size a := fun v379 v381 v384 v404 v406 k0_hw18 k0_h36 k0_h39 => k0_hw18.2.2.2.2.2.2.2.1 k0_h36 k0_h39
theorem k0_off467_inb : ∀ (v379 : BitVec 32) (v381 : BitVec 32) (v384 : BitVec 32) (v404 : BitVec 32) (v406 : BitVec 32) (k0_hw18 : k0_chk18 v379 v381 v384 v404 v406), ∀ (k0_h36 : k0_cond36 v379 v381 v384 = 1#1), ∀ (k0_h39 : k0_cond39 v404 v406 = 1#1), ∀ a, (k0_off467 v406) a + S16.size a ≤ S8192.size a := fun v379 v381 v384 v404 v406 k0_hw18 k0_h36 k0_h39 => k0_hw18.2.2.2.2.2.2.2.2 k0_h36 k0_h39

def k0_off468 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c1_i32_274 : BitVec 32 := 1#32
  let v618 : BitVec 32 := Scalar.addi v382 c1_i32_274
  let v619 : Index := Scalar.indexCast v618
  let c0_275 : Index := 0#32
  ![v619.toNat, 0]
def k0_off469 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c1_i32_278 : BitVec 32 := 1#32
  let v626 : BitVec 32 := Scalar.addi v382 c1_i32_278
  let v627 : Index := Scalar.indexCast v626
  let c16_279 : Index := 16#32
  ![v627.toNat, 16]
def k0_off470 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c1_i32_282 : BitVec 32 := 1#32
  let v634 : BitVec 32 := Scalar.addi v382 c1_i32_282
  let v635 : Index := Scalar.indexCast v634
  let c32_283 : Index := 32#32
  ![v635.toNat, 32]
def k0_off471 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c1_i32_286 : BitVec 32 := 1#32
  let v642 : BitVec 32 := Scalar.addi v382 c1_i32_286
  let v643 : Index := Scalar.indexCast v642
  let c48_287 : Index := 48#32
  ![v643.toNat, 48]
def k0_off472 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c1_i32_290 : BitVec 32 := 1#32
  let v650 : BitVec 32 := Scalar.addi v382 c1_i32_290
  let v651 : Index := Scalar.indexCast v650
  let c64_291 : Index := 64#32
  ![v651.toNat, 64]
def k0_off473 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c1_i32_294 : BitVec 32 := 1#32
  let v658 : BitVec 32 := Scalar.addi v382 c1_i32_294
  let v659 : Index := Scalar.indexCast v658
  let c80_295 : Index := 80#32
  ![v659.toNat, 80]
def k0_off474 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c1_i32_298 : BitVec 32 := 1#32
  let v666 : BitVec 32 := Scalar.addi v382 c1_i32_298
  let v667 : Index := Scalar.indexCast v666
  let c96_299 : Index := 96#32
  ![v667.toNat, 96]
def k0_off475 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c1_i32_302 : BitVec 32 := 1#32
  let v674 : BitVec 32 := Scalar.addi v382 c1_i32_302
  let v675 : Index := Scalar.indexCast v674
  let c112_303 : Index := 112#32
  ![v675.toNat, 112]
def k0_off476 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c1_i32_248 : BitVec 32 := 1#32
  let v556 : BitVec 32 := Scalar.addi v382 c1_i32_248
  let v557 : Index := Scalar.indexCast v556
  let c0_249 : Index := 0#32
  ![v557.toNat, 0]
def k0_off477 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c1_i32_254 : BitVec 32 := 1#32
  let v568 : BitVec 32 := Scalar.addi v382 c1_i32_254
  let v569 : Index := Scalar.indexCast v568
  let c16_255 : Index := 16#32
  ![v569.toNat, 16]
def k0_off478 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c1_i32_260 : BitVec 32 := 1#32
  let v580 : BitVec 32 := Scalar.addi v382 c1_i32_260
  let v581 : Index := Scalar.indexCast v580
  let c32_261 : Index := 32#32
  ![v581.toNat, 32]
def k0_off479 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c1_i32_266 : BitVec 32 := 1#32
  let v592 : BitVec 32 := Scalar.addi v382 c1_i32_266
  let v593 : Index := Scalar.indexCast v592
  let c48_267 : Index := 48#32
  ![v593.toNat, 48]
def k0_off480 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c1_i32_272 : BitVec 32 := 1#32
  let v604 : BitVec 32 := Scalar.addi v382 c1_i32_272
  let v605 : Index := Scalar.indexCast v604
  let c64_273 : Index := 64#32
  ![v605.toNat, 64]
def k0_off481 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c1_i32_278 : BitVec 32 := 1#32
  let v616 : BitVec 32 := Scalar.addi v382 c1_i32_278
  let v617 : Index := Scalar.indexCast v616
  let c80_279 : Index := 80#32
  ![v617.toNat, 80]
def k0_off482 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c1_i32_284 : BitVec 32 := 1#32
  let v628 : BitVec 32 := Scalar.addi v382 c1_i32_284
  let v629 : Index := Scalar.indexCast v628
  let c96_285 : Index := 96#32
  ![v629.toNat, 96]
def k0_off483 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c1_i32_290 : BitVec 32 := 1#32
  let v640 : BitVec 32 := Scalar.addi v382 c1_i32_290
  let v641 : Index := Scalar.indexCast v640
  let c112_291 : Index := 112#32
  ![v641.toNat, 112]
def k0_off484 (v416 : BitVec 32) : Fin 2 → Nat :=
  let c0_i32_246 : BitVec 32 := 0#32
  let v553 : BitVec 32 := Scalar.maxsi v416 c0_i32_246
  let v557 : Index := Scalar.indexCast v553
  let c0_249 : Index := 0#32
  ![v557.toNat, 0]
def k0_cond41 (v414 : BitVec 32) (v416 : BitVec 32) : BitVec 1 :=
  let v417 : BitVec 1 := Scalar.cmpi .ne v414 v416
  let v418 : BitVec 32 := Scalar.extui v417
  let c0_i32_205 : BitVec 32 := 0#32
  let v419 : BitVec 1 := Scalar.cmpi .ne v418 c0_i32_205
  v419

def k0_off485 (v416 : BitVec 32) : Fin 2 → Nat :=
  let c0_i32_246 : BitVec 32 := 0#32
  let v553 : BitVec 32 := Scalar.maxsi v416 c0_i32_246
  let v564 : Index := Scalar.indexCast v553
  let c16_252 : Index := 16#32
  ![v564.toNat, 16]
def k0_off486 (v416 : BitVec 32) : Fin 2 → Nat :=
  let c0_i32_246 : BitVec 32 := 0#32
  let v553 : BitVec 32 := Scalar.maxsi v416 c0_i32_246
  let v571 : Index := Scalar.indexCast v553
  let c32_255 : Index := 32#32
  ![v571.toNat, 32]
def k0_off487 (v416 : BitVec 32) : Fin 2 → Nat :=
  let c0_i32_246 : BitVec 32 := 0#32
  let v553 : BitVec 32 := Scalar.maxsi v416 c0_i32_246
  let v578 : Index := Scalar.indexCast v553
  let c48_258 : Index := 48#32
  ![v578.toNat, 48]
def k0_off488 (v416 : BitVec 32) : Fin 2 → Nat :=
  let c0_i32_246 : BitVec 32 := 0#32
  let v553 : BitVec 32 := Scalar.maxsi v416 c0_i32_246
  let v585 : Index := Scalar.indexCast v553
  let c64_261 : Index := 64#32
  ![v585.toNat, 64]
def k0_off489 (v416 : BitVec 32) : Fin 2 → Nat :=
  let c0_i32_246 : BitVec 32 := 0#32
  let v553 : BitVec 32 := Scalar.maxsi v416 c0_i32_246
  let v592 : Index := Scalar.indexCast v553
  let c80_264 : Index := 80#32
  ![v592.toNat, 80]
def k0_off490 (v416 : BitVec 32) : Fin 2 → Nat :=
  let c0_i32_246 : BitVec 32 := 0#32
  let v553 : BitVec 32 := Scalar.maxsi v416 c0_i32_246
  let v599 : Index := Scalar.indexCast v553
  let c96_267 : Index := 96#32
  ![v599.toNat, 96]
def k0_off491 (v416 : BitVec 32) : Fin 2 → Nat :=
  let c0_i32_246 : BitVec 32 := 0#32
  let v553 : BitVec 32 := Scalar.maxsi v416 c0_i32_246
  let v606 : Index := Scalar.indexCast v553
  let c112_270 : Index := 112#32
  ![v606.toNat, 112]
def k0_off492 (v416 : BitVec 32) : Fin 1 → Nat :=
  let c0_i32_246 : BitVec 32 := 0#32
  let v553 : BitVec 32 := Scalar.maxsi v416 c0_i32_246
  let c16_i32_273 : BitVec 32 := 16#32
  let v613 : BitVec 32 := Scalar.muli v553 c16_i32_273
  let v614 : Index := Scalar.indexCast v613
  ![v614.toNat]

def k0_chk19 (v379 : BitVec 32) (v381 : BitVec 32) (v384 : BitVec 32) (v414 : BitVec 32) (v416 : BitVec 32) : Prop :=
  (∀ (k0_h36 : k0_cond36 v379 v381 v384 = 1#1), ∀ (k0_h41 : k0_cond41 v414 v416 = 1#1), ∀ a, (k0_off484 v416) a + S1x16.size a ≤ S512x128.size a) ∧
  (∀ (k0_h36 : k0_cond36 v379 v381 v384 = 1#1), ∀ (k0_h41 : k0_cond41 v414 v416 = 1#1), ∀ a, (k0_off485 v416) a + S1x16.size a ≤ S512x128.size a) ∧
  (∀ (k0_h36 : k0_cond36 v379 v381 v384 = 1#1), ∀ (k0_h41 : k0_cond41 v414 v416 = 1#1), ∀ a, (k0_off486 v416) a + S1x16.size a ≤ S512x128.size a) ∧
  (∀ (k0_h36 : k0_cond36 v379 v381 v384 = 1#1), ∀ (k0_h41 : k0_cond41 v414 v416 = 1#1), ∀ a, (k0_off487 v416) a + S1x16.size a ≤ S512x128.size a) ∧
  (∀ (k0_h36 : k0_cond36 v379 v381 v384 = 1#1), ∀ (k0_h41 : k0_cond41 v414 v416 = 1#1), ∀ a, (k0_off488 v416) a + S1x16.size a ≤ S512x128.size a) ∧
  (∀ (k0_h36 : k0_cond36 v379 v381 v384 = 1#1), ∀ (k0_h41 : k0_cond41 v414 v416 = 1#1), ∀ a, (k0_off489 v416) a + S1x16.size a ≤ S512x128.size a) ∧
  (∀ (k0_h36 : k0_cond36 v379 v381 v384 = 1#1), ∀ (k0_h41 : k0_cond41 v414 v416 = 1#1), ∀ a, (k0_off490 v416) a + S1x16.size a ≤ S512x128.size a) ∧
  (∀ (k0_h36 : k0_cond36 v379 v381 v384 = 1#1), ∀ (k0_h41 : k0_cond41 v414 v416 = 1#1), ∀ a, (k0_off491 v416) a + S1x16.size a ≤ S512x128.size a) ∧
  (∀ (k0_h36 : k0_cond36 v379 v381 v384 = 1#1), ∀ (k0_h41 : k0_cond41 v414 v416 = 1#1), ∀ a, (k0_off492 v416) a + S16.size a ≤ S8192.size a)
theorem k0_off484_inb : ∀ (v379 : BitVec 32) (v381 : BitVec 32) (v384 : BitVec 32) (v414 : BitVec 32) (v416 : BitVec 32) (k0_hw19 : k0_chk19 v379 v381 v384 v414 v416), ∀ (k0_h36 : k0_cond36 v379 v381 v384 = 1#1), ∀ (k0_h41 : k0_cond41 v414 v416 = 1#1), ∀ a, (k0_off484 v416) a + S1x16.size a ≤ S512x128.size a := fun v379 v381 v384 v414 v416 k0_hw19 k0_h36 k0_h41 => k0_hw19.1 k0_h36 k0_h41
theorem k0_off485_inb : ∀ (v379 : BitVec 32) (v381 : BitVec 32) (v384 : BitVec 32) (v414 : BitVec 32) (v416 : BitVec 32) (k0_hw19 : k0_chk19 v379 v381 v384 v414 v416), ∀ (k0_h36 : k0_cond36 v379 v381 v384 = 1#1), ∀ (k0_h41 : k0_cond41 v414 v416 = 1#1), ∀ a, (k0_off485 v416) a + S1x16.size a ≤ S512x128.size a := fun v379 v381 v384 v414 v416 k0_hw19 k0_h36 k0_h41 => k0_hw19.2.1 k0_h36 k0_h41
theorem k0_off486_inb : ∀ (v379 : BitVec 32) (v381 : BitVec 32) (v384 : BitVec 32) (v414 : BitVec 32) (v416 : BitVec 32) (k0_hw19 : k0_chk19 v379 v381 v384 v414 v416), ∀ (k0_h36 : k0_cond36 v379 v381 v384 = 1#1), ∀ (k0_h41 : k0_cond41 v414 v416 = 1#1), ∀ a, (k0_off486 v416) a + S1x16.size a ≤ S512x128.size a := fun v379 v381 v384 v414 v416 k0_hw19 k0_h36 k0_h41 => k0_hw19.2.2.1 k0_h36 k0_h41
theorem k0_off487_inb : ∀ (v379 : BitVec 32) (v381 : BitVec 32) (v384 : BitVec 32) (v414 : BitVec 32) (v416 : BitVec 32) (k0_hw19 : k0_chk19 v379 v381 v384 v414 v416), ∀ (k0_h36 : k0_cond36 v379 v381 v384 = 1#1), ∀ (k0_h41 : k0_cond41 v414 v416 = 1#1), ∀ a, (k0_off487 v416) a + S1x16.size a ≤ S512x128.size a := fun v379 v381 v384 v414 v416 k0_hw19 k0_h36 k0_h41 => k0_hw19.2.2.2.1 k0_h36 k0_h41
theorem k0_off488_inb : ∀ (v379 : BitVec 32) (v381 : BitVec 32) (v384 : BitVec 32) (v414 : BitVec 32) (v416 : BitVec 32) (k0_hw19 : k0_chk19 v379 v381 v384 v414 v416), ∀ (k0_h36 : k0_cond36 v379 v381 v384 = 1#1), ∀ (k0_h41 : k0_cond41 v414 v416 = 1#1), ∀ a, (k0_off488 v416) a + S1x16.size a ≤ S512x128.size a := fun v379 v381 v384 v414 v416 k0_hw19 k0_h36 k0_h41 => k0_hw19.2.2.2.2.1 k0_h36 k0_h41
theorem k0_off489_inb : ∀ (v379 : BitVec 32) (v381 : BitVec 32) (v384 : BitVec 32) (v414 : BitVec 32) (v416 : BitVec 32) (k0_hw19 : k0_chk19 v379 v381 v384 v414 v416), ∀ (k0_h36 : k0_cond36 v379 v381 v384 = 1#1), ∀ (k0_h41 : k0_cond41 v414 v416 = 1#1), ∀ a, (k0_off489 v416) a + S1x16.size a ≤ S512x128.size a := fun v379 v381 v384 v414 v416 k0_hw19 k0_h36 k0_h41 => k0_hw19.2.2.2.2.2.1 k0_h36 k0_h41
theorem k0_off490_inb : ∀ (v379 : BitVec 32) (v381 : BitVec 32) (v384 : BitVec 32) (v414 : BitVec 32) (v416 : BitVec 32) (k0_hw19 : k0_chk19 v379 v381 v384 v414 v416), ∀ (k0_h36 : k0_cond36 v379 v381 v384 = 1#1), ∀ (k0_h41 : k0_cond41 v414 v416 = 1#1), ∀ a, (k0_off490 v416) a + S1x16.size a ≤ S512x128.size a := fun v379 v381 v384 v414 v416 k0_hw19 k0_h36 k0_h41 => k0_hw19.2.2.2.2.2.2.1 k0_h36 k0_h41
theorem k0_off491_inb : ∀ (v379 : BitVec 32) (v381 : BitVec 32) (v384 : BitVec 32) (v414 : BitVec 32) (v416 : BitVec 32) (k0_hw19 : k0_chk19 v379 v381 v384 v414 v416), ∀ (k0_h36 : k0_cond36 v379 v381 v384 = 1#1), ∀ (k0_h41 : k0_cond41 v414 v416 = 1#1), ∀ a, (k0_off491 v416) a + S1x16.size a ≤ S512x128.size a := fun v379 v381 v384 v414 v416 k0_hw19 k0_h36 k0_h41 => k0_hw19.2.2.2.2.2.2.2.1 k0_h36 k0_h41
theorem k0_off492_inb : ∀ (v379 : BitVec 32) (v381 : BitVec 32) (v384 : BitVec 32) (v414 : BitVec 32) (v416 : BitVec 32) (k0_hw19 : k0_chk19 v379 v381 v384 v414 v416), ∀ (k0_h36 : k0_cond36 v379 v381 v384 = 1#1), ∀ (k0_h41 : k0_cond41 v414 v416 = 1#1), ∀ a, (k0_off492 v416) a + S16.size a ≤ S8192.size a := fun v379 v381 v384 v414 v416 k0_hw19 k0_h36 k0_h41 => k0_hw19.2.2.2.2.2.2.2.2 k0_h36 k0_h41

def k0_off493 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c2_i32_274 : BitVec 32 := 2#32
  let v618 : BitVec 32 := Scalar.addi v382 c2_i32_274
  let v619 : Index := Scalar.indexCast v618
  let c0_275 : Index := 0#32
  ![v619.toNat, 0]
def k0_off494 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c2_i32_278 : BitVec 32 := 2#32
  let v626 : BitVec 32 := Scalar.addi v382 c2_i32_278
  let v627 : Index := Scalar.indexCast v626
  let c16_279 : Index := 16#32
  ![v627.toNat, 16]
def k0_off495 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c2_i32_282 : BitVec 32 := 2#32
  let v634 : BitVec 32 := Scalar.addi v382 c2_i32_282
  let v635 : Index := Scalar.indexCast v634
  let c32_283 : Index := 32#32
  ![v635.toNat, 32]
def k0_off496 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c2_i32_286 : BitVec 32 := 2#32
  let v642 : BitVec 32 := Scalar.addi v382 c2_i32_286
  let v643 : Index := Scalar.indexCast v642
  let c48_287 : Index := 48#32
  ![v643.toNat, 48]
def k0_off497 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c2_i32_290 : BitVec 32 := 2#32
  let v650 : BitVec 32 := Scalar.addi v382 c2_i32_290
  let v651 : Index := Scalar.indexCast v650
  let c64_291 : Index := 64#32
  ![v651.toNat, 64]
def k0_off498 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c2_i32_294 : BitVec 32 := 2#32
  let v658 : BitVec 32 := Scalar.addi v382 c2_i32_294
  let v659 : Index := Scalar.indexCast v658
  let c80_295 : Index := 80#32
  ![v659.toNat, 80]
def k0_off499 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c2_i32_298 : BitVec 32 := 2#32
  let v666 : BitVec 32 := Scalar.addi v382 c2_i32_298
  let v667 : Index := Scalar.indexCast v666
  let c96_299 : Index := 96#32
  ![v667.toNat, 96]
def k0_off500 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c2_i32_302 : BitVec 32 := 2#32
  let v674 : BitVec 32 := Scalar.addi v382 c2_i32_302
  let v675 : Index := Scalar.indexCast v674
  let c112_303 : Index := 112#32
  ![v675.toNat, 112]
def k0_off501 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c2_i32_248 : BitVec 32 := 2#32
  let v556 : BitVec 32 := Scalar.addi v382 c2_i32_248
  let v557 : Index := Scalar.indexCast v556
  let c0_249 : Index := 0#32
  ![v557.toNat, 0]
def k0_off502 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c2_i32_254 : BitVec 32 := 2#32
  let v568 : BitVec 32 := Scalar.addi v382 c2_i32_254
  let v569 : Index := Scalar.indexCast v568
  let c16_255 : Index := 16#32
  ![v569.toNat, 16]
def k0_off503 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c2_i32_260 : BitVec 32 := 2#32
  let v580 : BitVec 32 := Scalar.addi v382 c2_i32_260
  let v581 : Index := Scalar.indexCast v580
  let c32_261 : Index := 32#32
  ![v581.toNat, 32]
def k0_off504 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c2_i32_266 : BitVec 32 := 2#32
  let v592 : BitVec 32 := Scalar.addi v382 c2_i32_266
  let v593 : Index := Scalar.indexCast v592
  let c48_267 : Index := 48#32
  ![v593.toNat, 48]
def k0_off505 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c2_i32_272 : BitVec 32 := 2#32
  let v604 : BitVec 32 := Scalar.addi v382 c2_i32_272
  let v605 : Index := Scalar.indexCast v604
  let c64_273 : Index := 64#32
  ![v605.toNat, 64]
def k0_off506 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c2_i32_278 : BitVec 32 := 2#32
  let v616 : BitVec 32 := Scalar.addi v382 c2_i32_278
  let v617 : Index := Scalar.indexCast v616
  let c80_279 : Index := 80#32
  ![v617.toNat, 80]
def k0_off507 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c2_i32_284 : BitVec 32 := 2#32
  let v628 : BitVec 32 := Scalar.addi v382 c2_i32_284
  let v629 : Index := Scalar.indexCast v628
  let c96_285 : Index := 96#32
  ![v629.toNat, 96]
def k0_off508 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c2_i32_290 : BitVec 32 := 2#32
  let v640 : BitVec 32 := Scalar.addi v382 c2_i32_290
  let v641 : Index := Scalar.indexCast v640
  let c112_291 : Index := 112#32
  ![v641.toNat, 112]
def k0_off509 (v426 : BitVec 32) : Fin 2 → Nat :=
  let c0_i32_246 : BitVec 32 := 0#32
  let v553 : BitVec 32 := Scalar.maxsi v426 c0_i32_246
  let v557 : Index := Scalar.indexCast v553
  let c0_249 : Index := 0#32
  ![v557.toNat, 0]
def k0_cond43 (v424 : BitVec 32) (v426 : BitVec 32) : BitVec 1 :=
  let v427 : BitVec 1 := Scalar.cmpi .ne v424 v426
  let v428 : BitVec 32 := Scalar.extui v427
  let c0_i32_208 : BitVec 32 := 0#32
  let v429 : BitVec 1 := Scalar.cmpi .ne v428 c0_i32_208
  v429

def k0_off510 (v426 : BitVec 32) : Fin 2 → Nat :=
  let c0_i32_246 : BitVec 32 := 0#32
  let v553 : BitVec 32 := Scalar.maxsi v426 c0_i32_246
  let v564 : Index := Scalar.indexCast v553
  let c16_252 : Index := 16#32
  ![v564.toNat, 16]
def k0_off511 (v426 : BitVec 32) : Fin 2 → Nat :=
  let c0_i32_246 : BitVec 32 := 0#32
  let v553 : BitVec 32 := Scalar.maxsi v426 c0_i32_246
  let v571 : Index := Scalar.indexCast v553
  let c32_255 : Index := 32#32
  ![v571.toNat, 32]
def k0_off512 (v426 : BitVec 32) : Fin 2 → Nat :=
  let c0_i32_246 : BitVec 32 := 0#32
  let v553 : BitVec 32 := Scalar.maxsi v426 c0_i32_246
  let v578 : Index := Scalar.indexCast v553
  let c48_258 : Index := 48#32
  ![v578.toNat, 48]
def k0_off513 (v426 : BitVec 32) : Fin 2 → Nat :=
  let c0_i32_246 : BitVec 32 := 0#32
  let v553 : BitVec 32 := Scalar.maxsi v426 c0_i32_246
  let v585 : Index := Scalar.indexCast v553
  let c64_261 : Index := 64#32
  ![v585.toNat, 64]
def k0_off514 (v426 : BitVec 32) : Fin 2 → Nat :=
  let c0_i32_246 : BitVec 32 := 0#32
  let v553 : BitVec 32 := Scalar.maxsi v426 c0_i32_246
  let v592 : Index := Scalar.indexCast v553
  let c80_264 : Index := 80#32
  ![v592.toNat, 80]
def k0_off515 (v426 : BitVec 32) : Fin 2 → Nat :=
  let c0_i32_246 : BitVec 32 := 0#32
  let v553 : BitVec 32 := Scalar.maxsi v426 c0_i32_246
  let v599 : Index := Scalar.indexCast v553
  let c96_267 : Index := 96#32
  ![v599.toNat, 96]
def k0_off516 (v426 : BitVec 32) : Fin 2 → Nat :=
  let c0_i32_246 : BitVec 32 := 0#32
  let v553 : BitVec 32 := Scalar.maxsi v426 c0_i32_246
  let v606 : Index := Scalar.indexCast v553
  let c112_270 : Index := 112#32
  ![v606.toNat, 112]
def k0_off517 (v426 : BitVec 32) : Fin 1 → Nat :=
  let c0_i32_246 : BitVec 32 := 0#32
  let v553 : BitVec 32 := Scalar.maxsi v426 c0_i32_246
  let c16_i32_273 : BitVec 32 := 16#32
  let v613 : BitVec 32 := Scalar.muli v553 c16_i32_273
  let v614 : Index := Scalar.indexCast v613
  ![v614.toNat]

def k0_chk20 (v379 : BitVec 32) (v381 : BitVec 32) (v384 : BitVec 32) (v424 : BitVec 32) (v426 : BitVec 32) : Prop :=
  (∀ (k0_h36 : k0_cond36 v379 v381 v384 = 1#1), ∀ (k0_h43 : k0_cond43 v424 v426 = 1#1), ∀ a, (k0_off509 v426) a + S1x16.size a ≤ S512x128.size a) ∧
  (∀ (k0_h36 : k0_cond36 v379 v381 v384 = 1#1), ∀ (k0_h43 : k0_cond43 v424 v426 = 1#1), ∀ a, (k0_off510 v426) a + S1x16.size a ≤ S512x128.size a) ∧
  (∀ (k0_h36 : k0_cond36 v379 v381 v384 = 1#1), ∀ (k0_h43 : k0_cond43 v424 v426 = 1#1), ∀ a, (k0_off511 v426) a + S1x16.size a ≤ S512x128.size a) ∧
  (∀ (k0_h36 : k0_cond36 v379 v381 v384 = 1#1), ∀ (k0_h43 : k0_cond43 v424 v426 = 1#1), ∀ a, (k0_off512 v426) a + S1x16.size a ≤ S512x128.size a) ∧
  (∀ (k0_h36 : k0_cond36 v379 v381 v384 = 1#1), ∀ (k0_h43 : k0_cond43 v424 v426 = 1#1), ∀ a, (k0_off513 v426) a + S1x16.size a ≤ S512x128.size a) ∧
  (∀ (k0_h36 : k0_cond36 v379 v381 v384 = 1#1), ∀ (k0_h43 : k0_cond43 v424 v426 = 1#1), ∀ a, (k0_off514 v426) a + S1x16.size a ≤ S512x128.size a) ∧
  (∀ (k0_h36 : k0_cond36 v379 v381 v384 = 1#1), ∀ (k0_h43 : k0_cond43 v424 v426 = 1#1), ∀ a, (k0_off515 v426) a + S1x16.size a ≤ S512x128.size a) ∧
  (∀ (k0_h36 : k0_cond36 v379 v381 v384 = 1#1), ∀ (k0_h43 : k0_cond43 v424 v426 = 1#1), ∀ a, (k0_off516 v426) a + S1x16.size a ≤ S512x128.size a) ∧
  (∀ (k0_h36 : k0_cond36 v379 v381 v384 = 1#1), ∀ (k0_h43 : k0_cond43 v424 v426 = 1#1), ∀ a, (k0_off517 v426) a + S16.size a ≤ S8192.size a)
theorem k0_off509_inb : ∀ (v379 : BitVec 32) (v381 : BitVec 32) (v384 : BitVec 32) (v424 : BitVec 32) (v426 : BitVec 32) (k0_hw20 : k0_chk20 v379 v381 v384 v424 v426), ∀ (k0_h36 : k0_cond36 v379 v381 v384 = 1#1), ∀ (k0_h43 : k0_cond43 v424 v426 = 1#1), ∀ a, (k0_off509 v426) a + S1x16.size a ≤ S512x128.size a := fun v379 v381 v384 v424 v426 k0_hw20 k0_h36 k0_h43 => k0_hw20.1 k0_h36 k0_h43
theorem k0_off510_inb : ∀ (v379 : BitVec 32) (v381 : BitVec 32) (v384 : BitVec 32) (v424 : BitVec 32) (v426 : BitVec 32) (k0_hw20 : k0_chk20 v379 v381 v384 v424 v426), ∀ (k0_h36 : k0_cond36 v379 v381 v384 = 1#1), ∀ (k0_h43 : k0_cond43 v424 v426 = 1#1), ∀ a, (k0_off510 v426) a + S1x16.size a ≤ S512x128.size a := fun v379 v381 v384 v424 v426 k0_hw20 k0_h36 k0_h43 => k0_hw20.2.1 k0_h36 k0_h43
theorem k0_off511_inb : ∀ (v379 : BitVec 32) (v381 : BitVec 32) (v384 : BitVec 32) (v424 : BitVec 32) (v426 : BitVec 32) (k0_hw20 : k0_chk20 v379 v381 v384 v424 v426), ∀ (k0_h36 : k0_cond36 v379 v381 v384 = 1#1), ∀ (k0_h43 : k0_cond43 v424 v426 = 1#1), ∀ a, (k0_off511 v426) a + S1x16.size a ≤ S512x128.size a := fun v379 v381 v384 v424 v426 k0_hw20 k0_h36 k0_h43 => k0_hw20.2.2.1 k0_h36 k0_h43
theorem k0_off512_inb : ∀ (v379 : BitVec 32) (v381 : BitVec 32) (v384 : BitVec 32) (v424 : BitVec 32) (v426 : BitVec 32) (k0_hw20 : k0_chk20 v379 v381 v384 v424 v426), ∀ (k0_h36 : k0_cond36 v379 v381 v384 = 1#1), ∀ (k0_h43 : k0_cond43 v424 v426 = 1#1), ∀ a, (k0_off512 v426) a + S1x16.size a ≤ S512x128.size a := fun v379 v381 v384 v424 v426 k0_hw20 k0_h36 k0_h43 => k0_hw20.2.2.2.1 k0_h36 k0_h43
theorem k0_off513_inb : ∀ (v379 : BitVec 32) (v381 : BitVec 32) (v384 : BitVec 32) (v424 : BitVec 32) (v426 : BitVec 32) (k0_hw20 : k0_chk20 v379 v381 v384 v424 v426), ∀ (k0_h36 : k0_cond36 v379 v381 v384 = 1#1), ∀ (k0_h43 : k0_cond43 v424 v426 = 1#1), ∀ a, (k0_off513 v426) a + S1x16.size a ≤ S512x128.size a := fun v379 v381 v384 v424 v426 k0_hw20 k0_h36 k0_h43 => k0_hw20.2.2.2.2.1 k0_h36 k0_h43
theorem k0_off514_inb : ∀ (v379 : BitVec 32) (v381 : BitVec 32) (v384 : BitVec 32) (v424 : BitVec 32) (v426 : BitVec 32) (k0_hw20 : k0_chk20 v379 v381 v384 v424 v426), ∀ (k0_h36 : k0_cond36 v379 v381 v384 = 1#1), ∀ (k0_h43 : k0_cond43 v424 v426 = 1#1), ∀ a, (k0_off514 v426) a + S1x16.size a ≤ S512x128.size a := fun v379 v381 v384 v424 v426 k0_hw20 k0_h36 k0_h43 => k0_hw20.2.2.2.2.2.1 k0_h36 k0_h43
theorem k0_off515_inb : ∀ (v379 : BitVec 32) (v381 : BitVec 32) (v384 : BitVec 32) (v424 : BitVec 32) (v426 : BitVec 32) (k0_hw20 : k0_chk20 v379 v381 v384 v424 v426), ∀ (k0_h36 : k0_cond36 v379 v381 v384 = 1#1), ∀ (k0_h43 : k0_cond43 v424 v426 = 1#1), ∀ a, (k0_off515 v426) a + S1x16.size a ≤ S512x128.size a := fun v379 v381 v384 v424 v426 k0_hw20 k0_h36 k0_h43 => k0_hw20.2.2.2.2.2.2.1 k0_h36 k0_h43
theorem k0_off516_inb : ∀ (v379 : BitVec 32) (v381 : BitVec 32) (v384 : BitVec 32) (v424 : BitVec 32) (v426 : BitVec 32) (k0_hw20 : k0_chk20 v379 v381 v384 v424 v426), ∀ (k0_h36 : k0_cond36 v379 v381 v384 = 1#1), ∀ (k0_h43 : k0_cond43 v424 v426 = 1#1), ∀ a, (k0_off516 v426) a + S1x16.size a ≤ S512x128.size a := fun v379 v381 v384 v424 v426 k0_hw20 k0_h36 k0_h43 => k0_hw20.2.2.2.2.2.2.2.1 k0_h36 k0_h43
theorem k0_off517_inb : ∀ (v379 : BitVec 32) (v381 : BitVec 32) (v384 : BitVec 32) (v424 : BitVec 32) (v426 : BitVec 32) (k0_hw20 : k0_chk20 v379 v381 v384 v424 v426), ∀ (k0_h36 : k0_cond36 v379 v381 v384 = 1#1), ∀ (k0_h43 : k0_cond43 v424 v426 = 1#1), ∀ a, (k0_off517 v426) a + S16.size a ≤ S8192.size a := fun v379 v381 v384 v424 v426 k0_hw20 k0_h36 k0_h43 => k0_hw20.2.2.2.2.2.2.2.2 k0_h36 k0_h43

def k0_off518 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c3_i32_274 : BitVec 32 := 3#32
  let v618 : BitVec 32 := Scalar.addi v382 c3_i32_274
  let v619 : Index := Scalar.indexCast v618
  let c0_275 : Index := 0#32
  ![v619.toNat, 0]
def k0_off519 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c3_i32_278 : BitVec 32 := 3#32
  let v626 : BitVec 32 := Scalar.addi v382 c3_i32_278
  let v627 : Index := Scalar.indexCast v626
  let c16_279 : Index := 16#32
  ![v627.toNat, 16]
def k0_off520 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c3_i32_282 : BitVec 32 := 3#32
  let v634 : BitVec 32 := Scalar.addi v382 c3_i32_282
  let v635 : Index := Scalar.indexCast v634
  let c32_283 : Index := 32#32
  ![v635.toNat, 32]
def k0_off521 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c3_i32_286 : BitVec 32 := 3#32
  let v642 : BitVec 32 := Scalar.addi v382 c3_i32_286
  let v643 : Index := Scalar.indexCast v642
  let c48_287 : Index := 48#32
  ![v643.toNat, 48]
def k0_off522 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c3_i32_290 : BitVec 32 := 3#32
  let v650 : BitVec 32 := Scalar.addi v382 c3_i32_290
  let v651 : Index := Scalar.indexCast v650
  let c64_291 : Index := 64#32
  ![v651.toNat, 64]
def k0_off523 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c3_i32_294 : BitVec 32 := 3#32
  let v658 : BitVec 32 := Scalar.addi v382 c3_i32_294
  let v659 : Index := Scalar.indexCast v658
  let c80_295 : Index := 80#32
  ![v659.toNat, 80]
def k0_off524 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c3_i32_298 : BitVec 32 := 3#32
  let v666 : BitVec 32 := Scalar.addi v382 c3_i32_298
  let v667 : Index := Scalar.indexCast v666
  let c96_299 : Index := 96#32
  ![v667.toNat, 96]
def k0_off525 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c3_i32_302 : BitVec 32 := 3#32
  let v674 : BitVec 32 := Scalar.addi v382 c3_i32_302
  let v675 : Index := Scalar.indexCast v674
  let c112_303 : Index := 112#32
  ![v675.toNat, 112]
def k0_off526 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c3_i32_248 : BitVec 32 := 3#32
  let v556 : BitVec 32 := Scalar.addi v382 c3_i32_248
  let v557 : Index := Scalar.indexCast v556
  let c0_249 : Index := 0#32
  ![v557.toNat, 0]
def k0_off527 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c3_i32_254 : BitVec 32 := 3#32
  let v568 : BitVec 32 := Scalar.addi v382 c3_i32_254
  let v569 : Index := Scalar.indexCast v568
  let c16_255 : Index := 16#32
  ![v569.toNat, 16]
def k0_off528 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c3_i32_260 : BitVec 32 := 3#32
  let v580 : BitVec 32 := Scalar.addi v382 c3_i32_260
  let v581 : Index := Scalar.indexCast v580
  let c32_261 : Index := 32#32
  ![v581.toNat, 32]
def k0_off529 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c3_i32_266 : BitVec 32 := 3#32
  let v592 : BitVec 32 := Scalar.addi v382 c3_i32_266
  let v593 : Index := Scalar.indexCast v592
  let c48_267 : Index := 48#32
  ![v593.toNat, 48]
def k0_off530 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c3_i32_272 : BitVec 32 := 3#32
  let v604 : BitVec 32 := Scalar.addi v382 c3_i32_272
  let v605 : Index := Scalar.indexCast v604
  let c64_273 : Index := 64#32
  ![v605.toNat, 64]
def k0_off531 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c3_i32_278 : BitVec 32 := 3#32
  let v616 : BitVec 32 := Scalar.addi v382 c3_i32_278
  let v617 : Index := Scalar.indexCast v616
  let c80_279 : Index := 80#32
  ![v617.toNat, 80]
def k0_off532 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c3_i32_284 : BitVec 32 := 3#32
  let v628 : BitVec 32 := Scalar.addi v382 c3_i32_284
  let v629 : Index := Scalar.indexCast v628
  let c96_285 : Index := 96#32
  ![v629.toNat, 96]
def k0_off533 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c3_i32_290 : BitVec 32 := 3#32
  let v640 : BitVec 32 := Scalar.addi v382 c3_i32_290
  let v641 : Index := Scalar.indexCast v640
  let c112_291 : Index := 112#32
  ![v641.toNat, 112]
def k0_off534 (v436 : BitVec 32) : Fin 2 → Nat :=
  let c0_i32_246 : BitVec 32 := 0#32
  let v553 : BitVec 32 := Scalar.maxsi v436 c0_i32_246
  let v557 : Index := Scalar.indexCast v553
  let c0_249 : Index := 0#32
  ![v557.toNat, 0]
def k0_cond45 (v434 : BitVec 32) (v436 : BitVec 32) : BitVec 1 :=
  let v437 : BitVec 1 := Scalar.cmpi .ne v434 v436
  let v438 : BitVec 32 := Scalar.extui v437
  let c0_i32_211 : BitVec 32 := 0#32
  let v439 : BitVec 1 := Scalar.cmpi .ne v438 c0_i32_211
  v439

def k0_off535 (v436 : BitVec 32) : Fin 2 → Nat :=
  let c0_i32_246 : BitVec 32 := 0#32
  let v553 : BitVec 32 := Scalar.maxsi v436 c0_i32_246
  let v564 : Index := Scalar.indexCast v553
  let c16_252 : Index := 16#32
  ![v564.toNat, 16]
def k0_off536 (v436 : BitVec 32) : Fin 2 → Nat :=
  let c0_i32_246 : BitVec 32 := 0#32
  let v553 : BitVec 32 := Scalar.maxsi v436 c0_i32_246
  let v571 : Index := Scalar.indexCast v553
  let c32_255 : Index := 32#32
  ![v571.toNat, 32]
def k0_off537 (v436 : BitVec 32) : Fin 2 → Nat :=
  let c0_i32_246 : BitVec 32 := 0#32
  let v553 : BitVec 32 := Scalar.maxsi v436 c0_i32_246
  let v578 : Index := Scalar.indexCast v553
  let c48_258 : Index := 48#32
  ![v578.toNat, 48]
def k0_off538 (v436 : BitVec 32) : Fin 2 → Nat :=
  let c0_i32_246 : BitVec 32 := 0#32
  let v553 : BitVec 32 := Scalar.maxsi v436 c0_i32_246
  let v585 : Index := Scalar.indexCast v553
  let c64_261 : Index := 64#32
  ![v585.toNat, 64]
def k0_off539 (v436 : BitVec 32) : Fin 2 → Nat :=
  let c0_i32_246 : BitVec 32 := 0#32
  let v553 : BitVec 32 := Scalar.maxsi v436 c0_i32_246
  let v592 : Index := Scalar.indexCast v553
  let c80_264 : Index := 80#32
  ![v592.toNat, 80]
def k0_off540 (v436 : BitVec 32) : Fin 2 → Nat :=
  let c0_i32_246 : BitVec 32 := 0#32
  let v553 : BitVec 32 := Scalar.maxsi v436 c0_i32_246
  let v599 : Index := Scalar.indexCast v553
  let c96_267 : Index := 96#32
  ![v599.toNat, 96]
def k0_off541 (v436 : BitVec 32) : Fin 2 → Nat :=
  let c0_i32_246 : BitVec 32 := 0#32
  let v553 : BitVec 32 := Scalar.maxsi v436 c0_i32_246
  let v606 : Index := Scalar.indexCast v553
  let c112_270 : Index := 112#32
  ![v606.toNat, 112]
def k0_off542 (v436 : BitVec 32) : Fin 1 → Nat :=
  let c0_i32_246 : BitVec 32 := 0#32
  let v553 : BitVec 32 := Scalar.maxsi v436 c0_i32_246
  let c16_i32_273 : BitVec 32 := 16#32
  let v613 : BitVec 32 := Scalar.muli v553 c16_i32_273
  let v614 : Index := Scalar.indexCast v613
  ![v614.toNat]

def k0_chk21 (v379 : BitVec 32) (v381 : BitVec 32) (v384 : BitVec 32) (v434 : BitVec 32) (v436 : BitVec 32) : Prop :=
  (∀ (k0_h36 : k0_cond36 v379 v381 v384 = 1#1), ∀ (k0_h45 : k0_cond45 v434 v436 = 1#1), ∀ a, (k0_off534 v436) a + S1x16.size a ≤ S512x128.size a) ∧
  (∀ (k0_h36 : k0_cond36 v379 v381 v384 = 1#1), ∀ (k0_h45 : k0_cond45 v434 v436 = 1#1), ∀ a, (k0_off535 v436) a + S1x16.size a ≤ S512x128.size a) ∧
  (∀ (k0_h36 : k0_cond36 v379 v381 v384 = 1#1), ∀ (k0_h45 : k0_cond45 v434 v436 = 1#1), ∀ a, (k0_off536 v436) a + S1x16.size a ≤ S512x128.size a) ∧
  (∀ (k0_h36 : k0_cond36 v379 v381 v384 = 1#1), ∀ (k0_h45 : k0_cond45 v434 v436 = 1#1), ∀ a, (k0_off537 v436) a + S1x16.size a ≤ S512x128.size a) ∧
  (∀ (k0_h36 : k0_cond36 v379 v381 v384 = 1#1), ∀ (k0_h45 : k0_cond45 v434 v436 = 1#1), ∀ a, (k0_off538 v436) a + S1x16.size a ≤ S512x128.size a) ∧
  (∀ (k0_h36 : k0_cond36 v379 v381 v384 = 1#1), ∀ (k0_h45 : k0_cond45 v434 v436 = 1#1), ∀ a, (k0_off539 v436) a + S1x16.size a ≤ S512x128.size a) ∧
  (∀ (k0_h36 : k0_cond36 v379 v381 v384 = 1#1), ∀ (k0_h45 : k0_cond45 v434 v436 = 1#1), ∀ a, (k0_off540 v436) a + S1x16.size a ≤ S512x128.size a) ∧
  (∀ (k0_h36 : k0_cond36 v379 v381 v384 = 1#1), ∀ (k0_h45 : k0_cond45 v434 v436 = 1#1), ∀ a, (k0_off541 v436) a + S1x16.size a ≤ S512x128.size a) ∧
  (∀ (k0_h36 : k0_cond36 v379 v381 v384 = 1#1), ∀ (k0_h45 : k0_cond45 v434 v436 = 1#1), ∀ a, (k0_off542 v436) a + S16.size a ≤ S8192.size a)
theorem k0_off534_inb : ∀ (v379 : BitVec 32) (v381 : BitVec 32) (v384 : BitVec 32) (v434 : BitVec 32) (v436 : BitVec 32) (k0_hw21 : k0_chk21 v379 v381 v384 v434 v436), ∀ (k0_h36 : k0_cond36 v379 v381 v384 = 1#1), ∀ (k0_h45 : k0_cond45 v434 v436 = 1#1), ∀ a, (k0_off534 v436) a + S1x16.size a ≤ S512x128.size a := fun v379 v381 v384 v434 v436 k0_hw21 k0_h36 k0_h45 => k0_hw21.1 k0_h36 k0_h45
theorem k0_off535_inb : ∀ (v379 : BitVec 32) (v381 : BitVec 32) (v384 : BitVec 32) (v434 : BitVec 32) (v436 : BitVec 32) (k0_hw21 : k0_chk21 v379 v381 v384 v434 v436), ∀ (k0_h36 : k0_cond36 v379 v381 v384 = 1#1), ∀ (k0_h45 : k0_cond45 v434 v436 = 1#1), ∀ a, (k0_off535 v436) a + S1x16.size a ≤ S512x128.size a := fun v379 v381 v384 v434 v436 k0_hw21 k0_h36 k0_h45 => k0_hw21.2.1 k0_h36 k0_h45
theorem k0_off536_inb : ∀ (v379 : BitVec 32) (v381 : BitVec 32) (v384 : BitVec 32) (v434 : BitVec 32) (v436 : BitVec 32) (k0_hw21 : k0_chk21 v379 v381 v384 v434 v436), ∀ (k0_h36 : k0_cond36 v379 v381 v384 = 1#1), ∀ (k0_h45 : k0_cond45 v434 v436 = 1#1), ∀ a, (k0_off536 v436) a + S1x16.size a ≤ S512x128.size a := fun v379 v381 v384 v434 v436 k0_hw21 k0_h36 k0_h45 => k0_hw21.2.2.1 k0_h36 k0_h45
theorem k0_off537_inb : ∀ (v379 : BitVec 32) (v381 : BitVec 32) (v384 : BitVec 32) (v434 : BitVec 32) (v436 : BitVec 32) (k0_hw21 : k0_chk21 v379 v381 v384 v434 v436), ∀ (k0_h36 : k0_cond36 v379 v381 v384 = 1#1), ∀ (k0_h45 : k0_cond45 v434 v436 = 1#1), ∀ a, (k0_off537 v436) a + S1x16.size a ≤ S512x128.size a := fun v379 v381 v384 v434 v436 k0_hw21 k0_h36 k0_h45 => k0_hw21.2.2.2.1 k0_h36 k0_h45
theorem k0_off538_inb : ∀ (v379 : BitVec 32) (v381 : BitVec 32) (v384 : BitVec 32) (v434 : BitVec 32) (v436 : BitVec 32) (k0_hw21 : k0_chk21 v379 v381 v384 v434 v436), ∀ (k0_h36 : k0_cond36 v379 v381 v384 = 1#1), ∀ (k0_h45 : k0_cond45 v434 v436 = 1#1), ∀ a, (k0_off538 v436) a + S1x16.size a ≤ S512x128.size a := fun v379 v381 v384 v434 v436 k0_hw21 k0_h36 k0_h45 => k0_hw21.2.2.2.2.1 k0_h36 k0_h45
theorem k0_off539_inb : ∀ (v379 : BitVec 32) (v381 : BitVec 32) (v384 : BitVec 32) (v434 : BitVec 32) (v436 : BitVec 32) (k0_hw21 : k0_chk21 v379 v381 v384 v434 v436), ∀ (k0_h36 : k0_cond36 v379 v381 v384 = 1#1), ∀ (k0_h45 : k0_cond45 v434 v436 = 1#1), ∀ a, (k0_off539 v436) a + S1x16.size a ≤ S512x128.size a := fun v379 v381 v384 v434 v436 k0_hw21 k0_h36 k0_h45 => k0_hw21.2.2.2.2.2.1 k0_h36 k0_h45
theorem k0_off540_inb : ∀ (v379 : BitVec 32) (v381 : BitVec 32) (v384 : BitVec 32) (v434 : BitVec 32) (v436 : BitVec 32) (k0_hw21 : k0_chk21 v379 v381 v384 v434 v436), ∀ (k0_h36 : k0_cond36 v379 v381 v384 = 1#1), ∀ (k0_h45 : k0_cond45 v434 v436 = 1#1), ∀ a, (k0_off540 v436) a + S1x16.size a ≤ S512x128.size a := fun v379 v381 v384 v434 v436 k0_hw21 k0_h36 k0_h45 => k0_hw21.2.2.2.2.2.2.1 k0_h36 k0_h45
theorem k0_off541_inb : ∀ (v379 : BitVec 32) (v381 : BitVec 32) (v384 : BitVec 32) (v434 : BitVec 32) (v436 : BitVec 32) (k0_hw21 : k0_chk21 v379 v381 v384 v434 v436), ∀ (k0_h36 : k0_cond36 v379 v381 v384 = 1#1), ∀ (k0_h45 : k0_cond45 v434 v436 = 1#1), ∀ a, (k0_off541 v436) a + S1x16.size a ≤ S512x128.size a := fun v379 v381 v384 v434 v436 k0_hw21 k0_h36 k0_h45 => k0_hw21.2.2.2.2.2.2.2.1 k0_h36 k0_h45
theorem k0_off542_inb : ∀ (v379 : BitVec 32) (v381 : BitVec 32) (v384 : BitVec 32) (v434 : BitVec 32) (v436 : BitVec 32) (k0_hw21 : k0_chk21 v379 v381 v384 v434 v436), ∀ (k0_h36 : k0_cond36 v379 v381 v384 = 1#1), ∀ (k0_h45 : k0_cond45 v434 v436 = 1#1), ∀ a, (k0_off542 v436) a + S16.size a ≤ S8192.size a := fun v379 v381 v384 v434 v436 k0_hw21 k0_h36 k0_h45 => k0_hw21.2.2.2.2.2.2.2.2 k0_h36 k0_h45

def k0_off543 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c4_i32_274 : BitVec 32 := 4#32
  let v618 : BitVec 32 := Scalar.addi v382 c4_i32_274
  let v619 : Index := Scalar.indexCast v618
  let c0_275 : Index := 0#32
  ![v619.toNat, 0]
def k0_off544 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c4_i32_278 : BitVec 32 := 4#32
  let v626 : BitVec 32 := Scalar.addi v382 c4_i32_278
  let v627 : Index := Scalar.indexCast v626
  let c16_279 : Index := 16#32
  ![v627.toNat, 16]
def k0_off545 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c4_i32_282 : BitVec 32 := 4#32
  let v634 : BitVec 32 := Scalar.addi v382 c4_i32_282
  let v635 : Index := Scalar.indexCast v634
  let c32_283 : Index := 32#32
  ![v635.toNat, 32]
def k0_off546 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c4_i32_286 : BitVec 32 := 4#32
  let v642 : BitVec 32 := Scalar.addi v382 c4_i32_286
  let v643 : Index := Scalar.indexCast v642
  let c48_287 : Index := 48#32
  ![v643.toNat, 48]
def k0_off547 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c4_i32_290 : BitVec 32 := 4#32
  let v650 : BitVec 32 := Scalar.addi v382 c4_i32_290
  let v651 : Index := Scalar.indexCast v650
  let c64_291 : Index := 64#32
  ![v651.toNat, 64]
def k0_off548 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c4_i32_294 : BitVec 32 := 4#32
  let v658 : BitVec 32 := Scalar.addi v382 c4_i32_294
  let v659 : Index := Scalar.indexCast v658
  let c80_295 : Index := 80#32
  ![v659.toNat, 80]
def k0_off549 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c4_i32_298 : BitVec 32 := 4#32
  let v666 : BitVec 32 := Scalar.addi v382 c4_i32_298
  let v667 : Index := Scalar.indexCast v666
  let c96_299 : Index := 96#32
  ![v667.toNat, 96]
def k0_off550 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c4_i32_302 : BitVec 32 := 4#32
  let v674 : BitVec 32 := Scalar.addi v382 c4_i32_302
  let v675 : Index := Scalar.indexCast v674
  let c112_303 : Index := 112#32
  ![v675.toNat, 112]
def k0_off551 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c4_i32_248 : BitVec 32 := 4#32
  let v556 : BitVec 32 := Scalar.addi v382 c4_i32_248
  let v557 : Index := Scalar.indexCast v556
  let c0_249 : Index := 0#32
  ![v557.toNat, 0]
def k0_off552 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c4_i32_254 : BitVec 32 := 4#32
  let v568 : BitVec 32 := Scalar.addi v382 c4_i32_254
  let v569 : Index := Scalar.indexCast v568
  let c16_255 : Index := 16#32
  ![v569.toNat, 16]
def k0_off553 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c4_i32_260 : BitVec 32 := 4#32
  let v580 : BitVec 32 := Scalar.addi v382 c4_i32_260
  let v581 : Index := Scalar.indexCast v580
  let c32_261 : Index := 32#32
  ![v581.toNat, 32]
def k0_off554 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c4_i32_266 : BitVec 32 := 4#32
  let v592 : BitVec 32 := Scalar.addi v382 c4_i32_266
  let v593 : Index := Scalar.indexCast v592
  let c48_267 : Index := 48#32
  ![v593.toNat, 48]
def k0_off555 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c4_i32_272 : BitVec 32 := 4#32
  let v604 : BitVec 32 := Scalar.addi v382 c4_i32_272
  let v605 : Index := Scalar.indexCast v604
  let c64_273 : Index := 64#32
  ![v605.toNat, 64]
def k0_off556 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c4_i32_278 : BitVec 32 := 4#32
  let v616 : BitVec 32 := Scalar.addi v382 c4_i32_278
  let v617 : Index := Scalar.indexCast v616
  let c80_279 : Index := 80#32
  ![v617.toNat, 80]
def k0_off557 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c4_i32_284 : BitVec 32 := 4#32
  let v628 : BitVec 32 := Scalar.addi v382 c4_i32_284
  let v629 : Index := Scalar.indexCast v628
  let c96_285 : Index := 96#32
  ![v629.toNat, 96]
def k0_off558 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c4_i32_290 : BitVec 32 := 4#32
  let v640 : BitVec 32 := Scalar.addi v382 c4_i32_290
  let v641 : Index := Scalar.indexCast v640
  let c112_291 : Index := 112#32
  ![v641.toNat, 112]
def k0_off559 (v446 : BitVec 32) : Fin 2 → Nat :=
  let c0_i32_246 : BitVec 32 := 0#32
  let v553 : BitVec 32 := Scalar.maxsi v446 c0_i32_246
  let v557 : Index := Scalar.indexCast v553
  let c0_249 : Index := 0#32
  ![v557.toNat, 0]
def k0_cond47 (v444 : BitVec 32) (v446 : BitVec 32) : BitVec 1 :=
  let v447 : BitVec 1 := Scalar.cmpi .ne v444 v446
  let v448 : BitVec 32 := Scalar.extui v447
  let c0_i32_214 : BitVec 32 := 0#32
  let v449 : BitVec 1 := Scalar.cmpi .ne v448 c0_i32_214
  v449

def k0_off560 (v446 : BitVec 32) : Fin 2 → Nat :=
  let c0_i32_246 : BitVec 32 := 0#32
  let v553 : BitVec 32 := Scalar.maxsi v446 c0_i32_246
  let v564 : Index := Scalar.indexCast v553
  let c16_252 : Index := 16#32
  ![v564.toNat, 16]
def k0_off561 (v446 : BitVec 32) : Fin 2 → Nat :=
  let c0_i32_246 : BitVec 32 := 0#32
  let v553 : BitVec 32 := Scalar.maxsi v446 c0_i32_246
  let v571 : Index := Scalar.indexCast v553
  let c32_255 : Index := 32#32
  ![v571.toNat, 32]
def k0_off562 (v446 : BitVec 32) : Fin 2 → Nat :=
  let c0_i32_246 : BitVec 32 := 0#32
  let v553 : BitVec 32 := Scalar.maxsi v446 c0_i32_246
  let v578 : Index := Scalar.indexCast v553
  let c48_258 : Index := 48#32
  ![v578.toNat, 48]
def k0_off563 (v446 : BitVec 32) : Fin 2 → Nat :=
  let c0_i32_246 : BitVec 32 := 0#32
  let v553 : BitVec 32 := Scalar.maxsi v446 c0_i32_246
  let v585 : Index := Scalar.indexCast v553
  let c64_261 : Index := 64#32
  ![v585.toNat, 64]
def k0_off564 (v446 : BitVec 32) : Fin 2 → Nat :=
  let c0_i32_246 : BitVec 32 := 0#32
  let v553 : BitVec 32 := Scalar.maxsi v446 c0_i32_246
  let v592 : Index := Scalar.indexCast v553
  let c80_264 : Index := 80#32
  ![v592.toNat, 80]
def k0_off565 (v446 : BitVec 32) : Fin 2 → Nat :=
  let c0_i32_246 : BitVec 32 := 0#32
  let v553 : BitVec 32 := Scalar.maxsi v446 c0_i32_246
  let v599 : Index := Scalar.indexCast v553
  let c96_267 : Index := 96#32
  ![v599.toNat, 96]
def k0_off566 (v446 : BitVec 32) : Fin 2 → Nat :=
  let c0_i32_246 : BitVec 32 := 0#32
  let v553 : BitVec 32 := Scalar.maxsi v446 c0_i32_246
  let v606 : Index := Scalar.indexCast v553
  let c112_270 : Index := 112#32
  ![v606.toNat, 112]
def k0_off567 (v446 : BitVec 32) : Fin 1 → Nat :=
  let c0_i32_246 : BitVec 32 := 0#32
  let v553 : BitVec 32 := Scalar.maxsi v446 c0_i32_246
  let c16_i32_273 : BitVec 32 := 16#32
  let v613 : BitVec 32 := Scalar.muli v553 c16_i32_273
  let v614 : Index := Scalar.indexCast v613
  ![v614.toNat]

def k0_chk22 (v379 : BitVec 32) (v381 : BitVec 32) (v384 : BitVec 32) (v444 : BitVec 32) (v446 : BitVec 32) : Prop :=
  (∀ (k0_h36 : k0_cond36 v379 v381 v384 = 1#1), ∀ (k0_h47 : k0_cond47 v444 v446 = 1#1), ∀ a, (k0_off559 v446) a + S1x16.size a ≤ S512x128.size a) ∧
  (∀ (k0_h36 : k0_cond36 v379 v381 v384 = 1#1), ∀ (k0_h47 : k0_cond47 v444 v446 = 1#1), ∀ a, (k0_off560 v446) a + S1x16.size a ≤ S512x128.size a) ∧
  (∀ (k0_h36 : k0_cond36 v379 v381 v384 = 1#1), ∀ (k0_h47 : k0_cond47 v444 v446 = 1#1), ∀ a, (k0_off561 v446) a + S1x16.size a ≤ S512x128.size a) ∧
  (∀ (k0_h36 : k0_cond36 v379 v381 v384 = 1#1), ∀ (k0_h47 : k0_cond47 v444 v446 = 1#1), ∀ a, (k0_off562 v446) a + S1x16.size a ≤ S512x128.size a) ∧
  (∀ (k0_h36 : k0_cond36 v379 v381 v384 = 1#1), ∀ (k0_h47 : k0_cond47 v444 v446 = 1#1), ∀ a, (k0_off563 v446) a + S1x16.size a ≤ S512x128.size a) ∧
  (∀ (k0_h36 : k0_cond36 v379 v381 v384 = 1#1), ∀ (k0_h47 : k0_cond47 v444 v446 = 1#1), ∀ a, (k0_off564 v446) a + S1x16.size a ≤ S512x128.size a) ∧
  (∀ (k0_h36 : k0_cond36 v379 v381 v384 = 1#1), ∀ (k0_h47 : k0_cond47 v444 v446 = 1#1), ∀ a, (k0_off565 v446) a + S1x16.size a ≤ S512x128.size a) ∧
  (∀ (k0_h36 : k0_cond36 v379 v381 v384 = 1#1), ∀ (k0_h47 : k0_cond47 v444 v446 = 1#1), ∀ a, (k0_off566 v446) a + S1x16.size a ≤ S512x128.size a) ∧
  (∀ (k0_h36 : k0_cond36 v379 v381 v384 = 1#1), ∀ (k0_h47 : k0_cond47 v444 v446 = 1#1), ∀ a, (k0_off567 v446) a + S16.size a ≤ S8192.size a)
theorem k0_off559_inb : ∀ (v379 : BitVec 32) (v381 : BitVec 32) (v384 : BitVec 32) (v444 : BitVec 32) (v446 : BitVec 32) (k0_hw22 : k0_chk22 v379 v381 v384 v444 v446), ∀ (k0_h36 : k0_cond36 v379 v381 v384 = 1#1), ∀ (k0_h47 : k0_cond47 v444 v446 = 1#1), ∀ a, (k0_off559 v446) a + S1x16.size a ≤ S512x128.size a := fun v379 v381 v384 v444 v446 k0_hw22 k0_h36 k0_h47 => k0_hw22.1 k0_h36 k0_h47
theorem k0_off560_inb : ∀ (v379 : BitVec 32) (v381 : BitVec 32) (v384 : BitVec 32) (v444 : BitVec 32) (v446 : BitVec 32) (k0_hw22 : k0_chk22 v379 v381 v384 v444 v446), ∀ (k0_h36 : k0_cond36 v379 v381 v384 = 1#1), ∀ (k0_h47 : k0_cond47 v444 v446 = 1#1), ∀ a, (k0_off560 v446) a + S1x16.size a ≤ S512x128.size a := fun v379 v381 v384 v444 v446 k0_hw22 k0_h36 k0_h47 => k0_hw22.2.1 k0_h36 k0_h47
theorem k0_off561_inb : ∀ (v379 : BitVec 32) (v381 : BitVec 32) (v384 : BitVec 32) (v444 : BitVec 32) (v446 : BitVec 32) (k0_hw22 : k0_chk22 v379 v381 v384 v444 v446), ∀ (k0_h36 : k0_cond36 v379 v381 v384 = 1#1), ∀ (k0_h47 : k0_cond47 v444 v446 = 1#1), ∀ a, (k0_off561 v446) a + S1x16.size a ≤ S512x128.size a := fun v379 v381 v384 v444 v446 k0_hw22 k0_h36 k0_h47 => k0_hw22.2.2.1 k0_h36 k0_h47
theorem k0_off562_inb : ∀ (v379 : BitVec 32) (v381 : BitVec 32) (v384 : BitVec 32) (v444 : BitVec 32) (v446 : BitVec 32) (k0_hw22 : k0_chk22 v379 v381 v384 v444 v446), ∀ (k0_h36 : k0_cond36 v379 v381 v384 = 1#1), ∀ (k0_h47 : k0_cond47 v444 v446 = 1#1), ∀ a, (k0_off562 v446) a + S1x16.size a ≤ S512x128.size a := fun v379 v381 v384 v444 v446 k0_hw22 k0_h36 k0_h47 => k0_hw22.2.2.2.1 k0_h36 k0_h47
theorem k0_off563_inb : ∀ (v379 : BitVec 32) (v381 : BitVec 32) (v384 : BitVec 32) (v444 : BitVec 32) (v446 : BitVec 32) (k0_hw22 : k0_chk22 v379 v381 v384 v444 v446), ∀ (k0_h36 : k0_cond36 v379 v381 v384 = 1#1), ∀ (k0_h47 : k0_cond47 v444 v446 = 1#1), ∀ a, (k0_off563 v446) a + S1x16.size a ≤ S512x128.size a := fun v379 v381 v384 v444 v446 k0_hw22 k0_h36 k0_h47 => k0_hw22.2.2.2.2.1 k0_h36 k0_h47
theorem k0_off564_inb : ∀ (v379 : BitVec 32) (v381 : BitVec 32) (v384 : BitVec 32) (v444 : BitVec 32) (v446 : BitVec 32) (k0_hw22 : k0_chk22 v379 v381 v384 v444 v446), ∀ (k0_h36 : k0_cond36 v379 v381 v384 = 1#1), ∀ (k0_h47 : k0_cond47 v444 v446 = 1#1), ∀ a, (k0_off564 v446) a + S1x16.size a ≤ S512x128.size a := fun v379 v381 v384 v444 v446 k0_hw22 k0_h36 k0_h47 => k0_hw22.2.2.2.2.2.1 k0_h36 k0_h47
theorem k0_off565_inb : ∀ (v379 : BitVec 32) (v381 : BitVec 32) (v384 : BitVec 32) (v444 : BitVec 32) (v446 : BitVec 32) (k0_hw22 : k0_chk22 v379 v381 v384 v444 v446), ∀ (k0_h36 : k0_cond36 v379 v381 v384 = 1#1), ∀ (k0_h47 : k0_cond47 v444 v446 = 1#1), ∀ a, (k0_off565 v446) a + S1x16.size a ≤ S512x128.size a := fun v379 v381 v384 v444 v446 k0_hw22 k0_h36 k0_h47 => k0_hw22.2.2.2.2.2.2.1 k0_h36 k0_h47
theorem k0_off566_inb : ∀ (v379 : BitVec 32) (v381 : BitVec 32) (v384 : BitVec 32) (v444 : BitVec 32) (v446 : BitVec 32) (k0_hw22 : k0_chk22 v379 v381 v384 v444 v446), ∀ (k0_h36 : k0_cond36 v379 v381 v384 = 1#1), ∀ (k0_h47 : k0_cond47 v444 v446 = 1#1), ∀ a, (k0_off566 v446) a + S1x16.size a ≤ S512x128.size a := fun v379 v381 v384 v444 v446 k0_hw22 k0_h36 k0_h47 => k0_hw22.2.2.2.2.2.2.2.1 k0_h36 k0_h47
theorem k0_off567_inb : ∀ (v379 : BitVec 32) (v381 : BitVec 32) (v384 : BitVec 32) (v444 : BitVec 32) (v446 : BitVec 32) (k0_hw22 : k0_chk22 v379 v381 v384 v444 v446), ∀ (k0_h36 : k0_cond36 v379 v381 v384 = 1#1), ∀ (k0_h47 : k0_cond47 v444 v446 = 1#1), ∀ a, (k0_off567 v446) a + S16.size a ≤ S8192.size a := fun v379 v381 v384 v444 v446 k0_hw22 k0_h36 k0_h47 => k0_hw22.2.2.2.2.2.2.2.2 k0_h36 k0_h47

def k0_off568 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c5_i32_274 : BitVec 32 := 5#32
  let v618 : BitVec 32 := Scalar.addi v382 c5_i32_274
  let v619 : Index := Scalar.indexCast v618
  let c0_275 : Index := 0#32
  ![v619.toNat, 0]
def k0_off569 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c5_i32_278 : BitVec 32 := 5#32
  let v626 : BitVec 32 := Scalar.addi v382 c5_i32_278
  let v627 : Index := Scalar.indexCast v626
  let c16_279 : Index := 16#32
  ![v627.toNat, 16]
def k0_off570 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c5_i32_282 : BitVec 32 := 5#32
  let v634 : BitVec 32 := Scalar.addi v382 c5_i32_282
  let v635 : Index := Scalar.indexCast v634
  let c32_283 : Index := 32#32
  ![v635.toNat, 32]
def k0_off571 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c5_i32_286 : BitVec 32 := 5#32
  let v642 : BitVec 32 := Scalar.addi v382 c5_i32_286
  let v643 : Index := Scalar.indexCast v642
  let c48_287 : Index := 48#32
  ![v643.toNat, 48]
def k0_off572 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c5_i32_290 : BitVec 32 := 5#32
  let v650 : BitVec 32 := Scalar.addi v382 c5_i32_290
  let v651 : Index := Scalar.indexCast v650
  let c64_291 : Index := 64#32
  ![v651.toNat, 64]
def k0_off573 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c5_i32_294 : BitVec 32 := 5#32
  let v658 : BitVec 32 := Scalar.addi v382 c5_i32_294
  let v659 : Index := Scalar.indexCast v658
  let c80_295 : Index := 80#32
  ![v659.toNat, 80]
def k0_off574 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c5_i32_298 : BitVec 32 := 5#32
  let v666 : BitVec 32 := Scalar.addi v382 c5_i32_298
  let v667 : Index := Scalar.indexCast v666
  let c96_299 : Index := 96#32
  ![v667.toNat, 96]
def k0_off575 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c5_i32_302 : BitVec 32 := 5#32
  let v674 : BitVec 32 := Scalar.addi v382 c5_i32_302
  let v675 : Index := Scalar.indexCast v674
  let c112_303 : Index := 112#32
  ![v675.toNat, 112]
def k0_off576 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c5_i32_248 : BitVec 32 := 5#32
  let v556 : BitVec 32 := Scalar.addi v382 c5_i32_248
  let v557 : Index := Scalar.indexCast v556
  let c0_249 : Index := 0#32
  ![v557.toNat, 0]
def k0_off577 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c5_i32_254 : BitVec 32 := 5#32
  let v568 : BitVec 32 := Scalar.addi v382 c5_i32_254
  let v569 : Index := Scalar.indexCast v568
  let c16_255 : Index := 16#32
  ![v569.toNat, 16]
def k0_off578 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c5_i32_260 : BitVec 32 := 5#32
  let v580 : BitVec 32 := Scalar.addi v382 c5_i32_260
  let v581 : Index := Scalar.indexCast v580
  let c32_261 : Index := 32#32
  ![v581.toNat, 32]
def k0_off579 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c5_i32_266 : BitVec 32 := 5#32
  let v592 : BitVec 32 := Scalar.addi v382 c5_i32_266
  let v593 : Index := Scalar.indexCast v592
  let c48_267 : Index := 48#32
  ![v593.toNat, 48]
def k0_off580 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c5_i32_272 : BitVec 32 := 5#32
  let v604 : BitVec 32 := Scalar.addi v382 c5_i32_272
  let v605 : Index := Scalar.indexCast v604
  let c64_273 : Index := 64#32
  ![v605.toNat, 64]
def k0_off581 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c5_i32_278 : BitVec 32 := 5#32
  let v616 : BitVec 32 := Scalar.addi v382 c5_i32_278
  let v617 : Index := Scalar.indexCast v616
  let c80_279 : Index := 80#32
  ![v617.toNat, 80]
def k0_off582 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c5_i32_284 : BitVec 32 := 5#32
  let v628 : BitVec 32 := Scalar.addi v382 c5_i32_284
  let v629 : Index := Scalar.indexCast v628
  let c96_285 : Index := 96#32
  ![v629.toNat, 96]
def k0_off583 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c5_i32_290 : BitVec 32 := 5#32
  let v640 : BitVec 32 := Scalar.addi v382 c5_i32_290
  let v641 : Index := Scalar.indexCast v640
  let c112_291 : Index := 112#32
  ![v641.toNat, 112]
def k0_off584 (v456 : BitVec 32) : Fin 2 → Nat :=
  let c0_i32_246 : BitVec 32 := 0#32
  let v553 : BitVec 32 := Scalar.maxsi v456 c0_i32_246
  let v557 : Index := Scalar.indexCast v553
  let c0_249 : Index := 0#32
  ![v557.toNat, 0]
def k0_cond49 (v454 : BitVec 32) (v456 : BitVec 32) : BitVec 1 :=
  let v457 : BitVec 1 := Scalar.cmpi .ne v454 v456
  let v458 : BitVec 32 := Scalar.extui v457
  let c0_i32_217 : BitVec 32 := 0#32
  let v459 : BitVec 1 := Scalar.cmpi .ne v458 c0_i32_217
  v459

def k0_off585 (v456 : BitVec 32) : Fin 2 → Nat :=
  let c0_i32_246 : BitVec 32 := 0#32
  let v553 : BitVec 32 := Scalar.maxsi v456 c0_i32_246
  let v564 : Index := Scalar.indexCast v553
  let c16_252 : Index := 16#32
  ![v564.toNat, 16]
def k0_off586 (v456 : BitVec 32) : Fin 2 → Nat :=
  let c0_i32_246 : BitVec 32 := 0#32
  let v553 : BitVec 32 := Scalar.maxsi v456 c0_i32_246
  let v571 : Index := Scalar.indexCast v553
  let c32_255 : Index := 32#32
  ![v571.toNat, 32]
def k0_off587 (v456 : BitVec 32) : Fin 2 → Nat :=
  let c0_i32_246 : BitVec 32 := 0#32
  let v553 : BitVec 32 := Scalar.maxsi v456 c0_i32_246
  let v578 : Index := Scalar.indexCast v553
  let c48_258 : Index := 48#32
  ![v578.toNat, 48]
def k0_off588 (v456 : BitVec 32) : Fin 2 → Nat :=
  let c0_i32_246 : BitVec 32 := 0#32
  let v553 : BitVec 32 := Scalar.maxsi v456 c0_i32_246
  let v585 : Index := Scalar.indexCast v553
  let c64_261 : Index := 64#32
  ![v585.toNat, 64]
def k0_off589 (v456 : BitVec 32) : Fin 2 → Nat :=
  let c0_i32_246 : BitVec 32 := 0#32
  let v553 : BitVec 32 := Scalar.maxsi v456 c0_i32_246
  let v592 : Index := Scalar.indexCast v553
  let c80_264 : Index := 80#32
  ![v592.toNat, 80]
def k0_off590 (v456 : BitVec 32) : Fin 2 → Nat :=
  let c0_i32_246 : BitVec 32 := 0#32
  let v553 : BitVec 32 := Scalar.maxsi v456 c0_i32_246
  let v599 : Index := Scalar.indexCast v553
  let c96_267 : Index := 96#32
  ![v599.toNat, 96]
def k0_off591 (v456 : BitVec 32) : Fin 2 → Nat :=
  let c0_i32_246 : BitVec 32 := 0#32
  let v553 : BitVec 32 := Scalar.maxsi v456 c0_i32_246
  let v606 : Index := Scalar.indexCast v553
  let c112_270 : Index := 112#32
  ![v606.toNat, 112]
def k0_off592 (v456 : BitVec 32) : Fin 1 → Nat :=
  let c0_i32_246 : BitVec 32 := 0#32
  let v553 : BitVec 32 := Scalar.maxsi v456 c0_i32_246
  let c16_i32_273 : BitVec 32 := 16#32
  let v613 : BitVec 32 := Scalar.muli v553 c16_i32_273
  let v614 : Index := Scalar.indexCast v613
  ![v614.toNat]

def k0_chk23 (v379 : BitVec 32) (v381 : BitVec 32) (v384 : BitVec 32) (v454 : BitVec 32) (v456 : BitVec 32) : Prop :=
  (∀ (k0_h36 : k0_cond36 v379 v381 v384 = 1#1), ∀ (k0_h49 : k0_cond49 v454 v456 = 1#1), ∀ a, (k0_off584 v456) a + S1x16.size a ≤ S512x128.size a) ∧
  (∀ (k0_h36 : k0_cond36 v379 v381 v384 = 1#1), ∀ (k0_h49 : k0_cond49 v454 v456 = 1#1), ∀ a, (k0_off585 v456) a + S1x16.size a ≤ S512x128.size a) ∧
  (∀ (k0_h36 : k0_cond36 v379 v381 v384 = 1#1), ∀ (k0_h49 : k0_cond49 v454 v456 = 1#1), ∀ a, (k0_off586 v456) a + S1x16.size a ≤ S512x128.size a) ∧
  (∀ (k0_h36 : k0_cond36 v379 v381 v384 = 1#1), ∀ (k0_h49 : k0_cond49 v454 v456 = 1#1), ∀ a, (k0_off587 v456) a + S1x16.size a ≤ S512x128.size a) ∧
  (∀ (k0_h36 : k0_cond36 v379 v381 v384 = 1#1), ∀ (k0_h49 : k0_cond49 v454 v456 = 1#1), ∀ a, (k0_off588 v456) a + S1x16.size a ≤ S512x128.size a) ∧
  (∀ (k0_h36 : k0_cond36 v379 v381 v384 = 1#1), ∀ (k0_h49 : k0_cond49 v454 v456 = 1#1), ∀ a, (k0_off589 v456) a + S1x16.size a ≤ S512x128.size a) ∧
  (∀ (k0_h36 : k0_cond36 v379 v381 v384 = 1#1), ∀ (k0_h49 : k0_cond49 v454 v456 = 1#1), ∀ a, (k0_off590 v456) a + S1x16.size a ≤ S512x128.size a) ∧
  (∀ (k0_h36 : k0_cond36 v379 v381 v384 = 1#1), ∀ (k0_h49 : k0_cond49 v454 v456 = 1#1), ∀ a, (k0_off591 v456) a + S1x16.size a ≤ S512x128.size a) ∧
  (∀ (k0_h36 : k0_cond36 v379 v381 v384 = 1#1), ∀ (k0_h49 : k0_cond49 v454 v456 = 1#1), ∀ a, (k0_off592 v456) a + S16.size a ≤ S8192.size a)
theorem k0_off584_inb : ∀ (v379 : BitVec 32) (v381 : BitVec 32) (v384 : BitVec 32) (v454 : BitVec 32) (v456 : BitVec 32) (k0_hw23 : k0_chk23 v379 v381 v384 v454 v456), ∀ (k0_h36 : k0_cond36 v379 v381 v384 = 1#1), ∀ (k0_h49 : k0_cond49 v454 v456 = 1#1), ∀ a, (k0_off584 v456) a + S1x16.size a ≤ S512x128.size a := fun v379 v381 v384 v454 v456 k0_hw23 k0_h36 k0_h49 => k0_hw23.1 k0_h36 k0_h49
theorem k0_off585_inb : ∀ (v379 : BitVec 32) (v381 : BitVec 32) (v384 : BitVec 32) (v454 : BitVec 32) (v456 : BitVec 32) (k0_hw23 : k0_chk23 v379 v381 v384 v454 v456), ∀ (k0_h36 : k0_cond36 v379 v381 v384 = 1#1), ∀ (k0_h49 : k0_cond49 v454 v456 = 1#1), ∀ a, (k0_off585 v456) a + S1x16.size a ≤ S512x128.size a := fun v379 v381 v384 v454 v456 k0_hw23 k0_h36 k0_h49 => k0_hw23.2.1 k0_h36 k0_h49
theorem k0_off586_inb : ∀ (v379 : BitVec 32) (v381 : BitVec 32) (v384 : BitVec 32) (v454 : BitVec 32) (v456 : BitVec 32) (k0_hw23 : k0_chk23 v379 v381 v384 v454 v456), ∀ (k0_h36 : k0_cond36 v379 v381 v384 = 1#1), ∀ (k0_h49 : k0_cond49 v454 v456 = 1#1), ∀ a, (k0_off586 v456) a + S1x16.size a ≤ S512x128.size a := fun v379 v381 v384 v454 v456 k0_hw23 k0_h36 k0_h49 => k0_hw23.2.2.1 k0_h36 k0_h49
theorem k0_off587_inb : ∀ (v379 : BitVec 32) (v381 : BitVec 32) (v384 : BitVec 32) (v454 : BitVec 32) (v456 : BitVec 32) (k0_hw23 : k0_chk23 v379 v381 v384 v454 v456), ∀ (k0_h36 : k0_cond36 v379 v381 v384 = 1#1), ∀ (k0_h49 : k0_cond49 v454 v456 = 1#1), ∀ a, (k0_off587 v456) a + S1x16.size a ≤ S512x128.size a := fun v379 v381 v384 v454 v456 k0_hw23 k0_h36 k0_h49 => k0_hw23.2.2.2.1 k0_h36 k0_h49
theorem k0_off588_inb : ∀ (v379 : BitVec 32) (v381 : BitVec 32) (v384 : BitVec 32) (v454 : BitVec 32) (v456 : BitVec 32) (k0_hw23 : k0_chk23 v379 v381 v384 v454 v456), ∀ (k0_h36 : k0_cond36 v379 v381 v384 = 1#1), ∀ (k0_h49 : k0_cond49 v454 v456 = 1#1), ∀ a, (k0_off588 v456) a + S1x16.size a ≤ S512x128.size a := fun v379 v381 v384 v454 v456 k0_hw23 k0_h36 k0_h49 => k0_hw23.2.2.2.2.1 k0_h36 k0_h49
theorem k0_off589_inb : ∀ (v379 : BitVec 32) (v381 : BitVec 32) (v384 : BitVec 32) (v454 : BitVec 32) (v456 : BitVec 32) (k0_hw23 : k0_chk23 v379 v381 v384 v454 v456), ∀ (k0_h36 : k0_cond36 v379 v381 v384 = 1#1), ∀ (k0_h49 : k0_cond49 v454 v456 = 1#1), ∀ a, (k0_off589 v456) a + S1x16.size a ≤ S512x128.size a := fun v379 v381 v384 v454 v456 k0_hw23 k0_h36 k0_h49 => k0_hw23.2.2.2.2.2.1 k0_h36 k0_h49
theorem k0_off590_inb : ∀ (v379 : BitVec 32) (v381 : BitVec 32) (v384 : BitVec 32) (v454 : BitVec 32) (v456 : BitVec 32) (k0_hw23 : k0_chk23 v379 v381 v384 v454 v456), ∀ (k0_h36 : k0_cond36 v379 v381 v384 = 1#1), ∀ (k0_h49 : k0_cond49 v454 v456 = 1#1), ∀ a, (k0_off590 v456) a + S1x16.size a ≤ S512x128.size a := fun v379 v381 v384 v454 v456 k0_hw23 k0_h36 k0_h49 => k0_hw23.2.2.2.2.2.2.1 k0_h36 k0_h49
theorem k0_off591_inb : ∀ (v379 : BitVec 32) (v381 : BitVec 32) (v384 : BitVec 32) (v454 : BitVec 32) (v456 : BitVec 32) (k0_hw23 : k0_chk23 v379 v381 v384 v454 v456), ∀ (k0_h36 : k0_cond36 v379 v381 v384 = 1#1), ∀ (k0_h49 : k0_cond49 v454 v456 = 1#1), ∀ a, (k0_off591 v456) a + S1x16.size a ≤ S512x128.size a := fun v379 v381 v384 v454 v456 k0_hw23 k0_h36 k0_h49 => k0_hw23.2.2.2.2.2.2.2.1 k0_h36 k0_h49
theorem k0_off592_inb : ∀ (v379 : BitVec 32) (v381 : BitVec 32) (v384 : BitVec 32) (v454 : BitVec 32) (v456 : BitVec 32) (k0_hw23 : k0_chk23 v379 v381 v384 v454 v456), ∀ (k0_h36 : k0_cond36 v379 v381 v384 = 1#1), ∀ (k0_h49 : k0_cond49 v454 v456 = 1#1), ∀ a, (k0_off592 v456) a + S16.size a ≤ S8192.size a := fun v379 v381 v384 v454 v456 k0_hw23 k0_h36 k0_h49 => k0_hw23.2.2.2.2.2.2.2.2 k0_h36 k0_h49

def k0_off593 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c6_i32_274 : BitVec 32 := 6#32
  let v618 : BitVec 32 := Scalar.addi v382 c6_i32_274
  let v619 : Index := Scalar.indexCast v618
  let c0_275 : Index := 0#32
  ![v619.toNat, 0]
def k0_off594 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c6_i32_278 : BitVec 32 := 6#32
  let v626 : BitVec 32 := Scalar.addi v382 c6_i32_278
  let v627 : Index := Scalar.indexCast v626
  let c16_279 : Index := 16#32
  ![v627.toNat, 16]
def k0_off595 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c6_i32_282 : BitVec 32 := 6#32
  let v634 : BitVec 32 := Scalar.addi v382 c6_i32_282
  let v635 : Index := Scalar.indexCast v634
  let c32_283 : Index := 32#32
  ![v635.toNat, 32]
def k0_off596 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c6_i32_286 : BitVec 32 := 6#32
  let v642 : BitVec 32 := Scalar.addi v382 c6_i32_286
  let v643 : Index := Scalar.indexCast v642
  let c48_287 : Index := 48#32
  ![v643.toNat, 48]
def k0_off597 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c6_i32_290 : BitVec 32 := 6#32
  let v650 : BitVec 32 := Scalar.addi v382 c6_i32_290
  let v651 : Index := Scalar.indexCast v650
  let c64_291 : Index := 64#32
  ![v651.toNat, 64]
def k0_off598 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c6_i32_294 : BitVec 32 := 6#32
  let v658 : BitVec 32 := Scalar.addi v382 c6_i32_294
  let v659 : Index := Scalar.indexCast v658
  let c80_295 : Index := 80#32
  ![v659.toNat, 80]
def k0_off599 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c6_i32_298 : BitVec 32 := 6#32
  let v666 : BitVec 32 := Scalar.addi v382 c6_i32_298
  let v667 : Index := Scalar.indexCast v666
  let c96_299 : Index := 96#32
  ![v667.toNat, 96]
def k0_off600 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c6_i32_302 : BitVec 32 := 6#32
  let v674 : BitVec 32 := Scalar.addi v382 c6_i32_302
  let v675 : Index := Scalar.indexCast v674
  let c112_303 : Index := 112#32
  ![v675.toNat, 112]
def k0_off601 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c6_i32_248 : BitVec 32 := 6#32
  let v556 : BitVec 32 := Scalar.addi v382 c6_i32_248
  let v557 : Index := Scalar.indexCast v556
  let c0_249 : Index := 0#32
  ![v557.toNat, 0]
def k0_off602 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c6_i32_254 : BitVec 32 := 6#32
  let v568 : BitVec 32 := Scalar.addi v382 c6_i32_254
  let v569 : Index := Scalar.indexCast v568
  let c16_255 : Index := 16#32
  ![v569.toNat, 16]
def k0_off603 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c6_i32_260 : BitVec 32 := 6#32
  let v580 : BitVec 32 := Scalar.addi v382 c6_i32_260
  let v581 : Index := Scalar.indexCast v580
  let c32_261 : Index := 32#32
  ![v581.toNat, 32]
def k0_off604 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c6_i32_266 : BitVec 32 := 6#32
  let v592 : BitVec 32 := Scalar.addi v382 c6_i32_266
  let v593 : Index := Scalar.indexCast v592
  let c48_267 : Index := 48#32
  ![v593.toNat, 48]
def k0_off605 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c6_i32_272 : BitVec 32 := 6#32
  let v604 : BitVec 32 := Scalar.addi v382 c6_i32_272
  let v605 : Index := Scalar.indexCast v604
  let c64_273 : Index := 64#32
  ![v605.toNat, 64]
def k0_off606 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c6_i32_278 : BitVec 32 := 6#32
  let v616 : BitVec 32 := Scalar.addi v382 c6_i32_278
  let v617 : Index := Scalar.indexCast v616
  let c80_279 : Index := 80#32
  ![v617.toNat, 80]
def k0_off607 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c6_i32_284 : BitVec 32 := 6#32
  let v628 : BitVec 32 := Scalar.addi v382 c6_i32_284
  let v629 : Index := Scalar.indexCast v628
  let c96_285 : Index := 96#32
  ![v629.toNat, 96]
def k0_off608 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c6_i32_290 : BitVec 32 := 6#32
  let v640 : BitVec 32 := Scalar.addi v382 c6_i32_290
  let v641 : Index := Scalar.indexCast v640
  let c112_291 : Index := 112#32
  ![v641.toNat, 112]
def k0_off609 (v466 : BitVec 32) : Fin 2 → Nat :=
  let c0_i32_246 : BitVec 32 := 0#32
  let v553 : BitVec 32 := Scalar.maxsi v466 c0_i32_246
  let v557 : Index := Scalar.indexCast v553
  let c0_249 : Index := 0#32
  ![v557.toNat, 0]
def k0_cond51 (v464 : BitVec 32) (v466 : BitVec 32) : BitVec 1 :=
  let v467 : BitVec 1 := Scalar.cmpi .ne v464 v466
  let v468 : BitVec 32 := Scalar.extui v467
  let c0_i32_220 : BitVec 32 := 0#32
  let v469 : BitVec 1 := Scalar.cmpi .ne v468 c0_i32_220
  v469

def k0_off610 (v466 : BitVec 32) : Fin 2 → Nat :=
  let c0_i32_246 : BitVec 32 := 0#32
  let v553 : BitVec 32 := Scalar.maxsi v466 c0_i32_246
  let v564 : Index := Scalar.indexCast v553
  let c16_252 : Index := 16#32
  ![v564.toNat, 16]
def k0_off611 (v466 : BitVec 32) : Fin 2 → Nat :=
  let c0_i32_246 : BitVec 32 := 0#32
  let v553 : BitVec 32 := Scalar.maxsi v466 c0_i32_246
  let v571 : Index := Scalar.indexCast v553
  let c32_255 : Index := 32#32
  ![v571.toNat, 32]
def k0_off612 (v466 : BitVec 32) : Fin 2 → Nat :=
  let c0_i32_246 : BitVec 32 := 0#32
  let v553 : BitVec 32 := Scalar.maxsi v466 c0_i32_246
  let v578 : Index := Scalar.indexCast v553
  let c48_258 : Index := 48#32
  ![v578.toNat, 48]
def k0_off613 (v466 : BitVec 32) : Fin 2 → Nat :=
  let c0_i32_246 : BitVec 32 := 0#32
  let v553 : BitVec 32 := Scalar.maxsi v466 c0_i32_246
  let v585 : Index := Scalar.indexCast v553
  let c64_261 : Index := 64#32
  ![v585.toNat, 64]
def k0_off614 (v466 : BitVec 32) : Fin 2 → Nat :=
  let c0_i32_246 : BitVec 32 := 0#32
  let v553 : BitVec 32 := Scalar.maxsi v466 c0_i32_246
  let v592 : Index := Scalar.indexCast v553
  let c80_264 : Index := 80#32
  ![v592.toNat, 80]
def k0_off615 (v466 : BitVec 32) : Fin 2 → Nat :=
  let c0_i32_246 : BitVec 32 := 0#32
  let v553 : BitVec 32 := Scalar.maxsi v466 c0_i32_246
  let v599 : Index := Scalar.indexCast v553
  let c96_267 : Index := 96#32
  ![v599.toNat, 96]
def k0_off616 (v466 : BitVec 32) : Fin 2 → Nat :=
  let c0_i32_246 : BitVec 32 := 0#32
  let v553 : BitVec 32 := Scalar.maxsi v466 c0_i32_246
  let v606 : Index := Scalar.indexCast v553
  let c112_270 : Index := 112#32
  ![v606.toNat, 112]
def k0_off617 (v466 : BitVec 32) : Fin 1 → Nat :=
  let c0_i32_246 : BitVec 32 := 0#32
  let v553 : BitVec 32 := Scalar.maxsi v466 c0_i32_246
  let c16_i32_273 : BitVec 32 := 16#32
  let v613 : BitVec 32 := Scalar.muli v553 c16_i32_273
  let v614 : Index := Scalar.indexCast v613
  ![v614.toNat]

def k0_chk24 (v379 : BitVec 32) (v381 : BitVec 32) (v384 : BitVec 32) (v464 : BitVec 32) (v466 : BitVec 32) : Prop :=
  (∀ (k0_h36 : k0_cond36 v379 v381 v384 = 1#1), ∀ (k0_h51 : k0_cond51 v464 v466 = 1#1), ∀ a, (k0_off609 v466) a + S1x16.size a ≤ S512x128.size a) ∧
  (∀ (k0_h36 : k0_cond36 v379 v381 v384 = 1#1), ∀ (k0_h51 : k0_cond51 v464 v466 = 1#1), ∀ a, (k0_off610 v466) a + S1x16.size a ≤ S512x128.size a) ∧
  (∀ (k0_h36 : k0_cond36 v379 v381 v384 = 1#1), ∀ (k0_h51 : k0_cond51 v464 v466 = 1#1), ∀ a, (k0_off611 v466) a + S1x16.size a ≤ S512x128.size a) ∧
  (∀ (k0_h36 : k0_cond36 v379 v381 v384 = 1#1), ∀ (k0_h51 : k0_cond51 v464 v466 = 1#1), ∀ a, (k0_off612 v466) a + S1x16.size a ≤ S512x128.size a) ∧
  (∀ (k0_h36 : k0_cond36 v379 v381 v384 = 1#1), ∀ (k0_h51 : k0_cond51 v464 v466 = 1#1), ∀ a, (k0_off613 v466) a + S1x16.size a ≤ S512x128.size a) ∧
  (∀ (k0_h36 : k0_cond36 v379 v381 v384 = 1#1), ∀ (k0_h51 : k0_cond51 v464 v466 = 1#1), ∀ a, (k0_off614 v466) a + S1x16.size a ≤ S512x128.size a) ∧
  (∀ (k0_h36 : k0_cond36 v379 v381 v384 = 1#1), ∀ (k0_h51 : k0_cond51 v464 v466 = 1#1), ∀ a, (k0_off615 v466) a + S1x16.size a ≤ S512x128.size a) ∧
  (∀ (k0_h36 : k0_cond36 v379 v381 v384 = 1#1), ∀ (k0_h51 : k0_cond51 v464 v466 = 1#1), ∀ a, (k0_off616 v466) a + S1x16.size a ≤ S512x128.size a) ∧
  (∀ (k0_h36 : k0_cond36 v379 v381 v384 = 1#1), ∀ (k0_h51 : k0_cond51 v464 v466 = 1#1), ∀ a, (k0_off617 v466) a + S16.size a ≤ S8192.size a)
theorem k0_off609_inb : ∀ (v379 : BitVec 32) (v381 : BitVec 32) (v384 : BitVec 32) (v464 : BitVec 32) (v466 : BitVec 32) (k0_hw24 : k0_chk24 v379 v381 v384 v464 v466), ∀ (k0_h36 : k0_cond36 v379 v381 v384 = 1#1), ∀ (k0_h51 : k0_cond51 v464 v466 = 1#1), ∀ a, (k0_off609 v466) a + S1x16.size a ≤ S512x128.size a := fun v379 v381 v384 v464 v466 k0_hw24 k0_h36 k0_h51 => k0_hw24.1 k0_h36 k0_h51
theorem k0_off610_inb : ∀ (v379 : BitVec 32) (v381 : BitVec 32) (v384 : BitVec 32) (v464 : BitVec 32) (v466 : BitVec 32) (k0_hw24 : k0_chk24 v379 v381 v384 v464 v466), ∀ (k0_h36 : k0_cond36 v379 v381 v384 = 1#1), ∀ (k0_h51 : k0_cond51 v464 v466 = 1#1), ∀ a, (k0_off610 v466) a + S1x16.size a ≤ S512x128.size a := fun v379 v381 v384 v464 v466 k0_hw24 k0_h36 k0_h51 => k0_hw24.2.1 k0_h36 k0_h51
theorem k0_off611_inb : ∀ (v379 : BitVec 32) (v381 : BitVec 32) (v384 : BitVec 32) (v464 : BitVec 32) (v466 : BitVec 32) (k0_hw24 : k0_chk24 v379 v381 v384 v464 v466), ∀ (k0_h36 : k0_cond36 v379 v381 v384 = 1#1), ∀ (k0_h51 : k0_cond51 v464 v466 = 1#1), ∀ a, (k0_off611 v466) a + S1x16.size a ≤ S512x128.size a := fun v379 v381 v384 v464 v466 k0_hw24 k0_h36 k0_h51 => k0_hw24.2.2.1 k0_h36 k0_h51
theorem k0_off612_inb : ∀ (v379 : BitVec 32) (v381 : BitVec 32) (v384 : BitVec 32) (v464 : BitVec 32) (v466 : BitVec 32) (k0_hw24 : k0_chk24 v379 v381 v384 v464 v466), ∀ (k0_h36 : k0_cond36 v379 v381 v384 = 1#1), ∀ (k0_h51 : k0_cond51 v464 v466 = 1#1), ∀ a, (k0_off612 v466) a + S1x16.size a ≤ S512x128.size a := fun v379 v381 v384 v464 v466 k0_hw24 k0_h36 k0_h51 => k0_hw24.2.2.2.1 k0_h36 k0_h51
theorem k0_off613_inb : ∀ (v379 : BitVec 32) (v381 : BitVec 32) (v384 : BitVec 32) (v464 : BitVec 32) (v466 : BitVec 32) (k0_hw24 : k0_chk24 v379 v381 v384 v464 v466), ∀ (k0_h36 : k0_cond36 v379 v381 v384 = 1#1), ∀ (k0_h51 : k0_cond51 v464 v466 = 1#1), ∀ a, (k0_off613 v466) a + S1x16.size a ≤ S512x128.size a := fun v379 v381 v384 v464 v466 k0_hw24 k0_h36 k0_h51 => k0_hw24.2.2.2.2.1 k0_h36 k0_h51
theorem k0_off614_inb : ∀ (v379 : BitVec 32) (v381 : BitVec 32) (v384 : BitVec 32) (v464 : BitVec 32) (v466 : BitVec 32) (k0_hw24 : k0_chk24 v379 v381 v384 v464 v466), ∀ (k0_h36 : k0_cond36 v379 v381 v384 = 1#1), ∀ (k0_h51 : k0_cond51 v464 v466 = 1#1), ∀ a, (k0_off614 v466) a + S1x16.size a ≤ S512x128.size a := fun v379 v381 v384 v464 v466 k0_hw24 k0_h36 k0_h51 => k0_hw24.2.2.2.2.2.1 k0_h36 k0_h51
theorem k0_off615_inb : ∀ (v379 : BitVec 32) (v381 : BitVec 32) (v384 : BitVec 32) (v464 : BitVec 32) (v466 : BitVec 32) (k0_hw24 : k0_chk24 v379 v381 v384 v464 v466), ∀ (k0_h36 : k0_cond36 v379 v381 v384 = 1#1), ∀ (k0_h51 : k0_cond51 v464 v466 = 1#1), ∀ a, (k0_off615 v466) a + S1x16.size a ≤ S512x128.size a := fun v379 v381 v384 v464 v466 k0_hw24 k0_h36 k0_h51 => k0_hw24.2.2.2.2.2.2.1 k0_h36 k0_h51
theorem k0_off616_inb : ∀ (v379 : BitVec 32) (v381 : BitVec 32) (v384 : BitVec 32) (v464 : BitVec 32) (v466 : BitVec 32) (k0_hw24 : k0_chk24 v379 v381 v384 v464 v466), ∀ (k0_h36 : k0_cond36 v379 v381 v384 = 1#1), ∀ (k0_h51 : k0_cond51 v464 v466 = 1#1), ∀ a, (k0_off616 v466) a + S1x16.size a ≤ S512x128.size a := fun v379 v381 v384 v464 v466 k0_hw24 k0_h36 k0_h51 => k0_hw24.2.2.2.2.2.2.2.1 k0_h36 k0_h51
theorem k0_off617_inb : ∀ (v379 : BitVec 32) (v381 : BitVec 32) (v384 : BitVec 32) (v464 : BitVec 32) (v466 : BitVec 32) (k0_hw24 : k0_chk24 v379 v381 v384 v464 v466), ∀ (k0_h36 : k0_cond36 v379 v381 v384 = 1#1), ∀ (k0_h51 : k0_cond51 v464 v466 = 1#1), ∀ a, (k0_off617 v466) a + S16.size a ≤ S8192.size a := fun v379 v381 v384 v464 v466 k0_hw24 k0_h36 k0_h51 => k0_hw24.2.2.2.2.2.2.2.2 k0_h36 k0_h51

def k0_off618 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c7_i32_274 : BitVec 32 := 7#32
  let v618 : BitVec 32 := Scalar.addi v382 c7_i32_274
  let v619 : Index := Scalar.indexCast v618
  let c0_275 : Index := 0#32
  ![v619.toNat, 0]
def k0_off619 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c7_i32_278 : BitVec 32 := 7#32
  let v626 : BitVec 32 := Scalar.addi v382 c7_i32_278
  let v627 : Index := Scalar.indexCast v626
  let c16_279 : Index := 16#32
  ![v627.toNat, 16]
def k0_off620 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c7_i32_282 : BitVec 32 := 7#32
  let v634 : BitVec 32 := Scalar.addi v382 c7_i32_282
  let v635 : Index := Scalar.indexCast v634
  let c32_283 : Index := 32#32
  ![v635.toNat, 32]
def k0_off621 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c7_i32_286 : BitVec 32 := 7#32
  let v642 : BitVec 32 := Scalar.addi v382 c7_i32_286
  let v643 : Index := Scalar.indexCast v642
  let c48_287 : Index := 48#32
  ![v643.toNat, 48]
def k0_off622 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c7_i32_290 : BitVec 32 := 7#32
  let v650 : BitVec 32 := Scalar.addi v382 c7_i32_290
  let v651 : Index := Scalar.indexCast v650
  let c64_291 : Index := 64#32
  ![v651.toNat, 64]
def k0_off623 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c7_i32_294 : BitVec 32 := 7#32
  let v658 : BitVec 32 := Scalar.addi v382 c7_i32_294
  let v659 : Index := Scalar.indexCast v658
  let c80_295 : Index := 80#32
  ![v659.toNat, 80]
def k0_off624 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c7_i32_298 : BitVec 32 := 7#32
  let v666 : BitVec 32 := Scalar.addi v382 c7_i32_298
  let v667 : Index := Scalar.indexCast v666
  let c96_299 : Index := 96#32
  ![v667.toNat, 96]
def k0_off625 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c7_i32_302 : BitVec 32 := 7#32
  let v674 : BitVec 32 := Scalar.addi v382 c7_i32_302
  let v675 : Index := Scalar.indexCast v674
  let c112_303 : Index := 112#32
  ![v675.toNat, 112]
def k0_off626 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c7_i32_248 : BitVec 32 := 7#32
  let v556 : BitVec 32 := Scalar.addi v382 c7_i32_248
  let v557 : Index := Scalar.indexCast v556
  let c0_249 : Index := 0#32
  ![v557.toNat, 0]
def k0_off627 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c7_i32_254 : BitVec 32 := 7#32
  let v568 : BitVec 32 := Scalar.addi v382 c7_i32_254
  let v569 : Index := Scalar.indexCast v568
  let c16_255 : Index := 16#32
  ![v569.toNat, 16]
def k0_off628 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c7_i32_260 : BitVec 32 := 7#32
  let v580 : BitVec 32 := Scalar.addi v382 c7_i32_260
  let v581 : Index := Scalar.indexCast v580
  let c32_261 : Index := 32#32
  ![v581.toNat, 32]
def k0_off629 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c7_i32_266 : BitVec 32 := 7#32
  let v592 : BitVec 32 := Scalar.addi v382 c7_i32_266
  let v593 : Index := Scalar.indexCast v592
  let c48_267 : Index := 48#32
  ![v593.toNat, 48]
def k0_off630 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c7_i32_272 : BitVec 32 := 7#32
  let v604 : BitVec 32 := Scalar.addi v382 c7_i32_272
  let v605 : Index := Scalar.indexCast v604
  let c64_273 : Index := 64#32
  ![v605.toNat, 64]
def k0_off631 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c7_i32_278 : BitVec 32 := 7#32
  let v616 : BitVec 32 := Scalar.addi v382 c7_i32_278
  let v617 : Index := Scalar.indexCast v616
  let c80_279 : Index := 80#32
  ![v617.toNat, 80]
def k0_off632 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c7_i32_284 : BitVec 32 := 7#32
  let v628 : BitVec 32 := Scalar.addi v382 c7_i32_284
  let v629 : Index := Scalar.indexCast v628
  let c96_285 : Index := 96#32
  ![v629.toNat, 96]
def k0_off633 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c7_i32_290 : BitVec 32 := 7#32
  let v640 : BitVec 32 := Scalar.addi v382 c7_i32_290
  let v641 : Index := Scalar.indexCast v640
  let c112_291 : Index := 112#32
  ![v641.toNat, 112]
def k0_off634 (v476 : BitVec 32) : Fin 2 → Nat :=
  let c0_i32_246 : BitVec 32 := 0#32
  let v553 : BitVec 32 := Scalar.maxsi v476 c0_i32_246
  let v557 : Index := Scalar.indexCast v553
  let c0_249 : Index := 0#32
  ![v557.toNat, 0]
def k0_cond53 (v474 : BitVec 32) (v476 : BitVec 32) : BitVec 1 :=
  let v477 : BitVec 1 := Scalar.cmpi .ne v474 v476
  let v478 : BitVec 32 := Scalar.extui v477
  let c0_i32_223 : BitVec 32 := 0#32
  let v479 : BitVec 1 := Scalar.cmpi .ne v478 c0_i32_223
  v479

def k0_off635 (v476 : BitVec 32) : Fin 2 → Nat :=
  let c0_i32_246 : BitVec 32 := 0#32
  let v553 : BitVec 32 := Scalar.maxsi v476 c0_i32_246
  let v564 : Index := Scalar.indexCast v553
  let c16_252 : Index := 16#32
  ![v564.toNat, 16]
def k0_off636 (v476 : BitVec 32) : Fin 2 → Nat :=
  let c0_i32_246 : BitVec 32 := 0#32
  let v553 : BitVec 32 := Scalar.maxsi v476 c0_i32_246
  let v571 : Index := Scalar.indexCast v553
  let c32_255 : Index := 32#32
  ![v571.toNat, 32]
def k0_off637 (v476 : BitVec 32) : Fin 2 → Nat :=
  let c0_i32_246 : BitVec 32 := 0#32
  let v553 : BitVec 32 := Scalar.maxsi v476 c0_i32_246
  let v578 : Index := Scalar.indexCast v553
  let c48_258 : Index := 48#32
  ![v578.toNat, 48]
def k0_off638 (v476 : BitVec 32) : Fin 2 → Nat :=
  let c0_i32_246 : BitVec 32 := 0#32
  let v553 : BitVec 32 := Scalar.maxsi v476 c0_i32_246
  let v585 : Index := Scalar.indexCast v553
  let c64_261 : Index := 64#32
  ![v585.toNat, 64]
def k0_off639 (v476 : BitVec 32) : Fin 2 → Nat :=
  let c0_i32_246 : BitVec 32 := 0#32
  let v553 : BitVec 32 := Scalar.maxsi v476 c0_i32_246
  let v592 : Index := Scalar.indexCast v553
  let c80_264 : Index := 80#32
  ![v592.toNat, 80]
def k0_off640 (v476 : BitVec 32) : Fin 2 → Nat :=
  let c0_i32_246 : BitVec 32 := 0#32
  let v553 : BitVec 32 := Scalar.maxsi v476 c0_i32_246
  let v599 : Index := Scalar.indexCast v553
  let c96_267 : Index := 96#32
  ![v599.toNat, 96]
def k0_off641 (v476 : BitVec 32) : Fin 2 → Nat :=
  let c0_i32_246 : BitVec 32 := 0#32
  let v553 : BitVec 32 := Scalar.maxsi v476 c0_i32_246
  let v606 : Index := Scalar.indexCast v553
  let c112_270 : Index := 112#32
  ![v606.toNat, 112]
def k0_off642 (v476 : BitVec 32) : Fin 1 → Nat :=
  let c0_i32_246 : BitVec 32 := 0#32
  let v553 : BitVec 32 := Scalar.maxsi v476 c0_i32_246
  let c16_i32_273 : BitVec 32 := 16#32
  let v613 : BitVec 32 := Scalar.muli v553 c16_i32_273
  let v614 : Index := Scalar.indexCast v613
  ![v614.toNat]

def k0_chk25 (v379 : BitVec 32) (v381 : BitVec 32) (v384 : BitVec 32) (v474 : BitVec 32) (v476 : BitVec 32) : Prop :=
  (∀ (k0_h36 : k0_cond36 v379 v381 v384 = 1#1), ∀ (k0_h53 : k0_cond53 v474 v476 = 1#1), ∀ a, (k0_off634 v476) a + S1x16.size a ≤ S512x128.size a) ∧
  (∀ (k0_h36 : k0_cond36 v379 v381 v384 = 1#1), ∀ (k0_h53 : k0_cond53 v474 v476 = 1#1), ∀ a, (k0_off635 v476) a + S1x16.size a ≤ S512x128.size a) ∧
  (∀ (k0_h36 : k0_cond36 v379 v381 v384 = 1#1), ∀ (k0_h53 : k0_cond53 v474 v476 = 1#1), ∀ a, (k0_off636 v476) a + S1x16.size a ≤ S512x128.size a) ∧
  (∀ (k0_h36 : k0_cond36 v379 v381 v384 = 1#1), ∀ (k0_h53 : k0_cond53 v474 v476 = 1#1), ∀ a, (k0_off637 v476) a + S1x16.size a ≤ S512x128.size a) ∧
  (∀ (k0_h36 : k0_cond36 v379 v381 v384 = 1#1), ∀ (k0_h53 : k0_cond53 v474 v476 = 1#1), ∀ a, (k0_off638 v476) a + S1x16.size a ≤ S512x128.size a) ∧
  (∀ (k0_h36 : k0_cond36 v379 v381 v384 = 1#1), ∀ (k0_h53 : k0_cond53 v474 v476 = 1#1), ∀ a, (k0_off639 v476) a + S1x16.size a ≤ S512x128.size a) ∧
  (∀ (k0_h36 : k0_cond36 v379 v381 v384 = 1#1), ∀ (k0_h53 : k0_cond53 v474 v476 = 1#1), ∀ a, (k0_off640 v476) a + S1x16.size a ≤ S512x128.size a) ∧
  (∀ (k0_h36 : k0_cond36 v379 v381 v384 = 1#1), ∀ (k0_h53 : k0_cond53 v474 v476 = 1#1), ∀ a, (k0_off641 v476) a + S1x16.size a ≤ S512x128.size a) ∧
  (∀ (k0_h36 : k0_cond36 v379 v381 v384 = 1#1), ∀ (k0_h53 : k0_cond53 v474 v476 = 1#1), ∀ a, (k0_off642 v476) a + S16.size a ≤ S8192.size a)
theorem k0_off634_inb : ∀ (v379 : BitVec 32) (v381 : BitVec 32) (v384 : BitVec 32) (v474 : BitVec 32) (v476 : BitVec 32) (k0_hw25 : k0_chk25 v379 v381 v384 v474 v476), ∀ (k0_h36 : k0_cond36 v379 v381 v384 = 1#1), ∀ (k0_h53 : k0_cond53 v474 v476 = 1#1), ∀ a, (k0_off634 v476) a + S1x16.size a ≤ S512x128.size a := fun v379 v381 v384 v474 v476 k0_hw25 k0_h36 k0_h53 => k0_hw25.1 k0_h36 k0_h53
theorem k0_off635_inb : ∀ (v379 : BitVec 32) (v381 : BitVec 32) (v384 : BitVec 32) (v474 : BitVec 32) (v476 : BitVec 32) (k0_hw25 : k0_chk25 v379 v381 v384 v474 v476), ∀ (k0_h36 : k0_cond36 v379 v381 v384 = 1#1), ∀ (k0_h53 : k0_cond53 v474 v476 = 1#1), ∀ a, (k0_off635 v476) a + S1x16.size a ≤ S512x128.size a := fun v379 v381 v384 v474 v476 k0_hw25 k0_h36 k0_h53 => k0_hw25.2.1 k0_h36 k0_h53
theorem k0_off636_inb : ∀ (v379 : BitVec 32) (v381 : BitVec 32) (v384 : BitVec 32) (v474 : BitVec 32) (v476 : BitVec 32) (k0_hw25 : k0_chk25 v379 v381 v384 v474 v476), ∀ (k0_h36 : k0_cond36 v379 v381 v384 = 1#1), ∀ (k0_h53 : k0_cond53 v474 v476 = 1#1), ∀ a, (k0_off636 v476) a + S1x16.size a ≤ S512x128.size a := fun v379 v381 v384 v474 v476 k0_hw25 k0_h36 k0_h53 => k0_hw25.2.2.1 k0_h36 k0_h53
theorem k0_off637_inb : ∀ (v379 : BitVec 32) (v381 : BitVec 32) (v384 : BitVec 32) (v474 : BitVec 32) (v476 : BitVec 32) (k0_hw25 : k0_chk25 v379 v381 v384 v474 v476), ∀ (k0_h36 : k0_cond36 v379 v381 v384 = 1#1), ∀ (k0_h53 : k0_cond53 v474 v476 = 1#1), ∀ a, (k0_off637 v476) a + S1x16.size a ≤ S512x128.size a := fun v379 v381 v384 v474 v476 k0_hw25 k0_h36 k0_h53 => k0_hw25.2.2.2.1 k0_h36 k0_h53
theorem k0_off638_inb : ∀ (v379 : BitVec 32) (v381 : BitVec 32) (v384 : BitVec 32) (v474 : BitVec 32) (v476 : BitVec 32) (k0_hw25 : k0_chk25 v379 v381 v384 v474 v476), ∀ (k0_h36 : k0_cond36 v379 v381 v384 = 1#1), ∀ (k0_h53 : k0_cond53 v474 v476 = 1#1), ∀ a, (k0_off638 v476) a + S1x16.size a ≤ S512x128.size a := fun v379 v381 v384 v474 v476 k0_hw25 k0_h36 k0_h53 => k0_hw25.2.2.2.2.1 k0_h36 k0_h53
theorem k0_off639_inb : ∀ (v379 : BitVec 32) (v381 : BitVec 32) (v384 : BitVec 32) (v474 : BitVec 32) (v476 : BitVec 32) (k0_hw25 : k0_chk25 v379 v381 v384 v474 v476), ∀ (k0_h36 : k0_cond36 v379 v381 v384 = 1#1), ∀ (k0_h53 : k0_cond53 v474 v476 = 1#1), ∀ a, (k0_off639 v476) a + S1x16.size a ≤ S512x128.size a := fun v379 v381 v384 v474 v476 k0_hw25 k0_h36 k0_h53 => k0_hw25.2.2.2.2.2.1 k0_h36 k0_h53
theorem k0_off640_inb : ∀ (v379 : BitVec 32) (v381 : BitVec 32) (v384 : BitVec 32) (v474 : BitVec 32) (v476 : BitVec 32) (k0_hw25 : k0_chk25 v379 v381 v384 v474 v476), ∀ (k0_h36 : k0_cond36 v379 v381 v384 = 1#1), ∀ (k0_h53 : k0_cond53 v474 v476 = 1#1), ∀ a, (k0_off640 v476) a + S1x16.size a ≤ S512x128.size a := fun v379 v381 v384 v474 v476 k0_hw25 k0_h36 k0_h53 => k0_hw25.2.2.2.2.2.2.1 k0_h36 k0_h53
theorem k0_off641_inb : ∀ (v379 : BitVec 32) (v381 : BitVec 32) (v384 : BitVec 32) (v474 : BitVec 32) (v476 : BitVec 32) (k0_hw25 : k0_chk25 v379 v381 v384 v474 v476), ∀ (k0_h36 : k0_cond36 v379 v381 v384 = 1#1), ∀ (k0_h53 : k0_cond53 v474 v476 = 1#1), ∀ a, (k0_off641 v476) a + S1x16.size a ≤ S512x128.size a := fun v379 v381 v384 v474 v476 k0_hw25 k0_h36 k0_h53 => k0_hw25.2.2.2.2.2.2.2.1 k0_h36 k0_h53
theorem k0_off642_inb : ∀ (v379 : BitVec 32) (v381 : BitVec 32) (v384 : BitVec 32) (v474 : BitVec 32) (v476 : BitVec 32) (k0_hw25 : k0_chk25 v379 v381 v384 v474 v476), ∀ (k0_h36 : k0_cond36 v379 v381 v384 = 1#1), ∀ (k0_h53 : k0_cond53 v474 v476 = 1#1), ∀ a, (k0_off642 v476) a + S16.size a ≤ S8192.size a := fun v379 v381 v384 v474 v476 k0_hw25 k0_h36 k0_h53 => k0_hw25.2.2.2.2.2.2.2.2 k0_h36 k0_h53

def k0_off643 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c8_i32_274 : BitVec 32 := 8#32
  let v618 : BitVec 32 := Scalar.addi v382 c8_i32_274
  let v619 : Index := Scalar.indexCast v618
  let c0_275 : Index := 0#32
  ![v619.toNat, 0]
def k0_off644 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c8_i32_278 : BitVec 32 := 8#32
  let v626 : BitVec 32 := Scalar.addi v382 c8_i32_278
  let v627 : Index := Scalar.indexCast v626
  let c16_279 : Index := 16#32
  ![v627.toNat, 16]
def k0_off645 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c8_i32_282 : BitVec 32 := 8#32
  let v634 : BitVec 32 := Scalar.addi v382 c8_i32_282
  let v635 : Index := Scalar.indexCast v634
  let c32_283 : Index := 32#32
  ![v635.toNat, 32]
def k0_off646 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c8_i32_286 : BitVec 32 := 8#32
  let v642 : BitVec 32 := Scalar.addi v382 c8_i32_286
  let v643 : Index := Scalar.indexCast v642
  let c48_287 : Index := 48#32
  ![v643.toNat, 48]
def k0_off647 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c8_i32_290 : BitVec 32 := 8#32
  let v650 : BitVec 32 := Scalar.addi v382 c8_i32_290
  let v651 : Index := Scalar.indexCast v650
  let c64_291 : Index := 64#32
  ![v651.toNat, 64]
def k0_off648 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c8_i32_294 : BitVec 32 := 8#32
  let v658 : BitVec 32 := Scalar.addi v382 c8_i32_294
  let v659 : Index := Scalar.indexCast v658
  let c80_295 : Index := 80#32
  ![v659.toNat, 80]
def k0_off649 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c8_i32_298 : BitVec 32 := 8#32
  let v666 : BitVec 32 := Scalar.addi v382 c8_i32_298
  let v667 : Index := Scalar.indexCast v666
  let c96_299 : Index := 96#32
  ![v667.toNat, 96]
def k0_off650 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c8_i32_302 : BitVec 32 := 8#32
  let v674 : BitVec 32 := Scalar.addi v382 c8_i32_302
  let v675 : Index := Scalar.indexCast v674
  let c112_303 : Index := 112#32
  ![v675.toNat, 112]
def k0_off651 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c8_i32_248 : BitVec 32 := 8#32
  let v556 : BitVec 32 := Scalar.addi v382 c8_i32_248
  let v557 : Index := Scalar.indexCast v556
  let c0_249 : Index := 0#32
  ![v557.toNat, 0]
def k0_off652 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c8_i32_254 : BitVec 32 := 8#32
  let v568 : BitVec 32 := Scalar.addi v382 c8_i32_254
  let v569 : Index := Scalar.indexCast v568
  let c16_255 : Index := 16#32
  ![v569.toNat, 16]
def k0_off653 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c8_i32_260 : BitVec 32 := 8#32
  let v580 : BitVec 32 := Scalar.addi v382 c8_i32_260
  let v581 : Index := Scalar.indexCast v580
  let c32_261 : Index := 32#32
  ![v581.toNat, 32]
def k0_off654 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c8_i32_266 : BitVec 32 := 8#32
  let v592 : BitVec 32 := Scalar.addi v382 c8_i32_266
  let v593 : Index := Scalar.indexCast v592
  let c48_267 : Index := 48#32
  ![v593.toNat, 48]
def k0_off655 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c8_i32_272 : BitVec 32 := 8#32
  let v604 : BitVec 32 := Scalar.addi v382 c8_i32_272
  let v605 : Index := Scalar.indexCast v604
  let c64_273 : Index := 64#32
  ![v605.toNat, 64]
def k0_off656 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c8_i32_278 : BitVec 32 := 8#32
  let v616 : BitVec 32 := Scalar.addi v382 c8_i32_278
  let v617 : Index := Scalar.indexCast v616
  let c80_279 : Index := 80#32
  ![v617.toNat, 80]
def k0_off657 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c8_i32_284 : BitVec 32 := 8#32
  let v628 : BitVec 32 := Scalar.addi v382 c8_i32_284
  let v629 : Index := Scalar.indexCast v628
  let c96_285 : Index := 96#32
  ![v629.toNat, 96]
def k0_off658 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c8_i32_290 : BitVec 32 := 8#32
  let v640 : BitVec 32 := Scalar.addi v382 c8_i32_290
  let v641 : Index := Scalar.indexCast v640
  let c112_291 : Index := 112#32
  ![v641.toNat, 112]
def k0_off659 (v486 : BitVec 32) : Fin 2 → Nat :=
  let c0_i32_246 : BitVec 32 := 0#32
  let v553 : BitVec 32 := Scalar.maxsi v486 c0_i32_246
  let v557 : Index := Scalar.indexCast v553
  let c0_249 : Index := 0#32
  ![v557.toNat, 0]
def k0_cond55 (v484 : BitVec 32) (v486 : BitVec 32) : BitVec 1 :=
  let v487 : BitVec 1 := Scalar.cmpi .ne v484 v486
  let v488 : BitVec 32 := Scalar.extui v487
  let c0_i32_226 : BitVec 32 := 0#32
  let v489 : BitVec 1 := Scalar.cmpi .ne v488 c0_i32_226
  v489

def k0_off660 (v486 : BitVec 32) : Fin 2 → Nat :=
  let c0_i32_246 : BitVec 32 := 0#32
  let v553 : BitVec 32 := Scalar.maxsi v486 c0_i32_246
  let v564 : Index := Scalar.indexCast v553
  let c16_252 : Index := 16#32
  ![v564.toNat, 16]
def k0_off661 (v486 : BitVec 32) : Fin 2 → Nat :=
  let c0_i32_246 : BitVec 32 := 0#32
  let v553 : BitVec 32 := Scalar.maxsi v486 c0_i32_246
  let v571 : Index := Scalar.indexCast v553
  let c32_255 : Index := 32#32
  ![v571.toNat, 32]
def k0_off662 (v486 : BitVec 32) : Fin 2 → Nat :=
  let c0_i32_246 : BitVec 32 := 0#32
  let v553 : BitVec 32 := Scalar.maxsi v486 c0_i32_246
  let v578 : Index := Scalar.indexCast v553
  let c48_258 : Index := 48#32
  ![v578.toNat, 48]
def k0_off663 (v486 : BitVec 32) : Fin 2 → Nat :=
  let c0_i32_246 : BitVec 32 := 0#32
  let v553 : BitVec 32 := Scalar.maxsi v486 c0_i32_246
  let v585 : Index := Scalar.indexCast v553
  let c64_261 : Index := 64#32
  ![v585.toNat, 64]
def k0_off664 (v486 : BitVec 32) : Fin 2 → Nat :=
  let c0_i32_246 : BitVec 32 := 0#32
  let v553 : BitVec 32 := Scalar.maxsi v486 c0_i32_246
  let v592 : Index := Scalar.indexCast v553
  let c80_264 : Index := 80#32
  ![v592.toNat, 80]
def k0_off665 (v486 : BitVec 32) : Fin 2 → Nat :=
  let c0_i32_246 : BitVec 32 := 0#32
  let v553 : BitVec 32 := Scalar.maxsi v486 c0_i32_246
  let v599 : Index := Scalar.indexCast v553
  let c96_267 : Index := 96#32
  ![v599.toNat, 96]
def k0_off666 (v486 : BitVec 32) : Fin 2 → Nat :=
  let c0_i32_246 : BitVec 32 := 0#32
  let v553 : BitVec 32 := Scalar.maxsi v486 c0_i32_246
  let v606 : Index := Scalar.indexCast v553
  let c112_270 : Index := 112#32
  ![v606.toNat, 112]
def k0_off667 (v486 : BitVec 32) : Fin 1 → Nat :=
  let c0_i32_246 : BitVec 32 := 0#32
  let v553 : BitVec 32 := Scalar.maxsi v486 c0_i32_246
  let c16_i32_273 : BitVec 32 := 16#32
  let v613 : BitVec 32 := Scalar.muli v553 c16_i32_273
  let v614 : Index := Scalar.indexCast v613
  ![v614.toNat]

def k0_chk26 (v379 : BitVec 32) (v381 : BitVec 32) (v384 : BitVec 32) (v484 : BitVec 32) (v486 : BitVec 32) : Prop :=
  (∀ (k0_h36 : k0_cond36 v379 v381 v384 = 1#1), ∀ (k0_h55 : k0_cond55 v484 v486 = 1#1), ∀ a, (k0_off659 v486) a + S1x16.size a ≤ S512x128.size a) ∧
  (∀ (k0_h36 : k0_cond36 v379 v381 v384 = 1#1), ∀ (k0_h55 : k0_cond55 v484 v486 = 1#1), ∀ a, (k0_off660 v486) a + S1x16.size a ≤ S512x128.size a) ∧
  (∀ (k0_h36 : k0_cond36 v379 v381 v384 = 1#1), ∀ (k0_h55 : k0_cond55 v484 v486 = 1#1), ∀ a, (k0_off661 v486) a + S1x16.size a ≤ S512x128.size a) ∧
  (∀ (k0_h36 : k0_cond36 v379 v381 v384 = 1#1), ∀ (k0_h55 : k0_cond55 v484 v486 = 1#1), ∀ a, (k0_off662 v486) a + S1x16.size a ≤ S512x128.size a) ∧
  (∀ (k0_h36 : k0_cond36 v379 v381 v384 = 1#1), ∀ (k0_h55 : k0_cond55 v484 v486 = 1#1), ∀ a, (k0_off663 v486) a + S1x16.size a ≤ S512x128.size a) ∧
  (∀ (k0_h36 : k0_cond36 v379 v381 v384 = 1#1), ∀ (k0_h55 : k0_cond55 v484 v486 = 1#1), ∀ a, (k0_off664 v486) a + S1x16.size a ≤ S512x128.size a) ∧
  (∀ (k0_h36 : k0_cond36 v379 v381 v384 = 1#1), ∀ (k0_h55 : k0_cond55 v484 v486 = 1#1), ∀ a, (k0_off665 v486) a + S1x16.size a ≤ S512x128.size a) ∧
  (∀ (k0_h36 : k0_cond36 v379 v381 v384 = 1#1), ∀ (k0_h55 : k0_cond55 v484 v486 = 1#1), ∀ a, (k0_off666 v486) a + S1x16.size a ≤ S512x128.size a) ∧
  (∀ (k0_h36 : k0_cond36 v379 v381 v384 = 1#1), ∀ (k0_h55 : k0_cond55 v484 v486 = 1#1), ∀ a, (k0_off667 v486) a + S16.size a ≤ S8192.size a)
theorem k0_off659_inb : ∀ (v379 : BitVec 32) (v381 : BitVec 32) (v384 : BitVec 32) (v484 : BitVec 32) (v486 : BitVec 32) (k0_hw26 : k0_chk26 v379 v381 v384 v484 v486), ∀ (k0_h36 : k0_cond36 v379 v381 v384 = 1#1), ∀ (k0_h55 : k0_cond55 v484 v486 = 1#1), ∀ a, (k0_off659 v486) a + S1x16.size a ≤ S512x128.size a := fun v379 v381 v384 v484 v486 k0_hw26 k0_h36 k0_h55 => k0_hw26.1 k0_h36 k0_h55
theorem k0_off660_inb : ∀ (v379 : BitVec 32) (v381 : BitVec 32) (v384 : BitVec 32) (v484 : BitVec 32) (v486 : BitVec 32) (k0_hw26 : k0_chk26 v379 v381 v384 v484 v486), ∀ (k0_h36 : k0_cond36 v379 v381 v384 = 1#1), ∀ (k0_h55 : k0_cond55 v484 v486 = 1#1), ∀ a, (k0_off660 v486) a + S1x16.size a ≤ S512x128.size a := fun v379 v381 v384 v484 v486 k0_hw26 k0_h36 k0_h55 => k0_hw26.2.1 k0_h36 k0_h55
theorem k0_off661_inb : ∀ (v379 : BitVec 32) (v381 : BitVec 32) (v384 : BitVec 32) (v484 : BitVec 32) (v486 : BitVec 32) (k0_hw26 : k0_chk26 v379 v381 v384 v484 v486), ∀ (k0_h36 : k0_cond36 v379 v381 v384 = 1#1), ∀ (k0_h55 : k0_cond55 v484 v486 = 1#1), ∀ a, (k0_off661 v486) a + S1x16.size a ≤ S512x128.size a := fun v379 v381 v384 v484 v486 k0_hw26 k0_h36 k0_h55 => k0_hw26.2.2.1 k0_h36 k0_h55
theorem k0_off662_inb : ∀ (v379 : BitVec 32) (v381 : BitVec 32) (v384 : BitVec 32) (v484 : BitVec 32) (v486 : BitVec 32) (k0_hw26 : k0_chk26 v379 v381 v384 v484 v486), ∀ (k0_h36 : k0_cond36 v379 v381 v384 = 1#1), ∀ (k0_h55 : k0_cond55 v484 v486 = 1#1), ∀ a, (k0_off662 v486) a + S1x16.size a ≤ S512x128.size a := fun v379 v381 v384 v484 v486 k0_hw26 k0_h36 k0_h55 => k0_hw26.2.2.2.1 k0_h36 k0_h55
theorem k0_off663_inb : ∀ (v379 : BitVec 32) (v381 : BitVec 32) (v384 : BitVec 32) (v484 : BitVec 32) (v486 : BitVec 32) (k0_hw26 : k0_chk26 v379 v381 v384 v484 v486), ∀ (k0_h36 : k0_cond36 v379 v381 v384 = 1#1), ∀ (k0_h55 : k0_cond55 v484 v486 = 1#1), ∀ a, (k0_off663 v486) a + S1x16.size a ≤ S512x128.size a := fun v379 v381 v384 v484 v486 k0_hw26 k0_h36 k0_h55 => k0_hw26.2.2.2.2.1 k0_h36 k0_h55
theorem k0_off664_inb : ∀ (v379 : BitVec 32) (v381 : BitVec 32) (v384 : BitVec 32) (v484 : BitVec 32) (v486 : BitVec 32) (k0_hw26 : k0_chk26 v379 v381 v384 v484 v486), ∀ (k0_h36 : k0_cond36 v379 v381 v384 = 1#1), ∀ (k0_h55 : k0_cond55 v484 v486 = 1#1), ∀ a, (k0_off664 v486) a + S1x16.size a ≤ S512x128.size a := fun v379 v381 v384 v484 v486 k0_hw26 k0_h36 k0_h55 => k0_hw26.2.2.2.2.2.1 k0_h36 k0_h55
theorem k0_off665_inb : ∀ (v379 : BitVec 32) (v381 : BitVec 32) (v384 : BitVec 32) (v484 : BitVec 32) (v486 : BitVec 32) (k0_hw26 : k0_chk26 v379 v381 v384 v484 v486), ∀ (k0_h36 : k0_cond36 v379 v381 v384 = 1#1), ∀ (k0_h55 : k0_cond55 v484 v486 = 1#1), ∀ a, (k0_off665 v486) a + S1x16.size a ≤ S512x128.size a := fun v379 v381 v384 v484 v486 k0_hw26 k0_h36 k0_h55 => k0_hw26.2.2.2.2.2.2.1 k0_h36 k0_h55
theorem k0_off666_inb : ∀ (v379 : BitVec 32) (v381 : BitVec 32) (v384 : BitVec 32) (v484 : BitVec 32) (v486 : BitVec 32) (k0_hw26 : k0_chk26 v379 v381 v384 v484 v486), ∀ (k0_h36 : k0_cond36 v379 v381 v384 = 1#1), ∀ (k0_h55 : k0_cond55 v484 v486 = 1#1), ∀ a, (k0_off666 v486) a + S1x16.size a ≤ S512x128.size a := fun v379 v381 v384 v484 v486 k0_hw26 k0_h36 k0_h55 => k0_hw26.2.2.2.2.2.2.2.1 k0_h36 k0_h55
theorem k0_off667_inb : ∀ (v379 : BitVec 32) (v381 : BitVec 32) (v384 : BitVec 32) (v484 : BitVec 32) (v486 : BitVec 32) (k0_hw26 : k0_chk26 v379 v381 v384 v484 v486), ∀ (k0_h36 : k0_cond36 v379 v381 v384 = 1#1), ∀ (k0_h55 : k0_cond55 v484 v486 = 1#1), ∀ a, (k0_off667 v486) a + S16.size a ≤ S8192.size a := fun v379 v381 v384 v484 v486 k0_hw26 k0_h36 k0_h55 => k0_hw26.2.2.2.2.2.2.2.2 k0_h36 k0_h55

def k0_off668 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c9_i32 : BitVec 32 := 9#32
  let v618 : BitVec 32 := Scalar.addi v382 c9_i32
  let v619 : Index := Scalar.indexCast v618
  let c0_274 : Index := 0#32
  ![v619.toNat, 0]
def k0_off669 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c9_i32_277 : BitVec 32 := 9#32
  let v626 : BitVec 32 := Scalar.addi v382 c9_i32_277
  let v627 : Index := Scalar.indexCast v626
  let c16_278 : Index := 16#32
  ![v627.toNat, 16]
def k0_off670 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c9_i32_281 : BitVec 32 := 9#32
  let v634 : BitVec 32 := Scalar.addi v382 c9_i32_281
  let v635 : Index := Scalar.indexCast v634
  let c32_282 : Index := 32#32
  ![v635.toNat, 32]
def k0_off671 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c9_i32_285 : BitVec 32 := 9#32
  let v642 : BitVec 32 := Scalar.addi v382 c9_i32_285
  let v643 : Index := Scalar.indexCast v642
  let c48_286 : Index := 48#32
  ![v643.toNat, 48]
def k0_off672 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c9_i32_289 : BitVec 32 := 9#32
  let v650 : BitVec 32 := Scalar.addi v382 c9_i32_289
  let v651 : Index := Scalar.indexCast v650
  let c64_290 : Index := 64#32
  ![v651.toNat, 64]
def k0_off673 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c9_i32_293 : BitVec 32 := 9#32
  let v658 : BitVec 32 := Scalar.addi v382 c9_i32_293
  let v659 : Index := Scalar.indexCast v658
  let c80_294 : Index := 80#32
  ![v659.toNat, 80]
def k0_off674 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c9_i32_297 : BitVec 32 := 9#32
  let v666 : BitVec 32 := Scalar.addi v382 c9_i32_297
  let v667 : Index := Scalar.indexCast v666
  let c96_298 : Index := 96#32
  ![v667.toNat, 96]
def k0_off675 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c9_i32_301 : BitVec 32 := 9#32
  let v674 : BitVec 32 := Scalar.addi v382 c9_i32_301
  let v675 : Index := Scalar.indexCast v674
  let c112_302 : Index := 112#32
  ![v675.toNat, 112]
def k0_off676 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c9_i32 : BitVec 32 := 9#32
  let v556 : BitVec 32 := Scalar.addi v382 c9_i32
  let v557 : Index := Scalar.indexCast v556
  let c0_248 : Index := 0#32
  ![v557.toNat, 0]
def k0_off677 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c9_i32_253 : BitVec 32 := 9#32
  let v568 : BitVec 32 := Scalar.addi v382 c9_i32_253
  let v569 : Index := Scalar.indexCast v568
  let c16_254 : Index := 16#32
  ![v569.toNat, 16]
def k0_off678 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c9_i32_259 : BitVec 32 := 9#32
  let v580 : BitVec 32 := Scalar.addi v382 c9_i32_259
  let v581 : Index := Scalar.indexCast v580
  let c32_260 : Index := 32#32
  ![v581.toNat, 32]
def k0_off679 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c9_i32_265 : BitVec 32 := 9#32
  let v592 : BitVec 32 := Scalar.addi v382 c9_i32_265
  let v593 : Index := Scalar.indexCast v592
  let c48_266 : Index := 48#32
  ![v593.toNat, 48]
def k0_off680 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c9_i32_271 : BitVec 32 := 9#32
  let v604 : BitVec 32 := Scalar.addi v382 c9_i32_271
  let v605 : Index := Scalar.indexCast v604
  let c64_272 : Index := 64#32
  ![v605.toNat, 64]
def k0_off681 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c9_i32_277 : BitVec 32 := 9#32
  let v616 : BitVec 32 := Scalar.addi v382 c9_i32_277
  let v617 : Index := Scalar.indexCast v616
  let c80_278 : Index := 80#32
  ![v617.toNat, 80]
def k0_off682 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c9_i32_283 : BitVec 32 := 9#32
  let v628 : BitVec 32 := Scalar.addi v382 c9_i32_283
  let v629 : Index := Scalar.indexCast v628
  let c96_284 : Index := 96#32
  ![v629.toNat, 96]
def k0_off683 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c9_i32_289 : BitVec 32 := 9#32
  let v640 : BitVec 32 := Scalar.addi v382 c9_i32_289
  let v641 : Index := Scalar.indexCast v640
  let c112_290 : Index := 112#32
  ![v641.toNat, 112]
def k0_off684 (v496 : BitVec 32) : Fin 2 → Nat :=
  let c0_i32_246 : BitVec 32 := 0#32
  let v553 : BitVec 32 := Scalar.maxsi v496 c0_i32_246
  let v557 : Index := Scalar.indexCast v553
  let c0_249 : Index := 0#32
  ![v557.toNat, 0]
def k0_cond57 (v494 : BitVec 32) (v496 : BitVec 32) : BitVec 1 :=
  let v497 : BitVec 1 := Scalar.cmpi .ne v494 v496
  let v498 : BitVec 32 := Scalar.extui v497
  let c0_i32_229 : BitVec 32 := 0#32
  let v499 : BitVec 1 := Scalar.cmpi .ne v498 c0_i32_229
  v499

def k0_off685 (v496 : BitVec 32) : Fin 2 → Nat :=
  let c0_i32_246 : BitVec 32 := 0#32
  let v553 : BitVec 32 := Scalar.maxsi v496 c0_i32_246
  let v564 : Index := Scalar.indexCast v553
  let c16_252 : Index := 16#32
  ![v564.toNat, 16]
def k0_off686 (v496 : BitVec 32) : Fin 2 → Nat :=
  let c0_i32_246 : BitVec 32 := 0#32
  let v553 : BitVec 32 := Scalar.maxsi v496 c0_i32_246
  let v571 : Index := Scalar.indexCast v553
  let c32_255 : Index := 32#32
  ![v571.toNat, 32]
def k0_off687 (v496 : BitVec 32) : Fin 2 → Nat :=
  let c0_i32_246 : BitVec 32 := 0#32
  let v553 : BitVec 32 := Scalar.maxsi v496 c0_i32_246
  let v578 : Index := Scalar.indexCast v553
  let c48_258 : Index := 48#32
  ![v578.toNat, 48]
def k0_off688 (v496 : BitVec 32) : Fin 2 → Nat :=
  let c0_i32_246 : BitVec 32 := 0#32
  let v553 : BitVec 32 := Scalar.maxsi v496 c0_i32_246
  let v585 : Index := Scalar.indexCast v553
  let c64_261 : Index := 64#32
  ![v585.toNat, 64]
def k0_off689 (v496 : BitVec 32) : Fin 2 → Nat :=
  let c0_i32_246 : BitVec 32 := 0#32
  let v553 : BitVec 32 := Scalar.maxsi v496 c0_i32_246
  let v592 : Index := Scalar.indexCast v553
  let c80_264 : Index := 80#32
  ![v592.toNat, 80]
def k0_off690 (v496 : BitVec 32) : Fin 2 → Nat :=
  let c0_i32_246 : BitVec 32 := 0#32
  let v553 : BitVec 32 := Scalar.maxsi v496 c0_i32_246
  let v599 : Index := Scalar.indexCast v553
  let c96_267 : Index := 96#32
  ![v599.toNat, 96]
def k0_off691 (v496 : BitVec 32) : Fin 2 → Nat :=
  let c0_i32_246 : BitVec 32 := 0#32
  let v553 : BitVec 32 := Scalar.maxsi v496 c0_i32_246
  let v606 : Index := Scalar.indexCast v553
  let c112_270 : Index := 112#32
  ![v606.toNat, 112]
def k0_off692 (v496 : BitVec 32) : Fin 1 → Nat :=
  let c0_i32_246 : BitVec 32 := 0#32
  let v553 : BitVec 32 := Scalar.maxsi v496 c0_i32_246
  let c16_i32_273 : BitVec 32 := 16#32
  let v613 : BitVec 32 := Scalar.muli v553 c16_i32_273
  let v614 : Index := Scalar.indexCast v613
  ![v614.toNat]

def k0_chk27 (v379 : BitVec 32) (v381 : BitVec 32) (v384 : BitVec 32) (v494 : BitVec 32) (v496 : BitVec 32) : Prop :=
  (∀ (k0_h36 : k0_cond36 v379 v381 v384 = 1#1), ∀ (k0_h57 : k0_cond57 v494 v496 = 1#1), ∀ a, (k0_off684 v496) a + S1x16.size a ≤ S512x128.size a) ∧
  (∀ (k0_h36 : k0_cond36 v379 v381 v384 = 1#1), ∀ (k0_h57 : k0_cond57 v494 v496 = 1#1), ∀ a, (k0_off685 v496) a + S1x16.size a ≤ S512x128.size a) ∧
  (∀ (k0_h36 : k0_cond36 v379 v381 v384 = 1#1), ∀ (k0_h57 : k0_cond57 v494 v496 = 1#1), ∀ a, (k0_off686 v496) a + S1x16.size a ≤ S512x128.size a) ∧
  (∀ (k0_h36 : k0_cond36 v379 v381 v384 = 1#1), ∀ (k0_h57 : k0_cond57 v494 v496 = 1#1), ∀ a, (k0_off687 v496) a + S1x16.size a ≤ S512x128.size a) ∧
  (∀ (k0_h36 : k0_cond36 v379 v381 v384 = 1#1), ∀ (k0_h57 : k0_cond57 v494 v496 = 1#1), ∀ a, (k0_off688 v496) a + S1x16.size a ≤ S512x128.size a) ∧
  (∀ (k0_h36 : k0_cond36 v379 v381 v384 = 1#1), ∀ (k0_h57 : k0_cond57 v494 v496 = 1#1), ∀ a, (k0_off689 v496) a + S1x16.size a ≤ S512x128.size a) ∧
  (∀ (k0_h36 : k0_cond36 v379 v381 v384 = 1#1), ∀ (k0_h57 : k0_cond57 v494 v496 = 1#1), ∀ a, (k0_off690 v496) a + S1x16.size a ≤ S512x128.size a) ∧
  (∀ (k0_h36 : k0_cond36 v379 v381 v384 = 1#1), ∀ (k0_h57 : k0_cond57 v494 v496 = 1#1), ∀ a, (k0_off691 v496) a + S1x16.size a ≤ S512x128.size a) ∧
  (∀ (k0_h36 : k0_cond36 v379 v381 v384 = 1#1), ∀ (k0_h57 : k0_cond57 v494 v496 = 1#1), ∀ a, (k0_off692 v496) a + S16.size a ≤ S8192.size a)
theorem k0_off684_inb : ∀ (v379 : BitVec 32) (v381 : BitVec 32) (v384 : BitVec 32) (v494 : BitVec 32) (v496 : BitVec 32) (k0_hw27 : k0_chk27 v379 v381 v384 v494 v496), ∀ (k0_h36 : k0_cond36 v379 v381 v384 = 1#1), ∀ (k0_h57 : k0_cond57 v494 v496 = 1#1), ∀ a, (k0_off684 v496) a + S1x16.size a ≤ S512x128.size a := fun v379 v381 v384 v494 v496 k0_hw27 k0_h36 k0_h57 => k0_hw27.1 k0_h36 k0_h57
theorem k0_off685_inb : ∀ (v379 : BitVec 32) (v381 : BitVec 32) (v384 : BitVec 32) (v494 : BitVec 32) (v496 : BitVec 32) (k0_hw27 : k0_chk27 v379 v381 v384 v494 v496), ∀ (k0_h36 : k0_cond36 v379 v381 v384 = 1#1), ∀ (k0_h57 : k0_cond57 v494 v496 = 1#1), ∀ a, (k0_off685 v496) a + S1x16.size a ≤ S512x128.size a := fun v379 v381 v384 v494 v496 k0_hw27 k0_h36 k0_h57 => k0_hw27.2.1 k0_h36 k0_h57
theorem k0_off686_inb : ∀ (v379 : BitVec 32) (v381 : BitVec 32) (v384 : BitVec 32) (v494 : BitVec 32) (v496 : BitVec 32) (k0_hw27 : k0_chk27 v379 v381 v384 v494 v496), ∀ (k0_h36 : k0_cond36 v379 v381 v384 = 1#1), ∀ (k0_h57 : k0_cond57 v494 v496 = 1#1), ∀ a, (k0_off686 v496) a + S1x16.size a ≤ S512x128.size a := fun v379 v381 v384 v494 v496 k0_hw27 k0_h36 k0_h57 => k0_hw27.2.2.1 k0_h36 k0_h57
theorem k0_off687_inb : ∀ (v379 : BitVec 32) (v381 : BitVec 32) (v384 : BitVec 32) (v494 : BitVec 32) (v496 : BitVec 32) (k0_hw27 : k0_chk27 v379 v381 v384 v494 v496), ∀ (k0_h36 : k0_cond36 v379 v381 v384 = 1#1), ∀ (k0_h57 : k0_cond57 v494 v496 = 1#1), ∀ a, (k0_off687 v496) a + S1x16.size a ≤ S512x128.size a := fun v379 v381 v384 v494 v496 k0_hw27 k0_h36 k0_h57 => k0_hw27.2.2.2.1 k0_h36 k0_h57
theorem k0_off688_inb : ∀ (v379 : BitVec 32) (v381 : BitVec 32) (v384 : BitVec 32) (v494 : BitVec 32) (v496 : BitVec 32) (k0_hw27 : k0_chk27 v379 v381 v384 v494 v496), ∀ (k0_h36 : k0_cond36 v379 v381 v384 = 1#1), ∀ (k0_h57 : k0_cond57 v494 v496 = 1#1), ∀ a, (k0_off688 v496) a + S1x16.size a ≤ S512x128.size a := fun v379 v381 v384 v494 v496 k0_hw27 k0_h36 k0_h57 => k0_hw27.2.2.2.2.1 k0_h36 k0_h57
theorem k0_off689_inb : ∀ (v379 : BitVec 32) (v381 : BitVec 32) (v384 : BitVec 32) (v494 : BitVec 32) (v496 : BitVec 32) (k0_hw27 : k0_chk27 v379 v381 v384 v494 v496), ∀ (k0_h36 : k0_cond36 v379 v381 v384 = 1#1), ∀ (k0_h57 : k0_cond57 v494 v496 = 1#1), ∀ a, (k0_off689 v496) a + S1x16.size a ≤ S512x128.size a := fun v379 v381 v384 v494 v496 k0_hw27 k0_h36 k0_h57 => k0_hw27.2.2.2.2.2.1 k0_h36 k0_h57
theorem k0_off690_inb : ∀ (v379 : BitVec 32) (v381 : BitVec 32) (v384 : BitVec 32) (v494 : BitVec 32) (v496 : BitVec 32) (k0_hw27 : k0_chk27 v379 v381 v384 v494 v496), ∀ (k0_h36 : k0_cond36 v379 v381 v384 = 1#1), ∀ (k0_h57 : k0_cond57 v494 v496 = 1#1), ∀ a, (k0_off690 v496) a + S1x16.size a ≤ S512x128.size a := fun v379 v381 v384 v494 v496 k0_hw27 k0_h36 k0_h57 => k0_hw27.2.2.2.2.2.2.1 k0_h36 k0_h57
theorem k0_off691_inb : ∀ (v379 : BitVec 32) (v381 : BitVec 32) (v384 : BitVec 32) (v494 : BitVec 32) (v496 : BitVec 32) (k0_hw27 : k0_chk27 v379 v381 v384 v494 v496), ∀ (k0_h36 : k0_cond36 v379 v381 v384 = 1#1), ∀ (k0_h57 : k0_cond57 v494 v496 = 1#1), ∀ a, (k0_off691 v496) a + S1x16.size a ≤ S512x128.size a := fun v379 v381 v384 v494 v496 k0_hw27 k0_h36 k0_h57 => k0_hw27.2.2.2.2.2.2.2.1 k0_h36 k0_h57
theorem k0_off692_inb : ∀ (v379 : BitVec 32) (v381 : BitVec 32) (v384 : BitVec 32) (v494 : BitVec 32) (v496 : BitVec 32) (k0_hw27 : k0_chk27 v379 v381 v384 v494 v496), ∀ (k0_h36 : k0_cond36 v379 v381 v384 = 1#1), ∀ (k0_h57 : k0_cond57 v494 v496 = 1#1), ∀ a, (k0_off692 v496) a + S16.size a ≤ S8192.size a := fun v379 v381 v384 v494 v496 k0_hw27 k0_h36 k0_h57 => k0_hw27.2.2.2.2.2.2.2.2 k0_h36 k0_h57

def k0_off693 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c10_i32 : BitVec 32 := 10#32
  let v618 : BitVec 32 := Scalar.addi v382 c10_i32
  let v619 : Index := Scalar.indexCast v618
  let c0_274 : Index := 0#32
  ![v619.toNat, 0]
def k0_off694 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c10_i32_277 : BitVec 32 := 10#32
  let v626 : BitVec 32 := Scalar.addi v382 c10_i32_277
  let v627 : Index := Scalar.indexCast v626
  let c16_278 : Index := 16#32
  ![v627.toNat, 16]
def k0_off695 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c10_i32_281 : BitVec 32 := 10#32
  let v634 : BitVec 32 := Scalar.addi v382 c10_i32_281
  let v635 : Index := Scalar.indexCast v634
  let c32_282 : Index := 32#32
  ![v635.toNat, 32]
def k0_off696 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c10_i32_285 : BitVec 32 := 10#32
  let v642 : BitVec 32 := Scalar.addi v382 c10_i32_285
  let v643 : Index := Scalar.indexCast v642
  let c48_286 : Index := 48#32
  ![v643.toNat, 48]
def k0_off697 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c10_i32_289 : BitVec 32 := 10#32
  let v650 : BitVec 32 := Scalar.addi v382 c10_i32_289
  let v651 : Index := Scalar.indexCast v650
  let c64_290 : Index := 64#32
  ![v651.toNat, 64]
def k0_off698 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c10_i32_293 : BitVec 32 := 10#32
  let v658 : BitVec 32 := Scalar.addi v382 c10_i32_293
  let v659 : Index := Scalar.indexCast v658
  let c80_294 : Index := 80#32
  ![v659.toNat, 80]
def k0_off699 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c10_i32_297 : BitVec 32 := 10#32
  let v666 : BitVec 32 := Scalar.addi v382 c10_i32_297
  let v667 : Index := Scalar.indexCast v666
  let c96_298 : Index := 96#32
  ![v667.toNat, 96]
def k0_off700 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c10_i32_301 : BitVec 32 := 10#32
  let v674 : BitVec 32 := Scalar.addi v382 c10_i32_301
  let v675 : Index := Scalar.indexCast v674
  let c112_302 : Index := 112#32
  ![v675.toNat, 112]
def k0_off701 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c10_i32 : BitVec 32 := 10#32
  let v556 : BitVec 32 := Scalar.addi v382 c10_i32
  let v557 : Index := Scalar.indexCast v556
  let c0_248 : Index := 0#32
  ![v557.toNat, 0]
def k0_off702 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c10_i32_253 : BitVec 32 := 10#32
  let v568 : BitVec 32 := Scalar.addi v382 c10_i32_253
  let v569 : Index := Scalar.indexCast v568
  let c16_254 : Index := 16#32
  ![v569.toNat, 16]
def k0_off703 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c10_i32_259 : BitVec 32 := 10#32
  let v580 : BitVec 32 := Scalar.addi v382 c10_i32_259
  let v581 : Index := Scalar.indexCast v580
  let c32_260 : Index := 32#32
  ![v581.toNat, 32]
def k0_off704 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c10_i32_265 : BitVec 32 := 10#32
  let v592 : BitVec 32 := Scalar.addi v382 c10_i32_265
  let v593 : Index := Scalar.indexCast v592
  let c48_266 : Index := 48#32
  ![v593.toNat, 48]
def k0_off705 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c10_i32_271 : BitVec 32 := 10#32
  let v604 : BitVec 32 := Scalar.addi v382 c10_i32_271
  let v605 : Index := Scalar.indexCast v604
  let c64_272 : Index := 64#32
  ![v605.toNat, 64]
def k0_off706 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c10_i32_277 : BitVec 32 := 10#32
  let v616 : BitVec 32 := Scalar.addi v382 c10_i32_277
  let v617 : Index := Scalar.indexCast v616
  let c80_278 : Index := 80#32
  ![v617.toNat, 80]
def k0_off707 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c10_i32_283 : BitVec 32 := 10#32
  let v628 : BitVec 32 := Scalar.addi v382 c10_i32_283
  let v629 : Index := Scalar.indexCast v628
  let c96_284 : Index := 96#32
  ![v629.toNat, 96]
def k0_off708 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c10_i32_289 : BitVec 32 := 10#32
  let v640 : BitVec 32 := Scalar.addi v382 c10_i32_289
  let v641 : Index := Scalar.indexCast v640
  let c112_290 : Index := 112#32
  ![v641.toNat, 112]
def k0_off709 (v506 : BitVec 32) : Fin 2 → Nat :=
  let c0_i32_246 : BitVec 32 := 0#32
  let v553 : BitVec 32 := Scalar.maxsi v506 c0_i32_246
  let v557 : Index := Scalar.indexCast v553
  let c0_249 : Index := 0#32
  ![v557.toNat, 0]
def k0_cond59 (v504 : BitVec 32) (v506 : BitVec 32) : BitVec 1 :=
  let v507 : BitVec 1 := Scalar.cmpi .ne v504 v506
  let v508 : BitVec 32 := Scalar.extui v507
  let c0_i32_232 : BitVec 32 := 0#32
  let v509 : BitVec 1 := Scalar.cmpi .ne v508 c0_i32_232
  v509

def k0_off710 (v506 : BitVec 32) : Fin 2 → Nat :=
  let c0_i32_246 : BitVec 32 := 0#32
  let v553 : BitVec 32 := Scalar.maxsi v506 c0_i32_246
  let v564 : Index := Scalar.indexCast v553
  let c16_252 : Index := 16#32
  ![v564.toNat, 16]
def k0_off711 (v506 : BitVec 32) : Fin 2 → Nat :=
  let c0_i32_246 : BitVec 32 := 0#32
  let v553 : BitVec 32 := Scalar.maxsi v506 c0_i32_246
  let v571 : Index := Scalar.indexCast v553
  let c32_255 : Index := 32#32
  ![v571.toNat, 32]
def k0_off712 (v506 : BitVec 32) : Fin 2 → Nat :=
  let c0_i32_246 : BitVec 32 := 0#32
  let v553 : BitVec 32 := Scalar.maxsi v506 c0_i32_246
  let v578 : Index := Scalar.indexCast v553
  let c48_258 : Index := 48#32
  ![v578.toNat, 48]
def k0_off713 (v506 : BitVec 32) : Fin 2 → Nat :=
  let c0_i32_246 : BitVec 32 := 0#32
  let v553 : BitVec 32 := Scalar.maxsi v506 c0_i32_246
  let v585 : Index := Scalar.indexCast v553
  let c64_261 : Index := 64#32
  ![v585.toNat, 64]
def k0_off714 (v506 : BitVec 32) : Fin 2 → Nat :=
  let c0_i32_246 : BitVec 32 := 0#32
  let v553 : BitVec 32 := Scalar.maxsi v506 c0_i32_246
  let v592 : Index := Scalar.indexCast v553
  let c80_264 : Index := 80#32
  ![v592.toNat, 80]
def k0_off715 (v506 : BitVec 32) : Fin 2 → Nat :=
  let c0_i32_246 : BitVec 32 := 0#32
  let v553 : BitVec 32 := Scalar.maxsi v506 c0_i32_246
  let v599 : Index := Scalar.indexCast v553
  let c96_267 : Index := 96#32
  ![v599.toNat, 96]
def k0_off716 (v506 : BitVec 32) : Fin 2 → Nat :=
  let c0_i32_246 : BitVec 32 := 0#32
  let v553 : BitVec 32 := Scalar.maxsi v506 c0_i32_246
  let v606 : Index := Scalar.indexCast v553
  let c112_270 : Index := 112#32
  ![v606.toNat, 112]
def k0_off717 (v506 : BitVec 32) : Fin 1 → Nat :=
  let c0_i32_246 : BitVec 32 := 0#32
  let v553 : BitVec 32 := Scalar.maxsi v506 c0_i32_246
  let c16_i32_273 : BitVec 32 := 16#32
  let v613 : BitVec 32 := Scalar.muli v553 c16_i32_273
  let v614 : Index := Scalar.indexCast v613
  ![v614.toNat]

def k0_chk28 (v379 : BitVec 32) (v381 : BitVec 32) (v384 : BitVec 32) (v504 : BitVec 32) (v506 : BitVec 32) : Prop :=
  (∀ (k0_h36 : k0_cond36 v379 v381 v384 = 1#1), ∀ (k0_h59 : k0_cond59 v504 v506 = 1#1), ∀ a, (k0_off709 v506) a + S1x16.size a ≤ S512x128.size a) ∧
  (∀ (k0_h36 : k0_cond36 v379 v381 v384 = 1#1), ∀ (k0_h59 : k0_cond59 v504 v506 = 1#1), ∀ a, (k0_off710 v506) a + S1x16.size a ≤ S512x128.size a) ∧
  (∀ (k0_h36 : k0_cond36 v379 v381 v384 = 1#1), ∀ (k0_h59 : k0_cond59 v504 v506 = 1#1), ∀ a, (k0_off711 v506) a + S1x16.size a ≤ S512x128.size a) ∧
  (∀ (k0_h36 : k0_cond36 v379 v381 v384 = 1#1), ∀ (k0_h59 : k0_cond59 v504 v506 = 1#1), ∀ a, (k0_off712 v506) a + S1x16.size a ≤ S512x128.size a) ∧
  (∀ (k0_h36 : k0_cond36 v379 v381 v384 = 1#1), ∀ (k0_h59 : k0_cond59 v504 v506 = 1#1), ∀ a, (k0_off713 v506) a + S1x16.size a ≤ S512x128.size a) ∧
  (∀ (k0_h36 : k0_cond36 v379 v381 v384 = 1#1), ∀ (k0_h59 : k0_cond59 v504 v506 = 1#1), ∀ a, (k0_off714 v506) a + S1x16.size a ≤ S512x128.size a) ∧
  (∀ (k0_h36 : k0_cond36 v379 v381 v384 = 1#1), ∀ (k0_h59 : k0_cond59 v504 v506 = 1#1), ∀ a, (k0_off715 v506) a + S1x16.size a ≤ S512x128.size a) ∧
  (∀ (k0_h36 : k0_cond36 v379 v381 v384 = 1#1), ∀ (k0_h59 : k0_cond59 v504 v506 = 1#1), ∀ a, (k0_off716 v506) a + S1x16.size a ≤ S512x128.size a) ∧
  (∀ (k0_h36 : k0_cond36 v379 v381 v384 = 1#1), ∀ (k0_h59 : k0_cond59 v504 v506 = 1#1), ∀ a, (k0_off717 v506) a + S16.size a ≤ S8192.size a)
theorem k0_off709_inb : ∀ (v379 : BitVec 32) (v381 : BitVec 32) (v384 : BitVec 32) (v504 : BitVec 32) (v506 : BitVec 32) (k0_hw28 : k0_chk28 v379 v381 v384 v504 v506), ∀ (k0_h36 : k0_cond36 v379 v381 v384 = 1#1), ∀ (k0_h59 : k0_cond59 v504 v506 = 1#1), ∀ a, (k0_off709 v506) a + S1x16.size a ≤ S512x128.size a := fun v379 v381 v384 v504 v506 k0_hw28 k0_h36 k0_h59 => k0_hw28.1 k0_h36 k0_h59
theorem k0_off710_inb : ∀ (v379 : BitVec 32) (v381 : BitVec 32) (v384 : BitVec 32) (v504 : BitVec 32) (v506 : BitVec 32) (k0_hw28 : k0_chk28 v379 v381 v384 v504 v506), ∀ (k0_h36 : k0_cond36 v379 v381 v384 = 1#1), ∀ (k0_h59 : k0_cond59 v504 v506 = 1#1), ∀ a, (k0_off710 v506) a + S1x16.size a ≤ S512x128.size a := fun v379 v381 v384 v504 v506 k0_hw28 k0_h36 k0_h59 => k0_hw28.2.1 k0_h36 k0_h59
theorem k0_off711_inb : ∀ (v379 : BitVec 32) (v381 : BitVec 32) (v384 : BitVec 32) (v504 : BitVec 32) (v506 : BitVec 32) (k0_hw28 : k0_chk28 v379 v381 v384 v504 v506), ∀ (k0_h36 : k0_cond36 v379 v381 v384 = 1#1), ∀ (k0_h59 : k0_cond59 v504 v506 = 1#1), ∀ a, (k0_off711 v506) a + S1x16.size a ≤ S512x128.size a := fun v379 v381 v384 v504 v506 k0_hw28 k0_h36 k0_h59 => k0_hw28.2.2.1 k0_h36 k0_h59
theorem k0_off712_inb : ∀ (v379 : BitVec 32) (v381 : BitVec 32) (v384 : BitVec 32) (v504 : BitVec 32) (v506 : BitVec 32) (k0_hw28 : k0_chk28 v379 v381 v384 v504 v506), ∀ (k0_h36 : k0_cond36 v379 v381 v384 = 1#1), ∀ (k0_h59 : k0_cond59 v504 v506 = 1#1), ∀ a, (k0_off712 v506) a + S1x16.size a ≤ S512x128.size a := fun v379 v381 v384 v504 v506 k0_hw28 k0_h36 k0_h59 => k0_hw28.2.2.2.1 k0_h36 k0_h59
theorem k0_off713_inb : ∀ (v379 : BitVec 32) (v381 : BitVec 32) (v384 : BitVec 32) (v504 : BitVec 32) (v506 : BitVec 32) (k0_hw28 : k0_chk28 v379 v381 v384 v504 v506), ∀ (k0_h36 : k0_cond36 v379 v381 v384 = 1#1), ∀ (k0_h59 : k0_cond59 v504 v506 = 1#1), ∀ a, (k0_off713 v506) a + S1x16.size a ≤ S512x128.size a := fun v379 v381 v384 v504 v506 k0_hw28 k0_h36 k0_h59 => k0_hw28.2.2.2.2.1 k0_h36 k0_h59
theorem k0_off714_inb : ∀ (v379 : BitVec 32) (v381 : BitVec 32) (v384 : BitVec 32) (v504 : BitVec 32) (v506 : BitVec 32) (k0_hw28 : k0_chk28 v379 v381 v384 v504 v506), ∀ (k0_h36 : k0_cond36 v379 v381 v384 = 1#1), ∀ (k0_h59 : k0_cond59 v504 v506 = 1#1), ∀ a, (k0_off714 v506) a + S1x16.size a ≤ S512x128.size a := fun v379 v381 v384 v504 v506 k0_hw28 k0_h36 k0_h59 => k0_hw28.2.2.2.2.2.1 k0_h36 k0_h59
theorem k0_off715_inb : ∀ (v379 : BitVec 32) (v381 : BitVec 32) (v384 : BitVec 32) (v504 : BitVec 32) (v506 : BitVec 32) (k0_hw28 : k0_chk28 v379 v381 v384 v504 v506), ∀ (k0_h36 : k0_cond36 v379 v381 v384 = 1#1), ∀ (k0_h59 : k0_cond59 v504 v506 = 1#1), ∀ a, (k0_off715 v506) a + S1x16.size a ≤ S512x128.size a := fun v379 v381 v384 v504 v506 k0_hw28 k0_h36 k0_h59 => k0_hw28.2.2.2.2.2.2.1 k0_h36 k0_h59
theorem k0_off716_inb : ∀ (v379 : BitVec 32) (v381 : BitVec 32) (v384 : BitVec 32) (v504 : BitVec 32) (v506 : BitVec 32) (k0_hw28 : k0_chk28 v379 v381 v384 v504 v506), ∀ (k0_h36 : k0_cond36 v379 v381 v384 = 1#1), ∀ (k0_h59 : k0_cond59 v504 v506 = 1#1), ∀ a, (k0_off716 v506) a + S1x16.size a ≤ S512x128.size a := fun v379 v381 v384 v504 v506 k0_hw28 k0_h36 k0_h59 => k0_hw28.2.2.2.2.2.2.2.1 k0_h36 k0_h59
theorem k0_off717_inb : ∀ (v379 : BitVec 32) (v381 : BitVec 32) (v384 : BitVec 32) (v504 : BitVec 32) (v506 : BitVec 32) (k0_hw28 : k0_chk28 v379 v381 v384 v504 v506), ∀ (k0_h36 : k0_cond36 v379 v381 v384 = 1#1), ∀ (k0_h59 : k0_cond59 v504 v506 = 1#1), ∀ a, (k0_off717 v506) a + S16.size a ≤ S8192.size a := fun v379 v381 v384 v504 v506 k0_hw28 k0_h36 k0_h59 => k0_hw28.2.2.2.2.2.2.2.2 k0_h36 k0_h59

def k0_off718 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c11_i32 : BitVec 32 := 11#32
  let v618 : BitVec 32 := Scalar.addi v382 c11_i32
  let v619 : Index := Scalar.indexCast v618
  let c0_274 : Index := 0#32
  ![v619.toNat, 0]
def k0_off719 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c11_i32_277 : BitVec 32 := 11#32
  let v626 : BitVec 32 := Scalar.addi v382 c11_i32_277
  let v627 : Index := Scalar.indexCast v626
  let c16_278 : Index := 16#32
  ![v627.toNat, 16]
def k0_off720 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c11_i32_281 : BitVec 32 := 11#32
  let v634 : BitVec 32 := Scalar.addi v382 c11_i32_281
  let v635 : Index := Scalar.indexCast v634
  let c32_282 : Index := 32#32
  ![v635.toNat, 32]
def k0_off721 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c11_i32_285 : BitVec 32 := 11#32
  let v642 : BitVec 32 := Scalar.addi v382 c11_i32_285
  let v643 : Index := Scalar.indexCast v642
  let c48_286 : Index := 48#32
  ![v643.toNat, 48]
def k0_off722 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c11_i32_289 : BitVec 32 := 11#32
  let v650 : BitVec 32 := Scalar.addi v382 c11_i32_289
  let v651 : Index := Scalar.indexCast v650
  let c64_290 : Index := 64#32
  ![v651.toNat, 64]
def k0_off723 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c11_i32_293 : BitVec 32 := 11#32
  let v658 : BitVec 32 := Scalar.addi v382 c11_i32_293
  let v659 : Index := Scalar.indexCast v658
  let c80_294 : Index := 80#32
  ![v659.toNat, 80]
def k0_off724 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c11_i32_297 : BitVec 32 := 11#32
  let v666 : BitVec 32 := Scalar.addi v382 c11_i32_297
  let v667 : Index := Scalar.indexCast v666
  let c96_298 : Index := 96#32
  ![v667.toNat, 96]
def k0_off725 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c11_i32_301 : BitVec 32 := 11#32
  let v674 : BitVec 32 := Scalar.addi v382 c11_i32_301
  let v675 : Index := Scalar.indexCast v674
  let c112_302 : Index := 112#32
  ![v675.toNat, 112]
def k0_off726 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c11_i32 : BitVec 32 := 11#32
  let v556 : BitVec 32 := Scalar.addi v382 c11_i32
  let v557 : Index := Scalar.indexCast v556
  let c0_248 : Index := 0#32
  ![v557.toNat, 0]
def k0_off727 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c11_i32_253 : BitVec 32 := 11#32
  let v568 : BitVec 32 := Scalar.addi v382 c11_i32_253
  let v569 : Index := Scalar.indexCast v568
  let c16_254 : Index := 16#32
  ![v569.toNat, 16]
def k0_off728 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c11_i32_259 : BitVec 32 := 11#32
  let v580 : BitVec 32 := Scalar.addi v382 c11_i32_259
  let v581 : Index := Scalar.indexCast v580
  let c32_260 : Index := 32#32
  ![v581.toNat, 32]
def k0_off729 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c11_i32_265 : BitVec 32 := 11#32
  let v592 : BitVec 32 := Scalar.addi v382 c11_i32_265
  let v593 : Index := Scalar.indexCast v592
  let c48_266 : Index := 48#32
  ![v593.toNat, 48]
def k0_off730 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c11_i32_271 : BitVec 32 := 11#32
  let v604 : BitVec 32 := Scalar.addi v382 c11_i32_271
  let v605 : Index := Scalar.indexCast v604
  let c64_272 : Index := 64#32
  ![v605.toNat, 64]
def k0_off731 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c11_i32_277 : BitVec 32 := 11#32
  let v616 : BitVec 32 := Scalar.addi v382 c11_i32_277
  let v617 : Index := Scalar.indexCast v616
  let c80_278 : Index := 80#32
  ![v617.toNat, 80]
def k0_off732 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c11_i32_283 : BitVec 32 := 11#32
  let v628 : BitVec 32 := Scalar.addi v382 c11_i32_283
  let v629 : Index := Scalar.indexCast v628
  let c96_284 : Index := 96#32
  ![v629.toNat, 96]
def k0_off733 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c11_i32_289 : BitVec 32 := 11#32
  let v640 : BitVec 32 := Scalar.addi v382 c11_i32_289
  let v641 : Index := Scalar.indexCast v640
  let c112_290 : Index := 112#32
  ![v641.toNat, 112]
def k0_off734 (v516 : BitVec 32) : Fin 2 → Nat :=
  let c0_i32_246 : BitVec 32 := 0#32
  let v553 : BitVec 32 := Scalar.maxsi v516 c0_i32_246
  let v557 : Index := Scalar.indexCast v553
  let c0_249 : Index := 0#32
  ![v557.toNat, 0]
def k0_cond61 (v514 : BitVec 32) (v516 : BitVec 32) : BitVec 1 :=
  let v517 : BitVec 1 := Scalar.cmpi .ne v514 v516
  let v518 : BitVec 32 := Scalar.extui v517
  let c0_i32_235 : BitVec 32 := 0#32
  let v519 : BitVec 1 := Scalar.cmpi .ne v518 c0_i32_235
  v519

def k0_off735 (v516 : BitVec 32) : Fin 2 → Nat :=
  let c0_i32_246 : BitVec 32 := 0#32
  let v553 : BitVec 32 := Scalar.maxsi v516 c0_i32_246
  let v564 : Index := Scalar.indexCast v553
  let c16_252 : Index := 16#32
  ![v564.toNat, 16]
def k0_off736 (v516 : BitVec 32) : Fin 2 → Nat :=
  let c0_i32_246 : BitVec 32 := 0#32
  let v553 : BitVec 32 := Scalar.maxsi v516 c0_i32_246
  let v571 : Index := Scalar.indexCast v553
  let c32_255 : Index := 32#32
  ![v571.toNat, 32]
def k0_off737 (v516 : BitVec 32) : Fin 2 → Nat :=
  let c0_i32_246 : BitVec 32 := 0#32
  let v553 : BitVec 32 := Scalar.maxsi v516 c0_i32_246
  let v578 : Index := Scalar.indexCast v553
  let c48_258 : Index := 48#32
  ![v578.toNat, 48]
def k0_off738 (v516 : BitVec 32) : Fin 2 → Nat :=
  let c0_i32_246 : BitVec 32 := 0#32
  let v553 : BitVec 32 := Scalar.maxsi v516 c0_i32_246
  let v585 : Index := Scalar.indexCast v553
  let c64_261 : Index := 64#32
  ![v585.toNat, 64]
def k0_off739 (v516 : BitVec 32) : Fin 2 → Nat :=
  let c0_i32_246 : BitVec 32 := 0#32
  let v553 : BitVec 32 := Scalar.maxsi v516 c0_i32_246
  let v592 : Index := Scalar.indexCast v553
  let c80_264 : Index := 80#32
  ![v592.toNat, 80]
def k0_off740 (v516 : BitVec 32) : Fin 2 → Nat :=
  let c0_i32_246 : BitVec 32 := 0#32
  let v553 : BitVec 32 := Scalar.maxsi v516 c0_i32_246
  let v599 : Index := Scalar.indexCast v553
  let c96_267 : Index := 96#32
  ![v599.toNat, 96]
def k0_off741 (v516 : BitVec 32) : Fin 2 → Nat :=
  let c0_i32_246 : BitVec 32 := 0#32
  let v553 : BitVec 32 := Scalar.maxsi v516 c0_i32_246
  let v606 : Index := Scalar.indexCast v553
  let c112_270 : Index := 112#32
  ![v606.toNat, 112]
def k0_off742 (v516 : BitVec 32) : Fin 1 → Nat :=
  let c0_i32_246 : BitVec 32 := 0#32
  let v553 : BitVec 32 := Scalar.maxsi v516 c0_i32_246
  let c16_i32_273 : BitVec 32 := 16#32
  let v613 : BitVec 32 := Scalar.muli v553 c16_i32_273
  let v614 : Index := Scalar.indexCast v613
  ![v614.toNat]

def k0_chk29 (v379 : BitVec 32) (v381 : BitVec 32) (v384 : BitVec 32) (v514 : BitVec 32) (v516 : BitVec 32) : Prop :=
  (∀ (k0_h36 : k0_cond36 v379 v381 v384 = 1#1), ∀ (k0_h61 : k0_cond61 v514 v516 = 1#1), ∀ a, (k0_off734 v516) a + S1x16.size a ≤ S512x128.size a) ∧
  (∀ (k0_h36 : k0_cond36 v379 v381 v384 = 1#1), ∀ (k0_h61 : k0_cond61 v514 v516 = 1#1), ∀ a, (k0_off735 v516) a + S1x16.size a ≤ S512x128.size a) ∧
  (∀ (k0_h36 : k0_cond36 v379 v381 v384 = 1#1), ∀ (k0_h61 : k0_cond61 v514 v516 = 1#1), ∀ a, (k0_off736 v516) a + S1x16.size a ≤ S512x128.size a) ∧
  (∀ (k0_h36 : k0_cond36 v379 v381 v384 = 1#1), ∀ (k0_h61 : k0_cond61 v514 v516 = 1#1), ∀ a, (k0_off737 v516) a + S1x16.size a ≤ S512x128.size a) ∧
  (∀ (k0_h36 : k0_cond36 v379 v381 v384 = 1#1), ∀ (k0_h61 : k0_cond61 v514 v516 = 1#1), ∀ a, (k0_off738 v516) a + S1x16.size a ≤ S512x128.size a) ∧
  (∀ (k0_h36 : k0_cond36 v379 v381 v384 = 1#1), ∀ (k0_h61 : k0_cond61 v514 v516 = 1#1), ∀ a, (k0_off739 v516) a + S1x16.size a ≤ S512x128.size a) ∧
  (∀ (k0_h36 : k0_cond36 v379 v381 v384 = 1#1), ∀ (k0_h61 : k0_cond61 v514 v516 = 1#1), ∀ a, (k0_off740 v516) a + S1x16.size a ≤ S512x128.size a) ∧
  (∀ (k0_h36 : k0_cond36 v379 v381 v384 = 1#1), ∀ (k0_h61 : k0_cond61 v514 v516 = 1#1), ∀ a, (k0_off741 v516) a + S1x16.size a ≤ S512x128.size a) ∧
  (∀ (k0_h36 : k0_cond36 v379 v381 v384 = 1#1), ∀ (k0_h61 : k0_cond61 v514 v516 = 1#1), ∀ a, (k0_off742 v516) a + S16.size a ≤ S8192.size a)
theorem k0_off734_inb : ∀ (v379 : BitVec 32) (v381 : BitVec 32) (v384 : BitVec 32) (v514 : BitVec 32) (v516 : BitVec 32) (k0_hw29 : k0_chk29 v379 v381 v384 v514 v516), ∀ (k0_h36 : k0_cond36 v379 v381 v384 = 1#1), ∀ (k0_h61 : k0_cond61 v514 v516 = 1#1), ∀ a, (k0_off734 v516) a + S1x16.size a ≤ S512x128.size a := fun v379 v381 v384 v514 v516 k0_hw29 k0_h36 k0_h61 => k0_hw29.1 k0_h36 k0_h61
theorem k0_off735_inb : ∀ (v379 : BitVec 32) (v381 : BitVec 32) (v384 : BitVec 32) (v514 : BitVec 32) (v516 : BitVec 32) (k0_hw29 : k0_chk29 v379 v381 v384 v514 v516), ∀ (k0_h36 : k0_cond36 v379 v381 v384 = 1#1), ∀ (k0_h61 : k0_cond61 v514 v516 = 1#1), ∀ a, (k0_off735 v516) a + S1x16.size a ≤ S512x128.size a := fun v379 v381 v384 v514 v516 k0_hw29 k0_h36 k0_h61 => k0_hw29.2.1 k0_h36 k0_h61
theorem k0_off736_inb : ∀ (v379 : BitVec 32) (v381 : BitVec 32) (v384 : BitVec 32) (v514 : BitVec 32) (v516 : BitVec 32) (k0_hw29 : k0_chk29 v379 v381 v384 v514 v516), ∀ (k0_h36 : k0_cond36 v379 v381 v384 = 1#1), ∀ (k0_h61 : k0_cond61 v514 v516 = 1#1), ∀ a, (k0_off736 v516) a + S1x16.size a ≤ S512x128.size a := fun v379 v381 v384 v514 v516 k0_hw29 k0_h36 k0_h61 => k0_hw29.2.2.1 k0_h36 k0_h61
theorem k0_off737_inb : ∀ (v379 : BitVec 32) (v381 : BitVec 32) (v384 : BitVec 32) (v514 : BitVec 32) (v516 : BitVec 32) (k0_hw29 : k0_chk29 v379 v381 v384 v514 v516), ∀ (k0_h36 : k0_cond36 v379 v381 v384 = 1#1), ∀ (k0_h61 : k0_cond61 v514 v516 = 1#1), ∀ a, (k0_off737 v516) a + S1x16.size a ≤ S512x128.size a := fun v379 v381 v384 v514 v516 k0_hw29 k0_h36 k0_h61 => k0_hw29.2.2.2.1 k0_h36 k0_h61
theorem k0_off738_inb : ∀ (v379 : BitVec 32) (v381 : BitVec 32) (v384 : BitVec 32) (v514 : BitVec 32) (v516 : BitVec 32) (k0_hw29 : k0_chk29 v379 v381 v384 v514 v516), ∀ (k0_h36 : k0_cond36 v379 v381 v384 = 1#1), ∀ (k0_h61 : k0_cond61 v514 v516 = 1#1), ∀ a, (k0_off738 v516) a + S1x16.size a ≤ S512x128.size a := fun v379 v381 v384 v514 v516 k0_hw29 k0_h36 k0_h61 => k0_hw29.2.2.2.2.1 k0_h36 k0_h61
theorem k0_off739_inb : ∀ (v379 : BitVec 32) (v381 : BitVec 32) (v384 : BitVec 32) (v514 : BitVec 32) (v516 : BitVec 32) (k0_hw29 : k0_chk29 v379 v381 v384 v514 v516), ∀ (k0_h36 : k0_cond36 v379 v381 v384 = 1#1), ∀ (k0_h61 : k0_cond61 v514 v516 = 1#1), ∀ a, (k0_off739 v516) a + S1x16.size a ≤ S512x128.size a := fun v379 v381 v384 v514 v516 k0_hw29 k0_h36 k0_h61 => k0_hw29.2.2.2.2.2.1 k0_h36 k0_h61
theorem k0_off740_inb : ∀ (v379 : BitVec 32) (v381 : BitVec 32) (v384 : BitVec 32) (v514 : BitVec 32) (v516 : BitVec 32) (k0_hw29 : k0_chk29 v379 v381 v384 v514 v516), ∀ (k0_h36 : k0_cond36 v379 v381 v384 = 1#1), ∀ (k0_h61 : k0_cond61 v514 v516 = 1#1), ∀ a, (k0_off740 v516) a + S1x16.size a ≤ S512x128.size a := fun v379 v381 v384 v514 v516 k0_hw29 k0_h36 k0_h61 => k0_hw29.2.2.2.2.2.2.1 k0_h36 k0_h61
theorem k0_off741_inb : ∀ (v379 : BitVec 32) (v381 : BitVec 32) (v384 : BitVec 32) (v514 : BitVec 32) (v516 : BitVec 32) (k0_hw29 : k0_chk29 v379 v381 v384 v514 v516), ∀ (k0_h36 : k0_cond36 v379 v381 v384 = 1#1), ∀ (k0_h61 : k0_cond61 v514 v516 = 1#1), ∀ a, (k0_off741 v516) a + S1x16.size a ≤ S512x128.size a := fun v379 v381 v384 v514 v516 k0_hw29 k0_h36 k0_h61 => k0_hw29.2.2.2.2.2.2.2.1 k0_h36 k0_h61
theorem k0_off742_inb : ∀ (v379 : BitVec 32) (v381 : BitVec 32) (v384 : BitVec 32) (v514 : BitVec 32) (v516 : BitVec 32) (k0_hw29 : k0_chk29 v379 v381 v384 v514 v516), ∀ (k0_h36 : k0_cond36 v379 v381 v384 = 1#1), ∀ (k0_h61 : k0_cond61 v514 v516 = 1#1), ∀ a, (k0_off742 v516) a + S16.size a ≤ S8192.size a := fun v379 v381 v384 v514 v516 k0_hw29 k0_h36 k0_h61 => k0_hw29.2.2.2.2.2.2.2.2 k0_h36 k0_h61

def k0_off743 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c12_i32 : BitVec 32 := 12#32
  let v618 : BitVec 32 := Scalar.addi v382 c12_i32
  let v619 : Index := Scalar.indexCast v618
  let c0_274 : Index := 0#32
  ![v619.toNat, 0]
def k0_off744 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c12_i32_277 : BitVec 32 := 12#32
  let v626 : BitVec 32 := Scalar.addi v382 c12_i32_277
  let v627 : Index := Scalar.indexCast v626
  let c16_278 : Index := 16#32
  ![v627.toNat, 16]
def k0_off745 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c12_i32_281 : BitVec 32 := 12#32
  let v634 : BitVec 32 := Scalar.addi v382 c12_i32_281
  let v635 : Index := Scalar.indexCast v634
  let c32_282 : Index := 32#32
  ![v635.toNat, 32]
def k0_off746 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c12_i32_285 : BitVec 32 := 12#32
  let v642 : BitVec 32 := Scalar.addi v382 c12_i32_285
  let v643 : Index := Scalar.indexCast v642
  let c48_286 : Index := 48#32
  ![v643.toNat, 48]
def k0_off747 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c12_i32_289 : BitVec 32 := 12#32
  let v650 : BitVec 32 := Scalar.addi v382 c12_i32_289
  let v651 : Index := Scalar.indexCast v650
  let c64_290 : Index := 64#32
  ![v651.toNat, 64]
def k0_off748 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c12_i32_293 : BitVec 32 := 12#32
  let v658 : BitVec 32 := Scalar.addi v382 c12_i32_293
  let v659 : Index := Scalar.indexCast v658
  let c80_294 : Index := 80#32
  ![v659.toNat, 80]
def k0_off749 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c12_i32_297 : BitVec 32 := 12#32
  let v666 : BitVec 32 := Scalar.addi v382 c12_i32_297
  let v667 : Index := Scalar.indexCast v666
  let c96_298 : Index := 96#32
  ![v667.toNat, 96]
def k0_off750 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c12_i32_301 : BitVec 32 := 12#32
  let v674 : BitVec 32 := Scalar.addi v382 c12_i32_301
  let v675 : Index := Scalar.indexCast v674
  let c112_302 : Index := 112#32
  ![v675.toNat, 112]
def k0_off751 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c12_i32 : BitVec 32 := 12#32
  let v556 : BitVec 32 := Scalar.addi v382 c12_i32
  let v557 : Index := Scalar.indexCast v556
  let c0_248 : Index := 0#32
  ![v557.toNat, 0]
def k0_off752 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c12_i32_253 : BitVec 32 := 12#32
  let v568 : BitVec 32 := Scalar.addi v382 c12_i32_253
  let v569 : Index := Scalar.indexCast v568
  let c16_254 : Index := 16#32
  ![v569.toNat, 16]
def k0_off753 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c12_i32_259 : BitVec 32 := 12#32
  let v580 : BitVec 32 := Scalar.addi v382 c12_i32_259
  let v581 : Index := Scalar.indexCast v580
  let c32_260 : Index := 32#32
  ![v581.toNat, 32]
def k0_off754 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c12_i32_265 : BitVec 32 := 12#32
  let v592 : BitVec 32 := Scalar.addi v382 c12_i32_265
  let v593 : Index := Scalar.indexCast v592
  let c48_266 : Index := 48#32
  ![v593.toNat, 48]
def k0_off755 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c12_i32_271 : BitVec 32 := 12#32
  let v604 : BitVec 32 := Scalar.addi v382 c12_i32_271
  let v605 : Index := Scalar.indexCast v604
  let c64_272 : Index := 64#32
  ![v605.toNat, 64]
def k0_off756 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c12_i32_277 : BitVec 32 := 12#32
  let v616 : BitVec 32 := Scalar.addi v382 c12_i32_277
  let v617 : Index := Scalar.indexCast v616
  let c80_278 : Index := 80#32
  ![v617.toNat, 80]
def k0_off757 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c12_i32_283 : BitVec 32 := 12#32
  let v628 : BitVec 32 := Scalar.addi v382 c12_i32_283
  let v629 : Index := Scalar.indexCast v628
  let c96_284 : Index := 96#32
  ![v629.toNat, 96]
def k0_off758 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c12_i32_289 : BitVec 32 := 12#32
  let v640 : BitVec 32 := Scalar.addi v382 c12_i32_289
  let v641 : Index := Scalar.indexCast v640
  let c112_290 : Index := 112#32
  ![v641.toNat, 112]
def k0_off759 (v526 : BitVec 32) : Fin 2 → Nat :=
  let c0_i32_246 : BitVec 32 := 0#32
  let v553 : BitVec 32 := Scalar.maxsi v526 c0_i32_246
  let v557 : Index := Scalar.indexCast v553
  let c0_249 : Index := 0#32
  ![v557.toNat, 0]
def k0_cond63 (v524 : BitVec 32) (v526 : BitVec 32) : BitVec 1 :=
  let v527 : BitVec 1 := Scalar.cmpi .ne v524 v526
  let v528 : BitVec 32 := Scalar.extui v527
  let c0_i32_238 : BitVec 32 := 0#32
  let v529 : BitVec 1 := Scalar.cmpi .ne v528 c0_i32_238
  v529

def k0_off760 (v526 : BitVec 32) : Fin 2 → Nat :=
  let c0_i32_246 : BitVec 32 := 0#32
  let v553 : BitVec 32 := Scalar.maxsi v526 c0_i32_246
  let v564 : Index := Scalar.indexCast v553
  let c16_252 : Index := 16#32
  ![v564.toNat, 16]
def k0_off761 (v526 : BitVec 32) : Fin 2 → Nat :=
  let c0_i32_246 : BitVec 32 := 0#32
  let v553 : BitVec 32 := Scalar.maxsi v526 c0_i32_246
  let v571 : Index := Scalar.indexCast v553
  let c32_255 : Index := 32#32
  ![v571.toNat, 32]
def k0_off762 (v526 : BitVec 32) : Fin 2 → Nat :=
  let c0_i32_246 : BitVec 32 := 0#32
  let v553 : BitVec 32 := Scalar.maxsi v526 c0_i32_246
  let v578 : Index := Scalar.indexCast v553
  let c48_258 : Index := 48#32
  ![v578.toNat, 48]
def k0_off763 (v526 : BitVec 32) : Fin 2 → Nat :=
  let c0_i32_246 : BitVec 32 := 0#32
  let v553 : BitVec 32 := Scalar.maxsi v526 c0_i32_246
  let v585 : Index := Scalar.indexCast v553
  let c64_261 : Index := 64#32
  ![v585.toNat, 64]
def k0_off764 (v526 : BitVec 32) : Fin 2 → Nat :=
  let c0_i32_246 : BitVec 32 := 0#32
  let v553 : BitVec 32 := Scalar.maxsi v526 c0_i32_246
  let v592 : Index := Scalar.indexCast v553
  let c80_264 : Index := 80#32
  ![v592.toNat, 80]
def k0_off765 (v526 : BitVec 32) : Fin 2 → Nat :=
  let c0_i32_246 : BitVec 32 := 0#32
  let v553 : BitVec 32 := Scalar.maxsi v526 c0_i32_246
  let v599 : Index := Scalar.indexCast v553
  let c96_267 : Index := 96#32
  ![v599.toNat, 96]
def k0_off766 (v526 : BitVec 32) : Fin 2 → Nat :=
  let c0_i32_246 : BitVec 32 := 0#32
  let v553 : BitVec 32 := Scalar.maxsi v526 c0_i32_246
  let v606 : Index := Scalar.indexCast v553
  let c112_270 : Index := 112#32
  ![v606.toNat, 112]
def k0_off767 (v526 : BitVec 32) : Fin 1 → Nat :=
  let c0_i32_246 : BitVec 32 := 0#32
  let v553 : BitVec 32 := Scalar.maxsi v526 c0_i32_246
  let c16_i32_273 : BitVec 32 := 16#32
  let v613 : BitVec 32 := Scalar.muli v553 c16_i32_273
  let v614 : Index := Scalar.indexCast v613
  ![v614.toNat]

def k0_chk30 (v379 : BitVec 32) (v381 : BitVec 32) (v384 : BitVec 32) (v524 : BitVec 32) (v526 : BitVec 32) : Prop :=
  (∀ (k0_h36 : k0_cond36 v379 v381 v384 = 1#1), ∀ (k0_h63 : k0_cond63 v524 v526 = 1#1), ∀ a, (k0_off759 v526) a + S1x16.size a ≤ S512x128.size a) ∧
  (∀ (k0_h36 : k0_cond36 v379 v381 v384 = 1#1), ∀ (k0_h63 : k0_cond63 v524 v526 = 1#1), ∀ a, (k0_off760 v526) a + S1x16.size a ≤ S512x128.size a) ∧
  (∀ (k0_h36 : k0_cond36 v379 v381 v384 = 1#1), ∀ (k0_h63 : k0_cond63 v524 v526 = 1#1), ∀ a, (k0_off761 v526) a + S1x16.size a ≤ S512x128.size a) ∧
  (∀ (k0_h36 : k0_cond36 v379 v381 v384 = 1#1), ∀ (k0_h63 : k0_cond63 v524 v526 = 1#1), ∀ a, (k0_off762 v526) a + S1x16.size a ≤ S512x128.size a) ∧
  (∀ (k0_h36 : k0_cond36 v379 v381 v384 = 1#1), ∀ (k0_h63 : k0_cond63 v524 v526 = 1#1), ∀ a, (k0_off763 v526) a + S1x16.size a ≤ S512x128.size a) ∧
  (∀ (k0_h36 : k0_cond36 v379 v381 v384 = 1#1), ∀ (k0_h63 : k0_cond63 v524 v526 = 1#1), ∀ a, (k0_off764 v526) a + S1x16.size a ≤ S512x128.size a) ∧
  (∀ (k0_h36 : k0_cond36 v379 v381 v384 = 1#1), ∀ (k0_h63 : k0_cond63 v524 v526 = 1#1), ∀ a, (k0_off765 v526) a + S1x16.size a ≤ S512x128.size a) ∧
  (∀ (k0_h36 : k0_cond36 v379 v381 v384 = 1#1), ∀ (k0_h63 : k0_cond63 v524 v526 = 1#1), ∀ a, (k0_off766 v526) a + S1x16.size a ≤ S512x128.size a) ∧
  (∀ (k0_h36 : k0_cond36 v379 v381 v384 = 1#1), ∀ (k0_h63 : k0_cond63 v524 v526 = 1#1), ∀ a, (k0_off767 v526) a + S16.size a ≤ S8192.size a)
theorem k0_off759_inb : ∀ (v379 : BitVec 32) (v381 : BitVec 32) (v384 : BitVec 32) (v524 : BitVec 32) (v526 : BitVec 32) (k0_hw30 : k0_chk30 v379 v381 v384 v524 v526), ∀ (k0_h36 : k0_cond36 v379 v381 v384 = 1#1), ∀ (k0_h63 : k0_cond63 v524 v526 = 1#1), ∀ a, (k0_off759 v526) a + S1x16.size a ≤ S512x128.size a := fun v379 v381 v384 v524 v526 k0_hw30 k0_h36 k0_h63 => k0_hw30.1 k0_h36 k0_h63
theorem k0_off760_inb : ∀ (v379 : BitVec 32) (v381 : BitVec 32) (v384 : BitVec 32) (v524 : BitVec 32) (v526 : BitVec 32) (k0_hw30 : k0_chk30 v379 v381 v384 v524 v526), ∀ (k0_h36 : k0_cond36 v379 v381 v384 = 1#1), ∀ (k0_h63 : k0_cond63 v524 v526 = 1#1), ∀ a, (k0_off760 v526) a + S1x16.size a ≤ S512x128.size a := fun v379 v381 v384 v524 v526 k0_hw30 k0_h36 k0_h63 => k0_hw30.2.1 k0_h36 k0_h63
theorem k0_off761_inb : ∀ (v379 : BitVec 32) (v381 : BitVec 32) (v384 : BitVec 32) (v524 : BitVec 32) (v526 : BitVec 32) (k0_hw30 : k0_chk30 v379 v381 v384 v524 v526), ∀ (k0_h36 : k0_cond36 v379 v381 v384 = 1#1), ∀ (k0_h63 : k0_cond63 v524 v526 = 1#1), ∀ a, (k0_off761 v526) a + S1x16.size a ≤ S512x128.size a := fun v379 v381 v384 v524 v526 k0_hw30 k0_h36 k0_h63 => k0_hw30.2.2.1 k0_h36 k0_h63
theorem k0_off762_inb : ∀ (v379 : BitVec 32) (v381 : BitVec 32) (v384 : BitVec 32) (v524 : BitVec 32) (v526 : BitVec 32) (k0_hw30 : k0_chk30 v379 v381 v384 v524 v526), ∀ (k0_h36 : k0_cond36 v379 v381 v384 = 1#1), ∀ (k0_h63 : k0_cond63 v524 v526 = 1#1), ∀ a, (k0_off762 v526) a + S1x16.size a ≤ S512x128.size a := fun v379 v381 v384 v524 v526 k0_hw30 k0_h36 k0_h63 => k0_hw30.2.2.2.1 k0_h36 k0_h63
theorem k0_off763_inb : ∀ (v379 : BitVec 32) (v381 : BitVec 32) (v384 : BitVec 32) (v524 : BitVec 32) (v526 : BitVec 32) (k0_hw30 : k0_chk30 v379 v381 v384 v524 v526), ∀ (k0_h36 : k0_cond36 v379 v381 v384 = 1#1), ∀ (k0_h63 : k0_cond63 v524 v526 = 1#1), ∀ a, (k0_off763 v526) a + S1x16.size a ≤ S512x128.size a := fun v379 v381 v384 v524 v526 k0_hw30 k0_h36 k0_h63 => k0_hw30.2.2.2.2.1 k0_h36 k0_h63
theorem k0_off764_inb : ∀ (v379 : BitVec 32) (v381 : BitVec 32) (v384 : BitVec 32) (v524 : BitVec 32) (v526 : BitVec 32) (k0_hw30 : k0_chk30 v379 v381 v384 v524 v526), ∀ (k0_h36 : k0_cond36 v379 v381 v384 = 1#1), ∀ (k0_h63 : k0_cond63 v524 v526 = 1#1), ∀ a, (k0_off764 v526) a + S1x16.size a ≤ S512x128.size a := fun v379 v381 v384 v524 v526 k0_hw30 k0_h36 k0_h63 => k0_hw30.2.2.2.2.2.1 k0_h36 k0_h63
theorem k0_off765_inb : ∀ (v379 : BitVec 32) (v381 : BitVec 32) (v384 : BitVec 32) (v524 : BitVec 32) (v526 : BitVec 32) (k0_hw30 : k0_chk30 v379 v381 v384 v524 v526), ∀ (k0_h36 : k0_cond36 v379 v381 v384 = 1#1), ∀ (k0_h63 : k0_cond63 v524 v526 = 1#1), ∀ a, (k0_off765 v526) a + S1x16.size a ≤ S512x128.size a := fun v379 v381 v384 v524 v526 k0_hw30 k0_h36 k0_h63 => k0_hw30.2.2.2.2.2.2.1 k0_h36 k0_h63
theorem k0_off766_inb : ∀ (v379 : BitVec 32) (v381 : BitVec 32) (v384 : BitVec 32) (v524 : BitVec 32) (v526 : BitVec 32) (k0_hw30 : k0_chk30 v379 v381 v384 v524 v526), ∀ (k0_h36 : k0_cond36 v379 v381 v384 = 1#1), ∀ (k0_h63 : k0_cond63 v524 v526 = 1#1), ∀ a, (k0_off766 v526) a + S1x16.size a ≤ S512x128.size a := fun v379 v381 v384 v524 v526 k0_hw30 k0_h36 k0_h63 => k0_hw30.2.2.2.2.2.2.2.1 k0_h36 k0_h63
theorem k0_off767_inb : ∀ (v379 : BitVec 32) (v381 : BitVec 32) (v384 : BitVec 32) (v524 : BitVec 32) (v526 : BitVec 32) (k0_hw30 : k0_chk30 v379 v381 v384 v524 v526), ∀ (k0_h36 : k0_cond36 v379 v381 v384 = 1#1), ∀ (k0_h63 : k0_cond63 v524 v526 = 1#1), ∀ a, (k0_off767 v526) a + S16.size a ≤ S8192.size a := fun v379 v381 v384 v524 v526 k0_hw30 k0_h36 k0_h63 => k0_hw30.2.2.2.2.2.2.2.2 k0_h36 k0_h63

def k0_off768 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c13_i32 : BitVec 32 := 13#32
  let v618 : BitVec 32 := Scalar.addi v382 c13_i32
  let v619 : Index := Scalar.indexCast v618
  let c0_274 : Index := 0#32
  ![v619.toNat, 0]
def k0_off769 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c13_i32_277 : BitVec 32 := 13#32
  let v626 : BitVec 32 := Scalar.addi v382 c13_i32_277
  let v627 : Index := Scalar.indexCast v626
  let c16_278 : Index := 16#32
  ![v627.toNat, 16]
def k0_off770 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c13_i32_281 : BitVec 32 := 13#32
  let v634 : BitVec 32 := Scalar.addi v382 c13_i32_281
  let v635 : Index := Scalar.indexCast v634
  let c32_282 : Index := 32#32
  ![v635.toNat, 32]
def k0_off771 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c13_i32_285 : BitVec 32 := 13#32
  let v642 : BitVec 32 := Scalar.addi v382 c13_i32_285
  let v643 : Index := Scalar.indexCast v642
  let c48_286 : Index := 48#32
  ![v643.toNat, 48]
def k0_off772 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c13_i32_289 : BitVec 32 := 13#32
  let v650 : BitVec 32 := Scalar.addi v382 c13_i32_289
  let v651 : Index := Scalar.indexCast v650
  let c64_290 : Index := 64#32
  ![v651.toNat, 64]
def k0_off773 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c13_i32_293 : BitVec 32 := 13#32
  let v658 : BitVec 32 := Scalar.addi v382 c13_i32_293
  let v659 : Index := Scalar.indexCast v658
  let c80_294 : Index := 80#32
  ![v659.toNat, 80]
def k0_off774 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c13_i32_297 : BitVec 32 := 13#32
  let v666 : BitVec 32 := Scalar.addi v382 c13_i32_297
  let v667 : Index := Scalar.indexCast v666
  let c96_298 : Index := 96#32
  ![v667.toNat, 96]
def k0_off775 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c13_i32_301 : BitVec 32 := 13#32
  let v674 : BitVec 32 := Scalar.addi v382 c13_i32_301
  let v675 : Index := Scalar.indexCast v674
  let c112_302 : Index := 112#32
  ![v675.toNat, 112]
def k0_off776 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c13_i32 : BitVec 32 := 13#32
  let v556 : BitVec 32 := Scalar.addi v382 c13_i32
  let v557 : Index := Scalar.indexCast v556
  let c0_248 : Index := 0#32
  ![v557.toNat, 0]
def k0_off777 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c13_i32_253 : BitVec 32 := 13#32
  let v568 : BitVec 32 := Scalar.addi v382 c13_i32_253
  let v569 : Index := Scalar.indexCast v568
  let c16_254 : Index := 16#32
  ![v569.toNat, 16]
def k0_off778 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c13_i32_259 : BitVec 32 := 13#32
  let v580 : BitVec 32 := Scalar.addi v382 c13_i32_259
  let v581 : Index := Scalar.indexCast v580
  let c32_260 : Index := 32#32
  ![v581.toNat, 32]
def k0_off779 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c13_i32_265 : BitVec 32 := 13#32
  let v592 : BitVec 32 := Scalar.addi v382 c13_i32_265
  let v593 : Index := Scalar.indexCast v592
  let c48_266 : Index := 48#32
  ![v593.toNat, 48]
def k0_off780 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c13_i32_271 : BitVec 32 := 13#32
  let v604 : BitVec 32 := Scalar.addi v382 c13_i32_271
  let v605 : Index := Scalar.indexCast v604
  let c64_272 : Index := 64#32
  ![v605.toNat, 64]
def k0_off781 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c13_i32_277 : BitVec 32 := 13#32
  let v616 : BitVec 32 := Scalar.addi v382 c13_i32_277
  let v617 : Index := Scalar.indexCast v616
  let c80_278 : Index := 80#32
  ![v617.toNat, 80]
def k0_off782 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c13_i32_283 : BitVec 32 := 13#32
  let v628 : BitVec 32 := Scalar.addi v382 c13_i32_283
  let v629 : Index := Scalar.indexCast v628
  let c96_284 : Index := 96#32
  ![v629.toNat, 96]
def k0_off783 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c13_i32_289 : BitVec 32 := 13#32
  let v640 : BitVec 32 := Scalar.addi v382 c13_i32_289
  let v641 : Index := Scalar.indexCast v640
  let c112_290 : Index := 112#32
  ![v641.toNat, 112]
def k0_off784 (v536 : BitVec 32) : Fin 2 → Nat :=
  let c0_i32_246 : BitVec 32 := 0#32
  let v553 : BitVec 32 := Scalar.maxsi v536 c0_i32_246
  let v557 : Index := Scalar.indexCast v553
  let c0_249 : Index := 0#32
  ![v557.toNat, 0]
def k0_cond65 (v534 : BitVec 32) (v536 : BitVec 32) : BitVec 1 :=
  let v537 : BitVec 1 := Scalar.cmpi .ne v534 v536
  let v538 : BitVec 32 := Scalar.extui v537
  let c0_i32_241 : BitVec 32 := 0#32
  let v539 : BitVec 1 := Scalar.cmpi .ne v538 c0_i32_241
  v539

def k0_off785 (v536 : BitVec 32) : Fin 2 → Nat :=
  let c0_i32_246 : BitVec 32 := 0#32
  let v553 : BitVec 32 := Scalar.maxsi v536 c0_i32_246
  let v564 : Index := Scalar.indexCast v553
  let c16_252 : Index := 16#32
  ![v564.toNat, 16]
def k0_off786 (v536 : BitVec 32) : Fin 2 → Nat :=
  let c0_i32_246 : BitVec 32 := 0#32
  let v553 : BitVec 32 := Scalar.maxsi v536 c0_i32_246
  let v571 : Index := Scalar.indexCast v553
  let c32_255 : Index := 32#32
  ![v571.toNat, 32]
def k0_off787 (v536 : BitVec 32) : Fin 2 → Nat :=
  let c0_i32_246 : BitVec 32 := 0#32
  let v553 : BitVec 32 := Scalar.maxsi v536 c0_i32_246
  let v578 : Index := Scalar.indexCast v553
  let c48_258 : Index := 48#32
  ![v578.toNat, 48]
def k0_off788 (v536 : BitVec 32) : Fin 2 → Nat :=
  let c0_i32_246 : BitVec 32 := 0#32
  let v553 : BitVec 32 := Scalar.maxsi v536 c0_i32_246
  let v585 : Index := Scalar.indexCast v553
  let c64_261 : Index := 64#32
  ![v585.toNat, 64]
def k0_off789 (v536 : BitVec 32) : Fin 2 → Nat :=
  let c0_i32_246 : BitVec 32 := 0#32
  let v553 : BitVec 32 := Scalar.maxsi v536 c0_i32_246
  let v592 : Index := Scalar.indexCast v553
  let c80_264 : Index := 80#32
  ![v592.toNat, 80]
def k0_off790 (v536 : BitVec 32) : Fin 2 → Nat :=
  let c0_i32_246 : BitVec 32 := 0#32
  let v553 : BitVec 32 := Scalar.maxsi v536 c0_i32_246
  let v599 : Index := Scalar.indexCast v553
  let c96_267 : Index := 96#32
  ![v599.toNat, 96]
def k0_off791 (v536 : BitVec 32) : Fin 2 → Nat :=
  let c0_i32_246 : BitVec 32 := 0#32
  let v553 : BitVec 32 := Scalar.maxsi v536 c0_i32_246
  let v606 : Index := Scalar.indexCast v553
  let c112_270 : Index := 112#32
  ![v606.toNat, 112]
def k0_off792 (v536 : BitVec 32) : Fin 1 → Nat :=
  let c0_i32_246 : BitVec 32 := 0#32
  let v553 : BitVec 32 := Scalar.maxsi v536 c0_i32_246
  let c16_i32_273 : BitVec 32 := 16#32
  let v613 : BitVec 32 := Scalar.muli v553 c16_i32_273
  let v614 : Index := Scalar.indexCast v613
  ![v614.toNat]

def k0_chk31 (v379 : BitVec 32) (v381 : BitVec 32) (v384 : BitVec 32) (v534 : BitVec 32) (v536 : BitVec 32) : Prop :=
  (∀ (k0_h36 : k0_cond36 v379 v381 v384 = 1#1), ∀ (k0_h65 : k0_cond65 v534 v536 = 1#1), ∀ a, (k0_off784 v536) a + S1x16.size a ≤ S512x128.size a) ∧
  (∀ (k0_h36 : k0_cond36 v379 v381 v384 = 1#1), ∀ (k0_h65 : k0_cond65 v534 v536 = 1#1), ∀ a, (k0_off785 v536) a + S1x16.size a ≤ S512x128.size a) ∧
  (∀ (k0_h36 : k0_cond36 v379 v381 v384 = 1#1), ∀ (k0_h65 : k0_cond65 v534 v536 = 1#1), ∀ a, (k0_off786 v536) a + S1x16.size a ≤ S512x128.size a) ∧
  (∀ (k0_h36 : k0_cond36 v379 v381 v384 = 1#1), ∀ (k0_h65 : k0_cond65 v534 v536 = 1#1), ∀ a, (k0_off787 v536) a + S1x16.size a ≤ S512x128.size a) ∧
  (∀ (k0_h36 : k0_cond36 v379 v381 v384 = 1#1), ∀ (k0_h65 : k0_cond65 v534 v536 = 1#1), ∀ a, (k0_off788 v536) a + S1x16.size a ≤ S512x128.size a) ∧
  (∀ (k0_h36 : k0_cond36 v379 v381 v384 = 1#1), ∀ (k0_h65 : k0_cond65 v534 v536 = 1#1), ∀ a, (k0_off789 v536) a + S1x16.size a ≤ S512x128.size a) ∧
  (∀ (k0_h36 : k0_cond36 v379 v381 v384 = 1#1), ∀ (k0_h65 : k0_cond65 v534 v536 = 1#1), ∀ a, (k0_off790 v536) a + S1x16.size a ≤ S512x128.size a) ∧
  (∀ (k0_h36 : k0_cond36 v379 v381 v384 = 1#1), ∀ (k0_h65 : k0_cond65 v534 v536 = 1#1), ∀ a, (k0_off791 v536) a + S1x16.size a ≤ S512x128.size a) ∧
  (∀ (k0_h36 : k0_cond36 v379 v381 v384 = 1#1), ∀ (k0_h65 : k0_cond65 v534 v536 = 1#1), ∀ a, (k0_off792 v536) a + S16.size a ≤ S8192.size a)
theorem k0_off784_inb : ∀ (v379 : BitVec 32) (v381 : BitVec 32) (v384 : BitVec 32) (v534 : BitVec 32) (v536 : BitVec 32) (k0_hw31 : k0_chk31 v379 v381 v384 v534 v536), ∀ (k0_h36 : k0_cond36 v379 v381 v384 = 1#1), ∀ (k0_h65 : k0_cond65 v534 v536 = 1#1), ∀ a, (k0_off784 v536) a + S1x16.size a ≤ S512x128.size a := fun v379 v381 v384 v534 v536 k0_hw31 k0_h36 k0_h65 => k0_hw31.1 k0_h36 k0_h65
theorem k0_off785_inb : ∀ (v379 : BitVec 32) (v381 : BitVec 32) (v384 : BitVec 32) (v534 : BitVec 32) (v536 : BitVec 32) (k0_hw31 : k0_chk31 v379 v381 v384 v534 v536), ∀ (k0_h36 : k0_cond36 v379 v381 v384 = 1#1), ∀ (k0_h65 : k0_cond65 v534 v536 = 1#1), ∀ a, (k0_off785 v536) a + S1x16.size a ≤ S512x128.size a := fun v379 v381 v384 v534 v536 k0_hw31 k0_h36 k0_h65 => k0_hw31.2.1 k0_h36 k0_h65
theorem k0_off786_inb : ∀ (v379 : BitVec 32) (v381 : BitVec 32) (v384 : BitVec 32) (v534 : BitVec 32) (v536 : BitVec 32) (k0_hw31 : k0_chk31 v379 v381 v384 v534 v536), ∀ (k0_h36 : k0_cond36 v379 v381 v384 = 1#1), ∀ (k0_h65 : k0_cond65 v534 v536 = 1#1), ∀ a, (k0_off786 v536) a + S1x16.size a ≤ S512x128.size a := fun v379 v381 v384 v534 v536 k0_hw31 k0_h36 k0_h65 => k0_hw31.2.2.1 k0_h36 k0_h65
theorem k0_off787_inb : ∀ (v379 : BitVec 32) (v381 : BitVec 32) (v384 : BitVec 32) (v534 : BitVec 32) (v536 : BitVec 32) (k0_hw31 : k0_chk31 v379 v381 v384 v534 v536), ∀ (k0_h36 : k0_cond36 v379 v381 v384 = 1#1), ∀ (k0_h65 : k0_cond65 v534 v536 = 1#1), ∀ a, (k0_off787 v536) a + S1x16.size a ≤ S512x128.size a := fun v379 v381 v384 v534 v536 k0_hw31 k0_h36 k0_h65 => k0_hw31.2.2.2.1 k0_h36 k0_h65
theorem k0_off788_inb : ∀ (v379 : BitVec 32) (v381 : BitVec 32) (v384 : BitVec 32) (v534 : BitVec 32) (v536 : BitVec 32) (k0_hw31 : k0_chk31 v379 v381 v384 v534 v536), ∀ (k0_h36 : k0_cond36 v379 v381 v384 = 1#1), ∀ (k0_h65 : k0_cond65 v534 v536 = 1#1), ∀ a, (k0_off788 v536) a + S1x16.size a ≤ S512x128.size a := fun v379 v381 v384 v534 v536 k0_hw31 k0_h36 k0_h65 => k0_hw31.2.2.2.2.1 k0_h36 k0_h65
theorem k0_off789_inb : ∀ (v379 : BitVec 32) (v381 : BitVec 32) (v384 : BitVec 32) (v534 : BitVec 32) (v536 : BitVec 32) (k0_hw31 : k0_chk31 v379 v381 v384 v534 v536), ∀ (k0_h36 : k0_cond36 v379 v381 v384 = 1#1), ∀ (k0_h65 : k0_cond65 v534 v536 = 1#1), ∀ a, (k0_off789 v536) a + S1x16.size a ≤ S512x128.size a := fun v379 v381 v384 v534 v536 k0_hw31 k0_h36 k0_h65 => k0_hw31.2.2.2.2.2.1 k0_h36 k0_h65
theorem k0_off790_inb : ∀ (v379 : BitVec 32) (v381 : BitVec 32) (v384 : BitVec 32) (v534 : BitVec 32) (v536 : BitVec 32) (k0_hw31 : k0_chk31 v379 v381 v384 v534 v536), ∀ (k0_h36 : k0_cond36 v379 v381 v384 = 1#1), ∀ (k0_h65 : k0_cond65 v534 v536 = 1#1), ∀ a, (k0_off790 v536) a + S1x16.size a ≤ S512x128.size a := fun v379 v381 v384 v534 v536 k0_hw31 k0_h36 k0_h65 => k0_hw31.2.2.2.2.2.2.1 k0_h36 k0_h65
theorem k0_off791_inb : ∀ (v379 : BitVec 32) (v381 : BitVec 32) (v384 : BitVec 32) (v534 : BitVec 32) (v536 : BitVec 32) (k0_hw31 : k0_chk31 v379 v381 v384 v534 v536), ∀ (k0_h36 : k0_cond36 v379 v381 v384 = 1#1), ∀ (k0_h65 : k0_cond65 v534 v536 = 1#1), ∀ a, (k0_off791 v536) a + S1x16.size a ≤ S512x128.size a := fun v379 v381 v384 v534 v536 k0_hw31 k0_h36 k0_h65 => k0_hw31.2.2.2.2.2.2.2.1 k0_h36 k0_h65
theorem k0_off792_inb : ∀ (v379 : BitVec 32) (v381 : BitVec 32) (v384 : BitVec 32) (v534 : BitVec 32) (v536 : BitVec 32) (k0_hw31 : k0_chk31 v379 v381 v384 v534 v536), ∀ (k0_h36 : k0_cond36 v379 v381 v384 = 1#1), ∀ (k0_h65 : k0_cond65 v534 v536 = 1#1), ∀ a, (k0_off792 v536) a + S16.size a ≤ S8192.size a := fun v379 v381 v384 v534 v536 k0_hw31 k0_h36 k0_h65 => k0_hw31.2.2.2.2.2.2.2.2 k0_h36 k0_h65

def k0_off793 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c14_i32 : BitVec 32 := 14#32
  let v618 : BitVec 32 := Scalar.addi v382 c14_i32
  let v619 : Index := Scalar.indexCast v618
  let c0_274 : Index := 0#32
  ![v619.toNat, 0]
def k0_off794 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c14_i32_277 : BitVec 32 := 14#32
  let v626 : BitVec 32 := Scalar.addi v382 c14_i32_277
  let v627 : Index := Scalar.indexCast v626
  let c16_278 : Index := 16#32
  ![v627.toNat, 16]
def k0_off795 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c14_i32_281 : BitVec 32 := 14#32
  let v634 : BitVec 32 := Scalar.addi v382 c14_i32_281
  let v635 : Index := Scalar.indexCast v634
  let c32_282 : Index := 32#32
  ![v635.toNat, 32]
def k0_off796 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c14_i32_285 : BitVec 32 := 14#32
  let v642 : BitVec 32 := Scalar.addi v382 c14_i32_285
  let v643 : Index := Scalar.indexCast v642
  let c48_286 : Index := 48#32
  ![v643.toNat, 48]
def k0_off797 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c14_i32_289 : BitVec 32 := 14#32
  let v650 : BitVec 32 := Scalar.addi v382 c14_i32_289
  let v651 : Index := Scalar.indexCast v650
  let c64_290 : Index := 64#32
  ![v651.toNat, 64]
def k0_off798 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c14_i32_293 : BitVec 32 := 14#32
  let v658 : BitVec 32 := Scalar.addi v382 c14_i32_293
  let v659 : Index := Scalar.indexCast v658
  let c80_294 : Index := 80#32
  ![v659.toNat, 80]
def k0_off799 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c14_i32_297 : BitVec 32 := 14#32
  let v666 : BitVec 32 := Scalar.addi v382 c14_i32_297
  let v667 : Index := Scalar.indexCast v666
  let c96_298 : Index := 96#32
  ![v667.toNat, 96]
def k0_off800 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c14_i32_301 : BitVec 32 := 14#32
  let v674 : BitVec 32 := Scalar.addi v382 c14_i32_301
  let v675 : Index := Scalar.indexCast v674
  let c112_302 : Index := 112#32
  ![v675.toNat, 112]
def k0_off801 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c14_i32 : BitVec 32 := 14#32
  let v556 : BitVec 32 := Scalar.addi v382 c14_i32
  let v557 : Index := Scalar.indexCast v556
  let c0_248 : Index := 0#32
  ![v557.toNat, 0]
def k0_off802 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c14_i32_253 : BitVec 32 := 14#32
  let v568 : BitVec 32 := Scalar.addi v382 c14_i32_253
  let v569 : Index := Scalar.indexCast v568
  let c16_254 : Index := 16#32
  ![v569.toNat, 16]
def k0_off803 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c14_i32_259 : BitVec 32 := 14#32
  let v580 : BitVec 32 := Scalar.addi v382 c14_i32_259
  let v581 : Index := Scalar.indexCast v580
  let c32_260 : Index := 32#32
  ![v581.toNat, 32]
def k0_off804 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c14_i32_265 : BitVec 32 := 14#32
  let v592 : BitVec 32 := Scalar.addi v382 c14_i32_265
  let v593 : Index := Scalar.indexCast v592
  let c48_266 : Index := 48#32
  ![v593.toNat, 48]
def k0_off805 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c14_i32_271 : BitVec 32 := 14#32
  let v604 : BitVec 32 := Scalar.addi v382 c14_i32_271
  let v605 : Index := Scalar.indexCast v604
  let c64_272 : Index := 64#32
  ![v605.toNat, 64]
def k0_off806 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c14_i32_277 : BitVec 32 := 14#32
  let v616 : BitVec 32 := Scalar.addi v382 c14_i32_277
  let v617 : Index := Scalar.indexCast v616
  let c80_278 : Index := 80#32
  ![v617.toNat, 80]
def k0_off807 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c14_i32_283 : BitVec 32 := 14#32
  let v628 : BitVec 32 := Scalar.addi v382 c14_i32_283
  let v629 : Index := Scalar.indexCast v628
  let c96_284 : Index := 96#32
  ![v629.toNat, 96]
def k0_off808 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c14_i32_289 : BitVec 32 := 14#32
  let v640 : BitVec 32 := Scalar.addi v382 c14_i32_289
  let v641 : Index := Scalar.indexCast v640
  let c112_290 : Index := 112#32
  ![v641.toNat, 112]
def k0_off809 (v546 : BitVec 32) : Fin 2 → Nat :=
  let c0_i32_246 : BitVec 32 := 0#32
  let v553 : BitVec 32 := Scalar.maxsi v546 c0_i32_246
  let v557 : Index := Scalar.indexCast v553
  let c0_249 : Index := 0#32
  ![v557.toNat, 0]
def k0_cond67 (v544 : BitVec 32) (v546 : BitVec 32) : BitVec 1 :=
  let v547 : BitVec 1 := Scalar.cmpi .ne v544 v546
  let v548 : BitVec 32 := Scalar.extui v547
  let c0_i32_244 : BitVec 32 := 0#32
  let v549 : BitVec 1 := Scalar.cmpi .ne v548 c0_i32_244
  v549

def k0_off810 (v546 : BitVec 32) : Fin 2 → Nat :=
  let c0_i32_246 : BitVec 32 := 0#32
  let v553 : BitVec 32 := Scalar.maxsi v546 c0_i32_246
  let v564 : Index := Scalar.indexCast v553
  let c16_252 : Index := 16#32
  ![v564.toNat, 16]
def k0_off811 (v546 : BitVec 32) : Fin 2 → Nat :=
  let c0_i32_246 : BitVec 32 := 0#32
  let v553 : BitVec 32 := Scalar.maxsi v546 c0_i32_246
  let v571 : Index := Scalar.indexCast v553
  let c32_255 : Index := 32#32
  ![v571.toNat, 32]
def k0_off812 (v546 : BitVec 32) : Fin 2 → Nat :=
  let c0_i32_246 : BitVec 32 := 0#32
  let v553 : BitVec 32 := Scalar.maxsi v546 c0_i32_246
  let v578 : Index := Scalar.indexCast v553
  let c48_258 : Index := 48#32
  ![v578.toNat, 48]
def k0_off813 (v546 : BitVec 32) : Fin 2 → Nat :=
  let c0_i32_246 : BitVec 32 := 0#32
  let v553 : BitVec 32 := Scalar.maxsi v546 c0_i32_246
  let v585 : Index := Scalar.indexCast v553
  let c64_261 : Index := 64#32
  ![v585.toNat, 64]
def k0_off814 (v546 : BitVec 32) : Fin 2 → Nat :=
  let c0_i32_246 : BitVec 32 := 0#32
  let v553 : BitVec 32 := Scalar.maxsi v546 c0_i32_246
  let v592 : Index := Scalar.indexCast v553
  let c80_264 : Index := 80#32
  ![v592.toNat, 80]
def k0_off815 (v546 : BitVec 32) : Fin 2 → Nat :=
  let c0_i32_246 : BitVec 32 := 0#32
  let v553 : BitVec 32 := Scalar.maxsi v546 c0_i32_246
  let v599 : Index := Scalar.indexCast v553
  let c96_267 : Index := 96#32
  ![v599.toNat, 96]
def k0_off816 (v546 : BitVec 32) : Fin 2 → Nat :=
  let c0_i32_246 : BitVec 32 := 0#32
  let v553 : BitVec 32 := Scalar.maxsi v546 c0_i32_246
  let v606 : Index := Scalar.indexCast v553
  let c112_270 : Index := 112#32
  ![v606.toNat, 112]
def k0_off817 (v546 : BitVec 32) : Fin 1 → Nat :=
  let c0_i32_246 : BitVec 32 := 0#32
  let v553 : BitVec 32 := Scalar.maxsi v546 c0_i32_246
  let c16_i32_273 : BitVec 32 := 16#32
  let v613 : BitVec 32 := Scalar.muli v553 c16_i32_273
  let v614 : Index := Scalar.indexCast v613
  ![v614.toNat]

def k0_chk32 (v379 : BitVec 32) (v381 : BitVec 32) (v384 : BitVec 32) (v544 : BitVec 32) (v546 : BitVec 32) : Prop :=
  (∀ (k0_h36 : k0_cond36 v379 v381 v384 = 1#1), ∀ (k0_h67 : k0_cond67 v544 v546 = 1#1), ∀ a, (k0_off809 v546) a + S1x16.size a ≤ S512x128.size a) ∧
  (∀ (k0_h36 : k0_cond36 v379 v381 v384 = 1#1), ∀ (k0_h67 : k0_cond67 v544 v546 = 1#1), ∀ a, (k0_off810 v546) a + S1x16.size a ≤ S512x128.size a) ∧
  (∀ (k0_h36 : k0_cond36 v379 v381 v384 = 1#1), ∀ (k0_h67 : k0_cond67 v544 v546 = 1#1), ∀ a, (k0_off811 v546) a + S1x16.size a ≤ S512x128.size a) ∧
  (∀ (k0_h36 : k0_cond36 v379 v381 v384 = 1#1), ∀ (k0_h67 : k0_cond67 v544 v546 = 1#1), ∀ a, (k0_off812 v546) a + S1x16.size a ≤ S512x128.size a) ∧
  (∀ (k0_h36 : k0_cond36 v379 v381 v384 = 1#1), ∀ (k0_h67 : k0_cond67 v544 v546 = 1#1), ∀ a, (k0_off813 v546) a + S1x16.size a ≤ S512x128.size a) ∧
  (∀ (k0_h36 : k0_cond36 v379 v381 v384 = 1#1), ∀ (k0_h67 : k0_cond67 v544 v546 = 1#1), ∀ a, (k0_off814 v546) a + S1x16.size a ≤ S512x128.size a) ∧
  (∀ (k0_h36 : k0_cond36 v379 v381 v384 = 1#1), ∀ (k0_h67 : k0_cond67 v544 v546 = 1#1), ∀ a, (k0_off815 v546) a + S1x16.size a ≤ S512x128.size a) ∧
  (∀ (k0_h36 : k0_cond36 v379 v381 v384 = 1#1), ∀ (k0_h67 : k0_cond67 v544 v546 = 1#1), ∀ a, (k0_off816 v546) a + S1x16.size a ≤ S512x128.size a) ∧
  (∀ (k0_h36 : k0_cond36 v379 v381 v384 = 1#1), ∀ (k0_h67 : k0_cond67 v544 v546 = 1#1), ∀ a, (k0_off817 v546) a + S16.size a ≤ S8192.size a)
theorem k0_off809_inb : ∀ (v379 : BitVec 32) (v381 : BitVec 32) (v384 : BitVec 32) (v544 : BitVec 32) (v546 : BitVec 32) (k0_hw32 : k0_chk32 v379 v381 v384 v544 v546), ∀ (k0_h36 : k0_cond36 v379 v381 v384 = 1#1), ∀ (k0_h67 : k0_cond67 v544 v546 = 1#1), ∀ a, (k0_off809 v546) a + S1x16.size a ≤ S512x128.size a := fun v379 v381 v384 v544 v546 k0_hw32 k0_h36 k0_h67 => k0_hw32.1 k0_h36 k0_h67
theorem k0_off810_inb : ∀ (v379 : BitVec 32) (v381 : BitVec 32) (v384 : BitVec 32) (v544 : BitVec 32) (v546 : BitVec 32) (k0_hw32 : k0_chk32 v379 v381 v384 v544 v546), ∀ (k0_h36 : k0_cond36 v379 v381 v384 = 1#1), ∀ (k0_h67 : k0_cond67 v544 v546 = 1#1), ∀ a, (k0_off810 v546) a + S1x16.size a ≤ S512x128.size a := fun v379 v381 v384 v544 v546 k0_hw32 k0_h36 k0_h67 => k0_hw32.2.1 k0_h36 k0_h67
theorem k0_off811_inb : ∀ (v379 : BitVec 32) (v381 : BitVec 32) (v384 : BitVec 32) (v544 : BitVec 32) (v546 : BitVec 32) (k0_hw32 : k0_chk32 v379 v381 v384 v544 v546), ∀ (k0_h36 : k0_cond36 v379 v381 v384 = 1#1), ∀ (k0_h67 : k0_cond67 v544 v546 = 1#1), ∀ a, (k0_off811 v546) a + S1x16.size a ≤ S512x128.size a := fun v379 v381 v384 v544 v546 k0_hw32 k0_h36 k0_h67 => k0_hw32.2.2.1 k0_h36 k0_h67
theorem k0_off812_inb : ∀ (v379 : BitVec 32) (v381 : BitVec 32) (v384 : BitVec 32) (v544 : BitVec 32) (v546 : BitVec 32) (k0_hw32 : k0_chk32 v379 v381 v384 v544 v546), ∀ (k0_h36 : k0_cond36 v379 v381 v384 = 1#1), ∀ (k0_h67 : k0_cond67 v544 v546 = 1#1), ∀ a, (k0_off812 v546) a + S1x16.size a ≤ S512x128.size a := fun v379 v381 v384 v544 v546 k0_hw32 k0_h36 k0_h67 => k0_hw32.2.2.2.1 k0_h36 k0_h67
theorem k0_off813_inb : ∀ (v379 : BitVec 32) (v381 : BitVec 32) (v384 : BitVec 32) (v544 : BitVec 32) (v546 : BitVec 32) (k0_hw32 : k0_chk32 v379 v381 v384 v544 v546), ∀ (k0_h36 : k0_cond36 v379 v381 v384 = 1#1), ∀ (k0_h67 : k0_cond67 v544 v546 = 1#1), ∀ a, (k0_off813 v546) a + S1x16.size a ≤ S512x128.size a := fun v379 v381 v384 v544 v546 k0_hw32 k0_h36 k0_h67 => k0_hw32.2.2.2.2.1 k0_h36 k0_h67
theorem k0_off814_inb : ∀ (v379 : BitVec 32) (v381 : BitVec 32) (v384 : BitVec 32) (v544 : BitVec 32) (v546 : BitVec 32) (k0_hw32 : k0_chk32 v379 v381 v384 v544 v546), ∀ (k0_h36 : k0_cond36 v379 v381 v384 = 1#1), ∀ (k0_h67 : k0_cond67 v544 v546 = 1#1), ∀ a, (k0_off814 v546) a + S1x16.size a ≤ S512x128.size a := fun v379 v381 v384 v544 v546 k0_hw32 k0_h36 k0_h67 => k0_hw32.2.2.2.2.2.1 k0_h36 k0_h67
theorem k0_off815_inb : ∀ (v379 : BitVec 32) (v381 : BitVec 32) (v384 : BitVec 32) (v544 : BitVec 32) (v546 : BitVec 32) (k0_hw32 : k0_chk32 v379 v381 v384 v544 v546), ∀ (k0_h36 : k0_cond36 v379 v381 v384 = 1#1), ∀ (k0_h67 : k0_cond67 v544 v546 = 1#1), ∀ a, (k0_off815 v546) a + S1x16.size a ≤ S512x128.size a := fun v379 v381 v384 v544 v546 k0_hw32 k0_h36 k0_h67 => k0_hw32.2.2.2.2.2.2.1 k0_h36 k0_h67
theorem k0_off816_inb : ∀ (v379 : BitVec 32) (v381 : BitVec 32) (v384 : BitVec 32) (v544 : BitVec 32) (v546 : BitVec 32) (k0_hw32 : k0_chk32 v379 v381 v384 v544 v546), ∀ (k0_h36 : k0_cond36 v379 v381 v384 = 1#1), ∀ (k0_h67 : k0_cond67 v544 v546 = 1#1), ∀ a, (k0_off816 v546) a + S1x16.size a ≤ S512x128.size a := fun v379 v381 v384 v544 v546 k0_hw32 k0_h36 k0_h67 => k0_hw32.2.2.2.2.2.2.2.1 k0_h36 k0_h67
theorem k0_off817_inb : ∀ (v379 : BitVec 32) (v381 : BitVec 32) (v384 : BitVec 32) (v544 : BitVec 32) (v546 : BitVec 32) (k0_hw32 : k0_chk32 v379 v381 v384 v544 v546), ∀ (k0_h36 : k0_cond36 v379 v381 v384 = 1#1), ∀ (k0_h67 : k0_cond67 v544 v546 = 1#1), ∀ a, (k0_off817 v546) a + S16.size a ≤ S8192.size a := fun v379 v381 v384 v544 v546 k0_hw32 k0_h36 k0_h67 => k0_hw32.2.2.2.2.2.2.2.2 k0_h36 k0_h67

def k0_off818 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c15_i32 : BitVec 32 := 15#32
  let v618 : BitVec 32 := Scalar.addi v382 c15_i32
  let v619 : Index := Scalar.indexCast v618
  let c0_274 : Index := 0#32
  ![v619.toNat, 0]
def k0_off819 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c15_i32_277 : BitVec 32 := 15#32
  let v626 : BitVec 32 := Scalar.addi v382 c15_i32_277
  let v627 : Index := Scalar.indexCast v626
  let c16_278 : Index := 16#32
  ![v627.toNat, 16]
def k0_off820 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c15_i32_281 : BitVec 32 := 15#32
  let v634 : BitVec 32 := Scalar.addi v382 c15_i32_281
  let v635 : Index := Scalar.indexCast v634
  let c32_282 : Index := 32#32
  ![v635.toNat, 32]
def k0_off821 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c15_i32_285 : BitVec 32 := 15#32
  let v642 : BitVec 32 := Scalar.addi v382 c15_i32_285
  let v643 : Index := Scalar.indexCast v642
  let c48_286 : Index := 48#32
  ![v643.toNat, 48]
def k0_off822 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c15_i32_289 : BitVec 32 := 15#32
  let v650 : BitVec 32 := Scalar.addi v382 c15_i32_289
  let v651 : Index := Scalar.indexCast v650
  let c64_290 : Index := 64#32
  ![v651.toNat, 64]
def k0_off823 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c15_i32_293 : BitVec 32 := 15#32
  let v658 : BitVec 32 := Scalar.addi v382 c15_i32_293
  let v659 : Index := Scalar.indexCast v658
  let c80_294 : Index := 80#32
  ![v659.toNat, 80]
def k0_off824 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c15_i32_297 : BitVec 32 := 15#32
  let v666 : BitVec 32 := Scalar.addi v382 c15_i32_297
  let v667 : Index := Scalar.indexCast v666
  let c96_298 : Index := 96#32
  ![v667.toNat, 96]
def k0_off825 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c15_i32_301 : BitVec 32 := 15#32
  let v674 : BitVec 32 := Scalar.addi v382 c15_i32_301
  let v675 : Index := Scalar.indexCast v674
  let c112_302 : Index := 112#32
  ![v675.toNat, 112]
def k0_off826 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c15_i32 : BitVec 32 := 15#32
  let v556 : BitVec 32 := Scalar.addi v382 c15_i32
  let v557 : Index := Scalar.indexCast v556
  let c0_248 : Index := 0#32
  ![v557.toNat, 0]
def k0_off827 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c15_i32_253 : BitVec 32 := 15#32
  let v568 : BitVec 32 := Scalar.addi v382 c15_i32_253
  let v569 : Index := Scalar.indexCast v568
  let c16_254 : Index := 16#32
  ![v569.toNat, 16]
def k0_off828 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c15_i32_259 : BitVec 32 := 15#32
  let v580 : BitVec 32 := Scalar.addi v382 c15_i32_259
  let v581 : Index := Scalar.indexCast v580
  let c32_260 : Index := 32#32
  ![v581.toNat, 32]
def k0_off829 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c15_i32_265 : BitVec 32 := 15#32
  let v592 : BitVec 32 := Scalar.addi v382 c15_i32_265
  let v593 : Index := Scalar.indexCast v592
  let c48_266 : Index := 48#32
  ![v593.toNat, 48]
def k0_off830 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c15_i32_271 : BitVec 32 := 15#32
  let v604 : BitVec 32 := Scalar.addi v382 c15_i32_271
  let v605 : Index := Scalar.indexCast v604
  let c64_272 : Index := 64#32
  ![v605.toNat, 64]
def k0_off831 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c15_i32_277 : BitVec 32 := 15#32
  let v616 : BitVec 32 := Scalar.addi v382 c15_i32_277
  let v617 : Index := Scalar.indexCast v616
  let c80_278 : Index := 80#32
  ![v617.toNat, 80]
def k0_off832 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c15_i32_283 : BitVec 32 := 15#32
  let v628 : BitVec 32 := Scalar.addi v382 c15_i32_283
  let v629 : Index := Scalar.indexCast v628
  let c96_284 : Index := 96#32
  ![v629.toNat, 96]
def k0_off833 (k0_t4 : Fin k0_t4_loop.trips) : Fin 2 → Nat :=
  let c0_i32_187 : BitVec 32 := 0#32
  let c1_i32_189 : BitVec 32 := 1#32
  let arg21 : BitVec 32 := Scf.iv c0_i32_187 c1_i32_189 k0_t4
  let c16_i32_193 : BitVec 32 := 16#32
  let v382 : BitVec 32 := Scalar.muli arg21 c16_i32_193
  let c15_i32_289 : BitVec 32 := 15#32
  let v640 : BitVec 32 := Scalar.addi v382 c15_i32_289
  let v641 : Index := Scalar.indexCast v640
  let c112_290 : Index := 112#32
  ![v641.toNat, 112]
@[reducible] def k0_t5_loop : Scf.Loop 32 :=
  let c0_i32_50 : BitVec 32 := 0#32
  let c5_i32_51 : BitVec 32 := 5#32
  let v112 : BitVec 32 := Scalar.addi c0_i32_50 c5_i32_51
  let c1_i32_52 : BitVec 32 := 1#32
  ⟨c0_i32_50, v112, c1_i32_52⟩
def k0_off834 (k0_t5 : Fin k0_t5_loop.trips) : Fin 1 → Nat :=
  let c0_i32_50 : BitVec 32 := 0#32
  let c1_i32_52 : BitVec 32 := 1#32
  let arg19 : BitVec 32 := Scf.iv c0_i32_50 c1_i32_52 k0_t5
  let c16_i32_157 : BitVec 32 := 16#32
  let v322 : BitVec 32 := Scalar.muli arg19 c16_i32_157
  let v323 : Index := Scalar.indexCast v322
  ![v323.toNat]
def k0_off835 (k0_t5 : Fin k0_t5_loop.trips) (c0_i32_163 : BitVec 32) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let v341 : BitVec 32 := Scalar.addi v330 c0_i32_163
  let v342 : Index := Scalar.indexCast v341
  let c0_164 : Index := 0#32
  ![v342.toNat, 0]
def k0_off836 (k0_t5 : Fin k0_t5_loop.trips) (c0_i32_192 : BitVec 32) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let v428 : BitVec 32 := Scalar.addi v330 c0_i32_192
  let v429 : Index := Scalar.indexCast v428
  let c16_193 : Index := 16#32
  ![v429.toNat, 16]
def k0_off837 (k0_t5 : Fin k0_t5_loop.trips) (c0_i32_228 : BitVec 32) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let v515 : BitVec 32 := Scalar.addi v330 c0_i32_228
  let v516 : Index := Scalar.indexCast v515
  let c32_229 : Index := 32#32
  ![v516.toNat, 32]
def k0_off838 (k0_t5 : Fin k0_t5_loop.trips) (c0_i32_264 : BitVec 32) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let v602 : BitVec 32 := Scalar.addi v330 c0_i32_264
  let v603 : Index := Scalar.indexCast v602
  let c48_265 : Index := 48#32
  ![v603.toNat, 48]
def k0_off839 (k0_t5 : Fin k0_t5_loop.trips) (c0_i32_300 : BitVec 32) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let v689 : BitVec 32 := Scalar.addi v330 c0_i32_300
  let v690 : Index := Scalar.indexCast v689
  let c64_301 : Index := 64#32
  ![v690.toNat, 64]
def k0_off840 (k0_t5 : Fin k0_t5_loop.trips) (c0_i32_336 : BitVec 32) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let v776 : BitVec 32 := Scalar.addi v330 c0_i32_336
  let v777 : Index := Scalar.indexCast v776
  let c80_337 : Index := 80#32
  ![v777.toNat, 80]
def k0_off841 (k0_t5 : Fin k0_t5_loop.trips) (c0_i32_372 : BitVec 32) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let v863 : BitVec 32 := Scalar.addi v330 c0_i32_372
  let v864 : Index := Scalar.indexCast v863
  let c96_373 : Index := 96#32
  ![v864.toNat, 96]
def k0_off842 (k0_t5 : Fin k0_t5_loop.trips) (c0_i32_408 : BitVec 32) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let v950 : BitVec 32 := Scalar.addi v330 c0_i32_408
  let v951 : Index := Scalar.indexCast v950
  let c112_409 : Index := 112#32
  ![v951.toNat, 112]
def k0_off843 (v344 : BitVec 32) : Fin 2 → Nat :=
  let c0_i32_211 : BitVec 32 := 0#32
  let v501 : BitVec 32 := Scalar.maxsi v344 c0_i32_211
  let v505 : Index := Scalar.indexCast v501
  let c0_214 : Index := 0#32
  ![v505.toNat, 0]
def k0_cond70 (v327 : BitVec 32) (v329 : BitVec 32) (v332 : BitVec 32) : BitVec 1 :=
  let v333 : BitVec 1 := Scalar.cmpi .eq v327 v332
  let v334 : BitVec 1 := Scalar.cmpi .eq v327 v329
  let v335 : BitVec 1 := Scalar.andi v333 v334
  let v_true : BitVec 1 := 1#1
  let v338 : BitVec 1 := Scalar.xori v335 v_true
  let v339 : BitVec 32 := Scalar.extui v338
  let c0_i32_161 : BitVec 32 := 0#32
  let v340 : BitVec 1 := Scalar.cmpi .ne v339 c0_i32_161
  v340

def k0_cond71 (v342 : BitVec 32) (v344 : BitVec 32) : BitVec 1 :=
  let v345 : BitVec 1 := Scalar.cmpi .ne v342 v344
  let v346 : BitVec 32 := Scalar.extui v345
  let c0_i32_164 : BitVec 32 := 0#32
  let v347 : BitVec 1 := Scalar.cmpi .ne v346 c0_i32_164
  v347

def k0_off844 (v344 : BitVec 32) : Fin 2 → Nat :=
  let c0_i32_211 : BitVec 32 := 0#32
  let v501 : BitVec 32 := Scalar.maxsi v344 c0_i32_211
  let v512 : Index := Scalar.indexCast v501
  let c16_217 : Index := 16#32
  ![v512.toNat, 16]
def k0_off845 (v344 : BitVec 32) : Fin 2 → Nat :=
  let c0_i32_211 : BitVec 32 := 0#32
  let v501 : BitVec 32 := Scalar.maxsi v344 c0_i32_211
  let v519 : Index := Scalar.indexCast v501
  let c32_220 : Index := 32#32
  ![v519.toNat, 32]
def k0_off846 (v344 : BitVec 32) : Fin 2 → Nat :=
  let c0_i32_211 : BitVec 32 := 0#32
  let v501 : BitVec 32 := Scalar.maxsi v344 c0_i32_211
  let v526 : Index := Scalar.indexCast v501
  let c48_223 : Index := 48#32
  ![v526.toNat, 48]
def k0_off847 (v344 : BitVec 32) : Fin 2 → Nat :=
  let c0_i32_211 : BitVec 32 := 0#32
  let v501 : BitVec 32 := Scalar.maxsi v344 c0_i32_211
  let v533 : Index := Scalar.indexCast v501
  let c64_226 : Index := 64#32
  ![v533.toNat, 64]
def k0_off848 (v344 : BitVec 32) : Fin 2 → Nat :=
  let c0_i32_211 : BitVec 32 := 0#32
  let v501 : BitVec 32 := Scalar.maxsi v344 c0_i32_211
  let v540 : Index := Scalar.indexCast v501
  let c80_229 : Index := 80#32
  ![v540.toNat, 80]
def k0_off849 (v344 : BitVec 32) : Fin 2 → Nat :=
  let c0_i32_211 : BitVec 32 := 0#32
  let v501 : BitVec 32 := Scalar.maxsi v344 c0_i32_211
  let v547 : Index := Scalar.indexCast v501
  let c96_232 : Index := 96#32
  ![v547.toNat, 96]
def k0_off850 (v344 : BitVec 32) : Fin 2 → Nat :=
  let c0_i32_211 : BitVec 32 := 0#32
  let v501 : BitVec 32 := Scalar.maxsi v344 c0_i32_211
  let v554 : Index := Scalar.indexCast v501
  let c112_235 : Index := 112#32
  ![v554.toNat, 112]
def k0_off851 (v344 : BitVec 32) : Fin 1 → Nat :=
  let c0_i32_211 : BitVec 32 := 0#32
  let v501 : BitVec 32 := Scalar.maxsi v344 c0_i32_211
  let c16_i32_238 : BitVec 32 := 16#32
  let v561 : BitVec 32 := Scalar.muli v501 c16_i32_238
  let v562 : Index := Scalar.indexCast v561
  ![v562.toNat]

def k0_chk33 (v327 : BitVec 32) (v329 : BitVec 32) (v332 : BitVec 32) (v342 : BitVec 32) (v344 : BitVec 32) : Prop :=
  (∀ (k0_h70 : k0_cond70 v327 v329 v332 = 1#1), ∀ (k0_h71 : k0_cond71 v342 v344 = 1#1), ∀ a, (k0_off843 v344) a + S1x16.size a ≤ S512x128.size a) ∧
  (∀ (k0_h70 : k0_cond70 v327 v329 v332 = 1#1), ∀ (k0_h71 : k0_cond71 v342 v344 = 1#1), ∀ a, (k0_off844 v344) a + S1x16.size a ≤ S512x128.size a) ∧
  (∀ (k0_h70 : k0_cond70 v327 v329 v332 = 1#1), ∀ (k0_h71 : k0_cond71 v342 v344 = 1#1), ∀ a, (k0_off845 v344) a + S1x16.size a ≤ S512x128.size a) ∧
  (∀ (k0_h70 : k0_cond70 v327 v329 v332 = 1#1), ∀ (k0_h71 : k0_cond71 v342 v344 = 1#1), ∀ a, (k0_off846 v344) a + S1x16.size a ≤ S512x128.size a) ∧
  (∀ (k0_h70 : k0_cond70 v327 v329 v332 = 1#1), ∀ (k0_h71 : k0_cond71 v342 v344 = 1#1), ∀ a, (k0_off847 v344) a + S1x16.size a ≤ S512x128.size a) ∧
  (∀ (k0_h70 : k0_cond70 v327 v329 v332 = 1#1), ∀ (k0_h71 : k0_cond71 v342 v344 = 1#1), ∀ a, (k0_off848 v344) a + S1x16.size a ≤ S512x128.size a) ∧
  (∀ (k0_h70 : k0_cond70 v327 v329 v332 = 1#1), ∀ (k0_h71 : k0_cond71 v342 v344 = 1#1), ∀ a, (k0_off849 v344) a + S1x16.size a ≤ S512x128.size a) ∧
  (∀ (k0_h70 : k0_cond70 v327 v329 v332 = 1#1), ∀ (k0_h71 : k0_cond71 v342 v344 = 1#1), ∀ a, (k0_off850 v344) a + S1x16.size a ≤ S512x128.size a) ∧
  (∀ (k0_h70 : k0_cond70 v327 v329 v332 = 1#1), ∀ (k0_h71 : k0_cond71 v342 v344 = 1#1), ∀ a, (k0_off851 v344) a + S16.size a ≤ S8192.size a)
theorem k0_off843_inb : ∀ (v327 : BitVec 32) (v329 : BitVec 32) (v332 : BitVec 32) (v342 : BitVec 32) (v344 : BitVec 32) (k0_hw33 : k0_chk33 v327 v329 v332 v342 v344), ∀ (k0_h70 : k0_cond70 v327 v329 v332 = 1#1), ∀ (k0_h71 : k0_cond71 v342 v344 = 1#1), ∀ a, (k0_off843 v344) a + S1x16.size a ≤ S512x128.size a := fun v327 v329 v332 v342 v344 k0_hw33 k0_h70 k0_h71 => k0_hw33.1 k0_h70 k0_h71
theorem k0_off844_inb : ∀ (v327 : BitVec 32) (v329 : BitVec 32) (v332 : BitVec 32) (v342 : BitVec 32) (v344 : BitVec 32) (k0_hw33 : k0_chk33 v327 v329 v332 v342 v344), ∀ (k0_h70 : k0_cond70 v327 v329 v332 = 1#1), ∀ (k0_h71 : k0_cond71 v342 v344 = 1#1), ∀ a, (k0_off844 v344) a + S1x16.size a ≤ S512x128.size a := fun v327 v329 v332 v342 v344 k0_hw33 k0_h70 k0_h71 => k0_hw33.2.1 k0_h70 k0_h71
theorem k0_off845_inb : ∀ (v327 : BitVec 32) (v329 : BitVec 32) (v332 : BitVec 32) (v342 : BitVec 32) (v344 : BitVec 32) (k0_hw33 : k0_chk33 v327 v329 v332 v342 v344), ∀ (k0_h70 : k0_cond70 v327 v329 v332 = 1#1), ∀ (k0_h71 : k0_cond71 v342 v344 = 1#1), ∀ a, (k0_off845 v344) a + S1x16.size a ≤ S512x128.size a := fun v327 v329 v332 v342 v344 k0_hw33 k0_h70 k0_h71 => k0_hw33.2.2.1 k0_h70 k0_h71
theorem k0_off846_inb : ∀ (v327 : BitVec 32) (v329 : BitVec 32) (v332 : BitVec 32) (v342 : BitVec 32) (v344 : BitVec 32) (k0_hw33 : k0_chk33 v327 v329 v332 v342 v344), ∀ (k0_h70 : k0_cond70 v327 v329 v332 = 1#1), ∀ (k0_h71 : k0_cond71 v342 v344 = 1#1), ∀ a, (k0_off846 v344) a + S1x16.size a ≤ S512x128.size a := fun v327 v329 v332 v342 v344 k0_hw33 k0_h70 k0_h71 => k0_hw33.2.2.2.1 k0_h70 k0_h71
theorem k0_off847_inb : ∀ (v327 : BitVec 32) (v329 : BitVec 32) (v332 : BitVec 32) (v342 : BitVec 32) (v344 : BitVec 32) (k0_hw33 : k0_chk33 v327 v329 v332 v342 v344), ∀ (k0_h70 : k0_cond70 v327 v329 v332 = 1#1), ∀ (k0_h71 : k0_cond71 v342 v344 = 1#1), ∀ a, (k0_off847 v344) a + S1x16.size a ≤ S512x128.size a := fun v327 v329 v332 v342 v344 k0_hw33 k0_h70 k0_h71 => k0_hw33.2.2.2.2.1 k0_h70 k0_h71
theorem k0_off848_inb : ∀ (v327 : BitVec 32) (v329 : BitVec 32) (v332 : BitVec 32) (v342 : BitVec 32) (v344 : BitVec 32) (k0_hw33 : k0_chk33 v327 v329 v332 v342 v344), ∀ (k0_h70 : k0_cond70 v327 v329 v332 = 1#1), ∀ (k0_h71 : k0_cond71 v342 v344 = 1#1), ∀ a, (k0_off848 v344) a + S1x16.size a ≤ S512x128.size a := fun v327 v329 v332 v342 v344 k0_hw33 k0_h70 k0_h71 => k0_hw33.2.2.2.2.2.1 k0_h70 k0_h71
theorem k0_off849_inb : ∀ (v327 : BitVec 32) (v329 : BitVec 32) (v332 : BitVec 32) (v342 : BitVec 32) (v344 : BitVec 32) (k0_hw33 : k0_chk33 v327 v329 v332 v342 v344), ∀ (k0_h70 : k0_cond70 v327 v329 v332 = 1#1), ∀ (k0_h71 : k0_cond71 v342 v344 = 1#1), ∀ a, (k0_off849 v344) a + S1x16.size a ≤ S512x128.size a := fun v327 v329 v332 v342 v344 k0_hw33 k0_h70 k0_h71 => k0_hw33.2.2.2.2.2.2.1 k0_h70 k0_h71
theorem k0_off850_inb : ∀ (v327 : BitVec 32) (v329 : BitVec 32) (v332 : BitVec 32) (v342 : BitVec 32) (v344 : BitVec 32) (k0_hw33 : k0_chk33 v327 v329 v332 v342 v344), ∀ (k0_h70 : k0_cond70 v327 v329 v332 = 1#1), ∀ (k0_h71 : k0_cond71 v342 v344 = 1#1), ∀ a, (k0_off850 v344) a + S1x16.size a ≤ S512x128.size a := fun v327 v329 v332 v342 v344 k0_hw33 k0_h70 k0_h71 => k0_hw33.2.2.2.2.2.2.2.1 k0_h70 k0_h71
theorem k0_off851_inb : ∀ (v327 : BitVec 32) (v329 : BitVec 32) (v332 : BitVec 32) (v342 : BitVec 32) (v344 : BitVec 32) (k0_hw33 : k0_chk33 v327 v329 v332 v342 v344), ∀ (k0_h70 : k0_cond70 v327 v329 v332 = 1#1), ∀ (k0_h71 : k0_cond71 v342 v344 = 1#1), ∀ a, (k0_off851 v344) a + S16.size a ≤ S8192.size a := fun v327 v329 v332 v342 v344 k0_hw33 k0_h70 k0_h71 => k0_hw33.2.2.2.2.2.2.2.2 k0_h70 k0_h71

def k0_off852 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c0_i32_239 : BitVec 32 := 0#32
  let v566 : BitVec 32 := Scalar.addi v330 c0_i32_239
  let v567 : Index := Scalar.indexCast v566
  let c0_240 : Index := 0#32
  ![v567.toNat, 0]
def k0_off853 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c0_i32_243 : BitVec 32 := 0#32
  let v574 : BitVec 32 := Scalar.addi v330 c0_i32_243
  let v575 : Index := Scalar.indexCast v574
  let c16_244 : Index := 16#32
  ![v575.toNat, 16]
def k0_off854 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c0_i32_247 : BitVec 32 := 0#32
  let v582 : BitVec 32 := Scalar.addi v330 c0_i32_247
  let v583 : Index := Scalar.indexCast v582
  let c32_248 : Index := 32#32
  ![v583.toNat, 32]
def k0_off855 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c0_i32_251 : BitVec 32 := 0#32
  let v590 : BitVec 32 := Scalar.addi v330 c0_i32_251
  let v591 : Index := Scalar.indexCast v590
  let c48_252 : Index := 48#32
  ![v591.toNat, 48]
def k0_off856 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c0_i32_255 : BitVec 32 := 0#32
  let v598 : BitVec 32 := Scalar.addi v330 c0_i32_255
  let v599 : Index := Scalar.indexCast v598
  let c64_256 : Index := 64#32
  ![v599.toNat, 64]
def k0_off857 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c0_i32_259 : BitVec 32 := 0#32
  let v606 : BitVec 32 := Scalar.addi v330 c0_i32_259
  let v607 : Index := Scalar.indexCast v606
  let c80_260 : Index := 80#32
  ![v607.toNat, 80]
def k0_off858 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c0_i32_263 : BitVec 32 := 0#32
  let v614 : BitVec 32 := Scalar.addi v330 c0_i32_263
  let v615 : Index := Scalar.indexCast v614
  let c96_264 : Index := 96#32
  ![v615.toNat, 96]
def k0_off859 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c0_i32_267 : BitVec 32 := 0#32
  let v622 : BitVec 32 := Scalar.addi v330 c0_i32_267
  let v623 : Index := Scalar.indexCast v622
  let c112_268 : Index := 112#32
  ![v623.toNat, 112]
def k0_off860 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c0_i32_213 : BitVec 32 := 0#32
  let v504 : BitVec 32 := Scalar.addi v330 c0_i32_213
  let v505 : Index := Scalar.indexCast v504
  let c0_214 : Index := 0#32
  ![v505.toNat, 0]
def k0_off861 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c0_i32_219 : BitVec 32 := 0#32
  let v516 : BitVec 32 := Scalar.addi v330 c0_i32_219
  let v517 : Index := Scalar.indexCast v516
  let c16_220 : Index := 16#32
  ![v517.toNat, 16]
def k0_off862 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c0_i32_225 : BitVec 32 := 0#32
  let v528 : BitVec 32 := Scalar.addi v330 c0_i32_225
  let v529 : Index := Scalar.indexCast v528
  let c32_226 : Index := 32#32
  ![v529.toNat, 32]
def k0_off863 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c0_i32_231 : BitVec 32 := 0#32
  let v540 : BitVec 32 := Scalar.addi v330 c0_i32_231
  let v541 : Index := Scalar.indexCast v540
  let c48_232 : Index := 48#32
  ![v541.toNat, 48]
def k0_off864 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c0_i32_237 : BitVec 32 := 0#32
  let v552 : BitVec 32 := Scalar.addi v330 c0_i32_237
  let v553 : Index := Scalar.indexCast v552
  let c64_238 : Index := 64#32
  ![v553.toNat, 64]
def k0_off865 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c0_i32_243 : BitVec 32 := 0#32
  let v564 : BitVec 32 := Scalar.addi v330 c0_i32_243
  let v565 : Index := Scalar.indexCast v564
  let c80_244 : Index := 80#32
  ![v565.toNat, 80]
def k0_off866 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c0_i32_249 : BitVec 32 := 0#32
  let v576 : BitVec 32 := Scalar.addi v330 c0_i32_249
  let v577 : Index := Scalar.indexCast v576
  let c96_250 : Index := 96#32
  ![v577.toNat, 96]
def k0_off867 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c0_i32_255 : BitVec 32 := 0#32
  let v588 : BitVec 32 := Scalar.addi v330 c0_i32_255
  let v589 : Index := Scalar.indexCast v588
  let c112_256 : Index := 112#32
  ![v589.toNat, 112]
def k0_off868 (v354 : BitVec 32) : Fin 2 → Nat :=
  let c0_i32_211 : BitVec 32 := 0#32
  let v501 : BitVec 32 := Scalar.maxsi v354 c0_i32_211
  let v505 : Index := Scalar.indexCast v501
  let c0_214 : Index := 0#32
  ![v505.toNat, 0]
def k0_cond73 (v352 : BitVec 32) (v354 : BitVec 32) : BitVec 1 :=
  let v355 : BitVec 1 := Scalar.cmpi .ne v352 v354
  let v356 : BitVec 32 := Scalar.extui v355
  let c0_i32_167 : BitVec 32 := 0#32
  let v357 : BitVec 1 := Scalar.cmpi .ne v356 c0_i32_167
  v357

def k0_off869 (v354 : BitVec 32) : Fin 2 → Nat :=
  let c0_i32_211 : BitVec 32 := 0#32
  let v501 : BitVec 32 := Scalar.maxsi v354 c0_i32_211
  let v512 : Index := Scalar.indexCast v501
  let c16_217 : Index := 16#32
  ![v512.toNat, 16]
def k0_off870 (v354 : BitVec 32) : Fin 2 → Nat :=
  let c0_i32_211 : BitVec 32 := 0#32
  let v501 : BitVec 32 := Scalar.maxsi v354 c0_i32_211
  let v519 : Index := Scalar.indexCast v501
  let c32_220 : Index := 32#32
  ![v519.toNat, 32]
def k0_off871 (v354 : BitVec 32) : Fin 2 → Nat :=
  let c0_i32_211 : BitVec 32 := 0#32
  let v501 : BitVec 32 := Scalar.maxsi v354 c0_i32_211
  let v526 : Index := Scalar.indexCast v501
  let c48_223 : Index := 48#32
  ![v526.toNat, 48]
def k0_off872 (v354 : BitVec 32) : Fin 2 → Nat :=
  let c0_i32_211 : BitVec 32 := 0#32
  let v501 : BitVec 32 := Scalar.maxsi v354 c0_i32_211
  let v533 : Index := Scalar.indexCast v501
  let c64_226 : Index := 64#32
  ![v533.toNat, 64]
def k0_off873 (v354 : BitVec 32) : Fin 2 → Nat :=
  let c0_i32_211 : BitVec 32 := 0#32
  let v501 : BitVec 32 := Scalar.maxsi v354 c0_i32_211
  let v540 : Index := Scalar.indexCast v501
  let c80_229 : Index := 80#32
  ![v540.toNat, 80]
def k0_off874 (v354 : BitVec 32) : Fin 2 → Nat :=
  let c0_i32_211 : BitVec 32 := 0#32
  let v501 : BitVec 32 := Scalar.maxsi v354 c0_i32_211
  let v547 : Index := Scalar.indexCast v501
  let c96_232 : Index := 96#32
  ![v547.toNat, 96]
def k0_off875 (v354 : BitVec 32) : Fin 2 → Nat :=
  let c0_i32_211 : BitVec 32 := 0#32
  let v501 : BitVec 32 := Scalar.maxsi v354 c0_i32_211
  let v554 : Index := Scalar.indexCast v501
  let c112_235 : Index := 112#32
  ![v554.toNat, 112]
def k0_off876 (v354 : BitVec 32) : Fin 1 → Nat :=
  let c0_i32_211 : BitVec 32 := 0#32
  let v501 : BitVec 32 := Scalar.maxsi v354 c0_i32_211
  let c16_i32_238 : BitVec 32 := 16#32
  let v561 : BitVec 32 := Scalar.muli v501 c16_i32_238
  let v562 : Index := Scalar.indexCast v561
  ![v562.toNat]

def k0_chk34 (v327 : BitVec 32) (v329 : BitVec 32) (v332 : BitVec 32) (v352 : BitVec 32) (v354 : BitVec 32) : Prop :=
  (∀ (k0_h70 : k0_cond70 v327 v329 v332 = 1#1), ∀ (k0_h73 : k0_cond73 v352 v354 = 1#1), ∀ a, (k0_off868 v354) a + S1x16.size a ≤ S512x128.size a) ∧
  (∀ (k0_h70 : k0_cond70 v327 v329 v332 = 1#1), ∀ (k0_h73 : k0_cond73 v352 v354 = 1#1), ∀ a, (k0_off869 v354) a + S1x16.size a ≤ S512x128.size a) ∧
  (∀ (k0_h70 : k0_cond70 v327 v329 v332 = 1#1), ∀ (k0_h73 : k0_cond73 v352 v354 = 1#1), ∀ a, (k0_off870 v354) a + S1x16.size a ≤ S512x128.size a) ∧
  (∀ (k0_h70 : k0_cond70 v327 v329 v332 = 1#1), ∀ (k0_h73 : k0_cond73 v352 v354 = 1#1), ∀ a, (k0_off871 v354) a + S1x16.size a ≤ S512x128.size a) ∧
  (∀ (k0_h70 : k0_cond70 v327 v329 v332 = 1#1), ∀ (k0_h73 : k0_cond73 v352 v354 = 1#1), ∀ a, (k0_off872 v354) a + S1x16.size a ≤ S512x128.size a) ∧
  (∀ (k0_h70 : k0_cond70 v327 v329 v332 = 1#1), ∀ (k0_h73 : k0_cond73 v352 v354 = 1#1), ∀ a, (k0_off873 v354) a + S1x16.size a ≤ S512x128.size a) ∧
  (∀ (k0_h70 : k0_cond70 v327 v329 v332 = 1#1), ∀ (k0_h73 : k0_cond73 v352 v354 = 1#1), ∀ a, (k0_off874 v354) a + S1x16.size a ≤ S512x128.size a) ∧
  (∀ (k0_h70 : k0_cond70 v327 v329 v332 = 1#1), ∀ (k0_h73 : k0_cond73 v352 v354 = 1#1), ∀ a, (k0_off875 v354) a + S1x16.size a ≤ S512x128.size a) ∧
  (∀ (k0_h70 : k0_cond70 v327 v329 v332 = 1#1), ∀ (k0_h73 : k0_cond73 v352 v354 = 1#1), ∀ a, (k0_off876 v354) a + S16.size a ≤ S8192.size a)
theorem k0_off868_inb : ∀ (v327 : BitVec 32) (v329 : BitVec 32) (v332 : BitVec 32) (v352 : BitVec 32) (v354 : BitVec 32) (k0_hw34 : k0_chk34 v327 v329 v332 v352 v354), ∀ (k0_h70 : k0_cond70 v327 v329 v332 = 1#1), ∀ (k0_h73 : k0_cond73 v352 v354 = 1#1), ∀ a, (k0_off868 v354) a + S1x16.size a ≤ S512x128.size a := fun v327 v329 v332 v352 v354 k0_hw34 k0_h70 k0_h73 => k0_hw34.1 k0_h70 k0_h73
theorem k0_off869_inb : ∀ (v327 : BitVec 32) (v329 : BitVec 32) (v332 : BitVec 32) (v352 : BitVec 32) (v354 : BitVec 32) (k0_hw34 : k0_chk34 v327 v329 v332 v352 v354), ∀ (k0_h70 : k0_cond70 v327 v329 v332 = 1#1), ∀ (k0_h73 : k0_cond73 v352 v354 = 1#1), ∀ a, (k0_off869 v354) a + S1x16.size a ≤ S512x128.size a := fun v327 v329 v332 v352 v354 k0_hw34 k0_h70 k0_h73 => k0_hw34.2.1 k0_h70 k0_h73
theorem k0_off870_inb : ∀ (v327 : BitVec 32) (v329 : BitVec 32) (v332 : BitVec 32) (v352 : BitVec 32) (v354 : BitVec 32) (k0_hw34 : k0_chk34 v327 v329 v332 v352 v354), ∀ (k0_h70 : k0_cond70 v327 v329 v332 = 1#1), ∀ (k0_h73 : k0_cond73 v352 v354 = 1#1), ∀ a, (k0_off870 v354) a + S1x16.size a ≤ S512x128.size a := fun v327 v329 v332 v352 v354 k0_hw34 k0_h70 k0_h73 => k0_hw34.2.2.1 k0_h70 k0_h73
theorem k0_off871_inb : ∀ (v327 : BitVec 32) (v329 : BitVec 32) (v332 : BitVec 32) (v352 : BitVec 32) (v354 : BitVec 32) (k0_hw34 : k0_chk34 v327 v329 v332 v352 v354), ∀ (k0_h70 : k0_cond70 v327 v329 v332 = 1#1), ∀ (k0_h73 : k0_cond73 v352 v354 = 1#1), ∀ a, (k0_off871 v354) a + S1x16.size a ≤ S512x128.size a := fun v327 v329 v332 v352 v354 k0_hw34 k0_h70 k0_h73 => k0_hw34.2.2.2.1 k0_h70 k0_h73
theorem k0_off872_inb : ∀ (v327 : BitVec 32) (v329 : BitVec 32) (v332 : BitVec 32) (v352 : BitVec 32) (v354 : BitVec 32) (k0_hw34 : k0_chk34 v327 v329 v332 v352 v354), ∀ (k0_h70 : k0_cond70 v327 v329 v332 = 1#1), ∀ (k0_h73 : k0_cond73 v352 v354 = 1#1), ∀ a, (k0_off872 v354) a + S1x16.size a ≤ S512x128.size a := fun v327 v329 v332 v352 v354 k0_hw34 k0_h70 k0_h73 => k0_hw34.2.2.2.2.1 k0_h70 k0_h73
theorem k0_off873_inb : ∀ (v327 : BitVec 32) (v329 : BitVec 32) (v332 : BitVec 32) (v352 : BitVec 32) (v354 : BitVec 32) (k0_hw34 : k0_chk34 v327 v329 v332 v352 v354), ∀ (k0_h70 : k0_cond70 v327 v329 v332 = 1#1), ∀ (k0_h73 : k0_cond73 v352 v354 = 1#1), ∀ a, (k0_off873 v354) a + S1x16.size a ≤ S512x128.size a := fun v327 v329 v332 v352 v354 k0_hw34 k0_h70 k0_h73 => k0_hw34.2.2.2.2.2.1 k0_h70 k0_h73
theorem k0_off874_inb : ∀ (v327 : BitVec 32) (v329 : BitVec 32) (v332 : BitVec 32) (v352 : BitVec 32) (v354 : BitVec 32) (k0_hw34 : k0_chk34 v327 v329 v332 v352 v354), ∀ (k0_h70 : k0_cond70 v327 v329 v332 = 1#1), ∀ (k0_h73 : k0_cond73 v352 v354 = 1#1), ∀ a, (k0_off874 v354) a + S1x16.size a ≤ S512x128.size a := fun v327 v329 v332 v352 v354 k0_hw34 k0_h70 k0_h73 => k0_hw34.2.2.2.2.2.2.1 k0_h70 k0_h73
theorem k0_off875_inb : ∀ (v327 : BitVec 32) (v329 : BitVec 32) (v332 : BitVec 32) (v352 : BitVec 32) (v354 : BitVec 32) (k0_hw34 : k0_chk34 v327 v329 v332 v352 v354), ∀ (k0_h70 : k0_cond70 v327 v329 v332 = 1#1), ∀ (k0_h73 : k0_cond73 v352 v354 = 1#1), ∀ a, (k0_off875 v354) a + S1x16.size a ≤ S512x128.size a := fun v327 v329 v332 v352 v354 k0_hw34 k0_h70 k0_h73 => k0_hw34.2.2.2.2.2.2.2.1 k0_h70 k0_h73
theorem k0_off876_inb : ∀ (v327 : BitVec 32) (v329 : BitVec 32) (v332 : BitVec 32) (v352 : BitVec 32) (v354 : BitVec 32) (k0_hw34 : k0_chk34 v327 v329 v332 v352 v354), ∀ (k0_h70 : k0_cond70 v327 v329 v332 = 1#1), ∀ (k0_h73 : k0_cond73 v352 v354 = 1#1), ∀ a, (k0_off876 v354) a + S16.size a ≤ S8192.size a := fun v327 v329 v332 v352 v354 k0_hw34 k0_h70 k0_h73 => k0_hw34.2.2.2.2.2.2.2.2 k0_h70 k0_h73

def k0_off877 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c1_i32_239 : BitVec 32 := 1#32
  let v566 : BitVec 32 := Scalar.addi v330 c1_i32_239
  let v567 : Index := Scalar.indexCast v566
  let c0_240 : Index := 0#32
  ![v567.toNat, 0]
def k0_off878 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c1_i32_243 : BitVec 32 := 1#32
  let v574 : BitVec 32 := Scalar.addi v330 c1_i32_243
  let v575 : Index := Scalar.indexCast v574
  let c16_244 : Index := 16#32
  ![v575.toNat, 16]
def k0_off879 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c1_i32_247 : BitVec 32 := 1#32
  let v582 : BitVec 32 := Scalar.addi v330 c1_i32_247
  let v583 : Index := Scalar.indexCast v582
  let c32_248 : Index := 32#32
  ![v583.toNat, 32]
def k0_off880 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c1_i32_251 : BitVec 32 := 1#32
  let v590 : BitVec 32 := Scalar.addi v330 c1_i32_251
  let v591 : Index := Scalar.indexCast v590
  let c48_252 : Index := 48#32
  ![v591.toNat, 48]
def k0_off881 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c1_i32_255 : BitVec 32 := 1#32
  let v598 : BitVec 32 := Scalar.addi v330 c1_i32_255
  let v599 : Index := Scalar.indexCast v598
  let c64_256 : Index := 64#32
  ![v599.toNat, 64]
def k0_off882 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c1_i32_259 : BitVec 32 := 1#32
  let v606 : BitVec 32 := Scalar.addi v330 c1_i32_259
  let v607 : Index := Scalar.indexCast v606
  let c80_260 : Index := 80#32
  ![v607.toNat, 80]
def k0_off883 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c1_i32_263 : BitVec 32 := 1#32
  let v614 : BitVec 32 := Scalar.addi v330 c1_i32_263
  let v615 : Index := Scalar.indexCast v614
  let c96_264 : Index := 96#32
  ![v615.toNat, 96]
def k0_off884 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c1_i32_267 : BitVec 32 := 1#32
  let v622 : BitVec 32 := Scalar.addi v330 c1_i32_267
  let v623 : Index := Scalar.indexCast v622
  let c112_268 : Index := 112#32
  ![v623.toNat, 112]
def k0_off885 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c1_i32_213 : BitVec 32 := 1#32
  let v504 : BitVec 32 := Scalar.addi v330 c1_i32_213
  let v505 : Index := Scalar.indexCast v504
  let c0_214 : Index := 0#32
  ![v505.toNat, 0]
def k0_off886 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c1_i32_219 : BitVec 32 := 1#32
  let v516 : BitVec 32 := Scalar.addi v330 c1_i32_219
  let v517 : Index := Scalar.indexCast v516
  let c16_220 : Index := 16#32
  ![v517.toNat, 16]
def k0_off887 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c1_i32_225 : BitVec 32 := 1#32
  let v528 : BitVec 32 := Scalar.addi v330 c1_i32_225
  let v529 : Index := Scalar.indexCast v528
  let c32_226 : Index := 32#32
  ![v529.toNat, 32]
def k0_off888 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c1_i32_231 : BitVec 32 := 1#32
  let v540 : BitVec 32 := Scalar.addi v330 c1_i32_231
  let v541 : Index := Scalar.indexCast v540
  let c48_232 : Index := 48#32
  ![v541.toNat, 48]
def k0_off889 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c1_i32_237 : BitVec 32 := 1#32
  let v552 : BitVec 32 := Scalar.addi v330 c1_i32_237
  let v553 : Index := Scalar.indexCast v552
  let c64_238 : Index := 64#32
  ![v553.toNat, 64]
def k0_off890 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c1_i32_243 : BitVec 32 := 1#32
  let v564 : BitVec 32 := Scalar.addi v330 c1_i32_243
  let v565 : Index := Scalar.indexCast v564
  let c80_244 : Index := 80#32
  ![v565.toNat, 80]
def k0_off891 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c1_i32_249 : BitVec 32 := 1#32
  let v576 : BitVec 32 := Scalar.addi v330 c1_i32_249
  let v577 : Index := Scalar.indexCast v576
  let c96_250 : Index := 96#32
  ![v577.toNat, 96]
def k0_off892 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c1_i32_255 : BitVec 32 := 1#32
  let v588 : BitVec 32 := Scalar.addi v330 c1_i32_255
  let v589 : Index := Scalar.indexCast v588
  let c112_256 : Index := 112#32
  ![v589.toNat, 112]
def k0_off893 (v364 : BitVec 32) : Fin 2 → Nat :=
  let c0_i32_211 : BitVec 32 := 0#32
  let v501 : BitVec 32 := Scalar.maxsi v364 c0_i32_211
  let v505 : Index := Scalar.indexCast v501
  let c0_214 : Index := 0#32
  ![v505.toNat, 0]
def k0_cond75 (v362 : BitVec 32) (v364 : BitVec 32) : BitVec 1 :=
  let v365 : BitVec 1 := Scalar.cmpi .ne v362 v364
  let v366 : BitVec 32 := Scalar.extui v365
  let c0_i32_170 : BitVec 32 := 0#32
  let v367 : BitVec 1 := Scalar.cmpi .ne v366 c0_i32_170
  v367

def k0_off894 (v364 : BitVec 32) : Fin 2 → Nat :=
  let c0_i32_211 : BitVec 32 := 0#32
  let v501 : BitVec 32 := Scalar.maxsi v364 c0_i32_211
  let v512 : Index := Scalar.indexCast v501
  let c16_217 : Index := 16#32
  ![v512.toNat, 16]
def k0_off895 (v364 : BitVec 32) : Fin 2 → Nat :=
  let c0_i32_211 : BitVec 32 := 0#32
  let v501 : BitVec 32 := Scalar.maxsi v364 c0_i32_211
  let v519 : Index := Scalar.indexCast v501
  let c32_220 : Index := 32#32
  ![v519.toNat, 32]
def k0_off896 (v364 : BitVec 32) : Fin 2 → Nat :=
  let c0_i32_211 : BitVec 32 := 0#32
  let v501 : BitVec 32 := Scalar.maxsi v364 c0_i32_211
  let v526 : Index := Scalar.indexCast v501
  let c48_223 : Index := 48#32
  ![v526.toNat, 48]
def k0_off897 (v364 : BitVec 32) : Fin 2 → Nat :=
  let c0_i32_211 : BitVec 32 := 0#32
  let v501 : BitVec 32 := Scalar.maxsi v364 c0_i32_211
  let v533 : Index := Scalar.indexCast v501
  let c64_226 : Index := 64#32
  ![v533.toNat, 64]
def k0_off898 (v364 : BitVec 32) : Fin 2 → Nat :=
  let c0_i32_211 : BitVec 32 := 0#32
  let v501 : BitVec 32 := Scalar.maxsi v364 c0_i32_211
  let v540 : Index := Scalar.indexCast v501
  let c80_229 : Index := 80#32
  ![v540.toNat, 80]
def k0_off899 (v364 : BitVec 32) : Fin 2 → Nat :=
  let c0_i32_211 : BitVec 32 := 0#32
  let v501 : BitVec 32 := Scalar.maxsi v364 c0_i32_211
  let v547 : Index := Scalar.indexCast v501
  let c96_232 : Index := 96#32
  ![v547.toNat, 96]
def k0_off900 (v364 : BitVec 32) : Fin 2 → Nat :=
  let c0_i32_211 : BitVec 32 := 0#32
  let v501 : BitVec 32 := Scalar.maxsi v364 c0_i32_211
  let v554 : Index := Scalar.indexCast v501
  let c112_235 : Index := 112#32
  ![v554.toNat, 112]
def k0_off901 (v364 : BitVec 32) : Fin 1 → Nat :=
  let c0_i32_211 : BitVec 32 := 0#32
  let v501 : BitVec 32 := Scalar.maxsi v364 c0_i32_211
  let c16_i32_238 : BitVec 32 := 16#32
  let v561 : BitVec 32 := Scalar.muli v501 c16_i32_238
  let v562 : Index := Scalar.indexCast v561
  ![v562.toNat]

def k0_chk35 (v327 : BitVec 32) (v329 : BitVec 32) (v332 : BitVec 32) (v362 : BitVec 32) (v364 : BitVec 32) : Prop :=
  (∀ (k0_h70 : k0_cond70 v327 v329 v332 = 1#1), ∀ (k0_h75 : k0_cond75 v362 v364 = 1#1), ∀ a, (k0_off893 v364) a + S1x16.size a ≤ S512x128.size a) ∧
  (∀ (k0_h70 : k0_cond70 v327 v329 v332 = 1#1), ∀ (k0_h75 : k0_cond75 v362 v364 = 1#1), ∀ a, (k0_off894 v364) a + S1x16.size a ≤ S512x128.size a) ∧
  (∀ (k0_h70 : k0_cond70 v327 v329 v332 = 1#1), ∀ (k0_h75 : k0_cond75 v362 v364 = 1#1), ∀ a, (k0_off895 v364) a + S1x16.size a ≤ S512x128.size a) ∧
  (∀ (k0_h70 : k0_cond70 v327 v329 v332 = 1#1), ∀ (k0_h75 : k0_cond75 v362 v364 = 1#1), ∀ a, (k0_off896 v364) a + S1x16.size a ≤ S512x128.size a) ∧
  (∀ (k0_h70 : k0_cond70 v327 v329 v332 = 1#1), ∀ (k0_h75 : k0_cond75 v362 v364 = 1#1), ∀ a, (k0_off897 v364) a + S1x16.size a ≤ S512x128.size a) ∧
  (∀ (k0_h70 : k0_cond70 v327 v329 v332 = 1#1), ∀ (k0_h75 : k0_cond75 v362 v364 = 1#1), ∀ a, (k0_off898 v364) a + S1x16.size a ≤ S512x128.size a) ∧
  (∀ (k0_h70 : k0_cond70 v327 v329 v332 = 1#1), ∀ (k0_h75 : k0_cond75 v362 v364 = 1#1), ∀ a, (k0_off899 v364) a + S1x16.size a ≤ S512x128.size a) ∧
  (∀ (k0_h70 : k0_cond70 v327 v329 v332 = 1#1), ∀ (k0_h75 : k0_cond75 v362 v364 = 1#1), ∀ a, (k0_off900 v364) a + S1x16.size a ≤ S512x128.size a) ∧
  (∀ (k0_h70 : k0_cond70 v327 v329 v332 = 1#1), ∀ (k0_h75 : k0_cond75 v362 v364 = 1#1), ∀ a, (k0_off901 v364) a + S16.size a ≤ S8192.size a)
theorem k0_off893_inb : ∀ (v327 : BitVec 32) (v329 : BitVec 32) (v332 : BitVec 32) (v362 : BitVec 32) (v364 : BitVec 32) (k0_hw35 : k0_chk35 v327 v329 v332 v362 v364), ∀ (k0_h70 : k0_cond70 v327 v329 v332 = 1#1), ∀ (k0_h75 : k0_cond75 v362 v364 = 1#1), ∀ a, (k0_off893 v364) a + S1x16.size a ≤ S512x128.size a := fun v327 v329 v332 v362 v364 k0_hw35 k0_h70 k0_h75 => k0_hw35.1 k0_h70 k0_h75
theorem k0_off894_inb : ∀ (v327 : BitVec 32) (v329 : BitVec 32) (v332 : BitVec 32) (v362 : BitVec 32) (v364 : BitVec 32) (k0_hw35 : k0_chk35 v327 v329 v332 v362 v364), ∀ (k0_h70 : k0_cond70 v327 v329 v332 = 1#1), ∀ (k0_h75 : k0_cond75 v362 v364 = 1#1), ∀ a, (k0_off894 v364) a + S1x16.size a ≤ S512x128.size a := fun v327 v329 v332 v362 v364 k0_hw35 k0_h70 k0_h75 => k0_hw35.2.1 k0_h70 k0_h75
theorem k0_off895_inb : ∀ (v327 : BitVec 32) (v329 : BitVec 32) (v332 : BitVec 32) (v362 : BitVec 32) (v364 : BitVec 32) (k0_hw35 : k0_chk35 v327 v329 v332 v362 v364), ∀ (k0_h70 : k0_cond70 v327 v329 v332 = 1#1), ∀ (k0_h75 : k0_cond75 v362 v364 = 1#1), ∀ a, (k0_off895 v364) a + S1x16.size a ≤ S512x128.size a := fun v327 v329 v332 v362 v364 k0_hw35 k0_h70 k0_h75 => k0_hw35.2.2.1 k0_h70 k0_h75
theorem k0_off896_inb : ∀ (v327 : BitVec 32) (v329 : BitVec 32) (v332 : BitVec 32) (v362 : BitVec 32) (v364 : BitVec 32) (k0_hw35 : k0_chk35 v327 v329 v332 v362 v364), ∀ (k0_h70 : k0_cond70 v327 v329 v332 = 1#1), ∀ (k0_h75 : k0_cond75 v362 v364 = 1#1), ∀ a, (k0_off896 v364) a + S1x16.size a ≤ S512x128.size a := fun v327 v329 v332 v362 v364 k0_hw35 k0_h70 k0_h75 => k0_hw35.2.2.2.1 k0_h70 k0_h75
theorem k0_off897_inb : ∀ (v327 : BitVec 32) (v329 : BitVec 32) (v332 : BitVec 32) (v362 : BitVec 32) (v364 : BitVec 32) (k0_hw35 : k0_chk35 v327 v329 v332 v362 v364), ∀ (k0_h70 : k0_cond70 v327 v329 v332 = 1#1), ∀ (k0_h75 : k0_cond75 v362 v364 = 1#1), ∀ a, (k0_off897 v364) a + S1x16.size a ≤ S512x128.size a := fun v327 v329 v332 v362 v364 k0_hw35 k0_h70 k0_h75 => k0_hw35.2.2.2.2.1 k0_h70 k0_h75
theorem k0_off898_inb : ∀ (v327 : BitVec 32) (v329 : BitVec 32) (v332 : BitVec 32) (v362 : BitVec 32) (v364 : BitVec 32) (k0_hw35 : k0_chk35 v327 v329 v332 v362 v364), ∀ (k0_h70 : k0_cond70 v327 v329 v332 = 1#1), ∀ (k0_h75 : k0_cond75 v362 v364 = 1#1), ∀ a, (k0_off898 v364) a + S1x16.size a ≤ S512x128.size a := fun v327 v329 v332 v362 v364 k0_hw35 k0_h70 k0_h75 => k0_hw35.2.2.2.2.2.1 k0_h70 k0_h75
theorem k0_off899_inb : ∀ (v327 : BitVec 32) (v329 : BitVec 32) (v332 : BitVec 32) (v362 : BitVec 32) (v364 : BitVec 32) (k0_hw35 : k0_chk35 v327 v329 v332 v362 v364), ∀ (k0_h70 : k0_cond70 v327 v329 v332 = 1#1), ∀ (k0_h75 : k0_cond75 v362 v364 = 1#1), ∀ a, (k0_off899 v364) a + S1x16.size a ≤ S512x128.size a := fun v327 v329 v332 v362 v364 k0_hw35 k0_h70 k0_h75 => k0_hw35.2.2.2.2.2.2.1 k0_h70 k0_h75
theorem k0_off900_inb : ∀ (v327 : BitVec 32) (v329 : BitVec 32) (v332 : BitVec 32) (v362 : BitVec 32) (v364 : BitVec 32) (k0_hw35 : k0_chk35 v327 v329 v332 v362 v364), ∀ (k0_h70 : k0_cond70 v327 v329 v332 = 1#1), ∀ (k0_h75 : k0_cond75 v362 v364 = 1#1), ∀ a, (k0_off900 v364) a + S1x16.size a ≤ S512x128.size a := fun v327 v329 v332 v362 v364 k0_hw35 k0_h70 k0_h75 => k0_hw35.2.2.2.2.2.2.2.1 k0_h70 k0_h75
theorem k0_off901_inb : ∀ (v327 : BitVec 32) (v329 : BitVec 32) (v332 : BitVec 32) (v362 : BitVec 32) (v364 : BitVec 32) (k0_hw35 : k0_chk35 v327 v329 v332 v362 v364), ∀ (k0_h70 : k0_cond70 v327 v329 v332 = 1#1), ∀ (k0_h75 : k0_cond75 v362 v364 = 1#1), ∀ a, (k0_off901 v364) a + S16.size a ≤ S8192.size a := fun v327 v329 v332 v362 v364 k0_hw35 k0_h70 k0_h75 => k0_hw35.2.2.2.2.2.2.2.2 k0_h70 k0_h75

def k0_off902 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c2_i32_239 : BitVec 32 := 2#32
  let v566 : BitVec 32 := Scalar.addi v330 c2_i32_239
  let v567 : Index := Scalar.indexCast v566
  let c0_240 : Index := 0#32
  ![v567.toNat, 0]
def k0_off903 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c2_i32_243 : BitVec 32 := 2#32
  let v574 : BitVec 32 := Scalar.addi v330 c2_i32_243
  let v575 : Index := Scalar.indexCast v574
  let c16_244 : Index := 16#32
  ![v575.toNat, 16]
def k0_off904 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c2_i32_247 : BitVec 32 := 2#32
  let v582 : BitVec 32 := Scalar.addi v330 c2_i32_247
  let v583 : Index := Scalar.indexCast v582
  let c32_248 : Index := 32#32
  ![v583.toNat, 32]
def k0_off905 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c2_i32_251 : BitVec 32 := 2#32
  let v590 : BitVec 32 := Scalar.addi v330 c2_i32_251
  let v591 : Index := Scalar.indexCast v590
  let c48_252 : Index := 48#32
  ![v591.toNat, 48]
def k0_off906 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c2_i32_255 : BitVec 32 := 2#32
  let v598 : BitVec 32 := Scalar.addi v330 c2_i32_255
  let v599 : Index := Scalar.indexCast v598
  let c64_256 : Index := 64#32
  ![v599.toNat, 64]
def k0_off907 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c2_i32_259 : BitVec 32 := 2#32
  let v606 : BitVec 32 := Scalar.addi v330 c2_i32_259
  let v607 : Index := Scalar.indexCast v606
  let c80_260 : Index := 80#32
  ![v607.toNat, 80]
def k0_off908 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c2_i32_263 : BitVec 32 := 2#32
  let v614 : BitVec 32 := Scalar.addi v330 c2_i32_263
  let v615 : Index := Scalar.indexCast v614
  let c96_264 : Index := 96#32
  ![v615.toNat, 96]
def k0_off909 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c2_i32_267 : BitVec 32 := 2#32
  let v622 : BitVec 32 := Scalar.addi v330 c2_i32_267
  let v623 : Index := Scalar.indexCast v622
  let c112_268 : Index := 112#32
  ![v623.toNat, 112]
def k0_off910 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c2_i32_213 : BitVec 32 := 2#32
  let v504 : BitVec 32 := Scalar.addi v330 c2_i32_213
  let v505 : Index := Scalar.indexCast v504
  let c0_214 : Index := 0#32
  ![v505.toNat, 0]
def k0_off911 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c2_i32_219 : BitVec 32 := 2#32
  let v516 : BitVec 32 := Scalar.addi v330 c2_i32_219
  let v517 : Index := Scalar.indexCast v516
  let c16_220 : Index := 16#32
  ![v517.toNat, 16]
def k0_off912 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c2_i32_225 : BitVec 32 := 2#32
  let v528 : BitVec 32 := Scalar.addi v330 c2_i32_225
  let v529 : Index := Scalar.indexCast v528
  let c32_226 : Index := 32#32
  ![v529.toNat, 32]
def k0_off913 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c2_i32_231 : BitVec 32 := 2#32
  let v540 : BitVec 32 := Scalar.addi v330 c2_i32_231
  let v541 : Index := Scalar.indexCast v540
  let c48_232 : Index := 48#32
  ![v541.toNat, 48]
def k0_off914 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c2_i32_237 : BitVec 32 := 2#32
  let v552 : BitVec 32 := Scalar.addi v330 c2_i32_237
  let v553 : Index := Scalar.indexCast v552
  let c64_238 : Index := 64#32
  ![v553.toNat, 64]
def k0_off915 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c2_i32_243 : BitVec 32 := 2#32
  let v564 : BitVec 32 := Scalar.addi v330 c2_i32_243
  let v565 : Index := Scalar.indexCast v564
  let c80_244 : Index := 80#32
  ![v565.toNat, 80]
def k0_off916 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c2_i32_249 : BitVec 32 := 2#32
  let v576 : BitVec 32 := Scalar.addi v330 c2_i32_249
  let v577 : Index := Scalar.indexCast v576
  let c96_250 : Index := 96#32
  ![v577.toNat, 96]
def k0_off917 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c2_i32_255 : BitVec 32 := 2#32
  let v588 : BitVec 32 := Scalar.addi v330 c2_i32_255
  let v589 : Index := Scalar.indexCast v588
  let c112_256 : Index := 112#32
  ![v589.toNat, 112]
def k0_off918 (v374 : BitVec 32) : Fin 2 → Nat :=
  let c0_i32_211 : BitVec 32 := 0#32
  let v501 : BitVec 32 := Scalar.maxsi v374 c0_i32_211
  let v505 : Index := Scalar.indexCast v501
  let c0_214 : Index := 0#32
  ![v505.toNat, 0]
def k0_cond77 (v372 : BitVec 32) (v374 : BitVec 32) : BitVec 1 :=
  let v375 : BitVec 1 := Scalar.cmpi .ne v372 v374
  let v376 : BitVec 32 := Scalar.extui v375
  let c0_i32_173 : BitVec 32 := 0#32
  let v377 : BitVec 1 := Scalar.cmpi .ne v376 c0_i32_173
  v377

def k0_off919 (v374 : BitVec 32) : Fin 2 → Nat :=
  let c0_i32_211 : BitVec 32 := 0#32
  let v501 : BitVec 32 := Scalar.maxsi v374 c0_i32_211
  let v512 : Index := Scalar.indexCast v501
  let c16_217 : Index := 16#32
  ![v512.toNat, 16]
def k0_off920 (v374 : BitVec 32) : Fin 2 → Nat :=
  let c0_i32_211 : BitVec 32 := 0#32
  let v501 : BitVec 32 := Scalar.maxsi v374 c0_i32_211
  let v519 : Index := Scalar.indexCast v501
  let c32_220 : Index := 32#32
  ![v519.toNat, 32]
def k0_off921 (v374 : BitVec 32) : Fin 2 → Nat :=
  let c0_i32_211 : BitVec 32 := 0#32
  let v501 : BitVec 32 := Scalar.maxsi v374 c0_i32_211
  let v526 : Index := Scalar.indexCast v501
  let c48_223 : Index := 48#32
  ![v526.toNat, 48]
def k0_off922 (v374 : BitVec 32) : Fin 2 → Nat :=
  let c0_i32_211 : BitVec 32 := 0#32
  let v501 : BitVec 32 := Scalar.maxsi v374 c0_i32_211
  let v533 : Index := Scalar.indexCast v501
  let c64_226 : Index := 64#32
  ![v533.toNat, 64]
def k0_off923 (v374 : BitVec 32) : Fin 2 → Nat :=
  let c0_i32_211 : BitVec 32 := 0#32
  let v501 : BitVec 32 := Scalar.maxsi v374 c0_i32_211
  let v540 : Index := Scalar.indexCast v501
  let c80_229 : Index := 80#32
  ![v540.toNat, 80]
def k0_off924 (v374 : BitVec 32) : Fin 2 → Nat :=
  let c0_i32_211 : BitVec 32 := 0#32
  let v501 : BitVec 32 := Scalar.maxsi v374 c0_i32_211
  let v547 : Index := Scalar.indexCast v501
  let c96_232 : Index := 96#32
  ![v547.toNat, 96]
def k0_off925 (v374 : BitVec 32) : Fin 2 → Nat :=
  let c0_i32_211 : BitVec 32 := 0#32
  let v501 : BitVec 32 := Scalar.maxsi v374 c0_i32_211
  let v554 : Index := Scalar.indexCast v501
  let c112_235 : Index := 112#32
  ![v554.toNat, 112]
def k0_off926 (v374 : BitVec 32) : Fin 1 → Nat :=
  let c0_i32_211 : BitVec 32 := 0#32
  let v501 : BitVec 32 := Scalar.maxsi v374 c0_i32_211
  let c16_i32_238 : BitVec 32 := 16#32
  let v561 : BitVec 32 := Scalar.muli v501 c16_i32_238
  let v562 : Index := Scalar.indexCast v561
  ![v562.toNat]

def k0_chk36 (v327 : BitVec 32) (v329 : BitVec 32) (v332 : BitVec 32) (v372 : BitVec 32) (v374 : BitVec 32) : Prop :=
  (∀ (k0_h70 : k0_cond70 v327 v329 v332 = 1#1), ∀ (k0_h77 : k0_cond77 v372 v374 = 1#1), ∀ a, (k0_off918 v374) a + S1x16.size a ≤ S512x128.size a) ∧
  (∀ (k0_h70 : k0_cond70 v327 v329 v332 = 1#1), ∀ (k0_h77 : k0_cond77 v372 v374 = 1#1), ∀ a, (k0_off919 v374) a + S1x16.size a ≤ S512x128.size a) ∧
  (∀ (k0_h70 : k0_cond70 v327 v329 v332 = 1#1), ∀ (k0_h77 : k0_cond77 v372 v374 = 1#1), ∀ a, (k0_off920 v374) a + S1x16.size a ≤ S512x128.size a) ∧
  (∀ (k0_h70 : k0_cond70 v327 v329 v332 = 1#1), ∀ (k0_h77 : k0_cond77 v372 v374 = 1#1), ∀ a, (k0_off921 v374) a + S1x16.size a ≤ S512x128.size a) ∧
  (∀ (k0_h70 : k0_cond70 v327 v329 v332 = 1#1), ∀ (k0_h77 : k0_cond77 v372 v374 = 1#1), ∀ a, (k0_off922 v374) a + S1x16.size a ≤ S512x128.size a) ∧
  (∀ (k0_h70 : k0_cond70 v327 v329 v332 = 1#1), ∀ (k0_h77 : k0_cond77 v372 v374 = 1#1), ∀ a, (k0_off923 v374) a + S1x16.size a ≤ S512x128.size a) ∧
  (∀ (k0_h70 : k0_cond70 v327 v329 v332 = 1#1), ∀ (k0_h77 : k0_cond77 v372 v374 = 1#1), ∀ a, (k0_off924 v374) a + S1x16.size a ≤ S512x128.size a) ∧
  (∀ (k0_h70 : k0_cond70 v327 v329 v332 = 1#1), ∀ (k0_h77 : k0_cond77 v372 v374 = 1#1), ∀ a, (k0_off925 v374) a + S1x16.size a ≤ S512x128.size a) ∧
  (∀ (k0_h70 : k0_cond70 v327 v329 v332 = 1#1), ∀ (k0_h77 : k0_cond77 v372 v374 = 1#1), ∀ a, (k0_off926 v374) a + S16.size a ≤ S8192.size a)
theorem k0_off918_inb : ∀ (v327 : BitVec 32) (v329 : BitVec 32) (v332 : BitVec 32) (v372 : BitVec 32) (v374 : BitVec 32) (k0_hw36 : k0_chk36 v327 v329 v332 v372 v374), ∀ (k0_h70 : k0_cond70 v327 v329 v332 = 1#1), ∀ (k0_h77 : k0_cond77 v372 v374 = 1#1), ∀ a, (k0_off918 v374) a + S1x16.size a ≤ S512x128.size a := fun v327 v329 v332 v372 v374 k0_hw36 k0_h70 k0_h77 => k0_hw36.1 k0_h70 k0_h77
theorem k0_off919_inb : ∀ (v327 : BitVec 32) (v329 : BitVec 32) (v332 : BitVec 32) (v372 : BitVec 32) (v374 : BitVec 32) (k0_hw36 : k0_chk36 v327 v329 v332 v372 v374), ∀ (k0_h70 : k0_cond70 v327 v329 v332 = 1#1), ∀ (k0_h77 : k0_cond77 v372 v374 = 1#1), ∀ a, (k0_off919 v374) a + S1x16.size a ≤ S512x128.size a := fun v327 v329 v332 v372 v374 k0_hw36 k0_h70 k0_h77 => k0_hw36.2.1 k0_h70 k0_h77
theorem k0_off920_inb : ∀ (v327 : BitVec 32) (v329 : BitVec 32) (v332 : BitVec 32) (v372 : BitVec 32) (v374 : BitVec 32) (k0_hw36 : k0_chk36 v327 v329 v332 v372 v374), ∀ (k0_h70 : k0_cond70 v327 v329 v332 = 1#1), ∀ (k0_h77 : k0_cond77 v372 v374 = 1#1), ∀ a, (k0_off920 v374) a + S1x16.size a ≤ S512x128.size a := fun v327 v329 v332 v372 v374 k0_hw36 k0_h70 k0_h77 => k0_hw36.2.2.1 k0_h70 k0_h77
theorem k0_off921_inb : ∀ (v327 : BitVec 32) (v329 : BitVec 32) (v332 : BitVec 32) (v372 : BitVec 32) (v374 : BitVec 32) (k0_hw36 : k0_chk36 v327 v329 v332 v372 v374), ∀ (k0_h70 : k0_cond70 v327 v329 v332 = 1#1), ∀ (k0_h77 : k0_cond77 v372 v374 = 1#1), ∀ a, (k0_off921 v374) a + S1x16.size a ≤ S512x128.size a := fun v327 v329 v332 v372 v374 k0_hw36 k0_h70 k0_h77 => k0_hw36.2.2.2.1 k0_h70 k0_h77
theorem k0_off922_inb : ∀ (v327 : BitVec 32) (v329 : BitVec 32) (v332 : BitVec 32) (v372 : BitVec 32) (v374 : BitVec 32) (k0_hw36 : k0_chk36 v327 v329 v332 v372 v374), ∀ (k0_h70 : k0_cond70 v327 v329 v332 = 1#1), ∀ (k0_h77 : k0_cond77 v372 v374 = 1#1), ∀ a, (k0_off922 v374) a + S1x16.size a ≤ S512x128.size a := fun v327 v329 v332 v372 v374 k0_hw36 k0_h70 k0_h77 => k0_hw36.2.2.2.2.1 k0_h70 k0_h77
theorem k0_off923_inb : ∀ (v327 : BitVec 32) (v329 : BitVec 32) (v332 : BitVec 32) (v372 : BitVec 32) (v374 : BitVec 32) (k0_hw36 : k0_chk36 v327 v329 v332 v372 v374), ∀ (k0_h70 : k0_cond70 v327 v329 v332 = 1#1), ∀ (k0_h77 : k0_cond77 v372 v374 = 1#1), ∀ a, (k0_off923 v374) a + S1x16.size a ≤ S512x128.size a := fun v327 v329 v332 v372 v374 k0_hw36 k0_h70 k0_h77 => k0_hw36.2.2.2.2.2.1 k0_h70 k0_h77
theorem k0_off924_inb : ∀ (v327 : BitVec 32) (v329 : BitVec 32) (v332 : BitVec 32) (v372 : BitVec 32) (v374 : BitVec 32) (k0_hw36 : k0_chk36 v327 v329 v332 v372 v374), ∀ (k0_h70 : k0_cond70 v327 v329 v332 = 1#1), ∀ (k0_h77 : k0_cond77 v372 v374 = 1#1), ∀ a, (k0_off924 v374) a + S1x16.size a ≤ S512x128.size a := fun v327 v329 v332 v372 v374 k0_hw36 k0_h70 k0_h77 => k0_hw36.2.2.2.2.2.2.1 k0_h70 k0_h77
theorem k0_off925_inb : ∀ (v327 : BitVec 32) (v329 : BitVec 32) (v332 : BitVec 32) (v372 : BitVec 32) (v374 : BitVec 32) (k0_hw36 : k0_chk36 v327 v329 v332 v372 v374), ∀ (k0_h70 : k0_cond70 v327 v329 v332 = 1#1), ∀ (k0_h77 : k0_cond77 v372 v374 = 1#1), ∀ a, (k0_off925 v374) a + S1x16.size a ≤ S512x128.size a := fun v327 v329 v332 v372 v374 k0_hw36 k0_h70 k0_h77 => k0_hw36.2.2.2.2.2.2.2.1 k0_h70 k0_h77
theorem k0_off926_inb : ∀ (v327 : BitVec 32) (v329 : BitVec 32) (v332 : BitVec 32) (v372 : BitVec 32) (v374 : BitVec 32) (k0_hw36 : k0_chk36 v327 v329 v332 v372 v374), ∀ (k0_h70 : k0_cond70 v327 v329 v332 = 1#1), ∀ (k0_h77 : k0_cond77 v372 v374 = 1#1), ∀ a, (k0_off926 v374) a + S16.size a ≤ S8192.size a := fun v327 v329 v332 v372 v374 k0_hw36 k0_h70 k0_h77 => k0_hw36.2.2.2.2.2.2.2.2 k0_h70 k0_h77

def k0_off927 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c3_i32_239 : BitVec 32 := 3#32
  let v566 : BitVec 32 := Scalar.addi v330 c3_i32_239
  let v567 : Index := Scalar.indexCast v566
  let c0_240 : Index := 0#32
  ![v567.toNat, 0]
def k0_off928 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c3_i32_243 : BitVec 32 := 3#32
  let v574 : BitVec 32 := Scalar.addi v330 c3_i32_243
  let v575 : Index := Scalar.indexCast v574
  let c16_244 : Index := 16#32
  ![v575.toNat, 16]
def k0_off929 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c3_i32_247 : BitVec 32 := 3#32
  let v582 : BitVec 32 := Scalar.addi v330 c3_i32_247
  let v583 : Index := Scalar.indexCast v582
  let c32_248 : Index := 32#32
  ![v583.toNat, 32]
def k0_off930 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c3_i32_251 : BitVec 32 := 3#32
  let v590 : BitVec 32 := Scalar.addi v330 c3_i32_251
  let v591 : Index := Scalar.indexCast v590
  let c48_252 : Index := 48#32
  ![v591.toNat, 48]
def k0_off931 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c3_i32_255 : BitVec 32 := 3#32
  let v598 : BitVec 32 := Scalar.addi v330 c3_i32_255
  let v599 : Index := Scalar.indexCast v598
  let c64_256 : Index := 64#32
  ![v599.toNat, 64]
def k0_off932 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c3_i32_259 : BitVec 32 := 3#32
  let v606 : BitVec 32 := Scalar.addi v330 c3_i32_259
  let v607 : Index := Scalar.indexCast v606
  let c80_260 : Index := 80#32
  ![v607.toNat, 80]
def k0_off933 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c3_i32_263 : BitVec 32 := 3#32
  let v614 : BitVec 32 := Scalar.addi v330 c3_i32_263
  let v615 : Index := Scalar.indexCast v614
  let c96_264 : Index := 96#32
  ![v615.toNat, 96]
def k0_off934 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c3_i32_267 : BitVec 32 := 3#32
  let v622 : BitVec 32 := Scalar.addi v330 c3_i32_267
  let v623 : Index := Scalar.indexCast v622
  let c112_268 : Index := 112#32
  ![v623.toNat, 112]
def k0_off935 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c3_i32_213 : BitVec 32 := 3#32
  let v504 : BitVec 32 := Scalar.addi v330 c3_i32_213
  let v505 : Index := Scalar.indexCast v504
  let c0_214 : Index := 0#32
  ![v505.toNat, 0]
def k0_off936 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c3_i32_219 : BitVec 32 := 3#32
  let v516 : BitVec 32 := Scalar.addi v330 c3_i32_219
  let v517 : Index := Scalar.indexCast v516
  let c16_220 : Index := 16#32
  ![v517.toNat, 16]
def k0_off937 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c3_i32_225 : BitVec 32 := 3#32
  let v528 : BitVec 32 := Scalar.addi v330 c3_i32_225
  let v529 : Index := Scalar.indexCast v528
  let c32_226 : Index := 32#32
  ![v529.toNat, 32]
def k0_off938 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c3_i32_231 : BitVec 32 := 3#32
  let v540 : BitVec 32 := Scalar.addi v330 c3_i32_231
  let v541 : Index := Scalar.indexCast v540
  let c48_232 : Index := 48#32
  ![v541.toNat, 48]
def k0_off939 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c3_i32_237 : BitVec 32 := 3#32
  let v552 : BitVec 32 := Scalar.addi v330 c3_i32_237
  let v553 : Index := Scalar.indexCast v552
  let c64_238 : Index := 64#32
  ![v553.toNat, 64]
def k0_off940 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c3_i32_243 : BitVec 32 := 3#32
  let v564 : BitVec 32 := Scalar.addi v330 c3_i32_243
  let v565 : Index := Scalar.indexCast v564
  let c80_244 : Index := 80#32
  ![v565.toNat, 80]
def k0_off941 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c3_i32_249 : BitVec 32 := 3#32
  let v576 : BitVec 32 := Scalar.addi v330 c3_i32_249
  let v577 : Index := Scalar.indexCast v576
  let c96_250 : Index := 96#32
  ![v577.toNat, 96]
def k0_off942 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c3_i32_255 : BitVec 32 := 3#32
  let v588 : BitVec 32 := Scalar.addi v330 c3_i32_255
  let v589 : Index := Scalar.indexCast v588
  let c112_256 : Index := 112#32
  ![v589.toNat, 112]
def k0_off943 (v384 : BitVec 32) : Fin 2 → Nat :=
  let c0_i32_211 : BitVec 32 := 0#32
  let v501 : BitVec 32 := Scalar.maxsi v384 c0_i32_211
  let v505 : Index := Scalar.indexCast v501
  let c0_214 : Index := 0#32
  ![v505.toNat, 0]
def k0_cond79 (v382 : BitVec 32) (v384 : BitVec 32) : BitVec 1 :=
  let v385 : BitVec 1 := Scalar.cmpi .ne v382 v384
  let v386 : BitVec 32 := Scalar.extui v385
  let c0_i32_176 : BitVec 32 := 0#32
  let v387 : BitVec 1 := Scalar.cmpi .ne v386 c0_i32_176
  v387

def k0_off944 (v384 : BitVec 32) : Fin 2 → Nat :=
  let c0_i32_211 : BitVec 32 := 0#32
  let v501 : BitVec 32 := Scalar.maxsi v384 c0_i32_211
  let v512 : Index := Scalar.indexCast v501
  let c16_217 : Index := 16#32
  ![v512.toNat, 16]
def k0_off945 (v384 : BitVec 32) : Fin 2 → Nat :=
  let c0_i32_211 : BitVec 32 := 0#32
  let v501 : BitVec 32 := Scalar.maxsi v384 c0_i32_211
  let v519 : Index := Scalar.indexCast v501
  let c32_220 : Index := 32#32
  ![v519.toNat, 32]
def k0_off946 (v384 : BitVec 32) : Fin 2 → Nat :=
  let c0_i32_211 : BitVec 32 := 0#32
  let v501 : BitVec 32 := Scalar.maxsi v384 c0_i32_211
  let v526 : Index := Scalar.indexCast v501
  let c48_223 : Index := 48#32
  ![v526.toNat, 48]
def k0_off947 (v384 : BitVec 32) : Fin 2 → Nat :=
  let c0_i32_211 : BitVec 32 := 0#32
  let v501 : BitVec 32 := Scalar.maxsi v384 c0_i32_211
  let v533 : Index := Scalar.indexCast v501
  let c64_226 : Index := 64#32
  ![v533.toNat, 64]
def k0_off948 (v384 : BitVec 32) : Fin 2 → Nat :=
  let c0_i32_211 : BitVec 32 := 0#32
  let v501 : BitVec 32 := Scalar.maxsi v384 c0_i32_211
  let v540 : Index := Scalar.indexCast v501
  let c80_229 : Index := 80#32
  ![v540.toNat, 80]
def k0_off949 (v384 : BitVec 32) : Fin 2 → Nat :=
  let c0_i32_211 : BitVec 32 := 0#32
  let v501 : BitVec 32 := Scalar.maxsi v384 c0_i32_211
  let v547 : Index := Scalar.indexCast v501
  let c96_232 : Index := 96#32
  ![v547.toNat, 96]
def k0_off950 (v384 : BitVec 32) : Fin 2 → Nat :=
  let c0_i32_211 : BitVec 32 := 0#32
  let v501 : BitVec 32 := Scalar.maxsi v384 c0_i32_211
  let v554 : Index := Scalar.indexCast v501
  let c112_235 : Index := 112#32
  ![v554.toNat, 112]
def k0_off951 (v384 : BitVec 32) : Fin 1 → Nat :=
  let c0_i32_211 : BitVec 32 := 0#32
  let v501 : BitVec 32 := Scalar.maxsi v384 c0_i32_211
  let c16_i32_238 : BitVec 32 := 16#32
  let v561 : BitVec 32 := Scalar.muli v501 c16_i32_238
  let v562 : Index := Scalar.indexCast v561
  ![v562.toNat]

def k0_chk37 (v327 : BitVec 32) (v329 : BitVec 32) (v332 : BitVec 32) (v382 : BitVec 32) (v384 : BitVec 32) : Prop :=
  (∀ (k0_h70 : k0_cond70 v327 v329 v332 = 1#1), ∀ (k0_h79 : k0_cond79 v382 v384 = 1#1), ∀ a, (k0_off943 v384) a + S1x16.size a ≤ S512x128.size a) ∧
  (∀ (k0_h70 : k0_cond70 v327 v329 v332 = 1#1), ∀ (k0_h79 : k0_cond79 v382 v384 = 1#1), ∀ a, (k0_off944 v384) a + S1x16.size a ≤ S512x128.size a) ∧
  (∀ (k0_h70 : k0_cond70 v327 v329 v332 = 1#1), ∀ (k0_h79 : k0_cond79 v382 v384 = 1#1), ∀ a, (k0_off945 v384) a + S1x16.size a ≤ S512x128.size a) ∧
  (∀ (k0_h70 : k0_cond70 v327 v329 v332 = 1#1), ∀ (k0_h79 : k0_cond79 v382 v384 = 1#1), ∀ a, (k0_off946 v384) a + S1x16.size a ≤ S512x128.size a) ∧
  (∀ (k0_h70 : k0_cond70 v327 v329 v332 = 1#1), ∀ (k0_h79 : k0_cond79 v382 v384 = 1#1), ∀ a, (k0_off947 v384) a + S1x16.size a ≤ S512x128.size a) ∧
  (∀ (k0_h70 : k0_cond70 v327 v329 v332 = 1#1), ∀ (k0_h79 : k0_cond79 v382 v384 = 1#1), ∀ a, (k0_off948 v384) a + S1x16.size a ≤ S512x128.size a) ∧
  (∀ (k0_h70 : k0_cond70 v327 v329 v332 = 1#1), ∀ (k0_h79 : k0_cond79 v382 v384 = 1#1), ∀ a, (k0_off949 v384) a + S1x16.size a ≤ S512x128.size a) ∧
  (∀ (k0_h70 : k0_cond70 v327 v329 v332 = 1#1), ∀ (k0_h79 : k0_cond79 v382 v384 = 1#1), ∀ a, (k0_off950 v384) a + S1x16.size a ≤ S512x128.size a) ∧
  (∀ (k0_h70 : k0_cond70 v327 v329 v332 = 1#1), ∀ (k0_h79 : k0_cond79 v382 v384 = 1#1), ∀ a, (k0_off951 v384) a + S16.size a ≤ S8192.size a)
theorem k0_off943_inb : ∀ (v327 : BitVec 32) (v329 : BitVec 32) (v332 : BitVec 32) (v382 : BitVec 32) (v384 : BitVec 32) (k0_hw37 : k0_chk37 v327 v329 v332 v382 v384), ∀ (k0_h70 : k0_cond70 v327 v329 v332 = 1#1), ∀ (k0_h79 : k0_cond79 v382 v384 = 1#1), ∀ a, (k0_off943 v384) a + S1x16.size a ≤ S512x128.size a := fun v327 v329 v332 v382 v384 k0_hw37 k0_h70 k0_h79 => k0_hw37.1 k0_h70 k0_h79
theorem k0_off944_inb : ∀ (v327 : BitVec 32) (v329 : BitVec 32) (v332 : BitVec 32) (v382 : BitVec 32) (v384 : BitVec 32) (k0_hw37 : k0_chk37 v327 v329 v332 v382 v384), ∀ (k0_h70 : k0_cond70 v327 v329 v332 = 1#1), ∀ (k0_h79 : k0_cond79 v382 v384 = 1#1), ∀ a, (k0_off944 v384) a + S1x16.size a ≤ S512x128.size a := fun v327 v329 v332 v382 v384 k0_hw37 k0_h70 k0_h79 => k0_hw37.2.1 k0_h70 k0_h79
theorem k0_off945_inb : ∀ (v327 : BitVec 32) (v329 : BitVec 32) (v332 : BitVec 32) (v382 : BitVec 32) (v384 : BitVec 32) (k0_hw37 : k0_chk37 v327 v329 v332 v382 v384), ∀ (k0_h70 : k0_cond70 v327 v329 v332 = 1#1), ∀ (k0_h79 : k0_cond79 v382 v384 = 1#1), ∀ a, (k0_off945 v384) a + S1x16.size a ≤ S512x128.size a := fun v327 v329 v332 v382 v384 k0_hw37 k0_h70 k0_h79 => k0_hw37.2.2.1 k0_h70 k0_h79
theorem k0_off946_inb : ∀ (v327 : BitVec 32) (v329 : BitVec 32) (v332 : BitVec 32) (v382 : BitVec 32) (v384 : BitVec 32) (k0_hw37 : k0_chk37 v327 v329 v332 v382 v384), ∀ (k0_h70 : k0_cond70 v327 v329 v332 = 1#1), ∀ (k0_h79 : k0_cond79 v382 v384 = 1#1), ∀ a, (k0_off946 v384) a + S1x16.size a ≤ S512x128.size a := fun v327 v329 v332 v382 v384 k0_hw37 k0_h70 k0_h79 => k0_hw37.2.2.2.1 k0_h70 k0_h79
theorem k0_off947_inb : ∀ (v327 : BitVec 32) (v329 : BitVec 32) (v332 : BitVec 32) (v382 : BitVec 32) (v384 : BitVec 32) (k0_hw37 : k0_chk37 v327 v329 v332 v382 v384), ∀ (k0_h70 : k0_cond70 v327 v329 v332 = 1#1), ∀ (k0_h79 : k0_cond79 v382 v384 = 1#1), ∀ a, (k0_off947 v384) a + S1x16.size a ≤ S512x128.size a := fun v327 v329 v332 v382 v384 k0_hw37 k0_h70 k0_h79 => k0_hw37.2.2.2.2.1 k0_h70 k0_h79
theorem k0_off948_inb : ∀ (v327 : BitVec 32) (v329 : BitVec 32) (v332 : BitVec 32) (v382 : BitVec 32) (v384 : BitVec 32) (k0_hw37 : k0_chk37 v327 v329 v332 v382 v384), ∀ (k0_h70 : k0_cond70 v327 v329 v332 = 1#1), ∀ (k0_h79 : k0_cond79 v382 v384 = 1#1), ∀ a, (k0_off948 v384) a + S1x16.size a ≤ S512x128.size a := fun v327 v329 v332 v382 v384 k0_hw37 k0_h70 k0_h79 => k0_hw37.2.2.2.2.2.1 k0_h70 k0_h79
theorem k0_off949_inb : ∀ (v327 : BitVec 32) (v329 : BitVec 32) (v332 : BitVec 32) (v382 : BitVec 32) (v384 : BitVec 32) (k0_hw37 : k0_chk37 v327 v329 v332 v382 v384), ∀ (k0_h70 : k0_cond70 v327 v329 v332 = 1#1), ∀ (k0_h79 : k0_cond79 v382 v384 = 1#1), ∀ a, (k0_off949 v384) a + S1x16.size a ≤ S512x128.size a := fun v327 v329 v332 v382 v384 k0_hw37 k0_h70 k0_h79 => k0_hw37.2.2.2.2.2.2.1 k0_h70 k0_h79
theorem k0_off950_inb : ∀ (v327 : BitVec 32) (v329 : BitVec 32) (v332 : BitVec 32) (v382 : BitVec 32) (v384 : BitVec 32) (k0_hw37 : k0_chk37 v327 v329 v332 v382 v384), ∀ (k0_h70 : k0_cond70 v327 v329 v332 = 1#1), ∀ (k0_h79 : k0_cond79 v382 v384 = 1#1), ∀ a, (k0_off950 v384) a + S1x16.size a ≤ S512x128.size a := fun v327 v329 v332 v382 v384 k0_hw37 k0_h70 k0_h79 => k0_hw37.2.2.2.2.2.2.2.1 k0_h70 k0_h79
theorem k0_off951_inb : ∀ (v327 : BitVec 32) (v329 : BitVec 32) (v332 : BitVec 32) (v382 : BitVec 32) (v384 : BitVec 32) (k0_hw37 : k0_chk37 v327 v329 v332 v382 v384), ∀ (k0_h70 : k0_cond70 v327 v329 v332 = 1#1), ∀ (k0_h79 : k0_cond79 v382 v384 = 1#1), ∀ a, (k0_off951 v384) a + S16.size a ≤ S8192.size a := fun v327 v329 v332 v382 v384 k0_hw37 k0_h70 k0_h79 => k0_hw37.2.2.2.2.2.2.2.2 k0_h70 k0_h79

def k0_off952 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c4_i32_239 : BitVec 32 := 4#32
  let v566 : BitVec 32 := Scalar.addi v330 c4_i32_239
  let v567 : Index := Scalar.indexCast v566
  let c0_240 : Index := 0#32
  ![v567.toNat, 0]
def k0_off953 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c4_i32_243 : BitVec 32 := 4#32
  let v574 : BitVec 32 := Scalar.addi v330 c4_i32_243
  let v575 : Index := Scalar.indexCast v574
  let c16_244 : Index := 16#32
  ![v575.toNat, 16]
def k0_off954 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c4_i32_247 : BitVec 32 := 4#32
  let v582 : BitVec 32 := Scalar.addi v330 c4_i32_247
  let v583 : Index := Scalar.indexCast v582
  let c32_248 : Index := 32#32
  ![v583.toNat, 32]
def k0_off955 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c4_i32_251 : BitVec 32 := 4#32
  let v590 : BitVec 32 := Scalar.addi v330 c4_i32_251
  let v591 : Index := Scalar.indexCast v590
  let c48_252 : Index := 48#32
  ![v591.toNat, 48]
def k0_off956 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c4_i32_255 : BitVec 32 := 4#32
  let v598 : BitVec 32 := Scalar.addi v330 c4_i32_255
  let v599 : Index := Scalar.indexCast v598
  let c64_256 : Index := 64#32
  ![v599.toNat, 64]
def k0_off957 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c4_i32_259 : BitVec 32 := 4#32
  let v606 : BitVec 32 := Scalar.addi v330 c4_i32_259
  let v607 : Index := Scalar.indexCast v606
  let c80_260 : Index := 80#32
  ![v607.toNat, 80]
def k0_off958 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c4_i32_263 : BitVec 32 := 4#32
  let v614 : BitVec 32 := Scalar.addi v330 c4_i32_263
  let v615 : Index := Scalar.indexCast v614
  let c96_264 : Index := 96#32
  ![v615.toNat, 96]
def k0_off959 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c4_i32_267 : BitVec 32 := 4#32
  let v622 : BitVec 32 := Scalar.addi v330 c4_i32_267
  let v623 : Index := Scalar.indexCast v622
  let c112_268 : Index := 112#32
  ![v623.toNat, 112]
def k0_off960 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c4_i32_213 : BitVec 32 := 4#32
  let v504 : BitVec 32 := Scalar.addi v330 c4_i32_213
  let v505 : Index := Scalar.indexCast v504
  let c0_214 : Index := 0#32
  ![v505.toNat, 0]
def k0_off961 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c4_i32_219 : BitVec 32 := 4#32
  let v516 : BitVec 32 := Scalar.addi v330 c4_i32_219
  let v517 : Index := Scalar.indexCast v516
  let c16_220 : Index := 16#32
  ![v517.toNat, 16]
def k0_off962 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c4_i32_225 : BitVec 32 := 4#32
  let v528 : BitVec 32 := Scalar.addi v330 c4_i32_225
  let v529 : Index := Scalar.indexCast v528
  let c32_226 : Index := 32#32
  ![v529.toNat, 32]
def k0_off963 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c4_i32_231 : BitVec 32 := 4#32
  let v540 : BitVec 32 := Scalar.addi v330 c4_i32_231
  let v541 : Index := Scalar.indexCast v540
  let c48_232 : Index := 48#32
  ![v541.toNat, 48]
def k0_off964 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c4_i32_237 : BitVec 32 := 4#32
  let v552 : BitVec 32 := Scalar.addi v330 c4_i32_237
  let v553 : Index := Scalar.indexCast v552
  let c64_238 : Index := 64#32
  ![v553.toNat, 64]
def k0_off965 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c4_i32_243 : BitVec 32 := 4#32
  let v564 : BitVec 32 := Scalar.addi v330 c4_i32_243
  let v565 : Index := Scalar.indexCast v564
  let c80_244 : Index := 80#32
  ![v565.toNat, 80]
def k0_off966 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c4_i32_249 : BitVec 32 := 4#32
  let v576 : BitVec 32 := Scalar.addi v330 c4_i32_249
  let v577 : Index := Scalar.indexCast v576
  let c96_250 : Index := 96#32
  ![v577.toNat, 96]
def k0_off967 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c4_i32_255 : BitVec 32 := 4#32
  let v588 : BitVec 32 := Scalar.addi v330 c4_i32_255
  let v589 : Index := Scalar.indexCast v588
  let c112_256 : Index := 112#32
  ![v589.toNat, 112]
def k0_off968 (v394 : BitVec 32) : Fin 2 → Nat :=
  let c0_i32_211 : BitVec 32 := 0#32
  let v501 : BitVec 32 := Scalar.maxsi v394 c0_i32_211
  let v505 : Index := Scalar.indexCast v501
  let c0_214 : Index := 0#32
  ![v505.toNat, 0]
def k0_cond81 (v392 : BitVec 32) (v394 : BitVec 32) : BitVec 1 :=
  let v395 : BitVec 1 := Scalar.cmpi .ne v392 v394
  let v396 : BitVec 32 := Scalar.extui v395
  let c0_i32_179 : BitVec 32 := 0#32
  let v397 : BitVec 1 := Scalar.cmpi .ne v396 c0_i32_179
  v397

def k0_off969 (v394 : BitVec 32) : Fin 2 → Nat :=
  let c0_i32_211 : BitVec 32 := 0#32
  let v501 : BitVec 32 := Scalar.maxsi v394 c0_i32_211
  let v512 : Index := Scalar.indexCast v501
  let c16_217 : Index := 16#32
  ![v512.toNat, 16]
def k0_off970 (v394 : BitVec 32) : Fin 2 → Nat :=
  let c0_i32_211 : BitVec 32 := 0#32
  let v501 : BitVec 32 := Scalar.maxsi v394 c0_i32_211
  let v519 : Index := Scalar.indexCast v501
  let c32_220 : Index := 32#32
  ![v519.toNat, 32]
def k0_off971 (v394 : BitVec 32) : Fin 2 → Nat :=
  let c0_i32_211 : BitVec 32 := 0#32
  let v501 : BitVec 32 := Scalar.maxsi v394 c0_i32_211
  let v526 : Index := Scalar.indexCast v501
  let c48_223 : Index := 48#32
  ![v526.toNat, 48]
def k0_off972 (v394 : BitVec 32) : Fin 2 → Nat :=
  let c0_i32_211 : BitVec 32 := 0#32
  let v501 : BitVec 32 := Scalar.maxsi v394 c0_i32_211
  let v533 : Index := Scalar.indexCast v501
  let c64_226 : Index := 64#32
  ![v533.toNat, 64]
def k0_off973 (v394 : BitVec 32) : Fin 2 → Nat :=
  let c0_i32_211 : BitVec 32 := 0#32
  let v501 : BitVec 32 := Scalar.maxsi v394 c0_i32_211
  let v540 : Index := Scalar.indexCast v501
  let c80_229 : Index := 80#32
  ![v540.toNat, 80]
def k0_off974 (v394 : BitVec 32) : Fin 2 → Nat :=
  let c0_i32_211 : BitVec 32 := 0#32
  let v501 : BitVec 32 := Scalar.maxsi v394 c0_i32_211
  let v547 : Index := Scalar.indexCast v501
  let c96_232 : Index := 96#32
  ![v547.toNat, 96]
def k0_off975 (v394 : BitVec 32) : Fin 2 → Nat :=
  let c0_i32_211 : BitVec 32 := 0#32
  let v501 : BitVec 32 := Scalar.maxsi v394 c0_i32_211
  let v554 : Index := Scalar.indexCast v501
  let c112_235 : Index := 112#32
  ![v554.toNat, 112]
def k0_off976 (v394 : BitVec 32) : Fin 1 → Nat :=
  let c0_i32_211 : BitVec 32 := 0#32
  let v501 : BitVec 32 := Scalar.maxsi v394 c0_i32_211
  let c16_i32_238 : BitVec 32 := 16#32
  let v561 : BitVec 32 := Scalar.muli v501 c16_i32_238
  let v562 : Index := Scalar.indexCast v561
  ![v562.toNat]

def k0_chk38 (v327 : BitVec 32) (v329 : BitVec 32) (v332 : BitVec 32) (v392 : BitVec 32) (v394 : BitVec 32) : Prop :=
  (∀ (k0_h70 : k0_cond70 v327 v329 v332 = 1#1), ∀ (k0_h81 : k0_cond81 v392 v394 = 1#1), ∀ a, (k0_off968 v394) a + S1x16.size a ≤ S512x128.size a) ∧
  (∀ (k0_h70 : k0_cond70 v327 v329 v332 = 1#1), ∀ (k0_h81 : k0_cond81 v392 v394 = 1#1), ∀ a, (k0_off969 v394) a + S1x16.size a ≤ S512x128.size a) ∧
  (∀ (k0_h70 : k0_cond70 v327 v329 v332 = 1#1), ∀ (k0_h81 : k0_cond81 v392 v394 = 1#1), ∀ a, (k0_off970 v394) a + S1x16.size a ≤ S512x128.size a) ∧
  (∀ (k0_h70 : k0_cond70 v327 v329 v332 = 1#1), ∀ (k0_h81 : k0_cond81 v392 v394 = 1#1), ∀ a, (k0_off971 v394) a + S1x16.size a ≤ S512x128.size a) ∧
  (∀ (k0_h70 : k0_cond70 v327 v329 v332 = 1#1), ∀ (k0_h81 : k0_cond81 v392 v394 = 1#1), ∀ a, (k0_off972 v394) a + S1x16.size a ≤ S512x128.size a) ∧
  (∀ (k0_h70 : k0_cond70 v327 v329 v332 = 1#1), ∀ (k0_h81 : k0_cond81 v392 v394 = 1#1), ∀ a, (k0_off973 v394) a + S1x16.size a ≤ S512x128.size a) ∧
  (∀ (k0_h70 : k0_cond70 v327 v329 v332 = 1#1), ∀ (k0_h81 : k0_cond81 v392 v394 = 1#1), ∀ a, (k0_off974 v394) a + S1x16.size a ≤ S512x128.size a) ∧
  (∀ (k0_h70 : k0_cond70 v327 v329 v332 = 1#1), ∀ (k0_h81 : k0_cond81 v392 v394 = 1#1), ∀ a, (k0_off975 v394) a + S1x16.size a ≤ S512x128.size a) ∧
  (∀ (k0_h70 : k0_cond70 v327 v329 v332 = 1#1), ∀ (k0_h81 : k0_cond81 v392 v394 = 1#1), ∀ a, (k0_off976 v394) a + S16.size a ≤ S8192.size a)
theorem k0_off968_inb : ∀ (v327 : BitVec 32) (v329 : BitVec 32) (v332 : BitVec 32) (v392 : BitVec 32) (v394 : BitVec 32) (k0_hw38 : k0_chk38 v327 v329 v332 v392 v394), ∀ (k0_h70 : k0_cond70 v327 v329 v332 = 1#1), ∀ (k0_h81 : k0_cond81 v392 v394 = 1#1), ∀ a, (k0_off968 v394) a + S1x16.size a ≤ S512x128.size a := fun v327 v329 v332 v392 v394 k0_hw38 k0_h70 k0_h81 => k0_hw38.1 k0_h70 k0_h81
theorem k0_off969_inb : ∀ (v327 : BitVec 32) (v329 : BitVec 32) (v332 : BitVec 32) (v392 : BitVec 32) (v394 : BitVec 32) (k0_hw38 : k0_chk38 v327 v329 v332 v392 v394), ∀ (k0_h70 : k0_cond70 v327 v329 v332 = 1#1), ∀ (k0_h81 : k0_cond81 v392 v394 = 1#1), ∀ a, (k0_off969 v394) a + S1x16.size a ≤ S512x128.size a := fun v327 v329 v332 v392 v394 k0_hw38 k0_h70 k0_h81 => k0_hw38.2.1 k0_h70 k0_h81
theorem k0_off970_inb : ∀ (v327 : BitVec 32) (v329 : BitVec 32) (v332 : BitVec 32) (v392 : BitVec 32) (v394 : BitVec 32) (k0_hw38 : k0_chk38 v327 v329 v332 v392 v394), ∀ (k0_h70 : k0_cond70 v327 v329 v332 = 1#1), ∀ (k0_h81 : k0_cond81 v392 v394 = 1#1), ∀ a, (k0_off970 v394) a + S1x16.size a ≤ S512x128.size a := fun v327 v329 v332 v392 v394 k0_hw38 k0_h70 k0_h81 => k0_hw38.2.2.1 k0_h70 k0_h81
theorem k0_off971_inb : ∀ (v327 : BitVec 32) (v329 : BitVec 32) (v332 : BitVec 32) (v392 : BitVec 32) (v394 : BitVec 32) (k0_hw38 : k0_chk38 v327 v329 v332 v392 v394), ∀ (k0_h70 : k0_cond70 v327 v329 v332 = 1#1), ∀ (k0_h81 : k0_cond81 v392 v394 = 1#1), ∀ a, (k0_off971 v394) a + S1x16.size a ≤ S512x128.size a := fun v327 v329 v332 v392 v394 k0_hw38 k0_h70 k0_h81 => k0_hw38.2.2.2.1 k0_h70 k0_h81
theorem k0_off972_inb : ∀ (v327 : BitVec 32) (v329 : BitVec 32) (v332 : BitVec 32) (v392 : BitVec 32) (v394 : BitVec 32) (k0_hw38 : k0_chk38 v327 v329 v332 v392 v394), ∀ (k0_h70 : k0_cond70 v327 v329 v332 = 1#1), ∀ (k0_h81 : k0_cond81 v392 v394 = 1#1), ∀ a, (k0_off972 v394) a + S1x16.size a ≤ S512x128.size a := fun v327 v329 v332 v392 v394 k0_hw38 k0_h70 k0_h81 => k0_hw38.2.2.2.2.1 k0_h70 k0_h81
theorem k0_off973_inb : ∀ (v327 : BitVec 32) (v329 : BitVec 32) (v332 : BitVec 32) (v392 : BitVec 32) (v394 : BitVec 32) (k0_hw38 : k0_chk38 v327 v329 v332 v392 v394), ∀ (k0_h70 : k0_cond70 v327 v329 v332 = 1#1), ∀ (k0_h81 : k0_cond81 v392 v394 = 1#1), ∀ a, (k0_off973 v394) a + S1x16.size a ≤ S512x128.size a := fun v327 v329 v332 v392 v394 k0_hw38 k0_h70 k0_h81 => k0_hw38.2.2.2.2.2.1 k0_h70 k0_h81
theorem k0_off974_inb : ∀ (v327 : BitVec 32) (v329 : BitVec 32) (v332 : BitVec 32) (v392 : BitVec 32) (v394 : BitVec 32) (k0_hw38 : k0_chk38 v327 v329 v332 v392 v394), ∀ (k0_h70 : k0_cond70 v327 v329 v332 = 1#1), ∀ (k0_h81 : k0_cond81 v392 v394 = 1#1), ∀ a, (k0_off974 v394) a + S1x16.size a ≤ S512x128.size a := fun v327 v329 v332 v392 v394 k0_hw38 k0_h70 k0_h81 => k0_hw38.2.2.2.2.2.2.1 k0_h70 k0_h81
theorem k0_off975_inb : ∀ (v327 : BitVec 32) (v329 : BitVec 32) (v332 : BitVec 32) (v392 : BitVec 32) (v394 : BitVec 32) (k0_hw38 : k0_chk38 v327 v329 v332 v392 v394), ∀ (k0_h70 : k0_cond70 v327 v329 v332 = 1#1), ∀ (k0_h81 : k0_cond81 v392 v394 = 1#1), ∀ a, (k0_off975 v394) a + S1x16.size a ≤ S512x128.size a := fun v327 v329 v332 v392 v394 k0_hw38 k0_h70 k0_h81 => k0_hw38.2.2.2.2.2.2.2.1 k0_h70 k0_h81
theorem k0_off976_inb : ∀ (v327 : BitVec 32) (v329 : BitVec 32) (v332 : BitVec 32) (v392 : BitVec 32) (v394 : BitVec 32) (k0_hw38 : k0_chk38 v327 v329 v332 v392 v394), ∀ (k0_h70 : k0_cond70 v327 v329 v332 = 1#1), ∀ (k0_h81 : k0_cond81 v392 v394 = 1#1), ∀ a, (k0_off976 v394) a + S16.size a ≤ S8192.size a := fun v327 v329 v332 v392 v394 k0_hw38 k0_h70 k0_h81 => k0_hw38.2.2.2.2.2.2.2.2 k0_h70 k0_h81

def k0_off977 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c5_i32_239 : BitVec 32 := 5#32
  let v566 : BitVec 32 := Scalar.addi v330 c5_i32_239
  let v567 : Index := Scalar.indexCast v566
  let c0_240 : Index := 0#32
  ![v567.toNat, 0]
def k0_off978 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c5_i32_243 : BitVec 32 := 5#32
  let v574 : BitVec 32 := Scalar.addi v330 c5_i32_243
  let v575 : Index := Scalar.indexCast v574
  let c16_244 : Index := 16#32
  ![v575.toNat, 16]
def k0_off979 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c5_i32_247 : BitVec 32 := 5#32
  let v582 : BitVec 32 := Scalar.addi v330 c5_i32_247
  let v583 : Index := Scalar.indexCast v582
  let c32_248 : Index := 32#32
  ![v583.toNat, 32]
def k0_off980 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c5_i32_251 : BitVec 32 := 5#32
  let v590 : BitVec 32 := Scalar.addi v330 c5_i32_251
  let v591 : Index := Scalar.indexCast v590
  let c48_252 : Index := 48#32
  ![v591.toNat, 48]
def k0_off981 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c5_i32_255 : BitVec 32 := 5#32
  let v598 : BitVec 32 := Scalar.addi v330 c5_i32_255
  let v599 : Index := Scalar.indexCast v598
  let c64_256 : Index := 64#32
  ![v599.toNat, 64]
def k0_off982 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c5_i32_259 : BitVec 32 := 5#32
  let v606 : BitVec 32 := Scalar.addi v330 c5_i32_259
  let v607 : Index := Scalar.indexCast v606
  let c80_260 : Index := 80#32
  ![v607.toNat, 80]
def k0_off983 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c5_i32_263 : BitVec 32 := 5#32
  let v614 : BitVec 32 := Scalar.addi v330 c5_i32_263
  let v615 : Index := Scalar.indexCast v614
  let c96_264 : Index := 96#32
  ![v615.toNat, 96]
def k0_off984 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c5_i32_267 : BitVec 32 := 5#32
  let v622 : BitVec 32 := Scalar.addi v330 c5_i32_267
  let v623 : Index := Scalar.indexCast v622
  let c112_268 : Index := 112#32
  ![v623.toNat, 112]
def k0_off985 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c5_i32_213 : BitVec 32 := 5#32
  let v504 : BitVec 32 := Scalar.addi v330 c5_i32_213
  let v505 : Index := Scalar.indexCast v504
  let c0_214 : Index := 0#32
  ![v505.toNat, 0]
def k0_off986 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c5_i32_219 : BitVec 32 := 5#32
  let v516 : BitVec 32 := Scalar.addi v330 c5_i32_219
  let v517 : Index := Scalar.indexCast v516
  let c16_220 : Index := 16#32
  ![v517.toNat, 16]
def k0_off987 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c5_i32_225 : BitVec 32 := 5#32
  let v528 : BitVec 32 := Scalar.addi v330 c5_i32_225
  let v529 : Index := Scalar.indexCast v528
  let c32_226 : Index := 32#32
  ![v529.toNat, 32]
def k0_off988 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c5_i32_231 : BitVec 32 := 5#32
  let v540 : BitVec 32 := Scalar.addi v330 c5_i32_231
  let v541 : Index := Scalar.indexCast v540
  let c48_232 : Index := 48#32
  ![v541.toNat, 48]
def k0_off989 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c5_i32_237 : BitVec 32 := 5#32
  let v552 : BitVec 32 := Scalar.addi v330 c5_i32_237
  let v553 : Index := Scalar.indexCast v552
  let c64_238 : Index := 64#32
  ![v553.toNat, 64]
def k0_off990 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c5_i32_243 : BitVec 32 := 5#32
  let v564 : BitVec 32 := Scalar.addi v330 c5_i32_243
  let v565 : Index := Scalar.indexCast v564
  let c80_244 : Index := 80#32
  ![v565.toNat, 80]
def k0_off991 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c5_i32_249 : BitVec 32 := 5#32
  let v576 : BitVec 32 := Scalar.addi v330 c5_i32_249
  let v577 : Index := Scalar.indexCast v576
  let c96_250 : Index := 96#32
  ![v577.toNat, 96]
def k0_off992 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c5_i32_255 : BitVec 32 := 5#32
  let v588 : BitVec 32 := Scalar.addi v330 c5_i32_255
  let v589 : Index := Scalar.indexCast v588
  let c112_256 : Index := 112#32
  ![v589.toNat, 112]
def k0_off993 (v404 : BitVec 32) : Fin 2 → Nat :=
  let c0_i32_211 : BitVec 32 := 0#32
  let v501 : BitVec 32 := Scalar.maxsi v404 c0_i32_211
  let v505 : Index := Scalar.indexCast v501
  let c0_214 : Index := 0#32
  ![v505.toNat, 0]
def k0_cond83 (v402 : BitVec 32) (v404 : BitVec 32) : BitVec 1 :=
  let v405 : BitVec 1 := Scalar.cmpi .ne v402 v404
  let v406 : BitVec 32 := Scalar.extui v405
  let c0_i32_182 : BitVec 32 := 0#32
  let v407 : BitVec 1 := Scalar.cmpi .ne v406 c0_i32_182
  v407

def k0_off994 (v404 : BitVec 32) : Fin 2 → Nat :=
  let c0_i32_211 : BitVec 32 := 0#32
  let v501 : BitVec 32 := Scalar.maxsi v404 c0_i32_211
  let v512 : Index := Scalar.indexCast v501
  let c16_217 : Index := 16#32
  ![v512.toNat, 16]
def k0_off995 (v404 : BitVec 32) : Fin 2 → Nat :=
  let c0_i32_211 : BitVec 32 := 0#32
  let v501 : BitVec 32 := Scalar.maxsi v404 c0_i32_211
  let v519 : Index := Scalar.indexCast v501
  let c32_220 : Index := 32#32
  ![v519.toNat, 32]
def k0_off996 (v404 : BitVec 32) : Fin 2 → Nat :=
  let c0_i32_211 : BitVec 32 := 0#32
  let v501 : BitVec 32 := Scalar.maxsi v404 c0_i32_211
  let v526 : Index := Scalar.indexCast v501
  let c48_223 : Index := 48#32
  ![v526.toNat, 48]
def k0_off997 (v404 : BitVec 32) : Fin 2 → Nat :=
  let c0_i32_211 : BitVec 32 := 0#32
  let v501 : BitVec 32 := Scalar.maxsi v404 c0_i32_211
  let v533 : Index := Scalar.indexCast v501
  let c64_226 : Index := 64#32
  ![v533.toNat, 64]
def k0_off998 (v404 : BitVec 32) : Fin 2 → Nat :=
  let c0_i32_211 : BitVec 32 := 0#32
  let v501 : BitVec 32 := Scalar.maxsi v404 c0_i32_211
  let v540 : Index := Scalar.indexCast v501
  let c80_229 : Index := 80#32
  ![v540.toNat, 80]
def k0_off999 (v404 : BitVec 32) : Fin 2 → Nat :=
  let c0_i32_211 : BitVec 32 := 0#32
  let v501 : BitVec 32 := Scalar.maxsi v404 c0_i32_211
  let v547 : Index := Scalar.indexCast v501
  let c96_232 : Index := 96#32
  ![v547.toNat, 96]
def k0_off1000 (v404 : BitVec 32) : Fin 2 → Nat :=
  let c0_i32_211 : BitVec 32 := 0#32
  let v501 : BitVec 32 := Scalar.maxsi v404 c0_i32_211
  let v554 : Index := Scalar.indexCast v501
  let c112_235 : Index := 112#32
  ![v554.toNat, 112]
def k0_off1001 (v404 : BitVec 32) : Fin 1 → Nat :=
  let c0_i32_211 : BitVec 32 := 0#32
  let v501 : BitVec 32 := Scalar.maxsi v404 c0_i32_211
  let c16_i32_238 : BitVec 32 := 16#32
  let v561 : BitVec 32 := Scalar.muli v501 c16_i32_238
  let v562 : Index := Scalar.indexCast v561
  ![v562.toNat]

def k0_chk39 (v327 : BitVec 32) (v329 : BitVec 32) (v332 : BitVec 32) (v402 : BitVec 32) (v404 : BitVec 32) : Prop :=
  (∀ (k0_h70 : k0_cond70 v327 v329 v332 = 1#1), ∀ (k0_h83 : k0_cond83 v402 v404 = 1#1), ∀ a, (k0_off993 v404) a + S1x16.size a ≤ S512x128.size a) ∧
  (∀ (k0_h70 : k0_cond70 v327 v329 v332 = 1#1), ∀ (k0_h83 : k0_cond83 v402 v404 = 1#1), ∀ a, (k0_off994 v404) a + S1x16.size a ≤ S512x128.size a) ∧
  (∀ (k0_h70 : k0_cond70 v327 v329 v332 = 1#1), ∀ (k0_h83 : k0_cond83 v402 v404 = 1#1), ∀ a, (k0_off995 v404) a + S1x16.size a ≤ S512x128.size a) ∧
  (∀ (k0_h70 : k0_cond70 v327 v329 v332 = 1#1), ∀ (k0_h83 : k0_cond83 v402 v404 = 1#1), ∀ a, (k0_off996 v404) a + S1x16.size a ≤ S512x128.size a) ∧
  (∀ (k0_h70 : k0_cond70 v327 v329 v332 = 1#1), ∀ (k0_h83 : k0_cond83 v402 v404 = 1#1), ∀ a, (k0_off997 v404) a + S1x16.size a ≤ S512x128.size a) ∧
  (∀ (k0_h70 : k0_cond70 v327 v329 v332 = 1#1), ∀ (k0_h83 : k0_cond83 v402 v404 = 1#1), ∀ a, (k0_off998 v404) a + S1x16.size a ≤ S512x128.size a) ∧
  (∀ (k0_h70 : k0_cond70 v327 v329 v332 = 1#1), ∀ (k0_h83 : k0_cond83 v402 v404 = 1#1), ∀ a, (k0_off999 v404) a + S1x16.size a ≤ S512x128.size a) ∧
  (∀ (k0_h70 : k0_cond70 v327 v329 v332 = 1#1), ∀ (k0_h83 : k0_cond83 v402 v404 = 1#1), ∀ a, (k0_off1000 v404) a + S1x16.size a ≤ S512x128.size a) ∧
  (∀ (k0_h70 : k0_cond70 v327 v329 v332 = 1#1), ∀ (k0_h83 : k0_cond83 v402 v404 = 1#1), ∀ a, (k0_off1001 v404) a + S16.size a ≤ S8192.size a)
theorem k0_off993_inb : ∀ (v327 : BitVec 32) (v329 : BitVec 32) (v332 : BitVec 32) (v402 : BitVec 32) (v404 : BitVec 32) (k0_hw39 : k0_chk39 v327 v329 v332 v402 v404), ∀ (k0_h70 : k0_cond70 v327 v329 v332 = 1#1), ∀ (k0_h83 : k0_cond83 v402 v404 = 1#1), ∀ a, (k0_off993 v404) a + S1x16.size a ≤ S512x128.size a := fun v327 v329 v332 v402 v404 k0_hw39 k0_h70 k0_h83 => k0_hw39.1 k0_h70 k0_h83
theorem k0_off994_inb : ∀ (v327 : BitVec 32) (v329 : BitVec 32) (v332 : BitVec 32) (v402 : BitVec 32) (v404 : BitVec 32) (k0_hw39 : k0_chk39 v327 v329 v332 v402 v404), ∀ (k0_h70 : k0_cond70 v327 v329 v332 = 1#1), ∀ (k0_h83 : k0_cond83 v402 v404 = 1#1), ∀ a, (k0_off994 v404) a + S1x16.size a ≤ S512x128.size a := fun v327 v329 v332 v402 v404 k0_hw39 k0_h70 k0_h83 => k0_hw39.2.1 k0_h70 k0_h83
theorem k0_off995_inb : ∀ (v327 : BitVec 32) (v329 : BitVec 32) (v332 : BitVec 32) (v402 : BitVec 32) (v404 : BitVec 32) (k0_hw39 : k0_chk39 v327 v329 v332 v402 v404), ∀ (k0_h70 : k0_cond70 v327 v329 v332 = 1#1), ∀ (k0_h83 : k0_cond83 v402 v404 = 1#1), ∀ a, (k0_off995 v404) a + S1x16.size a ≤ S512x128.size a := fun v327 v329 v332 v402 v404 k0_hw39 k0_h70 k0_h83 => k0_hw39.2.2.1 k0_h70 k0_h83
theorem k0_off996_inb : ∀ (v327 : BitVec 32) (v329 : BitVec 32) (v332 : BitVec 32) (v402 : BitVec 32) (v404 : BitVec 32) (k0_hw39 : k0_chk39 v327 v329 v332 v402 v404), ∀ (k0_h70 : k0_cond70 v327 v329 v332 = 1#1), ∀ (k0_h83 : k0_cond83 v402 v404 = 1#1), ∀ a, (k0_off996 v404) a + S1x16.size a ≤ S512x128.size a := fun v327 v329 v332 v402 v404 k0_hw39 k0_h70 k0_h83 => k0_hw39.2.2.2.1 k0_h70 k0_h83
theorem k0_off997_inb : ∀ (v327 : BitVec 32) (v329 : BitVec 32) (v332 : BitVec 32) (v402 : BitVec 32) (v404 : BitVec 32) (k0_hw39 : k0_chk39 v327 v329 v332 v402 v404), ∀ (k0_h70 : k0_cond70 v327 v329 v332 = 1#1), ∀ (k0_h83 : k0_cond83 v402 v404 = 1#1), ∀ a, (k0_off997 v404) a + S1x16.size a ≤ S512x128.size a := fun v327 v329 v332 v402 v404 k0_hw39 k0_h70 k0_h83 => k0_hw39.2.2.2.2.1 k0_h70 k0_h83
theorem k0_off998_inb : ∀ (v327 : BitVec 32) (v329 : BitVec 32) (v332 : BitVec 32) (v402 : BitVec 32) (v404 : BitVec 32) (k0_hw39 : k0_chk39 v327 v329 v332 v402 v404), ∀ (k0_h70 : k0_cond70 v327 v329 v332 = 1#1), ∀ (k0_h83 : k0_cond83 v402 v404 = 1#1), ∀ a, (k0_off998 v404) a + S1x16.size a ≤ S512x128.size a := fun v327 v329 v332 v402 v404 k0_hw39 k0_h70 k0_h83 => k0_hw39.2.2.2.2.2.1 k0_h70 k0_h83
theorem k0_off999_inb : ∀ (v327 : BitVec 32) (v329 : BitVec 32) (v332 : BitVec 32) (v402 : BitVec 32) (v404 : BitVec 32) (k0_hw39 : k0_chk39 v327 v329 v332 v402 v404), ∀ (k0_h70 : k0_cond70 v327 v329 v332 = 1#1), ∀ (k0_h83 : k0_cond83 v402 v404 = 1#1), ∀ a, (k0_off999 v404) a + S1x16.size a ≤ S512x128.size a := fun v327 v329 v332 v402 v404 k0_hw39 k0_h70 k0_h83 => k0_hw39.2.2.2.2.2.2.1 k0_h70 k0_h83
theorem k0_off1000_inb : ∀ (v327 : BitVec 32) (v329 : BitVec 32) (v332 : BitVec 32) (v402 : BitVec 32) (v404 : BitVec 32) (k0_hw39 : k0_chk39 v327 v329 v332 v402 v404), ∀ (k0_h70 : k0_cond70 v327 v329 v332 = 1#1), ∀ (k0_h83 : k0_cond83 v402 v404 = 1#1), ∀ a, (k0_off1000 v404) a + S1x16.size a ≤ S512x128.size a := fun v327 v329 v332 v402 v404 k0_hw39 k0_h70 k0_h83 => k0_hw39.2.2.2.2.2.2.2.1 k0_h70 k0_h83
theorem k0_off1001_inb : ∀ (v327 : BitVec 32) (v329 : BitVec 32) (v332 : BitVec 32) (v402 : BitVec 32) (v404 : BitVec 32) (k0_hw39 : k0_chk39 v327 v329 v332 v402 v404), ∀ (k0_h70 : k0_cond70 v327 v329 v332 = 1#1), ∀ (k0_h83 : k0_cond83 v402 v404 = 1#1), ∀ a, (k0_off1001 v404) a + S16.size a ≤ S8192.size a := fun v327 v329 v332 v402 v404 k0_hw39 k0_h70 k0_h83 => k0_hw39.2.2.2.2.2.2.2.2 k0_h70 k0_h83

def k0_off1002 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c6_i32_239 : BitVec 32 := 6#32
  let v566 : BitVec 32 := Scalar.addi v330 c6_i32_239
  let v567 : Index := Scalar.indexCast v566
  let c0_240 : Index := 0#32
  ![v567.toNat, 0]
def k0_off1003 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c6_i32_243 : BitVec 32 := 6#32
  let v574 : BitVec 32 := Scalar.addi v330 c6_i32_243
  let v575 : Index := Scalar.indexCast v574
  let c16_244 : Index := 16#32
  ![v575.toNat, 16]
def k0_off1004 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c6_i32_247 : BitVec 32 := 6#32
  let v582 : BitVec 32 := Scalar.addi v330 c6_i32_247
  let v583 : Index := Scalar.indexCast v582
  let c32_248 : Index := 32#32
  ![v583.toNat, 32]
def k0_off1005 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c6_i32_251 : BitVec 32 := 6#32
  let v590 : BitVec 32 := Scalar.addi v330 c6_i32_251
  let v591 : Index := Scalar.indexCast v590
  let c48_252 : Index := 48#32
  ![v591.toNat, 48]
def k0_off1006 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c6_i32_255 : BitVec 32 := 6#32
  let v598 : BitVec 32 := Scalar.addi v330 c6_i32_255
  let v599 : Index := Scalar.indexCast v598
  let c64_256 : Index := 64#32
  ![v599.toNat, 64]
def k0_off1007 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c6_i32_259 : BitVec 32 := 6#32
  let v606 : BitVec 32 := Scalar.addi v330 c6_i32_259
  let v607 : Index := Scalar.indexCast v606
  let c80_260 : Index := 80#32
  ![v607.toNat, 80]
def k0_off1008 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c6_i32_263 : BitVec 32 := 6#32
  let v614 : BitVec 32 := Scalar.addi v330 c6_i32_263
  let v615 : Index := Scalar.indexCast v614
  let c96_264 : Index := 96#32
  ![v615.toNat, 96]
def k0_off1009 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c6_i32_267 : BitVec 32 := 6#32
  let v622 : BitVec 32 := Scalar.addi v330 c6_i32_267
  let v623 : Index := Scalar.indexCast v622
  let c112_268 : Index := 112#32
  ![v623.toNat, 112]
def k0_off1010 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c6_i32_213 : BitVec 32 := 6#32
  let v504 : BitVec 32 := Scalar.addi v330 c6_i32_213
  let v505 : Index := Scalar.indexCast v504
  let c0_214 : Index := 0#32
  ![v505.toNat, 0]
def k0_off1011 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c6_i32_219 : BitVec 32 := 6#32
  let v516 : BitVec 32 := Scalar.addi v330 c6_i32_219
  let v517 : Index := Scalar.indexCast v516
  let c16_220 : Index := 16#32
  ![v517.toNat, 16]
def k0_off1012 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c6_i32_225 : BitVec 32 := 6#32
  let v528 : BitVec 32 := Scalar.addi v330 c6_i32_225
  let v529 : Index := Scalar.indexCast v528
  let c32_226 : Index := 32#32
  ![v529.toNat, 32]
def k0_off1013 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c6_i32_231 : BitVec 32 := 6#32
  let v540 : BitVec 32 := Scalar.addi v330 c6_i32_231
  let v541 : Index := Scalar.indexCast v540
  let c48_232 : Index := 48#32
  ![v541.toNat, 48]
def k0_off1014 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c6_i32_237 : BitVec 32 := 6#32
  let v552 : BitVec 32 := Scalar.addi v330 c6_i32_237
  let v553 : Index := Scalar.indexCast v552
  let c64_238 : Index := 64#32
  ![v553.toNat, 64]
def k0_off1015 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c6_i32_243 : BitVec 32 := 6#32
  let v564 : BitVec 32 := Scalar.addi v330 c6_i32_243
  let v565 : Index := Scalar.indexCast v564
  let c80_244 : Index := 80#32
  ![v565.toNat, 80]
def k0_off1016 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c6_i32_249 : BitVec 32 := 6#32
  let v576 : BitVec 32 := Scalar.addi v330 c6_i32_249
  let v577 : Index := Scalar.indexCast v576
  let c96_250 : Index := 96#32
  ![v577.toNat, 96]
def k0_off1017 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c6_i32_255 : BitVec 32 := 6#32
  let v588 : BitVec 32 := Scalar.addi v330 c6_i32_255
  let v589 : Index := Scalar.indexCast v588
  let c112_256 : Index := 112#32
  ![v589.toNat, 112]
def k0_off1018 (v414 : BitVec 32) : Fin 2 → Nat :=
  let c0_i32_211 : BitVec 32 := 0#32
  let v501 : BitVec 32 := Scalar.maxsi v414 c0_i32_211
  let v505 : Index := Scalar.indexCast v501
  let c0_214 : Index := 0#32
  ![v505.toNat, 0]
def k0_cond85 (v412 : BitVec 32) (v414 : BitVec 32) : BitVec 1 :=
  let v415 : BitVec 1 := Scalar.cmpi .ne v412 v414
  let v416 : BitVec 32 := Scalar.extui v415
  let c0_i32_185 : BitVec 32 := 0#32
  let v417 : BitVec 1 := Scalar.cmpi .ne v416 c0_i32_185
  v417

def k0_off1019 (v414 : BitVec 32) : Fin 2 → Nat :=
  let c0_i32_211 : BitVec 32 := 0#32
  let v501 : BitVec 32 := Scalar.maxsi v414 c0_i32_211
  let v512 : Index := Scalar.indexCast v501
  let c16_217 : Index := 16#32
  ![v512.toNat, 16]
def k0_off1020 (v414 : BitVec 32) : Fin 2 → Nat :=
  let c0_i32_211 : BitVec 32 := 0#32
  let v501 : BitVec 32 := Scalar.maxsi v414 c0_i32_211
  let v519 : Index := Scalar.indexCast v501
  let c32_220 : Index := 32#32
  ![v519.toNat, 32]
def k0_off1021 (v414 : BitVec 32) : Fin 2 → Nat :=
  let c0_i32_211 : BitVec 32 := 0#32
  let v501 : BitVec 32 := Scalar.maxsi v414 c0_i32_211
  let v526 : Index := Scalar.indexCast v501
  let c48_223 : Index := 48#32
  ![v526.toNat, 48]
def k0_off1022 (v414 : BitVec 32) : Fin 2 → Nat :=
  let c0_i32_211 : BitVec 32 := 0#32
  let v501 : BitVec 32 := Scalar.maxsi v414 c0_i32_211
  let v533 : Index := Scalar.indexCast v501
  let c64_226 : Index := 64#32
  ![v533.toNat, 64]
def k0_off1023 (v414 : BitVec 32) : Fin 2 → Nat :=
  let c0_i32_211 : BitVec 32 := 0#32
  let v501 : BitVec 32 := Scalar.maxsi v414 c0_i32_211
  let v540 : Index := Scalar.indexCast v501
  let c80_229 : Index := 80#32
  ![v540.toNat, 80]
def k0_off1024 (v414 : BitVec 32) : Fin 2 → Nat :=
  let c0_i32_211 : BitVec 32 := 0#32
  let v501 : BitVec 32 := Scalar.maxsi v414 c0_i32_211
  let v547 : Index := Scalar.indexCast v501
  let c96_232 : Index := 96#32
  ![v547.toNat, 96]
def k0_off1025 (v414 : BitVec 32) : Fin 2 → Nat :=
  let c0_i32_211 : BitVec 32 := 0#32
  let v501 : BitVec 32 := Scalar.maxsi v414 c0_i32_211
  let v554 : Index := Scalar.indexCast v501
  let c112_235 : Index := 112#32
  ![v554.toNat, 112]
def k0_off1026 (v414 : BitVec 32) : Fin 1 → Nat :=
  let c0_i32_211 : BitVec 32 := 0#32
  let v501 : BitVec 32 := Scalar.maxsi v414 c0_i32_211
  let c16_i32_238 : BitVec 32 := 16#32
  let v561 : BitVec 32 := Scalar.muli v501 c16_i32_238
  let v562 : Index := Scalar.indexCast v561
  ![v562.toNat]

def k0_chk40 (v327 : BitVec 32) (v329 : BitVec 32) (v332 : BitVec 32) (v412 : BitVec 32) (v414 : BitVec 32) : Prop :=
  (∀ (k0_h70 : k0_cond70 v327 v329 v332 = 1#1), ∀ (k0_h85 : k0_cond85 v412 v414 = 1#1), ∀ a, (k0_off1018 v414) a + S1x16.size a ≤ S512x128.size a) ∧
  (∀ (k0_h70 : k0_cond70 v327 v329 v332 = 1#1), ∀ (k0_h85 : k0_cond85 v412 v414 = 1#1), ∀ a, (k0_off1019 v414) a + S1x16.size a ≤ S512x128.size a) ∧
  (∀ (k0_h70 : k0_cond70 v327 v329 v332 = 1#1), ∀ (k0_h85 : k0_cond85 v412 v414 = 1#1), ∀ a, (k0_off1020 v414) a + S1x16.size a ≤ S512x128.size a) ∧
  (∀ (k0_h70 : k0_cond70 v327 v329 v332 = 1#1), ∀ (k0_h85 : k0_cond85 v412 v414 = 1#1), ∀ a, (k0_off1021 v414) a + S1x16.size a ≤ S512x128.size a) ∧
  (∀ (k0_h70 : k0_cond70 v327 v329 v332 = 1#1), ∀ (k0_h85 : k0_cond85 v412 v414 = 1#1), ∀ a, (k0_off1022 v414) a + S1x16.size a ≤ S512x128.size a) ∧
  (∀ (k0_h70 : k0_cond70 v327 v329 v332 = 1#1), ∀ (k0_h85 : k0_cond85 v412 v414 = 1#1), ∀ a, (k0_off1023 v414) a + S1x16.size a ≤ S512x128.size a) ∧
  (∀ (k0_h70 : k0_cond70 v327 v329 v332 = 1#1), ∀ (k0_h85 : k0_cond85 v412 v414 = 1#1), ∀ a, (k0_off1024 v414) a + S1x16.size a ≤ S512x128.size a) ∧
  (∀ (k0_h70 : k0_cond70 v327 v329 v332 = 1#1), ∀ (k0_h85 : k0_cond85 v412 v414 = 1#1), ∀ a, (k0_off1025 v414) a + S1x16.size a ≤ S512x128.size a) ∧
  (∀ (k0_h70 : k0_cond70 v327 v329 v332 = 1#1), ∀ (k0_h85 : k0_cond85 v412 v414 = 1#1), ∀ a, (k0_off1026 v414) a + S16.size a ≤ S8192.size a)
theorem k0_off1018_inb : ∀ (v327 : BitVec 32) (v329 : BitVec 32) (v332 : BitVec 32) (v412 : BitVec 32) (v414 : BitVec 32) (k0_hw40 : k0_chk40 v327 v329 v332 v412 v414), ∀ (k0_h70 : k0_cond70 v327 v329 v332 = 1#1), ∀ (k0_h85 : k0_cond85 v412 v414 = 1#1), ∀ a, (k0_off1018 v414) a + S1x16.size a ≤ S512x128.size a := fun v327 v329 v332 v412 v414 k0_hw40 k0_h70 k0_h85 => k0_hw40.1 k0_h70 k0_h85
theorem k0_off1019_inb : ∀ (v327 : BitVec 32) (v329 : BitVec 32) (v332 : BitVec 32) (v412 : BitVec 32) (v414 : BitVec 32) (k0_hw40 : k0_chk40 v327 v329 v332 v412 v414), ∀ (k0_h70 : k0_cond70 v327 v329 v332 = 1#1), ∀ (k0_h85 : k0_cond85 v412 v414 = 1#1), ∀ a, (k0_off1019 v414) a + S1x16.size a ≤ S512x128.size a := fun v327 v329 v332 v412 v414 k0_hw40 k0_h70 k0_h85 => k0_hw40.2.1 k0_h70 k0_h85
theorem k0_off1020_inb : ∀ (v327 : BitVec 32) (v329 : BitVec 32) (v332 : BitVec 32) (v412 : BitVec 32) (v414 : BitVec 32) (k0_hw40 : k0_chk40 v327 v329 v332 v412 v414), ∀ (k0_h70 : k0_cond70 v327 v329 v332 = 1#1), ∀ (k0_h85 : k0_cond85 v412 v414 = 1#1), ∀ a, (k0_off1020 v414) a + S1x16.size a ≤ S512x128.size a := fun v327 v329 v332 v412 v414 k0_hw40 k0_h70 k0_h85 => k0_hw40.2.2.1 k0_h70 k0_h85
theorem k0_off1021_inb : ∀ (v327 : BitVec 32) (v329 : BitVec 32) (v332 : BitVec 32) (v412 : BitVec 32) (v414 : BitVec 32) (k0_hw40 : k0_chk40 v327 v329 v332 v412 v414), ∀ (k0_h70 : k0_cond70 v327 v329 v332 = 1#1), ∀ (k0_h85 : k0_cond85 v412 v414 = 1#1), ∀ a, (k0_off1021 v414) a + S1x16.size a ≤ S512x128.size a := fun v327 v329 v332 v412 v414 k0_hw40 k0_h70 k0_h85 => k0_hw40.2.2.2.1 k0_h70 k0_h85
theorem k0_off1022_inb : ∀ (v327 : BitVec 32) (v329 : BitVec 32) (v332 : BitVec 32) (v412 : BitVec 32) (v414 : BitVec 32) (k0_hw40 : k0_chk40 v327 v329 v332 v412 v414), ∀ (k0_h70 : k0_cond70 v327 v329 v332 = 1#1), ∀ (k0_h85 : k0_cond85 v412 v414 = 1#1), ∀ a, (k0_off1022 v414) a + S1x16.size a ≤ S512x128.size a := fun v327 v329 v332 v412 v414 k0_hw40 k0_h70 k0_h85 => k0_hw40.2.2.2.2.1 k0_h70 k0_h85
theorem k0_off1023_inb : ∀ (v327 : BitVec 32) (v329 : BitVec 32) (v332 : BitVec 32) (v412 : BitVec 32) (v414 : BitVec 32) (k0_hw40 : k0_chk40 v327 v329 v332 v412 v414), ∀ (k0_h70 : k0_cond70 v327 v329 v332 = 1#1), ∀ (k0_h85 : k0_cond85 v412 v414 = 1#1), ∀ a, (k0_off1023 v414) a + S1x16.size a ≤ S512x128.size a := fun v327 v329 v332 v412 v414 k0_hw40 k0_h70 k0_h85 => k0_hw40.2.2.2.2.2.1 k0_h70 k0_h85
theorem k0_off1024_inb : ∀ (v327 : BitVec 32) (v329 : BitVec 32) (v332 : BitVec 32) (v412 : BitVec 32) (v414 : BitVec 32) (k0_hw40 : k0_chk40 v327 v329 v332 v412 v414), ∀ (k0_h70 : k0_cond70 v327 v329 v332 = 1#1), ∀ (k0_h85 : k0_cond85 v412 v414 = 1#1), ∀ a, (k0_off1024 v414) a + S1x16.size a ≤ S512x128.size a := fun v327 v329 v332 v412 v414 k0_hw40 k0_h70 k0_h85 => k0_hw40.2.2.2.2.2.2.1 k0_h70 k0_h85
theorem k0_off1025_inb : ∀ (v327 : BitVec 32) (v329 : BitVec 32) (v332 : BitVec 32) (v412 : BitVec 32) (v414 : BitVec 32) (k0_hw40 : k0_chk40 v327 v329 v332 v412 v414), ∀ (k0_h70 : k0_cond70 v327 v329 v332 = 1#1), ∀ (k0_h85 : k0_cond85 v412 v414 = 1#1), ∀ a, (k0_off1025 v414) a + S1x16.size a ≤ S512x128.size a := fun v327 v329 v332 v412 v414 k0_hw40 k0_h70 k0_h85 => k0_hw40.2.2.2.2.2.2.2.1 k0_h70 k0_h85
theorem k0_off1026_inb : ∀ (v327 : BitVec 32) (v329 : BitVec 32) (v332 : BitVec 32) (v412 : BitVec 32) (v414 : BitVec 32) (k0_hw40 : k0_chk40 v327 v329 v332 v412 v414), ∀ (k0_h70 : k0_cond70 v327 v329 v332 = 1#1), ∀ (k0_h85 : k0_cond85 v412 v414 = 1#1), ∀ a, (k0_off1026 v414) a + S16.size a ≤ S8192.size a := fun v327 v329 v332 v412 v414 k0_hw40 k0_h70 k0_h85 => k0_hw40.2.2.2.2.2.2.2.2 k0_h70 k0_h85

def k0_off1027 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c7_i32_239 : BitVec 32 := 7#32
  let v566 : BitVec 32 := Scalar.addi v330 c7_i32_239
  let v567 : Index := Scalar.indexCast v566
  let c0_240 : Index := 0#32
  ![v567.toNat, 0]
def k0_off1028 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c7_i32_243 : BitVec 32 := 7#32
  let v574 : BitVec 32 := Scalar.addi v330 c7_i32_243
  let v575 : Index := Scalar.indexCast v574
  let c16_244 : Index := 16#32
  ![v575.toNat, 16]
def k0_off1029 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c7_i32_247 : BitVec 32 := 7#32
  let v582 : BitVec 32 := Scalar.addi v330 c7_i32_247
  let v583 : Index := Scalar.indexCast v582
  let c32_248 : Index := 32#32
  ![v583.toNat, 32]
def k0_off1030 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c7_i32_251 : BitVec 32 := 7#32
  let v590 : BitVec 32 := Scalar.addi v330 c7_i32_251
  let v591 : Index := Scalar.indexCast v590
  let c48_252 : Index := 48#32
  ![v591.toNat, 48]
def k0_off1031 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c7_i32_255 : BitVec 32 := 7#32
  let v598 : BitVec 32 := Scalar.addi v330 c7_i32_255
  let v599 : Index := Scalar.indexCast v598
  let c64_256 : Index := 64#32
  ![v599.toNat, 64]
def k0_off1032 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c7_i32_259 : BitVec 32 := 7#32
  let v606 : BitVec 32 := Scalar.addi v330 c7_i32_259
  let v607 : Index := Scalar.indexCast v606
  let c80_260 : Index := 80#32
  ![v607.toNat, 80]
def k0_off1033 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c7_i32_263 : BitVec 32 := 7#32
  let v614 : BitVec 32 := Scalar.addi v330 c7_i32_263
  let v615 : Index := Scalar.indexCast v614
  let c96_264 : Index := 96#32
  ![v615.toNat, 96]
def k0_off1034 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c7_i32_267 : BitVec 32 := 7#32
  let v622 : BitVec 32 := Scalar.addi v330 c7_i32_267
  let v623 : Index := Scalar.indexCast v622
  let c112_268 : Index := 112#32
  ![v623.toNat, 112]
def k0_off1035 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c7_i32_213 : BitVec 32 := 7#32
  let v504 : BitVec 32 := Scalar.addi v330 c7_i32_213
  let v505 : Index := Scalar.indexCast v504
  let c0_214 : Index := 0#32
  ![v505.toNat, 0]
def k0_off1036 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c7_i32_219 : BitVec 32 := 7#32
  let v516 : BitVec 32 := Scalar.addi v330 c7_i32_219
  let v517 : Index := Scalar.indexCast v516
  let c16_220 : Index := 16#32
  ![v517.toNat, 16]
def k0_off1037 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c7_i32_225 : BitVec 32 := 7#32
  let v528 : BitVec 32 := Scalar.addi v330 c7_i32_225
  let v529 : Index := Scalar.indexCast v528
  let c32_226 : Index := 32#32
  ![v529.toNat, 32]
def k0_off1038 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c7_i32_231 : BitVec 32 := 7#32
  let v540 : BitVec 32 := Scalar.addi v330 c7_i32_231
  let v541 : Index := Scalar.indexCast v540
  let c48_232 : Index := 48#32
  ![v541.toNat, 48]
def k0_off1039 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c7_i32_237 : BitVec 32 := 7#32
  let v552 : BitVec 32 := Scalar.addi v330 c7_i32_237
  let v553 : Index := Scalar.indexCast v552
  let c64_238 : Index := 64#32
  ![v553.toNat, 64]
def k0_off1040 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c7_i32_243 : BitVec 32 := 7#32
  let v564 : BitVec 32 := Scalar.addi v330 c7_i32_243
  let v565 : Index := Scalar.indexCast v564
  let c80_244 : Index := 80#32
  ![v565.toNat, 80]
def k0_off1041 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c7_i32_249 : BitVec 32 := 7#32
  let v576 : BitVec 32 := Scalar.addi v330 c7_i32_249
  let v577 : Index := Scalar.indexCast v576
  let c96_250 : Index := 96#32
  ![v577.toNat, 96]
def k0_off1042 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c7_i32_255 : BitVec 32 := 7#32
  let v588 : BitVec 32 := Scalar.addi v330 c7_i32_255
  let v589 : Index := Scalar.indexCast v588
  let c112_256 : Index := 112#32
  ![v589.toNat, 112]
def k0_off1043 (v424 : BitVec 32) : Fin 2 → Nat :=
  let c0_i32_211 : BitVec 32 := 0#32
  let v501 : BitVec 32 := Scalar.maxsi v424 c0_i32_211
  let v505 : Index := Scalar.indexCast v501
  let c0_214 : Index := 0#32
  ![v505.toNat, 0]
def k0_cond87 (v422 : BitVec 32) (v424 : BitVec 32) : BitVec 1 :=
  let v425 : BitVec 1 := Scalar.cmpi .ne v422 v424
  let v426 : BitVec 32 := Scalar.extui v425
  let c0_i32_188 : BitVec 32 := 0#32
  let v427 : BitVec 1 := Scalar.cmpi .ne v426 c0_i32_188
  v427

def k0_off1044 (v424 : BitVec 32) : Fin 2 → Nat :=
  let c0_i32_211 : BitVec 32 := 0#32
  let v501 : BitVec 32 := Scalar.maxsi v424 c0_i32_211
  let v512 : Index := Scalar.indexCast v501
  let c16_217 : Index := 16#32
  ![v512.toNat, 16]
def k0_off1045 (v424 : BitVec 32) : Fin 2 → Nat :=
  let c0_i32_211 : BitVec 32 := 0#32
  let v501 : BitVec 32 := Scalar.maxsi v424 c0_i32_211
  let v519 : Index := Scalar.indexCast v501
  let c32_220 : Index := 32#32
  ![v519.toNat, 32]
def k0_off1046 (v424 : BitVec 32) : Fin 2 → Nat :=
  let c0_i32_211 : BitVec 32 := 0#32
  let v501 : BitVec 32 := Scalar.maxsi v424 c0_i32_211
  let v526 : Index := Scalar.indexCast v501
  let c48_223 : Index := 48#32
  ![v526.toNat, 48]
def k0_off1047 (v424 : BitVec 32) : Fin 2 → Nat :=
  let c0_i32_211 : BitVec 32 := 0#32
  let v501 : BitVec 32 := Scalar.maxsi v424 c0_i32_211
  let v533 : Index := Scalar.indexCast v501
  let c64_226 : Index := 64#32
  ![v533.toNat, 64]
def k0_off1048 (v424 : BitVec 32) : Fin 2 → Nat :=
  let c0_i32_211 : BitVec 32 := 0#32
  let v501 : BitVec 32 := Scalar.maxsi v424 c0_i32_211
  let v540 : Index := Scalar.indexCast v501
  let c80_229 : Index := 80#32
  ![v540.toNat, 80]
def k0_off1049 (v424 : BitVec 32) : Fin 2 → Nat :=
  let c0_i32_211 : BitVec 32 := 0#32
  let v501 : BitVec 32 := Scalar.maxsi v424 c0_i32_211
  let v547 : Index := Scalar.indexCast v501
  let c96_232 : Index := 96#32
  ![v547.toNat, 96]
def k0_off1050 (v424 : BitVec 32) : Fin 2 → Nat :=
  let c0_i32_211 : BitVec 32 := 0#32
  let v501 : BitVec 32 := Scalar.maxsi v424 c0_i32_211
  let v554 : Index := Scalar.indexCast v501
  let c112_235 : Index := 112#32
  ![v554.toNat, 112]
def k0_off1051 (v424 : BitVec 32) : Fin 1 → Nat :=
  let c0_i32_211 : BitVec 32 := 0#32
  let v501 : BitVec 32 := Scalar.maxsi v424 c0_i32_211
  let c16_i32_238 : BitVec 32 := 16#32
  let v561 : BitVec 32 := Scalar.muli v501 c16_i32_238
  let v562 : Index := Scalar.indexCast v561
  ![v562.toNat]

def k0_chk41 (v327 : BitVec 32) (v329 : BitVec 32) (v332 : BitVec 32) (v422 : BitVec 32) (v424 : BitVec 32) : Prop :=
  (∀ (k0_h70 : k0_cond70 v327 v329 v332 = 1#1), ∀ (k0_h87 : k0_cond87 v422 v424 = 1#1), ∀ a, (k0_off1043 v424) a + S1x16.size a ≤ S512x128.size a) ∧
  (∀ (k0_h70 : k0_cond70 v327 v329 v332 = 1#1), ∀ (k0_h87 : k0_cond87 v422 v424 = 1#1), ∀ a, (k0_off1044 v424) a + S1x16.size a ≤ S512x128.size a) ∧
  (∀ (k0_h70 : k0_cond70 v327 v329 v332 = 1#1), ∀ (k0_h87 : k0_cond87 v422 v424 = 1#1), ∀ a, (k0_off1045 v424) a + S1x16.size a ≤ S512x128.size a) ∧
  (∀ (k0_h70 : k0_cond70 v327 v329 v332 = 1#1), ∀ (k0_h87 : k0_cond87 v422 v424 = 1#1), ∀ a, (k0_off1046 v424) a + S1x16.size a ≤ S512x128.size a) ∧
  (∀ (k0_h70 : k0_cond70 v327 v329 v332 = 1#1), ∀ (k0_h87 : k0_cond87 v422 v424 = 1#1), ∀ a, (k0_off1047 v424) a + S1x16.size a ≤ S512x128.size a) ∧
  (∀ (k0_h70 : k0_cond70 v327 v329 v332 = 1#1), ∀ (k0_h87 : k0_cond87 v422 v424 = 1#1), ∀ a, (k0_off1048 v424) a + S1x16.size a ≤ S512x128.size a) ∧
  (∀ (k0_h70 : k0_cond70 v327 v329 v332 = 1#1), ∀ (k0_h87 : k0_cond87 v422 v424 = 1#1), ∀ a, (k0_off1049 v424) a + S1x16.size a ≤ S512x128.size a) ∧
  (∀ (k0_h70 : k0_cond70 v327 v329 v332 = 1#1), ∀ (k0_h87 : k0_cond87 v422 v424 = 1#1), ∀ a, (k0_off1050 v424) a + S1x16.size a ≤ S512x128.size a) ∧
  (∀ (k0_h70 : k0_cond70 v327 v329 v332 = 1#1), ∀ (k0_h87 : k0_cond87 v422 v424 = 1#1), ∀ a, (k0_off1051 v424) a + S16.size a ≤ S8192.size a)
theorem k0_off1043_inb : ∀ (v327 : BitVec 32) (v329 : BitVec 32) (v332 : BitVec 32) (v422 : BitVec 32) (v424 : BitVec 32) (k0_hw41 : k0_chk41 v327 v329 v332 v422 v424), ∀ (k0_h70 : k0_cond70 v327 v329 v332 = 1#1), ∀ (k0_h87 : k0_cond87 v422 v424 = 1#1), ∀ a, (k0_off1043 v424) a + S1x16.size a ≤ S512x128.size a := fun v327 v329 v332 v422 v424 k0_hw41 k0_h70 k0_h87 => k0_hw41.1 k0_h70 k0_h87
theorem k0_off1044_inb : ∀ (v327 : BitVec 32) (v329 : BitVec 32) (v332 : BitVec 32) (v422 : BitVec 32) (v424 : BitVec 32) (k0_hw41 : k0_chk41 v327 v329 v332 v422 v424), ∀ (k0_h70 : k0_cond70 v327 v329 v332 = 1#1), ∀ (k0_h87 : k0_cond87 v422 v424 = 1#1), ∀ a, (k0_off1044 v424) a + S1x16.size a ≤ S512x128.size a := fun v327 v329 v332 v422 v424 k0_hw41 k0_h70 k0_h87 => k0_hw41.2.1 k0_h70 k0_h87
theorem k0_off1045_inb : ∀ (v327 : BitVec 32) (v329 : BitVec 32) (v332 : BitVec 32) (v422 : BitVec 32) (v424 : BitVec 32) (k0_hw41 : k0_chk41 v327 v329 v332 v422 v424), ∀ (k0_h70 : k0_cond70 v327 v329 v332 = 1#1), ∀ (k0_h87 : k0_cond87 v422 v424 = 1#1), ∀ a, (k0_off1045 v424) a + S1x16.size a ≤ S512x128.size a := fun v327 v329 v332 v422 v424 k0_hw41 k0_h70 k0_h87 => k0_hw41.2.2.1 k0_h70 k0_h87
theorem k0_off1046_inb : ∀ (v327 : BitVec 32) (v329 : BitVec 32) (v332 : BitVec 32) (v422 : BitVec 32) (v424 : BitVec 32) (k0_hw41 : k0_chk41 v327 v329 v332 v422 v424), ∀ (k0_h70 : k0_cond70 v327 v329 v332 = 1#1), ∀ (k0_h87 : k0_cond87 v422 v424 = 1#1), ∀ a, (k0_off1046 v424) a + S1x16.size a ≤ S512x128.size a := fun v327 v329 v332 v422 v424 k0_hw41 k0_h70 k0_h87 => k0_hw41.2.2.2.1 k0_h70 k0_h87
theorem k0_off1047_inb : ∀ (v327 : BitVec 32) (v329 : BitVec 32) (v332 : BitVec 32) (v422 : BitVec 32) (v424 : BitVec 32) (k0_hw41 : k0_chk41 v327 v329 v332 v422 v424), ∀ (k0_h70 : k0_cond70 v327 v329 v332 = 1#1), ∀ (k0_h87 : k0_cond87 v422 v424 = 1#1), ∀ a, (k0_off1047 v424) a + S1x16.size a ≤ S512x128.size a := fun v327 v329 v332 v422 v424 k0_hw41 k0_h70 k0_h87 => k0_hw41.2.2.2.2.1 k0_h70 k0_h87
theorem k0_off1048_inb : ∀ (v327 : BitVec 32) (v329 : BitVec 32) (v332 : BitVec 32) (v422 : BitVec 32) (v424 : BitVec 32) (k0_hw41 : k0_chk41 v327 v329 v332 v422 v424), ∀ (k0_h70 : k0_cond70 v327 v329 v332 = 1#1), ∀ (k0_h87 : k0_cond87 v422 v424 = 1#1), ∀ a, (k0_off1048 v424) a + S1x16.size a ≤ S512x128.size a := fun v327 v329 v332 v422 v424 k0_hw41 k0_h70 k0_h87 => k0_hw41.2.2.2.2.2.1 k0_h70 k0_h87
theorem k0_off1049_inb : ∀ (v327 : BitVec 32) (v329 : BitVec 32) (v332 : BitVec 32) (v422 : BitVec 32) (v424 : BitVec 32) (k0_hw41 : k0_chk41 v327 v329 v332 v422 v424), ∀ (k0_h70 : k0_cond70 v327 v329 v332 = 1#1), ∀ (k0_h87 : k0_cond87 v422 v424 = 1#1), ∀ a, (k0_off1049 v424) a + S1x16.size a ≤ S512x128.size a := fun v327 v329 v332 v422 v424 k0_hw41 k0_h70 k0_h87 => k0_hw41.2.2.2.2.2.2.1 k0_h70 k0_h87
theorem k0_off1050_inb : ∀ (v327 : BitVec 32) (v329 : BitVec 32) (v332 : BitVec 32) (v422 : BitVec 32) (v424 : BitVec 32) (k0_hw41 : k0_chk41 v327 v329 v332 v422 v424), ∀ (k0_h70 : k0_cond70 v327 v329 v332 = 1#1), ∀ (k0_h87 : k0_cond87 v422 v424 = 1#1), ∀ a, (k0_off1050 v424) a + S1x16.size a ≤ S512x128.size a := fun v327 v329 v332 v422 v424 k0_hw41 k0_h70 k0_h87 => k0_hw41.2.2.2.2.2.2.2.1 k0_h70 k0_h87
theorem k0_off1051_inb : ∀ (v327 : BitVec 32) (v329 : BitVec 32) (v332 : BitVec 32) (v422 : BitVec 32) (v424 : BitVec 32) (k0_hw41 : k0_chk41 v327 v329 v332 v422 v424), ∀ (k0_h70 : k0_cond70 v327 v329 v332 = 1#1), ∀ (k0_h87 : k0_cond87 v422 v424 = 1#1), ∀ a, (k0_off1051 v424) a + S16.size a ≤ S8192.size a := fun v327 v329 v332 v422 v424 k0_hw41 k0_h70 k0_h87 => k0_hw41.2.2.2.2.2.2.2.2 k0_h70 k0_h87

def k0_off1052 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c8_i32_239 : BitVec 32 := 8#32
  let v566 : BitVec 32 := Scalar.addi v330 c8_i32_239
  let v567 : Index := Scalar.indexCast v566
  let c0_240 : Index := 0#32
  ![v567.toNat, 0]
def k0_off1053 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c8_i32_243 : BitVec 32 := 8#32
  let v574 : BitVec 32 := Scalar.addi v330 c8_i32_243
  let v575 : Index := Scalar.indexCast v574
  let c16_244 : Index := 16#32
  ![v575.toNat, 16]
def k0_off1054 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c8_i32_247 : BitVec 32 := 8#32
  let v582 : BitVec 32 := Scalar.addi v330 c8_i32_247
  let v583 : Index := Scalar.indexCast v582
  let c32_248 : Index := 32#32
  ![v583.toNat, 32]
def k0_off1055 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c8_i32_251 : BitVec 32 := 8#32
  let v590 : BitVec 32 := Scalar.addi v330 c8_i32_251
  let v591 : Index := Scalar.indexCast v590
  let c48_252 : Index := 48#32
  ![v591.toNat, 48]
def k0_off1056 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c8_i32_255 : BitVec 32 := 8#32
  let v598 : BitVec 32 := Scalar.addi v330 c8_i32_255
  let v599 : Index := Scalar.indexCast v598
  let c64_256 : Index := 64#32
  ![v599.toNat, 64]
def k0_off1057 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c8_i32_259 : BitVec 32 := 8#32
  let v606 : BitVec 32 := Scalar.addi v330 c8_i32_259
  let v607 : Index := Scalar.indexCast v606
  let c80_260 : Index := 80#32
  ![v607.toNat, 80]
def k0_off1058 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c8_i32_263 : BitVec 32 := 8#32
  let v614 : BitVec 32 := Scalar.addi v330 c8_i32_263
  let v615 : Index := Scalar.indexCast v614
  let c96_264 : Index := 96#32
  ![v615.toNat, 96]
def k0_off1059 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c8_i32_267 : BitVec 32 := 8#32
  let v622 : BitVec 32 := Scalar.addi v330 c8_i32_267
  let v623 : Index := Scalar.indexCast v622
  let c112_268 : Index := 112#32
  ![v623.toNat, 112]
def k0_off1060 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c8_i32_213 : BitVec 32 := 8#32
  let v504 : BitVec 32 := Scalar.addi v330 c8_i32_213
  let v505 : Index := Scalar.indexCast v504
  let c0_214 : Index := 0#32
  ![v505.toNat, 0]
def k0_off1061 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c8_i32_219 : BitVec 32 := 8#32
  let v516 : BitVec 32 := Scalar.addi v330 c8_i32_219
  let v517 : Index := Scalar.indexCast v516
  let c16_220 : Index := 16#32
  ![v517.toNat, 16]
def k0_off1062 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c8_i32_225 : BitVec 32 := 8#32
  let v528 : BitVec 32 := Scalar.addi v330 c8_i32_225
  let v529 : Index := Scalar.indexCast v528
  let c32_226 : Index := 32#32
  ![v529.toNat, 32]
def k0_off1063 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c8_i32_231 : BitVec 32 := 8#32
  let v540 : BitVec 32 := Scalar.addi v330 c8_i32_231
  let v541 : Index := Scalar.indexCast v540
  let c48_232 : Index := 48#32
  ![v541.toNat, 48]
def k0_off1064 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c8_i32_237 : BitVec 32 := 8#32
  let v552 : BitVec 32 := Scalar.addi v330 c8_i32_237
  let v553 : Index := Scalar.indexCast v552
  let c64_238 : Index := 64#32
  ![v553.toNat, 64]
def k0_off1065 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c8_i32_243 : BitVec 32 := 8#32
  let v564 : BitVec 32 := Scalar.addi v330 c8_i32_243
  let v565 : Index := Scalar.indexCast v564
  let c80_244 : Index := 80#32
  ![v565.toNat, 80]
def k0_off1066 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c8_i32_249 : BitVec 32 := 8#32
  let v576 : BitVec 32 := Scalar.addi v330 c8_i32_249
  let v577 : Index := Scalar.indexCast v576
  let c96_250 : Index := 96#32
  ![v577.toNat, 96]
def k0_off1067 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c8_i32_255 : BitVec 32 := 8#32
  let v588 : BitVec 32 := Scalar.addi v330 c8_i32_255
  let v589 : Index := Scalar.indexCast v588
  let c112_256 : Index := 112#32
  ![v589.toNat, 112]
def k0_off1068 (v434 : BitVec 32) : Fin 2 → Nat :=
  let c0_i32_211 : BitVec 32 := 0#32
  let v501 : BitVec 32 := Scalar.maxsi v434 c0_i32_211
  let v505 : Index := Scalar.indexCast v501
  let c0_214 : Index := 0#32
  ![v505.toNat, 0]
def k0_cond89 (v432 : BitVec 32) (v434 : BitVec 32) : BitVec 1 :=
  let v435 : BitVec 1 := Scalar.cmpi .ne v432 v434
  let v436 : BitVec 32 := Scalar.extui v435
  let c0_i32_191 : BitVec 32 := 0#32
  let v437 : BitVec 1 := Scalar.cmpi .ne v436 c0_i32_191
  v437

def k0_off1069 (v434 : BitVec 32) : Fin 2 → Nat :=
  let c0_i32_211 : BitVec 32 := 0#32
  let v501 : BitVec 32 := Scalar.maxsi v434 c0_i32_211
  let v512 : Index := Scalar.indexCast v501
  let c16_217 : Index := 16#32
  ![v512.toNat, 16]
def k0_off1070 (v434 : BitVec 32) : Fin 2 → Nat :=
  let c0_i32_211 : BitVec 32 := 0#32
  let v501 : BitVec 32 := Scalar.maxsi v434 c0_i32_211
  let v519 : Index := Scalar.indexCast v501
  let c32_220 : Index := 32#32
  ![v519.toNat, 32]
def k0_off1071 (v434 : BitVec 32) : Fin 2 → Nat :=
  let c0_i32_211 : BitVec 32 := 0#32
  let v501 : BitVec 32 := Scalar.maxsi v434 c0_i32_211
  let v526 : Index := Scalar.indexCast v501
  let c48_223 : Index := 48#32
  ![v526.toNat, 48]
def k0_off1072 (v434 : BitVec 32) : Fin 2 → Nat :=
  let c0_i32_211 : BitVec 32 := 0#32
  let v501 : BitVec 32 := Scalar.maxsi v434 c0_i32_211
  let v533 : Index := Scalar.indexCast v501
  let c64_226 : Index := 64#32
  ![v533.toNat, 64]
def k0_off1073 (v434 : BitVec 32) : Fin 2 → Nat :=
  let c0_i32_211 : BitVec 32 := 0#32
  let v501 : BitVec 32 := Scalar.maxsi v434 c0_i32_211
  let v540 : Index := Scalar.indexCast v501
  let c80_229 : Index := 80#32
  ![v540.toNat, 80]
def k0_off1074 (v434 : BitVec 32) : Fin 2 → Nat :=
  let c0_i32_211 : BitVec 32 := 0#32
  let v501 : BitVec 32 := Scalar.maxsi v434 c0_i32_211
  let v547 : Index := Scalar.indexCast v501
  let c96_232 : Index := 96#32
  ![v547.toNat, 96]
def k0_off1075 (v434 : BitVec 32) : Fin 2 → Nat :=
  let c0_i32_211 : BitVec 32 := 0#32
  let v501 : BitVec 32 := Scalar.maxsi v434 c0_i32_211
  let v554 : Index := Scalar.indexCast v501
  let c112_235 : Index := 112#32
  ![v554.toNat, 112]
def k0_off1076 (v434 : BitVec 32) : Fin 1 → Nat :=
  let c0_i32_211 : BitVec 32 := 0#32
  let v501 : BitVec 32 := Scalar.maxsi v434 c0_i32_211
  let c16_i32_238 : BitVec 32 := 16#32
  let v561 : BitVec 32 := Scalar.muli v501 c16_i32_238
  let v562 : Index := Scalar.indexCast v561
  ![v562.toNat]

def k0_chk42 (v327 : BitVec 32) (v329 : BitVec 32) (v332 : BitVec 32) (v432 : BitVec 32) (v434 : BitVec 32) : Prop :=
  (∀ (k0_h70 : k0_cond70 v327 v329 v332 = 1#1), ∀ (k0_h89 : k0_cond89 v432 v434 = 1#1), ∀ a, (k0_off1068 v434) a + S1x16.size a ≤ S512x128.size a) ∧
  (∀ (k0_h70 : k0_cond70 v327 v329 v332 = 1#1), ∀ (k0_h89 : k0_cond89 v432 v434 = 1#1), ∀ a, (k0_off1069 v434) a + S1x16.size a ≤ S512x128.size a) ∧
  (∀ (k0_h70 : k0_cond70 v327 v329 v332 = 1#1), ∀ (k0_h89 : k0_cond89 v432 v434 = 1#1), ∀ a, (k0_off1070 v434) a + S1x16.size a ≤ S512x128.size a) ∧
  (∀ (k0_h70 : k0_cond70 v327 v329 v332 = 1#1), ∀ (k0_h89 : k0_cond89 v432 v434 = 1#1), ∀ a, (k0_off1071 v434) a + S1x16.size a ≤ S512x128.size a) ∧
  (∀ (k0_h70 : k0_cond70 v327 v329 v332 = 1#1), ∀ (k0_h89 : k0_cond89 v432 v434 = 1#1), ∀ a, (k0_off1072 v434) a + S1x16.size a ≤ S512x128.size a) ∧
  (∀ (k0_h70 : k0_cond70 v327 v329 v332 = 1#1), ∀ (k0_h89 : k0_cond89 v432 v434 = 1#1), ∀ a, (k0_off1073 v434) a + S1x16.size a ≤ S512x128.size a) ∧
  (∀ (k0_h70 : k0_cond70 v327 v329 v332 = 1#1), ∀ (k0_h89 : k0_cond89 v432 v434 = 1#1), ∀ a, (k0_off1074 v434) a + S1x16.size a ≤ S512x128.size a) ∧
  (∀ (k0_h70 : k0_cond70 v327 v329 v332 = 1#1), ∀ (k0_h89 : k0_cond89 v432 v434 = 1#1), ∀ a, (k0_off1075 v434) a + S1x16.size a ≤ S512x128.size a) ∧
  (∀ (k0_h70 : k0_cond70 v327 v329 v332 = 1#1), ∀ (k0_h89 : k0_cond89 v432 v434 = 1#1), ∀ a, (k0_off1076 v434) a + S16.size a ≤ S8192.size a)
theorem k0_off1068_inb : ∀ (v327 : BitVec 32) (v329 : BitVec 32) (v332 : BitVec 32) (v432 : BitVec 32) (v434 : BitVec 32) (k0_hw42 : k0_chk42 v327 v329 v332 v432 v434), ∀ (k0_h70 : k0_cond70 v327 v329 v332 = 1#1), ∀ (k0_h89 : k0_cond89 v432 v434 = 1#1), ∀ a, (k0_off1068 v434) a + S1x16.size a ≤ S512x128.size a := fun v327 v329 v332 v432 v434 k0_hw42 k0_h70 k0_h89 => k0_hw42.1 k0_h70 k0_h89
theorem k0_off1069_inb : ∀ (v327 : BitVec 32) (v329 : BitVec 32) (v332 : BitVec 32) (v432 : BitVec 32) (v434 : BitVec 32) (k0_hw42 : k0_chk42 v327 v329 v332 v432 v434), ∀ (k0_h70 : k0_cond70 v327 v329 v332 = 1#1), ∀ (k0_h89 : k0_cond89 v432 v434 = 1#1), ∀ a, (k0_off1069 v434) a + S1x16.size a ≤ S512x128.size a := fun v327 v329 v332 v432 v434 k0_hw42 k0_h70 k0_h89 => k0_hw42.2.1 k0_h70 k0_h89
theorem k0_off1070_inb : ∀ (v327 : BitVec 32) (v329 : BitVec 32) (v332 : BitVec 32) (v432 : BitVec 32) (v434 : BitVec 32) (k0_hw42 : k0_chk42 v327 v329 v332 v432 v434), ∀ (k0_h70 : k0_cond70 v327 v329 v332 = 1#1), ∀ (k0_h89 : k0_cond89 v432 v434 = 1#1), ∀ a, (k0_off1070 v434) a + S1x16.size a ≤ S512x128.size a := fun v327 v329 v332 v432 v434 k0_hw42 k0_h70 k0_h89 => k0_hw42.2.2.1 k0_h70 k0_h89
theorem k0_off1071_inb : ∀ (v327 : BitVec 32) (v329 : BitVec 32) (v332 : BitVec 32) (v432 : BitVec 32) (v434 : BitVec 32) (k0_hw42 : k0_chk42 v327 v329 v332 v432 v434), ∀ (k0_h70 : k0_cond70 v327 v329 v332 = 1#1), ∀ (k0_h89 : k0_cond89 v432 v434 = 1#1), ∀ a, (k0_off1071 v434) a + S1x16.size a ≤ S512x128.size a := fun v327 v329 v332 v432 v434 k0_hw42 k0_h70 k0_h89 => k0_hw42.2.2.2.1 k0_h70 k0_h89
theorem k0_off1072_inb : ∀ (v327 : BitVec 32) (v329 : BitVec 32) (v332 : BitVec 32) (v432 : BitVec 32) (v434 : BitVec 32) (k0_hw42 : k0_chk42 v327 v329 v332 v432 v434), ∀ (k0_h70 : k0_cond70 v327 v329 v332 = 1#1), ∀ (k0_h89 : k0_cond89 v432 v434 = 1#1), ∀ a, (k0_off1072 v434) a + S1x16.size a ≤ S512x128.size a := fun v327 v329 v332 v432 v434 k0_hw42 k0_h70 k0_h89 => k0_hw42.2.2.2.2.1 k0_h70 k0_h89
theorem k0_off1073_inb : ∀ (v327 : BitVec 32) (v329 : BitVec 32) (v332 : BitVec 32) (v432 : BitVec 32) (v434 : BitVec 32) (k0_hw42 : k0_chk42 v327 v329 v332 v432 v434), ∀ (k0_h70 : k0_cond70 v327 v329 v332 = 1#1), ∀ (k0_h89 : k0_cond89 v432 v434 = 1#1), ∀ a, (k0_off1073 v434) a + S1x16.size a ≤ S512x128.size a := fun v327 v329 v332 v432 v434 k0_hw42 k0_h70 k0_h89 => k0_hw42.2.2.2.2.2.1 k0_h70 k0_h89
theorem k0_off1074_inb : ∀ (v327 : BitVec 32) (v329 : BitVec 32) (v332 : BitVec 32) (v432 : BitVec 32) (v434 : BitVec 32) (k0_hw42 : k0_chk42 v327 v329 v332 v432 v434), ∀ (k0_h70 : k0_cond70 v327 v329 v332 = 1#1), ∀ (k0_h89 : k0_cond89 v432 v434 = 1#1), ∀ a, (k0_off1074 v434) a + S1x16.size a ≤ S512x128.size a := fun v327 v329 v332 v432 v434 k0_hw42 k0_h70 k0_h89 => k0_hw42.2.2.2.2.2.2.1 k0_h70 k0_h89
theorem k0_off1075_inb : ∀ (v327 : BitVec 32) (v329 : BitVec 32) (v332 : BitVec 32) (v432 : BitVec 32) (v434 : BitVec 32) (k0_hw42 : k0_chk42 v327 v329 v332 v432 v434), ∀ (k0_h70 : k0_cond70 v327 v329 v332 = 1#1), ∀ (k0_h89 : k0_cond89 v432 v434 = 1#1), ∀ a, (k0_off1075 v434) a + S1x16.size a ≤ S512x128.size a := fun v327 v329 v332 v432 v434 k0_hw42 k0_h70 k0_h89 => k0_hw42.2.2.2.2.2.2.2.1 k0_h70 k0_h89
theorem k0_off1076_inb : ∀ (v327 : BitVec 32) (v329 : BitVec 32) (v332 : BitVec 32) (v432 : BitVec 32) (v434 : BitVec 32) (k0_hw42 : k0_chk42 v327 v329 v332 v432 v434), ∀ (k0_h70 : k0_cond70 v327 v329 v332 = 1#1), ∀ (k0_h89 : k0_cond89 v432 v434 = 1#1), ∀ a, (k0_off1076 v434) a + S16.size a ≤ S8192.size a := fun v327 v329 v332 v432 v434 k0_hw42 k0_h70 k0_h89 => k0_hw42.2.2.2.2.2.2.2.2 k0_h70 k0_h89

def k0_off1077 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c9_i32 : BitVec 32 := 9#32
  let v566 : BitVec 32 := Scalar.addi v330 c9_i32
  let v567 : Index := Scalar.indexCast v566
  let c0_239 : Index := 0#32
  ![v567.toNat, 0]
def k0_off1078 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c9_i32_242 : BitVec 32 := 9#32
  let v574 : BitVec 32 := Scalar.addi v330 c9_i32_242
  let v575 : Index := Scalar.indexCast v574
  let c16_243 : Index := 16#32
  ![v575.toNat, 16]
def k0_off1079 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c9_i32_246 : BitVec 32 := 9#32
  let v582 : BitVec 32 := Scalar.addi v330 c9_i32_246
  let v583 : Index := Scalar.indexCast v582
  let c32_247 : Index := 32#32
  ![v583.toNat, 32]
def k0_off1080 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c9_i32_250 : BitVec 32 := 9#32
  let v590 : BitVec 32 := Scalar.addi v330 c9_i32_250
  let v591 : Index := Scalar.indexCast v590
  let c48_251 : Index := 48#32
  ![v591.toNat, 48]
def k0_off1081 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c9_i32_254 : BitVec 32 := 9#32
  let v598 : BitVec 32 := Scalar.addi v330 c9_i32_254
  let v599 : Index := Scalar.indexCast v598
  let c64_255 : Index := 64#32
  ![v599.toNat, 64]
def k0_off1082 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c9_i32_258 : BitVec 32 := 9#32
  let v606 : BitVec 32 := Scalar.addi v330 c9_i32_258
  let v607 : Index := Scalar.indexCast v606
  let c80_259 : Index := 80#32
  ![v607.toNat, 80]
def k0_off1083 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c9_i32_262 : BitVec 32 := 9#32
  let v614 : BitVec 32 := Scalar.addi v330 c9_i32_262
  let v615 : Index := Scalar.indexCast v614
  let c96_263 : Index := 96#32
  ![v615.toNat, 96]
def k0_off1084 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c9_i32_266 : BitVec 32 := 9#32
  let v622 : BitVec 32 := Scalar.addi v330 c9_i32_266
  let v623 : Index := Scalar.indexCast v622
  let c112_267 : Index := 112#32
  ![v623.toNat, 112]
def k0_off1085 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c9_i32 : BitVec 32 := 9#32
  let v504 : BitVec 32 := Scalar.addi v330 c9_i32
  let v505 : Index := Scalar.indexCast v504
  let c0_213 : Index := 0#32
  ![v505.toNat, 0]
def k0_off1086 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c9_i32_218 : BitVec 32 := 9#32
  let v516 : BitVec 32 := Scalar.addi v330 c9_i32_218
  let v517 : Index := Scalar.indexCast v516
  let c16_219 : Index := 16#32
  ![v517.toNat, 16]
def k0_off1087 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c9_i32_224 : BitVec 32 := 9#32
  let v528 : BitVec 32 := Scalar.addi v330 c9_i32_224
  let v529 : Index := Scalar.indexCast v528
  let c32_225 : Index := 32#32
  ![v529.toNat, 32]
def k0_off1088 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c9_i32_230 : BitVec 32 := 9#32
  let v540 : BitVec 32 := Scalar.addi v330 c9_i32_230
  let v541 : Index := Scalar.indexCast v540
  let c48_231 : Index := 48#32
  ![v541.toNat, 48]
def k0_off1089 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c9_i32_236 : BitVec 32 := 9#32
  let v552 : BitVec 32 := Scalar.addi v330 c9_i32_236
  let v553 : Index := Scalar.indexCast v552
  let c64_237 : Index := 64#32
  ![v553.toNat, 64]
def k0_off1090 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c9_i32_242 : BitVec 32 := 9#32
  let v564 : BitVec 32 := Scalar.addi v330 c9_i32_242
  let v565 : Index := Scalar.indexCast v564
  let c80_243 : Index := 80#32
  ![v565.toNat, 80]
def k0_off1091 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c9_i32_248 : BitVec 32 := 9#32
  let v576 : BitVec 32 := Scalar.addi v330 c9_i32_248
  let v577 : Index := Scalar.indexCast v576
  let c96_249 : Index := 96#32
  ![v577.toNat, 96]
def k0_off1092 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c9_i32_254 : BitVec 32 := 9#32
  let v588 : BitVec 32 := Scalar.addi v330 c9_i32_254
  let v589 : Index := Scalar.indexCast v588
  let c112_255 : Index := 112#32
  ![v589.toNat, 112]
def k0_off1093 (v444 : BitVec 32) : Fin 2 → Nat :=
  let c0_i32_211 : BitVec 32 := 0#32
  let v501 : BitVec 32 := Scalar.maxsi v444 c0_i32_211
  let v505 : Index := Scalar.indexCast v501
  let c0_214 : Index := 0#32
  ![v505.toNat, 0]
def k0_cond91 (v442 : BitVec 32) (v444 : BitVec 32) : BitVec 1 :=
  let v445 : BitVec 1 := Scalar.cmpi .ne v442 v444
  let v446 : BitVec 32 := Scalar.extui v445
  let c0_i32_194 : BitVec 32 := 0#32
  let v447 : BitVec 1 := Scalar.cmpi .ne v446 c0_i32_194
  v447

def k0_off1094 (v444 : BitVec 32) : Fin 2 → Nat :=
  let c0_i32_211 : BitVec 32 := 0#32
  let v501 : BitVec 32 := Scalar.maxsi v444 c0_i32_211
  let v512 : Index := Scalar.indexCast v501
  let c16_217 : Index := 16#32
  ![v512.toNat, 16]
def k0_off1095 (v444 : BitVec 32) : Fin 2 → Nat :=
  let c0_i32_211 : BitVec 32 := 0#32
  let v501 : BitVec 32 := Scalar.maxsi v444 c0_i32_211
  let v519 : Index := Scalar.indexCast v501
  let c32_220 : Index := 32#32
  ![v519.toNat, 32]
def k0_off1096 (v444 : BitVec 32) : Fin 2 → Nat :=
  let c0_i32_211 : BitVec 32 := 0#32
  let v501 : BitVec 32 := Scalar.maxsi v444 c0_i32_211
  let v526 : Index := Scalar.indexCast v501
  let c48_223 : Index := 48#32
  ![v526.toNat, 48]
def k0_off1097 (v444 : BitVec 32) : Fin 2 → Nat :=
  let c0_i32_211 : BitVec 32 := 0#32
  let v501 : BitVec 32 := Scalar.maxsi v444 c0_i32_211
  let v533 : Index := Scalar.indexCast v501
  let c64_226 : Index := 64#32
  ![v533.toNat, 64]
def k0_off1098 (v444 : BitVec 32) : Fin 2 → Nat :=
  let c0_i32_211 : BitVec 32 := 0#32
  let v501 : BitVec 32 := Scalar.maxsi v444 c0_i32_211
  let v540 : Index := Scalar.indexCast v501
  let c80_229 : Index := 80#32
  ![v540.toNat, 80]
def k0_off1099 (v444 : BitVec 32) : Fin 2 → Nat :=
  let c0_i32_211 : BitVec 32 := 0#32
  let v501 : BitVec 32 := Scalar.maxsi v444 c0_i32_211
  let v547 : Index := Scalar.indexCast v501
  let c96_232 : Index := 96#32
  ![v547.toNat, 96]
def k0_off1100 (v444 : BitVec 32) : Fin 2 → Nat :=
  let c0_i32_211 : BitVec 32 := 0#32
  let v501 : BitVec 32 := Scalar.maxsi v444 c0_i32_211
  let v554 : Index := Scalar.indexCast v501
  let c112_235 : Index := 112#32
  ![v554.toNat, 112]
def k0_off1101 (v444 : BitVec 32) : Fin 1 → Nat :=
  let c0_i32_211 : BitVec 32 := 0#32
  let v501 : BitVec 32 := Scalar.maxsi v444 c0_i32_211
  let c16_i32_238 : BitVec 32 := 16#32
  let v561 : BitVec 32 := Scalar.muli v501 c16_i32_238
  let v562 : Index := Scalar.indexCast v561
  ![v562.toNat]

def k0_chk43 (v327 : BitVec 32) (v329 : BitVec 32) (v332 : BitVec 32) (v442 : BitVec 32) (v444 : BitVec 32) : Prop :=
  (∀ (k0_h70 : k0_cond70 v327 v329 v332 = 1#1), ∀ (k0_h91 : k0_cond91 v442 v444 = 1#1), ∀ a, (k0_off1093 v444) a + S1x16.size a ≤ S512x128.size a) ∧
  (∀ (k0_h70 : k0_cond70 v327 v329 v332 = 1#1), ∀ (k0_h91 : k0_cond91 v442 v444 = 1#1), ∀ a, (k0_off1094 v444) a + S1x16.size a ≤ S512x128.size a) ∧
  (∀ (k0_h70 : k0_cond70 v327 v329 v332 = 1#1), ∀ (k0_h91 : k0_cond91 v442 v444 = 1#1), ∀ a, (k0_off1095 v444) a + S1x16.size a ≤ S512x128.size a) ∧
  (∀ (k0_h70 : k0_cond70 v327 v329 v332 = 1#1), ∀ (k0_h91 : k0_cond91 v442 v444 = 1#1), ∀ a, (k0_off1096 v444) a + S1x16.size a ≤ S512x128.size a) ∧
  (∀ (k0_h70 : k0_cond70 v327 v329 v332 = 1#1), ∀ (k0_h91 : k0_cond91 v442 v444 = 1#1), ∀ a, (k0_off1097 v444) a + S1x16.size a ≤ S512x128.size a) ∧
  (∀ (k0_h70 : k0_cond70 v327 v329 v332 = 1#1), ∀ (k0_h91 : k0_cond91 v442 v444 = 1#1), ∀ a, (k0_off1098 v444) a + S1x16.size a ≤ S512x128.size a) ∧
  (∀ (k0_h70 : k0_cond70 v327 v329 v332 = 1#1), ∀ (k0_h91 : k0_cond91 v442 v444 = 1#1), ∀ a, (k0_off1099 v444) a + S1x16.size a ≤ S512x128.size a) ∧
  (∀ (k0_h70 : k0_cond70 v327 v329 v332 = 1#1), ∀ (k0_h91 : k0_cond91 v442 v444 = 1#1), ∀ a, (k0_off1100 v444) a + S1x16.size a ≤ S512x128.size a) ∧
  (∀ (k0_h70 : k0_cond70 v327 v329 v332 = 1#1), ∀ (k0_h91 : k0_cond91 v442 v444 = 1#1), ∀ a, (k0_off1101 v444) a + S16.size a ≤ S8192.size a)
theorem k0_off1093_inb : ∀ (v327 : BitVec 32) (v329 : BitVec 32) (v332 : BitVec 32) (v442 : BitVec 32) (v444 : BitVec 32) (k0_hw43 : k0_chk43 v327 v329 v332 v442 v444), ∀ (k0_h70 : k0_cond70 v327 v329 v332 = 1#1), ∀ (k0_h91 : k0_cond91 v442 v444 = 1#1), ∀ a, (k0_off1093 v444) a + S1x16.size a ≤ S512x128.size a := fun v327 v329 v332 v442 v444 k0_hw43 k0_h70 k0_h91 => k0_hw43.1 k0_h70 k0_h91
theorem k0_off1094_inb : ∀ (v327 : BitVec 32) (v329 : BitVec 32) (v332 : BitVec 32) (v442 : BitVec 32) (v444 : BitVec 32) (k0_hw43 : k0_chk43 v327 v329 v332 v442 v444), ∀ (k0_h70 : k0_cond70 v327 v329 v332 = 1#1), ∀ (k0_h91 : k0_cond91 v442 v444 = 1#1), ∀ a, (k0_off1094 v444) a + S1x16.size a ≤ S512x128.size a := fun v327 v329 v332 v442 v444 k0_hw43 k0_h70 k0_h91 => k0_hw43.2.1 k0_h70 k0_h91
theorem k0_off1095_inb : ∀ (v327 : BitVec 32) (v329 : BitVec 32) (v332 : BitVec 32) (v442 : BitVec 32) (v444 : BitVec 32) (k0_hw43 : k0_chk43 v327 v329 v332 v442 v444), ∀ (k0_h70 : k0_cond70 v327 v329 v332 = 1#1), ∀ (k0_h91 : k0_cond91 v442 v444 = 1#1), ∀ a, (k0_off1095 v444) a + S1x16.size a ≤ S512x128.size a := fun v327 v329 v332 v442 v444 k0_hw43 k0_h70 k0_h91 => k0_hw43.2.2.1 k0_h70 k0_h91
theorem k0_off1096_inb : ∀ (v327 : BitVec 32) (v329 : BitVec 32) (v332 : BitVec 32) (v442 : BitVec 32) (v444 : BitVec 32) (k0_hw43 : k0_chk43 v327 v329 v332 v442 v444), ∀ (k0_h70 : k0_cond70 v327 v329 v332 = 1#1), ∀ (k0_h91 : k0_cond91 v442 v444 = 1#1), ∀ a, (k0_off1096 v444) a + S1x16.size a ≤ S512x128.size a := fun v327 v329 v332 v442 v444 k0_hw43 k0_h70 k0_h91 => k0_hw43.2.2.2.1 k0_h70 k0_h91
theorem k0_off1097_inb : ∀ (v327 : BitVec 32) (v329 : BitVec 32) (v332 : BitVec 32) (v442 : BitVec 32) (v444 : BitVec 32) (k0_hw43 : k0_chk43 v327 v329 v332 v442 v444), ∀ (k0_h70 : k0_cond70 v327 v329 v332 = 1#1), ∀ (k0_h91 : k0_cond91 v442 v444 = 1#1), ∀ a, (k0_off1097 v444) a + S1x16.size a ≤ S512x128.size a := fun v327 v329 v332 v442 v444 k0_hw43 k0_h70 k0_h91 => k0_hw43.2.2.2.2.1 k0_h70 k0_h91
theorem k0_off1098_inb : ∀ (v327 : BitVec 32) (v329 : BitVec 32) (v332 : BitVec 32) (v442 : BitVec 32) (v444 : BitVec 32) (k0_hw43 : k0_chk43 v327 v329 v332 v442 v444), ∀ (k0_h70 : k0_cond70 v327 v329 v332 = 1#1), ∀ (k0_h91 : k0_cond91 v442 v444 = 1#1), ∀ a, (k0_off1098 v444) a + S1x16.size a ≤ S512x128.size a := fun v327 v329 v332 v442 v444 k0_hw43 k0_h70 k0_h91 => k0_hw43.2.2.2.2.2.1 k0_h70 k0_h91
theorem k0_off1099_inb : ∀ (v327 : BitVec 32) (v329 : BitVec 32) (v332 : BitVec 32) (v442 : BitVec 32) (v444 : BitVec 32) (k0_hw43 : k0_chk43 v327 v329 v332 v442 v444), ∀ (k0_h70 : k0_cond70 v327 v329 v332 = 1#1), ∀ (k0_h91 : k0_cond91 v442 v444 = 1#1), ∀ a, (k0_off1099 v444) a + S1x16.size a ≤ S512x128.size a := fun v327 v329 v332 v442 v444 k0_hw43 k0_h70 k0_h91 => k0_hw43.2.2.2.2.2.2.1 k0_h70 k0_h91
theorem k0_off1100_inb : ∀ (v327 : BitVec 32) (v329 : BitVec 32) (v332 : BitVec 32) (v442 : BitVec 32) (v444 : BitVec 32) (k0_hw43 : k0_chk43 v327 v329 v332 v442 v444), ∀ (k0_h70 : k0_cond70 v327 v329 v332 = 1#1), ∀ (k0_h91 : k0_cond91 v442 v444 = 1#1), ∀ a, (k0_off1100 v444) a + S1x16.size a ≤ S512x128.size a := fun v327 v329 v332 v442 v444 k0_hw43 k0_h70 k0_h91 => k0_hw43.2.2.2.2.2.2.2.1 k0_h70 k0_h91
theorem k0_off1101_inb : ∀ (v327 : BitVec 32) (v329 : BitVec 32) (v332 : BitVec 32) (v442 : BitVec 32) (v444 : BitVec 32) (k0_hw43 : k0_chk43 v327 v329 v332 v442 v444), ∀ (k0_h70 : k0_cond70 v327 v329 v332 = 1#1), ∀ (k0_h91 : k0_cond91 v442 v444 = 1#1), ∀ a, (k0_off1101 v444) a + S16.size a ≤ S8192.size a := fun v327 v329 v332 v442 v444 k0_hw43 k0_h70 k0_h91 => k0_hw43.2.2.2.2.2.2.2.2 k0_h70 k0_h91

def k0_off1102 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c10_i32 : BitVec 32 := 10#32
  let v566 : BitVec 32 := Scalar.addi v330 c10_i32
  let v567 : Index := Scalar.indexCast v566
  let c0_239 : Index := 0#32
  ![v567.toNat, 0]
def k0_off1103 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c10_i32_242 : BitVec 32 := 10#32
  let v574 : BitVec 32 := Scalar.addi v330 c10_i32_242
  let v575 : Index := Scalar.indexCast v574
  let c16_243 : Index := 16#32
  ![v575.toNat, 16]
def k0_off1104 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c10_i32_246 : BitVec 32 := 10#32
  let v582 : BitVec 32 := Scalar.addi v330 c10_i32_246
  let v583 : Index := Scalar.indexCast v582
  let c32_247 : Index := 32#32
  ![v583.toNat, 32]
def k0_off1105 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c10_i32_250 : BitVec 32 := 10#32
  let v590 : BitVec 32 := Scalar.addi v330 c10_i32_250
  let v591 : Index := Scalar.indexCast v590
  let c48_251 : Index := 48#32
  ![v591.toNat, 48]
def k0_off1106 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c10_i32_254 : BitVec 32 := 10#32
  let v598 : BitVec 32 := Scalar.addi v330 c10_i32_254
  let v599 : Index := Scalar.indexCast v598
  let c64_255 : Index := 64#32
  ![v599.toNat, 64]
def k0_off1107 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c10_i32_258 : BitVec 32 := 10#32
  let v606 : BitVec 32 := Scalar.addi v330 c10_i32_258
  let v607 : Index := Scalar.indexCast v606
  let c80_259 : Index := 80#32
  ![v607.toNat, 80]
def k0_off1108 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c10_i32_262 : BitVec 32 := 10#32
  let v614 : BitVec 32 := Scalar.addi v330 c10_i32_262
  let v615 : Index := Scalar.indexCast v614
  let c96_263 : Index := 96#32
  ![v615.toNat, 96]
def k0_off1109 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c10_i32_266 : BitVec 32 := 10#32
  let v622 : BitVec 32 := Scalar.addi v330 c10_i32_266
  let v623 : Index := Scalar.indexCast v622
  let c112_267 : Index := 112#32
  ![v623.toNat, 112]
def k0_off1110 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c10_i32 : BitVec 32 := 10#32
  let v504 : BitVec 32 := Scalar.addi v330 c10_i32
  let v505 : Index := Scalar.indexCast v504
  let c0_213 : Index := 0#32
  ![v505.toNat, 0]
def k0_off1111 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c10_i32_218 : BitVec 32 := 10#32
  let v516 : BitVec 32 := Scalar.addi v330 c10_i32_218
  let v517 : Index := Scalar.indexCast v516
  let c16_219 : Index := 16#32
  ![v517.toNat, 16]
def k0_off1112 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c10_i32_224 : BitVec 32 := 10#32
  let v528 : BitVec 32 := Scalar.addi v330 c10_i32_224
  let v529 : Index := Scalar.indexCast v528
  let c32_225 : Index := 32#32
  ![v529.toNat, 32]
def k0_off1113 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c10_i32_230 : BitVec 32 := 10#32
  let v540 : BitVec 32 := Scalar.addi v330 c10_i32_230
  let v541 : Index := Scalar.indexCast v540
  let c48_231 : Index := 48#32
  ![v541.toNat, 48]
def k0_off1114 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c10_i32_236 : BitVec 32 := 10#32
  let v552 : BitVec 32 := Scalar.addi v330 c10_i32_236
  let v553 : Index := Scalar.indexCast v552
  let c64_237 : Index := 64#32
  ![v553.toNat, 64]
def k0_off1115 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c10_i32_242 : BitVec 32 := 10#32
  let v564 : BitVec 32 := Scalar.addi v330 c10_i32_242
  let v565 : Index := Scalar.indexCast v564
  let c80_243 : Index := 80#32
  ![v565.toNat, 80]
def k0_off1116 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c10_i32_248 : BitVec 32 := 10#32
  let v576 : BitVec 32 := Scalar.addi v330 c10_i32_248
  let v577 : Index := Scalar.indexCast v576
  let c96_249 : Index := 96#32
  ![v577.toNat, 96]
def k0_off1117 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c10_i32_254 : BitVec 32 := 10#32
  let v588 : BitVec 32 := Scalar.addi v330 c10_i32_254
  let v589 : Index := Scalar.indexCast v588
  let c112_255 : Index := 112#32
  ![v589.toNat, 112]
def k0_off1118 (v454 : BitVec 32) : Fin 2 → Nat :=
  let c0_i32_211 : BitVec 32 := 0#32
  let v501 : BitVec 32 := Scalar.maxsi v454 c0_i32_211
  let v505 : Index := Scalar.indexCast v501
  let c0_214 : Index := 0#32
  ![v505.toNat, 0]
def k0_cond93 (v452 : BitVec 32) (v454 : BitVec 32) : BitVec 1 :=
  let v455 : BitVec 1 := Scalar.cmpi .ne v452 v454
  let v456 : BitVec 32 := Scalar.extui v455
  let c0_i32_197 : BitVec 32 := 0#32
  let v457 : BitVec 1 := Scalar.cmpi .ne v456 c0_i32_197
  v457

def k0_off1119 (v454 : BitVec 32) : Fin 2 → Nat :=
  let c0_i32_211 : BitVec 32 := 0#32
  let v501 : BitVec 32 := Scalar.maxsi v454 c0_i32_211
  let v512 : Index := Scalar.indexCast v501
  let c16_217 : Index := 16#32
  ![v512.toNat, 16]
def k0_off1120 (v454 : BitVec 32) : Fin 2 → Nat :=
  let c0_i32_211 : BitVec 32 := 0#32
  let v501 : BitVec 32 := Scalar.maxsi v454 c0_i32_211
  let v519 : Index := Scalar.indexCast v501
  let c32_220 : Index := 32#32
  ![v519.toNat, 32]
def k0_off1121 (v454 : BitVec 32) : Fin 2 → Nat :=
  let c0_i32_211 : BitVec 32 := 0#32
  let v501 : BitVec 32 := Scalar.maxsi v454 c0_i32_211
  let v526 : Index := Scalar.indexCast v501
  let c48_223 : Index := 48#32
  ![v526.toNat, 48]
def k0_off1122 (v454 : BitVec 32) : Fin 2 → Nat :=
  let c0_i32_211 : BitVec 32 := 0#32
  let v501 : BitVec 32 := Scalar.maxsi v454 c0_i32_211
  let v533 : Index := Scalar.indexCast v501
  let c64_226 : Index := 64#32
  ![v533.toNat, 64]
def k0_off1123 (v454 : BitVec 32) : Fin 2 → Nat :=
  let c0_i32_211 : BitVec 32 := 0#32
  let v501 : BitVec 32 := Scalar.maxsi v454 c0_i32_211
  let v540 : Index := Scalar.indexCast v501
  let c80_229 : Index := 80#32
  ![v540.toNat, 80]
def k0_off1124 (v454 : BitVec 32) : Fin 2 → Nat :=
  let c0_i32_211 : BitVec 32 := 0#32
  let v501 : BitVec 32 := Scalar.maxsi v454 c0_i32_211
  let v547 : Index := Scalar.indexCast v501
  let c96_232 : Index := 96#32
  ![v547.toNat, 96]
def k0_off1125 (v454 : BitVec 32) : Fin 2 → Nat :=
  let c0_i32_211 : BitVec 32 := 0#32
  let v501 : BitVec 32 := Scalar.maxsi v454 c0_i32_211
  let v554 : Index := Scalar.indexCast v501
  let c112_235 : Index := 112#32
  ![v554.toNat, 112]
def k0_off1126 (v454 : BitVec 32) : Fin 1 → Nat :=
  let c0_i32_211 : BitVec 32 := 0#32
  let v501 : BitVec 32 := Scalar.maxsi v454 c0_i32_211
  let c16_i32_238 : BitVec 32 := 16#32
  let v561 : BitVec 32 := Scalar.muli v501 c16_i32_238
  let v562 : Index := Scalar.indexCast v561
  ![v562.toNat]

def k0_chk44 (v327 : BitVec 32) (v329 : BitVec 32) (v332 : BitVec 32) (v452 : BitVec 32) (v454 : BitVec 32) : Prop :=
  (∀ (k0_h70 : k0_cond70 v327 v329 v332 = 1#1), ∀ (k0_h93 : k0_cond93 v452 v454 = 1#1), ∀ a, (k0_off1118 v454) a + S1x16.size a ≤ S512x128.size a) ∧
  (∀ (k0_h70 : k0_cond70 v327 v329 v332 = 1#1), ∀ (k0_h93 : k0_cond93 v452 v454 = 1#1), ∀ a, (k0_off1119 v454) a + S1x16.size a ≤ S512x128.size a) ∧
  (∀ (k0_h70 : k0_cond70 v327 v329 v332 = 1#1), ∀ (k0_h93 : k0_cond93 v452 v454 = 1#1), ∀ a, (k0_off1120 v454) a + S1x16.size a ≤ S512x128.size a) ∧
  (∀ (k0_h70 : k0_cond70 v327 v329 v332 = 1#1), ∀ (k0_h93 : k0_cond93 v452 v454 = 1#1), ∀ a, (k0_off1121 v454) a + S1x16.size a ≤ S512x128.size a) ∧
  (∀ (k0_h70 : k0_cond70 v327 v329 v332 = 1#1), ∀ (k0_h93 : k0_cond93 v452 v454 = 1#1), ∀ a, (k0_off1122 v454) a + S1x16.size a ≤ S512x128.size a) ∧
  (∀ (k0_h70 : k0_cond70 v327 v329 v332 = 1#1), ∀ (k0_h93 : k0_cond93 v452 v454 = 1#1), ∀ a, (k0_off1123 v454) a + S1x16.size a ≤ S512x128.size a) ∧
  (∀ (k0_h70 : k0_cond70 v327 v329 v332 = 1#1), ∀ (k0_h93 : k0_cond93 v452 v454 = 1#1), ∀ a, (k0_off1124 v454) a + S1x16.size a ≤ S512x128.size a) ∧
  (∀ (k0_h70 : k0_cond70 v327 v329 v332 = 1#1), ∀ (k0_h93 : k0_cond93 v452 v454 = 1#1), ∀ a, (k0_off1125 v454) a + S1x16.size a ≤ S512x128.size a) ∧
  (∀ (k0_h70 : k0_cond70 v327 v329 v332 = 1#1), ∀ (k0_h93 : k0_cond93 v452 v454 = 1#1), ∀ a, (k0_off1126 v454) a + S16.size a ≤ S8192.size a)
theorem k0_off1118_inb : ∀ (v327 : BitVec 32) (v329 : BitVec 32) (v332 : BitVec 32) (v452 : BitVec 32) (v454 : BitVec 32) (k0_hw44 : k0_chk44 v327 v329 v332 v452 v454), ∀ (k0_h70 : k0_cond70 v327 v329 v332 = 1#1), ∀ (k0_h93 : k0_cond93 v452 v454 = 1#1), ∀ a, (k0_off1118 v454) a + S1x16.size a ≤ S512x128.size a := fun v327 v329 v332 v452 v454 k0_hw44 k0_h70 k0_h93 => k0_hw44.1 k0_h70 k0_h93
theorem k0_off1119_inb : ∀ (v327 : BitVec 32) (v329 : BitVec 32) (v332 : BitVec 32) (v452 : BitVec 32) (v454 : BitVec 32) (k0_hw44 : k0_chk44 v327 v329 v332 v452 v454), ∀ (k0_h70 : k0_cond70 v327 v329 v332 = 1#1), ∀ (k0_h93 : k0_cond93 v452 v454 = 1#1), ∀ a, (k0_off1119 v454) a + S1x16.size a ≤ S512x128.size a := fun v327 v329 v332 v452 v454 k0_hw44 k0_h70 k0_h93 => k0_hw44.2.1 k0_h70 k0_h93
theorem k0_off1120_inb : ∀ (v327 : BitVec 32) (v329 : BitVec 32) (v332 : BitVec 32) (v452 : BitVec 32) (v454 : BitVec 32) (k0_hw44 : k0_chk44 v327 v329 v332 v452 v454), ∀ (k0_h70 : k0_cond70 v327 v329 v332 = 1#1), ∀ (k0_h93 : k0_cond93 v452 v454 = 1#1), ∀ a, (k0_off1120 v454) a + S1x16.size a ≤ S512x128.size a := fun v327 v329 v332 v452 v454 k0_hw44 k0_h70 k0_h93 => k0_hw44.2.2.1 k0_h70 k0_h93
theorem k0_off1121_inb : ∀ (v327 : BitVec 32) (v329 : BitVec 32) (v332 : BitVec 32) (v452 : BitVec 32) (v454 : BitVec 32) (k0_hw44 : k0_chk44 v327 v329 v332 v452 v454), ∀ (k0_h70 : k0_cond70 v327 v329 v332 = 1#1), ∀ (k0_h93 : k0_cond93 v452 v454 = 1#1), ∀ a, (k0_off1121 v454) a + S1x16.size a ≤ S512x128.size a := fun v327 v329 v332 v452 v454 k0_hw44 k0_h70 k0_h93 => k0_hw44.2.2.2.1 k0_h70 k0_h93
theorem k0_off1122_inb : ∀ (v327 : BitVec 32) (v329 : BitVec 32) (v332 : BitVec 32) (v452 : BitVec 32) (v454 : BitVec 32) (k0_hw44 : k0_chk44 v327 v329 v332 v452 v454), ∀ (k0_h70 : k0_cond70 v327 v329 v332 = 1#1), ∀ (k0_h93 : k0_cond93 v452 v454 = 1#1), ∀ a, (k0_off1122 v454) a + S1x16.size a ≤ S512x128.size a := fun v327 v329 v332 v452 v454 k0_hw44 k0_h70 k0_h93 => k0_hw44.2.2.2.2.1 k0_h70 k0_h93
theorem k0_off1123_inb : ∀ (v327 : BitVec 32) (v329 : BitVec 32) (v332 : BitVec 32) (v452 : BitVec 32) (v454 : BitVec 32) (k0_hw44 : k0_chk44 v327 v329 v332 v452 v454), ∀ (k0_h70 : k0_cond70 v327 v329 v332 = 1#1), ∀ (k0_h93 : k0_cond93 v452 v454 = 1#1), ∀ a, (k0_off1123 v454) a + S1x16.size a ≤ S512x128.size a := fun v327 v329 v332 v452 v454 k0_hw44 k0_h70 k0_h93 => k0_hw44.2.2.2.2.2.1 k0_h70 k0_h93
theorem k0_off1124_inb : ∀ (v327 : BitVec 32) (v329 : BitVec 32) (v332 : BitVec 32) (v452 : BitVec 32) (v454 : BitVec 32) (k0_hw44 : k0_chk44 v327 v329 v332 v452 v454), ∀ (k0_h70 : k0_cond70 v327 v329 v332 = 1#1), ∀ (k0_h93 : k0_cond93 v452 v454 = 1#1), ∀ a, (k0_off1124 v454) a + S1x16.size a ≤ S512x128.size a := fun v327 v329 v332 v452 v454 k0_hw44 k0_h70 k0_h93 => k0_hw44.2.2.2.2.2.2.1 k0_h70 k0_h93
theorem k0_off1125_inb : ∀ (v327 : BitVec 32) (v329 : BitVec 32) (v332 : BitVec 32) (v452 : BitVec 32) (v454 : BitVec 32) (k0_hw44 : k0_chk44 v327 v329 v332 v452 v454), ∀ (k0_h70 : k0_cond70 v327 v329 v332 = 1#1), ∀ (k0_h93 : k0_cond93 v452 v454 = 1#1), ∀ a, (k0_off1125 v454) a + S1x16.size a ≤ S512x128.size a := fun v327 v329 v332 v452 v454 k0_hw44 k0_h70 k0_h93 => k0_hw44.2.2.2.2.2.2.2.1 k0_h70 k0_h93
theorem k0_off1126_inb : ∀ (v327 : BitVec 32) (v329 : BitVec 32) (v332 : BitVec 32) (v452 : BitVec 32) (v454 : BitVec 32) (k0_hw44 : k0_chk44 v327 v329 v332 v452 v454), ∀ (k0_h70 : k0_cond70 v327 v329 v332 = 1#1), ∀ (k0_h93 : k0_cond93 v452 v454 = 1#1), ∀ a, (k0_off1126 v454) a + S16.size a ≤ S8192.size a := fun v327 v329 v332 v452 v454 k0_hw44 k0_h70 k0_h93 => k0_hw44.2.2.2.2.2.2.2.2 k0_h70 k0_h93

def k0_off1127 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c11_i32 : BitVec 32 := 11#32
  let v566 : BitVec 32 := Scalar.addi v330 c11_i32
  let v567 : Index := Scalar.indexCast v566
  let c0_239 : Index := 0#32
  ![v567.toNat, 0]
def k0_off1128 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c11_i32_242 : BitVec 32 := 11#32
  let v574 : BitVec 32 := Scalar.addi v330 c11_i32_242
  let v575 : Index := Scalar.indexCast v574
  let c16_243 : Index := 16#32
  ![v575.toNat, 16]
def k0_off1129 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c11_i32_246 : BitVec 32 := 11#32
  let v582 : BitVec 32 := Scalar.addi v330 c11_i32_246
  let v583 : Index := Scalar.indexCast v582
  let c32_247 : Index := 32#32
  ![v583.toNat, 32]
def k0_off1130 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c11_i32_250 : BitVec 32 := 11#32
  let v590 : BitVec 32 := Scalar.addi v330 c11_i32_250
  let v591 : Index := Scalar.indexCast v590
  let c48_251 : Index := 48#32
  ![v591.toNat, 48]
def k0_off1131 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c11_i32_254 : BitVec 32 := 11#32
  let v598 : BitVec 32 := Scalar.addi v330 c11_i32_254
  let v599 : Index := Scalar.indexCast v598
  let c64_255 : Index := 64#32
  ![v599.toNat, 64]
def k0_off1132 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c11_i32_258 : BitVec 32 := 11#32
  let v606 : BitVec 32 := Scalar.addi v330 c11_i32_258
  let v607 : Index := Scalar.indexCast v606
  let c80_259 : Index := 80#32
  ![v607.toNat, 80]
def k0_off1133 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c11_i32_262 : BitVec 32 := 11#32
  let v614 : BitVec 32 := Scalar.addi v330 c11_i32_262
  let v615 : Index := Scalar.indexCast v614
  let c96_263 : Index := 96#32
  ![v615.toNat, 96]
def k0_off1134 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c11_i32_266 : BitVec 32 := 11#32
  let v622 : BitVec 32 := Scalar.addi v330 c11_i32_266
  let v623 : Index := Scalar.indexCast v622
  let c112_267 : Index := 112#32
  ![v623.toNat, 112]
def k0_off1135 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c11_i32 : BitVec 32 := 11#32
  let v504 : BitVec 32 := Scalar.addi v330 c11_i32
  let v505 : Index := Scalar.indexCast v504
  let c0_213 : Index := 0#32
  ![v505.toNat, 0]
def k0_off1136 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c11_i32_218 : BitVec 32 := 11#32
  let v516 : BitVec 32 := Scalar.addi v330 c11_i32_218
  let v517 : Index := Scalar.indexCast v516
  let c16_219 : Index := 16#32
  ![v517.toNat, 16]
def k0_off1137 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c11_i32_224 : BitVec 32 := 11#32
  let v528 : BitVec 32 := Scalar.addi v330 c11_i32_224
  let v529 : Index := Scalar.indexCast v528
  let c32_225 : Index := 32#32
  ![v529.toNat, 32]
def k0_off1138 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c11_i32_230 : BitVec 32 := 11#32
  let v540 : BitVec 32 := Scalar.addi v330 c11_i32_230
  let v541 : Index := Scalar.indexCast v540
  let c48_231 : Index := 48#32
  ![v541.toNat, 48]
def k0_off1139 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c11_i32_236 : BitVec 32 := 11#32
  let v552 : BitVec 32 := Scalar.addi v330 c11_i32_236
  let v553 : Index := Scalar.indexCast v552
  let c64_237 : Index := 64#32
  ![v553.toNat, 64]
def k0_off1140 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c11_i32_242 : BitVec 32 := 11#32
  let v564 : BitVec 32 := Scalar.addi v330 c11_i32_242
  let v565 : Index := Scalar.indexCast v564
  let c80_243 : Index := 80#32
  ![v565.toNat, 80]
def k0_off1141 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c11_i32_248 : BitVec 32 := 11#32
  let v576 : BitVec 32 := Scalar.addi v330 c11_i32_248
  let v577 : Index := Scalar.indexCast v576
  let c96_249 : Index := 96#32
  ![v577.toNat, 96]
def k0_off1142 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c11_i32_254 : BitVec 32 := 11#32
  let v588 : BitVec 32 := Scalar.addi v330 c11_i32_254
  let v589 : Index := Scalar.indexCast v588
  let c112_255 : Index := 112#32
  ![v589.toNat, 112]
def k0_off1143 (v464 : BitVec 32) : Fin 2 → Nat :=
  let c0_i32_211 : BitVec 32 := 0#32
  let v501 : BitVec 32 := Scalar.maxsi v464 c0_i32_211
  let v505 : Index := Scalar.indexCast v501
  let c0_214 : Index := 0#32
  ![v505.toNat, 0]
def k0_cond95 (v462 : BitVec 32) (v464 : BitVec 32) : BitVec 1 :=
  let v465 : BitVec 1 := Scalar.cmpi .ne v462 v464
  let v466 : BitVec 32 := Scalar.extui v465
  let c0_i32_200 : BitVec 32 := 0#32
  let v467 : BitVec 1 := Scalar.cmpi .ne v466 c0_i32_200
  v467

def k0_off1144 (v464 : BitVec 32) : Fin 2 → Nat :=
  let c0_i32_211 : BitVec 32 := 0#32
  let v501 : BitVec 32 := Scalar.maxsi v464 c0_i32_211
  let v512 : Index := Scalar.indexCast v501
  let c16_217 : Index := 16#32
  ![v512.toNat, 16]
def k0_off1145 (v464 : BitVec 32) : Fin 2 → Nat :=
  let c0_i32_211 : BitVec 32 := 0#32
  let v501 : BitVec 32 := Scalar.maxsi v464 c0_i32_211
  let v519 : Index := Scalar.indexCast v501
  let c32_220 : Index := 32#32
  ![v519.toNat, 32]
def k0_off1146 (v464 : BitVec 32) : Fin 2 → Nat :=
  let c0_i32_211 : BitVec 32 := 0#32
  let v501 : BitVec 32 := Scalar.maxsi v464 c0_i32_211
  let v526 : Index := Scalar.indexCast v501
  let c48_223 : Index := 48#32
  ![v526.toNat, 48]
def k0_off1147 (v464 : BitVec 32) : Fin 2 → Nat :=
  let c0_i32_211 : BitVec 32 := 0#32
  let v501 : BitVec 32 := Scalar.maxsi v464 c0_i32_211
  let v533 : Index := Scalar.indexCast v501
  let c64_226 : Index := 64#32
  ![v533.toNat, 64]
def k0_off1148 (v464 : BitVec 32) : Fin 2 → Nat :=
  let c0_i32_211 : BitVec 32 := 0#32
  let v501 : BitVec 32 := Scalar.maxsi v464 c0_i32_211
  let v540 : Index := Scalar.indexCast v501
  let c80_229 : Index := 80#32
  ![v540.toNat, 80]
def k0_off1149 (v464 : BitVec 32) : Fin 2 → Nat :=
  let c0_i32_211 : BitVec 32 := 0#32
  let v501 : BitVec 32 := Scalar.maxsi v464 c0_i32_211
  let v547 : Index := Scalar.indexCast v501
  let c96_232 : Index := 96#32
  ![v547.toNat, 96]
def k0_off1150 (v464 : BitVec 32) : Fin 2 → Nat :=
  let c0_i32_211 : BitVec 32 := 0#32
  let v501 : BitVec 32 := Scalar.maxsi v464 c0_i32_211
  let v554 : Index := Scalar.indexCast v501
  let c112_235 : Index := 112#32
  ![v554.toNat, 112]
def k0_off1151 (v464 : BitVec 32) : Fin 1 → Nat :=
  let c0_i32_211 : BitVec 32 := 0#32
  let v501 : BitVec 32 := Scalar.maxsi v464 c0_i32_211
  let c16_i32_238 : BitVec 32 := 16#32
  let v561 : BitVec 32 := Scalar.muli v501 c16_i32_238
  let v562 : Index := Scalar.indexCast v561
  ![v562.toNat]

def k0_chk45 (v327 : BitVec 32) (v329 : BitVec 32) (v332 : BitVec 32) (v462 : BitVec 32) (v464 : BitVec 32) : Prop :=
  (∀ (k0_h70 : k0_cond70 v327 v329 v332 = 1#1), ∀ (k0_h95 : k0_cond95 v462 v464 = 1#1), ∀ a, (k0_off1143 v464) a + S1x16.size a ≤ S512x128.size a) ∧
  (∀ (k0_h70 : k0_cond70 v327 v329 v332 = 1#1), ∀ (k0_h95 : k0_cond95 v462 v464 = 1#1), ∀ a, (k0_off1144 v464) a + S1x16.size a ≤ S512x128.size a) ∧
  (∀ (k0_h70 : k0_cond70 v327 v329 v332 = 1#1), ∀ (k0_h95 : k0_cond95 v462 v464 = 1#1), ∀ a, (k0_off1145 v464) a + S1x16.size a ≤ S512x128.size a) ∧
  (∀ (k0_h70 : k0_cond70 v327 v329 v332 = 1#1), ∀ (k0_h95 : k0_cond95 v462 v464 = 1#1), ∀ a, (k0_off1146 v464) a + S1x16.size a ≤ S512x128.size a) ∧
  (∀ (k0_h70 : k0_cond70 v327 v329 v332 = 1#1), ∀ (k0_h95 : k0_cond95 v462 v464 = 1#1), ∀ a, (k0_off1147 v464) a + S1x16.size a ≤ S512x128.size a) ∧
  (∀ (k0_h70 : k0_cond70 v327 v329 v332 = 1#1), ∀ (k0_h95 : k0_cond95 v462 v464 = 1#1), ∀ a, (k0_off1148 v464) a + S1x16.size a ≤ S512x128.size a) ∧
  (∀ (k0_h70 : k0_cond70 v327 v329 v332 = 1#1), ∀ (k0_h95 : k0_cond95 v462 v464 = 1#1), ∀ a, (k0_off1149 v464) a + S1x16.size a ≤ S512x128.size a) ∧
  (∀ (k0_h70 : k0_cond70 v327 v329 v332 = 1#1), ∀ (k0_h95 : k0_cond95 v462 v464 = 1#1), ∀ a, (k0_off1150 v464) a + S1x16.size a ≤ S512x128.size a) ∧
  (∀ (k0_h70 : k0_cond70 v327 v329 v332 = 1#1), ∀ (k0_h95 : k0_cond95 v462 v464 = 1#1), ∀ a, (k0_off1151 v464) a + S16.size a ≤ S8192.size a)
theorem k0_off1143_inb : ∀ (v327 : BitVec 32) (v329 : BitVec 32) (v332 : BitVec 32) (v462 : BitVec 32) (v464 : BitVec 32) (k0_hw45 : k0_chk45 v327 v329 v332 v462 v464), ∀ (k0_h70 : k0_cond70 v327 v329 v332 = 1#1), ∀ (k0_h95 : k0_cond95 v462 v464 = 1#1), ∀ a, (k0_off1143 v464) a + S1x16.size a ≤ S512x128.size a := fun v327 v329 v332 v462 v464 k0_hw45 k0_h70 k0_h95 => k0_hw45.1 k0_h70 k0_h95
theorem k0_off1144_inb : ∀ (v327 : BitVec 32) (v329 : BitVec 32) (v332 : BitVec 32) (v462 : BitVec 32) (v464 : BitVec 32) (k0_hw45 : k0_chk45 v327 v329 v332 v462 v464), ∀ (k0_h70 : k0_cond70 v327 v329 v332 = 1#1), ∀ (k0_h95 : k0_cond95 v462 v464 = 1#1), ∀ a, (k0_off1144 v464) a + S1x16.size a ≤ S512x128.size a := fun v327 v329 v332 v462 v464 k0_hw45 k0_h70 k0_h95 => k0_hw45.2.1 k0_h70 k0_h95
theorem k0_off1145_inb : ∀ (v327 : BitVec 32) (v329 : BitVec 32) (v332 : BitVec 32) (v462 : BitVec 32) (v464 : BitVec 32) (k0_hw45 : k0_chk45 v327 v329 v332 v462 v464), ∀ (k0_h70 : k0_cond70 v327 v329 v332 = 1#1), ∀ (k0_h95 : k0_cond95 v462 v464 = 1#1), ∀ a, (k0_off1145 v464) a + S1x16.size a ≤ S512x128.size a := fun v327 v329 v332 v462 v464 k0_hw45 k0_h70 k0_h95 => k0_hw45.2.2.1 k0_h70 k0_h95
theorem k0_off1146_inb : ∀ (v327 : BitVec 32) (v329 : BitVec 32) (v332 : BitVec 32) (v462 : BitVec 32) (v464 : BitVec 32) (k0_hw45 : k0_chk45 v327 v329 v332 v462 v464), ∀ (k0_h70 : k0_cond70 v327 v329 v332 = 1#1), ∀ (k0_h95 : k0_cond95 v462 v464 = 1#1), ∀ a, (k0_off1146 v464) a + S1x16.size a ≤ S512x128.size a := fun v327 v329 v332 v462 v464 k0_hw45 k0_h70 k0_h95 => k0_hw45.2.2.2.1 k0_h70 k0_h95
theorem k0_off1147_inb : ∀ (v327 : BitVec 32) (v329 : BitVec 32) (v332 : BitVec 32) (v462 : BitVec 32) (v464 : BitVec 32) (k0_hw45 : k0_chk45 v327 v329 v332 v462 v464), ∀ (k0_h70 : k0_cond70 v327 v329 v332 = 1#1), ∀ (k0_h95 : k0_cond95 v462 v464 = 1#1), ∀ a, (k0_off1147 v464) a + S1x16.size a ≤ S512x128.size a := fun v327 v329 v332 v462 v464 k0_hw45 k0_h70 k0_h95 => k0_hw45.2.2.2.2.1 k0_h70 k0_h95
theorem k0_off1148_inb : ∀ (v327 : BitVec 32) (v329 : BitVec 32) (v332 : BitVec 32) (v462 : BitVec 32) (v464 : BitVec 32) (k0_hw45 : k0_chk45 v327 v329 v332 v462 v464), ∀ (k0_h70 : k0_cond70 v327 v329 v332 = 1#1), ∀ (k0_h95 : k0_cond95 v462 v464 = 1#1), ∀ a, (k0_off1148 v464) a + S1x16.size a ≤ S512x128.size a := fun v327 v329 v332 v462 v464 k0_hw45 k0_h70 k0_h95 => k0_hw45.2.2.2.2.2.1 k0_h70 k0_h95
theorem k0_off1149_inb : ∀ (v327 : BitVec 32) (v329 : BitVec 32) (v332 : BitVec 32) (v462 : BitVec 32) (v464 : BitVec 32) (k0_hw45 : k0_chk45 v327 v329 v332 v462 v464), ∀ (k0_h70 : k0_cond70 v327 v329 v332 = 1#1), ∀ (k0_h95 : k0_cond95 v462 v464 = 1#1), ∀ a, (k0_off1149 v464) a + S1x16.size a ≤ S512x128.size a := fun v327 v329 v332 v462 v464 k0_hw45 k0_h70 k0_h95 => k0_hw45.2.2.2.2.2.2.1 k0_h70 k0_h95
theorem k0_off1150_inb : ∀ (v327 : BitVec 32) (v329 : BitVec 32) (v332 : BitVec 32) (v462 : BitVec 32) (v464 : BitVec 32) (k0_hw45 : k0_chk45 v327 v329 v332 v462 v464), ∀ (k0_h70 : k0_cond70 v327 v329 v332 = 1#1), ∀ (k0_h95 : k0_cond95 v462 v464 = 1#1), ∀ a, (k0_off1150 v464) a + S1x16.size a ≤ S512x128.size a := fun v327 v329 v332 v462 v464 k0_hw45 k0_h70 k0_h95 => k0_hw45.2.2.2.2.2.2.2.1 k0_h70 k0_h95
theorem k0_off1151_inb : ∀ (v327 : BitVec 32) (v329 : BitVec 32) (v332 : BitVec 32) (v462 : BitVec 32) (v464 : BitVec 32) (k0_hw45 : k0_chk45 v327 v329 v332 v462 v464), ∀ (k0_h70 : k0_cond70 v327 v329 v332 = 1#1), ∀ (k0_h95 : k0_cond95 v462 v464 = 1#1), ∀ a, (k0_off1151 v464) a + S16.size a ≤ S8192.size a := fun v327 v329 v332 v462 v464 k0_hw45 k0_h70 k0_h95 => k0_hw45.2.2.2.2.2.2.2.2 k0_h70 k0_h95

def k0_off1152 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c12_i32 : BitVec 32 := 12#32
  let v566 : BitVec 32 := Scalar.addi v330 c12_i32
  let v567 : Index := Scalar.indexCast v566
  let c0_239 : Index := 0#32
  ![v567.toNat, 0]
def k0_off1153 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c12_i32_242 : BitVec 32 := 12#32
  let v574 : BitVec 32 := Scalar.addi v330 c12_i32_242
  let v575 : Index := Scalar.indexCast v574
  let c16_243 : Index := 16#32
  ![v575.toNat, 16]
def k0_off1154 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c12_i32_246 : BitVec 32 := 12#32
  let v582 : BitVec 32 := Scalar.addi v330 c12_i32_246
  let v583 : Index := Scalar.indexCast v582
  let c32_247 : Index := 32#32
  ![v583.toNat, 32]
def k0_off1155 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c12_i32_250 : BitVec 32 := 12#32
  let v590 : BitVec 32 := Scalar.addi v330 c12_i32_250
  let v591 : Index := Scalar.indexCast v590
  let c48_251 : Index := 48#32
  ![v591.toNat, 48]
def k0_off1156 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c12_i32_254 : BitVec 32 := 12#32
  let v598 : BitVec 32 := Scalar.addi v330 c12_i32_254
  let v599 : Index := Scalar.indexCast v598
  let c64_255 : Index := 64#32
  ![v599.toNat, 64]
def k0_off1157 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c12_i32_258 : BitVec 32 := 12#32
  let v606 : BitVec 32 := Scalar.addi v330 c12_i32_258
  let v607 : Index := Scalar.indexCast v606
  let c80_259 : Index := 80#32
  ![v607.toNat, 80]
def k0_off1158 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c12_i32_262 : BitVec 32 := 12#32
  let v614 : BitVec 32 := Scalar.addi v330 c12_i32_262
  let v615 : Index := Scalar.indexCast v614
  let c96_263 : Index := 96#32
  ![v615.toNat, 96]
def k0_off1159 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c12_i32_266 : BitVec 32 := 12#32
  let v622 : BitVec 32 := Scalar.addi v330 c12_i32_266
  let v623 : Index := Scalar.indexCast v622
  let c112_267 : Index := 112#32
  ![v623.toNat, 112]
def k0_off1160 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c12_i32 : BitVec 32 := 12#32
  let v504 : BitVec 32 := Scalar.addi v330 c12_i32
  let v505 : Index := Scalar.indexCast v504
  let c0_213 : Index := 0#32
  ![v505.toNat, 0]
def k0_off1161 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c12_i32_218 : BitVec 32 := 12#32
  let v516 : BitVec 32 := Scalar.addi v330 c12_i32_218
  let v517 : Index := Scalar.indexCast v516
  let c16_219 : Index := 16#32
  ![v517.toNat, 16]
def k0_off1162 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c12_i32_224 : BitVec 32 := 12#32
  let v528 : BitVec 32 := Scalar.addi v330 c12_i32_224
  let v529 : Index := Scalar.indexCast v528
  let c32_225 : Index := 32#32
  ![v529.toNat, 32]
def k0_off1163 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c12_i32_230 : BitVec 32 := 12#32
  let v540 : BitVec 32 := Scalar.addi v330 c12_i32_230
  let v541 : Index := Scalar.indexCast v540
  let c48_231 : Index := 48#32
  ![v541.toNat, 48]
def k0_off1164 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c12_i32_236 : BitVec 32 := 12#32
  let v552 : BitVec 32 := Scalar.addi v330 c12_i32_236
  let v553 : Index := Scalar.indexCast v552
  let c64_237 : Index := 64#32
  ![v553.toNat, 64]
def k0_off1165 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c12_i32_242 : BitVec 32 := 12#32
  let v564 : BitVec 32 := Scalar.addi v330 c12_i32_242
  let v565 : Index := Scalar.indexCast v564
  let c80_243 : Index := 80#32
  ![v565.toNat, 80]
def k0_off1166 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c12_i32_248 : BitVec 32 := 12#32
  let v576 : BitVec 32 := Scalar.addi v330 c12_i32_248
  let v577 : Index := Scalar.indexCast v576
  let c96_249 : Index := 96#32
  ![v577.toNat, 96]
def k0_off1167 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c12_i32_254 : BitVec 32 := 12#32
  let v588 : BitVec 32 := Scalar.addi v330 c12_i32_254
  let v589 : Index := Scalar.indexCast v588
  let c112_255 : Index := 112#32
  ![v589.toNat, 112]
def k0_off1168 (v474 : BitVec 32) : Fin 2 → Nat :=
  let c0_i32_211 : BitVec 32 := 0#32
  let v501 : BitVec 32 := Scalar.maxsi v474 c0_i32_211
  let v505 : Index := Scalar.indexCast v501
  let c0_214 : Index := 0#32
  ![v505.toNat, 0]
def k0_cond97 (v472 : BitVec 32) (v474 : BitVec 32) : BitVec 1 :=
  let v475 : BitVec 1 := Scalar.cmpi .ne v472 v474
  let v476 : BitVec 32 := Scalar.extui v475
  let c0_i32_203 : BitVec 32 := 0#32
  let v477 : BitVec 1 := Scalar.cmpi .ne v476 c0_i32_203
  v477

def k0_off1169 (v474 : BitVec 32) : Fin 2 → Nat :=
  let c0_i32_211 : BitVec 32 := 0#32
  let v501 : BitVec 32 := Scalar.maxsi v474 c0_i32_211
  let v512 : Index := Scalar.indexCast v501
  let c16_217 : Index := 16#32
  ![v512.toNat, 16]
def k0_off1170 (v474 : BitVec 32) : Fin 2 → Nat :=
  let c0_i32_211 : BitVec 32 := 0#32
  let v501 : BitVec 32 := Scalar.maxsi v474 c0_i32_211
  let v519 : Index := Scalar.indexCast v501
  let c32_220 : Index := 32#32
  ![v519.toNat, 32]
def k0_off1171 (v474 : BitVec 32) : Fin 2 → Nat :=
  let c0_i32_211 : BitVec 32 := 0#32
  let v501 : BitVec 32 := Scalar.maxsi v474 c0_i32_211
  let v526 : Index := Scalar.indexCast v501
  let c48_223 : Index := 48#32
  ![v526.toNat, 48]
def k0_off1172 (v474 : BitVec 32) : Fin 2 → Nat :=
  let c0_i32_211 : BitVec 32 := 0#32
  let v501 : BitVec 32 := Scalar.maxsi v474 c0_i32_211
  let v533 : Index := Scalar.indexCast v501
  let c64_226 : Index := 64#32
  ![v533.toNat, 64]
def k0_off1173 (v474 : BitVec 32) : Fin 2 → Nat :=
  let c0_i32_211 : BitVec 32 := 0#32
  let v501 : BitVec 32 := Scalar.maxsi v474 c0_i32_211
  let v540 : Index := Scalar.indexCast v501
  let c80_229 : Index := 80#32
  ![v540.toNat, 80]
def k0_off1174 (v474 : BitVec 32) : Fin 2 → Nat :=
  let c0_i32_211 : BitVec 32 := 0#32
  let v501 : BitVec 32 := Scalar.maxsi v474 c0_i32_211
  let v547 : Index := Scalar.indexCast v501
  let c96_232 : Index := 96#32
  ![v547.toNat, 96]
def k0_off1175 (v474 : BitVec 32) : Fin 2 → Nat :=
  let c0_i32_211 : BitVec 32 := 0#32
  let v501 : BitVec 32 := Scalar.maxsi v474 c0_i32_211
  let v554 : Index := Scalar.indexCast v501
  let c112_235 : Index := 112#32
  ![v554.toNat, 112]
def k0_off1176 (v474 : BitVec 32) : Fin 1 → Nat :=
  let c0_i32_211 : BitVec 32 := 0#32
  let v501 : BitVec 32 := Scalar.maxsi v474 c0_i32_211
  let c16_i32_238 : BitVec 32 := 16#32
  let v561 : BitVec 32 := Scalar.muli v501 c16_i32_238
  let v562 : Index := Scalar.indexCast v561
  ![v562.toNat]

def k0_chk46 (v327 : BitVec 32) (v329 : BitVec 32) (v332 : BitVec 32) (v472 : BitVec 32) (v474 : BitVec 32) : Prop :=
  (∀ (k0_h70 : k0_cond70 v327 v329 v332 = 1#1), ∀ (k0_h97 : k0_cond97 v472 v474 = 1#1), ∀ a, (k0_off1168 v474) a + S1x16.size a ≤ S512x128.size a) ∧
  (∀ (k0_h70 : k0_cond70 v327 v329 v332 = 1#1), ∀ (k0_h97 : k0_cond97 v472 v474 = 1#1), ∀ a, (k0_off1169 v474) a + S1x16.size a ≤ S512x128.size a) ∧
  (∀ (k0_h70 : k0_cond70 v327 v329 v332 = 1#1), ∀ (k0_h97 : k0_cond97 v472 v474 = 1#1), ∀ a, (k0_off1170 v474) a + S1x16.size a ≤ S512x128.size a) ∧
  (∀ (k0_h70 : k0_cond70 v327 v329 v332 = 1#1), ∀ (k0_h97 : k0_cond97 v472 v474 = 1#1), ∀ a, (k0_off1171 v474) a + S1x16.size a ≤ S512x128.size a) ∧
  (∀ (k0_h70 : k0_cond70 v327 v329 v332 = 1#1), ∀ (k0_h97 : k0_cond97 v472 v474 = 1#1), ∀ a, (k0_off1172 v474) a + S1x16.size a ≤ S512x128.size a) ∧
  (∀ (k0_h70 : k0_cond70 v327 v329 v332 = 1#1), ∀ (k0_h97 : k0_cond97 v472 v474 = 1#1), ∀ a, (k0_off1173 v474) a + S1x16.size a ≤ S512x128.size a) ∧
  (∀ (k0_h70 : k0_cond70 v327 v329 v332 = 1#1), ∀ (k0_h97 : k0_cond97 v472 v474 = 1#1), ∀ a, (k0_off1174 v474) a + S1x16.size a ≤ S512x128.size a) ∧
  (∀ (k0_h70 : k0_cond70 v327 v329 v332 = 1#1), ∀ (k0_h97 : k0_cond97 v472 v474 = 1#1), ∀ a, (k0_off1175 v474) a + S1x16.size a ≤ S512x128.size a) ∧
  (∀ (k0_h70 : k0_cond70 v327 v329 v332 = 1#1), ∀ (k0_h97 : k0_cond97 v472 v474 = 1#1), ∀ a, (k0_off1176 v474) a + S16.size a ≤ S8192.size a)
theorem k0_off1168_inb : ∀ (v327 : BitVec 32) (v329 : BitVec 32) (v332 : BitVec 32) (v472 : BitVec 32) (v474 : BitVec 32) (k0_hw46 : k0_chk46 v327 v329 v332 v472 v474), ∀ (k0_h70 : k0_cond70 v327 v329 v332 = 1#1), ∀ (k0_h97 : k0_cond97 v472 v474 = 1#1), ∀ a, (k0_off1168 v474) a + S1x16.size a ≤ S512x128.size a := fun v327 v329 v332 v472 v474 k0_hw46 k0_h70 k0_h97 => k0_hw46.1 k0_h70 k0_h97
theorem k0_off1169_inb : ∀ (v327 : BitVec 32) (v329 : BitVec 32) (v332 : BitVec 32) (v472 : BitVec 32) (v474 : BitVec 32) (k0_hw46 : k0_chk46 v327 v329 v332 v472 v474), ∀ (k0_h70 : k0_cond70 v327 v329 v332 = 1#1), ∀ (k0_h97 : k0_cond97 v472 v474 = 1#1), ∀ a, (k0_off1169 v474) a + S1x16.size a ≤ S512x128.size a := fun v327 v329 v332 v472 v474 k0_hw46 k0_h70 k0_h97 => k0_hw46.2.1 k0_h70 k0_h97
theorem k0_off1170_inb : ∀ (v327 : BitVec 32) (v329 : BitVec 32) (v332 : BitVec 32) (v472 : BitVec 32) (v474 : BitVec 32) (k0_hw46 : k0_chk46 v327 v329 v332 v472 v474), ∀ (k0_h70 : k0_cond70 v327 v329 v332 = 1#1), ∀ (k0_h97 : k0_cond97 v472 v474 = 1#1), ∀ a, (k0_off1170 v474) a + S1x16.size a ≤ S512x128.size a := fun v327 v329 v332 v472 v474 k0_hw46 k0_h70 k0_h97 => k0_hw46.2.2.1 k0_h70 k0_h97
theorem k0_off1171_inb : ∀ (v327 : BitVec 32) (v329 : BitVec 32) (v332 : BitVec 32) (v472 : BitVec 32) (v474 : BitVec 32) (k0_hw46 : k0_chk46 v327 v329 v332 v472 v474), ∀ (k0_h70 : k0_cond70 v327 v329 v332 = 1#1), ∀ (k0_h97 : k0_cond97 v472 v474 = 1#1), ∀ a, (k0_off1171 v474) a + S1x16.size a ≤ S512x128.size a := fun v327 v329 v332 v472 v474 k0_hw46 k0_h70 k0_h97 => k0_hw46.2.2.2.1 k0_h70 k0_h97
theorem k0_off1172_inb : ∀ (v327 : BitVec 32) (v329 : BitVec 32) (v332 : BitVec 32) (v472 : BitVec 32) (v474 : BitVec 32) (k0_hw46 : k0_chk46 v327 v329 v332 v472 v474), ∀ (k0_h70 : k0_cond70 v327 v329 v332 = 1#1), ∀ (k0_h97 : k0_cond97 v472 v474 = 1#1), ∀ a, (k0_off1172 v474) a + S1x16.size a ≤ S512x128.size a := fun v327 v329 v332 v472 v474 k0_hw46 k0_h70 k0_h97 => k0_hw46.2.2.2.2.1 k0_h70 k0_h97
theorem k0_off1173_inb : ∀ (v327 : BitVec 32) (v329 : BitVec 32) (v332 : BitVec 32) (v472 : BitVec 32) (v474 : BitVec 32) (k0_hw46 : k0_chk46 v327 v329 v332 v472 v474), ∀ (k0_h70 : k0_cond70 v327 v329 v332 = 1#1), ∀ (k0_h97 : k0_cond97 v472 v474 = 1#1), ∀ a, (k0_off1173 v474) a + S1x16.size a ≤ S512x128.size a := fun v327 v329 v332 v472 v474 k0_hw46 k0_h70 k0_h97 => k0_hw46.2.2.2.2.2.1 k0_h70 k0_h97
theorem k0_off1174_inb : ∀ (v327 : BitVec 32) (v329 : BitVec 32) (v332 : BitVec 32) (v472 : BitVec 32) (v474 : BitVec 32) (k0_hw46 : k0_chk46 v327 v329 v332 v472 v474), ∀ (k0_h70 : k0_cond70 v327 v329 v332 = 1#1), ∀ (k0_h97 : k0_cond97 v472 v474 = 1#1), ∀ a, (k0_off1174 v474) a + S1x16.size a ≤ S512x128.size a := fun v327 v329 v332 v472 v474 k0_hw46 k0_h70 k0_h97 => k0_hw46.2.2.2.2.2.2.1 k0_h70 k0_h97
theorem k0_off1175_inb : ∀ (v327 : BitVec 32) (v329 : BitVec 32) (v332 : BitVec 32) (v472 : BitVec 32) (v474 : BitVec 32) (k0_hw46 : k0_chk46 v327 v329 v332 v472 v474), ∀ (k0_h70 : k0_cond70 v327 v329 v332 = 1#1), ∀ (k0_h97 : k0_cond97 v472 v474 = 1#1), ∀ a, (k0_off1175 v474) a + S1x16.size a ≤ S512x128.size a := fun v327 v329 v332 v472 v474 k0_hw46 k0_h70 k0_h97 => k0_hw46.2.2.2.2.2.2.2.1 k0_h70 k0_h97
theorem k0_off1176_inb : ∀ (v327 : BitVec 32) (v329 : BitVec 32) (v332 : BitVec 32) (v472 : BitVec 32) (v474 : BitVec 32) (k0_hw46 : k0_chk46 v327 v329 v332 v472 v474), ∀ (k0_h70 : k0_cond70 v327 v329 v332 = 1#1), ∀ (k0_h97 : k0_cond97 v472 v474 = 1#1), ∀ a, (k0_off1176 v474) a + S16.size a ≤ S8192.size a := fun v327 v329 v332 v472 v474 k0_hw46 k0_h70 k0_h97 => k0_hw46.2.2.2.2.2.2.2.2 k0_h70 k0_h97

def k0_off1177 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c13_i32 : BitVec 32 := 13#32
  let v566 : BitVec 32 := Scalar.addi v330 c13_i32
  let v567 : Index := Scalar.indexCast v566
  let c0_239 : Index := 0#32
  ![v567.toNat, 0]
def k0_off1178 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c13_i32_242 : BitVec 32 := 13#32
  let v574 : BitVec 32 := Scalar.addi v330 c13_i32_242
  let v575 : Index := Scalar.indexCast v574
  let c16_243 : Index := 16#32
  ![v575.toNat, 16]
def k0_off1179 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c13_i32_246 : BitVec 32 := 13#32
  let v582 : BitVec 32 := Scalar.addi v330 c13_i32_246
  let v583 : Index := Scalar.indexCast v582
  let c32_247 : Index := 32#32
  ![v583.toNat, 32]
def k0_off1180 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c13_i32_250 : BitVec 32 := 13#32
  let v590 : BitVec 32 := Scalar.addi v330 c13_i32_250
  let v591 : Index := Scalar.indexCast v590
  let c48_251 : Index := 48#32
  ![v591.toNat, 48]
def k0_off1181 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c13_i32_254 : BitVec 32 := 13#32
  let v598 : BitVec 32 := Scalar.addi v330 c13_i32_254
  let v599 : Index := Scalar.indexCast v598
  let c64_255 : Index := 64#32
  ![v599.toNat, 64]
def k0_off1182 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c13_i32_258 : BitVec 32 := 13#32
  let v606 : BitVec 32 := Scalar.addi v330 c13_i32_258
  let v607 : Index := Scalar.indexCast v606
  let c80_259 : Index := 80#32
  ![v607.toNat, 80]
def k0_off1183 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c13_i32_262 : BitVec 32 := 13#32
  let v614 : BitVec 32 := Scalar.addi v330 c13_i32_262
  let v615 : Index := Scalar.indexCast v614
  let c96_263 : Index := 96#32
  ![v615.toNat, 96]
def k0_off1184 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c13_i32_266 : BitVec 32 := 13#32
  let v622 : BitVec 32 := Scalar.addi v330 c13_i32_266
  let v623 : Index := Scalar.indexCast v622
  let c112_267 : Index := 112#32
  ![v623.toNat, 112]
def k0_off1185 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c13_i32 : BitVec 32 := 13#32
  let v504 : BitVec 32 := Scalar.addi v330 c13_i32
  let v505 : Index := Scalar.indexCast v504
  let c0_213 : Index := 0#32
  ![v505.toNat, 0]
def k0_off1186 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c13_i32_218 : BitVec 32 := 13#32
  let v516 : BitVec 32 := Scalar.addi v330 c13_i32_218
  let v517 : Index := Scalar.indexCast v516
  let c16_219 : Index := 16#32
  ![v517.toNat, 16]
def k0_off1187 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c13_i32_224 : BitVec 32 := 13#32
  let v528 : BitVec 32 := Scalar.addi v330 c13_i32_224
  let v529 : Index := Scalar.indexCast v528
  let c32_225 : Index := 32#32
  ![v529.toNat, 32]
def k0_off1188 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c13_i32_230 : BitVec 32 := 13#32
  let v540 : BitVec 32 := Scalar.addi v330 c13_i32_230
  let v541 : Index := Scalar.indexCast v540
  let c48_231 : Index := 48#32
  ![v541.toNat, 48]
def k0_off1189 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c13_i32_236 : BitVec 32 := 13#32
  let v552 : BitVec 32 := Scalar.addi v330 c13_i32_236
  let v553 : Index := Scalar.indexCast v552
  let c64_237 : Index := 64#32
  ![v553.toNat, 64]
def k0_off1190 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c13_i32_242 : BitVec 32 := 13#32
  let v564 : BitVec 32 := Scalar.addi v330 c13_i32_242
  let v565 : Index := Scalar.indexCast v564
  let c80_243 : Index := 80#32
  ![v565.toNat, 80]
def k0_off1191 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c13_i32_248 : BitVec 32 := 13#32
  let v576 : BitVec 32 := Scalar.addi v330 c13_i32_248
  let v577 : Index := Scalar.indexCast v576
  let c96_249 : Index := 96#32
  ![v577.toNat, 96]
def k0_off1192 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c13_i32_254 : BitVec 32 := 13#32
  let v588 : BitVec 32 := Scalar.addi v330 c13_i32_254
  let v589 : Index := Scalar.indexCast v588
  let c112_255 : Index := 112#32
  ![v589.toNat, 112]
def k0_off1193 (v484 : BitVec 32) : Fin 2 → Nat :=
  let c0_i32_211 : BitVec 32 := 0#32
  let v501 : BitVec 32 := Scalar.maxsi v484 c0_i32_211
  let v505 : Index := Scalar.indexCast v501
  let c0_214 : Index := 0#32
  ![v505.toNat, 0]
def k0_cond99 (v482 : BitVec 32) (v484 : BitVec 32) : BitVec 1 :=
  let v485 : BitVec 1 := Scalar.cmpi .ne v482 v484
  let v486 : BitVec 32 := Scalar.extui v485
  let c0_i32_206 : BitVec 32 := 0#32
  let v487 : BitVec 1 := Scalar.cmpi .ne v486 c0_i32_206
  v487

def k0_off1194 (v484 : BitVec 32) : Fin 2 → Nat :=
  let c0_i32_211 : BitVec 32 := 0#32
  let v501 : BitVec 32 := Scalar.maxsi v484 c0_i32_211
  let v512 : Index := Scalar.indexCast v501
  let c16_217 : Index := 16#32
  ![v512.toNat, 16]
def k0_off1195 (v484 : BitVec 32) : Fin 2 → Nat :=
  let c0_i32_211 : BitVec 32 := 0#32
  let v501 : BitVec 32 := Scalar.maxsi v484 c0_i32_211
  let v519 : Index := Scalar.indexCast v501
  let c32_220 : Index := 32#32
  ![v519.toNat, 32]
def k0_off1196 (v484 : BitVec 32) : Fin 2 → Nat :=
  let c0_i32_211 : BitVec 32 := 0#32
  let v501 : BitVec 32 := Scalar.maxsi v484 c0_i32_211
  let v526 : Index := Scalar.indexCast v501
  let c48_223 : Index := 48#32
  ![v526.toNat, 48]
def k0_off1197 (v484 : BitVec 32) : Fin 2 → Nat :=
  let c0_i32_211 : BitVec 32 := 0#32
  let v501 : BitVec 32 := Scalar.maxsi v484 c0_i32_211
  let v533 : Index := Scalar.indexCast v501
  let c64_226 : Index := 64#32
  ![v533.toNat, 64]
def k0_off1198 (v484 : BitVec 32) : Fin 2 → Nat :=
  let c0_i32_211 : BitVec 32 := 0#32
  let v501 : BitVec 32 := Scalar.maxsi v484 c0_i32_211
  let v540 : Index := Scalar.indexCast v501
  let c80_229 : Index := 80#32
  ![v540.toNat, 80]
def k0_off1199 (v484 : BitVec 32) : Fin 2 → Nat :=
  let c0_i32_211 : BitVec 32 := 0#32
  let v501 : BitVec 32 := Scalar.maxsi v484 c0_i32_211
  let v547 : Index := Scalar.indexCast v501
  let c96_232 : Index := 96#32
  ![v547.toNat, 96]
def k0_off1200 (v484 : BitVec 32) : Fin 2 → Nat :=
  let c0_i32_211 : BitVec 32 := 0#32
  let v501 : BitVec 32 := Scalar.maxsi v484 c0_i32_211
  let v554 : Index := Scalar.indexCast v501
  let c112_235 : Index := 112#32
  ![v554.toNat, 112]
def k0_off1201 (v484 : BitVec 32) : Fin 1 → Nat :=
  let c0_i32_211 : BitVec 32 := 0#32
  let v501 : BitVec 32 := Scalar.maxsi v484 c0_i32_211
  let c16_i32_238 : BitVec 32 := 16#32
  let v561 : BitVec 32 := Scalar.muli v501 c16_i32_238
  let v562 : Index := Scalar.indexCast v561
  ![v562.toNat]

def k0_chk47 (v327 : BitVec 32) (v329 : BitVec 32) (v332 : BitVec 32) (v482 : BitVec 32) (v484 : BitVec 32) : Prop :=
  (∀ (k0_h70 : k0_cond70 v327 v329 v332 = 1#1), ∀ (k0_h99 : k0_cond99 v482 v484 = 1#1), ∀ a, (k0_off1193 v484) a + S1x16.size a ≤ S512x128.size a) ∧
  (∀ (k0_h70 : k0_cond70 v327 v329 v332 = 1#1), ∀ (k0_h99 : k0_cond99 v482 v484 = 1#1), ∀ a, (k0_off1194 v484) a + S1x16.size a ≤ S512x128.size a) ∧
  (∀ (k0_h70 : k0_cond70 v327 v329 v332 = 1#1), ∀ (k0_h99 : k0_cond99 v482 v484 = 1#1), ∀ a, (k0_off1195 v484) a + S1x16.size a ≤ S512x128.size a) ∧
  (∀ (k0_h70 : k0_cond70 v327 v329 v332 = 1#1), ∀ (k0_h99 : k0_cond99 v482 v484 = 1#1), ∀ a, (k0_off1196 v484) a + S1x16.size a ≤ S512x128.size a) ∧
  (∀ (k0_h70 : k0_cond70 v327 v329 v332 = 1#1), ∀ (k0_h99 : k0_cond99 v482 v484 = 1#1), ∀ a, (k0_off1197 v484) a + S1x16.size a ≤ S512x128.size a) ∧
  (∀ (k0_h70 : k0_cond70 v327 v329 v332 = 1#1), ∀ (k0_h99 : k0_cond99 v482 v484 = 1#1), ∀ a, (k0_off1198 v484) a + S1x16.size a ≤ S512x128.size a) ∧
  (∀ (k0_h70 : k0_cond70 v327 v329 v332 = 1#1), ∀ (k0_h99 : k0_cond99 v482 v484 = 1#1), ∀ a, (k0_off1199 v484) a + S1x16.size a ≤ S512x128.size a) ∧
  (∀ (k0_h70 : k0_cond70 v327 v329 v332 = 1#1), ∀ (k0_h99 : k0_cond99 v482 v484 = 1#1), ∀ a, (k0_off1200 v484) a + S1x16.size a ≤ S512x128.size a) ∧
  (∀ (k0_h70 : k0_cond70 v327 v329 v332 = 1#1), ∀ (k0_h99 : k0_cond99 v482 v484 = 1#1), ∀ a, (k0_off1201 v484) a + S16.size a ≤ S8192.size a)
theorem k0_off1193_inb : ∀ (v327 : BitVec 32) (v329 : BitVec 32) (v332 : BitVec 32) (v482 : BitVec 32) (v484 : BitVec 32) (k0_hw47 : k0_chk47 v327 v329 v332 v482 v484), ∀ (k0_h70 : k0_cond70 v327 v329 v332 = 1#1), ∀ (k0_h99 : k0_cond99 v482 v484 = 1#1), ∀ a, (k0_off1193 v484) a + S1x16.size a ≤ S512x128.size a := fun v327 v329 v332 v482 v484 k0_hw47 k0_h70 k0_h99 => k0_hw47.1 k0_h70 k0_h99
theorem k0_off1194_inb : ∀ (v327 : BitVec 32) (v329 : BitVec 32) (v332 : BitVec 32) (v482 : BitVec 32) (v484 : BitVec 32) (k0_hw47 : k0_chk47 v327 v329 v332 v482 v484), ∀ (k0_h70 : k0_cond70 v327 v329 v332 = 1#1), ∀ (k0_h99 : k0_cond99 v482 v484 = 1#1), ∀ a, (k0_off1194 v484) a + S1x16.size a ≤ S512x128.size a := fun v327 v329 v332 v482 v484 k0_hw47 k0_h70 k0_h99 => k0_hw47.2.1 k0_h70 k0_h99
theorem k0_off1195_inb : ∀ (v327 : BitVec 32) (v329 : BitVec 32) (v332 : BitVec 32) (v482 : BitVec 32) (v484 : BitVec 32) (k0_hw47 : k0_chk47 v327 v329 v332 v482 v484), ∀ (k0_h70 : k0_cond70 v327 v329 v332 = 1#1), ∀ (k0_h99 : k0_cond99 v482 v484 = 1#1), ∀ a, (k0_off1195 v484) a + S1x16.size a ≤ S512x128.size a := fun v327 v329 v332 v482 v484 k0_hw47 k0_h70 k0_h99 => k0_hw47.2.2.1 k0_h70 k0_h99
theorem k0_off1196_inb : ∀ (v327 : BitVec 32) (v329 : BitVec 32) (v332 : BitVec 32) (v482 : BitVec 32) (v484 : BitVec 32) (k0_hw47 : k0_chk47 v327 v329 v332 v482 v484), ∀ (k0_h70 : k0_cond70 v327 v329 v332 = 1#1), ∀ (k0_h99 : k0_cond99 v482 v484 = 1#1), ∀ a, (k0_off1196 v484) a + S1x16.size a ≤ S512x128.size a := fun v327 v329 v332 v482 v484 k0_hw47 k0_h70 k0_h99 => k0_hw47.2.2.2.1 k0_h70 k0_h99
theorem k0_off1197_inb : ∀ (v327 : BitVec 32) (v329 : BitVec 32) (v332 : BitVec 32) (v482 : BitVec 32) (v484 : BitVec 32) (k0_hw47 : k0_chk47 v327 v329 v332 v482 v484), ∀ (k0_h70 : k0_cond70 v327 v329 v332 = 1#1), ∀ (k0_h99 : k0_cond99 v482 v484 = 1#1), ∀ a, (k0_off1197 v484) a + S1x16.size a ≤ S512x128.size a := fun v327 v329 v332 v482 v484 k0_hw47 k0_h70 k0_h99 => k0_hw47.2.2.2.2.1 k0_h70 k0_h99
theorem k0_off1198_inb : ∀ (v327 : BitVec 32) (v329 : BitVec 32) (v332 : BitVec 32) (v482 : BitVec 32) (v484 : BitVec 32) (k0_hw47 : k0_chk47 v327 v329 v332 v482 v484), ∀ (k0_h70 : k0_cond70 v327 v329 v332 = 1#1), ∀ (k0_h99 : k0_cond99 v482 v484 = 1#1), ∀ a, (k0_off1198 v484) a + S1x16.size a ≤ S512x128.size a := fun v327 v329 v332 v482 v484 k0_hw47 k0_h70 k0_h99 => k0_hw47.2.2.2.2.2.1 k0_h70 k0_h99
theorem k0_off1199_inb : ∀ (v327 : BitVec 32) (v329 : BitVec 32) (v332 : BitVec 32) (v482 : BitVec 32) (v484 : BitVec 32) (k0_hw47 : k0_chk47 v327 v329 v332 v482 v484), ∀ (k0_h70 : k0_cond70 v327 v329 v332 = 1#1), ∀ (k0_h99 : k0_cond99 v482 v484 = 1#1), ∀ a, (k0_off1199 v484) a + S1x16.size a ≤ S512x128.size a := fun v327 v329 v332 v482 v484 k0_hw47 k0_h70 k0_h99 => k0_hw47.2.2.2.2.2.2.1 k0_h70 k0_h99
theorem k0_off1200_inb : ∀ (v327 : BitVec 32) (v329 : BitVec 32) (v332 : BitVec 32) (v482 : BitVec 32) (v484 : BitVec 32) (k0_hw47 : k0_chk47 v327 v329 v332 v482 v484), ∀ (k0_h70 : k0_cond70 v327 v329 v332 = 1#1), ∀ (k0_h99 : k0_cond99 v482 v484 = 1#1), ∀ a, (k0_off1200 v484) a + S1x16.size a ≤ S512x128.size a := fun v327 v329 v332 v482 v484 k0_hw47 k0_h70 k0_h99 => k0_hw47.2.2.2.2.2.2.2.1 k0_h70 k0_h99
theorem k0_off1201_inb : ∀ (v327 : BitVec 32) (v329 : BitVec 32) (v332 : BitVec 32) (v482 : BitVec 32) (v484 : BitVec 32) (k0_hw47 : k0_chk47 v327 v329 v332 v482 v484), ∀ (k0_h70 : k0_cond70 v327 v329 v332 = 1#1), ∀ (k0_h99 : k0_cond99 v482 v484 = 1#1), ∀ a, (k0_off1201 v484) a + S16.size a ≤ S8192.size a := fun v327 v329 v332 v482 v484 k0_hw47 k0_h70 k0_h99 => k0_hw47.2.2.2.2.2.2.2.2 k0_h70 k0_h99

def k0_off1202 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c14_i32 : BitVec 32 := 14#32
  let v566 : BitVec 32 := Scalar.addi v330 c14_i32
  let v567 : Index := Scalar.indexCast v566
  let c0_239 : Index := 0#32
  ![v567.toNat, 0]
def k0_off1203 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c14_i32_242 : BitVec 32 := 14#32
  let v574 : BitVec 32 := Scalar.addi v330 c14_i32_242
  let v575 : Index := Scalar.indexCast v574
  let c16_243 : Index := 16#32
  ![v575.toNat, 16]
def k0_off1204 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c14_i32_246 : BitVec 32 := 14#32
  let v582 : BitVec 32 := Scalar.addi v330 c14_i32_246
  let v583 : Index := Scalar.indexCast v582
  let c32_247 : Index := 32#32
  ![v583.toNat, 32]
def k0_off1205 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c14_i32_250 : BitVec 32 := 14#32
  let v590 : BitVec 32 := Scalar.addi v330 c14_i32_250
  let v591 : Index := Scalar.indexCast v590
  let c48_251 : Index := 48#32
  ![v591.toNat, 48]
def k0_off1206 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c14_i32_254 : BitVec 32 := 14#32
  let v598 : BitVec 32 := Scalar.addi v330 c14_i32_254
  let v599 : Index := Scalar.indexCast v598
  let c64_255 : Index := 64#32
  ![v599.toNat, 64]
def k0_off1207 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c14_i32_258 : BitVec 32 := 14#32
  let v606 : BitVec 32 := Scalar.addi v330 c14_i32_258
  let v607 : Index := Scalar.indexCast v606
  let c80_259 : Index := 80#32
  ![v607.toNat, 80]
def k0_off1208 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c14_i32_262 : BitVec 32 := 14#32
  let v614 : BitVec 32 := Scalar.addi v330 c14_i32_262
  let v615 : Index := Scalar.indexCast v614
  let c96_263 : Index := 96#32
  ![v615.toNat, 96]
def k0_off1209 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c14_i32_266 : BitVec 32 := 14#32
  let v622 : BitVec 32 := Scalar.addi v330 c14_i32_266
  let v623 : Index := Scalar.indexCast v622
  let c112_267 : Index := 112#32
  ![v623.toNat, 112]
def k0_off1210 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c14_i32 : BitVec 32 := 14#32
  let v504 : BitVec 32 := Scalar.addi v330 c14_i32
  let v505 : Index := Scalar.indexCast v504
  let c0_213 : Index := 0#32
  ![v505.toNat, 0]
def k0_off1211 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c14_i32_218 : BitVec 32 := 14#32
  let v516 : BitVec 32 := Scalar.addi v330 c14_i32_218
  let v517 : Index := Scalar.indexCast v516
  let c16_219 : Index := 16#32
  ![v517.toNat, 16]
def k0_off1212 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c14_i32_224 : BitVec 32 := 14#32
  let v528 : BitVec 32 := Scalar.addi v330 c14_i32_224
  let v529 : Index := Scalar.indexCast v528
  let c32_225 : Index := 32#32
  ![v529.toNat, 32]
def k0_off1213 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c14_i32_230 : BitVec 32 := 14#32
  let v540 : BitVec 32 := Scalar.addi v330 c14_i32_230
  let v541 : Index := Scalar.indexCast v540
  let c48_231 : Index := 48#32
  ![v541.toNat, 48]
def k0_off1214 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c14_i32_236 : BitVec 32 := 14#32
  let v552 : BitVec 32 := Scalar.addi v330 c14_i32_236
  let v553 : Index := Scalar.indexCast v552
  let c64_237 : Index := 64#32
  ![v553.toNat, 64]
def k0_off1215 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c14_i32_242 : BitVec 32 := 14#32
  let v564 : BitVec 32 := Scalar.addi v330 c14_i32_242
  let v565 : Index := Scalar.indexCast v564
  let c80_243 : Index := 80#32
  ![v565.toNat, 80]
def k0_off1216 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c14_i32_248 : BitVec 32 := 14#32
  let v576 : BitVec 32 := Scalar.addi v330 c14_i32_248
  let v577 : Index := Scalar.indexCast v576
  let c96_249 : Index := 96#32
  ![v577.toNat, 96]
def k0_off1217 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c14_i32_254 : BitVec 32 := 14#32
  let v588 : BitVec 32 := Scalar.addi v330 c14_i32_254
  let v589 : Index := Scalar.indexCast v588
  let c112_255 : Index := 112#32
  ![v589.toNat, 112]
def k0_off1218 (v494 : BitVec 32) : Fin 2 → Nat :=
  let c0_i32_211 : BitVec 32 := 0#32
  let v501 : BitVec 32 := Scalar.maxsi v494 c0_i32_211
  let v505 : Index := Scalar.indexCast v501
  let c0_214 : Index := 0#32
  ![v505.toNat, 0]
def k0_cond101 (v492 : BitVec 32) (v494 : BitVec 32) : BitVec 1 :=
  let v495 : BitVec 1 := Scalar.cmpi .ne v492 v494
  let v496 : BitVec 32 := Scalar.extui v495
  let c0_i32_209 : BitVec 32 := 0#32
  let v497 : BitVec 1 := Scalar.cmpi .ne v496 c0_i32_209
  v497

def k0_off1219 (v494 : BitVec 32) : Fin 2 → Nat :=
  let c0_i32_211 : BitVec 32 := 0#32
  let v501 : BitVec 32 := Scalar.maxsi v494 c0_i32_211
  let v512 : Index := Scalar.indexCast v501
  let c16_217 : Index := 16#32
  ![v512.toNat, 16]
def k0_off1220 (v494 : BitVec 32) : Fin 2 → Nat :=
  let c0_i32_211 : BitVec 32 := 0#32
  let v501 : BitVec 32 := Scalar.maxsi v494 c0_i32_211
  let v519 : Index := Scalar.indexCast v501
  let c32_220 : Index := 32#32
  ![v519.toNat, 32]
def k0_off1221 (v494 : BitVec 32) : Fin 2 → Nat :=
  let c0_i32_211 : BitVec 32 := 0#32
  let v501 : BitVec 32 := Scalar.maxsi v494 c0_i32_211
  let v526 : Index := Scalar.indexCast v501
  let c48_223 : Index := 48#32
  ![v526.toNat, 48]
def k0_off1222 (v494 : BitVec 32) : Fin 2 → Nat :=
  let c0_i32_211 : BitVec 32 := 0#32
  let v501 : BitVec 32 := Scalar.maxsi v494 c0_i32_211
  let v533 : Index := Scalar.indexCast v501
  let c64_226 : Index := 64#32
  ![v533.toNat, 64]
def k0_off1223 (v494 : BitVec 32) : Fin 2 → Nat :=
  let c0_i32_211 : BitVec 32 := 0#32
  let v501 : BitVec 32 := Scalar.maxsi v494 c0_i32_211
  let v540 : Index := Scalar.indexCast v501
  let c80_229 : Index := 80#32
  ![v540.toNat, 80]
def k0_off1224 (v494 : BitVec 32) : Fin 2 → Nat :=
  let c0_i32_211 : BitVec 32 := 0#32
  let v501 : BitVec 32 := Scalar.maxsi v494 c0_i32_211
  let v547 : Index := Scalar.indexCast v501
  let c96_232 : Index := 96#32
  ![v547.toNat, 96]
def k0_off1225 (v494 : BitVec 32) : Fin 2 → Nat :=
  let c0_i32_211 : BitVec 32 := 0#32
  let v501 : BitVec 32 := Scalar.maxsi v494 c0_i32_211
  let v554 : Index := Scalar.indexCast v501
  let c112_235 : Index := 112#32
  ![v554.toNat, 112]
def k0_off1226 (v494 : BitVec 32) : Fin 1 → Nat :=
  let c0_i32_211 : BitVec 32 := 0#32
  let v501 : BitVec 32 := Scalar.maxsi v494 c0_i32_211
  let c16_i32_238 : BitVec 32 := 16#32
  let v561 : BitVec 32 := Scalar.muli v501 c16_i32_238
  let v562 : Index := Scalar.indexCast v561
  ![v562.toNat]

def k0_chk48 (v327 : BitVec 32) (v329 : BitVec 32) (v332 : BitVec 32) (v492 : BitVec 32) (v494 : BitVec 32) : Prop :=
  (∀ (k0_h70 : k0_cond70 v327 v329 v332 = 1#1), ∀ (k0_h101 : k0_cond101 v492 v494 = 1#1), ∀ a, (k0_off1218 v494) a + S1x16.size a ≤ S512x128.size a) ∧
  (∀ (k0_h70 : k0_cond70 v327 v329 v332 = 1#1), ∀ (k0_h101 : k0_cond101 v492 v494 = 1#1), ∀ a, (k0_off1219 v494) a + S1x16.size a ≤ S512x128.size a) ∧
  (∀ (k0_h70 : k0_cond70 v327 v329 v332 = 1#1), ∀ (k0_h101 : k0_cond101 v492 v494 = 1#1), ∀ a, (k0_off1220 v494) a + S1x16.size a ≤ S512x128.size a) ∧
  (∀ (k0_h70 : k0_cond70 v327 v329 v332 = 1#1), ∀ (k0_h101 : k0_cond101 v492 v494 = 1#1), ∀ a, (k0_off1221 v494) a + S1x16.size a ≤ S512x128.size a) ∧
  (∀ (k0_h70 : k0_cond70 v327 v329 v332 = 1#1), ∀ (k0_h101 : k0_cond101 v492 v494 = 1#1), ∀ a, (k0_off1222 v494) a + S1x16.size a ≤ S512x128.size a) ∧
  (∀ (k0_h70 : k0_cond70 v327 v329 v332 = 1#1), ∀ (k0_h101 : k0_cond101 v492 v494 = 1#1), ∀ a, (k0_off1223 v494) a + S1x16.size a ≤ S512x128.size a) ∧
  (∀ (k0_h70 : k0_cond70 v327 v329 v332 = 1#1), ∀ (k0_h101 : k0_cond101 v492 v494 = 1#1), ∀ a, (k0_off1224 v494) a + S1x16.size a ≤ S512x128.size a) ∧
  (∀ (k0_h70 : k0_cond70 v327 v329 v332 = 1#1), ∀ (k0_h101 : k0_cond101 v492 v494 = 1#1), ∀ a, (k0_off1225 v494) a + S1x16.size a ≤ S512x128.size a) ∧
  (∀ (k0_h70 : k0_cond70 v327 v329 v332 = 1#1), ∀ (k0_h101 : k0_cond101 v492 v494 = 1#1), ∀ a, (k0_off1226 v494) a + S16.size a ≤ S8192.size a)
theorem k0_off1218_inb : ∀ (v327 : BitVec 32) (v329 : BitVec 32) (v332 : BitVec 32) (v492 : BitVec 32) (v494 : BitVec 32) (k0_hw48 : k0_chk48 v327 v329 v332 v492 v494), ∀ (k0_h70 : k0_cond70 v327 v329 v332 = 1#1), ∀ (k0_h101 : k0_cond101 v492 v494 = 1#1), ∀ a, (k0_off1218 v494) a + S1x16.size a ≤ S512x128.size a := fun v327 v329 v332 v492 v494 k0_hw48 k0_h70 k0_h101 => k0_hw48.1 k0_h70 k0_h101
theorem k0_off1219_inb : ∀ (v327 : BitVec 32) (v329 : BitVec 32) (v332 : BitVec 32) (v492 : BitVec 32) (v494 : BitVec 32) (k0_hw48 : k0_chk48 v327 v329 v332 v492 v494), ∀ (k0_h70 : k0_cond70 v327 v329 v332 = 1#1), ∀ (k0_h101 : k0_cond101 v492 v494 = 1#1), ∀ a, (k0_off1219 v494) a + S1x16.size a ≤ S512x128.size a := fun v327 v329 v332 v492 v494 k0_hw48 k0_h70 k0_h101 => k0_hw48.2.1 k0_h70 k0_h101
theorem k0_off1220_inb : ∀ (v327 : BitVec 32) (v329 : BitVec 32) (v332 : BitVec 32) (v492 : BitVec 32) (v494 : BitVec 32) (k0_hw48 : k0_chk48 v327 v329 v332 v492 v494), ∀ (k0_h70 : k0_cond70 v327 v329 v332 = 1#1), ∀ (k0_h101 : k0_cond101 v492 v494 = 1#1), ∀ a, (k0_off1220 v494) a + S1x16.size a ≤ S512x128.size a := fun v327 v329 v332 v492 v494 k0_hw48 k0_h70 k0_h101 => k0_hw48.2.2.1 k0_h70 k0_h101
theorem k0_off1221_inb : ∀ (v327 : BitVec 32) (v329 : BitVec 32) (v332 : BitVec 32) (v492 : BitVec 32) (v494 : BitVec 32) (k0_hw48 : k0_chk48 v327 v329 v332 v492 v494), ∀ (k0_h70 : k0_cond70 v327 v329 v332 = 1#1), ∀ (k0_h101 : k0_cond101 v492 v494 = 1#1), ∀ a, (k0_off1221 v494) a + S1x16.size a ≤ S512x128.size a := fun v327 v329 v332 v492 v494 k0_hw48 k0_h70 k0_h101 => k0_hw48.2.2.2.1 k0_h70 k0_h101
theorem k0_off1222_inb : ∀ (v327 : BitVec 32) (v329 : BitVec 32) (v332 : BitVec 32) (v492 : BitVec 32) (v494 : BitVec 32) (k0_hw48 : k0_chk48 v327 v329 v332 v492 v494), ∀ (k0_h70 : k0_cond70 v327 v329 v332 = 1#1), ∀ (k0_h101 : k0_cond101 v492 v494 = 1#1), ∀ a, (k0_off1222 v494) a + S1x16.size a ≤ S512x128.size a := fun v327 v329 v332 v492 v494 k0_hw48 k0_h70 k0_h101 => k0_hw48.2.2.2.2.1 k0_h70 k0_h101
theorem k0_off1223_inb : ∀ (v327 : BitVec 32) (v329 : BitVec 32) (v332 : BitVec 32) (v492 : BitVec 32) (v494 : BitVec 32) (k0_hw48 : k0_chk48 v327 v329 v332 v492 v494), ∀ (k0_h70 : k0_cond70 v327 v329 v332 = 1#1), ∀ (k0_h101 : k0_cond101 v492 v494 = 1#1), ∀ a, (k0_off1223 v494) a + S1x16.size a ≤ S512x128.size a := fun v327 v329 v332 v492 v494 k0_hw48 k0_h70 k0_h101 => k0_hw48.2.2.2.2.2.1 k0_h70 k0_h101
theorem k0_off1224_inb : ∀ (v327 : BitVec 32) (v329 : BitVec 32) (v332 : BitVec 32) (v492 : BitVec 32) (v494 : BitVec 32) (k0_hw48 : k0_chk48 v327 v329 v332 v492 v494), ∀ (k0_h70 : k0_cond70 v327 v329 v332 = 1#1), ∀ (k0_h101 : k0_cond101 v492 v494 = 1#1), ∀ a, (k0_off1224 v494) a + S1x16.size a ≤ S512x128.size a := fun v327 v329 v332 v492 v494 k0_hw48 k0_h70 k0_h101 => k0_hw48.2.2.2.2.2.2.1 k0_h70 k0_h101
theorem k0_off1225_inb : ∀ (v327 : BitVec 32) (v329 : BitVec 32) (v332 : BitVec 32) (v492 : BitVec 32) (v494 : BitVec 32) (k0_hw48 : k0_chk48 v327 v329 v332 v492 v494), ∀ (k0_h70 : k0_cond70 v327 v329 v332 = 1#1), ∀ (k0_h101 : k0_cond101 v492 v494 = 1#1), ∀ a, (k0_off1225 v494) a + S1x16.size a ≤ S512x128.size a := fun v327 v329 v332 v492 v494 k0_hw48 k0_h70 k0_h101 => k0_hw48.2.2.2.2.2.2.2.1 k0_h70 k0_h101
theorem k0_off1226_inb : ∀ (v327 : BitVec 32) (v329 : BitVec 32) (v332 : BitVec 32) (v492 : BitVec 32) (v494 : BitVec 32) (k0_hw48 : k0_chk48 v327 v329 v332 v492 v494), ∀ (k0_h70 : k0_cond70 v327 v329 v332 = 1#1), ∀ (k0_h101 : k0_cond101 v492 v494 = 1#1), ∀ a, (k0_off1226 v494) a + S16.size a ≤ S8192.size a := fun v327 v329 v332 v492 v494 k0_hw48 k0_h70 k0_h101 => k0_hw48.2.2.2.2.2.2.2.2 k0_h70 k0_h101

def k0_off1227 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c15_i32 : BitVec 32 := 15#32
  let v566 : BitVec 32 := Scalar.addi v330 c15_i32
  let v567 : Index := Scalar.indexCast v566
  let c0_239 : Index := 0#32
  ![v567.toNat, 0]
def k0_off1228 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c15_i32_242 : BitVec 32 := 15#32
  let v574 : BitVec 32 := Scalar.addi v330 c15_i32_242
  let v575 : Index := Scalar.indexCast v574
  let c16_243 : Index := 16#32
  ![v575.toNat, 16]
def k0_off1229 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c15_i32_246 : BitVec 32 := 15#32
  let v582 : BitVec 32 := Scalar.addi v330 c15_i32_246
  let v583 : Index := Scalar.indexCast v582
  let c32_247 : Index := 32#32
  ![v583.toNat, 32]
def k0_off1230 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c15_i32_250 : BitVec 32 := 15#32
  let v590 : BitVec 32 := Scalar.addi v330 c15_i32_250
  let v591 : Index := Scalar.indexCast v590
  let c48_251 : Index := 48#32
  ![v591.toNat, 48]
def k0_off1231 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c15_i32_254 : BitVec 32 := 15#32
  let v598 : BitVec 32 := Scalar.addi v330 c15_i32_254
  let v599 : Index := Scalar.indexCast v598
  let c64_255 : Index := 64#32
  ![v599.toNat, 64]
def k0_off1232 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c15_i32_258 : BitVec 32 := 15#32
  let v606 : BitVec 32 := Scalar.addi v330 c15_i32_258
  let v607 : Index := Scalar.indexCast v606
  let c80_259 : Index := 80#32
  ![v607.toNat, 80]
def k0_off1233 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c15_i32_262 : BitVec 32 := 15#32
  let v614 : BitVec 32 := Scalar.addi v330 c15_i32_262
  let v615 : Index := Scalar.indexCast v614
  let c96_263 : Index := 96#32
  ![v615.toNat, 96]
def k0_off1234 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c15_i32_266 : BitVec 32 := 15#32
  let v622 : BitVec 32 := Scalar.addi v330 c15_i32_266
  let v623 : Index := Scalar.indexCast v622
  let c112_267 : Index := 112#32
  ![v623.toNat, 112]
def k0_off1235 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c15_i32 : BitVec 32 := 15#32
  let v504 : BitVec 32 := Scalar.addi v330 c15_i32
  let v505 : Index := Scalar.indexCast v504
  let c0_213 : Index := 0#32
  ![v505.toNat, 0]
def k0_off1236 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c15_i32_218 : BitVec 32 := 15#32
  let v516 : BitVec 32 := Scalar.addi v330 c15_i32_218
  let v517 : Index := Scalar.indexCast v516
  let c16_219 : Index := 16#32
  ![v517.toNat, 16]
def k0_off1237 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c15_i32_224 : BitVec 32 := 15#32
  let v528 : BitVec 32 := Scalar.addi v330 c15_i32_224
  let v529 : Index := Scalar.indexCast v528
  let c32_225 : Index := 32#32
  ![v529.toNat, 32]
def k0_off1238 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c15_i32_230 : BitVec 32 := 15#32
  let v540 : BitVec 32 := Scalar.addi v330 c15_i32_230
  let v541 : Index := Scalar.indexCast v540
  let c48_231 : Index := 48#32
  ![v541.toNat, 48]
def k0_off1239 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c15_i32_236 : BitVec 32 := 15#32
  let v552 : BitVec 32 := Scalar.addi v330 c15_i32_236
  let v553 : Index := Scalar.indexCast v552
  let c64_237 : Index := 64#32
  ![v553.toNat, 64]
def k0_off1240 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c15_i32_242 : BitVec 32 := 15#32
  let v564 : BitVec 32 := Scalar.addi v330 c15_i32_242
  let v565 : Index := Scalar.indexCast v564
  let c80_243 : Index := 80#32
  ![v565.toNat, 80]
def k0_off1241 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c15_i32_248 : BitVec 32 := 15#32
  let v576 : BitVec 32 := Scalar.addi v330 c15_i32_248
  let v577 : Index := Scalar.indexCast v576
  let c96_249 : Index := 96#32
  ![v577.toNat, 96]
def k0_off1242 (k0_t5 : Fin k0_t5_loop.trips) : Fin 2 → Nat :=
  let c0_i32_50 : BitVec 32 := 0#32
  let c1_i32_52 : BitVec 32 := 1#32
  let arg19 : BitVec 32 := Scf.iv c0_i32_50 c1_i32_52 k0_t5
  let c16_i32_158 : BitVec 32 := 16#32
  let v330 : BitVec 32 := Scalar.muli arg19 c16_i32_158
  let c15_i32_254 : BitVec 32 := 15#32
  let v588 : BitVec 32 := Scalar.addi v330 c15_i32_254
  let v589 : Index := Scalar.indexCast v588
  let c112_255 : Index := 112#32
  ![v589.toNat, 112]
def k0_off1243 (v115 : BitVec 32) : Fin 2 → Nat :=
  let c0_i32_55 : BitVec 32 := 0#32
  let v116 : BitVec 32 := Scalar.maxsi v115 c0_i32_55
  let v120 : Index := Scalar.indexCast v116
  let c0_58 : Index := 0#32
  ![v120.toNat, 0]

def k0_off1244 (v115 : BitVec 32) : Fin 2 → Nat :=
  let c0_i32_55 : BitVec 32 := 0#32
  let v116 : BitVec 32 := Scalar.maxsi v115 c0_i32_55
  let v127 : Index := Scalar.indexCast v116
  let c16 : Index := 16#32
  ![v127.toNat, 16]
def k0_off1245 (v115 : BitVec 32) : Fin 2 → Nat :=
  let c0_i32_55 : BitVec 32 := 0#32
  let v116 : BitVec 32 := Scalar.maxsi v115 c0_i32_55
  let v134 : Index := Scalar.indexCast v116
  let c32 : Index := 32#32
  ![v134.toNat, 32]
def k0_off1246 (v115 : BitVec 32) : Fin 2 → Nat :=
  let c0_i32_55 : BitVec 32 := 0#32
  let v116 : BitVec 32 := Scalar.maxsi v115 c0_i32_55
  let v141 : Index := Scalar.indexCast v116
  let c48 : Index := 48#32
  ![v141.toNat, 48]
def k0_off1247 (v115 : BitVec 32) : Fin 2 → Nat :=
  let c0_i32_55 : BitVec 32 := 0#32
  let v116 : BitVec 32 := Scalar.maxsi v115 c0_i32_55
  let v148 : Index := Scalar.indexCast v116
  let c64 : Index := 64#32
  ![v148.toNat, 64]
def k0_off1248 (v115 : BitVec 32) : Fin 2 → Nat :=
  let c0_i32_55 : BitVec 32 := 0#32
  let v116 : BitVec 32 := Scalar.maxsi v115 c0_i32_55
  let v155 : Index := Scalar.indexCast v116
  let c80 : Index := 80#32
  ![v155.toNat, 80]
def k0_off1249 (v115 : BitVec 32) : Fin 2 → Nat :=
  let c0_i32_55 : BitVec 32 := 0#32
  let v116 : BitVec 32 := Scalar.maxsi v115 c0_i32_55
  let v162 : Index := Scalar.indexCast v116
  let c96 : Index := 96#32
  ![v162.toNat, 96]
def k0_off1250 (v115 : BitVec 32) : Fin 2 → Nat :=
  let c0_i32_55 : BitVec 32 := 0#32
  let v116 : BitVec 32 := Scalar.maxsi v115 c0_i32_55
  let v169 : Index := Scalar.indexCast v116
  let c112 : Index := 112#32
  ![v169.toNat, 112]
def k0_off1251 (v115 : BitVec 32) : Fin 1 → Nat :=
  let c0_i32_55 : BitVec 32 := 0#32
  let v116 : BitVec 32 := Scalar.maxsi v115 c0_i32_55
  let c16_i32 : BitVec 32 := 16#32
  let v176 : BitVec 32 := Scalar.muli v116 c16_i32
  let v177 : Index := Scalar.indexCast v176
  ![v177.toNat]

def k0_chk49 (v115 : BitVec 32) : Prop :=
  (∀ a, (k0_off1243 v115) a + S1x16.size a ≤ S512x128.size a) ∧
  (∀ a, (k0_off1244 v115) a + S1x16.size a ≤ S512x128.size a) ∧
  (∀ a, (k0_off1245 v115) a + S1x16.size a ≤ S512x128.size a) ∧
  (∀ a, (k0_off1246 v115) a + S1x16.size a ≤ S512x128.size a) ∧
  (∀ a, (k0_off1247 v115) a + S1x16.size a ≤ S512x128.size a) ∧
  (∀ a, (k0_off1248 v115) a + S1x16.size a ≤ S512x128.size a) ∧
  (∀ a, (k0_off1249 v115) a + S1x16.size a ≤ S512x128.size a) ∧
  (∀ a, (k0_off1250 v115) a + S1x16.size a ≤ S512x128.size a) ∧
  (∀ a, (k0_off1251 v115) a + S16.size a ≤ S8192.size a)
theorem k0_off1243_inb : ∀ (v115 : BitVec 32) (k0_hw49 : k0_chk49 v115), ∀ a, (k0_off1243 v115) a + S1x16.size a ≤ S512x128.size a := fun v115 k0_hw49 => k0_hw49.1
theorem k0_off1244_inb : ∀ (v115 : BitVec 32) (k0_hw49 : k0_chk49 v115), ∀ a, (k0_off1244 v115) a + S1x16.size a ≤ S512x128.size a := fun v115 k0_hw49 => k0_hw49.2.1
theorem k0_off1245_inb : ∀ (v115 : BitVec 32) (k0_hw49 : k0_chk49 v115), ∀ a, (k0_off1245 v115) a + S1x16.size a ≤ S512x128.size a := fun v115 k0_hw49 => k0_hw49.2.2.1
theorem k0_off1246_inb : ∀ (v115 : BitVec 32) (k0_hw49 : k0_chk49 v115), ∀ a, (k0_off1246 v115) a + S1x16.size a ≤ S512x128.size a := fun v115 k0_hw49 => k0_hw49.2.2.2.1
theorem k0_off1247_inb : ∀ (v115 : BitVec 32) (k0_hw49 : k0_chk49 v115), ∀ a, (k0_off1247 v115) a + S1x16.size a ≤ S512x128.size a := fun v115 k0_hw49 => k0_hw49.2.2.2.2.1
theorem k0_off1248_inb : ∀ (v115 : BitVec 32) (k0_hw49 : k0_chk49 v115), ∀ a, (k0_off1248 v115) a + S1x16.size a ≤ S512x128.size a := fun v115 k0_hw49 => k0_hw49.2.2.2.2.2.1
theorem k0_off1249_inb : ∀ (v115 : BitVec 32) (k0_hw49 : k0_chk49 v115), ∀ a, (k0_off1249 v115) a + S1x16.size a ≤ S512x128.size a := fun v115 k0_hw49 => k0_hw49.2.2.2.2.2.2.1
theorem k0_off1250_inb : ∀ (v115 : BitVec 32) (k0_hw49 : k0_chk49 v115), ∀ a, (k0_off1250 v115) a + S1x16.size a ≤ S512x128.size a := fun v115 k0_hw49 => k0_hw49.2.2.2.2.2.2.2.1
theorem k0_off1251_inb : ∀ (v115 : BitVec 32) (k0_hw49 : k0_chk49 v115), ∀ a, (k0_off1251 v115) a + S16.size a ≤ S8192.size a := fun v115 k0_hw49 => k0_hw49.2.2.2.2.2.2.2.2

def k0_cond103 (i : grid0.Coords) : BitVec 1 :=
  let arg1 : BitVec 32 := BitVec.ofNat 32 (i 1).val
  let c0_i32_11 : BitVec 32 := 0#32
  let v30 : BitVec 1 := Scalar.cmpi .sgt arg1 c0_i32_11
  let v31 : BitVec 32 := Scalar.extui v30
  let c0_i32_12 : BitVec 32 := 0#32
  let v32 : BitVec 1 := Scalar.cmpi .slt arg1 c0_i32_12
  let v33 : BitVec 32 := Scalar.extui v32
  let v34 : BitVec 32 := Scalar.subi v31 v33
  let c2_i32_10 : BitVec 32 := 2#32
  let c0_i32_13 : BitVec 32 := 0#32
  let v35 : BitVec 1 := Scalar.cmpi .sgt c2_i32_10 c0_i32_13
  let v36 : BitVec 32 := Scalar.extui v35
  let c0_i32_14 : BitVec 32 := 0#32
  let v37 : BitVec 1 := Scalar.cmpi .slt c2_i32_10 c0_i32_14
  let v38 : BitVec 32 := Scalar.extui v37
  let v39 : BitVec 32 := Scalar.subi v36 v38
  let v40 : BitVec 1 := Scalar.cmpi .ne v34 v39
  let v41 : BitVec 32 := Scalar.remsi arg1 c2_i32_10
  let c0_i32_15 : BitVec 32 := 0#32
  let v42 : BitVec 1 := Scalar.cmpi .ne v41 c0_i32_15
  let v43 : BitVec 1 := Scalar.andi v40 v42
  let v29 : BitVec 32 := Scalar.divsi arg1 c2_i32_10
  let c1_i32_16 : BitVec 32 := 1#32
  let v44 : BitVec 32 := Scalar.subi v29 c1_i32_16
  let v45 : BitVec 32 := Scalar.select v43 v44 v29
  let c2_i32_83 : BitVec 32 := 2#32
  let c0_i32_84 : BitVec 32 := 0#32
  let v200 : BitVec 1 := Scalar.cmpi .eq c2_i32_83 c0_i32_84
  let c1_i32_85 : BitVec 32 := 1#32
  let v201 : BitVec 32 := Scalar.select v200 c1_i32_85 c2_i32_83
  let v202 : BitVec 32 := Scalar.remsi v45 v201
  let c0_i32_87 : BitVec 32 := 0#32
  let v204 : BitVec 1 := Scalar.cmpi .slt v202 c0_i32_87
  let c0_i32_88 : BitVec 32 := 0#32
  let v205 : BitVec 1 := Scalar.cmpi .slt v201 c0_i32_88
  let v206 : BitVec 1 := Scalar.xori v204 v205
  let c0_i32_86 : BitVec 32 := 0#32
  let v203 : BitVec 1 := Scalar.cmpi .ne v202 c0_i32_86
  let v207 : BitVec 1 := Scalar.andi v206 v203
  let v208 : BitVec 32 := Scalar.addi v202 v201
  let v209 : BitVec 32 := Scalar.select v207 v208 v202
  let c1_i32_89 : BitVec 32 := 1#32
  let v210 : BitVec 1 := Scalar.cmpi .eq v209 c1_i32_89
  let v211 : BitVec 32 := Scalar.extui v210
  let c0_i32_90 : BitVec 32 := 0#32
  let v212 : BitVec 1 := Scalar.cmpi .ne v211 c0_i32_90
  v212

def k0_off1252 (i : grid0.Coords) : Fin 3 → Nat :=
  let arg1 : BitVec 32 := BitVec.ofNat 32 (i 1).val
  let c0_i32_11 : BitVec 32 := 0#32
  let v30 : BitVec 1 := Scalar.cmpi .sgt arg1 c0_i32_11
  let v31 : BitVec 32 := Scalar.extui v30
  let c0_i32_12 : BitVec 32 := 0#32
  let v32 : BitVec 1 := Scalar.cmpi .slt arg1 c0_i32_12
  let v33 : BitVec 32 := Scalar.extui v32
  let v34 : BitVec 32 := Scalar.subi v31 v33
  let c2_i32_10 : BitVec 32 := 2#32
  let c0_i32_13 : BitVec 32 := 0#32
  let v35 : BitVec 1 := Scalar.cmpi .sgt c2_i32_10 c0_i32_13
  let v36 : BitVec 32 := Scalar.extui v35
  let c0_i32_14 : BitVec 32 := 0#32
  let v37 : BitVec 1 := Scalar.cmpi .slt c2_i32_10 c0_i32_14
  let v38 : BitVec 32 := Scalar.extui v37
  let v39 : BitVec 32 := Scalar.subi v36 v38
  let v40 : BitVec 1 := Scalar.cmpi .ne v34 v39
  let v41 : BitVec 32 := Scalar.remsi arg1 c2_i32_10
  let c0_i32_15 : BitVec 32 := 0#32
  let v42 : BitVec 1 := Scalar.cmpi .ne v41 c0_i32_15
  let v43 : BitVec 1 := Scalar.andi v40 v42
  let v29 : BitVec 32 := Scalar.divsi arg1 c2_i32_10
  let c1_i32_16 : BitVec 32 := 1#32
  let v44 : BitVec 32 := Scalar.subi v29 c1_i32_16
  let v45 : BitVec 32 := Scalar.select v43 v44 v29
  let c0_i32_76 : BitVec 32 := 0#32
  let v182 : BitVec 1 := Scalar.cmpi .sgt v45 c0_i32_76
  let v183 : BitVec 32 := Scalar.extui v182
  let c0_i32_77 : BitVec 32 := 0#32
  let v184 : BitVec 1 := Scalar.cmpi .slt v45 c0_i32_77
  let v185 : BitVec 32 := Scalar.extui v184
  let v186 : BitVec 32 := Scalar.subi v183 v185
  let c2_i32_75 : BitVec 32 := 2#32
  let c0_i32_78 : BitVec 32 := 0#32
  let v187 : BitVec 1 := Scalar.cmpi .sgt c2_i32_75 c0_i32_78
  let v188 : BitVec 32 := Scalar.extui v187
  let c0_i32_79 : BitVec 32 := 0#32
  let v189 : BitVec 1 := Scalar.cmpi .slt c2_i32_75 c0_i32_79
  let v190 : BitVec 32 := Scalar.extui v189
  let v191 : BitVec 32 := Scalar.subi v188 v190
  let v192 : BitVec 1 := Scalar.cmpi .ne v186 v191
  let v193 : BitVec 32 := Scalar.remsi v45 c2_i32_75
  let c0_i32_80 : BitVec 32 := 0#32
  let v194 : BitVec 1 := Scalar.cmpi .ne v193 c0_i32_80
  let v195 : BitVec 1 := Scalar.andi v192 v194
  let v181 : BitVec 32 := Scalar.divsi v45 c2_i32_75
  let c1_i32_81 : BitVec 32 := 1#32
  let v196 : BitVec 32 := Scalar.subi v181 c1_i32_81
  let v197 : BitVec 32 := Scalar.select v195 v196 v181
  let c2_i32_82 : BitVec 32 := 2#32
  let v198 : BitVec 32 := Scalar.muli v197 c2_i32_82
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let v199 : BitVec 32 := Scalar.addi v198 v28
  let c0_i32_157_r0 : BitVec 32 := 0#32
  let c0_i32_158_r0 : BitVec 32 := 0#32
  ![v199.toNat, 0, 0]
def k0_cond104 (i : grid0.Coords) : BitVec 1 :=
  let arg1 : BitVec 32 := BitVec.ofNat 32 (i 1).val
  let c0_i32_11 : BitVec 32 := 0#32
  let v30 : BitVec 1 := Scalar.cmpi .sgt arg1 c0_i32_11
  let v31 : BitVec 32 := Scalar.extui v30
  let c0_i32_12 : BitVec 32 := 0#32
  let v32 : BitVec 1 := Scalar.cmpi .slt arg1 c0_i32_12
  let v33 : BitVec 32 := Scalar.extui v32
  let v34 : BitVec 32 := Scalar.subi v31 v33
  let c2_i32_10 : BitVec 32 := 2#32
  let c0_i32_13 : BitVec 32 := 0#32
  let v35 : BitVec 1 := Scalar.cmpi .sgt c2_i32_10 c0_i32_13
  let v36 : BitVec 32 := Scalar.extui v35
  let c0_i32_14 : BitVec 32 := 0#32
  let v37 : BitVec 1 := Scalar.cmpi .slt c2_i32_10 c0_i32_14
  let v38 : BitVec 32 := Scalar.extui v37
  let v39 : BitVec 32 := Scalar.subi v36 v38
  let v40 : BitVec 1 := Scalar.cmpi .ne v34 v39
  let v41 : BitVec 32 := Scalar.remsi arg1 c2_i32_10
  let c0_i32_15 : BitVec 32 := 0#32
  let v42 : BitVec 1 := Scalar.cmpi .ne v41 c0_i32_15
  let v43 : BitVec 1 := Scalar.andi v40 v42
  let v29 : BitVec 32 := Scalar.divsi arg1 c2_i32_10
  let c1_i32_16 : BitVec 32 := 1#32
  let v44 : BitVec 32 := Scalar.subi v29 c1_i32_16
  let v45 : BitVec 32 := Scalar.select v43 v44 v29
  let c2_i32_92 : BitVec 32 := 2#32
  let c0_i32_93 : BitVec 32 := 0#32
  let v213 : BitVec 1 := Scalar.cmpi .eq c2_i32_92 c0_i32_93
  let c1_i32_94 : BitVec 32 := 1#32
  let v214 : BitVec 32 := Scalar.select v213 c1_i32_94 c2_i32_92
  let v215 : BitVec 32 := Scalar.remsi v45 v214
  let c0_i32_96 : BitVec 32 := 0#32
  let v217 : BitVec 1 := Scalar.cmpi .slt v215 c0_i32_96
  let c0_i32_97 : BitVec 32 := 0#32
  let v218 : BitVec 1 := Scalar.cmpi .slt v214 c0_i32_97
  let v219 : BitVec 1 := Scalar.xori v217 v218
  let c0_i32_95 : BitVec 32 := 0#32
  let v216 : BitVec 1 := Scalar.cmpi .ne v215 c0_i32_95
  let v220 : BitVec 1 := Scalar.andi v219 v216
  let v221 : BitVec 32 := Scalar.addi v215 v214
  let v222 : BitVec 32 := Scalar.select v220 v221 v215
  let c0_i32_98 : BitVec 32 := 0#32
  let v223 : BitVec 1 := Scalar.cmpi .eq v222 c0_i32_98
  let v224 : BitVec 32 := Scalar.extui v223
  let c0_i32_99 : BitVec 32 := 0#32
  let v225 : BitVec 1 := Scalar.cmpi .ne v224 c0_i32_99
  v225

@[reducible] def k0_t6_loop : Scf.Loop 32 :=
  let c0_i32_158 : BitVec 32 := 0#32
  let c8_i32_159 : BitVec 32 := 8#32
  let v322 : BitVec 32 := Scalar.addi c0_i32_158 c8_i32_159
  let c1_i32_160 : BitVec 32 := 1#32
  ⟨c0_i32_158, v322, c1_i32_160⟩
def k0_off1253 (i : grid0.Coords) (k0_t6 : Fin k0_t6_loop.trips) : Fin 3 → Nat :=
  let arg1 : BitVec 32 := BitVec.ofNat 32 (i 1).val
  let c0_i32_11 : BitVec 32 := 0#32
  let v30 : BitVec 1 := Scalar.cmpi .sgt arg1 c0_i32_11
  let v31 : BitVec 32 := Scalar.extui v30
  let c0_i32_12 : BitVec 32 := 0#32
  let v32 : BitVec 1 := Scalar.cmpi .slt arg1 c0_i32_12
  let v33 : BitVec 32 := Scalar.extui v32
  let v34 : BitVec 32 := Scalar.subi v31 v33
  let c2_i32_10 : BitVec 32 := 2#32
  let c0_i32_13 : BitVec 32 := 0#32
  let v35 : BitVec 1 := Scalar.cmpi .sgt c2_i32_10 c0_i32_13
  let v36 : BitVec 32 := Scalar.extui v35
  let c0_i32_14 : BitVec 32 := 0#32
  let v37 : BitVec 1 := Scalar.cmpi .slt c2_i32_10 c0_i32_14
  let v38 : BitVec 32 := Scalar.extui v37
  let v39 : BitVec 32 := Scalar.subi v36 v38
  let v40 : BitVec 1 := Scalar.cmpi .ne v34 v39
  let v41 : BitVec 32 := Scalar.remsi arg1 c2_i32_10
  let c0_i32_15 : BitVec 32 := 0#32
  let v42 : BitVec 1 := Scalar.cmpi .ne v41 c0_i32_15
  let v43 : BitVec 1 := Scalar.andi v40 v42
  let v29 : BitVec 32 := Scalar.divsi arg1 c2_i32_10
  let c1_i32_16 : BitVec 32 := 1#32
  let v44 : BitVec 32 := Scalar.subi v29 c1_i32_16
  let v45 : BitVec 32 := Scalar.select v43 v44 v29
  let c0_i32_76 : BitVec 32 := 0#32
  let v182 : BitVec 1 := Scalar.cmpi .sgt v45 c0_i32_76
  let v183 : BitVec 32 := Scalar.extui v182
  let c0_i32_77 : BitVec 32 := 0#32
  let v184 : BitVec 1 := Scalar.cmpi .slt v45 c0_i32_77
  let v185 : BitVec 32 := Scalar.extui v184
  let v186 : BitVec 32 := Scalar.subi v183 v185
  let c2_i32_75 : BitVec 32 := 2#32
  let c0_i32_78 : BitVec 32 := 0#32
  let v187 : BitVec 1 := Scalar.cmpi .sgt c2_i32_75 c0_i32_78
  let v188 : BitVec 32 := Scalar.extui v187
  let c0_i32_79 : BitVec 32 := 0#32
  let v189 : BitVec 1 := Scalar.cmpi .slt c2_i32_75 c0_i32_79
  let v190 : BitVec 32 := Scalar.extui v189
  let v191 : BitVec 32 := Scalar.subi v188 v190
  let v192 : BitVec 1 := Scalar.cmpi .ne v186 v191
  let v193 : BitVec 32 := Scalar.remsi v45 c2_i32_75
  let c0_i32_80 : BitVec 32 := 0#32
  let v194 : BitVec 1 := Scalar.cmpi .ne v193 c0_i32_80
  let v195 : BitVec 1 := Scalar.andi v192 v194
  let v181 : BitVec 32 := Scalar.divsi v45 c2_i32_75
  let c1_i32_81 : BitVec 32 := 1#32
  let v196 : BitVec 32 := Scalar.subi v181 c1_i32_81
  let v197 : BitVec 32 := Scalar.select v195 v196 v181
  let c2_i32_82 : BitVec 32 := 2#32
  let v198 : BitVec 32 := Scalar.muli v197 c2_i32_82
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let v199 : BitVec 32 := Scalar.addi v198 v28
  let c0_i32_158 : BitVec 32 := 0#32
  let c1_i32_160 : BitVec 32 := 1#32
  let arg19 : BitVec 32 := Scf.iv c0_i32_158 c1_i32_160 k0_t6
  let c64_i32 : BitVec 32 := 64#32
  let v324 : BitVec 32 := Scalar.muli arg19 c64_i32
  let c0_i32_170_r1 : BitVec 32 := 0#32
  ![v199.toNat, v324.toNat, 0]
@[reducible] def k0_t7_loop : Scf.Loop 32 :=
  let c0_i32_163 : BitVec 32 := 0#32
  let c64_i32_164 : BitVec 32 := 64#32
  let v325 : BitVec 32 := Scalar.addi c0_i32_163 c64_i32_164
  let c1_i32_165 : BitVec 32 := 1#32
  ⟨c0_i32_163, v325, c1_i32_165⟩
def k0_off1254 (k0_t6 : Fin k0_t6_loop.trips) (k0_t7 : Fin k0_t7_loop.trips) : Fin 2 → Nat :=
  let c0_i32_158 : BitVec 32 := 0#32
  let c1_i32_160 : BitVec 32 := 1#32
  let arg19 : BitVec 32 := Scf.iv c0_i32_158 c1_i32_160 k0_t6
  let c64_i32_168 : BitVec 32 := 64#32
  let v327 : BitVec 32 := Scalar.muli arg19 c64_i32_168
  let c0_i32_163 : BitVec 32 := 0#32
  let c1_i32_165 : BitVec 32 := 1#32
  let arg21 : BitVec 32 := Scf.iv c0_i32_163 c1_i32_165 k0_t7
  let v328 : BitVec 32 := Scalar.addi v327 arg21
  let v329 : Index := Scalar.indexCast v328
  let c0_169 : Index := 0#32
  ![v329.toNat, 0]
def k0_off1255 (k0_t7 : Fin k0_t7_loop.trips) : Fin 2 → Nat :=
  let c0_i32_163 : BitVec 32 := 0#32
  let c1_i32_165 : BitVec 32 := 1#32
  let arg21 : BitVec 32 := Scf.iv c0_i32_163 c1_i32_165 k0_t7
  let v332 : Index := Scalar.indexCast arg21
  let c0_170 : Index := 0#32
  ![v332.toNat, 0]
def k0_off1256 (k0_t6 : Fin k0_t6_loop.trips) (k0_t7 : Fin k0_t7_loop.trips) : Fin 2 → Nat :=
  let c0_i32_158 : BitVec 32 := 0#32
  let c1_i32_160 : BitVec 32 := 1#32
  let arg19 : BitVec 32 := Scf.iv c0_i32_158 c1_i32_160 k0_t6
  let c64_i32_173 : BitVec 32 := 64#32
  let v342 : BitVec 32 := Scalar.muli arg19 c64_i32_173
  let c0_i32_163 : BitVec 32 := 0#32
  let c1_i32_165 : BitVec 32 := 1#32
  let arg21 : BitVec 32 := Scf.iv c0_i32_163 c1_i32_165 k0_t7
  let v343 : BitVec 32 := Scalar.addi v342 arg21
  let v344 : Index := Scalar.indexCast v343
  let c16_174 : Index := 16#32
  ![v344.toNat, 16]
def k0_off1257 (k0_t7 : Fin k0_t7_loop.trips) : Fin 2 → Nat :=
  let c0_i32_163 : BitVec 32 := 0#32
  let c1_i32_165 : BitVec 32 := 1#32
  let arg21 : BitVec 32 := Scf.iv c0_i32_163 c1_i32_165 k0_t7
  let v347 : Index := Scalar.indexCast arg21
  let c16_175 : Index := 16#32
  ![v347.toNat, 16]
def k0_off1258 (k0_t6 : Fin k0_t6_loop.trips) (k0_t7 : Fin k0_t7_loop.trips) : Fin 2 → Nat :=
  let c0_i32_158 : BitVec 32 := 0#32
  let c1_i32_160 : BitVec 32 := 1#32
  let arg19 : BitVec 32 := Scf.iv c0_i32_158 c1_i32_160 k0_t6
  let c64_i32_178 : BitVec 32 := 64#32
  let v357 : BitVec 32 := Scalar.muli arg19 c64_i32_178
  let c0_i32_163 : BitVec 32 := 0#32
  let c1_i32_165 : BitVec 32 := 1#32
  let arg21 : BitVec 32 := Scf.iv c0_i32_163 c1_i32_165 k0_t7
  let v358 : BitVec 32 := Scalar.addi v357 arg21
  let v359 : Index := Scalar.indexCast v358
  let c32_179 : Index := 32#32
  ![v359.toNat, 32]
def k0_off1259 (k0_t7 : Fin k0_t7_loop.trips) : Fin 2 → Nat :=
  let c0_i32_163 : BitVec 32 := 0#32
  let c1_i32_165 : BitVec 32 := 1#32
  let arg21 : BitVec 32 := Scf.iv c0_i32_163 c1_i32_165 k0_t7
  let v362 : Index := Scalar.indexCast arg21
  let c32_180 : Index := 32#32
  ![v362.toNat, 32]
def k0_off1260 (k0_t6 : Fin k0_t6_loop.trips) (k0_t7 : Fin k0_t7_loop.trips) : Fin 2 → Nat :=
  let c0_i32_158 : BitVec 32 := 0#32
  let c1_i32_160 : BitVec 32 := 1#32
  let arg19 : BitVec 32 := Scf.iv c0_i32_158 c1_i32_160 k0_t6
  let c64_i32_183 : BitVec 32 := 64#32
  let v372 : BitVec 32 := Scalar.muli arg19 c64_i32_183
  let c0_i32_163 : BitVec 32 := 0#32
  let c1_i32_165 : BitVec 32 := 1#32
  let arg21 : BitVec 32 := Scf.iv c0_i32_163 c1_i32_165 k0_t7
  let v373 : BitVec 32 := Scalar.addi v372 arg21
  let v374 : Index := Scalar.indexCast v373
  let c48_184 : Index := 48#32
  ![v374.toNat, 48]
def k0_off1261 (k0_t7 : Fin k0_t7_loop.trips) : Fin 2 → Nat :=
  let c0_i32_163 : BitVec 32 := 0#32
  let c1_i32_165 : BitVec 32 := 1#32
  let arg21 : BitVec 32 := Scf.iv c0_i32_163 c1_i32_165 k0_t7
  let v377 : Index := Scalar.indexCast arg21
  let c48_185 : Index := 48#32
  ![v377.toNat, 48]
def k0_off1262 (k0_t6 : Fin k0_t6_loop.trips) (k0_t7 : Fin k0_t7_loop.trips) : Fin 2 → Nat :=
  let c0_i32_158 : BitVec 32 := 0#32
  let c1_i32_160 : BitVec 32 := 1#32
  let arg19 : BitVec 32 := Scf.iv c0_i32_158 c1_i32_160 k0_t6
  let c64_i32_188 : BitVec 32 := 64#32
  let v387 : BitVec 32 := Scalar.muli arg19 c64_i32_188
  let c0_i32_163 : BitVec 32 := 0#32
  let c1_i32_165 : BitVec 32 := 1#32
  let arg21 : BitVec 32 := Scf.iv c0_i32_163 c1_i32_165 k0_t7
  let v388 : BitVec 32 := Scalar.addi v387 arg21
  let v389 : Index := Scalar.indexCast v388
  let c64_189 : Index := 64#32
  ![v389.toNat, 64]
def k0_off1263 (k0_t7 : Fin k0_t7_loop.trips) : Fin 2 → Nat :=
  let c0_i32_163 : BitVec 32 := 0#32
  let c1_i32_165 : BitVec 32 := 1#32
  let arg21 : BitVec 32 := Scf.iv c0_i32_163 c1_i32_165 k0_t7
  let v392 : Index := Scalar.indexCast arg21
  let c64_190 : Index := 64#32
  ![v392.toNat, 64]
def k0_off1264 (k0_t6 : Fin k0_t6_loop.trips) (k0_t7 : Fin k0_t7_loop.trips) : Fin 2 → Nat :=
  let c0_i32_158 : BitVec 32 := 0#32
  let c1_i32_160 : BitVec 32 := 1#32
  let arg19 : BitVec 32 := Scf.iv c0_i32_158 c1_i32_160 k0_t6
  let c64_i32_193 : BitVec 32 := 64#32
  let v402 : BitVec 32 := Scalar.muli arg19 c64_i32_193
  let c0_i32_163 : BitVec 32 := 0#32
  let c1_i32_165 : BitVec 32 := 1#32
  let arg21 : BitVec 32 := Scf.iv c0_i32_163 c1_i32_165 k0_t7
  let v403 : BitVec 32 := Scalar.addi v402 arg21
  let v404 : Index := Scalar.indexCast v403
  let c80_194 : Index := 80#32
  ![v404.toNat, 80]
def k0_off1265 (k0_t7 : Fin k0_t7_loop.trips) : Fin 2 → Nat :=
  let c0_i32_163 : BitVec 32 := 0#32
  let c1_i32_165 : BitVec 32 := 1#32
  let arg21 : BitVec 32 := Scf.iv c0_i32_163 c1_i32_165 k0_t7
  let v407 : Index := Scalar.indexCast arg21
  let c80_195 : Index := 80#32
  ![v407.toNat, 80]
def k0_off1266 (k0_t6 : Fin k0_t6_loop.trips) (k0_t7 : Fin k0_t7_loop.trips) : Fin 2 → Nat :=
  let c0_i32_158 : BitVec 32 := 0#32
  let c1_i32_160 : BitVec 32 := 1#32
  let arg19 : BitVec 32 := Scf.iv c0_i32_158 c1_i32_160 k0_t6
  let c64_i32_198 : BitVec 32 := 64#32
  let v417 : BitVec 32 := Scalar.muli arg19 c64_i32_198
  let c0_i32_163 : BitVec 32 := 0#32
  let c1_i32_165 : BitVec 32 := 1#32
  let arg21 : BitVec 32 := Scf.iv c0_i32_163 c1_i32_165 k0_t7
  let v418 : BitVec 32 := Scalar.addi v417 arg21
  let v419 : Index := Scalar.indexCast v418
  let c96_199 : Index := 96#32
  ![v419.toNat, 96]
def k0_off1267 (k0_t7 : Fin k0_t7_loop.trips) : Fin 2 → Nat :=
  let c0_i32_163 : BitVec 32 := 0#32
  let c1_i32_165 : BitVec 32 := 1#32
  let arg21 : BitVec 32 := Scf.iv c0_i32_163 c1_i32_165 k0_t7
  let v422 : Index := Scalar.indexCast arg21
  let c96_200 : Index := 96#32
  ![v422.toNat, 96]
def k0_off1268 (k0_t6 : Fin k0_t6_loop.trips) (k0_t7 : Fin k0_t7_loop.trips) : Fin 2 → Nat :=
  let c0_i32_158 : BitVec 32 := 0#32
  let c1_i32_160 : BitVec 32 := 1#32
  let arg19 : BitVec 32 := Scf.iv c0_i32_158 c1_i32_160 k0_t6
  let c64_i32_203 : BitVec 32 := 64#32
  let v432 : BitVec 32 := Scalar.muli arg19 c64_i32_203
  let c0_i32_163 : BitVec 32 := 0#32
  let c1_i32_165 : BitVec 32 := 1#32
  let arg21 : BitVec 32 := Scf.iv c0_i32_163 c1_i32_165 k0_t7
  let v433 : BitVec 32 := Scalar.addi v432 arg21
  let v434 : Index := Scalar.indexCast v433
  let c112_204 : Index := 112#32
  ![v434.toNat, 112]
def k0_off1269 (k0_t7 : Fin k0_t7_loop.trips) : Fin 2 → Nat :=
  let c0_i32_163 : BitVec 32 := 0#32
  let c1_i32_165 : BitVec 32 := 1#32
  let arg21 : BitVec 32 := Scf.iv c0_i32_163 c1_i32_165 k0_t7
  let v437 : Index := Scalar.indexCast arg21
  let c112_205 : Index := 112#32
  ![v437.toNat, 112]
def k0_cond105 (i : grid0.Coords) : BitVec 1 :=
  let arg1 : BitVec 32 := BitVec.ofNat 32 (i 1).val
  let c0_i32_11 : BitVec 32 := 0#32
  let v30 : BitVec 1 := Scalar.cmpi .sgt arg1 c0_i32_11
  let v31 : BitVec 32 := Scalar.extui v30
  let c0_i32_12 : BitVec 32 := 0#32
  let v32 : BitVec 1 := Scalar.cmpi .slt arg1 c0_i32_12
  let v33 : BitVec 32 := Scalar.extui v32
  let v34 : BitVec 32 := Scalar.subi v31 v33
  let c2_i32_10 : BitVec 32 := 2#32
  let c0_i32_13 : BitVec 32 := 0#32
  let v35 : BitVec 1 := Scalar.cmpi .sgt c2_i32_10 c0_i32_13
  let v36 : BitVec 32 := Scalar.extui v35
  let c0_i32_14 : BitVec 32 := 0#32
  let v37 : BitVec 1 := Scalar.cmpi .slt c2_i32_10 c0_i32_14
  let v38 : BitVec 32 := Scalar.extui v37
  let v39 : BitVec 32 := Scalar.subi v36 v38
  let v40 : BitVec 1 := Scalar.cmpi .ne v34 v39
  let v41 : BitVec 32 := Scalar.remsi arg1 c2_i32_10
  let c0_i32_15 : BitVec 32 := 0#32
  let v42 : BitVec 1 := Scalar.cmpi .ne v41 c0_i32_15
  let v43 : BitVec 1 := Scalar.andi v40 v42
  let v29 : BitVec 32 := Scalar.divsi arg1 c2_i32_10
  let c1_i32_16 : BitVec 32 := 1#32
  let v44 : BitVec 32 := Scalar.subi v29 c1_i32_16
  let v45 : BitVec 32 := Scalar.select v43 v44 v29
  let c4_i32_109 : BitVec 32 := 4#32
  let c0_i32_110 : BitVec 32 := 0#32
  let v245 : BitVec 1 := Scalar.cmpi .eq c4_i32_109 c0_i32_110
  let c1_i32_111 : BitVec 32 := 1#32
  let v246 : BitVec 32 := Scalar.select v245 c1_i32_111 c4_i32_109
  let v247 : BitVec 32 := Scalar.remsi v45 v246
  let c0_i32_113 : BitVec 32 := 0#32
  let v249 : BitVec 1 := Scalar.cmpi .slt v247 c0_i32_113
  let c0_i32_114 : BitVec 32 := 0#32
  let v250 : BitVec 1 := Scalar.cmpi .slt v246 c0_i32_114
  let v251 : BitVec 1 := Scalar.xori v249 v250
  let c0_i32_112 : BitVec 32 := 0#32
  let v248 : BitVec 1 := Scalar.cmpi .ne v247 c0_i32_112
  let v252 : BitVec 1 := Scalar.andi v251 v248
  let v253 : BitVec 32 := Scalar.addi v247 v246
  let v254 : BitVec 32 := Scalar.select v252 v253 v247
  let c2_i32_115 : BitVec 32 := 2#32
  let v255 : BitVec 1 := Scalar.cmpi .eq v254 c2_i32_115
  let v256 : BitVec 32 := Scalar.extui v255
  let c0_i32_116 : BitVec 32 := 0#32
  let v257 : BitVec 1 := Scalar.cmpi .ne v256 c0_i32_116
  v257

def k0_off1270 (i : grid0.Coords) : Fin 3 → Nat :=
  let arg1 : BitVec 32 := BitVec.ofNat 32 (i 1).val
  let c0_i32_11 : BitVec 32 := 0#32
  let v30 : BitVec 1 := Scalar.cmpi .sgt arg1 c0_i32_11
  let v31 : BitVec 32 := Scalar.extui v30
  let c0_i32_12 : BitVec 32 := 0#32
  let v32 : BitVec 1 := Scalar.cmpi .slt arg1 c0_i32_12
  let v33 : BitVec 32 := Scalar.extui v32
  let v34 : BitVec 32 := Scalar.subi v31 v33
  let c2_i32_10 : BitVec 32 := 2#32
  let c0_i32_13 : BitVec 32 := 0#32
  let v35 : BitVec 1 := Scalar.cmpi .sgt c2_i32_10 c0_i32_13
  let v36 : BitVec 32 := Scalar.extui v35
  let c0_i32_14 : BitVec 32 := 0#32
  let v37 : BitVec 1 := Scalar.cmpi .slt c2_i32_10 c0_i32_14
  let v38 : BitVec 32 := Scalar.extui v37
  let v39 : BitVec 32 := Scalar.subi v36 v38
  let v40 : BitVec 1 := Scalar.cmpi .ne v34 v39
  let v41 : BitVec 32 := Scalar.remsi arg1 c2_i32_10
  let c0_i32_15 : BitVec 32 := 0#32
  let v42 : BitVec 1 := Scalar.cmpi .ne v41 c0_i32_15
  let v43 : BitVec 1 := Scalar.andi v40 v42
  let v29 : BitVec 32 := Scalar.divsi arg1 c2_i32_10
  let c1_i32_16 : BitVec 32 := 1#32
  let v44 : BitVec 32 := Scalar.subi v29 c1_i32_16
  let v45 : BitVec 32 := Scalar.select v43 v44 v29
  let c0_i32_102 : BitVec 32 := 0#32
  let v227 : BitVec 1 := Scalar.cmpi .sgt v45 c0_i32_102
  let v228 : BitVec 32 := Scalar.extui v227
  let c0_i32_103 : BitVec 32 := 0#32
  let v229 : BitVec 1 := Scalar.cmpi .slt v45 c0_i32_103
  let v230 : BitVec 32 := Scalar.extui v229
  let v231 : BitVec 32 := Scalar.subi v228 v230
  let c4_i32_101 : BitVec 32 := 4#32
  let c0_i32_104 : BitVec 32 := 0#32
  let v232 : BitVec 1 := Scalar.cmpi .sgt c4_i32_101 c0_i32_104
  let v233 : BitVec 32 := Scalar.extui v232
  let c0_i32_105 : BitVec 32 := 0#32
  let v234 : BitVec 1 := Scalar.cmpi .slt c4_i32_101 c0_i32_105
  let v235 : BitVec 32 := Scalar.extui v234
  let v236 : BitVec 32 := Scalar.subi v233 v235
  let v237 : BitVec 1 := Scalar.cmpi .ne v231 v236
  let v238 : BitVec 32 := Scalar.remsi v45 c4_i32_101
  let c0_i32_106 : BitVec 32 := 0#32
  let v239 : BitVec 1 := Scalar.cmpi .ne v238 c0_i32_106
  let v240 : BitVec 1 := Scalar.andi v237 v239
  let v226 : BitVec 32 := Scalar.divsi v45 c4_i32_101
  let c1_i32_107 : BitVec 32 := 1#32
  let v241 : BitVec 32 := Scalar.subi v226 c1_i32_107
  let v242 : BitVec 32 := Scalar.select v240 v241 v226
  let c2_i32_108 : BitVec 32 := 2#32
  let v243 : BitVec 32 := Scalar.muli v242 c2_i32_108
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let v244 : BitVec 32 := Scalar.addi v243 v28
  let c0_i32_157_r2 : BitVec 32 := 0#32
  let c0_i32_158_r2 : BitVec 32 := 0#32
  ![v244.toNat, 0, 0]
def k0_cond106 (i : grid0.Coords) : BitVec 1 :=
  let arg1 : BitVec 32 := BitVec.ofNat 32 (i 1).val
  let c0_i32_11 : BitVec 32 := 0#32
  let v30 : BitVec 1 := Scalar.cmpi .sgt arg1 c0_i32_11
  let v31 : BitVec 32 := Scalar.extui v30
  let c0_i32_12 : BitVec 32 := 0#32
  let v32 : BitVec 1 := Scalar.cmpi .slt arg1 c0_i32_12
  let v33 : BitVec 32 := Scalar.extui v32
  let v34 : BitVec 32 := Scalar.subi v31 v33
  let c2_i32_10 : BitVec 32 := 2#32
  let c0_i32_13 : BitVec 32 := 0#32
  let v35 : BitVec 1 := Scalar.cmpi .sgt c2_i32_10 c0_i32_13
  let v36 : BitVec 32 := Scalar.extui v35
  let c0_i32_14 : BitVec 32 := 0#32
  let v37 : BitVec 1 := Scalar.cmpi .slt c2_i32_10 c0_i32_14
  let v38 : BitVec 32 := Scalar.extui v37
  let v39 : BitVec 32 := Scalar.subi v36 v38
  let v40 : BitVec 1 := Scalar.cmpi .ne v34 v39
  let v41 : BitVec 32 := Scalar.remsi arg1 c2_i32_10
  let c0_i32_15 : BitVec 32 := 0#32
  let v42 : BitVec 1 := Scalar.cmpi .ne v41 c0_i32_15
  let v43 : BitVec 1 := Scalar.andi v40 v42
  let v29 : BitVec 32 := Scalar.divsi arg1 c2_i32_10
  let c1_i32_16 : BitVec 32 := 1#32
  let v44 : BitVec 32 := Scalar.subi v29 c1_i32_16
  let v45 : BitVec 32 := Scalar.select v43 v44 v29
  let c4_i32_118 : BitVec 32 := 4#32
  let c0_i32_119 : BitVec 32 := 0#32
  let v258 : BitVec 1 := Scalar.cmpi .eq c4_i32_118 c0_i32_119
  let c1_i32_120 : BitVec 32 := 1#32
  let v259 : BitVec 32 := Scalar.select v258 c1_i32_120 c4_i32_118
  let v260 : BitVec 32 := Scalar.remsi v45 v259
  let c0_i32_122 : BitVec 32 := 0#32
  let v262 : BitVec 1 := Scalar.cmpi .slt v260 c0_i32_122
  let c0_i32_123 : BitVec 32 := 0#32
  let v263 : BitVec 1 := Scalar.cmpi .slt v259 c0_i32_123
  let v264 : BitVec 1 := Scalar.xori v262 v263
  let c0_i32_121 : BitVec 32 := 0#32
  let v261 : BitVec 1 := Scalar.cmpi .ne v260 c0_i32_121
  let v265 : BitVec 1 := Scalar.andi v264 v261
  let v266 : BitVec 32 := Scalar.addi v260 v259
  let v267 : BitVec 32 := Scalar.select v265 v266 v260
  let c0_i32_124 : BitVec 32 := 0#32
  let v268 : BitVec 1 := Scalar.cmpi .eq v267 c0_i32_124
  let v269 : BitVec 32 := Scalar.extui v268
  let c0_i32_125 : BitVec 32 := 0#32
  let v270 : BitVec 1 := Scalar.cmpi .ne v269 c0_i32_125
  v270

@[reducible] def k0_t8_loop : Scf.Loop 32 :=
  let c0_i32_158 : BitVec 32 := 0#32
  let c8_i32_159 : BitVec 32 := 8#32
  let v322 : BitVec 32 := Scalar.addi c0_i32_158 c8_i32_159
  let c1_i32_160 : BitVec 32 := 1#32
  ⟨c0_i32_158, v322, c1_i32_160⟩
def k0_off1271 (i : grid0.Coords) (k0_t8 : Fin k0_t8_loop.trips) : Fin 3 → Nat :=
  let arg1 : BitVec 32 := BitVec.ofNat 32 (i 1).val
  let c0_i32_11 : BitVec 32 := 0#32
  let v30 : BitVec 1 := Scalar.cmpi .sgt arg1 c0_i32_11
  let v31 : BitVec 32 := Scalar.extui v30
  let c0_i32_12 : BitVec 32 := 0#32
  let v32 : BitVec 1 := Scalar.cmpi .slt arg1 c0_i32_12
  let v33 : BitVec 32 := Scalar.extui v32
  let v34 : BitVec 32 := Scalar.subi v31 v33
  let c2_i32_10 : BitVec 32 := 2#32
  let c0_i32_13 : BitVec 32 := 0#32
  let v35 : BitVec 1 := Scalar.cmpi .sgt c2_i32_10 c0_i32_13
  let v36 : BitVec 32 := Scalar.extui v35
  let c0_i32_14 : BitVec 32 := 0#32
  let v37 : BitVec 1 := Scalar.cmpi .slt c2_i32_10 c0_i32_14
  let v38 : BitVec 32 := Scalar.extui v37
  let v39 : BitVec 32 := Scalar.subi v36 v38
  let v40 : BitVec 1 := Scalar.cmpi .ne v34 v39
  let v41 : BitVec 32 := Scalar.remsi arg1 c2_i32_10
  let c0_i32_15 : BitVec 32 := 0#32
  let v42 : BitVec 1 := Scalar.cmpi .ne v41 c0_i32_15
  let v43 : BitVec 1 := Scalar.andi v40 v42
  let v29 : BitVec 32 := Scalar.divsi arg1 c2_i32_10
  let c1_i32_16 : BitVec 32 := 1#32
  let v44 : BitVec 32 := Scalar.subi v29 c1_i32_16
  let v45 : BitVec 32 := Scalar.select v43 v44 v29
  let c0_i32_102 : BitVec 32 := 0#32
  let v227 : BitVec 1 := Scalar.cmpi .sgt v45 c0_i32_102
  let v228 : BitVec 32 := Scalar.extui v227
  let c0_i32_103 : BitVec 32 := 0#32
  let v229 : BitVec 1 := Scalar.cmpi .slt v45 c0_i32_103
  let v230 : BitVec 32 := Scalar.extui v229
  let v231 : BitVec 32 := Scalar.subi v228 v230
  let c4_i32_101 : BitVec 32 := 4#32
  let c0_i32_104 : BitVec 32 := 0#32
  let v232 : BitVec 1 := Scalar.cmpi .sgt c4_i32_101 c0_i32_104
  let v233 : BitVec 32 := Scalar.extui v232
  let c0_i32_105 : BitVec 32 := 0#32
  let v234 : BitVec 1 := Scalar.cmpi .slt c4_i32_101 c0_i32_105
  let v235 : BitVec 32 := Scalar.extui v234
  let v236 : BitVec 32 := Scalar.subi v233 v235
  let v237 : BitVec 1 := Scalar.cmpi .ne v231 v236
  let v238 : BitVec 32 := Scalar.remsi v45 c4_i32_101
  let c0_i32_106 : BitVec 32 := 0#32
  let v239 : BitVec 1 := Scalar.cmpi .ne v238 c0_i32_106
  let v240 : BitVec 1 := Scalar.andi v237 v239
  let v226 : BitVec 32 := Scalar.divsi v45 c4_i32_101
  let c1_i32_107 : BitVec 32 := 1#32
  let v241 : BitVec 32 := Scalar.subi v226 c1_i32_107
  let v242 : BitVec 32 := Scalar.select v240 v241 v226
  let c2_i32_108 : BitVec 32 := 2#32
  let v243 : BitVec 32 := Scalar.muli v242 c2_i32_108
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let v244 : BitVec 32 := Scalar.addi v243 v28
  let c0_i32_158 : BitVec 32 := 0#32
  let c1_i32_160 : BitVec 32 := 1#32
  let arg19 : BitVec 32 := Scf.iv c0_i32_158 c1_i32_160 k0_t8
  let c64_i32 : BitVec 32 := 64#32
  let v324 : BitVec 32 := Scalar.muli arg19 c64_i32
  let c0_i32_170_r3 : BitVec 32 := 0#32
  ![v244.toNat, v324.toNat, 0]
@[reducible] def k0_t9_loop : Scf.Loop 32 :=
  let c0_i32_163 : BitVec 32 := 0#32
  let c64_i32_164 : BitVec 32 := 64#32
  let v325 : BitVec 32 := Scalar.addi c0_i32_163 c64_i32_164
  let c1_i32_165 : BitVec 32 := 1#32
  ⟨c0_i32_163, v325, c1_i32_165⟩
def k0_off1272 (k0_t8 : Fin k0_t8_loop.trips) (k0_t9 : Fin k0_t9_loop.trips) : Fin 2 → Nat :=
  let c0_i32_158 : BitVec 32 := 0#32
  let c1_i32_160 : BitVec 32 := 1#32
  let arg19 : BitVec 32 := Scf.iv c0_i32_158 c1_i32_160 k0_t8
  let c64_i32_168 : BitVec 32 := 64#32
  let v327 : BitVec 32 := Scalar.muli arg19 c64_i32_168
  let c0_i32_163 : BitVec 32 := 0#32
  let c1_i32_165 : BitVec 32 := 1#32
  let arg21 : BitVec 32 := Scf.iv c0_i32_163 c1_i32_165 k0_t9
  let v328 : BitVec 32 := Scalar.addi v327 arg21
  let v329 : Index := Scalar.indexCast v328
  let c0_169 : Index := 0#32
  ![v329.toNat, 0]
def k0_off1273 (k0_t9 : Fin k0_t9_loop.trips) : Fin 2 → Nat :=
  let c0_i32_163 : BitVec 32 := 0#32
  let c1_i32_165 : BitVec 32 := 1#32
  let arg21 : BitVec 32 := Scf.iv c0_i32_163 c1_i32_165 k0_t9
  let v332 : Index := Scalar.indexCast arg21
  let c0_170 : Index := 0#32
  ![v332.toNat, 0]
def k0_off1274 (k0_t8 : Fin k0_t8_loop.trips) (k0_t9 : Fin k0_t9_loop.trips) : Fin 2 → Nat :=
  let c0_i32_158 : BitVec 32 := 0#32
  let c1_i32_160 : BitVec 32 := 1#32
  let arg19 : BitVec 32 := Scf.iv c0_i32_158 c1_i32_160 k0_t8
  let c64_i32_173 : BitVec 32 := 64#32
  let v342 : BitVec 32 := Scalar.muli arg19 c64_i32_173
  let c0_i32_163 : BitVec 32 := 0#32
  let c1_i32_165 : BitVec 32 := 1#32
  let arg21 : BitVec 32 := Scf.iv c0_i32_163 c1_i32_165 k0_t9
  let v343 : BitVec 32 := Scalar.addi v342 arg21
  let v344 : Index := Scalar.indexCast v343
  let c16_174 : Index := 16#32
  ![v344.toNat, 16]
def k0_off1275 (k0_t9 : Fin k0_t9_loop.trips) : Fin 2 → Nat :=
  let c0_i32_163 : BitVec 32 := 0#32
  let c1_i32_165 : BitVec 32 := 1#32
  let arg21 : BitVec 32 := Scf.iv c0_i32_163 c1_i32_165 k0_t9
  let v347 : Index := Scalar.indexCast arg21
  let c16_175 : Index := 16#32
  ![v347.toNat, 16]
def k0_off1276 (k0_t8 : Fin k0_t8_loop.trips) (k0_t9 : Fin k0_t9_loop.trips) : Fin 2 → Nat :=
  let c0_i32_158 : BitVec 32 := 0#32
  let c1_i32_160 : BitVec 32 := 1#32
  let arg19 : BitVec 32 := Scf.iv c0_i32_158 c1_i32_160 k0_t8
  let c64_i32_178 : BitVec 32 := 64#32
  let v357 : BitVec 32 := Scalar.muli arg19 c64_i32_178
  let c0_i32_163 : BitVec 32 := 0#32
  let c1_i32_165 : BitVec 32 := 1#32
  let arg21 : BitVec 32 := Scf.iv c0_i32_163 c1_i32_165 k0_t9
  let v358 : BitVec 32 := Scalar.addi v357 arg21
  let v359 : Index := Scalar.indexCast v358
  let c32_179 : Index := 32#32
  ![v359.toNat, 32]
def k0_off1277 (k0_t9 : Fin k0_t9_loop.trips) : Fin 2 → Nat :=
  let c0_i32_163 : BitVec 32 := 0#32
  let c1_i32_165 : BitVec 32 := 1#32
  let arg21 : BitVec 32 := Scf.iv c0_i32_163 c1_i32_165 k0_t9
  let v362 : Index := Scalar.indexCast arg21
  let c32_180 : Index := 32#32
  ![v362.toNat, 32]
def k0_off1278 (k0_t8 : Fin k0_t8_loop.trips) (k0_t9 : Fin k0_t9_loop.trips) : Fin 2 → Nat :=
  let c0_i32_158 : BitVec 32 := 0#32
  let c1_i32_160 : BitVec 32 := 1#32
  let arg19 : BitVec 32 := Scf.iv c0_i32_158 c1_i32_160 k0_t8
  let c64_i32_183 : BitVec 32 := 64#32
  let v372 : BitVec 32 := Scalar.muli arg19 c64_i32_183
  let c0_i32_163 : BitVec 32 := 0#32
  let c1_i32_165 : BitVec 32 := 1#32
  let arg21 : BitVec 32 := Scf.iv c0_i32_163 c1_i32_165 k0_t9
  let v373 : BitVec 32 := Scalar.addi v372 arg21
  let v374 : Index := Scalar.indexCast v373
  let c48_184 : Index := 48#32
  ![v374.toNat, 48]
def k0_off1279 (k0_t9 : Fin k0_t9_loop.trips) : Fin 2 → Nat :=
  let c0_i32_163 : BitVec 32 := 0#32
  let c1_i32_165 : BitVec 32 := 1#32
  let arg21 : BitVec 32 := Scf.iv c0_i32_163 c1_i32_165 k0_t9
  let v377 : Index := Scalar.indexCast arg21
  let c48_185 : Index := 48#32
  ![v377.toNat, 48]
def k0_off1280 (k0_t8 : Fin k0_t8_loop.trips) (k0_t9 : Fin k0_t9_loop.trips) : Fin 2 → Nat :=
  let c0_i32_158 : BitVec 32 := 0#32
  let c1_i32_160 : BitVec 32 := 1#32
  let arg19 : BitVec 32 := Scf.iv c0_i32_158 c1_i32_160 k0_t8
  let c64_i32_188 : BitVec 32 := 64#32
  let v387 : BitVec 32 := Scalar.muli arg19 c64_i32_188
  let c0_i32_163 : BitVec 32 := 0#32
  let c1_i32_165 : BitVec 32 := 1#32
  let arg21 : BitVec 32 := Scf.iv c0_i32_163 c1_i32_165 k0_t9
  let v388 : BitVec 32 := Scalar.addi v387 arg21
  let v389 : Index := Scalar.indexCast v388
  let c64_189 : Index := 64#32
  ![v389.toNat, 64]
def k0_off1281 (k0_t9 : Fin k0_t9_loop.trips) : Fin 2 → Nat :=
  let c0_i32_163 : BitVec 32 := 0#32
  let c1_i32_165 : BitVec 32 := 1#32
  let arg21 : BitVec 32 := Scf.iv c0_i32_163 c1_i32_165 k0_t9
  let v392 : Index := Scalar.indexCast arg21
  let c64_190 : Index := 64#32
  ![v392.toNat, 64]
def k0_off1282 (k0_t8 : Fin k0_t8_loop.trips) (k0_t9 : Fin k0_t9_loop.trips) : Fin 2 → Nat :=
  let c0_i32_158 : BitVec 32 := 0#32
  let c1_i32_160 : BitVec 32 := 1#32
  let arg19 : BitVec 32 := Scf.iv c0_i32_158 c1_i32_160 k0_t8
  let c64_i32_193 : BitVec 32 := 64#32
  let v402 : BitVec 32 := Scalar.muli arg19 c64_i32_193
  let c0_i32_163 : BitVec 32 := 0#32
  let c1_i32_165 : BitVec 32 := 1#32
  let arg21 : BitVec 32 := Scf.iv c0_i32_163 c1_i32_165 k0_t9
  let v403 : BitVec 32 := Scalar.addi v402 arg21
  let v404 : Index := Scalar.indexCast v403
  let c80_194 : Index := 80#32
  ![v404.toNat, 80]
def k0_off1283 (k0_t9 : Fin k0_t9_loop.trips) : Fin 2 → Nat :=
  let c0_i32_163 : BitVec 32 := 0#32
  let c1_i32_165 : BitVec 32 := 1#32
  let arg21 : BitVec 32 := Scf.iv c0_i32_163 c1_i32_165 k0_t9
  let v407 : Index := Scalar.indexCast arg21
  let c80_195 : Index := 80#32
  ![v407.toNat, 80]
def k0_off1284 (k0_t8 : Fin k0_t8_loop.trips) (k0_t9 : Fin k0_t9_loop.trips) : Fin 2 → Nat :=
  let c0_i32_158 : BitVec 32 := 0#32
  let c1_i32_160 : BitVec 32 := 1#32
  let arg19 : BitVec 32 := Scf.iv c0_i32_158 c1_i32_160 k0_t8
  let c64_i32_198 : BitVec 32 := 64#32
  let v417 : BitVec 32 := Scalar.muli arg19 c64_i32_198
  let c0_i32_163 : BitVec 32 := 0#32
  let c1_i32_165 : BitVec 32 := 1#32
  let arg21 : BitVec 32 := Scf.iv c0_i32_163 c1_i32_165 k0_t9
  let v418 : BitVec 32 := Scalar.addi v417 arg21
  let v419 : Index := Scalar.indexCast v418
  let c96_199 : Index := 96#32
  ![v419.toNat, 96]
def k0_off1285 (k0_t9 : Fin k0_t9_loop.trips) : Fin 2 → Nat :=
  let c0_i32_163 : BitVec 32 := 0#32
  let c1_i32_165 : BitVec 32 := 1#32
  let arg21 : BitVec 32 := Scf.iv c0_i32_163 c1_i32_165 k0_t9
  let v422 : Index := Scalar.indexCast arg21
  let c96_200 : Index := 96#32
  ![v422.toNat, 96]
def k0_off1286 (k0_t8 : Fin k0_t8_loop.trips) (k0_t9 : Fin k0_t9_loop.trips) : Fin 2 → Nat :=
  let c0_i32_158 : BitVec 32 := 0#32
  let c1_i32_160 : BitVec 32 := 1#32
  let arg19 : BitVec 32 := Scf.iv c0_i32_158 c1_i32_160 k0_t8
  let c64_i32_203 : BitVec 32 := 64#32
  let v432 : BitVec 32 := Scalar.muli arg19 c64_i32_203
  let c0_i32_163 : BitVec 32 := 0#32
  let c1_i32_165 : BitVec 32 := 1#32
  let arg21 : BitVec 32 := Scf.iv c0_i32_163 c1_i32_165 k0_t9
  let v433 : BitVec 32 := Scalar.addi v432 arg21
  let v434 : Index := Scalar.indexCast v433
  let c112_204 : Index := 112#32
  ![v434.toNat, 112]
def k0_off1287 (k0_t9 : Fin k0_t9_loop.trips) : Fin 2 → Nat :=
  let c0_i32_163 : BitVec 32 := 0#32
  let c1_i32_165 : BitVec 32 := 1#32
  let arg21 : BitVec 32 := Scf.iv c0_i32_163 c1_i32_165 k0_t9
  let v437 : Index := Scalar.indexCast arg21
  let c112_205 : Index := 112#32
  ![v437.toNat, 112]
def k0_cond107 (i : grid0.Coords) : BitVec 1 :=
  let arg1 : BitVec 32 := BitVec.ofNat 32 (i 1).val
  let c0_i32_11 : BitVec 32 := 0#32
  let v30 : BitVec 1 := Scalar.cmpi .sgt arg1 c0_i32_11
  let v31 : BitVec 32 := Scalar.extui v30
  let c0_i32_12 : BitVec 32 := 0#32
  let v32 : BitVec 1 := Scalar.cmpi .slt arg1 c0_i32_12
  let v33 : BitVec 32 := Scalar.extui v32
  let v34 : BitVec 32 := Scalar.subi v31 v33
  let c2_i32_10 : BitVec 32 := 2#32
  let c0_i32_13 : BitVec 32 := 0#32
  let v35 : BitVec 1 := Scalar.cmpi .sgt c2_i32_10 c0_i32_13
  let v36 : BitVec 32 := Scalar.extui v35
  let c0_i32_14 : BitVec 32 := 0#32
  let v37 : BitVec 1 := Scalar.cmpi .slt c2_i32_10 c0_i32_14
  let v38 : BitVec 32 := Scalar.extui v37
  let v39 : BitVec 32 := Scalar.subi v36 v38
  let v40 : BitVec 1 := Scalar.cmpi .ne v34 v39
  let v41 : BitVec 32 := Scalar.remsi arg1 c2_i32_10
  let c0_i32_15 : BitVec 32 := 0#32
  let v42 : BitVec 1 := Scalar.cmpi .ne v41 c0_i32_15
  let v43 : BitVec 1 := Scalar.andi v40 v42
  let v29 : BitVec 32 := Scalar.divsi arg1 c2_i32_10
  let c1_i32_16 : BitVec 32 := 1#32
  let v44 : BitVec 32 := Scalar.subi v29 c1_i32_16
  let v45 : BitVec 32 := Scalar.select v43 v44 v29
  let c8_i32_135 : BitVec 32 := 8#32
  let c0_i32_136 : BitVec 32 := 0#32
  let v290 : BitVec 1 := Scalar.cmpi .eq c8_i32_135 c0_i32_136
  let c1_i32_137 : BitVec 32 := 1#32
  let v291 : BitVec 32 := Scalar.select v290 c1_i32_137 c8_i32_135
  let v292 : BitVec 32 := Scalar.remsi v45 v291
  let c0_i32_139 : BitVec 32 := 0#32
  let v294 : BitVec 1 := Scalar.cmpi .slt v292 c0_i32_139
  let c0_i32_140 : BitVec 32 := 0#32
  let v295 : BitVec 1 := Scalar.cmpi .slt v291 c0_i32_140
  let v296 : BitVec 1 := Scalar.xori v294 v295
  let c0_i32_138 : BitVec 32 := 0#32
  let v293 : BitVec 1 := Scalar.cmpi .ne v292 c0_i32_138
  let v297 : BitVec 1 := Scalar.andi v296 v293
  let v298 : BitVec 32 := Scalar.addi v292 v291
  let v299 : BitVec 32 := Scalar.select v297 v298 v292
  let c4_i32_141 : BitVec 32 := 4#32
  let v300 : BitVec 1 := Scalar.cmpi .eq v299 c4_i32_141
  let v301 : BitVec 32 := Scalar.extui v300
  let c0_i32_142 : BitVec 32 := 0#32
  let v302 : BitVec 1 := Scalar.cmpi .ne v301 c0_i32_142
  v302

def k0_off1288 (i : grid0.Coords) : Fin 3 → Nat :=
  let arg1 : BitVec 32 := BitVec.ofNat 32 (i 1).val
  let c0_i32_11 : BitVec 32 := 0#32
  let v30 : BitVec 1 := Scalar.cmpi .sgt arg1 c0_i32_11
  let v31 : BitVec 32 := Scalar.extui v30
  let c0_i32_12 : BitVec 32 := 0#32
  let v32 : BitVec 1 := Scalar.cmpi .slt arg1 c0_i32_12
  let v33 : BitVec 32 := Scalar.extui v32
  let v34 : BitVec 32 := Scalar.subi v31 v33
  let c2_i32_10 : BitVec 32 := 2#32
  let c0_i32_13 : BitVec 32 := 0#32
  let v35 : BitVec 1 := Scalar.cmpi .sgt c2_i32_10 c0_i32_13
  let v36 : BitVec 32 := Scalar.extui v35
  let c0_i32_14 : BitVec 32 := 0#32
  let v37 : BitVec 1 := Scalar.cmpi .slt c2_i32_10 c0_i32_14
  let v38 : BitVec 32 := Scalar.extui v37
  let v39 : BitVec 32 := Scalar.subi v36 v38
  let v40 : BitVec 1 := Scalar.cmpi .ne v34 v39
  let v41 : BitVec 32 := Scalar.remsi arg1 c2_i32_10
  let c0_i32_15 : BitVec 32 := 0#32
  let v42 : BitVec 1 := Scalar.cmpi .ne v41 c0_i32_15
  let v43 : BitVec 1 := Scalar.andi v40 v42
  let v29 : BitVec 32 := Scalar.divsi arg1 c2_i32_10
  let c1_i32_16 : BitVec 32 := 1#32
  let v44 : BitVec 32 := Scalar.subi v29 c1_i32_16
  let v45 : BitVec 32 := Scalar.select v43 v44 v29
  let c0_i32_128 : BitVec 32 := 0#32
  let v272 : BitVec 1 := Scalar.cmpi .sgt v45 c0_i32_128
  let v273 : BitVec 32 := Scalar.extui v272
  let c0_i32_129 : BitVec 32 := 0#32
  let v274 : BitVec 1 := Scalar.cmpi .slt v45 c0_i32_129
  let v275 : BitVec 32 := Scalar.extui v274
  let v276 : BitVec 32 := Scalar.subi v273 v275
  let c8_i32_127 : BitVec 32 := 8#32
  let c0_i32_130 : BitVec 32 := 0#32
  let v277 : BitVec 1 := Scalar.cmpi .sgt c8_i32_127 c0_i32_130
  let v278 : BitVec 32 := Scalar.extui v277
  let c0_i32_131 : BitVec 32 := 0#32
  let v279 : BitVec 1 := Scalar.cmpi .slt c8_i32_127 c0_i32_131
  let v280 : BitVec 32 := Scalar.extui v279
  let v281 : BitVec 32 := Scalar.subi v278 v280
  let v282 : BitVec 1 := Scalar.cmpi .ne v276 v281
  let v283 : BitVec 32 := Scalar.remsi v45 c8_i32_127
  let c0_i32_132 : BitVec 32 := 0#32
  let v284 : BitVec 1 := Scalar.cmpi .ne v283 c0_i32_132
  let v285 : BitVec 1 := Scalar.andi v282 v284
  let v271 : BitVec 32 := Scalar.divsi v45 c8_i32_127
  let c1_i32_133 : BitVec 32 := 1#32
  let v286 : BitVec 32 := Scalar.subi v271 c1_i32_133
  let v287 : BitVec 32 := Scalar.select v285 v286 v271
  let c2_i32_134 : BitVec 32 := 2#32
  let v288 : BitVec 32 := Scalar.muli v287 c2_i32_134
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let v289 : BitVec 32 := Scalar.addi v288 v28
  let c0_i32_157_r4 : BitVec 32 := 0#32
  let c0_i32_158_r4 : BitVec 32 := 0#32
  ![v289.toNat, 0, 0]
def k0_cond108 (i : grid0.Coords) : BitVec 1 :=
  let arg1 : BitVec 32 := BitVec.ofNat 32 (i 1).val
  let c0_i32_11 : BitVec 32 := 0#32
  let v30 : BitVec 1 := Scalar.cmpi .sgt arg1 c0_i32_11
  let v31 : BitVec 32 := Scalar.extui v30
  let c0_i32_12 : BitVec 32 := 0#32
  let v32 : BitVec 1 := Scalar.cmpi .slt arg1 c0_i32_12
  let v33 : BitVec 32 := Scalar.extui v32
  let v34 : BitVec 32 := Scalar.subi v31 v33
  let c2_i32_10 : BitVec 32 := 2#32
  let c0_i32_13 : BitVec 32 := 0#32
  let v35 : BitVec 1 := Scalar.cmpi .sgt c2_i32_10 c0_i32_13
  let v36 : BitVec 32 := Scalar.extui v35
  let c0_i32_14 : BitVec 32 := 0#32
  let v37 : BitVec 1 := Scalar.cmpi .slt c2_i32_10 c0_i32_14
  let v38 : BitVec 32 := Scalar.extui v37
  let v39 : BitVec 32 := Scalar.subi v36 v38
  let v40 : BitVec 1 := Scalar.cmpi .ne v34 v39
  let v41 : BitVec 32 := Scalar.remsi arg1 c2_i32_10
  let c0_i32_15 : BitVec 32 := 0#32
  let v42 : BitVec 1 := Scalar.cmpi .ne v41 c0_i32_15
  let v43 : BitVec 1 := Scalar.andi v40 v42
  let v29 : BitVec 32 := Scalar.divsi arg1 c2_i32_10
  let c1_i32_16 : BitVec 32 := 1#32
  let v44 : BitVec 32 := Scalar.subi v29 c1_i32_16
  let v45 : BitVec 32 := Scalar.select v43 v44 v29
  let c8_i32_144 : BitVec 32 := 8#32
  let c0_i32_145 : BitVec 32 := 0#32
  let v303 : BitVec 1 := Scalar.cmpi .eq c8_i32_144 c0_i32_145
  let c1_i32_146 : BitVec 32 := 1#32
  let v304 : BitVec 32 := Scalar.select v303 c1_i32_146 c8_i32_144
  let v305 : BitVec 32 := Scalar.remsi v45 v304
  let c0_i32_148 : BitVec 32 := 0#32
  let v307 : BitVec 1 := Scalar.cmpi .slt v305 c0_i32_148
  let c0_i32_149 : BitVec 32 := 0#32
  let v308 : BitVec 1 := Scalar.cmpi .slt v304 c0_i32_149
  let v309 : BitVec 1 := Scalar.xori v307 v308
  let c0_i32_147 : BitVec 32 := 0#32
  let v306 : BitVec 1 := Scalar.cmpi .ne v305 c0_i32_147
  let v310 : BitVec 1 := Scalar.andi v309 v306
  let v311 : BitVec 32 := Scalar.addi v305 v304
  let v312 : BitVec 32 := Scalar.select v310 v311 v305
  let c0_i32_150 : BitVec 32 := 0#32
  let v313 : BitVec 1 := Scalar.cmpi .eq v312 c0_i32_150
  let v314 : BitVec 32 := Scalar.extui v313
  let c0_i32_151 : BitVec 32 := 0#32
  let v315 : BitVec 1 := Scalar.cmpi .ne v314 c0_i32_151
  v315

@[reducible] def k0_t10_loop : Scf.Loop 32 :=
  let c0_i32_158 : BitVec 32 := 0#32
  let c8_i32_159 : BitVec 32 := 8#32
  let v322 : BitVec 32 := Scalar.addi c0_i32_158 c8_i32_159
  let c1_i32_160 : BitVec 32 := 1#32
  ⟨c0_i32_158, v322, c1_i32_160⟩
def k0_off1289 (i : grid0.Coords) (k0_t10 : Fin k0_t10_loop.trips) : Fin 3 → Nat :=
  let arg1 : BitVec 32 := BitVec.ofNat 32 (i 1).val
  let c0_i32_11 : BitVec 32 := 0#32
  let v30 : BitVec 1 := Scalar.cmpi .sgt arg1 c0_i32_11
  let v31 : BitVec 32 := Scalar.extui v30
  let c0_i32_12 : BitVec 32 := 0#32
  let v32 : BitVec 1 := Scalar.cmpi .slt arg1 c0_i32_12
  let v33 : BitVec 32 := Scalar.extui v32
  let v34 : BitVec 32 := Scalar.subi v31 v33
  let c2_i32_10 : BitVec 32 := 2#32
  let c0_i32_13 : BitVec 32 := 0#32
  let v35 : BitVec 1 := Scalar.cmpi .sgt c2_i32_10 c0_i32_13
  let v36 : BitVec 32 := Scalar.extui v35
  let c0_i32_14 : BitVec 32 := 0#32
  let v37 : BitVec 1 := Scalar.cmpi .slt c2_i32_10 c0_i32_14
  let v38 : BitVec 32 := Scalar.extui v37
  let v39 : BitVec 32 := Scalar.subi v36 v38
  let v40 : BitVec 1 := Scalar.cmpi .ne v34 v39
  let v41 : BitVec 32 := Scalar.remsi arg1 c2_i32_10
  let c0_i32_15 : BitVec 32 := 0#32
  let v42 : BitVec 1 := Scalar.cmpi .ne v41 c0_i32_15
  let v43 : BitVec 1 := Scalar.andi v40 v42
  let v29 : BitVec 32 := Scalar.divsi arg1 c2_i32_10
  let c1_i32_16 : BitVec 32 := 1#32
  let v44 : BitVec 32 := Scalar.subi v29 c1_i32_16
  let v45 : BitVec 32 := Scalar.select v43 v44 v29
  let c0_i32_128 : BitVec 32 := 0#32
  let v272 : BitVec 1 := Scalar.cmpi .sgt v45 c0_i32_128
  let v273 : BitVec 32 := Scalar.extui v272
  let c0_i32_129 : BitVec 32 := 0#32
  let v274 : BitVec 1 := Scalar.cmpi .slt v45 c0_i32_129
  let v275 : BitVec 32 := Scalar.extui v274
  let v276 : BitVec 32 := Scalar.subi v273 v275
  let c8_i32_127 : BitVec 32 := 8#32
  let c0_i32_130 : BitVec 32 := 0#32
  let v277 : BitVec 1 := Scalar.cmpi .sgt c8_i32_127 c0_i32_130
  let v278 : BitVec 32 := Scalar.extui v277
  let c0_i32_131 : BitVec 32 := 0#32
  let v279 : BitVec 1 := Scalar.cmpi .slt c8_i32_127 c0_i32_131
  let v280 : BitVec 32 := Scalar.extui v279
  let v281 : BitVec 32 := Scalar.subi v278 v280
  let v282 : BitVec 1 := Scalar.cmpi .ne v276 v281
  let v283 : BitVec 32 := Scalar.remsi v45 c8_i32_127
  let c0_i32_132 : BitVec 32 := 0#32
  let v284 : BitVec 1 := Scalar.cmpi .ne v283 c0_i32_132
  let v285 : BitVec 1 := Scalar.andi v282 v284
  let v271 : BitVec 32 := Scalar.divsi v45 c8_i32_127
  let c1_i32_133 : BitVec 32 := 1#32
  let v286 : BitVec 32 := Scalar.subi v271 c1_i32_133
  let v287 : BitVec 32 := Scalar.select v285 v286 v271
  let c2_i32_134 : BitVec 32 := 2#32
  let v288 : BitVec 32 := Scalar.muli v287 c2_i32_134
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let v289 : BitVec 32 := Scalar.addi v288 v28
  let c0_i32_158 : BitVec 32 := 0#32
  let c1_i32_160 : BitVec 32 := 1#32
  let arg19 : BitVec 32 := Scf.iv c0_i32_158 c1_i32_160 k0_t10
  let c64_i32 : BitVec 32 := 64#32
  let v324 : BitVec 32 := Scalar.muli arg19 c64_i32
  let c0_i32_170_r5 : BitVec 32 := 0#32
  ![v289.toNat, v324.toNat, 0]
@[reducible] def k0_t11_loop : Scf.Loop 32 :=
  let c0_i32_163 : BitVec 32 := 0#32
  let c64_i32_164 : BitVec 32 := 64#32
  let v325 : BitVec 32 := Scalar.addi c0_i32_163 c64_i32_164
  let c1_i32_165 : BitVec 32 := 1#32
  ⟨c0_i32_163, v325, c1_i32_165⟩
def k0_off1290 (k0_t10 : Fin k0_t10_loop.trips) (k0_t11 : Fin k0_t11_loop.trips) : Fin 2 → Nat :=
  let c0_i32_158 : BitVec 32 := 0#32
  let c1_i32_160 : BitVec 32 := 1#32
  let arg19 : BitVec 32 := Scf.iv c0_i32_158 c1_i32_160 k0_t10
  let c64_i32_168 : BitVec 32 := 64#32
  let v327 : BitVec 32 := Scalar.muli arg19 c64_i32_168
  let c0_i32_163 : BitVec 32 := 0#32
  let c1_i32_165 : BitVec 32 := 1#32
  let arg21 : BitVec 32 := Scf.iv c0_i32_163 c1_i32_165 k0_t11
  let v328 : BitVec 32 := Scalar.addi v327 arg21
  let v329 : Index := Scalar.indexCast v328
  let c0_169 : Index := 0#32
  ![v329.toNat, 0]
def k0_off1291 (k0_t11 : Fin k0_t11_loop.trips) : Fin 2 → Nat :=
  let c0_i32_163 : BitVec 32 := 0#32
  let c1_i32_165 : BitVec 32 := 1#32
  let arg21 : BitVec 32 := Scf.iv c0_i32_163 c1_i32_165 k0_t11
  let v332 : Index := Scalar.indexCast arg21
  let c0_170 : Index := 0#32
  ![v332.toNat, 0]
def k0_off1292 (k0_t10 : Fin k0_t10_loop.trips) (k0_t11 : Fin k0_t11_loop.trips) : Fin 2 → Nat :=
  let c0_i32_158 : BitVec 32 := 0#32
  let c1_i32_160 : BitVec 32 := 1#32
  let arg19 : BitVec 32 := Scf.iv c0_i32_158 c1_i32_160 k0_t10
  let c64_i32_173 : BitVec 32 := 64#32
  let v342 : BitVec 32 := Scalar.muli arg19 c64_i32_173
  let c0_i32_163 : BitVec 32 := 0#32
  let c1_i32_165 : BitVec 32 := 1#32
  let arg21 : BitVec 32 := Scf.iv c0_i32_163 c1_i32_165 k0_t11
  let v343 : BitVec 32 := Scalar.addi v342 arg21
  let v344 : Index := Scalar.indexCast v343
  let c16_174 : Index := 16#32
  ![v344.toNat, 16]
def k0_off1293 (k0_t11 : Fin k0_t11_loop.trips) : Fin 2 → Nat :=
  let c0_i32_163 : BitVec 32 := 0#32
  let c1_i32_165 : BitVec 32 := 1#32
  let arg21 : BitVec 32 := Scf.iv c0_i32_163 c1_i32_165 k0_t11
  let v347 : Index := Scalar.indexCast arg21
  let c16_175 : Index := 16#32
  ![v347.toNat, 16]
def k0_off1294 (k0_t10 : Fin k0_t10_loop.trips) (k0_t11 : Fin k0_t11_loop.trips) : Fin 2 → Nat :=
  let c0_i32_158 : BitVec 32 := 0#32
  let c1_i32_160 : BitVec 32 := 1#32
  let arg19 : BitVec 32 := Scf.iv c0_i32_158 c1_i32_160 k0_t10
  let c64_i32_178 : BitVec 32 := 64#32
  let v357 : BitVec 32 := Scalar.muli arg19 c64_i32_178
  let c0_i32_163 : BitVec 32 := 0#32
  let c1_i32_165 : BitVec 32 := 1#32
  let arg21 : BitVec 32 := Scf.iv c0_i32_163 c1_i32_165 k0_t11
  let v358 : BitVec 32 := Scalar.addi v357 arg21
  let v359 : Index := Scalar.indexCast v358
  let c32_179 : Index := 32#32
  ![v359.toNat, 32]
def k0_off1295 (k0_t11 : Fin k0_t11_loop.trips) : Fin 2 → Nat :=
  let c0_i32_163 : BitVec 32 := 0#32
  let c1_i32_165 : BitVec 32 := 1#32
  let arg21 : BitVec 32 := Scf.iv c0_i32_163 c1_i32_165 k0_t11
  let v362 : Index := Scalar.indexCast arg21
  let c32_180 : Index := 32#32
  ![v362.toNat, 32]
def k0_off1296 (k0_t10 : Fin k0_t10_loop.trips) (k0_t11 : Fin k0_t11_loop.trips) : Fin 2 → Nat :=
  let c0_i32_158 : BitVec 32 := 0#32
  let c1_i32_160 : BitVec 32 := 1#32
  let arg19 : BitVec 32 := Scf.iv c0_i32_158 c1_i32_160 k0_t10
  let c64_i32_183 : BitVec 32 := 64#32
  let v372 : BitVec 32 := Scalar.muli arg19 c64_i32_183
  let c0_i32_163 : BitVec 32 := 0#32
  let c1_i32_165 : BitVec 32 := 1#32
  let arg21 : BitVec 32 := Scf.iv c0_i32_163 c1_i32_165 k0_t11
  let v373 : BitVec 32 := Scalar.addi v372 arg21
  let v374 : Index := Scalar.indexCast v373
  let c48_184 : Index := 48#32
  ![v374.toNat, 48]
def k0_off1297 (k0_t11 : Fin k0_t11_loop.trips) : Fin 2 → Nat :=
  let c0_i32_163 : BitVec 32 := 0#32
  let c1_i32_165 : BitVec 32 := 1#32
  let arg21 : BitVec 32 := Scf.iv c0_i32_163 c1_i32_165 k0_t11
  let v377 : Index := Scalar.indexCast arg21
  let c48_185 : Index := 48#32
  ![v377.toNat, 48]
def k0_off1298 (k0_t10 : Fin k0_t10_loop.trips) (k0_t11 : Fin k0_t11_loop.trips) : Fin 2 → Nat :=
  let c0_i32_158 : BitVec 32 := 0#32
  let c1_i32_160 : BitVec 32 := 1#32
  let arg19 : BitVec 32 := Scf.iv c0_i32_158 c1_i32_160 k0_t10
  let c64_i32_188 : BitVec 32 := 64#32
  let v387 : BitVec 32 := Scalar.muli arg19 c64_i32_188
  let c0_i32_163 : BitVec 32 := 0#32
  let c1_i32_165 : BitVec 32 := 1#32
  let arg21 : BitVec 32 := Scf.iv c0_i32_163 c1_i32_165 k0_t11
  let v388 : BitVec 32 := Scalar.addi v387 arg21
  let v389 : Index := Scalar.indexCast v388
  let c64_189 : Index := 64#32
  ![v389.toNat, 64]
def k0_off1299 (k0_t11 : Fin k0_t11_loop.trips) : Fin 2 → Nat :=
  let c0_i32_163 : BitVec 32 := 0#32
  let c1_i32_165 : BitVec 32 := 1#32
  let arg21 : BitVec 32 := Scf.iv c0_i32_163 c1_i32_165 k0_t11
  let v392 : Index := Scalar.indexCast arg21
  let c64_190 : Index := 64#32
  ![v392.toNat, 64]
def k0_off1300 (k0_t10 : Fin k0_t10_loop.trips) (k0_t11 : Fin k0_t11_loop.trips) : Fin 2 → Nat :=
  let c0_i32_158 : BitVec 32 := 0#32
  let c1_i32_160 : BitVec 32 := 1#32
  let arg19 : BitVec 32 := Scf.iv c0_i32_158 c1_i32_160 k0_t10
  let c64_i32_193 : BitVec 32 := 64#32
  let v402 : BitVec 32 := Scalar.muli arg19 c64_i32_193
  let c0_i32_163 : BitVec 32 := 0#32
  let c1_i32_165 : BitVec 32 := 1#32
  let arg21 : BitVec 32 := Scf.iv c0_i32_163 c1_i32_165 k0_t11
  let v403 : BitVec 32 := Scalar.addi v402 arg21
  let v404 : Index := Scalar.indexCast v403
  let c80_194 : Index := 80#32
  ![v404.toNat, 80]
def k0_off1301 (k0_t11 : Fin k0_t11_loop.trips) : Fin 2 → Nat :=
  let c0_i32_163 : BitVec 32 := 0#32
  let c1_i32_165 : BitVec 32 := 1#32
  let arg21 : BitVec 32 := Scf.iv c0_i32_163 c1_i32_165 k0_t11
  let v407 : Index := Scalar.indexCast arg21
  let c80_195 : Index := 80#32
  ![v407.toNat, 80]
def k0_off1302 (k0_t10 : Fin k0_t10_loop.trips) (k0_t11 : Fin k0_t11_loop.trips) : Fin 2 → Nat :=
  let c0_i32_158 : BitVec 32 := 0#32
  let c1_i32_160 : BitVec 32 := 1#32
  let arg19 : BitVec 32 := Scf.iv c0_i32_158 c1_i32_160 k0_t10
  let c64_i32_198 : BitVec 32 := 64#32
  let v417 : BitVec 32 := Scalar.muli arg19 c64_i32_198
  let c0_i32_163 : BitVec 32 := 0#32
  let c1_i32_165 : BitVec 32 := 1#32
  let arg21 : BitVec 32 := Scf.iv c0_i32_163 c1_i32_165 k0_t11
  let v418 : BitVec 32 := Scalar.addi v417 arg21
  let v419 : Index := Scalar.indexCast v418
  let c96_199 : Index := 96#32
  ![v419.toNat, 96]
def k0_off1303 (k0_t11 : Fin k0_t11_loop.trips) : Fin 2 → Nat :=
  let c0_i32_163 : BitVec 32 := 0#32
  let c1_i32_165 : BitVec 32 := 1#32
  let arg21 : BitVec 32 := Scf.iv c0_i32_163 c1_i32_165 k0_t11
  let v422 : Index := Scalar.indexCast arg21
  let c96_200 : Index := 96#32
  ![v422.toNat, 96]
def k0_off1304 (k0_t10 : Fin k0_t10_loop.trips) (k0_t11 : Fin k0_t11_loop.trips) : Fin 2 → Nat :=
  let c0_i32_158 : BitVec 32 := 0#32
  let c1_i32_160 : BitVec 32 := 1#32
  let arg19 : BitVec 32 := Scf.iv c0_i32_158 c1_i32_160 k0_t10
  let c64_i32_203 : BitVec 32 := 64#32
  let v432 : BitVec 32 := Scalar.muli arg19 c64_i32_203
  let c0_i32_163 : BitVec 32 := 0#32
  let c1_i32_165 : BitVec 32 := 1#32
  let arg21 : BitVec 32 := Scf.iv c0_i32_163 c1_i32_165 k0_t11
  let v433 : BitVec 32 := Scalar.addi v432 arg21
  let v434 : Index := Scalar.indexCast v433
  let c112_204 : Index := 112#32
  ![v434.toNat, 112]
def k0_off1305 (k0_t11 : Fin k0_t11_loop.trips) : Fin 2 → Nat :=
  let c0_i32_163 : BitVec 32 := 0#32
  let c1_i32_165 : BitVec 32 := 1#32
  let arg21 : BitVec 32 := Scf.iv c0_i32_163 c1_i32_165 k0_t11
  let v437 : Index := Scalar.indexCast arg21
  let c112_205 : Index := 112#32
  ![v437.toNat, 112]
def k0_cond109 (i : grid0.Coords) : BitVec 1 :=
  let arg1 : BitVec 32 := BitVec.ofNat 32 (i 1).val
  let c0_i32_11 : BitVec 32 := 0#32
  let v30 : BitVec 1 := Scalar.cmpi .sgt arg1 c0_i32_11
  let v31 : BitVec 32 := Scalar.extui v30
  let c0_i32_12 : BitVec 32 := 0#32
  let v32 : BitVec 1 := Scalar.cmpi .slt arg1 c0_i32_12
  let v33 : BitVec 32 := Scalar.extui v32
  let v34 : BitVec 32 := Scalar.subi v31 v33
  let c2_i32_10 : BitVec 32 := 2#32
  let c0_i32_13 : BitVec 32 := 0#32
  let v35 : BitVec 1 := Scalar.cmpi .sgt c2_i32_10 c0_i32_13
  let v36 : BitVec 32 := Scalar.extui v35
  let c0_i32_14 : BitVec 32 := 0#32
  let v37 : BitVec 1 := Scalar.cmpi .slt c2_i32_10 c0_i32_14
  let v38 : BitVec 32 := Scalar.extui v37
  let v39 : BitVec 32 := Scalar.subi v36 v38
  let v40 : BitVec 1 := Scalar.cmpi .ne v34 v39
  let v41 : BitVec 32 := Scalar.remsi arg1 c2_i32_10
  let c0_i32_15 : BitVec 32 := 0#32
  let v42 : BitVec 1 := Scalar.cmpi .ne v41 c0_i32_15
  let v43 : BitVec 1 := Scalar.andi v40 v42
  let v29 : BitVec 32 := Scalar.divsi arg1 c2_i32_10
  let c1_i32_16 : BitVec 32 := 1#32
  let v44 : BitVec 32 := Scalar.subi v29 c1_i32_16
  let v45 : BitVec 32 := Scalar.select v43 v44 v29
  let c0_i32_153 : BitVec 32 := 0#32
  let v316 : BitVec 1 := Scalar.cmpi .eq v45 c0_i32_153
  let v317 : BitVec 32 := Scalar.extui v316
  let c0_i32_154 : BitVec 32 := 0#32
  let v318 : BitVec 1 := Scalar.cmpi .ne v317 c0_i32_154
  v318

def k0_off1306 (i : grid0.Coords) : Fin 3 → Nat :=
  let arg0 : BitVec 32 := BitVec.ofNat 32 (i 0).val
  let c0_i32_158_r6 : BitVec 32 := 0#32
  let arg1 : BitVec 32 := BitVec.ofNat 32 (i 1).val
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c128_i32_157 : BitVec 32 := 128#32
  let v322 : BitVec 32 := Scalar.muli v28 c128_i32_157
  ![arg0.toNat, 0, v322.toNat]
def k0_cond110 (i : grid0.Coords) : BitVec 1 :=
  let arg1 : BitVec 32 := BitVec.ofNat 32 (i 1).val
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c0_i32_155 : BitVec 32 := 0#32
  let v319 : BitVec 1 := Scalar.cmpi .eq v28 c0_i32_155
  let v320 : BitVec 32 := Scalar.extui v319
  let c0_i32_156 : BitVec 32 := 0#32
  let v321 : BitVec 1 := Scalar.cmpi .ne v320 c0_i32_156
  v321

def k0_off1307 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let v18 : BitVec 32 := Scalar.addi v0 v17
  let c0_i32_157_r7 : BitVec 32 := 0#32
  ![v18.toNat, 0]
abbrev grid1 : Pipeline.Grid := .none

abbrev stage1_0 : Fin 1 → Memref sig .tc .vmem S2x512x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S16x512x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S64x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S21x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x21 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S512x21 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S160000x256 : Shape := ⟨2, ![160000, 256]⟩
abbrev S160000 : Shape := ⟨1, ![160000]⟩
abbrev S64x256 : Shape := ⟨2, ![64, 256]⟩
abbrev S64 : Shape := ⟨1, ![64]⟩
abbrev S21x64 : Shape := ⟨2, ![21, 64]⟩
abbrev S21 : Shape := ⟨1, ![21]⟩
abbrev S_ : Shape := ⟨0, ![]⟩
abbrev S512x256 : Shape := ⟨2, ![512, 256]⟩
abbrev S160000x1 : Shape := ⟨2, ![160000, 1]⟩
abbrev S512 : Shape := ⟨1, ![512]⟩
abbrev S512x1 : Shape := ⟨2, ![512, 1]⟩
abbrev S256x64 : Shape := ⟨2, ![256, 64]⟩
abbrev S512x64 : Shape := ⟨2, ![512, 64]⟩
abbrev S1x64 : Shape := ⟨2, ![1, 64]⟩
abbrev S64x21 : Shape := ⟨2, ![64, 21]⟩
abbrev S512x21 : Shape := ⟨2, ![512, 21]⟩
abbrev S1x21 : Shape := ⟨2, ![1, 21]⟩

abbrev nBuf : Space → Nat
  | .hbm => 35
  | .vmem => 0
  | .smem => 0
  | _ => 0

abbrev bufTy : (tb : Table) → Fin (tcTables nBuf tb) → BufTy
  | .hbm, ⟨0, _⟩ => ⟨S160000x256, .f32⟩
  | .hbm, ⟨1, _⟩ => ⟨S160000, .i32⟩
  | .hbm, ⟨2, _⟩ => ⟨S64x256, .f32⟩
  | .hbm, ⟨3, _⟩ => ⟨S64, .f32⟩
  | .hbm, ⟨4, _⟩ => ⟨S21x64, .f32⟩
  | .hbm, ⟨5, _⟩ => ⟨S21, .f32⟩
  | .hbm, ⟨6, _⟩ => ⟨S_, .f32⟩
  | .hbm, ⟨7, _⟩ => ⟨S512x256, .f32⟩
  | .hbm, ⟨8, _⟩ => ⟨S160000x1, .i32⟩
  | .hbm, ⟨9, _⟩ => ⟨S512x256, .f32⟩
  | .hbm, ⟨10, _⟩ => ⟨S_, .f32⟩
  | .hbm, ⟨11, _⟩ => ⟨S160000, .f32⟩
  | .hbm, ⟨12, _⟩ => ⟨S_, .f32⟩
  | .hbm, ⟨13, _⟩ => ⟨S512, .f32⟩
  | .hbm, ⟨14, _⟩ => ⟨S160000x1, .i32⟩
  | .hbm, ⟨15, _⟩ => ⟨S512, .f32⟩
  | .hbm, ⟨16, _⟩ => ⟨S_, .f32⟩
  | .hbm, ⟨17, _⟩ => ⟨S512, .f32⟩
  | .hbm, ⟨18, _⟩ => ⟨S512, .f32⟩
  | .hbm, ⟨19, _⟩ => ⟨S512x1, .f32⟩
  | .hbm, ⟨20, _⟩ => ⟨S512x256, .f32⟩
  | .hbm, ⟨21, _⟩ => ⟨S512x256, .f32⟩
  | .hbm, ⟨22, _⟩ => ⟨S256x64, .f32⟩
  | .hbm, ⟨23, _⟩ => ⟨S512x64, .f32⟩
  | .hbm, ⟨24, _⟩ => ⟨S1x64, .f32⟩
  | .hbm, ⟨25, _⟩ => ⟨S512x64, .f32⟩
  | .hbm, ⟨26, _⟩ => ⟨S512x64, .f32⟩
  | .hbm, ⟨27, _⟩ => ⟨S_, .f32⟩
  | .hbm, ⟨28, _⟩ => ⟨S512x64, .f32⟩
  | .hbm, ⟨29, _⟩ => ⟨S512x64, .f32⟩
  | .hbm, ⟨30, _⟩ => ⟨S64x21, .f32⟩
  | .hbm, ⟨31, _⟩ => ⟨S512x21, .f32⟩
  | .hbm, ⟨32, _⟩ => ⟨S1x21, .f32⟩
  | .hbm, ⟨33, _⟩ => ⟨S512x21, .f32⟩
  | .hbm, ⟨34, _⟩ => ⟨S512x21, .f32⟩
  | _, _ => ⟨S160000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_cst : Ref sig .tc := ⟨.hbm, 27, rfl⟩
abbrev main_call0_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]
-- ==== Proof.Rows.lean ====
/-
  Values by coordinates. A buffer of the kernel is held at the representative of a table over pairs of natural
  numbers (`mat`), over natural numbers (`lin`), or of one word; a load of sixteen lanes then reads a stretch of
  a row, a store replaces one, and each memory statement of the kernel's text has a rule over such tables.
-/
module

public import proofs.«01_k».proof.Proof.Gen.KernelIdeal
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.VecWindow
public import Idealize.ShloMosaic.Lib.Pipeline.Value

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The resource algebra -/

abbrev UH : Type := URounds (GSem nD τ sig) ℕ
abbrev UB : Type := URounds (GSem nD τ sig) ℕ
/-- What each tile leaves for another, under the name of its barrier cell. -/
abbrev UE : Type := URounds (GSem nD τ sig) ℕ
/-- The staging cells of the TensorCore call. -/
abbrev UP : Type := URounds (GSem nD τ sig) Unit
abbrev UU : Type := UH × (UB × (UE × (UP × Counters)))

local notation "𝕄" => MT nD τ sig (HIx 6) (Elt F) ℕ UU ℕ

abbrev 𝒱₀ : Variants := Variants.none

/-! ## Tables by coordinates -/

section Tables
variable {α : Type}

/-- A two-axis table given by its entry at each pair of coordinates. -/
def mat {n : Fin 2 → ℕ} (f : ℕ → ℕ → α) : (⟨2, n⟩ : Shape).Idx → α := fun y => f (y 0).val (y 1).val
/-- A one-axis table given by its entry at each coordinate. -/
def lin {n : Fin 1 → ℕ} (f : ℕ → α) : (⟨1, n⟩ : Shape).Idx → α := fun y => f (y 0).val

/-- `f` with `g` over the sixteen entries of row `a` that start at column `b`. -/
def setRow (f : ℕ → ℕ → α) (a b : ℕ) (g : ℕ → α) : ℕ → ℕ → α :=
  fun i k => if i = a ∧ b ≤ k ∧ k < b + 16 then g (k - b) else f i k
/-- `f` with `g` over the sixteen entries that start at `b`. -/
def setLin (f : ℕ → α) (b : ℕ) (g : ℕ → α) : ℕ → α :=
  fun k => if b ≤ k ∧ k < b + 16 then g (k - b) else f k

/-- Sixteen lanes read from a table's row and cast to a vector are that stretch of the row. -/
theorem cast_window {n : Fin 2 → ℕ} (f : ℕ → ℕ → α) (off : Fin 2 → ℕ) (a b : ℕ) (h : off = ![a, b])
    (inb : ∀ x, off x + S1x16.size x ≤ n x) (hc : S1x16.ShapeCasts S16) :
    shapeCast S16 (VecWindow.window (s := ⟨2, n⟩) (mat f) off S1x16.size inb : S1x16.Idx → α) hc = lin fun k => f a (b + k) := by
  subst h
  funext j
  have e := shapeCast_dropUnit_apply ![16] (VecWindow.window (s := ⟨2, n⟩) (mat f) ![a, b] S1x16.size inb : S1x16.Idx → α) hc j
  refine e.trans ?_
  refine congrArg₂ f ?_ ?_
  · show a + 1 * 0 = a; omega
  · show b + 1 * (j 0).val = b + (j 0).val; omega

/-- A vector cast to one row and put into a table replaces a stretch of a row. -/
theorem put_cast {n : Fin 2 → ℕ} (f : ℕ → ℕ → α) (off : Fin 2 → ℕ) (a b : ℕ) (h : off = ![a, b]) (g : ℕ → α) (hc : S16.ShapeCasts S1x16) :
    VecWindow.put (s := ⟨2, n⟩) (mat f) off S1x16.size (shapeCast S1x16 (lin g : S16.Idx → α) hc) = mat (setRow f a b g) := by
  subst h
  funext y
  unfold VecWindow.put
  by_cases hy : ∀ x, (![a, b] : Fin 2 → ℕ) x ≤ (y x).val ∧ (y x).val < (![a, b] : Fin 2 → ℕ) x + S1x16.size x
  · rw [dif_pos hy]
    have e := shapeCast_addUnit_apply ![16] (lin g : S16.Idx → α) hc (Rect.unitLocal (s := ⟨2, n⟩) (off := ![a, b]) (size := S1x16.size) y hy)
    refine e.trans ?_
    have h0 : a ≤ (y 0).val ∧ (y 0).val < a + 1 := hy 0
    have h1 : b ≤ (y 1).val ∧ (y 1).val < b + 16 := hy 1
    show g _ = setRow f a b g (y 0).val (y 1).val
    unfold setRow
    rw [if_pos ⟨by omega, h1⟩]
    rfl
  · rw [dif_neg hy]
    show f _ _ = setRow f a b g (y 0).val (y 1).val
    unfold setRow
    rw [if_neg]
    rintro ⟨h0, h1⟩
    refine hy fun x => ?_
    match x with
    | 0 => show a ≤ (y 0).val ∧ (y 0).val < a + 1; omega
    | 1 => exact h1

/-- Sixteen lanes read from a one-axis table are that stretch of it. -/
theorem window_lin {n : Fin 1 → ℕ} (f : ℕ → α) (off : Fin 1 → ℕ) (b : ℕ) (h : off = ![b])
    (inb : ∀ x, off x + S16.size x ≤ n x) :
    (VecWindow.window (s := ⟨1, n⟩) (lin f) off S16.size inb : S16.Idx → α) = lin fun k => f (b + k) := by
  subst h
  funext j
  show f (b + 1 * (j 0).val) = f (b + (j 0).val)
  rw [Nat.one_mul]

/-- A vector put into a one-axis table replaces a stretch of it. -/
theorem put_lin {n : Fin 1 → ℕ} (f : ℕ → α) (off : Fin 1 → ℕ) (b : ℕ) (h : off = ![b]) (g : ℕ → α) :
    VecWindow.put (s := ⟨1, n⟩) (lin f) off S16.size (lin g : S16.Idx → α) = lin (setLin f b g) := by
  subst h
  funext y
  unfold VecWindow.put
  by_cases hy : ∀ x, (![b] : Fin 1 → ℕ) x ≤ (y x).val ∧ (y x).val < (![b] : Fin 1 → ℕ) x + S16.size x
  · rw [dif_pos hy]
    have h1 : b ≤ (y 0).val ∧ (y 0).val < b + 16 := hy 0
    show g _ = setLin f b g (y 0).val
    unfold setLin
    rw [if_pos h1]
    rfl
  · rw [dif_neg hy]
    show f _ = setLin f b g (y 0).val
    unfold setLin
    rw [if_neg]
    intro h1
    refine hy fun x => ?_
    match x with
    | 0 => exact h1

theorem lin_add [FloatOps F] (f g : ℕ → F .f32) : addf (lin f : FVec F S16 .f32) (lin g) = lin fun k => FloatOps.addf (f k) (g k) := rfl

/-- Any table is one given by its coordinates. -/
theorem exists_mat [Nonempty α] {n : Fin 2 → ℕ} (x : (⟨2, n⟩ : Shape).Idx → α) : ∃ f, x = mat f := by
  classical
  refine ⟨fun i k => if h : i < n 0 ∧ k < n 1 then x (fun a => match a with | 0 => ⟨i, h.1⟩ | 1 => ⟨k, h.2⟩) else Classical.arbitrary α, ?_⟩
  funext y
  show _ = dite _ _ _
  rw [dif_pos ⟨(y 0).isLt, (y 1).isLt⟩]
  congr 1
  funext a
  match a with
  | 0 => rfl
  | 1 => rfl
theorem exists_lin [Nonempty α] {n : Fin 1 → ℕ} (x : (⟨1, n⟩ : Shape).Idx → α) : ∃ f, x = lin f := by
  classical
  refine ⟨fun i => if h : i < n 0 then x (fun a => match a with | 0 => ⟨i, h⟩) else Classical.arbitrary α, ?_⟩
  funext y
  show _ = dite _ _ _
  rw [dif_pos (y 0).isLt]
  congr 1
  funext a
  match a with
  | 0 => rfl

end Tables

/-! ## One load, one store -/

variable [FloatOps F]

section Steps
variable (d : Dev nD) (cc : Fin τ.nSC) (jj : Fin τ.nSub)

/-- A buffer of the tile held at the values `x`. -/
abbrev Hd {sp : Space} {s : Shape} {e : EltTy} (m : Memref sig .scVector sp s e) (q : PosShare TreeShare) (x : s.Idx → Elt F e) : sProp 𝕄 :=
  m.view.loc (V d cc jj) ↦[m.view.set]{q} m.view.rep x

/-- A program of the tile run to a postcondition. -/
abbrev WP {α : Type} (p : Prog (TpuEff nD τ sig (Elt F) Λ₀ (.scVector cc jj)) α) (Q : α → sProp 𝕄) : sProp 𝕄 :=
  wp frame (wpE (defs₀ (F := F)) 𝒱₀ (V d cc jj) none) Set.univ p Q

variable {d cc jj}

theorem wp_ld {α : Type} {Q : α → sProp 𝕄} {cs : CoreSpace} {s : Shape} {e : EltTy} (m : Memref sig .scVector cs s e) (q : PosShare TreeShare) (x : s.Idx → Elt F e)
    {off size : Fin s.rank → ℕ} (inb : ∀ a, off a + size a ≤ s.size a) {hl : m.view.LoadsAt (Rect.unit off size inb).toLoadRect}
    {k : ((Rect.unit off size inb).shape.Idx → Elt F e) → Prog (TpuEff nD τ sig (Elt F) Λ₀ (.scVector cc jj)) α} :
    Hd d cc jj m q x ⊢ iprop((Hd d cc jj m q x -∗ WP d cc jj (k (VecWindow.window x off size inb)) Q)
      -∗ WP d cc jj (.op (.load m (Rect.unit off size inb).toLoadRect hl) k) Q) := by
  have h := wp_load (defs := defs₀ (F := F)) 𝒱₀ (V d cc jj) none Set.univ (Γ := []) (m := m) (hl := hl) (k := k) (Q := Q) (S := m.view.set) (q := q) (f := m.view.rep x)
    (by
      intro y hy
      exact View.setOn_subset_set _ _ hy)
  rw [View.readAt_rep_unit m.view x inb rfl inb] at h
  exact h

theorem wp_st {α : Type} {Q : α → sProp 𝕄} {cs : CoreSpace} {s : Shape} {e : EltTy} (m : Memref sig .scVector cs s e) (x : s.Idx → Elt F e)
    {off size : Fin s.rank → ℕ} (inb : ∀ a, off a + size a ≤ s.size a) (w : (Rect.unit off size inb).shape.Idx → Elt F e)
    {hx : (m.access (Rect.unit off size inb)).Stores Finset.univ} {hm : Finset.univ = Finset.univ ∨ ∀ a, (Rect.unit off size inb).stride a = 1}
    {k : PUnit → Prog (TpuEff nD τ sig (Elt F) Λ₀ (.scVector cc jj)) α} :
    Hd d cc jj m fullShare x ⊢ iprop((Hd d cc jj m fullShare (VecWindow.put x off size w) -∗ WP d cc jj (k ⟨⟩) Q)
      -∗ WP d cc jj (.op (.store m (Rect.unit off size inb) w Finset.univ hx hm) k) Q) := by
  have h := wp_store (defs := defs₀ (F := F)) 𝒱₀ (V d cc jj) none Set.univ (Γ := []) (m := m) (r := Rect.unit off size inb) (w := w) (Mk := Finset.univ) (hx := hx) (hm := hm)
    (k := k) (Q := Q) (S := m.view.set) (f := m.view.rep x)
    (by
      rw [View.setOn_univ, View.set_slice]
      intro y hy
      exact View.setOn_subset_set _ _ hy)
  have e : (m.view.loc (V d cc jj) ↦[m.view.set]{fullShare} ((m.access (Rect.unit off size inb)).write (Elt F) (m.view.rep x) w Finset.univ) : sProp 𝕄)
      ⊢ Hd d cc jj m fullShare (VecWindow.put x off size w) :=
    pointsTo_rep_of_read (V d cc jj) m _ fullShare _ (View.read_writes_rep_unit m.view x inb w rfl)
  iintro H K
  iapply h $$ H
  iintro H
  iapply K
  iapply e
  iexact H

end Steps

end Cert.Proof.Pool

end
-- ==== Proof.Copy.lean ====
/-
  A tile's copies: started, they are in flight; waited for, they have landed.
-/
module

public import proofs.«01_k».proof.Proof.Rows

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 6) (Elt F) ℕ UU ℕ

section Steps
variable {d : Dev nD} {cc : Fin τ.nSC} {jj : Fin τ.nSub}

/-- A copy of a tile's, in flight on the cell of `sm`. -/
abbrev Fl (d : Dev nD) (cc : Fin τ.nSC) (jj : Fin τ.nSub) (sm : DmaSem sig) (N : ℕ) (D : sProp 𝕄) : sProp 𝕄 :=
  Transfers.Flight countersEmb (V d cc jj) (.dma sm) (none : HIx 6) N D

/-- What a tile owes, and the waits it has done beside those of `W`. -/
def Debt (d : Dev nD) (cc : Fin τ.nSC) (jj : Fin τ.nSub) (O : CellTallies nD τ sig (HIx 6)) (W : Waits sig (HIx 6)) : sProp 𝕄 :=
  iprop(∃ W', ⌜∀ p ∈ W', p ∈ W ∨ p.2 = none ∨ ∃ r, p.2 = some r⌝ ∗ owes (V d cc jj) O W')

theorem wp_start {α : Type} {Q : α → sProp 𝕄} {sp sp' : Space} {s : Shape} {e : EltTy} (src : Memref sig .scVector sp s e) (dst : Memref sig .scVector sp' s e) (sm : DmaSem sig)
    {hsrc : src.view.WordExact} {hdst : dst.view.WordExact} {hsem : DmaTarget.Typed (nD := nD) (p := Proc.scVector cc jj) sp (.dma sm) (.here dst)}
    {k : PUnit → Prog (TpuEff nD τ sig (Elt F) Λ₀ (.scVector cc jj)) α} (N : ℕ) (hN : dst.view.amount (.dma sm) = N) (hN0 : 0 < N)
    (q : PosShare TreeShare) (fs : Buf (Elt F) (src.view.loc (V d cc jj))) (fd : Buf (Elt F) (dst.view.loc (V d cc jj))) :
    iprop((src.view.loc (V d cc jj) ↦[src.view.set]{q} fs) ∗ (dst.view.loc (V d cc jj) ↦[dst.view.set]{fullShare} fd) ∗ semVal (V d cc jj, .dma sm) 0)
      ⊢ iprop((Fl d cc jj sm N iprop(Hd d cc jj dst fullShare (src.view.read (Elt F) fs) ∗ (src.view.loc (V d cc jj) ↦[src.view.set]{q} fs)) -∗ WP d cc jj (k ⟨⟩) Q)
        -∗ WP d cc jj (.op (.enqueueDma src (.here dst) (.dma sm) hsrc hdst hsem) k) Q) := by
  have h := Transfers.wp_dmaLocal (defs := defs₀ (F := F)) (Λ := Λ₀) countersEmb 𝒱₀ (V d cc jj) none (via := .same) (src := src) (dst := dst) (sm := .dma sm) (hsrc := hsrc) (hdst := hdst) (hsem := hsem)
    (k := k) (Q := Q) (q := q) (fs := fs) (Sd := dst.view.set) (fd := fd) (none : HIx 6) N hN hN0 (Finset.Subset.refl _)
  have e : (dst.view.loc (V d cc jj) ↦[dst.view.set]{fullShare} (dst.view.write (Elt F) fd (src.view.read (Elt F) fs) Finset.univ) : sProp 𝕄)
      ⊢ Hd d cc jj dst fullShare (src.view.read (Elt F) fs) :=
    pointsTo_rep_of_read (V d cc jj) dst _ fullShare _ (View.read_write_univ _ _)
  have e2 : (iprop((dst.view.loc (V d cc jj) ↦[dst.view.set]{fullShare} (dst.view.write (Elt F) fd (src.view.read (Elt F) fs) Finset.univ)) ∗ (src.view.loc (V d cc jj) ↦[src.view.set]{q} fs)) : sProp 𝕄)
      ⊢ iprop(Hd d cc jj dst fullShare (src.view.read (Elt F) fs) ∗ (src.view.loc (V d cc jj) ↦[src.view.set]{q} fs)) := by
    iintro ⟨H1, H2⟩
    isplitl [H1]
    · iapply e
      iexact H1
    · iexact H2
  iintro H K
  iapply h $$ H
  iintro H
  iapply K
  iapply (Transfers.Flight_mono countersEmb (V d cc jj) e2)
  iexact H

/-- A copy into a part of a buffer held whole. -/
theorem wp_startIn {α : Type} {Q : α → sProp 𝕄} {sp : Space} {cs : CoreSpace} {s : Shape} {e : EltTy} (m : Memref sig .scVector cs s e) (x : s.Idx → Elt F e)
    {off size : Fin s.rank → ℕ} (inb : ∀ a, off a + size a ≤ s.size a) (h1 : ∀ a, (Rect.unit (s := s) off size inb).stride a = 1)
    (src : Memref sig .scVector sp (Rect.unit (s := s) off size inb).shape e) (sm : DmaSem sig)
    {hsrc : src.view.WordExact} {hdst : (m.slice (Rect.unit (s := s) off size inb) h1).view.WordExact}
    {hsem : DmaTarget.Typed (nD := nD) (p := Proc.scVector cc jj) sp (.dma sm) (.here (m.slice (Rect.unit (s := s) off size inb) h1))}
    {k : PUnit → Prog (TpuEff nD τ sig (Elt F) Λ₀ (.scVector cc jj)) α} (N : ℕ) (hN : (m.slice (Rect.unit (s := s) off size inb) h1).view.amount (.dma sm) = N) (hN0 : 0 < N)
    (q : PosShare TreeShare) (fs : Buf (Elt F) (src.view.loc (V d cc jj))) :
    iprop((src.view.loc (V d cc jj) ↦[src.view.set]{q} fs) ∗ Hd d cc jj m fullShare x ∗ semVal (V d cc jj, .dma sm) 0)
      ⊢ iprop((Fl d cc jj sm N iprop(Hd d cc jj m fullShare (VecWindow.put x off size (src.view.read (Elt F) fs)) ∗ (src.view.loc (V d cc jj) ↦[src.view.set]{q} fs)) -∗ WP d cc jj (k ⟨⟩) Q)
        -∗ WP d cc jj (.op (.enqueueDma src (.here (m.slice (Rect.unit (s := s) off size inb) h1)) (.dma sm) hsrc hdst hsem) k) Q) := by
  have h := Transfers.wp_dmaLocal (defs := defs₀ (F := F)) (Λ := Λ₀) countersEmb 𝒱₀ (V d cc jj) none (via := .same) (src := src) (dst := m.slice (Rect.unit (s := s) off size inb) h1) (sm := .dma sm) (hsrc := hsrc) (hdst := hdst) (hsem := hsem)
    (k := k) (Q := Q) (q := q) (fs := fs) (Sd := m.view.set) (fd := m.view.rep x) (none : HIx 6) N hN hN0 (by
      show (m.view.slice (Rect.unit (s := s) off size inb)).set ⊆ _
      rw [View.set_slice]
      intro y hy
      exact View.setOn_subset_set _ _ hy)
  have e : (m.view.loc (V d cc jj) ↦[m.view.set]{fullShare} ((m.access (Rect.unit off size inb)).write (Elt F) (m.view.rep x) (src.view.read (Elt F) fs) Finset.univ) : sProp 𝕄)
      ⊢ Hd d cc jj m fullShare (VecWindow.put x off size (src.view.read (Elt F) fs)) :=
    pointsTo_rep_of_read (V d cc jj) m _ fullShare _ (View.read_writes_rep_unit m.view x inb _ rfl)
  have e2 : (iprop((m.view.loc (V d cc jj) ↦[m.view.set]{fullShare} ((m.access (Rect.unit off size inb)).write (Elt F) (m.view.rep x) (src.view.read (Elt F) fs) Finset.univ)) ∗ (src.view.loc (V d cc jj) ↦[src.view.set]{q} fs)) : sProp 𝕄)
      ⊢ iprop(Hd d cc jj m fullShare (VecWindow.put x off size (src.view.read (Elt F) fs)) ∗ (src.view.loc (V d cc jj) ↦[src.view.set]{q} fs)) := by
    iintro ⟨H1, H2⟩
    isplitl [H1]
    · iapply e
      iexact H1
    · iexact H2
  iintro H K
  iapply h $$ H
  iintro H
  iapply K
  iapply (Transfers.Flight_mono countersEmb (V d cc jj) e2)
  iexact H

theorem wp_land {α : Type} {Q : α → sProp 𝕄} {sp sp' : Space} {s s' : Shape} {e e' : EltTy} {sm : DmaSem sig} {srcw : Memref sig .scVector sp' s' e'} {dstw : Memref sig .scVector sp s e}
    {hsrc : srcw.view.WordExact} {hdst : dstw.view.WordExact}
    {k : PUnit → Prog (TpuEff nD τ sig (Elt F) Λ₀ (.scVector cc jj)) α} (N : ℕ) (hN : dstw.view.dmaCredit = N) {D : sProp 𝕄}
    {O : CellTallies nD τ sig (HIx 6)} {W : Waits sig (HIx 6)} :
    iprop(Fl d cc jj sm N D ∗ Debt d cc jj O W ∗ Transfers.MayWaits (V d cc jj) (none : HIx 6) O)
      ⊢ iprop((D ∗ semVal (V d cc jj, .dma sm) 0 ∗ Debt d cc jj O W -∗ WP d cc jj (k ⟨⟩) Q)
        -∗ WP d cc jj (.op (.waitDma2 sm srcw dstw hsrc hdst) k) Q) := by
  iintro ⟨HF, HD, #HM⟩ K
  unfold Debt
  icases HD with ⟨%W', %hW', HD⟩
  iapply (Transfers.wp_waitLocalO (defs := defs₀ (F := F)) (Λ := Λ₀) countersEmb 𝒱₀ (V d cc jj) none (sem := sm) (srcw := srcw) (dstw := dstw) (hsrc := hsrc) (hdst := hdst) (k := k) (Q := Q) (none : HIx 6) hN) $$ [HF HD]
  · isplitl [HF]
    · iexact HF
    isplitl [HD]
    · iexact HD
    iapply (Transfers.MayWaits.elim (.dma sm)) $$ HM
  · iintro ⟨HD, Hv, HO⟩
    iapply K
    isplitl [HD]
    · iexact HD
    isplitl [Hv]
    · iexact Hv
    iexists (insert (SemLoc.dma sm, (none : HIx 6)) W')
    isplitr
    · ipureintro
      intro p hp
      rcases Finset.mem_insert.mp hp with h | hp
      · exact Or.inr (Or.inl (congrArg Prod.snd h))
      · exact hW' p hp
    · iexact HO

end Steps

end Cert.Proof.Pool

end
-- ==== Proof.Barrier.lean ====
/-
  The launch's names, and the tiles' barriers: each tile has one barrier cell, on which every tile arrives six times, and
  a place where it leaves at each barrier what another takes after it.
-/
module

public import proofs.«01_k».proof.Proof.Copy

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 6) (Elt F) ℕ UU ℕ

/-! ## The launch -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- Six stages for the one call: a stage for each barrier of its tiles. -/
@[reducible] def blocks : SparseCore.Cfg.Blocks 1 6 where
  first := fun _ => 0
  last := fun _ => 5
  fst := fun k => if k = 0 then 0 else 6
  blk := fun _ ι => ∃ j, ι = some j
  first_le_last := fun _ => Fin.le_def.mpr (Nat.zero_le _)
  fst_val := fun q => by obtain rfl : q = 0 := Subsingleton.elim _ _; rfl
  fst_le := fun k q h => by
    obtain rfl : q = 0 := Subsingleton.elim _ _
    obtain rfl : k = 0 := Nat.le_zero.mp h
    exact le_rfl
  last_lt_fst := fun q => by obtain rfl : q = 0 := Subsingleton.elim _ _; decide
  blk_iff := fun _ ι => ⟨fun ⟨j, h⟩ => ⟨j, Fin.le_def.mpr (Nat.zero_le _), Fin.le_def.mpr (Nat.le_of_lt_succ j.isLt), h⟩, fun ⟨j, _, _, h⟩ => ⟨j, h⟩⟩
attribute [local instance] blocks

abbrev EH : Emb UH (MT nD τ sig (HIx 6) (Elt F) ℕ UU ℕ) := embL
/-- The barrier cells' component. -/
def EB : Emb UB (MT nD τ sig (HIx 6) (Elt F) ℕ UU ℕ) :=
  ((Emb.inl : Emb UB (UB × (UE × (UP × Counters)))).trans (Emb.inr : Emb (UB × (UE × (UP × Counters))) UU)).trans
    (uEmb (nD := nD) (sig := sig) (Ix := HIx 6) (Val := Elt F) (Name := ℕ) (U := UU) (Lvl := ℕ)).toEmb
instance EB_landsIn : (EB : Emb UB 𝕄).LandsIn (upEmb : UEmb _ 𝕄) := by unfold EB; infer_instance
/-- The component of what the tiles leave for each other. -/
def EE : Emb UE (MT nD τ sig (HIx 6) (Elt F) ℕ UU ℕ) :=
  (((Emb.inl : Emb UE (UE × (UP × Counters))).trans (Emb.inr : Emb (UE × (UP × Counters)) (UB × (UE × (UP × Counters))))).trans (Emb.inr : Emb (UB × (UE × (UP × Counters))) UU)).trans
    (uEmb (nD := nD) (sig := sig) (Ix := HIx 6) (Val := Elt F) (Name := ℕ) (U := UU) (Lvl := ℕ)).toEmb
instance EE_landsIn : (EE : Emb UE 𝕄).LandsIn (upEmb : UEmb _ 𝕄) := by unfold EE; infer_instance
/-- The TensorCore call's component. -/
def EP : Emb UP (MT nD τ sig (HIx 6) (Elt F) ℕ UU ℕ) :=
  ((((Emb.inl : Emb UP (UP × Counters)).trans (Emb.inr : Emb (UP × Counters) (UE × (UP × Counters)))).trans (Emb.inr : Emb (UE × (UP × Counters)) (UB × (UE × (UP × Counters))))).trans
    (Emb.inr : Emb (UB × (UE × (UP × Counters))) UU)).trans
    (uEmb (nD := nD) (sig := sig) (Ix := HIx 6) (Val := Elt F) (Name := ℕ) (U := UU) (Lvl := ℕ)).toEmb
instance EP_landsIn : (EP : Emb UP 𝕄).LandsIn (upEmb : UEmb _ 𝕄) := by unfold EP; infer_instance

/-! ## The barrier's cells -/

/-- A tile of the grid, as the machine numbers it. -/
abbrev tl (j : Fin (grid0.bound 1)) : Fin τ.nSub := j.castLE hsub0
/-- The barrier semaphore of a tile. -/
abbrev bcell (d : Dev nD) (c : Fin τ.nSC) (j : Fin τ.nSub) : GSem nD τ sig := (V d c j, .reg sc_bar0)
/-- The stage of barrier `r`. -/
abbrev ix (r : ℕ) : HIx 6 := some (Fin.ofNat 6 r)

theorem bar_ne_go : (sc_bar0 : Sem sig) ≠ sc_go := by decide

def isBar (g : GSem nD τ sig) : Bool :=
  match g with
  | ((_, .scVector _ _), sm) => decide (sm = .reg sc_bar0)
  | _ => false
@[simp] theorem isBar_bcell (d : Dev nD) (c : Fin τ.nSC) (j : Fin τ.nSub) : isBar (bcell d c j) = true := by simp [isBar]

/-- What tile `m`'s arrival at barrier `r` tells: that it has left what it leaves at `r`, and that every tile has been through `r - 1`. -/
def arr (d : Dev nD) (c : Fin τ.nSC) (m r : ℕ) : sProp 𝕄 :=
  iprop((bigSep (Finset.univ.filter fun j : Fin (grid0.bound 1) => j.val = m) fun j => reached EE (bcell d c (tl j)) (r + 1))
    ∗ bigSep Finset.univ fun j : Fin (grid0.bound 1) => reached EE (bcell d c (tl j)) r)
instance arr_persistent (d : Dev nD) (c : Fin τ.nSC) (m r : ℕ) : BI.Persistent (arr (F := F) d c m r) := by unfold arr; infer_instance

def bPay (g : GSem nD τ sig) (n : ℕ) : sProp 𝕄 :=
  match g with
  | ((d, .scVector c _), _) => arr d c (n % 16) (n / 16)
  | _ => iprop(emp)
/-- A barrier cell: one round, the duties `16 r + m` for tile `m`'s arrival at barrier `r`. -/
def bRd : Rounds.Schedule (GSem nD τ sig) ℕ 𝕄 where
  duties g r := if isBar g ∧ r = 0 then Finset.range 96 else ∅
  amount _ _ _ := 1
  payload g _ n := bPay g n
  amount_pos _ _ _ _ := Nat.one_pos
instance bRd_storable (g : GSem nD τ sig) (r n : ℕ) : BI.Storable (upEmb : UEmb _ 𝕄) ((bRd (F := F)).payload g r n) := by
  show BI.Storable upEmb (bPay g n)
  unfold bPay arr
  rcases g with ⟨⟨d, _ | c | ⟨c, i⟩⟩, sm⟩ <;> dsimp only <;> infer_instance
theorem bRd_duties (d : Dev nD) (c : Fin τ.nSC) (j : Fin τ.nSub) : (bRd (F := F)).duties (bcell d c j) 0 = Finset.range 96 := by simp [bRd, isBar]
theorem bRd_duties_succ (g : GSem nD τ sig) (r : ℕ) (hr : 1 ≤ r) : (bRd (F := F)).duties g r = ∅ := if_neg fun h => absurd h.2 (Nat.ne_of_gt hr)
theorem bRd_expect (d : Dev nD) (c : Fin τ.nSC) (j : Fin τ.nSub) : (bRd (F := F)).expect (bcell d c j) 0 = 96 := by
  unfold Rounds.Schedule.expect
  rw [bRd_duties]
  show ∑ x ∈ Finset.range 96, 1 = 96
  simp

/-! ## What the tiles leave for each other -/

theorem sep_insert {I : Type} [DecidableEq I] {s : Finset I} {i : I} (hi : i ∉ s) {Φ : I → sProp 𝕄} : bigSep (insert i s) Φ = iprop(Φ i ∗ bigSep s Φ) := BI.bigSep_insert hi
theorem sep_range {n : ℕ} {Φ : ℕ → sProp 𝕄} : bigSep (Finset.range (n + 1)) Φ = iprop(Φ n ∗ bigSep (Finset.range n) Φ) := by
  rw [Finset.range_add_one]
  exact sep_insert Finset.notMem_range_self
theorem sep_erase {I : Type} [DecidableEq I] {s : Finset I} {i : I} (hi : i ∈ s) {Φ : I → sProp 𝕄} : bigSep s Φ = iprop(Φ i ∗ bigSep (s.erase i) Φ) := by
  conv_lhs => rw [← Finset.insert_erase hi]
  exact sep_insert (Finset.notMem_erase i s)
theorem sep_elim {I : Type} [DecidableEq I] {s : Finset I} {i : I} (hi : i ∈ s) {Φ : I → sProp 𝕄} : bigSep s Φ ⊢ Φ i := BI.bigSep_elim hi

section Leave
variable (Py : Dev nD → Fin τ.nSC → Fin (grid0.bound 1) → ℕ → sProp (MT nD τ sig (HIx 6) (Elt F) ℕ UU ℕ)) (rc : Fin (grid0.bound 1) → ℕ → Option (Fin (grid0.bound 1)))

/-- What tile `j` has left at the barriers so far, or the token of who took it. -/
def left (d : Dev nD) (c : Fin τ.nSC) (j : Fin (grid0.bound 1)) : sProp 𝕄 :=
  iprop(∃ R, roundAuth EE (bcell d c (tl j)) R ∅ 0 ∗ bigSep (Finset.range R) fun r => iprop(Py d c j r ∨ dutyTok EE (bcell d c (tl j)) r 0))

/-- What tile `j` takes after barrier `r`. -/
def got (d : Dev nD) (c : Fin τ.nSC) (j : Fin (grid0.bound 1)) (r : ℕ) : sProp 𝕄 :=
  match rc j r with
  | some j' => Py d c j' r
  | none => iprop(emp)
def gotTok (d : Dev nD) (c : Fin τ.nSC) (j : Fin (grid0.bound 1)) (r : ℕ) : sProp 𝕄 :=
  match rc j r with
  | some j' => dutyTok EE (bcell d c (tl j')) r 0
  | none => iprop(emp)

/-- A tile leaves `Py` at barrier `r`. -/
theorem leave (d : Dev nD) (c : Fin τ.nSC) (j : Fin (grid0.bound 1)) (κ : ℕ) (r : ℕ) :
    iprop(inv κ (left Py d c j) ∗ atPos EE (bcell d c (tl j)) r ∅ 0 ∗ Py d c j r)
      ⊢ iprop(|={Set.univ}=> (atPos EE (bcell d c (tl j)) (r + 1) ∅ 0 ∗ reached EE (bcell d c (tl j)) (r + 1)) : sProp 𝕄) := by
  iintro ⟨Hi, Hat, Hp⟩
  imod (inv_acc (Set.mem_univ κ)) $$ Hi with ⟨Hb, Hcl⟩
  unfold left
  icases Hb with ⟨%R, Ha, Hs⟩
  ihave %h := (roundAuth_atPos_agree EE) $$ [Ha Hat]
  · isplitl [Ha] <;> iassumption
  obtain ⟨rfl, -, -⟩ := h
  imod (roundAuth_atPos_move EE (r + 1) ∅ 0 (Nat.le_succ r)) $$ [Ha Hat] with ⟨Ha, Hat⟩
  · isplitl [Ha] <;> iassumption
  imod (roundAuth_witness EE) $$ Ha with ⟨Ha, Hr⟩
  imod Hcl $$ [Ha Hs Hp]
  · iexists (r + 1)
    isplitl [Ha]; · iexact Ha
    iapply (Entails.of_eq sep_range.symm)
    isplitl [Hp]
    · ileft
      iexact Hp
    · iexact Hs
  imodintro
  isplitl [Hat] <;> iassumption

/-- And another, with the token for it, takes it. -/
theorem take (d : Dev nD) (c : Fin τ.nSC) (j : Fin (grid0.bound 1)) (κ : ℕ) (r : ℕ) :
    iprop(inv κ (left Py d c j) ∗ reached EE (bcell d c (tl j)) (r + 1) ∗ dutyTok EE (bcell d c (tl j)) r 0)
      ⊢ iprop(|={Set.univ}=> Py d c j r : sProp 𝕄) := by
  iintro ⟨Hi, Hr, Ht⟩
  imod (inv_acc (Set.mem_univ κ)) $$ Hi with ⟨Hb, Hcl⟩
  unfold left
  icases Hb with ⟨%R, Ha, Hs⟩
  ihave %h := (roundAuth_reached_le EE) $$ [Ha Hr]
  · isplitl [Ha] <;> iassumption
  have hm : r ∈ Finset.range R := Finset.mem_range.mpr h
  ihave Hs := (Entails.of_eq (sep_erase hm)) $$ Hs
  icases Hs with ⟨(Hp | Ht'), Hs⟩
  · imod Hcl $$ [Ha Hs Ht]
    · iexists R
      isplitl [Ha]; · iexact Ha
      iapply (Entails.of_eq (sep_erase hm).symm)
      isplitl [Ht]
      · iright
        iexact Ht
      · iexact Hs
    imodintro
    iexact Hp
  · iexfalso
    iapply (dutyTok_dutyTok_false EE)
    isplitl [Ht] <;> iassumption

/-- What a tile owes for the barriers from `r` on. -/
def oxs (d : Dev nD) (c : Fin τ.nSC) (r : ℕ) : CellTallies nD τ sig (HIx 6) := ∑ s ∈ Finset.Ico r 6, ∑ i : Fin (grid0.bound 1), tallyAt (bcell d c (tl i)) (ix s) 1

/-- What the launch makes known of the barriers. -/
def binv (κ κ' : Fin (grid0.bound 1) → ℕ) (d : Dev nD) (c : Fin τ.nSC) : sProp 𝕄 :=
  iprop((bigSep Finset.univ fun i : Fin (grid0.bound 1) => cellInv EB bRd (κ i) (bcell d c (tl i))) ∗ (bigSep Finset.univ fun i : Fin (grid0.bound 1) => inv (κ' i) (left Py d c i))
    ∗ bigSep Finset.univ fun i : Fin (grid0.bound 1) => reached EB (bcell d c (tl i)) 0)
instance binv_persistent (κ κ' : Fin (grid0.bound 1) → ℕ) (d : Dev nD) (c : Fin τ.nSC) : BI.Persistent (binv Py κ κ' d c) := by unfold binv; infer_instance

/-- What has arrived at a tile's own cell. -/
def come (d : Dev nD) (c : Fin τ.nSC) (j : Fin (grid0.bound 1)) (r : ℕ) : sProp 𝕄 :=
  iprop(∃ T : Finset ℕ, ⌜T ⊆ Finset.range 96 ∧ 16 * r ≤ T.card⌝ ∗ atPos EB (bcell d c (tl j)) 0 T (16 * r) ∗ bigSep T fun n => arr d c (n % 16) (n / 16))

/-- A tile before barrier `r`. -/
def at_ (κ κ' : Fin (grid0.bound 1) → ℕ) (d : Dev nD) (c : Fin τ.nSC) (j : Fin (grid0.bound 1)) (r : ℕ) : sProp 𝕄 :=
  iprop(binv Py κ κ' d c ∗ (bigSep Finset.univ fun i : Fin (grid0.bound 1) => reached EE (bcell d c (tl i)) r)
    ∗ (bigSep (Finset.Ico r 6) fun s => bigSep Finset.univ fun i : Fin (grid0.bound 1) => dutyTok EB (bcell d c (tl i)) 0 (16 * s + j.val))
    ∗ come d c j r
    ∗ (bigSep (Finset.Ico r 6) fun s => cred (tallyAt (bcell d c (tl j)) (ix s) 16))
    ∗ atPos EE (bcell d c (tl j)) r ∅ 0
    ∗ bigSep (Finset.Ico r 6) fun s => gotTok rc d c j s)

theorem Ico_step {r : ℕ} (hr : r < 6) : Finset.Ico r 6 = insert r (Finset.Ico (r + 1) 6) := by
  ext x
  simp only [Finset.mem_Ico, Finset.mem_insert]
  omega
theorem sep_Ico {r : ℕ} (hr : r < 6) {Φ : ℕ → sProp 𝕄} : bigSep (Finset.Ico r 6) Φ = iprop(Φ r ∗ bigSep (Finset.Ico (r + 1) 6) Φ) := by
  rw [Ico_step hr]
  exact sep_insert (by simp)
theorem oxs_step (d : Dev nD) (c : Fin τ.nSC) {r : ℕ} (hr : r < 6) : oxs d c r = oxs d c (r + 1) + ∑ i : Fin (grid0.bound 1), tallyAt (bcell d c (tl i)) (ix r) 1 := by
  unfold oxs
  rw [Ico_step hr, Finset.sum_insert (by simp), add_comm]
theorem oxs_pos {d : Dev nD} {c : Fin τ.nSC} {r : ℕ} {g : GSem nD τ sig} {ι : HIx 6} (h : 0 < oxs d c r g ι) : ∃ s, r ≤ s ∧ s < 6 ∧ ι = ix s ∧ ∃ i : Fin (grid0.bound 1), g = bcell d c (tl i) := by
  unfold oxs at h
  rw [Finset.sum_apply, Finsupp.finsetSum_apply] at h
  obtain ⟨s, hs, h⟩ := Finset.exists_ne_zero_of_sum_ne_zero (Nat.pos_iff_ne_zero.mp h)
  rw [Finset.sum_apply, Finsupp.finsetSum_apply] at h
  obtain ⟨i, -, hi⟩ := Finset.exists_ne_zero_of_sum_ne_zero h
  rw [tallyAt_apply] at hi
  split at hi
  · next e => exact ⟨s, (Finset.mem_Ico.mp hs).1, (Finset.mem_Ico.mp hs).2, e.2, i, e.1⟩
  · exact absurd rfl hi
theorem oxs_none (d : Dev nD) (c : Fin τ.nSC) (r : ℕ) (g : GSem nD τ sig) : oxs d c r g none = 0 := by
  by_contra h
  obtain ⟨s, -, -, e, -⟩ := oxs_pos (Nat.pos_of_ne_zero h)
  exact nomatch e

/-- All tiles have left at `r`, once sixteen arrivals more than `16 r` are in. -/
theorem all_left (d : Dev nD) (c : Fin τ.nSC) (r : ℕ) (S : Finset ℕ) (h : 16 * r + 16 ≤ S.card) :
    (bigSep S fun n => arr d c (n % 16) (n / 16)) ⊢ (bigSep Finset.univ fun i : Fin (grid0.bound 1) => reached EE (bcell d c (tl i)) (r + 1) : sProp 𝕄) := by
  by_cases hx : ∃ n ∈ S, r + 1 ≤ n / 16
  · obtain ⟨n, hn, hr⟩ := hx
    refine (sep_elim hn).trans ?_
    unfold arr
    iintro ⟨-, H⟩
    iapply (show (bigSep Finset.univ fun i : Fin (grid0.bound 1) => reached EE (bcell d c (tl i)) (n / 16) : sProp 𝕄) ⊢ bigSep Finset.univ fun i : Fin (grid0.bound 1) => reached EE (bcell d c (tl i)) (r + 1)
      from bigSep_mono fun i _ => reached_mono EE hr) $$ H
  · have hS : S = Finset.range (16 * r + 16) := by
      refine Finset.eq_of_subset_of_card_le (fun n hn => Finset.mem_range.mpr ?_) (by rw [Finset.card_range]; exact h)
      by_contra h'
      exact hx ⟨n, hn, by omega⟩
    refine bigSep_intro_persistent fun i _ => ?_
    have hi : i.val < 16 := i.isLt
    refine (sep_elim (i := 16 * r + i.val) (by rw [hS, Finset.mem_range]; omega)).trans ?_
    unfold arr
    rw [show (16 * r + i.val) % 16 = i.val by omega, show (16 * r + i.val) / 16 = r by omega]
    iintro ⟨H, -⟩
    iapply (sep_elim (s := Finset.univ.filter fun j : Fin (grid0.bound 1) => j.val = i.val) (Φ := fun j : Fin (grid0.bound 1) => (reached EE (bcell d c (tl j)) (r + 1) : sProp 𝕄)) (Finset.mem_filter.mpr ⟨Finset.mem_univ i, rfl⟩)) $$ H

/-- The evidence for a wait at a barrier. -/
theorem may_bar {d : Dev nD} {c : Fin τ.nSC} {j : Fin τ.nSub} {O : CellTallies nD τ sig (HIx 6)} (r : ℕ) (hr : r < 6) (hO : ∀ g ι, 0 < O g ι → 46 ≤ (K (F := F)).lev g ι)
    (lv : GSem nD τ sig → HIx 6 → ℕ) (hlv : (K (F := F)).Refines lv) :
    (levAts (K (F := F)).L lv : sProp 𝕄) ⊢ MayOwe (V d c j) {(SemLoc.reg sc_bar0, ix r)} (O + oxs d c (r + 1)) := by
  have hv : ∀ s, s < 6 → (Fin.ofNat 6 s).val = s := fun s hs => Nat.mod_eq_of_lt hs
  refine (K (F := F)).mayOwe_of_bound (8 * r + 3) (fun p hp => ?_) (fun g ι h => ?_) lv hlv
  · obtain rfl := Finset.mem_singleton.mp hp
    rw [(K (F := F)).lev_V_reg d c j (show (sc_bar0 : Sem sig) ≠ (K (F := F)).go from bar_ne_go), hv r hr]
  · by_cases h0 : 0 < O g ι
    · have := hO g ι h0
      omega
    · have h1 : 0 < oxs d c (r + 1) g ι := by
        have e : (O + oxs d c (r + 1)) g ι = O g ι + oxs d c (r + 1) g ι := rfl
        omega
      obtain ⟨s, hs, hs6, rfl, i, rfl⟩ := oxs_pos h1
      rw [(K (F := F)).lev_V_reg d c (tl i) (show (sc_bar0 : Sem sig) ≠ (K (F := F)).go from bar_ne_go), hv s hs6]
      omega

theorem bar_bind {α : Type} {c : Fin τ.nSC} {j : Fin τ.nSub} (k : PUnit → Prog (TpuEff nD τ sig (Elt F) Λ₀ (.scVector c j)) α) :
    (SparseCore.subcoreBarrier sc_bar0 (grid0.bound 1) hsub0).bind k
      = .op .deviceId fun d => (List.finRange (grid0.bound 1)).foldr (fun i p => .op (TpuEff.semSignal (d, .scVector c (tl i)) sc_bar0 1) fun _ => p) (.op (TpuEff.semWait sc_bar0 (grid0.bound 1)) k) :=
  SparseCore.subcoreBarrier_bind sc_bar0 (grid0.bound 1) hsub0 k

/-- The arrivals: one at each tile of the list. -/
theorem wp_arrive {α : Type} {Q : α → sProp 𝕄} (κ κ' : Fin (grid0.bound 1) → ℕ) (d : Dev nD) (c : Fin τ.nSC) (j : Fin (grid0.bound 1)) (r : ℕ) (hr : r < 6) (O : CellTallies nD τ sig (HIx 6)) (W : Waits sig (HIx 6))
    (p : Prog (TpuEff nD τ sig (Elt F) Λ₀ (.scVector c (tl j))) α) (l : List (Fin (grid0.bound 1))) (hl : l.Nodup) :
    iprop(binv Py κ κ' d c ∗ arr d c j.val r ∗ owes (V d c (tl j)) (O + ∑ i ∈ l.toFinset, tallyAt (bcell d c (tl i)) (ix r) 1) W
      ∗ (bigSep l.toFinset fun i => dutyTok EB (bcell d c (tl i)) 0 (16 * r + j.val)))
      ⊢ iprop((owes (V d c (tl j)) O W -∗ WP d c (tl j) p Q)
        -∗ WP d c (tl j) (l.foldr (fun i p => .op (TpuEff.semSignal (d, .scVector c (tl i)) sc_bar0 1) fun _ => p) p) Q) := by
  induction l with
  | nil =>
    rw [List.toFinset_nil, List.foldr_nil, Finset.sum_empty, add_zero]
    iintro ⟨-, -, HO, -⟩ K
    iapply K
    iexact HO
  | cons i l ih =>
    rw [List.toFinset_cons, List.foldr_cons]
    have hi : i ∉ l.toFinset := fun h => (List.nodup_cons.mp hl).1 (List.mem_toFinset.mp h)
    rw [sep_insert hi, Finset.sum_insert hi]
    have hj : j.val < 16 := j.isLt
    iintro ⟨#Hb, #Ha, HO, Ht, Hts⟩ K
    iapply (Rounds.wp_signal 𝒱₀ EB bRd (V d c (tl j)) none (dst := V d c (tl i)) (sem := sc_bar0) (r := 0) (d := 16 * r + j.val) (k' := 1) (κ := κ i)
      (by rw [bRd_duties, Finset.mem_range]; omega) rfl (ix r)
      (O₀ := O + (tallyAt (bcell d c (tl i)) (ix r) 1 + ∑ i ∈ l.toFinset, tallyAt (bcell d c (tl i)) (ix r) 1))
      (O := O + ∑ i ∈ l.toFinset, tallyAt (bcell d c (tl i)) (ix r) 1) (by rw [add_comm (tallyAt _ _ _) _, ← add_assoc]) (W := W)) $$ [HO Ht]
    · unfold binv
      icases Hb with ⟨H1, -, H3⟩
      isplitl [H1]
      · iapply (sep_elim (Φ := fun i : Fin (grid0.bound 1) => (cellInv EB bRd (κ i) (bcell d c (tl i)) : sProp 𝕄)) (Finset.mem_univ i)) $$ H1
      isplitl [HO]; · iexact HO
      isplitl [Ht]; · iexact Ht
      isplitr
      · iapply (show (arr d c j.val r : sProp 𝕄) ⊢ (bRd (F := F)).payload (bcell d c (tl i)) 0 (16 * r + j.val) from by
          show _ ⊢ arr d c ((16 * r + j.val) % 16) ((16 * r + j.val) / 16)
          rw [show (16 * r + j.val) % 16 = j.val by omega, show (16 * r + j.val) / 16 = r by omega])
        iexact Ha
      · iapply (sep_elim (Φ := fun i : Fin (grid0.bound 1) => (reached EB (bcell d c (tl i)) 0 : sProp 𝕄)) (Finset.mem_univ i)) $$ H3
    iintro HO
    iapply (ih (List.nodup_cons.mp hl).2) $$ [HO Hts]
    · isplitr; · iexact Hb
      isplitr; · iexact Ha
      isplitl [HO] <;> iassumption
    iexact K

/-- A tile goes through barrier `r`: it leaves what it leaves there and takes what it takes after it. -/
theorem wp_bar {α : Type} {Q : α → sProp 𝕄} (κ κ' : Fin (grid0.bound 1) → ℕ) (d : Dev nD) (c : Fin τ.nSC) (j : Fin (grid0.bound 1)) (r : ℕ) (hr : r < 6)
    (O : CellTallies nD τ sig (HIx 6)) (hO : ∀ g ι, 0 < O g ι → 46 ≤ (K (F := F)).lev g ι) (W : Waits sig (HIx 6))
    (lv : GSem nD τ sig → HIx 6 → ℕ) (hlv : (K (F := F)).Refines lv) (k : PUnit → Prog (TpuEff nD τ sig (Elt F) Λ₀ (.scVector c (tl j))) α) :
    iprop(levAts (K (F := F)).L lv ∗ at_ Py rc κ κ' d c j r ∗ Py d c j r ∗ Debt d c (tl j) (O + oxs d c r) W)
      ⊢ iprop((at_ Py rc κ κ' d c j (r + 1) ∗ got Py rc d c j r ∗ Debt d c (tl j) (O + oxs d c (r + 1)) W -∗ WP d c (tl j) (k ⟨⟩) Q)
        -∗ WP d c (tl j) ((SparseCore.subcoreBarrier sc_bar0 (grid0.bound 1) hsub0).bind k) Q) := by
  have hj : j.val < 16 := j.isLt
  rw [bar_bind, oxs_step d c hr, show (WP d c (tl j) (.op .deviceId _) Q : sProp 𝕄) = _ from wp_deviceId 𝒱₀ (V d c (tl j)) none Set.univ]
  unfold at_
  iintro ⟨#Hlev, ⟨#Hb, #Hre, Hd, Hcome, Hc, Hat, Hg⟩, HP, HD⟩ K
  ihave Hd := (Entails.of_eq (sep_Ico hr)) $$ Hd
  icases Hd with ⟨Hd0, Hd⟩
  ihave Hc := (Entails.of_eq (sep_Ico hr)) $$ Hc
  icases Hc with ⟨Hc0, Hc⟩
  ihave Hg := (Entails.of_eq (sep_Ico hr)) $$ Hg
  icases Hg with ⟨Hg0, Hg⟩
  unfold Debt
  icases HD with ⟨%W', %hW', HO⟩
  ihave #Hb' := (show (binv Py κ κ' d c : sProp 𝕄) ⊢ bigSep Finset.univ fun i : Fin (grid0.bound 1) => inv (κ' i) (left Py d c i) from by
    unfold binv
    iintro ⟨-, H, -⟩
    iexact H) $$ Hb
  -- what it leaves
  imod (leave Py d c j (κ' j) r) $$ [Hat HP] with ⟨Hat, #Hr1⟩
  · isplitr
    · iapply (sep_elim (Φ := fun i : Fin (grid0.bound 1) => (inv (κ' i) (left Py d c i) : sProp 𝕄)) (Finset.mem_univ j)) $$ Hb'
    isplitl [Hat] <;> iassumption
  ihave #Ha := (show (iprop(reached EE (bcell d c (tl j)) (r + 1) ∗ bigSep Finset.univ fun i : Fin (grid0.bound 1) => reached EE (bcell d c (tl i)) r) : sProp 𝕄) ⊢ arr d c j.val r from by
    unfold arr
    refine sep_mono_left (bigSep_intro_persistent fun i hi => ?_)
    rw [show i = j from Fin.ext (Finset.mem_filter.mp hi).2]) $$ [Hr1 Hre]
  · isplitl [Hr1] <;> iassumption
  -- the arrivals
  have h := wp_arrive Py (Q := Q) κ κ' d c j r hr (O + oxs d c (r + 1)) W' (.op (TpuEff.semWait sc_bar0 (grid0.bound 1)) k) (List.finRange (grid0.bound 1)) (List.nodup_finRange _)
  rw [List.toFinset_finRange, add_assoc] at h
  iapply h $$ [HO Hd0]
  · isplitr; · iexact Hb
    isplitr; · iexact Ha
    isplitl [HO] <;> iassumption
  iintro HO
  -- the wait
  unfold come
  icases Hcome with ⟨%T, %hT, HatB, #Hpay⟩
  iapply (Rounds.wp_wait 𝒱₀ EB bRd (V d c (tl j)) none (sm := .reg sc_bar0) (k' := 16) (κ := κ j) (wpE_semWait_eq 𝒱₀ (V d c (tl j)) none Set.univ) (Set.mem_univ _)
      (cr := Finsupp.single (ix r) 16) (O := O + oxs d c (r + 1)) (W := W') {(SemLoc.reg sc_bar0, ix r)} (R := 0) (m := 16 * r) (T := T) (by rw [Util.total_single]) (image_single_subset _ _ _)) $$ [Hc0 HO HatB]
  · unfold binv
    icases Hb with ⟨H1, -, -⟩
    isplitl [H1]
    · iapply (sep_elim (Φ := fun i : Fin (grid0.bound 1) => (cellInv EB bRd (κ i) (bcell d c (tl i)) : sProp 𝕄)) (Finset.mem_univ j)) $$ H1
    isplitl [Hc0]; · iexact Hc0
    isplitl [HO]; · iexact HO
    isplitr
    · iapply (may_bar r hr hO lv hlv) $$ Hlev
    iexact HatB
  iintro %S ⟨%hS, HO, HatB, Hnew⟩
  obtain ⟨hTS, hS96, hcard⟩ := hS
  rw [bRd_duties] at hS96 hcard
  rw [bRd_expect] at hcard
  have hSc : 16 * r + 16 ≤ S.card := by
    have := Finset.card_sdiff_add_card_eq_card hS96
    rw [Finset.card_range] at this
    omega
  ihave #Hnew := (show (bigSep (S \ T) fun n => (bRd (F := F)).payload (V d c (tl j), SemLoc.reg sc_bar0) 0 n : sProp 𝕄) ⊢ bigSep (S \ T) fun n => arr d c (n % 16) (n / 16) from Entails.refl _) $$ Hnew
  ihave #Hall := (show (iprop((bigSep T fun n => arr d c (n % 16) (n / 16)) ∗ bigSep (S \ T) fun n => arr d c (n % 16) (n / 16)) : sProp 𝕄) ⊢ bigSep S fun n => arr d c (n % 16) (n / 16) from
    bigSep_intro_persistent fun n hn => by
      by_cases h : n ∈ T
      · iintro ⟨H, -⟩
        iapply (sep_elim (Φ := fun n => (arr d c (n % 16) (n / 16) : sProp 𝕄)) h) $$ H
      · iintro ⟨-, H⟩
        iapply (sep_elim (Φ := fun n => (arr d c (n % 16) (n / 16) : sProp 𝕄)) (Finset.mem_sdiff.mpr ⟨hn, h⟩)) $$ H) $$ [Hpay Hnew]
  · isplitl [Hpay] <;> iassumption
  ihave #Hre' := (all_left d c r S hSc) $$ Hall
  -- what it takes
  ihave Hgot := (show (iprop((bigSep Finset.univ fun i : Fin (grid0.bound 1) => inv (κ' i) (left Py d c i)) ∗ (bigSep Finset.univ fun i : Fin (grid0.bound 1) => reached EE (bcell d c (tl i)) (r + 1)) ∗ gotTok rc d c j r) : sProp 𝕄)
      ⊢ iprop(|={Set.univ}=> got Py rc d c j r) from by
    unfold got gotTok
    cases rc j r with
    | none =>
      iintro ⟨-, -, H⟩
      imodintro
      iexact H
    | some j' =>
      iintro ⟨H1, H2, H3⟩
      iapply (take Py d c j' (κ' j') r)
      isplitl [H1]
      · iapply (sep_elim (Φ := fun i : Fin (grid0.bound 1) => (inv (κ' i) (left Py d c i) : sProp 𝕄)) (Finset.mem_univ j')) $$ H1
      isplitl [H2]
      · iapply (sep_elim (Φ := fun i : Fin (grid0.bound 1) => (reached EE (bcell d c (tl i)) (r + 1) : sProp 𝕄)) (Finset.mem_univ j')) $$ H2
      iexact H3) $$ [Hb' Hre' Hg0]
  · isplitr; · iexact Hb'
    isplitr; · iexact Hre'
    iexact Hg0
  imod Hgot with Hgot
  iapply K
  isplitl [Hd Hc Hat Hg HatB]
  · isplitr; · iexact Hb
    isplitr; · iexact Hre'
    isplitl [Hd]; · iexact Hd
    isplitl [HatB]
    · iexists S
      isplitr
      · ipureintro
        exact ⟨hS96, by omega⟩
      isplitl [HatB]
      · iexact HatB
      · iexact Hall
    isplitl [Hc]; · iexact Hc
    isplitl [Hat]; · iexact Hat
    iexact Hg
  isplitl [Hgot]; · iexact Hgot
  iexists (W' ∪ {(SemLoc.reg sc_bar0, ix r)})
  isplitr
  · ipureintro
    intro p hp
    rcases Finset.mem_union.mp hp with h | h
    · exact hW' p h
    · exact Or.inr (Or.inr ⟨_, congrArg Prod.snd (Finset.mem_singleton.mp h)⟩)
  · iexact HO

/-- After the last barrier a tile's cell is closed. -/
theorem bar_close (κ κ' : Fin (grid0.bound 1) → ℕ) (d : Dev nD) (c : Fin τ.nSC) (j : Fin (grid0.bound 1)) :
    at_ Py rc κ κ' d c j 6 ⊢ iprop(|={Set.univ}=> semVal (bcell d c (tl j)) 0 : sProp 𝕄) := by
  unfold at_ come binv
  iintro ⟨⟨#H1, -, -⟩, -, -, ⟨%T, %hT, Hat, -⟩, -, -, -⟩
  have hT' : T = Finset.range 96 := Finset.eq_of_subset_of_card_le hT.1 (by rw [Finset.card_range]; exact hT.2)
  ihave #H1 := (sep_elim (Φ := fun i : Fin (grid0.bound 1) => (cellInv EB bRd (κ i) (bcell d c (tl i)) : sProp 𝕄)) (Finset.mem_univ j)) $$ H1
  imod (Rounds.fupd_skip EB (bRd (F := F)) (g := bcell d c (tl j)) (κ := κ j) (R := 0) (m := 16 * 6) (T := T) (by rw [bRd_duties, hT']) (by rw [bRd_expect]) (Set.mem_univ _)) $$ [Hat] with ⟨Hat, -⟩
  · isplitr; · iexact H1
    iexact Hat
  iapply (Rounds.cell_close EB (bRd (F := F)) (g := bcell d c (tl j)) (κ := κ j) (Set.mem_univ _) (fun h => h) (R := 1) (fun r hr => bRd_duties_succ _ r hr))
  isplitr; · iexact H1
  iexact Hat

end Leave

end Cert.Proof.Pool

end
-- ==== Proof.Body.lean ====
/-
  The TensorCore head's body, run once from its buffers.
-/
module

public import proofs.«01_k».proof.Proof.Barrier
public import proofs.«01_k».proof.Proof.Gen.KernelIdeal.Launch

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 6) (Elt F) ℕ UU ℕ

attribute [local instance] blocks

open TcCoe

/-! ## The head's body -/

/-- A whole memref's buffer on the TensorCore, at contents. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp (MT nD τ sig (HIx 6) (Elt F) ℕ UU ℕ) :=
  (M.view.loc (c : Thread nD τ) ↦{fullShare} f)

/-- The head run from its seven buffers: it returns with its inputs as they were and its result at what the run finds. -/
noncomputable def headRun (c : Dev nD)
    (M0 : Memref sig .tc .vmem S2x512x256 .f32) (h0 : M0.IsWhole) (M1 : Memref sig .tc .vmem S16x512x16 .f32) (h1 : M1.IsWhole)
    (M2 : Memref sig .tc .vmem S64x256 .f32) (h2 : M2.IsWhole) (M3 : Memref sig .tc .vmem S1x64 .f32) (h3 : M3.IsWhole)
    (M4 : Memref sig .tc .vmem S21x64 .f32) (h4 : M4.IsWhole) (M5 : Memref sig .tc .vmem S1x21 .f32) (h5 : M5.IsWhole)
    (M6 : Memref sig .tc .vmem S512x21 .f32) (h6 : M6.IsWhole)
    (f0 : Bf (F := F) c M0) (f1 : Bf (F := F) c M1) (f2 : Bf (F := F) c M2) (f3 : Bf (F := F) c M3) (f4 : Bf (F := F) c M4) (f5 : Bf (F := F) c M5) :
    { W : Bf (F := F) c M6 //
      ∀ (f6 : Bf (F := F) c M6) (Q : PUnit → sProp 𝕄),
        iprop(pt c M0 f0 ∗ pt c M1 f1 ∗ pt c M2 f2 ∗ pt c M3 f3 ∗ pt c M4 f4 ∗ pt c M5 f5 ∗ pt c M6 f6
          ∗ (iprop(pt c M0 f0 ∗ pt c M1 f1 ∗ pt c M2 f2 ∗ pt c M3 f3 ∗ pt c M4 f4 ∗ pt c M5 f5 ∗ pt c M6 W) -∗ Q ⟨⟩))
        ⊢ wp frame (wpE (defs₀ (F := F)) 𝒱₀ (c : Thread nD τ) none) Set.univ
            (cc1_body M0 h0 M1 h1 M2 h2 M3 h3 M4 h4 M5 h5 M6 h6) Q } := by
  refine ⟨?_, fun f6 Q => ?run⟩
  case run =>
    iintro ⟨H0, H1, H2, H3, H4, H5, H6, Hk⟩
    unfold cc1_body
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    iexact H6

end Cert.Proof.Pool

end
-- ==== Proof.Row.lean ====
/-
  One row, one group of sixteen rows, of the segment pass: the memory statements the kernel's text repeats for each
  row, written once over the buffers and the row's number, and what they leave. The state is the table of finished
  segments `A`, their counts `C`, the running segment `R` (eight blocks of sixteen columns and a count) and its
  number `cur`.
-/
module

public import proofs.«01_k».proof.Proof.Rows

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 6) (Elt F) ℕ UU ℕ

/-! ## What the statements leave, by coordinates -/

/-- The running segment's first `n` blocks written over row `c` of `A`. -/
def flushTo (A R : ℕ → ℕ → F .f32) (c n : ℕ) : ℕ → ℕ → F .f32 := fun i k => if i = c ∧ k < 16 * n then R (k / 16) (k % 16) else A i k
/-- The first `n` blocks of `R` replaced by those of the row `Z`. -/
def newTo (R : ℕ → ℕ → F .f32) (Z : ℕ → F .f32) (n : ℕ) : ℕ → ℕ → F .f32 := fun j k => if j < n ∧ k < 16 then Z (16 * j + k) else R j k
/-- The row `Z` added to the first `n` blocks of `R`. -/
def accTo (R : ℕ → ℕ → F .f32) (Z : ℕ → F .f32) (n : ℕ) : ℕ → ℕ → F .f32 :=
  fun j k => if j < n ∧ k < 16 then FloatOps.addf (R j k) (Z (16 * j + k)) else R j k
/-- Sixteen values added in pairs, the pairs in pairs, and so on. -/
def tree (f : ℕ → F .f32) : F .f32 :=
  FloatOps.addf
    (FloatOps.addf (FloatOps.addf (FloatOps.addf (f 0) (f 1)) (FloatOps.addf (f 2) (f 3))) (FloatOps.addf (FloatOps.addf (f 4) (f 5)) (FloatOps.addf (f 6) (f 7))))
    (FloatOps.addf (FloatOps.addf (FloatOps.addf (f 8) (f 9)) (FloatOps.addf (f 10) (f 11))) (FloatOps.addf (FloatOps.addf (f 12) (f 13)) (FloatOps.addf (f 14) (f 15))))

theorem flushTo_zero (A R : ℕ → ℕ → F .f32) (c : ℕ) : flushTo A R c 0 = A := by
  funext i k; unfold flushTo; rw [if_neg (by omega)]
theorem flushTo_succ (A R : ℕ → ℕ → F .f32) (c n b : ℕ) (hb : b = 16 * n) (g : ℕ → F .f32) (hg : g = fun k => R n (0 + k)) :
    setRow (flushTo A R c n) c b g = flushTo A R c (n + 1) := by
  subst hb; subst hg
  funext i k; unfold setRow flushTo
  by_cases h : i = c ∧ 16 * n ≤ k ∧ k < 16 * n + 16
  · rw [if_pos h, if_pos (by omega)]
    have h1 : k / 16 = n := by omega
    have h2 : k % 16 = k - 16 * n := by omega
    rw [h1, h2]; show R n (0 + _) = _; rw [Nat.zero_add]
  · rw [if_neg h]
    by_cases h' : i = c ∧ k < 16 * n
    · rw [if_pos h', if_pos (by omega)]
    · rw [if_neg h', if_neg (by omega)]
theorem newTo_zero (R : ℕ → ℕ → F .f32) (Z : ℕ → F .f32) : newTo R Z 0 = R := by
  funext i k; unfold newTo; rw [if_neg (by omega)]
theorem newTo_succ (R : ℕ → ℕ → F .f32) (Z : ℕ → F .f32) (n b : ℕ) (hb : b = 16 * n) :
    setRow (newTo R Z n) n 0 (fun k => Z (b + k)) = newTo R Z (n + 1) := by
  subst hb
  funext i k; unfold setRow newTo
  by_cases h : i = n ∧ 0 ≤ k ∧ k < 0 + 16
  · rw [if_pos h, if_pos (by omega), h.1, Nat.sub_zero]
  · rw [if_neg h]
    by_cases h' : i < n ∧ k < 16
    · rw [if_pos h', if_pos (by omega)]
    · rw [if_neg h', if_neg (by omega)]
theorem accTo_zero (R : ℕ → ℕ → F .f32) (Z : ℕ → F .f32) : accTo R Z 0 = R := by
  funext i k; unfold accTo; rw [if_neg (by omega)]
theorem accTo_succ (R : ℕ → ℕ → F .f32) (Z : ℕ → F .f32) (n : ℕ) (g : ℕ → F .f32)
    (hg : g = fun k => FloatOps.addf (accTo R Z n n (0 + k)) (Z (16 * n + k))) :
    setRow (accTo R Z n) n 0 g = accTo R Z (n + 1) := by
  subst hg
  funext i k; unfold setRow accTo
  by_cases h : i = n ∧ 0 ≤ k ∧ k < 0 + 16
  · rw [if_pos h, if_pos (by omega)]; obtain ⟨rfl, -⟩ := h
    dsimp only; rw [if_neg (by omega), Nat.sub_zero, Nat.zero_add]
  · rw [if_neg h]
    by_cases h' : i < n ∧ k < 16
    · rw [if_pos h', if_pos (by omega)]
    · rw [if_neg h', if_neg (by omega)]

/-- The state of the pass over a tile's rows. -/
structure St (F : FTy → Type) where
  A : ℕ → ℕ → F .f32
  C : ℕ → F .f32
  R : ℕ → ℕ → F .f32
  cur : BitVec 32

/-- The row of the table a segment number names: the number, or 0 for a negative one. -/
def accRow (c : BitVec 32) : ℕ := (Scalar.indexCast (Scalar.maxsi c 0#32)).toNat
/-- Its first entry in the table of counts, as the kernel computes it. -/
def cntRow (c : BitVec 32) : ℕ := (Scalar.indexCast (Scalar.muli (Scalar.maxsi c 0#32) 16#32)).toNat
theorem cntRow_eq (c : BitVec 32) (h : accRow c < 512) : cntRow c = 16 * accRow c := by
  have h' : (Scalar.maxsi c 0#32).toNat < 512 := h
  show (Scalar.maxsi c 0#32 * 16#32).toNat = 16 * (Scalar.maxsi c 0#32).toNat
  rw [BitVec.toNat_mul]
  show (Scalar.maxsi c 0#32).toNat * 16 % 2 ^ 32 = _
  omega

/-- The f32 constants 1 and 16. -/
def one32 : F .f32 := Scalar.ofBits .f32 0x3F800000#32
def sixteen32 : F .f32 := Scalar.ofBits .f32 0x41800000#32
def zero32 : F .f32 := Scalar.ofBits .f32 0x00000000#32

/-- The running segment written out: to its row of the table, and its count. -/
def St.flush (s : St F) : St F := { s with A := flushTo s.A s.R (accRow s.cur) 8, C := setLin s.C (16 * accRow s.cur) fun k => s.R 8 (0 + k) }
/-- A row that starts a segment. -/
def St.new (s : St F) (Z : ℕ → F .f32) (id : BitVec 32) : St F :=
  { s.flush with R := setRow (newTo s.R Z 8) 8 0 (fun _ => one32), cur := id }
/-- A row of the running segment. -/
def St.more (s : St F) (Z : ℕ → F .f32) : St F := { s with R := setRow (accTo s.R Z 8) 8 0 (fun k => FloatOps.addf (s.R 8 (0 + k)) one32) }
/-- One row. -/
def St.row (s : St F) (Z : ℕ → F .f32) (id : BitVec 32) : St F := if id = s.cur then s.more Z else s.new Z id
/-- Sixteen rows of the running segment at once. -/
def St.fast (s : St F) (Z : ℕ → ℕ → F .f32) : St F :=
  { s with R := setRow (accTo s.R (fun k => tree fun l => Z l k) 8) 8 0 (fun k => FloatOps.addf (s.R 8 (0 + k)) sixteen32) }

section Progs
variable {cc : Fin τ.nSC} {jj : Fin τ.nSub} {α : Type}

local notation "PROG" => Prog (TpuEff nD τ sig (Elt F) Λ₀ (Proc.scVector cc jj)) α

variable (rows : Memref sig .scVector .vmem S80x128 .f32) (run : Memref sig .scVector .vmem S9x16 .f32)
  (acc : Memref sig .scVector .vmem S512x128 .f32) (cnt : Memref sig .scVector .vmem S8192 .f32) (cur : Memref sig .scVector .smem S1 .i32)

/-- A load of sixteen lanes of a row of a two-axis buffer. -/
def ldV {n : Fin 2 → ℕ} (m : Memref sig .scVector .vmem ⟨2, n⟩ .f32) (a b : ℕ) (h : ∀ x, (![a, b] : Fin 2 → ℕ) x + S1x16.size x ≤ n x) (k : Vec F S1x16 .f32 → PROG) : PROG :=
  .op (.load m (Rect.unit (s := ⟨2, n⟩) ![a, b] S1x16.size h).toLoadRect (View.loadsAt_vmem h_S1x16)) k
/-- A store of sixteen lanes of a row of a two-axis buffer. -/
def stV {n : Fin 2 → ℕ} (m : Memref sig .scVector .vmem ⟨2, n⟩ .f32) (a b : ℕ) (h : ∀ x, (![a, b] : Fin 2 → ℕ) x + S1x16.size x ≤ n x) (w : FVec F S16 .f32) (k : PROG) : PROG :=
  .op (.store m (Rect.unit (s := ⟨2, n⟩) ![a, b] S1x16.size h) (shapeCast S1x16 w shapeCasts_S16_S1x16) Finset.univ (View.stores_vmem_bits_univ h_S1x16 rfl) (.inl rfl)) fun _ => k
abbrev v16 (v : Vec F S1x16 .f32) : FVec F S16 .f32 := shapeCast S16 v shapeCasts_S1x16_S16

abbrev InRun (j : ℕ) : Prop := ∀ x, (![j, 0] : Fin 2 → ℕ) x + S1x16.size x ≤ S9x16.size x
theorem inRun (j : ℕ) (h : j < 9) : InRun j := fun x => match x with
  | 0 => (by show j + 1 ≤ 9; omega)
  | 1 => (by show 0 + 16 ≤ 16; omega)
theorem inAcc (r b : ℕ) (h : r < 512) (hb : b ≤ 112) : ∀ x, (![r, b] : Fin 2 → ℕ) x + S1x16.size x ≤ S512x128.size x := fun x => match x with
  | 0 => (by show r + 1 ≤ 512; omega)
  | 1 => (by show b + 16 ≤ 128; omega)
theorem inRows (r b : ℕ) (h : r < 80) (hb : b ≤ 112) : ∀ x, (![r, b] : Fin 2 → ℕ) x + S1x16.size x ≤ S80x128.size x := fun x => match x with
  | 0 => (by show r + 1 ≤ 80; omega)
  | 1 => (by show b + 16 ≤ 128; omega)
theorem inCnt (c : BitVec 32) (h : accRow c < 512) : ∀ x, (![cntRow c] : Fin 1 → ℕ) x + S16.size x ≤ S8192.size x := fun x => match x with
  | 0 => (by show cntRow c + 16 ≤ 8192; rw [cntRow_eq c h]; omega)

def flushBlk (j b r : ℕ) (hr : r < 512) (hj : j < 9) (hb : b ≤ 112) (k : PROG) : PROG :=
  ldV run j 0 (inRun j hj) fun v => ldV acc r b (inAcc r b hr hb) fun _ => stV acc r b (inAcc r b hr hb) (v16 v) k
def flushCnt (c : BitVec 32) (hr : accRow c < 512) (k : PROG) : PROG :=
  ldV run 8 0 (inRun 8 (by omega)) fun v =>
    .op (.load cnt (Rect.unit (s := S8192) ![cntRow c] S16.size (inCnt c hr)).toLoadRect (View.loadsAt_vmem h_S16)) fun _ =>
    .op (.store cnt (Rect.unit (s := S8192) ![cntRow c] S16.size (inCnt c hr)) (shapeCast S16 (v16 v) shapeCasts_S16_S16) Finset.univ (View.stores_vmem_bits_univ h_S16 rfl) (.inl rfl)) fun _ => k
def newBlk (j b r : ℕ) (hr : r < 80) (hj : j < 9) (hb : b ≤ 112) (k : PROG) : PROG :=
  ldV rows r b (inRows r b hr hb) fun v => ldV run j 0 (inRun j hj) fun _ => stV run j 0 (inRun j hj) (v16 v) k
def moreBlk (j b r : ℕ) (hr : r < 80) (hj : j < 9) (hb : b ≤ 112) (k : PROG) : PROG :=
  ldV run j 0 (inRun j hj) fun u => ldV rows r b (inRows r b hr hb) fun v => ldV run j 0 (inRun j hj) fun _ => stV run j 0 (inRun j hj) (addf (v16 u) (v16 v)) k
/-- The first entry of the running segment's word. -/
def ldCur (k : BitVec 32 → PROG) : PROG :=
  .op (.load cur (Rect.unit (s := S1) ![0] S1.size inb_S1_S1_0).toLoadRect (View.loadsAt_rect (View.loads_smem_one rfl numel1_S1))) fun f => k (f (Shape.Idx.first (numel1_S1.symm ▸ Nat.one_pos)))
def stCur (w : BitVec 32) (k : PROG) : PROG :=
  .op (.store cur (Rect.unit (s := S1) ![0] S1.size inb_S1_S1_0) (fun _ => w) Finset.univ (View.stores_smem_one rfl numel1_S1) (.inl rfl)) fun _ => k

/-- The running segment written out. -/
def flushP (c : BitVec 32) (hr : accRow c < 512) (k : PROG) : PROG :=
  flushBlk run acc 0 0 (accRow c) hr (by omega) (by omega) <| flushBlk run acc 1 16 (accRow c) hr (by omega) (by omega) <|
  flushBlk run acc 2 32 (accRow c) hr (by omega) (by omega) <| flushBlk run acc 3 48 (accRow c) hr (by omega) (by omega) <|
  flushBlk run acc 4 64 (accRow c) hr (by omega) (by omega) <| flushBlk run acc 5 80 (accRow c) hr (by omega) (by omega) <|
  flushBlk run acc 6 96 (accRow c) hr (by omega) (by omega) <| flushBlk run acc 7 112 (accRow c) hr (by omega) (by omega) <|
  flushCnt run cnt c hr k

/-- A row that starts a segment. -/
def newP (r : ℕ) (hr : r < 80) (one : FVec F S16 .f32) (id c : BitVec 32) (hc : accRow c < 512) (k : PROG) : PROG :=
  flushP run acc cnt c hc <|
  newBlk rows run 0 0 r hr (by omega) (by omega) <| newBlk rows run 1 16 r hr (by omega) (by omega) <|
  newBlk rows run 2 32 r hr (by omega) (by omega) <| newBlk rows run 3 48 r hr (by omega) (by omega) <|
  newBlk rows run 4 64 r hr (by omega) (by omega) <| newBlk rows run 5 80 r hr (by omega) (by omega) <|
  newBlk rows run 6 96 r hr (by omega) (by omega) <| newBlk rows run 7 112 r hr (by omega) (by omega) <|
  ldV run 8 0 (inRun 8 (by omega)) fun _ => stV run 8 0 (inRun 8 (by omega)) one <|
  ldCur cur fun _ => stCur cur id k

/-- A row of the running segment. -/
def moreP (r : ℕ) (hr : r < 80) (one : FVec F S16 .f32) (k : PROG) : PROG :=
  moreBlk rows run 0 0 r hr (by omega) (by omega) <| moreBlk rows run 1 16 r hr (by omega) (by omega) <|
  moreBlk rows run 2 32 r hr (by omega) (by omega) <| moreBlk rows run 3 48 r hr (by omega) (by omega) <|
  moreBlk rows run 4 64 r hr (by omega) (by omega) <| moreBlk rows run 5 80 r hr (by omega) (by omega) <|
  moreBlk rows run 6 96 r hr (by omega) (by omega) <| moreBlk rows run 7 112 r hr (by omega) (by omega) <|
  ldV run 8 0 (inRun 8 (by omega)) fun u => ldV run 8 0 (inRun 8 (by omega)) fun _ => stV run 8 0 (inRun 8 (by omega)) (addf (v16 u) one) k

def neWord (id c : BitVec 32) : BitVec 1 := Scalar.cmpi .ne (Scalar.extui (Scalar.cmpi .ne id c) : BitVec 32) 0#32
def eqWord (id c : BitVec 32) : BitVec 1 := Scalar.cmpi .ne (Scalar.extui (Scalar.cmpi .eq id c) : BitVec 32) 0#32

/-- The second half of a row: the row added if it belongs to the running segment. -/
def rowTail (r : ℕ) (hr : r < 80) (one : FVec F S16 .f32) (id c : BitVec 32) (k : PROG) : PROG :=
  if eqWord id c = 1#1 then moreP rows run r hr one k else k
/-- One row, its running segment's number read. -/
def rowMid (r : ℕ) (hr : r < 80) (one : FVec F S16 .f32) (id c : BitVec 32) (hc : neWord id c = 1#1 → accRow c < 512) (k : PROG) : PROG :=
  if h : neWord id c = 1#1 then newP rows run acc cnt cur r hr one id c (hc h) (rowTail rows run r hr one id c k) else rowTail rows run r hr one id c k
/-- One row. -/
def rowP (r : ℕ) (hr : r < 80) (one : FVec F S16 .f32) (id : BitVec 32) (chk : BitVec 32 → Prop) (dec : ∀ c, Decidable (chk c))
    (hc : ∀ c, chk c → neWord id c = 1#1 → accRow c < 512) (k : PROG) : PROG :=
  ldCur cur fun c => .op (.assume (chk c) (dec c)) fun hw => rowMid rows run acc cnt cur r hr one id c (hc c hw.down) k

/-- The first half of a row: its segment begun if it is not the running one. -/
def rowHead (r : ℕ) (hr : r < 80) (one : FVec F S16 .f32) (id : BitVec 32) (chk : BitVec 32 → Prop) (dec : ∀ c, Decidable (chk c))
    (hc : ∀ c, chk c → neWord id c = 1#1 → accRow c < 512) (k : BitVec 32 → PROG) : PROG :=
  ldCur cur fun c => .op (.assume (chk c) (dec c)) fun hw => if h : neWord id c = 1#1 then newP rows run acc cnt cur r hr one id c (hc c hw.down h) (k c) else k c

/-- Entry `l` of the sixteen segment numbers of a group. -/
def idAt (v : IVec S16 32) (l : ℕ) (h : S16.Slices ![l] S1) : BitVec 32 := extractAt ![0] (extractStridedSlice S1 ![l] v h) inpos_S1_p0
/-- The row `l` of the group `t`, as the kernel computes it. -/
def rowIx (t : ℕ) (l : BitVec 32) : ℕ := (Scalar.indexCast (Scalar.addi (Scalar.muli (Scf.iv 0#32 1#32 t) 16#32) l)).toNat

end Progs

/-! ## What they do -/

section Steps
variable {d : Dev nD} {cc : Fin τ.nSC} {jj : Fin τ.nSub}
variable {rows : Memref sig .scVector .vmem S80x128 .f32} {run : Memref sig .scVector .vmem S9x16 .f32}
  {acc : Memref sig .scVector .vmem S512x128 .f32} {cnt : Memref sig .scVector .vmem S8192 .f32} {cur : Memref sig .scVector .smem S1 .i32}

theorem v16_window {n : Fin 2 → ℕ} (f : ℕ → ℕ → F .f32) (a b : ℕ) (h : ∀ x, (![a, b] : Fin 2 → ℕ) x + S1x16.size x ≤ n x) :
    v16 (F := F) (VecWindow.window (s := ⟨2, n⟩) (mat f) ![a, b] S1x16.size h) = lin fun k => f a (b + k) :=
  cast_window f _ a b rfl h _

theorem wp_ldV {α : Type} {Q : α → sProp 𝕄} {n : Fin 2 → ℕ} {m : Memref sig .scVector .vmem ⟨2, n⟩ .f32} (q : PosShare TreeShare) (f : ℕ → ℕ → F .f32) {a b : ℕ}
    {h : ∀ x, (![a, b] : Fin 2 → ℕ) x + S1x16.size x ≤ n x} {k : Vec F S1x16 .f32 → Prog (TpuEff nD τ sig (Elt F) Λ₀ (Proc.scVector cc jj)) α} :
    Hd d cc jj m q (mat f) ⊢ iprop((Hd d cc jj m q (mat f) -∗ WP d cc jj (k (VecWindow.window (s := ⟨2, n⟩) (mat f) ![a, b] S1x16.size h)) Q)
      -∗ WP d cc jj (ldV m a b h k) Q) := wp_ld m q (mat f) h

theorem wp_stV {α : Type} {Q : α → sProp 𝕄} {n : Fin 2 → ℕ} {m : Memref sig .scVector .vmem ⟨2, n⟩ .f32} (f : ℕ → ℕ → F .f32) {a b : ℕ}
    {h : ∀ x, (![a, b] : Fin 2 → ℕ) x + S1x16.size x ≤ n x} {w : FVec F S16 .f32} (g : ℕ → F .f32) (hw : w = lin g)
    {k : Prog (TpuEff nD τ sig (Elt F) Λ₀ (Proc.scVector cc jj)) α} :
    Hd d cc jj m fullShare (mat f) ⊢ iprop((Hd d cc jj m fullShare (mat (setRow f a b g)) -∗ WP d cc jj k Q)
      -∗ WP d cc jj (stV m a b h w k) Q) := by
  subst hw
  have e := wp_st (d := d) (Q := Q) m (mat f) h (shapeCast S1x16 (lin g : FVec F S16 .f32) shapeCasts_S16_S1x16)
    (hx := View.stores_vmem_bits_univ h_S1x16 rfl) (hm := .inl rfl) (k := fun _ => k)
  rw [put_cast f ![a, b] a b rfl g] at e
  exact e

theorem wp_ldCur {α : Type} {Q : α → sProp 𝕄} (c : BitVec 32) {k : BitVec 32 → Prog (TpuEff nD τ sig (Elt F) Λ₀ (Proc.scVector cc jj)) α} :
    Hd d cc jj cur fullShare (fun _ => c) ⊢ iprop((Hd d cc jj cur fullShare (fun _ => c) -∗ WP d cc jj (k c) Q) -∗ WP d cc jj (ldCur cur k) Q) :=
  wp_ld (F := F) (d := d) (Q := Q) cur fullShare (fun _ => (c : Elt F .i32)) inb_S1_S1_0 (hl := View.loadsAt_rect (View.loads_smem_one rfl numel1_S1))
    (k := fun f => k (f (Shape.Idx.first (numel1_S1.symm ▸ Nat.one_pos))))

theorem wp_stCur {α : Type} {Q : α → sProp 𝕄} (c w : BitVec 32) {k : Prog (TpuEff nD τ sig (Elt F) Λ₀ (Proc.scVector cc jj)) α} :
    Hd d cc jj cur fullShare (fun _ => c) ⊢ iprop((Hd d cc jj cur fullShare (fun _ => w) -∗ WP d cc jj k Q) -∗ WP d cc jj (stCur cur w k) Q) := by
  have e := wp_st (d := d) (Q := Q) cur (fun _ => (c : Elt F .i32)) inb_S1_S1_0 (fun _ => (w : Elt F .i32)) (hx := View.stores_smem_one rfl numel1_S1) (hm := .inl rfl) (k := fun _ => k)
  have e' : VecWindow.put (s := S1) (fun _ => (c : Elt F .i32)) ![0] S1.size (fun _ => (w : Elt F .i32)) = fun _ => w := by
    funext y
    unfold VecWindow.put
    rw [dif_pos]
    intro a
    match a with
    | 0 => exact ⟨Nat.zero_le _, (y 0).isLt⟩
  have e2 := congrArg (fun x => Hd (F := F) d cc jj cur fullShare x) e'
  dsimp only at e2
  iintro H K
  iapply e $$ H
  iintro H
  iapply K
  iapply (Entails.of_eq e2)
  iexact H

theorem wp_flushBlk {α : Type} {Q : α → sProp 𝕄} (A R : ℕ → ℕ → F .f32) (j b r : ℕ) (hr : r < 512) (hj : j < 9) (hb : b ≤ 112) (hbj : b = 16 * j)
    {k : Prog (TpuEff nD τ sig (Elt F) Λ₀ (Proc.scVector cc jj)) α} :
    iprop(Hd d cc jj run fullShare (mat R) ∗ Hd d cc jj acc fullShare (mat (flushTo A R r j))) ⊢
      iprop((Hd d cc jj run fullShare (mat R) ∗ Hd d cc jj acc fullShare (mat (flushTo A R r (j + 1))) -∗ WP d cc jj k Q)
        -∗ WP d cc jj (flushBlk run acc j b r hr hj hb k) Q) := by
  iintro ⟨Hr, Ha⟩ K
  unfold flushBlk
  iapply wp_ldV fullShare R $$ Hr
  iintro Hr
  iapply wp_ldV fullShare _ $$ Ha
  iintro Ha
  iapply wp_stV _ _ (v16_window R j 0 _) $$ Ha
  iintro Ha
  rw [flushTo_succ A R r j b hbj _ rfl]
  iapply K
  isplitl [Hr]
  · iexact Hr
  · iexact Ha

theorem wp_newBlk {α : Type} {Q : α → sProp 𝕄} (X R : ℕ → ℕ → F .f32) (j b r : ℕ) (hr : r < 80) (hj : j < 9) (hb : b ≤ 112) (hbj : b = 16 * j)
    {k : Prog (TpuEff nD τ sig (Elt F) Λ₀ (Proc.scVector cc jj)) α} :
    iprop(Hd d cc jj rows fullShare (mat X) ∗ Hd d cc jj run fullShare (mat (newTo R (X r) j))) ⊢
      iprop((Hd d cc jj rows fullShare (mat X) ∗ Hd d cc jj run fullShare (mat (newTo R (X r) (j + 1))) -∗ WP d cc jj k Q)
        -∗ WP d cc jj (newBlk rows run j b r hr hj hb k) Q) := by
  iintro ⟨Hr, Ha⟩ K
  unfold newBlk
  iapply wp_ldV fullShare X $$ Hr
  iintro Hr
  iapply wp_ldV fullShare _ $$ Ha
  iintro Ha
  iapply wp_stV _ _ (v16_window X r b _) $$ Ha
  iintro Ha
  rw [newTo_succ R (X r) j b hbj]
  iapply K
  isplitl [Hr]
  · iexact Hr
  · iexact Ha

theorem wp_moreBlk {α : Type} {Q : α → sProp 𝕄} (X R : ℕ → ℕ → F .f32) (j b r : ℕ) (hr : r < 80) (hj : j < 9) (hb : b ≤ 112) (hbj : b = 16 * j)
    {k : Prog (TpuEff nD τ sig (Elt F) Λ₀ (Proc.scVector cc jj)) α} :
    iprop(Hd d cc jj rows fullShare (mat X) ∗ Hd d cc jj run fullShare (mat (accTo R (X r) j))) ⊢
      iprop((Hd d cc jj rows fullShare (mat X) ∗ Hd d cc jj run fullShare (mat (accTo R (X r) (j + 1))) -∗ WP d cc jj k Q)
        -∗ WP d cc jj (moreBlk rows run j b r hr hj hb k) Q) := by
  iintro ⟨Hr, Ha⟩ K
  unfold moreBlk
  iapply wp_ldV fullShare _ $$ Ha
  iintro Ha
  iapply wp_ldV fullShare X $$ Hr
  iintro Hr
  iapply wp_ldV fullShare _ $$ Ha
  iintro Ha
  iapply wp_stV _ (fun k => FloatOps.addf (accTo R (X r) j j (0 + k)) (X r (b + k)))
    (by rw [v16_window, v16_window]; exact lin_add _ _) $$ Ha
  iintro Ha
  subst hbj
  rw [accTo_succ R (X r) j _ rfl]
  iapply K
  isplitl [Hr]
  · iexact Hr
  · iexact Ha

theorem wp_flushCnt {α : Type} {Q : α → sProp 𝕄} (C : ℕ → F .f32) (R : ℕ → ℕ → F .f32) (c : BitVec 32) (hr : accRow c < 512)
    {k : Prog (TpuEff nD τ sig (Elt F) Λ₀ (Proc.scVector cc jj)) α} :
    iprop(Hd d cc jj run fullShare (mat R) ∗ Hd d cc jj cnt fullShare (lin C)) ⊢
      iprop((Hd d cc jj run fullShare (mat R) ∗ Hd d cc jj cnt fullShare (lin (setLin C (16 * accRow c) fun k => R 8 (0 + k))) -∗ WP d cc jj k Q)
        -∗ WP d cc jj (flushCnt run cnt c hr k) Q) := by
  iintro ⟨Hr, Ha⟩ K
  unfold flushCnt
  iapply wp_ldV fullShare R $$ Hr
  iintro Hr
  iapply wp_ld cnt fullShare (lin C) (inCnt c hr) $$ Ha
  iintro Ha
  iapply wp_st cnt (lin C) (inCnt c hr) _ $$ Ha
  iintro Ha
  have e : VecWindow.put (s := S8192) (lin C) ![cntRow c] S16.size (shapeCast S16 (v16 (F := F) (VecWindow.window (s := S9x16) (mat R) ![8, 0] S1x16.size (inRun 8 (by omega)))) shapeCasts_S16_S16)
      = lin (setLin C (16 * accRow c) fun k => R 8 (0 + k)) := by
    rw [shapeCast_self, v16_window, cntRow_eq c hr]
    exact put_lin C _ _ rfl _
  rw [e]
  iapply K
  isplitl [Hr]
  · iexact Hr
  · iexact Ha

/-- The state, held. -/
abbrev Own (d : Dev nD) (cc : Fin τ.nSC) (jj : Fin τ.nSub) (acc : Memref sig .scVector .vmem S512x128 .f32) (cnt : Memref sig .scVector .vmem S8192 .f32)
    (run : Memref sig .scVector .vmem S9x16 .f32) (cur : Memref sig .scVector .smem S1 .i32) (s : St F) : sProp 𝕄 :=
  iprop(Hd d cc jj acc fullShare (mat s.A) ∗ Hd d cc jj cnt fullShare (lin s.C) ∗ Hd d cc jj run fullShare (mat s.R) ∗ Hd d cc jj cur fullShare (fun _ => s.cur))

theorem wp_flushP {α : Type} {Q : α → sProp 𝕄} (s : St F) (hr : accRow s.cur < 512) {k : Prog (TpuEff nD τ sig (Elt F) Λ₀ (Proc.scVector cc jj)) α} :
    Own d cc jj acc cnt run cur s ⊢ iprop((Own d cc jj acc cnt run cur s.flush -∗ WP d cc jj k Q) -∗ WP d cc jj (flushP run acc cnt s.cur hr k) Q) := by
  obtain ⟨A, C, R, c⟩ := s
  unfold Own St.flush
  dsimp only
  iintro ⟨Ha, Hc, Hr, Hu⟩ K
  rw [← flushTo_zero A R (accRow c)]
  unfold flushP
  iapply wp_flushBlk A R 0 _ _ _ _ _ rfl $$ [Hr Ha]
  · isplitl [Hr]; iexact Hr; iexact Ha
  iintro ⟨Hr, Ha⟩
  iapply wp_flushBlk A R 1 _ _ _ _ _ rfl $$ [Hr Ha]
  · isplitl [Hr]; iexact Hr; iexact Ha
  iintro ⟨Hr, Ha⟩
  iapply wp_flushBlk A R 2 _ _ _ _ _ rfl $$ [Hr Ha]
  · isplitl [Hr]; iexact Hr; iexact Ha
  iintro ⟨Hr, Ha⟩
  iapply wp_flushBlk A R 3 _ _ _ _ _ rfl $$ [Hr Ha]
  · isplitl [Hr]; iexact Hr; iexact Ha
  iintro ⟨Hr, Ha⟩
  iapply wp_flushBlk A R 4 _ _ _ _ _ rfl $$ [Hr Ha]
  · isplitl [Hr]; iexact Hr; iexact Ha
  iintro ⟨Hr, Ha⟩
  iapply wp_flushBlk A R 5 _ _ _ _ _ rfl $$ [Hr Ha]
  · isplitl [Hr]; iexact Hr; iexact Ha
  iintro ⟨Hr, Ha⟩
  iapply wp_flushBlk A R 6 _ _ _ _ _ rfl $$ [Hr Ha]
  · isplitl [Hr]; iexact Hr; iexact Ha
  iintro ⟨Hr, Ha⟩
  iapply wp_flushBlk A R 7 _ _ _ _ _ rfl $$ [Hr Ha]
  · isplitl [Hr]; iexact Hr; iexact Ha
  iintro ⟨Hr, Ha⟩
  iapply wp_flushCnt C R c hr $$ [Hr Hc]
  · isplitl [Hr]; iexact Hr; iexact Hc
  iintro ⟨Hr, Hc⟩
  rw [flushTo_zero]
  iapply K
  isplitl [Ha]; iexact Ha
  isplitl [Hc]; iexact Hc
  isplitl [Hr]; iexact Hr
  iexact Hu

theorem wp_newP {α : Type} {Q : α → sProp 𝕄} (X : ℕ → ℕ → F .f32) (s : St F) (r : ℕ) (hr : r < 80) (id : BitVec 32) (hc : accRow s.cur < 512)
    {k : Prog (TpuEff nD τ sig (Elt F) Λ₀ (Proc.scVector cc jj)) α} :
    iprop(Hd d cc jj rows fullShare (mat X) ∗ Own d cc jj acc cnt run cur s) ⊢
      iprop((Hd d cc jj rows fullShare (mat X) ∗ Own d cc jj acc cnt run cur (s.new (X r) id) -∗ WP d cc jj k Q)
        -∗ WP d cc jj (newP rows run acc cnt cur r hr (lin fun _ => one32) id s.cur hc k) Q) := by
  iintro ⟨Hx, Ho⟩ K
  unfold newP
  iapply wp_flushP s hc $$ Ho
  obtain ⟨A, C, R, c⟩ := s
  iintro ⟨Ha, Hc, Hr, Hu⟩
  unfold St.new St.flush
  dsimp only
  rw [← newTo_zero R (X r)]
  iapply wp_newBlk X R 0 _ _ _ _ _ rfl $$ [Hx Hr]
  · isplitl [Hx]; iexact Hx; iexact Hr
  iintro ⟨Hx, Hr⟩
  iapply wp_newBlk X R 1 _ _ _ _ _ rfl $$ [Hx Hr]
  · isplitl [Hx]; iexact Hx; iexact Hr
  iintro ⟨Hx, Hr⟩
  iapply wp_newBlk X R 2 _ _ _ _ _ rfl $$ [Hx Hr]
  · isplitl [Hx]; iexact Hx; iexact Hr
  iintro ⟨Hx, Hr⟩
  iapply wp_newBlk X R 3 _ _ _ _ _ rfl $$ [Hx Hr]
  · isplitl [Hx]; iexact Hx; iexact Hr
  iintro ⟨Hx, Hr⟩
  iapply wp_newBlk X R 4 _ _ _ _ _ rfl $$ [Hx Hr]
  · isplitl [Hx]; iexact Hx; iexact Hr
  iintro ⟨Hx, Hr⟩
  iapply wp_newBlk X R 5 _ _ _ _ _ rfl $$ [Hx Hr]
  · isplitl [Hx]; iexact Hx; iexact Hr
  iintro ⟨Hx, Hr⟩
  iapply wp_newBlk X R 6 _ _ _ _ _ rfl $$ [Hx Hr]
  · isplitl [Hx]; iexact Hx; iexact Hr
  iintro ⟨Hx, Hr⟩
  iapply wp_newBlk X R 7 _ _ _ _ _ rfl $$ [Hx Hr]
  · isplitl [Hx]; iexact Hx; iexact Hr
  iintro ⟨Hx, Hr⟩
  iapply wp_ldV fullShare _ $$ Hr
  iintro Hr
  iapply wp_stV _ (fun _ => one32) rfl $$ Hr
  iintro Hr
  iapply wp_ldCur c $$ Hu
  iintro Hu
  iapply wp_stCur c id $$ Hu
  iintro Hu
  rw [newTo_zero]
  iapply K
  isplitl [Hx]; iexact Hx
  isplitl [Ha]; iexact Ha
  isplitl [Hc]; iexact Hc
  isplitl [Hr]; iexact Hr
  iexact Hu

theorem wp_moreP {α : Type} {Q : α → sProp 𝕄} (X : ℕ → ℕ → F .f32) (s : St F) (r : ℕ) (hr : r < 80)
    {k : Prog (TpuEff nD τ sig (Elt F) Λ₀ (Proc.scVector cc jj)) α} :
    iprop(Hd d cc jj rows fullShare (mat X) ∗ Own d cc jj acc cnt run cur s) ⊢
      iprop((Hd d cc jj rows fullShare (mat X) ∗ Own d cc jj acc cnt run cur (s.more (X r)) -∗ WP d cc jj k Q)
        -∗ WP d cc jj (moreP rows run r hr (lin fun _ => one32) k) Q) := by
  obtain ⟨A, C, R, c⟩ := s
  unfold St.more Own
  dsimp only
  iintro ⟨Hx, Ha, Hc, Hr, Hu⟩ K
  unfold moreP
  rw [← accTo_zero R (X r)]
  iapply wp_moreBlk X R 0 _ _ _ _ _ rfl $$ [Hx Hr]
  · isplitl [Hx]; iexact Hx; iexact Hr
  iintro ⟨Hx, Hr⟩
  iapply wp_moreBlk X R 1 _ _ _ _ _ rfl $$ [Hx Hr]
  · isplitl [Hx]; iexact Hx; iexact Hr
  iintro ⟨Hx, Hr⟩
  iapply wp_moreBlk X R 2 _ _ _ _ _ rfl $$ [Hx Hr]
  · isplitl [Hx]; iexact Hx; iexact Hr
  iintro ⟨Hx, Hr⟩
  iapply wp_moreBlk X R 3 _ _ _ _ _ rfl $$ [Hx Hr]
  · isplitl [Hx]; iexact Hx; iexact Hr
  iintro ⟨Hx, Hr⟩
  iapply wp_moreBlk X R 4 _ _ _ _ _ rfl $$ [Hx Hr]
  · isplitl [Hx]; iexact Hx; iexact Hr
  iintro ⟨Hx, Hr⟩
  iapply wp_moreBlk X R 5 _ _ _ _ _ rfl $$ [Hx Hr]
  · isplitl [Hx]; iexact Hx; iexact Hr
  iintro ⟨Hx, Hr⟩
  iapply wp_moreBlk X R 6 _ _ _ _ _ rfl $$ [Hx Hr]
  · isplitl [Hx]; iexact Hx; iexact Hr
  iintro ⟨Hx, Hr⟩
  iapply wp_moreBlk X R 7 _ _ _ _ _ rfl $$ [Hx Hr]
  · isplitl [Hx]; iexact Hx; iexact Hr
  iintro ⟨Hx, Hr⟩
  iapply wp_ldV fullShare _ $$ Hr
  iintro Hr
  iapply wp_ldV fullShare _ $$ Hr
  iintro Hr
  iapply wp_stV _ (fun k => FloatOps.addf (R 8 (0 + k)) one32)
    (by rw [v16_window]; exact (lin_add _ _).trans (by unfold accTo; simp)) $$ Hr
  iintro Hr
  rw [accTo_zero]
  iapply K
  isplitl [Hx]; iexact Hx
  isplitl [Ha]; iexact Ha
  isplitl [Hc]; iexact Hc
  isplitl [Hr]; iexact Hr
  iexact Hu

theorem cmpi_eq_iff {w : ℕ} (x y : BitVec w) : Scalar.cmpi .eq x y = 1#1 ↔ x = y := by
  show BitVec.ofBool (x == y) = 1#1 ↔ _
  by_cases h : x = y
  · subst h; simp
  · have : (x == y) = false := by simpa using h
    rw [this]; simp [h]
theorem cmpi_ne_iff {w : ℕ} (x y : BitVec w) : Scalar.cmpi .ne x y = 1#1 ↔ x ≠ y := by
  show BitVec.ofBool (x != y) = 1#1 ↔ _
  by_cases h : x = y
  · subst h; simp
  · have : (x != y) = true := by simpa using h
    rw [this]; simp [h]
/-- A bit widened to a word and compared with zero is the bit. -/
theorem bit_iff (b : BitVec 1) : Scalar.cmpi .ne (Scalar.extui b : BitVec 32) 0#32 = 1#1 ↔ b = 1#1 := by
  revert b; decide
theorem neWord_iff (id c : BitVec 32) : neWord id c = 1#1 ↔ id ≠ c := (bit_iff _).trans (cmpi_ne_iff _ _)
theorem eqWord_iff (id c : BitVec 32) : eqWord id c = 1#1 ↔ id = c := (bit_iff _).trans (cmpi_eq_iff _ _)

/-- The state between the two halves of a row. -/
def St.half (s : St F) (Z : ℕ → F .f32) (id : BitVec 32) : St F := if id = s.cur then s else s.new Z id

theorem wp_rowTail {α : Type} {Q : α → sProp 𝕄} (X : ℕ → ℕ → F .f32) (s : St F) (r : ℕ) (hr : r < 80) (id : BitVec 32)
    {k : Prog (TpuEff nD τ sig (Elt F) Λ₀ (Proc.scVector cc jj)) α} :
    iprop(Hd d cc jj rows fullShare (mat X) ∗ Own d cc jj acc cnt run cur (s.half (X r) id)) ⊢
      iprop((Hd d cc jj rows fullShare (mat X) ∗ Own d cc jj acc cnt run cur (s.row (X r) id) -∗ WP d cc jj k Q)
        -∗ WP d cc jj (rowTail rows run r hr (lin fun _ => one32) id s.cur k) Q) := by
  unfold rowTail St.half St.row
  by_cases h : id = s.cur
  · rw [if_pos h, if_pos h, if_pos ((eqWord_iff _ _).2 h)]
    exact wp_moreP X s r hr
  · rw [if_neg h, if_neg h, if_neg (fun h' => h ((eqWord_iff _ _).1 h'))]
    iintro H K
    iapply K $$ H

theorem wp_rowMid {α : Type} {Q : α → sProp 𝕄} (X : ℕ → ℕ → F .f32) (s : St F) (r : ℕ) (hr : r < 80) (id : BitVec 32)
    (hc : neWord id s.cur = 1#1 → accRow s.cur < 512) {k : Prog (TpuEff nD τ sig (Elt F) Λ₀ (Proc.scVector cc jj)) α} :
    iprop(Hd d cc jj rows fullShare (mat X) ∗ Own d cc jj acc cnt run cur s) ⊢
      iprop((Hd d cc jj rows fullShare (mat X) ∗ Own d cc jj acc cnt run cur (s.row (X r) id) -∗ WP d cc jj k Q)
        -∗ WP d cc jj (rowMid rows run acc cnt cur r hr (lin fun _ => one32) id s.cur hc k) Q) := by
  unfold rowMid
  iintro ⟨Hx, Ho⟩ K
  by_cases h : id = s.cur
  · rw [dif_neg (fun h' => (neWord_iff _ _).1 h' h)]
    iapply wp_rowTail X s r hr id $$ [Hx Ho]
    · isplitl [Hx]; iexact Hx
      unfold St.half; rw [if_pos h]; iexact Ho
    iexact K
  · rw [dif_pos ((neWord_iff _ _).2 h)]
    iapply wp_newP X s r hr id (hc ((neWord_iff _ _).2 h)) $$ [Hx Ho]
    · isplitl [Hx]; iexact Hx; iexact Ho
    iintro ⟨Hx, Ho⟩
    iapply wp_rowTail X s r hr id $$ [Hx Ho]
    · isplitl [Hx]; iexact Hx
      unfold St.half; rw [if_neg h]; iexact Ho
    iexact K

theorem wp_rowP {α : Type} {Q : α → sProp 𝕄} (X : ℕ → ℕ → F .f32) (s : St F) (hs : accRow s.cur < 512) (r : ℕ) (hr : r < 80) (id : BitVec 32)
    (chk : BitVec 32 → Prop) (dec : ∀ c, Decidable (chk c))
    (hc : ∀ c, chk c → neWord id c = 1#1 → accRow c < 512) (hi : ∀ c, accRow c < 512 → chk c) {k : Prog (TpuEff nD τ sig (Elt F) Λ₀ (Proc.scVector cc jj)) α} :
    iprop(Hd d cc jj rows fullShare (mat X) ∗ Own d cc jj acc cnt run cur s) ⊢
      iprop((Hd d cc jj rows fullShare (mat X) ∗ Own d cc jj acc cnt run cur (s.row (X r) id) -∗ WP d cc jj k Q)
        -∗ WP d cc jj (rowP rows run acc cnt cur r hr (lin fun _ => one32) id chk dec hc k) Q) := by
  unfold rowP
  iintro ⟨Hx, Ha, Hc, Hr, Hu⟩ K
  iapply wp_ldCur s.cur $$ Hu
  iintro Hu
  iapply wp_assume 𝒱₀ (V d cc jj) none Set.univ (hi _ hs)
  iapply wp_rowMid X s r hr id _ $$ [Hx Ha Hc Hr Hu]
  · isplitl [Hx]; iexact Hx
    isplitl [Ha]; iexact Ha
    isplitl [Hc]; iexact Hc
    isplitl [Hr]; iexact Hr
    iexact Hu
  iexact K

theorem wp_rowHead {α : Type} {Q : α → sProp 𝕄} (X : ℕ → ℕ → F .f32) (s : St F) (hs : accRow s.cur < 512) (r : ℕ) (hr : r < 80) (id : BitVec 32)
    (chk : BitVec 32 → Prop) (dec : ∀ c, Decidable (chk c))
    (hc : ∀ c, chk c → neWord id c = 1#1 → accRow c < 512) (hi : ∀ c, accRow c < 512 → chk c) {k : BitVec 32 → Prog (TpuEff nD τ sig (Elt F) Λ₀ (Proc.scVector cc jj)) α} :
    iprop(Hd d cc jj rows fullShare (mat X) ∗ Own d cc jj acc cnt run cur s) ⊢
      iprop((Hd d cc jj rows fullShare (mat X) ∗ Own d cc jj acc cnt run cur (s.half (X r) id) -∗ WP d cc jj (k s.cur) Q)
        -∗ WP d cc jj (rowHead rows run acc cnt cur r hr (lin fun _ => one32) id chk dec hc k) Q) := by
  unfold rowHead
  iintro ⟨Hx, Ha, Hc, Hr, Hu⟩ K
  iapply wp_ldCur s.cur $$ Hu
  iintro Hu
  iapply wp_assume 𝒱₀ (V d cc jj) none Set.univ (hi _ hs)
  unfold St.half
  by_cases h : id = s.cur
  · rw [dif_neg (fun h' => (neWord_iff _ _).1 h' h), if_pos h]
    iapply K
    isplitl [Hx]; iexact Hx
    isplitl [Ha]; iexact Ha
    isplitl [Hc]; iexact Hc
    isplitl [Hr]; iexact Hr
    iexact Hu
  · rw [dif_pos ((neWord_iff _ _).2 h), if_neg h]
    iapply wp_newP X s r hr id _ $$ [Hx Ha Hc Hr Hu]
    · isplitl [Hx]; iexact Hx
      isplitl [Ha]; iexact Ha
      isplitl [Hc]; iexact Hc
      isplitl [Hr]; iexact Hr
      iexact Hu
    iexact K

/-- What follows each row keeps the running segment's number a row of the table. -/
theorem St.row_ok (s : St F) (Z : ℕ → F .f32) (id : BitVec 32) (hs : accRow s.cur < 512) (hid : accRow id < 512) : accRow (s.row Z id).cur < 512 := by
  unfold St.row
  split
  · exact hs
  · exact hid

end Steps

end Cert.Proof.Pool

end
-- ==== Proof.Group.lean ====
/-
  A group of sixteen rows: all at once when the group continues the running segment from its first row to its last, and
  else row by row; and a chunk of eighty rows, five groups.
-/
module

public import proofs.«01_k».proof.Proof.Row

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 6) (Elt F) ℕ UU ℕ

theorem rowIx_eq (t : ℕ) (ht : t < 5) (l : BitVec 32) (hl : l.toNat < 16) : rowIx t l = 16 * t + l.toNat := by
  show ((0#32 + BitVec.ofNat 32 t * 1#32) * 16#32 + l).toNat = _
  simp only [BitVec.toNat_add, BitVec.toNat_mul, BitVec.toNat_ofNat]
  omega
theorem rowIx_lt (t : ℕ) (ht : t < 5) (l : BitVec 32) (hl : l.toNat < 16) : rowIx t l < 80 := by
  rw [rowIx_eq t ht l hl]; omega
/-- The first entry of group `t` in the chunk's segment numbers, as the kernel computes it. -/
def idxIx (t : ℕ) : ℕ := (Scalar.indexCast (Scalar.muli (Scf.iv 0#32 1#32 t) 16#32)).toNat
theorem idxIx_eq (t : ℕ) (ht : t < 5) : idxIx t = 16 * t := by
  show ((0#32 + BitVec.ofNat 32 t * 1#32) * 16#32).toNat = _
  simp only [BitVec.toNat_add, BitVec.toNat_mul, BitVec.toNat_ofNat]
  omega
theorem inIdx (t : ℕ) (ht : t < 5) : ∀ x, (![idxIx t] : Fin 1 → ℕ) x + S16.size x ≤ S80.size x := fun x => match x with
  | 0 => (by show idxIx t + 16 ≤ 80; rw [idxIx_eq t ht]; omega)

/-- Sixteen vectors added in pairs, the pairs in pairs, and so on. -/
def treeV (v0 v1 v2 v3 v4 v5 v6 v7 v8 v9 v10 v11 v12 v13 v14 v15 : FVec F S16 .f32) : FVec F S16 .f32 :=
  addf (addf (addf (addf v0 v1) (addf v2 v3)) (addf (addf v4 v5) (addf v6 v7)))
    (addf (addf (addf v8 v9) (addf v10 v11)) (addf (addf v12 v13) (addf v14 v15)))

section Progs
variable {cc : Fin τ.nSC} {jj : Fin τ.nSub} {α : Type}

local notation "PROG" => Prog (TpuEff nD τ sig (Elt F) Λ₀ (Proc.scVector cc jj)) α

variable (idx : Memref sig .scVector .vmem S80 .i32) (rows : Memref sig .scVector .vmem S80x128 .f32) (run : Memref sig .scVector .vmem S9x16 .f32)
  (acc : Memref sig .scVector .vmem S512x128 .f32) (cnt : Memref sig .scVector .vmem S8192 .f32) (cur : Memref sig .scVector .smem S1 .i32)

def ldR (t : ℕ) (ht : t < 5) (l : BitVec 32) (hl : l.toNat < 16) (b : ℕ) (hb : b ≤ 112) (k : Vec F S1x16 .f32 → PROG) : PROG :=
  ldV rows (rowIx t l) b (inRows _ b (rowIx_lt t ht l hl) hb) k

def fastBlk (t : ℕ) (ht : t < 5) (j b : ℕ) (hj : j < 9) (hb : b ≤ 112) (k : PROG) : PROG :=
  ldR rows t ht 0#32 (by decide) b hb fun v0 =>
  ldR rows t ht 1#32 (by decide) b hb fun v1 =>
  ldR rows t ht 2#32 (by decide) b hb fun v2 =>
  ldR rows t ht 3#32 (by decide) b hb fun v3 =>
  ldR rows t ht 4#32 (by decide) b hb fun v4 =>
  ldR rows t ht 5#32 (by decide) b hb fun v5 =>
  ldR rows t ht 6#32 (by decide) b hb fun v6 =>
  ldR rows t ht 7#32 (by decide) b hb fun v7 =>
  ldR rows t ht 8#32 (by decide) b hb fun v8 =>
  ldR rows t ht 9#32 (by decide) b hb fun v9 =>
  ldR rows t ht 10#32 (by decide) b hb fun v10 =>
  ldR rows t ht 11#32 (by decide) b hb fun v11 =>
  ldR rows t ht 12#32 (by decide) b hb fun v12 =>
  ldR rows t ht 13#32 (by decide) b hb fun v13 =>
  ldR rows t ht 14#32 (by decide) b hb fun v14 =>
  ldR rows t ht 15#32 (by decide) b hb fun v15 =>
  ldV run j 0 (inRun j hj) fun u => ldV run j 0 (inRun j hj) fun _ => stV run j 0 (inRun j hj) (addf (v16 u) (treeV (v16 v0) (v16 v1) (v16 v2) (v16 v3) (v16 v4) (v16 v5) (v16 v6) (v16 v7) (v16 v8) (v16 v9) (v16 v10) (v16 v11) (v16 v12) (v16 v13) (v16 v14) (v16 v15))) k

/-- Sixteen rows of the running segment, up to the last store. -/
def fastP (t : ℕ) (ht : t < 5) (k : FVec F S16 .f32 → Vec F S1x16 .f32 → PROG) : PROG :=
  fastBlk rows run t ht 0 0 (by omega) (by omega) <|
  fastBlk rows run t ht 1 16 (by omega) (by omega) <|
  fastBlk rows run t ht 2 32 (by omega) (by omega) <|
  fastBlk rows run t ht 3 48 (by omega) (by omega) <|
  fastBlk rows run t ht 4 64 (by omega) (by omega) <|
  fastBlk rows run t ht 5 80 (by omega) (by omega) <|
  fastBlk rows run t ht 6 96 (by omega) (by omega) <|
  fastBlk rows run t ht 7 112 (by omega) (by omega) <|
  ldV run 8 0 (inRun 8 (by omega)) fun u => ldV run 8 0 (inRun 8 (by omega)) fun w => k (addf (v16 u) (broadcast S16 (Scalar.ofBits .f32 0x41800000#32))) w

/-- The words the kernel tests: the group continues the running segment `c` from its first number `a` to its last `b`; and not. -/
def fastWord (a b c : BitVec 32) : BitVec 1 := Scalar.cmpi .ne (Scalar.extui (Scalar.andi (Scalar.cmpi .eq a c) (Scalar.cmpi .eq a b)) : BitVec 32) 0#32
def slowWord (a b c : BitVec 32) : BitVec 1 :=
  Scalar.cmpi .ne (Scalar.extui (Scalar.xori (Scalar.andi (Scalar.cmpi .eq a c) (Scalar.cmpi .eq a b)) 1#1) : BitVec 32) 0#32

/-- The bounds the kernel's rows rest on: each says no more than that the running segment's number is a row of the table. -/
structure Checks where
  chk : ℕ → BitVec 32 → BitVec 32 → BitVec 32 → BitVec 32 → BitVec 32 → Prop
  dec : ∀ l a b c id c', Decidable (chk l a b c id c')
  out : ∀ l, l < 16 → ∀ {a b c id c'}, slowWord a b c = 1#1 → chk l a b c id c' → neWord id c' = 1#1 → accRow c' < 512
  inn : ∀ l, l < 16 → ∀ a b c id c', accRow c' < 512 → chk l a b c id c'

/-- The second half of a row, told by a bit whether the row belongs to the running segment. -/
def rowBit (r : ℕ) (hr : r < 80) (one : FVec F S16 .f32) (bit : BitVec 1) (k : PROG) : PROG :=
  if Scalar.cmpi .ne (Scalar.extui bit : BitVec 32) 0#32 = 1#1 then moreP rows run r hr one k else k

section Slow
variable (K : Checks) (t : ℕ) (ht : t < 5) (one : FVec F S16 .f32) (v : IVec S16 32) (a b c : BitVec 32) (h : slowWord a b c = 1#1)

/-- Rows 0 to 2 and the first half of row 3. -/
def piece1 : Prog (TpuEff nD τ sig (Elt F) Λ₀ (Proc.scVector cc jj)) (BitVec 1) :=
  rowP rows run acc cnt cur (rowIx t 0#32) (rowIx_lt t ht _ (by decide)) one (idAt v 0 slices_S16_o0_S1) (K.chk 0 a b c (idAt v 0 slices_S16_o0_S1)) (K.dec 0 a b c (idAt v 0 slices_S16_o0_S1)) (fun _ hw hh => K.out 0 (by omega) h hw hh) <|
  rowP rows run acc cnt cur (rowIx t 1#32) (rowIx_lt t ht _ (by decide)) one (idAt v 1 slices_S16_o1_S1) (K.chk 1 a b c (idAt v 1 slices_S16_o1_S1)) (K.dec 1 a b c (idAt v 1 slices_S16_o1_S1)) (fun _ hw hh => K.out 1 (by omega) h hw hh) <|
  rowP rows run acc cnt cur (rowIx t 2#32) (rowIx_lt t ht _ (by decide)) one (idAt v 2 slices_S16_o2_S1) (K.chk 2 a b c (idAt v 2 slices_S16_o2_S1)) (K.dec 2 a b c (idAt v 2 slices_S16_o2_S1)) (fun _ hw hh => K.out 2 (by omega) h hw hh) <|
  rowHead rows run acc cnt cur (rowIx t 3#32) (rowIx_lt t ht _ (by decide)) one (idAt v 3 slices_S16_o3_S1) (K.chk 3 a b c (idAt v 3 slices_S16_o3_S1)) (K.dec 3 a b c (idAt v 3 slices_S16_o3_S1)) (fun _ hw hh => K.out 3 (by omega) h hw hh) fun c' => .ret (Scalar.cmpi .eq (idAt v 3 slices_S16_o3_S1) c')
/-- The second half of row 3, rows 4 to 6, and the reads of row 7. -/
def piece2 (bit : BitVec 1) : Prog (TpuEff nD τ sig (Elt F) Λ₀ (Proc.scVector cc jj)) (Σ' (id : BitVec 32) (c' : BitVec 32) (_ : K.chk 7 a b c id c'), BitVec 32) :=
  rowBit rows run (rowIx t 3#32) (rowIx_lt t ht _ (by decide)) one bit <|
  rowP rows run acc cnt cur (rowIx t 4#32) (rowIx_lt t ht _ (by decide)) one (idAt v 4 slices_S16_o4_S1) (K.chk 4 a b c (idAt v 4 slices_S16_o4_S1)) (K.dec 4 a b c (idAt v 4 slices_S16_o4_S1)) (fun _ hw hh => K.out 4 (by omega) h hw hh) <|
  rowP rows run acc cnt cur (rowIx t 5#32) (rowIx_lt t ht _ (by decide)) one (idAt v 5 slices_S16_o5_S1) (K.chk 5 a b c (idAt v 5 slices_S16_o5_S1)) (K.dec 5 a b c (idAt v 5 slices_S16_o5_S1)) (fun _ hw hh => K.out 5 (by omega) h hw hh) <|
  rowP rows run acc cnt cur (rowIx t 6#32) (rowIx_lt t ht _ (by decide)) one (idAt v 6 slices_S16_o6_S1) (K.chk 6 a b c (idAt v 6 slices_S16_o6_S1)) (K.dec 6 a b c (idAt v 6 slices_S16_o6_S1)) (fun _ hw hh => K.out 6 (by omega) h hw hh) <|
  ldCur cur fun c' => .op (.assume (K.chk 7 a b c (idAt v 7 slices_S16_o7_S1) c') (K.dec 7 a b c (idAt v 7 slices_S16_o7_S1) c')) fun hw =>
    .ret ⟨idAt v 7 slices_S16_o7_S1, c', hw.down, Scalar.extui (Scalar.cmpi .ne (idAt v 7 slices_S16_o7_S1) c')⟩
/-- Row 7, rows 8 to 10, and the number of row 11. -/
def piece3 (id c' : BitVec 32) (hw : K.chk 7 a b c id c') : Prog (TpuEff nD τ sig (Elt F) Λ₀ (Proc.scVector cc jj)) (BitVec 32) :=
  rowMid rows run acc cnt cur (rowIx t 7#32) (rowIx_lt t ht _ (by decide)) one id c' (fun hh => K.out 7 (by omega) h hw hh) <|
  rowP rows run acc cnt cur (rowIx t 8#32) (rowIx_lt t ht _ (by decide)) one (idAt v 8 slices_S16_o8_S1) (K.chk 8 a b c (idAt v 8 slices_S16_o8_S1)) (K.dec 8 a b c (idAt v 8 slices_S16_o8_S1)) (fun _ hw hh => K.out 8 (by omega) h hw hh) <|
  rowP rows run acc cnt cur (rowIx t 9#32) (rowIx_lt t ht _ (by decide)) one (idAt v 9 slices_S16_o9_S1) (K.chk 9 a b c (idAt v 9 slices_S16_o9_S1)) (K.dec 9 a b c (idAt v 9 slices_S16_o9_S1)) (fun _ hw hh => K.out 9 (by omega) h hw hh) <|
  rowP rows run acc cnt cur (rowIx t 10#32) (rowIx_lt t ht _ (by decide)) one (idAt v 10 slices_S16_o10_S1) (K.chk 10 a b c (idAt v 10 slices_S16_o10_S1)) (K.dec 10 a b c (idAt v 10 slices_S16_o10_S1)) (fun _ hw hh => K.out 10 (by omega) h hw hh) <|
  .ret (idAt v 11 slices_S16_o11_S1)
/-- Rows 11 to 14. -/
def piece4 (id : BitVec 32) : Prog (TpuEff nD τ sig (Elt F) Λ₀ (Proc.scVector cc jj)) PUnit :=
  rowP rows run acc cnt cur (rowIx t 11#32) (rowIx_lt t ht _ (by decide)) one id (K.chk 11 a b c id) (K.dec 11 a b c id) (fun _ hw hh => K.out 11 (by omega) h hw hh) <|
  rowP rows run acc cnt cur (rowIx t 12#32) (rowIx_lt t ht _ (by decide)) one (idAt v 12 slices_S16_o12_S1) (K.chk 12 a b c (idAt v 12 slices_S16_o12_S1)) (K.dec 12 a b c (idAt v 12 slices_S16_o12_S1)) (fun _ hw hh => K.out 12 (by omega) h hw hh) <|
  rowP rows run acc cnt cur (rowIx t 13#32) (rowIx_lt t ht _ (by decide)) one (idAt v 13 slices_S16_o13_S1) (K.chk 13 a b c (idAt v 13 slices_S16_o13_S1)) (K.dec 13 a b c (idAt v 13 slices_S16_o13_S1)) (fun _ hw hh => K.out 13 (by omega) h hw hh) <|
  rowP rows run acc cnt cur (rowIx t 14#32) (rowIx_lt t ht _ (by decide)) one (idAt v 14 slices_S16_o14_S1) (K.chk 14 a b c (idAt v 14 slices_S16_o14_S1)) (K.dec 14 a b c (idAt v 14 slices_S16_o14_S1)) (fun _ hw hh => K.out 14 (by omega) h hw hh) <|
  .ret ⟨⟩

end Slow

/-- The sixteen rows one by one, unless the group continues the running segment throughout. -/
def slowP (K : Checks) (t : ℕ) (ht : t < 5) (one : FVec F S16 .f32) (v : IVec S16 32) (a b c : BitVec 32) (x : BitVec 32) :
    Prog (TpuEff nD τ sig (Elt F) Λ₀ (Proc.scVector cc jj)) (BitVec 32) :=
  if h : slowWord a b c = 1#1 then
    (piece1 rows run acc cnt cur K t ht one v a b c h).bind fun bit =>
    (piece2 rows run acc cnt cur K t ht one v a b c h bit).bind fun r =>
    (piece3 rows run acc cnt cur K t ht one v a b c h r.1 r.2.1 r.2.2.1).bind fun id =>
    (piece4 rows run acc cnt cur K t ht one v a b c h id).bind fun _ =>
    rowP rows run acc cnt cur (rowIx t 15#32) (rowIx_lt t ht _ (by decide)) one (idAt v 15 slices_S16_o15_S1) (K.chk 15 a b c (idAt v 15 slices_S16_o15_S1)) (K.dec 15 a b c (idAt v 15 slices_S16_o15_S1)) (fun _ hw hh => K.out 15 (by omega) h hw hh) <| .ret x
  else .ret x

/-- A group of sixteen rows. -/
def groupP (K : Checks) (t : ℕ) (ht : t < 5) (one : FVec F S16 .f32) (x : BitVec 32) : Prog (TpuEff nD τ sig (Elt F) Λ₀ (Proc.scVector cc jj)) (BitVec 32) :=
  .op (.load idx (Rect.unit (s := S80) ![idxIx t] S16.size (inIdx t ht)).toLoadRect (View.loadsAt_vmem h_S16)) fun u =>
  ldCur cur fun c =>
    if fastWord (idAt (shapeCast S16 u shapeCasts_S16_S16) 0 slices_S16_o0_S1) (idAt (shapeCast S16 u shapeCasts_S16_S16) 15 slices_S16_o15_S1) c = 1#1 then
      fastP rows run t ht fun s _ => stV run 8 0 (inRun 8 (by omega)) s <|
        slowP rows run acc cnt cur K t ht one (shapeCast S16 u shapeCasts_S16_S16) (idAt (shapeCast S16 u shapeCasts_S16_S16) 0 slices_S16_o0_S1)
          (idAt (shapeCast S16 u shapeCasts_S16_S16) 15 slices_S16_o15_S1) c x
    else slowP rows run acc cnt cur K t ht one (shapeCast S16 u shapeCasts_S16_S16) (idAt (shapeCast S16 u shapeCasts_S16_S16) 0 slices_S16_o0_S1)
          (idAt (shapeCast S16 u shapeCasts_S16_S16) 15 slices_S16_o15_S1) c x

end Progs

section Steps
variable {d : Dev nD} {cc : Fin τ.nSC} {jj : Fin τ.nSub}
variable {idx : Memref sig .scVector .vmem S80 .i32} {rows : Memref sig .scVector .vmem S80x128 .f32} {run : Memref sig .scVector .vmem S9x16 .f32}
  {acc : Memref sig .scVector .vmem S512x128 .f32} {cnt : Memref sig .scVector .vmem S8192 .f32} {cur : Memref sig .scVector .smem S1 .i32}

theorem wp_fastBlk {α : Type} {Q : α → sProp 𝕄} (X R : ℕ → ℕ → F .f32) (t : ℕ) (ht : t < 5) (j b : ℕ) (hj : j < 9) (hb : b ≤ 112) (hbj : b = 16 * j)
    {k : Prog (TpuEff nD τ sig (Elt F) Λ₀ (Proc.scVector cc jj)) α} :
    iprop(Hd d cc jj rows fullShare (mat X) ∗ Hd d cc jj run fullShare (mat (accTo R (fun k => tree fun l => X (16 * t + l) k) j))) ⊢
      iprop((Hd d cc jj rows fullShare (mat X) ∗ Hd d cc jj run fullShare (mat (accTo R (fun k => tree fun l => X (16 * t + l) k) (j + 1))) -∗ WP d cc jj k Q)
        -∗ WP d cc jj (fastBlk rows run t ht j b hj hb k) Q) := by
  iintro ⟨Hx, Hr⟩ K
  unfold fastBlk ldR
  iapply wp_ldV fullShare X $$ Hx
  iintro Hx
  iapply wp_ldV fullShare X $$ Hx
  iintro Hx
  iapply wp_ldV fullShare X $$ Hx
  iintro Hx
  iapply wp_ldV fullShare X $$ Hx
  iintro Hx
  iapply wp_ldV fullShare X $$ Hx
  iintro Hx
  iapply wp_ldV fullShare X $$ Hx
  iintro Hx
  iapply wp_ldV fullShare X $$ Hx
  iintro Hx
  iapply wp_ldV fullShare X $$ Hx
  iintro Hx
  iapply wp_ldV fullShare X $$ Hx
  iintro Hx
  iapply wp_ldV fullShare X $$ Hx
  iintro Hx
  iapply wp_ldV fullShare X $$ Hx
  iintro Hx
  iapply wp_ldV fullShare X $$ Hx
  iintro Hx
  iapply wp_ldV fullShare X $$ Hx
  iintro Hx
  iapply wp_ldV fullShare X $$ Hx
  iintro Hx
  iapply wp_ldV fullShare X $$ Hx
  iintro Hx
  iapply wp_ldV fullShare X $$ Hx
  iintro Hx
  iapply wp_ldV fullShare _ $$ Hr
  iintro Hr
  iapply wp_ldV fullShare _ $$ Hr
  iintro Hr
  iapply wp_stV _ (fun k => FloatOps.addf (accTo R (fun k => tree fun l => X (16 * t + l) k) j j (0 + k)) (tree fun l => X (16 * t + l) (b + k)))
    (by
      rw [v16_window, v16_window, v16_window, v16_window, v16_window, v16_window, v16_window, v16_window, v16_window, v16_window, v16_window, v16_window, v16_window, v16_window, v16_window, v16_window, v16_window]
      have e : ∀ l : BitVec 32, l.toNat < 16 → (lin (fun k => X (rowIx t l) (b + k)) : FVec F S16 .f32) = lin fun k => X (16 * t + l.toNat) (b + k) :=
        fun l hl => by rw [rowIx_eq t ht l hl]
      rw [e 0#32 (by decide), e 1#32 (by decide), e 2#32 (by decide), e 3#32 (by decide), e 4#32 (by decide), e 5#32 (by decide), e 6#32 (by decide), e 7#32 (by decide), e 8#32 (by decide), e 9#32 (by decide), e 10#32 (by decide), e 11#32 (by decide), e 12#32 (by decide), e 13#32 (by decide), e 14#32 (by decide), e 15#32 (by decide)]
      rfl) $$ Hr
  iintro Hr
  subst hbj
  rw [accTo_succ R _ j _ rfl]
  iapply K
  isplitl [Hx]; iexact Hx
  iexact Hr

theorem wp_fastP {α : Type} {Q : α → sProp 𝕄} (X R : ℕ → ℕ → F .f32) (t : ℕ) (ht : t < 5)
    {k : FVec F S16 .f32 → Vec F S1x16 .f32 → Prog (TpuEff nD τ sig (Elt F) Λ₀ (Proc.scVector cc jj)) α} :
    iprop(Hd d cc jj rows fullShare (mat X) ∗ Hd d cc jj run fullShare (mat R)) ⊢
      iprop((∀ w, Hd d cc jj rows fullShare (mat X) ∗ Hd d cc jj run fullShare (mat (accTo R (fun k => tree fun l => X (16 * t + l) k) 8))
          -∗ WP d cc jj (k (lin fun k => FloatOps.addf (R 8 (0 + k)) sixteen32) w) Q)
        -∗ WP d cc jj (fastP rows run t ht k) Q) := by
  iintro ⟨Hx, Hr⟩ K
  unfold fastP
  rw [← accTo_zero R (fun k => tree fun l => X (16 * t + l) k)]
  iapply wp_fastBlk X R t ht 0 _ _ _ rfl $$ [Hx Hr]
  · isplitl [Hx]; iexact Hx; iexact Hr
  iintro ⟨Hx, Hr⟩
  iapply wp_fastBlk X R t ht 1 _ _ _ rfl $$ [Hx Hr]
  · isplitl [Hx]; iexact Hx; iexact Hr
  iintro ⟨Hx, Hr⟩
  iapply wp_fastBlk X R t ht 2 _ _ _ rfl $$ [Hx Hr]
  · isplitl [Hx]; iexact Hx; iexact Hr
  iintro ⟨Hx, Hr⟩
  iapply wp_fastBlk X R t ht 3 _ _ _ rfl $$ [Hx Hr]
  · isplitl [Hx]; iexact Hx; iexact Hr
  iintro ⟨Hx, Hr⟩
  iapply wp_fastBlk X R t ht 4 _ _ _ rfl $$ [Hx Hr]
  · isplitl [Hx]; iexact Hx; iexact Hr
  iintro ⟨Hx, Hr⟩
  iapply wp_fastBlk X R t ht 5 _ _ _ rfl $$ [Hx Hr]
  · isplitl [Hx]; iexact Hx; iexact Hr
  iintro ⟨Hx, Hr⟩
  iapply wp_fastBlk X R t ht 6 _ _ _ rfl $$ [Hx Hr]
  · isplitl [Hx]; iexact Hx; iexact Hr
  iintro ⟨Hx, Hr⟩
  iapply wp_fastBlk X R t ht 7 _ _ _ rfl $$ [Hx Hr]
  · isplitl [Hx]; iexact Hx; iexact Hr
  iintro ⟨Hx, Hr⟩
  iapply wp_ldV fullShare _ $$ Hr
  iintro Hr
  iapply wp_ldV fullShare _ $$ Hr
  iintro Hr
  have e : addf (v16 (F := F) (VecWindow.window (s := S9x16) (mat (accTo R (fun k => tree fun l => X (16 * t + l) k) 8)) ![8, 0] S1x16.size (inRun 8 (by omega))))
      (broadcast S16 (Scalar.ofBits .f32 0x41800000#32)) = lin fun k => FloatOps.addf (R 8 (0 + k)) sixteen32 := by
    rw [v16_window]
    refine Eq.trans (b := lin fun k => FloatOps.addf (accTo R (fun k => tree fun l => X (16 * t + l) k) 8 8 (0 + k)) sixteen32) rfl ?_
    unfold accTo; simp
  rw [e]
  rw [accTo_zero]
  iapply K
  isplitl [Hx]; iexact Hx
  iexact Hr

end Steps

end Cert.Proof.Pool

end
-- ==== Proof.Match.lean ====
/-
  The kernel's three loops over the groups of a chunk are the group of Group.lean.
-/
module

public import proofs.«01_k».proof.Proof.Group

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 6) (Elt F) ℕ UU ℕ

theorem accRow_of {c : BitVec 32} (h : ∀ a, (![(Scalar.indexCast (Scalar.maxsi c 0#32)).toNat, 0] : Fin 2 → ℕ) a + S1x16.size a ≤ S512x128.size a) : accRow c < 512 := by
  have h0 : accRow c + 1 ≤ 512 := h 0
  omega

/-- The checks of loop 3's rows. -/
def checks3 : Checks where
  chk := fun l => match l with
    | 0 => k0_chk1
    | 1 => k0_chk2
    | 2 => k0_chk3
    | 3 => k0_chk4
    | 4 => k0_chk5
    | 5 => k0_chk6
    | 6 => k0_chk7
    | 7 => k0_chk8
    | 8 => k0_chk9
    | 9 => k0_chk10
    | 10 => k0_chk11
    | 11 => k0_chk12
    | 12 => k0_chk13
    | 13 => k0_chk14
    | 14 => k0_chk15
    | _ + 15 => k0_chk16
  dec := fun l => match l with
    | 0 => k0_chk1.dec
    | 1 => k0_chk2.dec
    | 2 => k0_chk3.dec
    | 3 => k0_chk4.dec
    | 4 => k0_chk5.dec
    | 5 => k0_chk6.dec
    | 6 => k0_chk7.dec
    | 7 => k0_chk8.dec
    | 8 => k0_chk9.dec
    | 9 => k0_chk10.dec
    | 10 => k0_chk11.dec
    | 11 => k0_chk12.dec
    | 12 => k0_chk13.dec
    | 13 => k0_chk14.dec
    | 14 => k0_chk15.dec
    | _ + 15 => k0_chk16.dec
  out := by
    intro l hl a b c id c' hs hw hn
    match l, hl with
    | 0, _ => exact accRow_of (hw.1 hs hn)
    | 1, _ => exact accRow_of (hw.1 hs hn)
    | 2, _ => exact accRow_of (hw.1 hs hn)
    | 3, _ => exact accRow_of (hw.1 hs hn)
    | 4, _ => exact accRow_of (hw.1 hs hn)
    | 5, _ => exact accRow_of (hw.1 hs hn)
    | 6, _ => exact accRow_of (hw.1 hs hn)
    | 7, _ => exact accRow_of (hw.1 hs hn)
    | 8, _ => exact accRow_of (hw.1 hs hn)
    | 9, _ => exact accRow_of (hw.1 hs hn)
    | 10, _ => exact accRow_of (hw.1 hs hn)
    | 11, _ => exact accRow_of (hw.1 hs hn)
    | 12, _ => exact accRow_of (hw.1 hs hn)
    | 13, _ => exact accRow_of (hw.1 hs hn)
    | 14, _ => exact accRow_of (hw.1 hs hn)
    | 15, _ => exact accRow_of (hw.1 hs hn)
    | n + 16, hl => exact absurd hl (by omega)
  inn := by
    intro l hl a b c id c' h
    match l, hl with
    | 0, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | 1, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | 2, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | 3, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | 4, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | 5, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | 6, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | 7, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | 8, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | 9, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | 10, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | 11, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | 12, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | 13, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | 14, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | 15, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | n + 16, hl => exact absurd hl (by omega)

/-- The checks of loop 4's rows. -/
def checks4 : Checks where
  chk := fun l => match l with
    | 0 => k0_chk17
    | 1 => k0_chk18
    | 2 => k0_chk19
    | 3 => k0_chk20
    | 4 => k0_chk21
    | 5 => k0_chk22
    | 6 => k0_chk23
    | 7 => k0_chk24
    | 8 => k0_chk25
    | 9 => k0_chk26
    | 10 => k0_chk27
    | 11 => k0_chk28
    | 12 => k0_chk29
    | 13 => k0_chk30
    | 14 => k0_chk31
    | _ + 15 => k0_chk32
  dec := fun l => match l with
    | 0 => k0_chk17.dec
    | 1 => k0_chk18.dec
    | 2 => k0_chk19.dec
    | 3 => k0_chk20.dec
    | 4 => k0_chk21.dec
    | 5 => k0_chk22.dec
    | 6 => k0_chk23.dec
    | 7 => k0_chk24.dec
    | 8 => k0_chk25.dec
    | 9 => k0_chk26.dec
    | 10 => k0_chk27.dec
    | 11 => k0_chk28.dec
    | 12 => k0_chk29.dec
    | 13 => k0_chk30.dec
    | 14 => k0_chk31.dec
    | _ + 15 => k0_chk32.dec
  out := by
    intro l hl a b c id c' hs hw hn
    match l, hl with
    | 0, _ => exact accRow_of (hw.1 hs hn)
    | 1, _ => exact accRow_of (hw.1 hs hn)
    | 2, _ => exact accRow_of (hw.1 hs hn)
    | 3, _ => exact accRow_of (hw.1 hs hn)
    | 4, _ => exact accRow_of (hw.1 hs hn)
    | 5, _ => exact accRow_of (hw.1 hs hn)
    | 6, _ => exact accRow_of (hw.1 hs hn)
    | 7, _ => exact accRow_of (hw.1 hs hn)
    | 8, _ => exact accRow_of (hw.1 hs hn)
    | 9, _ => exact accRow_of (hw.1 hs hn)
    | 10, _ => exact accRow_of (hw.1 hs hn)
    | 11, _ => exact accRow_of (hw.1 hs hn)
    | 12, _ => exact accRow_of (hw.1 hs hn)
    | 13, _ => exact accRow_of (hw.1 hs hn)
    | 14, _ => exact accRow_of (hw.1 hs hn)
    | 15, _ => exact accRow_of (hw.1 hs hn)
    | n + 16, hl => exact absurd hl (by omega)
  inn := by
    intro l hl a b c id c' h
    match l, hl with
    | 0, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | 1, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | 2, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | 3, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | 4, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | 5, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | 6, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | 7, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | 8, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | 9, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | 10, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | 11, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | 12, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | 13, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | 14, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | 15, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | n + 16, hl => exact absurd hl (by omega)

/-- The checks of loop 5's rows. -/
def checks5 : Checks where
  chk := fun l => match l with
    | 0 => k0_chk33
    | 1 => k0_chk34
    | 2 => k0_chk35
    | 3 => k0_chk36
    | 4 => k0_chk37
    | 5 => k0_chk38
    | 6 => k0_chk39
    | 7 => k0_chk40
    | 8 => k0_chk41
    | 9 => k0_chk42
    | 10 => k0_chk43
    | 11 => k0_chk44
    | 12 => k0_chk45
    | 13 => k0_chk46
    | 14 => k0_chk47
    | _ + 15 => k0_chk48
  dec := fun l => match l with
    | 0 => k0_chk33.dec
    | 1 => k0_chk34.dec
    | 2 => k0_chk35.dec
    | 3 => k0_chk36.dec
    | 4 => k0_chk37.dec
    | 5 => k0_chk38.dec
    | 6 => k0_chk39.dec
    | 7 => k0_chk40.dec
    | 8 => k0_chk41.dec
    | 9 => k0_chk42.dec
    | 10 => k0_chk43.dec
    | 11 => k0_chk44.dec
    | 12 => k0_chk45.dec
    | 13 => k0_chk46.dec
    | 14 => k0_chk47.dec
    | _ + 15 => k0_chk48.dec
  out := by
    intro l hl a b c id c' hs hw hn
    match l, hl with
    | 0, _ => exact accRow_of (hw.1 hs hn)
    | 1, _ => exact accRow_of (hw.1 hs hn)
    | 2, _ => exact accRow_of (hw.1 hs hn)
    | 3, _ => exact accRow_of (hw.1 hs hn)
    | 4, _ => exact accRow_of (hw.1 hs hn)
    | 5, _ => exact accRow_of (hw.1 hs hn)
    | 6, _ => exact accRow_of (hw.1 hs hn)
    | 7, _ => exact accRow_of (hw.1 hs hn)
    | 8, _ => exact accRow_of (hw.1 hs hn)
    | 9, _ => exact accRow_of (hw.1 hs hn)
    | 10, _ => exact accRow_of (hw.1 hs hn)
    | 11, _ => exact accRow_of (hw.1 hs hn)
    | 12, _ => exact accRow_of (hw.1 hs hn)
    | 13, _ => exact accRow_of (hw.1 hs hn)
    | 14, _ => exact accRow_of (hw.1 hs hn)
    | 15, _ => exact accRow_of (hw.1 hs hn)
    | n + 16, hl => exact absurd hl (by omega)
  inn := by
    intro l hl a b c id c' h
    match l, hl with
    | 0, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | 1, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | 2, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | 3, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | 4, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | 5, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | 6, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | 7, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | 8, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | 9, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | 10, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | 11, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | 12, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | 13, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | 14, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | 15, _ => exact ⟨fun _ _ => inAcc _ 0 h (by omega), fun _ _ => inAcc _ 16 h (by omega), fun _ _ => inAcc _ 32 h (by omega), fun _ _ => inAcc _ 48 h (by omega), fun _ _ => inAcc _ 64 h (by omega), fun _ _ => inAcc _ 80 h (by omega), fun _ _ => inAcc _ 96 h (by omega), fun _ _ => inAcc _ 112 h (by omega), fun _ _ => inCnt _ h⟩
    | n + 16, hl => exact absurd hl (by omega)

theorem trips5 (t : Fin k0_t5_loop.trips) : t.val < 5 := lt_of_lt_of_eq t.isLt (by decide)

end Cert.Proof.Pool

end
-- ==== Proof.Process.lean ====
/-
  What a group of sixteen rows does, and a chunk of eighty.
-/
module

public import proofs.«01_k».proof.Proof.Group

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 6) (Elt F) ℕ UU ℕ

/-- The state after the first `n` rows of group `t`, whose segment numbers are `f`. -/
def St.rows (s : St F) (X : ℕ → ℕ → F .f32) (t : ℕ) (f : ℕ → BitVec 32) : ℕ → St F
  | 0 => s
  | n + 1 => (s.rows X t f n).row (X (16 * t + n)) (f n)
/-- The state after group `t`. -/
def St.group (s : St F) (X : ℕ → ℕ → F .f32) (t : ℕ) (f : ℕ → BitVec 32) : St F :=
  if f 0 = s.cur ∧ f 0 = f 15 then s.fast (fun l => X (16 * t + l)) else s.rows X t f 16
/-- The state after the first `n` groups of a chunk with rows `X` and segment numbers `g`. -/
def St.groups (s : St F) (X : ℕ → ℕ → F .f32) (g : ℕ → BitVec 32) : ℕ → St F
  | 0 => s
  | n + 1 => (s.groups X g n).group X n (fun l => g (16 * n + l))

theorem St.rows_ok (s : St F) (X : ℕ → ℕ → F .f32) (t : ℕ) (f : ℕ → BitVec 32) (hs : accRow s.cur < 512) (hf : ∀ l, l < 16 → accRow (f l) < 512) :
    ∀ n, n ≤ 16 → accRow (s.rows X t f n).cur < 512
  | 0, _ => hs
  | n + 1, h => St.row_ok _ _ _ (s.rows_ok X t f hs hf n (by omega)) (hf n (by omega))
theorem St.group_ok (s : St F) (X : ℕ → ℕ → F .f32) (t : ℕ) (f : ℕ → BitVec 32) (hs : accRow s.cur < 512) (hf : ∀ l, l < 16 → accRow (f l) < 512) :
    accRow (s.group X t f).cur < 512 := by
  unfold St.group
  split
  · exact hs
  · exact s.rows_ok X t f hs hf 16 (le_refl _)
theorem St.groups_ok (s : St F) (X : ℕ → ℕ → F .f32) (g : ℕ → BitVec 32) (hs : accRow s.cur < 512) (hg : ∀ l, l < 80 → accRow (g l) < 512) :
    ∀ n, n ≤ 5 → accRow (s.groups X g n).cur < 512
  | 0, _ => hs
  | n + 1, h => St.group_ok _ _ _ _ (s.groups_ok X g hs hg n (by omega)) (fun l hl => hg _ (by omega))

theorem idAt_lin (f : ℕ → BitVec 32) (l : ℕ) (h : S16.Slices ![l] S1) : idAt (lin f) l h = f l := rfl

theorem fastWord_iff (a b c : BitVec 32) : fastWord a b c = 1#1 ↔ a = c ∧ a = b := by
  have h : ∀ x y : BitVec 1, Scalar.andi x y = 1#1 ↔ x = 1#1 ∧ y = 1#1 := by decide
  exact (bit_iff _).trans ((h _ _).trans (and_congr (cmpi_eq_iff _ _) (cmpi_eq_iff _ _)))
theorem slowWord_iff (a b c : BitVec 32) : slowWord a b c = 1#1 ↔ ¬ (a = c ∧ a = b) := by
  have h : ∀ x : BitVec 1, Scalar.xori x 1#1 = 1#1 ↔ ¬ x = 1#1 := by decide
  have h' : ∀ x y : BitVec 1, Scalar.andi x y = 1#1 ↔ x = 1#1 ∧ y = 1#1 := by decide
  exact (bit_iff _).trans ((h _).trans (not_congr ((h' _ _).trans (and_congr (cmpi_eq_iff _ _) (cmpi_eq_iff _ _)))))

section Steps
variable {d : Dev nD} {cc : Fin τ.nSC} {jj : Fin τ.nSub}
variable {idx : Memref sig .scVector .vmem S80 .i32} {rows : Memref sig .scVector .vmem S80x128 .f32} {run : Memref sig .scVector .vmem S9x16 .f32}
  {acc : Memref sig .scVector .vmem S512x128 .f32} {cnt : Memref sig .scVector .vmem S8192 .f32} {cur : Memref sig .scVector .smem S1 .i32}

theorem wp_done {α : Type} {Q : α → sProp 𝕄} (a : α) : Q a ⊢ WP d cc jj (.ret a) Q := by
  unfold WP
  rw [wp_ret]
  iintro H
  imodintro
  iexact H
theorem wp_done' {α : Type} {Q : α → sProp 𝕄} (a b : α) (h : b = a) : Q b ⊢ WP d cc jj (.ret a) Q := h ▸ wp_done b
theorem wp_seq {α β : Type} {Q : β → sProp 𝕄} (p : Prog (TpuEff nD τ sig (Elt F) Λ₀ (Proc.scVector cc jj)) α) (k : α → Prog (TpuEff nD τ sig (Elt F) Λ₀ (Proc.scVector cc jj)) β) :
    WP d cc jj p (fun a => WP d cc jj (k a) Q) ⊢ WP d cc jj (p.bind k) Q :=
  Entails.of_eq (wp_bind _ _ _ p k Q).symm

theorem wp_piece1 {Q : BitVec 1 → sProp 𝕄} (K : Checks) (X : ℕ → ℕ → F .f32) (s : St F) (hs : accRow s.cur < 512) (t : ℕ) (ht : t < 5) (f : ℕ → BitVec 32)
    (hf : ∀ l, l < 16 → accRow (f l) < 512) (a b c : BitVec 32) (h : slowWord a b c = 1#1) :
    iprop(Hd d cc jj rows fullShare (mat X) ∗ Own d cc jj acc cnt run cur s) ⊢
      iprop((Hd d cc jj rows fullShare (mat X) ∗ Own d cc jj acc cnt run cur ((s.rows X t f 3).half (X (16 * t + 3)) (f 3)) -∗ Q (Scalar.cmpi .eq (f 3) (s.rows X t f 3).cur))
        -∗ WP d cc jj (piece1 rows run acc cnt cur K t ht (lin fun _ => one32) (lin f) a b c h) Q) := by
  iintro ⟨Hx, Ho⟩ KK
  unfold piece1
  iapply wp_rowP X s hs _ _ _ _ _ _ (fun c' hc' => K.inn 0 (by omega) a b c _ c' hc') $$ [Hx Ho]
  · isplitl [Hx]; iexact Hx; iexact Ho
  iintro ⟨Hx, Ho⟩
  rw [rowIx_eq t ht 0#32 (by decide)]
  iapply wp_rowP X (s.rows X t f 1) (s.rows_ok X t f hs hf 1 (by omega)) _ _ _ _ _ _ (fun c' hc' => K.inn 1 (by omega) a b c _ c' hc') $$ [Hx Ho]
  · isplitl [Hx]; iexact Hx; iexact Ho
  iintro ⟨Hx, Ho⟩
  rw [rowIx_eq t ht 1#32 (by decide)]
  iapply wp_rowP X (s.rows X t f 2) (s.rows_ok X t f hs hf 2 (by omega)) _ _ _ _ _ _ (fun c' hc' => K.inn 2 (by omega) a b c _ c' hc') $$ [Hx Ho]
  · isplitl [Hx]; iexact Hx; iexact Ho
  iintro ⟨Hx, Ho⟩
  rw [rowIx_eq t ht 2#32 (by decide)]
  iapply wp_rowHead X (s.rows X t f 3) (s.rows_ok X t f hs hf 3 (by omega)) _ _ _ _ _ _ (fun c' hc' => K.inn 3 (by omega) a b c _ c' hc') $$ [Hx Ho]
  · isplitl [Hx]; iexact Hx; iexact Ho
  iintro ⟨Hx, Ho⟩
  rw [rowIx_eq t ht 3#32 (by decide)]
  iapply wp_done' _ (Scalar.cmpi .eq (f 3) (s.rows X t f 3).cur) rfl
  iapply KK
  isplitl [Hx]; iexact Hx; iexact Ho

theorem wp_piece2 (K : Checks) (a b c : BitVec 32) {Q : (Σ' (id : BitVec 32) (c' : BitVec 32) (_ : K.chk 7 a b c id c'), BitVec 32) → sProp 𝕄} (X : ℕ → ℕ → F .f32) (s : St F) (hs : accRow s.cur < 512) (t : ℕ) (ht : t < 5) (f : ℕ → BitVec 32)
    (hf : ∀ l, l < 16 → accRow (f l) < 512) (h : slowWord a b c = 1#1) :
    iprop(Hd d cc jj rows fullShare (mat X) ∗ Own d cc jj acc cnt run cur ((s.rows X t f 3).half (X (16 * t + 3)) (f 3))) ⊢
      iprop((∀ hw w, Hd d cc jj rows fullShare (mat X) ∗ Own d cc jj acc cnt run cur (s.rows X t f 7) -∗ Q ⟨f 7, (s.rows X t f 7).cur, hw, w⟩)
        -∗ WP d cc jj (piece2 rows run acc cnt cur K t ht (lin fun _ => one32) (lin f) a b c h (Scalar.cmpi .eq (f 3) (s.rows X t f 3).cur)) Q) := by
  iintro ⟨Hx, Ho⟩ KK
  unfold piece2
  have e3 : X (16 * t + 3) = X (rowIx t 3#32) := by rw [rowIx_eq t ht 3#32 (by decide)]; rfl
  rw [e3]
  iapply wp_rowTail X (s.rows X t f 3) (rowIx t 3#32) _ (f 3) $$ [Hx Ho]
  · isplitl [Hx]; iexact Hx; iexact Ho
  iintro ⟨Hx, Ho⟩
  rw [rowIx_eq t ht 3#32 (by decide)]
  iapply wp_rowP X (s.rows X t f 4) (s.rows_ok X t f hs hf 4 (by omega)) _ _ _ _ _ _ (fun c' hc' => K.inn 4 (by omega) a b c _ c' hc') $$ [Hx Ho]
  · isplitl [Hx]; iexact Hx; iexact Ho
  iintro ⟨Hx, Ho⟩
  rw [rowIx_eq t ht 4#32 (by decide)]
  iapply wp_rowP X (s.rows X t f 5) (s.rows_ok X t f hs hf 5 (by omega)) _ _ _ _ _ _ (fun c' hc' => K.inn 5 (by omega) a b c _ c' hc') $$ [Hx Ho]
  · isplitl [Hx]; iexact Hx; iexact Ho
  iintro ⟨Hx, Ho⟩
  rw [rowIx_eq t ht 5#32 (by decide)]
  iapply wp_rowP X (s.rows X t f 6) (s.rows_ok X t f hs hf 6 (by omega)) _ _ _ _ _ _ (fun c' hc' => K.inn 6 (by omega) a b c _ c' hc') $$ [Hx Ho]
  · isplitl [Hx]; iexact Hx; iexact Ho
  iintro ⟨Hx, Ho⟩
  rw [rowIx_eq t ht 6#32 (by decide)]
  icases Ho with ⟨Ha, Hc, Hr, Hu⟩
  iapply wp_ldCur _ $$ Hu
  iintro Hu
  iapply wp_assume 𝒱₀ (V d cc jj) none Set.univ (K.inn 7 (by omega) a b c _ _ (s.rows_ok X t f hs hf 7 (by omega)))
  iapply wp_done' _ (⟨f 7, (s.rows X t f 7).cur, K.inn 7 (by omega) a b c _ _ (s.rows_ok X t f hs hf 7 (by omega)), Scalar.extui (Scalar.cmpi .ne (f 7) (s.rows X t f 7).cur)⟩ : Σ' (id : BitVec 32) (c' : BitVec 32) (_ : K.chk 7 a b c id c'), BitVec 32) rfl
  iapply KK
  isplitl [Hx]; iexact Hx
  isplitl [Ha]; iexact Ha
  isplitl [Hc]; iexact Hc
  isplitl [Hr]; iexact Hr
  iexact Hu

theorem wp_piece3 {Q : BitVec 32 → sProp 𝕄} (K : Checks) (X : ℕ → ℕ → F .f32) (s : St F) (hs : accRow s.cur < 512) (t : ℕ) (ht : t < 5) (f : ℕ → BitVec 32)
    (hf : ∀ l, l < 16 → accRow (f l) < 512) (a b c : BitVec 32) (h : slowWord a b c = 1#1) (hw : K.chk 7 a b c (f 7) (s.rows X t f 7).cur) :
    iprop(Hd d cc jj rows fullShare (mat X) ∗ Own d cc jj acc cnt run cur (s.rows X t f 7)) ⊢
      iprop((Hd d cc jj rows fullShare (mat X) ∗ Own d cc jj acc cnt run cur (s.rows X t f 11) -∗ Q (f 11))
        -∗ WP d cc jj (piece3 rows run acc cnt cur K t ht (lin fun _ => one32) (lin f) a b c h (f 7) (s.rows X t f 7).cur hw) Q) := by
  iintro ⟨Hx, Ho⟩ KK
  unfold piece3
  iapply wp_rowMid X (s.rows X t f 7) _ _ _ _ $$ [Hx Ho]
  · isplitl [Hx]; iexact Hx; iexact Ho
  iintro ⟨Hx, Ho⟩
  rw [rowIx_eq t ht 7#32 (by decide)]
  iapply wp_rowP X (s.rows X t f 8) (s.rows_ok X t f hs hf 8 (by omega)) _ _ _ _ _ _ (fun c' hc' => K.inn 8 (by omega) a b c _ c' hc') $$ [Hx Ho]
  · isplitl [Hx]; iexact Hx; iexact Ho
  iintro ⟨Hx, Ho⟩
  rw [rowIx_eq t ht 8#32 (by decide)]
  iapply wp_rowP X (s.rows X t f 9) (s.rows_ok X t f hs hf 9 (by omega)) _ _ _ _ _ _ (fun c' hc' => K.inn 9 (by omega) a b c _ c' hc') $$ [Hx Ho]
  · isplitl [Hx]; iexact Hx; iexact Ho
  iintro ⟨Hx, Ho⟩
  rw [rowIx_eq t ht 9#32 (by decide)]
  iapply wp_rowP X (s.rows X t f 10) (s.rows_ok X t f hs hf 10 (by omega)) _ _ _ _ _ _ (fun c' hc' => K.inn 10 (by omega) a b c _ c' hc') $$ [Hx Ho]
  · isplitl [Hx]; iexact Hx; iexact Ho
  iintro ⟨Hx, Ho⟩
  rw [rowIx_eq t ht 10#32 (by decide)]
  iapply wp_done' _ (f 11) rfl
  iapply KK
  isplitl [Hx]; iexact Hx; iexact Ho

theorem wp_piece4 {Q : PUnit → sProp 𝕄} (K : Checks) (X : ℕ → ℕ → F .f32) (s : St F) (hs : accRow s.cur < 512) (t : ℕ) (ht : t < 5) (f : ℕ → BitVec 32)
    (hf : ∀ l, l < 16 → accRow (f l) < 512) (a b c : BitVec 32) (h : slowWord a b c = 1#1) :
    iprop(Hd d cc jj rows fullShare (mat X) ∗ Own d cc jj acc cnt run cur (s.rows X t f 11)) ⊢
      iprop((Hd d cc jj rows fullShare (mat X) ∗ Own d cc jj acc cnt run cur (s.rows X t f 15) -∗ Q ⟨⟩)
        -∗ WP d cc jj (piece4 rows run acc cnt cur K t ht (lin fun _ => one32) (lin f) a b c h (f 11)) Q) := by
  iintro ⟨Hx, Ho⟩ KK
  unfold piece4
  iapply wp_rowP X (s.rows X t f 11) (s.rows_ok X t f hs hf 11 (by omega)) _ _ _ _ _ _ (fun c' hc' => K.inn 11 (by omega) a b c _ c' hc') $$ [Hx Ho]
  · isplitl [Hx]; iexact Hx; iexact Ho
  iintro ⟨Hx, Ho⟩
  rw [rowIx_eq t ht 11#32 (by decide)]
  iapply wp_rowP X (s.rows X t f 12) (s.rows_ok X t f hs hf 12 (by omega)) _ _ _ _ _ _ (fun c' hc' => K.inn 12 (by omega) a b c _ c' hc') $$ [Hx Ho]
  · isplitl [Hx]; iexact Hx; iexact Ho
  iintro ⟨Hx, Ho⟩
  rw [rowIx_eq t ht 12#32 (by decide)]
  iapply wp_rowP X (s.rows X t f 13) (s.rows_ok X t f hs hf 13 (by omega)) _ _ _ _ _ _ (fun c' hc' => K.inn 13 (by omega) a b c _ c' hc') $$ [Hx Ho]
  · isplitl [Hx]; iexact Hx; iexact Ho
  iintro ⟨Hx, Ho⟩
  rw [rowIx_eq t ht 13#32 (by decide)]
  iapply wp_rowP X (s.rows X t f 14) (s.rows_ok X t f hs hf 14 (by omega)) _ _ _ _ _ _ (fun c' hc' => K.inn 14 (by omega) a b c _ c' hc') $$ [Hx Ho]
  · isplitl [Hx]; iexact Hx; iexact Ho
  iintro ⟨Hx, Ho⟩
  rw [rowIx_eq t ht 14#32 (by decide)]
  iapply wp_done
  iapply KK
  isplitl [Hx]; iexact Hx; iexact Ho

theorem wp_slowP {Q : BitVec 32 → sProp 𝕄} (K : Checks) (X : ℕ → ℕ → F .f32) (s : St F) (hs : accRow s.cur < 512) (t : ℕ) (ht : t < 5) (f : ℕ → BitVec 32)
    (hf : ∀ l, l < 16 → accRow (f l) < 512) (a b c x : BitVec 32) :
    iprop(Hd d cc jj rows fullShare (mat X) ∗ Own d cc jj acc cnt run cur s) ⊢
      iprop((Hd d cc jj rows fullShare (mat X) ∗ Own d cc jj acc cnt run cur (if slowWord a b c = 1#1 then s.rows X t f 16 else s) -∗ Q x)
        -∗ WP d cc jj (slowP rows run acc cnt cur K t ht (lin fun _ => one32) (lin f) a b c x) Q) := by
  iintro ⟨Hx, Ho⟩ KK
  unfold slowP
  by_cases h : slowWord a b c = 1#1
  · rw [dif_pos h, if_pos h]
    iapply wp_seq
    iapply wp_piece1 K X s hs t ht f hf a b c h $$ [Hx Ho]
    · isplitl [Hx]; iexact Hx; iexact Ho
    iintro ⟨Hx, Ho⟩
    iapply wp_seq
    iapply wp_piece2 K a b c X s hs t ht f hf h $$ [Hx Ho]
    · isplitl [Hx]; iexact Hx; iexact Ho
    iintro %hw %w ⟨Hx, Ho⟩
    iapply wp_seq
    iapply wp_piece3 K X s hs t ht f hf a b c h hw $$ [Hx Ho]
    · isplitl [Hx]; iexact Hx; iexact Ho
    iintro ⟨Hx, Ho⟩
    iapply wp_seq
    iapply wp_piece4 K X s hs t ht f hf a b c h $$ [Hx Ho]
    · isplitl [Hx]; iexact Hx; iexact Ho
    iintro ⟨Hx, Ho⟩
    iapply wp_rowP X (s.rows X t f 15) (s.rows_ok X t f hs hf 15 (by omega)) _ _ _ _ _ _ (fun c' hc' => K.inn 15 (by omega) a b c _ c' hc') $$ [Hx Ho]
    · isplitl [Hx]; iexact Hx; iexact Ho
    iintro ⟨Hx, Ho⟩
    rw [rowIx_eq t ht 15#32 (by decide)]

    iapply wp_done
    iapply KK
    isplitl [Hx]; iexact Hx; iexact Ho
  · rw [dif_neg h, if_neg h]
    iapply wp_done
    iapply KK
    isplitl [Hx]; iexact Hx; iexact Ho

theorem wp_groupP {Q : BitVec 32 → sProp 𝕄} (K : Checks) (X : ℕ → ℕ → F .f32) (g : ℕ → BitVec 32) (s : St F) (hs : accRow s.cur < 512) (t : ℕ) (ht : t < 5)
    (hg : ∀ l, l < 80 → accRow (g l) < 512) (x : BitVec 32) :
    iprop(Hd d cc jj idx fullShare (lin fun k => (g k : Elt F .i32)) ∗ Hd d cc jj rows fullShare (mat X) ∗ Own d cc jj acc cnt run cur s) ⊢
      iprop((Hd d cc jj idx fullShare (lin fun k => (g k : Elt F .i32)) ∗ Hd d cc jj rows fullShare (mat X)
          ∗ Own d cc jj acc cnt run cur (s.group X t (fun l => g (16 * t + l))) -∗ Q x)
        -∗ WP d cc jj (groupP idx rows run acc cnt cur K t ht (lin fun _ => one32) x) Q) := by
  iintro ⟨Hi, Hx, Ha, Hc, Hr, Hu⟩ KK
  unfold groupP
  iapply wp_ld idx fullShare _ (inIdx t ht) $$ Hi
  iintro Hi
  rw [window_lin (fun k => (g k : Elt F .i32)) _ (16 * t) (by rw [idxIx_eq t ht]) (inIdx t ht)]
  rw [shapeCast_self]
  iapply wp_ldCur _ $$ Hu
  iintro Hu
  have e : ∀ l hl, idAt (lin fun k => (g (16 * t + k) : Elt F .i32)) l hl = g (16 * t + l) := fun _ _ => rfl
  rw [e, e]
  have hf : ∀ l, l < 16 → accRow (g (16 * t + l)) < 512 := fun l hl => hg _ (by omega)
  unfold St.group
  by_cases h : fastWord (g (16 * t + 0)) (g (16 * t + 15)) s.cur = 1#1
  · rw [if_pos h, if_pos ((fastWord_iff _ _ _).1 h)]
    iapply wp_fastP X s.R t ht $$ [Hx Hr]
    · isplitl [Hx]; iexact Hx; iexact Hr
    iintro %w ⟨Hx, Hr⟩
    iapply wp_stV _ _ rfl $$ Hr
    iintro Hr
    have hn : ¬ slowWord (g (16 * t + 0)) (g (16 * t + 15)) s.cur = 1#1 := fun h' => (slowWord_iff _ _ _).1 h' ((fastWord_iff _ _ _).1 h)
    iapply wp_slowP K X (s.fast fun l => X (16 * t + l)) hs t ht (fun l => g (16 * t + l)) hf _ _ _ x $$ [Hx Ha Hc Hr Hu]
    · isplitl [Hx]; iexact Hx
      isplitl [Ha]; iexact Ha
      isplitl [Hc]; iexact Hc
      isplitl [Hr]; iexact Hr
      iexact Hu
    rw [if_neg hn]
    iintro ⟨Hx, Ho⟩
    iapply KK
    isplitl [Hi]; iexact Hi
    isplitl [Hx]; iexact Hx
    iexact Ho
  · rw [if_neg h, if_neg (fun h' => h ((fastWord_iff _ _ _).2 h'))]
    have hn : slowWord (g (16 * t + 0)) (g (16 * t + 15)) s.cur = 1#1 := (slowWord_iff _ _ _).2 (fun h' => h ((fastWord_iff _ _ _).2 h'))
    iapply wp_slowP K X s hs t ht (fun l => g (16 * t + l)) hf _ _ _ x $$ [Hx Ha Hc Hr Hu]
    · isplitl [Hx]; iexact Hx
      isplitl [Ha]; iexact Ha
      isplitl [Hc]; iexact Hc
      isplitl [Hr]; iexact Hr
      iexact Hu
    rw [if_pos hn]
    iintro ⟨Hx, Ho⟩
    iapply KK
    isplitl [Hi]; iexact Hi
    isplitl [Hx]; iexact Hx
    iexact Ho

end Steps

end Cert.Proof.Pool

end
-- ==== Proof.Loops.lean ====
/-
  The loops of the tile: a chunk of five groups, the clearing of the tables, the sum of a copied table into a tile's own.
-/
module

public import proofs.«01_k».proof.Proof.Process

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 6) (Elt F) ℕ UU ℕ

section Progs
variable {cc : Fin τ.nSC} {jj : Fin τ.nSub} {α : Type}

local notation "PROG" => Prog (TpuEff nD τ sig (Elt F) Λ₀ (Proc.scVector cc jj)) α

variable (rows : Memref sig .scVector .vmem S80x128 .f32) (run : Memref sig .scVector .vmem S9x16 .f32)
  (acc : Memref sig .scVector .vmem S512x128 .f32) (cnt : Memref sig .scVector .vmem S8192 .f32) (cur : Memref sig .scVector .smem S1 .i32)

/-- A row of the tables cleared. -/
def zeroAt (v : FVec F S16 .f32) (t b : ℕ) (ht : t < 512) (hb : b ≤ 112) (k : PROG) : PROG :=
  ldV acc t b (inAcc t b ht hb) fun _ => stV acc t b (inAcc t b ht hb) v k
theorem inCntAt (t : ℕ) (ht : t < 512) (c : ℕ) (hc : c = 16 * t) : ∀ x, (![c] : Fin 1 → ℕ) x + S16.size x ≤ S8192.size x := fun x => match x with
  | 0 => (by show c + 16 ≤ 8192; omega)
theorem iv_toNat (t : ℕ) (ht : t < 1024) : (Scalar.indexCast (Scf.iv 0#32 1#32 t)).toNat = t := by
  show (0#32 + BitVec.ofNat 32 t * 1#32).toNat = t
  rw [BitVec.mul_one, BitVec.zero_add, BitVec.toNat_ofNat]; omega
def zRow (t : ℕ) : ℕ := (Scalar.indexCast (Scf.iv 0#32 1#32 t)).toNat
def zCnt (t : ℕ) : ℕ := (Scalar.indexCast (Scalar.muli (Scf.iv 0#32 1#32 t) 16#32)).toNat
theorem zRow_eq (t : ℕ) (ht : t < 1024) : zRow t = t := iv_toNat t ht
theorem zCnt_eq (t : ℕ) (ht : t < 1024) : zCnt t = 16 * t := by
  show ((0#32 + BitVec.ofNat 32 t * 1#32) * 16#32).toNat = _
  rw [BitVec.mul_one, BitVec.zero_add, BitVec.toNat_mul, BitVec.toNat_ofNat]
  show t % 4294967296 * 16 % 4294967296 = _
  omega
def zeroRow (v : FVec F S16 .f32) (t : ℕ) (ht : t < 512) (k : PROG) : PROG :=
  zeroAt acc v (zRow t) 0 (by rw [zRow_eq t (by omega)]; exact ht) (by omega) <| zeroAt acc v (zRow t) 16 (by rw [zRow_eq t (by omega)]; exact ht) (by omega) <|
  zeroAt acc v (zRow t) 32 (by rw [zRow_eq t (by omega)]; exact ht) (by omega) <| zeroAt acc v (zRow t) 48 (by rw [zRow_eq t (by omega)]; exact ht) (by omega) <|
  zeroAt acc v (zRow t) 64 (by rw [zRow_eq t (by omega)]; exact ht) (by omega) <| zeroAt acc v (zRow t) 80 (by rw [zRow_eq t (by omega)]; exact ht) (by omega) <|
  zeroAt acc v (zRow t) 96 (by rw [zRow_eq t (by omega)]; exact ht) (by omega) <| zeroAt acc v (zRow t) 112 (by rw [zRow_eq t (by omega)]; exact ht) (by omega) <|
    .op (.load cnt (Rect.unit (s := S8192) ![zCnt t] S16.size (inCntAt t ht _ (zCnt_eq t (by omega)))).toLoadRect (View.loadsAt_vmem h_S16)) fun _ =>
    .op (.store cnt (Rect.unit (s := S8192) ![zCnt t] S16.size (inCntAt t ht _ (zCnt_eq t (by omega)))) (shapeCast S16 v shapeCasts_S16_S16) Finset.univ (View.stores_vmem_bits_univ h_S16 rfl) (.inl rfl)) fun _ => k
/-- A row of the running segment cleared. -/
def zeroRun (v : FVec F S16 .f32) (j : ℕ) (hj : j < 9) (k : PROG) : PROG :=
  ldV run j 0 (inRun j hj) fun _ => stV run j 0 (inRun j hj) v k

/-- Sixteen columns of a row of a copied table added to the tile's own. -/
def addAt (r q b : ℕ) (hr : r < 512) (hq : q < 80) (hb : b ≤ 112) (k : PROG) : PROG :=
  ldV acc r b (inAcc r b hr hb) fun u => ldV rows q b (inRows q b hq hb) fun w => ldV acc r b (inAcc r b hr hb) fun _ =>
    stV acc r b (inAcc r b hr hb) (addf (v16 u) (v16 w)) k
def aRow (t u : ℕ) : ℕ := (Scalar.indexCast (Scalar.addi (Scalar.muli (Scf.iv 0#32 1#32 t) 64#32) (Scf.iv 0#32 1#32 u))).toNat
theorem aRow_eq (t u : ℕ) (ht : t < 8) (hu : u < 64) : aRow t u = 64 * t + u := by
  show ((0#32 + BitVec.ofNat 32 t * 1#32) * 64#32 + (0#32 + BitVec.ofNat 32 u * 1#32)).toNat = _
  rw [BitVec.mul_one, BitVec.zero_add, BitVec.mul_one, BitVec.zero_add, BitVec.toNat_add, BitVec.toNat_mul, BitVec.toNat_ofNat, BitVec.toNat_ofNat]
  show (t % 4294967296 * 64 % 4294967296 + u % 4294967296) % 4294967296 = _
  omega
theorem aRow_lt (t u : ℕ) (ht : t < 8) (hu : u < 64) : aRow t u < 512 := by rw [aRow_eq t u ht hu]; omega
theorem zRow_lt (u : ℕ) (hu : u < 64) : zRow u < 80 := by rw [zRow_eq u (by omega)]; omega
def addRow (t u : ℕ) (ht : t < 8) (hu : u < 64) (k : PROG) : PROG :=
  addAt rows acc (aRow t u) (zRow u) 0 (aRow_lt t u ht hu) (zRow_lt u hu) (by omega) <| addAt rows acc (aRow t u) (zRow u) 16 (aRow_lt t u ht hu) (zRow_lt u hu) (by omega) <|
  addAt rows acc (aRow t u) (zRow u) 32 (aRow_lt t u ht hu) (zRow_lt u hu) (by omega) <| addAt rows acc (aRow t u) (zRow u) 48 (aRow_lt t u ht hu) (zRow_lt u hu) (by omega) <|
  addAt rows acc (aRow t u) (zRow u) 64 (aRow_lt t u ht hu) (zRow_lt u hu) (by omega) <| addAt rows acc (aRow t u) (zRow u) 80 (aRow_lt t u ht hu) (zRow_lt u hu) (by omega) <|
  addAt rows acc (aRow t u) (zRow u) 96 (aRow_lt t u ht hu) (zRow_lt u hu) (by omega) <| addAt rows acc (aRow t u) (zRow u) 112 (aRow_lt t u ht hu) (zRow_lt u hu) (by omega) k

end Progs

section Steps
variable {d : Dev nD} {cc : Fin τ.nSC} {jj : Fin τ.nSub}
variable {rows : Memref sig .scVector .vmem S80x128 .f32} {run : Memref sig .scVector .vmem S9x16 .f32} {idx : Memref sig .scVector .vmem S80 .i32}
  {acc : Memref sig .scVector .vmem S512x128 .f32} {cnt : Memref sig .scVector .vmem S8192 .f32} {cur : Memref sig .scVector .smem S1 .i32}

/-- A counted loop by an invariant. -/
theorem wp_loop {σ : Type} {Q : σ → sProp 𝕄} (L : Scf.Loop 32) (hok : L.OK) (init : σ)
    (body : Fin L.trips → σ → Prog (TpuEff nD τ sig (Elt F) Λ₀ (Proc.scVector cc jj)) σ) (I : ℕ → σ → sProp 𝕄)
    (hbody : ∀ (k : Fin L.trips) (a : σ), I k.val a ⊢ WP d cc jj (body k a) (I (k.val + 1))) :
    I 0 init ⊢ iprop((∀ a, I L.trips a -∗ Q a) -∗ WP d cc jj (Scf.Loop.for L hok init body) Q) := by
  iintro HI HK
  iapply (Scf.wp_for _ _ _ L.lb L.ub L.st hok init body I hbody)
  isplitl [HI]
  · iexact HI
  · iexact HK

/-- A chunk: its five groups in turn. -/
theorem wp_chunk {Q : BitVec 32 → sProp 𝕄} (L : Scf.Loop 32) (hL : L.trips = 5) (hok : L.OK) (K : Checks) (X : ℕ → ℕ → F .f32) (g : ℕ → BitVec 32) (s : St F)
    (hs : accRow s.cur < 512) (hg : ∀ l, l < 80 → accRow (g l) < 512) (h5 : ∀ t : Fin L.trips, t.val < 5) :
    iprop(Hd d cc jj idx fullShare (lin fun k => (g k : Elt F .i32)) ∗ Hd d cc jj rows fullShare (mat X) ∗ Own d cc jj acc cnt run cur s) ⊢
      iprop((Hd d cc jj idx fullShare (lin fun k => (g k : Elt F .i32)) ∗ Hd d cc jj rows fullShare (mat X) ∗ Own d cc jj acc cnt run cur (s.groups X g 5) -∗ ∀ x, Q x)
        -∗ WP d cc jj (Scf.Loop.for L hok 0#32 fun t _ => groupP idx rows run acc cnt cur K t.val (h5 t) (lin fun _ => one32) 0#32) Q) := by
  iintro H HK
  iapply (wp_loop L hok 0#32 _ (fun n _ => iprop(Hd d cc jj idx fullShare (lin fun k => (g k : Elt F .i32)) ∗ Hd d cc jj rows fullShare (mat X)
      ∗ Own d cc jj acc cnt run cur (s.groups X g n))) ?_) $$ [H]
  · intro t x
    iintro H
    iapply wp_groupP K X g (s.groups X g t.val) (St.groups_ok s X g hs hg t.val (le_of_lt (h5 t))) t.val (h5 t) hg 0#32 $$ H
    iintro H
    iexact H
  · iexact H
  · iintro %x H
    rw [hL]
    iapply HK $$ H

/-! ## Clearing -/

/-- Rows below `t` of `A` are clear, and the first `b` entries of row `t`. -/
def Clear (A : ℕ → ℕ → F .f32) (t b : ℕ) : Prop := ∀ i k, k < 128 → (i < t ∨ i = t ∧ k < b) → A i k = zero32
theorem Clear.step {A : ℕ → ℕ → F .f32} {t b : ℕ} (h : Clear A t b) : Clear (setRow A t b fun _ => zero32) t (b + 16) := by
  intro i k hk hi
  unfold setRow
  split
  · rfl
  · exact h i k hk (by omega)
theorem Clear.next {A : ℕ → ℕ → F .f32} {t : ℕ} (h : Clear A t 128) : Clear A (t + 1) 0 := fun i k hk hi => h i k hk (by omega)

theorem wp_zeroAt {α : Type} {Q : α → sProp 𝕄} (t u b c : ℕ) (hu : u = t) (hc : c = b + 16) (ht : u < 512) (hb : b ≤ 112) {k : Prog (TpuEff nD τ sig (Elt F) Λ₀ (Proc.scVector cc jj)) α} :
    iprop(∃ A : ℕ → ℕ → F .f32, ⌜Clear A t b⌝ ∗ Hd d cc jj acc fullShare (mat A)) ⊢
      iprop(((∃ A : ℕ → ℕ → F .f32, ⌜Clear A t c⌝ ∗ Hd d cc jj acc fullShare (mat A)) -∗ WP d cc jj k Q)
        -∗ WP d cc jj (zeroAt acc (lin fun _ => zero32) u b ht hb k) Q) := by
  subst hu hc
  iintro ⟨%A, %hA, H⟩ K
  unfold zeroAt
  iapply wp_ldV fullShare A $$ H
  iintro H
  iapply wp_stV A (fun _ => zero32) rfl $$ H
  iintro H
  iapply K
  iexists _
  isplitr
  · ipureintro; exact hA.step
  · iexact H

/-- The tables after `t` rows have been cleared. -/
abbrev Cleared (d : Dev nD) (cc : Fin τ.nSC) (jj : Fin τ.nSub) (acc : Memref sig .scVector .vmem S512x128 .f32) (cnt : Memref sig .scVector .vmem S8192 .f32) (t : ℕ) : sProp 𝕄 :=
  iprop((∃ A : ℕ → ℕ → F .f32, ⌜Clear A t 0⌝ ∗ Hd d cc jj acc fullShare (mat A)) ∗ (∃ C : ℕ → F .f32, ⌜∀ k, k < 16 * t → C k = zero32⌝ ∗ Hd d cc jj cnt fullShare (lin C)))

theorem wp_zeroRow {α : Type} {Q : α → sProp 𝕄} (t : ℕ) (ht : t < 512) {k : Prog (TpuEff nD τ sig (Elt F) Λ₀ (Proc.scVector cc jj)) α} :
    Cleared d cc jj acc cnt t ⊢ iprop((Cleared d cc jj acc cnt (t + 1) -∗ WP d cc jj k Q)
        -∗ WP d cc jj (zeroRow acc cnt (lin fun _ => zero32) t ht k) Q) := by
  iintro ⟨Ha, Hc⟩ K
  have hu : zRow t = t := zRow_eq t (by omega)
  unfold zeroRow
  iapply wp_zeroAt t _ 0 16 hu rfl _ _ $$ Ha
  iintro Ha
  iapply wp_zeroAt t _ 16 32 hu rfl _ _ $$ Ha
  iintro Ha
  iapply wp_zeroAt t _ 32 48 hu rfl _ _ $$ Ha
  iintro Ha
  iapply wp_zeroAt t _ 48 64 hu rfl _ _ $$ Ha
  iintro Ha
  iapply wp_zeroAt t _ 64 80 hu rfl _ _ $$ Ha
  iintro Ha
  iapply wp_zeroAt t _ 80 96 hu rfl _ _ $$ Ha
  iintro Ha
  iapply wp_zeroAt t _ 96 112 hu rfl _ _ $$ Ha
  iintro Ha
  iapply wp_zeroAt t _ 112 128 hu rfl _ _ $$ Ha
  iintro ⟨%A, %hA, Ha⟩
  icases Hc with ⟨%C, %hC, Hc⟩
  iapply wp_ld cnt fullShare (lin C) (inCntAt t ht _ (zCnt_eq t (by omega))) $$ Hc
  iintro Hc
  iapply wp_st cnt (lin C) (inCntAt t ht _ (zCnt_eq t (by omega))) _ $$ Hc
  rw [shapeCast_self, put_lin C _ (16 * t) (by rw [zCnt_eq t (by omega)]) (fun _ => zero32)]
  iintro Hc
  iapply K
  isplitl [Ha]
  · iexists A
    isplitr
    · ipureintro; exact hA.next
    · iexact Ha
  · iexists (setLin C (16 * t) fun _ => zero32)
    isplitr
    · ipureintro
      intro j hj
      unfold setLin
      split
      · rfl
      · exact hC j (by omega)
    · iexact Hc

/-- Clearing the tables: 512 rows in turn. -/
theorem wp_zeros {Q : BitVec 32 → sProp 𝕄} (L : Scf.Loop 32) (hL : L.trips = 512) (hok : L.OK) (h : ∀ t : Fin L.trips, t.val < 512) (A : ℕ → ℕ → F .f32) (C : ℕ → F .f32) :
    iprop(Hd d cc jj acc fullShare (mat A) ∗ Hd d cc jj cnt fullShare (lin C)) ⊢
      iprop((Hd d cc jj acc fullShare (mat fun _ _ => (zero32 : F .f32)) ∗ Hd d cc jj cnt fullShare (lin fun _ => (zero32 : F .f32)) -∗ ∀ x, Q x)
        -∗ WP d cc jj (Scf.Loop.for L hok 0#32 fun t _ => zeroRow acc cnt (lin fun _ => zero32) t.val (h t) (.ret 0#32)) Q) := by
  iintro ⟨Ha, Hc⟩ HK
  iapply (wp_loop L hok 0#32 _ (fun n _ => Cleared d cc jj acc cnt n) ?_) $$ [Ha Hc]
  · intro t x
    iintro H
    iapply wp_zeroRow t.val (h t) $$ H
    iintro H
    iapply wp_done
    iexact H
  · isplitl [Ha]
    · iexists A
      isplitr
      · ipureintro; intro i k _ hi; omega
      · iexact Ha
    · iexists C
      isplitr
      · ipureintro; intro k hk; omega
      · iexact Hc
  · iintro %x ⟨⟨%A', %hA, Ha⟩, ⟨%C', %hC, Hc⟩⟩
    rw [hL] at hA hC
    have eA : (mat A' : S512x128.Idx → F .f32) = mat fun _ _ => zero32 := by
      funext y; exact hA _ _ (y 1).isLt (Or.inl (y 0).isLt)
    have eC : (lin C' : S8192.Idx → F .f32) = lin fun _ => zero32 := by
      funext y; exact hC _ (lt_of_lt_of_eq (y 0).isLt (by rfl))
    rw [eA, eC]
    iapply HK $$ [Ha Hc]
    isplitl [Ha]
    · iexact Ha
    · iexact Hc

theorem wp_zeroRun {α : Type} {Q : α → sProp 𝕄} (R : ℕ → ℕ → F .f32) (j : ℕ) (hj : j < 9) {k : Prog (TpuEff nD τ sig (Elt F) Λ₀ (Proc.scVector cc jj)) α} :
    Hd d cc jj run fullShare (mat R) ⊢ iprop((Hd d cc jj run fullShare (mat (setRow R j 0 fun _ => zero32)) -∗ WP d cc jj k Q)
        -∗ WP d cc jj (zeroRun run (lin fun _ => zero32) j hj k) Q) := by
  iintro H K
  unfold zeroRun
  iapply wp_ldV fullShare R $$ H
  iintro H
  iapply wp_stV R (fun _ => zero32) rfl $$ H
  iexact K

theorem zeroRun_all (R : ℕ → ℕ → F .f32) :
    (mat (setRow (setRow (setRow (setRow (setRow (setRow (setRow (setRow (setRow R 0 0 fun _ => zero32) 1 0 fun _ => zero32) 2 0 fun _ => zero32) 3 0 fun _ => zero32)
      4 0 fun _ => zero32) 5 0 fun _ => zero32) 6 0 fun _ => zero32) 7 0 fun _ => zero32) 8 0 fun _ => zero32) : S9x16.Idx → F .f32) = mat fun _ _ => zero32 := by
  funext y
  have h0 : (y 0).val < 9 := (y 0).isLt
  have h1 : (y 1).val < 16 := (y 1).isLt
  unfold mat
  generalize (y 0).val = a at *
  generalize (y 1).val = b at *
  unfold setRow
  split; rfl
  split; rfl
  split; rfl
  split; rfl
  split; rfl
  split; rfl
  split; rfl
  split; rfl
  split; rfl
  omega

/-! ## Adding a copied table -/

/-- `A` with `S` added in its rows below `n` and the first `b` columns of row `n`. -/
def addUpTo (A S : ℕ → ℕ → F .f32) (n b : ℕ) : ℕ → ℕ → F .f32 := fun i k => if i < n ∧ k < 128 ∨ i = n ∧ k < b then FloatOps.addf (A i k) (S i k) else A i k
theorem addUpTo_zero (A S : ℕ → ℕ → F .f32) : addUpTo A S 0 0 = A := by
  funext i k; unfold addUpTo; rw [if_neg (by omega)]
theorem addUpTo_next (A S : ℕ → ℕ → F .f32) (n : ℕ) : addUpTo A S n 128 = addUpTo A S (n + 1) 0 := by
  funext i k; unfold addUpTo
  by_cases h : i < n ∧ k < 128 ∨ i = n ∧ k < 128
  · rw [if_pos h, if_pos (by omega)]
  · rw [if_neg h, if_neg (by omega)]
theorem addUpTo_all (A S : ℕ → ℕ → F .f32) : (mat (addUpTo A S 512 0) : S512x128.Idx → F .f32) = mat fun i k => FloatOps.addf (A i k) (S i k) := by
  funext y
  have h0 : (y 0).val < 512 := (y 0).isLt
  have h1 : (y 1).val < 128 := (y 1).isLt
  show addUpTo A S 512 0 _ _ = _
  unfold addUpTo
  rw [if_pos (Or.inl ⟨h0, h1⟩)]
  rfl
theorem addUpTo_step (A S X : ℕ → ℕ → F .f32) (n q b : ℕ) (hS : ∀ k, X q k = S n k) :
    setRow (addUpTo A S n b) n b (fun k => FloatOps.addf (addUpTo A S n b n (b + k)) (X q (b + k))) = addUpTo A S n (b + 16) := by
  funext i k; unfold setRow addUpTo
  by_cases h : i = n ∧ b ≤ k ∧ k < b + 16
  · obtain ⟨rfl, h1, h2⟩ := h
    rw [if_pos ⟨rfl, h1, h2⟩, if_pos (by omega)]
    dsimp only
    rw [show b + (k - b) = k by omega, if_neg (by omega), hS]
  · rw [if_neg h]
    by_cases h' : i < n ∧ k < 128 ∨ i = n ∧ k < b
    · rw [if_pos h', if_pos (by omega)]
    · rw [if_neg h', if_neg (by omega)]

theorem wp_addAt {α : Type} {Q : α → sProp 𝕄} (A S X : ℕ → ℕ → F .f32) (n q r b c : ℕ) (hr : r = n) (hc : c = b + 16) (hS : ∀ k, X q k = S n k)
    (h1 : r < 512) (h2 : q < 80) (hb : b ≤ 112) {k : Prog (TpuEff nD τ sig (Elt F) Λ₀ (Proc.scVector cc jj)) α} :
    iprop(Hd d cc jj rows fullShare (mat X) ∗ Hd d cc jj acc fullShare (mat (addUpTo A S n b))) ⊢
      iprop((Hd d cc jj rows fullShare (mat X) ∗ Hd d cc jj acc fullShare (mat (addUpTo A S n c)) -∗ WP d cc jj k Q)
        -∗ WP d cc jj (addAt rows acc r q b h1 h2 hb k) Q) := by
  subst hr hc
  iintro ⟨Hr, Ha⟩ K
  unfold addAt
  iapply wp_ldV fullShare _ $$ Ha
  iintro Ha
  iapply wp_ldV fullShare X $$ Hr
  iintro Hr
  iapply wp_ldV fullShare _ $$ Ha
  iintro Ha
  iapply wp_stV _ (fun k => FloatOps.addf (addUpTo A S r b r (b + k)) (X q (b + k)))
    (by rw [v16_window, v16_window]; exact lin_add _ _) $$ Ha
  iintro Ha
  rw [addUpTo_step A S X r q b hS]
  iapply K
  isplitl [Hr]
  · iexact Hr
  · iexact Ha

theorem wp_addRow {α : Type} {Q : α → sProp 𝕄} (A S X : ℕ → ℕ → F .f32) (t u : ℕ) (ht : t < 8) (hu : u < 64) (hS : ∀ k, X u k = S (64 * t + u) k)
    {k : Prog (TpuEff nD τ sig (Elt F) Λ₀ (Proc.scVector cc jj)) α} :
    iprop(Hd d cc jj rows fullShare (mat X) ∗ Hd d cc jj acc fullShare (mat (addUpTo A S (64 * t + u) 0))) ⊢
      iprop((Hd d cc jj rows fullShare (mat X) ∗ Hd d cc jj acc fullShare (mat (addUpTo A S (64 * t + (u + 1)) 0)) -∗ WP d cc jj k Q)
        -∗ WP d cc jj (addRow rows acc t u ht hu k) Q) := by
  have h1 := aRow_eq t u ht hu
  have h2 : ∀ k, X (zRow u) k = S (64 * t + u) k := by rw [zRow_eq u (by omega)]; exact hS
  iintro H K
  unfold addRow
  iapply wp_addAt A S X _ _ _ 0 16 h1 rfl h2 _ _ _ $$ H
  iintro H
  iapply wp_addAt A S X _ _ _ 16 32 h1 rfl h2 _ _ _ $$ H
  iintro H
  iapply wp_addAt A S X _ _ _ 32 48 h1 rfl h2 _ _ _ $$ H
  iintro H
  iapply wp_addAt A S X _ _ _ 48 64 h1 rfl h2 _ _ _ $$ H
  iintro H
  iapply wp_addAt A S X _ _ _ 64 80 h1 rfl h2 _ _ _ $$ H
  iintro H
  iapply wp_addAt A S X _ _ _ 80 96 h1 rfl h2 _ _ _ $$ H
  iintro H
  iapply wp_addAt A S X _ _ _ 96 112 h1 rfl h2 _ _ _ $$ H
  iintro H
  iapply wp_addAt A S X _ _ _ 112 128 h1 rfl h2 _ _ _ $$ H
  iintro H
  rw [addUpTo_next, Nat.add_assoc]
  iapply K
  iexact H

/-- Sixty-four rows of a copied table added to the tile's own. -/
theorem wp_addRows {Q : BitVec 32 → sProp 𝕄} (L : Scf.Loop 32) (hL : L.trips = 64) (hok : L.OK) (h : ∀ t : Fin L.trips, t.val < 64) (A S X : ℕ → ℕ → F .f32) (t : ℕ) (ht : t < 8)
    (hS : ∀ u, u < 64 → ∀ k, X u k = S (64 * t + u) k) :
    iprop(Hd d cc jj rows fullShare (mat X) ∗ Hd d cc jj acc fullShare (mat (addUpTo A S (64 * t) 0))) ⊢
      iprop((Hd d cc jj rows fullShare (mat X) ∗ Hd d cc jj acc fullShare (mat (addUpTo A S (64 * (t + 1)) 0)) -∗ ∀ x, Q x)
        -∗ WP d cc jj (Scf.Loop.for L hok 0#32 fun u _ => addRow rows acc t u.val ht (h u) (.ret 0#32)) Q) := by
  iintro H HK
  iapply (wp_loop L hok 0#32 _ (fun n _ => iprop(Hd d cc jj rows fullShare (mat X) ∗ Hd d cc jj acc fullShare (mat (addUpTo A S (64 * t + n) 0)))) ?_) $$ [H]
  · intro u x
    iintro H
    iapply wp_addRow A S X t u.val ht (h u) (hS u.val (h u)) $$ H
    iintro H
    iapply wp_done
    iexact H
  · iexact H
  · iintro %x H
    rw [hL]
    iapply HK $$ H

end Steps

end Cert.Proof.Pool

end
-- ==== Proof.Pieces.lean ====
/-
  The kernel's long stretches inside its three loops over a chunk's groups, each the piece of Group.lean it spells out.
-/
module

public import proofs.«01_k».proof.Proof.Match
public import proofs.«01_k».proof.Proof.Loops
public import proofs.«01_k».proof.Proof.Copy

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 6) (Elt F) ℕ UU ℕ

section
variable (i : grid0.Coords) (arg2 : Memref sig .scVector .hbm S160000x256 .f32) (harg2 : arg2.IsWhole) (arg3 : Memref sig .scVector .hbm S160000 .i32) (harg3 : arg3.IsWhole) (arg4 : Memref sig .scVector .hbm S2x512x256 .f32) (harg4 : arg4.IsWhole) (arg5 : Memref sig .scVector .hbm S16x8192 .f32) (harg5 : arg5.IsWhole) (arg6 : Memref sig .scVector .vmem S512x128 .f32) (harg6 : arg6.IsWhole) (arg7 : Memref sig .scVector .vmem S8192 .f32) (harg7 : arg7.IsWhole) (arg8 : Memref sig .scVector .smem S1 .i32) (harg8 : arg8.IsWhole) (arg9 : Memref sig .scVector .vmem S80 .i32) (harg9 : arg9.IsWhole) (arg10 : Memref sig .scVector .vmem S80 .i32) (harg10 : arg10.IsWhole) (arg11 : Memref sig .scVector .vmem S80x128 .f32) (harg11 : arg11.IsWhole) (arg12 : Memref sig .scVector .vmem S80x128 .f32) (harg12 : arg12.IsWhole) (arg13 : Memref sig .scVector .vmem S9x16 .f32) (harg13 : arg13.IsWhole) (arg14 : DmaSems sig S_) (arg15 : DmaSems sig S_) (arg16 : DmaSems sig S_) (arg17 : DmaSems sig S_) (arg18 : Memref sig .scVector .shared S8x512x128 .f32) (harg18 : arg18.IsWhole) (v322_r0 : DmaSems sig S_) (v327_r1 : DmaSems sig S_) (v322_r2 : DmaSems sig S_) (v327_r3 : DmaSems sig S_) (v322_r4 : DmaSems sig S_) (v327_r5 : DmaSems sig S_) (v323_r6 : DmaSems sig S_) (v322_r7 : DmaSems sig S_)

theorem trips1 (t : Fin k0_t1_loop.trips) : t.val < 512 := lt_of_lt_of_eq t.isLt (by decide)
theorem trips3 (t : Fin k0_t3_loop.trips) : t.val < 5 := lt_of_lt_of_eq t.isLt (by decide)
theorem trips4 (t : Fin k0_t4_loop.trips) : t.val < 5 := lt_of_lt_of_eq t.isLt (by decide)

section Pieces3
variable (t : Fin k0_t3_loop.trips) (one : FVec F S16 .f32) (v : IVec S16 32) (a b c : BitVec 32)
theorem fast3 : k0_part17 (F := F) i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 t (Scalar.muli (Scf.iv 0#32 1#32 t) 16#32) = fastP arg11 arg13 t.val (trips3 t) fun s w => .ret ⟨s, w⟩ := rfl
theorem slow3a (h : k0_cond2 a b c = 1#1) : k0_part98 i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 one t v a b (Scalar.muli (Scf.iv 0#32 1#32 t) 16#32) c h = piece1 arg11 arg13 arg6 arg7 arg8 checks3 t.val (trips3 t) one v a b c h := rfl
theorem slow3b (h : k0_cond2 a b c = 1#1) (bit : BitVec 1) : k0_part99 i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 one t v a b (Scalar.muli (Scf.iv 0#32 1#32 t) 16#32) c h bit = piece2 arg11 arg13 arg6 arg7 arg8 checks3 t.val (trips3 t) one v a b c h bit := rfl
theorem slow3c (h : k0_cond2 a b c = 1#1) (id c' : BitVec 32) (hw) (w : BitVec 32) : k0_part100 i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 one t v a b (Scalar.muli (Scf.iv 0#32 1#32 t) 16#32) c h id c' hw w = piece3 arg11 arg13 arg6 arg7 arg8 checks3 t.val (trips3 t) one v a b c h id c' hw := rfl
theorem slow3d (h : k0_cond2 a b c = 1#1) (id : BitVec 32) : k0_part101 i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 one t v a b (Scalar.muli (Scf.iv 0#32 1#32 t) 16#32) c h id = piece4 arg11 arg13 arg6 arg7 arg8 checks3 t.val (trips3 t) one v a b c h id := rfl
end Pieces3

section Pieces4
variable (t : Fin k0_t4_loop.trips) (one : FVec F S16 .f32) (v : IVec S16 32) (a b c : BitVec 32)
theorem fast4 : k0_part118 (F := F) i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 t (Scalar.muli (Scf.iv 0#32 1#32 t) 16#32) = fastP arg12 arg13 t.val (trips4 t) fun s w => .ret ⟨s, w⟩ := rfl
theorem slow4a (h : k0_cond36 a b c = 1#1) : k0_part199 i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 one t v a b (Scalar.muli (Scf.iv 0#32 1#32 t) 16#32) c h = piece1 arg12 arg13 arg6 arg7 arg8 checks4 t.val (trips4 t) one v a b c h := rfl
theorem slow4b (h : k0_cond36 a b c = 1#1) (bit : BitVec 1) : k0_part200 i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 one t v a b (Scalar.muli (Scf.iv 0#32 1#32 t) 16#32) c h bit = piece2 arg12 arg13 arg6 arg7 arg8 checks4 t.val (trips4 t) one v a b c h bit := rfl
theorem slow4c (h : k0_cond36 a b c = 1#1) (id c' : BitVec 32) (hw) (w : BitVec 32) : k0_part201 i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 one t v a b (Scalar.muli (Scf.iv 0#32 1#32 t) 16#32) c h id c' hw w = piece3 arg12 arg13 arg6 arg7 arg8 checks4 t.val (trips4 t) one v a b c h id c' hw := rfl
theorem slow4d (h : k0_cond36 a b c = 1#1) (id : BitVec 32) : k0_part202 i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 one t v a b (Scalar.muli (Scf.iv 0#32 1#32 t) 16#32) c h id = piece4 arg12 arg13 arg6 arg7 arg8 checks4 t.val (trips4 t) one v a b c h id := rfl
end Pieces4

section Pieces5
variable (t : Fin k0_t5_loop.trips) (one : FVec F S16 .f32) (v : IVec S16 32) (a b c : BitVec 32)
theorem fast5 : k0_part220 (F := F) i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 t (Scalar.muli (Scf.iv 0#32 1#32 t) 16#32) = fastP arg11 arg13 t.val (trips5 t) fun s w => .ret ⟨s, w⟩ := rfl
theorem slow5a (h : k0_cond70 a b c = 1#1) : k0_part301 i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 one t v a b (Scalar.muli (Scf.iv 0#32 1#32 t) 16#32) c h = piece1 arg11 arg13 arg6 arg7 arg8 checks5 t.val (trips5 t) one v a b c h := rfl
theorem slow5b (h : k0_cond70 a b c = 1#1) (bit : BitVec 1) : k0_part302 i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 one t v a b (Scalar.muli (Scf.iv 0#32 1#32 t) 16#32) c h bit = piece2 arg11 arg13 arg6 arg7 arg8 checks5 t.val (trips5 t) one v a b c h bit := rfl
theorem slow5c (h : k0_cond70 a b c = 1#1) (id c' : BitVec 32) (hw) (w : BitVec 32) : k0_part303 i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 one t v a b (Scalar.muli (Scf.iv 0#32 1#32 t) 16#32) c h id c' hw w = piece3 arg11 arg13 arg6 arg7 arg8 checks5 t.val (trips5 t) one v a b c h id c' hw := rfl
theorem slow5d (h : k0_cond70 a b c = 1#1) (id : BitVec 32) : k0_part304 i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 one t v a b (Scalar.muli (Scf.iv 0#32 1#32 t) 16#32) c h id = piece4 arg11 arg13 arg6 arg7 arg8 checks5 t.val (trips5 t) one v a b c h id := rfl
end Pieces5

end

end Cert.Proof.Pool

end
-- ==== Proof.Window.lean ====
/-
  The windows of the tile's program, each as the pieces of Group.lean and Loops.lean.
-/
module

public import proofs.«01_k».proof.Proof.Pieces
public import proofs.«01_k».proof.Proof.Loops
public import proofs.«01_k».proof.Proof.Copy

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 6) (Elt F) ℕ UU ℕ

section
variable (i : grid0.Coords) (arg2 : Memref sig .scVector .hbm S160000x256 .f32) (harg2 : arg2.IsWhole) (arg3 : Memref sig .scVector .hbm S160000 .i32) (harg3 : arg3.IsWhole) (arg4 : Memref sig .scVector .hbm S2x512x256 .f32) (harg4 : arg4.IsWhole) (arg5 : Memref sig .scVector .hbm S16x8192 .f32) (harg5 : arg5.IsWhole) (arg6 : Memref sig .scVector .vmem S512x128 .f32) (harg6 : arg6.IsWhole) (arg7 : Memref sig .scVector .vmem S8192 .f32) (harg7 : arg7.IsWhole) (arg8 : Memref sig .scVector .smem S1 .i32) (harg8 : arg8.IsWhole) (arg9 : Memref sig .scVector .vmem S80 .i32) (harg9 : arg9.IsWhole) (arg10 : Memref sig .scVector .vmem S80 .i32) (harg10 : arg10.IsWhole) (arg11 : Memref sig .scVector .vmem S80x128 .f32) (harg11 : arg11.IsWhole) (arg12 : Memref sig .scVector .vmem S80x128 .f32) (harg12 : arg12.IsWhole) (arg13 : Memref sig .scVector .vmem S9x16 .f32) (harg13 : arg13.IsWhole) (arg14 : DmaSems sig S_) (arg15 : DmaSems sig S_) (arg16 : DmaSems sig S_) (arg17 : DmaSems sig S_) (arg18 : Memref sig .scVector .shared S8x512x128 .f32) (harg18 : arg18.IsWhole) (v322_r0 : DmaSems sig S_) (v327_r1 : DmaSems sig S_) (v322_r2 : DmaSems sig S_) (v327_r3 : DmaSems sig S_) (v322_r4 : DmaSems sig S_) (v327_r5 : DmaSems sig S_) (v323_r6 : DmaSems sig S_) (v322_r7 : DmaSems sig S_)

theorem fastP_bind {cc : Fin τ.nSC} {jj : Fin τ.nSub} {α β : Type} (rows : Memref sig .scVector .vmem S80x128 .f32) (run : Memref sig .scVector .vmem S9x16 .f32) (t : ℕ) (ht : t < 5)
    (k : FVec F S16 .f32 → Vec F S1x16 .f32 → Prog (TpuEff nD τ sig (Elt F) Λ₀ (Proc.scVector cc jj)) α) (f : α → Prog (TpuEff nD τ sig (Elt F) Λ₀ (Proc.scVector cc jj)) β) :
    (fastP rows run t ht k).bind f = fastP rows run t ht fun s w => (k s w).bind f := rfl

set_option maxHeartbeats 2000000 in
theorem part314_eq (v18 v28 v102 c80 : BitVec 32) (v47 : FVec F S16 .f32) :
    k0_part314 i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 v18 v28 v47 v102 c80
      = .op (.waitDma2 arg14.sem (arg3.slice (Rect.unit (s := S160000) (k0_off10 i 124#32) S80.size (k0_off10_inb i 1)) (fun _ => rfl)) arg9 (View.wordExact_bits rfl) harg9.wordExact) fun _ =>
        .op (.waitDma2 arg16.sem (arg2.slice (Rect.unit (s := S160000x256) (k0_off11 i 124#32) S80x128.size (k0_off11_inb i 1)) (fun _ => rfl)) arg11 (View.wordExact_bits rfl) harg11.wordExact) fun _ =>
        (Scf.Loop.for k0_t5_loop k0_t5_ok 0#32 fun t _ => groupP arg9 arg11 arg13 arg6 arg7 arg8 checks5 t.val (trips5 t) v47 0#32) >>= fun _ =>
        ldCur arg8 fun c => .op (.assume (k0_chk49 c) (k0_chk49.dec c)) fun h =>
          flushBlk arg13 arg6 0 0 (accRow c) (accRow_of (k0_off1243_inb c h.down)) (by omega) (by omega) <|
          flushBlk arg13 arg6 1 16 (accRow c) (accRow_of (k0_off1243_inb c h.down)) (by omega) (by omega) <|
          ldV arg13 2 0 (inRun 2 (by omega)) fun w => ldV arg6 (accRow c) 32 (inAcc (accRow c) 32 (accRow_of (k0_off1243_inb c h.down)) (by omega)) fun _ =>
            .ret ⟨c, h.down, Scalar.maxsi c 0#32, shapeCast S1x16 (v16 w) shapeCasts_S16_S1x16⟩ := by
  unfold k0_part314
  dsimp only [fast5, slow5a, slow5b, slow5c, slow5d]
  refine congrArg (Prog.op _) (funext fun _ => congrArg (Prog.op _) (funext fun _ => ?_))
  refine congrArg₂ Bind.bind (congrArg _ (funext fun t => funext fun _ => ?_)) (funext fun _ => rfl)
  refine congrArg (Prog.op _) (funext fun u => congrArg (Prog.op _) (funext fun c => ite_congr rfl (fun _ => ?_) (fun _ => ?_)))
  · refine (fastP_bind _ _ _ _ _ _).trans (congrArg (fastP _ _ _ _) (funext fun s => funext fun w => congrArg (Prog.op _) (funext fun _ => ?_)))
    refine dite_congr rfl (fun h => ?_) (fun _ => rfl)
    refine congrArg₂ Bind.bind rfl (funext fun _ => congrArg₂ Bind.bind rfl (funext fun _ => congrArg₂ Bind.bind rfl (funext fun _ => congrArg₂ Bind.bind rfl (funext fun _ => ?_))))
    rfl
  · refine dite_congr rfl (fun h => ?_) (fun _ => rfl)
    refine congrArg₂ Bind.bind rfl (funext fun _ => congrArg₂ Bind.bind rfl (funext fun _ => congrArg₂ Bind.bind rfl (funext fun _ => congrArg₂ Bind.bind rfl (funext fun _ => ?_))))
    rfl

set_option maxHeartbeats 2000000 in
theorem part203_eq (v18 v28 : BitVec 32) (v47 : FVec F S16 .f32) (t : Fin k0_t2_loop.trips) : ∃ r,
    k0_part203 i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 v18 v28 v47 0#32 1#32 t
      = .op (.enqueueDma (arg3.slice (Rect.unit (s := S160000) (k0_off12 i t 1#32) S80.size (k0_off12_inb i t 0)) (fun _ => rfl)) (.here arg10) (.dma arg15.sem) (View.wordExact_bits rfl) harg10.wordExact ⟨Or.inl rfl, trivial⟩) fun _ =>
        .op (.enqueueDma (arg2.slice (Rect.unit (s := S160000x256) (k0_off13 i t 1#32) S80x128.size (k0_off13_inb i t 0)) (fun _ => rfl)) (.here arg12) (.dma arg17.sem) (View.wordExact_bits rfl) harg12.wordExact ⟨Or.inl rfl, trivial⟩) fun _ =>
        .op (.waitDma2 arg14.sem (arg3.slice (Rect.unit (s := S160000) (k0_off14 i t) S80.size (k0_off14_inb i t)) (fun _ => rfl)) arg9 (View.wordExact_bits rfl) harg9.wordExact) fun _ =>
        .op (.waitDma2 arg16.sem (arg2.slice (Rect.unit (s := S160000x256) (k0_off15 i t) S80x128.size (k0_off15_inb i t)) (fun _ => rfl)) arg11 (View.wordExact_bits rfl) harg11.wordExact) fun _ =>
        (Scf.Loop.for k0_t3_loop k0_t3_ok 0#32 fun t _ => groupP arg9 arg11 arg13 arg6 arg7 arg8 checks3 t.val (trips3 t) v47 0#32) >>= fun _ =>
        .op (.enqueueDma (arg3.slice (Rect.unit (s := S160000) (k0_off12 i t 2#32) S80.size (k0_off12_inb i t 1)) (fun _ => rfl)) (.here arg9) (.dma arg14.sem) (View.wordExact_bits rfl) harg9.wordExact ⟨Or.inl rfl, trivial⟩) fun _ => .ret r := by
  apply Exists.intro
  unfold k0_part203
  dsimp only [fast3, slow3a, slow3b, slow3c, slow3d]
  refine congrArg (Prog.op _) (funext fun _ => congrArg (Prog.op _) (funext fun _ => congrArg (Prog.op _) (funext fun _ => congrArg (Prog.op _) (funext fun _ => ?_))))
  refine congrArg₂ Bind.bind (congrArg _ (funext fun t => funext fun _ => ?_)) (funext fun _ => rfl)
  refine congrArg (Prog.op _) (funext fun u => congrArg (Prog.op _) (funext fun c => ite_congr rfl (fun _ => ?_) (fun _ => ?_)))
  · refine (fastP_bind _ _ _ _ _ _).trans (congrArg (fastP _ _ _ _) (funext fun s => funext fun w => congrArg (Prog.op _) (funext fun _ => ?_)))
    refine dite_congr rfl (fun h => ?_) (fun _ => rfl)
    refine congrArg₂ Bind.bind rfl (funext fun _ => congrArg₂ Bind.bind rfl (funext fun _ => congrArg₂ Bind.bind rfl (funext fun _ => congrArg₂ Bind.bind rfl (funext fun _ => ?_))))
    rfl
  · refine dite_congr rfl (fun h => ?_) (fun _ => rfl)
    refine congrArg₂ Bind.bind rfl (funext fun _ => congrArg₂ Bind.bind rfl (funext fun _ => congrArg₂ Bind.bind rfl (funext fun _ => congrArg₂ Bind.bind rfl (funext fun _ => ?_))))
    rfl

set_option maxHeartbeats 2000000 in
theorem part313_eq (v18 v28 : BitVec 32) (v46 v47 : FVec F S16 .f32) : ∃ r,
    k0_part313 i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 v18 v28 v46 v47
      = (zeroRun arg13 v46 5 (by omega) <| zeroRun arg13 v46 6 (by omega) <| zeroRun arg13 v46 7 (by omega) <| zeroRun arg13 v46 8 (by omega) <|
        .op (.enqueueDma (arg3.slice (Rect.unit (s := S160000) (k0_off10 i 0#32) S80.size (k0_off10_inb i 0)) (fun _ => rfl)) (.here arg9) (.dma arg14.sem) (View.wordExact_bits rfl) harg9.wordExact ⟨Or.inl rfl, trivial⟩) fun _ =>
        .op (.enqueueDma (arg2.slice (Rect.unit (s := S160000x256) (k0_off11 i 0#32) S80x128.size (k0_off11_inb i 0)) (fun _ => rfl)) (.here arg11) (.dma arg16.sem) (View.wordExact_bits rfl) harg11.wordExact ⟨Or.inl rfl, trivial⟩) fun _ =>
        (Scf.Loop.for k0_t2_loop k0_t2_ok 0#32 fun t _ => k0_part203 i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 v18 v28 v47 0#32 1#32 t >>= fun _ =>
          .op (.enqueueDma (arg2.slice (Rect.unit (s := S160000x256) (k0_off13 i t 2#32) S80x128.size (k0_off13_inb i t 1)) (fun _ => rfl)) (.here arg11) (.dma arg16.sem) (View.wordExact_bits rfl) harg11.wordExact ⟨Or.inl rfl, trivial⟩) fun _ =>
          .op (.waitDma2 arg15.sem (arg3.slice (Rect.unit (s := S160000) (k0_off12 i t 1#32) S80.size (k0_off12_inb i t 0)) (fun _ => rfl)) arg10 (View.wordExact_bits rfl) harg10.wordExact) fun _ =>
          .op (.waitDma2 arg17.sem (arg2.slice (Rect.unit (s := S160000x256) (k0_off13 i t 1#32) S80x128.size (k0_off13_inb i t 0)) (fun _ => rfl)) arg12 (View.wordExact_bits rfl) harg12.wordExact) fun _ =>
          (Scf.Loop.for k0_t4_loop k0_t4_ok 0#32 fun t _ => groupP arg10 arg12 arg13 arg6 arg7 arg8 checks4 t.val (trips4 t) v47 0#32) >>= fun _ => .ret 0#32) >>= fun _ => .ret r) := by
  apply Exists.intro
  unfold k0_part313
  dsimp only [fast4, slow4a, slow4b, slow4c, slow4d]
  unfold zeroRun ldV stV
  iterate 10 refine congrArg (Prog.op _) (funext fun _ => ?_)
  refine congrArg₂ Bind.bind (congrArg _ (funext fun t => funext fun _ => ?_)) (funext fun _ => rfl)
  refine congrArg₂ Bind.bind rfl (funext fun _ => ?_)
  iterate 3 refine congrArg (Prog.op _) (funext fun _ => ?_)
  refine congrArg₂ Bind.bind (congrArg _ (funext fun t => funext fun _ => ?_)) (funext fun _ => rfl)
  refine congrArg (Prog.op _) (funext fun u => congrArg (Prog.op _) (funext fun c => ite_congr rfl (fun _ => ?_) (fun _ => ?_)))
  · refine (fastP_bind _ _ _ _ _ _).trans (congrArg (fastP _ _ _ _) (funext fun s => funext fun w => congrArg (Prog.op _) (funext fun _ => ?_)))
    refine dite_congr rfl (fun h => ?_) (fun _ => rfl)
    refine congrArg₂ Bind.bind rfl (funext fun _ => congrArg₂ Bind.bind rfl (funext fun _ => congrArg₂ Bind.bind rfl (funext fun _ => congrArg₂ Bind.bind rfl (funext fun _ => ?_))))
    rfl
  · refine dite_congr rfl (fun h => ?_) (fun _ => rfl)
    refine congrArg₂ Bind.bind rfl (funext fun _ => congrArg₂ Bind.bind rfl (funext fun _ => congrArg₂ Bind.bind rfl (funext fun _ => congrArg₂ Bind.bind rfl (funext fun _ => ?_))))
    rfl

end

end Cert.Proof.Pool

end
-- ==== Proof.Steps.lean ====
/-
  The rest of the tile's program: the first and the last windows, and the three steps of the reduction.
-/
module

public import proofs.«01_k».proof.Proof.Window
public import proofs.«01_k».proof.Proof.Loops
public import proofs.«01_k».proof.Proof.Copy

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 6) (Elt F) ℕ UU ℕ

section
variable (i : grid0.Coords) (arg2 : Memref sig .scVector .hbm S160000x256 .f32) (harg2 : arg2.IsWhole) (arg3 : Memref sig .scVector .hbm S160000 .i32) (harg3 : arg3.IsWhole) (arg4 : Memref sig .scVector .hbm S2x512x256 .f32) (harg4 : arg4.IsWhole) (arg5 : Memref sig .scVector .hbm S16x8192 .f32) (harg5 : arg5.IsWhole) (arg6 : Memref sig .scVector .vmem S512x128 .f32) (harg6 : arg6.IsWhole) (arg7 : Memref sig .scVector .vmem S8192 .f32) (harg7 : arg7.IsWhole) (arg8 : Memref sig .scVector .smem S1 .i32) (harg8 : arg8.IsWhole) (arg9 : Memref sig .scVector .vmem S80 .i32) (harg9 : arg9.IsWhole) (arg10 : Memref sig .scVector .vmem S80 .i32) (harg10 : arg10.IsWhole) (arg11 : Memref sig .scVector .vmem S80x128 .f32) (harg11 : arg11.IsWhole) (arg12 : Memref sig .scVector .vmem S80x128 .f32) (harg12 : arg12.IsWhole) (arg13 : Memref sig .scVector .vmem S9x16 .f32) (harg13 : arg13.IsWhole) (arg14 : DmaSems sig S_) (arg15 : DmaSems sig S_) (arg16 : DmaSems sig S_) (arg17 : DmaSems sig S_) (arg18 : Memref sig .scVector .shared S8x512x128 .f32) (harg18 : arg18.IsWhole) (v322_r0 : DmaSems sig S_) (v327_r1 : DmaSems sig S_) (v322_r2 : DmaSems sig S_) (v327_r3 : DmaSems sig S_) (v322_r4 : DmaSems sig S_) (v327_r5 : DmaSems sig S_) (v323_r6 : DmaSems sig S_) (v322_r7 : DmaSems sig S_)

/-- The halves of the staging tables. -/
abbrev slotM (off : Fin 3 → ℕ) (h : ∀ a, off a + S1x512x128.size a ≤ S8x512x128.size a) : Memref sig .scVector .shared S512x128 .f32 :=
  (arg18.slice (Rect.unit (s := S8x512x128) off S1x512x128.size h) (fun _ => rfl)).squeeze S512x128 squeezes_S1x512x128_S512x128
abbrev slabM (off : Fin 3 → ℕ) (h : ∀ a, off a + S1x64x128.size a ≤ S8x512x128.size a) : Memref sig .scVector .shared S64x128 .f32 :=
  (arg18.slice (Rect.unit (s := S8x512x128) off S1x64x128.size h) (fun _ => rfl)).squeeze S64x128 squeezes_S1x64x128_S64x128
abbrev rows64 : Memref sig .scVector .vmem S64x128 .f32 := arg11.slice (Rect.unit (s := S80x128) ![0, 0] S64x128.size inb_S80x128_S64x128_0_0) (fun _ => rfl)
abbrev sumsM (off : Fin 3 → ℕ) (h : ∀ a, off a + S1x512x128.size a ≤ S2x512x256.size a) : Memref sig .scVector .hbm S512x128 .f32 :=
  (arg4.slice (Rect.unit (s := S2x512x256) off S1x512x128.size h) (fun _ => rfl)).squeeze S512x128 squeezes_S1x512x128_S512x128
abbrev cntsM (off : Fin 2 → ℕ) (h : ∀ a, off a + S1x8192.size a ≤ S16x8192.size a) : Memref sig .scVector .hbm S8192 .f32 :=
  (arg5.slice (Rect.unit (s := S16x8192) off S1x8192.size h) (fun _ => rfl)).squeeze S8192 squeezes_S1x8192_S8192

abbrev PR (α : Type) := Prog (TpuEff nD τ sig (Elt F) Λ₀ (.scVector ((i 0).castLE hcore0) ((i 1).castLE hsub0))) α
/-- The barrier of the subcores. -/
def bar : PR (F := F) i PUnit := SparseCore.subcoreBarrier sc_bar0 (grid0.bound 1) hsub0

theorem trips6 : ∀ t : Fin k0_t6_loop.trips, t.val < 8 := fun t => t.isLt
theorem trips7 : ∀ t : Fin k0_t7_loop.trips, t.val < 64 := fun t => t.isLt
theorem trips8 : ∀ t : Fin k0_t8_loop.trips, t.val < 8 := fun t => t.isLt
theorem trips9 : ∀ t : Fin k0_t9_loop.trips, t.val < 64 := fun t => t.isLt
theorem trips10 : ∀ t : Fin k0_t10_loop.trips, t.val < 8 := fun t => t.isLt
theorem trips11 : ∀ t : Fin k0_t11_loop.trips, t.val < 64 := fun t => t.isLt

theorem part311_eq : ∃ r, k0_part311 (F := F) i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 = .ret r := ⟨_, rfl⟩

theorem part312_eq (a b c d e f : BitVec 32) : ∃ v45 : BitVec 32, k0_part312 (F := F) i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 a b c d e f
    = (Scf.Loop.for k0_t1_loop k0_t1_ok 0#32 fun t _ => zeroRow arg6 arg7 (broadcast S16 (Scalar.ofBits .f32 0x00000000#32)) t.val (trips1 t) (.ret 0#32)) >>= fun _ =>
      ldCur arg8 fun _ => stCur arg8 4294967295#32 <| zeroRun arg13 (broadcast S16 (Scalar.ofBits .f32 0x00000000#32)) 0 (by omega) <| zeroRun arg13 (broadcast S16 (Scalar.ofBits .f32 0x00000000#32)) 1 (by omega) <|
      zeroRun arg13 (broadcast S16 (Scalar.ofBits .f32 0x00000000#32)) 2 (by omega) <| zeroRun arg13 (broadcast S16 (Scalar.ofBits .f32 0x00000000#32)) 3 (by omega) <|
      zeroRun arg13 (broadcast S16 (Scalar.ofBits .f32 0x00000000#32)) 4 (by omega) <| .ret ⟨v45, broadcast S16 (Scalar.ofBits .f32 0x00000000#32), broadcast S16 (Scalar.ofBits .f32 0x3F800000#32)⟩ := ⟨_, rfl⟩

/-- A table sent to the staging tables, or not; the barrier follows. -/
def send1 {α : Type} (k : PR (F := F) i α) : PR (F := F) i α :=
  if h : k0_cond103 i = 1#1 then
    .op (.enqueueDma arg6 (.here (slotM arg18 (k0_off1252 i) (k0_off1252_inb i h))) (.dma v322_r0.sem) harg6.wordExact ((View.wordExact_bits rfl).reshape _ _) ⟨Or.inl rfl, trivial⟩) fun _ =>
    .op (.waitDma2 v322_r0.sem arg6 (slotM arg18 (k0_off1252 i) (k0_off1252_inb i h)) harg6.wordExact ((View.wordExact_bits rfl).reshape _ _)) fun _ =>
    (bar i).bind fun _ => k
  else (bar i).bind fun _ => k
/-- A staged table added to the tile's own, or not; the barrier follows. -/
def slab1 {α : Type} (k : PR (F := F) i α) : PR (F := F) i α :=
  if h : k0_cond104 i = 1#1 then
    (Scf.Loop.for k0_t6_loop (k0_t6_ok i h) 0#32 fun t _ =>
      .op (.enqueueDma (slabM arg18 (k0_off1253 i t) (k0_off1253_inb i t h)) (.here (rows64 arg11)) (.dma v327_r1.sem) ((View.wordExact_bits rfl).reshape _ _) (View.wordExact_bits rfl) ⟨Or.inl rfl, trivial⟩) fun _ =>
      .op (.waitDma2 v327_r1.sem (slabM arg18 (k0_off1253 i t) (k0_off1253_inb i t h)) (rows64 arg11) ((View.wordExact_bits rfl).reshape _ _) (View.wordExact_bits rfl)) fun _ =>
      (Scf.Loop.for k0_t7_loop (k0_t7_ok i h) 0#32 fun u _ => addRow arg11 arg6 t.val u.val (trips6 t) (trips7 u) (.ret 0#32)).bind fun _ => .ret 0#32).bind fun _ =>
    (bar i).bind fun _ => k
  else (bar i).bind fun _ => k
/-- A table sent to the staging tables, or not; the barrier follows. -/
def send2 {α : Type} (k : PR (F := F) i α) : PR (F := F) i α :=
  if h : k0_cond105 i = 1#1 then
    .op (.enqueueDma arg6 (.here (slotM arg18 (k0_off1270 i) (k0_off1270_inb i h))) (.dma v322_r2.sem) harg6.wordExact ((View.wordExact_bits rfl).reshape _ _) ⟨Or.inl rfl, trivial⟩) fun _ =>
    .op (.waitDma2 v322_r2.sem arg6 (slotM arg18 (k0_off1270 i) (k0_off1270_inb i h)) harg6.wordExact ((View.wordExact_bits rfl).reshape _ _)) fun _ =>
    (bar i).bind fun _ => k
  else (bar i).bind fun _ => k
/-- A staged table added to the tile's own, or not; the barrier follows. -/
def slab2 {α : Type} (k : PR (F := F) i α) : PR (F := F) i α :=
  if h : k0_cond106 i = 1#1 then
    (Scf.Loop.for k0_t8_loop (k0_t8_ok i h) 0#32 fun t _ =>
      .op (.enqueueDma (slabM arg18 (k0_off1271 i t) (k0_off1271_inb i t h)) (.here (rows64 arg11)) (.dma v327_r3.sem) ((View.wordExact_bits rfl).reshape _ _) (View.wordExact_bits rfl) ⟨Or.inl rfl, trivial⟩) fun _ =>
      .op (.waitDma2 v327_r3.sem (slabM arg18 (k0_off1271 i t) (k0_off1271_inb i t h)) (rows64 arg11) ((View.wordExact_bits rfl).reshape _ _) (View.wordExact_bits rfl)) fun _ =>
      (Scf.Loop.for k0_t9_loop (k0_t9_ok i h) 0#32 fun u _ => addRow arg11 arg6 t.val u.val (trips8 t) (trips9 u) (.ret 0#32)).bind fun _ => .ret 0#32).bind fun _ =>
    (bar i).bind fun _ => k
  else (bar i).bind fun _ => k
/-- A table sent to the staging tables, or not; the barrier follows. -/
def send3 {α : Type} (k : PR (F := F) i α) : PR (F := F) i α :=
  if h : k0_cond107 i = 1#1 then
    .op (.enqueueDma arg6 (.here (slotM arg18 (k0_off1288 i) (k0_off1288_inb i h))) (.dma v322_r4.sem) harg6.wordExact ((View.wordExact_bits rfl).reshape _ _) ⟨Or.inl rfl, trivial⟩) fun _ =>
    .op (.waitDma2 v322_r4.sem arg6 (slotM arg18 (k0_off1288 i) (k0_off1288_inb i h)) harg6.wordExact ((View.wordExact_bits rfl).reshape _ _)) fun _ =>
    (bar i).bind fun _ => k
  else (bar i).bind fun _ => k
/-- A staged table added to the tile's own, or not; the barrier follows. -/
def slab3 {α : Type} (k : PR (F := F) i α) : PR (F := F) i α :=
  if h : k0_cond108 i = 1#1 then
    (Scf.Loop.for k0_t10_loop (k0_t10_ok i h) 0#32 fun t _ =>
      .op (.enqueueDma (slabM arg18 (k0_off1289 i t) (k0_off1289_inb i t h)) (.here (rows64 arg11)) (.dma v327_r5.sem) ((View.wordExact_bits rfl).reshape _ _) (View.wordExact_bits rfl) ⟨Or.inl rfl, trivial⟩) fun _ =>
      .op (.waitDma2 v327_r5.sem (slabM arg18 (k0_off1289 i t) (k0_off1289_inb i t h)) (rows64 arg11) ((View.wordExact_bits rfl).reshape _ _) (View.wordExact_bits rfl)) fun _ =>
      (Scf.Loop.for k0_t11_loop (k0_t11_ok i h) 0#32 fun u _ => addRow arg11 arg6 t.val u.val (trips10 t) (trips11 u) (.ret 0#32)).bind fun _ => .ret 0#32).bind fun _ =>
    (bar i).bind fun _ => k
  else (bar i).bind fun _ => k
/-- The first tile of a group sends the core's sums out. -/
def out1 {α : Type} (k : PR (F := F) i α) : PR (F := F) i α :=
  if h : k0_cond109 i = 1#1 then
    .op (.enqueueDma arg6 (.here (sumsM arg4 (k0_off1306 i) (k0_off1306_inb i h))) (.dma v323_r6.sem) harg6.wordExact ((View.wordExact_bits rfl).reshape _ _) ⟨Or.inl rfl, trivial⟩) fun _ =>
    .op (.waitDma2 v323_r6.sem arg6 (sumsM arg4 (k0_off1306 i) (k0_off1306_inb i h)) harg6.wordExact ((View.wordExact_bits rfl).reshape _ _)) fun _ => k
  else k
/-- A tile of the first half sends its counts out. -/
def out2 {α : Type} (k : PR (F := F) i α) : PR (F := F) i α :=
  if h : k0_cond110 i = 1#1 then
    .op (.enqueueDma arg7 (.here (cntsM arg5 (k0_off1307 i) (k0_off1307_inb i h))) (.dma v322_r7.sem) harg7.wordExact ((View.wordExact_bits rfl).reshape _ _) ⟨Or.inl rfl, trivial⟩) fun _ =>
    .op (.waitDma2 v322_r7.sem arg7 (cntsM arg5 (k0_off1307 i) (k0_off1307_inb i h)) harg7.wordExact ((View.wordExact_bits rfl).reshape _ _)) fun _ => k
  else k

theorem flush_eq {β : Type} (v28 v45 : BitVec 32) (R : BitVec 32 → PR (F := F) i β) :
    (ldCur arg8 fun c => .op (.assume (k0_chk49 c) (k0_chk49.dec c)) fun h =>
          flushBlk arg13 arg6 0 0 (accRow c) (accRow_of (k0_off1243_inb c h.down)) (by omega) (by omega) <|
          flushBlk arg13 arg6 1 16 (accRow c) (accRow_of (k0_off1243_inb c h.down)) (by omega) (by omega) <|
          ldV arg13 2 0 (inRun 2 (by omega)) fun w => ldV arg6 (accRow c) 32 (inAcc (accRow c) 32 (accRow_of (k0_off1243_inb c h.down)) (by omega)) fun _ =>
            .ret ⟨c, h.down, Scalar.maxsi c 0#32, shapeCast S1x16 (v16 w) shapeCasts_S16_S1x16⟩).bind (fun r : Σ' (v115 : Elt F .i32) (k0_hw49 : k0_chk49 v115) (v116 : BitVec 32), FVec F S1x16 .f32 =>
      (k0_part315 (F := F) i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 r.1 r.2.1 r.2.2.1 r.2.2.2).bind fun v => (k0_part316 (F := F) i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 v28 v45 r.1 r.2.1 r.2.2.1 v).bind R)
    = ldCur arg8 fun c => .op (.assume (k0_chk49 c) (k0_chk49.dec c)) fun h =>
        flushP arg13 arg6 arg7 c (accRow_of (k0_off1243_inb c h.down)) ((send1 (F := F) i arg6 harg6 arg18 v322_r0 (.ret 2#32)).bind R) := rfl

theorem part317_eq (a b c : BitVec 32) : ∃ r, k0_part317 (F := F) i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 a b c = slab1 (F := F) i arg6 arg11 arg18 v327_r1 (.ret r) := ⟨_, rfl⟩
theorem part318_eq (a b c : BitVec 32) (d e : BitVec 1) : ∃ r, k0_part318 (F := F) i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 a b c d e
    = send2 (F := F) i arg6 harg6 arg18 v322_r2 (slab2 (F := F) i arg6 arg11 arg18 v327_r3 (.ret r)) := ⟨_, rfl⟩
theorem part319_eq (a b c : BitVec 32) (d : BitVec 1) (e : BitVec 32) : ∃ r, k0_part319 (F := F) i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 a b c d e
    = send3 (F := F) i arg6 harg6 arg18 v322_r4 (slab3 (F := F) i arg6 arg11 arg18 v327_r5 (out1 (F := F) i arg4 arg6 harg6 v323_r6 (.ret r))) := ⟨_, rfl⟩

/-- The tile's program, window by window. -/
theorem cc0_body_eq : cc0_body (F := F) i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 =
    (k0_part311 (F := F) i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7).bind fun a => (k0_part312 (F := F) i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 a.1 a.2.2.2.1 a.2.2.2.2.1 a.2.2.2.2.2.1 a.2.2.2.2.2.2.1 a.2.2.2.2.2.2.2).bind fun b =>
    (k0_part313 (F := F) i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 a.2.1 a.2.2.1 b.2.1 b.2.2).bind fun c => (k0_part314 (F := F) i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 a.2.1 a.2.2.1 b.2.2 c.1 c.2).bind fun r =>
    (k0_part315 (F := F) i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 r.1 r.2.1 r.2.2.1 r.2.2.2).bind fun v => (k0_part316 (F := F) i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 a.2.2.1 b.1 r.1 r.2.1 r.2.2.1 v).bind fun e =>
    (k0_part317 (F := F) i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 a.2.2.1 b.1 e).bind fun f => (k0_part318 (F := F) i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 b.1 f.1 f.2.1 f.2.2.1 f.2.2.2).bind fun g =>
    (k0_part319 (F := F) i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 a.2.2.1 b.1 g.1 g.2.1 g.2.2).bind fun _ => out2 (F := F) i arg5 arg7 harg7 v322_r7 (.ret ⟨⟩) := rfl

end

end Cert.Proof.Pool

end
-- ==== Proof.Places.lean ====
/- Where a tile's copies lie: its group of rows, its half of the columns, and the rounds of the
   reduction in which it takes part, as numbers. -/
module

public import proofs.«01_k».proof.Proof.Steps

@[expose] public section

set_option maxRecDepth 100000
set_option synthInstance.maxHeartbeats 400000

open Idealize Idealize.ShloMosaic

namespace Cert.Proof.Pool

open Cert Cert.KernelIdeal Cert.KernelIdeal.Gen

/-- The group of rows of the tile `i`, among sixteen. -/
def gp (i : grid0.Coords) : ℕ := (i 0).val * 8 + (i 1).val / 2

/-- The group within its core. -/
def lg (i : grid0.Coords) : ℕ := (i 1).val / 2

/-- The half of the columns. -/
def hf (i : grid0.Coords) : ℕ := (i 1).val % 2

theorem off10_0 : ∀ i : grid0.Coords, k0_off10 i 0#32 = ![80 * (gp i * 125)] := by decide +kernel
theorem off10_last : ∀ i : grid0.Coords, k0_off10 i 124#32 = ![80 * (gp i * 125 + 124)] := by decide +kernel
theorem off11_0 : ∀ i : grid0.Coords, k0_off11 i 0#32 = ![80 * (gp i * 125), hf i * 128] := by decide +kernel
theorem off11_last : ∀ i : grid0.Coords, k0_off11 i 124#32 = ![80 * (gp i * 125 + 124), hf i * 128] := by decide +kernel
theorem off12_1 : ∀ (i : grid0.Coords) (t : Fin k0_t2_loop.trips), k0_off12 i t 1#32 = ![80 * (gp i * 125 + (2 * t.val + 1))] := by decide +kernel

theorem off12_2 : ∀ (i : grid0.Coords) (t : Fin k0_t2_loop.trips), k0_off12 i t 2#32 = ![80 * (gp i * 125 + (2 * t.val + 2))] := by decide +kernel
theorem off13_1 : ∀ (i : grid0.Coords) (t : Fin k0_t2_loop.trips), k0_off13 i t 1#32 = ![80 * (gp i * 125 + (2 * t.val + 1)), hf i * 128] := by decide +kernel
theorem off13_2 : ∀ (i : grid0.Coords) (t : Fin k0_t2_loop.trips), k0_off13 i t 2#32 = ![80 * (gp i * 125 + (2 * t.val + 2)), hf i * 128] := by decide +kernel
theorem send1_off : ∀ i : grid0.Coords, k0_off1252 i = ![lg i / 2 * 2 + hf i, 0, 0] := by decide +kernel
theorem send2_off : ∀ i : grid0.Coords, k0_off1270 i = ![lg i / 4 * 2 + hf i, 0, 0] := by decide +kernel
theorem send3_off : ∀ i : grid0.Coords, k0_off1288 i = ![lg i / 8 * 2 + hf i, 0, 0] := by decide +kernel
theorem slab1_off : ∀ (i : grid0.Coords) (t : Fin k0_t6_loop.trips), k0_off1253 i t = ![lg i / 2 * 2 + hf i, 64 * t.val, 0] := by decide +kernel
theorem slab2_off : ∀ (i : grid0.Coords) (t : Fin k0_t8_loop.trips), k0_off1271 i t = ![lg i / 4 * 2 + hf i, 64 * t.val, 0] := by decide +kernel
theorem slab3_off : ∀ (i : grid0.Coords) (t : Fin k0_t10_loop.trips), k0_off1289 i t = ![lg i / 8 * 2 + hf i, 64 * t.val, 0] := by decide +kernel
theorem out1_off : ∀ i : grid0.Coords, k0_off1306 i = ![(i 0).val, 0, hf i * 128] := by decide +kernel
theorem out2_off : ∀ i : grid0.Coords, k0_off1307 i = ![gp i, 0] := by decide +kernel

theorem cond103 : ∀ i : grid0.Coords, k0_cond103 i = 1#1 ↔ lg i % 2 = 1 := by decide +kernel
theorem cond104 : ∀ i : grid0.Coords, k0_cond104 i = 1#1 ↔ lg i % 2 = 0 := by decide +kernel
theorem cond105 : ∀ i : grid0.Coords, k0_cond105 i = 1#1 ↔ lg i % 4 = 2 := by decide +kernel
theorem cond106 : ∀ i : grid0.Coords, k0_cond106 i = 1#1 ↔ lg i % 4 = 0 := by decide +kernel
theorem cond107 : ∀ i : grid0.Coords, k0_cond107 i = 1#1 ↔ lg i = 4 := by decide +kernel
theorem cond108 : ∀ i : grid0.Coords, k0_cond108 i = 1#1 ↔ lg i = 0 := by decide +kernel
theorem cond109 : ∀ i : grid0.Coords, k0_cond109 i = 1#1 ↔ lg i = 0 := by decide +kernel
theorem cond110 : ∀ i : grid0.Coords, k0_cond110 i = 1#1 ↔ hf i = 0 := by decide +kernel

end Cert.Proof.Pool

end
-- ==== Proof.Fetch.lean ====
/-
  The copies of the tile: from a table held whole, and through the staging tables.
-/
module

public import proofs.«01_k».proof.Proof.Places
public import proofs.«01_k».proof.Proof.Barrier

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 6) (Elt F) ℕ UU ℕ

section Tables
variable {α : Type}

theorem window_one {n z : Fin 1 → ℕ} (f : ℕ → α) (off : Fin 1 → ℕ) (b : ℕ) (h : off = ![b]) (inb : ∀ x, off x + z x ≤ n x) :
    VecWindow.window (s := ⟨1, n⟩) (lin f) off z inb = (lin (n := z) fun k => f (b + k)) := by
  subst h
  funext j
  show f (b + 1 * (j 0).val) = f (b + (j 0).val)
  rw [Nat.one_mul]
theorem window_two {n z : Fin 2 → ℕ} (f : ℕ → ℕ → α) (off : Fin 2 → ℕ) (a b : ℕ) (h : off = ![a, b]) (inb : ∀ x, off x + z x ≤ n x) :
    VecWindow.window (s := ⟨2, n⟩) (mat f) off z inb = (mat (n := z) fun i k => f (a + i) (b + k)) := by
  subst h
  funext j
  show f (a + 1 * (j 0).val) (b + 1 * (j 1).val) = f (a + (j 0).val) (b + (j 1).val)
  rw [Nat.one_mul, Nat.one_mul]
/-- The first rows of a table replaced. -/
theorem put_first (f g : ℕ → ℕ → α) :
    VecWindow.put (s := S80x128) (mat f) ![0, 0] S64x128.size (mat (n := S64x128.size) g) = mat fun i k => if i < 64 then g i k else f i k := by
  funext y
  unfold VecWindow.put
  have h1 : (y 1).val < 128 := (y 1).isLt
  by_cases hy : (y 0).val < 64
  · rw [dif_pos (by
      intro x
      match x with
      | 0 => exact ⟨Nat.zero_le _, (Nat.zero_add 64).symm ▸ hy⟩
      | 1 => exact ⟨Nat.zero_le _, (Nat.zero_add 128).symm ▸ h1⟩)]
    show _ = if _ then _ else _
    rw [if_pos hy]
    rfl
  · rw [dif_neg (by
      intro h
      have := (h 0).2
      exact hy ((Nat.zero_add 64) ▸ this))]
    show _ = if _ then _ else _
    rw [if_neg hy]
    rfl

end Tables

/-! ## One plane of a three-axis buffer -/

section Plane
variable {sp : Space} {e : EltTy} {n : Fin 3 → ℕ} (m : Memref sig .scVector sp ⟨3, n⟩ e) {z : Fin 2 → ℕ}

/-- The element at `(o 0, o 1 + j 0, o 2 + j 1)`. -/
def at3 (o : Fin 3 → ℕ) (inb : ∀ a, o a + (Matrix.vecCons 1 z : Fin 3 → ℕ) a ≤ n a) (j : (⟨2, z⟩ : Shape).Idx) : (⟨3, n⟩ : Shape).Idx :=
  (Rect.unit (s := ⟨3, n⟩) o (Matrix.vecCons 1 z) inb).emb (Fin.cons ⟨0, Nat.one_pos⟩ j)

theorem plane_emb (o : Fin 3 → ℕ) (inb : ∀ a, o a + (Matrix.vecCons 1 z : Fin 3 → ℕ) a ≤ n a) (hq : (⟨3, Matrix.vecCons 1 z⟩ : Shape).Squeezes ⟨2, z⟩) (hc : (⟨3, Matrix.vecCons 1 z⟩ : Shape).ShapeCasts ⟨2, z⟩) (j : (⟨2, z⟩ : Shape).Idx) :
    ((m.slice (Rect.unit (s := ⟨3, n⟩) o (Matrix.vecCons 1 z) inb) (fun _ => rfl)).squeeze ⟨2, z⟩ hq).view.emb j = m.view.emb (at3 o inb j) :=
  shapeCast_dropUnit_apply z (fun y => m.view.emb ((Rect.unit (s := ⟨3, n⟩) o (Matrix.vecCons 1 z) inb).emb y)) hc j

theorem at3_eq {z' : Fin 2 → ℕ} (o o' : Fin 3 → ℕ) (inb : ∀ a, o a + (Matrix.vecCons 1 z : Fin 3 → ℕ) a ≤ n a) (inb' : ∀ a, o' a + (Matrix.vecCons 1 z' : Fin 3 → ℕ) a ≤ n a)
    (j : (⟨2, z⟩ : Shape).Idx) (j' : (⟨2, z'⟩ : Shape).Idx) (h0 : o 0 = o' 0) (h1 : o 1 + (j 0).val = o' 1 + (j' 0).val) (h2 : o 2 + (j 1).val = o' 2 + (j' 1).val) : at3 o inb j = at3 o' inb' j' := by
  funext a
  refine Fin.ext ?_
  match a with
  | 0 => show o 0 + 1 * 0 = o' 0 + 1 * 0; omega
  | 1 => show o 1 + 1 * (j 0).val = o' 1 + 1 * (j' 0).val; omega
  | 2 => show o 2 + 1 * (j 1).val = o' 2 + 1 * (j' 1).val; omega

end Plane

section Steps
variable {d : Dev nD} {cc : Fin τ.nSC} {jj : Fin τ.nSub}

/-- A copy in flight that, once landed, gives `E`. -/
def Fly (d : Dev nD) (cc : Fin τ.nSC) (jj : Fin τ.nSub) (sm : DmaSem sig) (N : ℕ) (E : sProp 𝕄) : sProp 𝕄 :=
  iprop(∃ D', Fl d cc jj sm N D' ∗ (D' -∗ E))

theorem wp_landF {α : Type} {Q : α → sProp 𝕄} {sp sp' : Space} {s s' : Shape} {e e' : EltTy} {sm : DmaSem sig} {srcw : Memref sig .scVector sp' s' e'} {dstw : Memref sig .scVector sp s e}
    {hsrc : srcw.view.WordExact} {hdst : dstw.view.WordExact}
    {k : PUnit → Prog (TpuEff nD τ sig (Elt F) Λ₀ (.scVector cc jj)) α} {E : sProp 𝕄}
    {O : CellTallies nD τ sig (HIx 6)} {W : Waits sig (HIx 6)} :
    iprop(Fly d cc jj sm dstw.view.dmaCredit E ∗ Debt d cc jj O W ∗ Transfers.MayWaits (V d cc jj) (none : HIx 6) O)
      ⊢ iprop((E ∗ semVal (V d cc jj, .dma sm) 0 ∗ Debt d cc jj O W -∗ WP d cc jj (k ⟨⟩) Q)
        -∗ WP d cc jj (.op (.waitDma2 sm srcw dstw hsrc hdst) k) Q) := by
  unfold Fly
  iintro ⟨⟨%D', HF, HE⟩, HD, HM⟩ K
  iapply (wp_land dstw.view.dmaCredit rfl) $$ [HF HD HM]
  · isplitl [HF]; · iexact HF
    isplitl [HD]; · iexact HD
    iexact HM
  iintro ⟨H, Hs, HD⟩
  iapply K
  isplitl [H HE]
  · iapply HE $$ H
  isplitl [Hs] <;> iassumption

/-- A copy of a part of a table, held whole, into a whole buffer. -/
theorem wp_fetch {α : Type} {Q : α → sProp 𝕄} {sp sp' : Space} {s : Shape} {e : EltTy} (m : Memref sig .scVector sp s e) (q : PosShare TreeShare) (x : s.Idx → Elt F e)
    {off size : Fin s.rank → ℕ} (inb : ∀ a, off a + size a ≤ s.size a) {h1 : ∀ a, (Rect.unit (s := s) off size inb).stride a = 1}
    (dst : Memref sig .scVector sp' (Rect.unit (s := s) off size inb).shape e) (y : (Rect.unit (s := s) off size inb).shape.Idx → Elt F e) (sm : DmaSem sig) (hpos : 0 < (Rect.unit (s := s) off size inb).shape.numel)
    {hsrc : (m.slice (Rect.unit (s := s) off size inb) h1).view.WordExact} {hdst : dst.view.WordExact} {hsem : DmaTarget.Typed (nD := nD) (p := Proc.scVector cc jj) sp (.dma sm) (.here dst)}
    {k : PUnit → Prog (TpuEff nD τ sig (Elt F) Λ₀ (.scVector cc jj)) α} :
    iprop(Hd d cc jj m q x ∗ Hd d cc jj dst fullShare y ∗ semVal (V d cc jj, .dma sm) 0)
      ⊢ iprop((Fly d cc jj sm dst.view.dmaCredit iprop(Hd d cc jj dst fullShare (VecWindow.window x off size inb) ∗ Hd d cc jj m q x) -∗ WP d cc jj (k ⟨⟩) Q)
        -∗ WP d cc jj (.op (.enqueueDma (m.slice (Rect.unit (s := s) off size inb) h1) (.here dst) (.dma sm) hsrc hdst hsem) k) Q) := by
  have hs : (m.slice (Rect.unit (s := s) off size inb) h1).view.set ⊆ m.view.set := View.set_slice_subset _ _
  have hr : (m.slice (Rect.unit (s := s) off size inb) h1).view.read (Elt F) (m.view.rep x) = VecWindow.window x off size inb := by
    funext j
    show m.view.read (Elt F) (m.view.rep x) ((Rect.unit off size inb).emb j) = _
    rw [View.read_rep]
    rfl
  iintro ⟨Hm, Hd, Hs⟩ K
  ihave Hm := (pointsTo_split_subset hs).1 $$ Hm
  icases Hm with ⟨H1, H2⟩
  iapply (wp_start (m.slice (Rect.unit (s := s) off size inb) h1) dst sm dst.view.dmaCredit rfl (View.dmaCredit_pos _ hpos) q (m.view.rep x) (dst.view.rep y)) $$ [H1 Hd Hs]
  · isplitl [H1]; · iexact H1
    isplitl [Hd]; · iexact Hd
    iexact Hs
  iintro HF
  iapply K
  unfold Fly
  iexists _
  isplitl [HF]
  · iexact HF
  iintro ⟨Hd, H1⟩
  isplitl [Hd]
  · iapply (Entails.of_eq (congrArg (fun w => (Hd d cc jj dst fullShare w : sProp 𝕄)) hr)) $$ Hd
  · iapply (pointsTo_split_subset hs).2
    isplitl [H1] <;> iassumption

/-- A copy of a whole buffer over another. -/
theorem wp_send {α : Type} {Q : α → sProp 𝕄} {sp sp' : Space} {s : Shape} {e : EltTy} (m : Memref sig .scVector sp s e) (q : PosShare TreeShare) (x : s.Idx → Elt F e)
    (dst : Memref sig .scVector sp' s e) (y : s.Idx → Elt F e) (sm : DmaSem sig) (hpos : 0 < s.numel)
    {hsrc : m.view.WordExact} {hdst : dst.view.WordExact} {hsem : DmaTarget.Typed (nD := nD) (p := Proc.scVector cc jj) sp (.dma sm) (.here dst)}
    {k : PUnit → Prog (TpuEff nD τ sig (Elt F) Λ₀ (.scVector cc jj)) α} :
    iprop(Hd d cc jj m q x ∗ Hd d cc jj dst fullShare y ∗ semVal (V d cc jj, .dma sm) 0)
      ⊢ iprop((Fly d cc jj sm dst.view.dmaCredit iprop(Hd d cc jj dst fullShare x ∗ Hd d cc jj m q x) -∗ WP d cc jj (k ⟨⟩) Q)
        -∗ WP d cc jj (.op (.enqueueDma m (.here dst) (.dma sm) hsrc hdst hsem) k) Q) := by
  iintro ⟨Hm, Hd, Hs⟩ K
  iapply (wp_start m dst sm dst.view.dmaCredit rfl (View.dmaCredit_pos _ hpos) q (m.view.rep x) (dst.view.rep y)) $$ [Hm Hd Hs]
  · isplitl [Hm]; · iexact Hm
    isplitl [Hd]; · iexact Hd
    iexact Hs
  iintro HF
  iapply K
  unfold Fly
  iexists _
  isplitl [HF]
  · iexact HF
  iintro ⟨Hd, H1⟩
  isplitl [Hd]
  · iapply (Entails.of_eq (congrArg (fun w => (Hd d cc jj dst fullShare w : sProp 𝕄)) (View.read_rep m.view x))) $$ Hd
  · iexact H1

theorem slot_inb (s : ℕ) : ∀ a, (![s % 8, 0, 0] : Fin 3 → ℕ) a + S1x512x128.size a ≤ S8x512x128.size a := fun a =>
  match a with
  | 0 => by show s % 8 + 1 ≤ 8; omega
  | 1 => by show 0 + 512 ≤ 512; omega
  | 2 => by show 0 + 128 ≤ 128; omega

/-- A staging table held at `X`. -/
abbrev Slot (d : Dev nD) (cc : Fin τ.nSC) (jj : Fin τ.nSub) (arg18 : Memref sig .scVector .shared S8x512x128 .f32) (s : ℕ) (X : ℕ → ℕ → F .f32) : sProp 𝕄 :=
  Hd d cc jj (slotM arg18 ![s % 8, 0, 0] (slot_inb s)) fullShare (mat X : S512x128.Idx → Elt F .f32)

/-- A slab of a staging table copied into the rows' buffer. -/
theorem wp_slab {α : Type} {Q : α → sProp 𝕄} (arg18 : Memref sig .scVector .shared S8x512x128 .f32) (arg11 : Memref sig .scVector .vmem S80x128 .f32) (s t : ℕ) (ht : t < 8) (X Y : ℕ → ℕ → F .f32)
    (off : Fin 3 → ℕ) (hoff : off = ![s % 8, 64 * t, 0]) (h : ∀ a, off a + S1x64x128.size a ≤ S8x512x128.size a) (sm : DmaSem sig)
    {hsrc : (slabM arg18 off h).view.WordExact} {hdst : (rows64 arg11).view.WordExact} {hsem : DmaTarget.Typed (nD := nD) (p := Proc.scVector cc jj) .shared (.dma sm) (.here (rows64 arg11))}
    {k : PUnit → Prog (TpuEff nD τ sig (Elt F) Λ₀ (.scVector cc jj)) α} :
    iprop(Slot d cc jj arg18 s X ∗ Hd d cc jj arg11 fullShare (mat Y : S80x128.Idx → Elt F .f32) ∗ semVal (V d cc jj, .dma sm) 0)
      ⊢ iprop((Fly d cc jj sm (rows64 arg11).view.dmaCredit iprop(Hd d cc jj arg11 fullShare (mat (fun r k => if r < 64 then X (64 * t + r) k else Y r k) : S80x128.Idx → Elt F .f32) ∗ Slot d cc jj arg18 s X) -∗ WP d cc jj (k ⟨⟩) Q)
        -∗ WP d cc jj (.op (.enqueueDma (slabM arg18 off h) (.here (rows64 arg11)) (.dma sm) hsrc hdst hsem) k) Q) := by
  subst hoff
  have he : ∀ j : S64x128.Idx, (slabM arg18 _ h).view.emb j = (slotM arg18 ![s % 8, 0, 0] (slot_inb s)).view.emb
      (fun a => match a with | 0 => ⟨64 * t + (j 0).val, by have : (j 0).val < 64 := (j 0).isLt; show _ < 512; omega⟩ | 1 => ⟨(j 1).val, (j 1).isLt⟩ : S512x128.Idx) := by
    intro j
    refine (plane_emb (z := S64x128.size) arg18 _ h squeezes_S1x64x128_S64x128 (by decide) j).trans ?_
    refine Eq.trans ?_ (plane_emb (z := S512x128.size) arg18 _ (slot_inb s) squeezes_S1x512x128_S512x128 (by decide) _).symm
    refine congrArg _ (at3_eq _ _ _ _ _ _ rfl ?_ rfl)
    show 64 * t + (j 0).val = 0 + (64 * t + (j 0).val)
    omega
  have hs : (slabM arg18 _ h).view.set ⊆ (slotM arg18 ![s % 8, 0, 0] (slot_inb s)).view.set := by
    intro y hy
    obtain ⟨j, -, rfl⟩ := Finset.mem_map.mp hy
    rw [he j]
    exact View.emb_mem_set _ _
  have hr : (slabM arg18 _ h).view.read (Elt F) ((slotM arg18 ![s % 8, 0, 0] (slot_inb s)).view.rep (mat X : S512x128.Idx → Elt F .f32)) = (mat (n := S64x128.size) fun r k => X (64 * t + r) k) := by
    funext j
    unfold View.read
    rw [he j]
    exact congrFun (View.read_rep (slotM arg18 ![s % 8, 0, 0] (slot_inb s)).view (mat X : S512x128.Idx → Elt F .f32)) _
  iintro ⟨Hm, Hd, Hs⟩ K
  ihave Hm := (pointsTo_split_subset hs).1 $$ Hm
  icases Hm with ⟨H1, H2⟩
  iapply (wp_startIn arg11 (mat Y : S80x128.Idx → Elt F .f32) inb_S80x128_S64x128_0_0 (fun _ => rfl) (slabM arg18 _ h) sm (rows64 arg11).view.dmaCredit rfl (View.dmaCredit_pos _ (by decide)) fullShare
    ((slotM arg18 ![s % 8, 0, 0] (slot_inb s)).view.rep (mat X : S512x128.Idx → Elt F .f32))) $$ [H1 Hd Hs]
  · isplitl [H1]; · iexact H1
    isplitl [Hd]; · iexact Hd
    iexact Hs
  iintro HF
  iapply K
  unfold Fly
  iexists _
  isplitl [HF]
  · iexact HF
  iintro ⟨Hd, H1⟩
  isplitl [Hd]
  · iapply (Entails.of_eq (congrArg (fun w => (Hd d cc jj arg11 fullShare w : sProp 𝕄)) ((congrArg _ hr).trans (put_first Y _)))) $$ Hd
  · iapply (pointsTo_split_subset hs).2
    isplitl [H1] <;> iassumption

end Steps

end Cert.Proof.Pool

end
-- ==== Proof.Chunks.lean ====
/-
  The first part of a tile's run: its tables cleared, its hundred and twenty-five chunks fetched and added up, the last segment written out.
-/
module

public import proofs.«01_k».proof.Proof.Fetch

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 6) (Elt F) ℕ UU ℕ

theorem chk49 {c : BitVec 32} (h : accRow c < 512) : k0_chk49 c :=
  ⟨inAcc (accRow c) 0 h (by omega), inAcc (accRow c) 16 h (by omega), inAcc (accRow c) 32 h (by omega), inAcc (accRow c) 48 h (by omega), inAcc (accRow c) 64 h (by omega),
    inAcc (accRow c) 80 h (by omega), inAcc (accRow c) 96 h (by omega), inAcc (accRow c) 112 h (by omega), inCnt c h⟩

/-! ## What a tile computes -/

/-- The rows of chunk `n` of a tile, and their segments' numbers. -/
def Xc (Z : ℕ → ℕ → F .f32) (i : grid0.Coords) (n : ℕ) : ℕ → ℕ → F .f32 := fun r k => Z (80 * (gp i * 125 + n) + r) (hf i * 128 + k)
def gc (B : ℕ → BitVec 32) (i : grid0.Coords) (n : ℕ) : ℕ → BitVec 32 := fun r => B (80 * (gp i * 125 + n) + r)
/-- The state before the first chunk, and before chunk `n`. -/
def st0 : St F := ⟨fun _ _ => zero32, fun _ => zero32, fun _ _ => zero32, 4294967295#32⟩
def stAt (Z : ℕ → ℕ → F .f32) (B : ℕ → BitVec 32) (i : grid0.Coords) : ℕ → St F
  | 0 => st0
  | n + 1 => (stAt Z B i n).groups (Xc Z i n) (gc B i n) 5

theorem gp_lt (i : grid0.Coords) : gp i < 16 := by
  have h0 : (i 0).val < 2 := (i 0).isLt
  have h1 : (i 1).val < 16 := (i 1).isLt
  unfold gp
  omega
theorem gc_ok (B : ℕ → BitVec 32) (hB : ∀ k, k < 160000 → accRow (B k) < 512) (i : grid0.Coords) (n : ℕ) (hn : n < 125) : ∀ l, l < 80 → accRow (gc B i n l) < 512 := fun l hl =>
  hB _ (by have := gp_lt i; omega)
theorem stAt_ok (Z : ℕ → ℕ → F .f32) (B : ℕ → BitVec 32) (hB : ∀ k, k < 160000 → accRow (B k) < 512) (i : grid0.Coords) : ∀ n, n ≤ 125 → accRow (stAt Z B i n).cur < 512
  | 0, _ => by show accRow 4294967295#32 < 512; decide
  | n + 1, h => St.groups_ok _ _ _ (stAt_ok Z B hB i n (by omega)) (gc_ok B hB i n (by omega)) 5 (le_refl 5)

section Steps
variable {d : Dev nD} {cc : Fin τ.nSC} {jj : Fin τ.nSub}

/-- A buffer held at contents of no interest. -/
def Any (d : Dev nD) (cc : Fin τ.nSC) (jj : Fin τ.nSub) {sp : Space} {s : Shape} {e : EltTy} (m : Memref sig .scVector sp s e) : sProp 𝕄 := iprop(∃ x, Hd d cc jj m fullShare x)
theorem any_intro {sp : Space} {s : Shape} {e : EltTy} (m : Memref sig .scVector sp s e) (x : s.Idx → Elt F e) : Hd d cc jj m fullShare x ⊢ Any d cc jj m := by
  unfold Any
  iintro H
  iexists x
  iexact H

theorem wp_unseq {α β : Type} {Q : β → sProp 𝕄} (p : Prog (TpuEff nD τ sig (Elt F) Λ₀ (Proc.scVector cc jj)) α) (k : α → Prog (TpuEff nD τ sig (Elt F) Λ₀ (Proc.scVector cc jj)) β) :
    WP d cc jj (p.bind k) Q ⊢ WP d cc jj p fun a => WP d cc jj (k a) Q := Entails.of_eq (wp_bind _ _ _ p k Q)
theorem wp_fetchI {α : Type} {Q : α → sProp 𝕄} (m : Memref sig .scVector .hbm S160000 .i32) (q : PosShare TreeShare) (B : ℕ → BitVec 32) {off : Fin 1 → ℕ} {b : ℕ} (h : off = ![b])
    {inb : ∀ a, off a + S80.size a ≤ S160000.size a} (dst : Memref sig .scVector .vmem S80 .i32) (sm : DmaSem sig)
    {hsrc : (m.slice (Rect.unit (s := S160000) off S80.size inb) (fun _ => rfl)).view.WordExact} {hdst : dst.view.WordExact} {hsem : DmaTarget.Typed (nD := nD) (p := Proc.scVector cc jj) .hbm (.dma sm) (.here dst)}
    {k : PUnit → Prog (TpuEff nD τ sig (Elt F) Λ₀ (.scVector cc jj)) α} :
    iprop(Hd d cc jj m q (lin fun k => (B k : Elt F .i32)) ∗ Any d cc jj dst ∗ semVal (V d cc jj, .dma sm) 0)
      ⊢ iprop((Fly d cc jj sm dst.view.dmaCredit iprop(Hd d cc jj dst fullShare (lin fun k => (B (b + k) : Elt F .i32)) ∗ Hd d cc jj m q (lin fun k => (B k : Elt F .i32))) -∗ WP d cc jj (k ⟨⟩) Q)
        -∗ WP d cc jj (.op (.enqueueDma (m.slice (Rect.unit (s := S160000) off S80.size inb) (fun _ => rfl)) (.here dst) (.dma sm) hsrc hdst hsem) k) Q) := by
  unfold Any
  iintro ⟨Hm, ⟨%y, Hd⟩, Hs⟩ K
  have h' := wp_fetch (d := d) (cc := cc) (jj := jj) (Q := Q) m q (lin fun k => (B k : Elt F .i32)) inb (h1 := fun _ => rfl) dst y sm (show 0 < S80.numel by decide) (hsrc := hsrc) (hdst := hdst) (hsem := hsem) (k := k)
  rw [window_one (fun k => (B k : Elt F .i32)) off b h inb] at h'
  iapply (show _ ⊢ iprop((Fly d cc jj sm dst.view.dmaCredit iprop(Hd d cc jj dst fullShare (lin fun k => (B (b + k) : Elt F .i32)) ∗ Hd d cc jj m q (lin fun k => (B k : Elt F .i32))) -∗ WP d cc jj (k ⟨⟩) Q) -∗ _) from h') $$ [Hm Hd Hs]
  · isplitl [Hm]; · iexact Hm
    isplitl [Hd] <;> iassumption
  iexact K

theorem wp_fetchR {α : Type} {Q : α → sProp 𝕄} (m : Memref sig .scVector .hbm S160000x256 .f32) (q : PosShare TreeShare) (Z : ℕ → ℕ → F .f32) {off : Fin 2 → ℕ} {a b : ℕ} (h : off = ![a, b])
    {inb : ∀ a, off a + S80x128.size a ≤ S160000x256.size a} (dst : Memref sig .scVector .vmem S80x128 .f32) (sm : DmaSem sig)
    {hsrc : (m.slice (Rect.unit (s := S160000x256) off S80x128.size inb) (fun _ => rfl)).view.WordExact} {hdst : dst.view.WordExact} {hsem : DmaTarget.Typed (nD := nD) (p := Proc.scVector cc jj) .hbm (.dma sm) (.here dst)}
    {k : PUnit → Prog (TpuEff nD τ sig (Elt F) Λ₀ (.scVector cc jj)) α} :
    iprop(Hd d cc jj m q (mat Z) ∗ Any d cc jj dst ∗ semVal (V d cc jj, .dma sm) 0)
      ⊢ iprop((Fly d cc jj sm dst.view.dmaCredit iprop(Hd d cc jj dst fullShare (mat fun r k => Z (a + r) (b + k)) ∗ Hd d cc jj m q (mat Z)) -∗ WP d cc jj (k ⟨⟩) Q)
        -∗ WP d cc jj (.op (.enqueueDma (m.slice (Rect.unit (s := S160000x256) off S80x128.size inb) (fun _ => rfl)) (.here dst) (.dma sm) hsrc hdst hsem) k) Q) := by
  unfold Any
  iintro ⟨Hm, ⟨%y, Hd⟩, Hs⟩ K
  have h' := wp_fetch (d := d) (cc := cc) (jj := jj) (Q := Q) m q (mat Z) inb (h1 := fun _ => rfl) dst y sm (show 0 < S80x128.numel by decide) (hsrc := hsrc) (hdst := hdst) (hsem := hsem) (k := k)
  rw [window_two Z off a b h inb] at h'
  iapply (show _ ⊢ iprop((Fly d cc jj sm dst.view.dmaCredit iprop(Hd d cc jj dst fullShare (mat fun r k => Z (a + r) (b + k)) ∗ Hd d cc jj m q (mat Z)) -∗ WP d cc jj (k ⟨⟩) Q) -∗ _) from h') $$ [Hm Hd Hs]
  · isplitl [Hm]; · iexact Hm
    isplitl [Hd] <;> iassumption
  iexact K

end Steps

section Body
variable (i : grid0.Coords) (arg2 : Memref sig .scVector .hbm S160000x256 .f32) (harg2 : arg2.IsWhole) (arg3 : Memref sig .scVector .hbm S160000 .i32) (harg3 : arg3.IsWhole) (arg4 : Memref sig .scVector .hbm S2x512x256 .f32) (harg4 : arg4.IsWhole) (arg5 : Memref sig .scVector .hbm S16x8192 .f32) (harg5 : arg5.IsWhole) (arg6 : Memref sig .scVector .vmem S512x128 .f32) (harg6 : arg6.IsWhole) (arg7 : Memref sig .scVector .vmem S8192 .f32) (harg7 : arg7.IsWhole) (arg8 : Memref sig .scVector .smem S1 .i32) (harg8 : arg8.IsWhole) (arg9 : Memref sig .scVector .vmem S80 .i32) (harg9 : arg9.IsWhole) (arg10 : Memref sig .scVector .vmem S80 .i32) (harg10 : arg10.IsWhole) (arg11 : Memref sig .scVector .vmem S80x128 .f32) (harg11 : arg11.IsWhole) (arg12 : Memref sig .scVector .vmem S80x128 .f32) (harg12 : arg12.IsWhole) (arg13 : Memref sig .scVector .vmem S9x16 .f32) (harg13 : arg13.IsWhole) (arg14 : DmaSems sig S_) (arg15 : DmaSems sig S_) (arg16 : DmaSems sig S_) (arg17 : DmaSems sig S_) (arg18 : Memref sig .scVector .shared S8x512x128 .f32) (harg18 : arg18.IsWhole) (v322_r0 : DmaSems sig S_) (v327_r1 : DmaSems sig S_) (v322_r2 : DmaSems sig S_) (v327_r3 : DmaSems sig S_) (v322_r4 : DmaSems sig S_) (v327_r5 : DmaSems sig S_) (v323_r6 : DmaSems sig S_) (v322_r7 : DmaSems sig S_)
variable {d : Dev nD} (q1 q2 : PosShare TreeShare) (Z : ℕ → ℕ → F .f32) (B : ℕ → BitVec 32) (hB : ∀ k, k < 160000 → accRow (B k) < 512)
  (O : CellTallies nD τ sig (HIx 6)) (W : Waits sig (HIx 6))

/-- The tile's core and number. -/
abbrev co : Fin τ.nSC := (i 0).castLE hcore0
abbrev tn : Fin τ.nSub := tl (i 1)

abbrev TabB (q : PosShare TreeShare) : sProp 𝕄 := Hd d (co i) (tn i) arg3 q (lin fun k => (B k : Elt F .i32))
abbrev TabZ (q : PosShare TreeShare) : sProp 𝕄 := Hd d (co i) (tn i) arg2 q (mat Z)
/-- Chunk `n` on its way into the buffers `idx` and `rows`. -/
abbrev ChI (idx : Memref sig .scVector .vmem S80 .i32) (sm : DmaSems sig S_) (q : PosShare TreeShare) (n : ℕ) : sProp 𝕄 :=
  Fly d (co i) (tn i) sm.sem idx.view.dmaCredit iprop(Hd d (co i) (tn i) idx fullShare (lin fun k => (gc B i n k : Elt F .i32)) ∗ TabB (d := d) i arg3 B q)
abbrev ChR (rows : Memref sig .scVector .vmem S80x128 .f32) (sm : DmaSems sig S_) (q : PosShare TreeShare) (n : ℕ) : sProp 𝕄 :=
  Fly d (co i) (tn i) sm.sem rows.view.dmaCredit iprop(Hd d (co i) (tn i) rows fullShare (mat (Xc Z i n)) ∗ TabZ (d := d) i arg2 Z q)
abbrev S0 (sm : DmaSems sig S_) : sProp 𝕄 := semVal (V d (co i) (tn i), .dma sm.sem) 0
abbrev OwnT (s : St F) : sProp 𝕄 := Own d (co i) (tn i) arg6 arg7 arg13 arg8 s
/-- Between two pairs of chunks: chunk `n` is on its way. -/
abbrev Mid (n : ℕ) : sProp 𝕄 :=
  iprop(ChI (d := d) i arg3 B arg9 arg14 q1 n ∗ ChR (d := d) i arg2 Z arg11 arg16 q1 n ∗ TabB (d := d) i arg3 B q2 ∗ TabZ (d := d) i arg2 Z q2
    ∗ S0 (d := d) (F := F) i arg15 ∗ S0 (d := d) (F := F) i arg17 ∗ Any d (co i) (tn i) arg10 ∗ Any d (co i) (tn i) arg12 ∗ OwnT (d := d) i arg6 arg7 arg8 arg13 (stAt Z B i n)
    ∗ Debt d (co i) (tn i) O W ∗ Transfers.MayWaits (V d (co i) (tn i)) (none : HIx 6) O)
/-- Within a pair: chunk `n + 1` is being fetched, chunk `n` has been added, the index part of chunk `n + 2` is on its way. -/
abbrev Mid2 (n : ℕ) : sProp 𝕄 :=
  iprop(ChI (d := d) i arg3 B arg10 arg15 q2 (n + 1) ∗ ChR (d := d) i arg2 Z arg12 arg17 q2 (n + 1) ∗ ChI (d := d) i arg3 B arg9 arg14 q1 (n + 2) ∗ TabZ (d := d) i arg2 Z q1
    ∗ S0 (d := d) (F := F) i arg16 ∗ Any d (co i) (tn i) arg11 ∗ OwnT (d := d) i arg6 arg7 arg8 arg13 (stAt Z B i (n + 1))
    ∗ Debt d (co i) (tn i) O W ∗ Transfers.MayWaits (V d (co i) (tn i)) (none : HIx 6) O)

include hB
set_option maxHeartbeats 1000000 in
theorem wp_203 (v18 v28 : BitVec 32) (t : Fin k0_t2_loop.trips) {Q : _ → sProp 𝕄} :
    Mid (d := d) i arg2 arg3 arg6 arg7 arg8 arg9 arg10 arg11 arg12 arg13 arg14 arg15 arg16 arg17 q1 q2 Z B O W (2 * t.val)
      ⊢ iprop((Mid2 (d := d) i arg2 arg3 arg6 arg7 arg8 arg9 arg10 arg11 arg12 arg13 arg14 arg15 arg16 arg17 q1 q2 Z B O W (2 * t.val) -∗ ∀ r, Q r)
        -∗ WP d (co i) (tn i) (k0_part203 i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 v18 v28 (lin fun _ => one32) 0#32 1#32 t) Q) := by
  have ht : t.val < 62 := t.isLt
  obtain ⟨r, e⟩ := part203_eq i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 v18 v28 (lin fun _ => (one32 : F .f32)) t
  rw [e]
  iintro ⟨H1, H2, H3, H4, H5, H6, H7, H8, H9, HD, #HM⟩ K
  iapply (wp_fetchI arg3 q2 B (off12_1 i t) arg10 arg15.sem) $$ [H3 H7 H5]
  · isplitl [H3]; · iexact H3
    isplitl [H7] <;> iassumption
  iintro H3
  iapply (wp_fetchR arg2 q2 Z (off13_1 i t) arg12 arg17.sem) $$ [H4 H8 H6]
  · isplitl [H4]; · iexact H4
    isplitl [H8] <;> iassumption
  iintro H4
  iapply wp_landF $$ [H1 HD]
  · isplitl [H1]; · iexact H1
    isplitl [HD]; · iexact HD
    iexact HM
  iintro ⟨⟨H1, HB1⟩, H5, HD⟩
  iapply wp_landF $$ [H2 HD]
  · isplitl [H2]; · iexact H2
    isplitl [HD]; · iexact HD
    iexact HM
  iintro ⟨⟨H2, HZ1⟩, H6, HD⟩
  iapply wp_seq
  iapply (wp_chunk k0_t3_loop rfl k0_t3_ok checks3 (Xc Z i (2 * t.val)) (gc B i (2 * t.val)) (stAt Z B i (2 * t.val)) (stAt_ok Z B hB i _ (by omega)) (gc_ok B hB i _ (by omega)) trips3) $$ [H1 H2 H9]
  · isplitl [H1]; · iexact H1
    isplitl [H2] <;> iassumption
  iintro ⟨H1, H2, H9⟩ %x
  iapply (wp_fetchI arg3 q1 B (off12_2 i t) arg9 arg14.sem) $$ [HB1 H1 H5]
  · isplitl [HB1]; · iexact HB1
    isplitl [H1]
    · iapply (any_intro arg9 _) $$ H1
    · iexact H5
  iintro HB1
  iapply wp_done
  iapply K $$ [HB1 HZ1 H2 H3 H4 H6 H9 HD]
  isplitl [H3]; · iexact H3
  isplitl [H4]; · iexact H4
  isplitl [HB1]; · iexact HB1
  isplitl [HZ1]; · iexact HZ1
  isplitl [H6]; · iexact H6
  isplitl [H2]; · iapply (any_intro arg11 _) $$ H2
  isplitl [H9]; · iexact H9
  isplitl [HD]; · iexact HD
  iexact HM

/-- One pair of chunks. -/
theorem wp_pair (v18 v28 x : BitVec 32) (t : Fin k0_t2_loop.trips) :
    Mid (d := d) i arg2 arg3 arg6 arg7 arg8 arg9 arg10 arg11 arg12 arg13 arg14 arg15 arg16 arg17 q1 q2 Z B O W (2 * t.val)
      ⊢ WP d (co i) (tn i) (k0_part203 i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 v18 v28 (lin fun _ => one32) 0#32 1#32 t >>= fun _ =>
          .op (.enqueueDma (arg2.slice (Rect.unit (s := S160000x256) (k0_off13 i t 2#32) S80x128.size (k0_off13_inb i t 1)) (fun _ => rfl)) (.here arg11) (.dma arg16.sem) (View.wordExact_bits rfl) harg11.wordExact ⟨Or.inl rfl, trivial⟩) fun _ =>
          .op (.waitDma2 arg15.sem (arg3.slice (Rect.unit (s := S160000) (k0_off12 i t 1#32) S80.size (k0_off12_inb i t 0)) (fun _ => rfl)) arg10 (View.wordExact_bits rfl) harg10.wordExact) fun _ =>
          .op (.waitDma2 arg17.sem (arg2.slice (Rect.unit (s := S160000x256) (k0_off13 i t 1#32) S80x128.size (k0_off13_inb i t 0)) (fun _ => rfl)) arg12 (View.wordExact_bits rfl) harg12.wordExact) fun _ =>
          (Scf.Loop.for k0_t4_loop k0_t4_ok 0#32 fun t _ => groupP arg10 arg12 arg13 arg6 arg7 arg8 checks4 t.val (trips4 t) (lin fun _ => one32) 0#32) >>= fun _ => .ret 0#32)
        (fun _ => Mid (d := d) i arg2 arg3 arg6 arg7 arg8 arg9 arg10 arg11 arg12 arg13 arg14 arg15 arg16 arg17 q1 q2 Z B O W (2 * (t.val + 1))) := by
  have ht : t.val < 62 := t.isLt
  rw [show 2 * (t.val + 1) = 2 * t.val + 2 by omega]
  iintro H
  iapply wp_seq
  iapply (wp_203 i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 q1 q2 Z B hB O W v18 v28 t) $$ H
  iintro ⟨H3, H4, HB1, HZ1, H6, H2, H9, HD, #HM⟩ %r
  iapply (wp_fetchR arg2 q1 Z (off13_2 i t) arg11 arg16.sem) $$ [HZ1 H2 H6]
  · isplitl [HZ1]; · iexact HZ1
    isplitl [H2] <;> iassumption
  iintro HZ1
  iapply wp_landF $$ [H3 HD]
  · isplitl [H3]; · iexact H3
    isplitl [HD]; · iexact HD
    iexact HM
  iintro ⟨⟨H3, HB2⟩, H5, HD⟩
  iapply wp_landF $$ [H4 HD]
  · isplitl [H4]; · iexact H4
    isplitl [HD]; · iexact HD
    iexact HM
  iintro ⟨⟨H4, HZ2⟩, H6, HD⟩
  iapply wp_seq
  iapply (wp_chunk k0_t4_loop rfl k0_t4_ok checks4 (Xc Z i (2 * t.val + 1)) (gc B i (2 * t.val + 1)) (stAt Z B i (2 * t.val + 1)) (stAt_ok Z B hB i _ (by omega)) (gc_ok B hB i _ (by omega)) trips4) $$ [H3 H4 H9]
  · isplitl [H3]; · iexact H3
    isplitl [H4] <;> iassumption
  iintro ⟨H3, H4, H9⟩ %y
  iapply wp_done
  isplitl [HB1]; · iexact HB1
  isplitl [HZ1]; · iexact HZ1
  isplitl [HB2]; · iexact HB2
  isplitl [HZ2]; · iexact HZ2
  isplitl [H5]; · iexact H5
  isplitl [H6]; · iexact H6
  isplitl [H3]; · iapply (any_intro arg10 _) $$ H3
  isplitl [H4]; · iapply (any_intro arg12 _) $$ H4
  isplitl [H9]; · iexact H9
  isplitl [HD]; · iexact HD
  iexact HM

/-- What a tile has at hand beside its tables: the table's and the index's shares, the semaphores, what it owes. -/
abbrev Idle : sProp 𝕄 :=
  iprop(TabB (d := d) i arg3 B q1 ∗ TabZ (d := d) i arg2 Z q1 ∗ TabB (d := d) i arg3 B q2 ∗ TabZ (d := d) i arg2 Z q2
    ∗ S0 (d := d) (F := F) i arg14 ∗ S0 (d := d) (F := F) i arg16 ∗ S0 (d := d) (F := F) i arg15 ∗ S0 (d := d) (F := F) i arg17
    ∗ Any d (co i) (tn i) arg9 ∗ Any d (co i) (tn i) arg11 ∗ Any d (co i) (tn i) arg10 ∗ Any d (co i) (tn i) arg12
    ∗ Debt d (co i) (tn i) O W ∗ Transfers.MayWaits (V d (co i) (tn i)) (none : HIx 6) O)

set_option maxHeartbeats 1000000 in
/-- All pairs of chunks. -/
theorem wp_313 (v18 v28 : BitVec 32) (R : ℕ → ℕ → F .f32) {Q : _ → sProp 𝕄} :
    iprop(Idle (d := d) i arg2 arg3 arg9 arg10 arg11 arg12 arg14 arg15 arg16 arg17 q1 q2 Z B O W ∗ OwnT (d := d) i arg6 arg7 arg8 arg13 ⟨fun _ _ => zero32, fun _ => zero32, (setRow (setRow (setRow (setRow (setRow R 0 0 fun _ => zero32) 1 0 fun _ => zero32) 2 0 fun _ => zero32) 3 0 fun _ => zero32) 4 0 fun _ => zero32), 4294967295#32⟩)
      ⊢ iprop((Mid (d := d) i arg2 arg3 arg6 arg7 arg8 arg9 arg10 arg11 arg12 arg13 arg14 arg15 arg16 arg17 q1 q2 Z B O W 124 -∗ ∀ r, Q r)
        -∗ WP d (co i) (tn i) (k0_part313 i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 v18 v28 (lin fun _ => zero32) (lin fun _ => one32)) Q) := by
  obtain ⟨r, e⟩ := part313_eq i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 v18 v28 (lin fun _ => (zero32 : F .f32)) (lin fun _ => (one32 : F .f32))
  rw [e]
  iintro ⟨⟨HB1, HZ1, HB2, HZ2, H14, H16, H15, H17, H9, H11, H10, H12, HD, #HM⟩, ⟨Ha, Hc, Hr, Hu⟩⟩ K
  iapply wp_zeroRun _ 5 _ $$ Hr
  iintro Hr
  iapply wp_zeroRun _ 6 _ $$ Hr
  iintro Hr
  iapply wp_zeroRun _ 7 _ $$ Hr
  iintro Hr
  iapply wp_zeroRun _ 8 _ $$ Hr
  iintro Hr
  ihave Hr := (Entails.of_eq (congrArg (fun w : S9x16.Idx → Elt F .f32 => (Hd d (co i) (tn i) arg13 fullShare w : sProp 𝕄)) (zeroRun_all R))) $$ Hr
  iapply (wp_fetchI arg3 q1 B (off10_0 i) arg9 arg14.sem) $$ [HB1 H9 H14]
  · isplitl [HB1]; · iexact HB1
    isplitl [H9] <;> iassumption
  iintro HB1
  iapply (wp_fetchR arg2 q1 Z (off11_0 i) arg11 arg16.sem) $$ [HZ1 H11 H16]
  · isplitl [HZ1]; · iexact HZ1
    isplitl [H11] <;> iassumption
  iintro HZ1
  iapply wp_seq
  iapply (wp_loop k0_t2_loop k0_t2_ok 0#32 _ (fun n _ => Mid (d := d) i arg2 arg3 arg6 arg7 arg8 arg9 arg10 arg11 arg12 arg13 arg14 arg15 arg16 arg17 q1 q2 Z B O W (2 * n)) (fun t x => wp_pair i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 q1 q2 Z B hB O W v18 v28 x t)) $$ [HB1 HZ1 HB2 HZ2 H15 H17 H10 H12 HD Ha Hc Hr Hu]
  · isplitl [HB1]; · iexact HB1
    isplitl [HZ1]; · iexact HZ1
    isplitl [HB2]; · iexact HB2
    isplitl [HZ2]; · iexact HZ2
    isplitl [H15]; · iexact H15
    isplitl [H17]; · iexact H17
    isplitl [H10]; · iexact H10
    isplitl [H12]; · iexact H12
    isplitl [Ha Hc Hr Hu]
    · isplitl [Ha]; · iexact Ha
      isplitl [Hc]; · iexact Hc
      isplitl [Hr]; · iexact Hr
      iexact Hu
    isplitl [HD]; · iexact HD
    iexact HM
  iintro %a H
  ihave H := (Entails.of_eq (show (Mid (d := d) i arg2 arg3 arg6 arg7 arg8 arg9 arg10 arg11 arg12 arg13 arg14 arg15 arg16 arg17 q1 q2 Z B O W (2 * k0_t2_loop.trips) : sProp 𝕄) = Mid (d := d) i arg2 arg3 arg6 arg7 arg8 arg9 arg10 arg11 arg12 arg13 arg14 arg15 arg16 arg17 q1 q2 Z B O W 124 from rfl)) $$ H
  iapply wp_done
  iapply K $$ H

/-- The tables cleared. -/
theorem wp_312 (a b c d' e f : BitVec 32) {Q : _ → sProp 𝕄} :
    iprop(Any d (co i) (tn i) arg6 ∗ Any d (co i) (tn i) arg7 ∗ Any d (co i) (tn i) arg13 ∗ Any d (co i) (tn i) arg8)
      ⊢ iprop((∀ R, OwnT (d := d) i arg6 arg7 arg8 arg13 ⟨fun _ _ => zero32, fun _ => zero32, (setRow (setRow (setRow (setRow (setRow R 0 0 fun _ => zero32) 1 0 fun _ => zero32) 2 0 fun _ => zero32) 3 0 fun _ => zero32) 4 0 fun _ => zero32), 4294967295#32⟩
          -∗ ∀ v45, Q ⟨v45, lin fun _ => (zero32 : F .f32), lin fun _ => (one32 : F .f32)⟩)
        -∗ WP d (co i) (tn i) (k0_part312 i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 a b c d' e f) Q) := by
  obtain ⟨v45, e⟩ := part312_eq (F := F) i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 a b c d' e f
  rw [e]
  unfold Any
  iintro ⟨⟨%x6, H6⟩, ⟨%x7, H7⟩, ⟨%x13, H13⟩, ⟨%x8, H8⟩⟩ K
  haveI : Nonempty (Elt F .f32) := ⟨(zero32 : F .f32)⟩
  obtain ⟨A, rfl⟩ := exists_mat (α := Elt F .f32) x6
  obtain ⟨C, rfl⟩ := exists_lin (α := Elt F .f32) x7
  obtain ⟨R, rfl⟩ := exists_mat (α := Elt F .f32) x13
  obtain ⟨u, rfl⟩ : ∃ u : BitVec 32, x8 = fun _ => (u : Elt F .i32) := ⟨x8 (fun k => match k with | 0 => ⟨0, Nat.one_pos⟩), funext fun y => congrArg x8 (funext fun k => match k with
    | 0 => Fin.ext (by have : (y 0).val < 1 := (y 0).isLt; show (y 0).val = 0; omega))⟩
  iapply wp_seq
  iapply (wp_zeros k0_t1_loop rfl k0_t1_ok trips1 A C) $$ [H6 H7]
  · isplitl [H6] <;> iassumption
  iintro ⟨H6, H7⟩ %x
  iapply wp_ldCur u $$ H8
  iintro H8
  iapply wp_stCur u _ $$ H8
  iintro H8
  iapply wp_zeroRun _ 0 _ $$ H13
  iintro H13
  iapply wp_zeroRun _ 1 _ $$ H13
  iintro H13
  iapply wp_zeroRun _ 2 _ $$ H13
  iintro H13
  iapply wp_zeroRun _ 3 _ $$ H13
  iintro H13
  iapply wp_zeroRun _ 4 _ $$ H13
  iintro H13
  have e3 : Q ⟨v45, lin fun _ => (zero32 : F .f32), lin fun _ => (one32 : F .f32)⟩ ⊢ WP d (co i) (tn i) (.ret ⟨v45, broadcast S16 (Scalar.ofBits .f32 0x00000000#32), broadcast S16 (Scalar.ofBits .f32 0x3F800000#32)⟩) Q := wp_done _
  iapply e3
  iapply K $$ [H6 H7 H8 H13]
  isplitl [H6]; · iexact H6
  isplitl [H7]; · iexact H7
  isplitl [H13]; · iexact H13
  iexact H8

/-- The last chunk and the last segment. -/
theorem wp_flush {β : Type} (v18 v28 v102 c80 v45 : BitVec 32) (R : BitVec 32 → PR (F := F) i β) {Q : β → sProp 𝕄} :
    Mid (d := d) i arg2 arg3 arg6 arg7 arg8 arg9 arg10 arg11 arg12 arg13 arg14 arg15 arg16 arg17 q1 q2 Z B O W 124
      ⊢ iprop((Idle (d := d) i arg2 arg3 arg9 arg10 arg11 arg12 arg14 arg15 arg16 arg17 q1 q2 Z B O W ∗ OwnT (d := d) i arg6 arg7 arg8 arg13 (stAt Z B i 125).flush -∗ WP d (co i) (tn i) ((send1 (F := F) i arg6 harg6 arg18 v322_r0 (.ret 2#32)).bind R) Q)
        -∗ WP d (co i) (tn i) ((k0_part314 (F := F) i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 v18 v28 (lin fun _ => one32) v102 c80).bind fun r => (k0_part315 (F := F) i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 r.1 r.2.1 r.2.2.1 r.2.2.2).bind fun v => (k0_part316 (F := F) i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 v28 v45 r.1 r.2.1 r.2.2.1 v).bind R) Q) := by
  rw [part314_eq i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7]
  have hok := stAt_ok Z B hB i 125 (le_refl _)
  iintro ⟨H1, H2, H3, H4, H5, H6, H7, H8, H9, HD, #HM⟩ K
  iapply wp_landF $$ [H1 HD]
  · isplitl [H1]; · iexact H1
    isplitl [HD]; · iexact HD
    iexact HM
  iintro ⟨⟨H1, HB1⟩, H14, HD⟩
  iapply wp_landF $$ [H2 HD]
  · isplitl [H2]; · iexact H2
    isplitl [HD]; · iexact HD
    iexact HM
  iintro ⟨⟨H2, HZ1⟩, H16, HD⟩
  iapply wp_seq
  iapply wp_seq
  iapply (wp_chunk k0_t5_loop rfl k0_t5_ok checks5 (Xc Z i 124) (gc B i 124) (stAt Z B i 124) (stAt_ok Z B hB i _ (by omega)) (gc_ok B hB i _ (by omega)) trips5) $$ [H1 H2 H9]
  · isplitl [H1]; · iexact H1
    isplitl [H2] <;> iassumption
  iintro ⟨H1, H2, ⟨Ha, Hc, Hr, Hu⟩⟩ %x
  iapply wp_unseq
  iapply (Entails.of_eq (congrArg (fun p => (WP d (co i) (tn i) p Q : sProp 𝕄)) (flush_eq i arg2 harg2 arg3 harg3 arg4 harg4 arg5 harg5 arg6 harg6 arg7 harg7 arg8 harg8 arg9 harg9 arg10 harg10 arg11 harg11 arg12 harg12 arg13 harg13 arg14 arg15 arg16 arg17 arg18 harg18 v322_r0 v327_r1 v322_r2 v327_r3 v322_r4 v327_r5 v323_r6 v322_r7 v28 v45 R).symm))
  iapply wp_ldCur ((stAt Z B i 124).groups (Xc Z i 124) (gc B i 124) 5).cur $$ Hu
  iintro Hu
  iapply wp_assume 𝒱₀ (V d (co i) (tn i)) none Set.univ (chk49 hok)
  iapply (wp_flushP ((stAt Z B i 124).groups (Xc Z i 124) (gc B i 124) 5) hok) $$ [Ha Hc Hr Hu]
  · isplitl [Ha]; · iexact Ha
    isplitl [Hc]; · iexact Hc
    isplitl [Hr] <;> iassumption
  iintro HO
  iapply K
  isplitr [HO]
  · isplitl [HB1]; · iexact HB1
    isplitl [HZ1]; · iexact HZ1
    isplitl [H3]; · iexact H3
    isplitl [H4]; · iexact H4
    isplitl [H14]; · iexact H14
    isplitl [H16]; · iexact H16
    isplitl [H5]; · iexact H5
    isplitl [H6]; · iexact H6
    isplitl [H1]; · iapply (any_intro arg9 _) $$ H1
    isplitl [H2]; · iapply (any_intro arg11 _) $$ H2
    isplitl [H7]; · iexact H7
    isplitl [H8]; · iexact H8
    isplitl [HD]; · iexact HD
    iexact HM
  · iexact HO

end Body

end Cert.Proof.Pool

end
-- ==== Proof.Reduce.lean ====
/-
  The steps of the reduction: a table left in the staging tables, a staged table added to the tile's own,
  and the sums and the counts sent out.
-/
module

public import proofs.«01_k».proof.Proof.Chunks

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 6) (Elt F) ℕ UU ℕ

/-- `A` where `p` holds. -/
def When (p : Prop) [Decidable p] (A : sProp 𝕄) : sProp 𝕄 := if p then A else iprop(emp)
theorem when_pos {p : Prop} [Decidable p] (h : p) (A : sProp 𝕄) : When p A = A := if_pos h
theorem when_neg {p : Prop} [Decidable p] (h : ¬p) (A : sProp 𝕄) : When p A = iprop(emp) := if_neg h

/-- The staging tables of a core. -/
abbrev stg : Memref sig .scVector .shared S8x512x128 .f32 := Memref.whole cc0_scratch12

/-- The staging table `s` of core `cc`, held at `X`: the same whichever of the core's tiles holds it. -/
def Slt (d : Dev nD) (cc : Fin τ.nSC) (s : ℕ) (X : ℕ → ℕ → F .f32) : sProp 𝕄 := Slot d cc (tl ⟨0, by decide⟩) stg s X
theorem slt_eq (d : Dev nD) (cc : Fin τ.nSC) (jj : Fin τ.nSub) (s : ℕ) (X : ℕ → ℕ → F .f32) : (Slt d cc s X : sProp 𝕄) = Slot d cc jj stg s X := rfl
def SltAny (d : Dev nD) (cc : Fin τ.nSC) (s : ℕ) : sProp (MT nD τ sig (HIx 6) (Elt F) ℕ UU ℕ) := iprop(∃ X : ℕ → ℕ → F .f32, Slt d cc s X)
theorem sltAny_intro (d : Dev nD) (cc : Fin τ.nSC) (s : ℕ) (X : ℕ → ℕ → F .f32) : Slt d cc s X ⊢ (SltAny d cc s : sProp 𝕄) := by
  unfold SltAny
  iintro H
  iexists X
  iexact H

section Reduce
variable {d : Dev nD} {cc : Fin τ.nSC} {jj : Fin τ.nSub}

/-- A table left in the staging table `s`. -/
theorem wp_leave {α : Type} {Q : α → sProp 𝕄} (arg6 : Memref sig .scVector .vmem S512x128 .f32) (s : ℕ) (hs : s < 8) (A : ℕ → ℕ → F .f32) (off : Fin 3 → ℕ) (hoff : off = ![s, 0, 0])
    (h : ∀ a, off a + S1x512x128.size a ≤ S8x512x128.size a) (sm : DmaSem sig) {h1 h1' : arg6.view.WordExact} {h2 h2' : (slotM stg off h).view.WordExact} {hsem : DmaTarget.Typed (nD := nD) (p := Proc.scVector cc jj) .vmem (.dma sm) (.here (slotM stg off h))}
    (O : CellTallies nD τ sig (HIx 6)) (W : Waits sig (HIx 6)) (k : Prog (TpuEff nD τ sig (Elt F) Λ₀ (.scVector cc jj)) α) :
    iprop(SltAny d cc s ∗ Hd d cc jj arg6 fullShare (mat A) ∗ semVal (V d cc jj, .dma sm) 0 ∗ Debt d cc jj O W ∗ Transfers.MayWaits (V d cc jj) (none : HIx 6) O)
      ⊢ iprop((Slt d cc s A ∗ Hd d cc jj arg6 fullShare (mat A) ∗ semVal (V d cc jj, .dma sm) 0 ∗ Debt d cc jj O W -∗ WP d cc jj k Q)
        -∗ WP d cc jj (.op (.enqueueDma arg6 (.here (slotM stg off h)) (.dma sm) h1 h2 hsem) fun _ => .op (.waitDma2 sm arg6 (slotM stg off h) h1' h2') fun _ => k) Q) := by
  obtain ⟨s, rfl⟩ : ∃ s', s = s' % 8 := ⟨s, (Nat.mod_eq_of_lt hs).symm⟩
  subst hoff
  unfold SltAny
  iintro ⟨⟨%X, Hs⟩, H6, H0, HD, HM⟩ K
  ihave Hs := (show (Slt d cc (s % 8) X : sProp 𝕄) ⊢ Hd d cc jj (slotM stg ![s % 8, 0, 0] h) fullShare (mat X : S512x128.Idx → Elt F .f32) from Entails.of_eq (by
    unfold Slt Slot
    simp only [Nat.mod_mod]
    rfl)) $$ Hs
  iapply (wp_send arg6 fullShare (mat A) (slotM stg ![s % 8, 0, 0] h) (mat X) sm (by decide)) $$ [Hs H6 H0]
  · isplitl [H6]; · iexact H6
    isplitl [Hs] <;> iassumption
  iintro HF
  iapply wp_landF $$ [HF HD HM]
  · isplitl [HF]; · iexact HF
    isplitl [HD] <;> iassumption
  iintro ⟨⟨Hs, H6⟩, H0, HD⟩
  iapply K
  isplitl [Hs]
  · iapply (show Hd d cc jj (slotM stg ![s % 8, 0, 0] h) fullShare (mat A : S512x128.Idx → Elt F .f32) ⊢ (Slt d cc (s % 8) A : sProp 𝕄) from Entails.of_eq (by
      unfold Slt Slot
      simp only [Nat.mod_mod]
      rfl)) $$ Hs
  isplitl [H6]; · iexact H6
  isplitl [H0] <;> iassumption

/-- The staging table `s` added, slab by slab, to the tile's own. -/
theorem wp_slabs {Q : BitVec 32 → sProp 𝕄} (arg6 : Memref sig .scVector .vmem S512x128 .f32) (arg11 : Memref sig .scVector .vmem S80x128 .f32) (s : ℕ) (hs : s < 8) (A X : ℕ → ℕ → F .f32)
    (L : Scf.Loop 32) (hL : L.trips = 8) (hok : L.OK) (L2 : Scf.Loop 32) (hL2 : L2.trips = 64) (hok2 : L2.OK) (h8 : ∀ t : Fin L.trips, t.val < 8) (h64 : ∀ t : Fin L2.trips, t.val < 64)
    (off : Fin L.trips → Fin 3 → ℕ) (hoff : ∀ t, off t = ![s, 64 * t.val, 0])
    (h : ∀ t, ∀ a, off t a + S1x64x128.size a ≤ S8x512x128.size a) (sm : DmaSem sig) {h1 h1' : ∀ t, (slabM stg (off t) (h t)).view.WordExact} {h2 h2' : (rows64 arg11).view.WordExact}
    {hsem : DmaTarget.Typed (nD := nD) (p := Proc.scVector cc jj) .shared (.dma sm) (.here (rows64 arg11))}
    (O : CellTallies nD τ sig (HIx 6)) (W : Waits sig (HIx 6)) :
    iprop(Slt d cc s X ∗ Hd d cc jj arg6 fullShare (mat A) ∗ Any d cc jj arg11 ∗ semVal (V d cc jj, .dma sm) 0 ∗ Debt d cc jj O W ∗ Transfers.MayWaits (V d cc jj) (none : HIx 6) O)
      ⊢ iprop((Slt d cc s X ∗ Hd d cc jj arg6 fullShare (mat fun i k => FloatOps.addf (A i k) (X i k)) ∗ Any d cc jj arg11 ∗ semVal (V d cc jj, .dma sm) 0 ∗ Debt d cc jj O W -∗ ∀ x, Q x)
        -∗ WP d cc jj (Scf.Loop.for L hok 0#32 fun t _ =>
          .op (.enqueueDma (slabM stg (off t) (h t)) (.here (rows64 arg11)) (.dma sm) (h1 t) h2 hsem) fun _ =>
          .op (.waitDma2 sm (slabM stg (off t) (h t)) (rows64 arg11) (h1' t) h2') fun _ =>
          (Scf.Loop.for L2 hok2 0#32 fun u _ => addRow arg11 arg6 t.val u.val (h8 t) (h64 u) (.ret 0#32)).bind fun _ => .ret 0#32) Q) := by
  iintro ⟨Hs, H6, H11, H0, HD, #HM⟩ K
  iapply (wp_loop L hok 0#32 _ (fun n _ => iprop(Slt d cc s X ∗ Hd d cc jj arg6 fullShare (mat (addUpTo A X (64 * n) 0)) ∗ Any d cc jj arg11 ∗ semVal (V d cc jj, .dma sm) 0 ∗ Debt d cc jj O W ∗ Transfers.MayWaits (V d cc jj) (none : HIx 6) O)) ?_) $$ [Hs H6 H11 H0 HD]
  · intro t x
    unfold Any
    iintro ⟨Hs, H6, ⟨%y, H11⟩, H0, HD, #HM⟩
    haveI : Nonempty (Elt F .f32) := ⟨(zero32 : F .f32)⟩
    obtain ⟨Y, rfl⟩ := exists_mat (α := Elt F .f32) y
    ihave Hs := (Entails.of_eq (slt_eq d cc jj s X)) $$ Hs
    iapply (wp_slab stg arg11 s t.val (h8 t) X Y (off t) ((hoff t).trans (by rw [Nat.mod_eq_of_lt hs])) (h t) sm) $$ [Hs H11 H0]
    · isplitl [Hs]; · iexact Hs
      isplitl [H11] <;> iassumption
    iintro HF
    iapply wp_landF $$ [HF HD]
    · isplitl [HF]; · iexact HF
      isplitl [HD]; · iexact HD
      iexact HM
    iintro ⟨⟨H11, Hs⟩, H0, HD⟩
    iapply wp_seq
    iapply (wp_addRows L2 hL2 hok2 h64 A X (fun r k => if r < 64 then X (64 * t.val + r) k else Y r k) t.val (h8 t) (fun u hu k => if_pos hu)) $$ [H6 H11]
    · isplitl [H11] <;> iassumption
    iintro ⟨H11, H6⟩ %x
    iapply wp_done
    isplitl [Hs]
    · iapply (Entails.of_eq (slt_eq d cc jj s X).symm) $$ Hs
    isplitl [H6]; · iexact H6
    isplitl [H11]
    · iexists _
      iexact H11
    isplitl [H0]; · iexact H0
    isplitl [HD]; · iexact HD
    iexact HM
  · isplitl [Hs]; · iexact Hs
    isplitl [H6]
    · iapply (Entails.of_eq (congrArg (fun w => (Hd d cc jj arg6 fullShare (mat w : S512x128.Idx → Elt F .f32) : sProp 𝕄)) (addUpTo_zero A X).symm)) $$ H6
    isplitl [H11]; · iexact H11
    isplitl [H0]; · iexact H0
    isplitl [HD]; · iexact HD
    iexact HM
  · iintro %x ⟨Hs, H6, H11, H0, HD, -⟩
    rw [hL]
    iapply K $$ [Hs H6 H11 H0 HD]
    isplitl [Hs]; · iexact Hs
    isplitl [H6]
    · iapply (Entails.of_eq (congrArg (fun w : S512x128.Idx → Elt F .f32 => (Hd d cc jj arg6 fullShare w : sProp 𝕄)) (addUpTo_all A X))) $$ H6
    isplitl [H11]; · iexact H11
    isplitl [H0] <;> iassumption

/-- A whole buffer sent out. -/
theorem wp_out {α : Type} {Q : α → sProp 𝕄} {s : Shape} (m : Memref sig .scVector .vmem s .f32) (hpos : 0 < s.numel) (x : s.Idx → Elt F .f32) (dst : Memref sig .scVector .hbm s .f32)
    (sm : DmaSem sig) {h1 h1' : m.view.WordExact} {h2 h2' : dst.view.WordExact} {hsem : DmaTarget.Typed (nD := nD) (p := Proc.scVector cc jj) .vmem (.dma sm) (.here dst)}
    (O : CellTallies nD τ sig (HIx 6)) (W : Waits sig (HIx 6)) (k : Prog (TpuEff nD τ sig (Elt F) Λ₀ (.scVector cc jj)) α) :
    iprop(Any d cc jj dst ∗ Hd d cc jj m fullShare x ∗ semVal (V d cc jj, .dma sm) 0 ∗ Debt d cc jj O W ∗ Transfers.MayWaits (V d cc jj) (none : HIx 6) O)
      ⊢ iprop((Hd d cc jj dst fullShare x ∗ Hd d cc jj m fullShare x ∗ semVal (V d cc jj, .dma sm) 0 ∗ Debt d cc jj O W -∗ WP d cc jj k Q)
        -∗ WP d cc jj (.op (.enqueueDma m (.here dst) (.dma sm) h1 h2 hsem) fun _ => .op (.waitDma2 sm m dst h1' h2') fun _ => k) Q) := by
  unfold Any
  iintro ⟨⟨%y, Hs⟩, H6, H0, HD, HM⟩ K
  iapply (wp_send m fullShare x dst y sm hpos) $$ [Hs H6 H0]
  · isplitl [H6]; · iexact H6
    isplitl [Hs] <;> iassumption
  iintro HF
  iapply wp_landF $$ [HF HD HM]
  · isplitl [HF]; · iexact HF
    isplitl [HD] <;> iassumption
  iintro ⟨⟨Hs, H6⟩, H0, HD⟩
  iapply K
  isplitl [Hs]; · iexact Hs
  isplitl [H6]; · iexact H6
  isplitl [H0] <;> iassumption

end Reduce

section Tile
variable (i : grid0.Coords) (arg4 : Memref sig .scVector .hbm S2x512x256 .f32) (arg5 : Memref sig .scVector .hbm S16x8192 .f32)
  (arg6 : Memref sig .scVector .vmem S512x128 .f32) (harg6 : arg6.IsWhole) (arg7 : Memref sig .scVector .vmem S8192 .f32) (harg7 : arg7.IsWhole) (arg11 : Memref sig .scVector .vmem S80x128 .f32) (sm : DmaSems sig S_)
  {d : Dev nD} (O : CellTallies nD τ sig (HIx 6)) (W : Waits sig (HIx 6)) (A X : ℕ → ℕ → F .f32)

theorem lg_lt (i : grid0.Coords) : lg i < 8 := by
  have h1 : (i 1).val < 16 := (i 1).isLt
  unfold lg
  omega
theorem hf_lt (i : grid0.Coords) : hf i < 2 := Nat.mod_lt _ (by omega)

abbrev May : sProp 𝕄 := Transfers.MayWaits (V d (co i) (tn i)) (none : HIx 6) O

theorem wp_send1 {α : Type} {Q : α → sProp 𝕄} (k : PR (F := F) i α) :
    iprop(When (lg i % 2 = 1) (SltAny d (co i) (lg i / 2 * 2 + hf i)) ∗ Hd d (co i) (tn i) arg6 fullShare (mat A) ∗ S0 (d := d) (F := F) i sm ∗ Debt d (co i) (tn i) O W ∗ May (d := d) i O)
      ⊢ iprop((When (lg i % 2 = 1) (Slt d (co i) (lg i / 2 * 2 + hf i) A) ∗ Hd d (co i) (tn i) arg6 fullShare (mat A) ∗ S0 (d := d) (F := F) i sm ∗ Debt d (co i) (tn i) O W -∗ WP d (co i) (tn i) ((bar i).bind fun _ => k) Q)
        -∗ WP d (co i) (tn i) (send1 i arg6 harg6 stg sm k) Q) := by
  unfold send1
  by_cases h : k0_cond103 i = 1#1
  · rw [dif_pos h, when_pos ((cond103 i).mp h), when_pos ((cond103 i).mp h)]
    have h1 := lg_lt i
    have h2 := hf_lt i
    exact wp_leave arg6 _ (by omega) A _ (send1_off i) _ sm.sem O W _
  · rw [dif_neg h, when_neg (fun h' => h ((cond103 i).mpr h')), when_neg (fun h' => h ((cond103 i).mpr h'))]
    iintro ⟨He, H1, H2, H3, -⟩ K
    iapply K
    isplitl [He]; · iexact He
    isplitl [H1]; · iexact H1
    isplitl [H2] <;> iassumption

theorem wp_slab1 {α : Type} {Q : α → sProp 𝕄} (k : PR (F := F) i α) :
    iprop(When (lg i % 2 = 0) (Slt d (co i) (lg i / 2 * 2 + hf i) X) ∗ Hd d (co i) (tn i) arg6 fullShare (mat A) ∗ Any d (co i) (tn i) arg11 ∗ S0 (d := d) (F := F) i sm ∗ Debt d (co i) (tn i) O W ∗ May (d := d) i O)
      ⊢ iprop((When (lg i % 2 = 0) (Slt d (co i) (lg i / 2 * 2 + hf i) X) ∗ Hd d (co i) (tn i) arg6 fullShare (mat (if lg i % 2 = 0 then fun i k => FloatOps.addf (A i k) (X i k) else A)) ∗ Any d (co i) (tn i) arg11 ∗ S0 (d := d) (F := F) i sm ∗ Debt d (co i) (tn i) O W -∗ WP d (co i) (tn i) ((bar i).bind fun _ => k) Q)
        -∗ WP d (co i) (tn i) (slab1 i arg6 arg11 stg sm k) Q) := by
  unfold slab1
  by_cases h : k0_cond104 i = 1#1
  · rw [dif_pos h, when_pos ((cond104 i).mp h), if_pos ((cond104 i).mp h)]
    have h1 := lg_lt i
    have h2 := hf_lt i
    iintro H K
    iapply wp_seq
    iapply (wp_slabs arg6 arg11 (lg i / 2 * 2 + hf i) (by omega) A X k0_t6_loop rfl (k0_t6_ok i h) k0_t7_loop rfl (k0_t7_ok i h) trips6 trips7 (fun t => k0_off1253 i t) (slab1_off i) (fun t => k0_off1253_inb i t h) sm.sem O W) $$ H
    iintro H %x
    iapply K $$ H
  · rw [dif_neg h, when_neg (fun h' => h ((cond104 i).mpr h')), if_neg (fun h' => h ((cond104 i).mpr h'))]
    iintro ⟨He, H1, H2, H3, H4, -⟩ K
    iapply K
    isplitl [He]; · iexact He
    isplitl [H1]; · iexact H1
    isplitl [H2]; · iexact H2
    isplitl [H3] <;> iassumption

theorem wp_send2 {α : Type} {Q : α → sProp 𝕄} (k : PR (F := F) i α) :
    iprop(When (lg i % 4 = 2) (SltAny d (co i) (lg i / 4 * 2 + hf i)) ∗ Hd d (co i) (tn i) arg6 fullShare (mat A) ∗ S0 (d := d) (F := F) i sm ∗ Debt d (co i) (tn i) O W ∗ May (d := d) i O)
      ⊢ iprop((When (lg i % 4 = 2) (Slt d (co i) (lg i / 4 * 2 + hf i) A) ∗ Hd d (co i) (tn i) arg6 fullShare (mat A) ∗ S0 (d := d) (F := F) i sm ∗ Debt d (co i) (tn i) O W -∗ WP d (co i) (tn i) ((bar i).bind fun _ => k) Q)
        -∗ WP d (co i) (tn i) (send2 i arg6 harg6 stg sm k) Q) := by
  unfold send2
  by_cases h : k0_cond105 i = 1#1
  · rw [dif_pos h, when_pos ((cond105 i).mp h), when_pos ((cond105 i).mp h)]
    have h1 := lg_lt i
    have h2 := hf_lt i
    exact wp_leave arg6 _ (by omega) A _ (send2_off i) _ sm.sem O W _
  · rw [dif_neg h, when_neg (fun h' => h ((cond105 i).mpr h')), when_neg (fun h' => h ((cond105 i).mpr h'))]
    iintro ⟨He, H1, H2, H3, -⟩ K
    iapply K
    isplitl [He]; · iexact He
    isplitl [H1]; · iexact H1
    isplitl [H2] <;> iassumption

theorem wp_slab2 {α : Type} {Q : α → sProp 𝕄} (k : PR (F := F) i α) :
    iprop(When (lg i % 4 = 0) (Slt d (co i) (lg i / 4 * 2 + hf i) X) ∗ Hd d (co i) (tn i) arg6 fullShare (mat A) ∗ Any d (co i) (tn i) arg11 ∗ S0 (d := d) (F := F) i sm ∗ Debt d (co i) (tn i) O W ∗ May (d := d) i O)
      ⊢ iprop((When (lg i % 4 = 0) (Slt d (co i) (lg i / 4 * 2 + hf i) X) ∗ Hd d (co i) (tn i) arg6 fullShare (mat (if lg i % 4 = 0 then fun i k => FloatOps.addf (A i k) (X i k) else A)) ∗ Any d (co i) (tn i) arg11 ∗ S0 (d := d) (F := F) i sm ∗ Debt d (co i) (tn i) O W -∗ WP d (co i) (tn i) ((bar i).bind fun _ => k) Q)
        -∗ WP d (co i) (tn i) (slab2 i arg6 arg11 stg sm k) Q) := by
  unfold slab2
  by_cases h : k0_cond106 i = 1#1
  · rw [dif_pos h, when_pos ((cond106 i).mp h), if_pos ((cond106 i).mp h)]
    have h1 := lg_lt i
    have h2 := hf_lt i
    iintro H K
    iapply wp_seq
    iapply (wp_slabs arg6 arg11 (lg i / 4 * 2 + hf i) (by omega) A X k0_t8_loop rfl (k0_t8_ok i h) k0_t9_loop rfl (k0_t9_ok i h) trips8 trips9 (fun t => k0_off1271 i t) (slab2_off i) (fun t => k0_off1271_inb i t h) sm.sem O W) $$ H
    iintro H %x
    iapply K $$ H
  · rw [dif_neg h, when_neg (fun h' => h ((cond106 i).mpr h')), if_neg (fun h' => h ((cond106 i).mpr h'))]
    iintro ⟨He, H1, H2, H3, H4, -⟩ K
    iapply K
    isplitl [He]; · iexact He
    isplitl [H1]; · iexact H1
    isplitl [H2]; · iexact H2
    isplitl [H3] <;> iassumption

theorem wp_send3 {α : Type} {Q : α → sProp 𝕄} (k : PR (F := F) i α) :
    iprop(When (lg i = 4) (SltAny d (co i) (lg i / 8 * 2 + hf i)) ∗ Hd d (co i) (tn i) arg6 fullShare (mat A) ∗ S0 (d := d) (F := F) i sm ∗ Debt d (co i) (tn i) O W ∗ May (d := d) i O)
      ⊢ iprop((When (lg i = 4) (Slt d (co i) (lg i / 8 * 2 + hf i) A) ∗ Hd d (co i) (tn i) arg6 fullShare (mat A) ∗ S0 (d := d) (F := F) i sm ∗ Debt d (co i) (tn i) O W -∗ WP d (co i) (tn i) ((bar i).bind fun _ => k) Q)
        -∗ WP d (co i) (tn i) (send3 i arg6 harg6 stg sm k) Q) := by
  unfold send3
  by_cases h : k0_cond107 i = 1#1
  · rw [dif_pos h, when_pos ((cond107 i).mp h), when_pos ((cond107 i).mp h)]
    have h1 := lg_lt i
    have h2 := hf_lt i
    exact wp_leave arg6 _ (by omega) A _ (send3_off i) _ sm.sem O W _
  · rw [dif_neg h, when_neg (fun h' => h ((cond107 i).mpr h')), when_neg (fun h' => h ((cond107 i).mpr h'))]
    iintro ⟨He, H1, H2, H3, -⟩ K
    iapply K
    isplitl [He]; · iexact He
    isplitl [H1]; · iexact H1
    isplitl [H2] <;> iassumption

theorem wp_slab3 {α : Type} {Q : α → sProp 𝕄} (k : PR (F := F) i α) :
    iprop(When (lg i = 0) (Slt d (co i) (lg i / 8 * 2 + hf i) X) ∗ Hd d (co i) (tn i) arg6 fullShare (mat A) ∗ Any d (co i) (tn i) arg11 ∗ S0 (d := d) (F := F) i sm ∗ Debt d (co i) (tn i) O W ∗ May (d := d) i O)
      ⊢ iprop((When (lg i = 0) (Slt d (co i) (lg i / 8 * 2 + hf i) X) ∗ Hd d (co i) (tn i) arg6 fullShare (mat (if lg i = 0 then fun i k => FloatOps.addf (A i k) (X i k) else A)) ∗ Any d (co i) (tn i) arg11 ∗ S0 (d := d) (F := F) i sm ∗ Debt d (co i) (tn i) O W -∗ WP d (co i) (tn i) ((bar i).bind fun _ => k) Q)
        -∗ WP d (co i) (tn i) (slab3 i arg6 arg11 stg sm k) Q) := by
  unfold slab3
  by_cases h : k0_cond108 i = 1#1
  · rw [dif_pos h, when_pos ((cond108 i).mp h), if_pos ((cond108 i).mp h)]
    have h1 := lg_lt i
    have h2 := hf_lt i
    iintro H K
    iapply wp_seq
    iapply (wp_slabs arg6 arg11 (lg i / 8 * 2 + hf i) (by omega) A X k0_t10_loop rfl (k0_t10_ok i h) k0_t11_loop rfl (k0_t11_ok i h) trips10 trips11 (fun t => k0_off1289 i t) (slab3_off i) (fun t => k0_off1289_inb i t h) sm.sem O W) $$ H
    iintro H %x
    iapply K $$ H
  · rw [dif_neg h, when_neg (fun h' => h ((cond108 i).mpr h')), if_neg (fun h' => h ((cond108 i).mpr h'))]
    iintro ⟨He, H1, H2, H3, H4, -⟩ K
    iapply K
    isplitl [He]; · iexact He
    isplitl [H1]; · iexact H1
    isplitl [H2]; · iexact H2
    isplitl [H3] <;> iassumption

theorem sums_inb (i : grid0.Coords) : ∀ a, (![(i 0).val, 0, hf i * 128] : Fin 3 → ℕ) a + S1x512x128.size a ≤ S2x512x256.size a := fun a =>
  match a with
  | 0 => by have h : (i 0).val < 2 := (i 0).isLt; show (i 0).val + 1 ≤ 2; omega
  | 1 => by show 0 + 512 ≤ 512; omega
  | 2 => by have h := hf_lt i; show hf i * 128 + 128 ≤ 256; omega
theorem cnts_inb (i : grid0.Coords) : ∀ a, (![gp i, 0] : Fin 2 → ℕ) a + S1x8192.size a ≤ S16x8192.size a := fun a =>
  match a with
  | 0 => by have h := gp_lt i; show gp i + 1 ≤ 16; omega
  | 1 => by show 0 + 8192 ≤ 8192; omega
/-- The part of the sums, and of the counts, that a tile may send out. -/
abbrev sumsT : Memref sig .scVector .hbm S512x128 .f32 := sumsM arg4 ![(i 0).val, 0, hf i * 128] (sums_inb i)
abbrev cntsT : Memref sig .scVector .hbm S8192 .f32 := cntsM arg5 ![gp i, 0] (cnts_inb i)

theorem wp_out1 {α : Type} {Q : α → sProp 𝕄} (k : PR (F := F) i α) :
    iprop(When (lg i = 0) (Any d (co i) (tn i) (sumsT i arg4)) ∗ Hd d (co i) (tn i) arg6 fullShare (mat A) ∗ S0 (d := d) (F := F) i sm ∗ Debt d (co i) (tn i) O W ∗ May (d := d) i O)
      ⊢ iprop((When (lg i = 0) (Hd d (co i) (tn i) (sumsT i arg4) fullShare (mat A)) ∗ Hd d (co i) (tn i) arg6 fullShare (mat A) ∗ S0 (d := d) (F := F) i sm ∗ Debt d (co i) (tn i) O W -∗ WP d (co i) (tn i) k Q)
        -∗ WP d (co i) (tn i) (out1 i arg4 arg6 harg6 sm k) Q) := by
  unfold out1
  by_cases h : k0_cond109 i = 1#1
  · rw [dif_pos h, when_pos ((cond109 i).mp h), when_pos ((cond109 i).mp h)]
    have e : ∀ off (hi : ∀ a, off a + S1x512x128.size a ≤ S2x512x256.size a), off = ![(i 0).val, 0, hf i * 128] → sumsM arg4 off hi = sumsT i arg4 := by rintro _ _ rfl; rfl
    have e' := e _ (k0_off1306_inb i h) (out1_off i)
    have key := fun h2 h2' hs => wp_out (d := d) (cc := co i) (jj := tn i) (Q := Q) arg6 (by decide) (mat A) (sumsM arg4 (k0_off1306 i) (k0_off1306_inb i h)) sm.sem (h1 := harg6.wordExact) (h1' := harg6.wordExact) (h2 := h2) (h2' := h2') (hsem := hs) O W k
    rw [← e']
    exact key _ _ _
  · rw [dif_neg h, when_neg (fun h' => h ((cond109 i).mpr h')), when_neg (fun h' => h ((cond109 i).mpr h'))]
    iintro ⟨He, H1, H2, H3, -⟩ K
    iapply K
    isplitl [He]; · iexact He
    isplitl [H1]; · iexact H1
    isplitl [H2] <;> iassumption

theorem wp_out2 {α : Type} {Q : α → sProp 𝕄} (C : ℕ → F .f32) (k : PR (F := F) i α) :
    iprop(When (hf i = 0) (Any d (co i) (tn i) (cntsT i arg5)) ∗ Hd d (co i) (tn i) arg7 fullShare (lin C) ∗ S0 (d := d) (F := F) i sm ∗ Debt d (co i) (tn i) O W ∗ May (d := d) i O)
      ⊢ iprop((When (hf i = 0) (Hd d (co i) (tn i) (cntsT i arg5) fullShare (lin C)) ∗ Hd d (co i) (tn i) arg7 fullShare (lin C) ∗ S0 (d := d) (F := F) i sm ∗ Debt d (co i) (tn i) O W -∗ WP d (co i) (tn i) k Q)
        -∗ WP d (co i) (tn i) (out2 i arg5 arg7 harg7 sm k) Q) := by
  unfold out2
  by_cases h : k0_cond110 i = 1#1
  · rw [dif_pos h, when_pos ((cond110 i).mp h), when_pos ((cond110 i).mp h)]
    have e : ∀ off (hi : ∀ a, off a + S1x8192.size a ≤ S16x8192.size a), off = ![gp i, 0] → cntsM arg5 off hi = cntsT i arg5 := by rintro _ _ rfl; rfl
    have e' := e _ (k0_off1307_inb i h) (out2_off i)
    have key := fun h2 h2' hs => wp_out (d := d) (cc := co i) (jj := tn i) (Q := Q) arg7 (by decide) (lin C) (cntsM arg5 (k0_off1307 i) (k0_off1307_inb i h)) sm.sem (h1 := harg7.wordExact) (h1' := harg7.wordExact) (h2 := h2) (h2' := h2') (hsem := hs) O W k
    rw [← e']
    exact key _ _ _
  · rw [dif_neg h, when_neg (fun h' => h ((cond110 i).mpr h')), when_neg (fun h' => h ((cond110 i).mpr h'))]
    iintro ⟨He, H1, H2, H3, -⟩ K
    iapply K
    isplitl [He]; · iexact He
    isplitl [H1]; · iexact H1
    isplitl [H2] <;> iassumption

end Tile

end Cert.Proof.Pool

end
-- ==== Proof.Tile.lean ====
/-
  The whole run of one tile.
-/
module

public import proofs.«01_k».proof.Proof.Reduce

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 6) (Elt F) ℕ UU ℕ

attribute [local instance] blocks

/-! ## What a core's tiles compute -/

/-- The tile `s` of core `c`. -/
def tileAt (c s : ℕ) : grid0.Coords := fun
  | 0 => ⟨c % 2, Nat.mod_lt c (by decide)⟩
  | 1 => ⟨s % 16, Nat.mod_lt s (by decide)⟩
  | ⟨_ + 2, h⟩ => absurd h (Nat.not_lt.2 (Nat.le_add_left _ _))
theorem tileAt_self (i : grid0.Coords) : tileAt (i 0).val (i 1).val = i := by
  funext a
  match a with
  | 0 => exact Fin.ext (Nat.mod_eq_of_lt (i 0).isLt)
  | 1 => exact Fin.ext (Nat.mod_eq_of_lt (i 1).isLt)

section Values
variable (Z : ℕ → ℕ → F .f32) (B : ℕ → BitVec 32)
/-- A tile's table after its own chunks, and after each step of the reduction. -/
def T0 (c s : ℕ) : ℕ → ℕ → F .f32 := (stAt Z B (tileAt c s) 125).flush.A
def T1 (c s : ℕ) : ℕ → ℕ → F .f32 := if s / 2 % 2 = 0 then fun i k => FloatOps.addf (T0 Z B c s i k) (T0 Z B c (s + 2) i k) else T0 Z B c s
def T2 (c s : ℕ) : ℕ → ℕ → F .f32 := if s / 2 % 4 = 0 then fun i k => FloatOps.addf (T1 Z B c s i k) (T1 Z B c (s + 4) i k) else T1 Z B c s
def T3 (c s : ℕ) : ℕ → ℕ → F .f32 := if s / 2 = 0 then fun i k => FloatOps.addf (T2 Z B c s i k) (T2 Z B c (s + 8) i k) else T2 Z B c s
/-- A tile's counts. -/
def CN (c s : ℕ) : ℕ → F .f32 := (stAt Z B (tileAt c s) 125).flush.C

/-- What a tile leaves at each barrier. -/
def Py (d : Dev nD) (c : Fin τ.nSC) (j : Fin (grid0.bound 1)) (r : ℕ) : sProp (MT nD τ sig (HIx 6) (Elt F) ℕ UU ℕ) :=
  match r with
  | 0 => When (j.val / 2 % 2 = 1) (Slt d c (j.val / 2 / 2 * 2 + j.val % 2) (T0 Z B c.val j.val))
  | 1 => When (j.val / 2 = 0 ∨ j.val / 2 = 2) (SltAny d c (j.val / 2 / 2 * 2 + j.val % 2))
  | 2 => When (j.val / 2 % 4 = 2) (Slt d c (j.val / 2 / 4 * 2 + j.val % 2) (T1 Z B c.val j.val))
  | 3 => When (j.val / 2 = 0) (SltAny d c (j.val / 2 / 4 * 2 + j.val % 2))
  | 4 => When (j.val / 2 = 4) (Slt d c (j.val / 2 / 8 * 2 + j.val % 2) (T2 Z B c.val j.val))
  | _ => iprop(emp)
end Values

/-- The tile whose leavings a tile takes. -/
def rc (j : Fin (grid0.bound 1)) (r : ℕ) : Option (Fin (grid0.bound 1)) :=
  let at' (n : ℕ) : Option (Fin (grid0.bound 1)) := some ⟨n % 16, Nat.mod_lt n (by decide)⟩
  match r with
  | 0 => if j.val / 2 % 2 = 0 then at' (j.val + 2) else none
  | 1 => if j.val / 2 = 2 then at' (j.val - 4) else if j.val / 2 = 6 then at' (j.val - 8) else none
  | 2 => if j.val / 2 % 4 = 0 then at' (j.val + 4) else none
  | 3 => if j.val / 2 = 4 then at' (j.val - 8) else none
  | 4 => if j.val / 2 = 0 then at' (j.val + 8) else none
  | _ => none

section Taken
variable (Z : ℕ → ℕ → F .f32) (B : ℕ → BitVec 32) (d : Dev nD) (c : Fin τ.nSC) (j : Fin (grid0.bound 1))

theorem when_slt {p : Prop} [Decidable p] {s s' : ℕ} {X X' : ℕ → ℕ → F .f32} (hp : p) (hs : s = s') (hX : X = X') : (When p (Slt d c s X) : sProp 𝕄) ⊢ Slt d c s' X' := by
  rw [when_pos hp, hs, hX]
theorem when_any {p : Prop} [Decidable p] {s s' : ℕ} (hp : p) (hs : s = s') : (When p (SltAny d c s) : sProp 𝕄) ⊢ SltAny d c s' := by
  rw [when_pos hp, hs]

theorem got0 : got (Py Z B) rc d c j 0 ⊢ (When (j.val / 2 % 2 = 0) (Slt d c (j.val / 2 / 2 * 2 + j.val % 2) (T0 Z B c.val (j.val + 2))) : sProp 𝕄) := by
  have hj : j.val < 16 := j.isLt
  unfold got rc
  by_cases h : j.val / 2 % 2 = 0
  · rw [when_pos h]
    simp only [if_pos h]
    have e : (j.val + 2) % 16 = j.val + 2 := Nat.mod_eq_of_lt (by omega)
    exact when_slt d c (show (j.val + 2) % 16 / 2 % 2 = 1 by omega) (by show (j.val + 2) % 16 / 2 / 2 * 2 + (j.val + 2) % 16 % 2 = _; omega) (by show T0 Z B c.val ((j.val + 2) % 16) = _; rw [e])
  · rw [when_neg h]
    simp only [if_neg h]
    exact Entails.refl _
theorem got1 : got (Py Z B) rc d c j 1 ⊢ (When (j.val / 2 % 4 = 2) (SltAny d c (j.val / 2 / 4 * 2 + j.val % 2)) : sProp 𝕄) := by
  have hj : j.val < 16 := j.isLt
  unfold got rc
  by_cases h : j.val / 2 = 2
  · rw [when_pos (by omega)]
    simp only [if_pos h]
    exact when_any d c (show (j.val - 4) % 16 / 2 = 0 ∨ (j.val - 4) % 16 / 2 = 2 by omega) (by show (j.val - 4) % 16 / 2 / 2 * 2 + (j.val - 4) % 16 % 2 = _; omega)
  by_cases h' : j.val / 2 = 6
  · rw [when_pos (by omega)]
    simp only [if_neg h, if_pos h']
    exact when_any d c (show (j.val - 8) % 16 / 2 = 0 ∨ (j.val - 8) % 16 / 2 = 2 by omega) (by show (j.val - 8) % 16 / 2 / 2 * 2 + (j.val - 8) % 16 % 2 = _; omega)
  · rw [when_neg (by omega)]
    simp only [if_neg h, if_neg h']
    exact Entails.refl _
theorem got2 : got (Py Z B) rc d c j 2 ⊢ (When (j.val / 2 % 4 = 0) (Slt d c (j.val / 2 / 4 * 2 + j.val % 2) (T1 Z B c.val (j.val + 4))) : sProp 𝕄) := by
  have hj : j.val < 16 := j.isLt
  unfold got rc
  by_cases h : j.val / 2 % 4 = 0
  · rw [when_pos h]
    simp only [if_pos h]
    have e : (j.val + 4) % 16 = j.val + 4 := Nat.mod_eq_of_lt (by omega)
    exact when_slt d c (show (j.val + 4) % 16 / 2 % 4 = 2 by omega) (by show (j.val + 4) % 16 / 2 / 4 * 2 + (j.val + 4) % 16 % 2 = _; omega) (by show T1 Z B c.val ((j.val + 4) % 16) = _; rw [e])
  · rw [when_neg h]
    simp only [if_neg h]
    exact Entails.refl _
theorem got3 : got (Py Z B) rc d c j 3 ⊢ (When (j.val / 2 = 4) (SltAny d c (j.val / 2 / 8 * 2 + j.val % 2)) : sProp 𝕄) := by
  have hj : j.val < 16 := j.isLt
  unfold got rc
  by_cases h : j.val / 2 = 4
  · rw [when_pos h]
    simp only [if_pos h]
    exact when_any d c (show (j.val - 8) % 16 / 2 = 0 by omega) (by show (j.val - 8) % 16 / 2 / 4 * 2 + (j.val - 8) % 16 % 2 = _; omega)
  · rw [when_neg h]
    simp only [if_neg h]
    exact Entails.refl _
theorem got4 : got (Py Z B) rc d c j 4 ⊢ (When (j.val / 2 = 0) (Slt d c (j.val / 2 / 8 * 2 + j.val % 2) (T2 Z B c.val (j.val + 8))) : sProp 𝕄) := by
  have hj : j.val < 16 := j.isLt
  unfold got rc
  by_cases h : j.val / 2 = 0
  · rw [when_pos h]
    simp only [if_pos h]
    have e : (j.val + 8) % 16 = j.val + 8 := Nat.mod_eq_of_lt (by omega)
    exact when_slt d c (show (j.val + 8) % 16 / 2 = 4 by omega) (by show (j.val + 8) % 16 / 2 / 8 * 2 + (j.val + 8) % 16 % 2 = _; omega) (by show T2 Z B c.val ((j.val + 8) % 16) = _; rw [e])
  · rw [when_neg h]
    simp only [if_neg h]
    exact Entails.refl _

/-- The staging tables a tile still holds at its end. -/
def kept (d : Dev nD) (c : Fin τ.nSC) (s : ℕ) : sProp (MT nD τ sig (HIx 6) (Elt F) ℕ UU ℕ) :=
  iprop(When (s / 2 = 4 ∨ s / 2 = 6) (SltAny d c (s / 2 / 2 * 2 + s % 2)) ∗ When (s / 2 = 4) (SltAny d c (s / 2 / 4 * 2 + s % 2)) ∗ When (s / 2 = 0) (SltAny d c (s / 2 / 8 * 2 + s % 2)))

theorem split1 (X : ℕ → ℕ → F .f32) : When (j.val / 2 % 2 = 0) (Slt d c (j.val / 2 / 2 * 2 + j.val % 2) X) ⊢ (iprop(Py Z B d c j 1 ∗ When (j.val / 2 = 4 ∨ j.val / 2 = 6) (SltAny d c (j.val / 2 / 2 * 2 + j.val % 2))) : sProp 𝕄) := by
  have hj : j.val < 16 := j.isLt
  unfold Py
  dsimp only
  by_cases h : j.val / 2 = 0 ∨ j.val / 2 = 2
  · rw [when_pos (p := j.val / 2 % 2 = 0) (by omega), when_pos (p := j.val / 2 = 0 ∨ j.val / 2 = 2) h, when_neg (p := j.val / 2 = 4 ∨ j.val / 2 = 6) (by omega)]
    iintro H
    isplitl [H]
    · iapply sltAny_intro $$ H
    · iempintro
  by_cases h' : j.val / 2 = 4 ∨ j.val / 2 = 6
  · rw [when_pos (p := j.val / 2 % 2 = 0) (by omega), when_neg (p := j.val / 2 = 0 ∨ j.val / 2 = 2) h, when_pos (p := j.val / 2 = 4 ∨ j.val / 2 = 6) h']
    iintro H
    isplitr
    · iempintro
    · iapply sltAny_intro $$ H
  · rw [when_neg (p := j.val / 2 % 2 = 0) (by omega), when_neg (p := j.val / 2 = 0 ∨ j.val / 2 = 2) h, when_neg (p := j.val / 2 = 4 ∨ j.val / 2 = 6) h']
    iintro H
    isplitr
    · iempintro
    · iempintro
theorem split3 (X : ℕ → ℕ → F .f32) : When (j.val / 2 % 4 = 0) (Slt d c (j.val / 2 / 4 * 2 + j.val % 2) X) ⊢ (iprop(Py Z B d c j 3 ∗ When (j.val / 2 = 4) (SltAny d c (j.val / 2 / 4 * 2 + j.val % 2))) : sProp 𝕄) := by
  have hj : j.val < 16 := j.isLt
  show _ ⊢ iprop(When (j.val / 2 = 0) (SltAny d c (j.val / 2 / 4 * 2 + j.val % 2)) ∗ When (j.val / 2 = 4) (SltAny d c (j.val / 2 / 4 * 2 + j.val % 2)))
  by_cases h : j.val / 2 = 0
  · rw [when_pos (p := j.val / 2 % 4 = 0) (by omega), when_pos (p := j.val / 2 = 0) h, when_neg (p := j.val / 2 = 4) (by omega)]
    iintro H
    isplitl [H]
    · iapply sltAny_intro $$ H
    · iempintro
  by_cases h' : j.val / 2 = 4
  · rw [when_pos (p := j.val / 2 % 4 = 0) (by omega), when_neg (p := j.val / 2 = 0) h, when_pos (p := j.val / 2 = 4) h']
    iintro H
    isplitr
    · iempintro
    · iapply sltAny_intro $$ H
  · rw [when_neg (p := j.val / 2 % 4 = 0) (by omega), when_neg (p := j.val / 2 = 0) h, when_neg (p := j.val / 2 = 4) h']
    iintro H
    isplitr
    · iempintro
    · iempintro
theorem split5 (X : ℕ → ℕ → F .f32) : When (j.val / 2 = 0) (Slt d c (j.val / 2 / 8 * 2 + j.val % 2) X) ⊢ (When (j.val / 2 = 0) (SltAny d c (j.val / 2 / 8 * 2 + j.val % 2)) : sProp 𝕄) := by
  by_cases h : j.val / 2 = 0
  · rw [when_pos h, when_pos h]
    exact sltAny_intro d c _ X
  · rw [when_neg h, when_neg h]
end Taken

section Tile
variable (i : grid0.Coords) (arg2 : Memref sig .scVector .hbm S160000x256 .f32) (harg2 : arg2.IsWhole) (arg3 : Memref sig .scVector .hbm S160000 .i32) (harg3 : arg3.IsWhole) (arg4 : Memref sig .scVector .hbm S2x512x256 .f32) (harg4 : arg4.IsWhole) (arg5 : Memref sig .scVector .hbm S16x8192 .f32) (harg5 : arg5.IsWhole) (arg6 : Memref sig .scVector .vmem S512x128 .f32) (harg6 : arg6.IsWhole) (arg7 : Memref sig .scVector .vmem S8192 .f32) (harg7 : arg7.IsWhole) (arg8 : Memref sig .scVector .smem S1 .i32) (harg8 : arg8.IsWhole) (arg9 : Memref sig .scVector .vmem S80 .i32) (harg9 : arg9.IsWhole) (arg10 : Memref sig .scVector .vmem S80 .i32) (harg10 : arg10.IsWhole) (arg11 : Memref sig .scVector .vmem S80x128 .f32) (harg11 : arg11.IsWhole) (arg12 : Memref sig .scVector .vmem S80x128 .f32) (harg12 : arg12.IsWhole) (arg13 : Memref sig .scVector .vmem S9x16 .f32) (harg13 : arg13.IsWhole) (arg14 : DmaSems sig S_) (arg15 : DmaSems sig S_) (arg16 : DmaSems sig S_) (arg17 : DmaSems sig S_) (harg18 : (stg).IsWhole) (v322_r0 : DmaSems sig S_) (v327_r1 : DmaSems sig S_) (v322_r2 : DmaSems sig S_) (v327_r3 : DmaSems sig S_) (v322_r4 : DmaSems sig S_) (v327_r5 : DmaSems sig S_) (v323_r6 : DmaSems sig S_) (v322_r7 : DmaSems sig S_)
variable {d : Dev nD} (q1 q2 : PosShare TreeShare) (Z : ℕ → ℕ → F .f32) (B : ℕ → BitVec 32) (hB : ∀ k, k < 160000 → accRow (B k) < 512)
  (O : CellTallies nD τ sig (HIx 6)) (W : Waits sig (HIx 6)) (hO0 : ∀ g, O g none = 0) (hO : ∀ g ι, 0 < O g ι → 46 ≤ (K (F := F)).lev g ι)
  (lv : GSem nD τ sig → HIx 6 → ℕ) (hlv : (K (F := F)).Refines lv) (κ κ' : Fin (grid0.bound 1) → ℕ)

abbrev At (r : ℕ) : sProp 𝕄 := at_ (Py Z B) rc κ κ' d (co i) (i 1) r
abbrev Got (r : ℕ) : sProp 𝕄 := got (Py Z B) rc d (co i) (i 1) r
abbrev Left (r : ℕ) : sProp 𝕄 := Py Z B d (co i) (i 1) r
abbrev Lev : sProp 𝕄 := levAts (K (F := F)).L lv
abbrev DebtR (r : ℕ) : sProp 𝕄 := Debt d (co i) (tn i) (O + oxs d (co i) r) W
abbrev Acc6 (A : ℕ → ℕ → F .f32) : sProp 𝕄 := Hd d (co i) (tn i) arg6 fullShare (mat A : S512x128.Idx → Elt F .f32)

include hO0 hlv in
theorem may (r : ℕ) : (Lev lv : sProp 𝕄) ⊢ May (d := d) i (O + oxs d (co i) r) :=
  (K (F := F)).mayWaits_none (fun g => by
    show O g none + oxs d (co i) r g none = 0
    rw [hO0, oxs_none]) lv hlv

include hO hlv in
theorem wp_barT {α : Type} {Q : α → sProp 𝕄} (r : ℕ) (hr : r < 6) (k : PR (F := F) i α) :
    iprop(Lev lv ∗ At (d := d) i Z B κ κ' r ∗ Left (d := d) i Z B r ∗ DebtR (d := d) (F := F) i O W r)
      ⊢ iprop((At (d := d) i Z B κ κ' (r + 1) ∗ Got (d := d) i Z B r ∗ DebtR (d := d) (F := F) i O W (r + 1) -∗ WP d (co i) (tn i) k Q)
        -∗ WP d (co i) (tn i) ((bar i).bind fun _ => k) Q) := by
  unfold bar
  exact wp_bar (Py Z B) rc κ κ' d (co i) (i 1) r hr O hO W lv hlv fun _ => k

include hO0 hO hlv

theorem wp_send1T {α : Type} {Q : α → sProp 𝕄} (k : PR (F := F) i α) :
    iprop(Lev lv ∗ At (d := d) i Z B κ κ' 0 ∗ When (lg i % 2 = 1) (SltAny d (co i) (lg i / 2 * 2 + hf i)) ∗ Acc6 (d := d) i arg6 (T0 Z B (i 0).val (i 1).val) ∗ S0 (d := d) (F := F) i v322_r0 ∗ DebtR (d := d) (F := F) i O W 0)
      ⊢ iprop((At (d := d) i Z B κ κ' 1 ∗ Got (d := d) i Z B 0 ∗ Acc6 (d := d) i arg6 (T0 Z B (i 0).val (i 1).val) ∗ S0 (d := d) (F := F) i v322_r0 ∗ DebtR (d := d) (F := F) i O W 1 -∗ WP d (co i) (tn i) k Q)
        -∗ WP d (co i) (tn i) (send1 i arg6 harg6 stg v322_r0 k) Q) := by
  iintro ⟨#HL, Hat, Hs, H6, H0, HD⟩ K
  ihave HM := (may (d := d) i O hO0 lv hlv 0) $$ HL
  iapply (wp_send1 i arg6 harg6 v322_r0 (O + oxs d (co i) 0) W (T0 Z B (i 0).val (i 1).val)) $$ [Hs H6 H0 HD HM]
  · isplitl [Hs]; · iexact Hs
    isplitl [H6]; · iexact H6
    isplitl [H0]; · iexact H0
    isplitl [HD] <;> iassumption
  iintro ⟨Hs, H6, H0, HD⟩
  iapply (wp_barT i Z B O W hO lv hlv κ κ' 0 (by omega) k) $$ [Hat Hs HD]
  · isplitr; · iexact HL
    isplitl [Hat]; · iexact Hat
    isplitl [Hs]
    · iapply (show When (lg i % 2 = 1) (Slt d (co i) (lg i / 2 * 2 + hf i) (T0 Z B (i 0).val (i 1).val)) ⊢ Left (d := d) i Z B 0 from Entails.refl _) $$ Hs
    iexact HD
  iintro ⟨Hat, Hg, HD⟩
  iapply K
  isplitl [Hat]; · iexact Hat
  isplitl [Hg]; · iexact Hg
  isplitl [H6]; · iexact H6
  isplitl [H0] <;> iassumption

theorem wp_slab1T {α : Type} {Q : α → sProp 𝕄} (k : PR (F := F) i α) :
    iprop(Lev lv ∗ At (d := d) i Z B κ κ' 1 ∗ Got (d := d) i Z B 0 ∗ Acc6 (d := d) i arg6 (T0 Z B (i 0).val (i 1).val) ∗ Any d (co i) (tn i) arg11 ∗ S0 (d := d) (F := F) i v327_r1 ∗ DebtR (d := d) (F := F) i O W 1)
      ⊢ iprop((At (d := d) i Z B κ κ' 2 ∗ Got (d := d) i Z B 1 ∗ When (lg i = 4 ∨ lg i = 6) (SltAny d (co i) (lg i / 2 * 2 + hf i)) ∗ Acc6 (d := d) i arg6 (T1 Z B (i 0).val (i 1).val) ∗ Any d (co i) (tn i) arg11 ∗ S0 (d := d) (F := F) i v327_r1 ∗ DebtR (d := d) (F := F) i O W 2 -∗ WP d (co i) (tn i) k Q)
        -∗ WP d (co i) (tn i) (slab1 i arg6 arg11 stg v327_r1 k) Q) := by
  iintro ⟨#HL, Hat, Hs, H6, H11, H0, HD⟩ K
  ihave HM := (may (d := d) i O hO0 lv hlv 1) $$ HL
  ihave Hs := (got0 Z B d (co i) (i 1)) $$ Hs
  iapply (wp_slab1 i arg6 arg11 v327_r1 (O + oxs d (co i) 1) W (T0 Z B (i 0).val (i 1).val) (T0 Z B (i 0).val ((i 1).val + 2))) $$ [Hs H6 H11 H0 HD HM]
  · isplitl [Hs]; · iexact Hs
    isplitl [H6]; · iexact H6
    isplitl [H11]; · iexact H11
    isplitl [H0]; · iexact H0
    isplitl [HD] <;> iassumption
  iintro ⟨Hs, H6, H11, H0, HD⟩
  ihave Hs := (show When (lg i % 2 = 0) (Slt d (co i) (lg i / 2 * 2 + hf i) (T0 Z B (i 0).val ((i 1).val + 2))) ⊢ iprop(Left (d := d) i Z B 1 ∗ When (lg i = 4 ∨ lg i = 6) (SltAny d (co i) (lg i / 2 * 2 + hf i))) from split1 Z B d (co i) (i 1) (T0 Z B (i 0).val ((i 1).val + 2))) $$ Hs
  icases Hs with ⟨Hp, Hs⟩
  iapply (wp_barT i Z B O W hO lv hlv κ κ' 1 (by omega) k) $$ [Hat Hp HD]
  · isplitr; · iexact HL
    isplitl [Hat]; · iexact Hat
    isplitl [Hp]; · iexact Hp
    iexact HD
  iintro ⟨Hat, Hg, HD⟩
  iapply K
  isplitl [Hat]; · iexact Hat
  isplitl [Hg]; · iexact Hg
  isplitl [Hs]; · iexact Hs
  isplitl [H6]; · iexact H6
  isplitl [H11]; · iexact H11
  isplitl [H0] <;> iassumption

theorem wp_send2T {α : Type} {Q : α → sProp 𝕄} (k : PR (F := F) i α) :
    iprop(Lev lv ∗ At (d := d) i Z B κ κ' 2 ∗ Got (d := d) i Z B 1 ∗ Acc6 (d := d) i arg6 (T1 Z B (i 0).val (i 1).val) ∗ S0 (d := d) (F := F) i v322_r2 ∗ DebtR (d := d) (F := F) i O W 2)
      ⊢ iprop((At (d := d) i Z B κ κ' 3 ∗ Got (d := d) i Z B 2 ∗ Acc6 (d := d) i arg6 (T1 Z B (i 0).val (i 1).val) ∗ S0 (d := d) (F := F) i v322_r2 ∗ DebtR (d := d) (F := F) i O W 3 -∗ WP d (co i) (tn i) k Q)
        -∗ WP d (co i) (tn i) (send2 i arg6 harg6 stg v322_r2 k) Q) := by
  iintro ⟨#HL, Hat, Hs, H6, H0, HD⟩ K
  ihave HM := (may (d := d) i O hO0 lv hlv 2) $$ HL
  ihave Hs := (got1 Z B d (co i) (i 1)) $$ Hs
  iapply (wp_send2 i arg6 harg6 v322_r2 (O + oxs d (co i) 2) W (T1 Z B (i 0).val (i 1).val)) $$ [Hs H6 H0 HD HM]
  · isplitl [Hs]; · iexact Hs
    isplitl [H6]; · iexact H6
    isplitl [H0]; · iexact H0
    isplitl [HD] <;> iassumption
  iintro ⟨Hs, H6, H0, HD⟩
  iapply (wp_barT i Z B O W hO lv hlv κ κ' 2 (by omega) k) $$ [Hat Hs HD]
  · isplitr; · iexact HL
    isplitl [Hat]; · iexact Hat
    isplitl [Hs]
    · iapply (show When (lg i % 4 = 2) (Slt d (co i) (lg i / 4 * 2 + hf i) (T1 Z B (i 0).val (i 1).val)) ⊢ Left (d := d) i Z B 2 from Entails.refl _) $$ Hs
    iexact HD
  iintro ⟨Hat, Hg, HD⟩
  iapply K
  isplitl [Hat]; · iexact Hat
  isplitl [Hg]; · iexact Hg
  isplitl [H6]; · iexact H6
  isplitl [H0] <;> iassumption

theorem wp_slab2T {α : Type} {Q : α → sProp 𝕄} (k : PR (F := F) i α) :
    iprop(Lev lv ∗ At (d := d) i Z B κ κ' 3 ∗ Got (d := d) i Z B 2 ∗ Acc6 (d := d) i arg6 (T1 Z B (i 0).val (i 1).val) ∗ Any d (co i) (tn i) arg11 ∗ S0 (d := d) (F := F) i v327_r3 ∗ DebtR (d := d) (F := F) i O W 3)
      ⊢ iprop((At (d := d) i Z B κ κ' 4 ∗ Got (d := d) i Z B 3 ∗ When (lg i = 4) (SltAny d (co i) (lg i / 4 * 2 + hf i)) ∗ Acc6 (d := d) i arg6 (T2 Z B (i 0).val (i 1).val) ∗ Any d (co i) (tn i) arg11 ∗ S0 (d := d) (F := F) i v327_r3 ∗ DebtR (d := d) (F := F) i O W 4 -∗ WP d (co i) (tn i) k Q)
        -∗ WP d (co i) (tn i) (slab2 i arg6 arg11 stg v327_r3 k) Q) := by
  iintro ⟨#HL, Hat, Hs, H6, H11, H0, HD⟩ K
  ihave HM := (may (d := d) i O hO0 lv hlv 3) $$ HL
  ihave Hs := (got2 Z B d (co i) (i 1)) $$ Hs
  iapply (wp_slab2 i arg6 arg11 v327_r3 (O + oxs d (co i) 3) W (T1 Z B (i 0).val (i 1).val) (T1 Z B (i 0).val ((i 1).val + 4))) $$ [Hs H6 H11 H0 HD HM]
  · isplitl [Hs]; · iexact Hs
    isplitl [H6]; · iexact H6
    isplitl [H11]; · iexact H11
    isplitl [H0]; · iexact H0
    isplitl [HD] <;> iassumption
  iintro ⟨Hs, H6, H11, H0, HD⟩
  ihave Hs := (show When (lg i % 4 = 0) (Slt d (co i) (lg i / 4 * 2 + hf i) (T1 Z B (i 0).val ((i 1).val + 4))) ⊢ iprop(Left (d := d) i Z B 3 ∗ When (lg i = 4) (SltAny d (co i) (lg i / 4 * 2 + hf i))) from split3 Z B d (co i) (i 1) (T1 Z B (i 0).val ((i 1).val + 4))) $$ Hs
  icases Hs with ⟨Hp, Hs⟩
  iapply (wp_barT i Z B O W hO lv hlv κ κ' 3 (by omega) k) $$ [Hat Hp HD]
  · isplitr; · iexact HL
    isplitl [Hat]; · iexact Hat
    isplitl [Hp]; · iexact Hp
    iexact HD
  iintro ⟨Hat, Hg, HD⟩
  iapply K
  isplitl [Hat]; · iexact Hat
  isplitl [Hg]; · iexact Hg
  isplitl [Hs]; · iexact Hs
  isplitl [H6]; · iexact H6
  isplitl [H11]; · iexact H11
  isplitl [H0] <;> iassumption

theorem wp_send3T {α : Type} {Q : α → sProp 𝕄} (k : PR (F := F) i α) :
    iprop(Lev lv ∗ At (d := d) i Z B κ κ' 4 ∗ Got (d := d) i Z B 3 ∗ Acc6 (d := d) i arg6 (T2 Z B (i 0).val (i 1).val) ∗ S0 (d := d) (F := F) i v322_r4 ∗ DebtR (d := d) (F := F) i O W 4)
      ⊢ iprop((At (d := d) i Z B κ κ' 5 ∗ Got (d := d) i Z B 4 ∗ Acc6 (d := d) i arg6 (T2 Z B (i 0).val (i 1).val) ∗ S0 (d := d) (F := F) i v322_r4 ∗ DebtR (d := d) (F := F) i O W 5 -∗ WP d (co i) (tn i) k Q)
        -∗ WP d (co i) (tn i) (send3 i arg6 harg6 stg v322_r4 k) Q) := by
  iintro ⟨#HL, Hat, Hs, H6, H0, HD⟩ K
  ihave HM := (may (d := d) i O hO0 lv hlv 4) $$ HL
  ihave Hs := (got3 Z B d (co i) (i 1)) $$ Hs
  iapply (wp_send3 i arg6 harg6 v322_r4 (O + oxs d (co i) 4) W (T2 Z B (i 0).val (i 1).val)) $$ [Hs H6 H0 HD HM]
  · isplitl [Hs]; · iexact Hs
    isplitl [H6]; · iexact H6
    isplitl [H0]; · iexact H0
    isplitl [HD] <;> iassumption
  iintro ⟨Hs, H6, H0, HD⟩
  iapply (wp_barT i Z B O W hO lv hlv κ κ' 4 (by omega) k) $$ [Hat Hs HD]
  · isplitr; · iexact HL
    isplitl [Hat]; · iexact Hat
    isplitl [Hs]
    · iapply (show When (lg i = 4) (Slt d (co i) (lg i / 8 * 2 + hf i) (T2 Z B (i 0).val (i 1).val)) ⊢ Left (d := d) i Z B 4 from Entails.refl _) $$ Hs
    iexact HD
  iintro ⟨Hat, Hg, HD⟩
  iapply K
  isplitl [Hat]; · iexact Hat
  isplitl [Hg]; · iexact Hg
  isplitl [H6]; · iexact H6
  isplitl [H0] <;> iassumption

theorem wp_slab3T {α : Type} {Q : α → sProp 𝕄} (k : PR (F := F) i α) :
    iprop(Lev lv ∗ At (d := d) i Z B κ κ' 5 ∗ Got (d := d) i Z B 4 ∗ Acc6 (d := d) i arg6 (T2 Z B (i 0).val (i 1).val) ∗ Any d (co i) (tn i) arg11 ∗ S0 (d := d) (F := F) i v327_r5 ∗ DebtR (d := d) (F := F) i O W 5)
      ⊢ iprop((At (d := d) i Z B κ κ' 6 ∗ When (lg i = 0) (SltAny d (co i) (lg i / 8 * 2 + hf i)) ∗ Acc6 (d := d) i arg6 (T3 Z B (i 0).val (i 1).val) ∗ Any d (co i) (tn i) arg11 ∗ S0 (d := d) (F := F) i v327_r5 ∗ DebtR (d := d) (F := F) i O W 6 -∗ WP d (co i) (tn i) k Q)
        -∗ WP d (co i) (tn i) (slab3 i arg6 arg11 stg v327_r5 k) Q) := by
  iintro ⟨#HL, Hat, Hs, H6, H11, H0, HD⟩ K
  ihave HM := (may (d := d) i O hO0 lv hlv 5) $$ HL
  ihave Hs := (got4 Z B d (co i) (i 1)) $$ Hs
  iapply (wp_slab3 i arg6 arg11 v327_r5 (O + oxs d (co i) 5) W (T2 Z B (i 0).val (i 1).val) (T2 Z B (i 0).val ((i 1).val + 8))) $$ [Hs H6 H11 H0 HD HM]
  · isplitl [Hs]; · iexact Hs
    isplitl [H6]; · iexact H6
    isplitl [H11]; · iexact H11
    isplitl [H0]; · iexact H0
    isplitl [HD] <;> iassumption
  iintro ⟨Hs, H6, H11, H0, HD⟩
  ihave Hs := (show When (lg i = 0) (Slt d (co i) (lg i / 8 * 2 + hf i) (T2 Z B (i 0).val ((i 1).val + 8))) ⊢ When (lg i = 0) (SltAny d (co i) (lg i / 8 * 2 + hf i)) from split5 d (co i) (i 1) (T2 Z B (i 0).val ((i 1).val + 8))) $$ Hs
  ihave Hp := (show (emp : sProp 𝕄) ⊢ Left (d := d) i Z B 5 from Entails.refl _) $$ []
  · iempintro
  iapply (wp_barT i Z B O W hO lv hlv κ κ' 5 (by omega) k) $$ [Hat Hp HD]
  · isplitr; · iexact HL
    isplitl [Hat]; · iexact Hat
    isplitl [Hp]; · iexact Hp
    iexact HD
  iintro ⟨Hat, Hg, HD⟩
  iapply K
  isplitl [Hat]; · iexact Hat
  isplitl [Hs]; · iexact Hs
  isplitl [H6]; · iexact H6
  isplitl [H11]; · iexact H11
  isplitl [H0] <;> iassumption

end Tile

end Cert.Proof.Pool

end
-- ==== Proof.Whole.lean ====
/-
  A tile's program, from its first window to its last.
-/
module

public import proofs.«01_k».proof.Proof.Tile

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 6) (Elt F) ℕ UU ℕ

attribute [local instance] blocks

section Tile
variable (i : grid0.Coords) (arg2 : Memref sig .scVector .hbm S160000x256 .f32) (harg2 : arg2.IsWhole) (arg3 : Memref sig .scVector .hbm S160000 .i32) (harg3 : arg3.IsWhole) (arg4 : Memref sig .scVector .hbm S2x512x256 .f32) (harg4 : arg4.IsWhole) (arg5 : Memref sig .scVector .hbm S16x8192 .f32) (harg5 : arg5.IsWhole) (arg6 : Memref sig .scVector .vmem S512x128 .f32) (harg6 : arg6.IsWhole) (arg7 : Memref sig .scVector .vmem S8192 .f32) (harg7 : arg7.IsWhole) (arg8 : Memref sig .scVector .smem S1 .i32) (harg8 : arg8.IsWhole) (arg9 : Memref sig .scVector .vmem S80 .i32) (harg9 : arg9.IsWhole) (arg10 : Memref sig .scVector .vmem S80 .i32) (harg10 : arg10.IsWhole) (arg11 : Memref sig .scVector .vmem S80x128 .f32) (harg11 : arg11.IsWhole) (arg12 : Memref sig .scVector .vmem S80x128 .f32) (harg12 : arg12.IsWhole) (arg13 : Memref sig .scVector .vmem S9x16 .f32) (harg13 : arg13.IsWhole) (arg14 : DmaSems sig S_) (arg15 : DmaSems sig S_) (arg16 : DmaSems sig S_) (arg17 : DmaSems sig S_) (harg18 : (stg).IsWhole) (v322_r0 : DmaSems sig S_) (v327_r1 : DmaSems sig S_) (v322_r2 : DmaSems sig S_) (v327_r3 : DmaSems sig S_) (v322_r4 : DmaSems sig S_) (v327_r5 : DmaSems sig S_) (v323_r6 : DmaSems sig S_) (v322_r7 : DmaSems sig S_)
variable {d : Dev nD} (q1 q2 : PosShare TreeShare) (Z : ℕ → ℕ → F .f32) (B : ℕ → BitVec 32) (hB : ∀ k, k < 160000 → accRow (B k) < 512)
  (O : CellTallies nD τ sig (HIx 6)) (W : Waits sig (HIx 6)) (hO0 : ∀ g, O g none = 0) (hO : ∀ g ι, 0 < O g ι → 46 ≤ (K (F := F)).lev g ι)
  (lv : GSem nD τ sig → HIx 6 → ℕ) (hlv : (K (F := F)).Refines lv) (κ κ' : Fin (grid0.bound 1) → ℕ)

/-- What a tile's program takes, and what it leaves. -/
abbrev TilePre : sProp 𝕄 :=
  iprop(At (d := d) i Z B κ κ' 0 ∗ When (lg i % 2 = 1) (SltAny d (co i) (lg i / 2 * 2 + hf i))
    ∗ TabB (d := d) i arg3 B q1 ∗ TabZ (d := d) i arg2 Z q1 ∗ TabB (d := d) i arg3 B q2 ∗ TabZ (d := d) i arg2 Z q2
    ∗ When (lg i = 0) (Any d (co i) (tn i) (sumsT i arg4)) ∗ When (hf i = 0) (Any d (co i) (tn i) (cntsT i arg5)))
abbrev TilePost : sProp 𝕄 :=
  iprop(At (d := d) i Z B κ κ' 6 ∗ (When (lg i = 4 ∨ lg i = 6) (SltAny d (co i) (lg i / 2 * 2 + hf i)) ∗ When (lg i = 4) (SltAny d (co i) (lg i / 4 * 2 + hf i)) ∗ When (lg i = 0) (SltAny d (co i) (lg i / 8 * 2 + hf i)))
    ∗ TabB (d := d) i arg3 B q1 ∗ TabZ (d := d) i arg2 Z q1 ∗ TabB (d := d) i arg3 B q2 ∗ TabZ (d := d) i arg2 Z q2
    ∗ When (lg i = 0) (Hd d (co i) (tn i) (sumsT i arg4) fullShare (mat (T3 Z B (i 0).val (i 1).val))) ∗ When (hf i = 0) (Hd d (co i) (tn i) (cntsT i arg5) fullShare (lin (CN Z B (i 0).val (i 1).val))))
abbrev TileBufs : sProp 𝕄 :=
  iprop(Any d (co i) (tn i) arg6 ∗ Any d (co i) (tn i) arg7 ∗ Any d (co i) (tn i) arg8 ∗ Any d (co i) (tn i) arg9 ∗ Any d (co i) (tn i) arg10 ∗ Any d (co i) (tn i) arg11 ∗ Any d (co i) (tn i) arg12 ∗ Any d (co i) (tn i) arg13)
abbrev TileSems : sProp 𝕄 :=
  iprop(S0 (d := d) (F := F) i arg14 ∗ S0 (d := d) (F := F) i arg15 ∗ S0 (d := d) (F := F) i arg16 ∗ S0 (d := d) (F := F) i arg17 ∗ S0 (d := d) (F := F) i v322_r0 ∗ S0 (d := d) (F := F) i v327_r1
    ∗ S0 (d := d) (F := F) i v322_r2 ∗ S0 (d := d) (F := F) i v327_r3 ∗ S0 (d := d) (F := F) i v322_r4 ∗ S0 (d := d) (F := F) i v327_r5 ∗ S0 (d := d) (F := F) i v323_r6 ∗ S0 (d := d) (F := F) i v322_r7)

include hO0 hO hlv

theorem wp_317 {Q : _ → sProp 𝕄} (a b c : BitVec 32) :
    iprop(Lev lv ∗ At (d := d) i Z B κ κ' 1 ∗ Got (d := d) i Z B 0 ∗ Acc6 (d := d) i arg6 (T0 Z B (i 0).val (i 1).val) ∗ Any d (co i) (tn i) arg11 ∗ S0 (d := d) (F := F) i v327_r1 ∗ DebtR (d := d) (F := F) i O W 1)
      ⊢ iprop((At (d := d) i Z B κ κ' 2 ∗ Got (d := d) i Z B 1 ∗ When (lg i = 4 ∨ lg i = 6) (SltAny d (co i) (lg i / 2 * 2 + hf i)) ∗ Acc6 (d := d) i arg6 (T1 Z B (i 0).val (i 1).val) ∗ Any d (co i) (tn i) arg11 ∗ S0 (d := d) (F := F) i v327_r1 ∗ DebtR (d := d) (F := F) i O W 2 -∗ ∀ r, Q r)
        -∗ WP d (co i) (tn i) (k0_part317 i arg2 harg2 arg3 harg3 arg4 harg4 arg5 harg5 arg6 harg6 arg7 harg7 arg8 harg8 arg9 harg9 arg10 harg10 arg11 harg11 arg12 harg12 arg13 harg13 arg14 arg15 arg16 arg17 stg harg18 v322_r0 v327_r1 v322_r2 v327_r3 v322_r4 v327_r5 v323_r6 v322_r7 a b c) Q) := by
  obtain ⟨r, e⟩ := part317_eq (F := F) i arg2 harg2 arg3 harg3 arg4 harg4 arg5 harg5 arg6 harg6 arg7 harg7 arg8 harg8 arg9 harg9 arg10 harg10 arg11 harg11 arg12 harg12 arg13 harg13 arg14 arg15 arg16 arg17 stg harg18 v322_r0 v327_r1 v322_r2 v327_r3 v322_r4 v327_r5 v323_r6 v322_r7 a b c
  rw [e]
  iintro H K
  iapply (wp_slab1T i arg6 arg11 v327_r1 Z B O W hO0 hO lv hlv κ κ' (.ret r)) $$ H
  iintro H
  iapply wp_done
  iapply K $$ H

theorem wp_318 {Q : _ → sProp 𝕄} (a b c : BitVec 32) (d' e' : BitVec 1) :
    iprop(Lev lv ∗ At (d := d) i Z B κ κ' 2 ∗ Got (d := d) i Z B 1 ∗ Acc6 (d := d) i arg6 (T1 Z B (i 0).val (i 1).val) ∗ Any d (co i) (tn i) arg11 ∗ S0 (d := d) (F := F) i v322_r2 ∗ S0 (d := d) (F := F) i v327_r3 ∗ DebtR (d := d) (F := F) i O W 2)
      ⊢ iprop((At (d := d) i Z B κ κ' 4 ∗ Got (d := d) i Z B 3 ∗ When (lg i = 4) (SltAny d (co i) (lg i / 4 * 2 + hf i)) ∗ Acc6 (d := d) i arg6 (T2 Z B (i 0).val (i 1).val) ∗ Any d (co i) (tn i) arg11 ∗ S0 (d := d) (F := F) i v322_r2 ∗ S0 (d := d) (F := F) i v327_r3 ∗ DebtR (d := d) (F := F) i O W 4 -∗ ∀ r, Q r)
        -∗ WP d (co i) (tn i) (k0_part318 i arg2 harg2 arg3 harg3 arg4 harg4 arg5 harg5 arg6 harg6 arg7 harg7 arg8 harg8 arg9 harg9 arg10 harg10 arg11 harg11 arg12 harg12 arg13 harg13 arg14 arg15 arg16 arg17 stg harg18 v322_r0 v327_r1 v322_r2 v327_r3 v322_r4 v327_r5 v323_r6 v322_r7 a b c d' e') Q) := by
  obtain ⟨r, e⟩ := part318_eq (F := F) i arg2 harg2 arg3 harg3 arg4 harg4 arg5 harg5 arg6 harg6 arg7 harg7 arg8 harg8 arg9 harg9 arg10 harg10 arg11 harg11 arg12 harg12 arg13 harg13 arg14 arg15 arg16 arg17 stg harg18 v322_r0 v327_r1 v322_r2 v327_r3 v322_r4 v327_r5 v323_r6 v322_r7 a b c d' e'
  rw [e]
  iintro ⟨#HL, Hat, Hg, H6, H11, Hs1, Hs2, HD⟩ K
  iapply (wp_send2T i arg6 harg6 v322_r2 Z B O W hO0 hO lv hlv κ κ' _) $$ [Hat Hg H6 Hs1 HD]
  · isplitr; · iexact HL
    isplitl [Hat]; · iexact Hat
    isplitl [Hg]; · iexact Hg
    isplitl [H6]; · iexact H6
    isplitl [Hs1] <;> iassumption
  iintro ⟨Hat, Hg, H6, Hs1, HD⟩
  iapply (wp_slab2T i arg6 arg11 v327_r3 Z B O W hO0 hO lv hlv κ κ' (.ret r)) $$ [Hat Hg H6 H11 Hs2 HD]
  · isplitr; · iexact HL
    isplitl [Hat]; · iexact Hat
    isplitl [Hg]; · iexact Hg
    isplitl [H6]; · iexact H6
    isplitl [H11]; · iexact H11
    isplitl [Hs2] <;> iassumption
  iintro ⟨Hat, Hg, Hk, H6, H11, Hs2, HD⟩
  iapply wp_done
  iapply K $$ [Hat Hg Hk H6 H11 Hs1 Hs2 HD]
  isplitl [Hat]; · iexact Hat
  isplitl [Hg]; · iexact Hg
  isplitl [Hk]; · iexact Hk
  isplitl [H6]; · iexact H6
  isplitl [H11]; · iexact H11
  isplitl [Hs1]; · iexact Hs1
  isplitl [Hs2] <;> iassumption

theorem wp_319 {Q : _ → sProp 𝕄} (a b c : BitVec 32) (d' : BitVec 1) (e' : BitVec 32) :
    iprop(Lev lv ∗ At (d := d) i Z B κ κ' 4 ∗ Got (d := d) i Z B 3 ∗ Acc6 (d := d) i arg6 (T2 Z B (i 0).val (i 1).val) ∗ Any d (co i) (tn i) arg11 ∗ When (lg i = 0) (Any d (co i) (tn i) (sumsT i arg4)) ∗ S0 (d := d) (F := F) i v322_r4 ∗ S0 (d := d) (F := F) i v327_r5 ∗ S0 (d := d) (F := F) i v323_r6 ∗ DebtR (d := d) (F := F) i O W 4)
      ⊢ iprop((At (d := d) i Z B κ κ' 6 ∗ When (lg i = 0) (SltAny d (co i) (lg i / 8 * 2 + hf i)) ∗ Acc6 (d := d) i arg6 (T3 Z B (i 0).val (i 1).val) ∗ Any d (co i) (tn i) arg11 ∗ When (lg i = 0) (Hd d (co i) (tn i) (sumsT i arg4) fullShare (mat (T3 Z B (i 0).val (i 1).val))) ∗ S0 (d := d) (F := F) i v322_r4 ∗ S0 (d := d) (F := F) i v327_r5 ∗ S0 (d := d) (F := F) i v323_r6 ∗ DebtR (d := d) (F := F) i O W 6 -∗ ∀ r, Q r)
        -∗ WP d (co i) (tn i) (k0_part319 i arg2 harg2 arg3 harg3 arg4 harg4 arg5 harg5 arg6 harg6 arg7 harg7 arg8 harg8 arg9 harg9 arg10 harg10 arg11 harg11 arg12 harg12 arg13 harg13 arg14 arg15 arg16 arg17 stg harg18 v322_r0 v327_r1 v322_r2 v327_r3 v322_r4 v327_r5 v323_r6 v322_r7 a b c d' e') Q) := by
  obtain ⟨r, e⟩ := part319_eq (F := F) i arg2 harg2 arg3 harg3 arg4 harg4 arg5 harg5 arg6 harg6 arg7 harg7 arg8 harg8 arg9 harg9 arg10 harg10 arg11 harg11 arg12 harg12 arg13 harg13 arg14 arg15 arg16 arg17 stg harg18 v322_r0 v327_r1 v322_r2 v327_r3 v322_r4 v327_r5 v323_r6 v322_r7 a b c d' e'
  rw [e]
  iintro ⟨#HL, Hat, Hg, H6, H11, H4, Hs1, Hs2, Hs3, HD⟩ K
  iapply (wp_send3T i arg6 harg6 v322_r4 Z B O W hO0 hO lv hlv κ κ' _) $$ [Hat Hg H6 Hs1 HD]
  · isplitr; · iexact HL
    isplitl [Hat]; · iexact Hat
    isplitl [Hg]; · iexact Hg
    isplitl [H6]; · iexact H6
    isplitl [Hs1] <;> iassumption
  iintro ⟨Hat, Hg, H6, Hs1, HD⟩
  iapply (wp_slab3T i arg6 arg11 v327_r5 Z B O W hO0 hO lv hlv κ κ' _) $$ [Hat Hg H6 H11 Hs2 HD]
  · isplitr; · iexact HL
    isplitl [Hat]; · iexact Hat
    isplitl [Hg]; · iexact Hg
    isplitl [H6]; · iexact H6
    isplitl [H11]; · iexact H11
    isplitl [Hs2] <;> iassumption
  iintro ⟨Hat, Hk, H6, H11, Hs2, HD⟩
  ihave HM := (may (d := d) i O hO0 lv hlv 6) $$ HL
  iapply (wp_out1 i arg4 arg6 harg6 v323_r6 (O + oxs d (co i) 6) W (T3 Z B (i 0).val (i 1).val)) $$ [H4 H6 Hs3 HD HM]
  · isplitl [H4]; · iexact H4
    isplitl [H6]; · iexact H6
    isplitl [Hs3]; · iexact Hs3
    isplitl [HD] <;> iassumption
  iintro ⟨H4, H6, Hs3, HD⟩
  iapply wp_done
  iapply K $$ [Hat Hk H6 H11 H4 Hs1 Hs2 Hs3 HD]
  isplitl [Hat]; · iexact Hat
  isplitl [Hk]; · iexact Hk
  isplitl [H6]; · iexact H6
  isplitl [H11]; · iexact H11
  isplitl [H4]; · iexact H4
  isplitl [Hs1]; · iexact Hs1
  isplitl [Hs2]; · iexact Hs2
  isplitl [Hs3] <;> iassumption

include hB

set_option maxHeartbeats 2000000 in
/-- A tile's whole run. -/
theorem wp_body :
    iprop(Lev lv ∗ TilePre (d := d) i arg2 arg3 arg4 arg5 q1 q2 Z B κ κ' ∗ TileBufs (d := d) (F := F) i arg6 arg7 arg8 arg9 arg10 arg11 arg12 arg13 ∗ TileSems (d := d) (F := F) i arg14 arg15 arg16 arg17 v322_r0 v327_r1 v322_r2 v327_r3 v322_r4 v327_r5 v323_r6 v322_r7 ∗ DebtR (d := d) (F := F) i O W 0)
      ⊢ WP d (co i) (tn i) (cc0_body i arg2 harg2 arg3 harg3 arg4 harg4 arg5 harg5 arg6 harg6 arg7 harg7 arg8 harg8 arg9 harg9 arg10 harg10 arg11 harg11 arg12 harg12 arg13 harg13 arg14 arg15 arg16 arg17 stg harg18 v322_r0 v327_r1 v322_r2 v327_r3 v322_r4 v327_r5 v323_r6 v322_r7) fun _ =>
        iprop(TilePost (d := d) i arg2 arg3 arg4 arg5 q1 q2 Z B κ κ' ∗ TileBufs (d := d) (F := F) i arg6 arg7 arg8 arg9 arg10 arg11 arg12 arg13 ∗ TileSems (d := d) (F := F) i arg14 arg15 arg16 arg17 v322_r0 v327_r1 v322_r2 v327_r3 v322_r4 v327_r5 v323_r6 v322_r7 ∗ Debt d (co i) (tn i) O W) := by
  obtain ⟨r, e⟩ := part311_eq (F := F) i arg2 harg2 arg3 harg3 arg4 harg4 arg5 harg5 arg6 harg6 arg7 harg7 arg8 harg8 arg9 harg9 arg10 harg10 arg11 harg11 arg12 harg12 arg13 harg13 arg14 arg15 arg16 arg17 stg harg18 v322_r0 v327_r1 v322_r2 v327_r3 v322_r4 v327_r5 v323_r6 v322_r7
  have hA : (stAt Z B i 125).flush.A = T0 Z B (i 0).val (i 1).val := by
    unfold T0
    rw [tileAt_self]
  have hC : (stAt Z B i 125).flush.C = CN Z B (i 0).val (i 1).val := by
    unfold CN
    rw [tileAt_self]
  rw [cc0_body_eq, e]
  iintro ⟨#HL, ⟨Hat, Hst, HB1, HZ1, HB2, HZ2, H4, H5⟩, ⟨H6, H7, H8, H9, H10, H11, H12, H13⟩, ⟨S14, S15, S16, S17, R0, R1, R2, R3, R4, R5, R6, R7⟩, HD⟩
  iapply wp_seq
  iapply wp_done
  iapply wp_seq
  iapply (wp_312 i arg2 harg2 arg3 harg3 arg4 harg4 arg5 harg5 arg6 harg6 arg7 harg7 arg8 harg8 arg9 harg9 arg10 harg10 arg11 harg11 arg12 harg12 arg13 harg13 arg14 arg15 arg16 arg17 stg harg18 v322_r0 v327_r1 v322_r2 v327_r3 v322_r4 v327_r5 v323_r6 v322_r7 B hB _ _ _ _ _ _) $$ [H6 H7 H8 H13]
  · isplitl [H6]; · iexact H6
    isplitl [H7]; · iexact H7
    isplitl [H13] <;> iassumption
  iintro %Rw HO %v45
  iapply wp_seq
  ihave HM := (may (d := d) i O hO0 lv hlv 0) $$ HL
  iapply (wp_313 i arg2 harg2 arg3 harg3 arg4 harg4 arg5 harg5 arg6 harg6 arg7 harg7 arg8 harg8 arg9 harg9 arg10 harg10 arg11 harg11 arg12 harg12 arg13 harg13 arg14 arg15 arg16 arg17 stg harg18 v322_r0 v327_r1 v322_r2 v327_r3 v322_r4 v327_r5 v323_r6 v322_r7 q1 q2 Z B hB (O + oxs d (co i) 0) W _ _ Rw) $$ [HB1 HZ1 HB2 HZ2 S14 S16 S15 S17 H9 H11 H10 H12 HD HM HO]
  · isplitr [HO]
    · isplitl [HB1]; · iexact HB1
      isplitl [HZ1]; · iexact HZ1
      isplitl [HB2]; · iexact HB2
      isplitl [HZ2]; · iexact HZ2
      isplitl [S14]; · iexact S14
      isplitl [S16]; · iexact S16
      isplitl [S15]; · iexact S15
      isplitl [S17]; · iexact S17
      isplitl [H9]; · iexact H9
      isplitl [H11]; · iexact H11
      isplitl [H10]; · iexact H10
      isplitl [H12]; · iexact H12
      isplitl [HD]; · iexact HD
      iexact HM
    · iexact HO
  iintro HMid %c
  iapply (wp_flush i arg2 harg2 arg3 harg3 arg4 harg4 arg5 harg5 arg6 harg6 arg7 harg7 arg8 harg8 arg9 harg9 arg10 harg10 arg11 harg11 arg12 harg12 arg13 harg13 arg14 arg15 arg16 arg17 stg harg18 v322_r0 v327_r1 v322_r2 v327_r3 v322_r4 v327_r5 v323_r6 v322_r7 q1 q2 Z B hB (O + oxs d (co i) 0) W _ _ _ _ _ _) $$ HMid
  iintro ⟨⟨HB1, HZ1, HB2, HZ2, S14, S16, S15, S17, H9, H11, H10, H12, HD, -⟩, ⟨H6, H7, H13, H8⟩⟩
  ihave H6 := (Entails.of_eq (congrArg (fun w => (Hd d (co i) (tn i) arg6 fullShare (mat w : S512x128.Idx → Elt F .f32) : sProp 𝕄)) hA)) $$ H6
  ihave H7 := (Entails.of_eq (congrArg (fun w => (Hd d (co i) (tn i) arg7 fullShare (lin w : S8192.Idx → Elt F .f32) : sProp 𝕄)) hC)) $$ H7
  iapply wp_seq
  iapply (wp_send1T i arg6 harg6 v322_r0 Z B O W hO0 hO lv hlv κ κ' _) $$ [Hat Hst H6 R0 HD]
  · isplitr; · iexact HL
    isplitl [Hat]; · iexact Hat
    isplitl [Hst]; · iexact Hst
    isplitl [H6]; · iexact H6
    isplitl [R0] <;> iassumption
  iintro ⟨Hat, Hg, H6, R0, HD⟩
  iapply wp_done
  iapply wp_seq
  iapply (wp_317 i arg2 harg2 arg3 harg3 arg4 harg4 arg5 harg5 arg6 harg6 arg7 harg7 arg8 harg8 arg9 harg9 arg10 harg10 arg11 harg11 arg12 harg12 arg13 harg13 arg14 arg15 arg16 arg17 harg18 v322_r0 v327_r1 v322_r2 v327_r3 v322_r4 v327_r5 v323_r6 v322_r7 Z B O W hO0 hO lv hlv κ κ' _ _ _) $$ [Hat Hg H6 H11 R1 HD]
  · isplitr; · iexact HL
    isplitl [Hat]; · iexact Hat
    isplitl [Hg]; · iexact Hg
    isplitl [H6]; · iexact H6
    isplitl [H11]; · iexact H11
    isplitl [R1] <;> iassumption
  iintro ⟨Hat, Hg, Hk1, H6, H11, R1, HD⟩ %f
  iapply wp_seq
  iapply (wp_318 i arg2 harg2 arg3 harg3 arg4 harg4 arg5 harg5 arg6 harg6 arg7 harg7 arg8 harg8 arg9 harg9 arg10 harg10 arg11 harg11 arg12 harg12 arg13 harg13 arg14 arg15 arg16 arg17 harg18 v322_r0 v327_r1 v322_r2 v327_r3 v322_r4 v327_r5 v323_r6 v322_r7 Z B O W hO0 hO lv hlv κ κ' _ _ _ _ _) $$ [Hat Hg H6 H11 R2 R3 HD]
  · isplitr; · iexact HL
    isplitl [Hat]; · iexact Hat
    isplitl [Hg]; · iexact Hg
    isplitl [H6]; · iexact H6
    isplitl [H11]; · iexact H11
    isplitl [R2]; · iexact R2
    isplitl [R3] <;> iassumption
  iintro ⟨Hat, Hg, Hk2, H6, H11, R2, R3, HD⟩ %g
  iapply wp_seq
  iapply (wp_319 i arg2 harg2 arg3 harg3 arg4 harg4 arg5 harg5 arg6 harg6 arg7 harg7 arg8 harg8 arg9 harg9 arg10 harg10 arg11 harg11 arg12 harg12 arg13 harg13 arg14 arg15 arg16 arg17 harg18 v322_r0 v327_r1 v322_r2 v327_r3 v322_r4 v327_r5 v323_r6 v322_r7 Z B O W hO0 hO lv hlv κ κ' _ _ _ _ _) $$ [Hat Hg H6 H11 H4 R4 R5 R6 HD]
  · isplitr; · iexact HL
    isplitl [Hat]; · iexact Hat
    isplitl [Hg]; · iexact Hg
    isplitl [H6]; · iexact H6
    isplitl [H11]; · iexact H11
    isplitl [H4]; · iexact H4
    isplitl [R4]; · iexact R4
    isplitl [R5]; · iexact R5
    isplitl [R6] <;> iassumption
  iintro ⟨Hat, Hk3, H6, H11, H4, R4, R5, R6, HD⟩ %x
  ihave HM := (may (d := d) i O hO0 lv hlv 6) $$ HL
  iapply (wp_out2 i arg5 arg7 harg7 v322_r7 (O + oxs d (co i) 6) W (CN Z B (i 0).val (i 1).val) _) $$ [H5 H7 R7 HD HM]
  · isplitl [H5]; · iexact H5
    isplitl [H7]; · iexact H7
    isplitl [R7]; · iexact R7
    isplitl [HD] <;> iassumption
  iintro ⟨H5, H7, R7, HD⟩
  iapply wp_done
  isplitl [Hat Hk1 Hk2 Hk3 HB1 HZ1 HB2 HZ2 H4 H5]
  · isplitl [Hat]; · iexact Hat
    isplitl [Hk1 Hk2 Hk3]
    · isplitl [Hk1]; · iexact Hk1
      isplitl [Hk2] <;> iassumption
    isplitl [HB1]; · iexact HB1
    isplitl [HZ1]; · iexact HZ1
    isplitl [HB2]; · iexact HB2
    isplitl [HZ2]; · iexact HZ2
    isplitl [H4] <;> iassumption
  isplitl [H6 H7 H8 H9 H10 H11 H12 H13]
  · isplitl [H6]; · iapply (any_intro arg6 _) $$ H6
    isplitl [H7]; · iapply (any_intro arg7 _) $$ H7
    isplitl [H8]; · iapply (any_intro arg8 _) $$ H8
    isplitl [H9]; · iexact H9
    isplitl [H10]; · iexact H10
    isplitl [H11]; · iexact H11
    isplitl [H12]; · iexact H12
    iapply (any_intro arg13 _) $$ H13
  isplitl [S14 S15 S16 S17 R0 R1 R2 R3 R4 R5 R6 R7]
  · isplitl [S14]; · iexact S14
    isplitl [S15]; · iexact S15
    isplitl [S16]; · iexact S16
    isplitl [S17]; · iexact S17
    isplitl [R0]; · iexact R0
    isplitl [R1]; · iexact R1
    isplitl [R2]; · iexact R2
    isplitl [R3]; · iexact R3
    isplitl [R4]; · iexact R4
    isplitl [R5]; · iexact R5
    isplitl [R6] <;> iassumption
  iapply (Entails.of_eq (show (DebtR (d := d) (F := F) i O W 6 : sProp 𝕄) = Debt d (co i) (tn i) O W from by
    unfold DebtR oxs
    rw [Finset.Ico_self, Finset.sum_empty, add_zero])) $$ HD

end Tile

end Cert.Proof.Pool

end
-- ==== Proof.Pay.lean ====
/-
  What the launch of the SparseCore call hands out and takes back.
-/
module

public import proofs.«01_k».proof.Proof.Whole

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 6) (Elt F) ℕ UU ℕ

attribute [local instance] blocks

/-! ## What may be handed over -/

instance when_storable (p : Prop) [Decidable p] (A : sProp 𝕄) [BI.Storable (upEmb : UEmb _ 𝕄) A] : BI.Storable (upEmb : UEmb _ 𝕄) (When p A) := by
  unfold When
  split <;> infer_instance
instance slt_storable (d : Dev nD) (cc : Fin τ.nSC) (s : ℕ) (X : ℕ → ℕ → F .f32) : BI.Storable (upEmb : UEmb _ 𝕄) (Slt d cc s X) := by
  unfold Slt; infer_instance
instance sltAny_storable (d : Dev nD) (cc : Fin τ.nSC) (s : ℕ) : BI.Storable (upEmb : UEmb _ 𝕄) (SltAny (F := F) d cc s) := by
  unfold SltAny; infer_instance
instance any_storable (d : Dev nD) (cc : Fin τ.nSC) (jj : Fin τ.nSub) {sp : Space} {s : Shape} {e : EltTy} (m : Memref sig .scVector sp s e) :
    BI.Storable (upEmb : UEmb _ 𝕄) (Any (F := F) d cc jj m) := by
  unfold Any; infer_instance
instance py_storable (Z : ℕ → ℕ → F .f32) (B : ℕ → BitVec 32) (d : Dev nD) (c : Fin τ.nSC) (j : Fin (grid0.bound 1)) (r : ℕ) :
    BI.Storable (upEmb : UEmb _ 𝕄) (Py Z B d c j r) := by
  unfold Py
  split <;> infer_instance
instance left_storable (Z : ℕ → ℕ → F .f32) (B : ℕ → BitVec 32) (d : Dev nD) (c : Fin τ.nSC) (j : Fin (grid0.bound 1)) :
    BI.Storable (upEmb : UEmb _ 𝕄) (left (Py Z B) d c j) := by
  unfold left; infer_instance

/-! ## The launch memory -/

variable (m : (ℓ : Loc nD τ sig) → Buf (Elt F) ℓ) (ρ : Dev nD → PrngReg)

abbrev zLoc (d : Dev nD) : Loc nD τ sig := (SparseCore.T d).loc main_arg0
abbrev bLoc (d : Dev nD) : Loc nD τ sig := (SparseCore.T d).loc main_arg1
abbrev sLoc (d : Dev nD) : Loc nD τ sig := (SparseCore.T d).loc main_v0_0
abbrev cLoc (d : Dev nD) : Loc nD τ sig := (SparseCore.T d).loc main_v0_1

/-- A table's entry at a row and a column. -/
def zAt (x : S160000x256.Idx → F .f32) (a b : ℕ) : F .f32 :=
  x fun | 0 => ⟨a % 160000, Nat.mod_lt _ (by decide)⟩ | 1 => ⟨b % 256, Nat.mod_lt _ (by decide)⟩ | ⟨_ + 2, h⟩ => absurd h (Nat.not_lt.2 (Nat.le_add_left _ _))
/-- A list's entry at a place. -/
def bAt (x : S160000.Idx → BitVec 32) (a : ℕ) : BitVec 32 :=
  x fun | 0 => ⟨a % 160000, Nat.mod_lt _ (by decide)⟩ | ⟨_ + 1, h⟩ => absurd h (Nat.not_lt.2 (Nat.le_add_left _ _))
theorem mat_zAt (x : S160000x256.Idx → F .f32) : (mat (zAt x) : S160000x256.Idx → F .f32) = x := by
  funext y
  refine congrArg x (funext fun a => ?_)
  match a with
  | 0 => exact Fin.ext (Nat.mod_eq_of_lt (y 0).isLt)
  | 1 => exact Fin.ext (Nat.mod_eq_of_lt (y 1).isLt)
theorem lin_bAt (x : S160000.Idx → BitVec 32) : (lin (bAt x) : S160000.Idx → BitVec 32) = x := by
  funext y
  refine congrArg x (funext fun a => ?_)
  match a with
  | 0 => exact Fin.ext (Nat.mod_eq_of_lt (y 0).isLt)

/-- The rows and their numbers, as the launch memory holds them. -/
def Zm (d : Dev nD) : ℕ → ℕ → F .f32 := zAt (m (zLoc d))
def Bm (d : Dev nD) : ℕ → BitVec 32 := bAt (m (bLoc d))

/-! ## What the handshakes carry -/

local notation "zV" => (Memref.whole Cert.KernelIdeal.main_arg0_scv : Memref Cert.KernelIdeal.sig Kind.scVector Space.hbm Cert.KernelIdeal.S160000x256 EltTy.f32)
local notation "bV" => (Memref.whole Cert.KernelIdeal.main_arg1_scv : Memref Cert.KernelIdeal.sig Kind.scVector Space.hbm Cert.KernelIdeal.S160000 EltTy.i32)
local notation "sV" => (Memref.whole Cert.KernelIdeal.main_v0_0_scv : Memref Cert.KernelIdeal.sig Kind.scVector Space.hbm Cert.KernelIdeal.S2x512x256 EltTy.f32)
local notation "cV" => (Memref.whole Cert.KernelIdeal.main_v0_1_scv : Memref Cert.KernelIdeal.sig Kind.scVector Space.hbm Cert.KernelIdeal.S16x8192 EltTy.f32)

/-- The tile of a core and a subcore's number. -/
def coordsV (c : Fin (grid0.bound 0)) (s : Fin (grid0.bound 1)) : grid0.Coords :=
  fun | 0 => c | 1 => s | ⟨_ + 2, h⟩ => absurd h (Nat.not_lt.2 (Nat.le_add_left _ _))
abbrev crd (c : Fin ((K (F := F)).nCore 0)) (i : Fin ((K (F := F)).nSub 0)) : grid0.Coords := coordsV ⟨c.val, c.isLt⟩ ⟨i.val, i.isLt⟩

/-- A core's read share of the two arguments, and a tile's two. -/
def qc (c : ℕ) : PosShare TreeShare := Transfers.shareTokN fullShare c
def qs (c s : ℕ) : PosShare TreeShare := Transfers.shareTokN (qc c) s
def q1 (i : grid0.Coords) : PosShare TreeShare := (qs (i 0).val (i 1).val).left
def q2 (i : grid0.Coords) : PosShare TreeShare := (qs (i 0).val (i 1).val).right

/-- What a tile takes from the caller: its shares of the arguments, its part of each result. -/
def Inn (d : Dev nD) (i : grid0.Coords) : sProp 𝕄 :=
  iprop(TabB (d := d) i bV (Bm m d) (q1 i) ∗ TabZ (d := d) i zV (Zm m d) (q1 i) ∗ TabB (d := d) i bV (Bm m d) (q2 i) ∗ TabZ (d := d) i zV (Zm m d) (q2 i)
    ∗ When (lg i = 0) (Any d (co i) (tn i) (sumsT i sV)) ∗ When (hf i = 0) (Any d (co i) (tn i) (cntsT i cV)))
/-- What a tile takes of its core's staging tables. -/
def InnS (d : Dev nD) (i : grid0.Coords) : sProp (MT nD τ sig (HIx 6) (Elt F) ℕ UU ℕ) := When (lg i % 2 = 1) (SltAny d (co i) (lg i / 2 * 2 + hf i))
/-- What a tile brings back: its part of each result, at its value. -/
def Out (d : Dev nD) (i : grid0.Coords) : sProp 𝕄 :=
  iprop(When (lg i = 0) (Hd d (co i) (tn i) (sumsT i sV) fullShare (mat (T3 (Zm m d) (Bm m d) (i 0).val (i 1).val)))
    ∗ When (hf i = 0) (Hd d (co i) (tn i) (cntsT i cV) fullShare (lin (CN (Zm m d) (Bm m d) (i 0).val (i 1).val))))
def OutS (d : Dev nD) (i : grid0.Coords) : sProp (MT nD τ sig (HIx 6) (Elt F) ℕ UU ℕ) :=
  iprop(When (lg i = 4 ∨ lg i = 6) (SltAny d (co i) (lg i / 2 * 2 + hf i)) ∗ When (lg i = 4) (SltAny d (co i) (lg i / 4 * 2 + hf i)) ∗ When (lg i = 0) (SltAny d (co i) (lg i / 8 * 2 + hf i)))
/-- A tile's barrier semaphore at zero. -/
def Bar0 (d : Dev nD) (i : grid0.Coords) : sProp (MT nD τ sig (HIx 6) (Elt F) ℕ UU ℕ) := semVal (bcell d (co i) (tn i)) 0

instance inn_storable (d : Dev nD) (i : grid0.Coords) : BI.Storable (upEmb : UEmb _ 𝕄) (Inn m d i) := by unfold Inn; infer_instance
instance innS_storable (d : Dev nD) (i : grid0.Coords) : BI.Storable (upEmb : UEmb _ 𝕄) (InnS (F := F) d i) := by unfold InnS; infer_instance
instance out_storable (d : Dev nD) (i : grid0.Coords) : BI.Storable (upEmb : UEmb _ 𝕄) (Out m d i) := by unfold Out; infer_instance
instance outS_storable (d : Dev nD) (i : grid0.Coords) : BI.Storable (upEmb : UEmb _ 𝕄) (OutS (F := F) d i) := by unfold OutS; infer_instance
instance bar0_storable (d : Dev nD) (i : grid0.Coords) : BI.Storable (upEmb : UEmb _ 𝕄) (Bar0 (F := F) d i) := by unfold Bar0; infer_instance

/-- What a tile is dealt at the launch. -/
def bkit (d : Dev nD) (c : Fin τ.nSC) (j : Fin (grid0.bound 1)) : sProp 𝕄 :=
  iprop(∃ κ κ' : Fin (grid0.bound 1) → ℕ, at_ (Py (Zm m d) (Bm m d)) rc κ κ' d c j 0)

theorem lev_bar (d : Dev nD) (c : Fin τ.nSC) (j : Fin τ.nSub) (s : ℕ) (hs : s < 6) : (K (F := F)).lev (bcell d c j) (ix s) = 8 * s + 3 := by
  have hv : (Fin.ofNat 6 s).val = s := Nat.mod_eq_of_lt hs
  rw [(K (F := F)).lev_V_reg d c j (show (sc_bar0 : Sem sig) ≠ (K (F := F)).go from bar_ne_go), hv]

set_option backward.proofsInPublic true in
/-- The handshakes of the one SparseCore call. -/
def P : (K (F := F)).Pay (N := 6) (nD := nD) (Val := Elt F) (Name := ℕ) (U := UU) where
  st := fun q d c => match q with | 0 => bigSep Finset.univ fun i : Fin ((K (F := F)).nSub 0) => Inn m d (crd (F := F) c i)
  dn := fun q d c => match q with | 0 => bigSep Finset.univ fun i : Fin ((K (F := F)).nSub 0) => iprop(Out m d (crd (F := F) c i) ∗ Bar0 d (crd (F := F) c i))
  go := fun q d c i => match q with | 0 => iprop(Inn m d (crd (F := F) c i) ∗ InnS d (crd (F := F) c i))
  td := fun q d c i => match q with | 0 => iprop((Out m d (crd (F := F) c i) ∗ Bar0 d (crd (F := F) c i)) ∗ OutS d (crd (F := F) c i))
  x := fun _ thr => match thr with
    | (d, .scVector c j) => bkit m d c ⟨j.val, j.isLt⟩
    | _ => iprop(emp)
  ox := fun _ thr => match thr with
    | (d, .scVector c _) => oxs d c 0
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨s, -, hs, rfl, i, rfl⟩ := oxs_pos h
      have e := lev_bar (F := F) d c (tl i) s hs
      rw [e]
      show 8 * 0 + 3 ≤ 8 * s + 3 ∧ 8 * s + 3 ≤ 8 * 5 + 5
      omega
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) m).IsStorable where
  st q d c := match q with
    | 0 => (inferInstance : BI.Storable (upEmb : UEmb _ 𝕄) (bigSep Finset.univ fun i : Fin ((K (F := F)).nSub 0) => Inn m d (crd (F := F) c i)))
  dn q d c := match q with
    | 0 => (inferInstance : BI.Storable (upEmb : UEmb _ 𝕄) (bigSep Finset.univ fun i : Fin ((K (F := F)).nSub 0) => iprop(Out m d (crd (F := F) c i) ∗ Bar0 d (crd (F := F) c i))))
  go q d c i := match q with
    | 0 => (inferInstance : BI.Storable (upEmb : UEmb _ 𝕄) iprop(Inn m d (crd (F := F) c i) ∗ InnS d (crd (F := F) c i)))
  td q d c i := match q with
    | 0 => (inferInstance : BI.Storable (upEmb : UEmb _ 𝕄) iprop((Out m d (crd (F := F) c i) ∗ Bar0 d (crd (F := F) c i)) ∗ OutS d (crd (F := F) c i)))

end Cert.Proof.Pool

end
-- ==== Proof.Oblig.lean ====
/-
  The obligation of a tile of the SparseCore call.
-/
module

public import proofs.«01_k».proof.Proof.Pay

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 6) (Elt F) ℕ UU ℕ

attribute [local instance] blocks

/-! ## A whole buffer, and parts of a family -/

theorem rep_whole {κ : Kind} (b : Ref sig κ) (x : b.ty.shape.Idx → Elt F b.ty.elt) : (View.whole b).rep x = x := by
  funext y
  exact (View.rep_emb (View.whole b) x y).trans rfl
/-- A whole buffer held through its memref is it held. -/
theorem hd_whole (d : Dev nD) (cc : Fin τ.nSC) (jj : Fin τ.nSub) (b : Ref sig .scVector) (q : PosShare TreeShare) (x : b.ty.shape.Idx → Elt F b.ty.elt) :
    (Hd d cc jj (Memref.whole b) q x : sProp 𝕄) = ((V d cc jj).loc b ↦{q} x) := by
  have e := rep_whole (F := F) b x
  have e2 := View.set_whole b
  show (((V d cc jj).loc b) ↦[(View.whole b).set]{q} (View.whole b).rep x : sProp 𝕄) = _
  rw [e, e2]
/-- And at contents of its own. -/
theorem any_whole (d : Dev nD) (cc : Fin τ.nSC) (jj : Fin τ.nSub) (b : Ref sig .scVector) :
    (Any d cc jj (Memref.whole b) : sProp 𝕄) = iprop(∃ f, (V d cc jj).loc b ↦{fullShare} f) := by
  unfold Any
  exact congrArg (BI.BIBase.exists) (funext fun x => hd_whole d cc jj b fullShare x)

/-- Some members of a family beside the others. -/
theorem sep_pick {I : Type} [DecidableEq I] {n : ℕ} (s : Finset I) (g : Fin n → I) (hg : Function.Injective g) (hs : ∀ k, g k ∈ s) (Φ : I → sProp 𝕄) :
    bigSep s Φ = iprop((bigSep Finset.univ fun k => Φ (g k)) ∗ bigSep (s \ Finset.univ.image g) Φ) := by
  rw [SparseCore.bigSep_sdiff_split' (t := Finset.univ.image g) (fun x hx => by obtain ⟨k, -, rfl⟩ := Finset.mem_image.mp hx; exact hs k),
    SparseCore.bigSep_image_of_injOn (fun a _ b _ e => hg e)]

/-! ## A tile's own buffers and semaphores -/

/-- The scratch buffers of a tile. -/
def bufOf : Fin 8 → Ref sig .scVector
  | 0 => cc0_scratch0 | 1 => cc0_scratch1 | 2 => cc0_scratch2 | 3 => cc0_scratch3 | 4 => cc0_scratch4 | 5 => cc0_scratch5 | 6 => cc0_scratch6 | 7 => cc0_scratch7
/-- The semaphores of a tile's copies. -/
def semOf : Fin 12 → DmaSem sig
  | 0 => cc0_scratch8.sem | 1 => cc0_scratch9.sem | 2 => cc0_scratch10.sem | 3 => cc0_scratch11.sem | 4 => cc0_scoped0.sem | 5 => cc0_scoped1.sem | 6 => cc0_scoped2.sem
  | 7 => cc0_scoped3.sem | 8 => cc0_scoped4.sem | 9 => cc0_scoped5.sem | 10 => cc0_scoped6.sem | 11 => cc0_scoped7.sem
theorem bufOf_injective : Function.Injective bufOf := by decide
theorem semOf_injective : Function.Injective semOf := by decide
theorem semOf_scoped (k : Fin 12) : (SemLoc.dma (semOf k) : SemLoc sig).isScoped .scVector = true := by revert k; decide

theorem ownSems_eq (d : Dev nD) (cc : Fin τ.nSC) (jj : Fin τ.nSub) :
    ∃ R : sProp 𝕄, (ownSems0 (V d cc jj) : sProp 𝕄) = iprop((bigSep Finset.univ fun k => semVal (V d cc jj, .dma (semOf k)) 0) ∗ R) :=
  ⟨_, by
    unfold SparseCore.Cfg.ownSems0
    exact sep_pick _ (fun k => ((V d cc jj, .dma (semOf k)) : GSem nD τ sig)) (fun a b e => semOf_injective (SemLoc.dma.inj (Prod.mk.inj e).2))
      (fun k => mem_ownCells.mpr ⟨rfl, semOf_scoped k⟩) _⟩
theorem bufOf_owner (cc : Fin τ.nSC) (jj : Fin τ.nSub) (k : Fin 8) : ((Proc.scVector cc jj).devRef (bufOf k)).owner = .proc (.scVector cc jj) := by
  match k with
  | 0 => rfl | 1 => rfl | 2 => rfl | 3 => rfl | 4 => rfl | 5 => rfl | 6 => rfl | 7 => rfl
theorem ownBufs_eq (d : Dev nD) (cc : Fin τ.nSC) (jj : Fin τ.nSub) :
    ∃ R : sProp 𝕄, (ownBufs (V d cc jj) : sProp 𝕄) = iprop((bigSep Finset.univ fun k => iprop(∃ f, (V d cc jj).loc (bufOf k) ↦{fullShare} f)) ∗ R) :=
  ⟨_, by
    unfold SparseCore.Cfg.ownBufs
    exact sep_pick _ (fun k => (Proc.scVector cc jj).devRef (bufOf k)) (fun a b e => bufOf_injective (Proc.devRef_injective _ e))
      (fun k => SparseCore.Cfg.mem_ownRefs_of_owner (bufOf_owner cc jj k)) _⟩

section
variable (d : Dev nD) (i : grid0.Coords)
abbrev Bufs : sProp 𝕄 := TileBufs (d := d) (F := F) i (Memref.whole cc0_scratch0) (Memref.whole cc0_scratch1) (Memref.whole cc0_scratch2) (Memref.whole cc0_scratch3)
  (Memref.whole cc0_scratch4) (Memref.whole cc0_scratch5) (Memref.whole cc0_scratch6) (Memref.whole cc0_scratch7)
abbrev Sems : sProp 𝕄 := TileSems (d := d) (F := F) i cc0_scratch8 cc0_scratch9 cc0_scratch10 cc0_scratch11 cc0_scoped0 cc0_scoped1 cc0_scoped2 cc0_scoped3 cc0_scoped4 cc0_scoped5 cc0_scoped6 cc0_scoped7

theorem bufs_eq : (bigSep Finset.univ fun k => iprop(∃ f, (V d (co i) (tn i)).loc (bufOf k) ↦{fullShare} f) : sProp 𝕄) = Bufs d i := by
  rw [bigSep_univ_eq_bigSepL [0, 1, 2, 3, 4, 5, 6, 7] (by decide) (by decide)]
  unfold Bufs TileBufs
  simp only [any_whole]
  rfl
theorem sems_eq : (bigSep Finset.univ fun k => semVal (V d (co i) (tn i), .dma (semOf k)) 0 : sProp 𝕄) = Sems d i := by
  rw [bigSep_univ_eq_bigSepL [0, 1, 2, 3, 4, 5, 6, 7, 8, 9, 10, 11] (by decide) (by decide)]
  rfl
end

/-! ## The obligation of a tile -/

theorem defs₀_vector (c : Fin τ.nSC) (s : Fin τ.nSub) :
    defs₀ (F := F) (.scVector c s) 0 ()
      = SparseCore.onTile hcore0 hsub0 (fun c s => cc0_body (coordsV c s)
          (Memref.whole main_arg0_scv) (Memref.isWhole_whole _) (Memref.whole main_arg1_scv) (Memref.isWhole_whole _) (Memref.whole main_v0_0_scv) (Memref.isWhole_whole _) (Memref.whole main_v0_1_scv) (Memref.isWhole_whole _)
          (Memref.whole cc0_scratch0) (Memref.isWhole_whole _) (Memref.whole cc0_scratch1) (Memref.isWhole_whole _) (Memref.whole cc0_scratch2) (Memref.isWhole_whole _) (Memref.whole cc0_scratch3) (Memref.isWhole_whole _)
          (Memref.whole cc0_scratch4) (Memref.isWhole_whole _) (Memref.whole cc0_scratch5) (Memref.isWhole_whole _) (Memref.whole cc0_scratch6) (Memref.isWhole_whole _) (Memref.whole cc0_scratch7) (Memref.isWhole_whole _)
          cc0_scratch8 cc0_scratch9 cc0_scratch10 cc0_scratch11 (Memref.whole cc0_scratch12) (Memref.isWhole_whole _)
          cc0_scoped0 cc0_scoped1 cc0_scoped2 cc0_scoped3 cc0_scoped4 cc0_scoped5 cc0_scoped6 cc0_scoped7) ⟨⟩ c s := rfl

variable (m : (ℓ : Loc nD τ sig) → Buf (Elt F) ℓ)

/-- The rows' numbers name segments. -/
def InRange : Prop := ∀ d k, k < 160000 → accRow (Bm m d k) < 512

/-- A tile's run from what the launch, its sequencer and its own storage hand it. -/
theorem tile_run (hB : InRange m) (d : Dev nD) (i : grid0.Coords) (O : CellTallies nD τ sig (HIx 6)) (W : Waits sig (HIx 6)) (hO0 : ∀ g, O g none = 0)
    (hO : ∀ g ι, 0 < O g ι → 46 ≤ (K (F := F)).lev g ι) :
    iprop(levAts (K (F := F)).L (K (F := F)).lev ∗ bkit m d (co i) (i 1) ∗ (Inn m d i ∗ InnS d i) ∗ scopedBufs (V d (co i) (tn i)) ∗ scopedSems0 (V d (co i) (tn i)) ∗ owes (V d (co i) (tn i)) (O + oxs d (co i) 0) W)
      ⊢ WP d (co i) (tn i) (cc0_body i
          (Memref.whole main_arg0_scv) (Memref.isWhole_whole _) (Memref.whole main_arg1_scv) (Memref.isWhole_whole _) (Memref.whole main_v0_0_scv) (Memref.isWhole_whole _) (Memref.whole main_v0_1_scv) (Memref.isWhole_whole _)
          (Memref.whole cc0_scratch0) (Memref.isWhole_whole _) (Memref.whole cc0_scratch1) (Memref.isWhole_whole _) (Memref.whole cc0_scratch2) (Memref.isWhole_whole _) (Memref.whole cc0_scratch3) (Memref.isWhole_whole _)
          (Memref.whole cc0_scratch4) (Memref.isWhole_whole _) (Memref.whole cc0_scratch5) (Memref.isWhole_whole _) (Memref.whole cc0_scratch6) (Memref.isWhole_whole _) (Memref.whole cc0_scratch7) (Memref.isWhole_whole _)
          cc0_scratch8 cc0_scratch9 cc0_scratch10 cc0_scratch11 (Memref.whole cc0_scratch12) (Memref.isWhole_whole _)
          cc0_scoped0 cc0_scoped1 cc0_scoped2 cc0_scoped3 cc0_scoped4 cc0_scoped5 cc0_scoped6 cc0_scoped7) fun _ =>
        iprop(((Out m d i ∗ Bar0 d i) ∗ OutS d i) ∗ scopedBufs (V d (co i) (tn i)) ∗ scopedSems0 (V d (co i) (tn i))
          ∗ ∃ W', ⌜∀ p ∈ W', p ∈ W ∨ p.2 = none ∨ (blocks).blk 0 p.2⌝ ∗ owes (V d (co i) (tn i)) O W') := by
  obtain ⟨RB, eB⟩ := ownBufs_eq (F := F) d (co i) (tn i)
  obtain ⟨RS, eS⟩ := ownSems_eq (F := F) d (co i) (tn i)
  rw [(K (F := F)).scopedBufs_V facts d (co i) (tn i), SparseCore.Cfg.scopedSems0_V (Val := Elt F) d (co i) (tn i), eB, eS, bufs_eq, sems_eq]
  unfold bkit Inn InnS
  iintro ⟨#HL, ⟨%κ, %κ', Hat⟩, ⟨⟨HB1, HZ1, HB2, HZ2, H4, H5⟩, HS⟩, ⟨HBf, HRB⟩, ⟨HSm, HRS⟩, HO⟩
  unfold WP
  iapply (Idealize.SL.Sem.wp_fupd _ _ _ _ _)
  iapply (Idealize.SL.Sem.wp_wand_r _ _ _)
  isplitl [HL Hat HB1 HZ1 HB2 HZ2 H4 H5 HS HBf HSm HO]
  · iapply (wp_body (F := F) i (Memref.whole main_arg0_scv) (Memref.isWhole_whole _) (Memref.whole main_arg1_scv) (Memref.isWhole_whole _) (Memref.whole main_v0_0_scv) (Memref.isWhole_whole _) (Memref.whole main_v0_1_scv) (Memref.isWhole_whole _)
          (Memref.whole cc0_scratch0) (Memref.isWhole_whole _) (Memref.whole cc0_scratch1) (Memref.isWhole_whole _) (Memref.whole cc0_scratch2) (Memref.isWhole_whole _) (Memref.whole cc0_scratch3) (Memref.isWhole_whole _)
          (Memref.whole cc0_scratch4) (Memref.isWhole_whole _) (Memref.whole cc0_scratch5) (Memref.isWhole_whole _) (Memref.whole cc0_scratch6) (Memref.isWhole_whole _) (Memref.whole cc0_scratch7) (Memref.isWhole_whole _)
          cc0_scratch8 cc0_scratch9 cc0_scratch10 cc0_scratch11 (Memref.isWhole_whole _)
          cc0_scoped0 cc0_scoped1 cc0_scoped2 cc0_scoped3 cc0_scoped4 cc0_scoped5 cc0_scoped6 cc0_scoped7
          (q1 i) (q2 i) (Zm m d) (Bm m d) (hB d) O W hO0 hO (K (F := F)).lev (by sl_refines_lev) κ κ')
    isplitr; · iexact HL
    isplitl [Hat HB1 HZ1 HB2 HZ2 H4 H5 HS]
    · isplitl [Hat]; · iexact Hat
      isplitl [HS]; · iexact HS
      isplitl [HB1]; · iexact HB1
      isplitl [HZ1]; · iexact HZ1
      isplitl [HB2]; · iexact HB2
      isplitl [HZ2]; · iexact HZ2
      isplitl [H4]; · iexact H4
      iexact H5
    isplitl [HBf]; · iexact HBf
    isplitl [HSm]; · iexact HSm
    unfold DebtR Debt
    iexists W
    isplitr; · ipureintro; intro p hp; exact .inl hp
    iexact HO
  iintro %u ⟨⟨Hat, HOS, -, -, -, -, H4, H5⟩, HBf, HSm, HD⟩
  unfold Debt
  icases HD with ⟨%W', %hW', HO⟩
  imod (bar_close (Py (Zm m d) (Bm m d)) rc κ κ' d (co i) (i 1)) $$ Hat with Hz
  imodintro
  isplitl [Hz HOS H4 H5]
  · isplitr [HOS]
    · isplitl [H4 H5]
      · unfold Out
        isplitl [H4] <;> iassumption
      · unfold Bar0
        iexact Hz
    · unfold OutS
      iexact HOS
  isplitl [HBf HRB]
  · isplitl [HBf] <;> iassumption
  isplitl [HSm HRS]
  · isplitl [HSm] <;> iassumption
  iexists W'
  isplitr
  · ipureintro
    intro p hp
    rcases hW' p hp with h | h | ⟨r, h⟩
    · exact .inl h
    · exact .inr (.inl h)
    · exact .inr (.inr (show ∃ j, p.2 = some j from ⟨r, h⟩))
  iexact HO

set_option maxRecDepth 16384 in
theorem tileObl (hB : InRange m) : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_run m hB d (coordsV ⟨_, hci.1⟩ ⟨_, hci.2⟩) O W hO hOlev

end Cert.Proof.Pool

end
-- ==== Proof.Fund.lean ====
/-
  What the launch deals: the barrier semaphores' records, what the tiles leave for each other, and the TensorCore call's cells.
-/
module

public import proofs.«01_k».proof.Proof.Oblig
public import proofs.«01_k».proof.Proof.Gen.KernelIdeal.Launch

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 6) (Elt F) ℕ UU ℕ

attribute [local instance] blocks

variable (m : (ℓ : Loc nD τ sig) → Buf (Elt F) ℓ)

/-! ## The launch element -/

/-- A tile of the grid on a device. -/
abbrev Tl : Type := Dev nD × Fin τ.nSC × Fin (grid0.bound 1)
abbrev bc (x : Tl) : GSem nD τ sig := bcell x.1 x.2.1 (tl x.2.2)
theorem bc_injective : Function.Injective bc := fun a b e => by
  obtain ⟨h1, h2⟩ := Prod.mk.inj (Prod.mk.inj e).1
  obtain ⟨h3, h4⟩ := Proc.scVector.inj h2
  exact Prod.ext h1 (Prod.ext h3 (Fin.ext (congrArg Fin.val h4)))
/-- The barrier semaphores. -/
def bCells : Finset (GSem nD τ sig) := Finset.univ.image bc
/-- The tokens of the arrivals: tile, barrier, and whose cell is paid. -/
def bKeys : Finset (Tl × ℕ × Fin (grid0.bound 1)) := Finset.univ ×ˢ (Finset.Ico 0 6 ×ˢ Finset.univ)
def bToks : Finset (GSem nD τ sig × ℕ × ℕ) := bKeys.image fun x => (bcell x.1.1 x.1.2.1 (tl x.2.2), 0, 16 * x.2.1 + x.1.2.2.val)
/-- The tokens of what a tile takes: tile and barrier. -/
def eKeys : Finset (Tl × ℕ) := (Finset.univ ×ˢ Finset.Ico 0 6).filter fun x => (rc x.1.2.2 x.2).isSome
def eTok (x : Tl × ℕ) : GSem nD τ sig × ℕ × ℕ := (bcell x.1.1 x.1.2.1 (tl ((rc x.1.2.2 x.2).getD x.1.2.2)), x.2, 0)
def eToks : Finset (GSem nD τ sig × ℕ × ℕ) := eKeys.image eTok
def u₀ : UU := (initOf (K (F := F)).hsCells (K (F := F)).hsToks,
  (initOf bCells bToks, (initOf bCells eToks, (initOf (Pipeline.cells (nD := nD) (τ := τ) cfgs cellOf_inj) (Pipeline.launchToks cfgs cellOf_inj), 1))))

theorem own_split (a : UH) (b : UB) (c : UE) (e : UP) :
    (ownU ((a, (b, (c, (e, 1)))) : UU) : sProp 𝕄) ⊢ iprop(BI.own (EH a) ∗ BI.own (EB b) ∗ BI.own (EE c) ∗ BI.own (EP e)) := by
  let E := (uEmb (nD := nD) (τ := τ) (sig := sig) (Ix := HIx 6) (Val := Elt F) (Name := ℕ) (U := UU) (Lvl := ℕ)).toEmb
  have h1 : (ownU ((a, (b, (c, (e, 1)))) : UU) : sProp 𝕄) ⊢ iprop(BI.own (EH a) ∗ BI.own (E (1, (b, (c, (e, 1)))))) :=
    BI.own_op_elim (E.op_of_mem (Prod.mk_mem_op (URA.mem_op_one a) (URA.mem_one_op _)))
  have h2 : (BI.own (E (1, (b, (c, (e, 1))))) : sProp 𝕄) ⊢ iprop(BI.own (EB b) ∗ BI.own (E (1, (1, (c, (e, 1)))))) :=
    BI.own_op_elim (E.op_of_mem (Prod.mk_mem_op (URA.mem_op_one 1) (Prod.mk_mem_op (URA.mem_op_one b) (URA.mem_one_op _))))
  have h3 : (BI.own (E (1, (1, (c, (e, 1))))) : sProp 𝕄) ⊢ iprop(BI.own (EE c) ∗ BI.own (EP e)) :=
    BI.own_op_elim (E.op_of_mem (Prod.mk_mem_op (URA.mem_op_one 1) (Prod.mk_mem_op (URA.mem_op_one 1) (Prod.mk_mem_op (URA.mem_op_one c) (URA.mem_one_op _)))))
  exact h1.trans (sep_mono_right (h2.trans (sep_mono_right h3)))

theorem cells_eq (Φ : GSem nD τ sig → sProp 𝕄) : bigSep bCells Φ = bigSep Finset.univ fun x : Tl => Φ (bc x) := by
  unfold bCells
  exact SparseCore.bigSep_image_of_injOn (fun a _ b _ e => bc_injective e) Φ

theorem bToks_eq : (bigSep bToks fun x => (dutyTok EB x.1 x.2.1 x.2.2 : sProp 𝕄))
    = bigSep Finset.univ fun x : Tl => bigSep (Finset.Ico 0 6) fun s => bigSep Finset.univ fun i : Fin (grid0.bound 1) => dutyTok EB (bcell x.1 x.2.1 (tl i)) 0 (16 * s + x.2.2.val) := by
  unfold bToks bKeys
  rw [SparseCore.bigSep_image_of_injOn, SparseCore.bigSep_product]
  · refine bigSep_congr fun x _ => ?_
    rw [SparseCore.bigSep_product]
  · rintro ⟨⟨d, c, j⟩, s, i⟩ - ⟨⟨d', c', j'⟩, s', i'⟩ - e
    have e1 := (Prod.mk.inj (Prod.mk.inj e).1).1
    have e2 : 16 * s + j.val = 16 * s' + j'.val := (Prod.mk.inj (Prod.mk.inj e).2).2
    obtain ⟨rfl, h⟩ := Prod.mk.inj e1
    obtain ⟨rfl, hj⟩ := Proc.scVector.inj h
    have hj' : i = i' := Fin.ext (congrArg Fin.val hj)
    subst hj'
    have h1 : j.val < 16 := j.isLt
    have h2 : j'.val < 16 := j'.isLt
    obtain rfl : s = s' := by omega
    obtain rfl : j = j' := Fin.ext (by omega)
    rfl

theorem rc_inj : ∀ s : Fin 6, ∀ j j' : Fin (grid0.bound 1), (rc j s.val).isSome = true → (rc j' s.val).isSome = true → (rc j s.val).getD j = (rc j' s.val).getD j' → j = j' := by decide
theorem eToks_eq : (bigSep eToks fun x => (dutyTok EE x.1 x.2.1 x.2.2 : sProp 𝕄))
    = bigSep Finset.univ fun x : Tl => bigSep (Finset.Ico 0 6) fun s => gotTok rc x.1 x.2.1 x.2.2 s := by
  unfold eToks
  rw [SparseCore.bigSep_image_of_injOn]
  · unfold eKeys
    refine (bigSep_filter _ _ _).trans ?_
    rw [SparseCore.bigSep_product]
    refine bigSep_congr fun x _ => bigSep_congr fun s _ => ?_
    unfold gotTok eTok
    cases h : rc x.2.2 s with
    | none => exact if_neg (by simp [h])
    | some j' => exact if_pos rfl
  · rintro ⟨⟨d, c, j⟩, s⟩ hx ⟨⟨d', c', j'⟩, s'⟩ hx' e
    unfold eKeys at hx hx'
    have hx := Finset.mem_filter.mp (Finset.mem_coe.mp hx)
    have hx' := Finset.mem_filter.mp (Finset.mem_coe.mp hx')
    have hs : s < 6 := (Finset.mem_Ico.mp (Finset.mem_product.mp hx.1).2).2
    obtain ⟨e1, e2⟩ := Prod.mk.inj e
    obtain rfl : s = s' := (Prod.mk.inj e2).1
    obtain ⟨rfl, h⟩ := Prod.mk.inj (Prod.mk.inj e1).1
    obtain ⟨rfl, hj⟩ := Proc.scVector.inj h
    have hj' : (rc j s).getD j = (rc j' s).getD j' := Fin.ext (congrArg Fin.val hj)
    obtain rfl := rc_inj ⟨s, hs⟩ j j' hx.2 hx'.2 hj'
    rfl

/-! ## What the launch gives of the barrier semaphores -/

theorem sems_b : ((K (F := F)).freeOn (· ∈ bCells) : sProp 𝕄) ⊢ bigSep bCells fun g => semVal g 0 := by
  rw [cells_eq]
  unfold SparseCore.Cfg.freeOn
  refine sep_elim_right.trans ?_
  refine BIBase.Entails.trans ?_ (Entails.of_eq (show (bigSep Finset.univ fun dci : Dev nD × Fin τ.nSC × Fin τ.nSub => (semVal (bcell dci.1 dci.2.1 dci.2.2) 0 : sProp 𝕄))
    = bigSep Finset.univ fun x : Tl => semVal (bc x) 0 from rfl))
  refine bigSep_mono fun dci _ => ?_
  exact bigSep_elim (Φ := fun sm : SemLoc sig => (semVal (V dci.1 dci.2.1 dci.2.2, sm) 0 : sProp 𝕄)) (Finset.mem_filter.mpr
      ⟨Finset.mem_erase.mpr ⟨fun h => bar_ne_go (SemLoc.reg.inj h), Finset.mem_filter.mpr ⟨Finset.mem_univ _, by decide⟩⟩,
        Finset.mem_image_of_mem bc (Finset.mem_univ (⟨dci.1, dci.2.1, ⟨dci.2.2.val, dci.2.2.isLt⟩⟩ : Tl))⟩)

theorem invs_b : iprop((bigSep bCells fun g => (semVal g 0 : sProp 𝕄)) ∗ bigSep bCells fun g => roundState EB (bRd (F := F)) g 0)
    ⊢ |={Set.univ}=> iprop(∃ κ : GSem nD τ sig → ℕ, bigSep bCells fun g => cellInv EB (bRd (F := F)) (κ g) g) := by
  refine (Rounds.bodies_intro EB (bRd (F := F)) bCells).trans ((inv_alloc_family bCells (Rounds.body EB (bRd (F := F))) ∅ (E := Set.univ)).trans ?_)
  iintro H
  imod H with ⟨%κ, -, Hinv⟩
  imodintro; iexists κ; iexact Hinv

/-- The invariants of what the tiles leave for each other. -/
theorem invs_e : (bigSep Finset.univ fun x : Tl => (initState EE (bc x) : sProp 𝕄))
    ⊢ |={Set.univ}=> iprop(∃ κ : Tl → ℕ, bigSep Finset.univ fun x : Tl => inv (κ x) (left (Py (Zm m x.1) (Bm m x.1)) x.1 x.2.1 x.2.2)) := by
  refine BIBase.Entails.trans (bigSep_mono fun x _ => ?_) ((inv_alloc_family Finset.univ (fun x : Tl => left (Py (Zm m x.1) (Bm m x.1)) x.1 x.2.1 x.2.2) ∅ (E := Set.univ)).trans ?_)
  · refine (show (initState EE (bc x) : sProp 𝕄) ⊢ roundAuth EE (bc x) 0 ∅ 0 from sep_elim_left).trans ?_
    unfold left
    iintro H
    iexists 0
    isplitl [H]; · iexact H
    rw [Finset.range_zero, bigSep_empty]
    iempintro
  · iintro H
    imod H with ⟨%κ, -, Hinv⟩
    imodintro; iexists κ; iexact Hinv

/-- Two families, in either order. -/
theorem sep_exchange {I J : Type} [DecidableEq I] (s : Finset I) (t : Finset J) (Φ : I → J → sProp 𝕄) :
    (bigSep s fun i => bigSep t fun j => Φ i j) = bigSep t fun j => bigSep s fun i => Φ i j := by
  induction s using Finset.induction_on with
  | empty => simp only [bigSep_empty]; exact (bigSep_emp_const t).symm
  | insert i s hi ih =>
    rw [sep_insert hi, ih, ← bigSep_sep']
    exact bigSep_congr fun j _ => (sep_insert hi (Φ := fun i => Φ i j)).symm

theorem sum_one (g : GSem nD τ sig) (ι : HIx 6) : ∑ _ : Fin (grid0.bound 1), tallyAt g ι 1 = (tallyAt g ι 16 : CellTallies nD τ sig (HIx 6)) := by
  have h : ∀ n : ℕ, ∑ _ : Fin n, tallyAt g ι 1 = (tallyAt g ι n : CellTallies nD τ sig (HIx 6)) := by
    intro n
    induction n with
    | zero => rw [tallyAt_zero]; rfl
    | succ n ih => rw [Fin.sum_univ_castSucc, ih, tallyAt_add]
  exact h 16

/-- The credit of the barriers, regrouped: each tile the units of its own semaphore. -/
theorem creds_b : ((P (F := F) m).oxCred : sProp 𝕄) ⊢ bigSep Finset.univ fun x : Tl => bigSep (Finset.Ico 0 6) fun s => cred (tallyAt (bc x) (ix s) 16) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun x : Tl => bigSep (Finset.Ico 0 6) fun s => (cred (tallyAt (bc x) (ix s) 16) : sProp 𝕄))]
  refine bigSep_mono fun d _ => ?_
  rw [bigSep_univ_prod, bigSep_univ_prod (fun ci : Fin τ.nSC × Fin (grid0.bound 1) => bigSep (Finset.Ico 0 6) fun s => (cred (tallyAt (bc (d, ci)) (ix s) 16) : sProp 𝕄))]
  refine bigSep_mono fun c _ => ?_
  have hox : ∀ i, (P (F := F) m).oxFrom 0 (V d c i) = oxs d c 0 := fun i => by
    rw [show (0 : ℕ) = (0 : Fin 1).val from rfl, (P m).oxFrom_step, (P m).oxFrom_end _ (n := (0 : Fin 1).val + 1) le_rfl, add_zero]; rfl
  dsimp only
  simp only [hox]
  show (bigSep Finset.univ fun _ : Fin (grid0.bound 1) => (cred (oxs d c 0) : sProp 𝕄)) ⊢ _
  unfold oxs
  simp only [SparseCore.Cfg.cred_finsum]
  rw [show (bigSep Finset.univ fun j : Fin (grid0.bound 1) => bigSep (Finset.Ico 0 6) fun s => (cred (tallyAt (bc (d, (c, j))) (ix s) 16) : sProp 𝕄))
    = bigSep (Finset.Ico 0 6) fun s => bigSep Finset.univ fun j : Fin (grid0.bound 1) => cred (tallyAt (bc (d, (c, j))) (ix s) 16) from sep_exchange _ _ _]
  refine (Entails.of_eq (sep_exchange _ _ _)).trans ?_
  refine bigSep_mono fun s _ => ?_
  refine (Entails.of_eq (sep_exchange _ _ _)).trans ?_
  refine bigSep_mono fun j _ => ?_
  exact Entails.of_eq ((SparseCore.Cfg.cred_finsum (Finset.univ : Finset (Fin (grid0.bound 1))) (fun _ => tallyAt (bc (d, c, j)) (ix s) 1)).symm.trans (congrArg _ (sum_one _ _)))

/-! ## Each tile's own -/

/-- A persistent resource beside a family, given to each member. -/
theorem sep_share {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [sep_insert ha, sep_insert ha]
    iintro ⟨#HR, H1, H2⟩
    isplitl [H1]
    · iapply (h a (Finset.mem_insert_self _ _))
      isplitr; · iexact HR
      iexact H1
    · iapply (ih fun i hi => h i (Finset.mem_insert_of_mem hi))
      isplitr; · iexact HR
      iexact H2
/-- A member for each place of a family, out of a persistent one. -/
theorem sep_pull {I J : Type} [DecidableEq I] [DecidableEq J] {s : Finset I} {t : Finset J} (g : J → I) (hg : ∀ j ∈ t, g j ∈ s) (Φ : I → sProp 𝕄) [∀ i, BI.Persistent (Φ i)] :
    bigSep s Φ ⊢ bigSep t fun j => Φ (g j) := by
  have h : iprop(bigSep s Φ ∗ bigSep t fun _ => iprop(emp)) ⊢ bigSep t fun j => Φ (g j) :=
    sep_share fun j hj => sep_elim_left.trans (bigSep_elim (hg j hj))
  refine BIBase.Entails.trans ?_ h
  iintro H
  isplitl [H]; · iexact H
  iapply (Entails.of_eq (bigSep_emp_const t).symm); iempintro

/-- What every tile is handed alike. -/
def alike (κ : GSem nD τ sig → ℕ) (κ' : Tl → ℕ) : sProp 𝕄 :=
  iprop((bigSep Finset.univ fun x : Tl => cellInv EB (bRd (F := F)) (κ (bc x)) (bc x))
    ∗ (bigSep Finset.univ fun x : Tl => inv (κ' x) (left (Py (Zm m x.1) (Bm m x.1)) x.1 x.2.1 x.2.2))
    ∗ (bigSep Finset.univ fun x : Tl => reached EB (bc x) 0) ∗ bigSep Finset.univ fun x : Tl => reached EE (bc x) 0)
instance alike_persistent (κ : GSem nD τ sig → ℕ) (κ' : Tl → ℕ) : BI.Persistent (alike m κ κ') := by unfold alike; infer_instance
/-- And of its own. -/
def mine (x : Tl) : sProp (MT nD τ sig (HIx 6) (Elt F) ℕ UU ℕ) :=
  iprop((bigSep (Finset.Ico 0 6) fun s => bigSep Finset.univ fun i : Fin (grid0.bound 1) => dutyTok EB (bcell x.1 x.2.1 (tl i)) 0 (16 * s + x.2.2.val))
    ∗ atPos EB (bc x) 0 ∅ 0 ∗ (bigSep (Finset.Ico 0 6) fun s => cred (tallyAt (bc x) (ix s) 16)) ∗ atPos EE (bc x) 0 ∅ 0
    ∗ bigSep (Finset.Ico 0 6) fun s => gotTok rc x.1 x.2.1 x.2.2 s)

theorem kit_intro (κ : GSem nD τ sig → ℕ) (κ' : Tl → ℕ) (x : Tl) : iprop(alike m κ κ' ∗ mine x) ⊢ (bkit m x.1 x.2.1 x.2.2 : sProp 𝕄) := by
  obtain ⟨d, c, j⟩ := x
  unfold alike mine bkit at_ binv come
  iintro ⟨⟨#Hi, #Hl, #Hr, #Hr'⟩, Ht, Hat, Hcr, Hae, Hg⟩
  iexists (fun i => κ (bc (d, c, i)))
  iexists (fun i => κ' (d, c, i))
  isplitr
  · isplitr
    · iapply (sep_pull (s := (Finset.univ : Finset Tl)) (t := (Finset.univ : Finset (Fin (grid0.bound 1)))) (fun i => (d, c, i)) (fun _ _ => Finset.mem_univ _) (fun x : Tl => cellInv EB (bRd (F := F)) (κ (bc x)) (bc x)))
      iexact Hi
    isplitr
    · iapply (sep_pull (s := (Finset.univ : Finset Tl)) (t := (Finset.univ : Finset (Fin (grid0.bound 1)))) (fun i => (d, c, i)) (fun _ _ => Finset.mem_univ _) (fun x : Tl => inv (κ' x) (left (Py (Zm m x.1) (Bm m x.1)) x.1 x.2.1 x.2.2)))
      iexact Hl
    · iapply (sep_pull (s := (Finset.univ : Finset Tl)) (t := (Finset.univ : Finset (Fin (grid0.bound 1)))) (fun i => (d, c, i)) (fun _ _ => Finset.mem_univ _) (fun x : Tl => reached EB (bc x) 0))
      iexact Hr
  isplitr
  · iapply (sep_pull (s := (Finset.univ : Finset Tl)) (t := (Finset.univ : Finset (Fin (grid0.bound 1)))) (fun i => (d, c, i)) (fun _ _ => Finset.mem_univ _) (fun x : Tl => reached EE (bc x) 0))
    iexact Hr'
  isplitl [Ht]; · iexact Ht
  isplitl [Hat]
  · iexists ∅
    isplitr; · ipureintro; exact ⟨Finset.empty_subset _, Nat.zero_le _⟩
    isplitl [Hat]; · iexact Hat
    rw [bigSep_empty]; iempintro
  isplitl [Hcr]; · iexact Hcr
  isplitl [Hae]; · iexact Hae
  iexact Hg

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = bkit m d c ⟨i.val, i.isLt⟩ :=
  bigSep_univ_of_subsingleton (0 : Fin 1)

theorem kits_deal (κ : GSem nD τ sig → ℕ) (κ' : Tl → ℕ) :
    iprop(alike m κ κ' ∗ bigSep Finset.univ fun x : Tl => mine x)
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V]
  iintro H
  isplitr; · iapply (Entails.of_eq (bigSep_emp_const _).symm); iempintro
  isplitr; · iapply (Entails.of_eq (bigSep_emp_const _).symm); iempintro
  iapply (show iprop(alike m κ κ' ∗ bigSep Finset.univ fun x : Tl => mine x) ⊢ (bigSep Finset.univ fun x : Dev nD × Fin τ.nSC × Fin τ.nSub => (bkit m x.1 x.2.1 ⟨x.2.2.val, x.2.2.isLt⟩ : sProp 𝕄)) from
    sep_share fun x _ => kit_intro m κ κ' x)
  iexact H

/-- What the TensorCore call is dealt at the launch. -/
abbrev G (d : Dev nD) : sProp (MT nD τ sig (HIx 6) (Elt F) ℕ UU ℕ) := iprop(Pipeline.cellsGhost cfgs EP 0 d ∗ Pipeline.toksInit cfgs EP 0 d)

theorem hu₀ : iprop(ownU (u₀ (F := F)) ∗ (P (F := F) m).oxCred ∗ (K (F := F)).freeOn (· ∈ bCells))
    ⊢ |={Set.univ}=> iprop(BI.own (EH (initOf (K (F := F)).hsCells (K (F := F)).hsToks)) ∗ (bigSep Finset.univ fun d : Dev nD => G d)
        ∗ (bigSep Finset.univ fun thr : Thread nD τ => bigSep Finset.univ fun q : Fin 1 => (P m).x q thr) : sProp 𝕄) := by
  unfold u₀
  iintro ⟨Hu, Hcred, Hfree⟩
  ihave H := (own_split _ _ _ _) $$ Hu
  icases H with ⟨HH, HB, HE, HP⟩
  imod (Rounds.fund EB (bRd (F := F)) bCells bToks) $$ HB with ⟨Hst, #Hr, Hat, Htok⟩
  imod (Rounds.fund_init EE bCells eToks) $$ HE with ⟨Hes, #Hre, Hae, Hte⟩
  imod (Pipeline.fund_ghost cfgs EP cellOf_inj) $$ HP with ⟨Hg, Ht⟩
  ihave Hsems := (sems_b (F := F)) $$ Hfree
  imod (invs_b (F := F)) $$ [Hsems Hst] with ⟨%κ, #Hinv⟩
  · isplitl [Hsems] <;> iassumption
  ihave Hes := (Entails.of_eq (cells_eq (F := F) fun g => initState EE g)) $$ Hes
  imod (invs_e m) $$ Hes with ⟨%κ', #Hl⟩
  ihave Hcred := (creds_b m) $$ Hcred
  ihave Hinv' := (Entails.of_eq (cells_eq (F := F) fun g => cellInv EB (bRd (F := F)) (κ g) g)) $$ Hinv
  ihave Hr' := (Entails.of_eq (cells_eq (F := F) fun g => reached EB g 0)) $$ Hr
  ihave Hre' := (Entails.of_eq (cells_eq (F := F) fun g => reached EE g 0)) $$ Hre
  ihave Hat := (Entails.of_eq (cells_eq (F := F) fun g => atPos EB g 0 ∅ 0)) $$ Hat
  ihave Hae := (Entails.of_eq (cells_eq (F := F) fun g => atPos EE g 0 ∅ 0)) $$ Hae
  ihave Htok := (Entails.of_eq (bToks_eq (F := F))) $$ Htok
  ihave Hte := (Entails.of_eq (eToks_eq (F := F))) $$ Hte
  imodintro
  isplitl [HH]; · iexact HH
  isplitl [Hg Ht]
  · unfold G
    iapply (Entails.of_eq (bigSep_sep' Finset.univ (fun d : Dev nD => Pipeline.cellsGhost cfgs EP 0 d) (fun d : Dev nD => Pipeline.toksInit cfgs EP 0 d)).symm)
    isplitl [Hg]
    · iapply (show (bigSep Finset.univ fun d : Dev nD => bigSep Finset.univ fun p : Fin 1 => Pipeline.cellsGhost cfgs EP p d : sProp 𝕄) ⊢ bigSep Finset.univ fun d : Dev nD => Pipeline.cellsGhost cfgs EP 0 d from
        bigSep_mono fun d _ => Entails.of_eq (bigSep_univ_of_subsingleton (0 : Fin 1)))
      iexact Hg
    · iapply (show (bigSep Finset.univ fun d : Dev nD => bigSep Finset.univ fun p : Fin 1 => Pipeline.toksInit cfgs EP p d : sProp 𝕄) ⊢ bigSep Finset.univ fun d : Dev nD => Pipeline.toksInit cfgs EP 0 d from
        bigSep_mono fun d _ => Entails.of_eq (bigSep_univ_of_subsingleton (0 : Fin 1)))
      iexact Ht
  iapply (kits_deal m κ κ')
  isplitr
  · unfold alike
    isplitr; · iexact Hinv'
    isplitr; · iexact Hl
    isplitr; · iexact Hr'
    iexact Hre'
  unfold mine
  rw [bigSep_sep', bigSep_sep', bigSep_sep', bigSep_sep']
  isplitl [Htok]; · iexact Htok
  isplitl [Hat]; · iexact Hat
  isplitl [Hcred]; · iexact Hcred
  isplitl [Hae]; · iexact Hae
  iexact Hte

end Cert.Proof.Pool

end
-- ==== Proof.Head.lean ====
/-
  The TensorCore head: its call's proof data, the body's obligation, and the call under the whole program's table.
-/
module

public import proofs.«01_k».proof.Proof.Body
public import proofs.«01_k».proof.Proof.Fund
public import Idealize.ShloMosaic.Lib.Pipeline.RegionArrays

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 6) (Elt F) ℕ UU ℕ

attribute [local instance] blocks

open TcCoe
open Idealize.ShloMosaic.Pipeline (Dat)

/-! ## The head's call -/

/-- The grid's one point. -/
abbrev t₁ : Fin cfg1.N := t1_0

/-- A window's array as the call fetches it, of a device's buffers. -/
abbrev blkOf (W : Pipeline.Window sig grid1) (Vd : Valuation τ sig (Elt F)) : (W.xblock (grid1.coords t₁)).Idx → Elt F W.elt :=
  (W.blk t₁).view.read (Elt F) (Vd (Proc.devRef .tc W.arr.view.ref))

/-- The head's run from what the call fetches. -/
abbrev KR (c : Dev nD) (Vd : Valuation τ sig (Elt F)) :=
  headRun (F := F) c (win1_0.stage 0) (hstage1_0 0) (win1_1.stage 0) (hstage1_1 0) (win1_2.stage 0) (hstage1_2 0) (win1_3.stage 0) (hstage1_3 0)
    (win1_4.stage 0) (hstage1_4 0) (win1_5.stage 0) (hstage1_5 0) (win1_6.stage 0) (hstage1_6 0)
    (blkOf win1_0 Vd) (blkOf win1_1 Vd) (blkOf win1_2 Vd) (blkOf win1_3 Vd) (blkOf win1_4 Vd) (blkOf win1_5 Vd)

/-- The waits a TensorCore may have recorded after the SparseCore call. -/
def wb (c : Dev nD) : Set (SemLoc sig × HIx 6) := fun p => (K (F := F)).lev (SparseCore.T c, p.1) p.2 ≤ 8 * blocks.fst 1

/-- The call's proof data at a device's buffers. -/
def hdat (Vd : Valuation τ sig (Elt F)) (_ : Fin 1) (c : Dev nD) : Dat τ (Elt F) (HIx 6) ℕ UU ℕ cfg1 c where
  A w := Vd (Proc.devRef .tc (Pipeline.arrRef spec1 w))
  after w _ := match w with
    | ⟨0, _⟩ => blkOf win1_0 Vd
    | ⟨1, _⟩ => blkOf win1_1 Vd
    | ⟨2, _⟩ => blkOf win1_2 Vd
    | ⟨3, _⟩ => blkOf win1_3 Vd
    | ⟨4, _⟩ => blkOf win1_4 Vd
    | ⟨5, _⟩ => blkOf win1_5 Vd
    | ⟨6, _⟩ => (KR c Vd).1
  Φ _ := iprop(emp)
  q _ := fullShare
  owed _ := 0
  recorded _ := wb (F := F) c

/-- A fetched window's buffer holds the array's block when the body runs. -/
theorem before_0 (Vd : Valuation τ sig (Elt F)) (c : Dev nD) (d) : (hdat Vd 0 c).before (0 : Fin 7) t₁ d = blkOf win1_0 Vd := by
  unfold Dat.before; rw [if_pos (by decide +kernel)]; rfl
theorem before_1 (Vd : Valuation τ sig (Elt F)) (c : Dev nD) (d) : (hdat Vd 0 c).before (1 : Fin 7) t₁ d = blkOf win1_1 Vd := by
  unfold Dat.before; rw [if_pos (by decide +kernel)]; rfl
theorem before_2 (Vd : Valuation τ sig (Elt F)) (c : Dev nD) (d) : (hdat Vd 0 c).before (2 : Fin 7) t₁ d = blkOf win1_2 Vd := by
  unfold Dat.before; rw [if_pos (by decide +kernel)]; rfl
theorem before_3 (Vd : Valuation τ sig (Elt F)) (c : Dev nD) (d) : (hdat Vd 0 c).before (3 : Fin 7) t₁ d = blkOf win1_3 Vd := by
  unfold Dat.before; rw [if_pos (by decide +kernel)]; rfl
theorem before_4 (Vd : Valuation τ sig (Elt F)) (c : Dev nD) (d) : (hdat Vd 0 c).before (4 : Fin 7) t₁ d = blkOf win1_4 Vd := by
  unfold Dat.before; rw [if_pos (by decide +kernel)]; rfl
theorem before_5 (Vd : Valuation τ sig (Elt F)) (c : Dev nD) (d) : (hdat Vd 0 c).before (5 : Fin 7) t₁ d = blkOf win1_5 Vd := by
  unfold Dat.before; rw [if_pos (by decide +kernel)]; rfl

/-- The body's obligation: the seven staging buffers taken apart, the head run, and put back. -/
theorem head_body (Vd : Valuation τ sig (Elt F)) (c : Dev nD) : Pipeline.BodyObligation (hdat Vd 0 c) (defs₀ (F := F)) 𝒱₀ none Set.univ := fun t => by
  obtain rfl : t = t₁ := fin_N1 t
  rw [bigSep_W1, bigSep_W1]
  simp only [owns_whole_eq]
  rw [show (hdat Vd 0 c).Φ t₁.castSucc = iprop(emp) from rfl, show (hdat Vd 0 c).Φ t₁.succ = iprop(emp) from rfl,
    show (hdat Vd 0 c).owesAt none t₁.succ = (hdat Vd 0 c).owesAt none t₁.castSucc from rfl]
  iintro ⟨-, Howes, ⟨%d0, %f0, %hf0, H0⟩, ⟨%d1, %f1, %hf1, H1⟩, ⟨%d2, %f2, %hf2, H2⟩, ⟨%d3, %f3, %hf3, H3⟩, ⟨%d4, %f4, %hf4, H4⟩,
    ⟨%d5, %f5, %hf5, H5⟩, ⟨%d6, %f6, -, H6⟩⟩
  rw [before_0] at hf0; rw [before_1] at hf1; rw [before_2] at hf2
  rw [before_3] at hf3; rw [before_4] at hf4; rw [before_5] at hf5
  subst hf0 hf1 hf2 hf3 hf4 hf5
  iapply ((KR c Vd).2 f6 _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitr; · iempintro
  isplitl [Howes]; · iexact Howes
  isplitl [H0]; · iexists _; isplitr; swap; (· iexact H0); ipureintro; dsimp only [hdat]
  isplitl [H1]; · iexists _; isplitr; swap; (· iexact H1); ipureintro; dsimp only [hdat]
  isplitl [H2]; · iexists _; isplitr; swap; (· iexact H2); ipureintro; dsimp only [hdat]
  isplitl [H3]; · iexists _; isplitr; swap; (· iexact H3); ipureintro; dsimp only [hdat]
  isplitl [H4]; · iexists _; isplitr; swap; (· iexact H4); ipureintro; dsimp only [hdat]
  isplitl [H5]; · iexists _; isplitr; swap; (· iexact H5); ipureintro; dsimp only [hdat]
  iexists _; isplitr; swap; (· iexact H6); ipureintro; dsimp only [hdat]

/-! ## The call as a region -/

abbrev adm : (p : Fin 1) → (pcfgs (F := F) p).Adm := fun p => (cfgs p).toPCfg_adm
abbrev hdats (Vd : Valuation τ sig (Elt F)) : (p : Fin 1) → (c : Dev nD) → Dat τ (Elt F) (HIx 6) ℕ UU ℕ (Pipeline.pin (pcfgs (F := F)) adm p) c := hdat Vd
theorem hshare (Vd : Valuation τ sig (Elt F)) (c : Dev nD) (w : Fin cfg1.W) : (hdat Vd 0 c).share w = fullShare := by
  unfold Dat.share; split <;> rfl

/-- What a TensorCore owes after the SparseCore call: nothing, its waits at or below that call. -/
abbrev owed1 (c : Dev nD) : sProp (MT nD τ sig (HIx 6) (Elt F) ℕ UU ℕ) :=
  iprop(∃ W, ⌜(K (F := F)).WBelow (SparseCore.T c) W (8 * blocks.fst 1)⌝ ∗ owes (c : Thread nD τ) (0 : CellTallies nD τ sig (HIx 6)) W)

/-- The call, entered from its windows' arrays and left with them at what it computes. -/
def hreg (Vd : Valuation τ sig (Elt F)) (L : GSem nD τ sig → Finset (HIx 6)) (lv : GSem nD τ sig → HIx 6 → ℕ) :
    Pipeline.RegionSeg (pcfgs (F := F)) adm (hdats Vd) none (defs₀ (F := F)) 𝒱₀ L lv 0 where
  win := launch1.toP.to₀.win
  block_pos := block_pos1
  stage_whole := stage_whole1
  K := PEmpty
  osem k := k.elim
  ho := Pipeline.OwnSemFacts.none _
  hbody c := (head_body Vd c).loose
  hwaits := Pipeline.hwaits_of_owed_zero _ _ _ _ L lv 0 fun _ _ => rfl
  pre c := iprop((hdat Vd 0 c).arrays ((hdat Vd 0 c).arrAt · 0) ∗ owed1 c)
  post c := iprop((hdat Vd 0 c).arrays ((hdat Vd 0 c).arrAt · cfg1.N) ∗ owed1 c)
  X _ := iprop(emp)
  Y _ := iprop(emp)
  Z _ := iprop(emp)
  hentry c := by
    rw [Pipeline.ownSems0_none, Pipeline.prefHeld_of_none _ rfl]
    iintro ⟨⟨Ha, %W, %hW, HO⟩, -, -⟩
    imodintro
    isplitl [Ha]; · iexact Ha
    isplitr; · iempintro
    isplitl [HO]
    · unfold Dat.owesAt Pipeline.owesWithin Dat.bound
      iexists W; isplitr; · ipureintro; exact fun p hp => Or.inl (hW p hp)
      iexact HO
    isplitr <;> iempintro
  hin c := by
    iintro -
    iempintro
  hout c := by
    rw [Pipeline.ownSems0_none]
    iintro -
    isplitr; · iempintro
    isplitr; · iempintro
    iapply (Entails.of_eq (scopedRest1_eq (Ix := HIx 6) (Val := Elt F) (Name := ℕ) (U := UU) (Lvl := ℕ) c).symm)
    iempintro
  hexit c := by
    iintro ⟨Ha, HO, -, -⟩
    imodintro
    isplitl [Ha]; · iexact Ha
    unfold Dat.owesAt Pipeline.owesWithin Dat.bound
    icases HO with ⟨%W, %hW, HO⟩
    iexists W; isplitr
    · ipureintro
      rintro p hp
      rcases hW hp with h | ⟨w, s, rfl⟩
      · exact h
      · exact Nat.zero_le _
    iexact HO

/-- The head's seven buffers. -/
theorem arrays_eq_held (Vd : Valuation τ sig (Elt F)) (c : Dev nD) (G : (w : Fin 7) → Buf (Elt F) (((cfg1.win w).arr.view.loc (c.tc : Thread nD τ)))) (Wc : Valuation τ sig (Elt F))
    (hG : ∀ w, G w = Wc (Proc.devRef .tc (Pipeline.arrRef spec1 w))) :
    ((hdat Vd 0 c).arrays G : sProp 𝕄) = StableHlo.held (c : Thread nD τ) (Pipeline.arrRefs spec1) Wc :=
  Pipeline.arrays_held (pcfgs (F := F)) adm (hdats Vd) 0 launch1.toP c (hshare Vd c) G Wc hG

/-- What the call leaves of a device's buffers. -/
def headVal (c : Dev nD) (Vd : Valuation τ sig (Elt F)) : Valuation τ sig (Elt F) :=
  Function.update Vd (Proc.devRef .tc main_v4) ((hdat Vd 0 c).arrAt (6 : Fin 7) cfg1.N)
theorem headVal_in (c : Dev nD) (Vd : Valuation τ sig (Elt F)) (w : Fin 7) :
    (hdat Vd 0 c).arrAt w cfg1.N = headVal c Vd (Proc.devRef .tc (Pipeline.arrRef spec1 w)) := by
  have hin : ∀ w : Fin 7, w ≠ 6 → (cfg1.win w).isOut = false := by decide
  have hne : ∀ w : Fin 7, w ≠ 6 → (Proc.devRef .tc (Pipeline.arrRef spec1 w) : DevRef τ sig) ≠ Proc.devRef .tc main_v4 := by decide
  rcases eq_or_ne w 6 with h | h
  · subst h
    exact (Function.update_self (Proc.devRef .tc main_v4 : DevRef τ sig) ((hdat Vd 0 c).arrAt (6 : Fin 7) cfg1.N) Vd).symm
  · refine ((hdat Vd 0 c).arrAt_in w (hin w h) _).trans ?_
    exact (Function.update_of_ne (hne w h) _ Vd).symm

/-- The call as its pipeline's own program. -/
def pipeCall : Prog (TpuEff nD τ sig (Elt F) (ΛP (F := F)) .tc) PUnit := .op (.customCall (Pipeline.entry 0) ()) .ret

/-- The head's call under the whole program's table. -/
theorem head_wp (d : Dev nD) (Vd : Valuation τ sig (Elt F)) (L : GSem nD τ sig → Finset (HIx 6)) (lv : GSem nD τ sig → HIx 6 → ℕ) (Q : PUnit → sProp 𝕄) :
    iprop((iprop(boundary (SparseCore.T d : Thread nD τ) ∗ StableHlo.held (SparseCore.T d : Thread nD τ) (Pipeline.arrRefs spec1) (headVal d Vd) ∗ owed1 d) -∗ Q ⟨⟩)
        ∗ boundary (SparseCore.T d : Thread nD τ) ∗ StableHlo.held (SparseCore.T d : Thread nD τ) (Pipeline.arrRefs spec1) Vd ∗ owed1 d ∗ levAts L lv ∗ G d)
      ⊢ wp frame (wpE ((K (F := F)).defs (D (F := F))) 𝒱 (SparseCore.T d) none) Set.univ (Prog.lift (.customCall (SparseCore.inner (Pipeline.entry 0)) ())) Q := by
  refine BIBase.Entails.trans ?_ ((K (F := F)).wp_liftProg (D (F := F)) 𝒱 (SparseCore.T d) Set.univ none (pipeCall (F := F)) Q)
  unfold pipeCall
  refine BIBase.Entails.trans ?_ (Pipeline.RegionSeg.wp (pcfgs (F := F)) adm (hdats Vd) none cellOf_inj EP (defs₀ (F := F)) 𝒱₀ L lv (hreg Vd L lv) d none (fun u hu => nomatch hu) .ret Q)
  rw [← arrays_eq_held Vd d ((hdat Vd 0 d).arrAt · 0) Vd (fun _ => rfl), ← arrays_eq_held Vd d ((hdat Vd 0 d).arrAt · cfg1.N) (headVal d Vd) (headVal_in d Vd)]
  rw [show (hreg Vd L lv).pre d = iprop((hdat Vd 0 d).arrays ((hdat Vd 0 d).arrAt · 0) ∗ owed1 d) from rfl,
    show (hreg Vd L lv).post d = iprop((hdat Vd 0 d).arrays ((hdat Vd 0 d).arrAt · cfg1.N) ∗ owed1 d) from rfl]
  iintro ⟨Hk, Hb, Ha, HO, Hlv, Hg, Ht⟩
  isplitl [Hk]
  · iintro ⟨Hb, Ha, HO⟩
    rw [wp_ret]
    imodintro
    iapply Hk
    isplitl [Hb]; · iexact Hb
    isplitl [Ha] <;> iassumption
  isplitl [Hb]; · iexact Hb
  isplitl [Ha HO]
  · isplitl [Ha] <;> iassumption
  isplitl [Hlv]; · iexact Hlv
  isplitl [Hg] <;> iassumption

end Cert.Proof.Pool

end
-- ==== Proof.Split.lean ====
/-
  The staging tables, the results and the arguments' read shares, dealt to the tiles and brought back.
-/
module

public import proofs.«01_k».proof.Proof.Oblig

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 6) (Elt F) ℕ UU ℕ

attribute [local instance] blocks

local notation "zV" => (Memref.whole Cert.KernelIdeal.main_arg0_scv : Memref Cert.KernelIdeal.sig Kind.scVector Space.hbm Cert.KernelIdeal.S160000x256 EltTy.f32)
local notation "bV" => (Memref.whole Cert.KernelIdeal.main_arg1_scv : Memref Cert.KernelIdeal.sig Kind.scVector Space.hbm Cert.KernelIdeal.S160000 EltTy.i32)
local notation "sV" => (Memref.whole Cert.KernelIdeal.main_v0_0_scv : Memref Cert.KernelIdeal.sig Kind.scVector Space.hbm Cert.KernelIdeal.S2x512x256 EltTy.f32)
local notation "cV" => (Memref.whole Cert.KernelIdeal.main_v0_1_scv : Memref Cert.KernelIdeal.sig Kind.scVector Space.hbm Cert.KernelIdeal.S16x8192 EltTy.f32)

/-! ## A part of a buffer through its window -/

/-- A part held at contents of the buffer is held through its window. -/
theorem part_any (d : Dev nD) (cc : Fin τ.nSC) (jj : Fin τ.nSub) {sp : Space} {s : Shape} {e : EltTy} (w : Memref sig .scVector sp s e) (f : Buf (Elt F) (w.view.loc (V d cc jj))) :
    (w.view.loc (V d cc jj) ↦[w.view.set]{fullShare} f : sProp 𝕄) ⊢ Any d cc jj w := by
  have h : (w.view.loc (V d cc jj) ↦[w.view.set]{fullShare} f : sProp 𝕄) = Hd d cc jj w fullShare (w.view.read (Elt F) f) := by
    refine pointsTo_congr fun y hy => ?_
    obtain ⟨y, -, rfl⟩ := Finset.mem_map.mp hy
    have e := View.rep_emb (Val := Elt F) w.view (w.view.read (Elt F) f) y
    rw [e]
    simp [View.read]
  rw [h]
  unfold Any
  iintro H
  iexists _
  iexact H

/-! ## The staging tables of a core -/

abbrev shRef (c : Fin τ.nSC) : DevRef τ sig := ⟨.shared, 0, c⟩
abbrev shLoc (d : Dev nD) (c : Fin τ.nSC) : Loc nD τ sig := (d, shRef c)
/-- The places of staging table `s`. -/
def slotSet (s : Fin 8) : Finset S8x512x128.Idx := (slotM stg ![s.val % 8, 0, 0] (slot_inb s.val)).view.set
theorem mem_slotSet (s : Fin 8) (y : S8x512x128.Idx) : y ∈ slotSet s ↔ (y 0).val = s.val := by
  have e : slotSet s = (Rect.unit (s := S8x512x128) ![s.val % 8, 0, 0] S1x512x128.size (slot_inb s.val)).set := by
    unfold slotSet
    exact (View.set_reshape _ _).trans (View.set_slice_whole _ _)
  rw [e, Rect.mem_set_unit]
  have h0 : (y 0).val < 8 := (y 0).isLt
  have h1 : (y 1).val < 512 := (y 1).isLt
  have h2 : (y 2).val < 128 := (y 2).isLt
  have hs := s.isLt
  constructor
  · intro h
    have h : s.val % 8 ≤ (y 0).val ∧ (y 0).val < s.val % 8 + 1 := h 0
    omega
  · intro h a
    match a with
    | 0 => show s.val % 8 ≤ (y 0).val ∧ (y 0).val < s.val % 8 + 1; omega
    | 1 => show 0 ≤ (y 1).val ∧ (y 1).val < 0 + 512; omega
    | 2 => show 0 ≤ (y 2).val ∧ (y 2).val < 0 + 128; omega
theorem slots_disjoint : ∀ s ∈ (Finset.univ : Finset (Fin 8)), ∀ s' ∈ (Finset.univ : Finset (Fin 8)), s ≠ s' → Disjoint (slotSet s) (slotSet s') := by
  intro s _ s' _ h
  rw [Finset.disjoint_left]
  intro y hy hy'
  exact h (Fin.ext (((mem_slotSet s y).mp hy).symm.trans ((mem_slotSet s' y).mp hy')))
theorem slots_cover : (Finset.univ : Finset (Fin 8)).biUnion slotSet = Finset.univ := by
  ext y
  simp only [Finset.mem_biUnion, Finset.mem_univ, true_and, iff_true]
  exact ⟨⟨(y 0).val, (y 0).isLt⟩, (mem_slotSet _ y).mpr rfl⟩

theorem slots_split (d : Dev nD) (c : Fin τ.nSC) (f : Buf (Elt F) (shLoc d c)) :
    (shLoc d c ↦{fullShare} f : sProp 𝕄) ⊢ bigSep Finset.univ fun s : Fin 8 => SltAny d c s.val := by
  have e : (shLoc d c ↦{fullShare} f : sProp 𝕄) = bigSep Finset.univ fun s : Fin 8 => shLoc d c ↦[slotSet s]{fullShare} f := by
    rw [← pointsTo_biUnion Finset.univ (ℓ := shLoc d c) slotSet slots_disjoint, slots_cover]
  rw [e]
  refine bigSep_mono fun s _ => ?_
  refine (part_any d c (tl ⟨0, by decide⟩) (slotM stg ![s.val % 8, 0, 0] (slot_inb s.val)) f).trans ?_
  unfold Any SltAny Slt Slot
  iintro ⟨%x, H⟩
  haveI : Nonempty (Elt F .f32) := ⟨(zero32 : F .f32)⟩
  obtain ⟨X, rfl⟩ := exists_mat (α := Elt F .f32) x
  iexists X
  iexact H
theorem slots_join (d : Dev nD) (c : Fin τ.nSC) :
    (bigSep Finset.univ fun s : Fin 8 => SltAny d c s.val : sProp 𝕄) ⊢ iprop(∃ f, shLoc d c ↦{fullShare} f) := by
  have h : ∀ s : Fin 8, (SltAny d c s.val : sProp 𝕄) ⊢ iprop(∃ f : Buf (Elt F) (shLoc d c), shLoc d c ↦[slotSet s]{fullShare} f) := by
    intro s
    unfold SltAny Slt Slot
    iintro ⟨%x, H⟩
    iexists _
    iexact H
  refine (bigSep_mono fun s _ => h s).trans ?_
  refine (bigSep_exists_pi Finset.univ (fun s (f : Buf (Elt F) (shLoc d c)) => (shLoc d c ↦[slotSet s]{fullShare} f : sProp 𝕄))).trans ?_
  iintro ⟨%fs, H⟩
  ihave H' := (pointsTo_biUnion_join Finset.univ slotSet fs (fs 0) slots_disjoint) $$ H
  icases H' with ⟨%g, -, Hg⟩
  rw [slots_cover]
  iexists g; iexact Hg

theorem ownBufs_stage (d : Dev nD) (c : Fin τ.nSC) :
    ∃ R : sProp 𝕄, (ownBufs (S d c) : sProp 𝕄) = iprop((∃ f, shLoc d c ↦{fullShare} f) ∗ R) :=
  ⟨_, by
    unfold SparseCore.Cfg.ownBufs
    exact SparseCore.bigSep_erase' ((mem_ownRefs (p := Proc.scScalar c) (b := shRef c)).mpr rfl)⟩

/-! ## The staging tables dealt to the tiles, and brought back -/

/-- A family over the tiles that hold something is the family of what they hold. -/
theorem when_image {n k : ℕ} (p : Fin n → Prop) [DecidablePred p] (g : Fin k → Fin n) (hg : Function.Injective g) (hp : ∀ i, p i ↔ i ∈ Finset.univ.image g) (A : Fin n → sProp 𝕄) :
    (bigSep Finset.univ fun i => When (p i) (A i)) = bigSep Finset.univ fun j => A (g j) := by
  unfold When
  refine (bigSep_filter Finset.univ p A).symm.trans ?_
  rw [show Finset.univ.filter p = Finset.univ.image g from Finset.ext fun i => by simp [hp i],
    SparseCore.bigSep_image_of_injOn (fun a _ b _ e => hg e)]

theorem slots_deal (A : ℕ → sProp (MT nD τ sig (HIx 6) (Elt F) ℕ UU ℕ)) :
    (bigSep Finset.univ fun i : Fin 16 => When (i.val / 2 % 2 = 1) (A (i.val / 2 / 2 * 2 + i.val % 2))) = bigSep Finset.univ fun s : Fin 8 => A s.val := by
  rw [when_image (fun i : Fin 16 => i.val / 2 % 2 = 1) (fun s : Fin 8 => (⟨s.val / 2 * 4 + 2 + s.val % 2, by omega⟩ : Fin 16)) (by decide) (by decide)]
  refine bigSep_congr fun s _ => congrArg A ?_
  revert s; decide
theorem slots_back (A : ℕ → sProp (MT nD τ sig (HIx 6) (Elt F) ℕ UU ℕ)) :
    (bigSep Finset.univ fun i : Fin 16 => iprop(When (i.val / 2 = 4 ∨ i.val / 2 = 6) (A (i.val / 2 / 2 * 2 + i.val % 2)) ∗ When (i.val / 2 = 4) (A (i.val / 2 / 4 * 2 + i.val % 2))
        ∗ When (i.val / 2 = 0) (A (i.val / 2 / 8 * 2 + i.val % 2)))) ⊢ bigSep Finset.univ fun s : Fin 8 => A s.val := by
  rw [bigSep_sep', bigSep_sep',
    when_image (fun i : Fin 16 => i.val / 2 = 4 ∨ i.val / 2 = 6) (fun s : Fin 4 => (⟨8 + s.val / 2 * 4 + s.val % 2, by omega⟩ : Fin 16)) (by decide) (by decide),
    when_image (fun i : Fin 16 => i.val / 2 = 4) (fun s : Fin 2 => (⟨8 + s.val, by omega⟩ : Fin 16)) (by decide) (by decide),
    when_image (fun i : Fin 16 => i.val / 2 = 0) (fun s : Fin 2 => (⟨s.val, by omega⟩ : Fin 16)) (by decide) (by decide),
    bigSep_univ_eq_bigSepL [0, 1, 2, 3] (by decide) (by decide), bigSep_univ_eq_bigSepL [0, 1] (by decide) (by decide), bigSep_univ_eq_bigSepL [0, 1] (by decide) (by decide),
    bigSep_univ_eq_bigSepL [0, 1, 2, 3, 4, 5, 6, 7] (by decide) (by decide)]
  show iprop((A 4 ∗ A 5 ∗ A 6 ∗ A 7) ∗ (A 2 ∗ A 3) ∗ (A 0 ∗ A 1)) ⊢ iprop(A 0 ∗ A 1 ∗ A 2 ∗ A 3 ∗ A 4 ∗ A 5 ∗ A 6 ∗ A 7)
  iintro ⟨⟨H4, H5, H6, H7⟩, ⟨H2, H3⟩, H0, H1⟩
  isplitl [H0]; · iexact H0
  isplitl [H1]; · iexact H1
  isplitl [H2]; · iexact H2
  isplitl [H3]; · iexact H3
  isplitl [H4]; · iexact H4
  isplitl [H5]; · iexact H5
  isplitl [H6] <;> iassumption

variable (m : (ℓ : Loc nD τ sig) → Buf (Elt F) ℓ)

theorem vecSplit : (K (F := F)).VecSplit (P m) 0 := by
  intro d c
  obtain ⟨R, eR⟩ := ownBufs_stage (F := F) d ((K (F := F)).core 0 c)
  rw [eR]
  show iprop((bigSep Finset.univ fun i : Fin 16 => Inn m d (crd (F := F) c i)) ∗ (∃ f, shLoc d ((K (F := F)).core 0 c) ↦{fullShare} f) ∗ R) ⊢ |={Set.univ}=> iprop(
      (bigSep Finset.univ fun i : Fin 16 => iprop(Inn m d (crd (F := F) c i) ∗ InnS d (crd (F := F) c i)))
      ∗ ((bigSep Finset.univ fun i : Fin 16 => iprop((Out m d (crd (F := F) c i) ∗ Bar0 d (crd (F := F) c i)) ∗ OutS d (crd (F := F) c i)))
          -∗ iprop((bigSep Finset.univ fun i : Fin 16 => iprop(Out m d (crd (F := F) c i) ∗ Bar0 d (crd (F := F) c i))) ∗ (∃ f, shLoc d ((K (F := F)).core 0 c) ↦{fullShare} f) ∗ R)))
  rw [bigSep_sep' _ (fun i : Fin 16 => Inn m d (crd (F := F) c i)), bigSep_sep' _ (fun i : Fin 16 => iprop(Out m d (crd (F := F) c i) ∗ Bar0 d (crd (F := F) c i)))]
  iintro ⟨HI, ⟨%f, Hf⟩, HR⟩
  imodintro
  ihave Hs := (slots_split d _ f) $$ Hf
  isplitl [HI Hs]
  · isplitl [HI]; · iexact HI
    iapply (show (bigSep Finset.univ fun s : Fin 8 => (SltAny d ((K (F := F)).core 0 c) s.val : sProp 𝕄)) ⊢ (bigSep Finset.univ fun i : Fin 16 => (InnS d (crd (F := F) c i) : sProp 𝕄)) from
      Entails.of_eq (slots_deal (fun s => SltAny d ((K (F := F)).core 0 c) s)).symm)
    iexact Hs
  iintro ⟨HO, HS⟩
  isplitl [HO]; · iexact HO
  isplitr [HR]
  · iapply (slots_join d ((K (F := F)).core 0 c))
    iapply (show (bigSep Finset.univ fun i : Fin 16 => (OutS d (crd (F := F) c i) : sProp 𝕄)) ⊢ (bigSep Finset.univ fun s : Fin 8 => (SltAny d ((K (F := F)).core 0 c) s.val : sProp 𝕄)) from
      slots_back (fun s => SltAny d ((K (F := F)).core 0 c) s))
    iexact HS
  iexact HR

/-! ## The two results dealt to the tiles, and brought back -/

abbrev crdN (c : Fin 2) (s : Fin 16) : grid0.Coords := coordsV c s

def sumSet (p : Fin 2 × Fin 16) : Finset S2x512x256.Idx := (sumsT (crdN p.1 p.2) sV).view.set
def cntSet (p : Fin 2 × Fin 16) : Finset S16x8192.Idx := (cntsT (crdN p.1 p.2) cV).view.set
theorem mem_sumSet (p : Fin 2 × Fin 16) (y : S2x512x256.Idx) : y ∈ sumSet p ↔ (y 0).val = p.1.val ∧ (y 2).val / 128 = p.2.val % 2 := by
  have hi : ∀ a, (![p.1.val, 0, p.2.val % 2 * 128] : Fin 3 → ℕ) a + S1x512x128.size a ≤ S2x512x256.size a := sums_inb (crdN p.1 p.2)
  have e : sumSet p = (Rect.unit (s := S2x512x256) ![p.1.val, 0, p.2.val % 2 * 128] S1x512x128.size hi).set := by
    unfold sumSet
    exact (View.set_reshape _ _).trans (View.set_slice_whole _ _)
  rw [e, Rect.mem_set_unit]
  have h0 : (y 0).val < 2 := (y 0).isLt
  have h1 : (y 1).val < 512 := (y 1).isLt
  have h2 : (y 2).val < 256 := (y 2).isLt
  constructor
  · intro h
    have h0 : p.1.val ≤ (y 0).val ∧ (y 0).val < p.1.val + 1 := h 0
    have h2 : p.2.val % 2 * 128 ≤ (y 2).val ∧ (y 2).val < p.2.val % 2 * 128 + 128 := h 2
    omega
  · rintro ⟨h, h'⟩ a
    match a with
    | 0 => show p.1.val ≤ (y 0).val ∧ (y 0).val < p.1.val + 1; omega
    | 1 => show 0 ≤ (y 1).val ∧ (y 1).val < 0 + 512; omega
    | 2 => show p.2.val % 2 * 128 ≤ (y 2).val ∧ (y 2).val < p.2.val % 2 * 128 + 128; omega
theorem mem_cntSet (p : Fin 2 × Fin 16) (y : S16x8192.Idx) : y ∈ cntSet p ↔ (y 0).val = p.1.val * 8 + p.2.val / 2 := by
  have hi : ∀ a, (![p.1.val * 8 + p.2.val / 2, 0] : Fin 2 → ℕ) a + S1x8192.size a ≤ S16x8192.size a := cnts_inb (crdN p.1 p.2)
  have e : cntSet p = (Rect.unit (s := S16x8192) ![p.1.val * 8 + p.2.val / 2, 0] S1x8192.size hi).set := by
    unfold cntSet
    exact (View.set_reshape _ _).trans (View.set_slice_whole _ _)
  rw [e, Rect.mem_set_unit]
  have h1 : (y 1).val < 8192 := (y 1).isLt
  constructor
  · intro h
    have h0 : p.1.val * 8 + p.2.val / 2 ≤ (y 0).val ∧ (y 0).val < p.1.val * 8 + p.2.val / 2 + 1 := h 0
    omega
  · intro h a
    match a with
    | 0 => show p.1.val * 8 + p.2.val / 2 ≤ (y 0).val ∧ (y 0).val < p.1.val * 8 + p.2.val / 2 + 1; omega
    | 1 => show 0 ≤ (y 1).val ∧ (y 1).val < 0 + 8192; omega
/-- The tiles that send sums out, and those that send counts out. -/
def sumTiles : Finset (Fin 2 × Fin 16) := Finset.univ.filter fun p => p.2.val / 2 = 0
def cntTiles : Finset (Fin 2 × Fin 16) := Finset.univ.filter fun p => p.2.val % 2 = 0
theorem sums_disjoint : ∀ p ∈ sumTiles, ∀ p' ∈ sumTiles, p ≠ p' → Disjoint (sumSet p) (sumSet p') := by
  rintro ⟨a, b⟩ hp ⟨a', b'⟩ hp' h
  rw [Finset.disjoint_left]
  intro y hy hy'
  have hp := (Finset.mem_filter.mp hp).2
  have hp' := (Finset.mem_filter.mp hp').2
  have hy := (mem_sumSet _ y).mp hy
  have hy' := (mem_sumSet _ y).mp hy'
  dsimp only at hp hp' hy hy'
  exact h (Prod.ext (Fin.ext (hy.1.symm.trans hy'.1)) (Fin.ext (by show b.val = b'.val; omega)))
theorem sums_cover : sumTiles.biUnion sumSet = Finset.univ := by
  ext y
  simp only [Finset.mem_biUnion, Finset.mem_univ, iff_true]
  have h2 : (y 2).val < 256 := (y 2).isLt
  exact ⟨(⟨(y 0).val, (y 0).isLt⟩, ⟨(y 2).val / 128, by omega⟩), Finset.mem_filter.mpr ⟨Finset.mem_univ _, by dsimp only; omega⟩, (mem_sumSet _ y).mpr ⟨rfl, by dsimp only; omega⟩⟩
theorem cnts_disjoint : ∀ p ∈ cntTiles, ∀ p' ∈ cntTiles, p ≠ p' → Disjoint (cntSet p) (cntSet p') := by
  rintro ⟨a, b⟩ hp ⟨a', b'⟩ hp' h
  rw [Finset.disjoint_left]
  intro y hy hy'
  have hp := (Finset.mem_filter.mp hp).2
  have hp' := (Finset.mem_filter.mp hp').2
  have hy := (mem_cntSet _ y).mp hy
  have hy' := (mem_cntSet _ y).mp hy'
  dsimp only at hp hp' hy hy'
  have e := hy.symm.trans hy'
  exact h (Prod.ext (Fin.ext (by show a.val = a'.val; omega)) (Fin.ext (by show b.val = b'.val; omega)))
theorem cnts_cover : cntTiles.biUnion cntSet = Finset.univ := by
  ext y
  simp only [Finset.mem_biUnion, Finset.mem_univ, iff_true]
  have h0 : (y 0).val < 16 := (y 0).isLt
  exact ⟨(⟨(y 0).val / 8, by omega⟩, ⟨2 * ((y 0).val % 8), by omega⟩), Finset.mem_filter.mpr ⟨Finset.mem_univ _, by dsimp only; omega⟩, (mem_cntSet _ y).mpr (by dsimp only; omega)⟩

/-- A family over cores and tiles that some hold is the family over those. -/
theorem when_tiles (p : Fin 2 × Fin 16 → Prop) [DecidablePred p] (A : Fin 2 × Fin 16 → sProp (MT nD τ sig (HIx 6) (Elt F) ℕ UU ℕ)) :
    (bigSep Finset.univ fun c : Fin 2 => bigSep Finset.univ fun s : Fin 16 => When (p (c, s)) (A (c, s))) = bigSep (Finset.univ.filter p) A := by
  unfold When
  refine Eq.trans ?_ (bigSep_filter Finset.univ p A).symm
  rw [bigSep_univ_prod]
  rfl

theorem sums_split (d : Dev nD) (f : Buf (Elt F) (sLoc d)) :
    (sLoc d ↦{fullShare} f : sProp 𝕄) ⊢ bigSep Finset.univ fun c : Fin 2 => bigSep Finset.univ fun s : Fin 16 => When (lg (crdN c s) = 0) (Any d (co (crdN c s)) (tn (crdN c s)) (sumsT (crdN c s) sV)) := by
  have e : (sLoc d ↦{fullShare} f : sProp 𝕄) = bigSep sumTiles fun p => sLoc d ↦[sumSet p]{fullShare} f := by
    rw [← pointsTo_biUnion sumTiles (ℓ := sLoc d) sumSet sums_disjoint, sums_cover]
  rw [e]
  refine BI.Entails.trans (bigSep_mono fun p _ => part_any d (co (crdN p.1 p.2)) (tn (crdN p.1 p.2)) (sumsT (crdN p.1 p.2) sV) f) ?_
  exact Entails.of_eq (when_tiles (fun p => lg (crdN p.1 p.2) = 0) (fun p => Any d (co (crdN p.1 p.2)) (tn (crdN p.1 p.2)) (sumsT (crdN p.1 p.2) sV))).symm
theorem cnts_split (d : Dev nD) (f : Buf (Elt F) (cLoc d)) :
    (cLoc d ↦{fullShare} f : sProp 𝕄) ⊢ bigSep Finset.univ fun c : Fin 2 => bigSep Finset.univ fun s : Fin 16 => When (hf (crdN c s) = 0) (Any d (co (crdN c s)) (tn (crdN c s)) (cntsT (crdN c s) cV)) := by
  have e : (cLoc d ↦{fullShare} f : sProp 𝕄) = bigSep cntTiles fun p => cLoc d ↦[cntSet p]{fullShare} f := by
    rw [← pointsTo_biUnion cntTiles (ℓ := cLoc d) cntSet cnts_disjoint, cnts_cover]
  rw [e]
  refine BI.Entails.trans (bigSep_mono fun p _ => part_any d (co (crdN p.1 p.2)) (tn (crdN p.1 p.2)) (cntsT (crdN p.1 p.2) cV) f) ?_
  exact Entails.of_eq (when_tiles (fun p => hf (crdN p.1 p.2) = 0) (fun p => Any d (co (crdN p.1 p.2)) (tn (crdN p.1 p.2)) (cntsT (crdN p.1 p.2) cV))).symm

/-- The sums, brought back: whole, and at what each tile sent. -/
theorem sums_join (d : Dev nD) (X : Fin 2 × Fin 16 → S512x128.Idx → Elt F .f32) :
    (bigSep Finset.univ fun c : Fin 2 => bigSep Finset.univ fun s : Fin 16 => When (lg (crdN c s) = 0) (Hd d (co (crdN c s)) (tn (crdN c s)) (sumsT (crdN c s) sV) fullShare (X (c, s))) : sProp 𝕄)
      ⊢ iprop(∃ g, ⌜∀ p ∈ sumTiles, ∀ y ∈ sumSet p, g y = (sumsT (crdN p.1 p.2) sV).view.rep (X p) y⌝ ∗ sLoc d ↦{fullShare} g) := by
  have e := when_tiles (F := F) (fun p => lg (crdN p.1 p.2) = 0) (fun p => Hd d (co (crdN p.1 p.2)) (tn (crdN p.1 p.2)) (sumsT (crdN p.1 p.2) sV) fullShare (X p))
  refine (Entails.of_eq e).trans ?_
  iintro H
  ihave H' := (show (bigSep (Finset.univ.filter fun p : Fin 2 × Fin 16 => lg (crdN p.1 p.2) = 0) fun p => (Hd d (co (crdN p.1 p.2)) (tn (crdN p.1 p.2)) (sumsT (crdN p.1 p.2) sV) fullShare (X p) : sProp 𝕄)) ⊢ _ from
    pointsTo_biUnion_join (ℓ := sLoc d) (q := fullShare) sumTiles sumSet (fun p => (sumsT (crdN p.1 p.2) sV).view.rep (X p)) ((sumsT (crdN 0 0) sV).view.rep (X (0, 0))) sums_disjoint) $$ H
  icases H' with ⟨%g, %hg, Hg⟩
  rw [sums_cover]
  iexists g
  isplitr
  · ipureintro; exact hg
  · iexact Hg
theorem cnts_join (d : Dev nD) (X : Fin 2 × Fin 16 → S8192.Idx → Elt F .f32) :
    (bigSep Finset.univ fun c : Fin 2 => bigSep Finset.univ fun s : Fin 16 => When (hf (crdN c s) = 0) (Hd d (co (crdN c s)) (tn (crdN c s)) (cntsT (crdN c s) cV) fullShare (X (c, s))) : sProp 𝕄)
      ⊢ iprop(∃ g, ⌜∀ p ∈ cntTiles, ∀ y ∈ cntSet p, g y = (cntsT (crdN p.1 p.2) cV).view.rep (X p) y⌝ ∗ cLoc d ↦{fullShare} g) := by
  have e := when_tiles (F := F) (fun p => hf (crdN p.1 p.2) = 0) (fun p => Hd d (co (crdN p.1 p.2)) (tn (crdN p.1 p.2)) (cntsT (crdN p.1 p.2) cV) fullShare (X p))
  refine (Entails.of_eq e).trans ?_
  iintro H
  ihave H' := (show (bigSep (Finset.univ.filter fun p : Fin 2 × Fin 16 => hf (crdN p.1 p.2) = 0) fun p => (Hd d (co (crdN p.1 p.2)) (tn (crdN p.1 p.2)) (cntsT (crdN p.1 p.2) cV) fullShare (X p) : sProp 𝕄)) ⊢ _ from
    pointsTo_biUnion_join (ℓ := cLoc d) (q := fullShare) cntTiles cntSet (fun p => (cntsT (crdN p.1 p.2) cV).view.rep (X p)) ((cntsT (crdN 0 0) cV).view.rep (X (0, 0))) cnts_disjoint) $$ H
  icases H' with ⟨%g, %hg, Hg⟩
  rw [cnts_cover]
  iexists g
  isplitr
  · ipureintro; exact hg
  · iexact Hg

/-! ## The read shares of the arguments -/

/-- An argument held whole gives each tile two read shares of it, and a share remains. -/
theorem shares_split (ℓ : Loc nD τ sig) (f : Buf (Elt F) ℓ) :
    (ℓ ↦{fullShare} f : sProp 𝕄) ⊢ iprop((ℓ ↦{Transfers.shareDrop fullShare 2} f)
      ∗ bigSep Finset.univ fun c : Fin 2 => bigSep Finset.univ fun s : Fin 16 => iprop((ℓ ↦{q1 (crdN c s)} f) ∗ ℓ ↦{q2 (crdN c s)} f)) := by
  refine (Transfers.pointsTo_toks_split fullShare 2).trans (sep_mono_right (bigSep_mono fun c _ => ?_))
  refine (Transfers.pointsTo_toks_split (Transfers.shareTok fullShare 2 c) 16).trans (sep_elim_right.trans (bigSep_mono fun s _ => ?_))
  exact (pointsTo_share (PosShare.mem_left_op_right _)).1

end Cert.Proof.Pool

end
-- ==== Proof.Main.lean ====
/-
  @main on a TensorCore: the arguments dealt to the tiles, the call, the reshapes and the head.
-/
module

public import proofs.«01_k».proof.Proof.Head
public import proofs.«01_k».proof.Proof.Split

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 6) (Elt F) ℕ UU ℕ

attribute [local instance] blocks

open TcCoe

local notation "zV" => (Memref.whole Cert.KernelIdeal.main_arg0_scv : Memref Cert.KernelIdeal.sig Kind.scVector Space.hbm Cert.KernelIdeal.S160000x256 EltTy.f32)
local notation "bV" => (Memref.whole Cert.KernelIdeal.main_arg1_scv : Memref Cert.KernelIdeal.sig Kind.scVector Space.hbm Cert.KernelIdeal.S160000 EltTy.i32)
local notation "sV" => (Memref.whole Cert.KernelIdeal.main_v0_0_scv : Memref Cert.KernelIdeal.sig Kind.scVector Space.hbm Cert.KernelIdeal.S2x512x256 EltTy.f32)
local notation "cV" => (Memref.whole Cert.KernelIdeal.main_v0_1_scv : Memref Cert.KernelIdeal.sig Kind.scVector Space.hbm Cert.KernelIdeal.S16x8192 EltTy.f32)

variable (m : (ℓ : Loc nD τ sig) → Buf (Elt F) ℓ) (ρ : Dev nD → PrngReg)

/-! ## What goes out to the tiles, and what comes back -/

/-- Two families over the cores and tiles are one family of pairs. -/
theorem pair2 (A B : Fin 2 → Fin 16 → sProp (MT nD τ sig (HIx 6) (Elt F) ℕ UU ℕ)) :
    iprop((bigSep Finset.univ fun c : Fin 2 => bigSep Finset.univ fun s : Fin 16 => A c s) ∗ (bigSep Finset.univ fun c : Fin 2 => bigSep Finset.univ fun s : Fin 16 => B c s))
      = bigSep Finset.univ fun c : Fin 2 => bigSep Finset.univ fun s : Fin 16 => iprop(A c s ∗ B c s) := by
  rw [← bigSep_sep']
  exact bigSep_congr fun c _ => (bigSep_sep' _ _ _).symm

theorem inn_intro (d : Dev nD) (c : Fin 2) (s : Fin 16) :
    iprop(((zLoc d ↦{q1 (crdN c s)} m (zLoc d)) ∗ zLoc d ↦{q2 (crdN c s)} m (zLoc d)) ∗ ((bLoc d ↦{q1 (crdN c s)} m (bLoc d)) ∗ bLoc d ↦{q2 (crdN c s)} m (bLoc d))
      ∗ (When (lg (crdN c s) = 0) (Any d (co (crdN c s)) (tn (crdN c s)) (sumsT (crdN c s) sV))) ∗ When (hf (crdN c s) = 0) (Any d (co (crdN c s)) (tn (crdN c s)) (cntsT (crdN c s) cV)))
      ⊢ (Inn m d (crdN c s) : sProp 𝕄) := by
  have hz : ∀ q, (TabZ (d := d) (crdN c s) zV (Zm m d) q : sProp 𝕄) = (zLoc d ↦{q} m (zLoc d)) := fun q => by
    unfold TabZ Zm
    rw [mat_zAt, hd_whole]
  have hb : ∀ q, (TabB (d := d) (crdN c s) bV (Bm m d) q : sProp 𝕄) = (bLoc d ↦{q} m (bLoc d)) := fun q => by
    refine Eq.trans ?_ (hd_whole d (co (crdN c s)) (tn (crdN c s)) main_arg1_scv q (m (bLoc d)))
    exact congrArg (Hd d (co (crdN c s)) (tn (crdN c s)) bV q) (lin_bAt (m (bLoc d)))
  unfold Inn
  rw [hz, hz, hb, hb]
  iintro ⟨⟨Hz, Hz'⟩, ⟨Hb, Hb'⟩, Hs, Hc⟩
  isplitl [Hb]; · iexact Hb
  isplitl [Hz]; · iexact Hz
  isplitl [Hb']; · iexact Hb'
  isplitl [Hz']; · iexact Hz'
  isplitl [Hs] <;> iassumption

/-- The arguments and the results whole give the tiles what they take, a share of each argument kept. -/
theorem st_intro (d : Dev nD) (f : Buf (Elt F) (sLoc d)) (g : Buf (Elt F) (cLoc d)) :
    iprop((zLoc d ↦{fullShare} m (zLoc d)) ∗ (bLoc d ↦{fullShare} m (bLoc d)) ∗ (sLoc d ↦{fullShare} f) ∗ cLoc d ↦{fullShare} g)
      ⊢ (iprop((zLoc d ↦{Transfers.shareDrop fullShare 2} m (zLoc d)) ∗ (bLoc d ↦{Transfers.shareDrop fullShare 2} m (bLoc d))
          ∗ bigSep Finset.univ fun c : Fin ((K (F := F)).nCore 0) => (P m).st 0 d c) : sProp 𝕄) := by
  iintro ⟨Hz, Hb, Hs, Hc⟩
  ihave Hz' := (shares_split (zLoc d) (m (zLoc d))) $$ Hz
  ihave Hb' := (shares_split (bLoc d) (m (bLoc d))) $$ Hb
  ihave Hs' := (sums_split d f) $$ Hs
  ihave Hc' := (cnts_split d g) $$ Hc
  icases Hz' with ⟨Hz0, Hz⟩
  icases Hb' with ⟨Hb0, Hb⟩
  isplitl [Hz0]; · iexact Hz0
  isplitl [Hb0]; · iexact Hb0
  iapply (show _ ⊢ (bigSep Finset.univ fun c : Fin 2 => bigSep Finset.univ fun s : Fin 16 => Inn m d (crdN c s) : sProp 𝕄) from
    bigSep_mono fun c _ => bigSep_mono fun s _ => inn_intro m d c s)
  iapply (Entails.of_eq (pair2 (fun c s => iprop((zLoc d ↦{q1 (crdN c s)} m (zLoc d)) ∗ zLoc d ↦{q2 (crdN c s)} m (zLoc d))) _))
  isplitl [Hz]; · iexact Hz
  iapply (Entails.of_eq (pair2 (fun c s => iprop((bLoc d ↦{q1 (crdN c s)} m (bLoc d)) ∗ bLoc d ↦{q2 (crdN c s)} m (bLoc d))) _))
  isplitl [Hb]; · iexact Hb
  iapply (Entails.of_eq (pair2 (fun c s => When (lg (crdN c s) = 0) (Any d (co (crdN c s)) (tn (crdN c s)) (sumsT (crdN c s) sV))) _))
  isplitl [Hs'] <;> iassumption

/-- The sums' array holds each writing tile's part. -/
def SumsAt (d : Dev nD) (g : Buf (Elt F) (sLoc d)) : Prop :=
  ∀ p ∈ sumTiles, ∀ y ∈ sumSet p, g y = (sumsT (crdN p.1 p.2) sV).view.rep (mat (T3 (Zm m d) (Bm m d) p.1.val p.2.val)) y
/-- The counts' array holds each writing tile's part. -/
def CntsAt (d : Dev nD) (g : Buf (Elt F) (cLoc d)) : Prop :=
  ∀ p ∈ cntTiles, ∀ y ∈ cntSet p, g y = (cntsT (crdN p.1 p.2) cV).view.rep (lin (CN (Zm m d) (Bm m d) p.1.val p.2.val)) y

/-- The barriers' semaphores of a device at zero. -/
def bars (d : Dev nD) : sProp (MT nD τ sig (HIx 6) (Elt F) ℕ UU ℕ) :=
  bigSep Finset.univ fun c : Fin 2 => bigSep Finset.univ fun s : Fin 16 => Bar0 (F := F) d (crdN c s)

theorem dn_elim (d : Dev nD) :
    (bigSep Finset.univ fun c : Fin ((K (F := F)).nCore 0) => (P m).dn 0 d c)
      ⊢ (iprop((∃ g, ⌜SumsAt m d g⌝ ∗ sLoc d ↦{fullShare} g) ∗ (∃ g, ⌜CntsAt m d g⌝ ∗ cLoc d ↦{fullShare} g) ∗ bars (F := F) d) : sProp 𝕄) := by
  have e : (bigSep Finset.univ fun c : Fin ((K (F := F)).nCore 0) => (P m).dn 0 d c)
      = (iprop(((bigSep Finset.univ fun c : Fin 2 => bigSep Finset.univ fun s : Fin 16 => When (lg (crdN c s) = 0) (Hd d (co (crdN c s)) (tn (crdN c s)) (sumsT (crdN c s) sV) fullShare (mat (T3 (Zm m d) (Bm m d) c.val s.val))))
          ∗ (bigSep Finset.univ fun c : Fin 2 => bigSep Finset.univ fun s : Fin 16 => When (hf (crdN c s) = 0) (Hd d (co (crdN c s)) (tn (crdN c s)) (cntsT (crdN c s) cV) fullShare (lin (CN (Zm m d) (Bm m d) c.val s.val)))))
          ∗ bars (F := F) d) : sProp 𝕄) := by
    unfold bars
    rw [pair2, pair2]
    rfl
  rw [e]
  iintro ⟨⟨Hs, Hc⟩, Hb⟩
  isplitl [Hs]
  · iapply (sums_join d fun p => mat (T3 (Zm m d) (Bm m d) p.1.val p.2.val)); iexact Hs
  isplitl [Hc]
  · iapply (cnts_join d fun p => lin (CN (Zm m d) (Bm m d) p.1.val p.2.val)); iexact Hc
  iexact Hb

/-! ## The host's buffers -/

/-- A buffer of the TensorCore, of the device's. -/
abbrev dr (b : Ref sig .tc) : DevRef τ sig := Proc.devRef .tc b
/-- The buffers the operations after the SparseCore call work on. -/
def HostS : Finset (DevRef τ sig) := {dr main_v0_0, dr main_v0_1, dr main_arg2, dr main_arg3, dr main_arg4, dr main_arg5, dr main_v1, dr main_v2, dr main_v3, dr main_v4}
theorem unscoped_eq (d : Dev nD) (W : (b : Ref sig .tc) → Buf (Elt F) ((d.tc : Thread nD τ).loc b)) :
    (unscopedBufs d W : sProp 𝕄) = iprop((zLoc d ↦{fullShare} W main_arg0) ∗ (bLoc d ↦{fullShare} W main_arg1) ∗ (((SparseCore.T d).loc main_v0_0) ↦{fullShare} W main_v0_0) ∗ (((SparseCore.T d).loc main_v0_1) ↦{fullShare} W main_v0_1) ∗ (((SparseCore.T d).loc main_arg2) ↦{fullShare} W main_arg2) ∗ (((SparseCore.T d).loc main_arg3) ↦{fullShare} W main_arg3) ∗ (((SparseCore.T d).loc main_arg4) ↦{fullShare} W main_arg4) ∗ (((SparseCore.T d).loc main_arg5) ↦{fullShare} W main_arg5) ∗ (((SparseCore.T d).loc main_v1) ↦{fullShare} W main_v1) ∗ (((SparseCore.T d).loc main_v2) ↦{fullShare} W main_v2) ∗ (((SparseCore.T d).loc main_v3) ↦{fullShare} W main_v3) ∗ (((SparseCore.T d).loc main_v4) ↦{fullShare} W main_v4)) := by
  unfold unscopedBufs
  rw [show (Finset.univ.filter fun b : Ref sig .tc => ¬ b.isScoped) = {main_arg0, main_arg1, main_v0_0, main_v0_1, main_arg2, main_arg3, main_arg4, main_arg5, main_v1, main_v2, main_v3, main_v4} by decide]
  repeat rw [SparseCore.bigSep_insert' (by decide)]
  rw [bigSep_singleton]
theorem host_eq (d : Dev nD) (Vd : Valuation τ sig (Elt F)) :
    (StableHlo.held (SparseCore.T d : Thread nD τ) HostS Vd : sProp 𝕄) = iprop((((SparseCore.T d).loc main_v0_0) ↦{fullShare} Vd (dr main_v0_0)) ∗ (((SparseCore.T d).loc main_v0_1) ↦{fullShare} Vd (dr main_v0_1)) ∗ (((SparseCore.T d).loc main_arg2) ↦{fullShare} Vd (dr main_arg2)) ∗ (((SparseCore.T d).loc main_arg3) ↦{fullShare} Vd (dr main_arg3)) ∗ (((SparseCore.T d).loc main_arg4) ↦{fullShare} Vd (dr main_arg4)) ∗ (((SparseCore.T d).loc main_arg5) ↦{fullShare} Vd (dr main_arg5)) ∗ (((SparseCore.T d).loc main_v1) ↦{fullShare} Vd (dr main_v1)) ∗ (((SparseCore.T d).loc main_v2) ↦{fullShare} Vd (dr main_v2)) ∗ (((SparseCore.T d).loc main_v3) ↦{fullShare} Vd (dr main_v3)) ∗ (((SparseCore.T d).loc main_v4) ↦{fullShare} Vd (dr main_v4))) := by
  unfold StableHlo.held HostS
  repeat rw [SparseCore.bigSep_insert' (by decide)]
  rw [bigSep_singleton]

/-- The buffers after the SparseCore call, and after each reshape. -/
def V1 (d : Dev nD) (g : Buf (Elt F) (sLoc d)) (g' : Buf (Elt F) (cLoc d)) : Valuation τ sig (Elt F) :=
  Function.update (Function.update (fun b => m (d, b)) (dr main_v0_0) g) (dr main_v0_1) g'
abbrev op1 : HloOp τ sig (Elt F) := StableHlo.reshape main_v0_1 main_v1 (rfl : (.f32 : EltTy) = .f32) shapeCasts_S16x8192_S16x512x16
abbrev op2 : HloOp τ sig (Elt F) := StableHlo.reshape main_arg3 main_v2 (rfl : (.f32 : EltTy) = .f32) shapeCasts_S64_S1x64
abbrev op3 : HloOp τ sig (Elt F) := StableHlo.reshape main_arg5 main_v3 (rfl : (.f32 : EltTy) = .f32) shapeCasts_S21_S1x21
def V4 (d : Dev nD) (g : Buf (Elt F) (sLoc d)) (g' : Buf (Elt F) (cLoc d)) : Valuation τ sig (Elt F) :=
  (op3 (F := F)).result ((op2 (F := F)).result ((op1 (F := F)).result (V1 m d g g')))

theorem V1_s (d : Dev nD) (g : Buf (Elt F) (sLoc d)) (g' : Buf (Elt F) (cLoc d)) : V1 m d g g' (dr main_v0_0) = g :=
  (Function.update_of_ne (by decide) _ _).trans (Function.update_self _ _ _)
theorem V1_c (d : Dev nD) (g : Buf (Elt F) (sLoc d)) (g' : Buf (Elt F) (cLoc d)) : V1 m d g g' (dr main_v0_1) = g' :=
  Function.update_self _ _ _
theorem V1_o (d : Dev nD) (g : Buf (Elt F) (sLoc d)) (g' : Buf (Elt F) (cLoc d)) (b : Ref sig .tc) (h : dr b ≠ dr main_v0_0) (h' : dr b ≠ dr main_v0_1) :
    V1 m d g g' (dr b) = m ((SparseCore.T d).loc b) :=
  (Function.update_of_ne h' _ _).trans (Function.update_of_ne h _ _)
theorem V4_o (d : Dev nD) (g : Buf (Elt F) (sLoc d)) (g' : Buf (Elt F) (cLoc d)) (b : Ref sig .tc) (h1 : b ≠ main_v1) (h2 : b ≠ main_v2) (h3 : b ≠ main_v3) :
    V4 m d g g' (dr b) = V1 m d g g' (dr b) := by
  unfold V4
  rw [StableHlo.reshape_result_ne _ _ _ _ _ _ _ h3, StableHlo.reshape_result_ne _ _ _ _ _ _ _ h2, StableHlo.reshape_result_ne _ _ _ _ _ _ _ h1]

/-! ## @main -/

/-- What @main ends with: a share of each tile argument, the barriers at zero, the host's buffers at the head's result. -/
def FIN (d : Dev nD) : sProp 𝕄 :=
  iprop((zLoc d ↦{Transfers.shareDrop fullShare 2} m (zLoc d)) ∗ (bLoc d ↦{Transfers.shareDrop fullShare 2} m (bLoc d)) ∗ bars (F := F) d
    ∗ ∃ g g', ⌜SumsAt m d g ∧ CntsAt m d g'⌝ ∗ (StableHlo.held (SparseCore.T d : Thread nD τ) (Pipeline.arrRefs spec1) (headVal d (V4 m d g g'))
      ∗ StableHlo.held (SparseCore.T d : Thread nD τ) (HostS \ Pipeline.arrRefs spec1) (V4 m d g g')))

theorem Otc_1 (d : Dev nD) : (K (F := F)).Otc d 1 = (0 : CellTallies nD τ sig (HIx 6)) := by
  unfold SparseCore.Cfg.Otc
  exact Finset.sum_eq_zero fun q _ => if_neg (by omega)

theorem owes_1 (d : Dev nD) (W : Waits sig (HIx 6)) :
    ((owes (SparseCore.T d : Thread nD τ) ((K (F := F)).Otc d 1) W : sProp 𝕄) ⊢ owes (SparseCore.T d : Thread nD τ) 0 W)
      ∧ ((owes (SparseCore.T d : Thread nD τ) 0 W : sProp 𝕄) ⊢ owes (SparseCore.T d : Thread nD τ) ((K (F := F)).Otc d 1) W) := by
  rw [Otc_1 (F := F) d]
  exact ⟨.rfl, .rfl⟩

/-- @main on a device's TensorCore: the SparseCore call, the three reshapes, the head. -/
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_eq]
  simp only [main, wp_bind, wp_pure]
  iintro ⟨#Hctx, Hst, ⟨Hb, ⟨Hz, Hbt, Hs, Hc, H2, H3, H4, H5, Hv1, Hv2, Hv3, Hv4⟩, Hts, -⟩, HG⟩
  ihave Hdeal := (st_intro m d _ _) $$ [Hz Hbt Hs Hc]
  · isplitl [Hz]; · iexact Hz
    isplitl [Hbt]; · iexact Hbt
    isplitl [Hs] <;> iassumption
  icases Hdeal with ⟨Hz, Hbt, Hdeal⟩
  iapply ((K (F := F)).wp_run (D (F := F)) 𝒱 (EH := EH) (P := P m) κ d 0) $$ [Hst Hdeal Hz Hbt Hb H2 H3 H4 H5 Hv1 Hv2 Hv3 Hv4 Hts HG]
  isplitr; · iexact Hctx
  isplitl [Hst]; · iexact Hst
  isplitl [Hdeal]; · iexact Hdeal
  iintro ⟨Hst, Hdn⟩
  ihave Hdn' := (dn_elim m d) $$ Hdn
  icases Hdn' with ⟨⟨%g, %hg, Hs⟩, ⟨%g', %hg', Hc⟩, Hbars⟩
  ihave Hh := (Entails.of_eq (host_eq (F := F) d (V1 m d g g')).symm) $$ [Hs Hc H2 H3 H4 H5 Hv1 Hv2 Hv3 Hv4]
  · rw [V1_s, V1_c, V1_o m d g g' main_arg2 (by decide) (by decide), V1_o m d g g' main_arg3 (by decide) (by decide), V1_o m d g g' main_arg4 (by decide) (by decide), V1_o m d g g' main_arg5 (by decide) (by decide), V1_o m d g g' main_v1 (by decide) (by decide), V1_o m d g g' main_v2 (by decide) (by decide), V1_o m d g g' main_v3 (by decide) (by decide), V1_o m d g g' main_v4 (by decide) (by decide)]
    isplitl [Hs]; · iexact Hs
    isplitl [Hc]; · iexact Hc
    isplitl [H2]; · iexact H2
    isplitl [H3]; · iexact H3
    isplitl [H4]; · iexact H4
    isplitl [H5]; · iexact H5
    isplitl [Hv1]; · iexact Hv1
    isplitl [Hv2]; · iexact Hv2
    isplitl [Hv3] <;> iassumption
  iapply (StableHlo.wp_hlo_within 𝒱 (SparseCore.T d) none Set.univ (op := op1 (F := F)) (S := HostS) (show ({dr main_v0_1, dr main_v1} : Finset (DevRef τ sig)) ⊆ HostS by decide) (V := V1 m d g g')) $$ [Hb Hh]
  · isplitl [Hb] <;> iassumption
  iintro ⟨Hb, Hh⟩
  rw [wp_ret]; imodintro
  iapply (StableHlo.wp_hlo_within 𝒱 (SparseCore.T d) none Set.univ (op := op2 (F := F)) (S := HostS) (show ({dr main_arg3, dr main_v2} : Finset (DevRef τ sig)) ⊆ HostS by decide) (V := (op1 (F := F)).result (V1 m d g g'))) $$ [Hb Hh]
  · isplitl [Hb] <;> iassumption
  iintro ⟨Hb, Hh⟩
  rw [wp_ret]; imodintro
  iapply (StableHlo.wp_hlo_within 𝒱 (SparseCore.T d) none Set.univ (op := op3 (F := F)) (S := HostS) (show ({dr main_arg5, dr main_v3} : Finset (DevRef τ sig)) ⊆ HostS by decide) (V := (op2 (F := F)).result ((op1 (F := F)).result (V1 m d g g')))) $$ [Hb Hh]
  · isplitl [Hb] <;> iassumption
  iintro ⟨Hb, Hh⟩
  rw [wp_ret]; imodintro
  rw [show (op3 (F := F)).result ((op2 (F := F)).result ((op1 (F := F)).result (V1 m d g g'))) = V4 m d g g' from rfl]
  ihave Hh' := (Entails.of_eq (StableHlo.held_sub_split (SparseCore.T d : Thread nD τ) (show Pipeline.arrRefs spec1 ⊆ HostS by decide) (V4 m d g g'))) $$ Hh
  icases Hh' with ⟨Ha, Hrest⟩
  unfold SparseCore.Cfg.tcSt
  icases Hst with ⟨⟨%W, %hW, HO⟩, Hst⟩
  iapply (head_wp d (V4 m d g g') (K (F := F)).L (K (F := F)).lev _)
  isplitr [Hb Ha HO HG]
  · iintro ⟨Hb, Ha, %W', %hW', HO⟩
    imodintro
    isplitl [HO Hst]
    · isplitl [HO]
      · iexists W'
        isplitr; · ipureintro; exact hW'
        iapply (owes_1 d W').2
        iexact HO
      iexact Hst
    isplitr [Hb Hts]
    · unfold FIN
      isplitl [Hz]; · iexact Hz
      isplitl [Hbt]; · iexact Hbt
      isplitl [Hbars]; · iexact Hbars
      iexists g; iexists g'
      isplitr; · ipureintro; exact ⟨hg, hg'⟩
      isplitl [Ha] <;> iassumption
    isplitl [Hb] <;> iassumption
  isplitl [Hb]; · iexact Hb
  isplitl [Ha]; · iexact Ha
  isplitl [HO]
  · iexists W
    isplitr; · ipureintro; exact hW
    iapply (owes_1 d W).1
    iexact HO
  isplitr [HG]
  · iapply ((K (F := F)).ctx_levAts κ); iexact Hctx
  iexact HG

end Cert.Proof.Pool

end
-- ==== Proof.Run.lean ====
/-
  The program's run: what the final memory holds, at any float values.
-/
module

public import proofs.«01_k».proof.Proof.Main
public import Idealize.ShloMosaic.Lib.ReduceAll

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 6) (Elt F) ℕ UU ℕ

attribute [local instance] blocks

open TcCoe

variable (m : (ℓ : Loc nD τ sig) → Buf (Elt F) ℓ) (ρ : Dev nD → PrngReg)

/-! ## What the final memory holds -/

/-- The final memory: the arguments as they began, the barriers at zero, the result at the head of the sums and the counts. -/
def fq (d : Dev nD) (s' : Phys nD τ sig (Elt F)) : Prop :=
  s'.mem.mem (zLoc d) = m (zLoc d) ∧ s'.mem.mem (bLoc d) = m (bLoc d) ∧ (∀ p : Fin 2 × Fin 16, s'.mem.sem (bcell d (co (crdN p.1 p.2)) (tn (crdN p.1 p.2))) = 0)
    ∧ ∃ g g', (SumsAt m d g ∧ CntsAt m d g')
      ∧ (∀ b ∈ Pipeline.arrRefs spec1, s'.mem.mem (d, b) = headVal d (V4 m d g g') b)
      ∧ ∀ b ∈ HostS \ Pipeline.arrRefs spec1, s'.mem.mem (d, b) = V4 m d g g' b

theorem pure_both {A : sProp (MT nD τ sig (HIx 6) (Elt F) ℕ UU ℕ)} {p q : Prop} (h : A ⊢ (⌜p⌝ : sProp 𝕄)) (h' : A ⊢ (⌜q⌝ : sProp 𝕄)) : A ⊢ (⌜p ∧ q⌝ : sProp 𝕄) :=
  fun x hx => ⟨h x hx, h' x hx⟩

theorem pt_read (s' : Phys nD τ sig (Elt F)) (ℓ : Loc nD τ sig) (q : PosShare TreeShare) (f : Buf (Elt F) ℓ) :
    iprop((ℓ ↦{q} f) ∗ SI s') ⊢ (⌜s'.mem.mem ℓ = f⌝ : sProp 𝕄) := by
  iintro ⟨Hx, HSI⟩
  ihave H := (SI_pointsTo_agree (st := s') (ℓ := ℓ) (I := Finset.univ) (q := q) (f := f)) $$ [HSI Hx]
  · isplitl [HSI] <;> iassumption
  icases H with %hx
  ipureintro; exact funext fun i => hx i (Finset.mem_univ i)

theorem held_read (s' : Phys nD τ sig (Elt F)) (d : Dev nD) (S : Finset (DevRef τ sig)) (Vd : Valuation τ sig (Elt F)) :
    iprop(StableHlo.held (SparseCore.T d : Thread nD τ) S Vd ∗ SI s') ⊢ (⌜∀ b ∈ S, s'.mem.mem (d, b) = Vd b⌝ : sProp 𝕄) :=
  fun x hx b hb => ((sep_mono_left (SparseCore.ent (bigSep_elim hb))).trans (pt_read s' (d, b) fullShare (Vd b))) x hx

theorem bars_read (s' : Phys nD τ sig (Elt F)) (d : Dev nD) :
    iprop(bars (F := F) d ∗ SI s') ⊢ (⌜∀ p : Fin 2 × Fin 16, s'.mem.sem (bcell d (co (crdN p.1 p.2)) (tn (crdN p.1 p.2))) = 0⌝ : sProp 𝕄) :=
  fun x hx p => ((sep_mono_left ((SparseCore.ent (bigSep_elim (Finset.mem_univ p.1))).trans (SparseCore.ent (bigSep_elim (Finset.mem_univ p.2))))).trans
    (SparseCore.Cfg.semVal_zero_read _ s')) x hx

theorem hfin (d : Dev nD) (s' : Phys nD τ sig (Elt F)) : iprop(FIN m d ∗ SI s') ⊢ (⌜fq m d s'⌝ : sProp 𝕄) := by
  unfold FIN fq
  refine pure_both ((sep_mono_left sep_elim_left).trans (pt_read s' (zLoc d) _ _)) ?_
  refine pure_both ((sep_mono_left (sep_elim_right.trans sep_elim_left)).trans (pt_read s' (bLoc d) _ _)) ?_
  refine pure_both ((sep_mono_left (sep_elim_right.trans (sep_elim_right.trans sep_elim_left))).trans (bars_read s' d)) ?_
  iintro ⟨⟨-, -, -, %g, %g', %hg, H⟩, HSI⟩
  ihave H' := (pure_both ((sep_mono_left sep_elim_left).trans (held_read s' d (Pipeline.arrRefs spec1) (headVal d (V4 m d g g'))))
    ((sep_mono_left sep_elim_right).trans (held_read s' d (HostS \ Pipeline.arrRefs spec1) (V4 m d g g')))) $$ [H HSI]
  · isplitl [H] <;> iassumption
  icases H' with %h
  ipureintro
  exact ⟨g, g', hg, h⟩

/-- The cells taken at the launch end at zero. -/
theorem hA (s' : Phys nD τ sig (Elt F)) (h : ∀ d, fq m d s') (g : GSem nD τ sig) (hg : g ∈ bCells) : s'.mem.sem g = 0 := by
  obtain ⟨⟨d, c, i⟩, -, rfl⟩ := Finset.mem_image.mp hg
  exact (h d).2.2.1 (c, i)

/-! ## The program's run -/

/-- What a run ends with: the arguments unchanged, every semaphore at zero, the result at the head of the sums and the counts. -/
def QC : PUnit × MemSt nD τ sig (Elt F) → Prop := fun r =>
  (∀ c : Dev nD, r.2.mem ((c.tc : Thread nD τ).loc main_arg0) = m ((c.tc : Thread nD τ).loc main_arg0) ∧ r.2.mem ((c.tc : Thread nD τ).loc main_arg1) = m ((c.tc : Thread nD τ).loc main_arg1)
    ∧ r.2.mem ((c.tc : Thread nD τ).loc main_arg2) = m ((c.tc : Thread nD τ).loc main_arg2) ∧ r.2.mem ((c.tc : Thread nD τ).loc main_arg3) = m ((c.tc : Thread nD τ).loc main_arg3)
    ∧ r.2.mem ((c.tc : Thread nD τ).loc main_arg4) = m ((c.tc : Thread nD τ).loc main_arg4) ∧ r.2.mem ((c.tc : Thread nD τ).loc main_arg5) = m ((c.tc : Thread nD τ).loc main_arg5)
    ∧ ∃ g g', (SumsAt m c g ∧ CntsAt m c g') ∧ r.2.mem ((c.tc : Thread nD τ).loc main_v4) = headVal c (V4 m c g g') (dr main_v4))
  ∧ r.2.sem = fun _ => 0

theorem headVal_o (c : Dev nD) (Vd : Valuation τ sig (Elt F)) (b : Ref sig .tc) (h : dr b ≠ dr main_v4) : headVal c Vd (dr b) = Vd (dr b) :=
  Function.update_of_ne h _ Vd

theorem fq_args (d : Dev nD) (s' : Phys nD τ sig (Elt F)) (h : fq m d s') :
    s'.mem.mem ((SparseCore.T d).loc main_arg2) = m ((SparseCore.T d).loc main_arg2) ∧ s'.mem.mem ((SparseCore.T d).loc main_arg3) = m ((SparseCore.T d).loc main_arg3)
      ∧ s'.mem.mem ((SparseCore.T d).loc main_arg4) = m ((SparseCore.T d).loc main_arg4) ∧ s'.mem.mem ((SparseCore.T d).loc main_arg5) = m ((SparseCore.T d).loc main_arg5)
      ∧ ∃ g g', (SumsAt m d g ∧ CntsAt m d g') ∧ s'.mem.mem ((SparseCore.T d).loc main_v4) = headVal d (V4 m d g g') (dr main_v4) := by
  obtain ⟨-, -, -, g, g', hg, ha, hr⟩ := h
  have hV : ∀ b : Ref sig .tc, b ≠ main_v1 → b ≠ main_v2 → b ≠ main_v3 → dr b ≠ dr main_v0_0 → dr b ≠ dr main_v0_1 → V4 m d g g' (dr b) = m ((SparseCore.T d).loc b) :=
    fun b h1 h2 h3 h4 h5 => (V4_o m d g g' b h1 h2 h3).trans (V1_o m d g g' b h4 h5)
  refine ⟨?_, ?_, ?_, ?_, g, g', hg, ha (dr main_v4) (by decide)⟩
  · exact (ha (dr main_arg2) (by decide)).trans ((headVal_o d _ main_arg2 (by decide)).trans (hV main_arg2 (by decide) (by decide) (by decide) (by decide) (by decide)))
  · exact (hr (dr main_arg3) (by decide)).trans (hV main_arg3 (by decide) (by decide) (by decide) (by decide) (by decide))
  · exact (ha (dr main_arg4) (by decide)).trans ((headVal_o d _ main_arg4 (by decide)).trans (hV main_arg4 (by decide) (by decide) (by decide) (by decide) (by decide)))
  · exact (hr (dr main_arg5) (by decide)).trans (hV main_arg5 (by decide) (by decide) (by decide) (by decide) (by decide))

/-- The program's run at any float values, from a memory whose row numbers are in range. -/
theorem run_main [∀ e, Nonempty (Elt F e)] (hB : InRange m) : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (hA := hA m) facts v₀
    (fun q hq => match q with | 0 => nomatch hq)
    (fun q _ => match q with | 0 => tileObl m hB)
    (fun q _ => match q with | 0 => vecSplit m)
    m ρ main (fun d => G (F := F) d) (FIN m) (u₀ (F := F)) (hu₀ m) (hmain m ρ) (fq m) (hfin m) (QC m)
    (fun s' h hz => ⟨fun c => ⟨(h c).1, (h c).2.1, fq_args m c _ (h c)⟩, hz⟩)

/-! ## The range of the row numbers -/

/-- A word from 0 to 511 is such a row number. -/
theorem row_in (a : BitVec 32) (h : IntOp.andi (IntOp.cmpi .sge a 0#32) (IntOp.cmpi .slt a 512#32) = 1#1) : accRow a < 512 := by
  have h1 : a.toNat < 512 := by
    have h' := (show ∀ c d : BitVec 1, IntOp.andi c d = 1#1 → c = 1#1 ∧ d = 1#1 by decide) _ _ h
    have hb : ∀ b : Bool, (BitVec.ofBool b = 1#1) = (b = true) := by decide
    simp only [IntOp.cmpi, hb, BitVec.sle_eq_decide, BitVec.slt_eq_decide, decide_eq_true_eq, BitVec.toInt_eq_toNat_cond, BitVec.toNat_ofNat, Nat.reducePow, Nat.reduceMod] at h'
    omega
  have h2 : Scalar.maxsi a 0#32 = a := by
    have ht : a.toInt = (a.toNat : ℤ) := by rw [BitVec.toInt_eq_toNat_cond, if_pos (by omega)]
    unfold Scalar.maxsi IntOp.maxsi
    simp only [BitVec.slt_eq_decide, BitVec.sle_eq_decide, ht, decide_eq_true_eq]
    split
    · rfl
    · apply BitVec.eq_of_toNat_eq
      simp at *
      omega
  unfold accRow Scalar.indexCast
  rw [h2]
  exact h1

end Cert.Proof.Pool

end
-- ==== Proof.Same1.lean ====
/- The kernel's text and its idealization's are the same, piece by piece (1 of 8): a theorem says that the named part of
   the one is the named part of the other. Only parts that call no other part stand here. -/
module

public import proofs.«01_k».proof.Defs
public import proofs.«01_k».proof.Proof.Gen.Kernel
public import proofs.«01_k».proof.Proof.Gen.KernelIdeal

@[expose] public section

noncomputable section

namespace Cert.Proof.Same

open Idealize.ShloMosaic Idealize.SL.Sem TcCoe

variable {F : FTy → Type} [FloatOps F]

set_option maxHeartbeats 4000000
set_option smartUnfolding false

theorem part1 (i : Cert.KernelIdeal.grid0.Coords) (a) (h) : Cert.Kernel.k0_part1 (F := F) i a h = Cert.KernelIdeal.k0_part1 (F := F) i a h := rfl
theorem part9 (i : Cert.KernelIdeal.grid0.Coords) (a) (h) : Cert.Kernel.k0_part9 (F := F) i a h = Cert.KernelIdeal.k0_part9 (F := F) i a h := rfl
theorem part18 (i : Cert.KernelIdeal.grid0.Coords) (a) (h) : Cert.Kernel.k0_part18 (F := F) i a h = Cert.KernelIdeal.k0_part18 (F := F) i a h := rfl
theorem part26 (i : Cert.KernelIdeal.grid0.Coords) (a) (h) : Cert.Kernel.k0_part26 (F := F) i a h = Cert.KernelIdeal.k0_part26 (F := F) i a h := rfl
theorem part34 (i : Cert.KernelIdeal.grid0.Coords) (a) (h) : Cert.Kernel.k0_part34 (F := F) i a h = Cert.KernelIdeal.k0_part34 (F := F) i a h := rfl
theorem part42 (i : Cert.KernelIdeal.grid0.Coords) (a) (h) : Cert.Kernel.k0_part42 (F := F) i a h = Cert.KernelIdeal.k0_part42 (F := F) i a h := rfl
theorem part50 (i : Cert.KernelIdeal.grid0.Coords) (a) (h) : Cert.Kernel.k0_part50 (F := F) i a h = Cert.KernelIdeal.k0_part50 (F := F) i a h := rfl
theorem part58 (i : Cert.KernelIdeal.grid0.Coords) (a) (h) : Cert.Kernel.k0_part58 (F := F) i a h = Cert.KernelIdeal.k0_part58 (F := F) i a h := rfl
theorem part66 (i : Cert.KernelIdeal.grid0.Coords) (a) (h) : Cert.Kernel.k0_part66 (F := F) i a h = Cert.KernelIdeal.k0_part66 (F := F) i a h := rfl
theorem part74 (i : Cert.KernelIdeal.grid0.Coords) (a) (h) : Cert.Kernel.k0_part74 (F := F) i a h = Cert.KernelIdeal.k0_part74 (F := F) i a h := rfl
theorem part82 (i : Cert.KernelIdeal.grid0.Coords) (a) (h) : Cert.Kernel.k0_part82 (F := F) i a h = Cert.KernelIdeal.k0_part82 (F := F) i a h := rfl
theorem part90 (i : Cert.KernelIdeal.grid0.Coords) (a) (h) : Cert.Kernel.k0_part90 (F := F) i a h = Cert.KernelIdeal.k0_part90 (F := F) i a h := rfl
theorem part102 (i : Cert.KernelIdeal.grid0.Coords) (a) (h) : Cert.Kernel.k0_part102 (F := F) i a h = Cert.KernelIdeal.k0_part102 (F := F) i a h := rfl
theorem part110 (i : Cert.KernelIdeal.grid0.Coords) (a) (h) : Cert.Kernel.k0_part110 (F := F) i a h = Cert.KernelIdeal.k0_part110 (F := F) i a h := rfl
theorem part119 (i : Cert.KernelIdeal.grid0.Coords) (a) (h) : Cert.Kernel.k0_part119 (F := F) i a h = Cert.KernelIdeal.k0_part119 (F := F) i a h := rfl
theorem part127 (i : Cert.KernelIdeal.grid0.Coords) (a) (h) : Cert.Kernel.k0_part127 (F := F) i a h = Cert.KernelIdeal.k0_part127 (F := F) i a h := rfl
theorem part135 (i : Cert.KernelIdeal.grid0.Coords) (a) (h) : Cert.Kernel.k0_part135 (F := F) i a h = Cert.KernelIdeal.k0_part135 (F := F) i a h := rfl
theorem part143 (i : Cert.KernelIdeal.grid0.Coords) (a) (h) : Cert.Kernel.k0_part143 (F := F) i a h = Cert.KernelIdeal.k0_part143 (F := F) i a h := rfl
theorem part151 (i : Cert.KernelIdeal.grid0.Coords) (a) (h) : Cert.Kernel.k0_part151 (F := F) i a h = Cert.KernelIdeal.k0_part151 (F := F) i a h := rfl
theorem part159 (i : Cert.KernelIdeal.grid0.Coords) (a) (h) : Cert.Kernel.k0_part159 (F := F) i a h = Cert.KernelIdeal.k0_part159 (F := F) i a h := rfl
theorem part167 (i : Cert.KernelIdeal.grid0.Coords) (a) (h) : Cert.Kernel.k0_part167 (F := F) i a h = Cert.KernelIdeal.k0_part167 (F := F) i a h := rfl
theorem part175 (i : Cert.KernelIdeal.grid0.Coords) (a) (h) : Cert.Kernel.k0_part175 (F := F) i a h = Cert.KernelIdeal.k0_part175 (F := F) i a h := rfl
theorem part183 (i : Cert.KernelIdeal.grid0.Coords) (a) (h) : Cert.Kernel.k0_part183 (F := F) i a h = Cert.KernelIdeal.k0_part183 (F := F) i a h := rfl
theorem part191 (i : Cert.KernelIdeal.grid0.Coords) (a) (h) : Cert.Kernel.k0_part191 (F := F) i a h = Cert.KernelIdeal.k0_part191 (F := F) i a h := rfl
theorem part204 (i : Cert.KernelIdeal.grid0.Coords) (a) (h) : Cert.Kernel.k0_part204 (F := F) i a h = Cert.KernelIdeal.k0_part204 (F := F) i a h := rfl
theorem part212 (i : Cert.KernelIdeal.grid0.Coords) (a) (h) : Cert.Kernel.k0_part212 (F := F) i a h = Cert.KernelIdeal.k0_part212 (F := F) i a h := rfl
theorem part221 (i : Cert.KernelIdeal.grid0.Coords) (a) (h) : Cert.Kernel.k0_part221 (F := F) i a h = Cert.KernelIdeal.k0_part221 (F := F) i a h := rfl
theorem part229 (i : Cert.KernelIdeal.grid0.Coords) (a) (h) : Cert.Kernel.k0_part229 (F := F) i a h = Cert.KernelIdeal.k0_part229 (F := F) i a h := rfl
theorem part237 (i : Cert.KernelIdeal.grid0.Coords) (a) (h) : Cert.Kernel.k0_part237 (F := F) i a h = Cert.KernelIdeal.k0_part237 (F := F) i a h := rfl
theorem part245 (i : Cert.KernelIdeal.grid0.Coords) (a) (h) : Cert.Kernel.k0_part245 (F := F) i a h = Cert.KernelIdeal.k0_part245 (F := F) i a h := rfl
theorem part253 (i : Cert.KernelIdeal.grid0.Coords) (a) (h) : Cert.Kernel.k0_part253 (F := F) i a h = Cert.KernelIdeal.k0_part253 (F := F) i a h := rfl
theorem part261 (i : Cert.KernelIdeal.grid0.Coords) (a) (h) : Cert.Kernel.k0_part261 (F := F) i a h = Cert.KernelIdeal.k0_part261 (F := F) i a h := rfl
theorem part269 (i : Cert.KernelIdeal.grid0.Coords) (a) (h) : Cert.Kernel.k0_part269 (F := F) i a h = Cert.KernelIdeal.k0_part269 (F := F) i a h := rfl
theorem part277 (i : Cert.KernelIdeal.grid0.Coords) (a) (h) : Cert.Kernel.k0_part277 (F := F) i a h = Cert.KernelIdeal.k0_part277 (F := F) i a h := rfl
theorem part285 (i : Cert.KernelIdeal.grid0.Coords) (a) (h) : Cert.Kernel.k0_part285 (F := F) i a h = Cert.KernelIdeal.k0_part285 (F := F) i a h := rfl
theorem part293 (i : Cert.KernelIdeal.grid0.Coords) (a) (h) : Cert.Kernel.k0_part293 (F := F) i a h = Cert.KernelIdeal.k0_part293 (F := F) i a h := rfl
theorem part305 (i : Cert.KernelIdeal.grid0.Coords) (a) (h) : Cert.Kernel.k0_part305 (F := F) i a h = Cert.KernelIdeal.k0_part305 (F := F) i a h := rfl
theorem part315 (i : Cert.KernelIdeal.grid0.Coords) (a) (h) : Cert.Kernel.k0_part315 (F := F) i a h = Cert.KernelIdeal.k0_part315 (F := F) i a h := rfl

end Cert.Proof.Same

end
-- ==== Proof.Same2.lean ====
/- The kernel's text and its idealization's are the same, piece by piece (2 of 8): a theorem says that the named part of
   the one is the named part of the other. Only parts that call no other part stand here. -/
module

public import proofs.«01_k».proof.Defs
public import proofs.«01_k».proof.Proof.Gen.Kernel
public import proofs.«01_k».proof.Proof.Gen.KernelIdeal

@[expose] public section

noncomputable section

namespace Cert.Proof.Same

open Idealize.ShloMosaic Idealize.SL.Sem TcCoe

variable {F : FTy → Type} [FloatOps F]

set_option maxHeartbeats 4000000
set_option smartUnfolding false

theorem part2 (i : Cert.KernelIdeal.grid0.Coords) (a) (h) : Cert.Kernel.k0_part2 (F := F) i a h = Cert.KernelIdeal.k0_part2 (F := F) i a h := rfl
theorem part10 (i : Cert.KernelIdeal.grid0.Coords) (a) (h) : Cert.Kernel.k0_part10 (F := F) i a h = Cert.KernelIdeal.k0_part10 (F := F) i a h := rfl
theorem part19 (i : Cert.KernelIdeal.grid0.Coords) (a) (h) : Cert.Kernel.k0_part19 (F := F) i a h = Cert.KernelIdeal.k0_part19 (F := F) i a h := rfl
theorem part27 (i : Cert.KernelIdeal.grid0.Coords) (a) (h) : Cert.Kernel.k0_part27 (F := F) i a h = Cert.KernelIdeal.k0_part27 (F := F) i a h := rfl
theorem part35 (i : Cert.KernelIdeal.grid0.Coords) (a) (h) : Cert.Kernel.k0_part35 (F := F) i a h = Cert.KernelIdeal.k0_part35 (F := F) i a h := rfl
theorem part43 (i : Cert.KernelIdeal.grid0.Coords) (a) (h) : Cert.Kernel.k0_part43 (F := F) i a h = Cert.KernelIdeal.k0_part43 (F := F) i a h := rfl
theorem part51 (i : Cert.KernelIdeal.grid0.Coords) (a) (h) : Cert.Kernel.k0_part51 (F := F) i a h = Cert.KernelIdeal.k0_part51 (F := F) i a h := rfl
theorem part59 (i : Cert.KernelIdeal.grid0.Coords) (a) (h) : Cert.Kernel.k0_part59 (F := F) i a h = Cert.KernelIdeal.k0_part59 (F := F) i a h := rfl
theorem part67 (i : Cert.KernelIdeal.grid0.Coords) (a) (h) : Cert.Kernel.k0_part67 (F := F) i a h = Cert.KernelIdeal.k0_part67 (F := F) i a h := rfl
theorem part75 (i : Cert.KernelIdeal.grid0.Coords) (a) (h) : Cert.Kernel.k0_part75 (F := F) i a h = Cert.KernelIdeal.k0_part75 (F := F) i a h := rfl
theorem part83 (i : Cert.KernelIdeal.grid0.Coords) (a) (h) : Cert.Kernel.k0_part83 (F := F) i a h = Cert.KernelIdeal.k0_part83 (F := F) i a h := rfl
theorem part91 (i : Cert.KernelIdeal.grid0.Coords) (a) (h) : Cert.Kernel.k0_part91 (F := F) i a h = Cert.KernelIdeal.k0_part91 (F := F) i a h := rfl
theorem part103 (i : Cert.KernelIdeal.grid0.Coords) (a) (h) : Cert.Kernel.k0_part103 (F := F) i a h = Cert.KernelIdeal.k0_part103 (F := F) i a h := rfl
theorem part111 (i : Cert.KernelIdeal.grid0.Coords) (a) (h) : Cert.Kernel.k0_part111 (F := F) i a h = Cert.KernelIdeal.k0_part111 (F := F) i a h := rfl
theorem part120 (i : Cert.KernelIdeal.grid0.Coords) (a) (h) : Cert.Kernel.k0_part120 (F := F) i a h = Cert.KernelIdeal.k0_part120 (F := F) i a h := rfl
theorem part128 (i : Cert.KernelIdeal.grid0.Coords) (a) (h) : Cert.Kernel.k0_part128 (F := F) i a h = Cert.KernelIdeal.k0_part128 (F := F) i a h := rfl
theorem part136 (i : Cert.KernelIdeal.grid0.Coords) (a) (h) : Cert.Kernel.k0_part136 (F := F) i a h = Cert.KernelIdeal.k0_part136 (F := F) i a h := rfl
theorem part144 (i : Cert.KernelIdeal.grid0.Coords) (a) (h) : Cert.Kernel.k0_part144 (F := F) i a h = Cert.KernelIdeal.k0_part144 (F := F) i a h := rfl
theorem part152 (i : Cert.KernelIdeal.grid0.Coords) (a) (h) : Cert.Kernel.k0_part152 (F := F) i a h = Cert.KernelIdeal.k0_part152 (F := F) i a h := rfl
theorem part160 (i : Cert.KernelIdeal.grid0.Coords) (a) (h) : Cert.Kernel.k0_part160 (F := F) i a h = Cert.KernelIdeal.k0_part160 (F := F) i a h := rfl
theorem part168 (i : Cert.KernelIdeal.grid0.Coords) (a) (h) : Cert.Kernel.k0_part168 (F := F) i a h = Cert.KernelIdeal.k0_part168 (F := F) i a h := rfl
theorem part176 (i : Cert.KernelIdeal.grid0.Coords) (a) (h) : Cert.Kernel.k0_part176 (F := F) i a h = Cert.KernelIdeal.k0_part176 (F := F) i a h := rfl
theorem part184 (i : Cert.KernelIdeal.grid0.Coords) (a) (h) : Cert.Kernel.k0_part184 (F := F) i a h = Cert.KernelIdeal.k0_part184 (F := F) i a h := rfl
theorem part192 (i : Cert.KernelIdeal.grid0.Coords) (a) (h) : Cert.Kernel.k0_part192 (F := F) i a h = Cert.KernelIdeal.k0_part192 (F := F) i a h := rfl
theorem part205 (i : Cert.KernelIdeal.grid0.Coords) (a) (h) : Cert.Kernel.k0_part205 (F := F) i a h = Cert.KernelIdeal.k0_part205 (F := F) i a h := rfl
theorem part213 (i : Cert.KernelIdeal.grid0.Coords) (a) (h) : Cert.Kernel.k0_part213 (F := F) i a h = Cert.KernelIdeal.k0_part213 (F := F) i a h := rfl
theorem part222 (i : Cert.KernelIdeal.grid0.Coords) (a) (h) : Cert.Kernel.k0_part222 (F := F) i a h = Cert.KernelIdeal.k0_part222 (F := F) i a h := rfl
theorem part230 (i : Cert.KernelIdeal.grid0.Coords) (a) (h) : Cert.Kernel.k0_part230 (F := F) i a h = Cert.KernelIdeal.k0_part230 (F := F) i a h := rfl
theorem part238 (i : Cert.KernelIdeal.grid0.Coords) (a) (h) : Cert.Kernel.k0_part238 (F := F) i a h = Cert.KernelIdeal.k0_part238 (F := F) i a h := rfl
theorem part246 (i : Cert.KernelIdeal.grid0.Coords) (a) (h) : Cert.Kernel.k0_part246 (F := F) i a h = Cert.KernelIdeal.k0_part246 (F := F) i a h := rfl
theorem part254 (i : Cert.KernelIdeal.grid0.Coords) (a) (h) : Cert.Kernel.k0_part254 (F := F) i a h = Cert.KernelIdeal.k0_part254 (F := F) i a h := rfl
theorem part262 (i : Cert.KernelIdeal.grid0.Coords) (a) (h) : Cert.Kernel.k0_part262 (F := F) i a h = Cert.KernelIdeal.k0_part262 (F := F) i a h := rfl
theorem part270 (i : Cert.KernelIdeal.grid0.Coords) (a) (h) : Cert.Kernel.k0_part270 (F := F) i a h = Cert.KernelIdeal.k0_part270 (F := F) i a h := rfl
theorem part278 (i : Cert.KernelIdeal.grid0.Coords) (a) (h) : Cert.Kernel.k0_part278 (F := F) i a h = Cert.KernelIdeal.k0_part278 (F := F) i a h := rfl
theorem part286 (i : Cert.KernelIdeal.grid0.Coords) (a) (h) : Cert.Kernel.k0_part286 (F := F) i a h = Cert.KernelIdeal.k0_part286 (F := F) i a h := rfl
theorem part294 (i : Cert.KernelIdeal.grid0.Coords) (a) (h) : Cert.Kernel.k0_part294 (F := F) i a h = Cert.KernelIdeal.k0_part294 (F := F) i a h := rfl
theorem part306 (i : Cert.KernelIdeal.grid0.Coords) (a) (h) : Cert.Kernel.k0_part306 (F := F) i a h = Cert.KernelIdeal.k0_part306 (F := F) i a h := rfl
theorem part316 (i : Cert.KernelIdeal.grid0.Coords) (a) (h) : Cert.Kernel.k0_part316 (F := F) i a h = Cert.KernelIdeal.k0_part316 (F := F) i a h := rfl

end Cert.Proof.Same

end
-- ==== Proof.Same3.lean ====
/- The kernel's text and its idealization's are the same, piece by piece (3 of 8): a theorem says that the named part of
   the one is the named part of the other. Only parts that call no other part stand here. -/
module

public import proofs.«01_k».proof.Defs
public import proofs.«01_k».proof.Proof.Gen.Kernel
public import proofs.«01_k».proof.Proof.Gen.KernelIdeal

@[expose] public section

noncomputable section

namespace Cert.Proof.Same

open Idealize.ShloMosaic Idealize.SL.Sem TcCoe

variable {F : FTy → Type} [FloatOps F]

set_option maxHeartbeats 4000000
set_option smartUnfolding false

theorem part3 (i : Cert.KernelIdeal.grid0.Coords) (a) (h) : Cert.Kernel.k0_part3 (F := F) i a h = Cert.KernelIdeal.k0_part3 (F := F) i a h := rfl
theorem part11 (i : Cert.KernelIdeal.grid0.Coords) (a) (h) : Cert.Kernel.k0_part11 (F := F) i a h = Cert.KernelIdeal.k0_part11 (F := F) i a h := rfl
theorem part20 (i : Cert.KernelIdeal.grid0.Coords) (a) (h) : Cert.Kernel.k0_part20 (F := F) i a h = Cert.KernelIdeal.k0_part20 (F := F) i a h := rfl
theorem part28 (i : Cert.KernelIdeal.grid0.Coords) (a) (h) : Cert.Kernel.k0_part28 (F := F) i a h = Cert.KernelIdeal.k0_part28 (F := F) i a h := rfl
theorem part36 (i : Cert.KernelIdeal.grid0.Coords) (a) (h) : Cert.Kernel.k0_part36 (F := F) i a h = Cert.KernelIdeal.k0_part36 (F := F) i a h := rfl
theorem part44 (i : Cert.KernelIdeal.grid0.Coords) (a) (h) : Cert.Kernel.k0_part44 (F := F) i a h = Cert.KernelIdeal.k0_part44 (F := F) i a h := rfl
theorem part52 (i : Cert.KernelIdeal.grid0.Coords) (a) (h) : Cert.Kernel.k0_part52 (F := F) i a h = Cert.KernelIdeal.k0_part52 (F := F) i a h := rfl
theorem part60 (i : Cert.KernelIdeal.grid0.Coords) (a) (h) : Cert.Kernel.k0_part60 (F := F) i a h = Cert.KernelIdeal.k0_part60 (F := F) i a h := rfl
theorem part68 (i : Cert.KernelIdeal.grid0.Coords) (a) (h) : Cert.Kernel.k0_part68 (F := F) i a h = Cert.KernelIdeal.k0_part68 (F := F) i a h := rfl
theorem part76 (i : Cert.KernelIdeal.grid0.Coords) (a) (h) : Cert.Kernel.k0_part76 (F := F) i a h = Cert.KernelIdeal.k0_part76 (F := F) i a h := rfl
theorem part84 (i : Cert.KernelIdeal.grid0.Coords) (a) (h) : Cert.Kernel.k0_part84 (F := F) i a h = Cert.KernelIdeal.k0_part84 (F := F) i a h := rfl
theorem part92 (i : Cert.KernelIdeal.grid0.Coords) (a) (h) : Cert.Kernel.k0_part92 (F := F) i a h = Cert.KernelIdeal.k0_part92 (F := F) i a h := rfl
theorem part104 (i : Cert.KernelIdeal.grid0.Coords) (a) (h) : Cert.Kernel.k0_part104 (F := F) i a h = Cert.KernelIdeal.k0_part104 (F := F) i a h := rfl
theorem part112 (i : Cert.KernelIdeal.grid0.Coords) (a) (h) : Cert.Kernel.k0_part112 (F := F) i a h = Cert.KernelIdeal.k0_part112 (F := F) i a h := rfl
theorem part121 (i : Cert.KernelIdeal.grid0.Coords) (a) (h) : Cert.Kernel.k0_part121 (F := F) i a h = Cert.KernelIdeal.k0_part121 (F := F) i a h := rfl
theorem part129 (i : Cert.KernelIdeal.grid0.Coords) (a) (h) : Cert.Kernel.k0_part129 (F := F) i a h = Cert.KernelIdeal.k0_part129 (F := F) i a h := rfl
theorem part137 (i : Cert.KernelIdeal.grid0.Coords) (a) (h) : Cert.Kernel.k0_part137 (F := F) i a h = Cert.KernelIdeal.k0_part137 (F := F) i a h := rfl
theorem part145 (i : Cert.KernelIdeal.grid0.Coords) (a) (h) : Cert.Kernel.k0_part145 (F := F) i a h = Cert.KernelIdeal.k0_part145 (F := F) i a h := rfl
theorem part153 (i : Cert.KernelIdeal.grid0.Coords) (a) (h) : Cert.Kernel.k0_part153 (F := F) i a h = Cert.KernelIdeal.k0_part153 (F := F) i a h := rfl
theorem part161 (i : Cert.KernelIdeal.grid0.Coords) (a) (h) : Cert.Kernel.k0_part161 (F := F) i a h = Cert.KernelIdeal.k0_part161 (F := F) i a h := rfl
theorem part169 (i : Cert.KernelIdeal.grid0.Coords) (a) (h) : Cert.Kernel.k0_part169 (F := F) i a h = Cert.KernelIdeal.k0_part169 (F := F) i a h := rfl
theorem part177 (i : Cert.KernelIdeal.grid0.Coords) (a) (h) : Cert.Kernel.k0_part177 (F := F) i a h = Cert.KernelIdeal.k0_part177 (F := F) i a h := rfl
theorem part185 (i : Cert.KernelIdeal.grid0.Coords) (a) (h) : Cert.Kernel.k0_part185 (F := F) i a h = Cert.KernelIdeal.k0_part185 (F := F) i a h := rfl
theorem part193 (i : Cert.KernelIdeal.grid0.Coords) (a) (h) : Cert.Kernel.k0_part193 (F := F) i a h = Cert.KernelIdeal.k0_part193 (F := F) i a h := rfl
theorem part206 (i : Cert.KernelIdeal.grid0.Coords) (a) (h) : Cert.Kernel.k0_part206 (F := F) i a h = Cert.KernelIdeal.k0_part206 (F := F) i a h := rfl
theorem part214 (i : Cert.KernelIdeal.grid0.Coords) (a) (h) : Cert.Kernel.k0_part214 (F := F) i a h = Cert.KernelIdeal.k0_part214 (F := F) i a h := rfl
theorem part223 (i : Cert.KernelIdeal.grid0.Coords) (a) (h) : Cert.Kernel.k0_part223 (F := F) i a h = Cert.KernelIdeal.k0_part223 (F := F) i a h := rfl
theorem part231 (i : Cert.KernelIdeal.grid0.Coords) (a) (h) : Cert.Kernel.k0_part231 (F := F) i a h = Cert.KernelIdeal.k0_part231 (F := F) i a h := rfl
theorem part239 (i : Cert.KernelIdeal.grid0.Coords) (a) (h) : Cert.Kernel.k0_part239 (F := F) i a h = Cert.KernelIdeal.k0_part239 (F := F) i a h := rfl
theorem part247 (i : Cert.KernelIdeal.grid0.Coords) (a) (h) : Cert.Kernel.k0_part247 (F := F) i a h = Cert.KernelIdeal.k0_part247 (F := F) i a h := rfl
theorem part255 (i : Cert.KernelIdeal.grid0.Coords) (a) (h) : Cert.Kernel.k0_part255 (F := F) i a h = Cert.KernelIdeal.k0_part255 (F := F) i a h := rfl
theorem part263 (i : Cert.KernelIdeal.grid0.Coords) (a) (h) : Cert.Kernel.k0_part263 (F := F) i a h = Cert.KernelIdeal.k0_part263 (F := F) i a h := rfl
theorem part271 (i : Cert.KernelIdeal.grid0.Coords) (a) (h) : Cert.Kernel.k0_part271 (F := F) i a h = Cert.KernelIdeal.k0_part271 (F := F) i a h := rfl
theorem part279 (i : Cert.KernelIdeal.grid0.Coords) (a) (h) : Cert.Kernel.k0_part279 (F := F) i a h = Cert.KernelIdeal.k0_part279 (F := F) i a h := rfl
theorem part287 (i : Cert.KernelIdeal.grid0.Coords) (a) (h) : Cert.Kernel.k0_part287 (F := F) i a h = Cert.KernelIdeal.k0_part287 (F := F) i a h := rfl
theorem part295 (i : Cert.KernelIdeal.grid0.Coords) (a) (h) : Cert.Kernel.k0_part295 (F := F) i a h = Cert.KernelIdeal.k0_part295 (F := F) i a h := rfl
theorem part307 (i : Cert.KernelIdeal.grid0.Coords) (a) (h) : Cert.Kernel.k0_part307 (F := F) i a h = Cert.KernelIdeal.k0_part307 (F := F) i a h := rfl

end Cert.Proof.Same

end
-- ==== Proof.Same4.lean ====
/- The kernel's text and its idealization's are the same, piece by piece (4 of 8): a theorem says that the named part of
   the one is the named part of the other. Only parts that call no other part stand here. -/
module

public import proofs.«01_k».proof.Defs
public import proofs.«01_k».proof.Proof.Gen.Kernel
public import proofs.«01_k».proof.Proof.Gen.KernelIdeal

@[expose] public section

noncomputable section

namespace Cert.Proof.Same

open Idealize.ShloMosaic Idealize.SL.Sem TcCoe

variable {F : FTy → Type} [FloatOps F]

set_option maxHeartbeats 4000000
set_option smartUnfolding false

theorem part4 (i : Cert.KernelIdeal.grid0.Coords) (a) (h) : Cert.Kernel.k0_part4 (F := F) i a h = Cert.KernelIdeal.k0_part4 (F := F) i a h := rfl
theorem part12 (i : Cert.KernelIdeal.grid0.Coords) (a) (h) : Cert.Kernel.k0_part12 (F := F) i a h = Cert.KernelIdeal.k0_part12 (F := F) i a h := rfl
theorem part21 (i : Cert.KernelIdeal.grid0.Coords) (a) (h) : Cert.Kernel.k0_part21 (F := F) i a h = Cert.KernelIdeal.k0_part21 (F := F) i a h := rfl
theorem part29 (i : Cert.KernelIdeal.grid0.Coords) (a) (h) : Cert.Kernel.k0_part29 (F := F) i a h = Cert.KernelIdeal.k0_part29 (F := F) i a h := rfl
theorem part37 (i : Cert.KernelIdeal.grid0.Coords) (a) (h) : Cert.Kernel.k0_part37 (F := F) i a h = Cert.KernelIdeal.k0_part37 (F := F) i a h := rfl
theorem part45 (i : Cert.KernelIdeal.grid0.Coords) (a) (h) : Cert.Kernel.k0_part45 (F := F) i a h = Cert.KernelIdeal.k0_part45 (F := F) i a h := rfl
theorem part53 (i : Cert.KernelIdeal.grid0.Coords) (a) (h) : Cert.Kernel.k0_part53 (F := F) i a h = Cert.KernelIdeal.k0_part53 (F := F) i a h := rfl
theorem part61 (i : Cert.KernelIdeal.grid0.Coords) (a) (h) : Cert.Kernel.k0_part61 (F := F) i a h = Cert.KernelIdeal.k0_part61 (F := F) i a h := rfl
theorem part69 (i : Cert.KernelIdeal.grid0.Coords) (a) (h) : Cert.Kernel.k0_part69 (F := F) i a h = Cert.KernelIdeal.k0_part69 (F := F) i a h := rfl
theorem part77 (i : Cert.KernelIdeal.grid0.Coords) (a) (h) : Cert.Kernel.k0_part77 (F := F) i a h = Cert.KernelIdeal.k0_part77 (F := F) i a h := rfl
theorem part85 (i : Cert.KernelIdeal.grid0.Coords) (a) (h) : Cert.Kernel.k0_part85 (F := F) i a h = Cert.KernelIdeal.k0_part85 (F := F) i a h := rfl
theorem part93 (i : Cert.KernelIdeal.grid0.Coords) (a) (h) : Cert.Kernel.k0_part93 (F := F) i a h = Cert.KernelIdeal.k0_part93 (F := F) i a h := rfl
theorem part105 (i : Cert.KernelIdeal.grid0.Coords) (a) (h) : Cert.Kernel.k0_part105 (F := F) i a h = Cert.KernelIdeal.k0_part105 (F := F) i a h := rfl
theorem part113 (i : Cert.KernelIdeal.grid0.Coords) (a) (h) : Cert.Kernel.k0_part113 (F := F) i a h = Cert.KernelIdeal.k0_part113 (F := F) i a h := rfl
theorem part122 (i : Cert.KernelIdeal.grid0.Coords) (a) (h) : Cert.Kernel.k0_part122 (F := F) i a h = Cert.KernelIdeal.k0_part122 (F := F) i a h := rfl
theorem part130 (i : Cert.KernelIdeal.grid0.Coords) (a) (h) : Cert.Kernel.k0_part130 (F := F) i a h = Cert.KernelIdeal.k0_part130 (F := F) i a h := rfl
theorem part138 (i : Cert.KernelIdeal.grid0.Coords) (a) (h) : Cert.Kernel.k0_part138 (F := F) i a h = Cert.KernelIdeal.k0_part138 (F := F) i a h := rfl
theorem part146 (i : Cert.KernelIdeal.grid0.Coords) (a) (h) : Cert.Kernel.k0_part146 (F := F) i a h = Cert.KernelIdeal.k0_part146 (F := F) i a h := rfl
theorem part154 (i : Cert.KernelIdeal.grid0.Coords) (a) (h) : Cert.Kernel.k0_part154 (F := F) i a h = Cert.KernelIdeal.k0_part154 (F := F) i a h := rfl
theorem part162 (i : Cert.KernelIdeal.grid0.Coords) (a) (h) : Cert.Kernel.k0_part162 (F := F) i a h = Cert.KernelIdeal.k0_part162 (F := F) i a h := rfl
theorem part170 (i : Cert.KernelIdeal.grid0.Coords) (a) (h) : Cert.Kernel.k0_part170 (F := F) i a h = Cert.KernelIdeal.k0_part170 (F := F) i a h := rfl
theorem part178 (i : Cert.KernelIdeal.grid0.Coords) (a) (h) : Cert.Kernel.k0_part178 (F := F) i a h = Cert.KernelIdeal.k0_part178 (F := F) i a h := rfl
theorem part186 (i : Cert.KernelIdeal.grid0.Coords) (a) (h) : Cert.Kernel.k0_part186 (F := F) i a h = Cert.KernelIdeal.k0_part186 (F := F) i a h := rfl
theorem part194 (i : Cert.KernelIdeal.grid0.Coords) (a) (h) : Cert.Kernel.k0_part194 (F := F) i a h = Cert.KernelIdeal.k0_part194 (F := F) i a h := rfl
theorem part207 (i : Cert.KernelIdeal.grid0.Coords) (a) (h) : Cert.Kernel.k0_part207 (F := F) i a h = Cert.KernelIdeal.k0_part207 (F := F) i a h := rfl
theorem part215 (i : Cert.KernelIdeal.grid0.Coords) (a) (h) : Cert.Kernel.k0_part215 (F := F) i a h = Cert.KernelIdeal.k0_part215 (F := F) i a h := rfl
theorem part224 (i : Cert.KernelIdeal.grid0.Coords) (a) (h) : Cert.Kernel.k0_part224 (F := F) i a h = Cert.KernelIdeal.k0_part224 (F := F) i a h := rfl
theorem part232 (i : Cert.KernelIdeal.grid0.Coords) (a) (h) : Cert.Kernel.k0_part232 (F := F) i a h = Cert.KernelIdeal.k0_part232 (F := F) i a h := rfl
theorem part240 (i : Cert.KernelIdeal.grid0.Coords) (a) (h) : Cert.Kernel.k0_part240 (F := F) i a h = Cert.KernelIdeal.k0_part240 (F := F) i a h := rfl
theorem part248 (i : Cert.KernelIdeal.grid0.Coords) (a) (h) : Cert.Kernel.k0_part248 (F := F) i a h = Cert.KernelIdeal.k0_part248 (F := F) i a h := rfl
theorem part256 (i : Cert.KernelIdeal.grid0.Coords) (a) (h) : Cert.Kernel.k0_part256 (F := F) i a h = Cert.KernelIdeal.k0_part256 (F := F) i a h := rfl
theorem part264 (i : Cert.KernelIdeal.grid0.Coords) (a) (h) : Cert.Kernel.k0_part264 (F := F) i a h = Cert.KernelIdeal.k0_part264 (F := F) i a h := rfl
theorem part272 (i : Cert.KernelIdeal.grid0.Coords) (a) (h) : Cert.Kernel.k0_part272 (F := F) i a h = Cert.KernelIdeal.k0_part272 (F := F) i a h := rfl
theorem part280 (i : Cert.KernelIdeal.grid0.Coords) (a) (h) : Cert.Kernel.k0_part280 (F := F) i a h = Cert.KernelIdeal.k0_part280 (F := F) i a h := rfl
theorem part288 (i : Cert.KernelIdeal.grid0.Coords) (a) (h) : Cert.Kernel.k0_part288 (F := F) i a h = Cert.KernelIdeal.k0_part288 (F := F) i a h := rfl
theorem part296 (i : Cert.KernelIdeal.grid0.Coords) (a) (h) : Cert.Kernel.k0_part296 (F := F) i a h = Cert.KernelIdeal.k0_part296 (F := F) i a h := rfl
theorem part308 (i : Cert.KernelIdeal.grid0.Coords) (a) (h) : Cert.Kernel.k0_part308 (F := F) i a h = Cert.KernelIdeal.k0_part308 (F := F) i a h := rfl

end Cert.Proof.Same

end
-- ==== Proof.Same5.lean ====
/- The kernel's text and its idealization's are the same, piece by piece (5 of 8): a theorem says that the named part of
   the one is the named part of the other. Only parts that call no other part stand here. -/
module

public import proofs.«01_k».proof.Defs
public import proofs.«01_k».proof.Proof.Gen.Kernel
public import proofs.«01_k».proof.Proof.Gen.KernelIdeal

@[expose] public section

noncomputable section

namespace Cert.Proof.Same

open Idealize.ShloMosaic Idealize.SL.Sem TcCoe

variable {F : FTy → Type} [FloatOps F]

set_option maxHeartbeats 4000000
set_option smartUnfolding false

theorem part5 (i : Cert.KernelIdeal.grid0.Coords) (a) (h) : Cert.Kernel.k0_part5 (F := F) i a h = Cert.KernelIdeal.k0_part5 (F := F) i a h := rfl
theorem part13 (i : Cert.KernelIdeal.grid0.Coords) (a) (h) : Cert.Kernel.k0_part13 (F := F) i a h = Cert.KernelIdeal.k0_part13 (F := F) i a h := rfl
theorem part22 (i : Cert.KernelIdeal.grid0.Coords) (a) (h) : Cert.Kernel.k0_part22 (F := F) i a h = Cert.KernelIdeal.k0_part22 (F := F) i a h := rfl
theorem part30 (i : Cert.KernelIdeal.grid0.Coords) (a) (h) : Cert.Kernel.k0_part30 (F := F) i a h = Cert.KernelIdeal.k0_part30 (F := F) i a h := rfl
theorem part38 (i : Cert.KernelIdeal.grid0.Coords) (a) (h) : Cert.Kernel.k0_part38 (F := F) i a h = Cert.KernelIdeal.k0_part38 (F := F) i a h := rfl
theorem part46 (i : Cert.KernelIdeal.grid0.Coords) (a) (h) : Cert.Kernel.k0_part46 (F := F) i a h = Cert.KernelIdeal.k0_part46 (F := F) i a h := rfl
theorem part54 (i : Cert.KernelIdeal.grid0.Coords) (a) (h) : Cert.Kernel.k0_part54 (F := F) i a h = Cert.KernelIdeal.k0_part54 (F := F) i a h := rfl
theorem part62 (i : Cert.KernelIdeal.grid0.Coords) (a) (h) : Cert.Kernel.k0_part62 (F := F) i a h = Cert.KernelIdeal.k0_part62 (F := F) i a h := rfl
theorem part70 (i : Cert.KernelIdeal.grid0.Coords) (a) (h) : Cert.Kernel.k0_part70 (F := F) i a h = Cert.KernelIdeal.k0_part70 (F := F) i a h := rfl
theorem part78 (i : Cert.KernelIdeal.grid0.Coords) (a) (h) : Cert.Kernel.k0_part78 (F := F) i a h = Cert.KernelIdeal.k0_part78 (F := F) i a h := rfl
theorem part86 (i : Cert.KernelIdeal.grid0.Coords) (a) (h) : Cert.Kernel.k0_part86 (F := F) i a h = Cert.KernelIdeal.k0_part86 (F := F) i a h := rfl
theorem part94 (i : Cert.KernelIdeal.grid0.Coords) (a) (h) : Cert.Kernel.k0_part94 (F := F) i a h = Cert.KernelIdeal.k0_part94 (F := F) i a h := rfl
theorem part106 (i : Cert.KernelIdeal.grid0.Coords) (a) (h) : Cert.Kernel.k0_part106 (F := F) i a h = Cert.KernelIdeal.k0_part106 (F := F) i a h := rfl
theorem part114 (i : Cert.KernelIdeal.grid0.Coords) (a) (h) : Cert.Kernel.k0_part114 (F := F) i a h = Cert.KernelIdeal.k0_part114 (F := F) i a h := rfl
theorem part123 (i : Cert.KernelIdeal.grid0.Coords) (a) (h) : Cert.Kernel.k0_part123 (F := F) i a h = Cert.KernelIdeal.k0_part123 (F := F) i a h := rfl
theorem part131 (i : Cert.KernelIdeal.grid0.Coords) (a) (h) : Cert.Kernel.k0_part131 (F := F) i a h = Cert.KernelIdeal.k0_part131 (F := F) i a h := rfl
theorem part139 (i : Cert.KernelIdeal.grid0.Coords) (a) (h) : Cert.Kernel.k0_part139 (F := F) i a h = Cert.KernelIdeal.k0_part139 (F := F) i a h := rfl
theorem part147 (i : Cert.KernelIdeal.grid0.Coords) (a) (h) : Cert.Kernel.k0_part147 (F := F) i a h = Cert.KernelIdeal.k0_part147 (F := F) i a h := rfl
theorem part155 (i : Cert.KernelIdeal.grid0.Coords) (a) (h) : Cert.Kernel.k0_part155 (F := F) i a h = Cert.KernelIdeal.k0_part155 (F := F) i a h := rfl
theorem part163 (i : Cert.KernelIdeal.grid0.Coords) (a) (h) : Cert.Kernel.k0_part163 (F := F) i a h = Cert.KernelIdeal.k0_part163 (F := F) i a h := rfl
theorem part171 (i : Cert.KernelIdeal.grid0.Coords) (a) (h) : Cert.Kernel.k0_part171 (F := F) i a h = Cert.KernelIdeal.k0_part171 (F := F) i a h := rfl
theorem part179 (i : Cert.KernelIdeal.grid0.Coords) (a) (h) : Cert.Kernel.k0_part179 (F := F) i a h = Cert.KernelIdeal.k0_part179 (F := F) i a h := rfl
theorem part187 (i : Cert.KernelIdeal.grid0.Coords) (a) (h) : Cert.Kernel.k0_part187 (F := F) i a h = Cert.KernelIdeal.k0_part187 (F := F) i a h := rfl
theorem part195 (i : Cert.KernelIdeal.grid0.Coords) (a) (h) : Cert.Kernel.k0_part195 (F := F) i a h = Cert.KernelIdeal.k0_part195 (F := F) i a h := rfl
theorem part208 (i : Cert.KernelIdeal.grid0.Coords) (a) (h) : Cert.Kernel.k0_part208 (F := F) i a h = Cert.KernelIdeal.k0_part208 (F := F) i a h := rfl
theorem part216 (i : Cert.KernelIdeal.grid0.Coords) (a) (h) : Cert.Kernel.k0_part216 (F := F) i a h = Cert.KernelIdeal.k0_part216 (F := F) i a h := rfl
theorem part225 (i : Cert.KernelIdeal.grid0.Coords) (a) (h) : Cert.Kernel.k0_part225 (F := F) i a h = Cert.KernelIdeal.k0_part225 (F := F) i a h := rfl
theorem part233 (i : Cert.KernelIdeal.grid0.Coords) (a) (h) : Cert.Kernel.k0_part233 (F := F) i a h = Cert.KernelIdeal.k0_part233 (F := F) i a h := rfl
theorem part241 (i : Cert.KernelIdeal.grid0.Coords) (a) (h) : Cert.Kernel.k0_part241 (F := F) i a h = Cert.KernelIdeal.k0_part241 (F := F) i a h := rfl
theorem part249 (i : Cert.KernelIdeal.grid0.Coords) (a) (h) : Cert.Kernel.k0_part249 (F := F) i a h = Cert.KernelIdeal.k0_part249 (F := F) i a h := rfl
theorem part257 (i : Cert.KernelIdeal.grid0.Coords) (a) (h) : Cert.Kernel.k0_part257 (F := F) i a h = Cert.KernelIdeal.k0_part257 (F := F) i a h := rfl
theorem part265 (i : Cert.KernelIdeal.grid0.Coords) (a) (h) : Cert.Kernel.k0_part265 (F := F) i a h = Cert.KernelIdeal.k0_part265 (F := F) i a h := rfl
theorem part273 (i : Cert.KernelIdeal.grid0.Coords) (a) (h) : Cert.Kernel.k0_part273 (F := F) i a h = Cert.KernelIdeal.k0_part273 (F := F) i a h := rfl
theorem part281 (i : Cert.KernelIdeal.grid0.Coords) (a) (h) : Cert.Kernel.k0_part281 (F := F) i a h = Cert.KernelIdeal.k0_part281 (F := F) i a h := rfl
theorem part289 (i : Cert.KernelIdeal.grid0.Coords) (a) (h) : Cert.Kernel.k0_part289 (F := F) i a h = Cert.KernelIdeal.k0_part289 (F := F) i a h := rfl
theorem part297 (i : Cert.KernelIdeal.grid0.Coords) (a) (h) : Cert.Kernel.k0_part297 (F := F) i a h = Cert.KernelIdeal.k0_part297 (F := F) i a h := rfl
theorem part309 (i : Cert.KernelIdeal.grid0.Coords) (a) (h) : Cert.Kernel.k0_part309 (F := F) i a h = Cert.KernelIdeal.k0_part309 (F := F) i a h := rfl

end Cert.Proof.Same

end
-- ==== Proof.Same6.lean ====
/- The kernel's text and its idealization's are the same, piece by piece (6 of 8): a theorem says that the named part of
   the one is the named part of the other. Only parts that call no other part stand here. -/
module

public import proofs.«01_k».proof.Defs
public import proofs.«01_k».proof.Proof.Gen.Kernel
public import proofs.«01_k».proof.Proof.Gen.KernelIdeal

@[expose] public section

noncomputable section

namespace Cert.Proof.Same

open Idealize.ShloMosaic Idealize.SL.Sem TcCoe

variable {F : FTy → Type} [FloatOps F]

set_option maxHeartbeats 4000000
set_option smartUnfolding false

theorem part6 (i : Cert.KernelIdeal.grid0.Coords) (a) (h) : Cert.Kernel.k0_part6 (F := F) i a h = Cert.KernelIdeal.k0_part6 (F := F) i a h := rfl
theorem part14 (i : Cert.KernelIdeal.grid0.Coords) (a) (h) : Cert.Kernel.k0_part14 (F := F) i a h = Cert.KernelIdeal.k0_part14 (F := F) i a h := rfl
theorem part23 (i : Cert.KernelIdeal.grid0.Coords) (a) (h) : Cert.Kernel.k0_part23 (F := F) i a h = Cert.KernelIdeal.k0_part23 (F := F) i a h := rfl
theorem part31 (i : Cert.KernelIdeal.grid0.Coords) (a) (h) : Cert.Kernel.k0_part31 (F := F) i a h = Cert.KernelIdeal.k0_part31 (F := F) i a h := rfl
theorem part39 (i : Cert.KernelIdeal.grid0.Coords) (a) (h) : Cert.Kernel.k0_part39 (F := F) i a h = Cert.KernelIdeal.k0_part39 (F := F) i a h := rfl
theorem part47 (i : Cert.KernelIdeal.grid0.Coords) (a) (h) : Cert.Kernel.k0_part47 (F := F) i a h = Cert.KernelIdeal.k0_part47 (F := F) i a h := rfl
theorem part55 (i : Cert.KernelIdeal.grid0.Coords) (a) (h) : Cert.Kernel.k0_part55 (F := F) i a h = Cert.KernelIdeal.k0_part55 (F := F) i a h := rfl
theorem part63 (i : Cert.KernelIdeal.grid0.Coords) (a) (h) : Cert.Kernel.k0_part63 (F := F) i a h = Cert.KernelIdeal.k0_part63 (F := F) i a h := rfl
theorem part71 (i : Cert.KernelIdeal.grid0.Coords) (a) (h) : Cert.Kernel.k0_part71 (F := F) i a h = Cert.KernelIdeal.k0_part71 (F := F) i a h := rfl
theorem part79 (i : Cert.KernelIdeal.grid0.Coords) (a) (h) : Cert.Kernel.k0_part79 (F := F) i a h = Cert.KernelIdeal.k0_part79 (F := F) i a h := rfl
theorem part87 (i : Cert.KernelIdeal.grid0.Coords) (a) (h) : Cert.Kernel.k0_part87 (F := F) i a h = Cert.KernelIdeal.k0_part87 (F := F) i a h := rfl
theorem part95 (i : Cert.KernelIdeal.grid0.Coords) (a) (h) : Cert.Kernel.k0_part95 (F := F) i a h = Cert.KernelIdeal.k0_part95 (F := F) i a h := rfl
theorem part107 (i : Cert.KernelIdeal.grid0.Coords) (a) (h) : Cert.Kernel.k0_part107 (F := F) i a h = Cert.KernelIdeal.k0_part107 (F := F) i a h := rfl
theorem part115 (i : Cert.KernelIdeal.grid0.Coords) (a) (h) : Cert.Kernel.k0_part115 (F := F) i a h = Cert.KernelIdeal.k0_part115 (F := F) i a h := rfl
theorem part124 (i : Cert.KernelIdeal.grid0.Coords) (a) (h) : Cert.Kernel.k0_part124 (F := F) i a h = Cert.KernelIdeal.k0_part124 (F := F) i a h := rfl
theorem part132 (i : Cert.KernelIdeal.grid0.Coords) (a) (h) : Cert.Kernel.k0_part132 (F := F) i a h = Cert.KernelIdeal.k0_part132 (F := F) i a h := rfl
theorem part140 (i : Cert.KernelIdeal.grid0.Coords) (a) (h) : Cert.Kernel.k0_part140 (F := F) i a h = Cert.KernelIdeal.k0_part140 (F := F) i a h := rfl
theorem part148 (i : Cert.KernelIdeal.grid0.Coords) (a) (h) : Cert.Kernel.k0_part148 (F := F) i a h = Cert.KernelIdeal.k0_part148 (F := F) i a h := rfl
theorem part156 (i : Cert.KernelIdeal.grid0.Coords) (a) (h) : Cert.Kernel.k0_part156 (F := F) i a h = Cert.KernelIdeal.k0_part156 (F := F) i a h := rfl
theorem part164 (i : Cert.KernelIdeal.grid0.Coords) (a) (h) : Cert.Kernel.k0_part164 (F := F) i a h = Cert.KernelIdeal.k0_part164 (F := F) i a h := rfl
theorem part172 (i : Cert.KernelIdeal.grid0.Coords) (a) (h) : Cert.Kernel.k0_part172 (F := F) i a h = Cert.KernelIdeal.k0_part172 (F := F) i a h := rfl
theorem part180 (i : Cert.KernelIdeal.grid0.Coords) (a) (h) : Cert.Kernel.k0_part180 (F := F) i a h = Cert.KernelIdeal.k0_part180 (F := F) i a h := rfl
theorem part188 (i : Cert.KernelIdeal.grid0.Coords) (a) (h) : Cert.Kernel.k0_part188 (F := F) i a h = Cert.KernelIdeal.k0_part188 (F := F) i a h := rfl
theorem part196 (i : Cert.KernelIdeal.grid0.Coords) (a) (h) : Cert.Kernel.k0_part196 (F := F) i a h = Cert.KernelIdeal.k0_part196 (F := F) i a h := rfl
theorem part209 (i : Cert.KernelIdeal.grid0.Coords) (a) (h) : Cert.Kernel.k0_part209 (F := F) i a h = Cert.KernelIdeal.k0_part209 (F := F) i a h := rfl
theorem part217 (i : Cert.KernelIdeal.grid0.Coords) (a) (h) : Cert.Kernel.k0_part217 (F := F) i a h = Cert.KernelIdeal.k0_part217 (F := F) i a h := rfl
theorem part226 (i : Cert.KernelIdeal.grid0.Coords) (a) (h) : Cert.Kernel.k0_part226 (F := F) i a h = Cert.KernelIdeal.k0_part226 (F := F) i a h := rfl
theorem part234 (i : Cert.KernelIdeal.grid0.Coords) (a) (h) : Cert.Kernel.k0_part234 (F := F) i a h = Cert.KernelIdeal.k0_part234 (F := F) i a h := rfl
theorem part242 (i : Cert.KernelIdeal.grid0.Coords) (a) (h) : Cert.Kernel.k0_part242 (F := F) i a h = Cert.KernelIdeal.k0_part242 (F := F) i a h := rfl
theorem part250 (i : Cert.KernelIdeal.grid0.Coords) (a) (h) : Cert.Kernel.k0_part250 (F := F) i a h = Cert.KernelIdeal.k0_part250 (F := F) i a h := rfl
theorem part258 (i : Cert.KernelIdeal.grid0.Coords) (a) (h) : Cert.Kernel.k0_part258 (F := F) i a h = Cert.KernelIdeal.k0_part258 (F := F) i a h := rfl
theorem part266 (i : Cert.KernelIdeal.grid0.Coords) (a) (h) : Cert.Kernel.k0_part266 (F := F) i a h = Cert.KernelIdeal.k0_part266 (F := F) i a h := rfl
theorem part274 (i : Cert.KernelIdeal.grid0.Coords) (a) (h) : Cert.Kernel.k0_part274 (F := F) i a h = Cert.KernelIdeal.k0_part274 (F := F) i a h := rfl
theorem part282 (i : Cert.KernelIdeal.grid0.Coords) (a) (h) : Cert.Kernel.k0_part282 (F := F) i a h = Cert.KernelIdeal.k0_part282 (F := F) i a h := rfl
theorem part290 (i : Cert.KernelIdeal.grid0.Coords) (a) (h) : Cert.Kernel.k0_part290 (F := F) i a h = Cert.KernelIdeal.k0_part290 (F := F) i a h := rfl
theorem part298 (i : Cert.KernelIdeal.grid0.Coords) (a) (h) : Cert.Kernel.k0_part298 (F := F) i a h = Cert.KernelIdeal.k0_part298 (F := F) i a h := rfl
theorem part310 (i : Cert.KernelIdeal.grid0.Coords) (a) (h) : Cert.Kernel.k0_part310 (F := F) i a h = Cert.KernelIdeal.k0_part310 (F := F) i a h := rfl

end Cert.Proof.Same

end
-- ==== Proof.Same7.lean ====
/- The kernel's text and its idealization's are the same, piece by piece (7 of 8): a theorem says that the named part of
   the one is the named part of the other. Only parts that call no other part stand here. -/
module

public import proofs.«01_k».proof.Defs
public import proofs.«01_k».proof.Proof.Gen.Kernel
public import proofs.«01_k».proof.Proof.Gen.KernelIdeal

@[expose] public section

noncomputable section

namespace Cert.Proof.Same

open Idealize.ShloMosaic Idealize.SL.Sem TcCoe

variable {F : FTy → Type} [FloatOps F]

set_option maxHeartbeats 4000000
set_option smartUnfolding false

theorem part7 (i : Cert.KernelIdeal.grid0.Coords) (a) (h) : Cert.Kernel.k0_part7 (F := F) i a h = Cert.KernelIdeal.k0_part7 (F := F) i a h := rfl
theorem part15 (i : Cert.KernelIdeal.grid0.Coords) (a) (h) : Cert.Kernel.k0_part15 (F := F) i a h = Cert.KernelIdeal.k0_part15 (F := F) i a h := rfl
theorem part24 (i : Cert.KernelIdeal.grid0.Coords) (a) (h) : Cert.Kernel.k0_part24 (F := F) i a h = Cert.KernelIdeal.k0_part24 (F := F) i a h := rfl
theorem part32 (i : Cert.KernelIdeal.grid0.Coords) (a) (h) : Cert.Kernel.k0_part32 (F := F) i a h = Cert.KernelIdeal.k0_part32 (F := F) i a h := rfl
theorem part40 (i : Cert.KernelIdeal.grid0.Coords) (a) (h) : Cert.Kernel.k0_part40 (F := F) i a h = Cert.KernelIdeal.k0_part40 (F := F) i a h := rfl
theorem part48 (i : Cert.KernelIdeal.grid0.Coords) (a) (h) : Cert.Kernel.k0_part48 (F := F) i a h = Cert.KernelIdeal.k0_part48 (F := F) i a h := rfl
theorem part56 (i : Cert.KernelIdeal.grid0.Coords) (a) (h) : Cert.Kernel.k0_part56 (F := F) i a h = Cert.KernelIdeal.k0_part56 (F := F) i a h := rfl
theorem part64 (i : Cert.KernelIdeal.grid0.Coords) (a) (h) : Cert.Kernel.k0_part64 (F := F) i a h = Cert.KernelIdeal.k0_part64 (F := F) i a h := rfl
theorem part72 (i : Cert.KernelIdeal.grid0.Coords) (a) (h) : Cert.Kernel.k0_part72 (F := F) i a h = Cert.KernelIdeal.k0_part72 (F := F) i a h := rfl
theorem part80 (i : Cert.KernelIdeal.grid0.Coords) (a) (h) : Cert.Kernel.k0_part80 (F := F) i a h = Cert.KernelIdeal.k0_part80 (F := F) i a h := rfl
theorem part88 (i : Cert.KernelIdeal.grid0.Coords) (a) (h) : Cert.Kernel.k0_part88 (F := F) i a h = Cert.KernelIdeal.k0_part88 (F := F) i a h := rfl
theorem part96 (i : Cert.KernelIdeal.grid0.Coords) (a) (h) : Cert.Kernel.k0_part96 (F := F) i a h = Cert.KernelIdeal.k0_part96 (F := F) i a h := rfl
theorem part108 (i : Cert.KernelIdeal.grid0.Coords) (a) (h) : Cert.Kernel.k0_part108 (F := F) i a h = Cert.KernelIdeal.k0_part108 (F := F) i a h := rfl
theorem part116 (i : Cert.KernelIdeal.grid0.Coords) (a) (h) : Cert.Kernel.k0_part116 (F := F) i a h = Cert.KernelIdeal.k0_part116 (F := F) i a h := rfl
theorem part125 (i : Cert.KernelIdeal.grid0.Coords) (a) (h) : Cert.Kernel.k0_part125 (F := F) i a h = Cert.KernelIdeal.k0_part125 (F := F) i a h := rfl
theorem part133 (i : Cert.KernelIdeal.grid0.Coords) (a) (h) : Cert.Kernel.k0_part133 (F := F) i a h = Cert.KernelIdeal.k0_part133 (F := F) i a h := rfl
theorem part141 (i : Cert.KernelIdeal.grid0.Coords) (a) (h) : Cert.Kernel.k0_part141 (F := F) i a h = Cert.KernelIdeal.k0_part141 (F := F) i a h := rfl
theorem part149 (i : Cert.KernelIdeal.grid0.Coords) (a) (h) : Cert.Kernel.k0_part149 (F := F) i a h = Cert.KernelIdeal.k0_part149 (F := F) i a h := rfl
theorem part157 (i : Cert.KernelIdeal.grid0.Coords) (a) (h) : Cert.Kernel.k0_part157 (F := F) i a h = Cert.KernelIdeal.k0_part157 (F := F) i a h := rfl
theorem part165 (i : Cert.KernelIdeal.grid0.Coords) (a) (h) : Cert.Kernel.k0_part165 (F := F) i a h = Cert.KernelIdeal.k0_part165 (F := F) i a h := rfl
theorem part173 (i : Cert.KernelIdeal.grid0.Coords) (a) (h) : Cert.Kernel.k0_part173 (F := F) i a h = Cert.KernelIdeal.k0_part173 (F := F) i a h := rfl
theorem part181 (i : Cert.KernelIdeal.grid0.Coords) (a) (h) : Cert.Kernel.k0_part181 (F := F) i a h = Cert.KernelIdeal.k0_part181 (F := F) i a h := rfl
theorem part189 (i : Cert.KernelIdeal.grid0.Coords) (a) (h) : Cert.Kernel.k0_part189 (F := F) i a h = Cert.KernelIdeal.k0_part189 (F := F) i a h := rfl
theorem part197 (i : Cert.KernelIdeal.grid0.Coords) (a) (h) : Cert.Kernel.k0_part197 (F := F) i a h = Cert.KernelIdeal.k0_part197 (F := F) i a h := rfl
theorem part210 (i : Cert.KernelIdeal.grid0.Coords) (a) (h) : Cert.Kernel.k0_part210 (F := F) i a h = Cert.KernelIdeal.k0_part210 (F := F) i a h := rfl
theorem part218 (i : Cert.KernelIdeal.grid0.Coords) (a) (h) : Cert.Kernel.k0_part218 (F := F) i a h = Cert.KernelIdeal.k0_part218 (F := F) i a h := rfl
theorem part227 (i : Cert.KernelIdeal.grid0.Coords) (a) (h) : Cert.Kernel.k0_part227 (F := F) i a h = Cert.KernelIdeal.k0_part227 (F := F) i a h := rfl
theorem part235 (i : Cert.KernelIdeal.grid0.Coords) (a) (h) : Cert.Kernel.k0_part235 (F := F) i a h = Cert.KernelIdeal.k0_part235 (F := F) i a h := rfl
theorem part243 (i : Cert.KernelIdeal.grid0.Coords) (a) (h) : Cert.Kernel.k0_part243 (F := F) i a h = Cert.KernelIdeal.k0_part243 (F := F) i a h := rfl
theorem part251 (i : Cert.KernelIdeal.grid0.Coords) (a) (h) : Cert.Kernel.k0_part251 (F := F) i a h = Cert.KernelIdeal.k0_part251 (F := F) i a h := rfl
theorem part259 (i : Cert.KernelIdeal.grid0.Coords) (a) (h) : Cert.Kernel.k0_part259 (F := F) i a h = Cert.KernelIdeal.k0_part259 (F := F) i a h := rfl
theorem part267 (i : Cert.KernelIdeal.grid0.Coords) (a) (h) : Cert.Kernel.k0_part267 (F := F) i a h = Cert.KernelIdeal.k0_part267 (F := F) i a h := rfl
theorem part275 (i : Cert.KernelIdeal.grid0.Coords) (a) (h) : Cert.Kernel.k0_part275 (F := F) i a h = Cert.KernelIdeal.k0_part275 (F := F) i a h := rfl
theorem part283 (i : Cert.KernelIdeal.grid0.Coords) (a) (h) : Cert.Kernel.k0_part283 (F := F) i a h = Cert.KernelIdeal.k0_part283 (F := F) i a h := rfl
theorem part291 (i : Cert.KernelIdeal.grid0.Coords) (a) (h) : Cert.Kernel.k0_part291 (F := F) i a h = Cert.KernelIdeal.k0_part291 (F := F) i a h := rfl
theorem part299 (i : Cert.KernelIdeal.grid0.Coords) (a) (h) : Cert.Kernel.k0_part299 (F := F) i a h = Cert.KernelIdeal.k0_part299 (F := F) i a h := rfl
theorem part311 (i : Cert.KernelIdeal.grid0.Coords) (a) (h) : Cert.Kernel.k0_part311 (F := F) i a h = Cert.KernelIdeal.k0_part311 (F := F) i a h := rfl

end Cert.Proof.Same

end
-- ==== Proof.Same8.lean ====
/- The kernel's text and its idealization's are the same, piece by piece (8 of 8): a theorem says that the named part of
   the one is the named part of the other. Only parts that call no other part stand here. -/
module

public import proofs.«01_k».proof.Defs
public import proofs.«01_k».proof.Proof.Gen.Kernel
public import proofs.«01_k».proof.Proof.Gen.KernelIdeal

@[expose] public section

noncomputable section

namespace Cert.Proof.Same

open Idealize.ShloMosaic Idealize.SL.Sem TcCoe

variable {F : FTy → Type} [FloatOps F]

set_option maxHeartbeats 4000000
set_option smartUnfolding false

theorem part8 (i : Cert.KernelIdeal.grid0.Coords) (a) (h) : Cert.Kernel.k0_part8 (F := F) i a h = Cert.KernelIdeal.k0_part8 (F := F) i a h := rfl
theorem part16 (i : Cert.KernelIdeal.grid0.Coords) (a) (h) : Cert.Kernel.k0_part16 (F := F) i a h = Cert.KernelIdeal.k0_part16 (F := F) i a h := rfl
theorem part25 (i : Cert.KernelIdeal.grid0.Coords) (a) (h) : Cert.Kernel.k0_part25 (F := F) i a h = Cert.KernelIdeal.k0_part25 (F := F) i a h := rfl
theorem part33 (i : Cert.KernelIdeal.grid0.Coords) (a) (h) : Cert.Kernel.k0_part33 (F := F) i a h = Cert.KernelIdeal.k0_part33 (F := F) i a h := rfl
theorem part41 (i : Cert.KernelIdeal.grid0.Coords) (a) (h) : Cert.Kernel.k0_part41 (F := F) i a h = Cert.KernelIdeal.k0_part41 (F := F) i a h := rfl
theorem part49 (i : Cert.KernelIdeal.grid0.Coords) (a) (h) : Cert.Kernel.k0_part49 (F := F) i a h = Cert.KernelIdeal.k0_part49 (F := F) i a h := rfl
theorem part57 (i : Cert.KernelIdeal.grid0.Coords) (a) (h) : Cert.Kernel.k0_part57 (F := F) i a h = Cert.KernelIdeal.k0_part57 (F := F) i a h := rfl
theorem part65 (i : Cert.KernelIdeal.grid0.Coords) (a) (h) : Cert.Kernel.k0_part65 (F := F) i a h = Cert.KernelIdeal.k0_part65 (F := F) i a h := rfl
theorem part73 (i : Cert.KernelIdeal.grid0.Coords) (a) (h) : Cert.Kernel.k0_part73 (F := F) i a h = Cert.KernelIdeal.k0_part73 (F := F) i a h := rfl
theorem part81 (i : Cert.KernelIdeal.grid0.Coords) (a) (h) : Cert.Kernel.k0_part81 (F := F) i a h = Cert.KernelIdeal.k0_part81 (F := F) i a h := rfl
theorem part89 (i : Cert.KernelIdeal.grid0.Coords) (a) (h) : Cert.Kernel.k0_part89 (F := F) i a h = Cert.KernelIdeal.k0_part89 (F := F) i a h := rfl
theorem part97 (i : Cert.KernelIdeal.grid0.Coords) (a) (h) : Cert.Kernel.k0_part97 (F := F) i a h = Cert.KernelIdeal.k0_part97 (F := F) i a h := rfl
theorem part109 (i : Cert.KernelIdeal.grid0.Coords) (a) (h) : Cert.Kernel.k0_part109 (F := F) i a h = Cert.KernelIdeal.k0_part109 (F := F) i a h := rfl
theorem part117 (i : Cert.KernelIdeal.grid0.Coords) (a) (h) : Cert.Kernel.k0_part117 (F := F) i a h = Cert.KernelIdeal.k0_part117 (F := F) i a h := rfl
theorem part126 (i : Cert.KernelIdeal.grid0.Coords) (a) (h) : Cert.Kernel.k0_part126 (F := F) i a h = Cert.KernelIdeal.k0_part126 (F := F) i a h := rfl
theorem part134 (i : Cert.KernelIdeal.grid0.Coords) (a) (h) : Cert.Kernel.k0_part134 (F := F) i a h = Cert.KernelIdeal.k0_part134 (F := F) i a h := rfl
theorem part142 (i : Cert.KernelIdeal.grid0.Coords) (a) (h) : Cert.Kernel.k0_part142 (F := F) i a h = Cert.KernelIdeal.k0_part142 (F := F) i a h := rfl
theorem part150 (i : Cert.KernelIdeal.grid0.Coords) (a) (h) : Cert.Kernel.k0_part150 (F := F) i a h = Cert.KernelIdeal.k0_part150 (F := F) i a h := rfl
theorem part158 (i : Cert.KernelIdeal.grid0.Coords) (a) (h) : Cert.Kernel.k0_part158 (F := F) i a h = Cert.KernelIdeal.k0_part158 (F := F) i a h := rfl
theorem part166 (i : Cert.KernelIdeal.grid0.Coords) (a) (h) : Cert.Kernel.k0_part166 (F := F) i a h = Cert.KernelIdeal.k0_part166 (F := F) i a h := rfl
theorem part174 (i : Cert.KernelIdeal.grid0.Coords) (a) (h) : Cert.Kernel.k0_part174 (F := F) i a h = Cert.KernelIdeal.k0_part174 (F := F) i a h := rfl
theorem part182 (i : Cert.KernelIdeal.grid0.Coords) (a) (h) : Cert.Kernel.k0_part182 (F := F) i a h = Cert.KernelIdeal.k0_part182 (F := F) i a h := rfl
theorem part190 (i : Cert.KernelIdeal.grid0.Coords) (a) (h) : Cert.Kernel.k0_part190 (F := F) i a h = Cert.KernelIdeal.k0_part190 (F := F) i a h := rfl
theorem part198 (i : Cert.KernelIdeal.grid0.Coords) (a) (h) : Cert.Kernel.k0_part198 (F := F) i a h = Cert.KernelIdeal.k0_part198 (F := F) i a h := rfl
theorem part211 (i : Cert.KernelIdeal.grid0.Coords) (a) (h) : Cert.Kernel.k0_part211 (F := F) i a h = Cert.KernelIdeal.k0_part211 (F := F) i a h := rfl
theorem part219 (i : Cert.KernelIdeal.grid0.Coords) (a) (h) : Cert.Kernel.k0_part219 (F := F) i a h = Cert.KernelIdeal.k0_part219 (F := F) i a h := rfl
theorem part228 (i : Cert.KernelIdeal.grid0.Coords) (a) (h) : Cert.Kernel.k0_part228 (F := F) i a h = Cert.KernelIdeal.k0_part228 (F := F) i a h := rfl
theorem part236 (i : Cert.KernelIdeal.grid0.Coords) (a) (h) : Cert.Kernel.k0_part236 (F := F) i a h = Cert.KernelIdeal.k0_part236 (F := F) i a h := rfl
theorem part244 (i : Cert.KernelIdeal.grid0.Coords) (a) (h) : Cert.Kernel.k0_part244 (F := F) i a h = Cert.KernelIdeal.k0_part244 (F := F) i a h := rfl
theorem part252 (i : Cert.KernelIdeal.grid0.Coords) (a) (h) : Cert.Kernel.k0_part252 (F := F) i a h = Cert.KernelIdeal.k0_part252 (F := F) i a h := rfl
theorem part260 (i : Cert.KernelIdeal.grid0.Coords) (a) (h) : Cert.Kernel.k0_part260 (F := F) i a h = Cert.KernelIdeal.k0_part260 (F := F) i a h := rfl
theorem part268 (i : Cert.KernelIdeal.grid0.Coords) (a) (h) : Cert.Kernel.k0_part268 (F := F) i a h = Cert.KernelIdeal.k0_part268 (F := F) i a h := rfl
theorem part276 (i : Cert.KernelIdeal.grid0.Coords) (a) (h) : Cert.Kernel.k0_part276 (F := F) i a h = Cert.KernelIdeal.k0_part276 (F := F) i a h := rfl
theorem part284 (i : Cert.KernelIdeal.grid0.Coords) (a) (h) : Cert.Kernel.k0_part284 (F := F) i a h = Cert.KernelIdeal.k0_part284 (F := F) i a h := rfl
theorem part292 (i : Cert.KernelIdeal.grid0.Coords) (a) (h) : Cert.Kernel.k0_part292 (F := F) i a h = Cert.KernelIdeal.k0_part292 (F := F) i a h := rfl
theorem part300 (i : Cert.KernelIdeal.grid0.Coords) (a) (h) : Cert.Kernel.k0_part300 (F := F) i a h = Cert.KernelIdeal.k0_part300 (F := F) i a h := rfl
theorem part312 (i : Cert.KernelIdeal.grid0.Coords) (a) (h) : Cert.Kernel.k0_part312 (F := F) i a h = Cert.KernelIdeal.k0_part312 (F := F) i a h := rfl

end Cert.Proof.Same

end
-- ==== Proof.Same9.lean ====
/- The same for parts that call other parts: the called parts by their own equations (1 of 5). -/
module

public import proofs.«01_k».proof.Defs
public import proofs.«01_k».proof.Proof.Gen.Kernel
public import proofs.«01_k».proof.Proof.Gen.KernelIdeal
public import proofs.«01_k».proof.Proof.Same1
public import proofs.«01_k».proof.Proof.Same2
public import proofs.«01_k».proof.Proof.Same3
public import proofs.«01_k».proof.Proof.Same4
public import proofs.«01_k».proof.Proof.Same5
public import proofs.«01_k».proof.Proof.Same6
public import proofs.«01_k».proof.Proof.Same7
public import proofs.«01_k».proof.Proof.Same8

@[expose] public section

noncomputable section

namespace Cert.Proof.Same

open Idealize.ShloMosaic Idealize.SL.Sem TcCoe

variable {F : FTy → Type} [FloatOps F]

set_option maxHeartbeats 4000000
set_option smartUnfolding false

attribute [local irreducible] Cert.KernelIdeal.k0_part1 Cert.KernelIdeal.k0_part2 Cert.KernelIdeal.k0_part3 Cert.KernelIdeal.k0_part4 Cert.KernelIdeal.k0_part5 Cert.KernelIdeal.k0_part6 Cert.KernelIdeal.k0_part7 Cert.KernelIdeal.k0_part8 Cert.KernelIdeal.k0_part9 Cert.KernelIdeal.k0_part10 Cert.KernelIdeal.k0_part11 Cert.KernelIdeal.k0_part12 Cert.KernelIdeal.k0_part13 Cert.KernelIdeal.k0_part14 Cert.KernelIdeal.k0_part15 Cert.KernelIdeal.k0_part16 in
theorem part17 (i : Cert.KernelIdeal.grid0.Coords) (a) (h) : Cert.Kernel.k0_part17 (F := F) i a h = Cert.KernelIdeal.k0_part17 (F := F) i a h := by
  delta Cert.Kernel.k0_part17 Cert.KernelIdeal.k0_part17
  simp only [part1, part2, part3, part4, part5, part6, part7, part8, part9, part10, part11, part12, part13, part14, part15, part16]
  rfl

attribute [local irreducible] Cert.KernelIdeal.k0_part18 Cert.KernelIdeal.k0_part19 Cert.KernelIdeal.k0_part20 Cert.KernelIdeal.k0_part21 Cert.KernelIdeal.k0_part22 Cert.KernelIdeal.k0_part23 Cert.KernelIdeal.k0_part24 Cert.KernelIdeal.k0_part25 Cert.KernelIdeal.k0_part26 Cert.KernelIdeal.k0_part27 Cert.KernelIdeal.k0_part28 Cert.KernelIdeal.k0_part29 Cert.KernelIdeal.k0_part30 Cert.KernelIdeal.k0_part31 Cert.KernelIdeal.k0_part32 Cert.KernelIdeal.k0_part33 Cert.KernelIdeal.k0_part34 Cert.KernelIdeal.k0_part35 in
theorem part98 (i : Cert.KernelIdeal.grid0.Coords) (a) (h) : Cert.Kernel.k0_part98 (F := F) i a h = Cert.KernelIdeal.k0_part98 (F := F) i a h := by
  delta Cert.Kernel.k0_part98 Cert.KernelIdeal.k0_part98
  simp only [part18, part19, part20, part21, part22, part23, part24, part25, part26, part27, part28, part29, part30, part31, part32, part33, part34, part35]
  rfl

attribute [local irreducible] Cert.KernelIdeal.k0_part53 Cert.KernelIdeal.k0_part54 Cert.KernelIdeal.k0_part55 Cert.KernelIdeal.k0_part56 Cert.KernelIdeal.k0_part57 Cert.KernelIdeal.k0_part58 Cert.KernelIdeal.k0_part59 Cert.KernelIdeal.k0_part60 Cert.KernelIdeal.k0_part61 Cert.KernelIdeal.k0_part62 Cert.KernelIdeal.k0_part63 Cert.KernelIdeal.k0_part64 Cert.KernelIdeal.k0_part65 Cert.KernelIdeal.k0_part66 Cert.KernelIdeal.k0_part67 Cert.KernelIdeal.k0_part68 Cert.KernelIdeal.k0_part69 Cert.KernelIdeal.k0_part70 Cert.KernelIdeal.k0_part71 Cert.KernelIdeal.k0_part72 in
theorem part100 (i : Cert.KernelIdeal.grid0.Coords) (a) (h) : Cert.Kernel.k0_part100 (F := F) i a h = Cert.KernelIdeal.k0_part100 (F := F) i a h := by
  delta Cert.Kernel.k0_part100 Cert.KernelIdeal.k0_part100
  simp only [part53, part54, part55, part56, part57, part58, part59, part60, part61, part62, part63, part64, part65, part66, part67, part68, part69, part70, part71, part72]
  rfl

attribute [local irreducible] Cert.KernelIdeal.k0_part73 Cert.KernelIdeal.k0_part74 Cert.KernelIdeal.k0_part75 Cert.KernelIdeal.k0_part76 Cert.KernelIdeal.k0_part77 Cert.KernelIdeal.k0_part78 Cert.KernelIdeal.k0_part79 Cert.KernelIdeal.k0_part80 Cert.KernelIdeal.k0_part81 Cert.KernelIdeal.k0_part82 Cert.KernelIdeal.k0_part83 Cert.KernelIdeal.k0_part84 Cert.KernelIdeal.k0_part85 Cert.KernelIdeal.k0_part86 Cert.KernelIdeal.k0_part87 Cert.KernelIdeal.k0_part88 Cert.KernelIdeal.k0_part89 Cert.KernelIdeal.k0_part90 Cert.KernelIdeal.k0_part91 Cert.KernelIdeal.k0_part92 in
theorem part101 (i : Cert.KernelIdeal.grid0.Coords) (a) (h) : Cert.Kernel.k0_part101 (F := F) i a h = Cert.KernelIdeal.k0_part101 (F := F) i a h := by
  delta Cert.Kernel.k0_part101 Cert.KernelIdeal.k0_part101
  simp only [part73, part74, part75, part76, part77, part78, part79, part80, part81, part82, part83, part84, part85, part86, part87, part88, part89, part90, part91, part92]
  rfl

attribute [local irreducible] Cert.KernelIdeal.k0_part102 Cert.KernelIdeal.k0_part103 Cert.KernelIdeal.k0_part104 Cert.KernelIdeal.k0_part105 Cert.KernelIdeal.k0_part106 Cert.KernelIdeal.k0_part107 Cert.KernelIdeal.k0_part108 Cert.KernelIdeal.k0_part109 Cert.KernelIdeal.k0_part110 Cert.KernelIdeal.k0_part111 Cert.KernelIdeal.k0_part112 Cert.KernelIdeal.k0_part113 Cert.KernelIdeal.k0_part114 Cert.KernelIdeal.k0_part115 Cert.KernelIdeal.k0_part116 Cert.KernelIdeal.k0_part117 in
theorem part118 (i : Cert.KernelIdeal.grid0.Coords) (a) (h) : Cert.Kernel.k0_part118 (F := F) i a h = Cert.KernelIdeal.k0_part118 (F := F) i a h := by
  delta Cert.Kernel.k0_part118 Cert.KernelIdeal.k0_part118
  simp only [part102, part103, part104, part105, part106, part107, part108, part109, part110, part111, part112, part113, part114, part115, part116, part117]
  rfl

attribute [local irreducible] Cert.KernelIdeal.k0_part119 Cert.KernelIdeal.k0_part120 Cert.KernelIdeal.k0_part121 Cert.KernelIdeal.k0_part122 Cert.KernelIdeal.k0_part123 Cert.KernelIdeal.k0_part124 Cert.KernelIdeal.k0_part125 Cert.KernelIdeal.k0_part126 Cert.KernelIdeal.k0_part127 Cert.KernelIdeal.k0_part128 Cert.KernelIdeal.k0_part129 Cert.KernelIdeal.k0_part130 Cert.KernelIdeal.k0_part131 Cert.KernelIdeal.k0_part132 Cert.KernelIdeal.k0_part133 Cert.KernelIdeal.k0_part134 Cert.KernelIdeal.k0_part135 Cert.KernelIdeal.k0_part136 in
theorem part199 (i : Cert.KernelIdeal.grid0.Coords) (a) (h) : Cert.Kernel.k0_part199 (F := F) i a h = Cert.KernelIdeal.k0_part199 (F := F) i a h := by
  delta Cert.Kernel.k0_part199 Cert.KernelIdeal.k0_part199
  simp only [part119, part120, part121, part122, part123, part124, part125, part126, part127, part128, part129, part130, part131, part132, part133, part134, part135, part136]
  rfl

attribute [local irreducible] Cert.KernelIdeal.k0_part154 Cert.KernelIdeal.k0_part155 Cert.KernelIdeal.k0_part156 Cert.KernelIdeal.k0_part157 Cert.KernelIdeal.k0_part158 Cert.KernelIdeal.k0_part159 Cert.KernelIdeal.k0_part160 Cert.KernelIdeal.k0_part161 Cert.KernelIdeal.k0_part162 Cert.KernelIdeal.k0_part163 Cert.KernelIdeal.k0_part164 Cert.KernelIdeal.k0_part165 Cert.KernelIdeal.k0_part166 Cert.KernelIdeal.k0_part167 Cert.KernelIdeal.k0_part168 Cert.KernelIdeal.k0_part169 Cert.KernelIdeal.k0_part170 Cert.KernelIdeal.k0_part171 Cert.KernelIdeal.k0_part172 Cert.KernelIdeal.k0_part173 in
theorem part201 (i : Cert.KernelIdeal.grid0.Coords) (a) (h) : Cert.Kernel.k0_part201 (F := F) i a h = Cert.KernelIdeal.k0_part201 (F := F) i a h := by
  delta Cert.Kernel.k0_part201 Cert.KernelIdeal.k0_part201
  simp only [part154, part155, part156, part157, part158, part159, part160, part161, part162, part163, part164, part165, part166, part167, part168, part169, part170, part171, part172, part173]
  rfl

end Cert.Proof.Same

end
-- ==== Proof.Same10.lean ====
/- The same for parts that call other parts (2 of 5). -/
module

public import proofs.«01_k».proof.Defs
public import proofs.«01_k».proof.Proof.Gen.Kernel
public import proofs.«01_k».proof.Proof.Gen.KernelIdeal
public import proofs.«01_k».proof.Proof.Same1
public import proofs.«01_k».proof.Proof.Same2
public import proofs.«01_k».proof.Proof.Same3
public import proofs.«01_k».proof.Proof.Same4
public import proofs.«01_k».proof.Proof.Same5
public import proofs.«01_k».proof.Proof.Same6
public import proofs.«01_k».proof.Proof.Same7
public import proofs.«01_k».proof.Proof.Same8

@[expose] public section

noncomputable section

namespace Cert.Proof.Same

open Idealize.ShloMosaic Idealize.SL.Sem TcCoe

variable {F : FTy → Type} [FloatOps F]

set_option maxHeartbeats 4000000
set_option smartUnfolding false

attribute [local irreducible] Cert.KernelIdeal.k0_part174 Cert.KernelIdeal.k0_part175 Cert.KernelIdeal.k0_part176 Cert.KernelIdeal.k0_part177 Cert.KernelIdeal.k0_part178 Cert.KernelIdeal.k0_part179 Cert.KernelIdeal.k0_part180 Cert.KernelIdeal.k0_part181 Cert.KernelIdeal.k0_part182 Cert.KernelIdeal.k0_part183 Cert.KernelIdeal.k0_part184 Cert.KernelIdeal.k0_part185 Cert.KernelIdeal.k0_part186 Cert.KernelIdeal.k0_part187 Cert.KernelIdeal.k0_part188 Cert.KernelIdeal.k0_part189 Cert.KernelIdeal.k0_part190 Cert.KernelIdeal.k0_part191 Cert.KernelIdeal.k0_part192 Cert.KernelIdeal.k0_part193 in
theorem part202 (i : Cert.KernelIdeal.grid0.Coords) (a) (h) : Cert.Kernel.k0_part202 (F := F) i a h = Cert.KernelIdeal.k0_part202 (F := F) i a h := by
  delta Cert.Kernel.k0_part202 Cert.KernelIdeal.k0_part202
  simp only [part174, part175, part176, part177, part178, part179, part180, part181, part182, part183, part184, part185, part186, part187, part188, part189, part190, part191, part192, part193]
  rfl

attribute [local irreducible] Cert.KernelIdeal.k0_part204 Cert.KernelIdeal.k0_part205 Cert.KernelIdeal.k0_part206 Cert.KernelIdeal.k0_part207 Cert.KernelIdeal.k0_part208 Cert.KernelIdeal.k0_part209 Cert.KernelIdeal.k0_part210 Cert.KernelIdeal.k0_part211 Cert.KernelIdeal.k0_part212 Cert.KernelIdeal.k0_part213 Cert.KernelIdeal.k0_part214 Cert.KernelIdeal.k0_part215 Cert.KernelIdeal.k0_part216 Cert.KernelIdeal.k0_part217 Cert.KernelIdeal.k0_part218 Cert.KernelIdeal.k0_part219 in
theorem part220 (i : Cert.KernelIdeal.grid0.Coords) (a) (h) : Cert.Kernel.k0_part220 (F := F) i a h = Cert.KernelIdeal.k0_part220 (F := F) i a h := by
  delta Cert.Kernel.k0_part220 Cert.KernelIdeal.k0_part220
  simp only [part204, part205, part206, part207, part208, part209, part210, part211, part212, part213, part214, part215, part216, part217, part218, part219]
  rfl

attribute [local irreducible] Cert.KernelIdeal.k0_part221 Cert.KernelIdeal.k0_part222 Cert.KernelIdeal.k0_part223 Cert.KernelIdeal.k0_part224 Cert.KernelIdeal.k0_part225 Cert.KernelIdeal.k0_part226 Cert.KernelIdeal.k0_part227 Cert.KernelIdeal.k0_part228 Cert.KernelIdeal.k0_part229 Cert.KernelIdeal.k0_part230 Cert.KernelIdeal.k0_part231 Cert.KernelIdeal.k0_part232 Cert.KernelIdeal.k0_part233 Cert.KernelIdeal.k0_part234 Cert.KernelIdeal.k0_part235 Cert.KernelIdeal.k0_part236 Cert.KernelIdeal.k0_part237 Cert.KernelIdeal.k0_part238 in
theorem part301 (i : Cert.KernelIdeal.grid0.Coords) (a) (h) : Cert.Kernel.k0_part301 (F := F) i a h = Cert.KernelIdeal.k0_part301 (F := F) i a h := by
  delta Cert.Kernel.k0_part301 Cert.KernelIdeal.k0_part301
  simp only [part221, part222, part223, part224, part225, part226, part227, part228, part229, part230, part231, part232, part233, part234, part235, part236, part237, part238]
  rfl

attribute [local irreducible] Cert.KernelIdeal.k0_part256 Cert.KernelIdeal.k0_part257 Cert.KernelIdeal.k0_part258 Cert.KernelIdeal.k0_part259 Cert.KernelIdeal.k0_part260 Cert.KernelIdeal.k0_part261 Cert.KernelIdeal.k0_part262 Cert.KernelIdeal.k0_part263 Cert.KernelIdeal.k0_part264 Cert.KernelIdeal.k0_part265 Cert.KernelIdeal.k0_part266 Cert.KernelIdeal.k0_part267 Cert.KernelIdeal.k0_part268 Cert.KernelIdeal.k0_part269 Cert.KernelIdeal.k0_part270 Cert.KernelIdeal.k0_part271 Cert.KernelIdeal.k0_part272 Cert.KernelIdeal.k0_part273 Cert.KernelIdeal.k0_part274 Cert.KernelIdeal.k0_part275 in
theorem part303 (i : Cert.KernelIdeal.grid0.Coords) (a) (h) : Cert.Kernel.k0_part303 (F := F) i a h = Cert.KernelIdeal.k0_part303 (F := F) i a h := by
  delta Cert.Kernel.k0_part303 Cert.KernelIdeal.k0_part303
  simp only [part256, part257, part258, part259, part260, part261, part262, part263, part264, part265, part266, part267, part268, part269, part270, part271, part272, part273, part274, part275]
  rfl

attribute [local irreducible] Cert.KernelIdeal.k0_part276 Cert.KernelIdeal.k0_part277 Cert.KernelIdeal.k0_part278 Cert.KernelIdeal.k0_part279 Cert.KernelIdeal.k0_part280 Cert.KernelIdeal.k0_part281 Cert.KernelIdeal.k0_part282 Cert.KernelIdeal.k0_part283 Cert.KernelIdeal.k0_part284 Cert.KernelIdeal.k0_part285 Cert.KernelIdeal.k0_part286 Cert.KernelIdeal.k0_part287 Cert.KernelIdeal.k0_part288 Cert.KernelIdeal.k0_part289 Cert.KernelIdeal.k0_part290 Cert.KernelIdeal.k0_part291 Cert.KernelIdeal.k0_part292 Cert.KernelIdeal.k0_part293 Cert.KernelIdeal.k0_part294 Cert.KernelIdeal.k0_part295 in
theorem part304 (i : Cert.KernelIdeal.grid0.Coords) (a) (h) : Cert.Kernel.k0_part304 (F := F) i a h = Cert.KernelIdeal.k0_part304 (F := F) i a h := by
  delta Cert.Kernel.k0_part304 Cert.KernelIdeal.k0_part304
  simp only [part276, part277, part278, part279, part280, part281, part282, part283, part284, part285, part286, part287, part288, part289, part290, part291, part292, part293, part294, part295]
  rfl

attribute [local irreducible] Cert.KernelIdeal.k0_part305 Cert.KernelIdeal.k0_part306 in
theorem part317 (i : Cert.KernelIdeal.grid0.Coords) (a) (h) : Cert.Kernel.k0_part317 (F := F) i a h = Cert.KernelIdeal.k0_part317 (F := F) i a h := by
  delta Cert.Kernel.k0_part317 Cert.KernelIdeal.k0_part317
  simp only [part305, part306]
  rfl

attribute [local irreducible] Cert.KernelIdeal.k0_part307 Cert.KernelIdeal.k0_part308 in
theorem part318 (i : Cert.KernelIdeal.grid0.Coords) (a) (h) : Cert.Kernel.k0_part318 (F := F) i a h = Cert.KernelIdeal.k0_part318 (F := F) i a h := by
  delta Cert.Kernel.k0_part318 Cert.KernelIdeal.k0_part318
  simp only [part307, part308]
  rfl

attribute [local irreducible] Cert.KernelIdeal.k0_part309 Cert.KernelIdeal.k0_part310 in
theorem part319 (i : Cert.KernelIdeal.grid0.Coords) (a) (h) : Cert.Kernel.k0_part319 (F := F) i a h = Cert.KernelIdeal.k0_part319 (F := F) i a h := by
  delta Cert.Kernel.k0_part319 Cert.KernelIdeal.k0_part319
  simp only [part309, part310]
  rfl

end Cert.Proof.Same

end
-- ==== Proof.Same11.lean ====
/- The same for parts that call other parts (3 of 5). -/
module

public import proofs.«01_k».proof.Defs
public import proofs.«01_k».proof.Proof.Gen.Kernel
public import proofs.«01_k».proof.Proof.Gen.KernelIdeal
public import proofs.«01_k».proof.Proof.Same1
public import proofs.«01_k».proof.Proof.Same2
public import proofs.«01_k».proof.Proof.Same3
public import proofs.«01_k».proof.Proof.Same4
public import proofs.«01_k».proof.Proof.Same5
public import proofs.«01_k».proof.Proof.Same6
public import proofs.«01_k».proof.Proof.Same7
public import proofs.«01_k».proof.Proof.Same8

@[expose] public section

noncomputable section

namespace Cert.Proof.Same

open Idealize.ShloMosaic Idealize.SL.Sem TcCoe

variable {F : FTy → Type} [FloatOps F]

set_option maxHeartbeats 4000000
set_option smartUnfolding false

attribute [local irreducible] Cert.KernelIdeal.k0_part36 Cert.KernelIdeal.k0_part37 Cert.KernelIdeal.k0_part38 Cert.KernelIdeal.k0_part39 Cert.KernelIdeal.k0_part40 Cert.KernelIdeal.k0_part41 Cert.KernelIdeal.k0_part42 Cert.KernelIdeal.k0_part43 Cert.KernelIdeal.k0_part44 Cert.KernelIdeal.k0_part45 Cert.KernelIdeal.k0_part46 Cert.KernelIdeal.k0_part47 Cert.KernelIdeal.k0_part48 Cert.KernelIdeal.k0_part49 Cert.KernelIdeal.k0_part50 Cert.KernelIdeal.k0_part51 Cert.KernelIdeal.k0_part52 in
theorem part99 (i : Cert.KernelIdeal.grid0.Coords) (a) (h) : Cert.Kernel.k0_part99 (F := F) i a h = Cert.KernelIdeal.k0_part99 (F := F) i a h := by
  delta Cert.Kernel.k0_part99 Cert.KernelIdeal.k0_part99
  simp only [part36, part37, part38, part39, part40, part41, part42, part43, part44, part45, part46, part47, part48, part49, part50, part51, part52]
  rfl

end Cert.Proof.Same

end
-- ==== Proof.Same12.lean ====
/- The same for parts that call other parts (4 of 5). -/
module

public import proofs.«01_k».proof.Defs
public import proofs.«01_k».proof.Proof.Gen.Kernel
public import proofs.«01_k».proof.Proof.Gen.KernelIdeal
public import proofs.«01_k».proof.Proof.Same1
public import proofs.«01_k».proof.Proof.Same2
public import proofs.«01_k».proof.Proof.Same3
public import proofs.«01_k».proof.Proof.Same4
public import proofs.«01_k».proof.Proof.Same5
public import proofs.«01_k».proof.Proof.Same6
public import proofs.«01_k».proof.Proof.Same7
public import proofs.«01_k».proof.Proof.Same8

@[expose] public section

noncomputable section

namespace Cert.Proof.Same

open Idealize.ShloMosaic Idealize.SL.Sem TcCoe

variable {F : FTy → Type} [FloatOps F]

set_option maxHeartbeats 4000000
set_option smartUnfolding false

attribute [local irreducible] Cert.KernelIdeal.k0_part137 Cert.KernelIdeal.k0_part138 Cert.KernelIdeal.k0_part139 Cert.KernelIdeal.k0_part140 Cert.KernelIdeal.k0_part141 Cert.KernelIdeal.k0_part142 Cert.KernelIdeal.k0_part143 Cert.KernelIdeal.k0_part144 Cert.KernelIdeal.k0_part145 Cert.KernelIdeal.k0_part146 Cert.KernelIdeal.k0_part147 Cert.KernelIdeal.k0_part148 Cert.KernelIdeal.k0_part149 Cert.KernelIdeal.k0_part150 Cert.KernelIdeal.k0_part151 Cert.KernelIdeal.k0_part152 Cert.KernelIdeal.k0_part153 in
theorem part200 (i : Cert.KernelIdeal.grid0.Coords) (a) (h) : Cert.Kernel.k0_part200 (F := F) i a h = Cert.KernelIdeal.k0_part200 (F := F) i a h := by
  delta Cert.Kernel.k0_part200 Cert.KernelIdeal.k0_part200
  simp only [part137, part138, part139, part140, part141, part142, part143, part144, part145, part146, part147, part148, part149, part150, part151, part152, part153]
  rfl

end Cert.Proof.Same

end
-- ==== Proof.Same13.lean ====
/- The same for parts that call other parts (5 of 5). -/
module

public import proofs.«01_k».proof.Defs
public import proofs.«01_k».proof.Proof.Gen.Kernel
public import proofs.«01_k».proof.Proof.Gen.KernelIdeal
public import proofs.«01_k».proof.Proof.Same1
public import proofs.«01_k».proof.Proof.Same2
public import proofs.«01_k».proof.Proof.Same3
public import proofs.«01_k».proof.Proof.Same4
public import proofs.«01_k».proof.Proof.Same5
public import proofs.«01_k».proof.Proof.Same6
public import proofs.«01_k».proof.Proof.Same7
public import proofs.«01_k».proof.Proof.Same8

@[expose] public section

noncomputable section

namespace Cert.Proof.Same

open Idealize.ShloMosaic Idealize.SL.Sem TcCoe

variable {F : FTy → Type} [FloatOps F]

set_option maxHeartbeats 4000000
set_option smartUnfolding false

attribute [local irreducible] Cert.KernelIdeal.k0_part239 Cert.KernelIdeal.k0_part240 Cert.KernelIdeal.k0_part241 Cert.KernelIdeal.k0_part242 Cert.KernelIdeal.k0_part243 Cert.KernelIdeal.k0_part244 Cert.KernelIdeal.k0_part245 Cert.KernelIdeal.k0_part246 Cert.KernelIdeal.k0_part247 Cert.KernelIdeal.k0_part248 Cert.KernelIdeal.k0_part249 Cert.KernelIdeal.k0_part250 Cert.KernelIdeal.k0_part251 Cert.KernelIdeal.k0_part252 Cert.KernelIdeal.k0_part253 Cert.KernelIdeal.k0_part254 Cert.KernelIdeal.k0_part255 in
theorem part302 (i : Cert.KernelIdeal.grid0.Coords) (a) (h) : Cert.Kernel.k0_part302 (F := F) i a h = Cert.KernelIdeal.k0_part302 (F := F) i a h := by
  delta Cert.Kernel.k0_part302 Cert.KernelIdeal.k0_part302
  simp only [part239, part240, part241, part242, part243, part244, part245, part246, part247, part248, part249, part250, part251, part252, part253, part254, part255]
  rfl

end Cert.Proof.Same

end
-- ==== Proof.Same.lean ====
/- The kernel's text and its idealization's are the same as a whole: the tile's body, the table of bodies, the threads. -/
module

public import proofs.«01_k».proof.Defs
public import proofs.«01_k».proof.Proof.Gen.Kernel
public import proofs.«01_k».proof.Proof.Gen.KernelIdeal
public import proofs.«01_k».proof.Proof.Same1
public import proofs.«01_k».proof.Proof.Same2
public import proofs.«01_k».proof.Proof.Same3
public import proofs.«01_k».proof.Proof.Same4
public import proofs.«01_k».proof.Proof.Same5
public import proofs.«01_k».proof.Proof.Same6
public import proofs.«01_k».proof.Proof.Same7
public import proofs.«01_k».proof.Proof.Same8
public import proofs.«01_k».proof.Proof.Same9
public import proofs.«01_k».proof.Proof.Same10
public import proofs.«01_k».proof.Proof.Same11
public import proofs.«01_k».proof.Proof.Same12
public import proofs.«01_k».proof.Proof.Same13

@[expose] public section

noncomputable section

namespace Cert.Proof.Same

open Idealize.ShloMosaic Idealize.SL.Sem TcCoe

variable {F : FTy → Type} [FloatOps F]

set_option maxHeartbeats 4000000
set_option smartUnfolding false

attribute [local irreducible] Cert.KernelIdeal.k0_part17 Cert.KernelIdeal.k0_part98 Cert.KernelIdeal.k0_part99 Cert.KernelIdeal.k0_part100 Cert.KernelIdeal.k0_part101 Cert.KernelIdeal.k0_part93 Cert.KernelIdeal.k0_part94 Cert.KernelIdeal.k0_part95 Cert.KernelIdeal.k0_part96 Cert.KernelIdeal.k0_part97 in
theorem part203 (i : Cert.KernelIdeal.grid0.Coords) (a) (h) : Cert.Kernel.k0_part203 (F := F) i a h = Cert.KernelIdeal.k0_part203 (F := F) i a h := by
  delta Cert.Kernel.k0_part203 Cert.KernelIdeal.k0_part203
  simp only [part17, part98, part99, part100, part101, part93, part94, part95, part96, part97]
  rfl

attribute [local irreducible] Cert.KernelIdeal.k0_part220 Cert.KernelIdeal.k0_part301 Cert.KernelIdeal.k0_part302 Cert.KernelIdeal.k0_part303 Cert.KernelIdeal.k0_part304 Cert.KernelIdeal.k0_part296 Cert.KernelIdeal.k0_part297 Cert.KernelIdeal.k0_part298 Cert.KernelIdeal.k0_part299 Cert.KernelIdeal.k0_part300 in
theorem part314 (i : Cert.KernelIdeal.grid0.Coords) (a) (h) : Cert.Kernel.k0_part314 (F := F) i a h = Cert.KernelIdeal.k0_part314 (F := F) i a h := by
  delta Cert.Kernel.k0_part314 Cert.KernelIdeal.k0_part314
  simp only [part220, part301, part302, part303, part304, part296, part297, part298, part299, part300]
  rfl

attribute [local irreducible] Cert.KernelIdeal.k0_part203 Cert.KernelIdeal.k0_part118 Cert.KernelIdeal.k0_part199 Cert.KernelIdeal.k0_part200 Cert.KernelIdeal.k0_part201 Cert.KernelIdeal.k0_part202 Cert.KernelIdeal.k0_part194 Cert.KernelIdeal.k0_part195 Cert.KernelIdeal.k0_part196 Cert.KernelIdeal.k0_part197 Cert.KernelIdeal.k0_part198 in
theorem part313 (i : Cert.KernelIdeal.grid0.Coords) (a) (h) : Cert.Kernel.k0_part313 (F := F) i a h = Cert.KernelIdeal.k0_part313 (F := F) i a h := by
  delta Cert.Kernel.k0_part313 Cert.KernelIdeal.k0_part313
  simp only [part203, part118, part199, part200, part201, part202, part194, part195, part196, part197, part198]
  rfl

attribute [local irreducible] Cert.KernelIdeal.k0_part311 Cert.KernelIdeal.k0_part312 Cert.KernelIdeal.k0_part313 Cert.KernelIdeal.k0_part314 Cert.KernelIdeal.k0_part315 Cert.KernelIdeal.k0_part316 Cert.KernelIdeal.k0_part317 Cert.KernelIdeal.k0_part318 Cert.KernelIdeal.k0_part319 in
theorem cc0_body (i : Cert.KernelIdeal.grid0.Coords) (a) (h) : Cert.Kernel.cc0_body (F := F) i a h = Cert.KernelIdeal.cc0_body (F := F) i a h := by
  delta Cert.Kernel.cc0_body Cert.KernelIdeal.cc0_body
  simp only [part311, part312, part313, part314, part315, part316, part317, part318, part319]
  rfl

attribute [local irreducible] Cert.KernelIdeal.cc0_body in
/-- The bodies' table of one program is the other's. -/
theorem defs₀ : Cert.Kernel.defs₀ (F := F) = Cert.KernelIdeal.defs₀ (F := F) := by
  delta Cert.Kernel.defs₀ Cert.KernelIdeal.defs₀
  simp only [cc0_body]
  rfl

attribute [local irreducible] Cert.KernelIdeal.defs₀ in
/-- The whole table of one program is the other's. -/
theorem defs : Cert.Kernel.defs (F := F) = Cert.KernelIdeal.defs (F := F) := by
  delta Cert.Kernel.defs
  rw [defs₀]
  rfl

/-- The threads of one program are the other's. -/
theorem threads : Cert.Kernel.threads (F := F) = Cert.KernelIdeal.threads (F := F) := rfl

end Cert.Proof.Same

end
-- ==== Proof.Sums.lean ====
/-
  What a tile's pass computes over the extended reals. When the rows of one segment stand together, the table of
  finished segments ends with each segment's sum over the tile's rows, and the counts with their number.
-/
module

public import proofs.«01_k».proof.Proof.Tile
public import Idealize.ShloMosaic.Lib.IdealHost
public import Idealize.ShloMosaic.PureOps.Ideal.Laws
public import Mathlib.Algebra.BigOperators.Intervals

@[expose] public section

noncomputable section

namespace Cert.Proof.Pool

open Cert.KernelIdeal Cert.KernelIdeal.Gen
open Idealize.ShloMosaic

/-- The sum of the entries `Z r k` over the rows `r` from `lo` below `n` that belong to segment `i`. -/
def segSum (B : ℕ → BitVec 32) (Z : ℕ → EReal) (lo n i : ℕ) : EReal := ∑ r ∈ Finset.Ico lo n, if (B r).toNat = i then Z r else 0

theorem segSum_succ (B : ℕ → BitVec 32) (Z : ℕ → EReal) (lo n i : ℕ) (h : lo ≤ n) :
    segSum B Z lo (n + 1) i = segSum B Z lo n i + if (B n).toNat = i then Z n else 0 := by
  unfold segSum; exact Finset.sum_Ico_succ_top h _
theorem segSum_self (B : ℕ → BitVec 32) (Z : ℕ → EReal) (lo i : ℕ) : segSum B Z lo lo i = 0 := by
  unfold segSum; rw [Finset.Ico_self]; exact Finset.sum_empty
theorem segSum_add (B : ℕ → BitVec 32) (Z : ℕ → EReal) (lo n m i : ℕ) (h1 : lo ≤ n) (h2 : n ≤ m) :
    segSum B Z lo m i = segSum B Z lo n i + segSum B Z n m i := by
  unfold segSum; exact (Finset.sum_Ico_consecutive _ h1 h2).symm

theorem accRow_eq (c : BitVec 32) (h : c.toNat < 512) : accRow c = c.toNat := by
  show (Scalar.maxsi c 0#32).toNat = _
  have : Scalar.maxsi c 0#32 = c := by
    show (if (0#32).slt c then c else 0#32) = c
    split
    next => rfl
    next hh =>
      rw [Bool.not_eq_true, BitVec.slt_eq_decide, decide_eq_false_iff_not, BitVec.toInt_eq_toNat_cond, BitVec.toInt_eq_toNat_cond] at hh
      rw [if_pos (by simp), if_pos (by omega)] at hh
      refine BitVec.eq_of_toNat_eq ?_
      show 0 = c.toNat
      have h0 : (0#32).toNat = 0 := rfl
      rw [h0] at hh
      omega
  rw [this]

theorem one32_eq : (one32 : Ideal .f32) = (1 : EReal) := Ideal.ofBits_one_f32
theorem sixteen32_eq : (sixteen32 : Ideal .f32) = (16 : EReal) := by
  show Ideal.ofBits .f32 0x41800000#32 = 16
  simp [Ideal.ofBits, Ideal.ieee]
  rw [← EReal.coe_mul]
  norm_num
  rfl
theorem zero32_eq : (zero32 : Ideal .f32) = (0 : EReal) := Ideal.ofBits_zero_f32

/-- The state after the rows from `lo` below `n`. -/
structure Pass (B : ℕ → BitVec 32) (Z : ℕ → ℕ → EReal) (lo n : ℕ) (s : St Ideal) : Prop where
  le : lo ≤ n
  cur : (n = lo ∧ s.cur = 4294967295#32) ∨ (lo < n ∧ s.cur = B (n - 1))
  R : ∀ j k, j < 8 → k < 16 → s.R j k = segSum B (fun r => Z r (16 * j + k)) lo n (accRow s.cur)
  R8 : ∀ k, k < 16 → s.R 8 k = segSum B (fun _ => 1) lo n (accRow s.cur)
  A : ∀ i k, i ≠ accRow s.cur → k < 128 → s.A i k = segSum B (fun r => Z r k) lo n i
  C : ∀ i k, i ≠ accRow s.cur → k < 16 → s.C (16 * i + k) = segSum B (fun _ => 1) lo n i

theorem pass_zero (B : ℕ → BitVec 32) (Z : ℕ → ℕ → EReal) (lo : ℕ) : Pass B Z lo lo (st0 (F := Ideal)) where
  le := le_refl _
  cur := .inl ⟨rfl, rfl⟩
  R j k _ _ := by rw [segSum_self]; exact zero32_eq
  R8 k _ := by rw [segSum_self]; exact zero32_eq
  A i k _ _ := by rw [segSum_self]; exact zero32_eq
  C i k _ _ := by rw [segSum_self]; exact zero32_eq

section
variable (B : ℕ → BitVec 32) (hB : ∀ r, r < 160000 → (B r).toNat < 512) (hm : ∀ r r', r ≤ r' → r' < 160000 → (B r).toNat ≤ (B r').toNat)
  (Z : ℕ → ℕ → EReal) {lo n : ℕ} {s : St Ideal}
include hB hm

theorem Pass.cur_ne (h : Pass B Z lo n s) (hn : n < 160000) (e : B n = s.cur) : lo < n := by
  rcases h.cur with ⟨-, h⟩ | h
  · have := hB n hn; rw [e, h] at this; exact absurd this (by decide)
  · exact h.1

/-- One row. -/
theorem Pass.row (h : Pass B Z lo n s) (hn : n < 160000) (X : ℕ → EReal) (hX : ∀ k, k < 128 → X k = Z n k) : Pass B Z lo (n + 1) (s.row (F := Ideal) X (B n)) := by
  have hle := h.le
  unfold St.row
  split
  next e =>
    have hc : accRow s.cur = (B n).toNat := by rw [← e]; exact accRow_eq _ (hB n hn)
    refine ⟨by omega, .inr ⟨by omega, e.symm⟩, fun j k hj hk => ?_, fun k hk => ?_, fun i k hi hk => ?_, fun i k hi hk => ?_⟩
    · show setRow (accTo (F := Ideal) s.R X 8) 8 0 (fun k => FloatOps.addf (F := Ideal) (s.R 8 (0 + k)) one32) j k = _
      unfold setRow accTo
      rw [if_neg (by omega), if_pos ⟨hj, hk⟩, h.R j k hj hk, segSum_succ _ _ _ _ _ hle]
      show _ = _ + if (B n).toNat = accRow s.cur then _ else _
      rw [if_pos hc.symm, hX _ (by omega)]; rfl
    · show setRow (accTo (F := Ideal) s.R X 8) 8 0 (fun k => FloatOps.addf (F := Ideal) (s.R 8 (0 + k)) one32) 8 k = _
      unfold setRow
      rw [if_pos (by omega)]
      show s.R 8 (0 + (k - 0)) + (one32 : Ideal .f32) = segSum _ _ _ _ (accRow s.cur)
      rw [Nat.zero_add, Nat.sub_zero, h.R8 k hk, segSum_succ _ _ _ _ _ hle, if_pos hc.symm, one32_eq]
    · show s.A i k = _
      have hi' : i ≠ accRow s.cur := hi
      rw [h.A i k hi' hk, segSum_succ _ _ _ _ _ hle, if_neg (by omega), add_zero]
    · show s.C _ = _
      have hi' : i ≠ accRow s.cur := hi
      rw [h.C i k hi' hk, segSum_succ _ _ _ _ _ hle, if_neg (by omega), add_zero]
  next e =>
    have hnew : accRow (B n) = (B n).toNat := accRow_eq _ (hB n hn)
    -- no earlier row has this segment
    have hz : ∀ W : ℕ → EReal, segSum B W lo n (B n).toNat = 0 := fun W => by
      unfold segSum
      refine Finset.sum_eq_zero fun r hr => if_neg fun hh => ?_
      rw [Finset.mem_Ico] at hr
      rcases h.cur with ⟨h1, -⟩ | ⟨h1, h2⟩
      · omega
      · have a1 := hm r (n - 1) (by omega) (by omega)
        have a2 := hm (n - 1) n (by omega) hn
        exact e (by rw [h2]; exact BitVec.eq_of_toNat_eq (by omega))
    refine ⟨by omega, .inr ⟨by omega, rfl⟩, fun j k hj hk => ?_, fun k hk => ?_, fun i k hi hk => ?_, fun i k hi hk => ?_⟩
    · show setRow (newTo (F := Ideal) s.R X 8) 8 0 (fun _ => (one32 : Ideal .f32)) j k = segSum _ _ _ _ (accRow (B n))
      unfold setRow newTo
      rw [if_neg (by omega), if_pos ⟨hj, hk⟩, segSum_succ _ _ _ _ _ hle, hnew, hz, if_pos rfl, zero_add, hX _ (by omega)]
    · show setRow (newTo (F := Ideal) s.R X 8) 8 0 (fun _ => (one32 : Ideal .f32)) 8 k = segSum _ _ _ _ (accRow (B n))
      unfold setRow
      rw [if_pos (by omega), segSum_succ _ _ _ _ _ hle, hnew, hz, if_pos rfl, zero_add, one32_eq]
    · show flushTo s.A s.R (accRow s.cur) 8 i k = _
      have hi' : i ≠ (B n).toNat := by rw [← hnew]; exact hi
      rw [segSum_succ _ _ _ _ _ hle, if_neg hi'.symm, add_zero]
      unfold flushTo
      split
      next hh =>
        rw [h.R (k / 16) (k % 16) (by omega) (by omega), hh.1, show 16 * (k / 16) + k % 16 = k by omega]
      next hh => exact h.A i k (by omega) hk
    · show setLin s.C (16 * accRow s.cur) (fun k => s.R 8 (0 + k)) (16 * i + k) = _
      have hi' : i ≠ (B n).toNat := by rw [← hnew]; exact hi
      rw [segSum_succ _ _ _ _ _ hle, if_neg hi'.symm, add_zero]
      unfold setLin
      split
      next hh =>
        have : i = accRow s.cur := by omega
        show s.R 8 (0 + _) = _
        rw [h.R8 _ (by omega), this]
      next hh => exact h.C i k (by omega) hk

/-- Sixteen rows of the running segment. -/
theorem Pass.fast (h : Pass B Z lo n s) (hn : n + 16 ≤ 160000) (X : ℕ → ℕ → EReal) (hX : ∀ l k, l < 16 → k < 128 → X l k = Z (n + l) k)
    (e : B n = s.cur) (e' : B n = B (n + 15)) : Pass B Z lo (n + 16) (s.fast (F := Ideal) X) := by
  have hle := h.le
  have hall : ∀ l, l < 16 → (B (n + l)).toNat = accRow s.cur := fun l hl => by
    rw [← e, accRow_eq _ (hB n (by omega))]
    have a1 := hm n (n + l) (by omega) (by omega)
    have a2 := hm (n + l) (n + 15) (by omega) (by omega)
    rw [← e'] at a2; omega
  have hs : ∀ W : ℕ → EReal, segSum B W n (n + 16) (accRow s.cur) = ∑ l ∈ Finset.range 16, W (n + l) := fun W => by
    unfold segSum
    rw [Finset.sum_Ico_eq_sum_range, show n + 16 - n = 16 by omega]
    refine Finset.sum_congr rfl fun l hl => if_pos (hall l (Finset.mem_range.1 hl))
  have hs0 : ∀ (W : ℕ → EReal) (i : ℕ), i ≠ accRow s.cur → segSum B W n (n + 16) i = 0 := fun W i hi => by
    unfold segSum
    refine Finset.sum_eq_zero fun r hr => if_neg fun hh => hi ?_
    rw [Finset.mem_Ico] at hr
    rw [← hh, show r = n + (r - n) by omega]; exact hall _ (by omega)
  refine ⟨by omega, .inr ⟨by omega, ?_⟩, fun j k hj hk => ?_, fun k hk => ?_, fun i k hi hk => ?_, fun i k hi hk => ?_⟩
  · show s.cur = _
    rw [← e, e']; rfl
  · show setRow (accTo (F := Ideal) s.R (fun k => tree fun l => X l k) 8) 8 0 (fun k => FloatOps.addf (F := Ideal) (s.R 8 (0 + k)) sixteen32) j k = segSum _ _ _ _ (accRow s.cur)
    unfold setRow accTo
    rw [if_neg (by omega), if_pos ⟨hj, hk⟩, h.R j k hj hk, segSum_add _ _ lo n (n + 16) _ hle (by omega), hs]
    refine congrArg (_ + ·) ?_
    show tree (F := Ideal) (fun l => X l (16 * j + k)) = ∑ l ∈ Finset.range 16, Z (n + l) (16 * j + k)
    rw [show ∑ l ∈ Finset.range 16, Z (n + l) (16 * j + k) = ∑ l ∈ Finset.range 16, X l (16 * j + k) from
      Finset.sum_congr rfl fun l hl => (hX l _ (Finset.mem_range.1 hl) (by omega)).symm]
    unfold tree
    simp only [Finset.sum_range_succ, Finset.sum_range_zero, zero_add]
    show (((_ + _ : EReal) + (_ + _)) + ((_ + _) + (_ + _))) + (((_ + _) + (_ + _)) + ((_ + _) + (_ + _))) = _
    simp only [add_assoc]
  · show setRow (accTo (F := Ideal) s.R (fun k => tree fun l => X l k) 8) 8 0 (fun k => FloatOps.addf (F := Ideal) (s.R 8 (0 + k)) sixteen32) 8 k = segSum _ _ _ _ (accRow s.cur)
    unfold setRow
    rw [if_pos (by omega)]
    show s.R 8 (0 + (k - 0)) + (sixteen32 : Ideal .f32) = segSum _ _ _ _ (accRow s.cur)
    rw [Nat.zero_add, Nat.sub_zero, h.R8 k hk, segSum_add _ _ lo n (n + 16) _ hle (by omega), hs, sixteen32_eq]
    refine congrArg (_ + ·) ?_
    rw [Finset.sum_const, Finset.card_range]; simp
  · have hi' : i ≠ accRow s.cur := hi
    show s.A i k = _
    rw [h.A i k hi' hk, segSum_add _ _ lo n (n + 16) _ hle (by omega), hs0 _ i hi', add_zero]
  · have hi' : i ≠ accRow s.cur := hi
    show s.C _ = _
    rw [h.C i k hi' hk, segSum_add _ _ lo n (n + 16) _ hle (by omega), hs0 _ i hi', add_zero]

theorem Pass.rows (h : Pass B Z lo n s) (X : ℕ → ℕ → EReal) (t : ℕ) (f : ℕ → BitVec 32) : ∀ m, n + m ≤ 160000 →
    (∀ l, l < m → f l = B (n + l)) → (∀ l k, l < m → k < 128 → X (16 * t + l) k = Z (n + l) k) → Pass B Z lo (n + m) (s.rows (F := Ideal) X t f m)
  | 0, _, _, _ => h
  | m + 1, hm', hf, hX => by
    have ih := Pass.rows h X t f m (by omega) (fun l hl => hf l (by omega)) (fun l k hl hk => hX l k (by omega) hk)
    have := Pass.row B hB hm Z ih (by omega) (X (16 * t + m)) (fun k hk => hX m k (by omega) hk)
    rw [← hf m (by omega)] at this
    exact this

theorem Pass.group (h : Pass B Z lo n s) (X : ℕ → ℕ → EReal) (t : ℕ) (f : ℕ → BitVec 32) (hn : n + 16 ≤ 160000)
    (hf : ∀ l, l < 16 → f l = B (n + l)) (hX : ∀ l k, l < 16 → k < 128 → X (16 * t + l) k = Z (n + l) k) : Pass B Z lo (n + 16) (s.group (F := Ideal) X t f) := by
  unfold St.group
  split
  next e =>
    have e0 : B n = s.cur := by rw [← e.1]; exact (hf 0 (by omega)).symm
    have e1 : B n = B (n + 15) := by rw [← hf 15 (by omega), ← e.2]; exact (hf 0 (by omega)).symm
    exact Pass.fast B hB hm Z h hn _ (fun l k hl hk => hX l k hl hk) e0 e1
  next => exact Pass.rows B hB hm Z h X t f 16 hn hf hX

theorem Pass.groups (h : Pass B Z lo n s) (X : ℕ → ℕ → EReal) (g : ℕ → BitVec 32) : ∀ m, n + 16 * m ≤ 160000 →
    (∀ l, l < 16 * m → g l = B (n + l)) → (∀ l k, l < 16 * m → k < 128 → X l k = Z (n + l) k) → Pass B Z lo (n + 16 * m) (s.groups (F := Ideal) X g m)
  | 0, _, _, _ => h
  | m + 1, hm', hg, hX => by
    have ih := Pass.groups h X g m (by omega) (fun l hl => hg l (by omega)) (fun l k hl hk => hX l k (by omega) hk)
    have := Pass.group B hB hm Z ih X m (fun l => g (16 * m + l)) (by omega)
      (fun l hl => by rw [hg _ (by omega)]; congr 1; omega) (fun l k hl hk => by rw [hX _ _ (by omega) hk]; congr 1; omega)
    rw [show n + 16 * (m + 1) = n + 16 * m + 16 by omega]
    exact this

/-- The state before chunk `n` of a tile. -/
theorem stAt_pass (Zf : ℕ → ℕ → EReal) (i : grid0.Coords) : ∀ n, n ≤ 125 →
    Pass B (fun r k => Zf r (hf i * 128 + k)) (80 * (gp i * 125)) (80 * (gp i * 125 + n)) (stAt (F := Ideal) Zf B i n)
  | 0, _ => pass_zero _ _ _
  | n + 1, h => by
    have ih := stAt_pass Zf i n (by omega)
    have hg := gp_lt i
    have := Pass.groups B hB hm (fun r k => Zf r (hf i * 128 + k)) ih (Xc (F := Ideal) Zf i n) (gc B i n) 5 (by omega) (fun l _ => rfl) (by intro l k _ _; rfl)
    rw [show 80 * (gp i * 125 + (n + 1)) = 80 * (gp i * 125 + n) + 16 * 5 by omega]
    exact this

/-- A tile's table at the end of its pass: each segment's sum over the tile's rows. -/
theorem T0_eq (Zf : ℕ → ℕ → EReal) (c s : ℕ) (i k : ℕ) (hk : k < 128) :
    T0 (F := Ideal) Zf B c s i k = segSum B (fun r => Zf r (hf (tileAt c s) * 128 + k)) (80 * (gp (tileAt c s) * 125)) (80 * (gp (tileAt c s) * 125 + 125)) i := by
  have h := stAt_pass B hB hm Zf (tileAt c s) 125 (le_refl _)
  unfold T0
  generalize stAt (F := Ideal) Zf B (tileAt c s) 125 = st at h ⊢
  show flushTo st.A st.R (accRow st.cur) 8 i k = _
  unfold flushTo
  split
  next hh => rw [h.R (k / 16) (k % 16) (by omega) (by omega), hh.1, show 16 * (k / 16) + k % 16 = k by omega]
  next hh => exact h.A i k (by omega) hk

/-- A tile's counts at the end of its pass. -/
theorem CN_eq (Zf : ℕ → ℕ → EReal) (c s : ℕ) (i k : ℕ) (hk : k < 16) :
    CN (F := Ideal) Zf B c s (16 * i + k) = segSum B (fun _ => 1) (80 * (gp (tileAt c s) * 125)) (80 * (gp (tileAt c s) * 125 + 125)) i := by
  have h := stAt_pass B hB hm Zf (tileAt c s) 125 (le_refl _)
  unfold CN
  generalize stAt (F := Ideal) Zf B (tileAt c s) 125 = st at h ⊢
  show setLin st.C (16 * accRow st.cur) (fun k => st.R 8 (0 + k)) (16 * i + k) = _
  unfold setLin
  split
  next hh =>
    show st.R 8 (0 + _) = _
    rw [h.R8 _ (by omega), show accRow st.cur = i by omega]
  next hh => exact h.C i k (by omega) hk

end

end Cert.Proof.Pool

end
-- ==== Proof.Parts.lean ====
/-
  What the SparseCore call leaves in its two results over the extended reals, entry by entry: each core's half of every
  segment's sum, and every group's share of the counts.
-/
module

public import proofs.«01_k».proof.Proof.Sums
public import proofs.«01_k».proof.Proof.Main

@[expose] public section

noncomputable section

namespace Cert.Proof.Pool

open Cert.KernelIdeal Cert.KernelIdeal.Gen
open Idealize.ShloMosaic

local notation "sV" => (Memref.whole Cert.KernelIdeal.main_v0_0_scv : Memref Cert.KernelIdeal.sig Kind.scVector Space.hbm Cert.KernelIdeal.S2x512x256 EltTy.f32)
local notation "cV" => (Memref.whole Cert.KernelIdeal.main_v0_1_scv : Memref Cert.KernelIdeal.sig Kind.scVector Space.hbm Cert.KernelIdeal.S16x8192 EltTy.f32)

section
variable (B : ℕ → BitVec 32) (hB : ∀ r, r < 160000 → (B r).toNat < 512) (hm : ∀ r r', r ≤ r' → r' < 160000 → (B r).toNat ≤ (B r').toNat)
include hB hm

/-- A tile's own table: the sums over its group's rows of its half of the columns. -/
theorem T0_at (Zf : ℕ → ℕ → EReal) (c s i k : ℕ) (hc : c < 2) (hs : s < 16) (hk : k < 128) :
    T0 (F := Ideal) Zf B c s i k = segSum B (fun r => Zf r (s % 2 * 128 + k)) (10000 * (c * 8 + s / 2)) (10000 * (c * 8 + s / 2 + 1)) i := by
  rw [T0_eq B hB hm Zf c s i k hk]
  have e1 : gp (tileAt c s) = c * 8 + s / 2 := by
    show c % 2 * 8 + s % 16 / 2 = _; omega
  have e2 : hf (tileAt c s) = s % 2 := by
    show s % 16 % 2 = _; omega
  rw [e1, e2, show 80 * ((c * 8 + s / 2) * 125) = 10000 * (c * 8 + s / 2) by omega, show 80 * ((c * 8 + s / 2) * 125 + 125) = 10000 * (c * 8 + s / 2 + 1) by omega]

/-- The tables of a core's tiles added up: the sums over the core's rows. -/
theorem T3_at (Zf : ℕ → ℕ → EReal) (c s i k : ℕ) (hc : c < 2) (hs : s < 2) (hk : k < 128) :
    T3 (F := Ideal) Zf B c s i k = segSum B (fun r => Zf r (s * 128 + k)) (80000 * c) (80000 * (c + 1)) i := by
  have t0 : ∀ j, j < 8 → T0 (F := Ideal) Zf B c (s + 2 * j) i k = segSum B (fun r => Zf r (s * 128 + k)) (10000 * (c * 8 + j)) (10000 * (c * 8 + (j + 1))) i := fun j hj => by
    rw [T0_at B hB hm Zf c (s + 2 * j) i k hc (by omega) hk, show (s + 2 * j) % 2 = s by omega, show (s + 2 * j) / 2 = j by omega, Nat.add_assoc]
  have t1 : ∀ j, j < 8 → j % 2 = 0 → T1 (F := Ideal) Zf B c (s + 2 * j) i k = segSum B (fun r => Zf r (s * 128 + k)) (10000 * (c * 8 + j)) (10000 * (c * 8 + (j + 2))) i := fun j hj h2 => by
    unfold T1; rw [if_pos (by omega)]
    show T0 (F := Ideal) Zf B c (s + 2 * j) i k + T0 (F := Ideal) Zf B c (s + 2 * j + 2) i k = _
    rw [t0 j hj, show s + 2 * j + 2 = s + 2 * (j + 1) by omega, t0 (j + 1) (by omega)]
    exact (segSum_add _ _ _ _ _ _ (by omega) (by omega)).symm
  have t2 : ∀ j, j < 8 → j % 4 = 0 → T2 (F := Ideal) Zf B c (s + 2 * j) i k = segSum B (fun r => Zf r (s * 128 + k)) (10000 * (c * 8 + j)) (10000 * (c * 8 + (j + 4))) i := fun j hj h2 => by
    unfold T2; rw [if_pos (by omega)]
    show T1 (F := Ideal) Zf B c (s + 2 * j) i k + T1 (F := Ideal) Zf B c (s + 2 * j + 4) i k = _
    rw [t1 j hj (by omega), show s + 2 * j + 4 = s + 2 * (j + 2) by omega, t1 (j + 2) (by omega) (by omega)]
    exact (segSum_add _ _ _ _ _ _ (by omega) (by omega)).symm
  unfold T3; rw [if_pos (by omega)]
  show T2 (F := Ideal) Zf B c (s + 2 * 0) i k + T2 (F := Ideal) Zf B c (s + 2 * 4) i k = _
  rw [t2 0 (by omega) rfl, t2 4 (by omega) rfl, show 80000 * c = 10000 * (c * 8 + 0) by omega, show 80000 * (c + 1) = 10000 * (c * 8 + (4 + 4)) by omega]
  exact (segSum_add _ _ _ _ _ _ (by omega) (by omega)).symm

/-- A group's counts. -/
theorem CN_at (Zf : ℕ → ℕ → EReal) (c s i k : ℕ) (hc : c < 2) (hs : s < 16) (hk : k < 16) :
    CN (F := Ideal) Zf B c s (16 * i + k) = segSum B (fun _ => 1) (10000 * (c * 8 + s / 2)) (10000 * (c * 8 + s / 2 + 1)) i := by
  rw [CN_eq B hB hm Zf c s i k hk]
  have e1 : gp (tileAt c s) = c * 8 + s / 2 := by
    show c % 2 * 8 + s % 16 / 2 = _; omega
  rw [e1, show 80 * ((c * 8 + s / 2) * 125) = 10000 * (c * 8 + s / 2) by omega, show 80 * ((c * 8 + s / 2) * 125 + 125) = 10000 * (c * 8 + s / 2 + 1) by omega]

/-- The same by column. -/
theorem T3_flat (Zf : ℕ → ℕ → EReal) (c i j : ℕ) (hc : c < 2) (hj : j < 256) :
    T3 (F := Ideal) Zf B c (j / 128) i (j % 128) = segSum B (fun r => Zf r j) (80000 * c) (80000 * (c + 1)) i := by
  have e := T3_at B hB hm Zf c (j / 128) i (j % 128) hc (by omega) (by omega)
  have e1 : j / 128 * 128 + j % 128 = j := by omega
  rw [e1] at e
  exact e

/-- The same by group and by place. -/
theorem CN_flat (Zf : ℕ → ℕ → EReal) (q j : ℕ) (hq : q < 16) :
    CN (F := Ideal) Zf B (q / 8) (q % 8 * 2) j = segSum B (fun _ => 1) (10000 * q) (10000 * (q + 1)) (j / 16) := by
  have e := CN_at B hB hm Zf (q / 8) (q % 8 * 2) (j / 16) (j % 16) (by omega) (by omega) (by omega)
  have e1 : q / 8 * 8 + q % 8 * 2 / 2 = q := by omega
  have e2 : 16 * (j / 16) + j % 16 = j := by omega
  rw [e1, e2] at e
  exact e

end

variable (m : (ℓ : Loc nD τ sig) → Buf (Elt Ideal) ℓ)

/-- An entry of the sums' array, from the writing tile's table. -/
theorem sums_entry (d : Dev nD) (g : Buf (Elt Ideal) (sLoc d)) (hg : SumsAt m d g) (y : S2x512x256.Idx) :
    g y = T3 (F := Ideal) (Zm m d) (Bm m d) (y 0).val ((y 2).val / 128) (y 1).val ((y 2).val % 128) := by
  have h2 : (y 2).val < 256 := (y 2).isLt
  have h0 : (y 0).val < 2 := (y 0).isLt
  let p : Fin 2 × Fin 16 := (⟨(y 0).val, (y 0).isLt⟩, ⟨(y 2).val / 128, by omega⟩)
  let x : S512x128.Idx := fun | 0 => y 1 | 1 => ⟨(y 2).val % 128, Nat.mod_lt _ (by decide)⟩ | ⟨_ + 2, h⟩ => absurd h (Nat.not_lt.2 (Nat.le_add_left _ _))
  have hp : p ∈ sumTiles := Finset.mem_filter.mpr ⟨Finset.mem_univ _, by dsimp only [p]; omega⟩
  have hy : y ∈ sumSet p := (mem_sumSet p y).mpr ⟨rfl, by dsimp only [p]; omega⟩
  have hi : ∀ a, (![p.1.val, 0, p.2.val % 2 * 128] : Fin 3 → ℕ) a + S1x512x128.size a ≤ S2x512x256.size a := sums_inb (crdN p.1 p.2)
  have he : (sumsT (crdN p.1 p.2) sV).view.emb x = y := by
    refine Eq.trans (b := (Rect.unit (s := S2x512x256) ![p.1.val, 0, p.2.val % 2 * 128] S1x512x128.size hi).emb (Fin.cons ⟨0, Nat.one_pos⟩ x)) ?_ ?_
    · exact shapeCast_dropUnit_apply ![512, 128] (fun z => (Rect.unit (s := S2x512x256) ![p.1.val, 0, p.2.val % 2 * 128] S1x512x128.size hi).emb z) (by decide) x
    · funext a
      match a with
      | 0 => exact Fin.ext (by show (y 0).val + 1 * 0 = (y 0).val; omega)
      | 1 => exact Fin.ext (by show 0 + 1 * (y 1).val = (y 1).val; omega)
      | 2 => exact Fin.ext (by show (y 2).val / 128 % 2 * 128 + 1 * ((y 2).val % 128) = (y 2).val; omega)
  refine (hg p hp y hy).trans ?_
  have e := View.rep_emb (Val := Elt Ideal) (sumsT (crdN p.1 p.2) sV).view (mat (T3 (F := Ideal) (Zm m d) (Bm m d) p.1.val p.2.val)) x
  rw [he] at e
  exact e

/-- Where a tile's counts stand in their array. -/
theorem cnts_emb (c : Fin 2) (t : Fin 16) (x : S8192.Idx) (y : S16x8192.Idx) (h0 : (y 0).val = c.val * 8 + t.val / 2) (h1 : (y 1).val = (x 0).val) :
    (cntsT (crdN c t) cV).view.emb x = y := by
  have hi : ∀ a, (![c.val * 8 + t.val / 2, 0] : Fin 2 → ℕ) a + S1x8192.size a ≤ S16x8192.size a := cnts_inb (crdN c t)
  refine Eq.trans (b := (Rect.unit (s := S16x8192) ![c.val * 8 + t.val / 2, 0] S1x8192.size hi).emb (Fin.cons ⟨0, Nat.one_pos⟩ x)) ?_ ?_
  · exact shapeCast_dropUnit_apply ![8192] (fun z => (Rect.unit (s := S16x8192) ![c.val * 8 + t.val / 2, 0] S1x8192.size hi).emb z) (by decide) x
  · funext a
    match a with
    | 0 => exact Fin.ext (by show c.val * 8 + t.val / 2 + 1 * 0 = (y 0).val; omega)
    | 1 => exact Fin.ext (by show 0 + 1 * (x 0).val = (y 1).val; omega)

/-- What a written view's buffer holds under one of its places. -/
theorem rep_heq {κ : Kind} {sp : Space} {S : Shape} {e : EltTy} (v : View sig κ sp S e) (f : S.Idx → Elt Ideal e) (x : S.Idx) (y) (he : v.emb x = y) : HEq (v.rep (Val := Elt Ideal) f y) (f x) := by
  subst he
  exact (heq_of_eq (View.rep_emb (Val := Elt Ideal) v f x)).trans (cast_heq _ _)

/-- An entry of the counts' array, from the writing tile's counts. -/
theorem cnts_entry (d : Dev nD) (g : Buf (Elt Ideal) (cLoc d)) (hg : CntsAt m d g) (y : S16x8192.Idx) :
    g y = CN (F := Ideal) (Zm m d) (Bm m d) ((y 0).val / 8) ((y 0).val % 8 * 2) (y 1).val := by
  have h0 : (y 0).val < 16 := (y 0).isLt
  obtain ⟨c, hc⟩ : ∃ c : Fin 2, c.val = (y 0).val / 8 := ⟨⟨(y 0).val / 8, by omega⟩, rfl⟩
  obtain ⟨t, ht⟩ : ∃ t : Fin 16, t.val = (y 0).val % 8 * 2 := ⟨⟨(y 0).val % 8 * 2, by omega⟩, rfl⟩
  obtain ⟨x, hx⟩ : ∃ x : S8192.Idx, (x 0).val = (y 1).val := ⟨fun a => ⟨(y 1).val, by obtain rfl : a = 0 := Subsingleton.elim _ _; exact (y 1).isLt⟩, rfl⟩
  rw [← hc, ← ht, ← hx]
  have hp : (c, t) ∈ cntTiles := Finset.mem_filter.mpr ⟨Finset.mem_univ _, by dsimp only; omega⟩
  have hy : y ∈ cntSet (c, t) := (mem_cntSet (c, t) y).mpr (by dsimp only; omega)
  have e1 := hg (c, t) hp y hy
  have e0 : (cntsT (crdN c t) cV).view.emb x = y := cnts_emb c t x y (by omega) hx.symm
  have e2 := rep_heq (cntsT (crdN c t) cV).view (lin (CN (F := Ideal) (Zm m d) (Bm m d) c.val t.val)) x y e0
  exact e1.trans (eq_of_heq e2)

section
variable (d : Dev nD) (hB : ∀ r, r < 160000 → (Bm m d r).toNat < 512) (hm : ∀ r r', r ≤ r' → r' < 160000 → (Bm m d r).toNat ≤ (Bm m d r').toNat)
include hB hm

/-- A core's part of a segment's sum. -/
theorem sums_at (g : Buf (Elt Ideal) (sLoc d)) (hg : SumsAt m d g) (y : S2x512x256.Idx) :
    g y = segSum (Bm m d) (fun r => Zm m d r (y 2).val) (80000 * (y 0).val) (80000 * ((y 0).val + 1)) (y 1).val := by
  have h2 : (y 2).val < 256 := (y 2).isLt
  exact (sums_entry m d g hg y).trans (T3_flat (Bm m d) hB hm (Zm m d) (y 0).val (y 1).val (y 2).val (y 0).isLt h2)

/-- A group's part of a segment's count. -/
theorem cnts_at (g : Buf (Elt Ideal) (cLoc d)) (hg : CntsAt m d g) (y : S16x8192.Idx) :
    g y = segSum (Bm m d) (fun _ => 1) (10000 * (y 0).val) (10000 * ((y 0).val + 1)) ((y 1).val / 16) := by
  have h0 : (y 0).val < 16 := (y 0).isLt
  exact (cnts_entry m d g hg y).trans (CN_flat (Bm m d) hB hm (Zm m d) (y 0).val (y 1).val h0)

end

end Cert.Proof.Pool

end
-- ==== Proof.Last.lean ====
/-
  What the TensorCore head computes over the extended reals, entry by entry: the means of the segments through the two
  layers.
-/
module

public import proofs.«01_k».proof.Proof.Parts
public import Idealize.ShloMosaic.Lib.MatmulPlain
public import Idealize.ShloMosaic.Lib.KernelVsHost
public import Idealize.ShloMosaic.Lib.ValueLayout
public import Idealize.ShloMosaic.Lib.Pipeline.ValueKit.Geometry

@[expose] public section

noncomputable section

namespace Cert.Proof.Pool

open Cert.KernelIdeal Cert.KernelIdeal.Gen
open Idealize.ShloMosaic Idealize.ShloMosaic.ValueIdx

/-- The two layers on the segments' means. -/
def outOf (M : S512x256.Idx → EReal) (w1 : S64x256.Idx → EReal) (b1 : Fin 64 → EReal) (w2 : S21x64.Idx → EReal) (b2 : Fin 21 → EReal) : S512x21.Idx → EReal := fun y =>
  (∑ j : Fin 64, max ((∑ k : Fin 256, M (ix2 (y 0) k) * w1 (ix2 j k)) + b1 j) 0 * w2 (ix2 (y 1) j)) + b2 (y 1)

/-- A segment's mean from its sum and its count. -/
def meanOf (S : Fin 512 → Fin 256 → EReal) (C : Fin 512 → EReal) : S512x256.Idx → EReal := fun z => Ideal.div (S (z 0) (z 1)) (max (C (z 0)) 1)

variable (x0 : S2x512x256.Idx → EReal) (x1 : S16x512x16.Idx → EReal) (x2 : S64x256.Idx → EReal) (x3 : S1x64.Idx → EReal)
  (x4 : S21x64.Idx → EReal) (x5 : S1x21.Idx → EReal)

/-- One core's sums as the head loads them. -/
def part0 : FVec Ideal S512x256 .f32 := shapeCast S512x256 (fun y => x0 ((Rect.unit (s := S2x512x256) ![0, 0, 0] S1x512x256.size inb_S2x512x256_S1x512x256_0_0_0).toLoadRect.idx y)) shapeCasts_S1x512x256_S512x256
def part1 : FVec Ideal S512x256 .f32 := shapeCast S512x256 (fun y => x0 ((Rect.unit (s := S2x512x256) ![1, 0, 0] S1x512x256.size inb_S2x512x256_S1x512x256_1_0_0).toLoadRect.idx y)) shapeCasts_S1x512x256_S512x256
/-- The counts as the head adds them up. -/
def cnts0 : FVec Ideal S512 .f32 :=
  shapeCast S512 (extractStridedSlice S512x1 ![0, 0] (multiReduction .add [0] S512x16 (shapeCast S16x512x16 (x1 : FVec Ideal S16x512x16 .f32) shapeCasts_S16x512x16_S16x512x16) 0x00000000#32 reduces_S16x512x16_S512x16 (.inl rfl) rfl) slices_S512x16_o0_0_S512x1) shapeCasts_S512x1_S512
/-- The means as the head computes them. -/
def mean0 : FVec Ideal S512x256 .f32 :=
  divf (addf (part0 x0) (part1 x0)) (broadcastTo S512x256 (shapeCast S512x1 (maximumf (cnts0 x1) (broadcast S512 (Scalar.ofBits .f32 0x3F800000#32))) shapeCasts_S512_S512x1) broadcasts_S512x1_S512x256)
/-- The hidden layer as the head computes it. -/
def hid0 : FVec Ideal S512x64 .f32 :=
  maximumf (addf (matmul (φ₁ := .f32) (φ₂ := .f32) dot_S512x256_S64x256_S512x64_1_1_0_0_n_n none (mean0 x0 x1) x2 (constant S512x64 .f32 0x00000000#32))
    (broadcastTo S512x64 (shapeCast S1x64 x3 shapeCasts_S1x64_S1x64) broadcasts_S1x64_S512x64)) (broadcast S512x64 (Scalar.ofBits .f32 0x00000000#32))
/-- The result as the head computes it. -/
def out0 : FVec Ideal S512x21 .f32 :=
  addf (matmul (φ₁ := .f32) (φ₂ := .f32) dot_S512x64_S21x64_S512x21_1_1_0_0_n_n none (hid0 x0 x1 x2 x3) x4 (constant S512x21 .f32 0x00000000#32))
    (broadcastTo S512x21 (shapeCast S1x21 x5 shapeCasts_S1x21_S1x21) broadcasts_S1x21_S512x21)

theorem part0_at (y : S512x256.Idx) : part0 x0 y = x0 (ix3 0 (y 0) (y 1)) := by
  obtain ⟨i, k, rfl⟩ : ∃ (i : Fin 512) (k : Fin 256), y = ix2 i k := ⟨y 0, y 1, eq_ix2 y⟩
  refine (shapeCast_1ab_ab_apply _ _ i k).trans (congrArg x0 (funext fun a => ?_))
  match a with
  | 0 => exact Fin.ext (by show 0 + 1 * 0 = 0; omega)
  | 1 => exact Fin.ext (by show 0 + 1 * i.val = i.val; omega)
  | 2 => exact Fin.ext (by show 0 + 1 * k.val = k.val; omega)
theorem part1_at (y : S512x256.Idx) : part1 x0 y = x0 (ix3 1 (y 0) (y 1)) := by
  obtain ⟨i, k, rfl⟩ : ∃ (i : Fin 512) (k : Fin 256), y = ix2 i k := ⟨y 0, y 1, eq_ix2 y⟩
  refine (shapeCast_1ab_ab_apply _ _ i k).trans (congrArg x0 (funext fun a => ?_))
  match a with
  | 0 => exact Fin.ext (by show 1 + 1 * 0 = 1; omega)
  | 1 => exact Fin.ext (by show 0 + 1 * i.val = i.val; omega)
  | 2 => exact Fin.ext (by show 0 + 1 * k.val = k.val; omega)

theorem cnts0_at (i : Fin 512) : cnts0 x1 (ix1 i) = ∑ q : Fin 16, x1 (ix3 q i 0) := by
  unfold cnts0
  rw [shapeCast_self]
  refine (shapeCast_apply _ _ (ix1 i) (ix2 i (0 : Fin 1)) ?_).trans ?_
  · rw [Shape.rowMajor_val_two, Shape.rowMajor_val_one]
    show i.val * 1 + 0 = i.val
    omega
  refine (extractStridedSlice_apply _ _ _ (ix2 i (0 : Fin 1)) (ix2 i (0 : Fin 16)) ?_).trans ?_
  · intro a
    match a with
    | 0 => show i.val = 0 + i.val; omega
    | 1 => rfl
  refine (Ideal.multiReduction_add_single _ _ _ _ _ _).trans ?_
  refine Finset.sum_congr rfl fun q _ => congrArg x1 (funext fun a => ?_)
  match a with
  | 0 => rfl
  | 1 => rfl
  | 2 => rfl

theorem mean0_eq : mean0 x0 x1 = meanOf (fun i k => x0 (ix3 0 i k) + x0 (ix3 1 i k)) (fun i => ∑ q : Fin 16, x1 (ix3 q i 0)) := by
  funext y
  obtain ⟨i, k, rfl⟩ : ∃ (i : Fin 512) (k : Fin 256), y = ix2 i k := ⟨y 0, y 1, eq_ix2 y⟩
  have e : broadcastTo S512x256 (shapeCast S512x1 (maximumf (cnts0 x1) (broadcast S512 (Scalar.ofBits .f32 0x3F800000#32))) shapeCasts_S512_S512x1) broadcasts_S512x1_S512x256 (ix2 i k)
      = max (∑ q : Fin 16, x1 (ix3 q i 0)) 1 := by
    refine (broadcastTo_apply _ _ (ix2 i k) (ix2 i (0 : Fin 1)) ?_).trans ?_
    · intro a
      match a with
      | 0 => rfl
      | 1 => rfl
    refine (shapeCast_apply _ _ (ix2 i (0 : Fin 1)) (ix1 i) ?_).trans ?_
    · rw [Shape.rowMajor_val_two, Shape.rowMajor_val_one]
      show i.val = i.val * 1 + 0
      omega
    show max (cnts0 x1 (ix1 i)) (Ideal.ofBits .f32 0x3F800000#32) = _
    rw [cnts0_at, Ideal.ofBits_one_f32]
  show Ideal.div (part0 x0 (ix2 i k) + part1 x0 (ix2 i k)) _ = Ideal.div _ _
  rw [part0_at, part1_at]
  exact congrArg (Ideal.div _) e

theorem hid0_at (i : Fin 512) (j : Fin 64) :
    hid0 x0 x1 x2 x3 (ix2 i j) = max ((∑ k : Fin 256, mean0 x0 x1 (ix2 i k) * x2 (ix2 j k)) + x3 (ix2 0 j)) 0 := by
  have e1 : matmul (φ₁ := .f32) (φ₂ := .f32) dot_S512x256_S64x256_S512x64_1_1_0_0_n_n none (mean0 x0 x1) x2 (constant S512x64 .f32 0x00000000#32) (ix2 i j)
      = ∑ k : Fin 256, mean0 x0 x1 (ix2 i k) * x2 (ix2 j k) := by
    refine (Ideal.matmul_transposedRhs_apply (M := 512) (K := 256) (N := 64) none (mean0 x0 x1) x2 (constant S512x64 .f32 0x00000000#32) i j).trans ?_
    show Ideal.ofBits .f32 0x00000000#32 + _ = _
    rw [Ideal.ofBits_zero_f32, zero_add]
  have e2 : broadcastTo S512x64 (shapeCast S1x64 x3 shapeCasts_S1x64_S1x64) broadcasts_S1x64_S512x64 (ix2 i j) = x3 (ix2 0 j) := by
    rw [shapeCast_self]
    refine broadcastTo_apply _ _ (ix2 i j) (ix2 (0 : Fin 1) j) ?_
    intro a
    match a with
    | 0 => rfl
    | 1 => rfl
  show max (_ + _) (Ideal.ofBits .f32 0x00000000#32) = _
  rw [Ideal.ofBits_zero_f32]
  exact congrArg₂ max (congrArg₂ (· + ·) e1 e2) rfl

theorem out0_eq : out0 x0 x1 x2 x3 x4 x5 = outOf (mean0 x0 x1) x2 (fun j => x3 (ix2 0 j)) x4 (fun j => x5 (ix2 0 j)) := by
  funext y
  obtain ⟨i, o, rfl⟩ : ∃ (i : Fin 512) (o : Fin 21), y = ix2 i o := ⟨y 0, y 1, eq_ix2 y⟩
  have e1 : matmul (φ₁ := .f32) (φ₂ := .f32) dot_S512x64_S21x64_S512x21_1_1_0_0_n_n none (hid0 x0 x1 x2 x3) x4 (constant S512x21 .f32 0x00000000#32) (ix2 i o)
      = ∑ j : Fin 64, hid0 x0 x1 x2 x3 (ix2 i j) * x4 (ix2 o j) := by
    refine (Ideal.matmul_transposedRhs_apply (M := 512) (K := 64) (N := 21) none (hid0 x0 x1 x2 x3) x4 (constant S512x21 .f32 0x00000000#32) i o).trans ?_
    show Ideal.ofBits .f32 0x00000000#32 + _ = _
    rw [Ideal.ofBits_zero_f32, zero_add]
  have e2 : broadcastTo S512x21 (shapeCast S1x21 x5 shapeCasts_S1x21_S1x21) broadcasts_S1x21_S512x21 (ix2 i o) = x5 (ix2 0 o) := by
    rw [shapeCast_self]
    refine broadcastTo_apply _ _ (ix2 i o) (ix2 (0 : Fin 1) o) ?_
    intro a
    match a with
    | 0 => rfl
    | 1 => rfl
  refine (congrArg₂ (· + ·) e1 e2).trans ?_
  refine congrArg (· + _) (Finset.sum_congr rfl fun j _ => ?_)
  rw [hid0_at]

/-- What a written view's buffer holds under one of its places. -/
theorem write_heq {κ : Kind} {sp : Space} {S : Shape} {e : EltTy} (v : View sig κ sp S e) (f) (w : S.Idx → Elt Ideal e) (x : S.Idx) (y) (he : v.emb x = y) :
    HEq (v.write (Elt Ideal) f w Finset.univ y) (w x) := by
  subst he
  exact (heq_of_eq (View.write_emb_of_mem (Val := Elt Ideal) (v := v) f w (Finset.mem_univ x))).trans (cast_heq _ _)

/-! ## The call's result -/

/-- A window's block is its whole array. -/
theorem blk_0 (Vd : Valuation τ sig (Elt Ideal)) : blkOf win1_0 Vd = Vd (Proc.devRef .tc main_v0_0) :=
  funext fun y => congrArg (Vd (Proc.devRef .tc main_v0_0)) (funext fun a => Fin.ext (Pipeline.Window.rect_emb_val_of_index_zero win1_0 t₁ a (by revert a; decide) y))
theorem blk_1 (Vd : Valuation τ sig (Elt Ideal)) : blkOf win1_1 Vd = Vd (Proc.devRef .tc main_v1) :=
  funext fun y => congrArg (Vd (Proc.devRef .tc main_v1)) (funext fun a => Fin.ext (Pipeline.Window.rect_emb_val_of_index_zero win1_1 t₁ a (by revert a; decide) y))
theorem blk_2 (Vd : Valuation τ sig (Elt Ideal)) : blkOf win1_2 Vd = Vd (Proc.devRef .tc main_arg2) :=
  funext fun y => congrArg (Vd (Proc.devRef .tc main_arg2)) (funext fun a => Fin.ext (Pipeline.Window.rect_emb_val_of_index_zero win1_2 t₁ a (by revert a; decide) y))
theorem blk_3 (Vd : Valuation τ sig (Elt Ideal)) : blkOf win1_3 Vd = Vd (Proc.devRef .tc main_v2) :=
  funext fun y => congrArg (Vd (Proc.devRef .tc main_v2)) (funext fun a => Fin.ext (Pipeline.Window.rect_emb_val_of_index_zero win1_3 t₁ a (by revert a; decide) y))
theorem blk_4 (Vd : Valuation τ sig (Elt Ideal)) : blkOf win1_4 Vd = Vd (Proc.devRef .tc main_arg4) :=
  funext fun y => congrArg (Vd (Proc.devRef .tc main_arg4)) (funext fun a => Fin.ext (Pipeline.Window.rect_emb_val_of_index_zero win1_4 t₁ a (by revert a; decide) y))
theorem blk_5 (Vd : Valuation τ sig (Elt Ideal)) : blkOf win1_5 Vd = Vd (Proc.devRef .tc main_v3) :=
  funext fun y => congrArg (Vd (Proc.devRef .tc main_v3)) (funext fun a => Fin.ext (Pipeline.Window.rect_emb_val_of_index_zero win1_5 t₁ a (by revert a; decide) y))

/-- A box of a whole array places every entry at itself. -/
theorem idx_whole2 {n k : ℕ} (h : ∀ a, (![0, 0] : Fin 2 → ℕ) a + (![n, k] : Fin 2 → ℕ) a ≤ (![n, k] : Fin 2 → ℕ) a) (y : (⟨2, ![n, k]⟩ : Shape).Idx) :
    (Rect.unit (s := ⟨2, ![n, k]⟩) ![0, 0] ![n, k] h).toLoadRect.idx y = y := by
  funext a
  match a with
  | 0 => exact Fin.ext (by show 0 + 1 * (y 0).val = (y 0).val; omega)
  | 1 => exact Fin.ext (by show 0 + 1 * (y 1).val = (y 1).val; omega)
theorem idx_whole3 {n k l : ℕ} (h : ∀ a, (![0, 0, 0] : Fin 3 → ℕ) a + (![n, k, l] : Fin 3 → ℕ) a ≤ (![n, k, l] : Fin 3 → ℕ) a) (y : (⟨3, ![n, k, l]⟩ : Shape).Idx) :
    (Rect.unit (s := ⟨3, ![n, k, l]⟩) ![0, 0, 0] ![n, k, l] h).toLoadRect.idx y = y := by
  funext a
  match a with
  | 0 => exact Fin.ext (by show 0 + 1 * (y 0).val = (y 0).val; omega)
  | 1 => exact Fin.ext (by show 0 + 1 * (y 1).val = (y 1).val; omega)
  | 2 => exact Fin.ext (by show 0 + 1 * (y 2).val = (y 2).val; omega)

section
variable (c : Dev nD) (f0 : S2x512x256.Idx → EReal) (f1 : S16x512x16.Idx → EReal) (f2 : S64x256.Idx → EReal) (f3 : S1x64.Idx → EReal) (f4 : S21x64.Idx → EReal) (f5 : S1x21.Idx → EReal)

theorem run_v14 : headRun.sl.v14 (F := Ideal) c (stage1_0 0) (stage1_1 0) f0 f1 = mean0 f0 f1 := by
  have e : View.readAt (Elt Ideal) (stage1_1 0).view (Rect.unit (s := S16x512x16) ![0, 0, 0] S16x512x16.size inb_S16x512x16_S16x512x16_0_0_0).toLoadRect f1 = f1 :=
    funext fun y => congrArg f1 (idx_whole3 _ y)
  delta headRun.sl.v14 headRun.sl.v13 headRun.sl.v12 headRun.sl.v11 headRun.sl.v9 headRun.sl.v8 headRun.sl.v7 headRun.sl.v6 mean0 cnts0
  rw [e]
  rfl

theorem run_v22 : headRun.sl.v22 (F := Ideal) c (stage1_0 0) (stage1_1 0) (stage1_2 0) (stage1_3 0) f0 f1 f2 f3 = hid0 f0 f1 f2 f3 := by
  have e2 : View.readAt (Elt Ideal) (stage1_2 0).view (Rect.unit (s := S64x256) ![0, 0] S64x256.size inb_S64x256_S64x256_0_0).toLoadRect f2 = f2 :=
    funext fun y => congrArg f2 (idx_whole2 _ y)
  have e3 : View.readAt (Elt Ideal) (stage1_3 0).view (Rect.unit (s := S1x64) ![0, 0] S1x64.size inb_S1x64_S1x64_0_0).toLoadRect f3 = f3 :=
    funext fun y => congrArg f3 (idx_whole2 _ y)
  delta headRun.sl.v22 headRun.sl.v20 headRun.sl.v16 headRun.sl.v19 headRun.sl.v18 hid0
  rw [run_v14, e2, e3]
  rfl

theorem run_v28 : headRun.sl.v28 (F := Ideal) c (stage1_0 0) (stage1_1 0) (stage1_2 0) (stage1_3 0) (stage1_4 0) (stage1_5 0) f0 f1 f2 f3 f4 f5 = out0 f0 f1 f2 f3 f4 f5 := by
  have e4 : View.readAt (Elt Ideal) (stage1_4 0).view (Rect.unit (s := S21x64) ![0, 0] S21x64.size inb_S21x64_S21x64_0_0).toLoadRect f4 = f4 :=
    funext fun y => congrArg f4 (idx_whole2 _ y)
  have e5 : View.readAt (Elt Ideal) (stage1_5 0).view (Rect.unit (s := S1x21) ![0, 0] S1x21.size inb_S1x21_S1x21_0_0).toLoadRect f5 = f5 :=
    funext fun y => congrArg f5 (idx_whole2 _ y)
  delta headRun.sl.v28 headRun.sl.v24 headRun.sl.v27 headRun.sl.v26 out0
  rw [run_v22, e4, e5]
  rfl

end

/-- The head's result buffer. -/
theorem KR_at (c : Dev nD) (Vd : Valuation τ sig (Elt Ideal)) (y : S512x21.Idx) :
    (KR (F := Ideal) c Vd).1 y = out0 (blkOf win1_0 Vd) (blkOf win1_1 Vd) (blkOf win1_2 Vd) (blkOf win1_3 Vd) (blkOf win1_4 Vd) (blkOf win1_5 Vd) y := by
  delta KR headRun
  dsimp only
  refine eq_of_heq (HEq.trans (write_heq ((View.whole cc1_stg6_0).slice (Rect.unit (s := S512x21) ![0, 0] S512x21.size inb_S512x21_S512x21_0_0)) (View.whole cc1_stg6_0).junk (headRun.sl.v28 c (stage1_0 0) (stage1_1 0) (stage1_2 0) (stage1_3 0) (stage1_4 0) (stage1_5 0) (blkOf win1_0 Vd)
        (blkOf win1_1 Vd) (blkOf win1_2 Vd) (blkOf win1_3 Vd) (blkOf win1_4 Vd) (blkOf win1_5 Vd)) y y ?_) (heq_of_eq (congrFun (run_v28 c _ _ _ _ _ _) y)))
  exact idx_whole2 _ y

/-- The call's result, of the buffers it is entered with. -/
theorem head_at (c : Dev nD) (Vd : Valuation τ sig (Elt Ideal)) (y : S512x21.Idx) :
    headVal c Vd (Proc.devRef .tc main_v4) y = out0 (Vd (Proc.devRef .tc main_v0_0)) (Vd (Proc.devRef .tc main_v1)) (Vd (Proc.devRef .tc main_arg2)) (Vd (Proc.devRef .tc main_v2))
      (Vd (Proc.devRef .tc main_arg4)) (Vd (Proc.devRef .tc main_v3)) y := by
  unfold headVal
  rw [Function.update_self]
  refine ((hdat Vd 0 c).arrAt_emb_eq_after_last (6 : Fin 7) t₁ (by decide +kernel) y).trans ?_
  refine (KR_at c Vd y).trans ?_
  rw [blk_0, blk_1, blk_2, blk_3, blk_4, blk_5]

end Cert.Proof.Pool

end
-- ==== Proof.Scatter.lean ====
/-
  An adding scatter of rows by a column of row numbers, and of a vector by the same: each entry as a sum over the rows
  that name it.
-/
module

public import Idealize.ShloMosaic.PureOps.Ideal.Laws
public import Idealize.ShloMosaic.Lib.Routing.OpsPair
public import Idealize.ShloMosaic.Lib.ValueIdxCore

@[expose] public section

noncomputable section

namespace Cert.Proof.Pool

open Idealize.ShloMosaic Idealize.ShloMosaic.ValueIdx Idealize.ShloMosaic.Routing
open scoped BigOperators

section Rows
variable {N R C : ℕ} (wf : ScatterDims.WF (⟨2, ![R, C]⟩ : Shape) ⟨2, ![N, 1]⟩ ⟨2, ![N, C]⟩ [1] [0] [0] 1)

/-- The dimension numbers of a scatter of rows. -/
abbrev rowDims : ScatterDims (⟨2, ![R, C]⟩ : Shape) ⟨2, ![N, 1]⟩ ⟨2, ![N, C]⟩ where
  updateWindowDims := [1]
  insertedWindowDims := [0]
  scatterDimsToOperandDims := [0]
  indexVectorDim := 1
  wf := wf

theorem lands_row (idx : IVec (⟨2, ![N, 1]⟩ : Shape) 32) (n : Fin N) (b : Fin C) (i : Fin R) (k : Fin C) :
    (rowDims wf).resultIdx? (ix2 n b) idx = some (ix2 i k) ↔ (idx (ix2 n 0)).toInt = (i.val : ℤ) ∧ b = k := by
  have hs0 : (rowDims wf).start (ix2 n b) idx 0 = (idx (ix2 n 0)).toInt := by
    unfold ScatterDims.start
    rw [dif_pos (by decide : (0 : Fin 2) ∈ [(0 : Fin 2)])]
    refine congrArg (fun q => (idx q).toInt) (funext fun a => ?_)
    match a with
    | ⟨0, _⟩ => rfl
    | ⟨1, _⟩ => exact Subsingleton.elim (α := Fin 1) _ _
  have hs1 : (rowDims wf).start (ix2 n b) idx 1 = 0 := by
    unfold ScatterDims.start
    rw [dif_neg (by decide : (1 : Fin 2) ∉ [(0 : Fin 2)])]
  have hw0 : (rowDims wf).window (ix2 n b) 0 = 0 := by
    unfold ScatterDims.window
    exact dif_neg (show (0 : Fin 2) ∉ (List.finRange 2).filter (fun a => a ∉ [(0 : Fin 2)]) by decide)
  have hw1 : (rowDims wf).window (ix2 n b) 1 = b.val := by
    unfold ScatterDims.window
    exact dif_pos (show (1 : Fin 2) ∈ (List.finRange 2).filter (fun a => a ∉ [(0 : Fin 2)]) by decide)
  rw [resultIdx?_ix2, hs0, hs1, hw0, hw1, Fin.ext_iff]
  omega

/-- An entry of a scatter of rows. -/
theorem scatter_row (x : (⟨2, ![R, C]⟩ : Shape).Idx → EReal) (idx : IVec (⟨2, ![N, 1]⟩ : Shape) 32) (u : (⟨2, ![N, C]⟩ : Shape).Idx → EReal) (i : Fin R) (k : Fin C) :
    Ideal.hostScatterAdd (rowDims wf) x idx u (ix2 i k) = x (ix2 i k) + ∑ n : Fin N, if (idx (ix2 n 0)).toInt = (i.val : ℤ) then u (ix2 n k) else 0 := by
  unfold Ideal.hostScatterAdd
  rw [Finset.sum_filter, sum_idx2]
  refine congrArg (x (ix2 i k) + ·) (Finset.sum_congr rfl fun n _ => ?_)
  simp only [lands_row]
  by_cases h : (idx (ix2 n 0)).toInt = (i.val : ℤ)
  · simp only [h, true_and]
    rw [Finset.sum_ite_eq' Finset.univ k (fun b => u (ix2 n b)), if_pos (Finset.mem_univ k), if_pos trivial]
  · simp only [h, false_and, if_false, Finset.sum_const_zero]

end Rows

section Vector
variable {N R : ℕ} (wf : ScatterDims.WF (⟨1, ![R]⟩ : Shape) ⟨2, ![N, 1]⟩ ⟨1, ![N]⟩ [] [0] [0] 1)

/-- The dimension numbers of a scatter of a vector. -/
abbrev vecDims : ScatterDims (⟨1, ![R]⟩ : Shape) ⟨2, ![N, 1]⟩ ⟨1, ![N]⟩ where
  updateWindowDims := []
  insertedWindowDims := [0]
  scatterDimsToOperandDims := [0]
  indexVectorDim := 1
  wf := wf

theorem lands_vec (idx : IVec (⟨2, ![N, 1]⟩ : Shape) 32) (n : Fin N) (i : Fin R) :
    (vecDims wf).resultIdx? (ix1 n) idx = some (ix1 i) ↔ (idx (ix2 n 0)).toInt = (i.val : ℤ) := by
  have hs0 : (vecDims wf).start (ix1 n) idx 0 = (idx (ix2 n 0)).toInt := by
    unfold ScatterDims.start
    rw [dif_pos (by decide : (0 : Fin 1) ∈ [(0 : Fin 1)])]
    refine congrArg (fun q => (idx q).toInt) (funext fun a => ?_)
    match a with
    | ⟨0, _⟩ => rfl
    | ⟨1, _⟩ => exact Subsingleton.elim (α := Fin 1) _ _
  have hw0 : (vecDims wf).window (ix1 n) 0 = 0 := by
    unfold ScatterDims.window
    exact dif_neg (show (0 : Fin 1) ∉ (List.finRange 1).filter (fun a => a ∉ [(0 : Fin 1)]) by decide)
  rw [resultIdx?_ix1, hs0, hw0]
  omega

/-- A vector's indices are its places. -/
def idxEquiv1 {n : ℕ} : (⟨1, ![n]⟩ : Shape).Idx ≃ Fin n where
  toFun i := i 0
  invFun p := ix1 p
  left_inv i := (eq_ix1 i).symm
  right_inv _ := rfl

/-- An entry of a scatter of a vector. -/
theorem scatter_vec (x : (⟨1, ![R]⟩ : Shape).Idx → EReal) (idx : IVec (⟨2, ![N, 1]⟩ : Shape) 32) (u : (⟨1, ![N]⟩ : Shape).Idx → EReal) (i : Fin R) :
    Ideal.hostScatterAdd (vecDims wf) x idx u (ix1 i) = x (ix1 i) + ∑ n : Fin N, if (idx (ix2 n 0)).toInt = (i.val : ℤ) then u (ix1 n) else 0 := by
  unfold Ideal.hostScatterAdd
  rw [Finset.sum_filter, ← Equiv.sum_comp (idxEquiv1 (n := N)).symm]
  refine congrArg (x (ix1 i) + ·) (Finset.sum_congr rfl fun n _ => ?_)
  show (if (vecDims wf).resultIdx? (ix1 n) idx = some (ix1 i) then u (ix1 n) else 0) = _
  simp only [lands_vec]

end Vector

end Cert.Proof.Pool

end
-- ==== Proof.Refer.lean ====
/-
  What the reference computes over the extended reals, entry by entry: the same two layers on the means of the segments,
  each segment's sum and count taken over all rows.
-/
module

public import proofs.«01_k».proof.Proof.Last
public import proofs.«01_k».proof.Proof.Scatter
public import proofs.«01_k».proof.Proof.Gen.ReferenceIdeal.Run

@[expose] public section

noncomputable section

namespace Cert.Proof.Pool

open Cert.ReferenceIdeal Cert.ReferenceIdeal.Gen
open Idealize.ShloMosaic Idealize.ShloMosaic.ValueIdx
open scoped BigOperators

/-- A word read signed is a small number exactly when it is that number read unsigned. -/
theorem toInt_small (a : BitVec 32) (i : ℕ) (hi : i < 512) : (a.toInt = (i : ℤ)) ↔ a.toNat = i := by
  have h := a.isLt
  rw [BitVec.toInt_eq_toNat_cond]
  split <;> omega

/-- A sum over all rows by their places. -/
theorem sum_rows {N : ℕ} (B : ℕ → BitVec 32) (Z : ℕ → EReal) (i : ℕ) : (∑ n : Fin N, if (B n.val).toNat = i then Z n.val else 0) = segSum B Z 0 N i := by
  unfold segSum
  rw [← Finset.range_eq_Ico, Finset.sum_range]

/-- The segments' means over all rows. -/
def meanAll (z : S160000x256.Idx → EReal) (b : S160000.Idx → BitVec 32) : (⟨2, ![512, 256]⟩ : Shape).Idx → EReal :=
  meanOf (fun i k => segSum (bAt b) (fun r => zAt (F := Ideal) z r k.val) 0 160000 i.val) (fun i => segSum (bAt b) (fun _ => 1) 0 160000 i.val)

theorem zAt_at (z : S160000x256.Idx → EReal) (n : Fin 160000) (k : Fin 256) : zAt (F := Ideal) z n.val k.val = z (ix2 n k) := by
  refine congrArg z (funext fun a => ?_)
  match a with
  | ⟨0, _⟩ => exact Fin.ext (Nat.mod_eq_of_lt n.isLt)
  | ⟨1, _⟩ => exact Fin.ext (Nat.mod_eq_of_lt k.isLt)
theorem bAt_at (b : S160000.Idx → BitVec 32) (n : Fin 160000) : bAt b n.val = b (ix1 n) := by
  refine congrArg b (funext fun a => ?_)
  match a with
  | ⟨0, _⟩ => exact Fin.ext (Nat.mod_eq_of_lt n.isLt)

/-- A column laid out over the places of a row. -/
theorem col_at {M N : ℕ} (h1 : (⟨2, ![M, 1]⟩ : Shape).BroadcastsInDim ⟨2, ![M, N]⟩ ![0, 1]) (h2 : (⟨1, ![M]⟩ : Shape).BroadcastsInDim ⟨2, ![M, 1]⟩ ![0])
    (c : (⟨1, ![M]⟩ : Shape).Idx → EReal) (i : Fin M) (k : Fin N) :
    broadcastInDim ⟨2, ![M, N]⟩ ![0, 1] h1 (broadcastInDim ⟨2, ![M, 1]⟩ ![0] h2 c) (ix2 i k) = c (ix1 i) := by
  refine (broadcastInDim_apply ![0, 1] h1 (broadcastInDim ⟨2, ![M, 1]⟩ ![0] h2 c) (ix2 i k) (ix2 i (0 : Fin 1)) ?_).trans ?_
  · intro a
    match a with
    | ⟨0, _⟩ => show (i : ℕ) = if M = 1 then 0 else (i : ℕ); split <;> omega
    | ⟨1, _⟩ => rfl
  refine broadcastInDim_apply ![0] h2 c (ix2 i (0 : Fin 1)) (ix1 i) ?_
  intro a
  match a with
  | ⟨0, _⟩ => show (i : ℕ) = if M = 1 then 0 else (i : ℕ); split <;> omega

/-- The segments' means, at a place. -/
theorem meanOf_at (S : Fin 512 → Fin 256 → EReal) (C : Fin 512 → EReal) (i : Fin 512) (k : Fin 256) : meanOf S C (ix2 i k) = Ideal.div (S i k) (max (C i) 1) := rfl

/-- The host's quotient at a place. -/
theorem divf_at {s : Shape} (x y : FVec Ideal s .f32) (i : s.Idx) (a c : EReal) (hx : x i = a) (hy : y i = c) : Host.divf x y i = Ideal.div a c := by
  subst hx; subst hy; rfl
/-- The larger of two at a place. -/
theorem maxf_at {s : Shape} (x y : FVec Ideal s .f32) (i : s.Idx) (a c : EReal) (hx : x i = a) (hy : y i = c) : maximumf x y i = max a c := by
  subst hx; subst hy; rfl
/-- A sum at a place. -/
theorem addf_at {s : Shape} (x y : FVec Ideal s .f32) (i : s.Idx) (a c : EReal) (hx : x i = a) (hy : y i = c) : addf x y i = a + c := by
  subst hx; subst hy; rfl
/-- One number laid out everywhere. -/
theorem fill_at {s : Shape} (h : S_.BroadcastsInDim s ![]) (w : BitVec 32) (i : s.Idx) : broadcastInDim s ![] h (constant (F := Ideal) S_ .f32 w) i = Ideal.ofBits .f32 w := rfl

variable (z : S160000x256.Idx → EReal) (b : S160000.Idx → BitVec 32) (w1 : S64x256.Idx → EReal) (b1 : S64.Idx → EReal) (w2 : S21x64.Idx → EReal) (b2 : S21.Idx → EReal)

/-- The reference's column of row numbers. -/
abbrev colB : IVec S160000x1 32 := broadcastInDim S160000x1 ![0] bcast_S160000_S160000x1_0 b
theorem colB_at (n : Fin 160000) : colB b (ix2 n 0) = b (ix1 n) := by
  refine broadcastInDim_apply ![0] bcast_S160000_S160000x1_0 b (ix2 n (0 : Fin 1)) (ix1 n) ?_
  intro a
  match a with
  | ⟨0, _⟩ => rfl

/-- The reference's sums. -/
def sumsR : FVec Ideal S512x256 .f32 := Host.scatterAdd scatter_S512x256_S160000x1_S160000x256_1_0_0_1 (broadcastInDim S512x256 ![] bcast_S_S512x256 (constant S_ .f32 0x00000000#32)) (colB b) (z : FVec Ideal S160000x256 .f32)
theorem sumsR_at (i : Fin 512) (k : Fin 256) : sumsR z b (ix2 i k) = segSum (bAt b) (fun r => zAt (F := Ideal) z r k.val) 0 160000 i.val := by
  refine (scatter_row (N := 160000) (R := 512) (C := 256) _ (broadcastInDim S512x256 ![] bcast_S_S512x256 (constant (F := Ideal) S_ .f32 0x00000000#32)) (colB b) z i k).trans ?_
  show Ideal.ofBits .f32 0x00000000#32 + _ = _
  rw [Ideal.ofBits_zero_f32, zero_add, ← sum_rows (N := 160000)]
  refine Finset.sum_congr rfl fun n _ => ?_
  rw [zAt_at, bAt_at, colB_at]
  simp only [toInt_small _ _ i.isLt]

/-- The reference's counts. -/
def cntsR : FVec Ideal S512 .f32 := Host.scatterAdd scatter_S512_S160000x1_S160000_n_0_0_1 (broadcastInDim S512 ![] bcast_S_S512 (constant S_ .f32 0x00000000#32)) (colB b) (broadcastInDim S160000 ![] bcast_S_S160000 (constant S_ .f32 0x3F800000#32))
theorem cntsR_at (i : Fin 512) : cntsR b (ix1 i) = segSum (bAt b) (fun _ => 1) 0 160000 i.val := by
  refine (scatter_vec (N := 160000) (R := 512) _ (broadcastInDim S512 ![] bcast_S_S512 (constant (F := Ideal) S_ .f32 0x00000000#32)) (colB b) (broadcastInDim S160000 ![] bcast_S_S160000 (constant (F := Ideal) S_ .f32 0x3F800000#32)) i).trans ?_
  show Ideal.ofBits .f32 0x00000000#32 + _ = _
  rw [Ideal.ofBits_zero_f32, zero_add, ← sum_rows (N := 160000)]
  refine Finset.sum_congr rfl fun n _ => ?_
  rw [bAt_at, colB_at]
  simp only [toInt_small _ _ i.isLt]
  show (if _ then Ideal.ofBits .f32 0x3F800000#32 else 0) = _
  rw [Ideal.ofBits_one_f32]

attribute [local irreducible] sumsR cntsR segSum

/-- The reference's means. -/
def meanR : FVec Ideal S512x256 .f32 :=
  Host.divf (sumsR z b) (broadcastInDim S512x256 ![0, 1] bcast_S512x1_S512x256_0_1 (broadcastInDim S512x1 ![0] bcast_S512_S512x1_0 (maximumf (cntsR b) (broadcastInDim S512 ![] bcast_S_S512 (constant S_ .f32 0x3F800000#32)))))
theorem meanR_eq : meanR z b = meanAll z b := by
  funext y
  obtain ⟨i, k, rfl⟩ : ∃ (i : Fin 512) (k : Fin 256), y = ix2 i k := ⟨y 0, y 1, eq_ix2 y⟩
  refine Eq.trans ?_ (meanOf_at _ _ i k).symm
  refine divf_at (sumsR z b) _ (ix2 i k) _ _ (sumsR_at z b i k) ?_
  refine (col_at (M := 512) (N := 256) bcast_S512x1_S512x256_0_1 bcast_S512_S512x1_0 _ i k).trans ?_
  refine maxf_at (cntsR b) _ (ix1 i) _ _ (cntsR_at b i) ?_
  exact (fill_at bcast_S_S512 0x3F800000#32 (ix1 i)).trans Ideal.ofBits_one_f32
attribute [local irreducible] meanR

/-- The reference's hidden layer. -/
def hidR : FVec Ideal S512x64 .f32 :=
  maximumf (addf (Host.dotGeneral (φ₁ := .f32) (φ₂ := .f32) dot_S512x256_S256x64_S512x64_1_0_0_1_n_n none (meanR z b) (transpose S256x64 [1, 0] w1 transposes_S64x256_S256x64_1_0))
    (broadcastInDim S512x64 ![0, 1] bcast_S1x64_S512x64_0_1 (broadcastInDim S1x64 ![1] bcast_S64_S1x64_1 b1))) (broadcastInDim S512x64 ![] bcast_S_S512x64 (constant S_ .f32 0x00000000#32))
/-- The reference's result. -/
def outR : FVec Ideal S512x21 .f32 :=
  addf (Host.dotGeneral (φ₁ := .f32) (φ₂ := .f32) dot_S512x64_S64x21_S512x21_1_0_0_1_n_n none (hidR z b w1 b1) (transpose S64x21 [1, 0] w2 transposes_S21x64_S64x21_1_0))
    (broadcastInDim S512x21 ![0, 1] bcast_S1x21_S512x21_0_1 (broadcastInDim S1x21 ![1] bcast_S21_S1x21_1 b2))

/-- A product's terms, its right factor turned round. -/
theorem turn_sum {K N : ℕ} (f : Fin K → EReal) (w : (⟨2, ![N, K]⟩ : Shape).Idx → EReal) (h : (⟨2, ![N, K]⟩ : Shape).Transposes [1, 0] ⟨2, ![K, N]⟩) (j : Fin N) :
    (∑ k : Fin K, f k * transpose ⟨2, ![K, N]⟩ [1, 0] w h (ix2 k j)) = ∑ k : Fin K, f k * w (ix2 j k) :=
  Finset.sum_congr rfl fun k _ => congrArg (f k * ·) (transpose_ix2_apply w h k j)

/-- One row laid out over all rows. -/
theorem row_at {M N : ℕ} (h1 : (⟨2, ![1, N]⟩ : Shape).BroadcastsInDim ⟨2, ![M, N]⟩ ![0, 1]) (h2 : (⟨1, ![N]⟩ : Shape).BroadcastsInDim ⟨2, ![1, N]⟩ ![1])
    (c : (⟨1, ![N]⟩ : Shape).Idx → EReal) (i : Fin M) (k : Fin N) :
    broadcastInDim ⟨2, ![M, N]⟩ ![0, 1] h1 (broadcastInDim ⟨2, ![1, N]⟩ ![1] h2 c) (ix2 i k) = c (ix1 k) := by
  refine (broadcastInDim_oneRow_apply h1 (broadcastInDim ⟨2, ![1, N]⟩ ![1] h2 c) i k).trans ?_
  refine broadcastInDim_apply ![1] h2 c (ix2 (0 : Fin 1) k) (ix1 k) ?_
  intro a
  match a with
  | ⟨0, _⟩ => show (k : ℕ) = if N = 1 then 0 else (k : ℕ); split <;> omega

/-- A plain product on the host. -/
theorem dot_at {M K N : ℕ} (l : FVec Ideal ⟨2, ![M, K]⟩ .f32) (r : FVec Ideal ⟨2, ![K, N]⟩ .f32) (i : Fin M) (j : Fin N) :
    Host.dotGeneral (φ₁ := .f32) (φ₂ := .f32) (DotDims.plain M K N) none l r (ix2 i j) = ∑ k : Fin K, l (ix2 i k) * r (ix2 k j) := by
  rw [← matmul_zero_eq_dotGeneral]
  refine (Ideal.matmul_plain_apply none l r _ i j).trans ?_
  show Ideal.ofBits .f32 0x00000000#32 + _ = _
  rw [Ideal.ofBits_zero_f32, zero_add]

theorem hidR_at (i : Fin 512) (j : Fin 64) :
    hidR z b w1 b1 (ix2 i j) = max ((∑ k : Fin 256, meanR z b (ix2 i k) * w1 (ix2 j k)) + b1 (ix1 j)) 0 := by
  refine maxf_at _ _ (ix2 i j) _ _ (addf_at _ _ (ix2 i j) _ _ ?_ ?_) ?_
  · exact (dot_at (M := 512) (K := 256) (N := 64) (meanR z b) _ i j).trans (turn_sum (K := 256) (N := 64) (fun k => meanR z b (ix2 i k)) w1 transposes_S64x256_S256x64_1_0 j)
  · exact row_at (M := 512) (N := 64) bcast_S1x64_S512x64_0_1 bcast_S64_S1x64_1 b1 i j
  · exact (fill_at bcast_S_S512x64 0x00000000#32 (ix2 i j)).trans Ideal.ofBits_zero_f32
attribute [local irreducible] hidR

/-- The two layers at a place. -/
theorem outOf_at (M : (⟨2, ![512, 256]⟩ : Shape).Idx → EReal) (c1 : Fin 64 → EReal) (c2 : Fin 21 → EReal) (i : Fin 512) (o : Fin 21) : outOf M w1 c1 w2 c2 (ix2 i o)
    = (∑ j : Fin 64, max ((∑ k : Fin 256, M (ix2 i k) * w1 (ix2 j k)) + c1 j) 0 * w2 (ix2 o j)) + c2 o := rfl

/-- The reference's result, entry by entry. -/
theorem outR_eq : outR z b w1 b1 w2 b2 = outOf (meanAll z b) w1 (fun j => b1 (ix1 j)) w2 (fun j => b2 (ix1 j)) := by
  funext y
  obtain ⟨i, o, rfl⟩ : ∃ (i : Fin 512) (o : Fin 21), y = ix2 i o := ⟨y 0, y 1, eq_ix2 y⟩
  refine Eq.trans ?_ (outOf_at w1 w2 (meanAll z b) (fun j => b1 (ix1 j)) (fun j => b2 (ix1 j)) i o).symm
  refine addf_at _ _ (ix2 i o) _ _ ?_ (row_at (M := 512) (N := 21) bcast_S1x21_S512x21_0_1 bcast_S21_S1x21_1 b2 i o)
  refine (dot_at (M := 512) (K := 64) (N := 21) (hidR z b w1 b1) _ i o).trans ?_
  refine (turn_sum (K := 64) (N := 21) (fun j => hidR z b w1 b1 (ix2 i j)) w2 transposes_S21x64_S64x21_1_0 o).trans ?_
  refine Finset.sum_congr rfl fun j _ => congrArg (· * w2 (ix2 o j)) ?_
  exact (hidR_at z b w1 b1 i j).trans (by rw [meanR_eq])

end Cert.Proof.Pool

end
-- ==== Proof.Value.lean ====
/-
  The value the kernel's program ends with: the two layers on the means of the segments, each segment's sum and count taken
  over all rows. It needs the rows' segment numbers in range and in ascending order.
-/
module

public import proofs.«01_k».proof.Proof.Refer
public import proofs.«01_k».proof.Proof.Run

@[expose] public section

noncomputable section

namespace Cert.Proof.Pool

open Cert.KernelIdeal Cert.KernelIdeal.Gen
open Idealize.ShloMosaic Idealize.ShloMosaic.ValueIdx Idealize.ShloMosaic.TcCoe
open scoped BigOperators

/-- The parts of a segment over blocks of `w` rows make up the segment over all of them. -/
theorem segSum_blocks (B : ℕ → BitVec 32) (Z : ℕ → EReal) (w n i : ℕ) : (∑ q : Fin n, segSum B Z (w * q.val) (w * (q.val + 1)) i) = segSum B Z 0 (w * n) i := by
  induction n with
  | zero => unfold segSum; simp
  | succ n ih =>
    rw [Fin.sum_univ_castSucc, segSum_add B Z 0 (w * n) (w * (n + 1)) i (Nat.zero_le _) (Nat.mul_le_mul (Nat.le_refl w) (Nat.le_succ n)), ← ih]
    rfl

/-- A table whose rows are cut into pieces of one length, at a place. -/
theorem pieces_at {Q S L W : ℕ} (hW : S * L = W) (x : (⟨2, ![Q, W]⟩ : Shape).Idx → EReal) (h : (⟨2, ![Q, W]⟩ : Shape).ShapeCasts ⟨3, ![Q, S, L]⟩)
    (q : Fin Q) (i : Fin S) (l : Fin L) (p : Fin W) (hp : p.val = i.val * L + l.val) : shapeCast ⟨3, ![Q, S, L]⟩ x h (ix3 q i l) = x (ix2 q p) :=
  shapeCast_apply x h _ _ (by
    rw [Shape.rowMajor_val_three, Shape.rowMajor_val_two]
    show q.val * W + p.val = (q.val * S + i.val) * L + l.val
    rw [hp, ← hW]; ring)

variable (m : (ℓ : Loc nD τ sig) → Buf (Elt Ideal) ℓ) (d : Dev nD) (g : Buf (Elt Ideal) (sLoc d)) (g' : Buf (Elt Ideal) (cLoc d))

/-! ## What the head is entered with -/

theorem V4_s : V4 m d g g' (dr main_v0_0) = g := (V4_o m d g g' main_v0_0 (by decide) (by decide) (by decide)).trans (V1_s m d g g')
theorem V4_w1 : V4 m d g g' (dr main_arg2) = m ((SparseCore.T d).loc main_arg2) :=
  (V4_o m d g g' main_arg2 (by decide) (by decide) (by decide)).trans (V1_o m d g g' main_arg2 (by decide) (by decide))
theorem V4_w2 : V4 m d g g' (dr main_arg4) = m ((SparseCore.T d).loc main_arg4) :=
  (V4_o m d g g' main_arg4 (by decide) (by decide) (by decide)).trans (V1_o m d g g' main_arg4 (by decide) (by decide))
/-- The counts, cut into the lanes of each segment. -/
theorem V4_v1 : V4 m d g g' (dr main_v1) = shapeCast S16x512x16 (g' : S16x8192.Idx → EReal) shapeCasts_S16x8192_S16x512x16 := by
  unfold V4
  rw [StableHlo.reshape_result_ne _ _ _ _ _ _ _ (show main_v1 ≠ main_v3 by decide), StableHlo.reshape_result_ne _ _ _ _ _ _ _ (show main_v1 ≠ main_v2 by decide), StableHlo.reshape_result, V1_c]
  rfl
theorem V4_v2 : V4 m d g g' (dr main_v2) = shapeCast S1x64 (m ((SparseCore.T d).loc main_arg3) : S64.Idx → EReal) shapeCasts_S64_S1x64 := by
  unfold V4
  rw [StableHlo.reshape_result_ne _ _ _ _ _ _ _ (show main_v2 ≠ main_v3 by decide), StableHlo.reshape_result, StableHlo.reshape_result_ne _ _ _ _ _ _ _ (show main_arg3 ≠ main_v1 by decide), V1_o m d g g' main_arg3 (by decide) (by decide)]
  rfl
theorem V4_v3 : V4 m d g g' (dr main_v3) = shapeCast S1x21 (m ((SparseCore.T d).loc main_arg5) : S21.Idx → EReal) shapeCasts_S21_S1x21 := by
  unfold V4
  rw [StableHlo.reshape_result, StableHlo.reshape_result_ne _ _ _ _ _ _ _ (show main_arg5 ≠ main_v2 by decide), StableHlo.reshape_result_ne _ _ _ _ _ _ _ (show main_arg5 ≠ main_v1 by decide), V1_o m d g g' main_arg5 (by decide) (by decide)]
  rfl

/-! ## The value -/

variable (hB : ∀ r, r < 160000 → (Bm m d r).toNat < 512) (hm : ∀ r r', r ≤ r' → r' < 160000 → (Bm m d r).toNat ≤ (Bm m d r').toNat)
include hB hm

/-- The two cores' parts make up a segment's sum. -/
theorem two_parts (hg : SumsAt m d g) (i : Fin 512) (k : Fin 256) :
    @HAdd.hAdd EReal EReal EReal instHAdd (g (ix3 0 i k)) (g (ix3 1 i k)) = segSum (Bm m d) (fun r => Zm m d r k.val) 0 160000 i.val := by
  refine (congrArg₂ (fun a b : EReal => a + b) (sums_at m d hB hm g hg (ix3 0 i k)) (sums_at m d hB hm g hg (ix3 1 i k))).trans ?_
  exact (segSum_add (Bm m d) (fun r => Zm m d r k.val) 0 80000 160000 i.val (by decide) (by decide)).symm

/-- The groups' parts make up a segment's count. -/
theorem all_parts (hg' : CntsAt m d g') (i : Fin 512) :
    (∑ q : Fin 16, (shapeCast S16x512x16 (g' : S16x8192.Idx → EReal) shapeCasts_S16x8192_S16x512x16 : S16x512x16.Idx → EReal) (ix3 q i 0)) = segSum (Bm m d) (fun _ => 1) 0 160000 i.val := by
  refine (Finset.sum_congr rfl fun q _ => ?_).trans (segSum_blocks (Bm m d) (fun _ => 1) 10000 16 i.val)
  have hp : i.val * 16 < 8192 := by omega
  refine (pieces_at (Q := 16) (S := 512) (L := 16) (W := 8192) (by decide) g' shapeCasts_S16x8192_S16x512x16 q i 0 ⟨i.val * 16, hp⟩ rfl).trans ?_
  refine (cnts_at m d hB hm g' hg' (ix2 q ⟨i.val * 16, hp⟩)).trans ?_
  exact congrArg (segSum (Bm m d) (fun _ => 1) (10000 * q.val) (10000 * (q.val + 1))) (Nat.mul_div_cancel i.val (by decide))

/-- The result the kernel's program ends with. -/
theorem value_eq (hg : SumsAt m d g) (hg' : CntsAt m d g') :
    headVal d (V4 m d g g') (dr main_v4) = outOf (meanAll (m (zLoc d)) (m (bLoc d))) (m ((SparseCore.T d).loc main_arg2)) (fun j => (m ((SparseCore.T d).loc main_arg3) : S64.Idx → EReal) (ix1 j))
      (m ((SparseCore.T d).loc main_arg4)) (fun j => (m ((SparseCore.T d).loc main_arg5) : S21.Idx → EReal) (ix1 j)) := by
  funext y
  refine (head_at d (V4 m d g g') y).trans (congrFun ?_ y)
  refine (out0_eq _ _ _ _ _ _).trans ?_
  have e3 : (fun j : Fin 64 => (V4 m d g g' (dr main_v2) : S1x64.Idx → EReal) (ix2 0 j)) = fun j => (m ((SparseCore.T d).loc main_arg3) : S64.Idx → EReal) (ix1 j) := by
    rw [V4_v2]; funext j; exact shapeCast_a_1a_apply _ _ 0 j
  have e5 : (fun j : Fin 21 => (V4 m d g g' (dr main_v3) : S1x21.Idx → EReal) (ix2 0 j)) = fun j => (m ((SparseCore.T d).loc main_arg5) : S21.Idx → EReal) (ix1 j) := by
    rw [V4_v3]; funext j; exact shapeCast_a_1a_apply _ _ 0 j
  have eM : mean0 (V4 m d g g' (dr main_v0_0)) (V4 m d g g' (dr main_v1)) = meanAll (m (zLoc d)) (m (bLoc d)) := by
    refine (mean0_eq _ _).trans ?_
    unfold meanAll
    refine congrArg₂ meanOf (funext fun i => funext fun k => ?_) (funext fun i => ?_)
    · rw [V4_s]; exact two_parts m d g hB hm hg i k
    · rw [V4_v1]; exact all_parts m d g' hB hm hg' i
  rw [e3, e5, eM, V4_w1, V4_w2]

end Cert.Proof.Pool

end
-- ==== Proof.Order.lean ====
/-
  What the precondition on the rows' segment numbers says: each is from 0 to 511, and they are in ascending order.
-/
module

public import proofs.«01_k».proof.Proof.Run
public import proofs.«01_k».proof.Proof.Gen.Pre_sorted_in_range

@[expose] public section

noncomputable section

namespace Cert.Proof.Pool

open Cert.Pre_sorted_in_range
open Idealize.ShloMosaic

/-- A word from 0 to 511, read unsigned. -/
theorem word_in (a : BitVec 32) (h : IntOp.andi (IntOp.cmpi .sge a 0#32) (IntOp.cmpi .slt a 512#32) = 1#1) : a.toNat < 512 := by
  have h' := (show ∀ c d : BitVec 1, IntOp.andi c d = 1#1 → c = 1#1 ∧ d = 1#1 by decide) _ _ h
  have hb : ∀ b : Bool, (BitVec.ofBool b = 1#1) = (b = true) := by decide
  simp only [IntOp.cmpi, hb, BitVec.sle_eq_decide, BitVec.slt_eq_decide, decide_eq_true_eq, BitVec.toInt_eq_toNat_cond, BitVec.toNat_ofNat, Nat.reducePow, Nat.reduceMod] at h'
  omega
/-- Two small words in order, read unsigned. -/
theorem word_le (a b : BitVec 32) (ha : a.toNat < 512) (hb : b.toNat < 512) (h : IntOp.cmpi .sle a b = 1#1) : a.toNat ≤ b.toNat := by
  have hc : ∀ b : Bool, (BitVec.ofBool b = 1#1) = (b = true) := by decide
  simp only [IntOp.cmpi, hc, BitVec.sle_eq_decide, decide_eq_true_eq, BitVec.toInt_eq_toNat_cond, Nat.reducePow] at h
  omega
/-- Numbers whose neighbours are in order are in order throughout. -/
theorem mono_of_steps (f : ℕ → ℕ) (N : ℕ) (h : ∀ r, r + 1 < N → f r ≤ f (r + 1)) (r r' : ℕ) (hr : r ≤ r') (hN : r' < N) : f r ≤ f r' := by
  induction r', hr using Nat.le_induction with
  | base => exact Nat.le_refl _
  | succ n _ ih => exact (ih (by omega)).trans (h n hN)

section
variable {F : FTy → Type} [FloatOps F] (x0 : FVec F S160000x256 .f32) (x1 : IVec S160000 32) (x2 : FVec F S64x256 .f32) (x3 : FVec F S64 .f32) (x4 : FVec F S21x64 .f32)
    (x5 : FVec F S21 .f32) (h : Cert.Pre_sorted_in_range.fn (F := F) x0 x1 x2 x3 x4 x5 = fun _ => 1#1)
include h

/-- The precondition at a place: the word there, as the range's two comparisons leave it. -/
theorem sorted_range (y : S160000.Idx) : IntOp.andi (IntOp.cmpi .sge (x1 y) 0#32) (IntOp.cmpi .slt (x1 y) 512#32) = 1#1 := by
  haveI : Subsingleton S_.Idx := ⟨fun a b => funext fun i => i.elim0⟩
  have e := congrFun h (fun a => a.elim0)
  have e' := (show ∀ c d : BitVec 1, IntOp.andi c d = 1#1 → c = 1#1 ∧ d = 1#1 by decide) _ _ e
  exact Host.reduce_andi_all _ _ _ _ _ e'.1 y

/-- The precondition at two neighbours: they are in order. -/
theorem sorted_step (y : S159999.Idx) :
    IntOp.cmpi .sle (extractStridedSlice S159999 ![0] x1 Facts.slices_S160000_S159999_0 y) (extractStridedSlice S159999 ![1] x1 Facts.slices_S160000_S159999_1 y) = 1#1 := by
  haveI : Subsingleton S_.Idx := ⟨fun a b => funext fun i => i.elim0⟩
  have e := congrFun h (fun a => a.elim0)
  have e' := (show ∀ c d : BitVec 1, IntOp.andi c d = 1#1 → c = 1#1 ∧ d = 1#1 by decide) _ _ e
  exact Host.reduce_andi_all _ _ _ _ _ e'.2 y

/-- The word of a row is small. -/
theorem rows_small (r : ℕ) : (bAt x1 r).toNat < 512 := word_in _ (sorted_range x0 x1 x2 x3 x4 x5 h _)

/-- The words of the rows ascend. -/
theorem rows_ascend (r r' : ℕ) (hr : r ≤ r') (hN : r' < 160000) : (bAt x1 r).toNat ≤ (bAt x1 r').toNat := by
  refine mono_of_steps (fun r => (bAt x1 r).toNat) 160000 (fun n hn => ?_) r r' hr hN
  refine word_le _ _ (rows_small x0 x1 x2 x3 x4 x5 h n) (rows_small x0 x1 x2 x3 x4 x5 h (n + 1)) ?_
  have hn' : n < 159999 := by omega
  have e := sorted_step x0 x1 x2 x3 x4 x5 h (fun | ⟨0, _⟩ => ⟨n, hn'⟩ | ⟨_ + 1, hh⟩ => absurd hh (Nat.not_lt.2 (Nat.le_add_left _ _)))
  have e0 : extractStridedSlice S159999 ![0] x1 Facts.slices_S160000_S159999_0 (fun | ⟨0, _⟩ => ⟨n, hn'⟩ | ⟨_ + 1, hh⟩ => absurd hh (Nat.not_lt.2 (Nat.le_add_left _ _))) = bAt x1 n := by
    refine congrArg x1 (funext fun a => ?_)
    match a with
    | ⟨0, _⟩ => exact Fin.ext ((Nat.zero_add n).trans (Nat.mod_eq_of_lt (Nat.lt_of_succ_lt hn)).symm)
  have e1 : extractStridedSlice S159999 ![1] x1 Facts.slices_S160000_S159999_1 (fun | ⟨0, _⟩ => ⟨n, hn'⟩ | ⟨_ + 1, hh⟩ => absurd hh (Nat.not_lt.2 (Nat.le_add_left _ _))) = bAt x1 (n + 1) := by
    refine congrArg x1 (funext fun a => ?_)
    match a with
    | ⟨0, _⟩ => exact Fin.ext ((Nat.add_comm 1 n).trans (Nat.mod_eq_of_lt hn).symm)
  rw [e0, e1] at e
  exact e
end

end Cert.Proof.Pool

end
-- ==== Proof.Claims.lean ====
/- The claims: each program runs, its arguments end unchanged and every semaphore at zero; the kernel's program and the
   reference, read over the extended reals, end with equal results. -/
module

public import proofs.«01_k».proof.Defs
public import proofs.«01_k».proof.Proof.Run
public import proofs.«01_k».proof.Proof.Same
public import proofs.«01_k».proof.Proof.Value
public import proofs.«01_k».proof.Proof.Order
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Gen.Pre_sorted_in_range

@[expose] public section

noncomputable section

namespace Cert.Proof.Claims

open Idealize.ShloMosaic Idealize.SL.Sem TcCoe

/-- The precondition at a place: the row number there is from 0 to 511. -/
theorem in_range {F : FTy → Type} [FloatOps F] (x0 : FVec F Cert.Pre_in_range.S160000x256 .f32) (x1 : IVec Cert.Pre_in_range.S160000 32) (x2 : FVec F Cert.Pre_in_range.S64x256 .f32) (x3 : FVec F Cert.Pre_in_range.S64 .f32) (x4 : FVec F Cert.Pre_in_range.S21x64 .f32)
    (x5 : FVec F Cert.Pre_in_range.S21 .f32) (h : Cert.Pre_in_range.fn (F := F) x0 x1 x2 x3 x4 x5 = fun _ => 1#1) (y : Cert.Pre_in_range.S160000.Idx) : Cert.Proof.Pool.accRow (x1 y) < 512 := by
  haveI : Subsingleton Cert.Pre_in_range.S_.Idx := ⟨fun a b => funext fun i => i.elim0⟩
  have e := congrFun h (fun a => a.elim0)
  exact Cert.Proof.Pool.row_in (x1 y) (Host.reduce_andi_all _ _ _ _ _ e y)

/-- `Cert.quiescent_Kernel`: the run at the float formats' own words. -/
theorem frame_kernel : Cert.quiescent_Kernel := fun m ρ hp => by
  have hr := Cert.Proof.Pool.run_main (F := Bits) m ρ fun d _ _ => in_range _ _ _ _ _ _ (hp d) _
  have hd := Cert.Proof.Same.defs (F := Bits)
  have ht := Cert.Proof.Same.threads (F := Bits)
  rw [hd, ht]
  exact (θ_run Cert.KernelIdeal.defs _ _).mono (fun r (h : Cert.Proof.Pool.QC m r) => ⟨fun c => ⟨(h.1 c).1, (h.1 c).2.1, (h.1 c).2.2.1, (h.1 c).2.2.2.1, (h.1 c).2.2.2.2.1, (h.1 c).2.2.2.2.2.1⟩, h.2⟩) hr

/-- `Cert.quiescent_KernelIdeal`: the run at exact values. -/
theorem frame_kernelIdeal : Cert.quiescent_KernelIdeal := fun m ρ hp =>
  (θ_run Cert.KernelIdeal.defs _ _).mono (fun _ h => ⟨fun c => ⟨(h.1 c).1, (h.1 c).2.1, (h.1 c).2.2.1, (h.1 c).2.2.2.1, (h.1 c).2.2.2.2.1, (h.1 c).2.2.2.2.2.1⟩, h.2⟩)
    (Cert.Proof.Pool.run_main (F := Ideal) m ρ fun d _ _ => in_range _ _ _ _ _ _ (hp d) _)

/-- `Cert.quiescent_ReferenceIdeal`: the host's operations, which take no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## Equal results -/

/-- In range, at every row, of what the precondition with the order says. -/
theorem small_rows (m : (ℓ : Loc Cert.KernelIdeal.nD Cert.KernelIdeal.τ Cert.KernelIdeal.sig) → Buf (Elt Ideal) ℓ) (hp : Cert.Pre_KernelIdeal_sorted_in_range m) : Cert.Proof.Pool.InRange m :=
  fun d _ _ => Cert.Proof.Pool.row_in _ (Cert.Proof.Pool.sorted_range _ _ _ _ _ _ (hp d) _)

/-- `Cert.quiescent_KernelIdeal_pre_sorted_in_range`: the run at exact values, of rows in order. -/
theorem frame_kernelIdeal_sorted : Cert.quiescent_KernelIdeal_pre_sorted_in_range := fun m ρ hp =>
  (θ_run Cert.KernelIdeal.defs _ _).mono (fun _ h => ⟨fun c => ⟨(h.1 c).1, (h.1 c).2.1, (h.1 c).2.2.1, (h.1 c).2.2.2.1, (h.1 c).2.2.2.2.1, (h.1 c).2.2.2.2.2.1⟩, h.2⟩)
    (Cert.Proof.Pool.run_main (F := Ideal) m ρ (small_rows m hp))

/-- `Cert.quiescent_ReferenceIdeal_pre_sorted_in_range`: the same operations, of rows in order. -/
theorem frame_referenceIdeal_sorted : Cert.quiescent_ReferenceIdeal_pre_sorted_in_range := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The common result: the two layers on the means of the segments over all rows. -/
def valueOf (z : Cert.ReferenceIdeal.S160000x256.Idx → EReal) (b : Cert.ReferenceIdeal.S160000.Idx → BitVec 32) (w1 : Cert.ReferenceIdeal.S64x256.Idx → EReal) (b1 : Cert.ReferenceIdeal.S64.Idx → EReal)
    (w2 : Cert.ReferenceIdeal.S21x64.Idx → EReal) (b2 : Cert.ReferenceIdeal.S21.Idx → EReal) : Cert.ReferenceIdeal.S512x21.Idx → EReal :=
  Cert.Proof.Pool.outOf (Cert.Proof.Pool.meanAll z b) w1 (fun j => b1 (ValueIdx.ix1 j)) w2 (fun j => b2 (ValueIdx.ix1 j))
theorem valueOf_congr {z z' : Cert.ReferenceIdeal.S160000x256.Idx → EReal} {b b' : Cert.ReferenceIdeal.S160000.Idx → BitVec 32} {w1 w1' : Cert.ReferenceIdeal.S64x256.Idx → EReal} {b1 b1' : Cert.ReferenceIdeal.S64.Idx → EReal}
    {w2 w2' : Cert.ReferenceIdeal.S21x64.Idx → EReal} {b2 b2' : Cert.ReferenceIdeal.S21.Idx → EReal} (h0 : z = z') (h1 : b = b') (h2 : w1 = w1') (h3 : b1 = b1') (h4 : w2 = w2') (h5 : b2 = b2') :
    valueOf z b w1 b1 w2 b2 = valueOf z' b' w1' b1' w2' b2' := by
  subst h0; subst h1; subst h2; subst h3; subst h4; subst h5; rfl

/-- `Cert.algebraic_KernelIdeal_ReferenceIdeal_pre_sorted_in_range`: over the extended reals both programs end with the same result. -/
theorem algebraic : Cert.algebraic_KernelIdeal_ReferenceIdeal_pre_sorted_in_range := fun m g m' g' hp ha => by
  refine ⟨fun c => valueOf (m (Cert.Proof.Pool.zLoc c)) (m (Cert.Proof.Pool.bLoc c)) (m ((SparseCore.T c).loc Cert.KernelIdeal.main_arg2)) (m ((SparseCore.T c).loc Cert.KernelIdeal.main_arg3))
    (m ((SparseCore.T c).loc Cert.KernelIdeal.main_arg4)) (m ((SparseCore.T c).loc Cert.KernelIdeal.main_arg5)), ?_, ?_⟩
  · refine (θ_run Cert.KernelIdeal.defs _ _).mono (fun r (h : Cert.Proof.Pool.QC m r) c => ?_) (Cert.Proof.Pool.run_main (F := Ideal) m g (small_rows m hp))
    obtain ⟨a0, a1, a2, a3, a4, a5, g1, g2, ⟨hg, hg'⟩, e⟩ := h.1 c
    refine ⟨e.trans (Cert.Proof.Pool.value_eq m c g1 g2 ?_ ?_ hg hg'), a0, a1, a2, a3, a4, a5⟩
    · exact fun r _ => Cert.Proof.Pool.rows_small _ _ _ _ _ _ (hp c) r
    · exact fun r r' => Cert.Proof.Pool.rows_ascend _ _ _ _ _ _ (hp c) r r'
  · refine (θ_run Cert.ReferenceIdeal.defs _ _).mono (fun r h c => ⟨(h c).1.trans ?_, (h c).2⟩) (Cert.ReferenceIdeal.Value.run (F := Ideal) m' g')
    refine (Cert.Proof.Pool.outR_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))).trans ?_
    obtain ⟨h0, h1, h2, h3, h4, h5⟩ := ha c
    exact valueOf_congr h0 h1 h2 h3 h4 h5

end Cert.Proof.Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Gen.Pre_sorted_in_range
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts, Cert.Pre_sorted_in_range.Gen.facts,
  Cert.Proof.Claims.frame_kernel, Cert.Proof.Claims.frame_kernelIdeal, Cert.Proof.Claims.frame_kernelIdeal_sorted, Cert.Proof.Claims.frame_referenceIdeal, Cert.Proof.Claims.frame_referenceIdeal_sorted, trivial, Cert.Proof.Claims.algebraic⟩

end Cert.Proof

end
